-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Ffn [hPre_tiles_in_range : Cert.Pre_tiles_in_range.Facts] (m : (ℓ : Loc Cert.Ffn.nD Cert.Ffn.τ Cert.Ffn.sig) → Buf (Elt Bits) ℓ) : Prop :=
  ∀ c : Dev Cert.Ffn.nD,
    (Cert.Pre_tiles_in_range.fn (F := Bits) (m ((c.tc : Thread Cert.Ffn.nD Cert.Ffn.τ).loc Cert.Ffn.main_arg0)) (m ((c.tc : Thread Cert.Ffn.nD Cert.Ffn.τ).loc Cert.Ffn.main_arg1)) (m ((c.tc : Thread Cert.Ffn.nD Cert.Ffn.τ).loc Cert.Ffn.main_arg2)) (m ((c.tc : Thread Cert.Ffn.nD Cert.Ffn.τ).loc Cert.Ffn.main_arg3)) (m ((c.tc : Thread Cert.Ffn.nD Cert.Ffn.τ).loc Cert.Ffn.main_arg4)) (m ((c.tc : Thread Cert.Ffn.nD Cert.Ffn.τ).loc Cert.Ffn.main_arg5))) = (fun _ => 1#1)

def Pre_FfnIdeal [hPre_tiles_in_range : Cert.Pre_tiles_in_range.Facts] (m : (ℓ : Loc Cert.FfnIdeal.nD Cert.FfnIdeal.τ Cert.FfnIdeal.sig) → Buf (Elt Ideal) ℓ) : Prop :=
  ∀ c : Dev Cert.FfnIdeal.nD,
    (Cert.Pre_tiles_in_range.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) = (fun _ => 1#1)

def Pre_FfnReferenceIdeal [hPre_tiles_in_range : Cert.Pre_tiles_in_range.Facts] (m : (ℓ : Loc Cert.FfnReferenceIdeal.nD Cert.FfnReferenceIdeal.τ Cert.FfnReferenceIdeal.sig) → Buf (Elt Ideal) ℓ) : Prop :=
  ∀ c : Dev Cert.FfnReferenceIdeal.nD,
    (Cert.Pre_tiles_in_range.fn (F := Ideal) (m ((c.tc : Thread Cert.FfnReferenceIdeal.nD Cert.FfnReferenceIdeal.τ).loc Cert.FfnReferenceIdeal.main_arg0)) (m ((c.tc : Thread Cert.FfnReferenceIdeal.nD Cert.FfnReferenceIdeal.τ).loc Cert.FfnReferenceIdeal.main_arg1)) (m ((c.tc : Thread Cert.FfnReferenceIdeal.nD Cert.FfnReferenceIdeal.τ).loc Cert.FfnReferenceIdeal.main_arg2)) (m ((c.tc : Thread Cert.FfnReferenceIdeal.nD Cert.FfnReferenceIdeal.τ).loc Cert.FfnReferenceIdeal.main_arg3)) (m ((c.tc : Thread Cert.FfnReferenceIdeal.nD Cert.FfnReferenceIdeal.τ).loc Cert.FfnReferenceIdeal.main_arg4)) (m ((c.tc : Thread Cert.FfnReferenceIdeal.nD Cert.FfnReferenceIdeal.τ).loc Cert.FfnReferenceIdeal.main_arg5))) = (fun _ => 1#1)

def Pre_Kvup (m : (ℓ : Loc Cert.Kvup.nD Cert.Kvup.τ Cert.Kvup.sig) → Buf (Elt Bits) ℓ) : Prop :=
  True

def Pre_KvupIdeal (m : (ℓ : Loc Cert.KvupIdeal.nD Cert.KvupIdeal.τ Cert.KvupIdeal.sig) → Buf (Elt Ideal) ℓ) : Prop :=
  True

def Pre_KvupReferenceIdeal (m : (ℓ : Loc Cert.KvupReferenceIdeal.nD Cert.KvupReferenceIdeal.τ Cert.KvupReferenceIdeal.sig) → Buf (Elt Ideal) ℓ) : Prop :=
  True

def Pre_Sample [hPre_sample_in_range : Cert.Pre_sample_in_range.Facts] (m : (ℓ : Loc Cert.Sample.nD Cert.Sample.τ Cert.Sample.sig) → Buf (Elt Bits) ℓ) : Prop :=
  ∀ c : Dev Cert.Sample.nD,
    (Cert.Pre_sample_in_range.fn (F := Bits) (m ((c.tc : Thread Cert.Sample.nD Cert.Sample.τ).loc Cert.Sample.main_arg0)) (m ((c.tc : Thread Cert.Sample.nD Cert.Sample.τ).loc Cert.Sample.main_arg1)) (m ((c.tc : Thread Cert.Sample.nD Cert.Sample.τ).loc Cert.Sample.main_arg2)) (m ((c.tc : Thread Cert.Sample.nD Cert.Sample.τ).loc Cert.Sample.main_arg3)) (m ((c.tc : Thread Cert.Sample.nD Cert.Sample.τ).loc Cert.Sample.main_arg4)) (m ((c.tc : Thread Cert.Sample.nD Cert.Sample.τ).loc Cert.Sample.main_arg5)) (m ((c.tc : Thread Cert.Sample.nD Cert.Sample.τ).loc Cert.Sample.main_arg6)) (m ((c.tc : Thread Cert.Sample.nD Cert.Sample.τ).loc Cert.Sample.main_arg7)) (m ((c.tc : Thread Cert.Sample.nD Cert.Sample.τ).loc Cert.Sample.main_arg8)) (m ((c.tc : Thread Cert.Sample.nD Cert.Sample.τ).loc Cert.Sample.main_arg9))) = (fun _ => 1#1)

def Pre_SampleIdeal [hPre_sample_in_range : Cert.Pre_sample_in_range.Facts] (m : (ℓ : Loc Cert.SampleIdeal.nD Cert.SampleIdeal.τ Cert.SampleIdeal.sig) → Buf (Elt Ideal) ℓ) : Prop :=
  ∀ c : Dev Cert.SampleIdeal.nD,
    (Cert.Pre_sample_in_range.fn (F := Ideal) (m ((c.tc : Thread Cert.SampleIdeal.nD Cert.SampleIdeal.τ).loc Cert.SampleIdeal.main_arg0)) (m ((c.tc : Thread Cert.SampleIdeal.nD Cert.SampleIdeal.τ).loc Cert.SampleIdeal.main_arg1)) (m ((c.tc : Thread Cert.SampleIdeal.nD Cert.SampleIdeal.τ).loc Cert.SampleIdeal.main_arg2)) (m ((c.tc : Thread Cert.SampleIdeal.nD Cert.SampleIdeal.τ).loc Cert.SampleIdeal.main_arg3)) (m ((c.tc : Thread Cert.SampleIdeal.nD Cert.SampleIdeal.τ).loc Cert.SampleIdeal.main_arg4)) (m ((c.tc : Thread Cert.SampleIdeal.nD Cert.SampleIdeal.τ).loc Cert.SampleIdeal.main_arg5)) (m ((c.tc : Thread Cert.SampleIdeal.nD Cert.SampleIdeal.τ).loc Cert.SampleIdeal.main_arg6)) (m ((c.tc : Thread Cert.SampleIdeal.nD Cert.SampleIdeal.τ).loc Cert.SampleIdeal.main_arg7)) (m ((c.tc : Thread Cert.SampleIdeal.nD Cert.SampleIdeal.τ).loc Cert.SampleIdeal.main_arg8)) (m ((c.tc : Thread Cert.SampleIdeal.nD Cert.SampleIdeal.τ).loc Cert.SampleIdeal.main_arg9))) = (fun _ => 1#1)

def Pre_SampleReferenceIdeal [hPre_sample_in_range : Cert.Pre_sample_in_range.Facts] (m : (ℓ : Loc Cert.SampleReferenceIdeal.nD Cert.SampleReferenceIdeal.τ Cert.SampleReferenceIdeal.sig) → Buf (Elt Ideal) ℓ) : Prop :=
  ∀ c : Dev Cert.SampleReferenceIdeal.nD,
    (Cert.Pre_sample_in_range.fn (F := Ideal) (m ((c.tc : Thread Cert.SampleReferenceIdeal.nD Cert.SampleReferenceIdeal.τ).loc Cert.SampleReferenceIdeal.main_arg0)) (m ((c.tc : Thread Cert.SampleReferenceIdeal.nD Cert.SampleReferenceIdeal.τ).loc Cert.SampleReferenceIdeal.main_arg1)) (m ((c.tc : Thread Cert.SampleReferenceIdeal.nD Cert.SampleReferenceIdeal.τ).loc Cert.SampleReferenceIdeal.main_arg2)) (m ((c.tc : Thread Cert.SampleReferenceIdeal.nD Cert.SampleReferenceIdeal.τ).loc Cert.SampleReferenceIdeal.main_arg3)) (m ((c.tc : Thread Cert.SampleReferenceIdeal.nD Cert.SampleReferenceIdeal.τ).loc Cert.SampleReferenceIdeal.main_arg4)) (m ((c.tc : Thread Cert.SampleReferenceIdeal.nD Cert.SampleReferenceIdeal.τ).loc Cert.SampleReferenceIdeal.main_arg5)) (m ((c.tc : Thread Cert.SampleReferenceIdeal.nD Cert.SampleReferenceIdeal.τ).loc Cert.SampleReferenceIdeal.main_arg6)) (m ((c.tc : Thread Cert.SampleReferenceIdeal.nD Cert.SampleReferenceIdeal.τ).loc Cert.SampleReferenceIdeal.main_arg7)) (m ((c.tc : Thread Cert.SampleReferenceIdeal.nD Cert.SampleReferenceIdeal.τ).loc Cert.SampleReferenceIdeal.main_arg8)) (m ((c.tc : Thread Cert.SampleReferenceIdeal.nD Cert.SampleReferenceIdeal.τ).loc Cert.SampleReferenceIdeal.main_arg9))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Ffn [hFfn : Cert.Ffn.Facts] [hPre_tiles_in_range : Cert.Pre_tiles_in_range.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] [hPre_tiles_in_range : Cert.Pre_tiles_in_range.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] [hPre_tiles_in_range : Cert.Pre_tiles_in_range.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Kvup [hKvup : Cert.Kvup.Facts] : Prop :=
  ∀ (m : (ℓ : Loc Cert.Kvup.nD Cert.Kvup.τ Cert.Kvup.sig) → Buf (Elt Bits) ℓ) (g : Dev Cert.Kvup.nD → PrngReg), Pre_Kvup m →
    θ_run (Cert.Kvup.defs (F := Bits)) (onTc (τ := Cert.Kvup.τ) (Cert.Kvup.main (F := Bits))) ⟨m, fun _ => 0, g⟩ (fun r => (∀ c : Dev Cert.Kvup.nD,
      r.2.mem ((c.tc : Thread Cert.Kvup.nD Cert.Kvup.τ).loc Cert.Kvup.main_arg0) = m ((c.tc : Thread Cert.Kvup.nD Cert.Kvup.τ).loc Cert.Kvup.main_arg0)
      ∧ r.2.mem ((c.tc : Thread Cert.Kvup.nD Cert.Kvup.τ).loc Cert.Kvup.main_arg1) = m ((c.tc : Thread Cert.Kvup.nD Cert.Kvup.τ).loc Cert.Kvup.main_arg1)
      ∧ r.2.mem ((c.tc : Thread Cert.Kvup.nD Cert.Kvup.τ).loc Cert.Kvup.main_arg2) = m ((c.tc : Thread Cert.Kvup.nD Cert.Kvup.τ).loc Cert.Kvup.main_arg2))
      ∧ r.2.sem = fun _ => 0)

def quiescent_KvupIdeal [hKvupIdeal : Cert.KvupIdeal.Facts] : Prop :=
  ∀ (m : (ℓ : Loc Cert.KvupIdeal.nD Cert.KvupIdeal.τ Cert.KvupIdeal.sig) → Buf (Elt Ideal) ℓ) (g : Dev Cert.KvupIdeal.nD → PrngReg), Pre_KvupIdeal m →
    θ_run (Cert.KvupIdeal.defs (F := Ideal)) (onTc (τ := Cert.KvupIdeal.τ) (Cert.KvupIdeal.main (F := Ideal))) ⟨m, fun _ => 0, g⟩ (fun r => (∀ c : Dev Cert.KvupIdeal.nD,
      r.2.mem ((c.tc : Thread Cert.KvupIdeal.nD Cert.KvupIdeal.τ).loc Cert.KvupIdeal.main_arg0) = m ((c.tc : Thread Cert.KvupIdeal.nD Cert.KvupIdeal.τ).loc Cert.KvupIdeal.main_arg0)
      ∧ r.2.mem ((c.tc : Thread Cert.KvupIdeal.nD Cert.KvupIdeal.τ).loc Cert.KvupIdeal.main_arg1) = m ((c.tc : Thread Cert.KvupIdeal.nD Cert.KvupIdeal.τ).loc Cert.KvupIdeal.main_arg1)
      ∧ r.2.mem ((c.tc : Thread Cert.KvupIdeal.nD Cert.KvupIdeal.τ).loc Cert.KvupIdeal.main_arg2) = m ((c.tc : Thread Cert.KvupIdeal.nD Cert.KvupIdeal.τ).loc Cert.KvupIdeal.main_arg2))
      ∧ r.2.sem = fun _ => 0)

def quiescent_KvupReferenceIdeal [hKvupReferenceIdeal : Cert.KvupReferenceIdeal.Facts] : Prop :=
  ∀ (m : (ℓ : Loc Cert.KvupReferenceIdeal.nD Cert.KvupReferenceIdeal.τ Cert.KvupReferenceIdeal.sig) → Buf (Elt Ideal) ℓ) (g : Dev Cert.KvupReferenceIdeal.nD → PrngReg), Pre_KvupReferenceIdeal m →
    θ_run (Cert.KvupReferenceIdeal.defs (F := Ideal)) (onTc (τ := Cert.KvupReferenceIdeal.τ) (Cert.KvupReferenceIdeal.main (F := Ideal))) ⟨m, fun _ => 0, g⟩ (fun r => (∀ c : Dev Cert.KvupReferenceIdeal.nD,
      r.2.mem ((c.tc : Thread Cert.KvupReferenceIdeal.nD Cert.KvupReferenceIdeal.τ).loc Cert.KvupReferenceIdeal.main_arg0) = m ((c.tc : Thread Cert.KvupReferenceIdeal.nD Cert.KvupReferenceIdeal.τ).loc Cert.KvupReferenceIdeal.main_arg0)
      ∧ r.2.mem ((c.tc : Thread Cert.KvupReferenceIdeal.nD Cert.KvupReferenceIdeal.τ).loc Cert.KvupReferenceIdeal.main_arg1) = m ((c.tc : Thread Cert.KvupReferenceIdeal.nD Cert.KvupReferenceIdeal.τ).loc Cert.KvupReferenceIdeal.main_arg1)
      ∧ r.2.mem ((c.tc : Thread Cert.KvupReferenceIdeal.nD Cert.KvupReferenceIdeal.τ).loc Cert.KvupReferenceIdeal.main_arg2) = m ((c.tc : Thread Cert.KvupReferenceIdeal.nD Cert.KvupReferenceIdeal.τ).loc Cert.KvupReferenceIdeal.main_arg2))
      ∧ r.2.sem = fun _ => 0)

def quiescent_Sample [hSample : Cert.Sample.Facts] [hPre_sample_in_range : Cert.Pre_sample_in_range.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7)
      ∧ r.2.mem ((c.tc : Thread Cert.Sample.nD Cert.Sample.τ).loc Cert.Sample.main_arg8) = m ((c.tc : Thread Cert.Sample.nD Cert.Sample.τ).loc Cert.Sample.main_arg8)
      ∧ r.2.mem ((c.tc : Thread Cert.Sample.nD Cert.Sample.τ).loc Cert.Sample.main_arg9) = m ((c.tc : Thread Cert.Sample.nD Cert.Sample.τ).loc Cert.Sample.main_arg9))
      ∧ r.2.sem = fun _ => 0)

def quiescent_SampleIdeal [hSampleIdeal : Cert.SampleIdeal.Facts] [hPre_sample_in_range : Cert.Pre_sample_in_range.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
      ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9))
      ∧ r.2.sem = fun _ => 0)

def quiescent_SampleReferenceIdeal [hSampleReferenceIdeal : Cert.SampleReferenceIdeal.Facts] [hPre_sample_in_range : Cert.Pre_sample_in_range.Facts] : Prop :=
  ∀ (m : (ℓ : Loc Cert.SampleReferenceIdeal.nD Cert.SampleReferenceIdeal.τ Cert.SampleReferenceIdeal.sig) → Buf (Elt Ideal) ℓ) (g : Dev Cert.SampleReferenceIdeal.nD → PrngReg), Pre_SampleReferenceIdeal m →
    θ_run (Cert.SampleReferenceIdeal.defs (F := Ideal)) (onTc (τ := Cert.SampleReferenceIdeal.τ) (Cert.SampleReferenceIdeal.main (F := Ideal))) ⟨m, fun _ => 0, g⟩ (fun r => (∀ c : Dev Cert.SampleReferenceIdeal.nD,
      r.2.mem ((c.tc : Thread Cert.SampleReferenceIdeal.nD Cert.SampleReferenceIdeal.τ).loc Cert.SampleReferenceIdeal.main_arg0) = m ((c.tc : Thread Cert.SampleReferenceIdeal.nD Cert.SampleReferenceIdeal.τ).loc Cert.SampleReferenceIdeal.main_arg0)
      ∧ r.2.mem ((c.tc : Thread Cert.SampleReferenceIdeal.nD Cert.SampleReferenceIdeal.τ).loc Cert.SampleReferenceIdeal.main_arg1) = m ((c.tc : Thread Cert.SampleReferenceIdeal.nD Cert.SampleReferenceIdeal.τ).loc Cert.SampleReferenceIdeal.main_arg1)
      ∧ r.2.mem ((c.tc : Thread Cert.SampleReferenceIdeal.nD Cert.SampleReferenceIdeal.τ).loc Cert.SampleReferenceIdeal.main_arg2) = m ((c.tc : Thread Cert.SampleReferenceIdeal.nD Cert.SampleReferenceIdeal.τ).loc Cert.SampleReferenceIdeal.main_arg2)
      ∧ r.2.mem ((c.tc : Thread Cert.SampleReferenceIdeal.nD Cert.SampleReferenceIdeal.τ).loc Cert.SampleReferenceIdeal.main_arg3) = m ((c.tc : Thread Cert.SampleReferenceIdeal.nD Cert.SampleReferenceIdeal.τ).loc Cert.SampleReferenceIdeal.main_arg3)
      ∧ r.2.mem ((c.tc : Thread Cert.SampleReferenceIdeal.nD Cert.SampleReferenceIdeal.τ).loc Cert.SampleReferenceIdeal.main_arg4) = m ((c.tc : Thread Cert.SampleReferenceIdeal.nD Cert.SampleReferenceIdeal.τ).loc Cert.SampleReferenceIdeal.main_arg4)
      ∧ r.2.mem ((c.tc : Thread Cert.SampleReferenceIdeal.nD Cert.SampleReferenceIdeal.τ).loc Cert.SampleReferenceIdeal.main_arg5) = m ((c.tc : Thread Cert.SampleReferenceIdeal.nD Cert.SampleReferenceIdeal.τ).loc Cert.SampleReferenceIdeal.main_arg5)
      ∧ r.2.mem ((c.tc : Thread Cert.SampleReferenceIdeal.nD Cert.SampleReferenceIdeal.τ).loc Cert.SampleReferenceIdeal.main_arg6) = m ((c.tc : Thread Cert.SampleReferenceIdeal.nD Cert.SampleReferenceIdeal.τ).loc Cert.SampleReferenceIdeal.main_arg6)
      ∧ r.2.mem ((c.tc : Thread Cert.SampleReferenceIdeal.nD Cert.SampleReferenceIdeal.τ).loc Cert.SampleReferenceIdeal.main_arg7) = m ((c.tc : Thread Cert.SampleReferenceIdeal.nD Cert.SampleReferenceIdeal.τ).loc Cert.SampleReferenceIdeal.main_arg7)
      ∧ r.2.mem ((c.tc : Thread Cert.SampleReferenceIdeal.nD Cert.SampleReferenceIdeal.τ).loc Cert.SampleReferenceIdeal.main_arg8) = m ((c.tc : Thread Cert.SampleReferenceIdeal.nD Cert.SampleReferenceIdeal.τ).loc Cert.SampleReferenceIdeal.main_arg8)
      ∧ r.2.mem ((c.tc : Thread Cert.SampleReferenceIdeal.nD Cert.SampleReferenceIdeal.τ).loc Cert.SampleReferenceIdeal.main_arg9) = m ((c.tc : Thread Cert.SampleReferenceIdeal.nD Cert.SampleReferenceIdeal.τ).loc Cert.SampleReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Ffn_FfnIdeal : Prop :=
  True

def algebraic_FfnIdeal_FfnReferenceIdeal_on_used_rows [hFfnIdeal : Cert.FfnIdeal.Facts] [hFfnReferenceIdeal : Cert.FfnReferenceIdeal.Facts] [hPre_tiles_in_range : Cert.Pre_tiles_in_range.Facts] [hOn_used_rows : Cert.On_used_rows.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          (∀ i : (⟨2, ![851968, 1024]⟩ : Shape).Idx, (Cert.On_used_rows.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) i = 1#1 → r.2.mem ((c.tc : Thread Cert.FfnIdeal.nD Cert.FfnIdeal.τ).loc Cert.FfnIdeal.main_v6) i = v0 c i)
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          (∀ i : (⟨2, ![851968, 1024]⟩ : Shape).Idx, (Cert.On_used_rows.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))) i = 1#1 → r.2.mem ((c.tc : Thread Cert.FfnReferenceIdeal.nD Cert.FfnReferenceIdeal.τ).loc Cert.FfnReferenceIdeal.main_v22) i = v0 c i)
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Kvup_KvupIdeal : Prop :=
  True

def algebraic_KvupIdeal_KvupReferenceIdeal [hKvupIdeal : Cert.KvupIdeal.Facts] [hKvupReferenceIdeal : Cert.KvupReferenceIdeal.Facts] : Prop :=
  ∀ (m : (ℓ : Loc Cert.KvupIdeal.nD Cert.KvupIdeal.τ Cert.KvupIdeal.sig) → Buf (Elt Ideal) ℓ) (g : Dev Cert.KvupIdeal.nD → PrngReg)
    (m' : (ℓ : Loc Cert.KvupReferenceIdeal.nD Cert.KvupReferenceIdeal.τ Cert.KvupReferenceIdeal.sig) → Buf (Elt Ideal) ℓ) (g' : Dev Cert.KvupReferenceIdeal.nD → PrngReg), Pre_KvupIdeal m →
    (∀ c : Dev Cert.KvupIdeal.nD,
      m' ((c.tc : Thread Cert.KvupReferenceIdeal.nD Cert.KvupReferenceIdeal.τ).loc Cert.KvupReferenceIdeal.main_arg0) = m ((c.tc : Thread Cert.KvupIdeal.nD Cert.KvupIdeal.τ).loc Cert.KvupIdeal.main_arg0)
      ∧ m' ((c.tc : Thread Cert.KvupReferenceIdeal.nD Cert.KvupReferenceIdeal.τ).loc Cert.KvupReferenceIdeal.main_arg1) = m ((c.tc : Thread Cert.KvupIdeal.nD Cert.KvupIdeal.τ).loc Cert.KvupIdeal.main_arg1)
      ∧ m' ((c.tc : Thread Cert.KvupReferenceIdeal.nD Cert.KvupReferenceIdeal.τ).loc Cert.KvupReferenceIdeal.main_arg2) = m ((c.tc : Thread Cert.KvupIdeal.nD Cert.KvupIdeal.τ).loc Cert.KvupIdeal.main_arg2)) →
    ∃ (v0 : (c : Dev Cert.KvupIdeal.nD) → Buf (Elt Ideal) ((c.tc : Thread Cert.KvupIdeal.nD Cert.KvupIdeal.τ).loc Cert.KvupIdeal.main_v19_0)) (v1 : (c : Dev Cert.KvupIdeal.nD) → Buf (Elt Ideal) ((c.tc : Thread Cert.KvupIdeal.nD Cert.KvupIdeal.τ).loc Cert.KvupIdeal.main_v19_1)),
      θ_run (Cert.KvupIdeal.defs (F := Ideal)) (onTc (τ := Cert.KvupIdeal.τ) (Cert.KvupIdeal.main (F := Ideal))) ⟨m, fun _ => 0, g⟩ (fun r => ∀ c : Dev Cert.KvupIdeal.nD,
          r.2.mem ((c.tc : Thread Cert.KvupIdeal.nD Cert.KvupIdeal.τ).loc Cert.KvupIdeal.main_v19_0) = v0 c
          ∧ r.2.mem ((c.tc : Thread Cert.KvupIdeal.nD Cert.KvupIdeal.τ).loc Cert.KvupIdeal.main_v19_1) = v1 c
          ∧ r.2.mem ((c.tc : Thread Cert.KvupIdeal.nD Cert.KvupIdeal.τ).loc Cert.KvupIdeal.main_arg0) = m ((c.tc : Thread Cert.KvupIdeal.nD Cert.KvupIdeal.τ).loc Cert.KvupIdeal.main_arg0)
          ∧ r.2.mem ((c.tc : Thread Cert.KvupIdeal.nD Cert.KvupIdeal.τ).loc Cert.KvupIdeal.main_arg1) = m ((c.tc : Thread Cert.KvupIdeal.nD Cert.KvupIdeal.τ).loc Cert.KvupIdeal.main_arg1)
          ∧ r.2.mem ((c.tc : Thread Cert.KvupIdeal.nD Cert.KvupIdeal.τ).loc Cert.KvupIdeal.main_arg2) = m ((c.tc : Thread Cert.KvupIdeal.nD Cert.KvupIdeal.τ).loc Cert.KvupIdeal.main_arg2))
      ∧ θ_run (Cert.KvupReferenceIdeal.defs (F := Ideal)) (onTc (τ := Cert.KvupReferenceIdeal.τ) (Cert.KvupReferenceIdeal.main (F := Ideal))) ⟨m', fun _ => 0, g'⟩ (fun r => ∀ c : Dev Cert.KvupReferenceIdeal.nD,
          r.2.mem ((c.tc : Thread Cert.KvupReferenceIdeal.nD Cert.KvupReferenceIdeal.τ).loc Cert.KvupReferenceIdeal.main_v9) = v0 c
          ∧ r.2.mem ((c.tc : Thread Cert.KvupReferenceIdeal.nD Cert.KvupReferenceIdeal.τ).loc Cert.KvupReferenceIdeal.main_v11) = v1 c
          ∧ r.2.mem ((c.tc : Thread Cert.KvupReferenceIdeal.nD Cert.KvupReferenceIdeal.τ).loc Cert.KvupReferenceIdeal.main_arg0) = m' ((c.tc : Thread Cert.KvupReferenceIdeal.nD Cert.KvupReferenceIdeal.τ).loc Cert.KvupReferenceIdeal.main_arg0)
          ∧ r.2.mem ((c.tc : Thread Cert.KvupReferenceIdeal.nD Cert.KvupReferenceIdeal.τ).loc Cert.KvupReferenceIdeal.main_arg1) = m' ((c.tc : Thread Cert.KvupReferenceIdeal.nD Cert.KvupReferenceIdeal.τ).loc Cert.KvupReferenceIdeal.main_arg1)
          ∧ r.2.mem ((c.tc : Thread Cert.KvupReferenceIdeal.nD Cert.KvupReferenceIdeal.τ).loc Cert.KvupReferenceIdeal.main_arg2) = m' ((c.tc : Thread Cert.KvupReferenceIdeal.nD Cert.KvupReferenceIdeal.τ).loc Cert.KvupReferenceIdeal.main_arg2))

def preserves_Sample_SampleIdeal : Prop :=
  True

def algebraic_SampleIdeal_SampleReferenceIdeal [hSampleIdeal : Cert.SampleIdeal.Facts] [hSampleReferenceIdeal : Cert.SampleReferenceIdeal.Facts] [hPre_sample_in_range : Cert.Pre_sample_in_range.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleReferenceIdeal.nD Cert.SampleReferenceIdeal.τ Cert.SampleReferenceIdeal.sig) → Buf (Elt Ideal) ℓ) (g' : Dev Cert.SampleReferenceIdeal.nD → PrngReg), Pre_SampleIdeal m →
    (∀ c : Dev Cert.SampleIdeal.nD,
      m' ((c.tc : Thread Cert.SampleReferenceIdeal.nD Cert.SampleReferenceIdeal.τ).loc Cert.SampleReferenceIdeal.main_arg0) = m ((c.tc : Thread Cert.SampleIdeal.nD Cert.SampleIdeal.τ).loc Cert.SampleIdeal.main_arg0)
      ∧ m' ((c.tc : Thread Cert.SampleReferenceIdeal.nD Cert.SampleReferenceIdeal.τ).loc Cert.SampleReferenceIdeal.main_arg1) = m ((c.tc : Thread Cert.SampleIdeal.nD Cert.SampleIdeal.τ).loc Cert.SampleIdeal.main_arg1)
      ∧ m' ((c.tc : Thread Cert.SampleReferenceIdeal.nD Cert.SampleReferenceIdeal.τ).loc Cert.SampleReferenceIdeal.main_arg2) = m ((c.tc : Thread Cert.SampleIdeal.nD Cert.SampleIdeal.τ).loc Cert.SampleIdeal.main_arg2)
      ∧ m' ((c.tc : Thread Cert.SampleReferenceIdeal.nD Cert.SampleReferenceIdeal.τ).loc Cert.SampleReferenceIdeal.main_arg3) = m ((c.tc : Thread Cert.SampleIdeal.nD Cert.SampleIdeal.τ).loc Cert.SampleIdeal.main_arg3)
      ∧ m' ((c.tc : Thread Cert.SampleReferenceIdeal.nD Cert.SampleReferenceIdeal.τ).loc Cert.SampleReferenceIdeal.main_arg4) = m ((c.tc : Thread Cert.SampleIdeal.nD Cert.SampleIdeal.τ).loc Cert.SampleIdeal.main_arg4)
      ∧ m' ((c.tc : Thread Cert.SampleReferenceIdeal.nD Cert.SampleReferenceIdeal.τ).loc Cert.SampleReferenceIdeal.main_arg5) = m ((c.tc : Thread Cert.SampleIdeal.nD Cert.SampleIdeal.τ).loc Cert.SampleIdeal.main_arg5)
      ∧ m' ((c.tc : Thread Cert.SampleReferenceIdeal.nD Cert.SampleReferenceIdeal.τ).loc Cert.SampleReferenceIdeal.main_arg6) = m ((c.tc : Thread Cert.SampleIdeal.nD Cert.SampleIdeal.τ).loc Cert.SampleIdeal.main_arg6)
      ∧ m' ((c.tc : Thread Cert.SampleReferenceIdeal.nD Cert.SampleReferenceIdeal.τ).loc Cert.SampleReferenceIdeal.main_arg7) = m ((c.tc : Thread Cert.SampleIdeal.nD Cert.SampleIdeal.τ).loc Cert.SampleIdeal.main_arg7)
      ∧ m' ((c.tc : Thread Cert.SampleReferenceIdeal.nD Cert.SampleReferenceIdeal.τ).loc Cert.SampleReferenceIdeal.main_arg8) = m ((c.tc : Thread Cert.SampleIdeal.nD Cert.SampleIdeal.τ).loc Cert.SampleIdeal.main_arg8)
      ∧ m' ((c.tc : Thread Cert.SampleReferenceIdeal.nD Cert.SampleReferenceIdeal.τ).loc Cert.SampleReferenceIdeal.main_arg9) = m ((c.tc : Thread Cert.SampleIdeal.nD Cert.SampleIdeal.τ).loc Cert.SampleIdeal.main_arg9)) →
    ∃ (v0 : (c : Dev Cert.SampleIdeal.nD) → Buf (Elt Ideal) ((c.tc : Thread Cert.SampleIdeal.nD Cert.SampleIdeal.τ).loc Cert.SampleIdeal.main_v13)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v13) = v0 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
          ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
          ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9))
      ∧ θ_run (Cert.SampleReferenceIdeal.defs (F := Ideal)) (onTc (τ := Cert.SampleReferenceIdeal.τ) (Cert.SampleReferenceIdeal.main (F := Ideal))) ⟨m', fun _ => 0, g'⟩ (fun r => ∀ c : Dev Cert.SampleReferenceIdeal.nD,
          r.2.mem ((c.tc : Thread Cert.SampleReferenceIdeal.nD Cert.SampleReferenceIdeal.τ).loc Cert.SampleReferenceIdeal.main_v66) = v0 c
          ∧ r.2.mem ((c.tc : Thread Cert.SampleReferenceIdeal.nD Cert.SampleReferenceIdeal.τ).loc Cert.SampleReferenceIdeal.main_arg0) = m' ((c.tc : Thread Cert.SampleReferenceIdeal.nD Cert.SampleReferenceIdeal.τ).loc Cert.SampleReferenceIdeal.main_arg0)
          ∧ r.2.mem ((c.tc : Thread Cert.SampleReferenceIdeal.nD Cert.SampleReferenceIdeal.τ).loc Cert.SampleReferenceIdeal.main_arg1) = m' ((c.tc : Thread Cert.SampleReferenceIdeal.nD Cert.SampleReferenceIdeal.τ).loc Cert.SampleReferenceIdeal.main_arg1)
          ∧ r.2.mem ((c.tc : Thread Cert.SampleReferenceIdeal.nD Cert.SampleReferenceIdeal.τ).loc Cert.SampleReferenceIdeal.main_arg2) = m' ((c.tc : Thread Cert.SampleReferenceIdeal.nD Cert.SampleReferenceIdeal.τ).loc Cert.SampleReferenceIdeal.main_arg2)
          ∧ r.2.mem ((c.tc : Thread Cert.SampleReferenceIdeal.nD Cert.SampleReferenceIdeal.τ).loc Cert.SampleReferenceIdeal.main_arg3) = m' ((c.tc : Thread Cert.SampleReferenceIdeal.nD Cert.SampleReferenceIdeal.τ).loc Cert.SampleReferenceIdeal.main_arg3)
          ∧ r.2.mem ((c.tc : Thread Cert.SampleReferenceIdeal.nD Cert.SampleReferenceIdeal.τ).loc Cert.SampleReferenceIdeal.main_arg4) = m' ((c.tc : Thread Cert.SampleReferenceIdeal.nD Cert.SampleReferenceIdeal.τ).loc Cert.SampleReferenceIdeal.main_arg4)
          ∧ r.2.mem ((c.tc : Thread Cert.SampleReferenceIdeal.nD Cert.SampleReferenceIdeal.τ).loc Cert.SampleReferenceIdeal.main_arg5) = m' ((c.tc : Thread Cert.SampleReferenceIdeal.nD Cert.SampleReferenceIdeal.τ).loc Cert.SampleReferenceIdeal.main_arg5)
          ∧ r.2.mem ((c.tc : Thread Cert.SampleReferenceIdeal.nD Cert.SampleReferenceIdeal.τ).loc Cert.SampleReferenceIdeal.main_arg6) = m' ((c.tc : Thread Cert.SampleReferenceIdeal.nD Cert.SampleReferenceIdeal.τ).loc Cert.SampleReferenceIdeal.main_arg6)
          ∧ r.2.mem ((c.tc : Thread Cert.SampleReferenceIdeal.nD Cert.SampleReferenceIdeal.τ).loc Cert.SampleReferenceIdeal.main_arg7) = m' ((c.tc : Thread Cert.SampleReferenceIdeal.nD Cert.SampleReferenceIdeal.τ).loc Cert.SampleReferenceIdeal.main_arg7)
          ∧ r.2.mem ((c.tc : Thread Cert.SampleReferenceIdeal.nD Cert.SampleReferenceIdeal.τ).loc Cert.SampleReferenceIdeal.main_arg8) = m' ((c.tc : Thread Cert.SampleReferenceIdeal.nD Cert.SampleReferenceIdeal.τ).loc Cert.SampleReferenceIdeal.main_arg8)
          ∧ r.2.mem ((c.tc : Thread Cert.SampleReferenceIdeal.nD Cert.SampleReferenceIdeal.τ).loc Cert.SampleReferenceIdeal.main_arg9) = m' ((c.tc : Thread Cert.SampleReferenceIdeal.nD Cert.SampleReferenceIdeal.τ).loc Cert.SampleReferenceIdeal.main_arg9))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hKvup : Cert.Kvup.Facts) (hKvupIdeal : Cert.KvupIdeal.Facts) (hKvupReferenceIdeal : Cert.KvupReferenceIdeal.Facts) (hSample : Cert.Sample.Facts) (hSampleIdeal : Cert.SampleIdeal.Facts) (hSampleReferenceIdeal : Cert.SampleReferenceIdeal.Facts) (hPre_in_range : Cert.Pre_in_range.Facts) (hPre_tiles_in_range : Cert.Pre_tiles_in_range.Facts) (hPre_sample_in_range : Cert.Pre_sample_in_range.Facts) (hOn_used_rows : Cert.On_used_rows.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ quiescent_Ffn (hFfn := hFfn) (hPre_tiles_in_range := hPre_tiles_in_range)
    ∧ quiescent_FfnIdeal (hFfnIdeal := hFfnIdeal) (hPre_tiles_in_range := hPre_tiles_in_range)
    ∧ quiescent_FfnReferenceIdeal (hFfnReferenceIdeal := hFfnReferenceIdeal) (hPre_tiles_in_range := hPre_tiles_in_range)
    ∧ quiescent_Kvup (hKvup := hKvup)
    ∧ quiescent_KvupIdeal (hKvupIdeal := hKvupIdeal)
    ∧ quiescent_KvupReferenceIdeal (hKvupReferenceIdeal := hKvupReferenceIdeal)
    ∧ quiescent_Sample (hSample := hSample) (hPre_sample_in_range := hPre_sample_in_range)
    ∧ quiescent_SampleIdeal (hSampleIdeal := hSampleIdeal) (hPre_sample_in_range := hPre_sample_in_range)
    ∧ quiescent_SampleReferenceIdeal (hSampleReferenceIdeal := hSampleReferenceIdeal) (hPre_sample_in_range := hPre_sample_in_range)
    ∧ preserves_Kernel_KernelIdeal
    ∧ algebraic_KernelIdeal_ReferenceIdeal (hKernelIdeal := hKernelIdeal) (hReferenceIdeal := hReferenceIdeal) (hPre_in_range := hPre_in_range)
    ∧ preserves_Ffn_FfnIdeal
    ∧ algebraic_FfnIdeal_FfnReferenceIdeal_on_used_rows (hFfnIdeal := hFfnIdeal) (hFfnReferenceIdeal := hFfnReferenceIdeal) (hPre_tiles_in_range := hPre_tiles_in_range) (hOn_used_rows := hOn_used_rows)
    ∧ preserves_Kvup_KvupIdeal
    ∧ algebraic_KvupIdeal_KvupReferenceIdeal (hKvupIdeal := hKvupIdeal) (hKvupReferenceIdeal := hKvupReferenceIdeal)
    ∧ preserves_Sample_SampleIdeal
    ∧ algebraic_SampleIdeal_SampleReferenceIdeal (hSampleIdeal := hSampleIdeal) (hSampleReferenceIdeal := hSampleReferenceIdeal) (hPre_sample_in_range := hPre_sample_in_range)
-- ==== On_used_rows.lean ====
abbrev S832 : Shape := ⟨1, ![832]⟩
abbrev S1 : Shape := ⟨1, ![1]⟩
abbrev S861184x1024 : Shape := ⟨2, ![861184, 1024]⟩
abbrev S1x64x1024x256 : Shape := ⟨4, ![1, 64, 1024, 256]⟩
abbrev S1x64x256x1024 : Shape := ⟨4, ![1, 64, 256, 1024]⟩
abbrev S851968x1024 : Shape := ⟨2, ![851968, 1024]⟩
abbrev S_ : Shape := ⟨0, ![]⟩

class Facts : Prop where
  shapeCasts_S1_S_ : S1.ShapeCasts S_
  bcast_S_S851968x1024 : S_.BroadcastsInDim S851968x1024 (![] : Fin 0 → Fin S851968x1024.rank)

variable [Facts]

def fn {F : FTy → Type} [FloatOps F] (main_arg0 : IVec S832 32) (main_arg1 : IVec S1 32) (main_arg2 : FVec F S861184x1024 .bf16) (main_arg3 : FVec F S1x64x1024x256 .f32) (main_arg4 : FVec F S1x64x1024x256 .f32) (main_arg5 : FVec F S1x64x256x1024 .f32) : IVec S851968x1024 1 :=
  let main_v0 : IVec S851968x1024 32 := iotaInDim S851968x1024 32 0
  let main_v1 : IVec S_ 32 := shapeCast S_ main_arg1 shapeCasts_S1_S_
  let main_c : IVec S_ 32 := constantI S_ 32 1024#32
  let main_v2 : IVec S_ 32 := muli main_v1 main_c
  let main_v3 : IVec S851968x1024 32 := broadcastInDim S851968x1024 ![] bcast_S_S851968x1024 main_v2
  let main_v4 : IVec S851968x1024 1 := cmpi .slt main_v0 main_v3
  main_v4
-- ==== Pre_in_range.lean ====
abbrev S49536 : Shape := ⟨1, ![49536]⟩
abbrev S851968x1024 : Shape := ⟨2, ![851968, 1024]⟩
abbrev S8x65536 : Shape := ⟨2, ![8, 65536]⟩
abbrev S65536x1024 : Shape := ⟨2, ![65536, 1024]⟩
abbrev S1x1024x256 : Shape := ⟨3, ![1, 1024, 256]⟩
abbrev S1x256x1024 : Shape := ⟨3, ![1, 256, 1024]⟩
abbrev S1x1024 : Shape := ⟨2, ![1, 1024]⟩
abbrev S_ : Shape := ⟨0, ![]⟩
abbrev S8x1x65536 : Shape := ⟨3, ![8, 1, 65536]⟩
abbrev S1x8x65536 : Shape := ⟨3, ![1, 8, 65536]⟩
abbrev S8x8x65536 : Shape := ⟨3, ![8, 8, 65536]⟩

class Facts : Prop where
  bcast_S_S49536 : S_.BroadcastsInDim S49536 (![] : Fin 0 → Fin S49536.rank)
  reducesTo_S49536_S_d0 : S49536.ReducesTo [0] S_
  h_S_ : 0 < S_.numel
  bcast_S_S8x65536 : S_.BroadcastsInDim S8x65536 (![] : Fin 0 → Fin S8x65536.rank)
  reducesTo_S8x65536_S_d0_1 : S8x65536.ReducesTo [0, 1] S_
  bcast_S8x65536_S8x1x65536_0_2 : S8x65536.BroadcastsInDim S8x1x65536 (![0, 2] : Fin 2 → Fin S8x1x65536.rank)
  bcast_S8x65536_S1x8x65536_1_2 : S8x65536.BroadcastsInDim S1x8x65536 (![1, 2] : Fin 2 → Fin S1x8x65536.rank)
  bcast_S8x1x65536_S8x8x65536_0_1_2 : S8x1x65536.BroadcastsInDim S8x8x65536 (![0, 1, 2] : Fin 3 → Fin S8x8x65536.rank)
  bcast_S1x8x65536_S8x8x65536_0_1_2 : S1x8x65536.BroadcastsInDim S8x8x65536 (![0, 1, 2] : Fin 3 → Fin S8x8x65536.rank)
  natLt_1_32 : 1 < 32
  reducesTo_S8x8x65536_S8x65536_d0 : S8x8x65536.ReducesTo [0] S8x65536

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S49536 32) (arg1 : IVec S_ 32) : IVec S49536 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S49536 32 := broadcastInDim S49536 ![] bcast_S_S49536 v2
  let v4 : IVec S49536 32 := Host.remsi arg0 v3
  let c_1 : IVec S_ 32 := constantI S_ 32 0#32
  let v5 : IVec S49536 32 := broadcastInDim S49536 ![] bcast_S_S49536 c_1
  let v6 : IVec S49536 1 := cmpi .ne v4 v5
  let c_2 : IVec S_ 32 := constantI S_ 32 0#32
  let v7 : IVec S49536 32 := broadcastInDim S49536 ![] bcast_S_S49536 c_2
  let v8 : IVec S49536 1 := cmpi .slt v4 v7
  let c_3 : IVec S_ 32 := constantI S_ 32 0#32
  let v9 : IVec S_ 1 := cmpi .slt v2 c_3
  let v10 : IVec S49536 1 := broadcastInDim S49536 ![] bcast_S_S49536 v9
  let v11 : IVec S49536 1 := cmpi .ne v8 v10
  let v12 : IVec S49536 1 := andi v11 v6
  let v13 : IVec S49536 32 := broadcastInDim S49536 ![] bcast_S_S49536 v2
  let v14 : IVec S49536 32 := addi v4 v13
  let v15 : IVec S49536 32 := select v12 v14 v4
  v15

def fn_part1 {F : FTy → Type} [FloatOps F] (main_arg2 : IVec S8x65536 32) (main_v9 : IVec S_ 1) (main_v15 : IVec S_ 1) : IVec S_ 1 :=
  let main_v16 : IVec S8x1x65536 32 := broadcastInDim S8x1x65536 ![0, 2] bcast_S8x65536_S8x1x65536_0_2 main_arg2
  let main_v17 : IVec S1x8x65536 32 := broadcastInDim S1x8x65536 ![1, 2] bcast_S8x65536_S1x8x65536_1_2 main_arg2
  let main_v18 : IVec S8x8x65536 32 := broadcastInDim S8x8x65536 ![0, 1, 2] bcast_S8x1x65536_S8x8x65536_0_1_2 main_v16
  let main_v19 : IVec S8x8x65536 32 := broadcastInDim S8x8x65536 ![0, 1, 2] bcast_S1x8x65536_S8x8x65536_0_1_2 main_v17
  let main_v20 : IVec S8x8x65536 1 := cmpi .eq main_v18 main_v19
  let main_v21 : IVec S8x8x65536 32 := (extui 32 · natLt_1_32) main_v20
  let main_c_7 : IVec S_ 32 := constantI S_ 32 0#32
  let main_v22 : IVec S8x65536 32 := (fun x v => Host.reduce IntOp.addi x v reducesTo_S8x8x65536_S8x65536_d0 h_S_) main_v21 main_c_7
  let main_c_8 : IVec S_ 32 := constantI S_ 32 1#32
  let main_v23 : IVec S8x65536 32 := broadcastInDim S8x65536 ![] bcast_S_S8x65536 main_c_8
  let main_v24 : IVec S8x65536 1 := cmpi .eq main_v22 main_v23
  let main_c_9 : IVec S_ 1 := constantI S_ 1 1#1
  let main_v25 : IVec S_ 1 := (fun x v => Host.reduce IntOp.andi x v reducesTo_S8x65536_S_d0_1 h_S_) main_v24 main_c_9
  let main_v26 : IVec S_ 1 := andi main_v9 main_v15
  let main_v27 : IVec S_ 1 := andi main_v26 main_v25
  main_v27

def fn {F : FTy → Type} [FloatOps F] (main_arg0 : IVec S49536 32) (main_arg1 : FVec F S851968x1024 .bf16) (main_arg2 : IVec S8x65536 32) (main_arg3 : FVec F S8x65536 .f32) (main_arg4 : FVec F S65536x1024 .f32) (main_arg5 : FVec F S1x1024x256 .f32) (main_arg6 : FVec F S1x1024x256 .f32) (main_arg7 : FVec F S1x256x1024 .f32) (main_arg8 : FVec F S1x1024 .f32) (main_arg9 : FVec F S1x1024 .f32) : IVec S_ 1 :=
  let main_c : IVec S_ 32 := constantI S_ 32 0#32
  let main_v0 : IVec S49536 32 := broadcastInDim S49536 ![] bcast_S_S49536 main_c
  let main_v1 : IVec S49536 1 := cmpi .sge main_arg0 main_v0
  let main_c_0 : IVec S_ 32 := constantI S_ 32 851952#32
  let main_v2 : IVec S49536 32 := broadcastInDim S49536 ![] bcast_S_S49536 main_c_0
  let main_v3 : IVec S49536 1 := cmpi .sle main_arg0 main_v2
  let main_v4 : IVec S49536 1 := andi main_v1 main_v3
  let main_c_1 : IVec S_ 32 := constantI S_ 32 16#32
  let main_v5 : IVec S49536 32 := fn_remainder (F := F) main_arg0 main_c_1
  let main_c_2 : IVec S_ 32 := constantI S_ 32 0#32
  let main_v6 : IVec S49536 32 := broadcastInDim S49536 ![] bcast_S_S49536 main_c_2
  let main_v7 : IVec S49536 1 := cmpi .eq main_v5 main_v6
  let main_v8 : IVec S49536 1 := andi main_v4 main_v7
  let main_c_3 : IVec S_ 1 := constantI S_ 1 1#1
  let main_v9 : IVec S_ 1 := (fun x v => Host.reduce IntOp.andi x v reducesTo_S49536_S_d0 h_S_) main_v8 main_c_3
  let main_c_4 : IVec S_ 32 := constantI S_ 32 0#32
  let main_v10 : IVec S8x65536 32 := broadcastInDim S8x65536 ![] bcast_S_S8x65536 main_c_4
  let main_v11 : IVec S8x65536 1 := cmpi .sge main_arg2 main_v10
  let main_c_5 : IVec S_ 32 := constantI S_ 32 3072#32
  let main_v12 : IVec S8x65536 32 := broadcastInDim S8x65536 ![] bcast_S_S8x65536 main_c_5
  let main_v13 : IVec S8x65536 1 := cmpi .slt main_arg2 main_v12
  let main_v14 : IVec S8x65536 1 := andi main_v11 main_v13
  let main_c_6 : IVec S_ 1 := constantI S_ 1 1#1
  let main_v15 : IVec S_ 1 := (fun x v => Host.reduce IntOp.andi x v reducesTo_S8x65536_S_d0_1 h_S_) main_v14 main_c_6
  fn_part1 (F := F) main_arg2 main_v9 main_v15
-- ==== Pre_sample_in_range.lean ====
abbrev S1152 : Shape := ⟨1, ![1152]⟩
abbrev S28672x1024 : Shape := ⟨2, ![28672, 1024]⟩
abbrev S8x1024 : Shape := ⟨2, ![8, 1024]⟩
abbrev S1024x1024 : Shape := ⟨2, ![1024, 1024]⟩
abbrev S1x1024x256 : Shape := ⟨3, ![1, 1024, 256]⟩
abbrev S1x256x1024 : Shape := ⟨3, ![1, 256, 1024]⟩
abbrev S1x1024 : Shape := ⟨2, ![1, 1024]⟩
abbrev S_ : Shape := ⟨0, ![]⟩
abbrev S8x1x1024 : Shape := ⟨3, ![8, 1, 1024]⟩
abbrev S1x8x1024 : Shape := ⟨3, ![1, 8, 1024]⟩
abbrev S8x8x1024 : Shape := ⟨3, ![8, 8, 1024]⟩

class Facts : Prop where
  bcast_S_S1152 : S_.BroadcastsInDim S1152 (![] : Fin 0 → Fin S1152.rank)
  reducesTo_S1152_S_d0 : S1152.ReducesTo [0] S_
  h_S_ : 0 < S_.numel
  bcast_S_S8x1024 : S_.BroadcastsInDim S8x1024 (![] : Fin 0 → Fin S8x1024.rank)
  reducesTo_S8x1024_S_d0_1 : S8x1024.ReducesTo [0, 1] S_
  bcast_S8x1024_S8x1x1024_0_2 : S8x1024.BroadcastsInDim S8x1x1024 (![0, 2] : Fin 2 → Fin S8x1x1024.rank)
  bcast_S8x1024_S1x8x1024_1_2 : S8x1024.BroadcastsInDim S1x8x1024 (![1, 2] : Fin 2 → Fin S1x8x1024.rank)
  bcast_S8x1x1024_S8x8x1024_0_1_2 : S8x1x1024.BroadcastsInDim S8x8x1024 (![0, 1, 2] : Fin 3 → Fin S8x8x1024.rank)
  bcast_S1x8x1024_S8x8x1024_0_1_2 : S1x8x1024.BroadcastsInDim S8x8x1024 (![0, 1, 2] : Fin 3 → Fin S8x8x1024.rank)
  natLt_1_32 : 1 < 32
  reducesTo_S8x8x1024_S8x1024_d0 : S8x8x1024.ReducesTo [0] S8x1024

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S1152 32) (arg1 : IVec S_ 32) : IVec S1152 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S1152 32 := broadcastInDim S1152 ![] bcast_S_S1152 v2
  let v4 : IVec S1152 32 := Host.remsi arg0 v3
  let c_1 : IVec S_ 32 := constantI S_ 32 0#32
  let v5 : IVec S1152 32 := broadcastInDim S1152 ![] bcast_S_S1152 c_1
  let v6 : IVec S1152 1 := cmpi .ne v4 v5
  let c_2 : IVec S_ 32 := constantI S_ 32 0#32
  let v7 : IVec S1152 32 := broadcastInDim S1152 ![] bcast_S_S1152 c_2
  let v8 : IVec S1152 1 := cmpi .slt v4 v7
  let c_3 : IVec S_ 32 := constantI S_ 32 0#32
  let v9 : IVec S_ 1 := cmpi .slt v2 c_3
  let v10 : IVec S1152 1 := broadcastInDim S1152 ![] bcast_S_S1152 v9
  let v11 : IVec S1152 1 := cmpi .ne v8 v10
  let v12 : IVec S1152 1 := andi v11 v6
  let v13 : IVec S1152 32 := broadcastInDim S1152 ![] bcast_S_S1152 v2
  let v14 : IVec S1152 32 := addi v4 v13
  let v15 : IVec S1152 32 := select v12 v14 v4
  v15

def fn_part1 {F : FTy → Type} [FloatOps F] (main_arg2 : IVec S8x1024 32) (main_v9 : IVec S_ 1) (main_v15 : IVec S_ 1) : IVec S_ 1 :=
  let main_v16 : IVec S8x1x1024 32 := broadcastInDim S8x1x1024 ![0, 2] bcast_S8x1024_S8x1x1024_0_2 main_arg2
  let main_v17 : IVec S1x8x1024 32 := broadcastInDim S1x8x1024 ![1, 2] bcast_S8x1024_S1x8x1024_1_2 main_arg2
  let main_v18 : IVec S8x8x1024 32 := broadcastInDim S8x8x1024 ![0, 1, 2] bcast_S8x1x1024_S8x8x1024_0_1_2 main_v16
  let main_v19 : IVec S8x8x1024 32 := broadcastInDim S8x8x1024 ![0, 1, 2] bcast_S1x8x1024_S8x8x1024_0_1_2 main_v17
  let main_v20 : IVec S8x8x1024 1 := cmpi .eq main_v18 main_v19
  let main_v21 : IVec S8x8x1024 32 := (extui 32 · natLt_1_32) main_v20
  let main_c_7 : IVec S_ 32 := constantI S_ 32 0#32
  let main_v22 : IVec S8x1024 32 := (fun x v => Host.reduce IntOp.addi x v reducesTo_S8x8x1024_S8x1024_d0 h_S_) main_v21 main_c_7
  let main_c_8 : IVec S_ 32 := constantI S_ 32 1#32
  let main_v23 : IVec S8x1024 32 := broadcastInDim S8x1024 ![] bcast_S_S8x1024 main_c_8
  let main_v24 : IVec S8x1024 1 := cmpi .eq main_v22 main_v23
  let main_c_9 : IVec S_ 1 := constantI S_ 1 1#1
  let main_v25 : IVec S_ 1 := (fun x v => Host.reduce IntOp.andi x v reducesTo_S8x1024_S_d0_1 h_S_) main_v24 main_c_9
  let main_v26 : IVec S_ 1 := andi main_v9 main_v15
  let main_v27 : IVec S_ 1 := andi main_v26 main_v25
  main_v27

def fn {F : FTy → Type} [FloatOps F] (main_arg0 : IVec S1152 32) (main_arg1 : FVec F S28672x1024 .bf16) (main_arg2 : IVec S8x1024 32) (main_arg3 : FVec F S8x1024 .f32) (main_arg4 : FVec F S1024x1024 .f32) (main_arg5 : FVec F S1x1024x256 .f32) (main_arg6 : FVec F S1x1024x256 .f32) (main_arg7 : FVec F S1x256x1024 .f32) (main_arg8 : FVec F S1x1024 .f32) (main_arg9 : FVec F S1x1024 .f32) : IVec S_ 1 :=
  let main_c : IVec S_ 32 := constantI S_ 32 0#32
  let main_v0 : IVec S1152 32 := broadcastInDim S1152 ![] bcast_S_S1152 main_c
  let main_v1 : IVec S1152 1 := cmpi .sge main_arg0 main_v0
  let main_c_0 : IVec S_ 32 := constantI S_ 32 28656#32
  let main_v2 : IVec S1152 32 := broadcastInDim S1152 ![] bcast_S_S1152 main_c_0
  let main_v3 : IVec S1152 1 := cmpi .sle main_arg0 main_v2
  let main_v4 : IVec S1152 1 := andi main_v1 main_v3
  let main_c_1 : IVec S_ 32 := constantI S_ 32 16#32
  let main_v5 : IVec S1152 32 := fn_remainder (F := F) main_arg0 main_c_1
  let main_c_2 : IVec S_ 32 := constantI S_ 32 0#32
  let main_v6 : IVec S1152 32 := broadcastInDim S1152 ![] bcast_S_S1152 main_c_2
  let main_v7 : IVec S1152 1 := cmpi .eq main_v5 main_v6
  let main_v8 : IVec S1152 1 := andi main_v4 main_v7
  let main_c_3 : IVec S_ 1 := constantI S_ 1 1#1
  let main_v9 : IVec S_ 1 := (fun x v => Host.reduce IntOp.andi x v reducesTo_S1152_S_d0 h_S_) main_v8 main_c_3
  let main_c_4 : IVec S_ 32 := constantI S_ 32 0#32
  let main_v10 : IVec S8x1024 32 := broadcastInDim S8x1024 ![] bcast_S_S8x1024 main_c_4
  let main_v11 : IVec S8x1024 1 := cmpi .sge main_arg2 main_v10
  let main_c_5 : IVec S_ 32 := constantI S_ 32 3072#32
  let main_v12 : IVec S8x1024 32 := broadcastInDim S8x1024 ![] bcast_S_S8x1024 main_c_5
  let main_v13 : IVec S8x1024 1 := cmpi .slt main_arg2 main_v12
  let main_v14 : IVec S8x1024 1 := andi main_v11 main_v13
  let main_c_6 : IVec S_ 1 := constantI S_ 1 1#1
  let main_v15 : IVec S_ 1 := (fun x v => Host.reduce IntOp.andi x v reducesTo_S8x1024_S_d0_1 h_S_) main_v14 main_c_6
  fn_part1 (F := F) main_arg2 main_v9 main_v15
-- ==== Pre_tiles_in_range.lean ====
abbrev S832 : Shape := ⟨1, ![832]⟩
abbrev S1 : Shape := ⟨1, ![1]⟩
abbrev S861184x1024 : Shape := ⟨2, ![861184, 1024]⟩
abbrev S1x64x1024x256 : Shape := ⟨4, ![1, 64, 1024, 256]⟩
abbrev S1x64x256x1024 : Shape := ⟨4, ![1, 64, 256, 1024]⟩
abbrev S_ : Shape := ⟨0, ![]⟩

class Facts : Prop where
  bcast_S_S832 : S_.BroadcastsInDim S832 (![] : Fin 0 → Fin S832.rank)
  reducesTo_S832_S_d0 : S832.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S832 32) (main_arg1 : IVec S1 32) (main_arg2 : FVec F S861184x1024 .bf16) (main_arg3 : FVec F S1x64x1024x256 .f32) (main_arg4 : FVec F S1x64x1024x256 .f32) (main_arg5 : FVec F S1x64x256x1024 .f32) : IVec S_ 1 :=
  let main_c : IVec S_ 32 := constantI S_ 32 0#32
  let main_v0 : IVec S832 32 := broadcastInDim S832 ![] bcast_S_S832 main_c
  let main_v1 : IVec S832 1 := cmpi .sge main_arg0 main_v0
  let main_c_0 : IVec S_ 32 := constantI S_ 32 64#32
  let main_v2 : IVec S832 32 := broadcastInDim S832 ![] bcast_S_S832 main_c_0
  let main_v3 : IVec S832 1 := cmpi .slt main_arg0 main_v2
  let main_v4 : IVec S832 1 := andi main_v1 main_v3
  let main_c_1 : IVec S_ 1 := constantI S_ 1 1#1
  let main_v5 : IVec S_ 1 := (fun x v => Host.reduce IntOp.andi x v reducesTo_S832_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 832#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Kernel.lean ====
abbrev S49536 : Shape := ⟨1, ![49536]⟩
abbrev S851968x1024 : Shape := ⟨2, ![851968, 1024]⟩
abbrev S8x65536 : Shape := ⟨2, ![8, 65536]⟩
abbrev S65536x1024 : Shape := ⟨2, ![65536, 1024]⟩
abbrev S1x1024x256 : Shape := ⟨3, ![1, 1024, 256]⟩
abbrev S1x256x1024 : Shape := ⟨3, ![1, 256, 1024]⟩
abbrev S1x1024 : Shape := ⟨2, ![1, 1024]⟩
abbrev S1024x256 : Shape := ⟨2, ![1024, 256]⟩
abbrev S256x1024 : Shape := ⟨2, ![256, 1024]⟩
abbrev S1024 : Shape := ⟨1, ![1024]⟩
abbrev S16x65536 : Shape := ⟨2, ![16, 65536]⟩
abbrev S16x256 : Shape := ⟨2, ![16, 256]⟩
abbrev S3x3072x1024 : Shape := ⟨3, ![3, 3072, 1024]⟩
abbrev S3 : Shape := ⟨1, ![3]⟩
abbrev S1 : Shape := ⟨1, ![1]⟩
abbrev S_ : Shape := ⟨0, ![]⟩
abbrev S1x16x1024 : Shape := ⟨3, ![1, 16, 1024]⟩
abbrev S16x1024 : Shape := ⟨2, ![16, 1024]⟩
abbrev S1x3072x1024 : Shape := ⟨3, ![1, 3072, 1024]⟩
abbrev S3072x1024 : Shape := ⟨2, ![3072, 1024]⟩
abbrev S8x256 : Shape := ⟨2, ![8, 256]⟩
abbrev S1x256 : Shape := ⟨2, ![1, 256]⟩
abbrev S256x256 : Shape := ⟨2, ![256, 256]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 23
  | .vmem => 14
  | .smem => 1
  | _ => 0

abbrev bufTy : (tb : Table) → Fin (tcTables nBuf tb) → BufTy
  | .hbm, ⟨0, _⟩ => ⟨S851968x1024, .bf16⟩
  | .hbm, ⟨1, _⟩ => ⟨S8x65536, .i32⟩
  | .hbm, ⟨2, _⟩ => ⟨S8x65536, .f32⟩
  | .hbm, ⟨3, _⟩ => ⟨S65536x1024, .f32⟩
  | .hbm, ⟨4, _⟩ => ⟨S1x1024x256, .f32⟩
  | .hbm, ⟨5, _⟩ => ⟨S1x1024x256, .f32⟩
  | .hbm, ⟨6, _⟩ => ⟨S1x256x1024, .f32⟩
  | .hbm, ⟨7, _⟩ => ⟨S1x1024, .f32⟩
  | .hbm, ⟨8, _⟩ => ⟨S1x1024, .f32⟩
  | .hbm, ⟨9, _⟩ => ⟨S1024x256, .f32⟩
  | .hbm, ⟨10, _⟩ => ⟨S1024x256, .bf16⟩
  | .hbm, ⟨11, _⟩ => ⟨S1024x256, .f32⟩
  | .hbm, ⟨12, _⟩ => ⟨S1024x256, .bf16⟩
  | .hbm, ⟨13, _⟩ => ⟨S256x1024, .f32⟩
  | .hbm, ⟨14, _⟩ => ⟨S256x1024, .bf16⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S8x65536, .f32⟩
  | .hbm, ⟨20, _⟩ => ⟨S16x65536, .f32⟩
  | .hbm, ⟨21, _⟩ => ⟨S65536x1024, .bf16⟩
  | .hbm, ⟨22, _⟩ => ⟨S65536x1024, .f32⟩
  | .local _ .vmem, ⟨0, _⟩ => ⟨S16x256, .f32⟩
  | .local _ .vmem, ⟨1, _⟩ => ⟨S16x256, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .vmem, ⟨9, _⟩ => ⟨S1x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S3x3072x1024, .bf16⟩
  | .local _ .smem, ⟨0, _⟩ => ⟨S49536, .i32⟩
  | _, _ => ⟨S851968x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![256], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_559 : BitVec 32 := 0#32
  let c384_i32_560 : BitVec 32 := 384#32
  let v2750 : BitVec 32 := Scalar.addi c0_i32_559 c384_i32_560
  let c1_i32_561 : BitVec 32 := 1#32
  ⟨c0_i32_559, v2750, c1_i32_561⟩
def k0_off1 (k0_t1 : Fin k0_t1_loop.trips) : Fin 1 → Nat :=
  let c0_i32_559 : BitVec 32 := 0#32
  let c1_i32_561 : BitVec 32 := 1#32
  let arg14 : BitVec 32 := Scf.iv c0_i32_559 c1_i32_561 k0_t1
  let v2768 : Index := Scalar.indexCast arg14
  ![v2768.toNat]
def k0_mult1 (v2769 : BitVec 32) : BitVec 32 :=
  v2769

def k0_mult2 (k0_t1 : Fin k0_t1_loop.trips) : BitVec 32 :=
  let c0_i32_559 : BitVec 32 := 0#32
  let c1_i32_561 : BitVec 32 := 1#32
  let arg14 : BitVec 32 := Scf.iv c0_i32_559 c1_i32_561 k0_t1
  let c0_i32_564 : BitVec 32 := 0#32
  let v2752 : BitVec 1 := Scalar.cmpi .sgt arg14 c0_i32_564
  let v2753 : BitVec 32 := Scalar.extui v2752
  let c0_i32_565 : BitVec 32 := 0#32
  let v2754 : BitVec 1 := Scalar.cmpi .slt arg14 c0_i32_565
  let v2755 : BitVec 32 := Scalar.extui v2754
  let v2756 : BitVec 32 := Scalar.subi v2753 v2755
  let c192_i32_563 : BitVec 32 := 192#32
  let c0_i32_566 : BitVec 32 := 0#32
  let v2757 : BitVec 1 := Scalar.cmpi .sgt c192_i32_563 c0_i32_566
  let v2758 : BitVec 32 := Scalar.extui v2757
  let c0_i32_567 : BitVec 32 := 0#32
  let v2759 : BitVec 1 := Scalar.cmpi .slt c192_i32_563 c0_i32_567
  let v2760 : BitVec 32 := Scalar.extui v2759
  let v2761 : BitVec 32 := Scalar.subi v2758 v2760
  let v2762 : BitVec 1 := Scalar.cmpi .ne v2756 v2761
  let v2763 : BitVec 32 := Scalar.remsi arg14 c192_i32_563
  let c0_i32_568 : BitVec 32 := 0#32
  let v2764 : BitVec 1 := Scalar.cmpi .ne v2763 c0_i32_568
  let v2765 : BitVec 1 := Scalar.andi v2762 v2764
  let v2751 : BitVec 32 := Scalar.divsi arg14 c192_i32_563
  let c1_i32_569 : BitVec 32 := 1#32
  let v2766 : BitVec 32 := Scalar.subi v2751 c1_i32_569
  let v2767 : BitVec 32 := Scalar.select v2765 v2766 v2751
  let c192_i32_570 : BitVec 32 := 192#32
  let v2771 : BitVec 32 := Scalar.muli v2767 c192_i32_570
  let v2772 : BitVec 32 := Scalar.subi arg14 v2771
  let c16_i32_571 : BitVec 32 := 16#32
  let v2773 : BitVec 32 := Scalar.muli v2772 c16_i32_571
  v2773
def k0_off2 (k0_t1 : Fin k0_t1_loop.trips) : Fin 1 → Nat :=
  let c0_i32_559 : BitVec 32 := 0#32
  let c1_i32_561 : BitVec 32 := 1#32
  let arg14 : BitVec 32 := Scf.iv c0_i32_559 c1_i32_561 k0_t1
  let c0_i32_564 : BitVec 32 := 0#32
  let v2752 : BitVec 1 := Scalar.cmpi .sgt arg14 c0_i32_564
  let v2753 : BitVec 32 := Scalar.extui v2752
  let c0_i32_565 : BitVec 32 := 0#32
  let v2754 : BitVec 1 := Scalar.cmpi .slt arg14 c0_i32_565
  let v2755 : BitVec 32 := Scalar.extui v2754
  let v2756 : BitVec 32 := Scalar.subi v2753 v2755
  let c192_i32_563 : BitVec 32 := 192#32
  let c0_i32_566 : BitVec 32 := 0#32
  let v2757 : BitVec 1 := Scalar.cmpi .sgt c192_i32_563 c0_i32_566
  let v2758 : BitVec 32 := Scalar.extui v2757
  let c0_i32_567 : BitVec 32 := 0#32
  let v2759 : BitVec 1 := Scalar.cmpi .slt c192_i32_563 c0_i32_567
  let v2760 : BitVec 32 := Scalar.extui v2759
  let v2761 : BitVec 32 := Scalar.subi v2758 v2760
  let v2762 : BitVec 1 := Scalar.cmpi .ne v2756 v2761
  let v2763 : BitVec 32 := Scalar.remsi arg14 c192_i32_563
  let c0_i32_568 : BitVec 32 := 0#32
  let v2764 : BitVec 1 := Scalar.cmpi .ne v2763 c0_i32_568
  let v2765 : BitVec 1 := Scalar.andi v2762 v2764
  let v2751 : BitVec 32 := Scalar.divsi arg14 c192_i32_563
  let c1_i32_569 : BitVec 32 := 1#32
  let v2766 : BitVec 32 := Scalar.subi v2751 c1_i32_569
  let v2767 : BitVec 32 := Scalar.select v2765 v2766 v2751
  ![v2767.toNat]
def k0_off3 (k0_t1 : Fin k0_t1_loop.trips) : Fin 3 → Nat :=
  let c0_i32_559 : BitVec 32 := 0#32
  let c1_i32_561 : BitVec 32 := 1#32
  let arg14 : BitVec 32 := Scf.iv c0_i32_559 c1_i32_561 k0_t1
  let c0_i32_564 : BitVec 32 := 0#32
  let v2752 : BitVec 1 := Scalar.cmpi .sgt arg14 c0_i32_564
  let v2753 : BitVec 32 := Scalar.extui v2752
  let c0_i32_565 : BitVec 32 := 0#32
  let v2754 : BitVec 1 := Scalar.cmpi .slt arg14 c0_i32_565
  let v2755 : BitVec 32 := Scalar.extui v2754
  let v2756 : BitVec 32 := Scalar.subi v2753 v2755
  let c192_i32_563 : BitVec 32 := 192#32
  let c0_i32_566 : BitVec 32 := 0#32
  let v2757 : BitVec 1 := Scalar.cmpi .sgt c192_i32_563 c0_i32_566
  let v2758 : BitVec 32 := Scalar.extui v2757
  let c0_i32_567 : BitVec 32 := 0#32
  let v2759 : BitVec 1 := Scalar.cmpi .slt c192_i32_563 c0_i32_567
  let v2760 : BitVec 32 := Scalar.extui v2759
  let v2761 : BitVec 32 := Scalar.subi v2758 v2760
  let v2762 : BitVec 1 := Scalar.cmpi .ne v2756 v2761
  let v2763 : BitVec 32 := Scalar.remsi arg14 c192_i32_563
  let c0_i32_568 : BitVec 32 := 0#32
  let v2764 : BitVec 1 := Scalar.cmpi .ne v2763 c0_i32_568
  let v2765 : BitVec 1 := Scalar.andi v2762 v2764
  let v2751 : BitVec 32 := Scalar.divsi arg14 c192_i32_563
  let c1_i32_569 : BitVec 32 := 1#32
  let v2766 : BitVec 32 := Scalar.subi v2751 c1_i32_569
  let v2767 : BitVec 32 := Scalar.select v2765 v2766 v2751
  let c192_i32_570 : BitVec 32 := 192#32
  let v2771 : BitVec 32 := Scalar.muli v2767 c192_i32_570
  let v2772 : BitVec 32 := Scalar.subi arg14 v2771
  let c16_i32_571 : BitVec 32 := 16#32
  let v2773 : BitVec 32 := Scalar.muli v2772 c16_i32_571
  let v2774 : BitVec 32 := v2773
  let c0_i32_572 : BitVec 32 := 0#32
  ![v2767.toNat, v2774.toNat, 0]
def k0_off4 (v2769 : BitVec 32) : Fin 2 → Nat :=
  let v2770 : BitVec 32 := v2769
  let c0_i32_573 : BitVec 32 := 0#32
  ![v2770.toNat, 0]

def k0_chk1 (i : grid0.Coords) (v2769 : BitVec 32) : Prop :=
  (∀ (k0_h1 : k0_cond1 i = 1#1), 16 ∣ (k0_mult1 v2769).toNat) ∧
  (∀ (k0_h1 : k0_cond1 i = 1#1), ∀ a, (k0_off4 v2769) a + S16x1024.size a ≤ S851968x1024.size a) ∧
  (∀ (k0_h1 : k0_cond1 i = 1#1), ∀ (hinb : ∀ a, (k0_off4 v2769) a + S16x1024.size a ≤ S851968x1024.size a), (Rect.unit (s := S851968x1024) (k0_off4 v2769) S16x1024.size hinb).WholeWords (EltTy.packing .bf16))
theorem k0_mult1_dvd : ∀ (i : grid0.Coords) (v2769 : BitVec 32) (k0_hw1 : k0_chk1 i v2769), ∀ (k0_h1 : k0_cond1 i = 1#1), 16 ∣ (k0_mult1 v2769).toNat := fun i v2769 k0_hw1 k0_h1 => k0_hw1.1 k0_h1
theorem k0_off4_inb : ∀ (i : grid0.Coords) (v2769 : BitVec 32) (k0_hw1 : k0_chk1 i v2769), ∀ (k0_h1 : k0_cond1 i = 1#1), ∀ a, (k0_off4 v2769) a + S16x1024.size a ≤ S851968x1024.size a := fun i v2769 k0_hw1 k0_h1 => k0_hw1.2.1 k0_h1
theorem k0_off4_wordsbf16 : ∀ (i : grid0.Coords) (v2769 : BitVec 32) (k0_hw1 : k0_chk1 i v2769), ∀ (k0_h1 : k0_cond1 i = 1#1), (Rect.unit (s := S851968x1024) (k0_off4 v2769) S16x1024.size (k0_off4_inb i v2769 k0_hw1 k0_h1)).WholeWords (EltTy.packing .bf16) := fun i v2769 k0_hw1 k0_h1 => k0_hw1.2.2 k0_h1 (k0_off4_inb i v2769 k0_hw1 k0_h1)

def k0_off5 (i : grid0.Coords) : Fin 1 → Nat :=
  let arg0 : BitVec 32 := BitVec.ofNat 32 (i 0).val
  let c3_i32 : BitVec 32 := 3#32
  let v0 : BitVec 32 := Scalar.remsi arg0 c3_i32
  ![v0.toNat]
def k0_off6 (i : grid0.Coords) : Fin 3 → Nat :=
  let arg0 : BitVec 32 := BitVec.ofNat 32 (i 0).val
  let c3_i32 : BitVec 32 := 3#32
  let v0 : BitVec 32 := Scalar.remsi arg0 c3_i32
  let c0_i32_2 : BitVec 32 := 0#32
  let c0_i32_3 : BitVec 32 := 0#32
  ![v0.toNat, 0, 0]
def k0_off7 (i : grid0.Coords) : Fin 3 → Nat :=
  let arg0 : BitVec 32 := BitVec.ofNat 32 (i 0).val
  let c3_i32 : BitVec 32 := 3#32
  let v0 : BitVec 32 := Scalar.remsi arg0 c3_i32
  let v344 : Index := Scalar.indexCast v0
  let c0_51 : Index := 0#32
  let c0_52 : Index := 0#32
  ![v344.toNat, 0, 0]
def k0_off8 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c0_i32_54 : BitVec 32 := 0#32
  let v348 : BitVec 32 := Scalar.addi v38 c0_i32_54
  let v349 : Index := Scalar.indexCast v348
  ![v349.toNat]
def k0_mult3 (v350 : BitVec 32) : BitVec 32 :=
  v350

def k0_off9 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off10 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c0_i32_55 : BitVec 32 := 0#32
  let c0_i32_56 : BitVec 32 := 0#32
  ![v2.toNat, 0, 0]
def k0_off11 (v350 : BitVec 32) : Fin 2 → Nat :=
  let v351 : BitVec 32 := v350
  let c0_i32_57 : BitVec 32 := 0#32
  ![v351.toNat, 0]

def k0_chk2 (v350 : BitVec 32) : Prop :=
  (16 ∣ (k0_mult3 v350).toNat) ∧
  (∀ a, (k0_off11 v350) a + S16x1024.size a ≤ S851968x1024.size a) ∧
  (∀ (hinb : ∀ a, (k0_off11 v350) a + S16x1024.size a ≤ S851968x1024.size a), (Rect.unit (s := S851968x1024) (k0_off11 v350) S16x1024.size hinb).WholeWords (EltTy.packing .bf16))
theorem k0_mult3_dvd : ∀ (v350 : BitVec 32) (k0_hw2 : k0_chk2 v350), 16 ∣ (k0_mult3 v350).toNat := fun v350 k0_hw2 => k0_hw2.1
theorem k0_off11_inb : ∀ (v350 : BitVec 32) (k0_hw2 : k0_chk2 v350), ∀ a, (k0_off11 v350) a + S16x1024.size a ≤ S851968x1024.size a := fun v350 k0_hw2 => k0_hw2.2.1
theorem k0_off11_wordsbf16 : ∀ (v350 : BitVec 32) (k0_hw2 : k0_chk2 v350), (Rect.unit (s := S851968x1024) (k0_off11 v350) S16x1024.size (k0_off11_inb v350 k0_hw2)).WholeWords (EltTy.packing .bf16) := fun v350 k0_hw2 => k0_hw2.2.2 (k0_off11_inb v350 k0_hw2)

def k0_off12 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c1_i32 : BitVec 32 := 1#32
  let v357 : BitVec 32 := Scalar.addi v38 c1_i32
  let v358 : Index := Scalar.indexCast v357
  ![v358.toNat]
def k0_mult4 (v359 : BitVec 32) : BitVec 32 :=
  v359

def k0_off13 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off14 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c16_i32 : BitVec 32 := 16#32
  let c0_i32_58 : BitVec 32 := 0#32
  ![v2.toNat, 16, 0]
def k0_off15 (v359 : BitVec 32) : Fin 2 → Nat :=
  let v360 : BitVec 32 := v359
  let c0_i32_59 : BitVec 32 := 0#32
  ![v360.toNat, 0]

def k0_chk3 (v359 : BitVec 32) : Prop :=
  (16 ∣ (k0_mult4 v359).toNat) ∧
  (∀ a, (k0_off15 v359) a + S16x1024.size a ≤ S851968x1024.size a) ∧
  (∀ (hinb : ∀ a, (k0_off15 v359) a + S16x1024.size a ≤ S851968x1024.size a), (Rect.unit (s := S851968x1024) (k0_off15 v359) S16x1024.size hinb).WholeWords (EltTy.packing .bf16))
theorem k0_mult4_dvd : ∀ (v359 : BitVec 32) (k0_hw3 : k0_chk3 v359), 16 ∣ (k0_mult4 v359).toNat := fun v359 k0_hw3 => k0_hw3.1
theorem k0_off15_inb : ∀ (v359 : BitVec 32) (k0_hw3 : k0_chk3 v359), ∀ a, (k0_off15 v359) a + S16x1024.size a ≤ S851968x1024.size a := fun v359 k0_hw3 => k0_hw3.2.1
theorem k0_off15_wordsbf16 : ∀ (v359 : BitVec 32) (k0_hw3 : k0_chk3 v359), (Rect.unit (s := S851968x1024) (k0_off15 v359) S16x1024.size (k0_off15_inb v359 k0_hw3)).WholeWords (EltTy.packing .bf16) := fun v359 k0_hw3 => k0_hw3.2.2 (k0_off15_inb v359 k0_hw3)

def k0_off16 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c2_i32_60 : BitVec 32 := 2#32
  let v366 : BitVec 32 := Scalar.addi v38 c2_i32_60
  let v367 : Index := Scalar.indexCast v366
  ![v367.toNat]
def k0_mult5 (v368 : BitVec 32) : BitVec 32 :=
  v368

def k0_off17 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off18 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c32_i32 : BitVec 32 := 32#32
  let c0_i32_61 : BitVec 32 := 0#32
  ![v2.toNat, 32, 0]
def k0_off19 (v368 : BitVec 32) : Fin 2 → Nat :=
  let v369 : BitVec 32 := v368
  let c0_i32_62 : BitVec 32 := 0#32
  ![v369.toNat, 0]

def k0_chk4 (v368 : BitVec 32) : Prop :=
  (16 ∣ (k0_mult5 v368).toNat) ∧
  (∀ a, (k0_off19 v368) a + S16x1024.size a ≤ S851968x1024.size a) ∧
  (∀ (hinb : ∀ a, (k0_off19 v368) a + S16x1024.size a ≤ S851968x1024.size a), (Rect.unit (s := S851968x1024) (k0_off19 v368) S16x1024.size hinb).WholeWords (EltTy.packing .bf16))
theorem k0_mult5_dvd : ∀ (v368 : BitVec 32) (k0_hw4 : k0_chk4 v368), 16 ∣ (k0_mult5 v368).toNat := fun v368 k0_hw4 => k0_hw4.1
theorem k0_off19_inb : ∀ (v368 : BitVec 32) (k0_hw4 : k0_chk4 v368), ∀ a, (k0_off19 v368) a + S16x1024.size a ≤ S851968x1024.size a := fun v368 k0_hw4 => k0_hw4.2.1
theorem k0_off19_wordsbf16 : ∀ (v368 : BitVec 32) (k0_hw4 : k0_chk4 v368), (Rect.unit (s := S851968x1024) (k0_off19 v368) S16x1024.size (k0_off19_inb v368 k0_hw4)).WholeWords (EltTy.packing .bf16) := fun v368 k0_hw4 => k0_hw4.2.2 (k0_off19_inb v368 k0_hw4)

def k0_off20 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c3_i32_63 : BitVec 32 := 3#32
  let v375 : BitVec 32 := Scalar.addi v38 c3_i32_63
  let v376 : Index := Scalar.indexCast v375
  ![v376.toNat]
def k0_mult6 (v377 : BitVec 32) : BitVec 32 :=
  v377

def k0_off21 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off22 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c48_i32 : BitVec 32 := 48#32
  let c0_i32_64 : BitVec 32 := 0#32
  ![v2.toNat, 48, 0]
def k0_off23 (v377 : BitVec 32) : Fin 2 → Nat :=
  let v378 : BitVec 32 := v377
  let c0_i32_65 : BitVec 32 := 0#32
  ![v378.toNat, 0]

def k0_chk5 (v377 : BitVec 32) : Prop :=
  (16 ∣ (k0_mult6 v377).toNat) ∧
  (∀ a, (k0_off23 v377) a + S16x1024.size a ≤ S851968x1024.size a) ∧
  (∀ (hinb : ∀ a, (k0_off23 v377) a + S16x1024.size a ≤ S851968x1024.size a), (Rect.unit (s := S851968x1024) (k0_off23 v377) S16x1024.size hinb).WholeWords (EltTy.packing .bf16))
theorem k0_mult6_dvd : ∀ (v377 : BitVec 32) (k0_hw5 : k0_chk5 v377), 16 ∣ (k0_mult6 v377).toNat := fun v377 k0_hw5 => k0_hw5.1
theorem k0_off23_inb : ∀ (v377 : BitVec 32) (k0_hw5 : k0_chk5 v377), ∀ a, (k0_off23 v377) a + S16x1024.size a ≤ S851968x1024.size a := fun v377 k0_hw5 => k0_hw5.2.1
theorem k0_off23_wordsbf16 : ∀ (v377 : BitVec 32) (k0_hw5 : k0_chk5 v377), (Rect.unit (s := S851968x1024) (k0_off23 v377) S16x1024.size (k0_off23_inb v377 k0_hw5)).WholeWords (EltTy.packing .bf16) := fun v377 k0_hw5 => k0_hw5.2.2 (k0_off23_inb v377 k0_hw5)

def k0_off24 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c4_i32 : BitVec 32 := 4#32
  let v384 : BitVec 32 := Scalar.addi v38 c4_i32
  let v385 : Index := Scalar.indexCast v384
  ![v385.toNat]
def k0_mult7 (v386 : BitVec 32) : BitVec 32 :=
  v386

def k0_off25 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off26 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c64_i32 : BitVec 32 := 64#32
  let c0_i32_66 : BitVec 32 := 0#32
  ![v2.toNat, 64, 0]
def k0_off27 (v386 : BitVec 32) : Fin 2 → Nat :=
  let v387 : BitVec 32 := v386
  let c0_i32_67 : BitVec 32 := 0#32
  ![v387.toNat, 0]

def k0_chk6 (v386 : BitVec 32) : Prop :=
  (16 ∣ (k0_mult7 v386).toNat) ∧
  (∀ a, (k0_off27 v386) a + S16x1024.size a ≤ S851968x1024.size a) ∧
  (∀ (hinb : ∀ a, (k0_off27 v386) a + S16x1024.size a ≤ S851968x1024.size a), (Rect.unit (s := S851968x1024) (k0_off27 v386) S16x1024.size hinb).WholeWords (EltTy.packing .bf16))
theorem k0_mult7_dvd : ∀ (v386 : BitVec 32) (k0_hw6 : k0_chk6 v386), 16 ∣ (k0_mult7 v386).toNat := fun v386 k0_hw6 => k0_hw6.1
theorem k0_off27_inb : ∀ (v386 : BitVec 32) (k0_hw6 : k0_chk6 v386), ∀ a, (k0_off27 v386) a + S16x1024.size a ≤ S851968x1024.size a := fun v386 k0_hw6 => k0_hw6.2.1
theorem k0_off27_wordsbf16 : ∀ (v386 : BitVec 32) (k0_hw6 : k0_chk6 v386), (Rect.unit (s := S851968x1024) (k0_off27 v386) S16x1024.size (k0_off27_inb v386 k0_hw6)).WholeWords (EltTy.packing .bf16) := fun v386 k0_hw6 => k0_hw6.2.2 (k0_off27_inb v386 k0_hw6)

def k0_off28 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c5_i32 : BitVec 32 := 5#32
  let v393 : BitVec 32 := Scalar.addi v38 c5_i32
  let v394 : Index := Scalar.indexCast v393
  ![v394.toNat]
def k0_mult8 (v395 : BitVec 32) : BitVec 32 :=
  v395

def k0_off29 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off30 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c80_i32 : BitVec 32 := 80#32
  let c0_i32_68 : BitVec 32 := 0#32
  ![v2.toNat, 80, 0]
def k0_off31 (v395 : BitVec 32) : Fin 2 → Nat :=
  let v396 : BitVec 32 := v395
  let c0_i32_69 : BitVec 32 := 0#32
  ![v396.toNat, 0]

def k0_chk7 (v395 : BitVec 32) : Prop :=
  (16 ∣ (k0_mult8 v395).toNat) ∧
  (∀ a, (k0_off31 v395) a + S16x1024.size a ≤ S851968x1024.size a) ∧
  (∀ (hinb : ∀ a, (k0_off31 v395) a + S16x1024.size a ≤ S851968x1024.size a), (Rect.unit (s := S851968x1024) (k0_off31 v395) S16x1024.size hinb).WholeWords (EltTy.packing .bf16))
theorem k0_mult8_dvd : ∀ (v395 : BitVec 32) (k0_hw7 : k0_chk7 v395), 16 ∣ (k0_mult8 v395).toNat := fun v395 k0_hw7 => k0_hw7.1
theorem k0_off31_inb : ∀ (v395 : BitVec 32) (k0_hw7 : k0_chk7 v395), ∀ a, (k0_off31 v395) a + S16x1024.size a ≤ S851968x1024.size a := fun v395 k0_hw7 => k0_hw7.2.1
theorem k0_off31_wordsbf16 : ∀ (v395 : BitVec 32) (k0_hw7 : k0_chk7 v395), (Rect.unit (s := S851968x1024) (k0_off31 v395) S16x1024.size (k0_off31_inb v395 k0_hw7)).WholeWords (EltTy.packing .bf16) := fun v395 k0_hw7 => k0_hw7.2.2 (k0_off31_inb v395 k0_hw7)

def k0_off32 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c6_i32 : BitVec 32 := 6#32
  let v402 : BitVec 32 := Scalar.addi v38 c6_i32
  let v403 : Index := Scalar.indexCast v402
  ![v403.toNat]
def k0_mult9 (v404 : BitVec 32) : BitVec 32 :=
  v404

def k0_off33 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off34 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c96_i32 : BitVec 32 := 96#32
  let c0_i32_70 : BitVec 32 := 0#32
  ![v2.toNat, 96, 0]
def k0_off35 (v404 : BitVec 32) : Fin 2 → Nat :=
  let v405 : BitVec 32 := v404
  let c0_i32_71 : BitVec 32 := 0#32
  ![v405.toNat, 0]

def k0_chk8 (v404 : BitVec 32) : Prop :=
  (16 ∣ (k0_mult9 v404).toNat) ∧
  (∀ a, (k0_off35 v404) a + S16x1024.size a ≤ S851968x1024.size a) ∧
  (∀ (hinb : ∀ a, (k0_off35 v404) a + S16x1024.size a ≤ S851968x1024.size a), (Rect.unit (s := S851968x1024) (k0_off35 v404) S16x1024.size hinb).WholeWords (EltTy.packing .bf16))
theorem k0_mult9_dvd : ∀ (v404 : BitVec 32) (k0_hw8 : k0_chk8 v404), 16 ∣ (k0_mult9 v404).toNat := fun v404 k0_hw8 => k0_hw8.1
theorem k0_off35_inb : ∀ (v404 : BitVec 32) (k0_hw8 : k0_chk8 v404), ∀ a, (k0_off35 v404) a + S16x1024.size a ≤ S851968x1024.size a := fun v404 k0_hw8 => k0_hw8.2.1
theorem k0_off35_wordsbf16 : ∀ (v404 : BitVec 32) (k0_hw8 : k0_chk8 v404), (Rect.unit (s := S851968x1024) (k0_off35 v404) S16x1024.size (k0_off35_inb v404 k0_hw8)).WholeWords (EltTy.packing .bf16) := fun v404 k0_hw8 => k0_hw8.2.2 (k0_off35_inb v404 k0_hw8)

def k0_off36 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c7_i32 : BitVec 32 := 7#32
  let v411 : BitVec 32 := Scalar.addi v38 c7_i32
  let v412 : Index := Scalar.indexCast v411
  ![v412.toNat]
def k0_mult10 (v413 : BitVec 32) : BitVec 32 :=
  v413

def k0_off37 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off38 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c112_i32 : BitVec 32 := 112#32
  let c0_i32_72 : BitVec 32 := 0#32
  ![v2.toNat, 112, 0]
def k0_off39 (v413 : BitVec 32) : Fin 2 → Nat :=
  let v414 : BitVec 32 := v413
  let c0_i32_73 : BitVec 32 := 0#32
  ![v414.toNat, 0]

def k0_chk9 (v413 : BitVec 32) : Prop :=
  (16 ∣ (k0_mult10 v413).toNat) ∧
  (∀ a, (k0_off39 v413) a + S16x1024.size a ≤ S851968x1024.size a) ∧
  (∀ (hinb : ∀ a, (k0_off39 v413) a + S16x1024.size a ≤ S851968x1024.size a), (Rect.unit (s := S851968x1024) (k0_off39 v413) S16x1024.size hinb).WholeWords (EltTy.packing .bf16))
theorem k0_mult10_dvd : ∀ (v413 : BitVec 32) (k0_hw9 : k0_chk9 v413), 16 ∣ (k0_mult10 v413).toNat := fun v413 k0_hw9 => k0_hw9.1
theorem k0_off39_inb : ∀ (v413 : BitVec 32) (k0_hw9 : k0_chk9 v413), ∀ a, (k0_off39 v413) a + S16x1024.size a ≤ S851968x1024.size a := fun v413 k0_hw9 => k0_hw9.2.1
theorem k0_off39_wordsbf16 : ∀ (v413 : BitVec 32) (k0_hw9 : k0_chk9 v413), (Rect.unit (s := S851968x1024) (k0_off39 v413) S16x1024.size (k0_off39_inb v413 k0_hw9)).WholeWords (EltTy.packing .bf16) := fun v413 k0_hw9 => k0_hw9.2.2 (k0_off39_inb v413 k0_hw9)

def k0_off40 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c8_i32 : BitVec 32 := 8#32
  let v420 : BitVec 32 := Scalar.addi v38 c8_i32
  let v421 : Index := Scalar.indexCast v420
  ![v421.toNat]
def k0_mult11 (v422 : BitVec 32) : BitVec 32 :=
  v422

def k0_off41 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off42 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c128_i32 : BitVec 32 := 128#32
  let c0_i32_74 : BitVec 32 := 0#32
  ![v2.toNat, 128, 0]
def k0_off43 (v422 : BitVec 32) : Fin 2 → Nat :=
  let v423 : BitVec 32 := v422
  let c0_i32_75 : BitVec 32 := 0#32
  ![v423.toNat, 0]

def k0_chk10 (v422 : BitVec 32) : Prop :=
  (16 ∣ (k0_mult11 v422).toNat) ∧
  (∀ a, (k0_off43 v422) a + S16x1024.size a ≤ S851968x1024.size a) ∧
  (∀ (hinb : ∀ a, (k0_off43 v422) a + S16x1024.size a ≤ S851968x1024.size a), (Rect.unit (s := S851968x1024) (k0_off43 v422) S16x1024.size hinb).WholeWords (EltTy.packing .bf16))
theorem k0_mult11_dvd : ∀ (v422 : BitVec 32) (k0_hw10 : k0_chk10 v422), 16 ∣ (k0_mult11 v422).toNat := fun v422 k0_hw10 => k0_hw10.1
theorem k0_off43_inb : ∀ (v422 : BitVec 32) (k0_hw10 : k0_chk10 v422), ∀ a, (k0_off43 v422) a + S16x1024.size a ≤ S851968x1024.size a := fun v422 k0_hw10 => k0_hw10.2.1
theorem k0_off43_wordsbf16 : ∀ (v422 : BitVec 32) (k0_hw10 : k0_chk10 v422), (Rect.unit (s := S851968x1024) (k0_off43 v422) S16x1024.size (k0_off43_inb v422 k0_hw10)).WholeWords (EltTy.packing .bf16) := fun v422 k0_hw10 => k0_hw10.2.2 (k0_off43_inb v422 k0_hw10)

def k0_off44 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c9_i32 : BitVec 32 := 9#32
  let v429 : BitVec 32 := Scalar.addi v38 c9_i32
  let v430 : Index := Scalar.indexCast v429
  ![v430.toNat]
def k0_mult12 (v431 : BitVec 32) : BitVec 32 :=
  v431

def k0_off45 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off46 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c144_i32 : BitVec 32 := 144#32
  let c0_i32_76 : BitVec 32 := 0#32
  ![v2.toNat, 144, 0]
def k0_off47 (v431 : BitVec 32) : Fin 2 → Nat :=
  let v432 : BitVec 32 := v431
  let c0_i32_77 : BitVec 32 := 0#32
  ![v432.toNat, 0]

def k0_chk11 (v431 : BitVec 32) : Prop :=
  (16 ∣ (k0_mult12 v431).toNat) ∧
  (∀ a, (k0_off47 v431) a + S16x1024.size a ≤ S851968x1024.size a) ∧
  (∀ (hinb : ∀ a, (k0_off47 v431) a + S16x1024.size a ≤ S851968x1024.size a), (Rect.unit (s := S851968x1024) (k0_off47 v431) S16x1024.size hinb).WholeWords (EltTy.packing .bf16))
theorem k0_mult12_dvd : ∀ (v431 : BitVec 32) (k0_hw11 : k0_chk11 v431), 16 ∣ (k0_mult12 v431).toNat := fun v431 k0_hw11 => k0_hw11.1
theorem k0_off47_inb : ∀ (v431 : BitVec 32) (k0_hw11 : k0_chk11 v431), ∀ a, (k0_off47 v431) a + S16x1024.size a ≤ S851968x1024.size a := fun v431 k0_hw11 => k0_hw11.2.1
theorem k0_off47_wordsbf16 : ∀ (v431 : BitVec 32) (k0_hw11 : k0_chk11 v431), (Rect.unit (s := S851968x1024) (k0_off47 v431) S16x1024.size (k0_off47_inb v431 k0_hw11)).WholeWords (EltTy.packing .bf16) := fun v431 k0_hw11 => k0_hw11.2.2 (k0_off47_inb v431 k0_hw11)

def k0_off48 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c10_i32 : BitVec 32 := 10#32
  let v438 : BitVec 32 := Scalar.addi v38 c10_i32
  let v439 : Index := Scalar.indexCast v438
  ![v439.toNat]
def k0_mult13 (v440 : BitVec 32) : BitVec 32 :=
  v440

def k0_off49 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off50 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c160_i32 : BitVec 32 := 160#32
  let c0_i32_78 : BitVec 32 := 0#32
  ![v2.toNat, 160, 0]
def k0_off51 (v440 : BitVec 32) : Fin 2 → Nat :=
  let v441 : BitVec 32 := v440
  let c0_i32_79 : BitVec 32 := 0#32
  ![v441.toNat, 0]

def k0_chk12 (v440 : BitVec 32) : Prop :=
  (16 ∣ (k0_mult13 v440).toNat) ∧
  (∀ a, (k0_off51 v440) a + S16x1024.size a ≤ S851968x1024.size a) ∧
  (∀ (hinb : ∀ a, (k0_off51 v440) a + S16x1024.size a ≤ S851968x1024.size a), (Rect.unit (s := S851968x1024) (k0_off51 v440) S16x1024.size hinb).WholeWords (EltTy.packing .bf16))
theorem k0_mult13_dvd : ∀ (v440 : BitVec 32) (k0_hw12 : k0_chk12 v440), 16 ∣ (k0_mult13 v440).toNat := fun v440 k0_hw12 => k0_hw12.1
theorem k0_off51_inb : ∀ (v440 : BitVec 32) (k0_hw12 : k0_chk12 v440), ∀ a, (k0_off51 v440) a + S16x1024.size a ≤ S851968x1024.size a := fun v440 k0_hw12 => k0_hw12.2.1
theorem k0_off51_wordsbf16 : ∀ (v440 : BitVec 32) (k0_hw12 : k0_chk12 v440), (Rect.unit (s := S851968x1024) (k0_off51 v440) S16x1024.size (k0_off51_inb v440 k0_hw12)).WholeWords (EltTy.packing .bf16) := fun v440 k0_hw12 => k0_hw12.2.2 (k0_off51_inb v440 k0_hw12)

def k0_off52 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c11_i32 : BitVec 32 := 11#32
  let v447 : BitVec 32 := Scalar.addi v38 c11_i32
  let v448 : Index := Scalar.indexCast v447
  ![v448.toNat]
def k0_mult14 (v449 : BitVec 32) : BitVec 32 :=
  v449

def k0_off53 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off54 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c176_i32 : BitVec 32 := 176#32
  let c0_i32_80 : BitVec 32 := 0#32
  ![v2.toNat, 176, 0]
def k0_off55 (v449 : BitVec 32) : Fin 2 → Nat :=
  let v450 : BitVec 32 := v449
  let c0_i32_81 : BitVec 32 := 0#32
  ![v450.toNat, 0]

def k0_chk13 (v449 : BitVec 32) : Prop :=
  (16 ∣ (k0_mult14 v449).toNat) ∧
  (∀ a, (k0_off55 v449) a + S16x1024.size a ≤ S851968x1024.size a) ∧
  (∀ (hinb : ∀ a, (k0_off55 v449) a + S16x1024.size a ≤ S851968x1024.size a), (Rect.unit (s := S851968x1024) (k0_off55 v449) S16x1024.size hinb).WholeWords (EltTy.packing .bf16))
theorem k0_mult14_dvd : ∀ (v449 : BitVec 32) (k0_hw13 : k0_chk13 v449), 16 ∣ (k0_mult14 v449).toNat := fun v449 k0_hw13 => k0_hw13.1
theorem k0_off55_inb : ∀ (v449 : BitVec 32) (k0_hw13 : k0_chk13 v449), ∀ a, (k0_off55 v449) a + S16x1024.size a ≤ S851968x1024.size a := fun v449 k0_hw13 => k0_hw13.2.1
theorem k0_off55_wordsbf16 : ∀ (v449 : BitVec 32) (k0_hw13 : k0_chk13 v449), (Rect.unit (s := S851968x1024) (k0_off55 v449) S16x1024.size (k0_off55_inb v449 k0_hw13)).WholeWords (EltTy.packing .bf16) := fun v449 k0_hw13 => k0_hw13.2.2 (k0_off55_inb v449 k0_hw13)

def k0_off56 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c12_i32 : BitVec 32 := 12#32
  let v456 : BitVec 32 := Scalar.addi v38 c12_i32
  let v457 : Index := Scalar.indexCast v456
  ![v457.toNat]
def k0_mult15 (v458 : BitVec 32) : BitVec 32 :=
  v458

def k0_off57 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off58 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c192_i32_82 : BitVec 32 := 192#32
  let c0_i32_83 : BitVec 32 := 0#32
  ![v2.toNat, 192, 0]
def k0_off59 (v458 : BitVec 32) : Fin 2 → Nat :=
  let v459 : BitVec 32 := v458
  let c0_i32_84 : BitVec 32 := 0#32
  ![v459.toNat, 0]

def k0_chk14 (v458 : BitVec 32) : Prop :=
  (16 ∣ (k0_mult15 v458).toNat) ∧
  (∀ a, (k0_off59 v458) a + S16x1024.size a ≤ S851968x1024.size a) ∧
  (∀ (hinb : ∀ a, (k0_off59 v458) a + S16x1024.size a ≤ S851968x1024.size a), (Rect.unit (s := S851968x1024) (k0_off59 v458) S16x1024.size hinb).WholeWords (EltTy.packing .bf16))
theorem k0_mult15_dvd : ∀ (v458 : BitVec 32) (k0_hw14 : k0_chk14 v458), 16 ∣ (k0_mult15 v458).toNat := fun v458 k0_hw14 => k0_hw14.1
theorem k0_off59_inb : ∀ (v458 : BitVec 32) (k0_hw14 : k0_chk14 v458), ∀ a, (k0_off59 v458) a + S16x1024.size a ≤ S851968x1024.size a := fun v458 k0_hw14 => k0_hw14.2.1
theorem k0_off59_wordsbf16 : ∀ (v458 : BitVec 32) (k0_hw14 : k0_chk14 v458), (Rect.unit (s := S851968x1024) (k0_off59 v458) S16x1024.size (k0_off59_inb v458 k0_hw14)).WholeWords (EltTy.packing .bf16) := fun v458 k0_hw14 => k0_hw14.2.2 (k0_off59_inb v458 k0_hw14)

def k0_off60 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c13_i32 : BitVec 32 := 13#32
  let v465 : BitVec 32 := Scalar.addi v38 c13_i32
  let v466 : Index := Scalar.indexCast v465
  ![v466.toNat]
def k0_mult16 (v467 : BitVec 32) : BitVec 32 :=
  v467

def k0_off61 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off62 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c208_i32 : BitVec 32 := 208#32
  let c0_i32_85 : BitVec 32 := 0#32
  ![v2.toNat, 208, 0]
def k0_off63 (v467 : BitVec 32) : Fin 2 → Nat :=
  let v468 : BitVec 32 := v467
  let c0_i32_86 : BitVec 32 := 0#32
  ![v468.toNat, 0]

def k0_chk15 (v467 : BitVec 32) : Prop :=
  (16 ∣ (k0_mult16 v467).toNat) ∧
  (∀ a, (k0_off63 v467) a + S16x1024.size a ≤ S851968x1024.size a) ∧
  (∀ (hinb : ∀ a, (k0_off63 v467) a + S16x1024.size a ≤ S851968x1024.size a), (Rect.unit (s := S851968x1024) (k0_off63 v467) S16x1024.size hinb).WholeWords (EltTy.packing .bf16))
theorem k0_mult16_dvd : ∀ (v467 : BitVec 32) (k0_hw15 : k0_chk15 v467), 16 ∣ (k0_mult16 v467).toNat := fun v467 k0_hw15 => k0_hw15.1
theorem k0_off63_inb : ∀ (v467 : BitVec 32) (k0_hw15 : k0_chk15 v467), ∀ a, (k0_off63 v467) a + S16x1024.size a ≤ S851968x1024.size a := fun v467 k0_hw15 => k0_hw15.2.1
theorem k0_off63_wordsbf16 : ∀ (v467 : BitVec 32) (k0_hw15 : k0_chk15 v467), (Rect.unit (s := S851968x1024) (k0_off63 v467) S16x1024.size (k0_off63_inb v467 k0_hw15)).WholeWords (EltTy.packing .bf16) := fun v467 k0_hw15 => k0_hw15.2.2 (k0_off63_inb v467 k0_hw15)

def k0_off64 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c14_i32 : BitVec 32 := 14#32
  let v474 : BitVec 32 := Scalar.addi v38 c14_i32
  let v475 : Index := Scalar.indexCast v474
  ![v475.toNat]
def k0_mult17 (v476 : BitVec 32) : BitVec 32 :=
  v476

def k0_off65 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off66 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c224_i32 : BitVec 32 := 224#32
  let c0_i32_87 : BitVec 32 := 0#32
  ![v2.toNat, 224, 0]
def k0_off67 (v476 : BitVec 32) : Fin 2 → Nat :=
  let v477 : BitVec 32 := v476
  let c0_i32_88 : BitVec 32 := 0#32
  ![v477.toNat, 0]

def k0_chk16 (v476 : BitVec 32) : Prop :=
  (16 ∣ (k0_mult17 v476).toNat) ∧
  (∀ a, (k0_off67 v476) a + S16x1024.size a ≤ S851968x1024.size a) ∧
  (∀ (hinb : ∀ a, (k0_off67 v476) a + S16x1024.size a ≤ S851968x1024.size a), (Rect.unit (s := S851968x1024) (k0_off67 v476) S16x1024.size hinb).WholeWords (EltTy.packing .bf16))
theorem k0_mult17_dvd : ∀ (v476 : BitVec 32) (k0_hw16 : k0_chk16 v476), 16 ∣ (k0_mult17 v476).toNat := fun v476 k0_hw16 => k0_hw16.1
theorem k0_off67_inb : ∀ (v476 : BitVec 32) (k0_hw16 : k0_chk16 v476), ∀ a, (k0_off67 v476) a + S16x1024.size a ≤ S851968x1024.size a := fun v476 k0_hw16 => k0_hw16.2.1
theorem k0_off67_wordsbf16 : ∀ (v476 : BitVec 32) (k0_hw16 : k0_chk16 v476), (Rect.unit (s := S851968x1024) (k0_off67 v476) S16x1024.size (k0_off67_inb v476 k0_hw16)).WholeWords (EltTy.packing .bf16) := fun v476 k0_hw16 => k0_hw16.2.2 (k0_off67_inb v476 k0_hw16)

def k0_off68 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c15_i32 : BitVec 32 := 15#32
  let v483 : BitVec 32 := Scalar.addi v38 c15_i32
  let v484 : Index := Scalar.indexCast v483
  ![v484.toNat]
def k0_mult18 (v485 : BitVec 32) : BitVec 32 :=
  v485

def k0_off69 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off70 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c240_i32 : BitVec 32 := 240#32
  let c0_i32_89 : BitVec 32 := 0#32
  ![v2.toNat, 240, 0]
def k0_off71 (v485 : BitVec 32) : Fin 2 → Nat :=
  let v486 : BitVec 32 := v485
  let c0_i32_90 : BitVec 32 := 0#32
  ![v486.toNat, 0]

def k0_chk17 (v485 : BitVec 32) : Prop :=
  (16 ∣ (k0_mult18 v485).toNat) ∧
  (∀ a, (k0_off71 v485) a + S16x1024.size a ≤ S851968x1024.size a) ∧
  (∀ (hinb : ∀ a, (k0_off71 v485) a + S16x1024.size a ≤ S851968x1024.size a), (Rect.unit (s := S851968x1024) (k0_off71 v485) S16x1024.size hinb).WholeWords (EltTy.packing .bf16))
theorem k0_mult18_dvd : ∀ (v485 : BitVec 32) (k0_hw17 : k0_chk17 v485), 16 ∣ (k0_mult18 v485).toNat := fun v485 k0_hw17 => k0_hw17.1
theorem k0_off71_inb : ∀ (v485 : BitVec 32) (k0_hw17 : k0_chk17 v485), ∀ a, (k0_off71 v485) a + S16x1024.size a ≤ S851968x1024.size a := fun v485 k0_hw17 => k0_hw17.2.1
theorem k0_off71_wordsbf16 : ∀ (v485 : BitVec 32) (k0_hw17 : k0_chk17 v485), (Rect.unit (s := S851968x1024) (k0_off71 v485) S16x1024.size (k0_off71_inb v485 k0_hw17)).WholeWords (EltTy.packing .bf16) := fun v485 k0_hw17 => k0_hw17.2.2 (k0_off71_inb v485 k0_hw17)

def k0_off72 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c16_i32_91 : BitVec 32 := 16#32
  let v492 : BitVec 32 := Scalar.addi v38 c16_i32_91
  let v493 : Index := Scalar.indexCast v492
  ![v493.toNat]
def k0_mult19 (v494 : BitVec 32) : BitVec 32 :=
  v494

def k0_off73 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off74 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c256_i32 : BitVec 32 := 256#32
  let c0_i32_92 : BitVec 32 := 0#32
  ![v2.toNat, 256, 0]
def k0_off75 (v494 : BitVec 32) : Fin 2 → Nat :=
  let v495 : BitVec 32 := v494
  let c0_i32_93 : BitVec 32 := 0#32
  ![v495.toNat, 0]

def k0_chk18 (v494 : BitVec 32) : Prop :=
  (16 ∣ (k0_mult19 v494).toNat) ∧
  (∀ a, (k0_off75 v494) a + S16x1024.size a ≤ S851968x1024.size a) ∧
  (∀ (hinb : ∀ a, (k0_off75 v494) a + S16x1024.size a ≤ S851968x1024.size a), (Rect.unit (s := S851968x1024) (k0_off75 v494) S16x1024.size hinb).WholeWords (EltTy.packing .bf16))
theorem k0_mult19_dvd : ∀ (v494 : BitVec 32) (k0_hw18 : k0_chk18 v494), 16 ∣ (k0_mult19 v494).toNat := fun v494 k0_hw18 => k0_hw18.1
theorem k0_off75_inb : ∀ (v494 : BitVec 32) (k0_hw18 : k0_chk18 v494), ∀ a, (k0_off75 v494) a + S16x1024.size a ≤ S851968x1024.size a := fun v494 k0_hw18 => k0_hw18.2.1
theorem k0_off75_wordsbf16 : ∀ (v494 : BitVec 32) (k0_hw18 : k0_chk18 v494), (Rect.unit (s := S851968x1024) (k0_off75 v494) S16x1024.size (k0_off75_inb v494 k0_hw18)).WholeWords (EltTy.packing .bf16) := fun v494 k0_hw18 => k0_hw18.2.2 (k0_off75_inb v494 k0_hw18)

def k0_off76 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c17_i32 : BitVec 32 := 17#32
  let v501 : BitVec 32 := Scalar.addi v38 c17_i32
  let v502 : Index := Scalar.indexCast v501
  ![v502.toNat]
def k0_mult20 (v503 : BitVec 32) : BitVec 32 :=
  v503

def k0_off77 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off78 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c272_i32 : BitVec 32 := 272#32
  let c0_i32_94 : BitVec 32 := 0#32
  ![v2.toNat, 272, 0]
def k0_off79 (v503 : BitVec 32) : Fin 2 → Nat :=
  let v504 : BitVec 32 := v503
  let c0_i32_95 : BitVec 32 := 0#32
  ![v504.toNat, 0]

def k0_chk19 (v503 : BitVec 32) : Prop :=
  (16 ∣ (k0_mult20 v503).toNat) ∧
  (∀ a, (k0_off79 v503) a + S16x1024.size a ≤ S851968x1024.size a) ∧
  (∀ (hinb : ∀ a, (k0_off79 v503) a + S16x1024.size a ≤ S851968x1024.size a), (Rect.unit (s := S851968x1024) (k0_off79 v503) S16x1024.size hinb).WholeWords (EltTy.packing .bf16))
theorem k0_mult20_dvd : ∀ (v503 : BitVec 32) (k0_hw19 : k0_chk19 v503), 16 ∣ (k0_mult20 v503).toNat := fun v503 k0_hw19 => k0_hw19.1
theorem k0_off79_inb : ∀ (v503 : BitVec 32) (k0_hw19 : k0_chk19 v503), ∀ a, (k0_off79 v503) a + S16x1024.size a ≤ S851968x1024.size a := fun v503 k0_hw19 => k0_hw19.2.1
theorem k0_off79_wordsbf16 : ∀ (v503 : BitVec 32) (k0_hw19 : k0_chk19 v503), (Rect.unit (s := S851968x1024) (k0_off79 v503) S16x1024.size (k0_off79_inb v503 k0_hw19)).WholeWords (EltTy.packing .bf16) := fun v503 k0_hw19 => k0_hw19.2.2 (k0_off79_inb v503 k0_hw19)

def k0_off80 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c18_i32 : BitVec 32 := 18#32
  let v510 : BitVec 32 := Scalar.addi v38 c18_i32
  let v511 : Index := Scalar.indexCast v510
  ![v511.toNat]
def k0_mult21 (v512 : BitVec 32) : BitVec 32 :=
  v512

def k0_off81 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off82 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c288_i32 : BitVec 32 := 288#32
  let c0_i32_96 : BitVec 32 := 0#32
  ![v2.toNat, 288, 0]
def k0_off83 (v512 : BitVec 32) : Fin 2 → Nat :=
  let v513 : BitVec 32 := v512
  let c0_i32_97 : BitVec 32 := 0#32
  ![v513.toNat, 0]

def k0_chk20 (v512 : BitVec 32) : Prop :=
  (16 ∣ (k0_mult21 v512).toNat) ∧
  (∀ a, (k0_off83 v512) a + S16x1024.size a ≤ S851968x1024.size a) ∧
  (∀ (hinb : ∀ a, (k0_off83 v512) a + S16x1024.size a ≤ S851968x1024.size a), (Rect.unit (s := S851968x1024) (k0_off83 v512) S16x1024.size hinb).WholeWords (EltTy.packing .bf16))
theorem k0_mult21_dvd : ∀ (v512 : BitVec 32) (k0_hw20 : k0_chk20 v512), 16 ∣ (k0_mult21 v512).toNat := fun v512 k0_hw20 => k0_hw20.1
theorem k0_off83_inb : ∀ (v512 : BitVec 32) (k0_hw20 : k0_chk20 v512), ∀ a, (k0_off83 v512) a + S16x1024.size a ≤ S851968x1024.size a := fun v512 k0_hw20 => k0_hw20.2.1
theorem k0_off83_wordsbf16 : ∀ (v512 : BitVec 32) (k0_hw20 : k0_chk20 v512), (Rect.unit (s := S851968x1024) (k0_off83 v512) S16x1024.size (k0_off83_inb v512 k0_hw20)).WholeWords (EltTy.packing .bf16) := fun v512 k0_hw20 => k0_hw20.2.2 (k0_off83_inb v512 k0_hw20)

def k0_off84 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c19_i32 : BitVec 32 := 19#32
  let v519 : BitVec 32 := Scalar.addi v38 c19_i32
  let v520 : Index := Scalar.indexCast v519
  ![v520.toNat]
def k0_mult22 (v521 : BitVec 32) : BitVec 32 :=
  v521

def k0_off85 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off86 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c304_i32 : BitVec 32 := 304#32
  let c0_i32_98 : BitVec 32 := 0#32
  ![v2.toNat, 304, 0]
def k0_off87 (v521 : BitVec 32) : Fin 2 → Nat :=
  let v522 : BitVec 32 := v521
  let c0_i32_99 : BitVec 32 := 0#32
  ![v522.toNat, 0]

def k0_chk21 (v521 : BitVec 32) : Prop :=
  (16 ∣ (k0_mult22 v521).toNat) ∧
  (∀ a, (k0_off87 v521) a + S16x1024.size a ≤ S851968x1024.size a) ∧
  (∀ (hinb : ∀ a, (k0_off87 v521) a + S16x1024.size a ≤ S851968x1024.size a), (Rect.unit (s := S851968x1024) (k0_off87 v521) S16x1024.size hinb).WholeWords (EltTy.packing .bf16))
theorem k0_mult22_dvd : ∀ (v521 : BitVec 32) (k0_hw21 : k0_chk21 v521), 16 ∣ (k0_mult22 v521).toNat := fun v521 k0_hw21 => k0_hw21.1
theorem k0_off87_inb : ∀ (v521 : BitVec 32) (k0_hw21 : k0_chk21 v521), ∀ a, (k0_off87 v521) a + S16x1024.size a ≤ S851968x1024.size a := fun v521 k0_hw21 => k0_hw21.2.1
theorem k0_off87_wordsbf16 : ∀ (v521 : BitVec 32) (k0_hw21 : k0_chk21 v521), (Rect.unit (s := S851968x1024) (k0_off87 v521) S16x1024.size (k0_off87_inb v521 k0_hw21)).WholeWords (EltTy.packing .bf16) := fun v521 k0_hw21 => k0_hw21.2.2 (k0_off87_inb v521 k0_hw21)

def k0_off88 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c20_i32 : BitVec 32 := 20#32
  let v528 : BitVec 32 := Scalar.addi v38 c20_i32
  let v529 : Index := Scalar.indexCast v528
  ![v529.toNat]
def k0_mult23 (v530 : BitVec 32) : BitVec 32 :=
  v530

def k0_off89 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off90 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c320_i32 : BitVec 32 := 320#32
  let c0_i32_100 : BitVec 32 := 0#32
  ![v2.toNat, 320, 0]
def k0_off91 (v530 : BitVec 32) : Fin 2 → Nat :=
  let v531 : BitVec 32 := v530
  let c0_i32_101 : BitVec 32 := 0#32
  ![v531.toNat, 0]

def k0_chk22 (v530 : BitVec 32) : Prop :=
  (16 ∣ (k0_mult23 v530).toNat) ∧
  (∀ a, (k0_off91 v530) a + S16x1024.size a ≤ S851968x1024.size a) ∧
  (∀ (hinb : ∀ a, (k0_off91 v530) a + S16x1024.size a ≤ S851968x1024.size a), (Rect.unit (s := S851968x1024) (k0_off91 v530) S16x1024.size hinb).WholeWords (EltTy.packing .bf16))
theorem k0_mult23_dvd : ∀ (v530 : BitVec 32) (k0_hw22 : k0_chk22 v530), 16 ∣ (k0_mult23 v530).toNat := fun v530 k0_hw22 => k0_hw22.1
theorem k0_off91_inb : ∀ (v530 : BitVec 32) (k0_hw22 : k0_chk22 v530), ∀ a, (k0_off91 v530) a + S16x1024.size a ≤ S851968x1024.size a := fun v530 k0_hw22 => k0_hw22.2.1
theorem k0_off91_wordsbf16 : ∀ (v530 : BitVec 32) (k0_hw22 : k0_chk22 v530), (Rect.unit (s := S851968x1024) (k0_off91 v530) S16x1024.size (k0_off91_inb v530 k0_hw22)).WholeWords (EltTy.packing .bf16) := fun v530 k0_hw22 => k0_hw22.2.2 (k0_off91_inb v530 k0_hw22)

def k0_off92 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c21_i32 : BitVec 32 := 21#32
  let v537 : BitVec 32 := Scalar.addi v38 c21_i32
  let v538 : Index := Scalar.indexCast v537
  ![v538.toNat]
def k0_mult24 (v539 : BitVec 32) : BitVec 32 :=
  v539

def k0_off93 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off94 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c336_i32 : BitVec 32 := 336#32
  let c0_i32_102 : BitVec 32 := 0#32
  ![v2.toNat, 336, 0]
def k0_off95 (v539 : BitVec 32) : Fin 2 → Nat :=
  let v540 : BitVec 32 := v539
  let c0_i32_103 : BitVec 32 := 0#32
  ![v540.toNat, 0]

def k0_chk23 (v539 : BitVec 32) : Prop :=
  (16 ∣ (k0_mult24 v539).toNat) ∧
  (∀ a, (k0_off95 v539) a + S16x1024.size a ≤ S851968x1024.size a) ∧
  (∀ (hinb : ∀ a, (k0_off95 v539) a + S16x1024.size a ≤ S851968x1024.size a), (Rect.unit (s := S851968x1024) (k0_off95 v539) S16x1024.size hinb).WholeWords (EltTy.packing .bf16))
theorem k0_mult24_dvd : ∀ (v539 : BitVec 32) (k0_hw23 : k0_chk23 v539), 16 ∣ (k0_mult24 v539).toNat := fun v539 k0_hw23 => k0_hw23.1
theorem k0_off95_inb : ∀ (v539 : BitVec 32) (k0_hw23 : k0_chk23 v539), ∀ a, (k0_off95 v539) a + S16x1024.size a ≤ S851968x1024.size a := fun v539 k0_hw23 => k0_hw23.2.1
theorem k0_off95_wordsbf16 : ∀ (v539 : BitVec 32) (k0_hw23 : k0_chk23 v539), (Rect.unit (s := S851968x1024) (k0_off95 v539) S16x1024.size (k0_off95_inb v539 k0_hw23)).WholeWords (EltTy.packing .bf16) := fun v539 k0_hw23 => k0_hw23.2.2 (k0_off95_inb v539 k0_hw23)

def k0_off96 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c22_i32 : BitVec 32 := 22#32
  let v546 : BitVec 32 := Scalar.addi v38 c22_i32
  let v547 : Index := Scalar.indexCast v546
  ![v547.toNat]
def k0_mult25 (v548 : BitVec 32) : BitVec 32 :=
  v548

def k0_off97 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off98 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c352_i32 : BitVec 32 := 352#32
  let c0_i32_104 : BitVec 32 := 0#32
  ![v2.toNat, 352, 0]
def k0_off99 (v548 : BitVec 32) : Fin 2 → Nat :=
  let v549 : BitVec 32 := v548
  let c0_i32_105 : BitVec 32 := 0#32
  ![v549.toNat, 0]

def k0_chk24 (v548 : BitVec 32) : Prop :=
  (16 ∣ (k0_mult25 v548).toNat) ∧
  (∀ a, (k0_off99 v548) a + S16x1024.size a ≤ S851968x1024.size a) ∧
  (∀ (hinb : ∀ a, (k0_off99 v548) a + S16x1024.size a ≤ S851968x1024.size a), (Rect.unit (s := S851968x1024) (k0_off99 v548) S16x1024.size hinb).WholeWords (EltTy.packing .bf16))
theorem k0_mult25_dvd : ∀ (v548 : BitVec 32) (k0_hw24 : k0_chk24 v548), 16 ∣ (k0_mult25 v548).toNat := fun v548 k0_hw24 => k0_hw24.1
theorem k0_off99_inb : ∀ (v548 : BitVec 32) (k0_hw24 : k0_chk24 v548), ∀ a, (k0_off99 v548) a + S16x1024.size a ≤ S851968x1024.size a := fun v548 k0_hw24 => k0_hw24.2.1
theorem k0_off99_wordsbf16 : ∀ (v548 : BitVec 32) (k0_hw24 : k0_chk24 v548), (Rect.unit (s := S851968x1024) (k0_off99 v548) S16x1024.size (k0_off99_inb v548 k0_hw24)).WholeWords (EltTy.packing .bf16) := fun v548 k0_hw24 => k0_hw24.2.2 (k0_off99_inb v548 k0_hw24)

def k0_off100 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c23_i32 : BitVec 32 := 23#32
  let v555 : BitVec 32 := Scalar.addi v38 c23_i32
  let v556 : Index := Scalar.indexCast v555
  ![v556.toNat]
def k0_mult26 (v557 : BitVec 32) : BitVec 32 :=
  v557

def k0_off101 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off102 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c368_i32 : BitVec 32 := 368#32
  let c0_i32_106 : BitVec 32 := 0#32
  ![v2.toNat, 368, 0]
def k0_off103 (v557 : BitVec 32) : Fin 2 → Nat :=
  let v558 : BitVec 32 := v557
  let c0_i32_107 : BitVec 32 := 0#32
  ![v558.toNat, 0]

def k0_chk25 (v557 : BitVec 32) : Prop :=
  (16 ∣ (k0_mult26 v557).toNat) ∧
  (∀ a, (k0_off103 v557) a + S16x1024.size a ≤ S851968x1024.size a) ∧
  (∀ (hinb : ∀ a, (k0_off103 v557) a + S16x1024.size a ≤ S851968x1024.size a), (Rect.unit (s := S851968x1024) (k0_off103 v557) S16x1024.size hinb).WholeWords (EltTy.packing .bf16))
theorem k0_mult26_dvd : ∀ (v557 : BitVec 32) (k0_hw25 : k0_chk25 v557), 16 ∣ (k0_mult26 v557).toNat := fun v557 k0_hw25 => k0_hw25.1
theorem k0_off103_inb : ∀ (v557 : BitVec 32) (k0_hw25 : k0_chk25 v557), ∀ a, (k0_off103 v557) a + S16x1024.size a ≤ S851968x1024.size a := fun v557 k0_hw25 => k0_hw25.2.1
theorem k0_off103_wordsbf16 : ∀ (v557 : BitVec 32) (k0_hw25 : k0_chk25 v557), (Rect.unit (s := S851968x1024) (k0_off103 v557) S16x1024.size (k0_off103_inb v557 k0_hw25)).WholeWords (EltTy.packing .bf16) := fun v557 k0_hw25 => k0_hw25.2.2 (k0_off103_inb v557 k0_hw25)

def k0_off104 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c24_i32 : BitVec 32 := 24#32
  let v564 : BitVec 32 := Scalar.addi v38 c24_i32
  let v565 : Index := Scalar.indexCast v564
  ![v565.toNat]
def k0_mult27 (v566 : BitVec 32) : BitVec 32 :=
  v566

def k0_off105 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off106 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c384_i32 : BitVec 32 := 384#32
  let c0_i32_108 : BitVec 32 := 0#32
  ![v2.toNat, 384, 0]
def k0_off107 (v566 : BitVec 32) : Fin 2 → Nat :=
  let v567 : BitVec 32 := v566
  let c0_i32_109 : BitVec 32 := 0#32
  ![v567.toNat, 0]

def k0_chk26 (v566 : BitVec 32) : Prop :=
  (16 ∣ (k0_mult27 v566).toNat) ∧
  (∀ a, (k0_off107 v566) a + S16x1024.size a ≤ S851968x1024.size a) ∧
  (∀ (hinb : ∀ a, (k0_off107 v566) a + S16x1024.size a ≤ S851968x1024.size a), (Rect.unit (s := S851968x1024) (k0_off107 v566) S16x1024.size hinb).WholeWords (EltTy.packing .bf16))
theorem k0_mult27_dvd : ∀ (v566 : BitVec 32) (k0_hw26 : k0_chk26 v566), 16 ∣ (k0_mult27 v566).toNat := fun v566 k0_hw26 => k0_hw26.1
theorem k0_off107_inb : ∀ (v566 : BitVec 32) (k0_hw26 : k0_chk26 v566), ∀ a, (k0_off107 v566) a + S16x1024.size a ≤ S851968x1024.size a := fun v566 k0_hw26 => k0_hw26.2.1
theorem k0_off107_wordsbf16 : ∀ (v566 : BitVec 32) (k0_hw26 : k0_chk26 v566), (Rect.unit (s := S851968x1024) (k0_off107 v566) S16x1024.size (k0_off107_inb v566 k0_hw26)).WholeWords (EltTy.packing .bf16) := fun v566 k0_hw26 => k0_hw26.2.2 (k0_off107_inb v566 k0_hw26)

def k0_off108 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c25_i32 : BitVec 32 := 25#32
  let v573 : BitVec 32 := Scalar.addi v38 c25_i32
  let v574 : Index := Scalar.indexCast v573
  ![v574.toNat]
def k0_mult28 (v575 : BitVec 32) : BitVec 32 :=
  v575

def k0_off109 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off110 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c400_i32 : BitVec 32 := 400#32
  let c0_i32_110 : BitVec 32 := 0#32
  ![v2.toNat, 400, 0]
def k0_off111 (v575 : BitVec 32) : Fin 2 → Nat :=
  let v576 : BitVec 32 := v575
  let c0_i32_111 : BitVec 32 := 0#32
  ![v576.toNat, 0]

def k0_chk27 (v575 : BitVec 32) : Prop :=
  (16 ∣ (k0_mult28 v575).toNat) ∧
  (∀ a, (k0_off111 v575) a + S16x1024.size a ≤ S851968x1024.size a) ∧
  (∀ (hinb : ∀ a, (k0_off111 v575) a + S16x1024.size a ≤ S851968x1024.size a), (Rect.unit (s := S851968x1024) (k0_off111 v575) S16x1024.size hinb).WholeWords (EltTy.packing .bf16))
theorem k0_mult28_dvd : ∀ (v575 : BitVec 32) (k0_hw27 : k0_chk27 v575), 16 ∣ (k0_mult28 v575).toNat := fun v575 k0_hw27 => k0_hw27.1
theorem k0_off111_inb : ∀ (v575 : BitVec 32) (k0_hw27 : k0_chk27 v575), ∀ a, (k0_off111 v575) a + S16x1024.size a ≤ S851968x1024.size a := fun v575 k0_hw27 => k0_hw27.2.1
theorem k0_off111_wordsbf16 : ∀ (v575 : BitVec 32) (k0_hw27 : k0_chk27 v575), (Rect.unit (s := S851968x1024) (k0_off111 v575) S16x1024.size (k0_off111_inb v575 k0_hw27)).WholeWords (EltTy.packing .bf16) := fun v575 k0_hw27 => k0_hw27.2.2 (k0_off111_inb v575 k0_hw27)

def k0_off112 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c26_i32 : BitVec 32 := 26#32
  let v582 : BitVec 32 := Scalar.addi v38 c26_i32
  let v583 : Index := Scalar.indexCast v582
  ![v583.toNat]
def k0_mult29 (v584 : BitVec 32) : BitVec 32 :=
  v584

def k0_off113 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off114 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c416_i32 : BitVec 32 := 416#32
  let c0_i32_112 : BitVec 32 := 0#32
  ![v2.toNat, 416, 0]
def k0_off115 (v584 : BitVec 32) : Fin 2 → Nat :=
  let v585 : BitVec 32 := v584
  let c0_i32_113 : BitVec 32 := 0#32
  ![v585.toNat, 0]

def k0_chk28 (v584 : BitVec 32) : Prop :=
  (16 ∣ (k0_mult29 v584).toNat) ∧
  (∀ a, (k0_off115 v584) a + S16x1024.size a ≤ S851968x1024.size a) ∧
  (∀ (hinb : ∀ a, (k0_off115 v584) a + S16x1024.size a ≤ S851968x1024.size a), (Rect.unit (s := S851968x1024) (k0_off115 v584) S16x1024.size hinb).WholeWords (EltTy.packing .bf16))
theorem k0_mult29_dvd : ∀ (v584 : BitVec 32) (k0_hw28 : k0_chk28 v584), 16 ∣ (k0_mult29 v584).toNat := fun v584 k0_hw28 => k0_hw28.1
theorem k0_off115_inb : ∀ (v584 : BitVec 32) (k0_hw28 : k0_chk28 v584), ∀ a, (k0_off115 v584) a + S16x1024.size a ≤ S851968x1024.size a := fun v584 k0_hw28 => k0_hw28.2.1
theorem k0_off115_wordsbf16 : ∀ (v584 : BitVec 32) (k0_hw28 : k0_chk28 v584), (Rect.unit (s := S851968x1024) (k0_off115 v584) S16x1024.size (k0_off115_inb v584 k0_hw28)).WholeWords (EltTy.packing .bf16) := fun v584 k0_hw28 => k0_hw28.2.2 (k0_off115_inb v584 k0_hw28)

def k0_off116 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c27_i32 : BitVec 32 := 27#32
  let v591 : BitVec 32 := Scalar.addi v38 c27_i32
  let v592 : Index := Scalar.indexCast v591
  ![v592.toNat]
def k0_mult30 (v593 : BitVec 32) : BitVec 32 :=
  v593

def k0_off117 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off118 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c432_i32 : BitVec 32 := 432#32
  let c0_i32_114 : BitVec 32 := 0#32
  ![v2.toNat, 432, 0]
def k0_off119 (v593 : BitVec 32) : Fin 2 → Nat :=
  let v594 : BitVec 32 := v593
  let c0_i32_115 : BitVec 32 := 0#32
  ![v594.toNat, 0]

def k0_chk29 (v593 : BitVec 32) : Prop :=
  (16 ∣ (k0_mult30 v593).toNat) ∧
  (∀ a, (k0_off119 v593) a + S16x1024.size a ≤ S851968x1024.size a) ∧
  (∀ (hinb : ∀ a, (k0_off119 v593) a + S16x1024.size a ≤ S851968x1024.size a), (Rect.unit (s := S851968x1024) (k0_off119 v593) S16x1024.size hinb).WholeWords (EltTy.packing .bf16))
theorem k0_mult30_dvd : ∀ (v593 : BitVec 32) (k0_hw29 : k0_chk29 v593), 16 ∣ (k0_mult30 v593).toNat := fun v593 k0_hw29 => k0_hw29.1
theorem k0_off119_inb : ∀ (v593 : BitVec 32) (k0_hw29 : k0_chk29 v593), ∀ a, (k0_off119 v593) a + S16x1024.size a ≤ S851968x1024.size a := fun v593 k0_hw29 => k0_hw29.2.1
theorem k0_off119_wordsbf16 : ∀ (v593 : BitVec 32) (k0_hw29 : k0_chk29 v593), (Rect.unit (s := S851968x1024) (k0_off119 v593) S16x1024.size (k0_off119_inb v593 k0_hw29)).WholeWords (EltTy.packing .bf16) := fun v593 k0_hw29 => k0_hw29.2.2 (k0_off119_inb v593 k0_hw29)

def k0_off120 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c28_i32 : BitVec 32 := 28#32
  let v600 : BitVec 32 := Scalar.addi v38 c28_i32
  let v601 : Index := Scalar.indexCast v600
  ![v601.toNat]
def k0_mult31 (v602 : BitVec 32) : BitVec 32 :=
  v602

def k0_off121 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off122 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c448_i32 : BitVec 32 := 448#32
  let c0_i32_116 : BitVec 32 := 0#32
  ![v2.toNat, 448, 0]
def k0_off123 (v602 : BitVec 32) : Fin 2 → Nat :=
  let v603 : BitVec 32 := v602
  let c0_i32_117 : BitVec 32 := 0#32
  ![v603.toNat, 0]

def k0_chk30 (v602 : BitVec 32) : Prop :=
  (16 ∣ (k0_mult31 v602).toNat) ∧
  (∀ a, (k0_off123 v602) a + S16x1024.size a ≤ S851968x1024.size a) ∧
  (∀ (hinb : ∀ a, (k0_off123 v602) a + S16x1024.size a ≤ S851968x1024.size a), (Rect.unit (s := S851968x1024) (k0_off123 v602) S16x1024.size hinb).WholeWords (EltTy.packing .bf16))
theorem k0_mult31_dvd : ∀ (v602 : BitVec 32) (k0_hw30 : k0_chk30 v602), 16 ∣ (k0_mult31 v602).toNat := fun v602 k0_hw30 => k0_hw30.1
theorem k0_off123_inb : ∀ (v602 : BitVec 32) (k0_hw30 : k0_chk30 v602), ∀ a, (k0_off123 v602) a + S16x1024.size a ≤ S851968x1024.size a := fun v602 k0_hw30 => k0_hw30.2.1
theorem k0_off123_wordsbf16 : ∀ (v602 : BitVec 32) (k0_hw30 : k0_chk30 v602), (Rect.unit (s := S851968x1024) (k0_off123 v602) S16x1024.size (k0_off123_inb v602 k0_hw30)).WholeWords (EltTy.packing .bf16) := fun v602 k0_hw30 => k0_hw30.2.2 (k0_off123_inb v602 k0_hw30)

def k0_off124 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c29_i32 : BitVec 32 := 29#32
  let v609 : BitVec 32 := Scalar.addi v38 c29_i32
  let v610 : Index := Scalar.indexCast v609
  ![v610.toNat]
def k0_mult32 (v611 : BitVec 32) : BitVec 32 :=
  v611

def k0_off125 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off126 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c464_i32 : BitVec 32 := 464#32
  let c0_i32_118 : BitVec 32 := 0#32
  ![v2.toNat, 464, 0]
def k0_off127 (v611 : BitVec 32) : Fin 2 → Nat :=
  let v612 : BitVec 32 := v611
  let c0_i32_119 : BitVec 32 := 0#32
  ![v612.toNat, 0]

def k0_chk31 (v611 : BitVec 32) : Prop :=
  (16 ∣ (k0_mult32 v611).toNat) ∧
  (∀ a, (k0_off127 v611) a + S16x1024.size a ≤ S851968x1024.size a) ∧
  (∀ (hinb : ∀ a, (k0_off127 v611) a + S16x1024.size a ≤ S851968x1024.size a), (Rect.unit (s := S851968x1024) (k0_off127 v611) S16x1024.size hinb).WholeWords (EltTy.packing .bf16))
theorem k0_mult32_dvd : ∀ (v611 : BitVec 32) (k0_hw31 : k0_chk31 v611), 16 ∣ (k0_mult32 v611).toNat := fun v611 k0_hw31 => k0_hw31.1
theorem k0_off127_inb : ∀ (v611 : BitVec 32) (k0_hw31 : k0_chk31 v611), ∀ a, (k0_off127 v611) a + S16x1024.size a ≤ S851968x1024.size a := fun v611 k0_hw31 => k0_hw31.2.1
theorem k0_off127_wordsbf16 : ∀ (v611 : BitVec 32) (k0_hw31 : k0_chk31 v611), (Rect.unit (s := S851968x1024) (k0_off127 v611) S16x1024.size (k0_off127_inb v611 k0_hw31)).WholeWords (EltTy.packing .bf16) := fun v611 k0_hw31 => k0_hw31.2.2 (k0_off127_inb v611 k0_hw31)

def k0_off128 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c30_i32 : BitVec 32 := 30#32
  let v618 : BitVec 32 := Scalar.addi v38 c30_i32
  let v619 : Index := Scalar.indexCast v618
  ![v619.toNat]
def k0_mult33 (v620 : BitVec 32) : BitVec 32 :=
  v620

def k0_off129 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off130 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c480_i32 : BitVec 32 := 480#32
  let c0_i32_120 : BitVec 32 := 0#32
  ![v2.toNat, 480, 0]
def k0_off131 (v620 : BitVec 32) : Fin 2 → Nat :=
  let v621 : BitVec 32 := v620
  let c0_i32_121 : BitVec 32 := 0#32
  ![v621.toNat, 0]

def k0_chk32 (v620 : BitVec 32) : Prop :=
  (16 ∣ (k0_mult33 v620).toNat) ∧
  (∀ a, (k0_off131 v620) a + S16x1024.size a ≤ S851968x1024.size a) ∧
  (∀ (hinb : ∀ a, (k0_off131 v620) a + S16x1024.size a ≤ S851968x1024.size a), (Rect.unit (s := S851968x1024) (k0_off131 v620) S16x1024.size hinb).WholeWords (EltTy.packing .bf16))
theorem k0_mult33_dvd : ∀ (v620 : BitVec 32) (k0_hw32 : k0_chk32 v620), 16 ∣ (k0_mult33 v620).toNat := fun v620 k0_hw32 => k0_hw32.1
theorem k0_off131_inb : ∀ (v620 : BitVec 32) (k0_hw32 : k0_chk32 v620), ∀ a, (k0_off131 v620) a + S16x1024.size a ≤ S851968x1024.size a := fun v620 k0_hw32 => k0_hw32.2.1
theorem k0_off131_wordsbf16 : ∀ (v620 : BitVec 32) (k0_hw32 : k0_chk32 v620), (Rect.unit (s := S851968x1024) (k0_off131 v620) S16x1024.size (k0_off131_inb v620 k0_hw32)).WholeWords (EltTy.packing .bf16) := fun v620 k0_hw32 => k0_hw32.2.2 (k0_off131_inb v620 k0_hw32)

def k0_off132 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c31_i32 : BitVec 32 := 31#32
  let v627 : BitVec 32 := Scalar.addi v38 c31_i32
  let v628 : Index := Scalar.indexCast v627
  ![v628.toNat]
def k0_mult34 (v629 : BitVec 32) : BitVec 32 :=
  v629

def k0_off133 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off134 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c496_i32 : BitVec 32 := 496#32
  let c0_i32_122 : BitVec 32 := 0#32
  ![v2.toNat, 496, 0]
def k0_off135 (v629 : BitVec 32) : Fin 2 → Nat :=
  let v630 : BitVec 32 := v629
  let c0_i32_123 : BitVec 32 := 0#32
  ![v630.toNat, 0]

def k0_chk33 (v629 : BitVec 32) : Prop :=
  (16 ∣ (k0_mult34 v629).toNat) ∧
  (∀ a, (k0_off135 v629) a + S16x1024.size a ≤ S851968x1024.size a) ∧
  (∀ (hinb : ∀ a, (k0_off135 v629) a + S16x1024.size a ≤ S851968x1024.size a), (Rect.unit (s := S851968x1024) (k0_off135 v629) S16x1024.size hinb).WholeWords (EltTy.packing .bf16))
theorem k0_mult34_dvd : ∀ (v629 : BitVec 32) (k0_hw33 : k0_chk33 v629), 16 ∣ (k0_mult34 v629).toNat := fun v629 k0_hw33 => k0_hw33.1
theorem k0_off135_inb : ∀ (v629 : BitVec 32) (k0_hw33 : k0_chk33 v629), ∀ a, (k0_off135 v629) a + S16x1024.size a ≤ S851968x1024.size a := fun v629 k0_hw33 => k0_hw33.2.1
theorem k0_off135_wordsbf16 : ∀ (v629 : BitVec 32) (k0_hw33 : k0_chk33 v629), (Rect.unit (s := S851968x1024) (k0_off135 v629) S16x1024.size (k0_off135_inb v629 k0_hw33)).WholeWords (EltTy.packing .bf16) := fun v629 k0_hw33 => k0_hw33.2.2 (k0_off135_inb v629 k0_hw33)

def k0_off136 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c32_i32_124 : BitVec 32 := 32#32
  let v636 : BitVec 32 := Scalar.addi v38 c32_i32_124
  let v637 : Index := Scalar.indexCast v636
  ![v637.toNat]
def k0_mult35 (v638 : BitVec 32) : BitVec 32 :=
  v638

def k0_off137 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off138 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c512_i32 : BitVec 32 := 512#32
  let c0_i32_125 : BitVec 32 := 0#32
  ![v2.toNat, 512, 0]
def k0_off139 (v638 : BitVec 32) : Fin 2 → Nat :=
  let v639 : BitVec 32 := v638
  let c0_i32_126 : BitVec 32 := 0#32
  ![v639.toNat, 0]

def k0_chk34 (v638 : BitVec 32) : Prop :=
  (16 ∣ (k0_mult35 v638).toNat) ∧
  (∀ a, (k0_off139 v638) a + S16x1024.size a ≤ S851968x1024.size a) ∧
  (∀ (hinb : ∀ a, (k0_off139 v638) a + S16x1024.size a ≤ S851968x1024.size a), (Rect.unit (s := S851968x1024) (k0_off139 v638) S16x1024.size hinb).WholeWords (EltTy.packing .bf16))
theorem k0_mult35_dvd : ∀ (v638 : BitVec 32) (k0_hw34 : k0_chk34 v638), 16 ∣ (k0_mult35 v638).toNat := fun v638 k0_hw34 => k0_hw34.1
theorem k0_off139_inb : ∀ (v638 : BitVec 32) (k0_hw34 : k0_chk34 v638), ∀ a, (k0_off139 v638) a + S16x1024.size a ≤ S851968x1024.size a := fun v638 k0_hw34 => k0_hw34.2.1
theorem k0_off139_wordsbf16 : ∀ (v638 : BitVec 32) (k0_hw34 : k0_chk34 v638), (Rect.unit (s := S851968x1024) (k0_off139 v638) S16x1024.size (k0_off139_inb v638 k0_hw34)).WholeWords (EltTy.packing .bf16) := fun v638 k0_hw34 => k0_hw34.2.2 (k0_off139_inb v638 k0_hw34)

def k0_off140 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c33_i32 : BitVec 32 := 33#32
  let v645 : BitVec 32 := Scalar.addi v38 c33_i32
  let v646 : Index := Scalar.indexCast v645
  ![v646.toNat]
def k0_mult36 (v647 : BitVec 32) : BitVec 32 :=
  v647

def k0_off141 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off142 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c528_i32 : BitVec 32 := 528#32
  let c0_i32_127 : BitVec 32 := 0#32
  ![v2.toNat, 528, 0]
def k0_off143 (v647 : BitVec 32) : Fin 2 → Nat :=
  let v648 : BitVec 32 := v647
  let c0_i32_128 : BitVec 32 := 0#32
  ![v648.toNat, 0]

def k0_chk35 (v647 : BitVec 32) : Prop :=
  (16 ∣ (k0_mult36 v647).toNat) ∧
  (∀ a, (k0_off143 v647) a + S16x1024.size a ≤ S851968x1024.size a) ∧
  (∀ (hinb : ∀ a, (k0_off143 v647) a + S16x1024.size a ≤ S851968x1024.size a), (Rect.unit (s := S851968x1024) (k0_off143 v647) S16x1024.size hinb).WholeWords (EltTy.packing .bf16))
theorem k0_mult36_dvd : ∀ (v647 : BitVec 32) (k0_hw35 : k0_chk35 v647), 16 ∣ (k0_mult36 v647).toNat := fun v647 k0_hw35 => k0_hw35.1
theorem k0_off143_inb : ∀ (v647 : BitVec 32) (k0_hw35 : k0_chk35 v647), ∀ a, (k0_off143 v647) a + S16x1024.size a ≤ S851968x1024.size a := fun v647 k0_hw35 => k0_hw35.2.1
theorem k0_off143_wordsbf16 : ∀ (v647 : BitVec 32) (k0_hw35 : k0_chk35 v647), (Rect.unit (s := S851968x1024) (k0_off143 v647) S16x1024.size (k0_off143_inb v647 k0_hw35)).WholeWords (EltTy.packing .bf16) := fun v647 k0_hw35 => k0_hw35.2.2 (k0_off143_inb v647 k0_hw35)

def k0_off144 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c34_i32 : BitVec 32 := 34#32
  let v654 : BitVec 32 := Scalar.addi v38 c34_i32
  let v655 : Index := Scalar.indexCast v654
  ![v655.toNat]
def k0_mult37 (v656 : BitVec 32) : BitVec 32 :=
  v656

def k0_off145 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off146 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c544_i32 : BitVec 32 := 544#32
  let c0_i32_129 : BitVec 32 := 0#32
  ![v2.toNat, 544, 0]
def k0_off147 (v656 : BitVec 32) : Fin 2 → Nat :=
  let v657 : BitVec 32 := v656
  let c0_i32_130 : BitVec 32 := 0#32
  ![v657.toNat, 0]

def k0_chk36 (v656 : BitVec 32) : Prop :=
  (16 ∣ (k0_mult37 v656).toNat) ∧
  (∀ a, (k0_off147 v656) a + S16x1024.size a ≤ S851968x1024.size a) ∧
  (∀ (hinb : ∀ a, (k0_off147 v656) a + S16x1024.size a ≤ S851968x1024.size a), (Rect.unit (s := S851968x1024) (k0_off147 v656) S16x1024.size hinb).WholeWords (EltTy.packing .bf16))
theorem k0_mult37_dvd : ∀ (v656 : BitVec 32) (k0_hw36 : k0_chk36 v656), 16 ∣ (k0_mult37 v656).toNat := fun v656 k0_hw36 => k0_hw36.1
theorem k0_off147_inb : ∀ (v656 : BitVec 32) (k0_hw36 : k0_chk36 v656), ∀ a, (k0_off147 v656) a + S16x1024.size a ≤ S851968x1024.size a := fun v656 k0_hw36 => k0_hw36.2.1
theorem k0_off147_wordsbf16 : ∀ (v656 : BitVec 32) (k0_hw36 : k0_chk36 v656), (Rect.unit (s := S851968x1024) (k0_off147 v656) S16x1024.size (k0_off147_inb v656 k0_hw36)).WholeWords (EltTy.packing .bf16) := fun v656 k0_hw36 => k0_hw36.2.2 (k0_off147_inb v656 k0_hw36)

def k0_off148 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c35_i32 : BitVec 32 := 35#32
  let v663 : BitVec 32 := Scalar.addi v38 c35_i32
  let v664 : Index := Scalar.indexCast v663
  ![v664.toNat]
def k0_mult38 (v665 : BitVec 32) : BitVec 32 :=
  v665

def k0_off149 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off150 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c560_i32 : BitVec 32 := 560#32
  let c0_i32_131 : BitVec 32 := 0#32
  ![v2.toNat, 560, 0]
def k0_off151 (v665 : BitVec 32) : Fin 2 → Nat :=
  let v666 : BitVec 32 := v665
  let c0_i32_132 : BitVec 32 := 0#32
  ![v666.toNat, 0]

def k0_chk37 (v665 : BitVec 32) : Prop :=
  (16 ∣ (k0_mult38 v665).toNat) ∧
  (∀ a, (k0_off151 v665) a + S16x1024.size a ≤ S851968x1024.size a) ∧
  (∀ (hinb : ∀ a, (k0_off151 v665) a + S16x1024.size a ≤ S851968x1024.size a), (Rect.unit (s := S851968x1024) (k0_off151 v665) S16x1024.size hinb).WholeWords (EltTy.packing .bf16))
theorem k0_mult38_dvd : ∀ (v665 : BitVec 32) (k0_hw37 : k0_chk37 v665), 16 ∣ (k0_mult38 v665).toNat := fun v665 k0_hw37 => k0_hw37.1
theorem k0_off151_inb : ∀ (v665 : BitVec 32) (k0_hw37 : k0_chk37 v665), ∀ a, (k0_off151 v665) a + S16x1024.size a ≤ S851968x1024.size a := fun v665 k0_hw37 => k0_hw37.2.1
theorem k0_off151_wordsbf16 : ∀ (v665 : BitVec 32) (k0_hw37 : k0_chk37 v665), (Rect.unit (s := S851968x1024) (k0_off151 v665) S16x1024.size (k0_off151_inb v665 k0_hw37)).WholeWords (EltTy.packing .bf16) := fun v665 k0_hw37 => k0_hw37.2.2 (k0_off151_inb v665 k0_hw37)

def k0_off152 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c36_i32 : BitVec 32 := 36#32
  let v672 : BitVec 32 := Scalar.addi v38 c36_i32
  let v673 : Index := Scalar.indexCast v672
  ![v673.toNat]
def k0_mult39 (v674 : BitVec 32) : BitVec 32 :=
  v674

def k0_off153 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off154 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c576_i32 : BitVec 32 := 576#32
  let c0_i32_133 : BitVec 32 := 0#32
  ![v2.toNat, 576, 0]
def k0_off155 (v674 : BitVec 32) : Fin 2 → Nat :=
  let v675 : BitVec 32 := v674
  let c0_i32_134 : BitVec 32 := 0#32
  ![v675.toNat, 0]

def k0_chk38 (v674 : BitVec 32) : Prop :=
  (16 ∣ (k0_mult39 v674).toNat) ∧
  (∀ a, (k0_off155 v674) a + S16x1024.size a ≤ S851968x1024.size a) ∧
  (∀ (hinb : ∀ a, (k0_off155 v674) a + S16x1024.size a ≤ S851968x1024.size a), (Rect.unit (s := S851968x1024) (k0_off155 v674) S16x1024.size hinb).WholeWords (EltTy.packing .bf16))
theorem k0_mult39_dvd : ∀ (v674 : BitVec 32) (k0_hw38 : k0_chk38 v674), 16 ∣ (k0_mult39 v674).toNat := fun v674 k0_hw38 => k0_hw38.1
theorem k0_off155_inb : ∀ (v674 : BitVec 32) (k0_hw38 : k0_chk38 v674), ∀ a, (k0_off155 v674) a + S16x1024.size a ≤ S851968x1024.size a := fun v674 k0_hw38 => k0_hw38.2.1
theorem k0_off155_wordsbf16 : ∀ (v674 : BitVec 32) (k0_hw38 : k0_chk38 v674), (Rect.unit (s := S851968x1024) (k0_off155 v674) S16x1024.size (k0_off155_inb v674 k0_hw38)).WholeWords (EltTy.packing .bf16) := fun v674 k0_hw38 => k0_hw38.2.2 (k0_off155_inb v674 k0_hw38)

def k0_off156 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c37_i32 : BitVec 32 := 37#32
  let v681 : BitVec 32 := Scalar.addi v38 c37_i32
  let v682 : Index := Scalar.indexCast v681
  ![v682.toNat]
def k0_mult40 (v683 : BitVec 32) : BitVec 32 :=
  v683

def k0_off157 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off158 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c592_i32 : BitVec 32 := 592#32
  let c0_i32_135 : BitVec 32 := 0#32
  ![v2.toNat, 592, 0]
def k0_off159 (v683 : BitVec 32) : Fin 2 → Nat :=
  let v684 : BitVec 32 := v683
  let c0_i32_136 : BitVec 32 := 0#32
  ![v684.toNat, 0]

def k0_chk39 (v683 : BitVec 32) : Prop :=
  (16 ∣ (k0_mult40 v683).toNat) ∧
  (∀ a, (k0_off159 v683) a + S16x1024.size a ≤ S851968x1024.size a) ∧
  (∀ (hinb : ∀ a, (k0_off159 v683) a + S16x1024.size a ≤ S851968x1024.size a), (Rect.unit (s := S851968x1024) (k0_off159 v683) S16x1024.size hinb).WholeWords (EltTy.packing .bf16))
theorem k0_mult40_dvd : ∀ (v683 : BitVec 32) (k0_hw39 : k0_chk39 v683), 16 ∣ (k0_mult40 v683).toNat := fun v683 k0_hw39 => k0_hw39.1
theorem k0_off159_inb : ∀ (v683 : BitVec 32) (k0_hw39 : k0_chk39 v683), ∀ a, (k0_off159 v683) a + S16x1024.size a ≤ S851968x1024.size a := fun v683 k0_hw39 => k0_hw39.2.1
theorem k0_off159_wordsbf16 : ∀ (v683 : BitVec 32) (k0_hw39 : k0_chk39 v683), (Rect.unit (s := S851968x1024) (k0_off159 v683) S16x1024.size (k0_off159_inb v683 k0_hw39)).WholeWords (EltTy.packing .bf16) := fun v683 k0_hw39 => k0_hw39.2.2 (k0_off159_inb v683 k0_hw39)

def k0_off160 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c38_i32 : BitVec 32 := 38#32
  let v690 : BitVec 32 := Scalar.addi v38 c38_i32
  let v691 : Index := Scalar.indexCast v690
  ![v691.toNat]
def k0_mult41 (v692 : BitVec 32) : BitVec 32 :=
  v692

def k0_off161 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off162 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c608_i32 : BitVec 32 := 608#32
  let c0_i32_137 : BitVec 32 := 0#32
  ![v2.toNat, 608, 0]
def k0_off163 (v692 : BitVec 32) : Fin 2 → Nat :=
  let v693 : BitVec 32 := v692
  let c0_i32_138 : BitVec 32 := 0#32
  ![v693.toNat, 0]

def k0_chk40 (v692 : BitVec 32) : Prop :=
  (16 ∣ (k0_mult41 v692).toNat) ∧
  (∀ a, (k0_off163 v692) a + S16x1024.size a ≤ S851968x1024.size a) ∧
  (∀ (hinb : ∀ a, (k0_off163 v692) a + S16x1024.size a ≤ S851968x1024.size a), (Rect.unit (s := S851968x1024) (k0_off163 v692) S16x1024.size hinb).WholeWords (EltTy.packing .bf16))
theorem k0_mult41_dvd : ∀ (v692 : BitVec 32) (k0_hw40 : k0_chk40 v692), 16 ∣ (k0_mult41 v692).toNat := fun v692 k0_hw40 => k0_hw40.1
theorem k0_off163_inb : ∀ (v692 : BitVec 32) (k0_hw40 : k0_chk40 v692), ∀ a, (k0_off163 v692) a + S16x1024.size a ≤ S851968x1024.size a := fun v692 k0_hw40 => k0_hw40.2.1
theorem k0_off163_wordsbf16 : ∀ (v692 : BitVec 32) (k0_hw40 : k0_chk40 v692), (Rect.unit (s := S851968x1024) (k0_off163 v692) S16x1024.size (k0_off163_inb v692 k0_hw40)).WholeWords (EltTy.packing .bf16) := fun v692 k0_hw40 => k0_hw40.2.2 (k0_off163_inb v692 k0_hw40)

def k0_off164 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c39_i32 : BitVec 32 := 39#32
  let v699 : BitVec 32 := Scalar.addi v38 c39_i32
  let v700 : Index := Scalar.indexCast v699
  ![v700.toNat]
def k0_mult42 (v701 : BitVec 32) : BitVec 32 :=
  v701

def k0_off165 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off166 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c624_i32 : BitVec 32 := 624#32
  let c0_i32_139 : BitVec 32 := 0#32
  ![v2.toNat, 624, 0]
def k0_off167 (v701 : BitVec 32) : Fin 2 → Nat :=
  let v702 : BitVec 32 := v701
  let c0_i32_140 : BitVec 32 := 0#32
  ![v702.toNat, 0]

def k0_chk41 (v701 : BitVec 32) : Prop :=
  (16 ∣ (k0_mult42 v701).toNat) ∧
  (∀ a, (k0_off167 v701) a + S16x1024.size a ≤ S851968x1024.size a) ∧
  (∀ (hinb : ∀ a, (k0_off167 v701) a + S16x1024.size a ≤ S851968x1024.size a), (Rect.unit (s := S851968x1024) (k0_off167 v701) S16x1024.size hinb).WholeWords (EltTy.packing .bf16))
theorem k0_mult42_dvd : ∀ (v701 : BitVec 32) (k0_hw41 : k0_chk41 v701), 16 ∣ (k0_mult42 v701).toNat := fun v701 k0_hw41 => k0_hw41.1
theorem k0_off167_inb : ∀ (v701 : BitVec 32) (k0_hw41 : k0_chk41 v701), ∀ a, (k0_off167 v701) a + S16x1024.size a ≤ S851968x1024.size a := fun v701 k0_hw41 => k0_hw41.2.1
theorem k0_off167_wordsbf16 : ∀ (v701 : BitVec 32) (k0_hw41 : k0_chk41 v701), (Rect.unit (s := S851968x1024) (k0_off167 v701) S16x1024.size (k0_off167_inb v701 k0_hw41)).WholeWords (EltTy.packing .bf16) := fun v701 k0_hw41 => k0_hw41.2.2 (k0_off167_inb v701 k0_hw41)

def k0_off168 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c40_i32 : BitVec 32 := 40#32
  let v708 : BitVec 32 := Scalar.addi v38 c40_i32
  let v709 : Index := Scalar.indexCast v708
  ![v709.toNat]
def k0_mult43 (v710 : BitVec 32) : BitVec 32 :=
  v710

def k0_off169 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off170 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c640_i32 : BitVec 32 := 640#32
  let c0_i32_141 : BitVec 32 := 0#32
  ![v2.toNat, 640, 0]
def k0_off171 (v710 : BitVec 32) : Fin 2 → Nat :=
  let v711 : BitVec 32 := v710
  let c0_i32_142 : BitVec 32 := 0#32
  ![v711.toNat, 0]

def k0_chk42 (v710 : BitVec 32) : Prop :=
  (16 ∣ (k0_mult43 v710).toNat) ∧
  (∀ a, (k0_off171 v710) a + S16x1024.size a ≤ S851968x1024.size a) ∧
  (∀ (hinb : ∀ a, (k0_off171 v710) a + S16x1024.size a ≤ S851968x1024.size a), (Rect.unit (s := S851968x1024) (k0_off171 v710) S16x1024.size hinb).WholeWords (EltTy.packing .bf16))
theorem k0_mult43_dvd : ∀ (v710 : BitVec 32) (k0_hw42 : k0_chk42 v710), 16 ∣ (k0_mult43 v710).toNat := fun v710 k0_hw42 => k0_hw42.1
theorem k0_off171_inb : ∀ (v710 : BitVec 32) (k0_hw42 : k0_chk42 v710), ∀ a, (k0_off171 v710) a + S16x1024.size a ≤ S851968x1024.size a := fun v710 k0_hw42 => k0_hw42.2.1
theorem k0_off171_wordsbf16 : ∀ (v710 : BitVec 32) (k0_hw42 : k0_chk42 v710), (Rect.unit (s := S851968x1024) (k0_off171 v710) S16x1024.size (k0_off171_inb v710 k0_hw42)).WholeWords (EltTy.packing .bf16) := fun v710 k0_hw42 => k0_hw42.2.2 (k0_off171_inb v710 k0_hw42)

def k0_off172 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c41_i32 : BitVec 32 := 41#32
  let v717 : BitVec 32 := Scalar.addi v38 c41_i32
  let v718 : Index := Scalar.indexCast v717
  ![v718.toNat]
def k0_mult44 (v719 : BitVec 32) : BitVec 32 :=
  v719

def k0_off173 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off174 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c656_i32 : BitVec 32 := 656#32
  let c0_i32_143 : BitVec 32 := 0#32
  ![v2.toNat, 656, 0]
def k0_off175 (v719 : BitVec 32) : Fin 2 → Nat :=
  let v720 : BitVec 32 := v719
  let c0_i32_144 : BitVec 32 := 0#32
  ![v720.toNat, 0]

def k0_chk43 (v719 : BitVec 32) : Prop :=
  (16 ∣ (k0_mult44 v719).toNat) ∧
  (∀ a, (k0_off175 v719) a + S16x1024.size a ≤ S851968x1024.size a) ∧
  (∀ (hinb : ∀ a, (k0_off175 v719) a + S16x1024.size a ≤ S851968x1024.size a), (Rect.unit (s := S851968x1024) (k0_off175 v719) S16x1024.size hinb).WholeWords (EltTy.packing .bf16))
theorem k0_mult44_dvd : ∀ (v719 : BitVec 32) (k0_hw43 : k0_chk43 v719), 16 ∣ (k0_mult44 v719).toNat := fun v719 k0_hw43 => k0_hw43.1
theorem k0_off175_inb : ∀ (v719 : BitVec 32) (k0_hw43 : k0_chk43 v719), ∀ a, (k0_off175 v719) a + S16x1024.size a ≤ S851968x1024.size a := fun v719 k0_hw43 => k0_hw43.2.1
theorem k0_off175_wordsbf16 : ∀ (v719 : BitVec 32) (k0_hw43 : k0_chk43 v719), (Rect.unit (s := S851968x1024) (k0_off175 v719) S16x1024.size (k0_off175_inb v719 k0_hw43)).WholeWords (EltTy.packing .bf16) := fun v719 k0_hw43 => k0_hw43.2.2 (k0_off175_inb v719 k0_hw43)

def k0_off176 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c42_i32 : BitVec 32 := 42#32
  let v726 : BitVec 32 := Scalar.addi v38 c42_i32
  let v727 : Index := Scalar.indexCast v726
  ![v727.toNat]
def k0_mult45 (v728 : BitVec 32) : BitVec 32 :=
  v728

def k0_off177 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off178 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c672_i32 : BitVec 32 := 672#32
  let c0_i32_145 : BitVec 32 := 0#32
  ![v2.toNat, 672, 0]
def k0_off179 (v728 : BitVec 32) : Fin 2 → Nat :=
  let v729 : BitVec 32 := v728
  let c0_i32_146 : BitVec 32 := 0#32
  ![v729.toNat, 0]

def k0_chk44 (v728 : BitVec 32) : Prop :=
  (16 ∣ (k0_mult45 v728).toNat) ∧
  (∀ a, (k0_off179 v728) a + S16x1024.size a ≤ S851968x1024.size a) ∧
  (∀ (hinb : ∀ a, (k0_off179 v728) a + S16x1024.size a ≤ S851968x1024.size a), (Rect.unit (s := S851968x1024) (k0_off179 v728) S16x1024.size hinb).WholeWords (EltTy.packing .bf16))
theorem k0_mult45_dvd : ∀ (v728 : BitVec 32) (k0_hw44 : k0_chk44 v728), 16 ∣ (k0_mult45 v728).toNat := fun v728 k0_hw44 => k0_hw44.1
theorem k0_off179_inb : ∀ (v728 : BitVec 32) (k0_hw44 : k0_chk44 v728), ∀ a, (k0_off179 v728) a + S16x1024.size a ≤ S851968x1024.size a := fun v728 k0_hw44 => k0_hw44.2.1
theorem k0_off179_wordsbf16 : ∀ (v728 : BitVec 32) (k0_hw44 : k0_chk44 v728), (Rect.unit (s := S851968x1024) (k0_off179 v728) S16x1024.size (k0_off179_inb v728 k0_hw44)).WholeWords (EltTy.packing .bf16) := fun v728 k0_hw44 => k0_hw44.2.2 (k0_off179_inb v728 k0_hw44)

def k0_off180 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c43_i32 : BitVec 32 := 43#32
  let v735 : BitVec 32 := Scalar.addi v38 c43_i32
  let v736 : Index := Scalar.indexCast v735
  ![v736.toNat]
def k0_mult46 (v737 : BitVec 32) : BitVec 32 :=
  v737

def k0_off181 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off182 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c688_i32 : BitVec 32 := 688#32
  let c0_i32_147 : BitVec 32 := 0#32
  ![v2.toNat, 688, 0]
def k0_off183 (v737 : BitVec 32) : Fin 2 → Nat :=
  let v738 : BitVec 32 := v737
  let c0_i32_148 : BitVec 32 := 0#32
  ![v738.toNat, 0]

def k0_chk45 (v737 : BitVec 32) : Prop :=
  (16 ∣ (k0_mult46 v737).toNat) ∧
  (∀ a, (k0_off183 v737) a + S16x1024.size a ≤ S851968x1024.size a) ∧
  (∀ (hinb : ∀ a, (k0_off183 v737) a + S16x1024.size a ≤ S851968x1024.size a), (Rect.unit (s := S851968x1024) (k0_off183 v737) S16x1024.size hinb).WholeWords (EltTy.packing .bf16))
theorem k0_mult46_dvd : ∀ (v737 : BitVec 32) (k0_hw45 : k0_chk45 v737), 16 ∣ (k0_mult46 v737).toNat := fun v737 k0_hw45 => k0_hw45.1
theorem k0_off183_inb : ∀ (v737 : BitVec 32) (k0_hw45 : k0_chk45 v737), ∀ a, (k0_off183 v737) a + S16x1024.size a ≤ S851968x1024.size a := fun v737 k0_hw45 => k0_hw45.2.1
theorem k0_off183_wordsbf16 : ∀ (v737 : BitVec 32) (k0_hw45 : k0_chk45 v737), (Rect.unit (s := S851968x1024) (k0_off183 v737) S16x1024.size (k0_off183_inb v737 k0_hw45)).WholeWords (EltTy.packing .bf16) := fun v737 k0_hw45 => k0_hw45.2.2 (k0_off183_inb v737 k0_hw45)

def k0_off184 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c44_i32 : BitVec 32 := 44#32
  let v744 : BitVec 32 := Scalar.addi v38 c44_i32
  let v745 : Index := Scalar.indexCast v744
  ![v745.toNat]
def k0_mult47 (v746 : BitVec 32) : BitVec 32 :=
  v746

def k0_off185 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off186 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c704_i32 : BitVec 32 := 704#32
  let c0_i32_149 : BitVec 32 := 0#32
  ![v2.toNat, 704, 0]
def k0_off187 (v746 : BitVec 32) : Fin 2 → Nat :=
  let v747 : BitVec 32 := v746
  let c0_i32_150 : BitVec 32 := 0#32
  ![v747.toNat, 0]

def k0_chk46 (v746 : BitVec 32) : Prop :=
  (16 ∣ (k0_mult47 v746).toNat) ∧
  (∀ a, (k0_off187 v746) a + S16x1024.size a ≤ S851968x1024.size a) ∧
  (∀ (hinb : ∀ a, (k0_off187 v746) a + S16x1024.size a ≤ S851968x1024.size a), (Rect.unit (s := S851968x1024) (k0_off187 v746) S16x1024.size hinb).WholeWords (EltTy.packing .bf16))
theorem k0_mult47_dvd : ∀ (v746 : BitVec 32) (k0_hw46 : k0_chk46 v746), 16 ∣ (k0_mult47 v746).toNat := fun v746 k0_hw46 => k0_hw46.1
theorem k0_off187_inb : ∀ (v746 : BitVec 32) (k0_hw46 : k0_chk46 v746), ∀ a, (k0_off187 v746) a + S16x1024.size a ≤ S851968x1024.size a := fun v746 k0_hw46 => k0_hw46.2.1
theorem k0_off187_wordsbf16 : ∀ (v746 : BitVec 32) (k0_hw46 : k0_chk46 v746), (Rect.unit (s := S851968x1024) (k0_off187 v746) S16x1024.size (k0_off187_inb v746 k0_hw46)).WholeWords (EltTy.packing .bf16) := fun v746 k0_hw46 => k0_hw46.2.2 (k0_off187_inb v746 k0_hw46)

def k0_off188 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c45_i32 : BitVec 32 := 45#32
  let v753 : BitVec 32 := Scalar.addi v38 c45_i32
  let v754 : Index := Scalar.indexCast v753
  ![v754.toNat]
def k0_mult48 (v755 : BitVec 32) : BitVec 32 :=
  v755

def k0_off189 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off190 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c720_i32 : BitVec 32 := 720#32
  let c0_i32_151 : BitVec 32 := 0#32
  ![v2.toNat, 720, 0]
def k0_off191 (v755 : BitVec 32) : Fin 2 → Nat :=
  let v756 : BitVec 32 := v755
  let c0_i32_152 : BitVec 32 := 0#32
  ![v756.toNat, 0]

def k0_chk47 (v755 : BitVec 32) : Prop :=
  (16 ∣ (k0_mult48 v755).toNat) ∧
  (∀ a, (k0_off191 v755) a + S16x1024.size a ≤ S851968x1024.size a) ∧
  (∀ (hinb : ∀ a, (k0_off191 v755) a + S16x1024.size a ≤ S851968x1024.size a), (Rect.unit (s := S851968x1024) (k0_off191 v755) S16x1024.size hinb).WholeWords (EltTy.packing .bf16))
theorem k0_mult48_dvd : ∀ (v755 : BitVec 32) (k0_hw47 : k0_chk47 v755), 16 ∣ (k0_mult48 v755).toNat := fun v755 k0_hw47 => k0_hw47.1
theorem k0_off191_inb : ∀ (v755 : BitVec 32) (k0_hw47 : k0_chk47 v755), ∀ a, (k0_off191 v755) a + S16x1024.size a ≤ S851968x1024.size a := fun v755 k0_hw47 => k0_hw47.2.1
theorem k0_off191_wordsbf16 : ∀ (v755 : BitVec 32) (k0_hw47 : k0_chk47 v755), (Rect.unit (s := S851968x1024) (k0_off191 v755) S16x1024.size (k0_off191_inb v755 k0_hw47)).WholeWords (EltTy.packing .bf16) := fun v755 k0_hw47 => k0_hw47.2.2 (k0_off191_inb v755 k0_hw47)

def k0_off192 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c46_i32 : BitVec 32 := 46#32
  let v762 : BitVec 32 := Scalar.addi v38 c46_i32
  let v763 : Index := Scalar.indexCast v762
  ![v763.toNat]
def k0_mult49 (v764 : BitVec 32) : BitVec 32 :=
  v764

def k0_off193 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off194 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c736_i32 : BitVec 32 := 736#32
  let c0_i32_153 : BitVec 32 := 0#32
  ![v2.toNat, 736, 0]
def k0_off195 (v764 : BitVec 32) : Fin 2 → Nat :=
  let v765 : BitVec 32 := v764
  let c0_i32_154 : BitVec 32 := 0#32
  ![v765.toNat, 0]

def k0_chk48 (v764 : BitVec 32) : Prop :=
  (16 ∣ (k0_mult49 v764).toNat) ∧
  (∀ a, (k0_off195 v764) a + S16x1024.size a ≤ S851968x1024.size a) ∧
  (∀ (hinb : ∀ a, (k0_off195 v764) a + S16x1024.size a ≤ S851968x1024.size a), (Rect.unit (s := S851968x1024) (k0_off195 v764) S16x1024.size hinb).WholeWords (EltTy.packing .bf16))
theorem k0_mult49_dvd : ∀ (v764 : BitVec 32) (k0_hw48 : k0_chk48 v764), 16 ∣ (k0_mult49 v764).toNat := fun v764 k0_hw48 => k0_hw48.1
theorem k0_off195_inb : ∀ (v764 : BitVec 32) (k0_hw48 : k0_chk48 v764), ∀ a, (k0_off195 v764) a + S16x1024.size a ≤ S851968x1024.size a := fun v764 k0_hw48 => k0_hw48.2.1
theorem k0_off195_wordsbf16 : ∀ (v764 : BitVec 32) (k0_hw48 : k0_chk48 v764), (Rect.unit (s := S851968x1024) (k0_off195 v764) S16x1024.size (k0_off195_inb v764 k0_hw48)).WholeWords (EltTy.packing .bf16) := fun v764 k0_hw48 => k0_hw48.2.2 (k0_off195_inb v764 k0_hw48)

def k0_off196 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c47_i32 : BitVec 32 := 47#32
  let v771 : BitVec 32 := Scalar.addi v38 c47_i32
  let v772 : Index := Scalar.indexCast v771
  ![v772.toNat]
def k0_mult50 (v773 : BitVec 32) : BitVec 32 :=
  v773

def k0_off197 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off198 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c752_i32 : BitVec 32 := 752#32
  let c0_i32_155 : BitVec 32 := 0#32
  ![v2.toNat, 752, 0]
def k0_off199 (v773 : BitVec 32) : Fin 2 → Nat :=
  let v774 : BitVec 32 := v773
  let c0_i32_156 : BitVec 32 := 0#32
  ![v774.toNat, 0]

def k0_chk49 (v773 : BitVec 32) : Prop :=
  (16 ∣ (k0_mult50 v773).toNat) ∧
  (∀ a, (k0_off199 v773) a + S16x1024.size a ≤ S851968x1024.size a) ∧
  (∀ (hinb : ∀ a, (k0_off199 v773) a + S16x1024.size a ≤ S851968x1024.size a), (Rect.unit (s := S851968x1024) (k0_off199 v773) S16x1024.size hinb).WholeWords (EltTy.packing .bf16))
theorem k0_mult50_dvd : ∀ (v773 : BitVec 32) (k0_hw49 : k0_chk49 v773), 16 ∣ (k0_mult50 v773).toNat := fun v773 k0_hw49 => k0_hw49.1
theorem k0_off199_inb : ∀ (v773 : BitVec 32) (k0_hw49 : k0_chk49 v773), ∀ a, (k0_off199 v773) a + S16x1024.size a ≤ S851968x1024.size a := fun v773 k0_hw49 => k0_hw49.2.1
theorem k0_off199_wordsbf16 : ∀ (v773 : BitVec 32) (k0_hw49 : k0_chk49 v773), (Rect.unit (s := S851968x1024) (k0_off199 v773) S16x1024.size (k0_off199_inb v773 k0_hw49)).WholeWords (EltTy.packing .bf16) := fun v773 k0_hw49 => k0_hw49.2.2 (k0_off199_inb v773 k0_hw49)

def k0_off200 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c48_i32_157 : BitVec 32 := 48#32
  let v780 : BitVec 32 := Scalar.addi v38 c48_i32_157
  let v781 : Index := Scalar.indexCast v780
  ![v781.toNat]
def k0_mult51 (v782 : BitVec 32) : BitVec 32 :=
  v782

def k0_off201 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off202 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c768_i32 : BitVec 32 := 768#32
  let c0_i32_158 : BitVec 32 := 0#32
  ![v2.toNat, 768, 0]
def k0_off203 (v782 : BitVec 32) : Fin 2 → Nat :=
  let v783 : BitVec 32 := v782
  let c0_i32_159 : BitVec 32 := 0#32
  ![v783.toNat, 0]

def k0_chk50 (v782 : BitVec 32) : Prop :=
  (16 ∣ (k0_mult51 v782).toNat) ∧
  (∀ a, (k0_off203 v782) a + S16x1024.size a ≤ S851968x1024.size a) ∧
  (∀ (hinb : ∀ a, (k0_off203 v782) a + S16x1024.size a ≤ S851968x1024.size a), (Rect.unit (s := S851968x1024) (k0_off203 v782) S16x1024.size hinb).WholeWords (EltTy.packing .bf16))
theorem k0_mult51_dvd : ∀ (v782 : BitVec 32) (k0_hw50 : k0_chk50 v782), 16 ∣ (k0_mult51 v782).toNat := fun v782 k0_hw50 => k0_hw50.1
theorem k0_off203_inb : ∀ (v782 : BitVec 32) (k0_hw50 : k0_chk50 v782), ∀ a, (k0_off203 v782) a + S16x1024.size a ≤ S851968x1024.size a := fun v782 k0_hw50 => k0_hw50.2.1
theorem k0_off203_wordsbf16 : ∀ (v782 : BitVec 32) (k0_hw50 : k0_chk50 v782), (Rect.unit (s := S851968x1024) (k0_off203 v782) S16x1024.size (k0_off203_inb v782 k0_hw50)).WholeWords (EltTy.packing .bf16) := fun v782 k0_hw50 => k0_hw50.2.2 (k0_off203_inb v782 k0_hw50)

def k0_off204 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c49_i32 : BitVec 32 := 49#32
  let v789 : BitVec 32 := Scalar.addi v38 c49_i32
  let v790 : Index := Scalar.indexCast v789
  ![v790.toNat]
def k0_mult52 (v791 : BitVec 32) : BitVec 32 :=
  v791

def k0_off205 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off206 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c784_i32 : BitVec 32 := 784#32
  let c0_i32_160 : BitVec 32 := 0#32
  ![v2.toNat, 784, 0]
def k0_off207 (v791 : BitVec 32) : Fin 2 → Nat :=
  let v792 : BitVec 32 := v791
  let c0_i32_161 : BitVec 32 := 0#32
  ![v792.toNat, 0]

def k0_chk51 (v791 : BitVec 32) : Prop :=
  (16 ∣ (k0_mult52 v791).toNat) ∧
  (∀ a, (k0_off207 v791) a + S16x1024.size a ≤ S851968x1024.size a) ∧
  (∀ (hinb : ∀ a, (k0_off207 v791) a + S16x1024.size a ≤ S851968x1024.size a), (Rect.unit (s := S851968x1024) (k0_off207 v791) S16x1024.size hinb).WholeWords (EltTy.packing .bf16))
theorem k0_mult52_dvd : ∀ (v791 : BitVec 32) (k0_hw51 : k0_chk51 v791), 16 ∣ (k0_mult52 v791).toNat := fun v791 k0_hw51 => k0_hw51.1
theorem k0_off207_inb : ∀ (v791 : BitVec 32) (k0_hw51 : k0_chk51 v791), ∀ a, (k0_off207 v791) a + S16x1024.size a ≤ S851968x1024.size a := fun v791 k0_hw51 => k0_hw51.2.1
theorem k0_off207_wordsbf16 : ∀ (v791 : BitVec 32) (k0_hw51 : k0_chk51 v791), (Rect.unit (s := S851968x1024) (k0_off207 v791) S16x1024.size (k0_off207_inb v791 k0_hw51)).WholeWords (EltTy.packing .bf16) := fun v791 k0_hw51 => k0_hw51.2.2 (k0_off207_inb v791 k0_hw51)

def k0_off208 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c50_i32 : BitVec 32 := 50#32
  let v798 : BitVec 32 := Scalar.addi v38 c50_i32
  let v799 : Index := Scalar.indexCast v798
  ![v799.toNat]
def k0_mult53 (v800 : BitVec 32) : BitVec 32 :=
  v800

def k0_off209 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off210 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c800_i32 : BitVec 32 := 800#32
  let c0_i32_162 : BitVec 32 := 0#32
  ![v2.toNat, 800, 0]
def k0_off211 (v800 : BitVec 32) : Fin 2 → Nat :=
  let v801 : BitVec 32 := v800
  let c0_i32_163 : BitVec 32 := 0#32
  ![v801.toNat, 0]

def k0_chk52 (v800 : BitVec 32) : Prop :=
  (16 ∣ (k0_mult53 v800).toNat) ∧
  (∀ a, (k0_off211 v800) a + S16x1024.size a ≤ S851968x1024.size a) ∧
  (∀ (hinb : ∀ a, (k0_off211 v800) a + S16x1024.size a ≤ S851968x1024.size a), (Rect.unit (s := S851968x1024) (k0_off211 v800) S16x1024.size hinb).WholeWords (EltTy.packing .bf16))
theorem k0_mult53_dvd : ∀ (v800 : BitVec 32) (k0_hw52 : k0_chk52 v800), 16 ∣ (k0_mult53 v800).toNat := fun v800 k0_hw52 => k0_hw52.1
theorem k0_off211_inb : ∀ (v800 : BitVec 32) (k0_hw52 : k0_chk52 v800), ∀ a, (k0_off211 v800) a + S16x1024.size a ≤ S851968x1024.size a := fun v800 k0_hw52 => k0_hw52.2.1
theorem k0_off211_wordsbf16 : ∀ (v800 : BitVec 32) (k0_hw52 : k0_chk52 v800), (Rect.unit (s := S851968x1024) (k0_off211 v800) S16x1024.size (k0_off211_inb v800 k0_hw52)).WholeWords (EltTy.packing .bf16) := fun v800 k0_hw52 => k0_hw52.2.2 (k0_off211_inb v800 k0_hw52)

def k0_off212 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c51_i32 : BitVec 32 := 51#32
  let v807 : BitVec 32 := Scalar.addi v38 c51_i32
  let v808 : Index := Scalar.indexCast v807
  ![v808.toNat]
def k0_mult54 (v809 : BitVec 32) : BitVec 32 :=
  v809

def k0_off213 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off214 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c816_i32 : BitVec 32 := 816#32
  let c0_i32_164 : BitVec 32 := 0#32
  ![v2.toNat, 816, 0]
def k0_off215 (v809 : BitVec 32) : Fin 2 → Nat :=
  let v810 : BitVec 32 := v809
  let c0_i32_165 : BitVec 32 := 0#32
  ![v810.toNat, 0]

def k0_chk53 (v809 : BitVec 32) : Prop :=
  (16 ∣ (k0_mult54 v809).toNat) ∧
  (∀ a, (k0_off215 v809) a + S16x1024.size a ≤ S851968x1024.size a) ∧
  (∀ (hinb : ∀ a, (k0_off215 v809) a + S16x1024.size a ≤ S851968x1024.size a), (Rect.unit (s := S851968x1024) (k0_off215 v809) S16x1024.size hinb).WholeWords (EltTy.packing .bf16))
theorem k0_mult54_dvd : ∀ (v809 : BitVec 32) (k0_hw53 : k0_chk53 v809), 16 ∣ (k0_mult54 v809).toNat := fun v809 k0_hw53 => k0_hw53.1
theorem k0_off215_inb : ∀ (v809 : BitVec 32) (k0_hw53 : k0_chk53 v809), ∀ a, (k0_off215 v809) a + S16x1024.size a ≤ S851968x1024.size a := fun v809 k0_hw53 => k0_hw53.2.1
theorem k0_off215_wordsbf16 : ∀ (v809 : BitVec 32) (k0_hw53 : k0_chk53 v809), (Rect.unit (s := S851968x1024) (k0_off215 v809) S16x1024.size (k0_off215_inb v809 k0_hw53)).WholeWords (EltTy.packing .bf16) := fun v809 k0_hw53 => k0_hw53.2.2 (k0_off215_inb v809 k0_hw53)

def k0_off216 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c52_i32 : BitVec 32 := 52#32
  let v816 : BitVec 32 := Scalar.addi v38 c52_i32
  let v817 : Index := Scalar.indexCast v816
  ![v817.toNat]
def k0_mult55 (v818 : BitVec 32) : BitVec 32 :=
  v818

def k0_off217 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off218 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c832_i32 : BitVec 32 := 832#32
  let c0_i32_166 : BitVec 32 := 0#32
  ![v2.toNat, 832, 0]
def k0_off219 (v818 : BitVec 32) : Fin 2 → Nat :=
  let v819 : BitVec 32 := v818
  let c0_i32_167 : BitVec 32 := 0#32
  ![v819.toNat, 0]

def k0_chk54 (v818 : BitVec 32) : Prop :=
  (16 ∣ (k0_mult55 v818).toNat) ∧
  (∀ a, (k0_off219 v818) a + S16x1024.size a ≤ S851968x1024.size a) ∧
  (∀ (hinb : ∀ a, (k0_off219 v818) a + S16x1024.size a ≤ S851968x1024.size a), (Rect.unit (s := S851968x1024) (k0_off219 v818) S16x1024.size hinb).WholeWords (EltTy.packing .bf16))
theorem k0_mult55_dvd : ∀ (v818 : BitVec 32) (k0_hw54 : k0_chk54 v818), 16 ∣ (k0_mult55 v818).toNat := fun v818 k0_hw54 => k0_hw54.1
theorem k0_off219_inb : ∀ (v818 : BitVec 32) (k0_hw54 : k0_chk54 v818), ∀ a, (k0_off219 v818) a + S16x1024.size a ≤ S851968x1024.size a := fun v818 k0_hw54 => k0_hw54.2.1
theorem k0_off219_wordsbf16 : ∀ (v818 : BitVec 32) (k0_hw54 : k0_chk54 v818), (Rect.unit (s := S851968x1024) (k0_off219 v818) S16x1024.size (k0_off219_inb v818 k0_hw54)).WholeWords (EltTy.packing .bf16) := fun v818 k0_hw54 => k0_hw54.2.2 (k0_off219_inb v818 k0_hw54)

def k0_off220 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c53_i32 : BitVec 32 := 53#32
  let v825 : BitVec 32 := Scalar.addi v38 c53_i32
  let v826 : Index := Scalar.indexCast v825
  ![v826.toNat]
def k0_mult56 (v827 : BitVec 32) : BitVec 32 :=
  v827

def k0_off221 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off222 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c848_i32 : BitVec 32 := 848#32
  let c0_i32_168 : BitVec 32 := 0#32
  ![v2.toNat, 848, 0]
def k0_off223 (v827 : BitVec 32) : Fin 2 → Nat :=
  let v828 : BitVec 32 := v827
  let c0_i32_169 : BitVec 32 := 0#32
  ![v828.toNat, 0]

def k0_chk55 (v827 : BitVec 32) : Prop :=
  (16 ∣ (k0_mult56 v827).toNat) ∧
  (∀ a, (k0_off223 v827) a + S16x1024.size a ≤ S851968x1024.size a) ∧
  (∀ (hinb : ∀ a, (k0_off223 v827) a + S16x1024.size a ≤ S851968x1024.size a), (Rect.unit (s := S851968x1024) (k0_off223 v827) S16x1024.size hinb).WholeWords (EltTy.packing .bf16))
theorem k0_mult56_dvd : ∀ (v827 : BitVec 32) (k0_hw55 : k0_chk55 v827), 16 ∣ (k0_mult56 v827).toNat := fun v827 k0_hw55 => k0_hw55.1
theorem k0_off223_inb : ∀ (v827 : BitVec 32) (k0_hw55 : k0_chk55 v827), ∀ a, (k0_off223 v827) a + S16x1024.size a ≤ S851968x1024.size a := fun v827 k0_hw55 => k0_hw55.2.1
theorem k0_off223_wordsbf16 : ∀ (v827 : BitVec 32) (k0_hw55 : k0_chk55 v827), (Rect.unit (s := S851968x1024) (k0_off223 v827) S16x1024.size (k0_off223_inb v827 k0_hw55)).WholeWords (EltTy.packing .bf16) := fun v827 k0_hw55 => k0_hw55.2.2 (k0_off223_inb v827 k0_hw55)

def k0_off224 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c54_i32 : BitVec 32 := 54#32
  let v834 : BitVec 32 := Scalar.addi v38 c54_i32
  let v835 : Index := Scalar.indexCast v834
  ![v835.toNat]
def k0_mult57 (v836 : BitVec 32) : BitVec 32 :=
  v836

def k0_off225 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off226 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c864_i32 : BitVec 32 := 864#32
  let c0_i32_170 : BitVec 32 := 0#32
  ![v2.toNat, 864, 0]
def k0_off227 (v836 : BitVec 32) : Fin 2 → Nat :=
  let v837 : BitVec 32 := v836
  let c0_i32_171 : BitVec 32 := 0#32
  ![v837.toNat, 0]

def k0_chk56 (v836 : BitVec 32) : Prop :=
  (16 ∣ (k0_mult57 v836).toNat) ∧
  (∀ a, (k0_off227 v836) a + S16x1024.size a ≤ S851968x1024.size a) ∧
  (∀ (hinb : ∀ a, (k0_off227 v836) a + S16x1024.size a ≤ S851968x1024.size a), (Rect.unit (s := S851968x1024) (k0_off227 v836) S16x1024.size hinb).WholeWords (EltTy.packing .bf16))
theorem k0_mult57_dvd : ∀ (v836 : BitVec 32) (k0_hw56 : k0_chk56 v836), 16 ∣ (k0_mult57 v836).toNat := fun v836 k0_hw56 => k0_hw56.1
theorem k0_off227_inb : ∀ (v836 : BitVec 32) (k0_hw56 : k0_chk56 v836), ∀ a, (k0_off227 v836) a + S16x1024.size a ≤ S851968x1024.size a := fun v836 k0_hw56 => k0_hw56.2.1
theorem k0_off227_wordsbf16 : ∀ (v836 : BitVec 32) (k0_hw56 : k0_chk56 v836), (Rect.unit (s := S851968x1024) (k0_off227 v836) S16x1024.size (k0_off227_inb v836 k0_hw56)).WholeWords (EltTy.packing .bf16) := fun v836 k0_hw56 => k0_hw56.2.2 (k0_off227_inb v836 k0_hw56)

def k0_off228 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c55_i32 : BitVec 32 := 55#32
  let v843 : BitVec 32 := Scalar.addi v38 c55_i32
  let v844 : Index := Scalar.indexCast v843
  ![v844.toNat]
def k0_mult58 (v845 : BitVec 32) : BitVec 32 :=
  v845

def k0_off229 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off230 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c880_i32 : BitVec 32 := 880#32
  let c0_i32_172 : BitVec 32 := 0#32
  ![v2.toNat, 880, 0]
def k0_off231 (v845 : BitVec 32) : Fin 2 → Nat :=
  let v846 : BitVec 32 := v845
  let c0_i32_173 : BitVec 32 := 0#32
  ![v846.toNat, 0]

def k0_chk57 (v845 : BitVec 32) : Prop :=
  (16 ∣ (k0_mult58 v845).toNat) ∧
  (∀ a, (k0_off231 v845) a + S16x1024.size a ≤ S851968x1024.size a) ∧
  (∀ (hinb : ∀ a, (k0_off231 v845) a + S16x1024.size a ≤ S851968x1024.size a), (Rect.unit (s := S851968x1024) (k0_off231 v845) S16x1024.size hinb).WholeWords (EltTy.packing .bf16))
theorem k0_mult58_dvd : ∀ (v845 : BitVec 32) (k0_hw57 : k0_chk57 v845), 16 ∣ (k0_mult58 v845).toNat := fun v845 k0_hw57 => k0_hw57.1
theorem k0_off231_inb : ∀ (v845 : BitVec 32) (k0_hw57 : k0_chk57 v845), ∀ a, (k0_off231 v845) a + S16x1024.size a ≤ S851968x1024.size a := fun v845 k0_hw57 => k0_hw57.2.1
theorem k0_off231_wordsbf16 : ∀ (v845 : BitVec 32) (k0_hw57 : k0_chk57 v845), (Rect.unit (s := S851968x1024) (k0_off231 v845) S16x1024.size (k0_off231_inb v845 k0_hw57)).WholeWords (EltTy.packing .bf16) := fun v845 k0_hw57 => k0_hw57.2.2 (k0_off231_inb v845 k0_hw57)

def k0_off232 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c56_i32 : BitVec 32 := 56#32
  let v852 : BitVec 32 := Scalar.addi v38 c56_i32
  let v853 : Index := Scalar.indexCast v852
  ![v853.toNat]
def k0_mult59 (v854 : BitVec 32) : BitVec 32 :=
  v854

def k0_off233 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off234 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c896_i32 : BitVec 32 := 896#32
  let c0_i32_174 : BitVec 32 := 0#32
  ![v2.toNat, 896, 0]
def k0_off235 (v854 : BitVec 32) : Fin 2 → Nat :=
  let v855 : BitVec 32 := v854
  let c0_i32_175 : BitVec 32 := 0#32
  ![v855.toNat, 0]

def k0_chk58 (v854 : BitVec 32) : Prop :=
  (16 ∣ (k0_mult59 v854).toNat) ∧
  (∀ a, (k0_off235 v854) a + S16x1024.size a ≤ S851968x1024.size a) ∧
  (∀ (hinb : ∀ a, (k0_off235 v854) a + S16x1024.size a ≤ S851968x1024.size a), (Rect.unit (s := S851968x1024) (k0_off235 v854) S16x1024.size hinb).WholeWords (EltTy.packing .bf16))
theorem k0_mult59_dvd : ∀ (v854 : BitVec 32) (k0_hw58 : k0_chk58 v854), 16 ∣ (k0_mult59 v854).toNat := fun v854 k0_hw58 => k0_hw58.1
theorem k0_off235_inb : ∀ (v854 : BitVec 32) (k0_hw58 : k0_chk58 v854), ∀ a, (k0_off235 v854) a + S16x1024.size a ≤ S851968x1024.size a := fun v854 k0_hw58 => k0_hw58.2.1
theorem k0_off235_wordsbf16 : ∀ (v854 : BitVec 32) (k0_hw58 : k0_chk58 v854), (Rect.unit (s := S851968x1024) (k0_off235 v854) S16x1024.size (k0_off235_inb v854 k0_hw58)).WholeWords (EltTy.packing .bf16) := fun v854 k0_hw58 => k0_hw58.2.2 (k0_off235_inb v854 k0_hw58)

def k0_off236 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c57_i32 : BitVec 32 := 57#32
  let v861 : BitVec 32 := Scalar.addi v38 c57_i32
  let v862 : Index := Scalar.indexCast v861
  ![v862.toNat]
def k0_mult60 (v863 : BitVec 32) : BitVec 32 :=
  v863

def k0_off237 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off238 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c912_i32 : BitVec 32 := 912#32
  let c0_i32_176 : BitVec 32 := 0#32
  ![v2.toNat, 912, 0]
def k0_off239 (v863 : BitVec 32) : Fin 2 → Nat :=
  let v864 : BitVec 32 := v863
  let c0_i32_177 : BitVec 32 := 0#32
  ![v864.toNat, 0]

def k0_chk59 (v863 : BitVec 32) : Prop :=
  (16 ∣ (k0_mult60 v863).toNat) ∧
  (∀ a, (k0_off239 v863) a + S16x1024.size a ≤ S851968x1024.size a) ∧
  (∀ (hinb : ∀ a, (k0_off239 v863) a + S16x1024.size a ≤ S851968x1024.size a), (Rect.unit (s := S851968x1024) (k0_off239 v863) S16x1024.size hinb).WholeWords (EltTy.packing .bf16))
theorem k0_mult60_dvd : ∀ (v863 : BitVec 32) (k0_hw59 : k0_chk59 v863), 16 ∣ (k0_mult60 v863).toNat := fun v863 k0_hw59 => k0_hw59.1
theorem k0_off239_inb : ∀ (v863 : BitVec 32) (k0_hw59 : k0_chk59 v863), ∀ a, (k0_off239 v863) a + S16x1024.size a ≤ S851968x1024.size a := fun v863 k0_hw59 => k0_hw59.2.1
theorem k0_off239_wordsbf16 : ∀ (v863 : BitVec 32) (k0_hw59 : k0_chk59 v863), (Rect.unit (s := S851968x1024) (k0_off239 v863) S16x1024.size (k0_off239_inb v863 k0_hw59)).WholeWords (EltTy.packing .bf16) := fun v863 k0_hw59 => k0_hw59.2.2 (k0_off239_inb v863 k0_hw59)

def k0_off240 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c58_i32 : BitVec 32 := 58#32
  let v870 : BitVec 32 := Scalar.addi v38 c58_i32
  let v871 : Index := Scalar.indexCast v870
  ![v871.toNat]
def k0_mult61 (v872 : BitVec 32) : BitVec 32 :=
  v872

def k0_off241 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off242 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c928_i32 : BitVec 32 := 928#32
  let c0_i32_178 : BitVec 32 := 0#32
  ![v2.toNat, 928, 0]
def k0_off243 (v872 : BitVec 32) : Fin 2 → Nat :=
  let v873 : BitVec 32 := v872
  let c0_i32_179 : BitVec 32 := 0#32
  ![v873.toNat, 0]

def k0_chk60 (v872 : BitVec 32) : Prop :=
  (16 ∣ (k0_mult61 v872).toNat) ∧
  (∀ a, (k0_off243 v872) a + S16x1024.size a ≤ S851968x1024.size a) ∧
  (∀ (hinb : ∀ a, (k0_off243 v872) a + S16x1024.size a ≤ S851968x1024.size a), (Rect.unit (s := S851968x1024) (k0_off243 v872) S16x1024.size hinb).WholeWords (EltTy.packing .bf16))
theorem k0_mult61_dvd : ∀ (v872 : BitVec 32) (k0_hw60 : k0_chk60 v872), 16 ∣ (k0_mult61 v872).toNat := fun v872 k0_hw60 => k0_hw60.1
theorem k0_off243_inb : ∀ (v872 : BitVec 32) (k0_hw60 : k0_chk60 v872), ∀ a, (k0_off243 v872) a + S16x1024.size a ≤ S851968x1024.size a := fun v872 k0_hw60 => k0_hw60.2.1
theorem k0_off243_wordsbf16 : ∀ (v872 : BitVec 32) (k0_hw60 : k0_chk60 v872), (Rect.unit (s := S851968x1024) (k0_off243 v872) S16x1024.size (k0_off243_inb v872 k0_hw60)).WholeWords (EltTy.packing .bf16) := fun v872 k0_hw60 => k0_hw60.2.2 (k0_off243_inb v872 k0_hw60)

def k0_off244 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c59_i32 : BitVec 32 := 59#32
  let v879 : BitVec 32 := Scalar.addi v38 c59_i32
  let v880 : Index := Scalar.indexCast v879
  ![v880.toNat]
def k0_mult62 (v881 : BitVec 32) : BitVec 32 :=
  v881

def k0_off245 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off246 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c944_i32 : BitVec 32 := 944#32
  let c0_i32_180 : BitVec 32 := 0#32
  ![v2.toNat, 944, 0]
def k0_off247 (v881 : BitVec 32) : Fin 2 → Nat :=
  let v882 : BitVec 32 := v881
  let c0_i32_181 : BitVec 32 := 0#32
  ![v882.toNat, 0]

def k0_chk61 (v881 : BitVec 32) : Prop :=
  (16 ∣ (k0_mult62 v881).toNat) ∧
  (∀ a, (k0_off247 v881) a + S16x1024.size a ≤ S851968x1024.size a) ∧
  (∀ (hinb : ∀ a, (k0_off247 v881) a + S16x1024.size a ≤ S851968x1024.size a), (Rect.unit (s := S851968x1024) (k0_off247 v881) S16x1024.size hinb).WholeWords (EltTy.packing .bf16))
theorem k0_mult62_dvd : ∀ (v881 : BitVec 32) (k0_hw61 : k0_chk61 v881), 16 ∣ (k0_mult62 v881).toNat := fun v881 k0_hw61 => k0_hw61.1
theorem k0_off247_inb : ∀ (v881 : BitVec 32) (k0_hw61 : k0_chk61 v881), ∀ a, (k0_off247 v881) a + S16x1024.size a ≤ S851968x1024.size a := fun v881 k0_hw61 => k0_hw61.2.1
theorem k0_off247_wordsbf16 : ∀ (v881 : BitVec 32) (k0_hw61 : k0_chk61 v881), (Rect.unit (s := S851968x1024) (k0_off247 v881) S16x1024.size (k0_off247_inb v881 k0_hw61)).WholeWords (EltTy.packing .bf16) := fun v881 k0_hw61 => k0_hw61.2.2 (k0_off247_inb v881 k0_hw61)

def k0_off248 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c60_i32 : BitVec 32 := 60#32
  let v888 : BitVec 32 := Scalar.addi v38 c60_i32
  let v889 : Index := Scalar.indexCast v888
  ![v889.toNat]
def k0_mult63 (v890 : BitVec 32) : BitVec 32 :=
  v890

def k0_off249 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off250 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c960_i32 : BitVec 32 := 960#32
  let c0_i32_182 : BitVec 32 := 0#32
  ![v2.toNat, 960, 0]
def k0_off251 (v890 : BitVec 32) : Fin 2 → Nat :=
  let v891 : BitVec 32 := v890
  let c0_i32_183 : BitVec 32 := 0#32
  ![v891.toNat, 0]

def k0_chk62 (v890 : BitVec 32) : Prop :=
  (16 ∣ (k0_mult63 v890).toNat) ∧
  (∀ a, (k0_off251 v890) a + S16x1024.size a ≤ S851968x1024.size a) ∧
  (∀ (hinb : ∀ a, (k0_off251 v890) a + S16x1024.size a ≤ S851968x1024.size a), (Rect.unit (s := S851968x1024) (k0_off251 v890) S16x1024.size hinb).WholeWords (EltTy.packing .bf16))
theorem k0_mult63_dvd : ∀ (v890 : BitVec 32) (k0_hw62 : k0_chk62 v890), 16 ∣ (k0_mult63 v890).toNat := fun v890 k0_hw62 => k0_hw62.1
theorem k0_off251_inb : ∀ (v890 : BitVec 32) (k0_hw62 : k0_chk62 v890), ∀ a, (k0_off251 v890) a + S16x1024.size a ≤ S851968x1024.size a := fun v890 k0_hw62 => k0_hw62.2.1
theorem k0_off251_wordsbf16 : ∀ (v890 : BitVec 32) (k0_hw62 : k0_chk62 v890), (Rect.unit (s := S851968x1024) (k0_off251 v890) S16x1024.size (k0_off251_inb v890 k0_hw62)).WholeWords (EltTy.packing .bf16) := fun v890 k0_hw62 => k0_hw62.2.2 (k0_off251_inb v890 k0_hw62)

def k0_off252 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c61_i32 : BitVec 32 := 61#32
  let v897 : BitVec 32 := Scalar.addi v38 c61_i32
  let v898 : Index := Scalar.indexCast v897
  ![v898.toNat]
def k0_mult64 (v899 : BitVec 32) : BitVec 32 :=
  v899

def k0_off253 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off254 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c976_i32 : BitVec 32 := 976#32
  let c0_i32_184 : BitVec 32 := 0#32
  ![v2.toNat, 976, 0]
def k0_off255 (v899 : BitVec 32) : Fin 2 → Nat :=
  let v900 : BitVec 32 := v899
  let c0_i32_185 : BitVec 32 := 0#32
  ![v900.toNat, 0]

def k0_chk63 (v899 : BitVec 32) : Prop :=
  (16 ∣ (k0_mult64 v899).toNat) ∧
  (∀ a, (k0_off255 v899) a + S16x1024.size a ≤ S851968x1024.size a) ∧
  (∀ (hinb : ∀ a, (k0_off255 v899) a + S16x1024.size a ≤ S851968x1024.size a), (Rect.unit (s := S851968x1024) (k0_off255 v899) S16x1024.size hinb).WholeWords (EltTy.packing .bf16))
theorem k0_mult64_dvd : ∀ (v899 : BitVec 32) (k0_hw63 : k0_chk63 v899), 16 ∣ (k0_mult64 v899).toNat := fun v899 k0_hw63 => k0_hw63.1
theorem k0_off255_inb : ∀ (v899 : BitVec 32) (k0_hw63 : k0_chk63 v899), ∀ a, (k0_off255 v899) a + S16x1024.size a ≤ S851968x1024.size a := fun v899 k0_hw63 => k0_hw63.2.1
theorem k0_off255_wordsbf16 : ∀ (v899 : BitVec 32) (k0_hw63 : k0_chk63 v899), (Rect.unit (s := S851968x1024) (k0_off255 v899) S16x1024.size (k0_off255_inb v899 k0_hw63)).WholeWords (EltTy.packing .bf16) := fun v899 k0_hw63 => k0_hw63.2.2 (k0_off255_inb v899 k0_hw63)

def k0_off256 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c62_i32 : BitVec 32 := 62#32
  let v906 : BitVec 32 := Scalar.addi v38 c62_i32
  let v907 : Index := Scalar.indexCast v906
  ![v907.toNat]
def k0_mult65 (v908 : BitVec 32) : BitVec 32 :=
  v908

def k0_off257 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off258 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c992_i32 : BitVec 32 := 992#32
  let c0_i32_186 : BitVec 32 := 0#32
  ![v2.toNat, 992, 0]
def k0_off259 (v908 : BitVec 32) : Fin 2 → Nat :=
  let v909 : BitVec 32 := v908
  let c0_i32_187 : BitVec 32 := 0#32
  ![v909.toNat, 0]

def k0_chk64 (v908 : BitVec 32) : Prop :=
  (16 ∣ (k0_mult65 v908).toNat) ∧
  (∀ a, (k0_off259 v908) a + S16x1024.size a ≤ S851968x1024.size a) ∧
  (∀ (hinb : ∀ a, (k0_off259 v908) a + S16x1024.size a ≤ S851968x1024.size a), (Rect.unit (s := S851968x1024) (k0_off259 v908) S16x1024.size hinb).WholeWords (EltTy.packing .bf16))
theorem k0_mult65_dvd : ∀ (v908 : BitVec 32) (k0_hw64 : k0_chk64 v908), 16 ∣ (k0_mult65 v908).toNat := fun v908 k0_hw64 => k0_hw64.1
theorem k0_off259_inb : ∀ (v908 : BitVec 32) (k0_hw64 : k0_chk64 v908), ∀ a, (k0_off259 v908) a + S16x1024.size a ≤ S851968x1024.size a := fun v908 k0_hw64 => k0_hw64.2.1
theorem k0_off259_wordsbf16 : ∀ (v908 : BitVec 32) (k0_hw64 : k0_chk64 v908), (Rect.unit (s := S851968x1024) (k0_off259 v908) S16x1024.size (k0_off259_inb v908 k0_hw64)).WholeWords (EltTy.packing .bf16) := fun v908 k0_hw64 => k0_hw64.2.2 (k0_off259_inb v908 k0_hw64)

def k0_off260 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c63_i32 : BitVec 32 := 63#32
  let v915 : BitVec 32 := Scalar.addi v38 c63_i32
  let v916 : Index := Scalar.indexCast v915
  ![v916.toNat]
def k0_mult66 (v917 : BitVec 32) : BitVec 32 :=
  v917

def k0_off261 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off262 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1008_i32 : BitVec 32 := 1008#32
  let c0_i32_188 : BitVec 32 := 0#32
  ![v2.toNat, 1008, 0]
def k0_off263 (v917 : BitVec 32) : Fin 2 → Nat :=
  let v918 : BitVec 32 := v917
  let c0_i32_189 : BitVec 32 := 0#32
  ![v918.toNat, 0]

def k0_chk65 (v917 : BitVec 32) : Prop :=
  (16 ∣ (k0_mult66 v917).toNat) ∧
  (∀ a, (k0_off263 v917) a + S16x1024.size a ≤ S851968x1024.size a) ∧
  (∀ (hinb : ∀ a, (k0_off263 v917) a + S16x1024.size a ≤ S851968x1024.size a), (Rect.unit (s := S851968x1024) (k0_off263 v917) S16x1024.size hinb).WholeWords (EltTy.packing .bf16))
theorem k0_mult66_dvd : ∀ (v917 : BitVec 32) (k0_hw65 : k0_chk65 v917), 16 ∣ (k0_mult66 v917).toNat := fun v917 k0_hw65 => k0_hw65.1
theorem k0_off263_inb : ∀ (v917 : BitVec 32) (k0_hw65 : k0_chk65 v917), ∀ a, (k0_off263 v917) a + S16x1024.size a ≤ S851968x1024.size a := fun v917 k0_hw65 => k0_hw65.2.1
theorem k0_off263_wordsbf16 : ∀ (v917 : BitVec 32) (k0_hw65 : k0_chk65 v917), (Rect.unit (s := S851968x1024) (k0_off263 v917) S16x1024.size (k0_off263_inb v917 k0_hw65)).WholeWords (EltTy.packing .bf16) := fun v917 k0_hw65 => k0_hw65.2.2 (k0_off263_inb v917 k0_hw65)

def k0_off264 (i : grid0.Coords) : Fin 3 → Nat :=
  let arg0 : BitVec 32 := BitVec.ofNat 32 (i 0).val
  let c3_i32 : BitVec 32 := 3#32
  let v0 : BitVec 32 := Scalar.remsi arg0 c3_i32
  let v1229 : Index := Scalar.indexCast v0
  let c1024 : Index := 1024#32
  let c0_226 : Index := 0#32
  ![v1229.toNat, 1024, 0]
def k0_off265 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c64_i32_228 : BitVec 32 := 64#32
  let v1234 : BitVec 32 := Scalar.addi v38 c64_i32_228
  let v1235 : Index := Scalar.indexCast v1234
  ![v1235.toNat]
def k0_mult67 (v1236 : BitVec 32) : BitVec 32 :=
  v1236

def k0_off266 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off267 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1024_i32 : BitVec 32 := 1024#32
  let c0_i32_229 : BitVec 32 := 0#32
  ![v2.toNat, 1024, 0]
def k0_off268 (v1236 : BitVec 32) : Fin 2 → Nat :=
  let v1237 : BitVec 32 := v1236
  let c0_i32_230 : BitVec 32 := 0#32
  ![v1237.toNat, 0]

def k0_chk66 (v1236 : BitVec 32) : Prop :=
  (16 ∣ (k0_mult67 v1236).toNat) ∧
  (∀ a, (k0_off268 v1236) a + S16x1024.size a ≤ S851968x1024.size a) ∧
  (∀ (hinb : ∀ a, (k0_off268 v1236) a + S16x1024.size a ≤ S851968x1024.size a), (Rect.unit (s := S851968x1024) (k0_off268 v1236) S16x1024.size hinb).WholeWords (EltTy.packing .bf16))
theorem k0_mult67_dvd : ∀ (v1236 : BitVec 32) (k0_hw66 : k0_chk66 v1236), 16 ∣ (k0_mult67 v1236).toNat := fun v1236 k0_hw66 => k0_hw66.1
theorem k0_off268_inb : ∀ (v1236 : BitVec 32) (k0_hw66 : k0_chk66 v1236), ∀ a, (k0_off268 v1236) a + S16x1024.size a ≤ S851968x1024.size a := fun v1236 k0_hw66 => k0_hw66.2.1
theorem k0_off268_wordsbf16 : ∀ (v1236 : BitVec 32) (k0_hw66 : k0_chk66 v1236), (Rect.unit (s := S851968x1024) (k0_off268 v1236) S16x1024.size (k0_off268_inb v1236 k0_hw66)).WholeWords (EltTy.packing .bf16) := fun v1236 k0_hw66 => k0_hw66.2.2 (k0_off268_inb v1236 k0_hw66)

def k0_off269 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c65_i32 : BitVec 32 := 65#32
  let v1243 : BitVec 32 := Scalar.addi v38 c65_i32
  let v1244 : Index := Scalar.indexCast v1243
  ![v1244.toNat]
def k0_mult68 (v1245 : BitVec 32) : BitVec 32 :=
  v1245

def k0_off270 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off271 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1040_i32 : BitVec 32 := 1040#32
  let c0_i32_231 : BitVec 32 := 0#32
  ![v2.toNat, 1040, 0]
def k0_off272 (v1245 : BitVec 32) : Fin 2 → Nat :=
  let v1246 : BitVec 32 := v1245
  let c0_i32_232 : BitVec 32 := 0#32
  ![v1246.toNat, 0]

def k0_chk67 (v1245 : BitVec 32) : Prop :=
  (16 ∣ (k0_mult68 v1245).toNat) ∧
  (∀ a, (k0_off272 v1245) a + S16x1024.size a ≤ S851968x1024.size a) ∧
  (∀ (hinb : ∀ a, (k0_off272 v1245) a + S16x1024.size a ≤ S851968x1024.size a), (Rect.unit (s := S851968x1024) (k0_off272 v1245) S16x1024.size hinb).WholeWords (EltTy.packing .bf16))
theorem k0_mult68_dvd : ∀ (v1245 : BitVec 32) (k0_hw67 : k0_chk67 v1245), 16 ∣ (k0_mult68 v1245).toNat := fun v1245 k0_hw67 => k0_hw67.1
theorem k0_off272_inb : ∀ (v1245 : BitVec 32) (k0_hw67 : k0_chk67 v1245), ∀ a, (k0_off272 v1245) a + S16x1024.size a ≤ S851968x1024.size a := fun v1245 k0_hw67 => k0_hw67.2.1
theorem k0_off272_wordsbf16 : ∀ (v1245 : BitVec 32) (k0_hw67 : k0_chk67 v1245), (Rect.unit (s := S851968x1024) (k0_off272 v1245) S16x1024.size (k0_off272_inb v1245 k0_hw67)).WholeWords (EltTy.packing .bf16) := fun v1245 k0_hw67 => k0_hw67.2.2 (k0_off272_inb v1245 k0_hw67)

def k0_off273 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c66_i32 : BitVec 32 := 66#32
  let v1252 : BitVec 32 := Scalar.addi v38 c66_i32
  let v1253 : Index := Scalar.indexCast v1252
  ![v1253.toNat]
def k0_mult69 (v1254 : BitVec 32) : BitVec 32 :=
  v1254

def k0_off274 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off275 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1056_i32 : BitVec 32 := 1056#32
  let c0_i32_233 : BitVec 32 := 0#32
  ![v2.toNat, 1056, 0]
def k0_off276 (v1254 : BitVec 32) : Fin 2 → Nat :=
  let v1255 : BitVec 32 := v1254
  let c0_i32_234 : BitVec 32 := 0#32
  ![v1255.toNat, 0]

def k0_chk68 (v1254 : BitVec 32) : Prop :=
  (16 ∣ (k0_mult69 v1254).toNat) ∧
  (∀ a, (k0_off276 v1254) a + S16x1024.size a ≤ S851968x1024.size a) ∧
  (∀ (hinb : ∀ a, (k0_off276 v1254) a + S16x1024.size a ≤ S851968x1024.size a), (Rect.unit (s := S851968x1024) (k0_off276 v1254) S16x1024.size hinb).WholeWords (EltTy.packing .bf16))
theorem k0_mult69_dvd : ∀ (v1254 : BitVec 32) (k0_hw68 : k0_chk68 v1254), 16 ∣ (k0_mult69 v1254).toNat := fun v1254 k0_hw68 => k0_hw68.1
theorem k0_off276_inb : ∀ (v1254 : BitVec 32) (k0_hw68 : k0_chk68 v1254), ∀ a, (k0_off276 v1254) a + S16x1024.size a ≤ S851968x1024.size a := fun v1254 k0_hw68 => k0_hw68.2.1
theorem k0_off276_wordsbf16 : ∀ (v1254 : BitVec 32) (k0_hw68 : k0_chk68 v1254), (Rect.unit (s := S851968x1024) (k0_off276 v1254) S16x1024.size (k0_off276_inb v1254 k0_hw68)).WholeWords (EltTy.packing .bf16) := fun v1254 k0_hw68 => k0_hw68.2.2 (k0_off276_inb v1254 k0_hw68)

def k0_off277 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c67_i32 : BitVec 32 := 67#32
  let v1261 : BitVec 32 := Scalar.addi v38 c67_i32
  let v1262 : Index := Scalar.indexCast v1261
  ![v1262.toNat]
def k0_mult70 (v1263 : BitVec 32) : BitVec 32 :=
  v1263

def k0_off278 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off279 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1072_i32 : BitVec 32 := 1072#32
  let c0_i32_235 : BitVec 32 := 0#32
  ![v2.toNat, 1072, 0]
def k0_off280 (v1263 : BitVec 32) : Fin 2 → Nat :=
  let v1264 : BitVec 32 := v1263
  let c0_i32_236 : BitVec 32 := 0#32
  ![v1264.toNat, 0]

def k0_chk69 (v1263 : BitVec 32) : Prop :=
  (16 ∣ (k0_mult70 v1263).toNat) ∧
  (∀ a, (k0_off280 v1263) a + S16x1024.size a ≤ S851968x1024.size a) ∧
  (∀ (hinb : ∀ a, (k0_off280 v1263) a + S16x1024.size a ≤ S851968x1024.size a), (Rect.unit (s := S851968x1024) (k0_off280 v1263) S16x1024.size hinb).WholeWords (EltTy.packing .bf16))
theorem k0_mult70_dvd : ∀ (v1263 : BitVec 32) (k0_hw69 : k0_chk69 v1263), 16 ∣ (k0_mult70 v1263).toNat := fun v1263 k0_hw69 => k0_hw69.1
theorem k0_off280_inb : ∀ (v1263 : BitVec 32) (k0_hw69 : k0_chk69 v1263), ∀ a, (k0_off280 v1263) a + S16x1024.size a ≤ S851968x1024.size a := fun v1263 k0_hw69 => k0_hw69.2.1
theorem k0_off280_wordsbf16 : ∀ (v1263 : BitVec 32) (k0_hw69 : k0_chk69 v1263), (Rect.unit (s := S851968x1024) (k0_off280 v1263) S16x1024.size (k0_off280_inb v1263 k0_hw69)).WholeWords (EltTy.packing .bf16) := fun v1263 k0_hw69 => k0_hw69.2.2 (k0_off280_inb v1263 k0_hw69)

def k0_off281 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c68_i32 : BitVec 32 := 68#32
  let v1270 : BitVec 32 := Scalar.addi v38 c68_i32
  let v1271 : Index := Scalar.indexCast v1270
  ![v1271.toNat]
def k0_mult71 (v1272 : BitVec 32) : BitVec 32 :=
  v1272

def k0_off282 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off283 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1088_i32 : BitVec 32 := 1088#32
  let c0_i32_237 : BitVec 32 := 0#32
  ![v2.toNat, 1088, 0]
def k0_off284 (v1272 : BitVec 32) : Fin 2 → Nat :=
  let v1273 : BitVec 32 := v1272
  let c0_i32_238 : BitVec 32 := 0#32
  ![v1273.toNat, 0]

def k0_chk70 (v1272 : BitVec 32) : Prop :=
  (16 ∣ (k0_mult71 v1272).toNat) ∧
  (∀ a, (k0_off284 v1272) a + S16x1024.size a ≤ S851968x1024.size a) ∧
  (∀ (hinb : ∀ a, (k0_off284 v1272) a + S16x1024.size a ≤ S851968x1024.size a), (Rect.unit (s := S851968x1024) (k0_off284 v1272) S16x1024.size hinb).WholeWords (EltTy.packing .bf16))
theorem k0_mult71_dvd : ∀ (v1272 : BitVec 32) (k0_hw70 : k0_chk70 v1272), 16 ∣ (k0_mult71 v1272).toNat := fun v1272 k0_hw70 => k0_hw70.1
theorem k0_off284_inb : ∀ (v1272 : BitVec 32) (k0_hw70 : k0_chk70 v1272), ∀ a, (k0_off284 v1272) a + S16x1024.size a ≤ S851968x1024.size a := fun v1272 k0_hw70 => k0_hw70.2.1
theorem k0_off284_wordsbf16 : ∀ (v1272 : BitVec 32) (k0_hw70 : k0_chk70 v1272), (Rect.unit (s := S851968x1024) (k0_off284 v1272) S16x1024.size (k0_off284_inb v1272 k0_hw70)).WholeWords (EltTy.packing .bf16) := fun v1272 k0_hw70 => k0_hw70.2.2 (k0_off284_inb v1272 k0_hw70)

def k0_off285 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c69_i32 : BitVec 32 := 69#32
  let v1279 : BitVec 32 := Scalar.addi v38 c69_i32
  let v1280 : Index := Scalar.indexCast v1279
  ![v1280.toNat]
def k0_mult72 (v1281 : BitVec 32) : BitVec 32 :=
  v1281

def k0_off286 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off287 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1104_i32 : BitVec 32 := 1104#32
  let c0_i32_239 : BitVec 32 := 0#32
  ![v2.toNat, 1104, 0]
def k0_off288 (v1281 : BitVec 32) : Fin 2 → Nat :=
  let v1282 : BitVec 32 := v1281
  let c0_i32_240 : BitVec 32 := 0#32
  ![v1282.toNat, 0]

def k0_chk71 (v1281 : BitVec 32) : Prop :=
  (16 ∣ (k0_mult72 v1281).toNat) ∧
  (∀ a, (k0_off288 v1281) a + S16x1024.size a ≤ S851968x1024.size a) ∧
  (∀ (hinb : ∀ a, (k0_off288 v1281) a + S16x1024.size a ≤ S851968x1024.size a), (Rect.unit (s := S851968x1024) (k0_off288 v1281) S16x1024.size hinb).WholeWords (EltTy.packing .bf16))
theorem k0_mult72_dvd : ∀ (v1281 : BitVec 32) (k0_hw71 : k0_chk71 v1281), 16 ∣ (k0_mult72 v1281).toNat := fun v1281 k0_hw71 => k0_hw71.1
theorem k0_off288_inb : ∀ (v1281 : BitVec 32) (k0_hw71 : k0_chk71 v1281), ∀ a, (k0_off288 v1281) a + S16x1024.size a ≤ S851968x1024.size a := fun v1281 k0_hw71 => k0_hw71.2.1
theorem k0_off288_wordsbf16 : ∀ (v1281 : BitVec 32) (k0_hw71 : k0_chk71 v1281), (Rect.unit (s := S851968x1024) (k0_off288 v1281) S16x1024.size (k0_off288_inb v1281 k0_hw71)).WholeWords (EltTy.packing .bf16) := fun v1281 k0_hw71 => k0_hw71.2.2 (k0_off288_inb v1281 k0_hw71)

def k0_off289 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c70_i32 : BitVec 32 := 70#32
  let v1288 : BitVec 32 := Scalar.addi v38 c70_i32
  let v1289 : Index := Scalar.indexCast v1288
  ![v1289.toNat]
def k0_mult73 (v1290 : BitVec 32) : BitVec 32 :=
  v1290

def k0_off290 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off291 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1120_i32 : BitVec 32 := 1120#32
  let c0_i32_241 : BitVec 32 := 0#32
  ![v2.toNat, 1120, 0]
def k0_off292 (v1290 : BitVec 32) : Fin 2 → Nat :=
  let v1291 : BitVec 32 := v1290
  let c0_i32_242 : BitVec 32 := 0#32
  ![v1291.toNat, 0]

def k0_chk72 (v1290 : BitVec 32) : Prop :=
  (16 ∣ (k0_mult73 v1290).toNat) ∧
  (∀ a, (k0_off292 v1290) a + S16x1024.size a ≤ S851968x1024.size a) ∧
  (∀ (hinb : ∀ a, (k0_off292 v1290) a + S16x1024.size a ≤ S851968x1024.size a), (Rect.unit (s := S851968x1024) (k0_off292 v1290) S16x1024.size hinb).WholeWords (EltTy.packing .bf16))
theorem k0_mult73_dvd : ∀ (v1290 : BitVec 32) (k0_hw72 : k0_chk72 v1290), 16 ∣ (k0_mult73 v1290).toNat := fun v1290 k0_hw72 => k0_hw72.1
theorem k0_off292_inb : ∀ (v1290 : BitVec 32) (k0_hw72 : k0_chk72 v1290), ∀ a, (k0_off292 v1290) a + S16x1024.size a ≤ S851968x1024.size a := fun v1290 k0_hw72 => k0_hw72.2.1
theorem k0_off292_wordsbf16 : ∀ (v1290 : BitVec 32) (k0_hw72 : k0_chk72 v1290), (Rect.unit (s := S851968x1024) (k0_off292 v1290) S16x1024.size (k0_off292_inb v1290 k0_hw72)).WholeWords (EltTy.packing .bf16) := fun v1290 k0_hw72 => k0_hw72.2.2 (k0_off292_inb v1290 k0_hw72)

def k0_off293 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c71_i32 : BitVec 32 := 71#32
  let v1297 : BitVec 32 := Scalar.addi v38 c71_i32
  let v1298 : Index := Scalar.indexCast v1297
  ![v1298.toNat]
def k0_mult74 (v1299 : BitVec 32) : BitVec 32 :=
  v1299

def k0_off294 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off295 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1136_i32 : BitVec 32 := 1136#32
  let c0_i32_243 : BitVec 32 := 0#32
  ![v2.toNat, 1136, 0]
def k0_off296 (v1299 : BitVec 32) : Fin 2 → Nat :=
  let v1300 : BitVec 32 := v1299
  let c0_i32_244 : BitVec 32 := 0#32
  ![v1300.toNat, 0]

def k0_chk73 (v1299 : BitVec 32) : Prop :=
  (16 ∣ (k0_mult74 v1299).toNat) ∧
  (∀ a, (k0_off296 v1299) a + S16x1024.size a ≤ S851968x1024.size a) ∧
  (∀ (hinb : ∀ a, (k0_off296 v1299) a + S16x1024.size a ≤ S851968x1024.size a), (Rect.unit (s := S851968x1024) (k0_off296 v1299) S16x1024.size hinb).WholeWords (EltTy.packing .bf16))
theorem k0_mult74_dvd : ∀ (v1299 : BitVec 32) (k0_hw73 : k0_chk73 v1299), 16 ∣ (k0_mult74 v1299).toNat := fun v1299 k0_hw73 => k0_hw73.1
theorem k0_off296_inb : ∀ (v1299 : BitVec 32) (k0_hw73 : k0_chk73 v1299), ∀ a, (k0_off296 v1299) a + S16x1024.size a ≤ S851968x1024.size a := fun v1299 k0_hw73 => k0_hw73.2.1
theorem k0_off296_wordsbf16 : ∀ (v1299 : BitVec 32) (k0_hw73 : k0_chk73 v1299), (Rect.unit (s := S851968x1024) (k0_off296 v1299) S16x1024.size (k0_off296_inb v1299 k0_hw73)).WholeWords (EltTy.packing .bf16) := fun v1299 k0_hw73 => k0_hw73.2.2 (k0_off296_inb v1299 k0_hw73)

def k0_off297 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c72_i32 : BitVec 32 := 72#32
  let v1306 : BitVec 32 := Scalar.addi v38 c72_i32
  let v1307 : Index := Scalar.indexCast v1306
  ![v1307.toNat]
def k0_mult75 (v1308 : BitVec 32) : BitVec 32 :=
  v1308

def k0_off298 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off299 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1152_i32 : BitVec 32 := 1152#32
  let c0_i32_245 : BitVec 32 := 0#32
  ![v2.toNat, 1152, 0]
def k0_off300 (v1308 : BitVec 32) : Fin 2 → Nat :=
  let v1309 : BitVec 32 := v1308
  let c0_i32_246 : BitVec 32 := 0#32
  ![v1309.toNat, 0]

def k0_chk74 (v1308 : BitVec 32) : Prop :=
  (16 ∣ (k0_mult75 v1308).toNat) ∧
  (∀ a, (k0_off300 v1308) a + S16x1024.size a ≤ S851968x1024.size a) ∧
  (∀ (hinb : ∀ a, (k0_off300 v1308) a + S16x1024.size a ≤ S851968x1024.size a), (Rect.unit (s := S851968x1024) (k0_off300 v1308) S16x1024.size hinb).WholeWords (EltTy.packing .bf16))
theorem k0_mult75_dvd : ∀ (v1308 : BitVec 32) (k0_hw74 : k0_chk74 v1308), 16 ∣ (k0_mult75 v1308).toNat := fun v1308 k0_hw74 => k0_hw74.1
theorem k0_off300_inb : ∀ (v1308 : BitVec 32) (k0_hw74 : k0_chk74 v1308), ∀ a, (k0_off300 v1308) a + S16x1024.size a ≤ S851968x1024.size a := fun v1308 k0_hw74 => k0_hw74.2.1
theorem k0_off300_wordsbf16 : ∀ (v1308 : BitVec 32) (k0_hw74 : k0_chk74 v1308), (Rect.unit (s := S851968x1024) (k0_off300 v1308) S16x1024.size (k0_off300_inb v1308 k0_hw74)).WholeWords (EltTy.packing .bf16) := fun v1308 k0_hw74 => k0_hw74.2.2 (k0_off300_inb v1308 k0_hw74)

def k0_off301 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c73_i32 : BitVec 32 := 73#32
  let v1315 : BitVec 32 := Scalar.addi v38 c73_i32
  let v1316 : Index := Scalar.indexCast v1315
  ![v1316.toNat]
def k0_mult76 (v1317 : BitVec 32) : BitVec 32 :=
  v1317

def k0_off302 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off303 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1168_i32 : BitVec 32 := 1168#32
  let c0_i32_247 : BitVec 32 := 0#32
  ![v2.toNat, 1168, 0]
def k0_off304 (v1317 : BitVec 32) : Fin 2 → Nat :=
  let v1318 : BitVec 32 := v1317
  let c0_i32_248 : BitVec 32 := 0#32
  ![v1318.toNat, 0]

def k0_chk75 (v1317 : BitVec 32) : Prop :=
  (16 ∣ (k0_mult76 v1317).toNat) ∧
  (∀ a, (k0_off304 v1317) a + S16x1024.size a ≤ S851968x1024.size a) ∧
  (∀ (hinb : ∀ a, (k0_off304 v1317) a + S16x1024.size a ≤ S851968x1024.size a), (Rect.unit (s := S851968x1024) (k0_off304 v1317) S16x1024.size hinb).WholeWords (EltTy.packing .bf16))
theorem k0_mult76_dvd : ∀ (v1317 : BitVec 32) (k0_hw75 : k0_chk75 v1317), 16 ∣ (k0_mult76 v1317).toNat := fun v1317 k0_hw75 => k0_hw75.1
theorem k0_off304_inb : ∀ (v1317 : BitVec 32) (k0_hw75 : k0_chk75 v1317), ∀ a, (k0_off304 v1317) a + S16x1024.size a ≤ S851968x1024.size a := fun v1317 k0_hw75 => k0_hw75.2.1
theorem k0_off304_wordsbf16 : ∀ (v1317 : BitVec 32) (k0_hw75 : k0_chk75 v1317), (Rect.unit (s := S851968x1024) (k0_off304 v1317) S16x1024.size (k0_off304_inb v1317 k0_hw75)).WholeWords (EltTy.packing .bf16) := fun v1317 k0_hw75 => k0_hw75.2.2 (k0_off304_inb v1317 k0_hw75)

def k0_off305 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c74_i32 : BitVec 32 := 74#32
  let v1324 : BitVec 32 := Scalar.addi v38 c74_i32
  let v1325 : Index := Scalar.indexCast v1324
  ![v1325.toNat]
def k0_mult77 (v1326 : BitVec 32) : BitVec 32 :=
  v1326

def k0_off306 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off307 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1184_i32 : BitVec 32 := 1184#32
  let c0_i32_249 : BitVec 32 := 0#32
  ![v2.toNat, 1184, 0]
def k0_off308 (v1326 : BitVec 32) : Fin 2 → Nat :=
  let v1327 : BitVec 32 := v1326
  let c0_i32_250 : BitVec 32 := 0#32
  ![v1327.toNat, 0]

def k0_chk76 (v1326 : BitVec 32) : Prop :=
  (16 ∣ (k0_mult77 v1326).toNat) ∧
  (∀ a, (k0_off308 v1326) a + S16x1024.size a ≤ S851968x1024.size a) ∧
  (∀ (hinb : ∀ a, (k0_off308 v1326) a + S16x1024.size a ≤ S851968x1024.size a), (Rect.unit (s := S851968x1024) (k0_off308 v1326) S16x1024.size hinb).WholeWords (EltTy.packing .bf16))
theorem k0_mult77_dvd : ∀ (v1326 : BitVec 32) (k0_hw76 : k0_chk76 v1326), 16 ∣ (k0_mult77 v1326).toNat := fun v1326 k0_hw76 => k0_hw76.1
theorem k0_off308_inb : ∀ (v1326 : BitVec 32) (k0_hw76 : k0_chk76 v1326), ∀ a, (k0_off308 v1326) a + S16x1024.size a ≤ S851968x1024.size a := fun v1326 k0_hw76 => k0_hw76.2.1
theorem k0_off308_wordsbf16 : ∀ (v1326 : BitVec 32) (k0_hw76 : k0_chk76 v1326), (Rect.unit (s := S851968x1024) (k0_off308 v1326) S16x1024.size (k0_off308_inb v1326 k0_hw76)).WholeWords (EltTy.packing .bf16) := fun v1326 k0_hw76 => k0_hw76.2.2 (k0_off308_inb v1326 k0_hw76)

def k0_off309 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c75_i32 : BitVec 32 := 75#32
  let v1333 : BitVec 32 := Scalar.addi v38 c75_i32
  let v1334 : Index := Scalar.indexCast v1333
  ![v1334.toNat]
def k0_mult78 (v1335 : BitVec 32) : BitVec 32 :=
  v1335

def k0_off310 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off311 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1200_i32 : BitVec 32 := 1200#32
  let c0_i32_251 : BitVec 32 := 0#32
  ![v2.toNat, 1200, 0]
def k0_off312 (v1335 : BitVec 32) : Fin 2 → Nat :=
  let v1336 : BitVec 32 := v1335
  let c0_i32_252 : BitVec 32 := 0#32
  ![v1336.toNat, 0]

def k0_chk77 (v1335 : BitVec 32) : Prop :=
  (16 ∣ (k0_mult78 v1335).toNat) ∧
  (∀ a, (k0_off312 v1335) a + S16x1024.size a ≤ S851968x1024.size a) ∧
  (∀ (hinb : ∀ a, (k0_off312 v1335) a + S16x1024.size a ≤ S851968x1024.size a), (Rect.unit (s := S851968x1024) (k0_off312 v1335) S16x1024.size hinb).WholeWords (EltTy.packing .bf16))
theorem k0_mult78_dvd : ∀ (v1335 : BitVec 32) (k0_hw77 : k0_chk77 v1335), 16 ∣ (k0_mult78 v1335).toNat := fun v1335 k0_hw77 => k0_hw77.1
theorem k0_off312_inb : ∀ (v1335 : BitVec 32) (k0_hw77 : k0_chk77 v1335), ∀ a, (k0_off312 v1335) a + S16x1024.size a ≤ S851968x1024.size a := fun v1335 k0_hw77 => k0_hw77.2.1
theorem k0_off312_wordsbf16 : ∀ (v1335 : BitVec 32) (k0_hw77 : k0_chk77 v1335), (Rect.unit (s := S851968x1024) (k0_off312 v1335) S16x1024.size (k0_off312_inb v1335 k0_hw77)).WholeWords (EltTy.packing .bf16) := fun v1335 k0_hw77 => k0_hw77.2.2 (k0_off312_inb v1335 k0_hw77)

def k0_off313 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c76_i32 : BitVec 32 := 76#32
  let v1342 : BitVec 32 := Scalar.addi v38 c76_i32
  let v1343 : Index := Scalar.indexCast v1342
  ![v1343.toNat]
def k0_mult79 (v1344 : BitVec 32) : BitVec 32 :=
  v1344

def k0_off314 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off315 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1216_i32 : BitVec 32 := 1216#32
  let c0_i32_253 : BitVec 32 := 0#32
  ![v2.toNat, 1216, 0]
def k0_off316 (v1344 : BitVec 32) : Fin 2 → Nat :=
  let v1345 : BitVec 32 := v1344
  let c0_i32_254 : BitVec 32 := 0#32
  ![v1345.toNat, 0]

def k0_chk78 (v1344 : BitVec 32) : Prop :=
  (16 ∣ (k0_mult79 v1344).toNat) ∧
  (∀ a, (k0_off316 v1344) a + S16x1024.size a ≤ S851968x1024.size a) ∧
  (∀ (hinb : ∀ a, (k0_off316 v1344) a + S16x1024.size a ≤ S851968x1024.size a), (Rect.unit (s := S851968x1024) (k0_off316 v1344) S16x1024.size hinb).WholeWords (EltTy.packing .bf16))
theorem k0_mult79_dvd : ∀ (v1344 : BitVec 32) (k0_hw78 : k0_chk78 v1344), 16 ∣ (k0_mult79 v1344).toNat := fun v1344 k0_hw78 => k0_hw78.1
theorem k0_off316_inb : ∀ (v1344 : BitVec 32) (k0_hw78 : k0_chk78 v1344), ∀ a, (k0_off316 v1344) a + S16x1024.size a ≤ S851968x1024.size a := fun v1344 k0_hw78 => k0_hw78.2.1
theorem k0_off316_wordsbf16 : ∀ (v1344 : BitVec 32) (k0_hw78 : k0_chk78 v1344), (Rect.unit (s := S851968x1024) (k0_off316 v1344) S16x1024.size (k0_off316_inb v1344 k0_hw78)).WholeWords (EltTy.packing .bf16) := fun v1344 k0_hw78 => k0_hw78.2.2 (k0_off316_inb v1344 k0_hw78)

def k0_off317 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c77_i32 : BitVec 32 := 77#32
  let v1351 : BitVec 32 := Scalar.addi v38 c77_i32
  let v1352 : Index := Scalar.indexCast v1351
  ![v1352.toNat]
def k0_mult80 (v1353 : BitVec 32) : BitVec 32 :=
  v1353

def k0_off318 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off319 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1232_i32 : BitVec 32 := 1232#32
  let c0_i32_255 : BitVec 32 := 0#32
  ![v2.toNat, 1232, 0]
def k0_off320 (v1353 : BitVec 32) : Fin 2 → Nat :=
  let v1354 : BitVec 32 := v1353
  let c0_i32_256 : BitVec 32 := 0#32
  ![v1354.toNat, 0]

def k0_chk79 (v1353 : BitVec 32) : Prop :=
  (16 ∣ (k0_mult80 v1353).toNat) ∧
  (∀ a, (k0_off320 v1353) a + S16x1024.size a ≤ S851968x1024.size a) ∧
  (∀ (hinb : ∀ a, (k0_off320 v1353) a + S16x1024.size a ≤ S851968x1024.size a), (Rect.unit (s := S851968x1024) (k0_off320 v1353) S16x1024.size hinb).WholeWords (EltTy.packing .bf16))
theorem k0_mult80_dvd : ∀ (v1353 : BitVec 32) (k0_hw79 : k0_chk79 v1353), 16 ∣ (k0_mult80 v1353).toNat := fun v1353 k0_hw79 => k0_hw79.1
theorem k0_off320_inb : ∀ (v1353 : BitVec 32) (k0_hw79 : k0_chk79 v1353), ∀ a, (k0_off320 v1353) a + S16x1024.size a ≤ S851968x1024.size a := fun v1353 k0_hw79 => k0_hw79.2.1
theorem k0_off320_wordsbf16 : ∀ (v1353 : BitVec 32) (k0_hw79 : k0_chk79 v1353), (Rect.unit (s := S851968x1024) (k0_off320 v1353) S16x1024.size (k0_off320_inb v1353 k0_hw79)).WholeWords (EltTy.packing .bf16) := fun v1353 k0_hw79 => k0_hw79.2.2 (k0_off320_inb v1353 k0_hw79)

def k0_off321 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c78_i32 : BitVec 32 := 78#32
  let v1360 : BitVec 32 := Scalar.addi v38 c78_i32
  let v1361 : Index := Scalar.indexCast v1360
  ![v1361.toNat]
def k0_mult81 (v1362 : BitVec 32) : BitVec 32 :=
  v1362

def k0_off322 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off323 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1248_i32 : BitVec 32 := 1248#32
  let c0_i32_257 : BitVec 32 := 0#32
  ![v2.toNat, 1248, 0]
def k0_off324 (v1362 : BitVec 32) : Fin 2 → Nat :=
  let v1363 : BitVec 32 := v1362
  let c0_i32_258 : BitVec 32 := 0#32
  ![v1363.toNat, 0]

def k0_chk80 (v1362 : BitVec 32) : Prop :=
  (16 ∣ (k0_mult81 v1362).toNat) ∧
  (∀ a, (k0_off324 v1362) a + S16x1024.size a ≤ S851968x1024.size a) ∧
  (∀ (hinb : ∀ a, (k0_off324 v1362) a + S16x1024.size a ≤ S851968x1024.size a), (Rect.unit (s := S851968x1024) (k0_off324 v1362) S16x1024.size hinb).WholeWords (EltTy.packing .bf16))
theorem k0_mult81_dvd : ∀ (v1362 : BitVec 32) (k0_hw80 : k0_chk80 v1362), 16 ∣ (k0_mult81 v1362).toNat := fun v1362 k0_hw80 => k0_hw80.1
theorem k0_off324_inb : ∀ (v1362 : BitVec 32) (k0_hw80 : k0_chk80 v1362), ∀ a, (k0_off324 v1362) a + S16x1024.size a ≤ S851968x1024.size a := fun v1362 k0_hw80 => k0_hw80.2.1
theorem k0_off324_wordsbf16 : ∀ (v1362 : BitVec 32) (k0_hw80 : k0_chk80 v1362), (Rect.unit (s := S851968x1024) (k0_off324 v1362) S16x1024.size (k0_off324_inb v1362 k0_hw80)).WholeWords (EltTy.packing .bf16) := fun v1362 k0_hw80 => k0_hw80.2.2 (k0_off324_inb v1362 k0_hw80)

def k0_off325 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c79_i32 : BitVec 32 := 79#32
  let v1369 : BitVec 32 := Scalar.addi v38 c79_i32
  let v1370 : Index := Scalar.indexCast v1369
  ![v1370.toNat]
def k0_mult82 (v1371 : BitVec 32) : BitVec 32 :=
  v1371

def k0_off326 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off327 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1264_i32 : BitVec 32 := 1264#32
  let c0_i32_259 : BitVec 32 := 0#32
  ![v2.toNat, 1264, 0]
def k0_off328 (v1371 : BitVec 32) : Fin 2 → Nat :=
  let v1372 : BitVec 32 := v1371
  let c0_i32_260 : BitVec 32 := 0#32
  ![v1372.toNat, 0]

def k0_chk81 (v1371 : BitVec 32) : Prop :=
  (16 ∣ (k0_mult82 v1371).toNat) ∧
  (∀ a, (k0_off328 v1371) a + S16x1024.size a ≤ S851968x1024.size a) ∧
  (∀ (hinb : ∀ a, (k0_off328 v1371) a + S16x1024.size a ≤ S851968x1024.size a), (Rect.unit (s := S851968x1024) (k0_off328 v1371) S16x1024.size hinb).WholeWords (EltTy.packing .bf16))
theorem k0_mult82_dvd : ∀ (v1371 : BitVec 32) (k0_hw81 : k0_chk81 v1371), 16 ∣ (k0_mult82 v1371).toNat := fun v1371 k0_hw81 => k0_hw81.1
theorem k0_off328_inb : ∀ (v1371 : BitVec 32) (k0_hw81 : k0_chk81 v1371), ∀ a, (k0_off328 v1371) a + S16x1024.size a ≤ S851968x1024.size a := fun v1371 k0_hw81 => k0_hw81.2.1
theorem k0_off328_wordsbf16 : ∀ (v1371 : BitVec 32) (k0_hw81 : k0_chk81 v1371), (Rect.unit (s := S851968x1024) (k0_off328 v1371) S16x1024.size (k0_off328_inb v1371 k0_hw81)).WholeWords (EltTy.packing .bf16) := fun v1371 k0_hw81 => k0_hw81.2.2 (k0_off328_inb v1371 k0_hw81)

def k0_off329 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c80_i32_261 : BitVec 32 := 80#32
  let v1378 : BitVec 32 := Scalar.addi v38 c80_i32_261
  let v1379 : Index := Scalar.indexCast v1378
  ![v1379.toNat]
def k0_mult83 (v1380 : BitVec 32) : BitVec 32 :=
  v1380

def k0_off330 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off331 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1280_i32 : BitVec 32 := 1280#32
  let c0_i32_262 : BitVec 32 := 0#32
  ![v2.toNat, 1280, 0]
def k0_off332 (v1380 : BitVec 32) : Fin 2 → Nat :=
  let v1381 : BitVec 32 := v1380
  let c0_i32_263 : BitVec 32 := 0#32
  ![v1381.toNat, 0]

def k0_chk82 (v1380 : BitVec 32) : Prop :=
  (16 ∣ (k0_mult83 v1380).toNat) ∧
  (∀ a, (k0_off332 v1380) a + S16x1024.size a ≤ S851968x1024.size a) ∧
  (∀ (hinb : ∀ a, (k0_off332 v1380) a + S16x1024.size a ≤ S851968x1024.size a), (Rect.unit (s := S851968x1024) (k0_off332 v1380) S16x1024.size hinb).WholeWords (EltTy.packing .bf16))
theorem k0_mult83_dvd : ∀ (v1380 : BitVec 32) (k0_hw82 : k0_chk82 v1380), 16 ∣ (k0_mult83 v1380).toNat := fun v1380 k0_hw82 => k0_hw82.1
theorem k0_off332_inb : ∀ (v1380 : BitVec 32) (k0_hw82 : k0_chk82 v1380), ∀ a, (k0_off332 v1380) a + S16x1024.size a ≤ S851968x1024.size a := fun v1380 k0_hw82 => k0_hw82.2.1
theorem k0_off332_wordsbf16 : ∀ (v1380 : BitVec 32) (k0_hw82 : k0_chk82 v1380), (Rect.unit (s := S851968x1024) (k0_off332 v1380) S16x1024.size (k0_off332_inb v1380 k0_hw82)).WholeWords (EltTy.packing .bf16) := fun v1380 k0_hw82 => k0_hw82.2.2 (k0_off332_inb v1380 k0_hw82)

def k0_off333 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c81_i32 : BitVec 32 := 81#32
  let v1387 : BitVec 32 := Scalar.addi v38 c81_i32
  let v1388 : Index := Scalar.indexCast v1387
  ![v1388.toNat]
def k0_mult84 (v1389 : BitVec 32) : BitVec 32 :=
  v1389

def k0_off334 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off335 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1296_i32 : BitVec 32 := 1296#32
  let c0_i32_264 : BitVec 32 := 0#32
  ![v2.toNat, 1296, 0]
def k0_off336 (v1389 : BitVec 32) : Fin 2 → Nat :=
  let v1390 : BitVec 32 := v1389
  let c0_i32_265 : BitVec 32 := 0#32
  ![v1390.toNat, 0]

def k0_chk83 (v1389 : BitVec 32) : Prop :=
  (16 ∣ (k0_mult84 v1389).toNat) ∧
  (∀ a, (k0_off336 v1389) a + S16x1024.size a ≤ S851968x1024.size a) ∧
  (∀ (hinb : ∀ a, (k0_off336 v1389) a + S16x1024.size a ≤ S851968x1024.size a), (Rect.unit (s := S851968x1024) (k0_off336 v1389) S16x1024.size hinb).WholeWords (EltTy.packing .bf16))
theorem k0_mult84_dvd : ∀ (v1389 : BitVec 32) (k0_hw83 : k0_chk83 v1389), 16 ∣ (k0_mult84 v1389).toNat := fun v1389 k0_hw83 => k0_hw83.1
theorem k0_off336_inb : ∀ (v1389 : BitVec 32) (k0_hw83 : k0_chk83 v1389), ∀ a, (k0_off336 v1389) a + S16x1024.size a ≤ S851968x1024.size a := fun v1389 k0_hw83 => k0_hw83.2.1
theorem k0_off336_wordsbf16 : ∀ (v1389 : BitVec 32) (k0_hw83 : k0_chk83 v1389), (Rect.unit (s := S851968x1024) (k0_off336 v1389) S16x1024.size (k0_off336_inb v1389 k0_hw83)).WholeWords (EltTy.packing .bf16) := fun v1389 k0_hw83 => k0_hw83.2.2 (k0_off336_inb v1389 k0_hw83)

def k0_off337 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c82_i32 : BitVec 32 := 82#32
  let v1396 : BitVec 32 := Scalar.addi v38 c82_i32
  let v1397 : Index := Scalar.indexCast v1396
  ![v1397.toNat]
def k0_mult85 (v1398 : BitVec 32) : BitVec 32 :=
  v1398

def k0_off338 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off339 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1312_i32 : BitVec 32 := 1312#32
  let c0_i32_266 : BitVec 32 := 0#32
  ![v2.toNat, 1312, 0]
def k0_off340 (v1398 : BitVec 32) : Fin 2 → Nat :=
  let v1399 : BitVec 32 := v1398
  let c0_i32_267 : BitVec 32 := 0#32
  ![v1399.toNat, 0]

def k0_chk84 (v1398 : BitVec 32) : Prop :=
  (16 ∣ (k0_mult85 v1398).toNat) ∧
  (∀ a, (k0_off340 v1398) a + S16x1024.size a ≤ S851968x1024.size a) ∧
  (∀ (hinb : ∀ a, (k0_off340 v1398) a + S16x1024.size a ≤ S851968x1024.size a), (Rect.unit (s := S851968x1024) (k0_off340 v1398) S16x1024.size hinb).WholeWords (EltTy.packing .bf16))
theorem k0_mult85_dvd : ∀ (v1398 : BitVec 32) (k0_hw84 : k0_chk84 v1398), 16 ∣ (k0_mult85 v1398).toNat := fun v1398 k0_hw84 => k0_hw84.1
theorem k0_off340_inb : ∀ (v1398 : BitVec 32) (k0_hw84 : k0_chk84 v1398), ∀ a, (k0_off340 v1398) a + S16x1024.size a ≤ S851968x1024.size a := fun v1398 k0_hw84 => k0_hw84.2.1
theorem k0_off340_wordsbf16 : ∀ (v1398 : BitVec 32) (k0_hw84 : k0_chk84 v1398), (Rect.unit (s := S851968x1024) (k0_off340 v1398) S16x1024.size (k0_off340_inb v1398 k0_hw84)).WholeWords (EltTy.packing .bf16) := fun v1398 k0_hw84 => k0_hw84.2.2 (k0_off340_inb v1398 k0_hw84)

def k0_off341 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c83_i32 : BitVec 32 := 83#32
  let v1405 : BitVec 32 := Scalar.addi v38 c83_i32
  let v1406 : Index := Scalar.indexCast v1405
  ![v1406.toNat]
def k0_mult86 (v1407 : BitVec 32) : BitVec 32 :=
  v1407

def k0_off342 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off343 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1328_i32 : BitVec 32 := 1328#32
  let c0_i32_268 : BitVec 32 := 0#32
  ![v2.toNat, 1328, 0]
def k0_off344 (v1407 : BitVec 32) : Fin 2 → Nat :=
  let v1408 : BitVec 32 := v1407
  let c0_i32_269 : BitVec 32 := 0#32
  ![v1408.toNat, 0]

def k0_chk85 (v1407 : BitVec 32) : Prop :=
  (16 ∣ (k0_mult86 v1407).toNat) ∧
  (∀ a, (k0_off344 v1407) a + S16x1024.size a ≤ S851968x1024.size a) ∧
  (∀ (hinb : ∀ a, (k0_off344 v1407) a + S16x1024.size a ≤ S851968x1024.size a), (Rect.unit (s := S851968x1024) (k0_off344 v1407) S16x1024.size hinb).WholeWords (EltTy.packing .bf16))
theorem k0_mult86_dvd : ∀ (v1407 : BitVec 32) (k0_hw85 : k0_chk85 v1407), 16 ∣ (k0_mult86 v1407).toNat := fun v1407 k0_hw85 => k0_hw85.1
theorem k0_off344_inb : ∀ (v1407 : BitVec 32) (k0_hw85 : k0_chk85 v1407), ∀ a, (k0_off344 v1407) a + S16x1024.size a ≤ S851968x1024.size a := fun v1407 k0_hw85 => k0_hw85.2.1
theorem k0_off344_wordsbf16 : ∀ (v1407 : BitVec 32) (k0_hw85 : k0_chk85 v1407), (Rect.unit (s := S851968x1024) (k0_off344 v1407) S16x1024.size (k0_off344_inb v1407 k0_hw85)).WholeWords (EltTy.packing .bf16) := fun v1407 k0_hw85 => k0_hw85.2.2 (k0_off344_inb v1407 k0_hw85)

def k0_off345 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c84_i32 : BitVec 32 := 84#32
  let v1414 : BitVec 32 := Scalar.addi v38 c84_i32
  let v1415 : Index := Scalar.indexCast v1414
  ![v1415.toNat]
def k0_mult87 (v1416 : BitVec 32) : BitVec 32 :=
  v1416

def k0_off346 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off347 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1344_i32 : BitVec 32 := 1344#32
  let c0_i32_270 : BitVec 32 := 0#32
  ![v2.toNat, 1344, 0]
def k0_off348 (v1416 : BitVec 32) : Fin 2 → Nat :=
  let v1417 : BitVec 32 := v1416
  let c0_i32_271 : BitVec 32 := 0#32
  ![v1417.toNat, 0]

def k0_chk86 (v1416 : BitVec 32) : Prop :=
  (16 ∣ (k0_mult87 v1416).toNat) ∧
  (∀ a, (k0_off348 v1416) a + S16x1024.size a ≤ S851968x1024.size a) ∧
  (∀ (hinb : ∀ a, (k0_off348 v1416) a + S16x1024.size a ≤ S851968x1024.size a), (Rect.unit (s := S851968x1024) (k0_off348 v1416) S16x1024.size hinb).WholeWords (EltTy.packing .bf16))
theorem k0_mult87_dvd : ∀ (v1416 : BitVec 32) (k0_hw86 : k0_chk86 v1416), 16 ∣ (k0_mult87 v1416).toNat := fun v1416 k0_hw86 => k0_hw86.1
theorem k0_off348_inb : ∀ (v1416 : BitVec 32) (k0_hw86 : k0_chk86 v1416), ∀ a, (k0_off348 v1416) a + S16x1024.size a ≤ S851968x1024.size a := fun v1416 k0_hw86 => k0_hw86.2.1
theorem k0_off348_wordsbf16 : ∀ (v1416 : BitVec 32) (k0_hw86 : k0_chk86 v1416), (Rect.unit (s := S851968x1024) (k0_off348 v1416) S16x1024.size (k0_off348_inb v1416 k0_hw86)).WholeWords (EltTy.packing .bf16) := fun v1416 k0_hw86 => k0_hw86.2.2 (k0_off348_inb v1416 k0_hw86)

def k0_off349 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c85_i32 : BitVec 32 := 85#32
  let v1423 : BitVec 32 := Scalar.addi v38 c85_i32
  let v1424 : Index := Scalar.indexCast v1423
  ![v1424.toNat]
def k0_mult88 (v1425 : BitVec 32) : BitVec 32 :=
  v1425

def k0_off350 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off351 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1360_i32 : BitVec 32 := 1360#32
  let c0_i32_272 : BitVec 32 := 0#32
  ![v2.toNat, 1360, 0]
def k0_off352 (v1425 : BitVec 32) : Fin 2 → Nat :=
  let v1426 : BitVec 32 := v1425
  let c0_i32_273 : BitVec 32 := 0#32
  ![v1426.toNat, 0]

def k0_chk87 (v1425 : BitVec 32) : Prop :=
  (16 ∣ (k0_mult88 v1425).toNat) ∧
  (∀ a, (k0_off352 v1425) a + S16x1024.size a ≤ S851968x1024.size a) ∧
  (∀ (hinb : ∀ a, (k0_off352 v1425) a + S16x1024.size a ≤ S851968x1024.size a), (Rect.unit (s := S851968x1024) (k0_off352 v1425) S16x1024.size hinb).WholeWords (EltTy.packing .bf16))
theorem k0_mult88_dvd : ∀ (v1425 : BitVec 32) (k0_hw87 : k0_chk87 v1425), 16 ∣ (k0_mult88 v1425).toNat := fun v1425 k0_hw87 => k0_hw87.1
theorem k0_off352_inb : ∀ (v1425 : BitVec 32) (k0_hw87 : k0_chk87 v1425), ∀ a, (k0_off352 v1425) a + S16x1024.size a ≤ S851968x1024.size a := fun v1425 k0_hw87 => k0_hw87.2.1
theorem k0_off352_wordsbf16 : ∀ (v1425 : BitVec 32) (k0_hw87 : k0_chk87 v1425), (Rect.unit (s := S851968x1024) (k0_off352 v1425) S16x1024.size (k0_off352_inb v1425 k0_hw87)).WholeWords (EltTy.packing .bf16) := fun v1425 k0_hw87 => k0_hw87.2.2 (k0_off352_inb v1425 k0_hw87)

def k0_off353 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c86_i32 : BitVec 32 := 86#32
  let v1432 : BitVec 32 := Scalar.addi v38 c86_i32
  let v1433 : Index := Scalar.indexCast v1432
  ![v1433.toNat]
def k0_mult89 (v1434 : BitVec 32) : BitVec 32 :=
  v1434

def k0_off354 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off355 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1376_i32 : BitVec 32 := 1376#32
  let c0_i32_274 : BitVec 32 := 0#32
  ![v2.toNat, 1376, 0]
def k0_off356 (v1434 : BitVec 32) : Fin 2 → Nat :=
  let v1435 : BitVec 32 := v1434
  let c0_i32_275 : BitVec 32 := 0#32
  ![v1435.toNat, 0]

def k0_chk88 (v1434 : BitVec 32) : Prop :=
  (16 ∣ (k0_mult89 v1434).toNat) ∧
  (∀ a, (k0_off356 v1434) a + S16x1024.size a ≤ S851968x1024.size a) ∧
  (∀ (hinb : ∀ a, (k0_off356 v1434) a + S16x1024.size a ≤ S851968x1024.size a), (Rect.unit (s := S851968x1024) (k0_off356 v1434) S16x1024.size hinb).WholeWords (EltTy.packing .bf16))
theorem k0_mult89_dvd : ∀ (v1434 : BitVec 32) (k0_hw88 : k0_chk88 v1434), 16 ∣ (k0_mult89 v1434).toNat := fun v1434 k0_hw88 => k0_hw88.1
theorem k0_off356_inb : ∀ (v1434 : BitVec 32) (k0_hw88 : k0_chk88 v1434), ∀ a, (k0_off356 v1434) a + S16x1024.size a ≤ S851968x1024.size a := fun v1434 k0_hw88 => k0_hw88.2.1
theorem k0_off356_wordsbf16 : ∀ (v1434 : BitVec 32) (k0_hw88 : k0_chk88 v1434), (Rect.unit (s := S851968x1024) (k0_off356 v1434) S16x1024.size (k0_off356_inb v1434 k0_hw88)).WholeWords (EltTy.packing .bf16) := fun v1434 k0_hw88 => k0_hw88.2.2 (k0_off356_inb v1434 k0_hw88)

def k0_off357 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c87_i32 : BitVec 32 := 87#32
  let v1441 : BitVec 32 := Scalar.addi v38 c87_i32
  let v1442 : Index := Scalar.indexCast v1441
  ![v1442.toNat]
def k0_mult90 (v1443 : BitVec 32) : BitVec 32 :=
  v1443

def k0_off358 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off359 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1392_i32 : BitVec 32 := 1392#32
  let c0_i32_276 : BitVec 32 := 0#32
  ![v2.toNat, 1392, 0]
def k0_off360 (v1443 : BitVec 32) : Fin 2 → Nat :=
  let v1444 : BitVec 32 := v1443
  let c0_i32_277 : BitVec 32 := 0#32
  ![v1444.toNat, 0]

def k0_chk89 (v1443 : BitVec 32) : Prop :=
  (16 ∣ (k0_mult90 v1443).toNat) ∧
  (∀ a, (k0_off360 v1443) a + S16x1024.size a ≤ S851968x1024.size a) ∧
  (∀ (hinb : ∀ a, (k0_off360 v1443) a + S16x1024.size a ≤ S851968x1024.size a), (Rect.unit (s := S851968x1024) (k0_off360 v1443) S16x1024.size hinb).WholeWords (EltTy.packing .bf16))
theorem k0_mult90_dvd : ∀ (v1443 : BitVec 32) (k0_hw89 : k0_chk89 v1443), 16 ∣ (k0_mult90 v1443).toNat := fun v1443 k0_hw89 => k0_hw89.1
theorem k0_off360_inb : ∀ (v1443 : BitVec 32) (k0_hw89 : k0_chk89 v1443), ∀ a, (k0_off360 v1443) a + S16x1024.size a ≤ S851968x1024.size a := fun v1443 k0_hw89 => k0_hw89.2.1
theorem k0_off360_wordsbf16 : ∀ (v1443 : BitVec 32) (k0_hw89 : k0_chk89 v1443), (Rect.unit (s := S851968x1024) (k0_off360 v1443) S16x1024.size (k0_off360_inb v1443 k0_hw89)).WholeWords (EltTy.packing .bf16) := fun v1443 k0_hw89 => k0_hw89.2.2 (k0_off360_inb v1443 k0_hw89)

def k0_off361 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c88_i32 : BitVec 32 := 88#32
  let v1450 : BitVec 32 := Scalar.addi v38 c88_i32
  let v1451 : Index := Scalar.indexCast v1450
  ![v1451.toNat]
def k0_mult91 (v1452 : BitVec 32) : BitVec 32 :=
  v1452

def k0_off362 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off363 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1408_i32 : BitVec 32 := 1408#32
  let c0_i32_278 : BitVec 32 := 0#32
  ![v2.toNat, 1408, 0]
def k0_off364 (v1452 : BitVec 32) : Fin 2 → Nat :=
  let v1453 : BitVec 32 := v1452
  let c0_i32_279 : BitVec 32 := 0#32
  ![v1453.toNat, 0]

def k0_chk90 (v1452 : BitVec 32) : Prop :=
  (16 ∣ (k0_mult91 v1452).toNat) ∧
  (∀ a, (k0_off364 v1452) a + S16x1024.size a ≤ S851968x1024.size a) ∧
  (∀ (hinb : ∀ a, (k0_off364 v1452) a + S16x1024.size a ≤ S851968x1024.size a), (Rect.unit (s := S851968x1024) (k0_off364 v1452) S16x1024.size hinb).WholeWords (EltTy.packing .bf16))
theorem k0_mult91_dvd : ∀ (v1452 : BitVec 32) (k0_hw90 : k0_chk90 v1452), 16 ∣ (k0_mult91 v1452).toNat := fun v1452 k0_hw90 => k0_hw90.1
theorem k0_off364_inb : ∀ (v1452 : BitVec 32) (k0_hw90 : k0_chk90 v1452), ∀ a, (k0_off364 v1452) a + S16x1024.size a ≤ S851968x1024.size a := fun v1452 k0_hw90 => k0_hw90.2.1
theorem k0_off364_wordsbf16 : ∀ (v1452 : BitVec 32) (k0_hw90 : k0_chk90 v1452), (Rect.unit (s := S851968x1024) (k0_off364 v1452) S16x1024.size (k0_off364_inb v1452 k0_hw90)).WholeWords (EltTy.packing .bf16) := fun v1452 k0_hw90 => k0_hw90.2.2 (k0_off364_inb v1452 k0_hw90)

def k0_off365 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c89_i32 : BitVec 32 := 89#32
  let v1459 : BitVec 32 := Scalar.addi v38 c89_i32
  let v1460 : Index := Scalar.indexCast v1459
  ![v1460.toNat]
def k0_mult92 (v1461 : BitVec 32) : BitVec 32 :=
  v1461

def k0_off366 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off367 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1424_i32 : BitVec 32 := 1424#32
  let c0_i32_280 : BitVec 32 := 0#32
  ![v2.toNat, 1424, 0]
def k0_off368 (v1461 : BitVec 32) : Fin 2 → Nat :=
  let v1462 : BitVec 32 := v1461
  let c0_i32_281 : BitVec 32 := 0#32
  ![v1462.toNat, 0]

def k0_chk91 (v1461 : BitVec 32) : Prop :=
  (16 ∣ (k0_mult92 v1461).toNat) ∧
  (∀ a, (k0_off368 v1461) a + S16x1024.size a ≤ S851968x1024.size a) ∧
  (∀ (hinb : ∀ a, (k0_off368 v1461) a + S16x1024.size a ≤ S851968x1024.size a), (Rect.unit (s := S851968x1024) (k0_off368 v1461) S16x1024.size hinb).WholeWords (EltTy.packing .bf16))
theorem k0_mult92_dvd : ∀ (v1461 : BitVec 32) (k0_hw91 : k0_chk91 v1461), 16 ∣ (k0_mult92 v1461).toNat := fun v1461 k0_hw91 => k0_hw91.1
theorem k0_off368_inb : ∀ (v1461 : BitVec 32) (k0_hw91 : k0_chk91 v1461), ∀ a, (k0_off368 v1461) a + S16x1024.size a ≤ S851968x1024.size a := fun v1461 k0_hw91 => k0_hw91.2.1
theorem k0_off368_wordsbf16 : ∀ (v1461 : BitVec 32) (k0_hw91 : k0_chk91 v1461), (Rect.unit (s := S851968x1024) (k0_off368 v1461) S16x1024.size (k0_off368_inb v1461 k0_hw91)).WholeWords (EltTy.packing .bf16) := fun v1461 k0_hw91 => k0_hw91.2.2 (k0_off368_inb v1461 k0_hw91)

def k0_off369 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c90_i32 : BitVec 32 := 90#32
  let v1468 : BitVec 32 := Scalar.addi v38 c90_i32
  let v1469 : Index := Scalar.indexCast v1468
  ![v1469.toNat]
def k0_mult93 (v1470 : BitVec 32) : BitVec 32 :=
  v1470

def k0_off370 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off371 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1440_i32 : BitVec 32 := 1440#32
  let c0_i32_282 : BitVec 32 := 0#32
  ![v2.toNat, 1440, 0]
def k0_off372 (v1470 : BitVec 32) : Fin 2 → Nat :=
  let v1471 : BitVec 32 := v1470
  let c0_i32_283 : BitVec 32 := 0#32
  ![v1471.toNat, 0]

def k0_chk92 (v1470 : BitVec 32) : Prop :=
  (16 ∣ (k0_mult93 v1470).toNat) ∧
  (∀ a, (k0_off372 v1470) a + S16x1024.size a ≤ S851968x1024.size a) ∧
  (∀ (hinb : ∀ a, (k0_off372 v1470) a + S16x1024.size a ≤ S851968x1024.size a), (Rect.unit (s := S851968x1024) (k0_off372 v1470) S16x1024.size hinb).WholeWords (EltTy.packing .bf16))
theorem k0_mult93_dvd : ∀ (v1470 : BitVec 32) (k0_hw92 : k0_chk92 v1470), 16 ∣ (k0_mult93 v1470).toNat := fun v1470 k0_hw92 => k0_hw92.1
theorem k0_off372_inb : ∀ (v1470 : BitVec 32) (k0_hw92 : k0_chk92 v1470), ∀ a, (k0_off372 v1470) a + S16x1024.size a ≤ S851968x1024.size a := fun v1470 k0_hw92 => k0_hw92.2.1
theorem k0_off372_wordsbf16 : ∀ (v1470 : BitVec 32) (k0_hw92 : k0_chk92 v1470), (Rect.unit (s := S851968x1024) (k0_off372 v1470) S16x1024.size (k0_off372_inb v1470 k0_hw92)).WholeWords (EltTy.packing .bf16) := fun v1470 k0_hw92 => k0_hw92.2.2 (k0_off372_inb v1470 k0_hw92)

def k0_off373 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c91_i32 : BitVec 32 := 91#32
  let v1477 : BitVec 32 := Scalar.addi v38 c91_i32
  let v1478 : Index := Scalar.indexCast v1477
  ![v1478.toNat]
def k0_mult94 (v1479 : BitVec 32) : BitVec 32 :=
  v1479

def k0_off374 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off375 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1456_i32 : BitVec 32 := 1456#32
  let c0_i32_284 : BitVec 32 := 0#32
  ![v2.toNat, 1456, 0]
def k0_off376 (v1479 : BitVec 32) : Fin 2 → Nat :=
  let v1480 : BitVec 32 := v1479
  let c0_i32_285 : BitVec 32 := 0#32
  ![v1480.toNat, 0]

def k0_chk93 (v1479 : BitVec 32) : Prop :=
  (16 ∣ (k0_mult94 v1479).toNat) ∧
  (∀ a, (k0_off376 v1479) a + S16x1024.size a ≤ S851968x1024.size a) ∧
  (∀ (hinb : ∀ a, (k0_off376 v1479) a + S16x1024.size a ≤ S851968x1024.size a), (Rect.unit (s := S851968x1024) (k0_off376 v1479) S16x1024.size hinb).WholeWords (EltTy.packing .bf16))
theorem k0_mult94_dvd : ∀ (v1479 : BitVec 32) (k0_hw93 : k0_chk93 v1479), 16 ∣ (k0_mult94 v1479).toNat := fun v1479 k0_hw93 => k0_hw93.1
theorem k0_off376_inb : ∀ (v1479 : BitVec 32) (k0_hw93 : k0_chk93 v1479), ∀ a, (k0_off376 v1479) a + S16x1024.size a ≤ S851968x1024.size a := fun v1479 k0_hw93 => k0_hw93.2.1
theorem k0_off376_wordsbf16 : ∀ (v1479 : BitVec 32) (k0_hw93 : k0_chk93 v1479), (Rect.unit (s := S851968x1024) (k0_off376 v1479) S16x1024.size (k0_off376_inb v1479 k0_hw93)).WholeWords (EltTy.packing .bf16) := fun v1479 k0_hw93 => k0_hw93.2.2 (k0_off376_inb v1479 k0_hw93)

def k0_off377 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c92_i32 : BitVec 32 := 92#32
  let v1486 : BitVec 32 := Scalar.addi v38 c92_i32
  let v1487 : Index := Scalar.indexCast v1486
  ![v1487.toNat]
def k0_mult95 (v1488 : BitVec 32) : BitVec 32 :=
  v1488

def k0_off378 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off379 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1472_i32 : BitVec 32 := 1472#32
  let c0_i32_286 : BitVec 32 := 0#32
  ![v2.toNat, 1472, 0]
def k0_off380 (v1488 : BitVec 32) : Fin 2 → Nat :=
  let v1489 : BitVec 32 := v1488
  let c0_i32_287 : BitVec 32 := 0#32
  ![v1489.toNat, 0]

def k0_chk94 (v1488 : BitVec 32) : Prop :=
  (16 ∣ (k0_mult95 v1488).toNat) ∧
  (∀ a, (k0_off380 v1488) a + S16x1024.size a ≤ S851968x1024.size a) ∧
  (∀ (hinb : ∀ a, (k0_off380 v1488) a + S16x1024.size a ≤ S851968x1024.size a), (Rect.unit (s := S851968x1024) (k0_off380 v1488) S16x1024.size hinb).WholeWords (EltTy.packing .bf16))
theorem k0_mult95_dvd : ∀ (v1488 : BitVec 32) (k0_hw94 : k0_chk94 v1488), 16 ∣ (k0_mult95 v1488).toNat := fun v1488 k0_hw94 => k0_hw94.1
theorem k0_off380_inb : ∀ (v1488 : BitVec 32) (k0_hw94 : k0_chk94 v1488), ∀ a, (k0_off380 v1488) a + S16x1024.size a ≤ S851968x1024.size a := fun v1488 k0_hw94 => k0_hw94.2.1
theorem k0_off380_wordsbf16 : ∀ (v1488 : BitVec 32) (k0_hw94 : k0_chk94 v1488), (Rect.unit (s := S851968x1024) (k0_off380 v1488) S16x1024.size (k0_off380_inb v1488 k0_hw94)).WholeWords (EltTy.packing .bf16) := fun v1488 k0_hw94 => k0_hw94.2.2 (k0_off380_inb v1488 k0_hw94)

def k0_off381 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c93_i32 : BitVec 32 := 93#32
  let v1495 : BitVec 32 := Scalar.addi v38 c93_i32
  let v1496 : Index := Scalar.indexCast v1495
  ![v1496.toNat]
def k0_mult96 (v1497 : BitVec 32) : BitVec 32 :=
  v1497

def k0_off382 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off383 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1488_i32 : BitVec 32 := 1488#32
  let c0_i32_288 : BitVec 32 := 0#32
  ![v2.toNat, 1488, 0]
def k0_off384 (v1497 : BitVec 32) : Fin 2 → Nat :=
  let v1498 : BitVec 32 := v1497
  let c0_i32_289 : BitVec 32 := 0#32
  ![v1498.toNat, 0]

def k0_chk95 (v1497 : BitVec 32) : Prop :=
  (16 ∣ (k0_mult96 v1497).toNat) ∧
  (∀ a, (k0_off384 v1497) a + S16x1024.size a ≤ S851968x1024.size a) ∧
  (∀ (hinb : ∀ a, (k0_off384 v1497) a + S16x1024.size a ≤ S851968x1024.size a), (Rect.unit (s := S851968x1024) (k0_off384 v1497) S16x1024.size hinb).WholeWords (EltTy.packing .bf16))
theorem k0_mult96_dvd : ∀ (v1497 : BitVec 32) (k0_hw95 : k0_chk95 v1497), 16 ∣ (k0_mult96 v1497).toNat := fun v1497 k0_hw95 => k0_hw95.1
theorem k0_off384_inb : ∀ (v1497 : BitVec 32) (k0_hw95 : k0_chk95 v1497), ∀ a, (k0_off384 v1497) a + S16x1024.size a ≤ S851968x1024.size a := fun v1497 k0_hw95 => k0_hw95.2.1
theorem k0_off384_wordsbf16 : ∀ (v1497 : BitVec 32) (k0_hw95 : k0_chk95 v1497), (Rect.unit (s := S851968x1024) (k0_off384 v1497) S16x1024.size (k0_off384_inb v1497 k0_hw95)).WholeWords (EltTy.packing .bf16) := fun v1497 k0_hw95 => k0_hw95.2.2 (k0_off384_inb v1497 k0_hw95)

def k0_off385 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c94_i32 : BitVec 32 := 94#32
  let v1504 : BitVec 32 := Scalar.addi v38 c94_i32
  let v1505 : Index := Scalar.indexCast v1504
  ![v1505.toNat]
def k0_mult97 (v1506 : BitVec 32) : BitVec 32 :=
  v1506

def k0_off386 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off387 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1504_i32 : BitVec 32 := 1504#32
  let c0_i32_290 : BitVec 32 := 0#32
  ![v2.toNat, 1504, 0]
def k0_off388 (v1506 : BitVec 32) : Fin 2 → Nat :=
  let v1507 : BitVec 32 := v1506
  let c0_i32_291 : BitVec 32 := 0#32
  ![v1507.toNat, 0]

def k0_chk96 (v1506 : BitVec 32) : Prop :=
  (16 ∣ (k0_mult97 v1506).toNat) ∧
  (∀ a, (k0_off388 v1506) a + S16x1024.size a ≤ S851968x1024.size a) ∧
  (∀ (hinb : ∀ a, (k0_off388 v1506) a + S16x1024.size a ≤ S851968x1024.size a), (Rect.unit (s := S851968x1024) (k0_off388 v1506) S16x1024.size hinb).WholeWords (EltTy.packing .bf16))
theorem k0_mult97_dvd : ∀ (v1506 : BitVec 32) (k0_hw96 : k0_chk96 v1506), 16 ∣ (k0_mult97 v1506).toNat := fun v1506 k0_hw96 => k0_hw96.1
theorem k0_off388_inb : ∀ (v1506 : BitVec 32) (k0_hw96 : k0_chk96 v1506), ∀ a, (k0_off388 v1506) a + S16x1024.size a ≤ S851968x1024.size a := fun v1506 k0_hw96 => k0_hw96.2.1
theorem k0_off388_wordsbf16 : ∀ (v1506 : BitVec 32) (k0_hw96 : k0_chk96 v1506), (Rect.unit (s := S851968x1024) (k0_off388 v1506) S16x1024.size (k0_off388_inb v1506 k0_hw96)).WholeWords (EltTy.packing .bf16) := fun v1506 k0_hw96 => k0_hw96.2.2 (k0_off388_inb v1506 k0_hw96)

def k0_off389 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c95_i32 : BitVec 32 := 95#32
  let v1513 : BitVec 32 := Scalar.addi v38 c95_i32
  let v1514 : Index := Scalar.indexCast v1513
  ![v1514.toNat]
def k0_mult98 (v1515 : BitVec 32) : BitVec 32 :=
  v1515

def k0_off390 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off391 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1520_i32 : BitVec 32 := 1520#32
  let c0_i32_292 : BitVec 32 := 0#32
  ![v2.toNat, 1520, 0]
def k0_off392 (v1515 : BitVec 32) : Fin 2 → Nat :=
  let v1516 : BitVec 32 := v1515
  let c0_i32_293 : BitVec 32 := 0#32
  ![v1516.toNat, 0]

def k0_chk97 (v1515 : BitVec 32) : Prop :=
  (16 ∣ (k0_mult98 v1515).toNat) ∧
  (∀ a, (k0_off392 v1515) a + S16x1024.size a ≤ S851968x1024.size a) ∧
  (∀ (hinb : ∀ a, (k0_off392 v1515) a + S16x1024.size a ≤ S851968x1024.size a), (Rect.unit (s := S851968x1024) (k0_off392 v1515) S16x1024.size hinb).WholeWords (EltTy.packing .bf16))
theorem k0_mult98_dvd : ∀ (v1515 : BitVec 32) (k0_hw97 : k0_chk97 v1515), 16 ∣ (k0_mult98 v1515).toNat := fun v1515 k0_hw97 => k0_hw97.1
theorem k0_off392_inb : ∀ (v1515 : BitVec 32) (k0_hw97 : k0_chk97 v1515), ∀ a, (k0_off392 v1515) a + S16x1024.size a ≤ S851968x1024.size a := fun v1515 k0_hw97 => k0_hw97.2.1
theorem k0_off392_wordsbf16 : ∀ (v1515 : BitVec 32) (k0_hw97 : k0_chk97 v1515), (Rect.unit (s := S851968x1024) (k0_off392 v1515) S16x1024.size (k0_off392_inb v1515 k0_hw97)).WholeWords (EltTy.packing .bf16) := fun v1515 k0_hw97 => k0_hw97.2.2 (k0_off392_inb v1515 k0_hw97)

def k0_off393 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c96_i32_294 : BitVec 32 := 96#32
  let v1522 : BitVec 32 := Scalar.addi v38 c96_i32_294
  let v1523 : Index := Scalar.indexCast v1522
  ![v1523.toNat]
def k0_mult99 (v1524 : BitVec 32) : BitVec 32 :=
  v1524

def k0_off394 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off395 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1536_i32 : BitVec 32 := 1536#32
  let c0_i32_295 : BitVec 32 := 0#32
  ![v2.toNat, 1536, 0]
def k0_off396 (v1524 : BitVec 32) : Fin 2 → Nat :=
  let v1525 : BitVec 32 := v1524
  let c0_i32_296 : BitVec 32 := 0#32
  ![v1525.toNat, 0]

def k0_chk98 (v1524 : BitVec 32) : Prop :=
  (16 ∣ (k0_mult99 v1524).toNat) ∧
  (∀ a, (k0_off396 v1524) a + S16x1024.size a ≤ S851968x1024.size a) ∧
  (∀ (hinb : ∀ a, (k0_off396 v1524) a + S16x1024.size a ≤ S851968x1024.size a), (Rect.unit (s := S851968x1024) (k0_off396 v1524) S16x1024.size hinb).WholeWords (EltTy.packing .bf16))
theorem k0_mult99_dvd : ∀ (v1524 : BitVec 32) (k0_hw98 : k0_chk98 v1524), 16 ∣ (k0_mult99 v1524).toNat := fun v1524 k0_hw98 => k0_hw98.1
theorem k0_off396_inb : ∀ (v1524 : BitVec 32) (k0_hw98 : k0_chk98 v1524), ∀ a, (k0_off396 v1524) a + S16x1024.size a ≤ S851968x1024.size a := fun v1524 k0_hw98 => k0_hw98.2.1
theorem k0_off396_wordsbf16 : ∀ (v1524 : BitVec 32) (k0_hw98 : k0_chk98 v1524), (Rect.unit (s := S851968x1024) (k0_off396 v1524) S16x1024.size (k0_off396_inb v1524 k0_hw98)).WholeWords (EltTy.packing .bf16) := fun v1524 k0_hw98 => k0_hw98.2.2 (k0_off396_inb v1524 k0_hw98)

def k0_off397 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c97_i32 : BitVec 32 := 97#32
  let v1531 : BitVec 32 := Scalar.addi v38 c97_i32
  let v1532 : Index := Scalar.indexCast v1531
  ![v1532.toNat]
def k0_mult100 (v1533 : BitVec 32) : BitVec 32 :=
  v1533

def k0_off398 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off399 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1552_i32 : BitVec 32 := 1552#32
  let c0_i32_297 : BitVec 32 := 0#32
  ![v2.toNat, 1552, 0]
def k0_off400 (v1533 : BitVec 32) : Fin 2 → Nat :=
  let v1534 : BitVec 32 := v1533
  let c0_i32_298 : BitVec 32 := 0#32
  ![v1534.toNat, 0]

def k0_chk99 (v1533 : BitVec 32) : Prop :=
  (16 ∣ (k0_mult100 v1533).toNat) ∧
  (∀ a, (k0_off400 v1533) a + S16x1024.size a ≤ S851968x1024.size a) ∧
  (∀ (hinb : ∀ a, (k0_off400 v1533) a + S16x1024.size a ≤ S851968x1024.size a), (Rect.unit (s := S851968x1024) (k0_off400 v1533) S16x1024.size hinb).WholeWords (EltTy.packing .bf16))
theorem k0_mult100_dvd : ∀ (v1533 : BitVec 32) (k0_hw99 : k0_chk99 v1533), 16 ∣ (k0_mult100 v1533).toNat := fun v1533 k0_hw99 => k0_hw99.1
theorem k0_off400_inb : ∀ (v1533 : BitVec 32) (k0_hw99 : k0_chk99 v1533), ∀ a, (k0_off400 v1533) a + S16x1024.size a ≤ S851968x1024.size a := fun v1533 k0_hw99 => k0_hw99.2.1
theorem k0_off400_wordsbf16 : ∀ (v1533 : BitVec 32) (k0_hw99 : k0_chk99 v1533), (Rect.unit (s := S851968x1024) (k0_off400 v1533) S16x1024.size (k0_off400_inb v1533 k0_hw99)).WholeWords (EltTy.packing .bf16) := fun v1533 k0_hw99 => k0_hw99.2.2 (k0_off400_inb v1533 k0_hw99)

def k0_off401 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c98_i32 : BitVec 32 := 98#32
  let v1540 : BitVec 32 := Scalar.addi v38 c98_i32
  let v1541 : Index := Scalar.indexCast v1540
  ![v1541.toNat]
def k0_mult101 (v1542 : BitVec 32) : BitVec 32 :=
  v1542

def k0_off402 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off403 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1568_i32 : BitVec 32 := 1568#32
  let c0_i32_299 : BitVec 32 := 0#32
  ![v2.toNat, 1568, 0]
def k0_off404 (v1542 : BitVec 32) : Fin 2 → Nat :=
  let v1543 : BitVec 32 := v1542
  let c0_i32_300 : BitVec 32 := 0#32
  ![v1543.toNat, 0]

def k0_chk100 (v1542 : BitVec 32) : Prop :=
  (16 ∣ (k0_mult101 v1542).toNat) ∧
  (∀ a, (k0_off404 v1542) a + S16x1024.size a ≤ S851968x1024.size a) ∧
  (∀ (hinb : ∀ a, (k0_off404 v1542) a + S16x1024.size a ≤ S851968x1024.size a), (Rect.unit (s := S851968x1024) (k0_off404 v1542) S16x1024.size hinb).WholeWords (EltTy.packing .bf16))
theorem k0_mult101_dvd : ∀ (v1542 : BitVec 32) (k0_hw100 : k0_chk100 v1542), 16 ∣ (k0_mult101 v1542).toNat := fun v1542 k0_hw100 => k0_hw100.1
theorem k0_off404_inb : ∀ (v1542 : BitVec 32) (k0_hw100 : k0_chk100 v1542), ∀ a, (k0_off404 v1542) a + S16x1024.size a ≤ S851968x1024.size a := fun v1542 k0_hw100 => k0_hw100.2.1
theorem k0_off404_wordsbf16 : ∀ (v1542 : BitVec 32) (k0_hw100 : k0_chk100 v1542), (Rect.unit (s := S851968x1024) (k0_off404 v1542) S16x1024.size (k0_off404_inb v1542 k0_hw100)).WholeWords (EltTy.packing .bf16) := fun v1542 k0_hw100 => k0_hw100.2.2 (k0_off404_inb v1542 k0_hw100)

def k0_off405 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c99_i32 : BitVec 32 := 99#32
  let v1549 : BitVec 32 := Scalar.addi v38 c99_i32
  let v1550 : Index := Scalar.indexCast v1549
  ![v1550.toNat]
def k0_mult102 (v1551 : BitVec 32) : BitVec 32 :=
  v1551

def k0_off406 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off407 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1584_i32 : BitVec 32 := 1584#32
  let c0_i32_301 : BitVec 32 := 0#32
  ![v2.toNat, 1584, 0]
def k0_off408 (v1551 : BitVec 32) : Fin 2 → Nat :=
  let v1552 : BitVec 32 := v1551
  let c0_i32_302 : BitVec 32 := 0#32
  ![v1552.toNat, 0]

def k0_chk101 (v1551 : BitVec 32) : Prop :=
  (16 ∣ (k0_mult102 v1551).toNat) ∧
  (∀ a, (k0_off408 v1551) a + S16x1024.size a ≤ S851968x1024.size a) ∧
  (∀ (hinb : ∀ a, (k0_off408 v1551) a + S16x1024.size a ≤ S851968x1024.size a), (Rect.unit (s := S851968x1024) (k0_off408 v1551) S16x1024.size hinb).WholeWords (EltTy.packing .bf16))
theorem k0_mult102_dvd : ∀ (v1551 : BitVec 32) (k0_hw101 : k0_chk101 v1551), 16 ∣ (k0_mult102 v1551).toNat := fun v1551 k0_hw101 => k0_hw101.1
theorem k0_off408_inb : ∀ (v1551 : BitVec 32) (k0_hw101 : k0_chk101 v1551), ∀ a, (k0_off408 v1551) a + S16x1024.size a ≤ S851968x1024.size a := fun v1551 k0_hw101 => k0_hw101.2.1
theorem k0_off408_wordsbf16 : ∀ (v1551 : BitVec 32) (k0_hw101 : k0_chk101 v1551), (Rect.unit (s := S851968x1024) (k0_off408 v1551) S16x1024.size (k0_off408_inb v1551 k0_hw101)).WholeWords (EltTy.packing .bf16) := fun v1551 k0_hw101 => k0_hw101.2.2 (k0_off408_inb v1551 k0_hw101)

def k0_off409 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c100_i32 : BitVec 32 := 100#32
  let v1558 : BitVec 32 := Scalar.addi v38 c100_i32
  let v1559 : Index := Scalar.indexCast v1558
  ![v1559.toNat]
def k0_mult103 (v1560 : BitVec 32) : BitVec 32 :=
  v1560

def k0_off410 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off411 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1600_i32 : BitVec 32 := 1600#32
  let c0_i32_303 : BitVec 32 := 0#32
  ![v2.toNat, 1600, 0]
def k0_off412 (v1560 : BitVec 32) : Fin 2 → Nat :=
  let v1561 : BitVec 32 := v1560
  let c0_i32_304 : BitVec 32 := 0#32
  ![v1561.toNat, 0]

def k0_chk102 (v1560 : BitVec 32) : Prop :=
  (16 ∣ (k0_mult103 v1560).toNat) ∧
  (∀ a, (k0_off412 v1560) a + S16x1024.size a ≤ S851968x1024.size a) ∧
  (∀ (hinb : ∀ a, (k0_off412 v1560) a + S16x1024.size a ≤ S851968x1024.size a), (Rect.unit (s := S851968x1024) (k0_off412 v1560) S16x1024.size hinb).WholeWords (EltTy.packing .bf16))
theorem k0_mult103_dvd : ∀ (v1560 : BitVec 32) (k0_hw102 : k0_chk102 v1560), 16 ∣ (k0_mult103 v1560).toNat := fun v1560 k0_hw102 => k0_hw102.1
theorem k0_off412_inb : ∀ (v1560 : BitVec 32) (k0_hw102 : k0_chk102 v1560), ∀ a, (k0_off412 v1560) a + S16x1024.size a ≤ S851968x1024.size a := fun v1560 k0_hw102 => k0_hw102.2.1
theorem k0_off412_wordsbf16 : ∀ (v1560 : BitVec 32) (k0_hw102 : k0_chk102 v1560), (Rect.unit (s := S851968x1024) (k0_off412 v1560) S16x1024.size (k0_off412_inb v1560 k0_hw102)).WholeWords (EltTy.packing .bf16) := fun v1560 k0_hw102 => k0_hw102.2.2 (k0_off412_inb v1560 k0_hw102)

def k0_off413 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c101_i32 : BitVec 32 := 101#32
  let v1567 : BitVec 32 := Scalar.addi v38 c101_i32
  let v1568 : Index := Scalar.indexCast v1567
  ![v1568.toNat]
def k0_mult104 (v1569 : BitVec 32) : BitVec 32 :=
  v1569

def k0_off414 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off415 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1616_i32 : BitVec 32 := 1616#32
  let c0_i32_305 : BitVec 32 := 0#32
  ![v2.toNat, 1616, 0]
def k0_off416 (v1569 : BitVec 32) : Fin 2 → Nat :=
  let v1570 : BitVec 32 := v1569
  let c0_i32_306 : BitVec 32 := 0#32
  ![v1570.toNat, 0]

def k0_chk103 (v1569 : BitVec 32) : Prop :=
  (16 ∣ (k0_mult104 v1569).toNat) ∧
  (∀ a, (k0_off416 v1569) a + S16x1024.size a ≤ S851968x1024.size a) ∧
  (∀ (hinb : ∀ a, (k0_off416 v1569) a + S16x1024.size a ≤ S851968x1024.size a), (Rect.unit (s := S851968x1024) (k0_off416 v1569) S16x1024.size hinb).WholeWords (EltTy.packing .bf16))
theorem k0_mult104_dvd : ∀ (v1569 : BitVec 32) (k0_hw103 : k0_chk103 v1569), 16 ∣ (k0_mult104 v1569).toNat := fun v1569 k0_hw103 => k0_hw103.1
theorem k0_off416_inb : ∀ (v1569 : BitVec 32) (k0_hw103 : k0_chk103 v1569), ∀ a, (k0_off416 v1569) a + S16x1024.size a ≤ S851968x1024.size a := fun v1569 k0_hw103 => k0_hw103.2.1
theorem k0_off416_wordsbf16 : ∀ (v1569 : BitVec 32) (k0_hw103 : k0_chk103 v1569), (Rect.unit (s := S851968x1024) (k0_off416 v1569) S16x1024.size (k0_off416_inb v1569 k0_hw103)).WholeWords (EltTy.packing .bf16) := fun v1569 k0_hw103 => k0_hw103.2.2 (k0_off416_inb v1569 k0_hw103)

def k0_off417 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c102_i32 : BitVec 32 := 102#32
  let v1576 : BitVec 32 := Scalar.addi v38 c102_i32
  let v1577 : Index := Scalar.indexCast v1576
  ![v1577.toNat]
def k0_mult105 (v1578 : BitVec 32) : BitVec 32 :=
  v1578

def k0_off418 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off419 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1632_i32 : BitVec 32 := 1632#32
  let c0_i32_307 : BitVec 32 := 0#32
  ![v2.toNat, 1632, 0]
def k0_off420 (v1578 : BitVec 32) : Fin 2 → Nat :=
  let v1579 : BitVec 32 := v1578
  let c0_i32_308 : BitVec 32 := 0#32
  ![v1579.toNat, 0]

def k0_chk104 (v1578 : BitVec 32) : Prop :=
  (16 ∣ (k0_mult105 v1578).toNat) ∧
  (∀ a, (k0_off420 v1578) a + S16x1024.size a ≤ S851968x1024.size a) ∧
  (∀ (hinb : ∀ a, (k0_off420 v1578) a + S16x1024.size a ≤ S851968x1024.size a), (Rect.unit (s := S851968x1024) (k0_off420 v1578) S16x1024.size hinb).WholeWords (EltTy.packing .bf16))
theorem k0_mult105_dvd : ∀ (v1578 : BitVec 32) (k0_hw104 : k0_chk104 v1578), 16 ∣ (k0_mult105 v1578).toNat := fun v1578 k0_hw104 => k0_hw104.1
theorem k0_off420_inb : ∀ (v1578 : BitVec 32) (k0_hw104 : k0_chk104 v1578), ∀ a, (k0_off420 v1578) a + S16x1024.size a ≤ S851968x1024.size a := fun v1578 k0_hw104 => k0_hw104.2.1
theorem k0_off420_wordsbf16 : ∀ (v1578 : BitVec 32) (k0_hw104 : k0_chk104 v1578), (Rect.unit (s := S851968x1024) (k0_off420 v1578) S16x1024.size (k0_off420_inb v1578 k0_hw104)).WholeWords (EltTy.packing .bf16) := fun v1578 k0_hw104 => k0_hw104.2.2 (k0_off420_inb v1578 k0_hw104)

def k0_off421 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c103_i32 : BitVec 32 := 103#32
  let v1585 : BitVec 32 := Scalar.addi v38 c103_i32
  let v1586 : Index := Scalar.indexCast v1585
  ![v1586.toNat]
def k0_mult106 (v1587 : BitVec 32) : BitVec 32 :=
  v1587

def k0_off422 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off423 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1648_i32 : BitVec 32 := 1648#32
  let c0_i32_309 : BitVec 32 := 0#32
  ![v2.toNat, 1648, 0]
def k0_off424 (v1587 : BitVec 32) : Fin 2 → Nat :=
  let v1588 : BitVec 32 := v1587
  let c0_i32_310 : BitVec 32 := 0#32
  ![v1588.toNat, 0]

def k0_chk105 (v1587 : BitVec 32) : Prop :=
  (16 ∣ (k0_mult106 v1587).toNat) ∧
  (∀ a, (k0_off424 v1587) a + S16x1024.size a ≤ S851968x1024.size a) ∧
  (∀ (hinb : ∀ a, (k0_off424 v1587) a + S16x1024.size a ≤ S851968x1024.size a), (Rect.unit (s := S851968x1024) (k0_off424 v1587) S16x1024.size hinb).WholeWords (EltTy.packing .bf16))
theorem k0_mult106_dvd : ∀ (v1587 : BitVec 32) (k0_hw105 : k0_chk105 v1587), 16 ∣ (k0_mult106 v1587).toNat := fun v1587 k0_hw105 => k0_hw105.1
theorem k0_off424_inb : ∀ (v1587 : BitVec 32) (k0_hw105 : k0_chk105 v1587), ∀ a, (k0_off424 v1587) a + S16x1024.size a ≤ S851968x1024.size a := fun v1587 k0_hw105 => k0_hw105.2.1
theorem k0_off424_wordsbf16 : ∀ (v1587 : BitVec 32) (k0_hw105 : k0_chk105 v1587), (Rect.unit (s := S851968x1024) (k0_off424 v1587) S16x1024.size (k0_off424_inb v1587 k0_hw105)).WholeWords (EltTy.packing .bf16) := fun v1587 k0_hw105 => k0_hw105.2.2 (k0_off424_inb v1587 k0_hw105)

def k0_off425 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c104_i32 : BitVec 32 := 104#32
  let v1594 : BitVec 32 := Scalar.addi v38 c104_i32
  let v1595 : Index := Scalar.indexCast v1594
  ![v1595.toNat]
def k0_mult107 (v1596 : BitVec 32) : BitVec 32 :=
  v1596

def k0_off426 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off427 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1664_i32 : BitVec 32 := 1664#32
  let c0_i32_311 : BitVec 32 := 0#32
  ![v2.toNat, 1664, 0]
def k0_off428 (v1596 : BitVec 32) : Fin 2 → Nat :=
  let v1597 : BitVec 32 := v1596
  let c0_i32_312 : BitVec 32 := 0#32
  ![v1597.toNat, 0]

def k0_chk106 (v1596 : BitVec 32) : Prop :=
  (16 ∣ (k0_mult107 v1596).toNat) ∧
  (∀ a, (k0_off428 v1596) a + S16x1024.size a ≤ S851968x1024.size a) ∧
  (∀ (hinb : ∀ a, (k0_off428 v1596) a + S16x1024.size a ≤ S851968x1024.size a), (Rect.unit (s := S851968x1024) (k0_off428 v1596) S16x1024.size hinb).WholeWords (EltTy.packing .bf16))
theorem k0_mult107_dvd : ∀ (v1596 : BitVec 32) (k0_hw106 : k0_chk106 v1596), 16 ∣ (k0_mult107 v1596).toNat := fun v1596 k0_hw106 => k0_hw106.1
theorem k0_off428_inb : ∀ (v1596 : BitVec 32) (k0_hw106 : k0_chk106 v1596), ∀ a, (k0_off428 v1596) a + S16x1024.size a ≤ S851968x1024.size a := fun v1596 k0_hw106 => k0_hw106.2.1
theorem k0_off428_wordsbf16 : ∀ (v1596 : BitVec 32) (k0_hw106 : k0_chk106 v1596), (Rect.unit (s := S851968x1024) (k0_off428 v1596) S16x1024.size (k0_off428_inb v1596 k0_hw106)).WholeWords (EltTy.packing .bf16) := fun v1596 k0_hw106 => k0_hw106.2.2 (k0_off428_inb v1596 k0_hw106)

def k0_off429 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c105_i32 : BitVec 32 := 105#32
  let v1603 : BitVec 32 := Scalar.addi v38 c105_i32
  let v1604 : Index := Scalar.indexCast v1603
  ![v1604.toNat]
def k0_mult108 (v1605 : BitVec 32) : BitVec 32 :=
  v1605

def k0_off430 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off431 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1680_i32 : BitVec 32 := 1680#32
  let c0_i32_313 : BitVec 32 := 0#32
  ![v2.toNat, 1680, 0]
def k0_off432 (v1605 : BitVec 32) : Fin 2 → Nat :=
  let v1606 : BitVec 32 := v1605
  let c0_i32_314 : BitVec 32 := 0#32
  ![v1606.toNat, 0]

def k0_chk107 (v1605 : BitVec 32) : Prop :=
  (16 ∣ (k0_mult108 v1605).toNat) ∧
  (∀ a, (k0_off432 v1605) a + S16x1024.size a ≤ S851968x1024.size a) ∧
  (∀ (hinb : ∀ a, (k0_off432 v1605) a + S16x1024.size a ≤ S851968x1024.size a), (Rect.unit (s := S851968x1024) (k0_off432 v1605) S16x1024.size hinb).WholeWords (EltTy.packing .bf16))
theorem k0_mult108_dvd : ∀ (v1605 : BitVec 32) (k0_hw107 : k0_chk107 v1605), 16 ∣ (k0_mult108 v1605).toNat := fun v1605 k0_hw107 => k0_hw107.1
theorem k0_off432_inb : ∀ (v1605 : BitVec 32) (k0_hw107 : k0_chk107 v1605), ∀ a, (k0_off432 v1605) a + S16x1024.size a ≤ S851968x1024.size a := fun v1605 k0_hw107 => k0_hw107.2.1
theorem k0_off432_wordsbf16 : ∀ (v1605 : BitVec 32) (k0_hw107 : k0_chk107 v1605), (Rect.unit (s := S851968x1024) (k0_off432 v1605) S16x1024.size (k0_off432_inb v1605 k0_hw107)).WholeWords (EltTy.packing .bf16) := fun v1605 k0_hw107 => k0_hw107.2.2 (k0_off432_inb v1605 k0_hw107)

def k0_off433 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c106_i32 : BitVec 32 := 106#32
  let v1612 : BitVec 32 := Scalar.addi v38 c106_i32
  let v1613 : Index := Scalar.indexCast v1612
  ![v1613.toNat]
def k0_mult109 (v1614 : BitVec 32) : BitVec 32 :=
  v1614

def k0_off434 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off435 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1696_i32 : BitVec 32 := 1696#32
  let c0_i32_315 : BitVec 32 := 0#32
  ![v2.toNat, 1696, 0]
def k0_off436 (v1614 : BitVec 32) : Fin 2 → Nat :=
  let v1615 : BitVec 32 := v1614
  let c0_i32_316 : BitVec 32 := 0#32
  ![v1615.toNat, 0]

def k0_chk108 (v1614 : BitVec 32) : Prop :=
  (16 ∣ (k0_mult109 v1614).toNat) ∧
  (∀ a, (k0_off436 v1614) a + S16x1024.size a ≤ S851968x1024.size a) ∧
  (∀ (hinb : ∀ a, (k0_off436 v1614) a + S16x1024.size a ≤ S851968x1024.size a), (Rect.unit (s := S851968x1024) (k0_off436 v1614) S16x1024.size hinb).WholeWords (EltTy.packing .bf16))
theorem k0_mult109_dvd : ∀ (v1614 : BitVec 32) (k0_hw108 : k0_chk108 v1614), 16 ∣ (k0_mult109 v1614).toNat := fun v1614 k0_hw108 => k0_hw108.1
theorem k0_off436_inb : ∀ (v1614 : BitVec 32) (k0_hw108 : k0_chk108 v1614), ∀ a, (k0_off436 v1614) a + S16x1024.size a ≤ S851968x1024.size a := fun v1614 k0_hw108 => k0_hw108.2.1
theorem k0_off436_wordsbf16 : ∀ (v1614 : BitVec 32) (k0_hw108 : k0_chk108 v1614), (Rect.unit (s := S851968x1024) (k0_off436 v1614) S16x1024.size (k0_off436_inb v1614 k0_hw108)).WholeWords (EltTy.packing .bf16) := fun v1614 k0_hw108 => k0_hw108.2.2 (k0_off436_inb v1614 k0_hw108)

def k0_off437 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c107_i32 : BitVec 32 := 107#32
  let v1621 : BitVec 32 := Scalar.addi v38 c107_i32
  let v1622 : Index := Scalar.indexCast v1621
  ![v1622.toNat]
def k0_mult110 (v1623 : BitVec 32) : BitVec 32 :=
  v1623

def k0_off438 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off439 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1712_i32 : BitVec 32 := 1712#32
  let c0_i32_317 : BitVec 32 := 0#32
  ![v2.toNat, 1712, 0]
def k0_off440 (v1623 : BitVec 32) : Fin 2 → Nat :=
  let v1624 : BitVec 32 := v1623
  let c0_i32_318 : BitVec 32 := 0#32
  ![v1624.toNat, 0]

def k0_chk109 (v1623 : BitVec 32) : Prop :=
  (16 ∣ (k0_mult110 v1623).toNat) ∧
  (∀ a, (k0_off440 v1623) a + S16x1024.size a ≤ S851968x1024.size a) ∧
  (∀ (hinb : ∀ a, (k0_off440 v1623) a + S16x1024.size a ≤ S851968x1024.size a), (Rect.unit (s := S851968x1024) (k0_off440 v1623) S16x1024.size hinb).WholeWords (EltTy.packing .bf16))
theorem k0_mult110_dvd : ∀ (v1623 : BitVec 32) (k0_hw109 : k0_chk109 v1623), 16 ∣ (k0_mult110 v1623).toNat := fun v1623 k0_hw109 => k0_hw109.1
theorem k0_off440_inb : ∀ (v1623 : BitVec 32) (k0_hw109 : k0_chk109 v1623), ∀ a, (k0_off440 v1623) a + S16x1024.size a ≤ S851968x1024.size a := fun v1623 k0_hw109 => k0_hw109.2.1
theorem k0_off440_wordsbf16 : ∀ (v1623 : BitVec 32) (k0_hw109 : k0_chk109 v1623), (Rect.unit (s := S851968x1024) (k0_off440 v1623) S16x1024.size (k0_off440_inb v1623 k0_hw109)).WholeWords (EltTy.packing .bf16) := fun v1623 k0_hw109 => k0_hw109.2.2 (k0_off440_inb v1623 k0_hw109)

def k0_off441 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c108_i32 : BitVec 32 := 108#32
  let v1630 : BitVec 32 := Scalar.addi v38 c108_i32
  let v1631 : Index := Scalar.indexCast v1630
  ![v1631.toNat]
def k0_mult111 (v1632 : BitVec 32) : BitVec 32 :=
  v1632

def k0_off442 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off443 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1728_i32 : BitVec 32 := 1728#32
  let c0_i32_319 : BitVec 32 := 0#32
  ![v2.toNat, 1728, 0]
def k0_off444 (v1632 : BitVec 32) : Fin 2 → Nat :=
  let v1633 : BitVec 32 := v1632
  let c0_i32_320 : BitVec 32 := 0#32
  ![v1633.toNat, 0]

def k0_chk110 (v1632 : BitVec 32) : Prop :=
  (16 ∣ (k0_mult111 v1632).toNat) ∧
  (∀ a, (k0_off444 v1632) a + S16x1024.size a ≤ S851968x1024.size a) ∧
  (∀ (hinb : ∀ a, (k0_off444 v1632) a + S16x1024.size a ≤ S851968x1024.size a), (Rect.unit (s := S851968x1024) (k0_off444 v1632) S16x1024.size hinb).WholeWords (EltTy.packing .bf16))
theorem k0_mult111_dvd : ∀ (v1632 : BitVec 32) (k0_hw110 : k0_chk110 v1632), 16 ∣ (k0_mult111 v1632).toNat := fun v1632 k0_hw110 => k0_hw110.1
theorem k0_off444_inb : ∀ (v1632 : BitVec 32) (k0_hw110 : k0_chk110 v1632), ∀ a, (k0_off444 v1632) a + S16x1024.size a ≤ S851968x1024.size a := fun v1632 k0_hw110 => k0_hw110.2.1
theorem k0_off444_wordsbf16 : ∀ (v1632 : BitVec 32) (k0_hw110 : k0_chk110 v1632), (Rect.unit (s := S851968x1024) (k0_off444 v1632) S16x1024.size (k0_off444_inb v1632 k0_hw110)).WholeWords (EltTy.packing .bf16) := fun v1632 k0_hw110 => k0_hw110.2.2 (k0_off444_inb v1632 k0_hw110)

def k0_off445 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c109_i32 : BitVec 32 := 109#32
  let v1639 : BitVec 32 := Scalar.addi v38 c109_i32
  let v1640 : Index := Scalar.indexCast v1639
  ![v1640.toNat]
def k0_mult112 (v1641 : BitVec 32) : BitVec 32 :=
  v1641

def k0_off446 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off447 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1744_i32 : BitVec 32 := 1744#32
  let c0_i32_321 : BitVec 32 := 0#32
  ![v2.toNat, 1744, 0]
def k0_off448 (v1641 : BitVec 32) : Fin 2 → Nat :=
  let v1642 : BitVec 32 := v1641
  let c0_i32_322 : BitVec 32 := 0#32
  ![v1642.toNat, 0]

def k0_chk111 (v1641 : BitVec 32) : Prop :=
  (16 ∣ (k0_mult112 v1641).toNat) ∧
  (∀ a, (k0_off448 v1641) a + S16x1024.size a ≤ S851968x1024.size a) ∧
  (∀ (hinb : ∀ a, (k0_off448 v1641) a + S16x1024.size a ≤ S851968x1024.size a), (Rect.unit (s := S851968x1024) (k0_off448 v1641) S16x1024.size hinb).WholeWords (EltTy.packing .bf16))
theorem k0_mult112_dvd : ∀ (v1641 : BitVec 32) (k0_hw111 : k0_chk111 v1641), 16 ∣ (k0_mult112 v1641).toNat := fun v1641 k0_hw111 => k0_hw111.1
theorem k0_off448_inb : ∀ (v1641 : BitVec 32) (k0_hw111 : k0_chk111 v1641), ∀ a, (k0_off448 v1641) a + S16x1024.size a ≤ S851968x1024.size a := fun v1641 k0_hw111 => k0_hw111.2.1
theorem k0_off448_wordsbf16 : ∀ (v1641 : BitVec 32) (k0_hw111 : k0_chk111 v1641), (Rect.unit (s := S851968x1024) (k0_off448 v1641) S16x1024.size (k0_off448_inb v1641 k0_hw111)).WholeWords (EltTy.packing .bf16) := fun v1641 k0_hw111 => k0_hw111.2.2 (k0_off448_inb v1641 k0_hw111)

def k0_off449 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c110_i32 : BitVec 32 := 110#32
  let v1648 : BitVec 32 := Scalar.addi v38 c110_i32
  let v1649 : Index := Scalar.indexCast v1648
  ![v1649.toNat]
def k0_mult113 (v1650 : BitVec 32) : BitVec 32 :=
  v1650

def k0_off450 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off451 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1760_i32 : BitVec 32 := 1760#32
  let c0_i32_323 : BitVec 32 := 0#32
  ![v2.toNat, 1760, 0]
def k0_off452 (v1650 : BitVec 32) : Fin 2 → Nat :=
  let v1651 : BitVec 32 := v1650
  let c0_i32_324 : BitVec 32 := 0#32
  ![v1651.toNat, 0]

def k0_chk112 (v1650 : BitVec 32) : Prop :=
  (16 ∣ (k0_mult113 v1650).toNat) ∧
  (∀ a, (k0_off452 v1650) a + S16x1024.size a ≤ S851968x1024.size a) ∧
  (∀ (hinb : ∀ a, (k0_off452 v1650) a + S16x1024.size a ≤ S851968x1024.size a), (Rect.unit (s := S851968x1024) (k0_off452 v1650) S16x1024.size hinb).WholeWords (EltTy.packing .bf16))
theorem k0_mult113_dvd : ∀ (v1650 : BitVec 32) (k0_hw112 : k0_chk112 v1650), 16 ∣ (k0_mult113 v1650).toNat := fun v1650 k0_hw112 => k0_hw112.1
theorem k0_off452_inb : ∀ (v1650 : BitVec 32) (k0_hw112 : k0_chk112 v1650), ∀ a, (k0_off452 v1650) a + S16x1024.size a ≤ S851968x1024.size a := fun v1650 k0_hw112 => k0_hw112.2.1
theorem k0_off452_wordsbf16 : ∀ (v1650 : BitVec 32) (k0_hw112 : k0_chk112 v1650), (Rect.unit (s := S851968x1024) (k0_off452 v1650) S16x1024.size (k0_off452_inb v1650 k0_hw112)).WholeWords (EltTy.packing .bf16) := fun v1650 k0_hw112 => k0_hw112.2.2 (k0_off452_inb v1650 k0_hw112)

def k0_off453 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c111_i32 : BitVec 32 := 111#32
  let v1657 : BitVec 32 := Scalar.addi v38 c111_i32
  let v1658 : Index := Scalar.indexCast v1657
  ![v1658.toNat]
def k0_mult114 (v1659 : BitVec 32) : BitVec 32 :=
  v1659

def k0_off454 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off455 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1776_i32 : BitVec 32 := 1776#32
  let c0_i32_325 : BitVec 32 := 0#32
  ![v2.toNat, 1776, 0]
def k0_off456 (v1659 : BitVec 32) : Fin 2 → Nat :=
  let v1660 : BitVec 32 := v1659
  let c0_i32_326 : BitVec 32 := 0#32
  ![v1660.toNat, 0]

def k0_chk113 (v1659 : BitVec 32) : Prop :=
  (16 ∣ (k0_mult114 v1659).toNat) ∧
  (∀ a, (k0_off456 v1659) a + S16x1024.size a ≤ S851968x1024.size a) ∧
  (∀ (hinb : ∀ a, (k0_off456 v1659) a + S16x1024.size a ≤ S851968x1024.size a), (Rect.unit (s := S851968x1024) (k0_off456 v1659) S16x1024.size hinb).WholeWords (EltTy.packing .bf16))
theorem k0_mult114_dvd : ∀ (v1659 : BitVec 32) (k0_hw113 : k0_chk113 v1659), 16 ∣ (k0_mult114 v1659).toNat := fun v1659 k0_hw113 => k0_hw113.1
theorem k0_off456_inb : ∀ (v1659 : BitVec 32) (k0_hw113 : k0_chk113 v1659), ∀ a, (k0_off456 v1659) a + S16x1024.size a ≤ S851968x1024.size a := fun v1659 k0_hw113 => k0_hw113.2.1
theorem k0_off456_wordsbf16 : ∀ (v1659 : BitVec 32) (k0_hw113 : k0_chk113 v1659), (Rect.unit (s := S851968x1024) (k0_off456 v1659) S16x1024.size (k0_off456_inb v1659 k0_hw113)).WholeWords (EltTy.packing .bf16) := fun v1659 k0_hw113 => k0_hw113.2.2 (k0_off456_inb v1659 k0_hw113)

def k0_off457 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c112_i32_327 : BitVec 32 := 112#32
  let v1666 : BitVec 32 := Scalar.addi v38 c112_i32_327
  let v1667 : Index := Scalar.indexCast v1666
  ![v1667.toNat]
def k0_mult115 (v1668 : BitVec 32) : BitVec 32 :=
  v1668

def k0_off458 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off459 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1792_i32 : BitVec 32 := 1792#32
  let c0_i32_328 : BitVec 32 := 0#32
  ![v2.toNat, 1792, 0]
def k0_off460 (v1668 : BitVec 32) : Fin 2 → Nat :=
  let v1669 : BitVec 32 := v1668
  let c0_i32_329 : BitVec 32 := 0#32
  ![v1669.toNat, 0]

def k0_chk114 (v1668 : BitVec 32) : Prop :=
  (16 ∣ (k0_mult115 v1668).toNat) ∧
  (∀ a, (k0_off460 v1668) a + S16x1024.size a ≤ S851968x1024.size a) ∧
  (∀ (hinb : ∀ a, (k0_off460 v1668) a + S16x1024.size a ≤ S851968x1024.size a), (Rect.unit (s := S851968x1024) (k0_off460 v1668) S16x1024.size hinb).WholeWords (EltTy.packing .bf16))
theorem k0_mult115_dvd : ∀ (v1668 : BitVec 32) (k0_hw114 : k0_chk114 v1668), 16 ∣ (k0_mult115 v1668).toNat := fun v1668 k0_hw114 => k0_hw114.1
theorem k0_off460_inb : ∀ (v1668 : BitVec 32) (k0_hw114 : k0_chk114 v1668), ∀ a, (k0_off460 v1668) a + S16x1024.size a ≤ S851968x1024.size a := fun v1668 k0_hw114 => k0_hw114.2.1
theorem k0_off460_wordsbf16 : ∀ (v1668 : BitVec 32) (k0_hw114 : k0_chk114 v1668), (Rect.unit (s := S851968x1024) (k0_off460 v1668) S16x1024.size (k0_off460_inb v1668 k0_hw114)).WholeWords (EltTy.packing .bf16) := fun v1668 k0_hw114 => k0_hw114.2.2 (k0_off460_inb v1668 k0_hw114)

def k0_off461 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c113_i32 : BitVec 32 := 113#32
  let v1675 : BitVec 32 := Scalar.addi v38 c113_i32
  let v1676 : Index := Scalar.indexCast v1675
  ![v1676.toNat]
def k0_mult116 (v1677 : BitVec 32) : BitVec 32 :=
  v1677

def k0_off462 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off463 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1808_i32 : BitVec 32 := 1808#32
  let c0_i32_330 : BitVec 32 := 0#32
  ![v2.toNat, 1808, 0]
def k0_off464 (v1677 : BitVec 32) : Fin 2 → Nat :=
  let v1678 : BitVec 32 := v1677
  let c0_i32_331 : BitVec 32 := 0#32
  ![v1678.toNat, 0]

def k0_chk115 (v1677 : BitVec 32) : Prop :=
  (16 ∣ (k0_mult116 v1677).toNat) ∧
  (∀ a, (k0_off464 v1677) a + S16x1024.size a ≤ S851968x1024.size a) ∧
  (∀ (hinb : ∀ a, (k0_off464 v1677) a + S16x1024.size a ≤ S851968x1024.size a), (Rect.unit (s := S851968x1024) (k0_off464 v1677) S16x1024.size hinb).WholeWords (EltTy.packing .bf16))
theorem k0_mult116_dvd : ∀ (v1677 : BitVec 32) (k0_hw115 : k0_chk115 v1677), 16 ∣ (k0_mult116 v1677).toNat := fun v1677 k0_hw115 => k0_hw115.1
theorem k0_off464_inb : ∀ (v1677 : BitVec 32) (k0_hw115 : k0_chk115 v1677), ∀ a, (k0_off464 v1677) a + S16x1024.size a ≤ S851968x1024.size a := fun v1677 k0_hw115 => k0_hw115.2.1
theorem k0_off464_wordsbf16 : ∀ (v1677 : BitVec 32) (k0_hw115 : k0_chk115 v1677), (Rect.unit (s := S851968x1024) (k0_off464 v1677) S16x1024.size (k0_off464_inb v1677 k0_hw115)).WholeWords (EltTy.packing .bf16) := fun v1677 k0_hw115 => k0_hw115.2.2 (k0_off464_inb v1677 k0_hw115)

def k0_off465 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c114_i32 : BitVec 32 := 114#32
  let v1684 : BitVec 32 := Scalar.addi v38 c114_i32
  let v1685 : Index := Scalar.indexCast v1684
  ![v1685.toNat]
def k0_mult117 (v1686 : BitVec 32) : BitVec 32 :=
  v1686

def k0_off466 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off467 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1824_i32 : BitVec 32 := 1824#32
  let c0_i32_332 : BitVec 32 := 0#32
  ![v2.toNat, 1824, 0]
def k0_off468 (v1686 : BitVec 32) : Fin 2 → Nat :=
  let v1687 : BitVec 32 := v1686
  let c0_i32_333 : BitVec 32 := 0#32
  ![v1687.toNat, 0]

def k0_chk116 (v1686 : BitVec 32) : Prop :=
  (16 ∣ (k0_mult117 v1686).toNat) ∧
  (∀ a, (k0_off468 v1686) a + S16x1024.size a ≤ S851968x1024.size a) ∧
  (∀ (hinb : ∀ a, (k0_off468 v1686) a + S16x1024.size a ≤ S851968x1024.size a), (Rect.unit (s := S851968x1024) (k0_off468 v1686) S16x1024.size hinb).WholeWords (EltTy.packing .bf16))
theorem k0_mult117_dvd : ∀ (v1686 : BitVec 32) (k0_hw116 : k0_chk116 v1686), 16 ∣ (k0_mult117 v1686).toNat := fun v1686 k0_hw116 => k0_hw116.1
theorem k0_off468_inb : ∀ (v1686 : BitVec 32) (k0_hw116 : k0_chk116 v1686), ∀ a, (k0_off468 v1686) a + S16x1024.size a ≤ S851968x1024.size a := fun v1686 k0_hw116 => k0_hw116.2.1
theorem k0_off468_wordsbf16 : ∀ (v1686 : BitVec 32) (k0_hw116 : k0_chk116 v1686), (Rect.unit (s := S851968x1024) (k0_off468 v1686) S16x1024.size (k0_off468_inb v1686 k0_hw116)).WholeWords (EltTy.packing .bf16) := fun v1686 k0_hw116 => k0_hw116.2.2 (k0_off468_inb v1686 k0_hw116)

def k0_off469 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c115_i32 : BitVec 32 := 115#32
  let v1693 : BitVec 32 := Scalar.addi v38 c115_i32
  let v1694 : Index := Scalar.indexCast v1693
  ![v1694.toNat]
def k0_mult118 (v1695 : BitVec 32) : BitVec 32 :=
  v1695

def k0_off470 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off471 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1840_i32 : BitVec 32 := 1840#32
  let c0_i32_334 : BitVec 32 := 0#32
  ![v2.toNat, 1840, 0]
def k0_off472 (v1695 : BitVec 32) : Fin 2 → Nat :=
  let v1696 : BitVec 32 := v1695
  let c0_i32_335 : BitVec 32 := 0#32
  ![v1696.toNat, 0]

def k0_chk117 (v1695 : BitVec 32) : Prop :=
  (16 ∣ (k0_mult118 v1695).toNat) ∧
  (∀ a, (k0_off472 v1695) a + S16x1024.size a ≤ S851968x1024.size a) ∧
  (∀ (hinb : ∀ a, (k0_off472 v1695) a + S16x1024.size a ≤ S851968x1024.size a), (Rect.unit (s := S851968x1024) (k0_off472 v1695) S16x1024.size hinb).WholeWords (EltTy.packing .bf16))
theorem k0_mult118_dvd : ∀ (v1695 : BitVec 32) (k0_hw117 : k0_chk117 v1695), 16 ∣ (k0_mult118 v1695).toNat := fun v1695 k0_hw117 => k0_hw117.1
theorem k0_off472_inb : ∀ (v1695 : BitVec 32) (k0_hw117 : k0_chk117 v1695), ∀ a, (k0_off472 v1695) a + S16x1024.size a ≤ S851968x1024.size a := fun v1695 k0_hw117 => k0_hw117.2.1
theorem k0_off472_wordsbf16 : ∀ (v1695 : BitVec 32) (k0_hw117 : k0_chk117 v1695), (Rect.unit (s := S851968x1024) (k0_off472 v1695) S16x1024.size (k0_off472_inb v1695 k0_hw117)).WholeWords (EltTy.packing .bf16) := fun v1695 k0_hw117 => k0_hw117.2.2 (k0_off472_inb v1695 k0_hw117)

def k0_off473 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c116_i32 : BitVec 32 := 116#32
  let v1702 : BitVec 32 := Scalar.addi v38 c116_i32
  let v1703 : Index := Scalar.indexCast v1702
  ![v1703.toNat]
def k0_mult119 (v1704 : BitVec 32) : BitVec 32 :=
  v1704

def k0_off474 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off475 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1856_i32 : BitVec 32 := 1856#32
  let c0_i32_336 : BitVec 32 := 0#32
  ![v2.toNat, 1856, 0]
def k0_off476 (v1704 : BitVec 32) : Fin 2 → Nat :=
  let v1705 : BitVec 32 := v1704
  let c0_i32_337 : BitVec 32 := 0#32
  ![v1705.toNat, 0]

def k0_chk118 (v1704 : BitVec 32) : Prop :=
  (16 ∣ (k0_mult119 v1704).toNat) ∧
  (∀ a, (k0_off476 v1704) a + S16x1024.size a ≤ S851968x1024.size a) ∧
  (∀ (hinb : ∀ a, (k0_off476 v1704) a + S16x1024.size a ≤ S851968x1024.size a), (Rect.unit (s := S851968x1024) (k0_off476 v1704) S16x1024.size hinb).WholeWords (EltTy.packing .bf16))
theorem k0_mult119_dvd : ∀ (v1704 : BitVec 32) (k0_hw118 : k0_chk118 v1704), 16 ∣ (k0_mult119 v1704).toNat := fun v1704 k0_hw118 => k0_hw118.1
theorem k0_off476_inb : ∀ (v1704 : BitVec 32) (k0_hw118 : k0_chk118 v1704), ∀ a, (k0_off476 v1704) a + S16x1024.size a ≤ S851968x1024.size a := fun v1704 k0_hw118 => k0_hw118.2.1
theorem k0_off476_wordsbf16 : ∀ (v1704 : BitVec 32) (k0_hw118 : k0_chk118 v1704), (Rect.unit (s := S851968x1024) (k0_off476 v1704) S16x1024.size (k0_off476_inb v1704 k0_hw118)).WholeWords (EltTy.packing .bf16) := fun v1704 k0_hw118 => k0_hw118.2.2 (k0_off476_inb v1704 k0_hw118)

def k0_off477 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c117_i32 : BitVec 32 := 117#32
  let v1711 : BitVec 32 := Scalar.addi v38 c117_i32
  let v1712 : Index := Scalar.indexCast v1711
  ![v1712.toNat]
def k0_mult120 (v1713 : BitVec 32) : BitVec 32 :=
  v1713

def k0_off478 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off479 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1872_i32 : BitVec 32 := 1872#32
  let c0_i32_338 : BitVec 32 := 0#32
  ![v2.toNat, 1872, 0]
def k0_off480 (v1713 : BitVec 32) : Fin 2 → Nat :=
  let v1714 : BitVec 32 := v1713
  let c0_i32_339 : BitVec 32 := 0#32
  ![v1714.toNat, 0]

def k0_chk119 (v1713 : BitVec 32) : Prop :=
  (16 ∣ (k0_mult120 v1713).toNat) ∧
  (∀ a, (k0_off480 v1713) a + S16x1024.size a ≤ S851968x1024.size a) ∧
  (∀ (hinb : ∀ a, (k0_off480 v1713) a + S16x1024.size a ≤ S851968x1024.size a), (Rect.unit (s := S851968x1024) (k0_off480 v1713) S16x1024.size hinb).WholeWords (EltTy.packing .bf16))
theorem k0_mult120_dvd : ∀ (v1713 : BitVec 32) (k0_hw119 : k0_chk119 v1713), 16 ∣ (k0_mult120 v1713).toNat := fun v1713 k0_hw119 => k0_hw119.1
theorem k0_off480_inb : ∀ (v1713 : BitVec 32) (k0_hw119 : k0_chk119 v1713), ∀ a, (k0_off480 v1713) a + S16x1024.size a ≤ S851968x1024.size a := fun v1713 k0_hw119 => k0_hw119.2.1
theorem k0_off480_wordsbf16 : ∀ (v1713 : BitVec 32) (k0_hw119 : k0_chk119 v1713), (Rect.unit (s := S851968x1024) (k0_off480 v1713) S16x1024.size (k0_off480_inb v1713 k0_hw119)).WholeWords (EltTy.packing .bf16) := fun v1713 k0_hw119 => k0_hw119.2.2 (k0_off480_inb v1713 k0_hw119)

def k0_off481 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c118_i32 : BitVec 32 := 118#32
  let v1720 : BitVec 32 := Scalar.addi v38 c118_i32
  let v1721 : Index := Scalar.indexCast v1720
  ![v1721.toNat]
def k0_mult121 (v1722 : BitVec 32) : BitVec 32 :=
  v1722

def k0_off482 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off483 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1888_i32 : BitVec 32 := 1888#32
  let c0_i32_340 : BitVec 32 := 0#32
  ![v2.toNat, 1888, 0]
def k0_off484 (v1722 : BitVec 32) : Fin 2 → Nat :=
  let v1723 : BitVec 32 := v1722
  let c0_i32_341 : BitVec 32 := 0#32
  ![v1723.toNat, 0]

def k0_chk120 (v1722 : BitVec 32) : Prop :=
  (16 ∣ (k0_mult121 v1722).toNat) ∧
  (∀ a, (k0_off484 v1722) a + S16x1024.size a ≤ S851968x1024.size a) ∧
  (∀ (hinb : ∀ a, (k0_off484 v1722) a + S16x1024.size a ≤ S851968x1024.size a), (Rect.unit (s := S851968x1024) (k0_off484 v1722) S16x1024.size hinb).WholeWords (EltTy.packing .bf16))
theorem k0_mult121_dvd : ∀ (v1722 : BitVec 32) (k0_hw120 : k0_chk120 v1722), 16 ∣ (k0_mult121 v1722).toNat := fun v1722 k0_hw120 => k0_hw120.1
theorem k0_off484_inb : ∀ (v1722 : BitVec 32) (k0_hw120 : k0_chk120 v1722), ∀ a, (k0_off484 v1722) a + S16x1024.size a ≤ S851968x1024.size a := fun v1722 k0_hw120 => k0_hw120.2.1
theorem k0_off484_wordsbf16 : ∀ (v1722 : BitVec 32) (k0_hw120 : k0_chk120 v1722), (Rect.unit (s := S851968x1024) (k0_off484 v1722) S16x1024.size (k0_off484_inb v1722 k0_hw120)).WholeWords (EltTy.packing .bf16) := fun v1722 k0_hw120 => k0_hw120.2.2 (k0_off484_inb v1722 k0_hw120)

def k0_off485 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c119_i32 : BitVec 32 := 119#32
  let v1729 : BitVec 32 := Scalar.addi v38 c119_i32
  let v1730 : Index := Scalar.indexCast v1729
  ![v1730.toNat]
def k0_mult122 (v1731 : BitVec 32) : BitVec 32 :=
  v1731

def k0_off486 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off487 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1904_i32 : BitVec 32 := 1904#32
  let c0_i32_342 : BitVec 32 := 0#32
  ![v2.toNat, 1904, 0]
def k0_off488 (v1731 : BitVec 32) : Fin 2 → Nat :=
  let v1732 : BitVec 32 := v1731
  let c0_i32_343 : BitVec 32 := 0#32
  ![v1732.toNat, 0]

def k0_chk121 (v1731 : BitVec 32) : Prop :=
  (16 ∣ (k0_mult122 v1731).toNat) ∧
  (∀ a, (k0_off488 v1731) a + S16x1024.size a ≤ S851968x1024.size a) ∧
  (∀ (hinb : ∀ a, (k0_off488 v1731) a + S16x1024.size a ≤ S851968x1024.size a), (Rect.unit (s := S851968x1024) (k0_off488 v1731) S16x1024.size hinb).WholeWords (EltTy.packing .bf16))
theorem k0_mult122_dvd : ∀ (v1731 : BitVec 32) (k0_hw121 : k0_chk121 v1731), 16 ∣ (k0_mult122 v1731).toNat := fun v1731 k0_hw121 => k0_hw121.1
theorem k0_off488_inb : ∀ (v1731 : BitVec 32) (k0_hw121 : k0_chk121 v1731), ∀ a, (k0_off488 v1731) a + S16x1024.size a ≤ S851968x1024.size a := fun v1731 k0_hw121 => k0_hw121.2.1
theorem k0_off488_wordsbf16 : ∀ (v1731 : BitVec 32) (k0_hw121 : k0_chk121 v1731), (Rect.unit (s := S851968x1024) (k0_off488 v1731) S16x1024.size (k0_off488_inb v1731 k0_hw121)).WholeWords (EltTy.packing .bf16) := fun v1731 k0_hw121 => k0_hw121.2.2 (k0_off488_inb v1731 k0_hw121)

def k0_off489 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c120_i32 : BitVec 32 := 120#32
  let v1738 : BitVec 32 := Scalar.addi v38 c120_i32
  let v1739 : Index := Scalar.indexCast v1738
  ![v1739.toNat]
def k0_mult123 (v1740 : BitVec 32) : BitVec 32 :=
  v1740

def k0_off490 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off491 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1920_i32 : BitVec 32 := 1920#32
  let c0_i32_344 : BitVec 32 := 0#32
  ![v2.toNat, 1920, 0]
def k0_off492 (v1740 : BitVec 32) : Fin 2 → Nat :=
  let v1741 : BitVec 32 := v1740
  let c0_i32_345 : BitVec 32 := 0#32
  ![v1741.toNat, 0]

def k0_chk122 (v1740 : BitVec 32) : Prop :=
  (16 ∣ (k0_mult123 v1740).toNat) ∧
  (∀ a, (k0_off492 v1740) a + S16x1024.size a ≤ S851968x1024.size a) ∧
  (∀ (hinb : ∀ a, (k0_off492 v1740) a + S16x1024.size a ≤ S851968x1024.size a), (Rect.unit (s := S851968x1024) (k0_off492 v1740) S16x1024.size hinb).WholeWords (EltTy.packing .bf16))
theorem k0_mult123_dvd : ∀ (v1740 : BitVec 32) (k0_hw122 : k0_chk122 v1740), 16 ∣ (k0_mult123 v1740).toNat := fun v1740 k0_hw122 => k0_hw122.1
theorem k0_off492_inb : ∀ (v1740 : BitVec 32) (k0_hw122 : k0_chk122 v1740), ∀ a, (k0_off492 v1740) a + S16x1024.size a ≤ S851968x1024.size a := fun v1740 k0_hw122 => k0_hw122.2.1
theorem k0_off492_wordsbf16 : ∀ (v1740 : BitVec 32) (k0_hw122 : k0_chk122 v1740), (Rect.unit (s := S851968x1024) (k0_off492 v1740) S16x1024.size (k0_off492_inb v1740 k0_hw122)).WholeWords (EltTy.packing .bf16) := fun v1740 k0_hw122 => k0_hw122.2.2 (k0_off492_inb v1740 k0_hw122)

def k0_off493 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c121_i32 : BitVec 32 := 121#32
  let v1747 : BitVec 32 := Scalar.addi v38 c121_i32
  let v1748 : Index := Scalar.indexCast v1747
  ![v1748.toNat]
def k0_mult124 (v1749 : BitVec 32) : BitVec 32 :=
  v1749

def k0_off494 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off495 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1936_i32 : BitVec 32 := 1936#32
  let c0_i32_346 : BitVec 32 := 0#32
  ![v2.toNat, 1936, 0]
def k0_off496 (v1749 : BitVec 32) : Fin 2 → Nat :=
  let v1750 : BitVec 32 := v1749
  let c0_i32_347 : BitVec 32 := 0#32
  ![v1750.toNat, 0]

def k0_chk123 (v1749 : BitVec 32) : Prop :=
  (16 ∣ (k0_mult124 v1749).toNat) ∧
  (∀ a, (k0_off496 v1749) a + S16x1024.size a ≤ S851968x1024.size a) ∧
  (∀ (hinb : ∀ a, (k0_off496 v1749) a + S16x1024.size a ≤ S851968x1024.size a), (Rect.unit (s := S851968x1024) (k0_off496 v1749) S16x1024.size hinb).WholeWords (EltTy.packing .bf16))
theorem k0_mult124_dvd : ∀ (v1749 : BitVec 32) (k0_hw123 : k0_chk123 v1749), 16 ∣ (k0_mult124 v1749).toNat := fun v1749 k0_hw123 => k0_hw123.1
theorem k0_off496_inb : ∀ (v1749 : BitVec 32) (k0_hw123 : k0_chk123 v1749), ∀ a, (k0_off496 v1749) a + S16x1024.size a ≤ S851968x1024.size a := fun v1749 k0_hw123 => k0_hw123.2.1
theorem k0_off496_wordsbf16 : ∀ (v1749 : BitVec 32) (k0_hw123 : k0_chk123 v1749), (Rect.unit (s := S851968x1024) (k0_off496 v1749) S16x1024.size (k0_off496_inb v1749 k0_hw123)).WholeWords (EltTy.packing .bf16) := fun v1749 k0_hw123 => k0_hw123.2.2 (k0_off496_inb v1749 k0_hw123)

def k0_off497 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c122_i32 : BitVec 32 := 122#32
  let v1756 : BitVec 32 := Scalar.addi v38 c122_i32
  let v1757 : Index := Scalar.indexCast v1756
  ![v1757.toNat]
def k0_mult125 (v1758 : BitVec 32) : BitVec 32 :=
  v1758

def k0_off498 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off499 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1952_i32 : BitVec 32 := 1952#32
  let c0_i32_348 : BitVec 32 := 0#32
  ![v2.toNat, 1952, 0]
def k0_off500 (v1758 : BitVec 32) : Fin 2 → Nat :=
  let v1759 : BitVec 32 := v1758
  let c0_i32_349 : BitVec 32 := 0#32
  ![v1759.toNat, 0]

def k0_chk124 (v1758 : BitVec 32) : Prop :=
  (16 ∣ (k0_mult125 v1758).toNat) ∧
  (∀ a, (k0_off500 v1758) a + S16x1024.size a ≤ S851968x1024.size a) ∧
  (∀ (hinb : ∀ a, (k0_off500 v1758) a + S16x1024.size a ≤ S851968x1024.size a), (Rect.unit (s := S851968x1024) (k0_off500 v1758) S16x1024.size hinb).WholeWords (EltTy.packing .bf16))
theorem k0_mult125_dvd : ∀ (v1758 : BitVec 32) (k0_hw124 : k0_chk124 v1758), 16 ∣ (k0_mult125 v1758).toNat := fun v1758 k0_hw124 => k0_hw124.1
theorem k0_off500_inb : ∀ (v1758 : BitVec 32) (k0_hw124 : k0_chk124 v1758), ∀ a, (k0_off500 v1758) a + S16x1024.size a ≤ S851968x1024.size a := fun v1758 k0_hw124 => k0_hw124.2.1
theorem k0_off500_wordsbf16 : ∀ (v1758 : BitVec 32) (k0_hw124 : k0_chk124 v1758), (Rect.unit (s := S851968x1024) (k0_off500 v1758) S16x1024.size (k0_off500_inb v1758 k0_hw124)).WholeWords (EltTy.packing .bf16) := fun v1758 k0_hw124 => k0_hw124.2.2 (k0_off500_inb v1758 k0_hw124)

def k0_off501 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c123_i32 : BitVec 32 := 123#32
  let v1765 : BitVec 32 := Scalar.addi v38 c123_i32
  let v1766 : Index := Scalar.indexCast v1765
  ![v1766.toNat]
def k0_mult126 (v1767 : BitVec 32) : BitVec 32 :=
  v1767

def k0_off502 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off503 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1968_i32 : BitVec 32 := 1968#32
  let c0_i32_350 : BitVec 32 := 0#32
  ![v2.toNat, 1968, 0]
def k0_off504 (v1767 : BitVec 32) : Fin 2 → Nat :=
  let v1768 : BitVec 32 := v1767
  let c0_i32_351 : BitVec 32 := 0#32
  ![v1768.toNat, 0]

def k0_chk125 (v1767 : BitVec 32) : Prop :=
  (16 ∣ (k0_mult126 v1767).toNat) ∧
  (∀ a, (k0_off504 v1767) a + S16x1024.size a ≤ S851968x1024.size a) ∧
  (∀ (hinb : ∀ a, (k0_off504 v1767) a + S16x1024.size a ≤ S851968x1024.size a), (Rect.unit (s := S851968x1024) (k0_off504 v1767) S16x1024.size hinb).WholeWords (EltTy.packing .bf16))
theorem k0_mult126_dvd : ∀ (v1767 : BitVec 32) (k0_hw125 : k0_chk125 v1767), 16 ∣ (k0_mult126 v1767).toNat := fun v1767 k0_hw125 => k0_hw125.1
theorem k0_off504_inb : ∀ (v1767 : BitVec 32) (k0_hw125 : k0_chk125 v1767), ∀ a, (k0_off504 v1767) a + S16x1024.size a ≤ S851968x1024.size a := fun v1767 k0_hw125 => k0_hw125.2.1
theorem k0_off504_wordsbf16 : ∀ (v1767 : BitVec 32) (k0_hw125 : k0_chk125 v1767), (Rect.unit (s := S851968x1024) (k0_off504 v1767) S16x1024.size (k0_off504_inb v1767 k0_hw125)).WholeWords (EltTy.packing .bf16) := fun v1767 k0_hw125 => k0_hw125.2.2 (k0_off504_inb v1767 k0_hw125)

def k0_off505 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c124_i32 : BitVec 32 := 124#32
  let v1774 : BitVec 32 := Scalar.addi v38 c124_i32
  let v1775 : Index := Scalar.indexCast v1774
  ![v1775.toNat]
def k0_mult127 (v1776 : BitVec 32) : BitVec 32 :=
  v1776

def k0_off506 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off507 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1984_i32 : BitVec 32 := 1984#32
  let c0_i32_352 : BitVec 32 := 0#32
  ![v2.toNat, 1984, 0]
def k0_off508 (v1776 : BitVec 32) : Fin 2 → Nat :=
  let v1777 : BitVec 32 := v1776
  let c0_i32_353 : BitVec 32 := 0#32
  ![v1777.toNat, 0]

def k0_chk126 (v1776 : BitVec 32) : Prop :=
  (16 ∣ (k0_mult127 v1776).toNat) ∧
  (∀ a, (k0_off508 v1776) a + S16x1024.size a ≤ S851968x1024.size a) ∧
  (∀ (hinb : ∀ a, (k0_off508 v1776) a + S16x1024.size a ≤ S851968x1024.size a), (Rect.unit (s := S851968x1024) (k0_off508 v1776) S16x1024.size hinb).WholeWords (EltTy.packing .bf16))
theorem k0_mult127_dvd : ∀ (v1776 : BitVec 32) (k0_hw126 : k0_chk126 v1776), 16 ∣ (k0_mult127 v1776).toNat := fun v1776 k0_hw126 => k0_hw126.1
theorem k0_off508_inb : ∀ (v1776 : BitVec 32) (k0_hw126 : k0_chk126 v1776), ∀ a, (k0_off508 v1776) a + S16x1024.size a ≤ S851968x1024.size a := fun v1776 k0_hw126 => k0_hw126.2.1
theorem k0_off508_wordsbf16 : ∀ (v1776 : BitVec 32) (k0_hw126 : k0_chk126 v1776), (Rect.unit (s := S851968x1024) (k0_off508 v1776) S16x1024.size (k0_off508_inb v1776 k0_hw126)).WholeWords (EltTy.packing .bf16) := fun v1776 k0_hw126 => k0_hw126.2.2 (k0_off508_inb v1776 k0_hw126)

def k0_off509 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c125_i32 : BitVec 32 := 125#32
  let v1783 : BitVec 32 := Scalar.addi v38 c125_i32
  let v1784 : Index := Scalar.indexCast v1783
  ![v1784.toNat]
def k0_mult128 (v1785 : BitVec 32) : BitVec 32 :=
  v1785

def k0_off510 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off511 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2000_i32 : BitVec 32 := 2000#32
  let c0_i32_354 : BitVec 32 := 0#32
  ![v2.toNat, 2000, 0]
def k0_off512 (v1785 : BitVec 32) : Fin 2 → Nat :=
  let v1786 : BitVec 32 := v1785
  let c0_i32_355 : BitVec 32 := 0#32
  ![v1786.toNat, 0]

def k0_chk127 (v1785 : BitVec 32) : Prop :=
  (16 ∣ (k0_mult128 v1785).toNat) ∧
  (∀ a, (k0_off512 v1785) a + S16x1024.size a ≤ S851968x1024.size a) ∧
  (∀ (hinb : ∀ a, (k0_off512 v1785) a + S16x1024.size a ≤ S851968x1024.size a), (Rect.unit (s := S851968x1024) (k0_off512 v1785) S16x1024.size hinb).WholeWords (EltTy.packing .bf16))
theorem k0_mult128_dvd : ∀ (v1785 : BitVec 32) (k0_hw127 : k0_chk127 v1785), 16 ∣ (k0_mult128 v1785).toNat := fun v1785 k0_hw127 => k0_hw127.1
theorem k0_off512_inb : ∀ (v1785 : BitVec 32) (k0_hw127 : k0_chk127 v1785), ∀ a, (k0_off512 v1785) a + S16x1024.size a ≤ S851968x1024.size a := fun v1785 k0_hw127 => k0_hw127.2.1
theorem k0_off512_wordsbf16 : ∀ (v1785 : BitVec 32) (k0_hw127 : k0_chk127 v1785), (Rect.unit (s := S851968x1024) (k0_off512 v1785) S16x1024.size (k0_off512_inb v1785 k0_hw127)).WholeWords (EltTy.packing .bf16) := fun v1785 k0_hw127 => k0_hw127.2.2 (k0_off512_inb v1785 k0_hw127)

def k0_off513 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c126_i32 : BitVec 32 := 126#32
  let v1792 : BitVec 32 := Scalar.addi v38 c126_i32
  let v1793 : Index := Scalar.indexCast v1792
  ![v1793.toNat]
def k0_mult129 (v1794 : BitVec 32) : BitVec 32 :=
  v1794

def k0_off514 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off515 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2016_i32 : BitVec 32 := 2016#32
  let c0_i32_356 : BitVec 32 := 0#32
  ![v2.toNat, 2016, 0]
def k0_off516 (v1794 : BitVec 32) : Fin 2 → Nat :=
  let v1795 : BitVec 32 := v1794
  let c0_i32_357 : BitVec 32 := 0#32
  ![v1795.toNat, 0]

def k0_chk128 (v1794 : BitVec 32) : Prop :=
  (16 ∣ (k0_mult129 v1794).toNat) ∧
  (∀ a, (k0_off516 v1794) a + S16x1024.size a ≤ S851968x1024.size a) ∧
  (∀ (hinb : ∀ a, (k0_off516 v1794) a + S16x1024.size a ≤ S851968x1024.size a), (Rect.unit (s := S851968x1024) (k0_off516 v1794) S16x1024.size hinb).WholeWords (EltTy.packing .bf16))
theorem k0_mult129_dvd : ∀ (v1794 : BitVec 32) (k0_hw128 : k0_chk128 v1794), 16 ∣ (k0_mult129 v1794).toNat := fun v1794 k0_hw128 => k0_hw128.1
theorem k0_off516_inb : ∀ (v1794 : BitVec 32) (k0_hw128 : k0_chk128 v1794), ∀ a, (k0_off516 v1794) a + S16x1024.size a ≤ S851968x1024.size a := fun v1794 k0_hw128 => k0_hw128.2.1
theorem k0_off516_wordsbf16 : ∀ (v1794 : BitVec 32) (k0_hw128 : k0_chk128 v1794), (Rect.unit (s := S851968x1024) (k0_off516 v1794) S16x1024.size (k0_off516_inb v1794 k0_hw128)).WholeWords (EltTy.packing .bf16) := fun v1794 k0_hw128 => k0_hw128.2.2 (k0_off516_inb v1794 k0_hw128)

def k0_off517 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c127_i32 : BitVec 32 := 127#32
  let v1801 : BitVec 32 := Scalar.addi v38 c127_i32
  let v1802 : Index := Scalar.indexCast v1801
  ![v1802.toNat]
def k0_mult130 (v1803 : BitVec 32) : BitVec 32 :=
  v1803

def k0_off518 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off519 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2032_i32 : BitVec 32 := 2032#32
  let c0_i32_358 : BitVec 32 := 0#32
  ![v2.toNat, 2032, 0]
def k0_off520 (v1803 : BitVec 32) : Fin 2 → Nat :=
  let v1804 : BitVec 32 := v1803
  let c0_i32_359 : BitVec 32 := 0#32
  ![v1804.toNat, 0]

def k0_chk129 (v1803 : BitVec 32) : Prop :=
  (16 ∣ (k0_mult130 v1803).toNat) ∧
  (∀ a, (k0_off520 v1803) a + S16x1024.size a ≤ S851968x1024.size a) ∧
  (∀ (hinb : ∀ a, (k0_off520 v1803) a + S16x1024.size a ≤ S851968x1024.size a), (Rect.unit (s := S851968x1024) (k0_off520 v1803) S16x1024.size hinb).WholeWords (EltTy.packing .bf16))
theorem k0_mult130_dvd : ∀ (v1803 : BitVec 32) (k0_hw129 : k0_chk129 v1803), 16 ∣ (k0_mult130 v1803).toNat := fun v1803 k0_hw129 => k0_hw129.1
theorem k0_off520_inb : ∀ (v1803 : BitVec 32) (k0_hw129 : k0_chk129 v1803), ∀ a, (k0_off520 v1803) a + S16x1024.size a ≤ S851968x1024.size a := fun v1803 k0_hw129 => k0_hw129.2.1
theorem k0_off520_wordsbf16 : ∀ (v1803 : BitVec 32) (k0_hw129 : k0_chk129 v1803), (Rect.unit (s := S851968x1024) (k0_off520 v1803) S16x1024.size (k0_off520_inb v1803 k0_hw129)).WholeWords (EltTy.packing .bf16) := fun v1803 k0_hw129 => k0_hw129.2.2 (k0_off520_inb v1803 k0_hw129)

def k0_off521 (i : grid0.Coords) : Fin 3 → Nat :=
  let arg0 : BitVec 32 := BitVec.ofNat 32 (i 0).val
  let c3_i32 : BitVec 32 := 3#32
  let v0 : BitVec 32 := Scalar.remsi arg0 c3_i32
  let v2115 : Index := Scalar.indexCast v0
  let c2048 : Index := 2048#32
  let c0_396 : Index := 0#32
  ![v2115.toNat, 2048, 0]
def k0_off522 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c128_i32_398 : BitVec 32 := 128#32
  let v2120 : BitVec 32 := Scalar.addi v38 c128_i32_398
  let v2121 : Index := Scalar.indexCast v2120
  ![v2121.toNat]
def k0_mult131 (v2122 : BitVec 32) : BitVec 32 :=
  v2122

def k0_off523 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off524 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2048_i32 : BitVec 32 := 2048#32
  let c0_i32_399 : BitVec 32 := 0#32
  ![v2.toNat, 2048, 0]
def k0_off525 (v2122 : BitVec 32) : Fin 2 → Nat :=
  let v2123 : BitVec 32 := v2122
  let c0_i32_400 : BitVec 32 := 0#32
  ![v2123.toNat, 0]

def k0_chk130 (v2122 : BitVec 32) : Prop :=
  (16 ∣ (k0_mult131 v2122).toNat) ∧
  (∀ a, (k0_off525 v2122) a + S16x1024.size a ≤ S851968x1024.size a) ∧
  (∀ (hinb : ∀ a, (k0_off525 v2122) a + S16x1024.size a ≤ S851968x1024.size a), (Rect.unit (s := S851968x1024) (k0_off525 v2122) S16x1024.size hinb).WholeWords (EltTy.packing .bf16))
theorem k0_mult131_dvd : ∀ (v2122 : BitVec 32) (k0_hw130 : k0_chk130 v2122), 16 ∣ (k0_mult131 v2122).toNat := fun v2122 k0_hw130 => k0_hw130.1
theorem k0_off525_inb : ∀ (v2122 : BitVec 32) (k0_hw130 : k0_chk130 v2122), ∀ a, (k0_off525 v2122) a + S16x1024.size a ≤ S851968x1024.size a := fun v2122 k0_hw130 => k0_hw130.2.1
theorem k0_off525_wordsbf16 : ∀ (v2122 : BitVec 32) (k0_hw130 : k0_chk130 v2122), (Rect.unit (s := S851968x1024) (k0_off525 v2122) S16x1024.size (k0_off525_inb v2122 k0_hw130)).WholeWords (EltTy.packing .bf16) := fun v2122 k0_hw130 => k0_hw130.2.2 (k0_off525_inb v2122 k0_hw130)

def k0_off526 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c129_i32 : BitVec 32 := 129#32
  let v2129 : BitVec 32 := Scalar.addi v38 c129_i32
  let v2130 : Index := Scalar.indexCast v2129
  ![v2130.toNat]
def k0_mult132 (v2131 : BitVec 32) : BitVec 32 :=
  v2131

def k0_off527 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off528 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2064_i32 : BitVec 32 := 2064#32
  let c0_i32_401 : BitVec 32 := 0#32
  ![v2.toNat, 2064, 0]
def k0_off529 (v2131 : BitVec 32) : Fin 2 → Nat :=
  let v2132 : BitVec 32 := v2131
  let c0_i32_402 : BitVec 32 := 0#32
  ![v2132.toNat, 0]

def k0_chk131 (v2131 : BitVec 32) : Prop :=
  (16 ∣ (k0_mult132 v2131).toNat) ∧
  (∀ a, (k0_off529 v2131) a + S16x1024.size a ≤ S851968x1024.size a) ∧
  (∀ (hinb : ∀ a, (k0_off529 v2131) a + S16x1024.size a ≤ S851968x1024.size a), (Rect.unit (s := S851968x1024) (k0_off529 v2131) S16x1024.size hinb).WholeWords (EltTy.packing .bf16))
theorem k0_mult132_dvd : ∀ (v2131 : BitVec 32) (k0_hw131 : k0_chk131 v2131), 16 ∣ (k0_mult132 v2131).toNat := fun v2131 k0_hw131 => k0_hw131.1
theorem k0_off529_inb : ∀ (v2131 : BitVec 32) (k0_hw131 : k0_chk131 v2131), ∀ a, (k0_off529 v2131) a + S16x1024.size a ≤ S851968x1024.size a := fun v2131 k0_hw131 => k0_hw131.2.1
theorem k0_off529_wordsbf16 : ∀ (v2131 : BitVec 32) (k0_hw131 : k0_chk131 v2131), (Rect.unit (s := S851968x1024) (k0_off529 v2131) S16x1024.size (k0_off529_inb v2131 k0_hw131)).WholeWords (EltTy.packing .bf16) := fun v2131 k0_hw131 => k0_hw131.2.2 (k0_off529_inb v2131 k0_hw131)

def k0_off530 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c130_i32 : BitVec 32 := 130#32
  let v2138 : BitVec 32 := Scalar.addi v38 c130_i32
  let v2139 : Index := Scalar.indexCast v2138
  ![v2139.toNat]
def k0_mult133 (v2140 : BitVec 32) : BitVec 32 :=
  v2140

def k0_off531 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off532 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2080_i32 : BitVec 32 := 2080#32
  let c0_i32_403 : BitVec 32 := 0#32
  ![v2.toNat, 2080, 0]
def k0_off533 (v2140 : BitVec 32) : Fin 2 → Nat :=
  let v2141 : BitVec 32 := v2140
  let c0_i32_404 : BitVec 32 := 0#32
  ![v2141.toNat, 0]

def k0_chk132 (v2140 : BitVec 32) : Prop :=
  (16 ∣ (k0_mult133 v2140).toNat) ∧
  (∀ a, (k0_off533 v2140) a + S16x1024.size a ≤ S851968x1024.size a) ∧
  (∀ (hinb : ∀ a, (k0_off533 v2140) a + S16x1024.size a ≤ S851968x1024.size a), (Rect.unit (s := S851968x1024) (k0_off533 v2140) S16x1024.size hinb).WholeWords (EltTy.packing .bf16))
theorem k0_mult133_dvd : ∀ (v2140 : BitVec 32) (k0_hw132 : k0_chk132 v2140), 16 ∣ (k0_mult133 v2140).toNat := fun v2140 k0_hw132 => k0_hw132.1
theorem k0_off533_inb : ∀ (v2140 : BitVec 32) (k0_hw132 : k0_chk132 v2140), ∀ a, (k0_off533 v2140) a + S16x1024.size a ≤ S851968x1024.size a := fun v2140 k0_hw132 => k0_hw132.2.1
theorem k0_off533_wordsbf16 : ∀ (v2140 : BitVec 32) (k0_hw132 : k0_chk132 v2140), (Rect.unit (s := S851968x1024) (k0_off533 v2140) S16x1024.size (k0_off533_inb v2140 k0_hw132)).WholeWords (EltTy.packing .bf16) := fun v2140 k0_hw132 => k0_hw132.2.2 (k0_off533_inb v2140 k0_hw132)

def k0_off534 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c131_i32 : BitVec 32 := 131#32
  let v2147 : BitVec 32 := Scalar.addi v38 c131_i32
  let v2148 : Index := Scalar.indexCast v2147
  ![v2148.toNat]
def k0_mult134 (v2149 : BitVec 32) : BitVec 32 :=
  v2149

def k0_off535 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off536 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2096_i32 : BitVec 32 := 2096#32
  let c0_i32_405 : BitVec 32 := 0#32
  ![v2.toNat, 2096, 0]
def k0_off537 (v2149 : BitVec 32) : Fin 2 → Nat :=
  let v2150 : BitVec 32 := v2149
  let c0_i32_406 : BitVec 32 := 0#32
  ![v2150.toNat, 0]

def k0_chk133 (v2149 : BitVec 32) : Prop :=
  (16 ∣ (k0_mult134 v2149).toNat) ∧
  (∀ a, (k0_off537 v2149) a + S16x1024.size a ≤ S851968x1024.size a) ∧
  (∀ (hinb : ∀ a, (k0_off537 v2149) a + S16x1024.size a ≤ S851968x1024.size a), (Rect.unit (s := S851968x1024) (k0_off537 v2149) S16x1024.size hinb).WholeWords (EltTy.packing .bf16))
theorem k0_mult134_dvd : ∀ (v2149 : BitVec 32) (k0_hw133 : k0_chk133 v2149), 16 ∣ (k0_mult134 v2149).toNat := fun v2149 k0_hw133 => k0_hw133.1
theorem k0_off537_inb : ∀ (v2149 : BitVec 32) (k0_hw133 : k0_chk133 v2149), ∀ a, (k0_off537 v2149) a + S16x1024.size a ≤ S851968x1024.size a := fun v2149 k0_hw133 => k0_hw133.2.1
theorem k0_off537_wordsbf16 : ∀ (v2149 : BitVec 32) (k0_hw133 : k0_chk133 v2149), (Rect.unit (s := S851968x1024) (k0_off537 v2149) S16x1024.size (k0_off537_inb v2149 k0_hw133)).WholeWords (EltTy.packing .bf16) := fun v2149 k0_hw133 => k0_hw133.2.2 (k0_off537_inb v2149 k0_hw133)

def k0_off538 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c132_i32 : BitVec 32 := 132#32
  let v2156 : BitVec 32 := Scalar.addi v38 c132_i32
  let v2157 : Index := Scalar.indexCast v2156
  ![v2157.toNat]
def k0_mult135 (v2158 : BitVec 32) : BitVec 32 :=
  v2158

def k0_off539 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off540 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2112_i32 : BitVec 32 := 2112#32
  let c0_i32_407 : BitVec 32 := 0#32
  ![v2.toNat, 2112, 0]
def k0_off541 (v2158 : BitVec 32) : Fin 2 → Nat :=
  let v2159 : BitVec 32 := v2158
  let c0_i32_408 : BitVec 32 := 0#32
  ![v2159.toNat, 0]

def k0_chk134 (v2158 : BitVec 32) : Prop :=
  (16 ∣ (k0_mult135 v2158).toNat) ∧
  (∀ a, (k0_off541 v2158) a + S16x1024.size a ≤ S851968x1024.size a) ∧
  (∀ (hinb : ∀ a, (k0_off541 v2158) a + S16x1024.size a ≤ S851968x1024.size a), (Rect.unit (s := S851968x1024) (k0_off541 v2158) S16x1024.size hinb).WholeWords (EltTy.packing .bf16))
theorem k0_mult135_dvd : ∀ (v2158 : BitVec 32) (k0_hw134 : k0_chk134 v2158), 16 ∣ (k0_mult135 v2158).toNat := fun v2158 k0_hw134 => k0_hw134.1
theorem k0_off541_inb : ∀ (v2158 : BitVec 32) (k0_hw134 : k0_chk134 v2158), ∀ a, (k0_off541 v2158) a + S16x1024.size a ≤ S851968x1024.size a := fun v2158 k0_hw134 => k0_hw134.2.1
theorem k0_off541_wordsbf16 : ∀ (v2158 : BitVec 32) (k0_hw134 : k0_chk134 v2158), (Rect.unit (s := S851968x1024) (k0_off541 v2158) S16x1024.size (k0_off541_inb v2158 k0_hw134)).WholeWords (EltTy.packing .bf16) := fun v2158 k0_hw134 => k0_hw134.2.2 (k0_off541_inb v2158 k0_hw134)

def k0_off542 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c133_i32 : BitVec 32 := 133#32
  let v2165 : BitVec 32 := Scalar.addi v38 c133_i32
  let v2166 : Index := Scalar.indexCast v2165
  ![v2166.toNat]
def k0_mult136 (v2167 : BitVec 32) : BitVec 32 :=
  v2167

def k0_off543 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off544 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2128_i32 : BitVec 32 := 2128#32
  let c0_i32_409 : BitVec 32 := 0#32
  ![v2.toNat, 2128, 0]
def k0_off545 (v2167 : BitVec 32) : Fin 2 → Nat :=
  let v2168 : BitVec 32 := v2167
  let c0_i32_410 : BitVec 32 := 0#32
  ![v2168.toNat, 0]

def k0_chk135 (v2167 : BitVec 32) : Prop :=
  (16 ∣ (k0_mult136 v2167).toNat) ∧
  (∀ a, (k0_off545 v2167) a + S16x1024.size a ≤ S851968x1024.size a) ∧
  (∀ (hinb : ∀ a, (k0_off545 v2167) a + S16x1024.size a ≤ S851968x1024.size a), (Rect.unit (s := S851968x1024) (k0_off545 v2167) S16x1024.size hinb).WholeWords (EltTy.packing .bf16))
theorem k0_mult136_dvd : ∀ (v2167 : BitVec 32) (k0_hw135 : k0_chk135 v2167), 16 ∣ (k0_mult136 v2167).toNat := fun v2167 k0_hw135 => k0_hw135.1
theorem k0_off545_inb : ∀ (v2167 : BitVec 32) (k0_hw135 : k0_chk135 v2167), ∀ a, (k0_off545 v2167) a + S16x1024.size a ≤ S851968x1024.size a := fun v2167 k0_hw135 => k0_hw135.2.1
theorem k0_off545_wordsbf16 : ∀ (v2167 : BitVec 32) (k0_hw135 : k0_chk135 v2167), (Rect.unit (s := S851968x1024) (k0_off545 v2167) S16x1024.size (k0_off545_inb v2167 k0_hw135)).WholeWords (EltTy.packing .bf16) := fun v2167 k0_hw135 => k0_hw135.2.2 (k0_off545_inb v2167 k0_hw135)

def k0_off546 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c134_i32 : BitVec 32 := 134#32
  let v2174 : BitVec 32 := Scalar.addi v38 c134_i32
  let v2175 : Index := Scalar.indexCast v2174
  ![v2175.toNat]
def k0_mult137 (v2176 : BitVec 32) : BitVec 32 :=
  v2176

def k0_off547 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off548 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2144_i32 : BitVec 32 := 2144#32
  let c0_i32_411 : BitVec 32 := 0#32
  ![v2.toNat, 2144, 0]
def k0_off549 (v2176 : BitVec 32) : Fin 2 → Nat :=
  let v2177 : BitVec 32 := v2176
  let c0_i32_412 : BitVec 32 := 0#32
  ![v2177.toNat, 0]

def k0_chk136 (v2176 : BitVec 32) : Prop :=
  (16 ∣ (k0_mult137 v2176).toNat) ∧
  (∀ a, (k0_off549 v2176) a + S16x1024.size a ≤ S851968x1024.size a) ∧
  (∀ (hinb : ∀ a, (k0_off549 v2176) a + S16x1024.size a ≤ S851968x1024.size a), (Rect.unit (s := S851968x1024) (k0_off549 v2176) S16x1024.size hinb).WholeWords (EltTy.packing .bf16))
theorem k0_mult137_dvd : ∀ (v2176 : BitVec 32) (k0_hw136 : k0_chk136 v2176), 16 ∣ (k0_mult137 v2176).toNat := fun v2176 k0_hw136 => k0_hw136.1
theorem k0_off549_inb : ∀ (v2176 : BitVec 32) (k0_hw136 : k0_chk136 v2176), ∀ a, (k0_off549 v2176) a + S16x1024.size a ≤ S851968x1024.size a := fun v2176 k0_hw136 => k0_hw136.2.1
theorem k0_off549_wordsbf16 : ∀ (v2176 : BitVec 32) (k0_hw136 : k0_chk136 v2176), (Rect.unit (s := S851968x1024) (k0_off549 v2176) S16x1024.size (k0_off549_inb v2176 k0_hw136)).WholeWords (EltTy.packing .bf16) := fun v2176 k0_hw136 => k0_hw136.2.2 (k0_off549_inb v2176 k0_hw136)

def k0_off550 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c135_i32 : BitVec 32 := 135#32
  let v2183 : BitVec 32 := Scalar.addi v38 c135_i32
  let v2184 : Index := Scalar.indexCast v2183
  ![v2184.toNat]
def k0_mult138 (v2185 : BitVec 32) : BitVec 32 :=
  v2185

def k0_off551 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off552 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2160_i32 : BitVec 32 := 2160#32
  let c0_i32_413 : BitVec 32 := 0#32
  ![v2.toNat, 2160, 0]
def k0_off553 (v2185 : BitVec 32) : Fin 2 → Nat :=
  let v2186 : BitVec 32 := v2185
  let c0_i32_414 : BitVec 32 := 0#32
  ![v2186.toNat, 0]

def k0_chk137 (v2185 : BitVec 32) : Prop :=
  (16 ∣ (k0_mult138 v2185).toNat) ∧
  (∀ a, (k0_off553 v2185) a + S16x1024.size a ≤ S851968x1024.size a) ∧
  (∀ (hinb : ∀ a, (k0_off553 v2185) a + S16x1024.size a ≤ S851968x1024.size a), (Rect.unit (s := S851968x1024) (k0_off553 v2185) S16x1024.size hinb).WholeWords (EltTy.packing .bf16))
theorem k0_mult138_dvd : ∀ (v2185 : BitVec 32) (k0_hw137 : k0_chk137 v2185), 16 ∣ (k0_mult138 v2185).toNat := fun v2185 k0_hw137 => k0_hw137.1
theorem k0_off553_inb : ∀ (v2185 : BitVec 32) (k0_hw137 : k0_chk137 v2185), ∀ a, (k0_off553 v2185) a + S16x1024.size a ≤ S851968x1024.size a := fun v2185 k0_hw137 => k0_hw137.2.1
theorem k0_off553_wordsbf16 : ∀ (v2185 : BitVec 32) (k0_hw137 : k0_chk137 v2185), (Rect.unit (s := S851968x1024) (k0_off553 v2185) S16x1024.size (k0_off553_inb v2185 k0_hw137)).WholeWords (EltTy.packing .bf16) := fun v2185 k0_hw137 => k0_hw137.2.2 (k0_off553_inb v2185 k0_hw137)

def k0_off554 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c136_i32 : BitVec 32 := 136#32
  let v2192 : BitVec 32 := Scalar.addi v38 c136_i32
  let v2193 : Index := Scalar.indexCast v2192
  ![v2193.toNat]
def k0_mult139 (v2194 : BitVec 32) : BitVec 32 :=
  v2194

def k0_off555 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off556 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2176_i32 : BitVec 32 := 2176#32
  let c0_i32_415 : BitVec 32 := 0#32
  ![v2.toNat, 2176, 0]
def k0_off557 (v2194 : BitVec 32) : Fin 2 → Nat :=
  let v2195 : BitVec 32 := v2194
  let c0_i32_416 : BitVec 32 := 0#32
  ![v2195.toNat, 0]

def k0_chk138 (v2194 : BitVec 32) : Prop :=
  (16 ∣ (k0_mult139 v2194).toNat) ∧
  (∀ a, (k0_off557 v2194) a + S16x1024.size a ≤ S851968x1024.size a) ∧
  (∀ (hinb : ∀ a, (k0_off557 v2194) a + S16x1024.size a ≤ S851968x1024.size a), (Rect.unit (s := S851968x1024) (k0_off557 v2194) S16x1024.size hinb).WholeWords (EltTy.packing .bf16))
theorem k0_mult139_dvd : ∀ (v2194 : BitVec 32) (k0_hw138 : k0_chk138 v2194), 16 ∣ (k0_mult139 v2194).toNat := fun v2194 k0_hw138 => k0_hw138.1
theorem k0_off557_inb : ∀ (v2194 : BitVec 32) (k0_hw138 : k0_chk138 v2194), ∀ a, (k0_off557 v2194) a + S16x1024.size a ≤ S851968x1024.size a := fun v2194 k0_hw138 => k0_hw138.2.1
theorem k0_off557_wordsbf16 : ∀ (v2194 : BitVec 32) (k0_hw138 : k0_chk138 v2194), (Rect.unit (s := S851968x1024) (k0_off557 v2194) S16x1024.size (k0_off557_inb v2194 k0_hw138)).WholeWords (EltTy.packing .bf16) := fun v2194 k0_hw138 => k0_hw138.2.2 (k0_off557_inb v2194 k0_hw138)

def k0_off558 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c137_i32 : BitVec 32 := 137#32
  let v2201 : BitVec 32 := Scalar.addi v38 c137_i32
  let v2202 : Index := Scalar.indexCast v2201
  ![v2202.toNat]
def k0_mult140 (v2203 : BitVec 32) : BitVec 32 :=
  v2203

def k0_off559 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off560 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2192_i32 : BitVec 32 := 2192#32
  let c0_i32_417 : BitVec 32 := 0#32
  ![v2.toNat, 2192, 0]
def k0_off561 (v2203 : BitVec 32) : Fin 2 → Nat :=
  let v2204 : BitVec 32 := v2203
  let c0_i32_418 : BitVec 32 := 0#32
  ![v2204.toNat, 0]

def k0_chk139 (v2203 : BitVec 32) : Prop :=
  (16 ∣ (k0_mult140 v2203).toNat) ∧
  (∀ a, (k0_off561 v2203) a + S16x1024.size a ≤ S851968x1024.size a) ∧
  (∀ (hinb : ∀ a, (k0_off561 v2203) a + S16x1024.size a ≤ S851968x1024.size a), (Rect.unit (s := S851968x1024) (k0_off561 v2203) S16x1024.size hinb).WholeWords (EltTy.packing .bf16))
theorem k0_mult140_dvd : ∀ (v2203 : BitVec 32) (k0_hw139 : k0_chk139 v2203), 16 ∣ (k0_mult140 v2203).toNat := fun v2203 k0_hw139 => k0_hw139.1
theorem k0_off561_inb : ∀ (v2203 : BitVec 32) (k0_hw139 : k0_chk139 v2203), ∀ a, (k0_off561 v2203) a + S16x1024.size a ≤ S851968x1024.size a := fun v2203 k0_hw139 => k0_hw139.2.1
theorem k0_off561_wordsbf16 : ∀ (v2203 : BitVec 32) (k0_hw139 : k0_chk139 v2203), (Rect.unit (s := S851968x1024) (k0_off561 v2203) S16x1024.size (k0_off561_inb v2203 k0_hw139)).WholeWords (EltTy.packing .bf16) := fun v2203 k0_hw139 => k0_hw139.2.2 (k0_off561_inb v2203 k0_hw139)

def k0_off562 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c138_i32 : BitVec 32 := 138#32
  let v2210 : BitVec 32 := Scalar.addi v38 c138_i32
  let v2211 : Index := Scalar.indexCast v2210
  ![v2211.toNat]
def k0_mult141 (v2212 : BitVec 32) : BitVec 32 :=
  v2212

def k0_off563 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off564 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2208_i32 : BitVec 32 := 2208#32
  let c0_i32_419 : BitVec 32 := 0#32
  ![v2.toNat, 2208, 0]
def k0_off565 (v2212 : BitVec 32) : Fin 2 → Nat :=
  let v2213 : BitVec 32 := v2212
  let c0_i32_420 : BitVec 32 := 0#32
  ![v2213.toNat, 0]

def k0_chk140 (v2212 : BitVec 32) : Prop :=
  (16 ∣ (k0_mult141 v2212).toNat) ∧
  (∀ a, (k0_off565 v2212) a + S16x1024.size a ≤ S851968x1024.size a) ∧
  (∀ (hinb : ∀ a, (k0_off565 v2212) a + S16x1024.size a ≤ S851968x1024.size a), (Rect.unit (s := S851968x1024) (k0_off565 v2212) S16x1024.size hinb).WholeWords (EltTy.packing .bf16))
theorem k0_mult141_dvd : ∀ (v2212 : BitVec 32) (k0_hw140 : k0_chk140 v2212), 16 ∣ (k0_mult141 v2212).toNat := fun v2212 k0_hw140 => k0_hw140.1
theorem k0_off565_inb : ∀ (v2212 : BitVec 32) (k0_hw140 : k0_chk140 v2212), ∀ a, (k0_off565 v2212) a + S16x1024.size a ≤ S851968x1024.size a := fun v2212 k0_hw140 => k0_hw140.2.1
theorem k0_off565_wordsbf16 : ∀ (v2212 : BitVec 32) (k0_hw140 : k0_chk140 v2212), (Rect.unit (s := S851968x1024) (k0_off565 v2212) S16x1024.size (k0_off565_inb v2212 k0_hw140)).WholeWords (EltTy.packing .bf16) := fun v2212 k0_hw140 => k0_hw140.2.2 (k0_off565_inb v2212 k0_hw140)

def k0_off566 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c139_i32 : BitVec 32 := 139#32
  let v2219 : BitVec 32 := Scalar.addi v38 c139_i32
  let v2220 : Index := Scalar.indexCast v2219
  ![v2220.toNat]
def k0_mult142 (v2221 : BitVec 32) : BitVec 32 :=
  v2221

def k0_off567 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off568 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2224_i32 : BitVec 32 := 2224#32
  let c0_i32_421 : BitVec 32 := 0#32
  ![v2.toNat, 2224, 0]
def k0_off569 (v2221 : BitVec 32) : Fin 2 → Nat :=
  let v2222 : BitVec 32 := v2221
  let c0_i32_422 : BitVec 32 := 0#32
  ![v2222.toNat, 0]

def k0_chk141 (v2221 : BitVec 32) : Prop :=
  (16 ∣ (k0_mult142 v2221).toNat) ∧
  (∀ a, (k0_off569 v2221) a + S16x1024.size a ≤ S851968x1024.size a) ∧
  (∀ (hinb : ∀ a, (k0_off569 v2221) a + S16x1024.size a ≤ S851968x1024.size a), (Rect.unit (s := S851968x1024) (k0_off569 v2221) S16x1024.size hinb).WholeWords (EltTy.packing .bf16))
theorem k0_mult142_dvd : ∀ (v2221 : BitVec 32) (k0_hw141 : k0_chk141 v2221), 16 ∣ (k0_mult142 v2221).toNat := fun v2221 k0_hw141 => k0_hw141.1
theorem k0_off569_inb : ∀ (v2221 : BitVec 32) (k0_hw141 : k0_chk141 v2221), ∀ a, (k0_off569 v2221) a + S16x1024.size a ≤ S851968x1024.size a := fun v2221 k0_hw141 => k0_hw141.2.1
theorem k0_off569_wordsbf16 : ∀ (v2221 : BitVec 32) (k0_hw141 : k0_chk141 v2221), (Rect.unit (s := S851968x1024) (k0_off569 v2221) S16x1024.size (k0_off569_inb v2221 k0_hw141)).WholeWords (EltTy.packing .bf16) := fun v2221 k0_hw141 => k0_hw141.2.2 (k0_off569_inb v2221 k0_hw141)

def k0_off570 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c140_i32 : BitVec 32 := 140#32
  let v2228 : BitVec 32 := Scalar.addi v38 c140_i32
  let v2229 : Index := Scalar.indexCast v2228
  ![v2229.toNat]
def k0_mult143 (v2230 : BitVec 32) : BitVec 32 :=
  v2230

def k0_off571 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off572 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2240_i32 : BitVec 32 := 2240#32
  let c0_i32_423 : BitVec 32 := 0#32
  ![v2.toNat, 2240, 0]
def k0_off573 (v2230 : BitVec 32) : Fin 2 → Nat :=
  let v2231 : BitVec 32 := v2230
  let c0_i32_424 : BitVec 32 := 0#32
  ![v2231.toNat, 0]

def k0_chk142 (v2230 : BitVec 32) : Prop :=
  (16 ∣ (k0_mult143 v2230).toNat) ∧
  (∀ a, (k0_off573 v2230) a + S16x1024.size a ≤ S851968x1024.size a) ∧
  (∀ (hinb : ∀ a, (k0_off573 v2230) a + S16x1024.size a ≤ S851968x1024.size a), (Rect.unit (s := S851968x1024) (k0_off573 v2230) S16x1024.size hinb).WholeWords (EltTy.packing .bf16))
theorem k0_mult143_dvd : ∀ (v2230 : BitVec 32) (k0_hw142 : k0_chk142 v2230), 16 ∣ (k0_mult143 v2230).toNat := fun v2230 k0_hw142 => k0_hw142.1
theorem k0_off573_inb : ∀ (v2230 : BitVec 32) (k0_hw142 : k0_chk142 v2230), ∀ a, (k0_off573 v2230) a + S16x1024.size a ≤ S851968x1024.size a := fun v2230 k0_hw142 => k0_hw142.2.1
theorem k0_off573_wordsbf16 : ∀ (v2230 : BitVec 32) (k0_hw142 : k0_chk142 v2230), (Rect.unit (s := S851968x1024) (k0_off573 v2230) S16x1024.size (k0_off573_inb v2230 k0_hw142)).WholeWords (EltTy.packing .bf16) := fun v2230 k0_hw142 => k0_hw142.2.2 (k0_off573_inb v2230 k0_hw142)

def k0_off574 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c141_i32 : BitVec 32 := 141#32
  let v2237 : BitVec 32 := Scalar.addi v38 c141_i32
  let v2238 : Index := Scalar.indexCast v2237
  ![v2238.toNat]
def k0_mult144 (v2239 : BitVec 32) : BitVec 32 :=
  v2239

def k0_off575 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off576 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2256_i32 : BitVec 32 := 2256#32
  let c0_i32_425 : BitVec 32 := 0#32
  ![v2.toNat, 2256, 0]
def k0_off577 (v2239 : BitVec 32) : Fin 2 → Nat :=
  let v2240 : BitVec 32 := v2239
  let c0_i32_426 : BitVec 32 := 0#32
  ![v2240.toNat, 0]

def k0_chk143 (v2239 : BitVec 32) : Prop :=
  (16 ∣ (k0_mult144 v2239).toNat) ∧
  (∀ a, (k0_off577 v2239) a + S16x1024.size a ≤ S851968x1024.size a) ∧
  (∀ (hinb : ∀ a, (k0_off577 v2239) a + S16x1024.size a ≤ S851968x1024.size a), (Rect.unit (s := S851968x1024) (k0_off577 v2239) S16x1024.size hinb).WholeWords (EltTy.packing .bf16))
theorem k0_mult144_dvd : ∀ (v2239 : BitVec 32) (k0_hw143 : k0_chk143 v2239), 16 ∣ (k0_mult144 v2239).toNat := fun v2239 k0_hw143 => k0_hw143.1
theorem k0_off577_inb : ∀ (v2239 : BitVec 32) (k0_hw143 : k0_chk143 v2239), ∀ a, (k0_off577 v2239) a + S16x1024.size a ≤ S851968x1024.size a := fun v2239 k0_hw143 => k0_hw143.2.1
theorem k0_off577_wordsbf16 : ∀ (v2239 : BitVec 32) (k0_hw143 : k0_chk143 v2239), (Rect.unit (s := S851968x1024) (k0_off577 v2239) S16x1024.size (k0_off577_inb v2239 k0_hw143)).WholeWords (EltTy.packing .bf16) := fun v2239 k0_hw143 => k0_hw143.2.2 (k0_off577_inb v2239 k0_hw143)

def k0_off578 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c142_i32 : BitVec 32 := 142#32
  let v2246 : BitVec 32 := Scalar.addi v38 c142_i32
  let v2247 : Index := Scalar.indexCast v2246
  ![v2247.toNat]
def k0_mult145 (v2248 : BitVec 32) : BitVec 32 :=
  v2248

def k0_off579 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off580 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2272_i32 : BitVec 32 := 2272#32
  let c0_i32_427 : BitVec 32 := 0#32
  ![v2.toNat, 2272, 0]
def k0_off581 (v2248 : BitVec 32) : Fin 2 → Nat :=
  let v2249 : BitVec 32 := v2248
  let c0_i32_428 : BitVec 32 := 0#32
  ![v2249.toNat, 0]

def k0_chk144 (v2248 : BitVec 32) : Prop :=
  (16 ∣ (k0_mult145 v2248).toNat) ∧
  (∀ a, (k0_off581 v2248) a + S16x1024.size a ≤ S851968x1024.size a) ∧
  (∀ (hinb : ∀ a, (k0_off581 v2248) a + S16x1024.size a ≤ S851968x1024.size a), (Rect.unit (s := S851968x1024) (k0_off581 v2248) S16x1024.size hinb).WholeWords (EltTy.packing .bf16))
theorem k0_mult145_dvd : ∀ (v2248 : BitVec 32) (k0_hw144 : k0_chk144 v2248), 16 ∣ (k0_mult145 v2248).toNat := fun v2248 k0_hw144 => k0_hw144.1
theorem k0_off581_inb : ∀ (v2248 : BitVec 32) (k0_hw144 : k0_chk144 v2248), ∀ a, (k0_off581 v2248) a + S16x1024.size a ≤ S851968x1024.size a := fun v2248 k0_hw144 => k0_hw144.2.1
theorem k0_off581_wordsbf16 : ∀ (v2248 : BitVec 32) (k0_hw144 : k0_chk144 v2248), (Rect.unit (s := S851968x1024) (k0_off581 v2248) S16x1024.size (k0_off581_inb v2248 k0_hw144)).WholeWords (EltTy.packing .bf16) := fun v2248 k0_hw144 => k0_hw144.2.2 (k0_off581_inb v2248 k0_hw144)

def k0_off582 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c143_i32 : BitVec 32 := 143#32
  let v2255 : BitVec 32 := Scalar.addi v38 c143_i32
  let v2256 : Index := Scalar.indexCast v2255
  ![v2256.toNat]
def k0_mult146 (v2257 : BitVec 32) : BitVec 32 :=
  v2257

def k0_off583 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off584 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2288_i32 : BitVec 32 := 2288#32
  let c0_i32_429 : BitVec 32 := 0#32
  ![v2.toNat, 2288, 0]
def k0_off585 (v2257 : BitVec 32) : Fin 2 → Nat :=
  let v2258 : BitVec 32 := v2257
  let c0_i32_430 : BitVec 32 := 0#32
  ![v2258.toNat, 0]

def k0_chk145 (v2257 : BitVec 32) : Prop :=
  (16 ∣ (k0_mult146 v2257).toNat) ∧
  (∀ a, (k0_off585 v2257) a + S16x1024.size a ≤ S851968x1024.size a) ∧
  (∀ (hinb : ∀ a, (k0_off585 v2257) a + S16x1024.size a ≤ S851968x1024.size a), (Rect.unit (s := S851968x1024) (k0_off585 v2257) S16x1024.size hinb).WholeWords (EltTy.packing .bf16))
theorem k0_mult146_dvd : ∀ (v2257 : BitVec 32) (k0_hw145 : k0_chk145 v2257), 16 ∣ (k0_mult146 v2257).toNat := fun v2257 k0_hw145 => k0_hw145.1
theorem k0_off585_inb : ∀ (v2257 : BitVec 32) (k0_hw145 : k0_chk145 v2257), ∀ a, (k0_off585 v2257) a + S16x1024.size a ≤ S851968x1024.size a := fun v2257 k0_hw145 => k0_hw145.2.1
theorem k0_off585_wordsbf16 : ∀ (v2257 : BitVec 32) (k0_hw145 : k0_chk145 v2257), (Rect.unit (s := S851968x1024) (k0_off585 v2257) S16x1024.size (k0_off585_inb v2257 k0_hw145)).WholeWords (EltTy.packing .bf16) := fun v2257 k0_hw145 => k0_hw145.2.2 (k0_off585_inb v2257 k0_hw145)

def k0_off586 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c144_i32_431 : BitVec 32 := 144#32
  let v2264 : BitVec 32 := Scalar.addi v38 c144_i32_431
  let v2265 : Index := Scalar.indexCast v2264
  ![v2265.toNat]
def k0_mult147 (v2266 : BitVec 32) : BitVec 32 :=
  v2266

def k0_off587 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off588 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2304_i32 : BitVec 32 := 2304#32
  let c0_i32_432 : BitVec 32 := 0#32
  ![v2.toNat, 2304, 0]
def k0_off589 (v2266 : BitVec 32) : Fin 2 → Nat :=
  let v2267 : BitVec 32 := v2266
  let c0_i32_433 : BitVec 32 := 0#32
  ![v2267.toNat, 0]

def k0_chk146 (v2266 : BitVec 32) : Prop :=
  (16 ∣ (k0_mult147 v2266).toNat) ∧
  (∀ a, (k0_off589 v2266) a + S16x1024.size a ≤ S851968x1024.size a) ∧
  (∀ (hinb : ∀ a, (k0_off589 v2266) a + S16x1024.size a ≤ S851968x1024.size a), (Rect.unit (s := S851968x1024) (k0_off589 v2266) S16x1024.size hinb).WholeWords (EltTy.packing .bf16))
theorem k0_mult147_dvd : ∀ (v2266 : BitVec 32) (k0_hw146 : k0_chk146 v2266), 16 ∣ (k0_mult147 v2266).toNat := fun v2266 k0_hw146 => k0_hw146.1
theorem k0_off589_inb : ∀ (v2266 : BitVec 32) (k0_hw146 : k0_chk146 v2266), ∀ a, (k0_off589 v2266) a + S16x1024.size a ≤ S851968x1024.size a := fun v2266 k0_hw146 => k0_hw146.2.1
theorem k0_off589_wordsbf16 : ∀ (v2266 : BitVec 32) (k0_hw146 : k0_chk146 v2266), (Rect.unit (s := S851968x1024) (k0_off589 v2266) S16x1024.size (k0_off589_inb v2266 k0_hw146)).WholeWords (EltTy.packing .bf16) := fun v2266 k0_hw146 => k0_hw146.2.2 (k0_off589_inb v2266 k0_hw146)

def k0_off590 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c145_i32 : BitVec 32 := 145#32
  let v2273 : BitVec 32 := Scalar.addi v38 c145_i32
  let v2274 : Index := Scalar.indexCast v2273
  ![v2274.toNat]
def k0_mult148 (v2275 : BitVec 32) : BitVec 32 :=
  v2275

def k0_off591 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off592 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2320_i32 : BitVec 32 := 2320#32
  let c0_i32_434 : BitVec 32 := 0#32
  ![v2.toNat, 2320, 0]
def k0_off593 (v2275 : BitVec 32) : Fin 2 → Nat :=
  let v2276 : BitVec 32 := v2275
  let c0_i32_435 : BitVec 32 := 0#32
  ![v2276.toNat, 0]

def k0_chk147 (v2275 : BitVec 32) : Prop :=
  (16 ∣ (k0_mult148 v2275).toNat) ∧
  (∀ a, (k0_off593 v2275) a + S16x1024.size a ≤ S851968x1024.size a) ∧
  (∀ (hinb : ∀ a, (k0_off593 v2275) a + S16x1024.size a ≤ S851968x1024.size a), (Rect.unit (s := S851968x1024) (k0_off593 v2275) S16x1024.size hinb).WholeWords (EltTy.packing .bf16))
theorem k0_mult148_dvd : ∀ (v2275 : BitVec 32) (k0_hw147 : k0_chk147 v2275), 16 ∣ (k0_mult148 v2275).toNat := fun v2275 k0_hw147 => k0_hw147.1
theorem k0_off593_inb : ∀ (v2275 : BitVec 32) (k0_hw147 : k0_chk147 v2275), ∀ a, (k0_off593 v2275) a + S16x1024.size a ≤ S851968x1024.size a := fun v2275 k0_hw147 => k0_hw147.2.1
theorem k0_off593_wordsbf16 : ∀ (v2275 : BitVec 32) (k0_hw147 : k0_chk147 v2275), (Rect.unit (s := S851968x1024) (k0_off593 v2275) S16x1024.size (k0_off593_inb v2275 k0_hw147)).WholeWords (EltTy.packing .bf16) := fun v2275 k0_hw147 => k0_hw147.2.2 (k0_off593_inb v2275 k0_hw147)

def k0_off594 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c146_i32 : BitVec 32 := 146#32
  let v2282 : BitVec 32 := Scalar.addi v38 c146_i32
  let v2283 : Index := Scalar.indexCast v2282
  ![v2283.toNat]
def k0_mult149 (v2284 : BitVec 32) : BitVec 32 :=
  v2284

def k0_off595 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off596 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2336_i32 : BitVec 32 := 2336#32
  let c0_i32_436 : BitVec 32 := 0#32
  ![v2.toNat, 2336, 0]
def k0_off597 (v2284 : BitVec 32) : Fin 2 → Nat :=
  let v2285 : BitVec 32 := v2284
  let c0_i32_437 : BitVec 32 := 0#32
  ![v2285.toNat, 0]

def k0_chk148 (v2284 : BitVec 32) : Prop :=
  (16 ∣ (k0_mult149 v2284).toNat) ∧
  (∀ a, (k0_off597 v2284) a + S16x1024.size a ≤ S851968x1024.size a) ∧
  (∀ (hinb : ∀ a, (k0_off597 v2284) a + S16x1024.size a ≤ S851968x1024.size a), (Rect.unit (s := S851968x1024) (k0_off597 v2284) S16x1024.size hinb).WholeWords (EltTy.packing .bf16))
theorem k0_mult149_dvd : ∀ (v2284 : BitVec 32) (k0_hw148 : k0_chk148 v2284), 16 ∣ (k0_mult149 v2284).toNat := fun v2284 k0_hw148 => k0_hw148.1
theorem k0_off597_inb : ∀ (v2284 : BitVec 32) (k0_hw148 : k0_chk148 v2284), ∀ a, (k0_off597 v2284) a + S16x1024.size a ≤ S851968x1024.size a := fun v2284 k0_hw148 => k0_hw148.2.1
theorem k0_off597_wordsbf16 : ∀ (v2284 : BitVec 32) (k0_hw148 : k0_chk148 v2284), (Rect.unit (s := S851968x1024) (k0_off597 v2284) S16x1024.size (k0_off597_inb v2284 k0_hw148)).WholeWords (EltTy.packing .bf16) := fun v2284 k0_hw148 => k0_hw148.2.2 (k0_off597_inb v2284 k0_hw148)

def k0_off598 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c147_i32 : BitVec 32 := 147#32
  let v2291 : BitVec 32 := Scalar.addi v38 c147_i32
  let v2292 : Index := Scalar.indexCast v2291
  ![v2292.toNat]
def k0_mult150 (v2293 : BitVec 32) : BitVec 32 :=
  v2293

def k0_off599 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off600 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2352_i32 : BitVec 32 := 2352#32
  let c0_i32_438 : BitVec 32 := 0#32
  ![v2.toNat, 2352, 0]
def k0_off601 (v2293 : BitVec 32) : Fin 2 → Nat :=
  let v2294 : BitVec 32 := v2293
  let c0_i32_439 : BitVec 32 := 0#32
  ![v2294.toNat, 0]

def k0_chk149 (v2293 : BitVec 32) : Prop :=
  (16 ∣ (k0_mult150 v2293).toNat) ∧
  (∀ a, (k0_off601 v2293) a + S16x1024.size a ≤ S851968x1024.size a) ∧
  (∀ (hinb : ∀ a, (k0_off601 v2293) a + S16x1024.size a ≤ S851968x1024.size a), (Rect.unit (s := S851968x1024) (k0_off601 v2293) S16x1024.size hinb).WholeWords (EltTy.packing .bf16))
theorem k0_mult150_dvd : ∀ (v2293 : BitVec 32) (k0_hw149 : k0_chk149 v2293), 16 ∣ (k0_mult150 v2293).toNat := fun v2293 k0_hw149 => k0_hw149.1
theorem k0_off601_inb : ∀ (v2293 : BitVec 32) (k0_hw149 : k0_chk149 v2293), ∀ a, (k0_off601 v2293) a + S16x1024.size a ≤ S851968x1024.size a := fun v2293 k0_hw149 => k0_hw149.2.1
theorem k0_off601_wordsbf16 : ∀ (v2293 : BitVec 32) (k0_hw149 : k0_chk149 v2293), (Rect.unit (s := S851968x1024) (k0_off601 v2293) S16x1024.size (k0_off601_inb v2293 k0_hw149)).WholeWords (EltTy.packing .bf16) := fun v2293 k0_hw149 => k0_hw149.2.2 (k0_off601_inb v2293 k0_hw149)

def k0_off602 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c148_i32 : BitVec 32 := 148#32
  let v2300 : BitVec 32 := Scalar.addi v38 c148_i32
  let v2301 : Index := Scalar.indexCast v2300
  ![v2301.toNat]
def k0_mult151 (v2302 : BitVec 32) : BitVec 32 :=
  v2302

def k0_off603 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off604 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2368_i32 : BitVec 32 := 2368#32
  let c0_i32_440 : BitVec 32 := 0#32
  ![v2.toNat, 2368, 0]
def k0_off605 (v2302 : BitVec 32) : Fin 2 → Nat :=
  let v2303 : BitVec 32 := v2302
  let c0_i32_441 : BitVec 32 := 0#32
  ![v2303.toNat, 0]

def k0_chk150 (v2302 : BitVec 32) : Prop :=
  (16 ∣ (k0_mult151 v2302).toNat) ∧
  (∀ a, (k0_off605 v2302) a + S16x1024.size a ≤ S851968x1024.size a) ∧
  (∀ (hinb : ∀ a, (k0_off605 v2302) a + S16x1024.size a ≤ S851968x1024.size a), (Rect.unit (s := S851968x1024) (k0_off605 v2302) S16x1024.size hinb).WholeWords (EltTy.packing .bf16))
theorem k0_mult151_dvd : ∀ (v2302 : BitVec 32) (k0_hw150 : k0_chk150 v2302), 16 ∣ (k0_mult151 v2302).toNat := fun v2302 k0_hw150 => k0_hw150.1
theorem k0_off605_inb : ∀ (v2302 : BitVec 32) (k0_hw150 : k0_chk150 v2302), ∀ a, (k0_off605 v2302) a + S16x1024.size a ≤ S851968x1024.size a := fun v2302 k0_hw150 => k0_hw150.2.1
theorem k0_off605_wordsbf16 : ∀ (v2302 : BitVec 32) (k0_hw150 : k0_chk150 v2302), (Rect.unit (s := S851968x1024) (k0_off605 v2302) S16x1024.size (k0_off605_inb v2302 k0_hw150)).WholeWords (EltTy.packing .bf16) := fun v2302 k0_hw150 => k0_hw150.2.2 (k0_off605_inb v2302 k0_hw150)

def k0_off606 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c149_i32 : BitVec 32 := 149#32
  let v2309 : BitVec 32 := Scalar.addi v38 c149_i32
  let v2310 : Index := Scalar.indexCast v2309
  ![v2310.toNat]
def k0_mult152 (v2311 : BitVec 32) : BitVec 32 :=
  v2311

def k0_off607 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off608 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2384_i32 : BitVec 32 := 2384#32
  let c0_i32_442 : BitVec 32 := 0#32
  ![v2.toNat, 2384, 0]
def k0_off609 (v2311 : BitVec 32) : Fin 2 → Nat :=
  let v2312 : BitVec 32 := v2311
  let c0_i32_443 : BitVec 32 := 0#32
  ![v2312.toNat, 0]

def k0_chk151 (v2311 : BitVec 32) : Prop :=
  (16 ∣ (k0_mult152 v2311).toNat) ∧
  (∀ a, (k0_off609 v2311) a + S16x1024.size a ≤ S851968x1024.size a) ∧
  (∀ (hinb : ∀ a, (k0_off609 v2311) a + S16x1024.size a ≤ S851968x1024.size a), (Rect.unit (s := S851968x1024) (k0_off609 v2311) S16x1024.size hinb).WholeWords (EltTy.packing .bf16))
theorem k0_mult152_dvd : ∀ (v2311 : BitVec 32) (k0_hw151 : k0_chk151 v2311), 16 ∣ (k0_mult152 v2311).toNat := fun v2311 k0_hw151 => k0_hw151.1
theorem k0_off609_inb : ∀ (v2311 : BitVec 32) (k0_hw151 : k0_chk151 v2311), ∀ a, (k0_off609 v2311) a + S16x1024.size a ≤ S851968x1024.size a := fun v2311 k0_hw151 => k0_hw151.2.1
theorem k0_off609_wordsbf16 : ∀ (v2311 : BitVec 32) (k0_hw151 : k0_chk151 v2311), (Rect.unit (s := S851968x1024) (k0_off609 v2311) S16x1024.size (k0_off609_inb v2311 k0_hw151)).WholeWords (EltTy.packing .bf16) := fun v2311 k0_hw151 => k0_hw151.2.2 (k0_off609_inb v2311 k0_hw151)

def k0_off610 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c150_i32 : BitVec 32 := 150#32
  let v2318 : BitVec 32 := Scalar.addi v38 c150_i32
  let v2319 : Index := Scalar.indexCast v2318
  ![v2319.toNat]
def k0_mult153 (v2320 : BitVec 32) : BitVec 32 :=
  v2320

def k0_off611 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off612 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2400_i32 : BitVec 32 := 2400#32
  let c0_i32_444 : BitVec 32 := 0#32
  ![v2.toNat, 2400, 0]
def k0_off613 (v2320 : BitVec 32) : Fin 2 → Nat :=
  let v2321 : BitVec 32 := v2320
  let c0_i32_445 : BitVec 32 := 0#32
  ![v2321.toNat, 0]

def k0_chk152 (v2320 : BitVec 32) : Prop :=
  (16 ∣ (k0_mult153 v2320).toNat) ∧
  (∀ a, (k0_off613 v2320) a + S16x1024.size a ≤ S851968x1024.size a) ∧
  (∀ (hinb : ∀ a, (k0_off613 v2320) a + S16x1024.size a ≤ S851968x1024.size a), (Rect.unit (s := S851968x1024) (k0_off613 v2320) S16x1024.size hinb).WholeWords (EltTy.packing .bf16))
theorem k0_mult153_dvd : ∀ (v2320 : BitVec 32) (k0_hw152 : k0_chk152 v2320), 16 ∣ (k0_mult153 v2320).toNat := fun v2320 k0_hw152 => k0_hw152.1
theorem k0_off613_inb : ∀ (v2320 : BitVec 32) (k0_hw152 : k0_chk152 v2320), ∀ a, (k0_off613 v2320) a + S16x1024.size a ≤ S851968x1024.size a := fun v2320 k0_hw152 => k0_hw152.2.1
theorem k0_off613_wordsbf16 : ∀ (v2320 : BitVec 32) (k0_hw152 : k0_chk152 v2320), (Rect.unit (s := S851968x1024) (k0_off613 v2320) S16x1024.size (k0_off613_inb v2320 k0_hw152)).WholeWords (EltTy.packing .bf16) := fun v2320 k0_hw152 => k0_hw152.2.2 (k0_off613_inb v2320 k0_hw152)

def k0_off614 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c151_i32 : BitVec 32 := 151#32
  let v2327 : BitVec 32 := Scalar.addi v38 c151_i32
  let v2328 : Index := Scalar.indexCast v2327
  ![v2328.toNat]
def k0_mult154 (v2329 : BitVec 32) : BitVec 32 :=
  v2329

def k0_off615 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off616 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2416_i32 : BitVec 32 := 2416#32
  let c0_i32_446 : BitVec 32 := 0#32
  ![v2.toNat, 2416, 0]
def k0_off617 (v2329 : BitVec 32) : Fin 2 → Nat :=
  let v2330 : BitVec 32 := v2329
  let c0_i32_447 : BitVec 32 := 0#32
  ![v2330.toNat, 0]

def k0_chk153 (v2329 : BitVec 32) : Prop :=
  (16 ∣ (k0_mult154 v2329).toNat) ∧
  (∀ a, (k0_off617 v2329) a + S16x1024.size a ≤ S851968x1024.size a) ∧
  (∀ (hinb : ∀ a, (k0_off617 v2329) a + S16x1024.size a ≤ S851968x1024.size a), (Rect.unit (s := S851968x1024) (k0_off617 v2329) S16x1024.size hinb).WholeWords (EltTy.packing .bf16))
theorem k0_mult154_dvd : ∀ (v2329 : BitVec 32) (k0_hw153 : k0_chk153 v2329), 16 ∣ (k0_mult154 v2329).toNat := fun v2329 k0_hw153 => k0_hw153.1
theorem k0_off617_inb : ∀ (v2329 : BitVec 32) (k0_hw153 : k0_chk153 v2329), ∀ a, (k0_off617 v2329) a + S16x1024.size a ≤ S851968x1024.size a := fun v2329 k0_hw153 => k0_hw153.2.1
theorem k0_off617_wordsbf16 : ∀ (v2329 : BitVec 32) (k0_hw153 : k0_chk153 v2329), (Rect.unit (s := S851968x1024) (k0_off617 v2329) S16x1024.size (k0_off617_inb v2329 k0_hw153)).WholeWords (EltTy.packing .bf16) := fun v2329 k0_hw153 => k0_hw153.2.2 (k0_off617_inb v2329 k0_hw153)

def k0_off618 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c152_i32 : BitVec 32 := 152#32
  let v2336 : BitVec 32 := Scalar.addi v38 c152_i32
  let v2337 : Index := Scalar.indexCast v2336
  ![v2337.toNat]
def k0_mult155 (v2338 : BitVec 32) : BitVec 32 :=
  v2338

def k0_off619 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off620 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2432_i32 : BitVec 32 := 2432#32
  let c0_i32_448 : BitVec 32 := 0#32
  ![v2.toNat, 2432, 0]
def k0_off621 (v2338 : BitVec 32) : Fin 2 → Nat :=
  let v2339 : BitVec 32 := v2338
  let c0_i32_449 : BitVec 32 := 0#32
  ![v2339.toNat, 0]

def k0_chk154 (v2338 : BitVec 32) : Prop :=
  (16 ∣ (k0_mult155 v2338).toNat) ∧
  (∀ a, (k0_off621 v2338) a + S16x1024.size a ≤ S851968x1024.size a) ∧
  (∀ (hinb : ∀ a, (k0_off621 v2338) a + S16x1024.size a ≤ S851968x1024.size a), (Rect.unit (s := S851968x1024) (k0_off621 v2338) S16x1024.size hinb).WholeWords (EltTy.packing .bf16))
theorem k0_mult155_dvd : ∀ (v2338 : BitVec 32) (k0_hw154 : k0_chk154 v2338), 16 ∣ (k0_mult155 v2338).toNat := fun v2338 k0_hw154 => k0_hw154.1
theorem k0_off621_inb : ∀ (v2338 : BitVec 32) (k0_hw154 : k0_chk154 v2338), ∀ a, (k0_off621 v2338) a + S16x1024.size a ≤ S851968x1024.size a := fun v2338 k0_hw154 => k0_hw154.2.1
theorem k0_off621_wordsbf16 : ∀ (v2338 : BitVec 32) (k0_hw154 : k0_chk154 v2338), (Rect.unit (s := S851968x1024) (k0_off621 v2338) S16x1024.size (k0_off621_inb v2338 k0_hw154)).WholeWords (EltTy.packing .bf16) := fun v2338 k0_hw154 => k0_hw154.2.2 (k0_off621_inb v2338 k0_hw154)

def k0_off622 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c153_i32 : BitVec 32 := 153#32
  let v2345 : BitVec 32 := Scalar.addi v38 c153_i32
  let v2346 : Index := Scalar.indexCast v2345
  ![v2346.toNat]
def k0_mult156 (v2347 : BitVec 32) : BitVec 32 :=
  v2347

def k0_off623 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off624 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2448_i32 : BitVec 32 := 2448#32
  let c0_i32_450 : BitVec 32 := 0#32
  ![v2.toNat, 2448, 0]
def k0_off625 (v2347 : BitVec 32) : Fin 2 → Nat :=
  let v2348 : BitVec 32 := v2347
  let c0_i32_451 : BitVec 32 := 0#32
  ![v2348.toNat, 0]

def k0_chk155 (v2347 : BitVec 32) : Prop :=
  (16 ∣ (k0_mult156 v2347).toNat) ∧
  (∀ a, (k0_off625 v2347) a + S16x1024.size a ≤ S851968x1024.size a) ∧
  (∀ (hinb : ∀ a, (k0_off625 v2347) a + S16x1024.size a ≤ S851968x1024.size a), (Rect.unit (s := S851968x1024) (k0_off625 v2347) S16x1024.size hinb).WholeWords (EltTy.packing .bf16))
theorem k0_mult156_dvd : ∀ (v2347 : BitVec 32) (k0_hw155 : k0_chk155 v2347), 16 ∣ (k0_mult156 v2347).toNat := fun v2347 k0_hw155 => k0_hw155.1
theorem k0_off625_inb : ∀ (v2347 : BitVec 32) (k0_hw155 : k0_chk155 v2347), ∀ a, (k0_off625 v2347) a + S16x1024.size a ≤ S851968x1024.size a := fun v2347 k0_hw155 => k0_hw155.2.1
theorem k0_off625_wordsbf16 : ∀ (v2347 : BitVec 32) (k0_hw155 : k0_chk155 v2347), (Rect.unit (s := S851968x1024) (k0_off625 v2347) S16x1024.size (k0_off625_inb v2347 k0_hw155)).WholeWords (EltTy.packing .bf16) := fun v2347 k0_hw155 => k0_hw155.2.2 (k0_off625_inb v2347 k0_hw155)

def k0_off626 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c154_i32 : BitVec 32 := 154#32
  let v2354 : BitVec 32 := Scalar.addi v38 c154_i32
  let v2355 : Index := Scalar.indexCast v2354
  ![v2355.toNat]
def k0_mult157 (v2356 : BitVec 32) : BitVec 32 :=
  v2356

def k0_off627 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off628 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2464_i32 : BitVec 32 := 2464#32
  let c0_i32_452 : BitVec 32 := 0#32
  ![v2.toNat, 2464, 0]
def k0_off629 (v2356 : BitVec 32) : Fin 2 → Nat :=
  let v2357 : BitVec 32 := v2356
  let c0_i32_453 : BitVec 32 := 0#32
  ![v2357.toNat, 0]

def k0_chk156 (v2356 : BitVec 32) : Prop :=
  (16 ∣ (k0_mult157 v2356).toNat) ∧
  (∀ a, (k0_off629 v2356) a + S16x1024.size a ≤ S851968x1024.size a) ∧
  (∀ (hinb : ∀ a, (k0_off629 v2356) a + S16x1024.size a ≤ S851968x1024.size a), (Rect.unit (s := S851968x1024) (k0_off629 v2356) S16x1024.size hinb).WholeWords (EltTy.packing .bf16))
theorem k0_mult157_dvd : ∀ (v2356 : BitVec 32) (k0_hw156 : k0_chk156 v2356), 16 ∣ (k0_mult157 v2356).toNat := fun v2356 k0_hw156 => k0_hw156.1
theorem k0_off629_inb : ∀ (v2356 : BitVec 32) (k0_hw156 : k0_chk156 v2356), ∀ a, (k0_off629 v2356) a + S16x1024.size a ≤ S851968x1024.size a := fun v2356 k0_hw156 => k0_hw156.2.1
theorem k0_off629_wordsbf16 : ∀ (v2356 : BitVec 32) (k0_hw156 : k0_chk156 v2356), (Rect.unit (s := S851968x1024) (k0_off629 v2356) S16x1024.size (k0_off629_inb v2356 k0_hw156)).WholeWords (EltTy.packing .bf16) := fun v2356 k0_hw156 => k0_hw156.2.2 (k0_off629_inb v2356 k0_hw156)

def k0_off630 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c155_i32 : BitVec 32 := 155#32
  let v2363 : BitVec 32 := Scalar.addi v38 c155_i32
  let v2364 : Index := Scalar.indexCast v2363
  ![v2364.toNat]
def k0_mult158 (v2365 : BitVec 32) : BitVec 32 :=
  v2365

def k0_off631 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off632 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2480_i32 : BitVec 32 := 2480#32
  let c0_i32_454 : BitVec 32 := 0#32
  ![v2.toNat, 2480, 0]
def k0_off633 (v2365 : BitVec 32) : Fin 2 → Nat :=
  let v2366 : BitVec 32 := v2365
  let c0_i32_455 : BitVec 32 := 0#32
  ![v2366.toNat, 0]

def k0_chk157 (v2365 : BitVec 32) : Prop :=
  (16 ∣ (k0_mult158 v2365).toNat) ∧
  (∀ a, (k0_off633 v2365) a + S16x1024.size a ≤ S851968x1024.size a) ∧
  (∀ (hinb : ∀ a, (k0_off633 v2365) a + S16x1024.size a ≤ S851968x1024.size a), (Rect.unit (s := S851968x1024) (k0_off633 v2365) S16x1024.size hinb).WholeWords (EltTy.packing .bf16))
theorem k0_mult158_dvd : ∀ (v2365 : BitVec 32) (k0_hw157 : k0_chk157 v2365), 16 ∣ (k0_mult158 v2365).toNat := fun v2365 k0_hw157 => k0_hw157.1
theorem k0_off633_inb : ∀ (v2365 : BitVec 32) (k0_hw157 : k0_chk157 v2365), ∀ a, (k0_off633 v2365) a + S16x1024.size a ≤ S851968x1024.size a := fun v2365 k0_hw157 => k0_hw157.2.1
theorem k0_off633_wordsbf16 : ∀ (v2365 : BitVec 32) (k0_hw157 : k0_chk157 v2365), (Rect.unit (s := S851968x1024) (k0_off633 v2365) S16x1024.size (k0_off633_inb v2365 k0_hw157)).WholeWords (EltTy.packing .bf16) := fun v2365 k0_hw157 => k0_hw157.2.2 (k0_off633_inb v2365 k0_hw157)

def k0_off634 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c156_i32 : BitVec 32 := 156#32
  let v2372 : BitVec 32 := Scalar.addi v38 c156_i32
  let v2373 : Index := Scalar.indexCast v2372
  ![v2373.toNat]
def k0_mult159 (v2374 : BitVec 32) : BitVec 32 :=
  v2374

def k0_off635 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off636 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2496_i32 : BitVec 32 := 2496#32
  let c0_i32_456 : BitVec 32 := 0#32
  ![v2.toNat, 2496, 0]
def k0_off637 (v2374 : BitVec 32) : Fin 2 → Nat :=
  let v2375 : BitVec 32 := v2374
  let c0_i32_457 : BitVec 32 := 0#32
  ![v2375.toNat, 0]

def k0_chk158 (v2374 : BitVec 32) : Prop :=
  (16 ∣ (k0_mult159 v2374).toNat) ∧
  (∀ a, (k0_off637 v2374) a + S16x1024.size a ≤ S851968x1024.size a) ∧
  (∀ (hinb : ∀ a, (k0_off637 v2374) a + S16x1024.size a ≤ S851968x1024.size a), (Rect.unit (s := S851968x1024) (k0_off637 v2374) S16x1024.size hinb).WholeWords (EltTy.packing .bf16))
theorem k0_mult159_dvd : ∀ (v2374 : BitVec 32) (k0_hw158 : k0_chk158 v2374), 16 ∣ (k0_mult159 v2374).toNat := fun v2374 k0_hw158 => k0_hw158.1
theorem k0_off637_inb : ∀ (v2374 : BitVec 32) (k0_hw158 : k0_chk158 v2374), ∀ a, (k0_off637 v2374) a + S16x1024.size a ≤ S851968x1024.size a := fun v2374 k0_hw158 => k0_hw158.2.1
theorem k0_off637_wordsbf16 : ∀ (v2374 : BitVec 32) (k0_hw158 : k0_chk158 v2374), (Rect.unit (s := S851968x1024) (k0_off637 v2374) S16x1024.size (k0_off637_inb v2374 k0_hw158)).WholeWords (EltTy.packing .bf16) := fun v2374 k0_hw158 => k0_hw158.2.2 (k0_off637_inb v2374 k0_hw158)

def k0_off638 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c157_i32 : BitVec 32 := 157#32
  let v2381 : BitVec 32 := Scalar.addi v38 c157_i32
  let v2382 : Index := Scalar.indexCast v2381
  ![v2382.toNat]
def k0_mult160 (v2383 : BitVec 32) : BitVec 32 :=
  v2383

def k0_off639 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off640 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2512_i32 : BitVec 32 := 2512#32
  let c0_i32_458 : BitVec 32 := 0#32
  ![v2.toNat, 2512, 0]
def k0_off641 (v2383 : BitVec 32) : Fin 2 → Nat :=
  let v2384 : BitVec 32 := v2383
  let c0_i32_459 : BitVec 32 := 0#32
  ![v2384.toNat, 0]

def k0_chk159 (v2383 : BitVec 32) : Prop :=
  (16 ∣ (k0_mult160 v2383).toNat) ∧
  (∀ a, (k0_off641 v2383) a + S16x1024.size a ≤ S851968x1024.size a) ∧
  (∀ (hinb : ∀ a, (k0_off641 v2383) a + S16x1024.size a ≤ S851968x1024.size a), (Rect.unit (s := S851968x1024) (k0_off641 v2383) S16x1024.size hinb).WholeWords (EltTy.packing .bf16))
theorem k0_mult160_dvd : ∀ (v2383 : BitVec 32) (k0_hw159 : k0_chk159 v2383), 16 ∣ (k0_mult160 v2383).toNat := fun v2383 k0_hw159 => k0_hw159.1
theorem k0_off641_inb : ∀ (v2383 : BitVec 32) (k0_hw159 : k0_chk159 v2383), ∀ a, (k0_off641 v2383) a + S16x1024.size a ≤ S851968x1024.size a := fun v2383 k0_hw159 => k0_hw159.2.1
theorem k0_off641_wordsbf16 : ∀ (v2383 : BitVec 32) (k0_hw159 : k0_chk159 v2383), (Rect.unit (s := S851968x1024) (k0_off641 v2383) S16x1024.size (k0_off641_inb v2383 k0_hw159)).WholeWords (EltTy.packing .bf16) := fun v2383 k0_hw159 => k0_hw159.2.2 (k0_off641_inb v2383 k0_hw159)

def k0_off642 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c158_i32 : BitVec 32 := 158#32
  let v2390 : BitVec 32 := Scalar.addi v38 c158_i32
  let v2391 : Index := Scalar.indexCast v2390
  ![v2391.toNat]
def k0_mult161 (v2392 : BitVec 32) : BitVec 32 :=
  v2392

def k0_off643 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off644 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2528_i32 : BitVec 32 := 2528#32
  let c0_i32_460 : BitVec 32 := 0#32
  ![v2.toNat, 2528, 0]
def k0_off645 (v2392 : BitVec 32) : Fin 2 → Nat :=
  let v2393 : BitVec 32 := v2392
  let c0_i32_461 : BitVec 32 := 0#32
  ![v2393.toNat, 0]

def k0_chk160 (v2392 : BitVec 32) : Prop :=
  (16 ∣ (k0_mult161 v2392).toNat) ∧
  (∀ a, (k0_off645 v2392) a + S16x1024.size a ≤ S851968x1024.size a) ∧
  (∀ (hinb : ∀ a, (k0_off645 v2392) a + S16x1024.size a ≤ S851968x1024.size a), (Rect.unit (s := S851968x1024) (k0_off645 v2392) S16x1024.size hinb).WholeWords (EltTy.packing .bf16))
theorem k0_mult161_dvd : ∀ (v2392 : BitVec 32) (k0_hw160 : k0_chk160 v2392), 16 ∣ (k0_mult161 v2392).toNat := fun v2392 k0_hw160 => k0_hw160.1
theorem k0_off645_inb : ∀ (v2392 : BitVec 32) (k0_hw160 : k0_chk160 v2392), ∀ a, (k0_off645 v2392) a + S16x1024.size a ≤ S851968x1024.size a := fun v2392 k0_hw160 => k0_hw160.2.1
theorem k0_off645_wordsbf16 : ∀ (v2392 : BitVec 32) (k0_hw160 : k0_chk160 v2392), (Rect.unit (s := S851968x1024) (k0_off645 v2392) S16x1024.size (k0_off645_inb v2392 k0_hw160)).WholeWords (EltTy.packing .bf16) := fun v2392 k0_hw160 => k0_hw160.2.2 (k0_off645_inb v2392 k0_hw160)

def k0_off646 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c159_i32 : BitVec 32 := 159#32
  let v2399 : BitVec 32 := Scalar.addi v38 c159_i32
  let v2400 : Index := Scalar.indexCast v2399
  ![v2400.toNat]
def k0_mult162 (v2401 : BitVec 32) : BitVec 32 :=
  v2401

def k0_off647 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off648 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2544_i32 : BitVec 32 := 2544#32
  let c0_i32_462 : BitVec 32 := 0#32
  ![v2.toNat, 2544, 0]
def k0_off649 (v2401 : BitVec 32) : Fin 2 → Nat :=
  let v2402 : BitVec 32 := v2401
  let c0_i32_463 : BitVec 32 := 0#32
  ![v2402.toNat, 0]

def k0_chk161 (v2401 : BitVec 32) : Prop :=
  (16 ∣ (k0_mult162 v2401).toNat) ∧
  (∀ a, (k0_off649 v2401) a + S16x1024.size a ≤ S851968x1024.size a) ∧
  (∀ (hinb : ∀ a, (k0_off649 v2401) a + S16x1024.size a ≤ S851968x1024.size a), (Rect.unit (s := S851968x1024) (k0_off649 v2401) S16x1024.size hinb).WholeWords (EltTy.packing .bf16))
theorem k0_mult162_dvd : ∀ (v2401 : BitVec 32) (k0_hw161 : k0_chk161 v2401), 16 ∣ (k0_mult162 v2401).toNat := fun v2401 k0_hw161 => k0_hw161.1
theorem k0_off649_inb : ∀ (v2401 : BitVec 32) (k0_hw161 : k0_chk161 v2401), ∀ a, (k0_off649 v2401) a + S16x1024.size a ≤ S851968x1024.size a := fun v2401 k0_hw161 => k0_hw161.2.1
theorem k0_off649_wordsbf16 : ∀ (v2401 : BitVec 32) (k0_hw161 : k0_chk161 v2401), (Rect.unit (s := S851968x1024) (k0_off649 v2401) S16x1024.size (k0_off649_inb v2401 k0_hw161)).WholeWords (EltTy.packing .bf16) := fun v2401 k0_hw161 => k0_hw161.2.2 (k0_off649_inb v2401 k0_hw161)

def k0_off650 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c160_i32_464 : BitVec 32 := 160#32
  let v2408 : BitVec 32 := Scalar.addi v38 c160_i32_464
  let v2409 : Index := Scalar.indexCast v2408
  ![v2409.toNat]
def k0_mult163 (v2410 : BitVec 32) : BitVec 32 :=
  v2410

def k0_off651 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off652 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2560_i32 : BitVec 32 := 2560#32
  let c0_i32_465 : BitVec 32 := 0#32
  ![v2.toNat, 2560, 0]
def k0_off653 (v2410 : BitVec 32) : Fin 2 → Nat :=
  let v2411 : BitVec 32 := v2410
  let c0_i32_466 : BitVec 32 := 0#32
  ![v2411.toNat, 0]

def k0_chk162 (v2410 : BitVec 32) : Prop :=
  (16 ∣ (k0_mult163 v2410).toNat) ∧
  (∀ a, (k0_off653 v2410) a + S16x1024.size a ≤ S851968x1024.size a) ∧
  (∀ (hinb : ∀ a, (k0_off653 v2410) a + S16x1024.size a ≤ S851968x1024.size a), (Rect.unit (s := S851968x1024) (k0_off653 v2410) S16x1024.size hinb).WholeWords (EltTy.packing .bf16))
theorem k0_mult163_dvd : ∀ (v2410 : BitVec 32) (k0_hw162 : k0_chk162 v2410), 16 ∣ (k0_mult163 v2410).toNat := fun v2410 k0_hw162 => k0_hw162.1
theorem k0_off653_inb : ∀ (v2410 : BitVec 32) (k0_hw162 : k0_chk162 v2410), ∀ a, (k0_off653 v2410) a + S16x1024.size a ≤ S851968x1024.size a := fun v2410 k0_hw162 => k0_hw162.2.1
theorem k0_off653_wordsbf16 : ∀ (v2410 : BitVec 32) (k0_hw162 : k0_chk162 v2410), (Rect.unit (s := S851968x1024) (k0_off653 v2410) S16x1024.size (k0_off653_inb v2410 k0_hw162)).WholeWords (EltTy.packing .bf16) := fun v2410 k0_hw162 => k0_hw162.2.2 (k0_off653_inb v2410 k0_hw162)

def k0_off654 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c161_i32 : BitVec 32 := 161#32
  let v2417 : BitVec 32 := Scalar.addi v38 c161_i32
  let v2418 : Index := Scalar.indexCast v2417
  ![v2418.toNat]
def k0_mult164 (v2419 : BitVec 32) : BitVec 32 :=
  v2419

def k0_off655 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off656 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2576_i32 : BitVec 32 := 2576#32
  let c0_i32_467 : BitVec 32 := 0#32
  ![v2.toNat, 2576, 0]
def k0_off657 (v2419 : BitVec 32) : Fin 2 → Nat :=
  let v2420 : BitVec 32 := v2419
  let c0_i32_468 : BitVec 32 := 0#32
  ![v2420.toNat, 0]

def k0_chk163 (v2419 : BitVec 32) : Prop :=
  (16 ∣ (k0_mult164 v2419).toNat) ∧
  (∀ a, (k0_off657 v2419) a + S16x1024.size a ≤ S851968x1024.size a) ∧
  (∀ (hinb : ∀ a, (k0_off657 v2419) a + S16x1024.size a ≤ S851968x1024.size a), (Rect.unit (s := S851968x1024) (k0_off657 v2419) S16x1024.size hinb).WholeWords (EltTy.packing .bf16))
theorem k0_mult164_dvd : ∀ (v2419 : BitVec 32) (k0_hw163 : k0_chk163 v2419), 16 ∣ (k0_mult164 v2419).toNat := fun v2419 k0_hw163 => k0_hw163.1
theorem k0_off657_inb : ∀ (v2419 : BitVec 32) (k0_hw163 : k0_chk163 v2419), ∀ a, (k0_off657 v2419) a + S16x1024.size a ≤ S851968x1024.size a := fun v2419 k0_hw163 => k0_hw163.2.1
theorem k0_off657_wordsbf16 : ∀ (v2419 : BitVec 32) (k0_hw163 : k0_chk163 v2419), (Rect.unit (s := S851968x1024) (k0_off657 v2419) S16x1024.size (k0_off657_inb v2419 k0_hw163)).WholeWords (EltTy.packing .bf16) := fun v2419 k0_hw163 => k0_hw163.2.2 (k0_off657_inb v2419 k0_hw163)

def k0_off658 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c162_i32 : BitVec 32 := 162#32
  let v2426 : BitVec 32 := Scalar.addi v38 c162_i32
  let v2427 : Index := Scalar.indexCast v2426
  ![v2427.toNat]
def k0_mult165 (v2428 : BitVec 32) : BitVec 32 :=
  v2428

def k0_off659 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off660 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2592_i32 : BitVec 32 := 2592#32
  let c0_i32_469 : BitVec 32 := 0#32
  ![v2.toNat, 2592, 0]
def k0_off661 (v2428 : BitVec 32) : Fin 2 → Nat :=
  let v2429 : BitVec 32 := v2428
  let c0_i32_470 : BitVec 32 := 0#32
  ![v2429.toNat, 0]

def k0_chk164 (v2428 : BitVec 32) : Prop :=
  (16 ∣ (k0_mult165 v2428).toNat) ∧
  (∀ a, (k0_off661 v2428) a + S16x1024.size a ≤ S851968x1024.size a) ∧
  (∀ (hinb : ∀ a, (k0_off661 v2428) a + S16x1024.size a ≤ S851968x1024.size a), (Rect.unit (s := S851968x1024) (k0_off661 v2428) S16x1024.size hinb).WholeWords (EltTy.packing .bf16))
theorem k0_mult165_dvd : ∀ (v2428 : BitVec 32) (k0_hw164 : k0_chk164 v2428), 16 ∣ (k0_mult165 v2428).toNat := fun v2428 k0_hw164 => k0_hw164.1
theorem k0_off661_inb : ∀ (v2428 : BitVec 32) (k0_hw164 : k0_chk164 v2428), ∀ a, (k0_off661 v2428) a + S16x1024.size a ≤ S851968x1024.size a := fun v2428 k0_hw164 => k0_hw164.2.1
theorem k0_off661_wordsbf16 : ∀ (v2428 : BitVec 32) (k0_hw164 : k0_chk164 v2428), (Rect.unit (s := S851968x1024) (k0_off661 v2428) S16x1024.size (k0_off661_inb v2428 k0_hw164)).WholeWords (EltTy.packing .bf16) := fun v2428 k0_hw164 => k0_hw164.2.2 (k0_off661_inb v2428 k0_hw164)

def k0_off662 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c163_i32 : BitVec 32 := 163#32
  let v2435 : BitVec 32 := Scalar.addi v38 c163_i32
  let v2436 : Index := Scalar.indexCast v2435
  ![v2436.toNat]
def k0_mult166 (v2437 : BitVec 32) : BitVec 32 :=
  v2437

def k0_off663 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off664 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2608_i32 : BitVec 32 := 2608#32
  let c0_i32_471 : BitVec 32 := 0#32
  ![v2.toNat, 2608, 0]
def k0_off665 (v2437 : BitVec 32) : Fin 2 → Nat :=
  let v2438 : BitVec 32 := v2437
  let c0_i32_472 : BitVec 32 := 0#32
  ![v2438.toNat, 0]

def k0_chk165 (v2437 : BitVec 32) : Prop :=
  (16 ∣ (k0_mult166 v2437).toNat) ∧
  (∀ a, (k0_off665 v2437) a + S16x1024.size a ≤ S851968x1024.size a) ∧
  (∀ (hinb : ∀ a, (k0_off665 v2437) a + S16x1024.size a ≤ S851968x1024.size a), (Rect.unit (s := S851968x1024) (k0_off665 v2437) S16x1024.size hinb).WholeWords (EltTy.packing .bf16))
theorem k0_mult166_dvd : ∀ (v2437 : BitVec 32) (k0_hw165 : k0_chk165 v2437), 16 ∣ (k0_mult166 v2437).toNat := fun v2437 k0_hw165 => k0_hw165.1
theorem k0_off665_inb : ∀ (v2437 : BitVec 32) (k0_hw165 : k0_chk165 v2437), ∀ a, (k0_off665 v2437) a + S16x1024.size a ≤ S851968x1024.size a := fun v2437 k0_hw165 => k0_hw165.2.1
theorem k0_off665_wordsbf16 : ∀ (v2437 : BitVec 32) (k0_hw165 : k0_chk165 v2437), (Rect.unit (s := S851968x1024) (k0_off665 v2437) S16x1024.size (k0_off665_inb v2437 k0_hw165)).WholeWords (EltTy.packing .bf16) := fun v2437 k0_hw165 => k0_hw165.2.2 (k0_off665_inb v2437 k0_hw165)

def k0_off666 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c164_i32 : BitVec 32 := 164#32
  let v2444 : BitVec 32 := Scalar.addi v38 c164_i32
  let v2445 : Index := Scalar.indexCast v2444
  ![v2445.toNat]
def k0_mult167 (v2446 : BitVec 32) : BitVec 32 :=
  v2446

def k0_off667 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off668 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2624_i32 : BitVec 32 := 2624#32
  let c0_i32_473 : BitVec 32 := 0#32
  ![v2.toNat, 2624, 0]
def k0_off669 (v2446 : BitVec 32) : Fin 2 → Nat :=
  let v2447 : BitVec 32 := v2446
  let c0_i32_474 : BitVec 32 := 0#32
  ![v2447.toNat, 0]

def k0_chk166 (v2446 : BitVec 32) : Prop :=
  (16 ∣ (k0_mult167 v2446).toNat) ∧
  (∀ a, (k0_off669 v2446) a + S16x1024.size a ≤ S851968x1024.size a) ∧
  (∀ (hinb : ∀ a, (k0_off669 v2446) a + S16x1024.size a ≤ S851968x1024.size a), (Rect.unit (s := S851968x1024) (k0_off669 v2446) S16x1024.size hinb).WholeWords (EltTy.packing .bf16))
theorem k0_mult167_dvd : ∀ (v2446 : BitVec 32) (k0_hw166 : k0_chk166 v2446), 16 ∣ (k0_mult167 v2446).toNat := fun v2446 k0_hw166 => k0_hw166.1
theorem k0_off669_inb : ∀ (v2446 : BitVec 32) (k0_hw166 : k0_chk166 v2446), ∀ a, (k0_off669 v2446) a + S16x1024.size a ≤ S851968x1024.size a := fun v2446 k0_hw166 => k0_hw166.2.1
theorem k0_off669_wordsbf16 : ∀ (v2446 : BitVec 32) (k0_hw166 : k0_chk166 v2446), (Rect.unit (s := S851968x1024) (k0_off669 v2446) S16x1024.size (k0_off669_inb v2446 k0_hw166)).WholeWords (EltTy.packing .bf16) := fun v2446 k0_hw166 => k0_hw166.2.2 (k0_off669_inb v2446 k0_hw166)

def k0_off670 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c165_i32 : BitVec 32 := 165#32
  let v2453 : BitVec 32 := Scalar.addi v38 c165_i32
  let v2454 : Index := Scalar.indexCast v2453
  ![v2454.toNat]
def k0_mult168 (v2455 : BitVec 32) : BitVec 32 :=
  v2455

def k0_off671 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off672 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2640_i32 : BitVec 32 := 2640#32
  let c0_i32_475 : BitVec 32 := 0#32
  ![v2.toNat, 2640, 0]
def k0_off673 (v2455 : BitVec 32) : Fin 2 → Nat :=
  let v2456 : BitVec 32 := v2455
  let c0_i32_476 : BitVec 32 := 0#32
  ![v2456.toNat, 0]

def k0_chk167 (v2455 : BitVec 32) : Prop :=
  (16 ∣ (k0_mult168 v2455).toNat) ∧
  (∀ a, (k0_off673 v2455) a + S16x1024.size a ≤ S851968x1024.size a) ∧
  (∀ (hinb : ∀ a, (k0_off673 v2455) a + S16x1024.size a ≤ S851968x1024.size a), (Rect.unit (s := S851968x1024) (k0_off673 v2455) S16x1024.size hinb).WholeWords (EltTy.packing .bf16))
theorem k0_mult168_dvd : ∀ (v2455 : BitVec 32) (k0_hw167 : k0_chk167 v2455), 16 ∣ (k0_mult168 v2455).toNat := fun v2455 k0_hw167 => k0_hw167.1
theorem k0_off673_inb : ∀ (v2455 : BitVec 32) (k0_hw167 : k0_chk167 v2455), ∀ a, (k0_off673 v2455) a + S16x1024.size a ≤ S851968x1024.size a := fun v2455 k0_hw167 => k0_hw167.2.1
theorem k0_off673_wordsbf16 : ∀ (v2455 : BitVec 32) (k0_hw167 : k0_chk167 v2455), (Rect.unit (s := S851968x1024) (k0_off673 v2455) S16x1024.size (k0_off673_inb v2455 k0_hw167)).WholeWords (EltTy.packing .bf16) := fun v2455 k0_hw167 => k0_hw167.2.2 (k0_off673_inb v2455 k0_hw167)

def k0_off674 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c166_i32 : BitVec 32 := 166#32
  let v2462 : BitVec 32 := Scalar.addi v38 c166_i32
  let v2463 : Index := Scalar.indexCast v2462
  ![v2463.toNat]
def k0_mult169 (v2464 : BitVec 32) : BitVec 32 :=
  v2464

def k0_off675 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off676 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2656_i32 : BitVec 32 := 2656#32
  let c0_i32_477 : BitVec 32 := 0#32
  ![v2.toNat, 2656, 0]
def k0_off677 (v2464 : BitVec 32) : Fin 2 → Nat :=
  let v2465 : BitVec 32 := v2464
  let c0_i32_478 : BitVec 32 := 0#32
  ![v2465.toNat, 0]

def k0_chk168 (v2464 : BitVec 32) : Prop :=
  (16 ∣ (k0_mult169 v2464).toNat) ∧
  (∀ a, (k0_off677 v2464) a + S16x1024.size a ≤ S851968x1024.size a) ∧
  (∀ (hinb : ∀ a, (k0_off677 v2464) a + S16x1024.size a ≤ S851968x1024.size a), (Rect.unit (s := S851968x1024) (k0_off677 v2464) S16x1024.size hinb).WholeWords (EltTy.packing .bf16))
theorem k0_mult169_dvd : ∀ (v2464 : BitVec 32) (k0_hw168 : k0_chk168 v2464), 16 ∣ (k0_mult169 v2464).toNat := fun v2464 k0_hw168 => k0_hw168.1
theorem k0_off677_inb : ∀ (v2464 : BitVec 32) (k0_hw168 : k0_chk168 v2464), ∀ a, (k0_off677 v2464) a + S16x1024.size a ≤ S851968x1024.size a := fun v2464 k0_hw168 => k0_hw168.2.1
theorem k0_off677_wordsbf16 : ∀ (v2464 : BitVec 32) (k0_hw168 : k0_chk168 v2464), (Rect.unit (s := S851968x1024) (k0_off677 v2464) S16x1024.size (k0_off677_inb v2464 k0_hw168)).WholeWords (EltTy.packing .bf16) := fun v2464 k0_hw168 => k0_hw168.2.2 (k0_off677_inb v2464 k0_hw168)

def k0_off678 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c167_i32 : BitVec 32 := 167#32
  let v2471 : BitVec 32 := Scalar.addi v38 c167_i32
  let v2472 : Index := Scalar.indexCast v2471
  ![v2472.toNat]
def k0_mult170 (v2473 : BitVec 32) : BitVec 32 :=
  v2473

def k0_off679 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off680 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2672_i32 : BitVec 32 := 2672#32
  let c0_i32_479 : BitVec 32 := 0#32
  ![v2.toNat, 2672, 0]
def k0_off681 (v2473 : BitVec 32) : Fin 2 → Nat :=
  let v2474 : BitVec 32 := v2473
  let c0_i32_480 : BitVec 32 := 0#32
  ![v2474.toNat, 0]

def k0_chk169 (v2473 : BitVec 32) : Prop :=
  (16 ∣ (k0_mult170 v2473).toNat) ∧
  (∀ a, (k0_off681 v2473) a + S16x1024.size a ≤ S851968x1024.size a) ∧
  (∀ (hinb : ∀ a, (k0_off681 v2473) a + S16x1024.size a ≤ S851968x1024.size a), (Rect.unit (s := S851968x1024) (k0_off681 v2473) S16x1024.size hinb).WholeWords (EltTy.packing .bf16))
theorem k0_mult170_dvd : ∀ (v2473 : BitVec 32) (k0_hw169 : k0_chk169 v2473), 16 ∣ (k0_mult170 v2473).toNat := fun v2473 k0_hw169 => k0_hw169.1
theorem k0_off681_inb : ∀ (v2473 : BitVec 32) (k0_hw169 : k0_chk169 v2473), ∀ a, (k0_off681 v2473) a + S16x1024.size a ≤ S851968x1024.size a := fun v2473 k0_hw169 => k0_hw169.2.1
theorem k0_off681_wordsbf16 : ∀ (v2473 : BitVec 32) (k0_hw169 : k0_chk169 v2473), (Rect.unit (s := S851968x1024) (k0_off681 v2473) S16x1024.size (k0_off681_inb v2473 k0_hw169)).WholeWords (EltTy.packing .bf16) := fun v2473 k0_hw169 => k0_hw169.2.2 (k0_off681_inb v2473 k0_hw169)

def k0_off682 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c168_i32 : BitVec 32 := 168#32
  let v2480 : BitVec 32 := Scalar.addi v38 c168_i32
  let v2481 : Index := Scalar.indexCast v2480
  ![v2481.toNat]
def k0_mult171 (v2482 : BitVec 32) : BitVec 32 :=
  v2482

def k0_off683 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off684 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2688_i32 : BitVec 32 := 2688#32
  let c0_i32_481 : BitVec 32 := 0#32
  ![v2.toNat, 2688, 0]
def k0_off685 (v2482 : BitVec 32) : Fin 2 → Nat :=
  let v2483 : BitVec 32 := v2482
  let c0_i32_482 : BitVec 32 := 0#32
  ![v2483.toNat, 0]

def k0_chk170 (v2482 : BitVec 32) : Prop :=
  (16 ∣ (k0_mult171 v2482).toNat) ∧
  (∀ a, (k0_off685 v2482) a + S16x1024.size a ≤ S851968x1024.size a) ∧
  (∀ (hinb : ∀ a, (k0_off685 v2482) a + S16x1024.size a ≤ S851968x1024.size a), (Rect.unit (s := S851968x1024) (k0_off685 v2482) S16x1024.size hinb).WholeWords (EltTy.packing .bf16))
theorem k0_mult171_dvd : ∀ (v2482 : BitVec 32) (k0_hw170 : k0_chk170 v2482), 16 ∣ (k0_mult171 v2482).toNat := fun v2482 k0_hw170 => k0_hw170.1
theorem k0_off685_inb : ∀ (v2482 : BitVec 32) (k0_hw170 : k0_chk170 v2482), ∀ a, (k0_off685 v2482) a + S16x1024.size a ≤ S851968x1024.size a := fun v2482 k0_hw170 => k0_hw170.2.1
theorem k0_off685_wordsbf16 : ∀ (v2482 : BitVec 32) (k0_hw170 : k0_chk170 v2482), (Rect.unit (s := S851968x1024) (k0_off685 v2482) S16x1024.size (k0_off685_inb v2482 k0_hw170)).WholeWords (EltTy.packing .bf16) := fun v2482 k0_hw170 => k0_hw170.2.2 (k0_off685_inb v2482 k0_hw170)

def k0_off686 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c169_i32 : BitVec 32 := 169#32
  let v2489 : BitVec 32 := Scalar.addi v38 c169_i32
  let v2490 : Index := Scalar.indexCast v2489
  ![v2490.toNat]
def k0_mult172 (v2491 : BitVec 32) : BitVec 32 :=
  v2491

def k0_off687 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off688 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2704_i32 : BitVec 32 := 2704#32
  let c0_i32_483 : BitVec 32 := 0#32
  ![v2.toNat, 2704, 0]
def k0_off689 (v2491 : BitVec 32) : Fin 2 → Nat :=
  let v2492 : BitVec 32 := v2491
  let c0_i32_484 : BitVec 32 := 0#32
  ![v2492.toNat, 0]

def k0_chk171 (v2491 : BitVec 32) : Prop :=
  (16 ∣ (k0_mult172 v2491).toNat) ∧
  (∀ a, (k0_off689 v2491) a + S16x1024.size a ≤ S851968x1024.size a) ∧
  (∀ (hinb : ∀ a, (k0_off689 v2491) a + S16x1024.size a ≤ S851968x1024.size a), (Rect.unit (s := S851968x1024) (k0_off689 v2491) S16x1024.size hinb).WholeWords (EltTy.packing .bf16))
theorem k0_mult172_dvd : ∀ (v2491 : BitVec 32) (k0_hw171 : k0_chk171 v2491), 16 ∣ (k0_mult172 v2491).toNat := fun v2491 k0_hw171 => k0_hw171.1
theorem k0_off689_inb : ∀ (v2491 : BitVec 32) (k0_hw171 : k0_chk171 v2491), ∀ a, (k0_off689 v2491) a + S16x1024.size a ≤ S851968x1024.size a := fun v2491 k0_hw171 => k0_hw171.2.1
theorem k0_off689_wordsbf16 : ∀ (v2491 : BitVec 32) (k0_hw171 : k0_chk171 v2491), (Rect.unit (s := S851968x1024) (k0_off689 v2491) S16x1024.size (k0_off689_inb v2491 k0_hw171)).WholeWords (EltTy.packing .bf16) := fun v2491 k0_hw171 => k0_hw171.2.2 (k0_off689_inb v2491 k0_hw171)

def k0_off690 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c170_i32 : BitVec 32 := 170#32
  let v2498 : BitVec 32 := Scalar.addi v38 c170_i32
  let v2499 : Index := Scalar.indexCast v2498
  ![v2499.toNat]
def k0_mult173 (v2500 : BitVec 32) : BitVec 32 :=
  v2500

def k0_off691 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off692 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2720_i32 : BitVec 32 := 2720#32
  let c0_i32_485 : BitVec 32 := 0#32
  ![v2.toNat, 2720, 0]
def k0_off693 (v2500 : BitVec 32) : Fin 2 → Nat :=
  let v2501 : BitVec 32 := v2500
  let c0_i32_486 : BitVec 32 := 0#32
  ![v2501.toNat, 0]

def k0_chk172 (v2500 : BitVec 32) : Prop :=
  (16 ∣ (k0_mult173 v2500).toNat) ∧
  (∀ a, (k0_off693 v2500) a + S16x1024.size a ≤ S851968x1024.size a) ∧
  (∀ (hinb : ∀ a, (k0_off693 v2500) a + S16x1024.size a ≤ S851968x1024.size a), (Rect.unit (s := S851968x1024) (k0_off693 v2500) S16x1024.size hinb).WholeWords (EltTy.packing .bf16))
theorem k0_mult173_dvd : ∀ (v2500 : BitVec 32) (k0_hw172 : k0_chk172 v2500), 16 ∣ (k0_mult173 v2500).toNat := fun v2500 k0_hw172 => k0_hw172.1
theorem k0_off693_inb : ∀ (v2500 : BitVec 32) (k0_hw172 : k0_chk172 v2500), ∀ a, (k0_off693 v2500) a + S16x1024.size a ≤ S851968x1024.size a := fun v2500 k0_hw172 => k0_hw172.2.1
theorem k0_off693_wordsbf16 : ∀ (v2500 : BitVec 32) (k0_hw172 : k0_chk172 v2500), (Rect.unit (s := S851968x1024) (k0_off693 v2500) S16x1024.size (k0_off693_inb v2500 k0_hw172)).WholeWords (EltTy.packing .bf16) := fun v2500 k0_hw172 => k0_hw172.2.2 (k0_off693_inb v2500 k0_hw172)

def k0_off694 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c171_i32 : BitVec 32 := 171#32
  let v2507 : BitVec 32 := Scalar.addi v38 c171_i32
  let v2508 : Index := Scalar.indexCast v2507
  ![v2508.toNat]
def k0_mult174 (v2509 : BitVec 32) : BitVec 32 :=
  v2509

def k0_off695 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off696 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2736_i32 : BitVec 32 := 2736#32
  let c0_i32_487 : BitVec 32 := 0#32
  ![v2.toNat, 2736, 0]
def k0_off697 (v2509 : BitVec 32) : Fin 2 → Nat :=
  let v2510 : BitVec 32 := v2509
  let c0_i32_488 : BitVec 32 := 0#32
  ![v2510.toNat, 0]

def k0_chk173 (v2509 : BitVec 32) : Prop :=
  (16 ∣ (k0_mult174 v2509).toNat) ∧
  (∀ a, (k0_off697 v2509) a + S16x1024.size a ≤ S851968x1024.size a) ∧
  (∀ (hinb : ∀ a, (k0_off697 v2509) a + S16x1024.size a ≤ S851968x1024.size a), (Rect.unit (s := S851968x1024) (k0_off697 v2509) S16x1024.size hinb).WholeWords (EltTy.packing .bf16))
theorem k0_mult174_dvd : ∀ (v2509 : BitVec 32) (k0_hw173 : k0_chk173 v2509), 16 ∣ (k0_mult174 v2509).toNat := fun v2509 k0_hw173 => k0_hw173.1
theorem k0_off697_inb : ∀ (v2509 : BitVec 32) (k0_hw173 : k0_chk173 v2509), ∀ a, (k0_off697 v2509) a + S16x1024.size a ≤ S851968x1024.size a := fun v2509 k0_hw173 => k0_hw173.2.1
theorem k0_off697_wordsbf16 : ∀ (v2509 : BitVec 32) (k0_hw173 : k0_chk173 v2509), (Rect.unit (s := S851968x1024) (k0_off697 v2509) S16x1024.size (k0_off697_inb v2509 k0_hw173)).WholeWords (EltTy.packing .bf16) := fun v2509 k0_hw173 => k0_hw173.2.2 (k0_off697_inb v2509 k0_hw173)

def k0_off698 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c172_i32 : BitVec 32 := 172#32
  let v2516 : BitVec 32 := Scalar.addi v38 c172_i32
  let v2517 : Index := Scalar.indexCast v2516
  ![v2517.toNat]
def k0_mult175 (v2518 : BitVec 32) : BitVec 32 :=
  v2518

def k0_off699 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off700 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2752_i32 : BitVec 32 := 2752#32
  let c0_i32_489 : BitVec 32 := 0#32
  ![v2.toNat, 2752, 0]
def k0_off701 (v2518 : BitVec 32) : Fin 2 → Nat :=
  let v2519 : BitVec 32 := v2518
  let c0_i32_490 : BitVec 32 := 0#32
  ![v2519.toNat, 0]

def k0_chk174 (v2518 : BitVec 32) : Prop :=
  (16 ∣ (k0_mult175 v2518).toNat) ∧
  (∀ a, (k0_off701 v2518) a + S16x1024.size a ≤ S851968x1024.size a) ∧
  (∀ (hinb : ∀ a, (k0_off701 v2518) a + S16x1024.size a ≤ S851968x1024.size a), (Rect.unit (s := S851968x1024) (k0_off701 v2518) S16x1024.size hinb).WholeWords (EltTy.packing .bf16))
theorem k0_mult175_dvd : ∀ (v2518 : BitVec 32) (k0_hw174 : k0_chk174 v2518), 16 ∣ (k0_mult175 v2518).toNat := fun v2518 k0_hw174 => k0_hw174.1
theorem k0_off701_inb : ∀ (v2518 : BitVec 32) (k0_hw174 : k0_chk174 v2518), ∀ a, (k0_off701 v2518) a + S16x1024.size a ≤ S851968x1024.size a := fun v2518 k0_hw174 => k0_hw174.2.1
theorem k0_off701_wordsbf16 : ∀ (v2518 : BitVec 32) (k0_hw174 : k0_chk174 v2518), (Rect.unit (s := S851968x1024) (k0_off701 v2518) S16x1024.size (k0_off701_inb v2518 k0_hw174)).WholeWords (EltTy.packing .bf16) := fun v2518 k0_hw174 => k0_hw174.2.2 (k0_off701_inb v2518 k0_hw174)

def k0_off702 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c173_i32 : BitVec 32 := 173#32
  let v2525 : BitVec 32 := Scalar.addi v38 c173_i32
  let v2526 : Index := Scalar.indexCast v2525
  ![v2526.toNat]
def k0_mult176 (v2527 : BitVec 32) : BitVec 32 :=
  v2527

def k0_off703 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off704 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2768_i32 : BitVec 32 := 2768#32
  let c0_i32_491 : BitVec 32 := 0#32
  ![v2.toNat, 2768, 0]
def k0_off705 (v2527 : BitVec 32) : Fin 2 → Nat :=
  let v2528 : BitVec 32 := v2527
  let c0_i32_492 : BitVec 32 := 0#32
  ![v2528.toNat, 0]

def k0_chk175 (v2527 : BitVec 32) : Prop :=
  (16 ∣ (k0_mult176 v2527).toNat) ∧
  (∀ a, (k0_off705 v2527) a + S16x1024.size a ≤ S851968x1024.size a) ∧
  (∀ (hinb : ∀ a, (k0_off705 v2527) a + S16x1024.size a ≤ S851968x1024.size a), (Rect.unit (s := S851968x1024) (k0_off705 v2527) S16x1024.size hinb).WholeWords (EltTy.packing .bf16))
theorem k0_mult176_dvd : ∀ (v2527 : BitVec 32) (k0_hw175 : k0_chk175 v2527), 16 ∣ (k0_mult176 v2527).toNat := fun v2527 k0_hw175 => k0_hw175.1
theorem k0_off705_inb : ∀ (v2527 : BitVec 32) (k0_hw175 : k0_chk175 v2527), ∀ a, (k0_off705 v2527) a + S16x1024.size a ≤ S851968x1024.size a := fun v2527 k0_hw175 => k0_hw175.2.1
theorem k0_off705_wordsbf16 : ∀ (v2527 : BitVec 32) (k0_hw175 : k0_chk175 v2527), (Rect.unit (s := S851968x1024) (k0_off705 v2527) S16x1024.size (k0_off705_inb v2527 k0_hw175)).WholeWords (EltTy.packing .bf16) := fun v2527 k0_hw175 => k0_hw175.2.2 (k0_off705_inb v2527 k0_hw175)

def k0_off706 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c174_i32 : BitVec 32 := 174#32
  let v2534 : BitVec 32 := Scalar.addi v38 c174_i32
  let v2535 : Index := Scalar.indexCast v2534
  ![v2535.toNat]
def k0_mult177 (v2536 : BitVec 32) : BitVec 32 :=
  v2536

def k0_off707 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off708 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2784_i32 : BitVec 32 := 2784#32
  let c0_i32_493 : BitVec 32 := 0#32
  ![v2.toNat, 2784, 0]
def k0_off709 (v2536 : BitVec 32) : Fin 2 → Nat :=
  let v2537 : BitVec 32 := v2536
  let c0_i32_494 : BitVec 32 := 0#32
  ![v2537.toNat, 0]

def k0_chk176 (v2536 : BitVec 32) : Prop :=
  (16 ∣ (k0_mult177 v2536).toNat) ∧
  (∀ a, (k0_off709 v2536) a + S16x1024.size a ≤ S851968x1024.size a) ∧
  (∀ (hinb : ∀ a, (k0_off709 v2536) a + S16x1024.size a ≤ S851968x1024.size a), (Rect.unit (s := S851968x1024) (k0_off709 v2536) S16x1024.size hinb).WholeWords (EltTy.packing .bf16))
theorem k0_mult177_dvd : ∀ (v2536 : BitVec 32) (k0_hw176 : k0_chk176 v2536), 16 ∣ (k0_mult177 v2536).toNat := fun v2536 k0_hw176 => k0_hw176.1
theorem k0_off709_inb : ∀ (v2536 : BitVec 32) (k0_hw176 : k0_chk176 v2536), ∀ a, (k0_off709 v2536) a + S16x1024.size a ≤ S851968x1024.size a := fun v2536 k0_hw176 => k0_hw176.2.1
theorem k0_off709_wordsbf16 : ∀ (v2536 : BitVec 32) (k0_hw176 : k0_chk176 v2536), (Rect.unit (s := S851968x1024) (k0_off709 v2536) S16x1024.size (k0_off709_inb v2536 k0_hw176)).WholeWords (EltTy.packing .bf16) := fun v2536 k0_hw176 => k0_hw176.2.2 (k0_off709_inb v2536 k0_hw176)

def k0_off710 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c175_i32 : BitVec 32 := 175#32
  let v2543 : BitVec 32 := Scalar.addi v38 c175_i32
  let v2544 : Index := Scalar.indexCast v2543
  ![v2544.toNat]
def k0_mult178 (v2545 : BitVec 32) : BitVec 32 :=
  v2545

def k0_off711 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off712 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2800_i32 : BitVec 32 := 2800#32
  let c0_i32_495 : BitVec 32 := 0#32
  ![v2.toNat, 2800, 0]
def k0_off713 (v2545 : BitVec 32) : Fin 2 → Nat :=
  let v2546 : BitVec 32 := v2545
  let c0_i32_496 : BitVec 32 := 0#32
  ![v2546.toNat, 0]

def k0_chk177 (v2545 : BitVec 32) : Prop :=
  (16 ∣ (k0_mult178 v2545).toNat) ∧
  (∀ a, (k0_off713 v2545) a + S16x1024.size a ≤ S851968x1024.size a) ∧
  (∀ (hinb : ∀ a, (k0_off713 v2545) a + S16x1024.size a ≤ S851968x1024.size a), (Rect.unit (s := S851968x1024) (k0_off713 v2545) S16x1024.size hinb).WholeWords (EltTy.packing .bf16))
theorem k0_mult178_dvd : ∀ (v2545 : BitVec 32) (k0_hw177 : k0_chk177 v2545), 16 ∣ (k0_mult178 v2545).toNat := fun v2545 k0_hw177 => k0_hw177.1
theorem k0_off713_inb : ∀ (v2545 : BitVec 32) (k0_hw177 : k0_chk177 v2545), ∀ a, (k0_off713 v2545) a + S16x1024.size a ≤ S851968x1024.size a := fun v2545 k0_hw177 => k0_hw177.2.1
theorem k0_off713_wordsbf16 : ∀ (v2545 : BitVec 32) (k0_hw177 : k0_chk177 v2545), (Rect.unit (s := S851968x1024) (k0_off713 v2545) S16x1024.size (k0_off713_inb v2545 k0_hw177)).WholeWords (EltTy.packing .bf16) := fun v2545 k0_hw177 => k0_hw177.2.2 (k0_off713_inb v2545 k0_hw177)

def k0_off714 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c176_i32_497 : BitVec 32 := 176#32
  let v2552 : BitVec 32 := Scalar.addi v38 c176_i32_497
  let v2553 : Index := Scalar.indexCast v2552
  ![v2553.toNat]
def k0_mult179 (v2554 : BitVec 32) : BitVec 32 :=
  v2554

def k0_off715 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off716 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2816_i32 : BitVec 32 := 2816#32
  let c0_i32_498 : BitVec 32 := 0#32
  ![v2.toNat, 2816, 0]
def k0_off717 (v2554 : BitVec 32) : Fin 2 → Nat :=
  let v2555 : BitVec 32 := v2554
  let c0_i32_499 : BitVec 32 := 0#32
  ![v2555.toNat, 0]

def k0_chk178 (v2554 : BitVec 32) : Prop :=
  (16 ∣ (k0_mult179 v2554).toNat) ∧
  (∀ a, (k0_off717 v2554) a + S16x1024.size a ≤ S851968x1024.size a) ∧
  (∀ (hinb : ∀ a, (k0_off717 v2554) a + S16x1024.size a ≤ S851968x1024.size a), (Rect.unit (s := S851968x1024) (k0_off717 v2554) S16x1024.size hinb).WholeWords (EltTy.packing .bf16))
theorem k0_mult179_dvd : ∀ (v2554 : BitVec 32) (k0_hw178 : k0_chk178 v2554), 16 ∣ (k0_mult179 v2554).toNat := fun v2554 k0_hw178 => k0_hw178.1
theorem k0_off717_inb : ∀ (v2554 : BitVec 32) (k0_hw178 : k0_chk178 v2554), ∀ a, (k0_off717 v2554) a + S16x1024.size a ≤ S851968x1024.size a := fun v2554 k0_hw178 => k0_hw178.2.1
theorem k0_off717_wordsbf16 : ∀ (v2554 : BitVec 32) (k0_hw178 : k0_chk178 v2554), (Rect.unit (s := S851968x1024) (k0_off717 v2554) S16x1024.size (k0_off717_inb v2554 k0_hw178)).WholeWords (EltTy.packing .bf16) := fun v2554 k0_hw178 => k0_hw178.2.2 (k0_off717_inb v2554 k0_hw178)

def k0_off718 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c177_i32 : BitVec 32 := 177#32
  let v2561 : BitVec 32 := Scalar.addi v38 c177_i32
  let v2562 : Index := Scalar.indexCast v2561
  ![v2562.toNat]
def k0_mult180 (v2563 : BitVec 32) : BitVec 32 :=
  v2563

def k0_off719 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off720 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2832_i32 : BitVec 32 := 2832#32
  let c0_i32_500 : BitVec 32 := 0#32
  ![v2.toNat, 2832, 0]
def k0_off721 (v2563 : BitVec 32) : Fin 2 → Nat :=
  let v2564 : BitVec 32 := v2563
  let c0_i32_501 : BitVec 32 := 0#32
  ![v2564.toNat, 0]

def k0_chk179 (v2563 : BitVec 32) : Prop :=
  (16 ∣ (k0_mult180 v2563).toNat) ∧
  (∀ a, (k0_off721 v2563) a + S16x1024.size a ≤ S851968x1024.size a) ∧
  (∀ (hinb : ∀ a, (k0_off721 v2563) a + S16x1024.size a ≤ S851968x1024.size a), (Rect.unit (s := S851968x1024) (k0_off721 v2563) S16x1024.size hinb).WholeWords (EltTy.packing .bf16))
theorem k0_mult180_dvd : ∀ (v2563 : BitVec 32) (k0_hw179 : k0_chk179 v2563), 16 ∣ (k0_mult180 v2563).toNat := fun v2563 k0_hw179 => k0_hw179.1
theorem k0_off721_inb : ∀ (v2563 : BitVec 32) (k0_hw179 : k0_chk179 v2563), ∀ a, (k0_off721 v2563) a + S16x1024.size a ≤ S851968x1024.size a := fun v2563 k0_hw179 => k0_hw179.2.1
theorem k0_off721_wordsbf16 : ∀ (v2563 : BitVec 32) (k0_hw179 : k0_chk179 v2563), (Rect.unit (s := S851968x1024) (k0_off721 v2563) S16x1024.size (k0_off721_inb v2563 k0_hw179)).WholeWords (EltTy.packing .bf16) := fun v2563 k0_hw179 => k0_hw179.2.2 (k0_off721_inb v2563 k0_hw179)

def k0_off722 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c178_i32 : BitVec 32 := 178#32
  let v2570 : BitVec 32 := Scalar.addi v38 c178_i32
  let v2571 : Index := Scalar.indexCast v2570
  ![v2571.toNat]
def k0_mult181 (v2572 : BitVec 32) : BitVec 32 :=
  v2572

def k0_off723 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off724 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2848_i32 : BitVec 32 := 2848#32
  let c0_i32_502 : BitVec 32 := 0#32
  ![v2.toNat, 2848, 0]
def k0_off725 (v2572 : BitVec 32) : Fin 2 → Nat :=
  let v2573 : BitVec 32 := v2572
  let c0_i32_503 : BitVec 32 := 0#32
  ![v2573.toNat, 0]

def k0_chk180 (v2572 : BitVec 32) : Prop :=
  (16 ∣ (k0_mult181 v2572).toNat) ∧
  (∀ a, (k0_off725 v2572) a + S16x1024.size a ≤ S851968x1024.size a) ∧
  (∀ (hinb : ∀ a, (k0_off725 v2572) a + S16x1024.size a ≤ S851968x1024.size a), (Rect.unit (s := S851968x1024) (k0_off725 v2572) S16x1024.size hinb).WholeWords (EltTy.packing .bf16))
theorem k0_mult181_dvd : ∀ (v2572 : BitVec 32) (k0_hw180 : k0_chk180 v2572), 16 ∣ (k0_mult181 v2572).toNat := fun v2572 k0_hw180 => k0_hw180.1
theorem k0_off725_inb : ∀ (v2572 : BitVec 32) (k0_hw180 : k0_chk180 v2572), ∀ a, (k0_off725 v2572) a + S16x1024.size a ≤ S851968x1024.size a := fun v2572 k0_hw180 => k0_hw180.2.1
theorem k0_off725_wordsbf16 : ∀ (v2572 : BitVec 32) (k0_hw180 : k0_chk180 v2572), (Rect.unit (s := S851968x1024) (k0_off725 v2572) S16x1024.size (k0_off725_inb v2572 k0_hw180)).WholeWords (EltTy.packing .bf16) := fun v2572 k0_hw180 => k0_hw180.2.2 (k0_off725_inb v2572 k0_hw180)

def k0_off726 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c179_i32 : BitVec 32 := 179#32
  let v2579 : BitVec 32 := Scalar.addi v38 c179_i32
  let v2580 : Index := Scalar.indexCast v2579
  ![v2580.toNat]
def k0_mult182 (v2581 : BitVec 32) : BitVec 32 :=
  v2581

def k0_off727 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off728 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2864_i32 : BitVec 32 := 2864#32
  let c0_i32_504 : BitVec 32 := 0#32
  ![v2.toNat, 2864, 0]
def k0_off729 (v2581 : BitVec 32) : Fin 2 → Nat :=
  let v2582 : BitVec 32 := v2581
  let c0_i32_505 : BitVec 32 := 0#32
  ![v2582.toNat, 0]

def k0_chk181 (v2581 : BitVec 32) : Prop :=
  (16 ∣ (k0_mult182 v2581).toNat) ∧
  (∀ a, (k0_off729 v2581) a + S16x1024.size a ≤ S851968x1024.size a) ∧
  (∀ (hinb : ∀ a, (k0_off729 v2581) a + S16x1024.size a ≤ S851968x1024.size a), (Rect.unit (s := S851968x1024) (k0_off729 v2581) S16x1024.size hinb).WholeWords (EltTy.packing .bf16))
theorem k0_mult182_dvd : ∀ (v2581 : BitVec 32) (k0_hw181 : k0_chk181 v2581), 16 ∣ (k0_mult182 v2581).toNat := fun v2581 k0_hw181 => k0_hw181.1
theorem k0_off729_inb : ∀ (v2581 : BitVec 32) (k0_hw181 : k0_chk181 v2581), ∀ a, (k0_off729 v2581) a + S16x1024.size a ≤ S851968x1024.size a := fun v2581 k0_hw181 => k0_hw181.2.1
theorem k0_off729_wordsbf16 : ∀ (v2581 : BitVec 32) (k0_hw181 : k0_chk181 v2581), (Rect.unit (s := S851968x1024) (k0_off729 v2581) S16x1024.size (k0_off729_inb v2581 k0_hw181)).WholeWords (EltTy.packing .bf16) := fun v2581 k0_hw181 => k0_hw181.2.2 (k0_off729_inb v2581 k0_hw181)

def k0_off730 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c180_i32 : BitVec 32 := 180#32
  let v2588 : BitVec 32 := Scalar.addi v38 c180_i32
  let v2589 : Index := Scalar.indexCast v2588
  ![v2589.toNat]
def k0_mult183 (v2590 : BitVec 32) : BitVec 32 :=
  v2590

def k0_off731 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off732 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2880_i32 : BitVec 32 := 2880#32
  let c0_i32_506 : BitVec 32 := 0#32
  ![v2.toNat, 2880, 0]
def k0_off733 (v2590 : BitVec 32) : Fin 2 → Nat :=
  let v2591 : BitVec 32 := v2590
  let c0_i32_507 : BitVec 32 := 0#32
  ![v2591.toNat, 0]

def k0_chk182 (v2590 : BitVec 32) : Prop :=
  (16 ∣ (k0_mult183 v2590).toNat) ∧
  (∀ a, (k0_off733 v2590) a + S16x1024.size a ≤ S851968x1024.size a) ∧
  (∀ (hinb : ∀ a, (k0_off733 v2590) a + S16x1024.size a ≤ S851968x1024.size a), (Rect.unit (s := S851968x1024) (k0_off733 v2590) S16x1024.size hinb).WholeWords (EltTy.packing .bf16))
theorem k0_mult183_dvd : ∀ (v2590 : BitVec 32) (k0_hw182 : k0_chk182 v2590), 16 ∣ (k0_mult183 v2590).toNat := fun v2590 k0_hw182 => k0_hw182.1
theorem k0_off733_inb : ∀ (v2590 : BitVec 32) (k0_hw182 : k0_chk182 v2590), ∀ a, (k0_off733 v2590) a + S16x1024.size a ≤ S851968x1024.size a := fun v2590 k0_hw182 => k0_hw182.2.1
theorem k0_off733_wordsbf16 : ∀ (v2590 : BitVec 32) (k0_hw182 : k0_chk182 v2590), (Rect.unit (s := S851968x1024) (k0_off733 v2590) S16x1024.size (k0_off733_inb v2590 k0_hw182)).WholeWords (EltTy.packing .bf16) := fun v2590 k0_hw182 => k0_hw182.2.2 (k0_off733_inb v2590 k0_hw182)

def k0_off734 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c181_i32 : BitVec 32 := 181#32
  let v2597 : BitVec 32 := Scalar.addi v38 c181_i32
  let v2598 : Index := Scalar.indexCast v2597
  ![v2598.toNat]
def k0_mult184 (v2599 : BitVec 32) : BitVec 32 :=
  v2599

def k0_off735 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off736 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2896_i32 : BitVec 32 := 2896#32
  let c0_i32_508 : BitVec 32 := 0#32
  ![v2.toNat, 2896, 0]
def k0_off737 (v2599 : BitVec 32) : Fin 2 → Nat :=
  let v2600 : BitVec 32 := v2599
  let c0_i32_509 : BitVec 32 := 0#32
  ![v2600.toNat, 0]

def k0_chk183 (v2599 : BitVec 32) : Prop :=
  (16 ∣ (k0_mult184 v2599).toNat) ∧
  (∀ a, (k0_off737 v2599) a + S16x1024.size a ≤ S851968x1024.size a) ∧
  (∀ (hinb : ∀ a, (k0_off737 v2599) a + S16x1024.size a ≤ S851968x1024.size a), (Rect.unit (s := S851968x1024) (k0_off737 v2599) S16x1024.size hinb).WholeWords (EltTy.packing .bf16))
theorem k0_mult184_dvd : ∀ (v2599 : BitVec 32) (k0_hw183 : k0_chk183 v2599), 16 ∣ (k0_mult184 v2599).toNat := fun v2599 k0_hw183 => k0_hw183.1
theorem k0_off737_inb : ∀ (v2599 : BitVec 32) (k0_hw183 : k0_chk183 v2599), ∀ a, (k0_off737 v2599) a + S16x1024.size a ≤ S851968x1024.size a := fun v2599 k0_hw183 => k0_hw183.2.1
theorem k0_off737_wordsbf16 : ∀ (v2599 : BitVec 32) (k0_hw183 : k0_chk183 v2599), (Rect.unit (s := S851968x1024) (k0_off737 v2599) S16x1024.size (k0_off737_inb v2599 k0_hw183)).WholeWords (EltTy.packing .bf16) := fun v2599 k0_hw183 => k0_hw183.2.2 (k0_off737_inb v2599 k0_hw183)

def k0_off738 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c182_i32 : BitVec 32 := 182#32
  let v2606 : BitVec 32 := Scalar.addi v38 c182_i32
  let v2607 : Index := Scalar.indexCast v2606
  ![v2607.toNat]
def k0_mult185 (v2608 : BitVec 32) : BitVec 32 :=
  v2608

def k0_off739 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off740 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2912_i32 : BitVec 32 := 2912#32
  let c0_i32_510 : BitVec 32 := 0#32
  ![v2.toNat, 2912, 0]
def k0_off741 (v2608 : BitVec 32) : Fin 2 → Nat :=
  let v2609 : BitVec 32 := v2608
  let c0_i32_511 : BitVec 32 := 0#32
  ![v2609.toNat, 0]

def k0_chk184 (v2608 : BitVec 32) : Prop :=
  (16 ∣ (k0_mult185 v2608).toNat) ∧
  (∀ a, (k0_off741 v2608) a + S16x1024.size a ≤ S851968x1024.size a) ∧
  (∀ (hinb : ∀ a, (k0_off741 v2608) a + S16x1024.size a ≤ S851968x1024.size a), (Rect.unit (s := S851968x1024) (k0_off741 v2608) S16x1024.size hinb).WholeWords (EltTy.packing .bf16))
theorem k0_mult185_dvd : ∀ (v2608 : BitVec 32) (k0_hw184 : k0_chk184 v2608), 16 ∣ (k0_mult185 v2608).toNat := fun v2608 k0_hw184 => k0_hw184.1
theorem k0_off741_inb : ∀ (v2608 : BitVec 32) (k0_hw184 : k0_chk184 v2608), ∀ a, (k0_off741 v2608) a + S16x1024.size a ≤ S851968x1024.size a := fun v2608 k0_hw184 => k0_hw184.2.1
theorem k0_off741_wordsbf16 : ∀ (v2608 : BitVec 32) (k0_hw184 : k0_chk184 v2608), (Rect.unit (s := S851968x1024) (k0_off741 v2608) S16x1024.size (k0_off741_inb v2608 k0_hw184)).WholeWords (EltTy.packing .bf16) := fun v2608 k0_hw184 => k0_hw184.2.2 (k0_off741_inb v2608 k0_hw184)

def k0_off742 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c183_i32 : BitVec 32 := 183#32
  let v2615 : BitVec 32 := Scalar.addi v38 c183_i32
  let v2616 : Index := Scalar.indexCast v2615
  ![v2616.toNat]
def k0_mult186 (v2617 : BitVec 32) : BitVec 32 :=
  v2617

def k0_off743 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off744 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2928_i32 : BitVec 32 := 2928#32
  let c0_i32_512 : BitVec 32 := 0#32
  ![v2.toNat, 2928, 0]
def k0_off745 (v2617 : BitVec 32) : Fin 2 → Nat :=
  let v2618 : BitVec 32 := v2617
  let c0_i32_513 : BitVec 32 := 0#32
  ![v2618.toNat, 0]

def k0_chk185 (v2617 : BitVec 32) : Prop :=
  (16 ∣ (k0_mult186 v2617).toNat) ∧
  (∀ a, (k0_off745 v2617) a + S16x1024.size a ≤ S851968x1024.size a) ∧
  (∀ (hinb : ∀ a, (k0_off745 v2617) a + S16x1024.size a ≤ S851968x1024.size a), (Rect.unit (s := S851968x1024) (k0_off745 v2617) S16x1024.size hinb).WholeWords (EltTy.packing .bf16))
theorem k0_mult186_dvd : ∀ (v2617 : BitVec 32) (k0_hw185 : k0_chk185 v2617), 16 ∣ (k0_mult186 v2617).toNat := fun v2617 k0_hw185 => k0_hw185.1
theorem k0_off745_inb : ∀ (v2617 : BitVec 32) (k0_hw185 : k0_chk185 v2617), ∀ a, (k0_off745 v2617) a + S16x1024.size a ≤ S851968x1024.size a := fun v2617 k0_hw185 => k0_hw185.2.1
theorem k0_off745_wordsbf16 : ∀ (v2617 : BitVec 32) (k0_hw185 : k0_chk185 v2617), (Rect.unit (s := S851968x1024) (k0_off745 v2617) S16x1024.size (k0_off745_inb v2617 k0_hw185)).WholeWords (EltTy.packing .bf16) := fun v2617 k0_hw185 => k0_hw185.2.2 (k0_off745_inb v2617 k0_hw185)

def k0_off746 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c184_i32 : BitVec 32 := 184#32
  let v2624 : BitVec 32 := Scalar.addi v38 c184_i32
  let v2625 : Index := Scalar.indexCast v2624
  ![v2625.toNat]
def k0_mult187 (v2626 : BitVec 32) : BitVec 32 :=
  v2626

def k0_off747 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off748 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2944_i32 : BitVec 32 := 2944#32
  let c0_i32_514 : BitVec 32 := 0#32
  ![v2.toNat, 2944, 0]
def k0_off749 (v2626 : BitVec 32) : Fin 2 → Nat :=
  let v2627 : BitVec 32 := v2626
  let c0_i32_515 : BitVec 32 := 0#32
  ![v2627.toNat, 0]

def k0_chk186 (v2626 : BitVec 32) : Prop :=
  (16 ∣ (k0_mult187 v2626).toNat) ∧
  (∀ a, (k0_off749 v2626) a + S16x1024.size a ≤ S851968x1024.size a) ∧
  (∀ (hinb : ∀ a, (k0_off749 v2626) a + S16x1024.size a ≤ S851968x1024.size a), (Rect.unit (s := S851968x1024) (k0_off749 v2626) S16x1024.size hinb).WholeWords (EltTy.packing .bf16))
theorem k0_mult187_dvd : ∀ (v2626 : BitVec 32) (k0_hw186 : k0_chk186 v2626), 16 ∣ (k0_mult187 v2626).toNat := fun v2626 k0_hw186 => k0_hw186.1
theorem k0_off749_inb : ∀ (v2626 : BitVec 32) (k0_hw186 : k0_chk186 v2626), ∀ a, (k0_off749 v2626) a + S16x1024.size a ≤ S851968x1024.size a := fun v2626 k0_hw186 => k0_hw186.2.1
theorem k0_off749_wordsbf16 : ∀ (v2626 : BitVec 32) (k0_hw186 : k0_chk186 v2626), (Rect.unit (s := S851968x1024) (k0_off749 v2626) S16x1024.size (k0_off749_inb v2626 k0_hw186)).WholeWords (EltTy.packing .bf16) := fun v2626 k0_hw186 => k0_hw186.2.2 (k0_off749_inb v2626 k0_hw186)

def k0_off750 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c185_i32 : BitVec 32 := 185#32
  let v2633 : BitVec 32 := Scalar.addi v38 c185_i32
  let v2634 : Index := Scalar.indexCast v2633
  ![v2634.toNat]
def k0_mult188 (v2635 : BitVec 32) : BitVec 32 :=
  v2635

def k0_off751 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off752 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2960_i32 : BitVec 32 := 2960#32
  let c0_i32_516 : BitVec 32 := 0#32
  ![v2.toNat, 2960, 0]
def k0_off753 (v2635 : BitVec 32) : Fin 2 → Nat :=
  let v2636 : BitVec 32 := v2635
  let c0_i32_517 : BitVec 32 := 0#32
  ![v2636.toNat, 0]

def k0_chk187 (v2635 : BitVec 32) : Prop :=
  (16 ∣ (k0_mult188 v2635).toNat) ∧
  (∀ a, (k0_off753 v2635) a + S16x1024.size a ≤ S851968x1024.size a) ∧
  (∀ (hinb : ∀ a, (k0_off753 v2635) a + S16x1024.size a ≤ S851968x1024.size a), (Rect.unit (s := S851968x1024) (k0_off753 v2635) S16x1024.size hinb).WholeWords (EltTy.packing .bf16))
theorem k0_mult188_dvd : ∀ (v2635 : BitVec 32) (k0_hw187 : k0_chk187 v2635), 16 ∣ (k0_mult188 v2635).toNat := fun v2635 k0_hw187 => k0_hw187.1
theorem k0_off753_inb : ∀ (v2635 : BitVec 32) (k0_hw187 : k0_chk187 v2635), ∀ a, (k0_off753 v2635) a + S16x1024.size a ≤ S851968x1024.size a := fun v2635 k0_hw187 => k0_hw187.2.1
theorem k0_off753_wordsbf16 : ∀ (v2635 : BitVec 32) (k0_hw187 : k0_chk187 v2635), (Rect.unit (s := S851968x1024) (k0_off753 v2635) S16x1024.size (k0_off753_inb v2635 k0_hw187)).WholeWords (EltTy.packing .bf16) := fun v2635 k0_hw187 => k0_hw187.2.2 (k0_off753_inb v2635 k0_hw187)

def k0_off754 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c186_i32 : BitVec 32 := 186#32
  let v2642 : BitVec 32 := Scalar.addi v38 c186_i32
  let v2643 : Index := Scalar.indexCast v2642
  ![v2643.toNat]
def k0_mult189 (v2644 : BitVec 32) : BitVec 32 :=
  v2644

def k0_off755 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off756 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2976_i32 : BitVec 32 := 2976#32
  let c0_i32_518 : BitVec 32 := 0#32
  ![v2.toNat, 2976, 0]
def k0_off757 (v2644 : BitVec 32) : Fin 2 → Nat :=
  let v2645 : BitVec 32 := v2644
  let c0_i32_519 : BitVec 32 := 0#32
  ![v2645.toNat, 0]

def k0_chk188 (v2644 : BitVec 32) : Prop :=
  (16 ∣ (k0_mult189 v2644).toNat) ∧
  (∀ a, (k0_off757 v2644) a + S16x1024.size a ≤ S851968x1024.size a) ∧
  (∀ (hinb : ∀ a, (k0_off757 v2644) a + S16x1024.size a ≤ S851968x1024.size a), (Rect.unit (s := S851968x1024) (k0_off757 v2644) S16x1024.size hinb).WholeWords (EltTy.packing .bf16))
theorem k0_mult189_dvd : ∀ (v2644 : BitVec 32) (k0_hw188 : k0_chk188 v2644), 16 ∣ (k0_mult189 v2644).toNat := fun v2644 k0_hw188 => k0_hw188.1
theorem k0_off757_inb : ∀ (v2644 : BitVec 32) (k0_hw188 : k0_chk188 v2644), ∀ a, (k0_off757 v2644) a + S16x1024.size a ≤ S851968x1024.size a := fun v2644 k0_hw188 => k0_hw188.2.1
theorem k0_off757_wordsbf16 : ∀ (v2644 : BitVec 32) (k0_hw188 : k0_chk188 v2644), (Rect.unit (s := S851968x1024) (k0_off757 v2644) S16x1024.size (k0_off757_inb v2644 k0_hw188)).WholeWords (EltTy.packing .bf16) := fun v2644 k0_hw188 => k0_hw188.2.2 (k0_off757_inb v2644 k0_hw188)

def k0_off758 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c187_i32 : BitVec 32 := 187#32
  let v2651 : BitVec 32 := Scalar.addi v38 c187_i32
  let v2652 : Index := Scalar.indexCast v2651
  ![v2652.toNat]
def k0_mult190 (v2653 : BitVec 32) : BitVec 32 :=
  v2653

def k0_off759 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off760 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2992_i32 : BitVec 32 := 2992#32
  let c0_i32_520 : BitVec 32 := 0#32
  ![v2.toNat, 2992, 0]
def k0_off761 (v2653 : BitVec 32) : Fin 2 → Nat :=
  let v2654 : BitVec 32 := v2653
  let c0_i32_521 : BitVec 32 := 0#32
  ![v2654.toNat, 0]

def k0_chk189 (v2653 : BitVec 32) : Prop :=
  (16 ∣ (k0_mult190 v2653).toNat) ∧
  (∀ a, (k0_off761 v2653) a + S16x1024.size a ≤ S851968x1024.size a) ∧
  (∀ (hinb : ∀ a, (k0_off761 v2653) a + S16x1024.size a ≤ S851968x1024.size a), (Rect.unit (s := S851968x1024) (k0_off761 v2653) S16x1024.size hinb).WholeWords (EltTy.packing .bf16))
theorem k0_mult190_dvd : ∀ (v2653 : BitVec 32) (k0_hw189 : k0_chk189 v2653), 16 ∣ (k0_mult190 v2653).toNat := fun v2653 k0_hw189 => k0_hw189.1
theorem k0_off761_inb : ∀ (v2653 : BitVec 32) (k0_hw189 : k0_chk189 v2653), ∀ a, (k0_off761 v2653) a + S16x1024.size a ≤ S851968x1024.size a := fun v2653 k0_hw189 => k0_hw189.2.1
theorem k0_off761_wordsbf16 : ∀ (v2653 : BitVec 32) (k0_hw189 : k0_chk189 v2653), (Rect.unit (s := S851968x1024) (k0_off761 v2653) S16x1024.size (k0_off761_inb v2653 k0_hw189)).WholeWords (EltTy.packing .bf16) := fun v2653 k0_hw189 => k0_hw189.2.2 (k0_off761_inb v2653 k0_hw189)

def k0_off762 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c188_i32 : BitVec 32 := 188#32
  let v2660 : BitVec 32 := Scalar.addi v38 c188_i32
  let v2661 : Index := Scalar.indexCast v2660
  ![v2661.toNat]
def k0_mult191 (v2662 : BitVec 32) : BitVec 32 :=
  v2662

def k0_off763 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off764 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c3008_i32 : BitVec 32 := 3008#32
  let c0_i32_522 : BitVec 32 := 0#32
  ![v2.toNat, 3008, 0]
def k0_off765 (v2662 : BitVec 32) : Fin 2 → Nat :=
  let v2663 : BitVec 32 := v2662
  let c0_i32_523 : BitVec 32 := 0#32
  ![v2663.toNat, 0]

def k0_chk190 (v2662 : BitVec 32) : Prop :=
  (16 ∣ (k0_mult191 v2662).toNat) ∧
  (∀ a, (k0_off765 v2662) a + S16x1024.size a ≤ S851968x1024.size a) ∧
  (∀ (hinb : ∀ a, (k0_off765 v2662) a + S16x1024.size a ≤ S851968x1024.size a), (Rect.unit (s := S851968x1024) (k0_off765 v2662) S16x1024.size hinb).WholeWords (EltTy.packing .bf16))
theorem k0_mult191_dvd : ∀ (v2662 : BitVec 32) (k0_hw190 : k0_chk190 v2662), 16 ∣ (k0_mult191 v2662).toNat := fun v2662 k0_hw190 => k0_hw190.1
theorem k0_off765_inb : ∀ (v2662 : BitVec 32) (k0_hw190 : k0_chk190 v2662), ∀ a, (k0_off765 v2662) a + S16x1024.size a ≤ S851968x1024.size a := fun v2662 k0_hw190 => k0_hw190.2.1
theorem k0_off765_wordsbf16 : ∀ (v2662 : BitVec 32) (k0_hw190 : k0_chk190 v2662), (Rect.unit (s := S851968x1024) (k0_off765 v2662) S16x1024.size (k0_off765_inb v2662 k0_hw190)).WholeWords (EltTy.packing .bf16) := fun v2662 k0_hw190 => k0_hw190.2.2 (k0_off765_inb v2662 k0_hw190)

def k0_off766 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c189_i32 : BitVec 32 := 189#32
  let v2669 : BitVec 32 := Scalar.addi v38 c189_i32
  let v2670 : Index := Scalar.indexCast v2669
  ![v2670.toNat]
def k0_mult192 (v2671 : BitVec 32) : BitVec 32 :=
  v2671

def k0_off767 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off768 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c3024_i32 : BitVec 32 := 3024#32
  let c0_i32_524 : BitVec 32 := 0#32
  ![v2.toNat, 3024, 0]
def k0_off769 (v2671 : BitVec 32) : Fin 2 → Nat :=
  let v2672 : BitVec 32 := v2671
  let c0_i32_525 : BitVec 32 := 0#32
  ![v2672.toNat, 0]

def k0_chk191 (v2671 : BitVec 32) : Prop :=
  (16 ∣ (k0_mult192 v2671).toNat) ∧
  (∀ a, (k0_off769 v2671) a + S16x1024.size a ≤ S851968x1024.size a) ∧
  (∀ (hinb : ∀ a, (k0_off769 v2671) a + S16x1024.size a ≤ S851968x1024.size a), (Rect.unit (s := S851968x1024) (k0_off769 v2671) S16x1024.size hinb).WholeWords (EltTy.packing .bf16))
theorem k0_mult192_dvd : ∀ (v2671 : BitVec 32) (k0_hw191 : k0_chk191 v2671), 16 ∣ (k0_mult192 v2671).toNat := fun v2671 k0_hw191 => k0_hw191.1
theorem k0_off769_inb : ∀ (v2671 : BitVec 32) (k0_hw191 : k0_chk191 v2671), ∀ a, (k0_off769 v2671) a + S16x1024.size a ≤ S851968x1024.size a := fun v2671 k0_hw191 => k0_hw191.2.1
theorem k0_off769_wordsbf16 : ∀ (v2671 : BitVec 32) (k0_hw191 : k0_chk191 v2671), (Rect.unit (s := S851968x1024) (k0_off769 v2671) S16x1024.size (k0_off769_inb v2671 k0_hw191)).WholeWords (EltTy.packing .bf16) := fun v2671 k0_hw191 => k0_hw191.2.2 (k0_off769_inb v2671 k0_hw191)

def k0_off770 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c190_i32 : BitVec 32 := 190#32
  let v2678 : BitVec 32 := Scalar.addi v38 c190_i32
  let v2679 : Index := Scalar.indexCast v2678
  ![v2679.toNat]
def k0_mult193 (v2680 : BitVec 32) : BitVec 32 :=
  v2680

def k0_off771 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off772 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c3040_i32 : BitVec 32 := 3040#32
  let c0_i32_526 : BitVec 32 := 0#32
  ![v2.toNat, 3040, 0]
def k0_off773 (v2680 : BitVec 32) : Fin 2 → Nat :=
  let v2681 : BitVec 32 := v2680
  let c0_i32_527 : BitVec 32 := 0#32
  ![v2681.toNat, 0]

def k0_chk192 (v2680 : BitVec 32) : Prop :=
  (16 ∣ (k0_mult193 v2680).toNat) ∧
  (∀ a, (k0_off773 v2680) a + S16x1024.size a ≤ S851968x1024.size a) ∧
  (∀ (hinb : ∀ a, (k0_off773 v2680) a + S16x1024.size a ≤ S851968x1024.size a), (Rect.unit (s := S851968x1024) (k0_off773 v2680) S16x1024.size hinb).WholeWords (EltTy.packing .bf16))
theorem k0_mult193_dvd : ∀ (v2680 : BitVec 32) (k0_hw192 : k0_chk192 v2680), 16 ∣ (k0_mult193 v2680).toNat := fun v2680 k0_hw192 => k0_hw192.1
theorem k0_off773_inb : ∀ (v2680 : BitVec 32) (k0_hw192 : k0_chk192 v2680), ∀ a, (k0_off773 v2680) a + S16x1024.size a ≤ S851968x1024.size a := fun v2680 k0_hw192 => k0_hw192.2.1
theorem k0_off773_wordsbf16 : ∀ (v2680 : BitVec 32) (k0_hw192 : k0_chk192 v2680), (Rect.unit (s := S851968x1024) (k0_off773 v2680) S16x1024.size (k0_off773_inb v2680 k0_hw192)).WholeWords (EltTy.packing .bf16) := fun v2680 k0_hw192 => k0_hw192.2.2 (k0_off773_inb v2680 k0_hw192)

def k0_off774 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c191_i32 : BitVec 32 := 191#32
  let v2687 : BitVec 32 := Scalar.addi v38 c191_i32
  let v2688 : Index := Scalar.indexCast v2687
  ![v2688.toNat]
def k0_mult194 (v2689 : BitVec 32) : BitVec 32 :=
  v2689

def k0_off775 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off776 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c3056_i32 : BitVec 32 := 3056#32
  let c0_i32_528 : BitVec 32 := 0#32
  ![v2.toNat, 3056, 0]
def k0_off777 (v2689 : BitVec 32) : Fin 2 → Nat :=
  let v2690 : BitVec 32 := v2689
  let c0_i32_529 : BitVec 32 := 0#32
  ![v2690.toNat, 0]

def k0_chk193 (v2689 : BitVec 32) : Prop :=
  (16 ∣ (k0_mult194 v2689).toNat) ∧
  (∀ a, (k0_off777 v2689) a + S16x1024.size a ≤ S851968x1024.size a) ∧
  (∀ (hinb : ∀ a, (k0_off777 v2689) a + S16x1024.size a ≤ S851968x1024.size a), (Rect.unit (s := S851968x1024) (k0_off777 v2689) S16x1024.size hinb).WholeWords (EltTy.packing .bf16))
theorem k0_mult194_dvd : ∀ (v2689 : BitVec 32) (k0_hw193 : k0_chk193 v2689), 16 ∣ (k0_mult194 v2689).toNat := fun v2689 k0_hw193 => k0_hw193.1
theorem k0_off777_inb : ∀ (v2689 : BitVec 32) (k0_hw193 : k0_chk193 v2689), ∀ a, (k0_off777 v2689) a + S16x1024.size a ≤ S851968x1024.size a := fun v2689 k0_hw193 => k0_hw193.2.1
theorem k0_off777_wordsbf16 : ∀ (v2689 : BitVec 32) (k0_hw193 : k0_chk193 v2689), (Rect.unit (s := S851968x1024) (k0_off777 v2689) S16x1024.size (k0_off777_inb v2689 k0_hw193)).WholeWords (EltTy.packing .bf16) := fun v2689 k0_hw193 => k0_hw193.2.2 (k0_off777_inb v2689 k0_hw193)

def k0_cond2 (i : grid0.Coords) : BitVec 1 :=
  let arg0 : BitVec 32 := BitVec.ofNat 32 (i 0).val
  let c255_i32 : BitVec 32 := 255#32
  let v2747 : BitVec 1 := Scalar.cmpi .eq arg0 c255_i32
  let v2748 : BitVec 32 := Scalar.extui v2747
  let c0_i32_558 : BitVec 32 := 0#32
  let v2749 : BitVec 1 := Scalar.cmpi .ne v2748 c0_i32_558
  v2749

def k0_off778 (i : grid0.Coords) (c1_i32_559 : BitVec 32) : Fin 1 → Nat :=
  let arg0 : BitVec 32 := BitVec.ofNat 32 (i 0).val
  let v2750 : BitVec 32 := Scalar.addi arg0 c1_i32_559
  let c3_i32_560 : BitVec 32 := 3#32
  let v2751 : BitVec 32 := Scalar.remsi v2750 c3_i32_560
  ![v2751.toNat]
def k0_off779 (i : grid0.Coords) (c1_i32_559 : BitVec 32) : Fin 3 → Nat :=
  let arg0 : BitVec 32 := BitVec.ofNat 32 (i 0).val
  let v2750 : BitVec 32 := Scalar.addi arg0 c1_i32_559
  let c3_i32_560 : BitVec 32 := 3#32
  let v2751 : BitVec 32 := Scalar.remsi v2750 c3_i32_560
  let c0_i32_561 : BitVec 32 := 0#32
  let c0_i32_562 : BitVec 32 := 0#32
  ![v2751.toNat, 0, 0]
def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
abbrev S49536 : Shape := ⟨1, ![49536]⟩
abbrev S851968x1024 : Shape := ⟨2, ![851968, 1024]⟩
abbrev S8x65536 : Shape := ⟨2, ![8, 65536]⟩
abbrev S65536x1024 : Shape := ⟨2, ![65536, 1024]⟩
abbrev S1x1024x256 : Shape := ⟨3, ![1, 1024, 256]⟩
abbrev S1x256x1024 : Shape := ⟨3, ![1, 256, 1024]⟩
abbrev S1x1024 : Shape := ⟨2, ![1, 1024]⟩
abbrev S1024x256 : Shape := ⟨2, ![1024, 256]⟩
abbrev S256x1024 : Shape := ⟨2, ![256, 1024]⟩
abbrev S1024 : Shape := ⟨1, ![1024]⟩
abbrev S16x65536 : Shape := ⟨2, ![16, 65536]⟩
abbrev S16x256 : Shape := ⟨2, ![16, 256]⟩
abbrev S3x3072x1024 : Shape := ⟨3, ![3, 3072, 1024]⟩
abbrev S3 : Shape := ⟨1, ![3]⟩
abbrev S1 : Shape := ⟨1, ![1]⟩
abbrev S_ : Shape := ⟨0, ![]⟩
abbrev S1x16x1024 : Shape := ⟨3, ![1, 16, 1024]⟩
abbrev S16x1024 : Shape := ⟨2, ![16, 1024]⟩
abbrev S1x3072x1024 : Shape := ⟨3, ![1, 3072, 1024]⟩
abbrev S3072x1024 : Shape := ⟨2, ![3072, 1024]⟩
abbrev S8x256 : Shape := ⟨2, ![8, 256]⟩
abbrev S1x256 : Shape := ⟨2, ![1, 256]⟩
abbrev S256x256 : Shape := ⟨2, ![256, 256]⟩
abbrev S1x1024x1024 : Shape := ⟨3, ![1, 1024, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 23
  | .vmem => 14
  | .smem => 1
  | _ => 0

abbrev bufTy : (tb : Table) → Fin (tcTables nBuf tb) → BufTy
  | .hbm, ⟨0, _⟩ => ⟨S851968x1024, .bf16⟩
  | .hbm, ⟨1, _⟩ => ⟨S8x65536, .i32⟩
  | .hbm, ⟨2, _⟩ => ⟨S8x65536, .f32⟩
  | .hbm, ⟨3, _⟩ => ⟨S65536x1024, .f32⟩
  | .hbm, ⟨4, _⟩ => ⟨S1x1024x256, .f32⟩
  | .hbm, ⟨5, _⟩ => ⟨S1x1024x256, .f32⟩
  | .hbm, ⟨6, _⟩ => ⟨S1x256x1024, .f32⟩
  | .hbm, ⟨7, _⟩ => ⟨S1x1024, .f32⟩
  | .hbm, ⟨8, _⟩ => ⟨S1x1024, .f32⟩
  | .hbm, ⟨9, _⟩ => ⟨S1024x256, .f32⟩
  | .hbm, ⟨10, _⟩ => ⟨S1024x256, .bf16⟩
  | .hbm, ⟨11, _⟩ => ⟨S1024x256, .f32⟩
  | .hbm, ⟨12, _⟩ => ⟨S1024x256, .bf16⟩
  | .hbm, ⟨13, _⟩ => ⟨S256x1024, .f32⟩
  | .hbm, ⟨14, _⟩ => ⟨S256x1024, .bf16⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S8x65536, .f32⟩
  | .hbm, ⟨20, _⟩ => ⟨S16x65536, .f32⟩
  | .hbm, ⟨21, _⟩ => ⟨S65536x1024, .bf16⟩
  | .hbm, ⟨22, _⟩ => ⟨S65536x1024, .f32⟩
  | .local _ .vmem, ⟨0, _⟩ => ⟨S16x256, .f32⟩
  | .local _ .vmem, ⟨1, _⟩ => ⟨S16x256, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .vmem, ⟨9, _⟩ => ⟨S1x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S3x3072x1024, .bf16⟩
  | .local _ .smem, ⟨0, _⟩ => ⟨S49536, .i32⟩
  | _, _ => ⟨S851968x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![256], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_559 : BitVec 32 := 0#32
  let c384_i32_560 : BitVec 32 := 384#32
  let v2750 : BitVec 32 := Scalar.addi c0_i32_559 c384_i32_560
  let c1_i32_561 : BitVec 32 := 1#32
  ⟨c0_i32_559, v2750, c1_i32_561⟩
def k0_off1 (k0_t1 : Fin k0_t1_loop.trips) : Fin 1 → Nat :=
  let c0_i32_559 : BitVec 32 := 0#32
  let c1_i32_561 : BitVec 32 := 1#32
  let arg14 : BitVec 32 := Scf.iv c0_i32_559 c1_i32_561 k0_t1
  let v2768 : Index := Scalar.indexCast arg14
  ![v2768.toNat]
def k0_mult1 (v2769 : BitVec 32) : BitVec 32 :=
  v2769

def k0_mult2 (k0_t1 : Fin k0_t1_loop.trips) : BitVec 32 :=
  let c0_i32_559 : BitVec 32 := 0#32
  let c1_i32_561 : BitVec 32 := 1#32
  let arg14 : BitVec 32 := Scf.iv c0_i32_559 c1_i32_561 k0_t1
  let c0_i32_564 : BitVec 32 := 0#32
  let v2752 : BitVec 1 := Scalar.cmpi .sgt arg14 c0_i32_564
  let v2753 : BitVec 32 := Scalar.extui v2752
  let c0_i32_565 : BitVec 32 := 0#32
  let v2754 : BitVec 1 := Scalar.cmpi .slt arg14 c0_i32_565
  let v2755 : BitVec 32 := Scalar.extui v2754
  let v2756 : BitVec 32 := Scalar.subi v2753 v2755
  let c192_i32_563 : BitVec 32 := 192#32
  let c0_i32_566 : BitVec 32 := 0#32
  let v2757 : BitVec 1 := Scalar.cmpi .sgt c192_i32_563 c0_i32_566
  let v2758 : BitVec 32 := Scalar.extui v2757
  let c0_i32_567 : BitVec 32 := 0#32
  let v2759 : BitVec 1 := Scalar.cmpi .slt c192_i32_563 c0_i32_567
  let v2760 : BitVec 32 := Scalar.extui v2759
  let v2761 : BitVec 32 := Scalar.subi v2758 v2760
  let v2762 : BitVec 1 := Scalar.cmpi .ne v2756 v2761
  let v2763 : BitVec 32 := Scalar.remsi arg14 c192_i32_563
  let c0_i32_568 : BitVec 32 := 0#32
  let v2764 : BitVec 1 := Scalar.cmpi .ne v2763 c0_i32_568
  let v2765 : BitVec 1 := Scalar.andi v2762 v2764
  let v2751 : BitVec 32 := Scalar.divsi arg14 c192_i32_563
  let c1_i32_569 : BitVec 32 := 1#32
  let v2766 : BitVec 32 := Scalar.subi v2751 c1_i32_569
  let v2767 : BitVec 32 := Scalar.select v2765 v2766 v2751
  let c192_i32_570 : BitVec 32 := 192#32
  let v2771 : BitVec 32 := Scalar.muli v2767 c192_i32_570
  let v2772 : BitVec 32 := Scalar.subi arg14 v2771
  let c16_i32_571 : BitVec 32 := 16#32
  let v2773 : BitVec 32 := Scalar.muli v2772 c16_i32_571
  v2773
def k0_off2 (k0_t1 : Fin k0_t1_loop.trips) : Fin 1 → Nat :=
  let c0_i32_559 : BitVec 32 := 0#32
  let c1_i32_561 : BitVec 32 := 1#32
  let arg14 : BitVec 32 := Scf.iv c0_i32_559 c1_i32_561 k0_t1
  let c0_i32_564 : BitVec 32 := 0#32
  let v2752 : BitVec 1 := Scalar.cmpi .sgt arg14 c0_i32_564
  let v2753 : BitVec 32 := Scalar.extui v2752
  let c0_i32_565 : BitVec 32 := 0#32
  let v2754 : BitVec 1 := Scalar.cmpi .slt arg14 c0_i32_565
  let v2755 : BitVec 32 := Scalar.extui v2754
  let v2756 : BitVec 32 := Scalar.subi v2753 v2755
  let c192_i32_563 : BitVec 32 := 192#32
  let c0_i32_566 : BitVec 32 := 0#32
  let v2757 : BitVec 1 := Scalar.cmpi .sgt c192_i32_563 c0_i32_566
  let v2758 : BitVec 32 := Scalar.extui v2757
  let c0_i32_567 : BitVec 32 := 0#32
  let v2759 : BitVec 1 := Scalar.cmpi .slt c192_i32_563 c0_i32_567
  let v2760 : BitVec 32 := Scalar.extui v2759
  let v2761 : BitVec 32 := Scalar.subi v2758 v2760
  let v2762 : BitVec 1 := Scalar.cmpi .ne v2756 v2761
  let v2763 : BitVec 32 := Scalar.remsi arg14 c192_i32_563
  let c0_i32_568 : BitVec 32 := 0#32
  let v2764 : BitVec 1 := Scalar.cmpi .ne v2763 c0_i32_568
  let v2765 : BitVec 1 := Scalar.andi v2762 v2764
  let v2751 : BitVec 32 := Scalar.divsi arg14 c192_i32_563
  let c1_i32_569 : BitVec 32 := 1#32
  let v2766 : BitVec 32 := Scalar.subi v2751 c1_i32_569
  let v2767 : BitVec 32 := Scalar.select v2765 v2766 v2751
  ![v2767.toNat]
def k0_off3 (k0_t1 : Fin k0_t1_loop.trips) : Fin 3 → Nat :=
  let c0_i32_559 : BitVec 32 := 0#32
  let c1_i32_561 : BitVec 32 := 1#32
  let arg14 : BitVec 32 := Scf.iv c0_i32_559 c1_i32_561 k0_t1
  let c0_i32_564 : BitVec 32 := 0#32
  let v2752 : BitVec 1 := Scalar.cmpi .sgt arg14 c0_i32_564
  let v2753 : BitVec 32 := Scalar.extui v2752
  let c0_i32_565 : BitVec 32 := 0#32
  let v2754 : BitVec 1 := Scalar.cmpi .slt arg14 c0_i32_565
  let v2755 : BitVec 32 := Scalar.extui v2754
  let v2756 : BitVec 32 := Scalar.subi v2753 v2755
  let c192_i32_563 : BitVec 32 := 192#32
  let c0_i32_566 : BitVec 32 := 0#32
  let v2757 : BitVec 1 := Scalar.cmpi .sgt c192_i32_563 c0_i32_566
  let v2758 : BitVec 32 := Scalar.extui v2757
  let c0_i32_567 : BitVec 32 := 0#32
  let v2759 : BitVec 1 := Scalar.cmpi .slt c192_i32_563 c0_i32_567
  let v2760 : BitVec 32 := Scalar.extui v2759
  let v2761 : BitVec 32 := Scalar.subi v2758 v2760
  let v2762 : BitVec 1 := Scalar.cmpi .ne v2756 v2761
  let v2763 : BitVec 32 := Scalar.remsi arg14 c192_i32_563
  let c0_i32_568 : BitVec 32 := 0#32
  let v2764 : BitVec 1 := Scalar.cmpi .ne v2763 c0_i32_568
  let v2765 : BitVec 1 := Scalar.andi v2762 v2764
  let v2751 : BitVec 32 := Scalar.divsi arg14 c192_i32_563
  let c1_i32_569 : BitVec 32 := 1#32
  let v2766 : BitVec 32 := Scalar.subi v2751 c1_i32_569
  let v2767 : BitVec 32 := Scalar.select v2765 v2766 v2751
  let c192_i32_570 : BitVec 32 := 192#32
  let v2771 : BitVec 32 := Scalar.muli v2767 c192_i32_570
  let v2772 : BitVec 32 := Scalar.subi arg14 v2771
  let c16_i32_571 : BitVec 32 := 16#32
  let v2773 : BitVec 32 := Scalar.muli v2772 c16_i32_571
  let v2774 : BitVec 32 := v2773
  let c0_i32_572 : BitVec 32 := 0#32
  ![v2767.toNat, v2774.toNat, 0]
def k0_off4 (v2769 : BitVec 32) : Fin 2 → Nat :=
  let v2770 : BitVec 32 := v2769
  let c0_i32_573 : BitVec 32 := 0#32
  ![v2770.toNat, 0]

def k0_chk1 (i : grid0.Coords) (v2769 : BitVec 32) : Prop :=
  (∀ (k0_h1 : k0_cond1 i = 1#1), 16 ∣ (k0_mult1 v2769).toNat) ∧
  (∀ (k0_h1 : k0_cond1 i = 1#1), ∀ a, (k0_off4 v2769) a + S16x1024.size a ≤ S851968x1024.size a) ∧
  (∀ (k0_h1 : k0_cond1 i = 1#1), ∀ (hinb : ∀ a, (k0_off4 v2769) a + S16x1024.size a ≤ S851968x1024.size a), (Rect.unit (s := S851968x1024) (k0_off4 v2769) S16x1024.size hinb).WholeWords (EltTy.packing .bf16))
theorem k0_mult1_dvd : ∀ (i : grid0.Coords) (v2769 : BitVec 32) (k0_hw1 : k0_chk1 i v2769), ∀ (k0_h1 : k0_cond1 i = 1#1), 16 ∣ (k0_mult1 v2769).toNat := fun i v2769 k0_hw1 k0_h1 => k0_hw1.1 k0_h1
theorem k0_off4_inb : ∀ (i : grid0.Coords) (v2769 : BitVec 32) (k0_hw1 : k0_chk1 i v2769), ∀ (k0_h1 : k0_cond1 i = 1#1), ∀ a, (k0_off4 v2769) a + S16x1024.size a ≤ S851968x1024.size a := fun i v2769 k0_hw1 k0_h1 => k0_hw1.2.1 k0_h1
theorem k0_off4_wordsbf16 : ∀ (i : grid0.Coords) (v2769 : BitVec 32) (k0_hw1 : k0_chk1 i v2769), ∀ (k0_h1 : k0_cond1 i = 1#1), (Rect.unit (s := S851968x1024) (k0_off4 v2769) S16x1024.size (k0_off4_inb i v2769 k0_hw1 k0_h1)).WholeWords (EltTy.packing .bf16) := fun i v2769 k0_hw1 k0_h1 => k0_hw1.2.2 k0_h1 (k0_off4_inb i v2769 k0_hw1 k0_h1)

def k0_off5 (i : grid0.Coords) : Fin 1 → Nat :=
  let arg0 : BitVec 32 := BitVec.ofNat 32 (i 0).val
  let c3_i32 : BitVec 32 := 3#32
  let v0 : BitVec 32 := Scalar.remsi arg0 c3_i32
  ![v0.toNat]
def k0_off6 (i : grid0.Coords) : Fin 3 → Nat :=
  let arg0 : BitVec 32 := BitVec.ofNat 32 (i 0).val
  let c3_i32 : BitVec 32 := 3#32
  let v0 : BitVec 32 := Scalar.remsi arg0 c3_i32
  let c0_i32_2 : BitVec 32 := 0#32
  let c0_i32_3 : BitVec 32 := 0#32
  ![v0.toNat, 0, 0]
def k0_off7 (i : grid0.Coords) : Fin 3 → Nat :=
  let arg0 : BitVec 32 := BitVec.ofNat 32 (i 0).val
  let c3_i32 : BitVec 32 := 3#32
  let v0 : BitVec 32 := Scalar.remsi arg0 c3_i32
  let v344 : Index := Scalar.indexCast v0
  let c0_51 : Index := 0#32
  let c0_52 : Index := 0#32
  ![v344.toNat, 0, 0]
def k0_off8 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c0_i32_54 : BitVec 32 := 0#32
  let v348 : BitVec 32 := Scalar.addi v38 c0_i32_54
  let v349 : Index := Scalar.indexCast v348
  ![v349.toNat]
def k0_mult3 (v350 : BitVec 32) : BitVec 32 :=
  v350

def k0_off9 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off10 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c0_i32_55 : BitVec 32 := 0#32
  let c0_i32_56 : BitVec 32 := 0#32
  ![v2.toNat, 0, 0]
def k0_off11 (v350 : BitVec 32) : Fin 2 → Nat :=
  let v351 : BitVec 32 := v350
  let c0_i32_57 : BitVec 32 := 0#32
  ![v351.toNat, 0]

def k0_chk2 (v350 : BitVec 32) : Prop :=
  (16 ∣ (k0_mult3 v350).toNat) ∧
  (∀ a, (k0_off11 v350) a + S16x1024.size a ≤ S851968x1024.size a) ∧
  (∀ (hinb : ∀ a, (k0_off11 v350) a + S16x1024.size a ≤ S851968x1024.size a), (Rect.unit (s := S851968x1024) (k0_off11 v350) S16x1024.size hinb).WholeWords (EltTy.packing .bf16))
theorem k0_mult3_dvd : ∀ (v350 : BitVec 32) (k0_hw2 : k0_chk2 v350), 16 ∣ (k0_mult3 v350).toNat := fun v350 k0_hw2 => k0_hw2.1
theorem k0_off11_inb : ∀ (v350 : BitVec 32) (k0_hw2 : k0_chk2 v350), ∀ a, (k0_off11 v350) a + S16x1024.size a ≤ S851968x1024.size a := fun v350 k0_hw2 => k0_hw2.2.1
theorem k0_off11_wordsbf16 : ∀ (v350 : BitVec 32) (k0_hw2 : k0_chk2 v350), (Rect.unit (s := S851968x1024) (k0_off11 v350) S16x1024.size (k0_off11_inb v350 k0_hw2)).WholeWords (EltTy.packing .bf16) := fun v350 k0_hw2 => k0_hw2.2.2 (k0_off11_inb v350 k0_hw2)

def k0_off12 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c1_i32 : BitVec 32 := 1#32
  let v357 : BitVec 32 := Scalar.addi v38 c1_i32
  let v358 : Index := Scalar.indexCast v357
  ![v358.toNat]
def k0_mult4 (v359 : BitVec 32) : BitVec 32 :=
  v359

def k0_off13 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off14 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c16_i32 : BitVec 32 := 16#32
  let c0_i32_58 : BitVec 32 := 0#32
  ![v2.toNat, 16, 0]
def k0_off15 (v359 : BitVec 32) : Fin 2 → Nat :=
  let v360 : BitVec 32 := v359
  let c0_i32_59 : BitVec 32 := 0#32
  ![v360.toNat, 0]

def k0_chk3 (v359 : BitVec 32) : Prop :=
  (16 ∣ (k0_mult4 v359).toNat) ∧
  (∀ a, (k0_off15 v359) a + S16x1024.size a ≤ S851968x1024.size a) ∧
  (∀ (hinb : ∀ a, (k0_off15 v359) a + S16x1024.size a ≤ S851968x1024.size a), (Rect.unit (s := S851968x1024) (k0_off15 v359) S16x1024.size hinb).WholeWords (EltTy.packing .bf16))
theorem k0_mult4_dvd : ∀ (v359 : BitVec 32) (k0_hw3 : k0_chk3 v359), 16 ∣ (k0_mult4 v359).toNat := fun v359 k0_hw3 => k0_hw3.1
theorem k0_off15_inb : ∀ (v359 : BitVec 32) (k0_hw3 : k0_chk3 v359), ∀ a, (k0_off15 v359) a + S16x1024.size a ≤ S851968x1024.size a := fun v359 k0_hw3 => k0_hw3.2.1
theorem k0_off15_wordsbf16 : ∀ (v359 : BitVec 32) (k0_hw3 : k0_chk3 v359), (Rect.unit (s := S851968x1024) (k0_off15 v359) S16x1024.size (k0_off15_inb v359 k0_hw3)).WholeWords (EltTy.packing .bf16) := fun v359 k0_hw3 => k0_hw3.2.2 (k0_off15_inb v359 k0_hw3)

def k0_off16 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c2_i32_60 : BitVec 32 := 2#32
  let v366 : BitVec 32 := Scalar.addi v38 c2_i32_60
  let v367 : Index := Scalar.indexCast v366
  ![v367.toNat]
def k0_mult5 (v368 : BitVec 32) : BitVec 32 :=
  v368

def k0_off17 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off18 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c32_i32 : BitVec 32 := 32#32
  let c0_i32_61 : BitVec 32 := 0#32
  ![v2.toNat, 32, 0]
def k0_off19 (v368 : BitVec 32) : Fin 2 → Nat :=
  let v369 : BitVec 32 := v368
  let c0_i32_62 : BitVec 32 := 0#32
  ![v369.toNat, 0]

def k0_chk4 (v368 : BitVec 32) : Prop :=
  (16 ∣ (k0_mult5 v368).toNat) ∧
  (∀ a, (k0_off19 v368) a + S16x1024.size a ≤ S851968x1024.size a) ∧
  (∀ (hinb : ∀ a, (k0_off19 v368) a + S16x1024.size a ≤ S851968x1024.size a), (Rect.unit (s := S851968x1024) (k0_off19 v368) S16x1024.size hinb).WholeWords (EltTy.packing .bf16))
theorem k0_mult5_dvd : ∀ (v368 : BitVec 32) (k0_hw4 : k0_chk4 v368), 16 ∣ (k0_mult5 v368).toNat := fun v368 k0_hw4 => k0_hw4.1
theorem k0_off19_inb : ∀ (v368 : BitVec 32) (k0_hw4 : k0_chk4 v368), ∀ a, (k0_off19 v368) a + S16x1024.size a ≤ S851968x1024.size a := fun v368 k0_hw4 => k0_hw4.2.1
theorem k0_off19_wordsbf16 : ∀ (v368 : BitVec 32) (k0_hw4 : k0_chk4 v368), (Rect.unit (s := S851968x1024) (k0_off19 v368) S16x1024.size (k0_off19_inb v368 k0_hw4)).WholeWords (EltTy.packing .bf16) := fun v368 k0_hw4 => k0_hw4.2.2 (k0_off19_inb v368 k0_hw4)

def k0_off20 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c3_i32_63 : BitVec 32 := 3#32
  let v375 : BitVec 32 := Scalar.addi v38 c3_i32_63
  let v376 : Index := Scalar.indexCast v375
  ![v376.toNat]
def k0_mult6 (v377 : BitVec 32) : BitVec 32 :=
  v377

def k0_off21 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off22 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c48_i32 : BitVec 32 := 48#32
  let c0_i32_64 : BitVec 32 := 0#32
  ![v2.toNat, 48, 0]
def k0_off23 (v377 : BitVec 32) : Fin 2 → Nat :=
  let v378 : BitVec 32 := v377
  let c0_i32_65 : BitVec 32 := 0#32
  ![v378.toNat, 0]

def k0_chk5 (v377 : BitVec 32) : Prop :=
  (16 ∣ (k0_mult6 v377).toNat) ∧
  (∀ a, (k0_off23 v377) a + S16x1024.size a ≤ S851968x1024.size a) ∧
  (∀ (hinb : ∀ a, (k0_off23 v377) a + S16x1024.size a ≤ S851968x1024.size a), (Rect.unit (s := S851968x1024) (k0_off23 v377) S16x1024.size hinb).WholeWords (EltTy.packing .bf16))
theorem k0_mult6_dvd : ∀ (v377 : BitVec 32) (k0_hw5 : k0_chk5 v377), 16 ∣ (k0_mult6 v377).toNat := fun v377 k0_hw5 => k0_hw5.1
theorem k0_off23_inb : ∀ (v377 : BitVec 32) (k0_hw5 : k0_chk5 v377), ∀ a, (k0_off23 v377) a + S16x1024.size a ≤ S851968x1024.size a := fun v377 k0_hw5 => k0_hw5.2.1
theorem k0_off23_wordsbf16 : ∀ (v377 : BitVec 32) (k0_hw5 : k0_chk5 v377), (Rect.unit (s := S851968x1024) (k0_off23 v377) S16x1024.size (k0_off23_inb v377 k0_hw5)).WholeWords (EltTy.packing .bf16) := fun v377 k0_hw5 => k0_hw5.2.2 (k0_off23_inb v377 k0_hw5)

def k0_off24 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c4_i32 : BitVec 32 := 4#32
  let v384 : BitVec 32 := Scalar.addi v38 c4_i32
  let v385 : Index := Scalar.indexCast v384
  ![v385.toNat]
def k0_mult7 (v386 : BitVec 32) : BitVec 32 :=
  v386

def k0_off25 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off26 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c64_i32 : BitVec 32 := 64#32
  let c0_i32_66 : BitVec 32 := 0#32
  ![v2.toNat, 64, 0]
def k0_off27 (v386 : BitVec 32) : Fin 2 → Nat :=
  let v387 : BitVec 32 := v386
  let c0_i32_67 : BitVec 32 := 0#32
  ![v387.toNat, 0]

def k0_chk6 (v386 : BitVec 32) : Prop :=
  (16 ∣ (k0_mult7 v386).toNat) ∧
  (∀ a, (k0_off27 v386) a + S16x1024.size a ≤ S851968x1024.size a) ∧
  (∀ (hinb : ∀ a, (k0_off27 v386) a + S16x1024.size a ≤ S851968x1024.size a), (Rect.unit (s := S851968x1024) (k0_off27 v386) S16x1024.size hinb).WholeWords (EltTy.packing .bf16))
theorem k0_mult7_dvd : ∀ (v386 : BitVec 32) (k0_hw6 : k0_chk6 v386), 16 ∣ (k0_mult7 v386).toNat := fun v386 k0_hw6 => k0_hw6.1
theorem k0_off27_inb : ∀ (v386 : BitVec 32) (k0_hw6 : k0_chk6 v386), ∀ a, (k0_off27 v386) a + S16x1024.size a ≤ S851968x1024.size a := fun v386 k0_hw6 => k0_hw6.2.1
theorem k0_off27_wordsbf16 : ∀ (v386 : BitVec 32) (k0_hw6 : k0_chk6 v386), (Rect.unit (s := S851968x1024) (k0_off27 v386) S16x1024.size (k0_off27_inb v386 k0_hw6)).WholeWords (EltTy.packing .bf16) := fun v386 k0_hw6 => k0_hw6.2.2 (k0_off27_inb v386 k0_hw6)

def k0_off28 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c5_i32 : BitVec 32 := 5#32
  let v393 : BitVec 32 := Scalar.addi v38 c5_i32
  let v394 : Index := Scalar.indexCast v393
  ![v394.toNat]
def k0_mult8 (v395 : BitVec 32) : BitVec 32 :=
  v395

def k0_off29 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off30 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c80_i32 : BitVec 32 := 80#32
  let c0_i32_68 : BitVec 32 := 0#32
  ![v2.toNat, 80, 0]
def k0_off31 (v395 : BitVec 32) : Fin 2 → Nat :=
  let v396 : BitVec 32 := v395
  let c0_i32_69 : BitVec 32 := 0#32
  ![v396.toNat, 0]

def k0_chk7 (v395 : BitVec 32) : Prop :=
  (16 ∣ (k0_mult8 v395).toNat) ∧
  (∀ a, (k0_off31 v395) a + S16x1024.size a ≤ S851968x1024.size a) ∧
  (∀ (hinb : ∀ a, (k0_off31 v395) a + S16x1024.size a ≤ S851968x1024.size a), (Rect.unit (s := S851968x1024) (k0_off31 v395) S16x1024.size hinb).WholeWords (EltTy.packing .bf16))
theorem k0_mult8_dvd : ∀ (v395 : BitVec 32) (k0_hw7 : k0_chk7 v395), 16 ∣ (k0_mult8 v395).toNat := fun v395 k0_hw7 => k0_hw7.1
theorem k0_off31_inb : ∀ (v395 : BitVec 32) (k0_hw7 : k0_chk7 v395), ∀ a, (k0_off31 v395) a + S16x1024.size a ≤ S851968x1024.size a := fun v395 k0_hw7 => k0_hw7.2.1
theorem k0_off31_wordsbf16 : ∀ (v395 : BitVec 32) (k0_hw7 : k0_chk7 v395), (Rect.unit (s := S851968x1024) (k0_off31 v395) S16x1024.size (k0_off31_inb v395 k0_hw7)).WholeWords (EltTy.packing .bf16) := fun v395 k0_hw7 => k0_hw7.2.2 (k0_off31_inb v395 k0_hw7)

def k0_off32 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c6_i32 : BitVec 32 := 6#32
  let v402 : BitVec 32 := Scalar.addi v38 c6_i32
  let v403 : Index := Scalar.indexCast v402
  ![v403.toNat]
def k0_mult9 (v404 : BitVec 32) : BitVec 32 :=
  v404

def k0_off33 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off34 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c96_i32 : BitVec 32 := 96#32
  let c0_i32_70 : BitVec 32 := 0#32
  ![v2.toNat, 96, 0]
def k0_off35 (v404 : BitVec 32) : Fin 2 → Nat :=
  let v405 : BitVec 32 := v404
  let c0_i32_71 : BitVec 32 := 0#32
  ![v405.toNat, 0]

def k0_chk8 (v404 : BitVec 32) : Prop :=
  (16 ∣ (k0_mult9 v404).toNat) ∧
  (∀ a, (k0_off35 v404) a + S16x1024.size a ≤ S851968x1024.size a) ∧
  (∀ (hinb : ∀ a, (k0_off35 v404) a + S16x1024.size a ≤ S851968x1024.size a), (Rect.unit (s := S851968x1024) (k0_off35 v404) S16x1024.size hinb).WholeWords (EltTy.packing .bf16))
theorem k0_mult9_dvd : ∀ (v404 : BitVec 32) (k0_hw8 : k0_chk8 v404), 16 ∣ (k0_mult9 v404).toNat := fun v404 k0_hw8 => k0_hw8.1
theorem k0_off35_inb : ∀ (v404 : BitVec 32) (k0_hw8 : k0_chk8 v404), ∀ a, (k0_off35 v404) a + S16x1024.size a ≤ S851968x1024.size a := fun v404 k0_hw8 => k0_hw8.2.1
theorem k0_off35_wordsbf16 : ∀ (v404 : BitVec 32) (k0_hw8 : k0_chk8 v404), (Rect.unit (s := S851968x1024) (k0_off35 v404) S16x1024.size (k0_off35_inb v404 k0_hw8)).WholeWords (EltTy.packing .bf16) := fun v404 k0_hw8 => k0_hw8.2.2 (k0_off35_inb v404 k0_hw8)

def k0_off36 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c7_i32 : BitVec 32 := 7#32
  let v411 : BitVec 32 := Scalar.addi v38 c7_i32
  let v412 : Index := Scalar.indexCast v411
  ![v412.toNat]
def k0_mult10 (v413 : BitVec 32) : BitVec 32 :=
  v413

def k0_off37 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off38 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c112_i32 : BitVec 32 := 112#32
  let c0_i32_72 : BitVec 32 := 0#32
  ![v2.toNat, 112, 0]
def k0_off39 (v413 : BitVec 32) : Fin 2 → Nat :=
  let v414 : BitVec 32 := v413
  let c0_i32_73 : BitVec 32 := 0#32
  ![v414.toNat, 0]

def k0_chk9 (v413 : BitVec 32) : Prop :=
  (16 ∣ (k0_mult10 v413).toNat) ∧
  (∀ a, (k0_off39 v413) a + S16x1024.size a ≤ S851968x1024.size a) ∧
  (∀ (hinb : ∀ a, (k0_off39 v413) a + S16x1024.size a ≤ S851968x1024.size a), (Rect.unit (s := S851968x1024) (k0_off39 v413) S16x1024.size hinb).WholeWords (EltTy.packing .bf16))
theorem k0_mult10_dvd : ∀ (v413 : BitVec 32) (k0_hw9 : k0_chk9 v413), 16 ∣ (k0_mult10 v413).toNat := fun v413 k0_hw9 => k0_hw9.1
theorem k0_off39_inb : ∀ (v413 : BitVec 32) (k0_hw9 : k0_chk9 v413), ∀ a, (k0_off39 v413) a + S16x1024.size a ≤ S851968x1024.size a := fun v413 k0_hw9 => k0_hw9.2.1
theorem k0_off39_wordsbf16 : ∀ (v413 : BitVec 32) (k0_hw9 : k0_chk9 v413), (Rect.unit (s := S851968x1024) (k0_off39 v413) S16x1024.size (k0_off39_inb v413 k0_hw9)).WholeWords (EltTy.packing .bf16) := fun v413 k0_hw9 => k0_hw9.2.2 (k0_off39_inb v413 k0_hw9)

def k0_off40 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c8_i32 : BitVec 32 := 8#32
  let v420 : BitVec 32 := Scalar.addi v38 c8_i32
  let v421 : Index := Scalar.indexCast v420
  ![v421.toNat]
def k0_mult11 (v422 : BitVec 32) : BitVec 32 :=
  v422

def k0_off41 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off42 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c128_i32 : BitVec 32 := 128#32
  let c0_i32_74 : BitVec 32 := 0#32
  ![v2.toNat, 128, 0]
def k0_off43 (v422 : BitVec 32) : Fin 2 → Nat :=
  let v423 : BitVec 32 := v422
  let c0_i32_75 : BitVec 32 := 0#32
  ![v423.toNat, 0]

def k0_chk10 (v422 : BitVec 32) : Prop :=
  (16 ∣ (k0_mult11 v422).toNat) ∧
  (∀ a, (k0_off43 v422) a + S16x1024.size a ≤ S851968x1024.size a) ∧
  (∀ (hinb : ∀ a, (k0_off43 v422) a + S16x1024.size a ≤ S851968x1024.size a), (Rect.unit (s := S851968x1024) (k0_off43 v422) S16x1024.size hinb).WholeWords (EltTy.packing .bf16))
theorem k0_mult11_dvd : ∀ (v422 : BitVec 32) (k0_hw10 : k0_chk10 v422), 16 ∣ (k0_mult11 v422).toNat := fun v422 k0_hw10 => k0_hw10.1
theorem k0_off43_inb : ∀ (v422 : BitVec 32) (k0_hw10 : k0_chk10 v422), ∀ a, (k0_off43 v422) a + S16x1024.size a ≤ S851968x1024.size a := fun v422 k0_hw10 => k0_hw10.2.1
theorem k0_off43_wordsbf16 : ∀ (v422 : BitVec 32) (k0_hw10 : k0_chk10 v422), (Rect.unit (s := S851968x1024) (k0_off43 v422) S16x1024.size (k0_off43_inb v422 k0_hw10)).WholeWords (EltTy.packing .bf16) := fun v422 k0_hw10 => k0_hw10.2.2 (k0_off43_inb v422 k0_hw10)

def k0_off44 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c9_i32 : BitVec 32 := 9#32
  let v429 : BitVec 32 := Scalar.addi v38 c9_i32
  let v430 : Index := Scalar.indexCast v429
  ![v430.toNat]
def k0_mult12 (v431 : BitVec 32) : BitVec 32 :=
  v431

def k0_off45 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off46 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c144_i32 : BitVec 32 := 144#32
  let c0_i32_76 : BitVec 32 := 0#32
  ![v2.toNat, 144, 0]
def k0_off47 (v431 : BitVec 32) : Fin 2 → Nat :=
  let v432 : BitVec 32 := v431
  let c0_i32_77 : BitVec 32 := 0#32
  ![v432.toNat, 0]

def k0_chk11 (v431 : BitVec 32) : Prop :=
  (16 ∣ (k0_mult12 v431).toNat) ∧
  (∀ a, (k0_off47 v431) a + S16x1024.size a ≤ S851968x1024.size a) ∧
  (∀ (hinb : ∀ a, (k0_off47 v431) a + S16x1024.size a ≤ S851968x1024.size a), (Rect.unit (s := S851968x1024) (k0_off47 v431) S16x1024.size hinb).WholeWords (EltTy.packing .bf16))
theorem k0_mult12_dvd : ∀ (v431 : BitVec 32) (k0_hw11 : k0_chk11 v431), 16 ∣ (k0_mult12 v431).toNat := fun v431 k0_hw11 => k0_hw11.1
theorem k0_off47_inb : ∀ (v431 : BitVec 32) (k0_hw11 : k0_chk11 v431), ∀ a, (k0_off47 v431) a + S16x1024.size a ≤ S851968x1024.size a := fun v431 k0_hw11 => k0_hw11.2.1
theorem k0_off47_wordsbf16 : ∀ (v431 : BitVec 32) (k0_hw11 : k0_chk11 v431), (Rect.unit (s := S851968x1024) (k0_off47 v431) S16x1024.size (k0_off47_inb v431 k0_hw11)).WholeWords (EltTy.packing .bf16) := fun v431 k0_hw11 => k0_hw11.2.2 (k0_off47_inb v431 k0_hw11)

def k0_off48 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c10_i32 : BitVec 32 := 10#32
  let v438 : BitVec 32 := Scalar.addi v38 c10_i32
  let v439 : Index := Scalar.indexCast v438
  ![v439.toNat]
def k0_mult13 (v440 : BitVec 32) : BitVec 32 :=
  v440

def k0_off49 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off50 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c160_i32 : BitVec 32 := 160#32
  let c0_i32_78 : BitVec 32 := 0#32
  ![v2.toNat, 160, 0]
def k0_off51 (v440 : BitVec 32) : Fin 2 → Nat :=
  let v441 : BitVec 32 := v440
  let c0_i32_79 : BitVec 32 := 0#32
  ![v441.toNat, 0]

def k0_chk12 (v440 : BitVec 32) : Prop :=
  (16 ∣ (k0_mult13 v440).toNat) ∧
  (∀ a, (k0_off51 v440) a + S16x1024.size a ≤ S851968x1024.size a) ∧
  (∀ (hinb : ∀ a, (k0_off51 v440) a + S16x1024.size a ≤ S851968x1024.size a), (Rect.unit (s := S851968x1024) (k0_off51 v440) S16x1024.size hinb).WholeWords (EltTy.packing .bf16))
theorem k0_mult13_dvd : ∀ (v440 : BitVec 32) (k0_hw12 : k0_chk12 v440), 16 ∣ (k0_mult13 v440).toNat := fun v440 k0_hw12 => k0_hw12.1
theorem k0_off51_inb : ∀ (v440 : BitVec 32) (k0_hw12 : k0_chk12 v440), ∀ a, (k0_off51 v440) a + S16x1024.size a ≤ S851968x1024.size a := fun v440 k0_hw12 => k0_hw12.2.1
theorem k0_off51_wordsbf16 : ∀ (v440 : BitVec 32) (k0_hw12 : k0_chk12 v440), (Rect.unit (s := S851968x1024) (k0_off51 v440) S16x1024.size (k0_off51_inb v440 k0_hw12)).WholeWords (EltTy.packing .bf16) := fun v440 k0_hw12 => k0_hw12.2.2 (k0_off51_inb v440 k0_hw12)

def k0_off52 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c11_i32 : BitVec 32 := 11#32
  let v447 : BitVec 32 := Scalar.addi v38 c11_i32
  let v448 : Index := Scalar.indexCast v447
  ![v448.toNat]
def k0_mult14 (v449 : BitVec 32) : BitVec 32 :=
  v449

def k0_off53 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off54 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c176_i32 : BitVec 32 := 176#32
  let c0_i32_80 : BitVec 32 := 0#32
  ![v2.toNat, 176, 0]
def k0_off55 (v449 : BitVec 32) : Fin 2 → Nat :=
  let v450 : BitVec 32 := v449
  let c0_i32_81 : BitVec 32 := 0#32
  ![v450.toNat, 0]

def k0_chk13 (v449 : BitVec 32) : Prop :=
  (16 ∣ (k0_mult14 v449).toNat) ∧
  (∀ a, (k0_off55 v449) a + S16x1024.size a ≤ S851968x1024.size a) ∧
  (∀ (hinb : ∀ a, (k0_off55 v449) a + S16x1024.size a ≤ S851968x1024.size a), (Rect.unit (s := S851968x1024) (k0_off55 v449) S16x1024.size hinb).WholeWords (EltTy.packing .bf16))
theorem k0_mult14_dvd : ∀ (v449 : BitVec 32) (k0_hw13 : k0_chk13 v449), 16 ∣ (k0_mult14 v449).toNat := fun v449 k0_hw13 => k0_hw13.1
theorem k0_off55_inb : ∀ (v449 : BitVec 32) (k0_hw13 : k0_chk13 v449), ∀ a, (k0_off55 v449) a + S16x1024.size a ≤ S851968x1024.size a := fun v449 k0_hw13 => k0_hw13.2.1
theorem k0_off55_wordsbf16 : ∀ (v449 : BitVec 32) (k0_hw13 : k0_chk13 v449), (Rect.unit (s := S851968x1024) (k0_off55 v449) S16x1024.size (k0_off55_inb v449 k0_hw13)).WholeWords (EltTy.packing .bf16) := fun v449 k0_hw13 => k0_hw13.2.2 (k0_off55_inb v449 k0_hw13)

def k0_off56 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c12_i32 : BitVec 32 := 12#32
  let v456 : BitVec 32 := Scalar.addi v38 c12_i32
  let v457 : Index := Scalar.indexCast v456
  ![v457.toNat]
def k0_mult15 (v458 : BitVec 32) : BitVec 32 :=
  v458

def k0_off57 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off58 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c192_i32_82 : BitVec 32 := 192#32
  let c0_i32_83 : BitVec 32 := 0#32
  ![v2.toNat, 192, 0]
def k0_off59 (v458 : BitVec 32) : Fin 2 → Nat :=
  let v459 : BitVec 32 := v458
  let c0_i32_84 : BitVec 32 := 0#32
  ![v459.toNat, 0]

def k0_chk14 (v458 : BitVec 32) : Prop :=
  (16 ∣ (k0_mult15 v458).toNat) ∧
  (∀ a, (k0_off59 v458) a + S16x1024.size a ≤ S851968x1024.size a) ∧
  (∀ (hinb : ∀ a, (k0_off59 v458) a + S16x1024.size a ≤ S851968x1024.size a), (Rect.unit (s := S851968x1024) (k0_off59 v458) S16x1024.size hinb).WholeWords (EltTy.packing .bf16))
theorem k0_mult15_dvd : ∀ (v458 : BitVec 32) (k0_hw14 : k0_chk14 v458), 16 ∣ (k0_mult15 v458).toNat := fun v458 k0_hw14 => k0_hw14.1
theorem k0_off59_inb : ∀ (v458 : BitVec 32) (k0_hw14 : k0_chk14 v458), ∀ a, (k0_off59 v458) a + S16x1024.size a ≤ S851968x1024.size a := fun v458 k0_hw14 => k0_hw14.2.1
theorem k0_off59_wordsbf16 : ∀ (v458 : BitVec 32) (k0_hw14 : k0_chk14 v458), (Rect.unit (s := S851968x1024) (k0_off59 v458) S16x1024.size (k0_off59_inb v458 k0_hw14)).WholeWords (EltTy.packing .bf16) := fun v458 k0_hw14 => k0_hw14.2.2 (k0_off59_inb v458 k0_hw14)

def k0_off60 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c13_i32 : BitVec 32 := 13#32
  let v465 : BitVec 32 := Scalar.addi v38 c13_i32
  let v466 : Index := Scalar.indexCast v465
  ![v466.toNat]
def k0_mult16 (v467 : BitVec 32) : BitVec 32 :=
  v467

def k0_off61 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off62 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c208_i32 : BitVec 32 := 208#32
  let c0_i32_85 : BitVec 32 := 0#32
  ![v2.toNat, 208, 0]
def k0_off63 (v467 : BitVec 32) : Fin 2 → Nat :=
  let v468 : BitVec 32 := v467
  let c0_i32_86 : BitVec 32 := 0#32
  ![v468.toNat, 0]

def k0_chk15 (v467 : BitVec 32) : Prop :=
  (16 ∣ (k0_mult16 v467).toNat) ∧
  (∀ a, (k0_off63 v467) a + S16x1024.size a ≤ S851968x1024.size a) ∧
  (∀ (hinb : ∀ a, (k0_off63 v467) a + S16x1024.size a ≤ S851968x1024.size a), (Rect.unit (s := S851968x1024) (k0_off63 v467) S16x1024.size hinb).WholeWords (EltTy.packing .bf16))
theorem k0_mult16_dvd : ∀ (v467 : BitVec 32) (k0_hw15 : k0_chk15 v467), 16 ∣ (k0_mult16 v467).toNat := fun v467 k0_hw15 => k0_hw15.1
theorem k0_off63_inb : ∀ (v467 : BitVec 32) (k0_hw15 : k0_chk15 v467), ∀ a, (k0_off63 v467) a + S16x1024.size a ≤ S851968x1024.size a := fun v467 k0_hw15 => k0_hw15.2.1
theorem k0_off63_wordsbf16 : ∀ (v467 : BitVec 32) (k0_hw15 : k0_chk15 v467), (Rect.unit (s := S851968x1024) (k0_off63 v467) S16x1024.size (k0_off63_inb v467 k0_hw15)).WholeWords (EltTy.packing .bf16) := fun v467 k0_hw15 => k0_hw15.2.2 (k0_off63_inb v467 k0_hw15)

def k0_off64 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c14_i32 : BitVec 32 := 14#32
  let v474 : BitVec 32 := Scalar.addi v38 c14_i32
  let v475 : Index := Scalar.indexCast v474
  ![v475.toNat]
def k0_mult17 (v476 : BitVec 32) : BitVec 32 :=
  v476

def k0_off65 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off66 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c224_i32 : BitVec 32 := 224#32
  let c0_i32_87 : BitVec 32 := 0#32
  ![v2.toNat, 224, 0]
def k0_off67 (v476 : BitVec 32) : Fin 2 → Nat :=
  let v477 : BitVec 32 := v476
  let c0_i32_88 : BitVec 32 := 0#32
  ![v477.toNat, 0]

def k0_chk16 (v476 : BitVec 32) : Prop :=
  (16 ∣ (k0_mult17 v476).toNat) ∧
  (∀ a, (k0_off67 v476) a + S16x1024.size a ≤ S851968x1024.size a) ∧
  (∀ (hinb : ∀ a, (k0_off67 v476) a + S16x1024.size a ≤ S851968x1024.size a), (Rect.unit (s := S851968x1024) (k0_off67 v476) S16x1024.size hinb).WholeWords (EltTy.packing .bf16))
theorem k0_mult17_dvd : ∀ (v476 : BitVec 32) (k0_hw16 : k0_chk16 v476), 16 ∣ (k0_mult17 v476).toNat := fun v476 k0_hw16 => k0_hw16.1
theorem k0_off67_inb : ∀ (v476 : BitVec 32) (k0_hw16 : k0_chk16 v476), ∀ a, (k0_off67 v476) a + S16x1024.size a ≤ S851968x1024.size a := fun v476 k0_hw16 => k0_hw16.2.1
theorem k0_off67_wordsbf16 : ∀ (v476 : BitVec 32) (k0_hw16 : k0_chk16 v476), (Rect.unit (s := S851968x1024) (k0_off67 v476) S16x1024.size (k0_off67_inb v476 k0_hw16)).WholeWords (EltTy.packing .bf16) := fun v476 k0_hw16 => k0_hw16.2.2 (k0_off67_inb v476 k0_hw16)

def k0_off68 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c15_i32 : BitVec 32 := 15#32
  let v483 : BitVec 32 := Scalar.addi v38 c15_i32
  let v484 : Index := Scalar.indexCast v483
  ![v484.toNat]
def k0_mult18 (v485 : BitVec 32) : BitVec 32 :=
  v485

def k0_off69 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off70 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c240_i32 : BitVec 32 := 240#32
  let c0_i32_89 : BitVec 32 := 0#32
  ![v2.toNat, 240, 0]
def k0_off71 (v485 : BitVec 32) : Fin 2 → Nat :=
  let v486 : BitVec 32 := v485
  let c0_i32_90 : BitVec 32 := 0#32
  ![v486.toNat, 0]

def k0_chk17 (v485 : BitVec 32) : Prop :=
  (16 ∣ (k0_mult18 v485).toNat) ∧
  (∀ a, (k0_off71 v485) a + S16x1024.size a ≤ S851968x1024.size a) ∧
  (∀ (hinb : ∀ a, (k0_off71 v485) a + S16x1024.size a ≤ S851968x1024.size a), (Rect.unit (s := S851968x1024) (k0_off71 v485) S16x1024.size hinb).WholeWords (EltTy.packing .bf16))
theorem k0_mult18_dvd : ∀ (v485 : BitVec 32) (k0_hw17 : k0_chk17 v485), 16 ∣ (k0_mult18 v485).toNat := fun v485 k0_hw17 => k0_hw17.1
theorem k0_off71_inb : ∀ (v485 : BitVec 32) (k0_hw17 : k0_chk17 v485), ∀ a, (k0_off71 v485) a + S16x1024.size a ≤ S851968x1024.size a := fun v485 k0_hw17 => k0_hw17.2.1
theorem k0_off71_wordsbf16 : ∀ (v485 : BitVec 32) (k0_hw17 : k0_chk17 v485), (Rect.unit (s := S851968x1024) (k0_off71 v485) S16x1024.size (k0_off71_inb v485 k0_hw17)).WholeWords (EltTy.packing .bf16) := fun v485 k0_hw17 => k0_hw17.2.2 (k0_off71_inb v485 k0_hw17)

def k0_off72 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c16_i32_91 : BitVec 32 := 16#32
  let v492 : BitVec 32 := Scalar.addi v38 c16_i32_91
  let v493 : Index := Scalar.indexCast v492
  ![v493.toNat]
def k0_mult19 (v494 : BitVec 32) : BitVec 32 :=
  v494

def k0_off73 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off74 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c256_i32 : BitVec 32 := 256#32
  let c0_i32_92 : BitVec 32 := 0#32
  ![v2.toNat, 256, 0]
def k0_off75 (v494 : BitVec 32) : Fin 2 → Nat :=
  let v495 : BitVec 32 := v494
  let c0_i32_93 : BitVec 32 := 0#32
  ![v495.toNat, 0]

def k0_chk18 (v494 : BitVec 32) : Prop :=
  (16 ∣ (k0_mult19 v494).toNat) ∧
  (∀ a, (k0_off75 v494) a + S16x1024.size a ≤ S851968x1024.size a) ∧
  (∀ (hinb : ∀ a, (k0_off75 v494) a + S16x1024.size a ≤ S851968x1024.size a), (Rect.unit (s := S851968x1024) (k0_off75 v494) S16x1024.size hinb).WholeWords (EltTy.packing .bf16))
theorem k0_mult19_dvd : ∀ (v494 : BitVec 32) (k0_hw18 : k0_chk18 v494), 16 ∣ (k0_mult19 v494).toNat := fun v494 k0_hw18 => k0_hw18.1
theorem k0_off75_inb : ∀ (v494 : BitVec 32) (k0_hw18 : k0_chk18 v494), ∀ a, (k0_off75 v494) a + S16x1024.size a ≤ S851968x1024.size a := fun v494 k0_hw18 => k0_hw18.2.1
theorem k0_off75_wordsbf16 : ∀ (v494 : BitVec 32) (k0_hw18 : k0_chk18 v494), (Rect.unit (s := S851968x1024) (k0_off75 v494) S16x1024.size (k0_off75_inb v494 k0_hw18)).WholeWords (EltTy.packing .bf16) := fun v494 k0_hw18 => k0_hw18.2.2 (k0_off75_inb v494 k0_hw18)

def k0_off76 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c17_i32 : BitVec 32 := 17#32
  let v501 : BitVec 32 := Scalar.addi v38 c17_i32
  let v502 : Index := Scalar.indexCast v501
  ![v502.toNat]
def k0_mult20 (v503 : BitVec 32) : BitVec 32 :=
  v503

def k0_off77 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off78 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c272_i32 : BitVec 32 := 272#32
  let c0_i32_94 : BitVec 32 := 0#32
  ![v2.toNat, 272, 0]
def k0_off79 (v503 : BitVec 32) : Fin 2 → Nat :=
  let v504 : BitVec 32 := v503
  let c0_i32_95 : BitVec 32 := 0#32
  ![v504.toNat, 0]

def k0_chk19 (v503 : BitVec 32) : Prop :=
  (16 ∣ (k0_mult20 v503).toNat) ∧
  (∀ a, (k0_off79 v503) a + S16x1024.size a ≤ S851968x1024.size a) ∧
  (∀ (hinb : ∀ a, (k0_off79 v503) a + S16x1024.size a ≤ S851968x1024.size a), (Rect.unit (s := S851968x1024) (k0_off79 v503) S16x1024.size hinb).WholeWords (EltTy.packing .bf16))
theorem k0_mult20_dvd : ∀ (v503 : BitVec 32) (k0_hw19 : k0_chk19 v503), 16 ∣ (k0_mult20 v503).toNat := fun v503 k0_hw19 => k0_hw19.1
theorem k0_off79_inb : ∀ (v503 : BitVec 32) (k0_hw19 : k0_chk19 v503), ∀ a, (k0_off79 v503) a + S16x1024.size a ≤ S851968x1024.size a := fun v503 k0_hw19 => k0_hw19.2.1
theorem k0_off79_wordsbf16 : ∀ (v503 : BitVec 32) (k0_hw19 : k0_chk19 v503), (Rect.unit (s := S851968x1024) (k0_off79 v503) S16x1024.size (k0_off79_inb v503 k0_hw19)).WholeWords (EltTy.packing .bf16) := fun v503 k0_hw19 => k0_hw19.2.2 (k0_off79_inb v503 k0_hw19)

def k0_off80 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c18_i32 : BitVec 32 := 18#32
  let v510 : BitVec 32 := Scalar.addi v38 c18_i32
  let v511 : Index := Scalar.indexCast v510
  ![v511.toNat]
def k0_mult21 (v512 : BitVec 32) : BitVec 32 :=
  v512

def k0_off81 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off82 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c288_i32 : BitVec 32 := 288#32
  let c0_i32_96 : BitVec 32 := 0#32
  ![v2.toNat, 288, 0]
def k0_off83 (v512 : BitVec 32) : Fin 2 → Nat :=
  let v513 : BitVec 32 := v512
  let c0_i32_97 : BitVec 32 := 0#32
  ![v513.toNat, 0]

def k0_chk20 (v512 : BitVec 32) : Prop :=
  (16 ∣ (k0_mult21 v512).toNat) ∧
  (∀ a, (k0_off83 v512) a + S16x1024.size a ≤ S851968x1024.size a) ∧
  (∀ (hinb : ∀ a, (k0_off83 v512) a + S16x1024.size a ≤ S851968x1024.size a), (Rect.unit (s := S851968x1024) (k0_off83 v512) S16x1024.size hinb).WholeWords (EltTy.packing .bf16))
theorem k0_mult21_dvd : ∀ (v512 : BitVec 32) (k0_hw20 : k0_chk20 v512), 16 ∣ (k0_mult21 v512).toNat := fun v512 k0_hw20 => k0_hw20.1
theorem k0_off83_inb : ∀ (v512 : BitVec 32) (k0_hw20 : k0_chk20 v512), ∀ a, (k0_off83 v512) a + S16x1024.size a ≤ S851968x1024.size a := fun v512 k0_hw20 => k0_hw20.2.1
theorem k0_off83_wordsbf16 : ∀ (v512 : BitVec 32) (k0_hw20 : k0_chk20 v512), (Rect.unit (s := S851968x1024) (k0_off83 v512) S16x1024.size (k0_off83_inb v512 k0_hw20)).WholeWords (EltTy.packing .bf16) := fun v512 k0_hw20 => k0_hw20.2.2 (k0_off83_inb v512 k0_hw20)

def k0_off84 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c19_i32 : BitVec 32 := 19#32
  let v519 : BitVec 32 := Scalar.addi v38 c19_i32
  let v520 : Index := Scalar.indexCast v519
  ![v520.toNat]
def k0_mult22 (v521 : BitVec 32) : BitVec 32 :=
  v521

def k0_off85 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off86 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c304_i32 : BitVec 32 := 304#32
  let c0_i32_98 : BitVec 32 := 0#32
  ![v2.toNat, 304, 0]
def k0_off87 (v521 : BitVec 32) : Fin 2 → Nat :=
  let v522 : BitVec 32 := v521
  let c0_i32_99 : BitVec 32 := 0#32
  ![v522.toNat, 0]

def k0_chk21 (v521 : BitVec 32) : Prop :=
  (16 ∣ (k0_mult22 v521).toNat) ∧
  (∀ a, (k0_off87 v521) a + S16x1024.size a ≤ S851968x1024.size a) ∧
  (∀ (hinb : ∀ a, (k0_off87 v521) a + S16x1024.size a ≤ S851968x1024.size a), (Rect.unit (s := S851968x1024) (k0_off87 v521) S16x1024.size hinb).WholeWords (EltTy.packing .bf16))
theorem k0_mult22_dvd : ∀ (v521 : BitVec 32) (k0_hw21 : k0_chk21 v521), 16 ∣ (k0_mult22 v521).toNat := fun v521 k0_hw21 => k0_hw21.1
theorem k0_off87_inb : ∀ (v521 : BitVec 32) (k0_hw21 : k0_chk21 v521), ∀ a, (k0_off87 v521) a + S16x1024.size a ≤ S851968x1024.size a := fun v521 k0_hw21 => k0_hw21.2.1
theorem k0_off87_wordsbf16 : ∀ (v521 : BitVec 32) (k0_hw21 : k0_chk21 v521), (Rect.unit (s := S851968x1024) (k0_off87 v521) S16x1024.size (k0_off87_inb v521 k0_hw21)).WholeWords (EltTy.packing .bf16) := fun v521 k0_hw21 => k0_hw21.2.2 (k0_off87_inb v521 k0_hw21)

def k0_off88 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c20_i32 : BitVec 32 := 20#32
  let v528 : BitVec 32 := Scalar.addi v38 c20_i32
  let v529 : Index := Scalar.indexCast v528
  ![v529.toNat]
def k0_mult23 (v530 : BitVec 32) : BitVec 32 :=
  v530

def k0_off89 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off90 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c320_i32 : BitVec 32 := 320#32
  let c0_i32_100 : BitVec 32 := 0#32
  ![v2.toNat, 320, 0]
def k0_off91 (v530 : BitVec 32) : Fin 2 → Nat :=
  let v531 : BitVec 32 := v530
  let c0_i32_101 : BitVec 32 := 0#32
  ![v531.toNat, 0]

def k0_chk22 (v530 : BitVec 32) : Prop :=
  (16 ∣ (k0_mult23 v530).toNat) ∧
  (∀ a, (k0_off91 v530) a + S16x1024.size a ≤ S851968x1024.size a) ∧
  (∀ (hinb : ∀ a, (k0_off91 v530) a + S16x1024.size a ≤ S851968x1024.size a), (Rect.unit (s := S851968x1024) (k0_off91 v530) S16x1024.size hinb).WholeWords (EltTy.packing .bf16))
theorem k0_mult23_dvd : ∀ (v530 : BitVec 32) (k0_hw22 : k0_chk22 v530), 16 ∣ (k0_mult23 v530).toNat := fun v530 k0_hw22 => k0_hw22.1
theorem k0_off91_inb : ∀ (v530 : BitVec 32) (k0_hw22 : k0_chk22 v530), ∀ a, (k0_off91 v530) a + S16x1024.size a ≤ S851968x1024.size a := fun v530 k0_hw22 => k0_hw22.2.1
theorem k0_off91_wordsbf16 : ∀ (v530 : BitVec 32) (k0_hw22 : k0_chk22 v530), (Rect.unit (s := S851968x1024) (k0_off91 v530) S16x1024.size (k0_off91_inb v530 k0_hw22)).WholeWords (EltTy.packing .bf16) := fun v530 k0_hw22 => k0_hw22.2.2 (k0_off91_inb v530 k0_hw22)

def k0_off92 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c21_i32 : BitVec 32 := 21#32
  let v537 : BitVec 32 := Scalar.addi v38 c21_i32
  let v538 : Index := Scalar.indexCast v537
  ![v538.toNat]
def k0_mult24 (v539 : BitVec 32) : BitVec 32 :=
  v539

def k0_off93 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off94 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c336_i32 : BitVec 32 := 336#32
  let c0_i32_102 : BitVec 32 := 0#32
  ![v2.toNat, 336, 0]
def k0_off95 (v539 : BitVec 32) : Fin 2 → Nat :=
  let v540 : BitVec 32 := v539
  let c0_i32_103 : BitVec 32 := 0#32
  ![v540.toNat, 0]

def k0_chk23 (v539 : BitVec 32) : Prop :=
  (16 ∣ (k0_mult24 v539).toNat) ∧
  (∀ a, (k0_off95 v539) a + S16x1024.size a ≤ S851968x1024.size a) ∧
  (∀ (hinb : ∀ a, (k0_off95 v539) a + S16x1024.size a ≤ S851968x1024.size a), (Rect.unit (s := S851968x1024) (k0_off95 v539) S16x1024.size hinb).WholeWords (EltTy.packing .bf16))
theorem k0_mult24_dvd : ∀ (v539 : BitVec 32) (k0_hw23 : k0_chk23 v539), 16 ∣ (k0_mult24 v539).toNat := fun v539 k0_hw23 => k0_hw23.1
theorem k0_off95_inb : ∀ (v539 : BitVec 32) (k0_hw23 : k0_chk23 v539), ∀ a, (k0_off95 v539) a + S16x1024.size a ≤ S851968x1024.size a := fun v539 k0_hw23 => k0_hw23.2.1
theorem k0_off95_wordsbf16 : ∀ (v539 : BitVec 32) (k0_hw23 : k0_chk23 v539), (Rect.unit (s := S851968x1024) (k0_off95 v539) S16x1024.size (k0_off95_inb v539 k0_hw23)).WholeWords (EltTy.packing .bf16) := fun v539 k0_hw23 => k0_hw23.2.2 (k0_off95_inb v539 k0_hw23)

def k0_off96 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c22_i32 : BitVec 32 := 22#32
  let v546 : BitVec 32 := Scalar.addi v38 c22_i32
  let v547 : Index := Scalar.indexCast v546
  ![v547.toNat]
def k0_mult25 (v548 : BitVec 32) : BitVec 32 :=
  v548

def k0_off97 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off98 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c352_i32 : BitVec 32 := 352#32
  let c0_i32_104 : BitVec 32 := 0#32
  ![v2.toNat, 352, 0]
def k0_off99 (v548 : BitVec 32) : Fin 2 → Nat :=
  let v549 : BitVec 32 := v548
  let c0_i32_105 : BitVec 32 := 0#32
  ![v549.toNat, 0]

def k0_chk24 (v548 : BitVec 32) : Prop :=
  (16 ∣ (k0_mult25 v548).toNat) ∧
  (∀ a, (k0_off99 v548) a + S16x1024.size a ≤ S851968x1024.size a) ∧
  (∀ (hinb : ∀ a, (k0_off99 v548) a + S16x1024.size a ≤ S851968x1024.size a), (Rect.unit (s := S851968x1024) (k0_off99 v548) S16x1024.size hinb).WholeWords (EltTy.packing .bf16))
theorem k0_mult25_dvd : ∀ (v548 : BitVec 32) (k0_hw24 : k0_chk24 v548), 16 ∣ (k0_mult25 v548).toNat := fun v548 k0_hw24 => k0_hw24.1
theorem k0_off99_inb : ∀ (v548 : BitVec 32) (k0_hw24 : k0_chk24 v548), ∀ a, (k0_off99 v548) a + S16x1024.size a ≤ S851968x1024.size a := fun v548 k0_hw24 => k0_hw24.2.1
theorem k0_off99_wordsbf16 : ∀ (v548 : BitVec 32) (k0_hw24 : k0_chk24 v548), (Rect.unit (s := S851968x1024) (k0_off99 v548) S16x1024.size (k0_off99_inb v548 k0_hw24)).WholeWords (EltTy.packing .bf16) := fun v548 k0_hw24 => k0_hw24.2.2 (k0_off99_inb v548 k0_hw24)

def k0_off100 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c23_i32 : BitVec 32 := 23#32
  let v555 : BitVec 32 := Scalar.addi v38 c23_i32
  let v556 : Index := Scalar.indexCast v555
  ![v556.toNat]
def k0_mult26 (v557 : BitVec 32) : BitVec 32 :=
  v557

def k0_off101 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off102 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c368_i32 : BitVec 32 := 368#32
  let c0_i32_106 : BitVec 32 := 0#32
  ![v2.toNat, 368, 0]
def k0_off103 (v557 : BitVec 32) : Fin 2 → Nat :=
  let v558 : BitVec 32 := v557
  let c0_i32_107 : BitVec 32 := 0#32
  ![v558.toNat, 0]

def k0_chk25 (v557 : BitVec 32) : Prop :=
  (16 ∣ (k0_mult26 v557).toNat) ∧
  (∀ a, (k0_off103 v557) a + S16x1024.size a ≤ S851968x1024.size a) ∧
  (∀ (hinb : ∀ a, (k0_off103 v557) a + S16x1024.size a ≤ S851968x1024.size a), (Rect.unit (s := S851968x1024) (k0_off103 v557) S16x1024.size hinb).WholeWords (EltTy.packing .bf16))
theorem k0_mult26_dvd : ∀ (v557 : BitVec 32) (k0_hw25 : k0_chk25 v557), 16 ∣ (k0_mult26 v557).toNat := fun v557 k0_hw25 => k0_hw25.1
theorem k0_off103_inb : ∀ (v557 : BitVec 32) (k0_hw25 : k0_chk25 v557), ∀ a, (k0_off103 v557) a + S16x1024.size a ≤ S851968x1024.size a := fun v557 k0_hw25 => k0_hw25.2.1
theorem k0_off103_wordsbf16 : ∀ (v557 : BitVec 32) (k0_hw25 : k0_chk25 v557), (Rect.unit (s := S851968x1024) (k0_off103 v557) S16x1024.size (k0_off103_inb v557 k0_hw25)).WholeWords (EltTy.packing .bf16) := fun v557 k0_hw25 => k0_hw25.2.2 (k0_off103_inb v557 k0_hw25)

def k0_off104 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c24_i32 : BitVec 32 := 24#32
  let v564 : BitVec 32 := Scalar.addi v38 c24_i32
  let v565 : Index := Scalar.indexCast v564
  ![v565.toNat]
def k0_mult27 (v566 : BitVec 32) : BitVec 32 :=
  v566

def k0_off105 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off106 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c384_i32 : BitVec 32 := 384#32
  let c0_i32_108 : BitVec 32 := 0#32
  ![v2.toNat, 384, 0]
def k0_off107 (v566 : BitVec 32) : Fin 2 → Nat :=
  let v567 : BitVec 32 := v566
  let c0_i32_109 : BitVec 32 := 0#32
  ![v567.toNat, 0]

def k0_chk26 (v566 : BitVec 32) : Prop :=
  (16 ∣ (k0_mult27 v566).toNat) ∧
  (∀ a, (k0_off107 v566) a + S16x1024.size a ≤ S851968x1024.size a) ∧
  (∀ (hinb : ∀ a, (k0_off107 v566) a + S16x1024.size a ≤ S851968x1024.size a), (Rect.unit (s := S851968x1024) (k0_off107 v566) S16x1024.size hinb).WholeWords (EltTy.packing .bf16))
theorem k0_mult27_dvd : ∀ (v566 : BitVec 32) (k0_hw26 : k0_chk26 v566), 16 ∣ (k0_mult27 v566).toNat := fun v566 k0_hw26 => k0_hw26.1
theorem k0_off107_inb : ∀ (v566 : BitVec 32) (k0_hw26 : k0_chk26 v566), ∀ a, (k0_off107 v566) a + S16x1024.size a ≤ S851968x1024.size a := fun v566 k0_hw26 => k0_hw26.2.1
theorem k0_off107_wordsbf16 : ∀ (v566 : BitVec 32) (k0_hw26 : k0_chk26 v566), (Rect.unit (s := S851968x1024) (k0_off107 v566) S16x1024.size (k0_off107_inb v566 k0_hw26)).WholeWords (EltTy.packing .bf16) := fun v566 k0_hw26 => k0_hw26.2.2 (k0_off107_inb v566 k0_hw26)

def k0_off108 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c25_i32 : BitVec 32 := 25#32
  let v573 : BitVec 32 := Scalar.addi v38 c25_i32
  let v574 : Index := Scalar.indexCast v573
  ![v574.toNat]
def k0_mult28 (v575 : BitVec 32) : BitVec 32 :=
  v575

def k0_off109 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off110 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c400_i32 : BitVec 32 := 400#32
  let c0_i32_110 : BitVec 32 := 0#32
  ![v2.toNat, 400, 0]
def k0_off111 (v575 : BitVec 32) : Fin 2 → Nat :=
  let v576 : BitVec 32 := v575
  let c0_i32_111 : BitVec 32 := 0#32
  ![v576.toNat, 0]

def k0_chk27 (v575 : BitVec 32) : Prop :=
  (16 ∣ (k0_mult28 v575).toNat) ∧
  (∀ a, (k0_off111 v575) a + S16x1024.size a ≤ S851968x1024.size a) ∧
  (∀ (hinb : ∀ a, (k0_off111 v575) a + S16x1024.size a ≤ S851968x1024.size a), (Rect.unit (s := S851968x1024) (k0_off111 v575) S16x1024.size hinb).WholeWords (EltTy.packing .bf16))
theorem k0_mult28_dvd : ∀ (v575 : BitVec 32) (k0_hw27 : k0_chk27 v575), 16 ∣ (k0_mult28 v575).toNat := fun v575 k0_hw27 => k0_hw27.1
theorem k0_off111_inb : ∀ (v575 : BitVec 32) (k0_hw27 : k0_chk27 v575), ∀ a, (k0_off111 v575) a + S16x1024.size a ≤ S851968x1024.size a := fun v575 k0_hw27 => k0_hw27.2.1
theorem k0_off111_wordsbf16 : ∀ (v575 : BitVec 32) (k0_hw27 : k0_chk27 v575), (Rect.unit (s := S851968x1024) (k0_off111 v575) S16x1024.size (k0_off111_inb v575 k0_hw27)).WholeWords (EltTy.packing .bf16) := fun v575 k0_hw27 => k0_hw27.2.2 (k0_off111_inb v575 k0_hw27)

def k0_off112 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c26_i32 : BitVec 32 := 26#32
  let v582 : BitVec 32 := Scalar.addi v38 c26_i32
  let v583 : Index := Scalar.indexCast v582
  ![v583.toNat]
def k0_mult29 (v584 : BitVec 32) : BitVec 32 :=
  v584

def k0_off113 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off114 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c416_i32 : BitVec 32 := 416#32
  let c0_i32_112 : BitVec 32 := 0#32
  ![v2.toNat, 416, 0]
def k0_off115 (v584 : BitVec 32) : Fin 2 → Nat :=
  let v585 : BitVec 32 := v584
  let c0_i32_113 : BitVec 32 := 0#32
  ![v585.toNat, 0]

def k0_chk28 (v584 : BitVec 32) : Prop :=
  (16 ∣ (k0_mult29 v584).toNat) ∧
  (∀ a, (k0_off115 v584) a + S16x1024.size a ≤ S851968x1024.size a) ∧
  (∀ (hinb : ∀ a, (k0_off115 v584) a + S16x1024.size a ≤ S851968x1024.size a), (Rect.unit (s := S851968x1024) (k0_off115 v584) S16x1024.size hinb).WholeWords (EltTy.packing .bf16))
theorem k0_mult29_dvd : ∀ (v584 : BitVec 32) (k0_hw28 : k0_chk28 v584), 16 ∣ (k0_mult29 v584).toNat := fun v584 k0_hw28 => k0_hw28.1
theorem k0_off115_inb : ∀ (v584 : BitVec 32) (k0_hw28 : k0_chk28 v584), ∀ a, (k0_off115 v584) a + S16x1024.size a ≤ S851968x1024.size a := fun v584 k0_hw28 => k0_hw28.2.1
theorem k0_off115_wordsbf16 : ∀ (v584 : BitVec 32) (k0_hw28 : k0_chk28 v584), (Rect.unit (s := S851968x1024) (k0_off115 v584) S16x1024.size (k0_off115_inb v584 k0_hw28)).WholeWords (EltTy.packing .bf16) := fun v584 k0_hw28 => k0_hw28.2.2 (k0_off115_inb v584 k0_hw28)

def k0_off116 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c27_i32 : BitVec 32 := 27#32
  let v591 : BitVec 32 := Scalar.addi v38 c27_i32
  let v592 : Index := Scalar.indexCast v591
  ![v592.toNat]
def k0_mult30 (v593 : BitVec 32) : BitVec 32 :=
  v593

def k0_off117 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off118 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c432_i32 : BitVec 32 := 432#32
  let c0_i32_114 : BitVec 32 := 0#32
  ![v2.toNat, 432, 0]
def k0_off119 (v593 : BitVec 32) : Fin 2 → Nat :=
  let v594 : BitVec 32 := v593
  let c0_i32_115 : BitVec 32 := 0#32
  ![v594.toNat, 0]

def k0_chk29 (v593 : BitVec 32) : Prop :=
  (16 ∣ (k0_mult30 v593).toNat) ∧
  (∀ a, (k0_off119 v593) a + S16x1024.size a ≤ S851968x1024.size a) ∧
  (∀ (hinb : ∀ a, (k0_off119 v593) a + S16x1024.size a ≤ S851968x1024.size a), (Rect.unit (s := S851968x1024) (k0_off119 v593) S16x1024.size hinb).WholeWords (EltTy.packing .bf16))
theorem k0_mult30_dvd : ∀ (v593 : BitVec 32) (k0_hw29 : k0_chk29 v593), 16 ∣ (k0_mult30 v593).toNat := fun v593 k0_hw29 => k0_hw29.1
theorem k0_off119_inb : ∀ (v593 : BitVec 32) (k0_hw29 : k0_chk29 v593), ∀ a, (k0_off119 v593) a + S16x1024.size a ≤ S851968x1024.size a := fun v593 k0_hw29 => k0_hw29.2.1
theorem k0_off119_wordsbf16 : ∀ (v593 : BitVec 32) (k0_hw29 : k0_chk29 v593), (Rect.unit (s := S851968x1024) (k0_off119 v593) S16x1024.size (k0_off119_inb v593 k0_hw29)).WholeWords (EltTy.packing .bf16) := fun v593 k0_hw29 => k0_hw29.2.2 (k0_off119_inb v593 k0_hw29)

def k0_off120 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c28_i32 : BitVec 32 := 28#32
  let v600 : BitVec 32 := Scalar.addi v38 c28_i32
  let v601 : Index := Scalar.indexCast v600
  ![v601.toNat]
def k0_mult31 (v602 : BitVec 32) : BitVec 32 :=
  v602

def k0_off121 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off122 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c448_i32 : BitVec 32 := 448#32
  let c0_i32_116 : BitVec 32 := 0#32
  ![v2.toNat, 448, 0]
def k0_off123 (v602 : BitVec 32) : Fin 2 → Nat :=
  let v603 : BitVec 32 := v602
  let c0_i32_117 : BitVec 32 := 0#32
  ![v603.toNat, 0]

def k0_chk30 (v602 : BitVec 32) : Prop :=
  (16 ∣ (k0_mult31 v602).toNat) ∧
  (∀ a, (k0_off123 v602) a + S16x1024.size a ≤ S851968x1024.size a) ∧
  (∀ (hinb : ∀ a, (k0_off123 v602) a + S16x1024.size a ≤ S851968x1024.size a), (Rect.unit (s := S851968x1024) (k0_off123 v602) S16x1024.size hinb).WholeWords (EltTy.packing .bf16))
theorem k0_mult31_dvd : ∀ (v602 : BitVec 32) (k0_hw30 : k0_chk30 v602), 16 ∣ (k0_mult31 v602).toNat := fun v602 k0_hw30 => k0_hw30.1
theorem k0_off123_inb : ∀ (v602 : BitVec 32) (k0_hw30 : k0_chk30 v602), ∀ a, (k0_off123 v602) a + S16x1024.size a ≤ S851968x1024.size a := fun v602 k0_hw30 => k0_hw30.2.1
theorem k0_off123_wordsbf16 : ∀ (v602 : BitVec 32) (k0_hw30 : k0_chk30 v602), (Rect.unit (s := S851968x1024) (k0_off123 v602) S16x1024.size (k0_off123_inb v602 k0_hw30)).WholeWords (EltTy.packing .bf16) := fun v602 k0_hw30 => k0_hw30.2.2 (k0_off123_inb v602 k0_hw30)

def k0_off124 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c29_i32 : BitVec 32 := 29#32
  let v609 : BitVec 32 := Scalar.addi v38 c29_i32
  let v610 : Index := Scalar.indexCast v609
  ![v610.toNat]
def k0_mult32 (v611 : BitVec 32) : BitVec 32 :=
  v611

def k0_off125 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off126 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c464_i32 : BitVec 32 := 464#32
  let c0_i32_118 : BitVec 32 := 0#32
  ![v2.toNat, 464, 0]
def k0_off127 (v611 : BitVec 32) : Fin 2 → Nat :=
  let v612 : BitVec 32 := v611
  let c0_i32_119 : BitVec 32 := 0#32
  ![v612.toNat, 0]

def k0_chk31 (v611 : BitVec 32) : Prop :=
  (16 ∣ (k0_mult32 v611).toNat) ∧
  (∀ a, (k0_off127 v611) a + S16x1024.size a ≤ S851968x1024.size a) ∧
  (∀ (hinb : ∀ a, (k0_off127 v611) a + S16x1024.size a ≤ S851968x1024.size a), (Rect.unit (s := S851968x1024) (k0_off127 v611) S16x1024.size hinb).WholeWords (EltTy.packing .bf16))
theorem k0_mult32_dvd : ∀ (v611 : BitVec 32) (k0_hw31 : k0_chk31 v611), 16 ∣ (k0_mult32 v611).toNat := fun v611 k0_hw31 => k0_hw31.1
theorem k0_off127_inb : ∀ (v611 : BitVec 32) (k0_hw31 : k0_chk31 v611), ∀ a, (k0_off127 v611) a + S16x1024.size a ≤ S851968x1024.size a := fun v611 k0_hw31 => k0_hw31.2.1
theorem k0_off127_wordsbf16 : ∀ (v611 : BitVec 32) (k0_hw31 : k0_chk31 v611), (Rect.unit (s := S851968x1024) (k0_off127 v611) S16x1024.size (k0_off127_inb v611 k0_hw31)).WholeWords (EltTy.packing .bf16) := fun v611 k0_hw31 => k0_hw31.2.2 (k0_off127_inb v611 k0_hw31)

def k0_off128 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c30_i32 : BitVec 32 := 30#32
  let v618 : BitVec 32 := Scalar.addi v38 c30_i32
  let v619 : Index := Scalar.indexCast v618
  ![v619.toNat]
def k0_mult33 (v620 : BitVec 32) : BitVec 32 :=
  v620

def k0_off129 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off130 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c480_i32 : BitVec 32 := 480#32
  let c0_i32_120 : BitVec 32 := 0#32
  ![v2.toNat, 480, 0]
def k0_off131 (v620 : BitVec 32) : Fin 2 → Nat :=
  let v621 : BitVec 32 := v620
  let c0_i32_121 : BitVec 32 := 0#32
  ![v621.toNat, 0]

def k0_chk32 (v620 : BitVec 32) : Prop :=
  (16 ∣ (k0_mult33 v620).toNat) ∧
  (∀ a, (k0_off131 v620) a + S16x1024.size a ≤ S851968x1024.size a) ∧
  (∀ (hinb : ∀ a, (k0_off131 v620) a + S16x1024.size a ≤ S851968x1024.size a), (Rect.unit (s := S851968x1024) (k0_off131 v620) S16x1024.size hinb).WholeWords (EltTy.packing .bf16))
theorem k0_mult33_dvd : ∀ (v620 : BitVec 32) (k0_hw32 : k0_chk32 v620), 16 ∣ (k0_mult33 v620).toNat := fun v620 k0_hw32 => k0_hw32.1
theorem k0_off131_inb : ∀ (v620 : BitVec 32) (k0_hw32 : k0_chk32 v620), ∀ a, (k0_off131 v620) a + S16x1024.size a ≤ S851968x1024.size a := fun v620 k0_hw32 => k0_hw32.2.1
theorem k0_off131_wordsbf16 : ∀ (v620 : BitVec 32) (k0_hw32 : k0_chk32 v620), (Rect.unit (s := S851968x1024) (k0_off131 v620) S16x1024.size (k0_off131_inb v620 k0_hw32)).WholeWords (EltTy.packing .bf16) := fun v620 k0_hw32 => k0_hw32.2.2 (k0_off131_inb v620 k0_hw32)

def k0_off132 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c31_i32 : BitVec 32 := 31#32
  let v627 : BitVec 32 := Scalar.addi v38 c31_i32
  let v628 : Index := Scalar.indexCast v627
  ![v628.toNat]
def k0_mult34 (v629 : BitVec 32) : BitVec 32 :=
  v629

def k0_off133 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off134 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c496_i32 : BitVec 32 := 496#32
  let c0_i32_122 : BitVec 32 := 0#32
  ![v2.toNat, 496, 0]
def k0_off135 (v629 : BitVec 32) : Fin 2 → Nat :=
  let v630 : BitVec 32 := v629
  let c0_i32_123 : BitVec 32 := 0#32
  ![v630.toNat, 0]

def k0_chk33 (v629 : BitVec 32) : Prop :=
  (16 ∣ (k0_mult34 v629).toNat) ∧
  (∀ a, (k0_off135 v629) a + S16x1024.size a ≤ S851968x1024.size a) ∧
  (∀ (hinb : ∀ a, (k0_off135 v629) a + S16x1024.size a ≤ S851968x1024.size a), (Rect.unit (s := S851968x1024) (k0_off135 v629) S16x1024.size hinb).WholeWords (EltTy.packing .bf16))
theorem k0_mult34_dvd : ∀ (v629 : BitVec 32) (k0_hw33 : k0_chk33 v629), 16 ∣ (k0_mult34 v629).toNat := fun v629 k0_hw33 => k0_hw33.1
theorem k0_off135_inb : ∀ (v629 : BitVec 32) (k0_hw33 : k0_chk33 v629), ∀ a, (k0_off135 v629) a + S16x1024.size a ≤ S851968x1024.size a := fun v629 k0_hw33 => k0_hw33.2.1
theorem k0_off135_wordsbf16 : ∀ (v629 : BitVec 32) (k0_hw33 : k0_chk33 v629), (Rect.unit (s := S851968x1024) (k0_off135 v629) S16x1024.size (k0_off135_inb v629 k0_hw33)).WholeWords (EltTy.packing .bf16) := fun v629 k0_hw33 => k0_hw33.2.2 (k0_off135_inb v629 k0_hw33)

def k0_off136 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c32_i32_124 : BitVec 32 := 32#32
  let v636 : BitVec 32 := Scalar.addi v38 c32_i32_124
  let v637 : Index := Scalar.indexCast v636
  ![v637.toNat]
def k0_mult35 (v638 : BitVec 32) : BitVec 32 :=
  v638

def k0_off137 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off138 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c512_i32 : BitVec 32 := 512#32
  let c0_i32_125 : BitVec 32 := 0#32
  ![v2.toNat, 512, 0]
def k0_off139 (v638 : BitVec 32) : Fin 2 → Nat :=
  let v639 : BitVec 32 := v638
  let c0_i32_126 : BitVec 32 := 0#32
  ![v639.toNat, 0]

def k0_chk34 (v638 : BitVec 32) : Prop :=
  (16 ∣ (k0_mult35 v638).toNat) ∧
  (∀ a, (k0_off139 v638) a + S16x1024.size a ≤ S851968x1024.size a) ∧
  (∀ (hinb : ∀ a, (k0_off139 v638) a + S16x1024.size a ≤ S851968x1024.size a), (Rect.unit (s := S851968x1024) (k0_off139 v638) S16x1024.size hinb).WholeWords (EltTy.packing .bf16))
theorem k0_mult35_dvd : ∀ (v638 : BitVec 32) (k0_hw34 : k0_chk34 v638), 16 ∣ (k0_mult35 v638).toNat := fun v638 k0_hw34 => k0_hw34.1
theorem k0_off139_inb : ∀ (v638 : BitVec 32) (k0_hw34 : k0_chk34 v638), ∀ a, (k0_off139 v638) a + S16x1024.size a ≤ S851968x1024.size a := fun v638 k0_hw34 => k0_hw34.2.1
theorem k0_off139_wordsbf16 : ∀ (v638 : BitVec 32) (k0_hw34 : k0_chk34 v638), (Rect.unit (s := S851968x1024) (k0_off139 v638) S16x1024.size (k0_off139_inb v638 k0_hw34)).WholeWords (EltTy.packing .bf16) := fun v638 k0_hw34 => k0_hw34.2.2 (k0_off139_inb v638 k0_hw34)

def k0_off140 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c33_i32 : BitVec 32 := 33#32
  let v645 : BitVec 32 := Scalar.addi v38 c33_i32
  let v646 : Index := Scalar.indexCast v645
  ![v646.toNat]
def k0_mult36 (v647 : BitVec 32) : BitVec 32 :=
  v647

def k0_off141 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off142 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c528_i32 : BitVec 32 := 528#32
  let c0_i32_127 : BitVec 32 := 0#32
  ![v2.toNat, 528, 0]
def k0_off143 (v647 : BitVec 32) : Fin 2 → Nat :=
  let v648 : BitVec 32 := v647
  let c0_i32_128 : BitVec 32 := 0#32
  ![v648.toNat, 0]

def k0_chk35 (v647 : BitVec 32) : Prop :=
  (16 ∣ (k0_mult36 v647).toNat) ∧
  (∀ a, (k0_off143 v647) a + S16x1024.size a ≤ S851968x1024.size a) ∧
  (∀ (hinb : ∀ a, (k0_off143 v647) a + S16x1024.size a ≤ S851968x1024.size a), (Rect.unit (s := S851968x1024) (k0_off143 v647) S16x1024.size hinb).WholeWords (EltTy.packing .bf16))
theorem k0_mult36_dvd : ∀ (v647 : BitVec 32) (k0_hw35 : k0_chk35 v647), 16 ∣ (k0_mult36 v647).toNat := fun v647 k0_hw35 => k0_hw35.1
theorem k0_off143_inb : ∀ (v647 : BitVec 32) (k0_hw35 : k0_chk35 v647), ∀ a, (k0_off143 v647) a + S16x1024.size a ≤ S851968x1024.size a := fun v647 k0_hw35 => k0_hw35.2.1
theorem k0_off143_wordsbf16 : ∀ (v647 : BitVec 32) (k0_hw35 : k0_chk35 v647), (Rect.unit (s := S851968x1024) (k0_off143 v647) S16x1024.size (k0_off143_inb v647 k0_hw35)).WholeWords (EltTy.packing .bf16) := fun v647 k0_hw35 => k0_hw35.2.2 (k0_off143_inb v647 k0_hw35)

def k0_off144 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c34_i32 : BitVec 32 := 34#32
  let v654 : BitVec 32 := Scalar.addi v38 c34_i32
  let v655 : Index := Scalar.indexCast v654
  ![v655.toNat]
def k0_mult37 (v656 : BitVec 32) : BitVec 32 :=
  v656

def k0_off145 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off146 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c544_i32 : BitVec 32 := 544#32
  let c0_i32_129 : BitVec 32 := 0#32
  ![v2.toNat, 544, 0]
def k0_off147 (v656 : BitVec 32) : Fin 2 → Nat :=
  let v657 : BitVec 32 := v656
  let c0_i32_130 : BitVec 32 := 0#32
  ![v657.toNat, 0]

def k0_chk36 (v656 : BitVec 32) : Prop :=
  (16 ∣ (k0_mult37 v656).toNat) ∧
  (∀ a, (k0_off147 v656) a + S16x1024.size a ≤ S851968x1024.size a) ∧
  (∀ (hinb : ∀ a, (k0_off147 v656) a + S16x1024.size a ≤ S851968x1024.size a), (Rect.unit (s := S851968x1024) (k0_off147 v656) S16x1024.size hinb).WholeWords (EltTy.packing .bf16))
theorem k0_mult37_dvd : ∀ (v656 : BitVec 32) (k0_hw36 : k0_chk36 v656), 16 ∣ (k0_mult37 v656).toNat := fun v656 k0_hw36 => k0_hw36.1
theorem k0_off147_inb : ∀ (v656 : BitVec 32) (k0_hw36 : k0_chk36 v656), ∀ a, (k0_off147 v656) a + S16x1024.size a ≤ S851968x1024.size a := fun v656 k0_hw36 => k0_hw36.2.1
theorem k0_off147_wordsbf16 : ∀ (v656 : BitVec 32) (k0_hw36 : k0_chk36 v656), (Rect.unit (s := S851968x1024) (k0_off147 v656) S16x1024.size (k0_off147_inb v656 k0_hw36)).WholeWords (EltTy.packing .bf16) := fun v656 k0_hw36 => k0_hw36.2.2 (k0_off147_inb v656 k0_hw36)

def k0_off148 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c35_i32 : BitVec 32 := 35#32
  let v663 : BitVec 32 := Scalar.addi v38 c35_i32
  let v664 : Index := Scalar.indexCast v663
  ![v664.toNat]
def k0_mult38 (v665 : BitVec 32) : BitVec 32 :=
  v665

def k0_off149 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off150 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c560_i32 : BitVec 32 := 560#32
  let c0_i32_131 : BitVec 32 := 0#32
  ![v2.toNat, 560, 0]
def k0_off151 (v665 : BitVec 32) : Fin 2 → Nat :=
  let v666 : BitVec 32 := v665
  let c0_i32_132 : BitVec 32 := 0#32
  ![v666.toNat, 0]

def k0_chk37 (v665 : BitVec 32) : Prop :=
  (16 ∣ (k0_mult38 v665).toNat) ∧
  (∀ a, (k0_off151 v665) a + S16x1024.size a ≤ S851968x1024.size a) ∧
  (∀ (hinb : ∀ a, (k0_off151 v665) a + S16x1024.size a ≤ S851968x1024.size a), (Rect.unit (s := S851968x1024) (k0_off151 v665) S16x1024.size hinb).WholeWords (EltTy.packing .bf16))
theorem k0_mult38_dvd : ∀ (v665 : BitVec 32) (k0_hw37 : k0_chk37 v665), 16 ∣ (k0_mult38 v665).toNat := fun v665 k0_hw37 => k0_hw37.1
theorem k0_off151_inb : ∀ (v665 : BitVec 32) (k0_hw37 : k0_chk37 v665), ∀ a, (k0_off151 v665) a + S16x1024.size a ≤ S851968x1024.size a := fun v665 k0_hw37 => k0_hw37.2.1
theorem k0_off151_wordsbf16 : ∀ (v665 : BitVec 32) (k0_hw37 : k0_chk37 v665), (Rect.unit (s := S851968x1024) (k0_off151 v665) S16x1024.size (k0_off151_inb v665 k0_hw37)).WholeWords (EltTy.packing .bf16) := fun v665 k0_hw37 => k0_hw37.2.2 (k0_off151_inb v665 k0_hw37)

def k0_off152 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c36_i32 : BitVec 32 := 36#32
  let v672 : BitVec 32 := Scalar.addi v38 c36_i32
  let v673 : Index := Scalar.indexCast v672
  ![v673.toNat]
def k0_mult39 (v674 : BitVec 32) : BitVec 32 :=
  v674

def k0_off153 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off154 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c576_i32 : BitVec 32 := 576#32
  let c0_i32_133 : BitVec 32 := 0#32
  ![v2.toNat, 576, 0]
def k0_off155 (v674 : BitVec 32) : Fin 2 → Nat :=
  let v675 : BitVec 32 := v674
  let c0_i32_134 : BitVec 32 := 0#32
  ![v675.toNat, 0]

def k0_chk38 (v674 : BitVec 32) : Prop :=
  (16 ∣ (k0_mult39 v674).toNat) ∧
  (∀ a, (k0_off155 v674) a + S16x1024.size a ≤ S851968x1024.size a) ∧
  (∀ (hinb : ∀ a, (k0_off155 v674) a + S16x1024.size a ≤ S851968x1024.size a), (Rect.unit (s := S851968x1024) (k0_off155 v674) S16x1024.size hinb).WholeWords (EltTy.packing .bf16))
theorem k0_mult39_dvd : ∀ (v674 : BitVec 32) (k0_hw38 : k0_chk38 v674), 16 ∣ (k0_mult39 v674).toNat := fun v674 k0_hw38 => k0_hw38.1
theorem k0_off155_inb : ∀ (v674 : BitVec 32) (k0_hw38 : k0_chk38 v674), ∀ a, (k0_off155 v674) a + S16x1024.size a ≤ S851968x1024.size a := fun v674 k0_hw38 => k0_hw38.2.1
theorem k0_off155_wordsbf16 : ∀ (v674 : BitVec 32) (k0_hw38 : k0_chk38 v674), (Rect.unit (s := S851968x1024) (k0_off155 v674) S16x1024.size (k0_off155_inb v674 k0_hw38)).WholeWords (EltTy.packing .bf16) := fun v674 k0_hw38 => k0_hw38.2.2 (k0_off155_inb v674 k0_hw38)

def k0_off156 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c37_i32 : BitVec 32 := 37#32
  let v681 : BitVec 32 := Scalar.addi v38 c37_i32
  let v682 : Index := Scalar.indexCast v681
  ![v682.toNat]
def k0_mult40 (v683 : BitVec 32) : BitVec 32 :=
  v683

def k0_off157 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off158 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c592_i32 : BitVec 32 := 592#32
  let c0_i32_135 : BitVec 32 := 0#32
  ![v2.toNat, 592, 0]
def k0_off159 (v683 : BitVec 32) : Fin 2 → Nat :=
  let v684 : BitVec 32 := v683
  let c0_i32_136 : BitVec 32 := 0#32
  ![v684.toNat, 0]

def k0_chk39 (v683 : BitVec 32) : Prop :=
  (16 ∣ (k0_mult40 v683).toNat) ∧
  (∀ a, (k0_off159 v683) a + S16x1024.size a ≤ S851968x1024.size a) ∧
  (∀ (hinb : ∀ a, (k0_off159 v683) a + S16x1024.size a ≤ S851968x1024.size a), (Rect.unit (s := S851968x1024) (k0_off159 v683) S16x1024.size hinb).WholeWords (EltTy.packing .bf16))
theorem k0_mult40_dvd : ∀ (v683 : BitVec 32) (k0_hw39 : k0_chk39 v683), 16 ∣ (k0_mult40 v683).toNat := fun v683 k0_hw39 => k0_hw39.1
theorem k0_off159_inb : ∀ (v683 : BitVec 32) (k0_hw39 : k0_chk39 v683), ∀ a, (k0_off159 v683) a + S16x1024.size a ≤ S851968x1024.size a := fun v683 k0_hw39 => k0_hw39.2.1
theorem k0_off159_wordsbf16 : ∀ (v683 : BitVec 32) (k0_hw39 : k0_chk39 v683), (Rect.unit (s := S851968x1024) (k0_off159 v683) S16x1024.size (k0_off159_inb v683 k0_hw39)).WholeWords (EltTy.packing .bf16) := fun v683 k0_hw39 => k0_hw39.2.2 (k0_off159_inb v683 k0_hw39)

def k0_off160 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c38_i32 : BitVec 32 := 38#32
  let v690 : BitVec 32 := Scalar.addi v38 c38_i32
  let v691 : Index := Scalar.indexCast v690
  ![v691.toNat]
def k0_mult41 (v692 : BitVec 32) : BitVec 32 :=
  v692

def k0_off161 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off162 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c608_i32 : BitVec 32 := 608#32
  let c0_i32_137 : BitVec 32 := 0#32
  ![v2.toNat, 608, 0]
def k0_off163 (v692 : BitVec 32) : Fin 2 → Nat :=
  let v693 : BitVec 32 := v692
  let c0_i32_138 : BitVec 32 := 0#32
  ![v693.toNat, 0]

def k0_chk40 (v692 : BitVec 32) : Prop :=
  (16 ∣ (k0_mult41 v692).toNat) ∧
  (∀ a, (k0_off163 v692) a + S16x1024.size a ≤ S851968x1024.size a) ∧
  (∀ (hinb : ∀ a, (k0_off163 v692) a + S16x1024.size a ≤ S851968x1024.size a), (Rect.unit (s := S851968x1024) (k0_off163 v692) S16x1024.size hinb).WholeWords (EltTy.packing .bf16))
theorem k0_mult41_dvd : ∀ (v692 : BitVec 32) (k0_hw40 : k0_chk40 v692), 16 ∣ (k0_mult41 v692).toNat := fun v692 k0_hw40 => k0_hw40.1
theorem k0_off163_inb : ∀ (v692 : BitVec 32) (k0_hw40 : k0_chk40 v692), ∀ a, (k0_off163 v692) a + S16x1024.size a ≤ S851968x1024.size a := fun v692 k0_hw40 => k0_hw40.2.1
theorem k0_off163_wordsbf16 : ∀ (v692 : BitVec 32) (k0_hw40 : k0_chk40 v692), (Rect.unit (s := S851968x1024) (k0_off163 v692) S16x1024.size (k0_off163_inb v692 k0_hw40)).WholeWords (EltTy.packing .bf16) := fun v692 k0_hw40 => k0_hw40.2.2 (k0_off163_inb v692 k0_hw40)

def k0_off164 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c39_i32 : BitVec 32 := 39#32
  let v699 : BitVec 32 := Scalar.addi v38 c39_i32
  let v700 : Index := Scalar.indexCast v699
  ![v700.toNat]
def k0_mult42 (v701 : BitVec 32) : BitVec 32 :=
  v701

def k0_off165 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off166 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c624_i32 : BitVec 32 := 624#32
  let c0_i32_139 : BitVec 32 := 0#32
  ![v2.toNat, 624, 0]
def k0_off167 (v701 : BitVec 32) : Fin 2 → Nat :=
  let v702 : BitVec 32 := v701
  let c0_i32_140 : BitVec 32 := 0#32
  ![v702.toNat, 0]

def k0_chk41 (v701 : BitVec 32) : Prop :=
  (16 ∣ (k0_mult42 v701).toNat) ∧
  (∀ a, (k0_off167 v701) a + S16x1024.size a ≤ S851968x1024.size a) ∧
  (∀ (hinb : ∀ a, (k0_off167 v701) a + S16x1024.size a ≤ S851968x1024.size a), (Rect.unit (s := S851968x1024) (k0_off167 v701) S16x1024.size hinb).WholeWords (EltTy.packing .bf16))
theorem k0_mult42_dvd : ∀ (v701 : BitVec 32) (k0_hw41 : k0_chk41 v701), 16 ∣ (k0_mult42 v701).toNat := fun v701 k0_hw41 => k0_hw41.1
theorem k0_off167_inb : ∀ (v701 : BitVec 32) (k0_hw41 : k0_chk41 v701), ∀ a, (k0_off167 v701) a + S16x1024.size a ≤ S851968x1024.size a := fun v701 k0_hw41 => k0_hw41.2.1
theorem k0_off167_wordsbf16 : ∀ (v701 : BitVec 32) (k0_hw41 : k0_chk41 v701), (Rect.unit (s := S851968x1024) (k0_off167 v701) S16x1024.size (k0_off167_inb v701 k0_hw41)).WholeWords (EltTy.packing .bf16) := fun v701 k0_hw41 => k0_hw41.2.2 (k0_off167_inb v701 k0_hw41)

def k0_off168 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c40_i32 : BitVec 32 := 40#32
  let v708 : BitVec 32 := Scalar.addi v38 c40_i32
  let v709 : Index := Scalar.indexCast v708
  ![v709.toNat]
def k0_mult43 (v710 : BitVec 32) : BitVec 32 :=
  v710

def k0_off169 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off170 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c640_i32 : BitVec 32 := 640#32
  let c0_i32_141 : BitVec 32 := 0#32
  ![v2.toNat, 640, 0]
def k0_off171 (v710 : BitVec 32) : Fin 2 → Nat :=
  let v711 : BitVec 32 := v710
  let c0_i32_142 : BitVec 32 := 0#32
  ![v711.toNat, 0]

def k0_chk42 (v710 : BitVec 32) : Prop :=
  (16 ∣ (k0_mult43 v710).toNat) ∧
  (∀ a, (k0_off171 v710) a + S16x1024.size a ≤ S851968x1024.size a) ∧
  (∀ (hinb : ∀ a, (k0_off171 v710) a + S16x1024.size a ≤ S851968x1024.size a), (Rect.unit (s := S851968x1024) (k0_off171 v710) S16x1024.size hinb).WholeWords (EltTy.packing .bf16))
theorem k0_mult43_dvd : ∀ (v710 : BitVec 32) (k0_hw42 : k0_chk42 v710), 16 ∣ (k0_mult43 v710).toNat := fun v710 k0_hw42 => k0_hw42.1
theorem k0_off171_inb : ∀ (v710 : BitVec 32) (k0_hw42 : k0_chk42 v710), ∀ a, (k0_off171 v710) a + S16x1024.size a ≤ S851968x1024.size a := fun v710 k0_hw42 => k0_hw42.2.1
theorem k0_off171_wordsbf16 : ∀ (v710 : BitVec 32) (k0_hw42 : k0_chk42 v710), (Rect.unit (s := S851968x1024) (k0_off171 v710) S16x1024.size (k0_off171_inb v710 k0_hw42)).WholeWords (EltTy.packing .bf16) := fun v710 k0_hw42 => k0_hw42.2.2 (k0_off171_inb v710 k0_hw42)

def k0_off172 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c41_i32 : BitVec 32 := 41#32
  let v717 : BitVec 32 := Scalar.addi v38 c41_i32
  let v718 : Index := Scalar.indexCast v717
  ![v718.toNat]
def k0_mult44 (v719 : BitVec 32) : BitVec 32 :=
  v719

def k0_off173 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off174 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c656_i32 : BitVec 32 := 656#32
  let c0_i32_143 : BitVec 32 := 0#32
  ![v2.toNat, 656, 0]
def k0_off175 (v719 : BitVec 32) : Fin 2 → Nat :=
  let v720 : BitVec 32 := v719
  let c0_i32_144 : BitVec 32 := 0#32
  ![v720.toNat, 0]

def k0_chk43 (v719 : BitVec 32) : Prop :=
  (16 ∣ (k0_mult44 v719).toNat) ∧
  (∀ a, (k0_off175 v719) a + S16x1024.size a ≤ S851968x1024.size a) ∧
  (∀ (hinb : ∀ a, (k0_off175 v719) a + S16x1024.size a ≤ S851968x1024.size a), (Rect.unit (s := S851968x1024) (k0_off175 v719) S16x1024.size hinb).WholeWords (EltTy.packing .bf16))
theorem k0_mult44_dvd : ∀ (v719 : BitVec 32) (k0_hw43 : k0_chk43 v719), 16 ∣ (k0_mult44 v719).toNat := fun v719 k0_hw43 => k0_hw43.1
theorem k0_off175_inb : ∀ (v719 : BitVec 32) (k0_hw43 : k0_chk43 v719), ∀ a, (k0_off175 v719) a + S16x1024.size a ≤ S851968x1024.size a := fun v719 k0_hw43 => k0_hw43.2.1
theorem k0_off175_wordsbf16 : ∀ (v719 : BitVec 32) (k0_hw43 : k0_chk43 v719), (Rect.unit (s := S851968x1024) (k0_off175 v719) S16x1024.size (k0_off175_inb v719 k0_hw43)).WholeWords (EltTy.packing .bf16) := fun v719 k0_hw43 => k0_hw43.2.2 (k0_off175_inb v719 k0_hw43)

def k0_off176 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c42_i32 : BitVec 32 := 42#32
  let v726 : BitVec 32 := Scalar.addi v38 c42_i32
  let v727 : Index := Scalar.indexCast v726
  ![v727.toNat]
def k0_mult45 (v728 : BitVec 32) : BitVec 32 :=
  v728

def k0_off177 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off178 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c672_i32 : BitVec 32 := 672#32
  let c0_i32_145 : BitVec 32 := 0#32
  ![v2.toNat, 672, 0]
def k0_off179 (v728 : BitVec 32) : Fin 2 → Nat :=
  let v729 : BitVec 32 := v728
  let c0_i32_146 : BitVec 32 := 0#32
  ![v729.toNat, 0]

def k0_chk44 (v728 : BitVec 32) : Prop :=
  (16 ∣ (k0_mult45 v728).toNat) ∧
  (∀ a, (k0_off179 v728) a + S16x1024.size a ≤ S851968x1024.size a) ∧
  (∀ (hinb : ∀ a, (k0_off179 v728) a + S16x1024.size a ≤ S851968x1024.size a), (Rect.unit (s := S851968x1024) (k0_off179 v728) S16x1024.size hinb).WholeWords (EltTy.packing .bf16))
theorem k0_mult45_dvd : ∀ (v728 : BitVec 32) (k0_hw44 : k0_chk44 v728), 16 ∣ (k0_mult45 v728).toNat := fun v728 k0_hw44 => k0_hw44.1
theorem k0_off179_inb : ∀ (v728 : BitVec 32) (k0_hw44 : k0_chk44 v728), ∀ a, (k0_off179 v728) a + S16x1024.size a ≤ S851968x1024.size a := fun v728 k0_hw44 => k0_hw44.2.1
theorem k0_off179_wordsbf16 : ∀ (v728 : BitVec 32) (k0_hw44 : k0_chk44 v728), (Rect.unit (s := S851968x1024) (k0_off179 v728) S16x1024.size (k0_off179_inb v728 k0_hw44)).WholeWords (EltTy.packing .bf16) := fun v728 k0_hw44 => k0_hw44.2.2 (k0_off179_inb v728 k0_hw44)

def k0_off180 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c43_i32 : BitVec 32 := 43#32
  let v735 : BitVec 32 := Scalar.addi v38 c43_i32
  let v736 : Index := Scalar.indexCast v735
  ![v736.toNat]
def k0_mult46 (v737 : BitVec 32) : BitVec 32 :=
  v737

def k0_off181 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off182 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c688_i32 : BitVec 32 := 688#32
  let c0_i32_147 : BitVec 32 := 0#32
  ![v2.toNat, 688, 0]
def k0_off183 (v737 : BitVec 32) : Fin 2 → Nat :=
  let v738 : BitVec 32 := v737
  let c0_i32_148 : BitVec 32 := 0#32
  ![v738.toNat, 0]

def k0_chk45 (v737 : BitVec 32) : Prop :=
  (16 ∣ (k0_mult46 v737).toNat) ∧
  (∀ a, (k0_off183 v737) a + S16x1024.size a ≤ S851968x1024.size a) ∧
  (∀ (hinb : ∀ a, (k0_off183 v737) a + S16x1024.size a ≤ S851968x1024.size a), (Rect.unit (s := S851968x1024) (k0_off183 v737) S16x1024.size hinb).WholeWords (EltTy.packing .bf16))
theorem k0_mult46_dvd : ∀ (v737 : BitVec 32) (k0_hw45 : k0_chk45 v737), 16 ∣ (k0_mult46 v737).toNat := fun v737 k0_hw45 => k0_hw45.1
theorem k0_off183_inb : ∀ (v737 : BitVec 32) (k0_hw45 : k0_chk45 v737), ∀ a, (k0_off183 v737) a + S16x1024.size a ≤ S851968x1024.size a := fun v737 k0_hw45 => k0_hw45.2.1
theorem k0_off183_wordsbf16 : ∀ (v737 : BitVec 32) (k0_hw45 : k0_chk45 v737), (Rect.unit (s := S851968x1024) (k0_off183 v737) S16x1024.size (k0_off183_inb v737 k0_hw45)).WholeWords (EltTy.packing .bf16) := fun v737 k0_hw45 => k0_hw45.2.2 (k0_off183_inb v737 k0_hw45)

def k0_off184 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c44_i32 : BitVec 32 := 44#32
  let v744 : BitVec 32 := Scalar.addi v38 c44_i32
  let v745 : Index := Scalar.indexCast v744
  ![v745.toNat]
def k0_mult47 (v746 : BitVec 32) : BitVec 32 :=
  v746

def k0_off185 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off186 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c704_i32 : BitVec 32 := 704#32
  let c0_i32_149 : BitVec 32 := 0#32
  ![v2.toNat, 704, 0]
def k0_off187 (v746 : BitVec 32) : Fin 2 → Nat :=
  let v747 : BitVec 32 := v746
  let c0_i32_150 : BitVec 32 := 0#32
  ![v747.toNat, 0]

def k0_chk46 (v746 : BitVec 32) : Prop :=
  (16 ∣ (k0_mult47 v746).toNat) ∧
  (∀ a, (k0_off187 v746) a + S16x1024.size a ≤ S851968x1024.size a) ∧
  (∀ (hinb : ∀ a, (k0_off187 v746) a + S16x1024.size a ≤ S851968x1024.size a), (Rect.unit (s := S851968x1024) (k0_off187 v746) S16x1024.size hinb).WholeWords (EltTy.packing .bf16))
theorem k0_mult47_dvd : ∀ (v746 : BitVec 32) (k0_hw46 : k0_chk46 v746), 16 ∣ (k0_mult47 v746).toNat := fun v746 k0_hw46 => k0_hw46.1
theorem k0_off187_inb : ∀ (v746 : BitVec 32) (k0_hw46 : k0_chk46 v746), ∀ a, (k0_off187 v746) a + S16x1024.size a ≤ S851968x1024.size a := fun v746 k0_hw46 => k0_hw46.2.1
theorem k0_off187_wordsbf16 : ∀ (v746 : BitVec 32) (k0_hw46 : k0_chk46 v746), (Rect.unit (s := S851968x1024) (k0_off187 v746) S16x1024.size (k0_off187_inb v746 k0_hw46)).WholeWords (EltTy.packing .bf16) := fun v746 k0_hw46 => k0_hw46.2.2 (k0_off187_inb v746 k0_hw46)

def k0_off188 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c45_i32 : BitVec 32 := 45#32
  let v753 : BitVec 32 := Scalar.addi v38 c45_i32
  let v754 : Index := Scalar.indexCast v753
  ![v754.toNat]
def k0_mult48 (v755 : BitVec 32) : BitVec 32 :=
  v755

def k0_off189 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off190 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c720_i32 : BitVec 32 := 720#32
  let c0_i32_151 : BitVec 32 := 0#32
  ![v2.toNat, 720, 0]
def k0_off191 (v755 : BitVec 32) : Fin 2 → Nat :=
  let v756 : BitVec 32 := v755
  let c0_i32_152 : BitVec 32 := 0#32
  ![v756.toNat, 0]

def k0_chk47 (v755 : BitVec 32) : Prop :=
  (16 ∣ (k0_mult48 v755).toNat) ∧
  (∀ a, (k0_off191 v755) a + S16x1024.size a ≤ S851968x1024.size a) ∧
  (∀ (hinb : ∀ a, (k0_off191 v755) a + S16x1024.size a ≤ S851968x1024.size a), (Rect.unit (s := S851968x1024) (k0_off191 v755) S16x1024.size hinb).WholeWords (EltTy.packing .bf16))
theorem k0_mult48_dvd : ∀ (v755 : BitVec 32) (k0_hw47 : k0_chk47 v755), 16 ∣ (k0_mult48 v755).toNat := fun v755 k0_hw47 => k0_hw47.1
theorem k0_off191_inb : ∀ (v755 : BitVec 32) (k0_hw47 : k0_chk47 v755), ∀ a, (k0_off191 v755) a + S16x1024.size a ≤ S851968x1024.size a := fun v755 k0_hw47 => k0_hw47.2.1
theorem k0_off191_wordsbf16 : ∀ (v755 : BitVec 32) (k0_hw47 : k0_chk47 v755), (Rect.unit (s := S851968x1024) (k0_off191 v755) S16x1024.size (k0_off191_inb v755 k0_hw47)).WholeWords (EltTy.packing .bf16) := fun v755 k0_hw47 => k0_hw47.2.2 (k0_off191_inb v755 k0_hw47)

def k0_off192 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c46_i32 : BitVec 32 := 46#32
  let v762 : BitVec 32 := Scalar.addi v38 c46_i32
  let v763 : Index := Scalar.indexCast v762
  ![v763.toNat]
def k0_mult49 (v764 : BitVec 32) : BitVec 32 :=
  v764

def k0_off193 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off194 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c736_i32 : BitVec 32 := 736#32
  let c0_i32_153 : BitVec 32 := 0#32
  ![v2.toNat, 736, 0]
def k0_off195 (v764 : BitVec 32) : Fin 2 → Nat :=
  let v765 : BitVec 32 := v764
  let c0_i32_154 : BitVec 32 := 0#32
  ![v765.toNat, 0]

def k0_chk48 (v764 : BitVec 32) : Prop :=
  (16 ∣ (k0_mult49 v764).toNat) ∧
  (∀ a, (k0_off195 v764) a + S16x1024.size a ≤ S851968x1024.size a) ∧
  (∀ (hinb : ∀ a, (k0_off195 v764) a + S16x1024.size a ≤ S851968x1024.size a), (Rect.unit (s := S851968x1024) (k0_off195 v764) S16x1024.size hinb).WholeWords (EltTy.packing .bf16))
theorem k0_mult49_dvd : ∀ (v764 : BitVec 32) (k0_hw48 : k0_chk48 v764), 16 ∣ (k0_mult49 v764).toNat := fun v764 k0_hw48 => k0_hw48.1
theorem k0_off195_inb : ∀ (v764 : BitVec 32) (k0_hw48 : k0_chk48 v764), ∀ a, (k0_off195 v764) a + S16x1024.size a ≤ S851968x1024.size a := fun v764 k0_hw48 => k0_hw48.2.1
theorem k0_off195_wordsbf16 : ∀ (v764 : BitVec 32) (k0_hw48 : k0_chk48 v764), (Rect.unit (s := S851968x1024) (k0_off195 v764) S16x1024.size (k0_off195_inb v764 k0_hw48)).WholeWords (EltTy.packing .bf16) := fun v764 k0_hw48 => k0_hw48.2.2 (k0_off195_inb v764 k0_hw48)

def k0_off196 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c47_i32 : BitVec 32 := 47#32
  let v771 : BitVec 32 := Scalar.addi v38 c47_i32
  let v772 : Index := Scalar.indexCast v771
  ![v772.toNat]
def k0_mult50 (v773 : BitVec 32) : BitVec 32 :=
  v773

def k0_off197 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off198 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c752_i32 : BitVec 32 := 752#32
  let c0_i32_155 : BitVec 32 := 0#32
  ![v2.toNat, 752, 0]
def k0_off199 (v773 : BitVec 32) : Fin 2 → Nat :=
  let v774 : BitVec 32 := v773
  let c0_i32_156 : BitVec 32 := 0#32
  ![v774.toNat, 0]

def k0_chk49 (v773 : BitVec 32) : Prop :=
  (16 ∣ (k0_mult50 v773).toNat) ∧
  (∀ a, (k0_off199 v773) a + S16x1024.size a ≤ S851968x1024.size a) ∧
  (∀ (hinb : ∀ a, (k0_off199 v773) a + S16x1024.size a ≤ S851968x1024.size a), (Rect.unit (s := S851968x1024) (k0_off199 v773) S16x1024.size hinb).WholeWords (EltTy.packing .bf16))
theorem k0_mult50_dvd : ∀ (v773 : BitVec 32) (k0_hw49 : k0_chk49 v773), 16 ∣ (k0_mult50 v773).toNat := fun v773 k0_hw49 => k0_hw49.1
theorem k0_off199_inb : ∀ (v773 : BitVec 32) (k0_hw49 : k0_chk49 v773), ∀ a, (k0_off199 v773) a + S16x1024.size a ≤ S851968x1024.size a := fun v773 k0_hw49 => k0_hw49.2.1
theorem k0_off199_wordsbf16 : ∀ (v773 : BitVec 32) (k0_hw49 : k0_chk49 v773), (Rect.unit (s := S851968x1024) (k0_off199 v773) S16x1024.size (k0_off199_inb v773 k0_hw49)).WholeWords (EltTy.packing .bf16) := fun v773 k0_hw49 => k0_hw49.2.2 (k0_off199_inb v773 k0_hw49)

def k0_off200 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c48_i32_157 : BitVec 32 := 48#32
  let v780 : BitVec 32 := Scalar.addi v38 c48_i32_157
  let v781 : Index := Scalar.indexCast v780
  ![v781.toNat]
def k0_mult51 (v782 : BitVec 32) : BitVec 32 :=
  v782

def k0_off201 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off202 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c768_i32 : BitVec 32 := 768#32
  let c0_i32_158 : BitVec 32 := 0#32
  ![v2.toNat, 768, 0]
def k0_off203 (v782 : BitVec 32) : Fin 2 → Nat :=
  let v783 : BitVec 32 := v782
  let c0_i32_159 : BitVec 32 := 0#32
  ![v783.toNat, 0]

def k0_chk50 (v782 : BitVec 32) : Prop :=
  (16 ∣ (k0_mult51 v782).toNat) ∧
  (∀ a, (k0_off203 v782) a + S16x1024.size a ≤ S851968x1024.size a) ∧
  (∀ (hinb : ∀ a, (k0_off203 v782) a + S16x1024.size a ≤ S851968x1024.size a), (Rect.unit (s := S851968x1024) (k0_off203 v782) S16x1024.size hinb).WholeWords (EltTy.packing .bf16))
theorem k0_mult51_dvd : ∀ (v782 : BitVec 32) (k0_hw50 : k0_chk50 v782), 16 ∣ (k0_mult51 v782).toNat := fun v782 k0_hw50 => k0_hw50.1
theorem k0_off203_inb : ∀ (v782 : BitVec 32) (k0_hw50 : k0_chk50 v782), ∀ a, (k0_off203 v782) a + S16x1024.size a ≤ S851968x1024.size a := fun v782 k0_hw50 => k0_hw50.2.1
theorem k0_off203_wordsbf16 : ∀ (v782 : BitVec 32) (k0_hw50 : k0_chk50 v782), (Rect.unit (s := S851968x1024) (k0_off203 v782) S16x1024.size (k0_off203_inb v782 k0_hw50)).WholeWords (EltTy.packing .bf16) := fun v782 k0_hw50 => k0_hw50.2.2 (k0_off203_inb v782 k0_hw50)

def k0_off204 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c49_i32 : BitVec 32 := 49#32
  let v789 : BitVec 32 := Scalar.addi v38 c49_i32
  let v790 : Index := Scalar.indexCast v789
  ![v790.toNat]
def k0_mult52 (v791 : BitVec 32) : BitVec 32 :=
  v791

def k0_off205 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off206 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c784_i32 : BitVec 32 := 784#32
  let c0_i32_160 : BitVec 32 := 0#32
  ![v2.toNat, 784, 0]
def k0_off207 (v791 : BitVec 32) : Fin 2 → Nat :=
  let v792 : BitVec 32 := v791
  let c0_i32_161 : BitVec 32 := 0#32
  ![v792.toNat, 0]

def k0_chk51 (v791 : BitVec 32) : Prop :=
  (16 ∣ (k0_mult52 v791).toNat) ∧
  (∀ a, (k0_off207 v791) a + S16x1024.size a ≤ S851968x1024.size a) ∧
  (∀ (hinb : ∀ a, (k0_off207 v791) a + S16x1024.size a ≤ S851968x1024.size a), (Rect.unit (s := S851968x1024) (k0_off207 v791) S16x1024.size hinb).WholeWords (EltTy.packing .bf16))
theorem k0_mult52_dvd : ∀ (v791 : BitVec 32) (k0_hw51 : k0_chk51 v791), 16 ∣ (k0_mult52 v791).toNat := fun v791 k0_hw51 => k0_hw51.1
theorem k0_off207_inb : ∀ (v791 : BitVec 32) (k0_hw51 : k0_chk51 v791), ∀ a, (k0_off207 v791) a + S16x1024.size a ≤ S851968x1024.size a := fun v791 k0_hw51 => k0_hw51.2.1
theorem k0_off207_wordsbf16 : ∀ (v791 : BitVec 32) (k0_hw51 : k0_chk51 v791), (Rect.unit (s := S851968x1024) (k0_off207 v791) S16x1024.size (k0_off207_inb v791 k0_hw51)).WholeWords (EltTy.packing .bf16) := fun v791 k0_hw51 => k0_hw51.2.2 (k0_off207_inb v791 k0_hw51)

def k0_off208 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c50_i32 : BitVec 32 := 50#32
  let v798 : BitVec 32 := Scalar.addi v38 c50_i32
  let v799 : Index := Scalar.indexCast v798
  ![v799.toNat]
def k0_mult53 (v800 : BitVec 32) : BitVec 32 :=
  v800

def k0_off209 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off210 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c800_i32 : BitVec 32 := 800#32
  let c0_i32_162 : BitVec 32 := 0#32
  ![v2.toNat, 800, 0]
def k0_off211 (v800 : BitVec 32) : Fin 2 → Nat :=
  let v801 : BitVec 32 := v800
  let c0_i32_163 : BitVec 32 := 0#32
  ![v801.toNat, 0]

def k0_chk52 (v800 : BitVec 32) : Prop :=
  (16 ∣ (k0_mult53 v800).toNat) ∧
  (∀ a, (k0_off211 v800) a + S16x1024.size a ≤ S851968x1024.size a) ∧
  (∀ (hinb : ∀ a, (k0_off211 v800) a + S16x1024.size a ≤ S851968x1024.size a), (Rect.unit (s := S851968x1024) (k0_off211 v800) S16x1024.size hinb).WholeWords (EltTy.packing .bf16))
theorem k0_mult53_dvd : ∀ (v800 : BitVec 32) (k0_hw52 : k0_chk52 v800), 16 ∣ (k0_mult53 v800).toNat := fun v800 k0_hw52 => k0_hw52.1
theorem k0_off211_inb : ∀ (v800 : BitVec 32) (k0_hw52 : k0_chk52 v800), ∀ a, (k0_off211 v800) a + S16x1024.size a ≤ S851968x1024.size a := fun v800 k0_hw52 => k0_hw52.2.1
theorem k0_off211_wordsbf16 : ∀ (v800 : BitVec 32) (k0_hw52 : k0_chk52 v800), (Rect.unit (s := S851968x1024) (k0_off211 v800) S16x1024.size (k0_off211_inb v800 k0_hw52)).WholeWords (EltTy.packing .bf16) := fun v800 k0_hw52 => k0_hw52.2.2 (k0_off211_inb v800 k0_hw52)

def k0_off212 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c51_i32 : BitVec 32 := 51#32
  let v807 : BitVec 32 := Scalar.addi v38 c51_i32
  let v808 : Index := Scalar.indexCast v807
  ![v808.toNat]
def k0_mult54 (v809 : BitVec 32) : BitVec 32 :=
  v809

def k0_off213 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off214 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c816_i32 : BitVec 32 := 816#32
  let c0_i32_164 : BitVec 32 := 0#32
  ![v2.toNat, 816, 0]
def k0_off215 (v809 : BitVec 32) : Fin 2 → Nat :=
  let v810 : BitVec 32 := v809
  let c0_i32_165 : BitVec 32 := 0#32
  ![v810.toNat, 0]

def k0_chk53 (v809 : BitVec 32) : Prop :=
  (16 ∣ (k0_mult54 v809).toNat) ∧
  (∀ a, (k0_off215 v809) a + S16x1024.size a ≤ S851968x1024.size a) ∧
  (∀ (hinb : ∀ a, (k0_off215 v809) a + S16x1024.size a ≤ S851968x1024.size a), (Rect.unit (s := S851968x1024) (k0_off215 v809) S16x1024.size hinb).WholeWords (EltTy.packing .bf16))
theorem k0_mult54_dvd : ∀ (v809 : BitVec 32) (k0_hw53 : k0_chk53 v809), 16 ∣ (k0_mult54 v809).toNat := fun v809 k0_hw53 => k0_hw53.1
theorem k0_off215_inb : ∀ (v809 : BitVec 32) (k0_hw53 : k0_chk53 v809), ∀ a, (k0_off215 v809) a + S16x1024.size a ≤ S851968x1024.size a := fun v809 k0_hw53 => k0_hw53.2.1
theorem k0_off215_wordsbf16 : ∀ (v809 : BitVec 32) (k0_hw53 : k0_chk53 v809), (Rect.unit (s := S851968x1024) (k0_off215 v809) S16x1024.size (k0_off215_inb v809 k0_hw53)).WholeWords (EltTy.packing .bf16) := fun v809 k0_hw53 => k0_hw53.2.2 (k0_off215_inb v809 k0_hw53)

def k0_off216 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c52_i32 : BitVec 32 := 52#32
  let v816 : BitVec 32 := Scalar.addi v38 c52_i32
  let v817 : Index := Scalar.indexCast v816
  ![v817.toNat]
def k0_mult55 (v818 : BitVec 32) : BitVec 32 :=
  v818

def k0_off217 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off218 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c832_i32 : BitVec 32 := 832#32
  let c0_i32_166 : BitVec 32 := 0#32
  ![v2.toNat, 832, 0]
def k0_off219 (v818 : BitVec 32) : Fin 2 → Nat :=
  let v819 : BitVec 32 := v818
  let c0_i32_167 : BitVec 32 := 0#32
  ![v819.toNat, 0]

def k0_chk54 (v818 : BitVec 32) : Prop :=
  (16 ∣ (k0_mult55 v818).toNat) ∧
  (∀ a, (k0_off219 v818) a + S16x1024.size a ≤ S851968x1024.size a) ∧
  (∀ (hinb : ∀ a, (k0_off219 v818) a + S16x1024.size a ≤ S851968x1024.size a), (Rect.unit (s := S851968x1024) (k0_off219 v818) S16x1024.size hinb).WholeWords (EltTy.packing .bf16))
theorem k0_mult55_dvd : ∀ (v818 : BitVec 32) (k0_hw54 : k0_chk54 v818), 16 ∣ (k0_mult55 v818).toNat := fun v818 k0_hw54 => k0_hw54.1
theorem k0_off219_inb : ∀ (v818 : BitVec 32) (k0_hw54 : k0_chk54 v818), ∀ a, (k0_off219 v818) a + S16x1024.size a ≤ S851968x1024.size a := fun v818 k0_hw54 => k0_hw54.2.1
theorem k0_off219_wordsbf16 : ∀ (v818 : BitVec 32) (k0_hw54 : k0_chk54 v818), (Rect.unit (s := S851968x1024) (k0_off219 v818) S16x1024.size (k0_off219_inb v818 k0_hw54)).WholeWords (EltTy.packing .bf16) := fun v818 k0_hw54 => k0_hw54.2.2 (k0_off219_inb v818 k0_hw54)

def k0_off220 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c53_i32 : BitVec 32 := 53#32
  let v825 : BitVec 32 := Scalar.addi v38 c53_i32
  let v826 : Index := Scalar.indexCast v825
  ![v826.toNat]
def k0_mult56 (v827 : BitVec 32) : BitVec 32 :=
  v827

def k0_off221 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off222 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c848_i32 : BitVec 32 := 848#32
  let c0_i32_168 : BitVec 32 := 0#32
  ![v2.toNat, 848, 0]
def k0_off223 (v827 : BitVec 32) : Fin 2 → Nat :=
  let v828 : BitVec 32 := v827
  let c0_i32_169 : BitVec 32 := 0#32
  ![v828.toNat, 0]

def k0_chk55 (v827 : BitVec 32) : Prop :=
  (16 ∣ (k0_mult56 v827).toNat) ∧
  (∀ a, (k0_off223 v827) a + S16x1024.size a ≤ S851968x1024.size a) ∧
  (∀ (hinb : ∀ a, (k0_off223 v827) a + S16x1024.size a ≤ S851968x1024.size a), (Rect.unit (s := S851968x1024) (k0_off223 v827) S16x1024.size hinb).WholeWords (EltTy.packing .bf16))
theorem k0_mult56_dvd : ∀ (v827 : BitVec 32) (k0_hw55 : k0_chk55 v827), 16 ∣ (k0_mult56 v827).toNat := fun v827 k0_hw55 => k0_hw55.1
theorem k0_off223_inb : ∀ (v827 : BitVec 32) (k0_hw55 : k0_chk55 v827), ∀ a, (k0_off223 v827) a + S16x1024.size a ≤ S851968x1024.size a := fun v827 k0_hw55 => k0_hw55.2.1
theorem k0_off223_wordsbf16 : ∀ (v827 : BitVec 32) (k0_hw55 : k0_chk55 v827), (Rect.unit (s := S851968x1024) (k0_off223 v827) S16x1024.size (k0_off223_inb v827 k0_hw55)).WholeWords (EltTy.packing .bf16) := fun v827 k0_hw55 => k0_hw55.2.2 (k0_off223_inb v827 k0_hw55)

def k0_off224 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c54_i32 : BitVec 32 := 54#32
  let v834 : BitVec 32 := Scalar.addi v38 c54_i32
  let v835 : Index := Scalar.indexCast v834
  ![v835.toNat]
def k0_mult57 (v836 : BitVec 32) : BitVec 32 :=
  v836

def k0_off225 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off226 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c864_i32 : BitVec 32 := 864#32
  let c0_i32_170 : BitVec 32 := 0#32
  ![v2.toNat, 864, 0]
def k0_off227 (v836 : BitVec 32) : Fin 2 → Nat :=
  let v837 : BitVec 32 := v836
  let c0_i32_171 : BitVec 32 := 0#32
  ![v837.toNat, 0]

def k0_chk56 (v836 : BitVec 32) : Prop :=
  (16 ∣ (k0_mult57 v836).toNat) ∧
  (∀ a, (k0_off227 v836) a + S16x1024.size a ≤ S851968x1024.size a) ∧
  (∀ (hinb : ∀ a, (k0_off227 v836) a + S16x1024.size a ≤ S851968x1024.size a), (Rect.unit (s := S851968x1024) (k0_off227 v836) S16x1024.size hinb).WholeWords (EltTy.packing .bf16))
theorem k0_mult57_dvd : ∀ (v836 : BitVec 32) (k0_hw56 : k0_chk56 v836), 16 ∣ (k0_mult57 v836).toNat := fun v836 k0_hw56 => k0_hw56.1
theorem k0_off227_inb : ∀ (v836 : BitVec 32) (k0_hw56 : k0_chk56 v836), ∀ a, (k0_off227 v836) a + S16x1024.size a ≤ S851968x1024.size a := fun v836 k0_hw56 => k0_hw56.2.1
theorem k0_off227_wordsbf16 : ∀ (v836 : BitVec 32) (k0_hw56 : k0_chk56 v836), (Rect.unit (s := S851968x1024) (k0_off227 v836) S16x1024.size (k0_off227_inb v836 k0_hw56)).WholeWords (EltTy.packing .bf16) := fun v836 k0_hw56 => k0_hw56.2.2 (k0_off227_inb v836 k0_hw56)

def k0_off228 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c55_i32 : BitVec 32 := 55#32
  let v843 : BitVec 32 := Scalar.addi v38 c55_i32
  let v844 : Index := Scalar.indexCast v843
  ![v844.toNat]
def k0_mult58 (v845 : BitVec 32) : BitVec 32 :=
  v845

def k0_off229 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off230 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c880_i32 : BitVec 32 := 880#32
  let c0_i32_172 : BitVec 32 := 0#32
  ![v2.toNat, 880, 0]
def k0_off231 (v845 : BitVec 32) : Fin 2 → Nat :=
  let v846 : BitVec 32 := v845
  let c0_i32_173 : BitVec 32 := 0#32
  ![v846.toNat, 0]

def k0_chk57 (v845 : BitVec 32) : Prop :=
  (16 ∣ (k0_mult58 v845).toNat) ∧
  (∀ a, (k0_off231 v845) a + S16x1024.size a ≤ S851968x1024.size a) ∧
  (∀ (hinb : ∀ a, (k0_off231 v845) a + S16x1024.size a ≤ S851968x1024.size a), (Rect.unit (s := S851968x1024) (k0_off231 v845) S16x1024.size hinb).WholeWords (EltTy.packing .bf16))
theorem k0_mult58_dvd : ∀ (v845 : BitVec 32) (k0_hw57 : k0_chk57 v845), 16 ∣ (k0_mult58 v845).toNat := fun v845 k0_hw57 => k0_hw57.1
theorem k0_off231_inb : ∀ (v845 : BitVec 32) (k0_hw57 : k0_chk57 v845), ∀ a, (k0_off231 v845) a + S16x1024.size a ≤ S851968x1024.size a := fun v845 k0_hw57 => k0_hw57.2.1
theorem k0_off231_wordsbf16 : ∀ (v845 : BitVec 32) (k0_hw57 : k0_chk57 v845), (Rect.unit (s := S851968x1024) (k0_off231 v845) S16x1024.size (k0_off231_inb v845 k0_hw57)).WholeWords (EltTy.packing .bf16) := fun v845 k0_hw57 => k0_hw57.2.2 (k0_off231_inb v845 k0_hw57)

def k0_off232 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c56_i32 : BitVec 32 := 56#32
  let v852 : BitVec 32 := Scalar.addi v38 c56_i32
  let v853 : Index := Scalar.indexCast v852
  ![v853.toNat]
def k0_mult59 (v854 : BitVec 32) : BitVec 32 :=
  v854

def k0_off233 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off234 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c896_i32 : BitVec 32 := 896#32
  let c0_i32_174 : BitVec 32 := 0#32
  ![v2.toNat, 896, 0]
def k0_off235 (v854 : BitVec 32) : Fin 2 → Nat :=
  let v855 : BitVec 32 := v854
  let c0_i32_175 : BitVec 32 := 0#32
  ![v855.toNat, 0]

def k0_chk58 (v854 : BitVec 32) : Prop :=
  (16 ∣ (k0_mult59 v854).toNat) ∧
  (∀ a, (k0_off235 v854) a + S16x1024.size a ≤ S851968x1024.size a) ∧
  (∀ (hinb : ∀ a, (k0_off235 v854) a + S16x1024.size a ≤ S851968x1024.size a), (Rect.unit (s := S851968x1024) (k0_off235 v854) S16x1024.size hinb).WholeWords (EltTy.packing .bf16))
theorem k0_mult59_dvd : ∀ (v854 : BitVec 32) (k0_hw58 : k0_chk58 v854), 16 ∣ (k0_mult59 v854).toNat := fun v854 k0_hw58 => k0_hw58.1
theorem k0_off235_inb : ∀ (v854 : BitVec 32) (k0_hw58 : k0_chk58 v854), ∀ a, (k0_off235 v854) a + S16x1024.size a ≤ S851968x1024.size a := fun v854 k0_hw58 => k0_hw58.2.1
theorem k0_off235_wordsbf16 : ∀ (v854 : BitVec 32) (k0_hw58 : k0_chk58 v854), (Rect.unit (s := S851968x1024) (k0_off235 v854) S16x1024.size (k0_off235_inb v854 k0_hw58)).WholeWords (EltTy.packing .bf16) := fun v854 k0_hw58 => k0_hw58.2.2 (k0_off235_inb v854 k0_hw58)

def k0_off236 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c57_i32 : BitVec 32 := 57#32
  let v861 : BitVec 32 := Scalar.addi v38 c57_i32
  let v862 : Index := Scalar.indexCast v861
  ![v862.toNat]
def k0_mult60 (v863 : BitVec 32) : BitVec 32 :=
  v863

def k0_off237 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off238 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c912_i32 : BitVec 32 := 912#32
  let c0_i32_176 : BitVec 32 := 0#32
  ![v2.toNat, 912, 0]
def k0_off239 (v863 : BitVec 32) : Fin 2 → Nat :=
  let v864 : BitVec 32 := v863
  let c0_i32_177 : BitVec 32 := 0#32
  ![v864.toNat, 0]

def k0_chk59 (v863 : BitVec 32) : Prop :=
  (16 ∣ (k0_mult60 v863).toNat) ∧
  (∀ a, (k0_off239 v863) a + S16x1024.size a ≤ S851968x1024.size a) ∧
  (∀ (hinb : ∀ a, (k0_off239 v863) a + S16x1024.size a ≤ S851968x1024.size a), (Rect.unit (s := S851968x1024) (k0_off239 v863) S16x1024.size hinb).WholeWords (EltTy.packing .bf16))
theorem k0_mult60_dvd : ∀ (v863 : BitVec 32) (k0_hw59 : k0_chk59 v863), 16 ∣ (k0_mult60 v863).toNat := fun v863 k0_hw59 => k0_hw59.1
theorem k0_off239_inb : ∀ (v863 : BitVec 32) (k0_hw59 : k0_chk59 v863), ∀ a, (k0_off239 v863) a + S16x1024.size a ≤ S851968x1024.size a := fun v863 k0_hw59 => k0_hw59.2.1
theorem k0_off239_wordsbf16 : ∀ (v863 : BitVec 32) (k0_hw59 : k0_chk59 v863), (Rect.unit (s := S851968x1024) (k0_off239 v863) S16x1024.size (k0_off239_inb v863 k0_hw59)).WholeWords (EltTy.packing .bf16) := fun v863 k0_hw59 => k0_hw59.2.2 (k0_off239_inb v863 k0_hw59)

def k0_off240 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c58_i32 : BitVec 32 := 58#32
  let v870 : BitVec 32 := Scalar.addi v38 c58_i32
  let v871 : Index := Scalar.indexCast v870
  ![v871.toNat]
def k0_mult61 (v872 : BitVec 32) : BitVec 32 :=
  v872

def k0_off241 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off242 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c928_i32 : BitVec 32 := 928#32
  let c0_i32_178 : BitVec 32 := 0#32
  ![v2.toNat, 928, 0]
def k0_off243 (v872 : BitVec 32) : Fin 2 → Nat :=
  let v873 : BitVec 32 := v872
  let c0_i32_179 : BitVec 32 := 0#32
  ![v873.toNat, 0]

def k0_chk60 (v872 : BitVec 32) : Prop :=
  (16 ∣ (k0_mult61 v872).toNat) ∧
  (∀ a, (k0_off243 v872) a + S16x1024.size a ≤ S851968x1024.size a) ∧
  (∀ (hinb : ∀ a, (k0_off243 v872) a + S16x1024.size a ≤ S851968x1024.size a), (Rect.unit (s := S851968x1024) (k0_off243 v872) S16x1024.size hinb).WholeWords (EltTy.packing .bf16))
theorem k0_mult61_dvd : ∀ (v872 : BitVec 32) (k0_hw60 : k0_chk60 v872), 16 ∣ (k0_mult61 v872).toNat := fun v872 k0_hw60 => k0_hw60.1
theorem k0_off243_inb : ∀ (v872 : BitVec 32) (k0_hw60 : k0_chk60 v872), ∀ a, (k0_off243 v872) a + S16x1024.size a ≤ S851968x1024.size a := fun v872 k0_hw60 => k0_hw60.2.1
theorem k0_off243_wordsbf16 : ∀ (v872 : BitVec 32) (k0_hw60 : k0_chk60 v872), (Rect.unit (s := S851968x1024) (k0_off243 v872) S16x1024.size (k0_off243_inb v872 k0_hw60)).WholeWords (EltTy.packing .bf16) := fun v872 k0_hw60 => k0_hw60.2.2 (k0_off243_inb v872 k0_hw60)

def k0_off244 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c59_i32 : BitVec 32 := 59#32
  let v879 : BitVec 32 := Scalar.addi v38 c59_i32
  let v880 : Index := Scalar.indexCast v879
  ![v880.toNat]
def k0_mult62 (v881 : BitVec 32) : BitVec 32 :=
  v881

def k0_off245 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off246 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c944_i32 : BitVec 32 := 944#32
  let c0_i32_180 : BitVec 32 := 0#32
  ![v2.toNat, 944, 0]
def k0_off247 (v881 : BitVec 32) : Fin 2 → Nat :=
  let v882 : BitVec 32 := v881
  let c0_i32_181 : BitVec 32 := 0#32
  ![v882.toNat, 0]

def k0_chk61 (v881 : BitVec 32) : Prop :=
  (16 ∣ (k0_mult62 v881).toNat) ∧
  (∀ a, (k0_off247 v881) a + S16x1024.size a ≤ S851968x1024.size a) ∧
  (∀ (hinb : ∀ a, (k0_off247 v881) a + S16x1024.size a ≤ S851968x1024.size a), (Rect.unit (s := S851968x1024) (k0_off247 v881) S16x1024.size hinb).WholeWords (EltTy.packing .bf16))
theorem k0_mult62_dvd : ∀ (v881 : BitVec 32) (k0_hw61 : k0_chk61 v881), 16 ∣ (k0_mult62 v881).toNat := fun v881 k0_hw61 => k0_hw61.1
theorem k0_off247_inb : ∀ (v881 : BitVec 32) (k0_hw61 : k0_chk61 v881), ∀ a, (k0_off247 v881) a + S16x1024.size a ≤ S851968x1024.size a := fun v881 k0_hw61 => k0_hw61.2.1
theorem k0_off247_wordsbf16 : ∀ (v881 : BitVec 32) (k0_hw61 : k0_chk61 v881), (Rect.unit (s := S851968x1024) (k0_off247 v881) S16x1024.size (k0_off247_inb v881 k0_hw61)).WholeWords (EltTy.packing .bf16) := fun v881 k0_hw61 => k0_hw61.2.2 (k0_off247_inb v881 k0_hw61)

def k0_off248 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c60_i32 : BitVec 32 := 60#32
  let v888 : BitVec 32 := Scalar.addi v38 c60_i32
  let v889 : Index := Scalar.indexCast v888
  ![v889.toNat]
def k0_mult63 (v890 : BitVec 32) : BitVec 32 :=
  v890

def k0_off249 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off250 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c960_i32 : BitVec 32 := 960#32
  let c0_i32_182 : BitVec 32 := 0#32
  ![v2.toNat, 960, 0]
def k0_off251 (v890 : BitVec 32) : Fin 2 → Nat :=
  let v891 : BitVec 32 := v890
  let c0_i32_183 : BitVec 32 := 0#32
  ![v891.toNat, 0]

def k0_chk62 (v890 : BitVec 32) : Prop :=
  (16 ∣ (k0_mult63 v890).toNat) ∧
  (∀ a, (k0_off251 v890) a + S16x1024.size a ≤ S851968x1024.size a) ∧
  (∀ (hinb : ∀ a, (k0_off251 v890) a + S16x1024.size a ≤ S851968x1024.size a), (Rect.unit (s := S851968x1024) (k0_off251 v890) S16x1024.size hinb).WholeWords (EltTy.packing .bf16))
theorem k0_mult63_dvd : ∀ (v890 : BitVec 32) (k0_hw62 : k0_chk62 v890), 16 ∣ (k0_mult63 v890).toNat := fun v890 k0_hw62 => k0_hw62.1
theorem k0_off251_inb : ∀ (v890 : BitVec 32) (k0_hw62 : k0_chk62 v890), ∀ a, (k0_off251 v890) a + S16x1024.size a ≤ S851968x1024.size a := fun v890 k0_hw62 => k0_hw62.2.1
theorem k0_off251_wordsbf16 : ∀ (v890 : BitVec 32) (k0_hw62 : k0_chk62 v890), (Rect.unit (s := S851968x1024) (k0_off251 v890) S16x1024.size (k0_off251_inb v890 k0_hw62)).WholeWords (EltTy.packing .bf16) := fun v890 k0_hw62 => k0_hw62.2.2 (k0_off251_inb v890 k0_hw62)

def k0_off252 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c61_i32 : BitVec 32 := 61#32
  let v897 : BitVec 32 := Scalar.addi v38 c61_i32
  let v898 : Index := Scalar.indexCast v897
  ![v898.toNat]
def k0_mult64 (v899 : BitVec 32) : BitVec 32 :=
  v899

def k0_off253 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off254 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c976_i32 : BitVec 32 := 976#32
  let c0_i32_184 : BitVec 32 := 0#32
  ![v2.toNat, 976, 0]
def k0_off255 (v899 : BitVec 32) : Fin 2 → Nat :=
  let v900 : BitVec 32 := v899
  let c0_i32_185 : BitVec 32 := 0#32
  ![v900.toNat, 0]

def k0_chk63 (v899 : BitVec 32) : Prop :=
  (16 ∣ (k0_mult64 v899).toNat) ∧
  (∀ a, (k0_off255 v899) a + S16x1024.size a ≤ S851968x1024.size a) ∧
  (∀ (hinb : ∀ a, (k0_off255 v899) a + S16x1024.size a ≤ S851968x1024.size a), (Rect.unit (s := S851968x1024) (k0_off255 v899) S16x1024.size hinb).WholeWords (EltTy.packing .bf16))
theorem k0_mult64_dvd : ∀ (v899 : BitVec 32) (k0_hw63 : k0_chk63 v899), 16 ∣ (k0_mult64 v899).toNat := fun v899 k0_hw63 => k0_hw63.1
theorem k0_off255_inb : ∀ (v899 : BitVec 32) (k0_hw63 : k0_chk63 v899), ∀ a, (k0_off255 v899) a + S16x1024.size a ≤ S851968x1024.size a := fun v899 k0_hw63 => k0_hw63.2.1
theorem k0_off255_wordsbf16 : ∀ (v899 : BitVec 32) (k0_hw63 : k0_chk63 v899), (Rect.unit (s := S851968x1024) (k0_off255 v899) S16x1024.size (k0_off255_inb v899 k0_hw63)).WholeWords (EltTy.packing .bf16) := fun v899 k0_hw63 => k0_hw63.2.2 (k0_off255_inb v899 k0_hw63)

def k0_off256 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c62_i32 : BitVec 32 := 62#32
  let v906 : BitVec 32 := Scalar.addi v38 c62_i32
  let v907 : Index := Scalar.indexCast v906
  ![v907.toNat]
def k0_mult65 (v908 : BitVec 32) : BitVec 32 :=
  v908

def k0_off257 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off258 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c992_i32 : BitVec 32 := 992#32
  let c0_i32_186 : BitVec 32 := 0#32
  ![v2.toNat, 992, 0]
def k0_off259 (v908 : BitVec 32) : Fin 2 → Nat :=
  let v909 : BitVec 32 := v908
  let c0_i32_187 : BitVec 32 := 0#32
  ![v909.toNat, 0]

def k0_chk64 (v908 : BitVec 32) : Prop :=
  (16 ∣ (k0_mult65 v908).toNat) ∧
  (∀ a, (k0_off259 v908) a + S16x1024.size a ≤ S851968x1024.size a) ∧
  (∀ (hinb : ∀ a, (k0_off259 v908) a + S16x1024.size a ≤ S851968x1024.size a), (Rect.unit (s := S851968x1024) (k0_off259 v908) S16x1024.size hinb).WholeWords (EltTy.packing .bf16))
theorem k0_mult65_dvd : ∀ (v908 : BitVec 32) (k0_hw64 : k0_chk64 v908), 16 ∣ (k0_mult65 v908).toNat := fun v908 k0_hw64 => k0_hw64.1
theorem k0_off259_inb : ∀ (v908 : BitVec 32) (k0_hw64 : k0_chk64 v908), ∀ a, (k0_off259 v908) a + S16x1024.size a ≤ S851968x1024.size a := fun v908 k0_hw64 => k0_hw64.2.1
theorem k0_off259_wordsbf16 : ∀ (v908 : BitVec 32) (k0_hw64 : k0_chk64 v908), (Rect.unit (s := S851968x1024) (k0_off259 v908) S16x1024.size (k0_off259_inb v908 k0_hw64)).WholeWords (EltTy.packing .bf16) := fun v908 k0_hw64 => k0_hw64.2.2 (k0_off259_inb v908 k0_hw64)

def k0_off260 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c63_i32 : BitVec 32 := 63#32
  let v915 : BitVec 32 := Scalar.addi v38 c63_i32
  let v916 : Index := Scalar.indexCast v915
  ![v916.toNat]
def k0_mult66 (v917 : BitVec 32) : BitVec 32 :=
  v917

def k0_off261 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off262 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1008_i32 : BitVec 32 := 1008#32
  let c0_i32_188 : BitVec 32 := 0#32
  ![v2.toNat, 1008, 0]
def k0_off263 (v917 : BitVec 32) : Fin 2 → Nat :=
  let v918 : BitVec 32 := v917
  let c0_i32_189 : BitVec 32 := 0#32
  ![v918.toNat, 0]

def k0_chk65 (v917 : BitVec 32) : Prop :=
  (16 ∣ (k0_mult66 v917).toNat) ∧
  (∀ a, (k0_off263 v917) a + S16x1024.size a ≤ S851968x1024.size a) ∧
  (∀ (hinb : ∀ a, (k0_off263 v917) a + S16x1024.size a ≤ S851968x1024.size a), (Rect.unit (s := S851968x1024) (k0_off263 v917) S16x1024.size hinb).WholeWords (EltTy.packing .bf16))
theorem k0_mult66_dvd : ∀ (v917 : BitVec 32) (k0_hw65 : k0_chk65 v917), 16 ∣ (k0_mult66 v917).toNat := fun v917 k0_hw65 => k0_hw65.1
theorem k0_off263_inb : ∀ (v917 : BitVec 32) (k0_hw65 : k0_chk65 v917), ∀ a, (k0_off263 v917) a + S16x1024.size a ≤ S851968x1024.size a := fun v917 k0_hw65 => k0_hw65.2.1
theorem k0_off263_wordsbf16 : ∀ (v917 : BitVec 32) (k0_hw65 : k0_chk65 v917), (Rect.unit (s := S851968x1024) (k0_off263 v917) S16x1024.size (k0_off263_inb v917 k0_hw65)).WholeWords (EltTy.packing .bf16) := fun v917 k0_hw65 => k0_hw65.2.2 (k0_off263_inb v917 k0_hw65)

def k0_off264 (i : grid0.Coords) : Fin 3 → Nat :=
  let arg0 : BitVec 32 := BitVec.ofNat 32 (i 0).val
  let c3_i32 : BitVec 32 := 3#32
  let v0 : BitVec 32 := Scalar.remsi arg0 c3_i32
  let v1229 : Index := Scalar.indexCast v0
  let c1024 : Index := 1024#32
  let c0_226 : Index := 0#32
  ![v1229.toNat, 1024, 0]
def k0_off265 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c64_i32_228 : BitVec 32 := 64#32
  let v1234 : BitVec 32 := Scalar.addi v38 c64_i32_228
  let v1235 : Index := Scalar.indexCast v1234
  ![v1235.toNat]
def k0_mult67 (v1236 : BitVec 32) : BitVec 32 :=
  v1236

def k0_off266 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off267 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1024_i32 : BitVec 32 := 1024#32
  let c0_i32_229 : BitVec 32 := 0#32
  ![v2.toNat, 1024, 0]
def k0_off268 (v1236 : BitVec 32) : Fin 2 → Nat :=
  let v1237 : BitVec 32 := v1236
  let c0_i32_230 : BitVec 32 := 0#32
  ![v1237.toNat, 0]

def k0_chk66 (v1236 : BitVec 32) : Prop :=
  (16 ∣ (k0_mult67 v1236).toNat) ∧
  (∀ a, (k0_off268 v1236) a + S16x1024.size a ≤ S851968x1024.size a) ∧
  (∀ (hinb : ∀ a, (k0_off268 v1236) a + S16x1024.size a ≤ S851968x1024.size a), (Rect.unit (s := S851968x1024) (k0_off268 v1236) S16x1024.size hinb).WholeWords (EltTy.packing .bf16))
theorem k0_mult67_dvd : ∀ (v1236 : BitVec 32) (k0_hw66 : k0_chk66 v1236), 16 ∣ (k0_mult67 v1236).toNat := fun v1236 k0_hw66 => k0_hw66.1
theorem k0_off268_inb : ∀ (v1236 : BitVec 32) (k0_hw66 : k0_chk66 v1236), ∀ a, (k0_off268 v1236) a + S16x1024.size a ≤ S851968x1024.size a := fun v1236 k0_hw66 => k0_hw66.2.1
theorem k0_off268_wordsbf16 : ∀ (v1236 : BitVec 32) (k0_hw66 : k0_chk66 v1236), (Rect.unit (s := S851968x1024) (k0_off268 v1236) S16x1024.size (k0_off268_inb v1236 k0_hw66)).WholeWords (EltTy.packing .bf16) := fun v1236 k0_hw66 => k0_hw66.2.2 (k0_off268_inb v1236 k0_hw66)

def k0_off269 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c65_i32 : BitVec 32 := 65#32
  let v1243 : BitVec 32 := Scalar.addi v38 c65_i32
  let v1244 : Index := Scalar.indexCast v1243
  ![v1244.toNat]
def k0_mult68 (v1245 : BitVec 32) : BitVec 32 :=
  v1245

def k0_off270 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off271 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1040_i32 : BitVec 32 := 1040#32
  let c0_i32_231 : BitVec 32 := 0#32
  ![v2.toNat, 1040, 0]
def k0_off272 (v1245 : BitVec 32) : Fin 2 → Nat :=
  let v1246 : BitVec 32 := v1245
  let c0_i32_232 : BitVec 32 := 0#32
  ![v1246.toNat, 0]

def k0_chk67 (v1245 : BitVec 32) : Prop :=
  (16 ∣ (k0_mult68 v1245).toNat) ∧
  (∀ a, (k0_off272 v1245) a + S16x1024.size a ≤ S851968x1024.size a) ∧
  (∀ (hinb : ∀ a, (k0_off272 v1245) a + S16x1024.size a ≤ S851968x1024.size a), (Rect.unit (s := S851968x1024) (k0_off272 v1245) S16x1024.size hinb).WholeWords (EltTy.packing .bf16))
theorem k0_mult68_dvd : ∀ (v1245 : BitVec 32) (k0_hw67 : k0_chk67 v1245), 16 ∣ (k0_mult68 v1245).toNat := fun v1245 k0_hw67 => k0_hw67.1
theorem k0_off272_inb : ∀ (v1245 : BitVec 32) (k0_hw67 : k0_chk67 v1245), ∀ a, (k0_off272 v1245) a + S16x1024.size a ≤ S851968x1024.size a := fun v1245 k0_hw67 => k0_hw67.2.1
theorem k0_off272_wordsbf16 : ∀ (v1245 : BitVec 32) (k0_hw67 : k0_chk67 v1245), (Rect.unit (s := S851968x1024) (k0_off272 v1245) S16x1024.size (k0_off272_inb v1245 k0_hw67)).WholeWords (EltTy.packing .bf16) := fun v1245 k0_hw67 => k0_hw67.2.2 (k0_off272_inb v1245 k0_hw67)

def k0_off273 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c66_i32 : BitVec 32 := 66#32
  let v1252 : BitVec 32 := Scalar.addi v38 c66_i32
  let v1253 : Index := Scalar.indexCast v1252
  ![v1253.toNat]
def k0_mult69 (v1254 : BitVec 32) : BitVec 32 :=
  v1254

def k0_off274 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off275 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1056_i32 : BitVec 32 := 1056#32
  let c0_i32_233 : BitVec 32 := 0#32
  ![v2.toNat, 1056, 0]
def k0_off276 (v1254 : BitVec 32) : Fin 2 → Nat :=
  let v1255 : BitVec 32 := v1254
  let c0_i32_234 : BitVec 32 := 0#32
  ![v1255.toNat, 0]

def k0_chk68 (v1254 : BitVec 32) : Prop :=
  (16 ∣ (k0_mult69 v1254).toNat) ∧
  (∀ a, (k0_off276 v1254) a + S16x1024.size a ≤ S851968x1024.size a) ∧
  (∀ (hinb : ∀ a, (k0_off276 v1254) a + S16x1024.size a ≤ S851968x1024.size a), (Rect.unit (s := S851968x1024) (k0_off276 v1254) S16x1024.size hinb).WholeWords (EltTy.packing .bf16))
theorem k0_mult69_dvd : ∀ (v1254 : BitVec 32) (k0_hw68 : k0_chk68 v1254), 16 ∣ (k0_mult69 v1254).toNat := fun v1254 k0_hw68 => k0_hw68.1
theorem k0_off276_inb : ∀ (v1254 : BitVec 32) (k0_hw68 : k0_chk68 v1254), ∀ a, (k0_off276 v1254) a + S16x1024.size a ≤ S851968x1024.size a := fun v1254 k0_hw68 => k0_hw68.2.1
theorem k0_off276_wordsbf16 : ∀ (v1254 : BitVec 32) (k0_hw68 : k0_chk68 v1254), (Rect.unit (s := S851968x1024) (k0_off276 v1254) S16x1024.size (k0_off276_inb v1254 k0_hw68)).WholeWords (EltTy.packing .bf16) := fun v1254 k0_hw68 => k0_hw68.2.2 (k0_off276_inb v1254 k0_hw68)

def k0_off277 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c67_i32 : BitVec 32 := 67#32
  let v1261 : BitVec 32 := Scalar.addi v38 c67_i32
  let v1262 : Index := Scalar.indexCast v1261
  ![v1262.toNat]
def k0_mult70 (v1263 : BitVec 32) : BitVec 32 :=
  v1263

def k0_off278 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off279 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1072_i32 : BitVec 32 := 1072#32
  let c0_i32_235 : BitVec 32 := 0#32
  ![v2.toNat, 1072, 0]
def k0_off280 (v1263 : BitVec 32) : Fin 2 → Nat :=
  let v1264 : BitVec 32 := v1263
  let c0_i32_236 : BitVec 32 := 0#32
  ![v1264.toNat, 0]

def k0_chk69 (v1263 : BitVec 32) : Prop :=
  (16 ∣ (k0_mult70 v1263).toNat) ∧
  (∀ a, (k0_off280 v1263) a + S16x1024.size a ≤ S851968x1024.size a) ∧
  (∀ (hinb : ∀ a, (k0_off280 v1263) a + S16x1024.size a ≤ S851968x1024.size a), (Rect.unit (s := S851968x1024) (k0_off280 v1263) S16x1024.size hinb).WholeWords (EltTy.packing .bf16))
theorem k0_mult70_dvd : ∀ (v1263 : BitVec 32) (k0_hw69 : k0_chk69 v1263), 16 ∣ (k0_mult70 v1263).toNat := fun v1263 k0_hw69 => k0_hw69.1
theorem k0_off280_inb : ∀ (v1263 : BitVec 32) (k0_hw69 : k0_chk69 v1263), ∀ a, (k0_off280 v1263) a + S16x1024.size a ≤ S851968x1024.size a := fun v1263 k0_hw69 => k0_hw69.2.1
theorem k0_off280_wordsbf16 : ∀ (v1263 : BitVec 32) (k0_hw69 : k0_chk69 v1263), (Rect.unit (s := S851968x1024) (k0_off280 v1263) S16x1024.size (k0_off280_inb v1263 k0_hw69)).WholeWords (EltTy.packing .bf16) := fun v1263 k0_hw69 => k0_hw69.2.2 (k0_off280_inb v1263 k0_hw69)

def k0_off281 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c68_i32 : BitVec 32 := 68#32
  let v1270 : BitVec 32 := Scalar.addi v38 c68_i32
  let v1271 : Index := Scalar.indexCast v1270
  ![v1271.toNat]
def k0_mult71 (v1272 : BitVec 32) : BitVec 32 :=
  v1272

def k0_off282 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off283 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1088_i32 : BitVec 32 := 1088#32
  let c0_i32_237 : BitVec 32 := 0#32
  ![v2.toNat, 1088, 0]
def k0_off284 (v1272 : BitVec 32) : Fin 2 → Nat :=
  let v1273 : BitVec 32 := v1272
  let c0_i32_238 : BitVec 32 := 0#32
  ![v1273.toNat, 0]

def k0_chk70 (v1272 : BitVec 32) : Prop :=
  (16 ∣ (k0_mult71 v1272).toNat) ∧
  (∀ a, (k0_off284 v1272) a + S16x1024.size a ≤ S851968x1024.size a) ∧
  (∀ (hinb : ∀ a, (k0_off284 v1272) a + S16x1024.size a ≤ S851968x1024.size a), (Rect.unit (s := S851968x1024) (k0_off284 v1272) S16x1024.size hinb).WholeWords (EltTy.packing .bf16))
theorem k0_mult71_dvd : ∀ (v1272 : BitVec 32) (k0_hw70 : k0_chk70 v1272), 16 ∣ (k0_mult71 v1272).toNat := fun v1272 k0_hw70 => k0_hw70.1
theorem k0_off284_inb : ∀ (v1272 : BitVec 32) (k0_hw70 : k0_chk70 v1272), ∀ a, (k0_off284 v1272) a + S16x1024.size a ≤ S851968x1024.size a := fun v1272 k0_hw70 => k0_hw70.2.1
theorem k0_off284_wordsbf16 : ∀ (v1272 : BitVec 32) (k0_hw70 : k0_chk70 v1272), (Rect.unit (s := S851968x1024) (k0_off284 v1272) S16x1024.size (k0_off284_inb v1272 k0_hw70)).WholeWords (EltTy.packing .bf16) := fun v1272 k0_hw70 => k0_hw70.2.2 (k0_off284_inb v1272 k0_hw70)

def k0_off285 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c69_i32 : BitVec 32 := 69#32
  let v1279 : BitVec 32 := Scalar.addi v38 c69_i32
  let v1280 : Index := Scalar.indexCast v1279
  ![v1280.toNat]
def k0_mult72 (v1281 : BitVec 32) : BitVec 32 :=
  v1281

def k0_off286 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off287 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1104_i32 : BitVec 32 := 1104#32
  let c0_i32_239 : BitVec 32 := 0#32
  ![v2.toNat, 1104, 0]
def k0_off288 (v1281 : BitVec 32) : Fin 2 → Nat :=
  let v1282 : BitVec 32 := v1281
  let c0_i32_240 : BitVec 32 := 0#32
  ![v1282.toNat, 0]

def k0_chk71 (v1281 : BitVec 32) : Prop :=
  (16 ∣ (k0_mult72 v1281).toNat) ∧
  (∀ a, (k0_off288 v1281) a + S16x1024.size a ≤ S851968x1024.size a) ∧
  (∀ (hinb : ∀ a, (k0_off288 v1281) a + S16x1024.size a ≤ S851968x1024.size a), (Rect.unit (s := S851968x1024) (k0_off288 v1281) S16x1024.size hinb).WholeWords (EltTy.packing .bf16))
theorem k0_mult72_dvd : ∀ (v1281 : BitVec 32) (k0_hw71 : k0_chk71 v1281), 16 ∣ (k0_mult72 v1281).toNat := fun v1281 k0_hw71 => k0_hw71.1
theorem k0_off288_inb : ∀ (v1281 : BitVec 32) (k0_hw71 : k0_chk71 v1281), ∀ a, (k0_off288 v1281) a + S16x1024.size a ≤ S851968x1024.size a := fun v1281 k0_hw71 => k0_hw71.2.1
theorem k0_off288_wordsbf16 : ∀ (v1281 : BitVec 32) (k0_hw71 : k0_chk71 v1281), (Rect.unit (s := S851968x1024) (k0_off288 v1281) S16x1024.size (k0_off288_inb v1281 k0_hw71)).WholeWords (EltTy.packing .bf16) := fun v1281 k0_hw71 => k0_hw71.2.2 (k0_off288_inb v1281 k0_hw71)

def k0_off289 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c70_i32 : BitVec 32 := 70#32
  let v1288 : BitVec 32 := Scalar.addi v38 c70_i32
  let v1289 : Index := Scalar.indexCast v1288
  ![v1289.toNat]
def k0_mult73 (v1290 : BitVec 32) : BitVec 32 :=
  v1290

def k0_off290 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off291 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1120_i32 : BitVec 32 := 1120#32
  let c0_i32_241 : BitVec 32 := 0#32
  ![v2.toNat, 1120, 0]
def k0_off292 (v1290 : BitVec 32) : Fin 2 → Nat :=
  let v1291 : BitVec 32 := v1290
  let c0_i32_242 : BitVec 32 := 0#32
  ![v1291.toNat, 0]

def k0_chk72 (v1290 : BitVec 32) : Prop :=
  (16 ∣ (k0_mult73 v1290).toNat) ∧
  (∀ a, (k0_off292 v1290) a + S16x1024.size a ≤ S851968x1024.size a) ∧
  (∀ (hinb : ∀ a, (k0_off292 v1290) a + S16x1024.size a ≤ S851968x1024.size a), (Rect.unit (s := S851968x1024) (k0_off292 v1290) S16x1024.size hinb).WholeWords (EltTy.packing .bf16))
theorem k0_mult73_dvd : ∀ (v1290 : BitVec 32) (k0_hw72 : k0_chk72 v1290), 16 ∣ (k0_mult73 v1290).toNat := fun v1290 k0_hw72 => k0_hw72.1
theorem k0_off292_inb : ∀ (v1290 : BitVec 32) (k0_hw72 : k0_chk72 v1290), ∀ a, (k0_off292 v1290) a + S16x1024.size a ≤ S851968x1024.size a := fun v1290 k0_hw72 => k0_hw72.2.1
theorem k0_off292_wordsbf16 : ∀ (v1290 : BitVec 32) (k0_hw72 : k0_chk72 v1290), (Rect.unit (s := S851968x1024) (k0_off292 v1290) S16x1024.size (k0_off292_inb v1290 k0_hw72)).WholeWords (EltTy.packing .bf16) := fun v1290 k0_hw72 => k0_hw72.2.2 (k0_off292_inb v1290 k0_hw72)

def k0_off293 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c71_i32 : BitVec 32 := 71#32
  let v1297 : BitVec 32 := Scalar.addi v38 c71_i32
  let v1298 : Index := Scalar.indexCast v1297
  ![v1298.toNat]
def k0_mult74 (v1299 : BitVec 32) : BitVec 32 :=
  v1299

def k0_off294 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off295 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1136_i32 : BitVec 32 := 1136#32
  let c0_i32_243 : BitVec 32 := 0#32
  ![v2.toNat, 1136, 0]
def k0_off296 (v1299 : BitVec 32) : Fin 2 → Nat :=
  let v1300 : BitVec 32 := v1299
  let c0_i32_244 : BitVec 32 := 0#32
  ![v1300.toNat, 0]

def k0_chk73 (v1299 : BitVec 32) : Prop :=
  (16 ∣ (k0_mult74 v1299).toNat) ∧
  (∀ a, (k0_off296 v1299) a + S16x1024.size a ≤ S851968x1024.size a) ∧
  (∀ (hinb : ∀ a, (k0_off296 v1299) a + S16x1024.size a ≤ S851968x1024.size a), (Rect.unit (s := S851968x1024) (k0_off296 v1299) S16x1024.size hinb).WholeWords (EltTy.packing .bf16))
theorem k0_mult74_dvd : ∀ (v1299 : BitVec 32) (k0_hw73 : k0_chk73 v1299), 16 ∣ (k0_mult74 v1299).toNat := fun v1299 k0_hw73 => k0_hw73.1
theorem k0_off296_inb : ∀ (v1299 : BitVec 32) (k0_hw73 : k0_chk73 v1299), ∀ a, (k0_off296 v1299) a + S16x1024.size a ≤ S851968x1024.size a := fun v1299 k0_hw73 => k0_hw73.2.1
theorem k0_off296_wordsbf16 : ∀ (v1299 : BitVec 32) (k0_hw73 : k0_chk73 v1299), (Rect.unit (s := S851968x1024) (k0_off296 v1299) S16x1024.size (k0_off296_inb v1299 k0_hw73)).WholeWords (EltTy.packing .bf16) := fun v1299 k0_hw73 => k0_hw73.2.2 (k0_off296_inb v1299 k0_hw73)

def k0_off297 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c72_i32 : BitVec 32 := 72#32
  let v1306 : BitVec 32 := Scalar.addi v38 c72_i32
  let v1307 : Index := Scalar.indexCast v1306
  ![v1307.toNat]
def k0_mult75 (v1308 : BitVec 32) : BitVec 32 :=
  v1308

def k0_off298 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off299 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1152_i32 : BitVec 32 := 1152#32
  let c0_i32_245 : BitVec 32 := 0#32
  ![v2.toNat, 1152, 0]
def k0_off300 (v1308 : BitVec 32) : Fin 2 → Nat :=
  let v1309 : BitVec 32 := v1308
  let c0_i32_246 : BitVec 32 := 0#32
  ![v1309.toNat, 0]

def k0_chk74 (v1308 : BitVec 32) : Prop :=
  (16 ∣ (k0_mult75 v1308).toNat) ∧
  (∀ a, (k0_off300 v1308) a + S16x1024.size a ≤ S851968x1024.size a) ∧
  (∀ (hinb : ∀ a, (k0_off300 v1308) a + S16x1024.size a ≤ S851968x1024.size a), (Rect.unit (s := S851968x1024) (k0_off300 v1308) S16x1024.size hinb).WholeWords (EltTy.packing .bf16))
theorem k0_mult75_dvd : ∀ (v1308 : BitVec 32) (k0_hw74 : k0_chk74 v1308), 16 ∣ (k0_mult75 v1308).toNat := fun v1308 k0_hw74 => k0_hw74.1
theorem k0_off300_inb : ∀ (v1308 : BitVec 32) (k0_hw74 : k0_chk74 v1308), ∀ a, (k0_off300 v1308) a + S16x1024.size a ≤ S851968x1024.size a := fun v1308 k0_hw74 => k0_hw74.2.1
theorem k0_off300_wordsbf16 : ∀ (v1308 : BitVec 32) (k0_hw74 : k0_chk74 v1308), (Rect.unit (s := S851968x1024) (k0_off300 v1308) S16x1024.size (k0_off300_inb v1308 k0_hw74)).WholeWords (EltTy.packing .bf16) := fun v1308 k0_hw74 => k0_hw74.2.2 (k0_off300_inb v1308 k0_hw74)

def k0_off301 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c73_i32 : BitVec 32 := 73#32
  let v1315 : BitVec 32 := Scalar.addi v38 c73_i32
  let v1316 : Index := Scalar.indexCast v1315
  ![v1316.toNat]
def k0_mult76 (v1317 : BitVec 32) : BitVec 32 :=
  v1317

def k0_off302 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off303 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1168_i32 : BitVec 32 := 1168#32
  let c0_i32_247 : BitVec 32 := 0#32
  ![v2.toNat, 1168, 0]
def k0_off304 (v1317 : BitVec 32) : Fin 2 → Nat :=
  let v1318 : BitVec 32 := v1317
  let c0_i32_248 : BitVec 32 := 0#32
  ![v1318.toNat, 0]

def k0_chk75 (v1317 : BitVec 32) : Prop :=
  (16 ∣ (k0_mult76 v1317).toNat) ∧
  (∀ a, (k0_off304 v1317) a + S16x1024.size a ≤ S851968x1024.size a) ∧
  (∀ (hinb : ∀ a, (k0_off304 v1317) a + S16x1024.size a ≤ S851968x1024.size a), (Rect.unit (s := S851968x1024) (k0_off304 v1317) S16x1024.size hinb).WholeWords (EltTy.packing .bf16))
theorem k0_mult76_dvd : ∀ (v1317 : BitVec 32) (k0_hw75 : k0_chk75 v1317), 16 ∣ (k0_mult76 v1317).toNat := fun v1317 k0_hw75 => k0_hw75.1
theorem k0_off304_inb : ∀ (v1317 : BitVec 32) (k0_hw75 : k0_chk75 v1317), ∀ a, (k0_off304 v1317) a + S16x1024.size a ≤ S851968x1024.size a := fun v1317 k0_hw75 => k0_hw75.2.1
theorem k0_off304_wordsbf16 : ∀ (v1317 : BitVec 32) (k0_hw75 : k0_chk75 v1317), (Rect.unit (s := S851968x1024) (k0_off304 v1317) S16x1024.size (k0_off304_inb v1317 k0_hw75)).WholeWords (EltTy.packing .bf16) := fun v1317 k0_hw75 => k0_hw75.2.2 (k0_off304_inb v1317 k0_hw75)

def k0_off305 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c74_i32 : BitVec 32 := 74#32
  let v1324 : BitVec 32 := Scalar.addi v38 c74_i32
  let v1325 : Index := Scalar.indexCast v1324
  ![v1325.toNat]
def k0_mult77 (v1326 : BitVec 32) : BitVec 32 :=
  v1326

def k0_off306 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off307 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1184_i32 : BitVec 32 := 1184#32
  let c0_i32_249 : BitVec 32 := 0#32
  ![v2.toNat, 1184, 0]
def k0_off308 (v1326 : BitVec 32) : Fin 2 → Nat :=
  let v1327 : BitVec 32 := v1326
  let c0_i32_250 : BitVec 32 := 0#32
  ![v1327.toNat, 0]

def k0_chk76 (v1326 : BitVec 32) : Prop :=
  (16 ∣ (k0_mult77 v1326).toNat) ∧
  (∀ a, (k0_off308 v1326) a + S16x1024.size a ≤ S851968x1024.size a) ∧
  (∀ (hinb : ∀ a, (k0_off308 v1326) a + S16x1024.size a ≤ S851968x1024.size a), (Rect.unit (s := S851968x1024) (k0_off308 v1326) S16x1024.size hinb).WholeWords (EltTy.packing .bf16))
theorem k0_mult77_dvd : ∀ (v1326 : BitVec 32) (k0_hw76 : k0_chk76 v1326), 16 ∣ (k0_mult77 v1326).toNat := fun v1326 k0_hw76 => k0_hw76.1
theorem k0_off308_inb : ∀ (v1326 : BitVec 32) (k0_hw76 : k0_chk76 v1326), ∀ a, (k0_off308 v1326) a + S16x1024.size a ≤ S851968x1024.size a := fun v1326 k0_hw76 => k0_hw76.2.1
theorem k0_off308_wordsbf16 : ∀ (v1326 : BitVec 32) (k0_hw76 : k0_chk76 v1326), (Rect.unit (s := S851968x1024) (k0_off308 v1326) S16x1024.size (k0_off308_inb v1326 k0_hw76)).WholeWords (EltTy.packing .bf16) := fun v1326 k0_hw76 => k0_hw76.2.2 (k0_off308_inb v1326 k0_hw76)

def k0_off309 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c75_i32 : BitVec 32 := 75#32
  let v1333 : BitVec 32 := Scalar.addi v38 c75_i32
  let v1334 : Index := Scalar.indexCast v1333
  ![v1334.toNat]
def k0_mult78 (v1335 : BitVec 32) : BitVec 32 :=
  v1335

def k0_off310 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off311 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1200_i32 : BitVec 32 := 1200#32
  let c0_i32_251 : BitVec 32 := 0#32
  ![v2.toNat, 1200, 0]
def k0_off312 (v1335 : BitVec 32) : Fin 2 → Nat :=
  let v1336 : BitVec 32 := v1335
  let c0_i32_252 : BitVec 32 := 0#32
  ![v1336.toNat, 0]

def k0_chk77 (v1335 : BitVec 32) : Prop :=
  (16 ∣ (k0_mult78 v1335).toNat) ∧
  (∀ a, (k0_off312 v1335) a + S16x1024.size a ≤ S851968x1024.size a) ∧
  (∀ (hinb : ∀ a, (k0_off312 v1335) a + S16x1024.size a ≤ S851968x1024.size a), (Rect.unit (s := S851968x1024) (k0_off312 v1335) S16x1024.size hinb).WholeWords (EltTy.packing .bf16))
theorem k0_mult78_dvd : ∀ (v1335 : BitVec 32) (k0_hw77 : k0_chk77 v1335), 16 ∣ (k0_mult78 v1335).toNat := fun v1335 k0_hw77 => k0_hw77.1
theorem k0_off312_inb : ∀ (v1335 : BitVec 32) (k0_hw77 : k0_chk77 v1335), ∀ a, (k0_off312 v1335) a + S16x1024.size a ≤ S851968x1024.size a := fun v1335 k0_hw77 => k0_hw77.2.1
theorem k0_off312_wordsbf16 : ∀ (v1335 : BitVec 32) (k0_hw77 : k0_chk77 v1335), (Rect.unit (s := S851968x1024) (k0_off312 v1335) S16x1024.size (k0_off312_inb v1335 k0_hw77)).WholeWords (EltTy.packing .bf16) := fun v1335 k0_hw77 => k0_hw77.2.2 (k0_off312_inb v1335 k0_hw77)

def k0_off313 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c76_i32 : BitVec 32 := 76#32
  let v1342 : BitVec 32 := Scalar.addi v38 c76_i32
  let v1343 : Index := Scalar.indexCast v1342
  ![v1343.toNat]
def k0_mult79 (v1344 : BitVec 32) : BitVec 32 :=
  v1344

def k0_off314 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off315 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1216_i32 : BitVec 32 := 1216#32
  let c0_i32_253 : BitVec 32 := 0#32
  ![v2.toNat, 1216, 0]
def k0_off316 (v1344 : BitVec 32) : Fin 2 → Nat :=
  let v1345 : BitVec 32 := v1344
  let c0_i32_254 : BitVec 32 := 0#32
  ![v1345.toNat, 0]

def k0_chk78 (v1344 : BitVec 32) : Prop :=
  (16 ∣ (k0_mult79 v1344).toNat) ∧
  (∀ a, (k0_off316 v1344) a + S16x1024.size a ≤ S851968x1024.size a) ∧
  (∀ (hinb : ∀ a, (k0_off316 v1344) a + S16x1024.size a ≤ S851968x1024.size a), (Rect.unit (s := S851968x1024) (k0_off316 v1344) S16x1024.size hinb).WholeWords (EltTy.packing .bf16))
theorem k0_mult79_dvd : ∀ (v1344 : BitVec 32) (k0_hw78 : k0_chk78 v1344), 16 ∣ (k0_mult79 v1344).toNat := fun v1344 k0_hw78 => k0_hw78.1
theorem k0_off316_inb : ∀ (v1344 : BitVec 32) (k0_hw78 : k0_chk78 v1344), ∀ a, (k0_off316 v1344) a + S16x1024.size a ≤ S851968x1024.size a := fun v1344 k0_hw78 => k0_hw78.2.1
theorem k0_off316_wordsbf16 : ∀ (v1344 : BitVec 32) (k0_hw78 : k0_chk78 v1344), (Rect.unit (s := S851968x1024) (k0_off316 v1344) S16x1024.size (k0_off316_inb v1344 k0_hw78)).WholeWords (EltTy.packing .bf16) := fun v1344 k0_hw78 => k0_hw78.2.2 (k0_off316_inb v1344 k0_hw78)

def k0_off317 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c77_i32 : BitVec 32 := 77#32
  let v1351 : BitVec 32 := Scalar.addi v38 c77_i32
  let v1352 : Index := Scalar.indexCast v1351
  ![v1352.toNat]
def k0_mult80 (v1353 : BitVec 32) : BitVec 32 :=
  v1353

def k0_off318 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off319 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1232_i32 : BitVec 32 := 1232#32
  let c0_i32_255 : BitVec 32 := 0#32
  ![v2.toNat, 1232, 0]
def k0_off320 (v1353 : BitVec 32) : Fin 2 → Nat :=
  let v1354 : BitVec 32 := v1353
  let c0_i32_256 : BitVec 32 := 0#32
  ![v1354.toNat, 0]

def k0_chk79 (v1353 : BitVec 32) : Prop :=
  (16 ∣ (k0_mult80 v1353).toNat) ∧
  (∀ a, (k0_off320 v1353) a + S16x1024.size a ≤ S851968x1024.size a) ∧
  (∀ (hinb : ∀ a, (k0_off320 v1353) a + S16x1024.size a ≤ S851968x1024.size a), (Rect.unit (s := S851968x1024) (k0_off320 v1353) S16x1024.size hinb).WholeWords (EltTy.packing .bf16))
theorem k0_mult80_dvd : ∀ (v1353 : BitVec 32) (k0_hw79 : k0_chk79 v1353), 16 ∣ (k0_mult80 v1353).toNat := fun v1353 k0_hw79 => k0_hw79.1
theorem k0_off320_inb : ∀ (v1353 : BitVec 32) (k0_hw79 : k0_chk79 v1353), ∀ a, (k0_off320 v1353) a + S16x1024.size a ≤ S851968x1024.size a := fun v1353 k0_hw79 => k0_hw79.2.1
theorem k0_off320_wordsbf16 : ∀ (v1353 : BitVec 32) (k0_hw79 : k0_chk79 v1353), (Rect.unit (s := S851968x1024) (k0_off320 v1353) S16x1024.size (k0_off320_inb v1353 k0_hw79)).WholeWords (EltTy.packing .bf16) := fun v1353 k0_hw79 => k0_hw79.2.2 (k0_off320_inb v1353 k0_hw79)

def k0_off321 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c78_i32 : BitVec 32 := 78#32
  let v1360 : BitVec 32 := Scalar.addi v38 c78_i32
  let v1361 : Index := Scalar.indexCast v1360
  ![v1361.toNat]
def k0_mult81 (v1362 : BitVec 32) : BitVec 32 :=
  v1362

def k0_off322 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off323 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1248_i32 : BitVec 32 := 1248#32
  let c0_i32_257 : BitVec 32 := 0#32
  ![v2.toNat, 1248, 0]
def k0_off324 (v1362 : BitVec 32) : Fin 2 → Nat :=
  let v1363 : BitVec 32 := v1362
  let c0_i32_258 : BitVec 32 := 0#32
  ![v1363.toNat, 0]

def k0_chk80 (v1362 : BitVec 32) : Prop :=
  (16 ∣ (k0_mult81 v1362).toNat) ∧
  (∀ a, (k0_off324 v1362) a + S16x1024.size a ≤ S851968x1024.size a) ∧
  (∀ (hinb : ∀ a, (k0_off324 v1362) a + S16x1024.size a ≤ S851968x1024.size a), (Rect.unit (s := S851968x1024) (k0_off324 v1362) S16x1024.size hinb).WholeWords (EltTy.packing .bf16))
theorem k0_mult81_dvd : ∀ (v1362 : BitVec 32) (k0_hw80 : k0_chk80 v1362), 16 ∣ (k0_mult81 v1362).toNat := fun v1362 k0_hw80 => k0_hw80.1
theorem k0_off324_inb : ∀ (v1362 : BitVec 32) (k0_hw80 : k0_chk80 v1362), ∀ a, (k0_off324 v1362) a + S16x1024.size a ≤ S851968x1024.size a := fun v1362 k0_hw80 => k0_hw80.2.1
theorem k0_off324_wordsbf16 : ∀ (v1362 : BitVec 32) (k0_hw80 : k0_chk80 v1362), (Rect.unit (s := S851968x1024) (k0_off324 v1362) S16x1024.size (k0_off324_inb v1362 k0_hw80)).WholeWords (EltTy.packing .bf16) := fun v1362 k0_hw80 => k0_hw80.2.2 (k0_off324_inb v1362 k0_hw80)

def k0_off325 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c79_i32 : BitVec 32 := 79#32
  let v1369 : BitVec 32 := Scalar.addi v38 c79_i32
  let v1370 : Index := Scalar.indexCast v1369
  ![v1370.toNat]
def k0_mult82 (v1371 : BitVec 32) : BitVec 32 :=
  v1371

def k0_off326 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off327 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1264_i32 : BitVec 32 := 1264#32
  let c0_i32_259 : BitVec 32 := 0#32
  ![v2.toNat, 1264, 0]
def k0_off328 (v1371 : BitVec 32) : Fin 2 → Nat :=
  let v1372 : BitVec 32 := v1371
  let c0_i32_260 : BitVec 32 := 0#32
  ![v1372.toNat, 0]

def k0_chk81 (v1371 : BitVec 32) : Prop :=
  (16 ∣ (k0_mult82 v1371).toNat) ∧
  (∀ a, (k0_off328 v1371) a + S16x1024.size a ≤ S851968x1024.size a) ∧
  (∀ (hinb : ∀ a, (k0_off328 v1371) a + S16x1024.size a ≤ S851968x1024.size a), (Rect.unit (s := S851968x1024) (k0_off328 v1371) S16x1024.size hinb).WholeWords (EltTy.packing .bf16))
theorem k0_mult82_dvd : ∀ (v1371 : BitVec 32) (k0_hw81 : k0_chk81 v1371), 16 ∣ (k0_mult82 v1371).toNat := fun v1371 k0_hw81 => k0_hw81.1
theorem k0_off328_inb : ∀ (v1371 : BitVec 32) (k0_hw81 : k0_chk81 v1371), ∀ a, (k0_off328 v1371) a + S16x1024.size a ≤ S851968x1024.size a := fun v1371 k0_hw81 => k0_hw81.2.1
theorem k0_off328_wordsbf16 : ∀ (v1371 : BitVec 32) (k0_hw81 : k0_chk81 v1371), (Rect.unit (s := S851968x1024) (k0_off328 v1371) S16x1024.size (k0_off328_inb v1371 k0_hw81)).WholeWords (EltTy.packing .bf16) := fun v1371 k0_hw81 => k0_hw81.2.2 (k0_off328_inb v1371 k0_hw81)

def k0_off329 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c80_i32_261 : BitVec 32 := 80#32
  let v1378 : BitVec 32 := Scalar.addi v38 c80_i32_261
  let v1379 : Index := Scalar.indexCast v1378
  ![v1379.toNat]
def k0_mult83 (v1380 : BitVec 32) : BitVec 32 :=
  v1380

def k0_off330 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off331 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1280_i32 : BitVec 32 := 1280#32
  let c0_i32_262 : BitVec 32 := 0#32
  ![v2.toNat, 1280, 0]
def k0_off332 (v1380 : BitVec 32) : Fin 2 → Nat :=
  let v1381 : BitVec 32 := v1380
  let c0_i32_263 : BitVec 32 := 0#32
  ![v1381.toNat, 0]

def k0_chk82 (v1380 : BitVec 32) : Prop :=
  (16 ∣ (k0_mult83 v1380).toNat) ∧
  (∀ a, (k0_off332 v1380) a + S16x1024.size a ≤ S851968x1024.size a) ∧
  (∀ (hinb : ∀ a, (k0_off332 v1380) a + S16x1024.size a ≤ S851968x1024.size a), (Rect.unit (s := S851968x1024) (k0_off332 v1380) S16x1024.size hinb).WholeWords (EltTy.packing .bf16))
theorem k0_mult83_dvd : ∀ (v1380 : BitVec 32) (k0_hw82 : k0_chk82 v1380), 16 ∣ (k0_mult83 v1380).toNat := fun v1380 k0_hw82 => k0_hw82.1
theorem k0_off332_inb : ∀ (v1380 : BitVec 32) (k0_hw82 : k0_chk82 v1380), ∀ a, (k0_off332 v1380) a + S16x1024.size a ≤ S851968x1024.size a := fun v1380 k0_hw82 => k0_hw82.2.1
theorem k0_off332_wordsbf16 : ∀ (v1380 : BitVec 32) (k0_hw82 : k0_chk82 v1380), (Rect.unit (s := S851968x1024) (k0_off332 v1380) S16x1024.size (k0_off332_inb v1380 k0_hw82)).WholeWords (EltTy.packing .bf16) := fun v1380 k0_hw82 => k0_hw82.2.2 (k0_off332_inb v1380 k0_hw82)

def k0_off333 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c81_i32 : BitVec 32 := 81#32
  let v1387 : BitVec 32 := Scalar.addi v38 c81_i32
  let v1388 : Index := Scalar.indexCast v1387
  ![v1388.toNat]
def k0_mult84 (v1389 : BitVec 32) : BitVec 32 :=
  v1389

def k0_off334 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off335 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1296_i32 : BitVec 32 := 1296#32
  let c0_i32_264 : BitVec 32 := 0#32
  ![v2.toNat, 1296, 0]
def k0_off336 (v1389 : BitVec 32) : Fin 2 → Nat :=
  let v1390 : BitVec 32 := v1389
  let c0_i32_265 : BitVec 32 := 0#32
  ![v1390.toNat, 0]

def k0_chk83 (v1389 : BitVec 32) : Prop :=
  (16 ∣ (k0_mult84 v1389).toNat) ∧
  (∀ a, (k0_off336 v1389) a + S16x1024.size a ≤ S851968x1024.size a) ∧
  (∀ (hinb : ∀ a, (k0_off336 v1389) a + S16x1024.size a ≤ S851968x1024.size a), (Rect.unit (s := S851968x1024) (k0_off336 v1389) S16x1024.size hinb).WholeWords (EltTy.packing .bf16))
theorem k0_mult84_dvd : ∀ (v1389 : BitVec 32) (k0_hw83 : k0_chk83 v1389), 16 ∣ (k0_mult84 v1389).toNat := fun v1389 k0_hw83 => k0_hw83.1
theorem k0_off336_inb : ∀ (v1389 : BitVec 32) (k0_hw83 : k0_chk83 v1389), ∀ a, (k0_off336 v1389) a + S16x1024.size a ≤ S851968x1024.size a := fun v1389 k0_hw83 => k0_hw83.2.1
theorem k0_off336_wordsbf16 : ∀ (v1389 : BitVec 32) (k0_hw83 : k0_chk83 v1389), (Rect.unit (s := S851968x1024) (k0_off336 v1389) S16x1024.size (k0_off336_inb v1389 k0_hw83)).WholeWords (EltTy.packing .bf16) := fun v1389 k0_hw83 => k0_hw83.2.2 (k0_off336_inb v1389 k0_hw83)

def k0_off337 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c82_i32 : BitVec 32 := 82#32
  let v1396 : BitVec 32 := Scalar.addi v38 c82_i32
  let v1397 : Index := Scalar.indexCast v1396
  ![v1397.toNat]
def k0_mult85 (v1398 : BitVec 32) : BitVec 32 :=
  v1398

def k0_off338 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off339 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1312_i32 : BitVec 32 := 1312#32
  let c0_i32_266 : BitVec 32 := 0#32
  ![v2.toNat, 1312, 0]
def k0_off340 (v1398 : BitVec 32) : Fin 2 → Nat :=
  let v1399 : BitVec 32 := v1398
  let c0_i32_267 : BitVec 32 := 0#32
  ![v1399.toNat, 0]

def k0_chk84 (v1398 : BitVec 32) : Prop :=
  (16 ∣ (k0_mult85 v1398).toNat) ∧
  (∀ a, (k0_off340 v1398) a + S16x1024.size a ≤ S851968x1024.size a) ∧
  (∀ (hinb : ∀ a, (k0_off340 v1398) a + S16x1024.size a ≤ S851968x1024.size a), (Rect.unit (s := S851968x1024) (k0_off340 v1398) S16x1024.size hinb).WholeWords (EltTy.packing .bf16))
theorem k0_mult85_dvd : ∀ (v1398 : BitVec 32) (k0_hw84 : k0_chk84 v1398), 16 ∣ (k0_mult85 v1398).toNat := fun v1398 k0_hw84 => k0_hw84.1
theorem k0_off340_inb : ∀ (v1398 : BitVec 32) (k0_hw84 : k0_chk84 v1398), ∀ a, (k0_off340 v1398) a + S16x1024.size a ≤ S851968x1024.size a := fun v1398 k0_hw84 => k0_hw84.2.1
theorem k0_off340_wordsbf16 : ∀ (v1398 : BitVec 32) (k0_hw84 : k0_chk84 v1398), (Rect.unit (s := S851968x1024) (k0_off340 v1398) S16x1024.size (k0_off340_inb v1398 k0_hw84)).WholeWords (EltTy.packing .bf16) := fun v1398 k0_hw84 => k0_hw84.2.2 (k0_off340_inb v1398 k0_hw84)

def k0_off341 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c83_i32 : BitVec 32 := 83#32
  let v1405 : BitVec 32 := Scalar.addi v38 c83_i32
  let v1406 : Index := Scalar.indexCast v1405
  ![v1406.toNat]
def k0_mult86 (v1407 : BitVec 32) : BitVec 32 :=
  v1407

def k0_off342 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off343 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1328_i32 : BitVec 32 := 1328#32
  let c0_i32_268 : BitVec 32 := 0#32
  ![v2.toNat, 1328, 0]
def k0_off344 (v1407 : BitVec 32) : Fin 2 → Nat :=
  let v1408 : BitVec 32 := v1407
  let c0_i32_269 : BitVec 32 := 0#32
  ![v1408.toNat, 0]

def k0_chk85 (v1407 : BitVec 32) : Prop :=
  (16 ∣ (k0_mult86 v1407).toNat) ∧
  (∀ a, (k0_off344 v1407) a + S16x1024.size a ≤ S851968x1024.size a) ∧
  (∀ (hinb : ∀ a, (k0_off344 v1407) a + S16x1024.size a ≤ S851968x1024.size a), (Rect.unit (s := S851968x1024) (k0_off344 v1407) S16x1024.size hinb).WholeWords (EltTy.packing .bf16))
theorem k0_mult86_dvd : ∀ (v1407 : BitVec 32) (k0_hw85 : k0_chk85 v1407), 16 ∣ (k0_mult86 v1407).toNat := fun v1407 k0_hw85 => k0_hw85.1
theorem k0_off344_inb : ∀ (v1407 : BitVec 32) (k0_hw85 : k0_chk85 v1407), ∀ a, (k0_off344 v1407) a + S16x1024.size a ≤ S851968x1024.size a := fun v1407 k0_hw85 => k0_hw85.2.1
theorem k0_off344_wordsbf16 : ∀ (v1407 : BitVec 32) (k0_hw85 : k0_chk85 v1407), (Rect.unit (s := S851968x1024) (k0_off344 v1407) S16x1024.size (k0_off344_inb v1407 k0_hw85)).WholeWords (EltTy.packing .bf16) := fun v1407 k0_hw85 => k0_hw85.2.2 (k0_off344_inb v1407 k0_hw85)

def k0_off345 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c84_i32 : BitVec 32 := 84#32
  let v1414 : BitVec 32 := Scalar.addi v38 c84_i32
  let v1415 : Index := Scalar.indexCast v1414
  ![v1415.toNat]
def k0_mult87 (v1416 : BitVec 32) : BitVec 32 :=
  v1416

def k0_off346 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off347 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1344_i32 : BitVec 32 := 1344#32
  let c0_i32_270 : BitVec 32 := 0#32
  ![v2.toNat, 1344, 0]
def k0_off348 (v1416 : BitVec 32) : Fin 2 → Nat :=
  let v1417 : BitVec 32 := v1416
  let c0_i32_271 : BitVec 32 := 0#32
  ![v1417.toNat, 0]

def k0_chk86 (v1416 : BitVec 32) : Prop :=
  (16 ∣ (k0_mult87 v1416).toNat) ∧
  (∀ a, (k0_off348 v1416) a + S16x1024.size a ≤ S851968x1024.size a) ∧
  (∀ (hinb : ∀ a, (k0_off348 v1416) a + S16x1024.size a ≤ S851968x1024.size a), (Rect.unit (s := S851968x1024) (k0_off348 v1416) S16x1024.size hinb).WholeWords (EltTy.packing .bf16))
theorem k0_mult87_dvd : ∀ (v1416 : BitVec 32) (k0_hw86 : k0_chk86 v1416), 16 ∣ (k0_mult87 v1416).toNat := fun v1416 k0_hw86 => k0_hw86.1
theorem k0_off348_inb : ∀ (v1416 : BitVec 32) (k0_hw86 : k0_chk86 v1416), ∀ a, (k0_off348 v1416) a + S16x1024.size a ≤ S851968x1024.size a := fun v1416 k0_hw86 => k0_hw86.2.1
theorem k0_off348_wordsbf16 : ∀ (v1416 : BitVec 32) (k0_hw86 : k0_chk86 v1416), (Rect.unit (s := S851968x1024) (k0_off348 v1416) S16x1024.size (k0_off348_inb v1416 k0_hw86)).WholeWords (EltTy.packing .bf16) := fun v1416 k0_hw86 => k0_hw86.2.2 (k0_off348_inb v1416 k0_hw86)

def k0_off349 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c85_i32 : BitVec 32 := 85#32
  let v1423 : BitVec 32 := Scalar.addi v38 c85_i32
  let v1424 : Index := Scalar.indexCast v1423
  ![v1424.toNat]
def k0_mult88 (v1425 : BitVec 32) : BitVec 32 :=
  v1425

def k0_off350 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off351 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1360_i32 : BitVec 32 := 1360#32
  let c0_i32_272 : BitVec 32 := 0#32
  ![v2.toNat, 1360, 0]
def k0_off352 (v1425 : BitVec 32) : Fin 2 → Nat :=
  let v1426 : BitVec 32 := v1425
  let c0_i32_273 : BitVec 32 := 0#32
  ![v1426.toNat, 0]

def k0_chk87 (v1425 : BitVec 32) : Prop :=
  (16 ∣ (k0_mult88 v1425).toNat) ∧
  (∀ a, (k0_off352 v1425) a + S16x1024.size a ≤ S851968x1024.size a) ∧
  (∀ (hinb : ∀ a, (k0_off352 v1425) a + S16x1024.size a ≤ S851968x1024.size a), (Rect.unit (s := S851968x1024) (k0_off352 v1425) S16x1024.size hinb).WholeWords (EltTy.packing .bf16))
theorem k0_mult88_dvd : ∀ (v1425 : BitVec 32) (k0_hw87 : k0_chk87 v1425), 16 ∣ (k0_mult88 v1425).toNat := fun v1425 k0_hw87 => k0_hw87.1
theorem k0_off352_inb : ∀ (v1425 : BitVec 32) (k0_hw87 : k0_chk87 v1425), ∀ a, (k0_off352 v1425) a + S16x1024.size a ≤ S851968x1024.size a := fun v1425 k0_hw87 => k0_hw87.2.1
theorem k0_off352_wordsbf16 : ∀ (v1425 : BitVec 32) (k0_hw87 : k0_chk87 v1425), (Rect.unit (s := S851968x1024) (k0_off352 v1425) S16x1024.size (k0_off352_inb v1425 k0_hw87)).WholeWords (EltTy.packing .bf16) := fun v1425 k0_hw87 => k0_hw87.2.2 (k0_off352_inb v1425 k0_hw87)

def k0_off353 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c86_i32 : BitVec 32 := 86#32
  let v1432 : BitVec 32 := Scalar.addi v38 c86_i32
  let v1433 : Index := Scalar.indexCast v1432
  ![v1433.toNat]
def k0_mult89 (v1434 : BitVec 32) : BitVec 32 :=
  v1434

def k0_off354 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off355 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1376_i32 : BitVec 32 := 1376#32
  let c0_i32_274 : BitVec 32 := 0#32
  ![v2.toNat, 1376, 0]
def k0_off356 (v1434 : BitVec 32) : Fin 2 → Nat :=
  let v1435 : BitVec 32 := v1434
  let c0_i32_275 : BitVec 32 := 0#32
  ![v1435.toNat, 0]

def k0_chk88 (v1434 : BitVec 32) : Prop :=
  (16 ∣ (k0_mult89 v1434).toNat) ∧
  (∀ a, (k0_off356 v1434) a + S16x1024.size a ≤ S851968x1024.size a) ∧
  (∀ (hinb : ∀ a, (k0_off356 v1434) a + S16x1024.size a ≤ S851968x1024.size a), (Rect.unit (s := S851968x1024) (k0_off356 v1434) S16x1024.size hinb).WholeWords (EltTy.packing .bf16))
theorem k0_mult89_dvd : ∀ (v1434 : BitVec 32) (k0_hw88 : k0_chk88 v1434), 16 ∣ (k0_mult89 v1434).toNat := fun v1434 k0_hw88 => k0_hw88.1
theorem k0_off356_inb : ∀ (v1434 : BitVec 32) (k0_hw88 : k0_chk88 v1434), ∀ a, (k0_off356 v1434) a + S16x1024.size a ≤ S851968x1024.size a := fun v1434 k0_hw88 => k0_hw88.2.1
theorem k0_off356_wordsbf16 : ∀ (v1434 : BitVec 32) (k0_hw88 : k0_chk88 v1434), (Rect.unit (s := S851968x1024) (k0_off356 v1434) S16x1024.size (k0_off356_inb v1434 k0_hw88)).WholeWords (EltTy.packing .bf16) := fun v1434 k0_hw88 => k0_hw88.2.2 (k0_off356_inb v1434 k0_hw88)

def k0_off357 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c87_i32 : BitVec 32 := 87#32
  let v1441 : BitVec 32 := Scalar.addi v38 c87_i32
  let v1442 : Index := Scalar.indexCast v1441
  ![v1442.toNat]
def k0_mult90 (v1443 : BitVec 32) : BitVec 32 :=
  v1443

def k0_off358 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off359 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1392_i32 : BitVec 32 := 1392#32
  let c0_i32_276 : BitVec 32 := 0#32
  ![v2.toNat, 1392, 0]
def k0_off360 (v1443 : BitVec 32) : Fin 2 → Nat :=
  let v1444 : BitVec 32 := v1443
  let c0_i32_277 : BitVec 32 := 0#32
  ![v1444.toNat, 0]

def k0_chk89 (v1443 : BitVec 32) : Prop :=
  (16 ∣ (k0_mult90 v1443).toNat) ∧
  (∀ a, (k0_off360 v1443) a + S16x1024.size a ≤ S851968x1024.size a) ∧
  (∀ (hinb : ∀ a, (k0_off360 v1443) a + S16x1024.size a ≤ S851968x1024.size a), (Rect.unit (s := S851968x1024) (k0_off360 v1443) S16x1024.size hinb).WholeWords (EltTy.packing .bf16))
theorem k0_mult90_dvd : ∀ (v1443 : BitVec 32) (k0_hw89 : k0_chk89 v1443), 16 ∣ (k0_mult90 v1443).toNat := fun v1443 k0_hw89 => k0_hw89.1
theorem k0_off360_inb : ∀ (v1443 : BitVec 32) (k0_hw89 : k0_chk89 v1443), ∀ a, (k0_off360 v1443) a + S16x1024.size a ≤ S851968x1024.size a := fun v1443 k0_hw89 => k0_hw89.2.1
theorem k0_off360_wordsbf16 : ∀ (v1443 : BitVec 32) (k0_hw89 : k0_chk89 v1443), (Rect.unit (s := S851968x1024) (k0_off360 v1443) S16x1024.size (k0_off360_inb v1443 k0_hw89)).WholeWords (EltTy.packing .bf16) := fun v1443 k0_hw89 => k0_hw89.2.2 (k0_off360_inb v1443 k0_hw89)

def k0_off361 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c88_i32 : BitVec 32 := 88#32
  let v1450 : BitVec 32 := Scalar.addi v38 c88_i32
  let v1451 : Index := Scalar.indexCast v1450
  ![v1451.toNat]
def k0_mult91 (v1452 : BitVec 32) : BitVec 32 :=
  v1452

def k0_off362 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off363 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1408_i32 : BitVec 32 := 1408#32
  let c0_i32_278 : BitVec 32 := 0#32
  ![v2.toNat, 1408, 0]
def k0_off364 (v1452 : BitVec 32) : Fin 2 → Nat :=
  let v1453 : BitVec 32 := v1452
  let c0_i32_279 : BitVec 32 := 0#32
  ![v1453.toNat, 0]

def k0_chk90 (v1452 : BitVec 32) : Prop :=
  (16 ∣ (k0_mult91 v1452).toNat) ∧
  (∀ a, (k0_off364 v1452) a + S16x1024.size a ≤ S851968x1024.size a) ∧
  (∀ (hinb : ∀ a, (k0_off364 v1452) a + S16x1024.size a ≤ S851968x1024.size a), (Rect.unit (s := S851968x1024) (k0_off364 v1452) S16x1024.size hinb).WholeWords (EltTy.packing .bf16))
theorem k0_mult91_dvd : ∀ (v1452 : BitVec 32) (k0_hw90 : k0_chk90 v1452), 16 ∣ (k0_mult91 v1452).toNat := fun v1452 k0_hw90 => k0_hw90.1
theorem k0_off364_inb : ∀ (v1452 : BitVec 32) (k0_hw90 : k0_chk90 v1452), ∀ a, (k0_off364 v1452) a + S16x1024.size a ≤ S851968x1024.size a := fun v1452 k0_hw90 => k0_hw90.2.1
theorem k0_off364_wordsbf16 : ∀ (v1452 : BitVec 32) (k0_hw90 : k0_chk90 v1452), (Rect.unit (s := S851968x1024) (k0_off364 v1452) S16x1024.size (k0_off364_inb v1452 k0_hw90)).WholeWords (EltTy.packing .bf16) := fun v1452 k0_hw90 => k0_hw90.2.2 (k0_off364_inb v1452 k0_hw90)

def k0_off365 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c89_i32 : BitVec 32 := 89#32
  let v1459 : BitVec 32 := Scalar.addi v38 c89_i32
  let v1460 : Index := Scalar.indexCast v1459
  ![v1460.toNat]
def k0_mult92 (v1461 : BitVec 32) : BitVec 32 :=
  v1461

def k0_off366 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off367 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1424_i32 : BitVec 32 := 1424#32
  let c0_i32_280 : BitVec 32 := 0#32
  ![v2.toNat, 1424, 0]
def k0_off368 (v1461 : BitVec 32) : Fin 2 → Nat :=
  let v1462 : BitVec 32 := v1461
  let c0_i32_281 : BitVec 32 := 0#32
  ![v1462.toNat, 0]

def k0_chk91 (v1461 : BitVec 32) : Prop :=
  (16 ∣ (k0_mult92 v1461).toNat) ∧
  (∀ a, (k0_off368 v1461) a + S16x1024.size a ≤ S851968x1024.size a) ∧
  (∀ (hinb : ∀ a, (k0_off368 v1461) a + S16x1024.size a ≤ S851968x1024.size a), (Rect.unit (s := S851968x1024) (k0_off368 v1461) S16x1024.size hinb).WholeWords (EltTy.packing .bf16))
theorem k0_mult92_dvd : ∀ (v1461 : BitVec 32) (k0_hw91 : k0_chk91 v1461), 16 ∣ (k0_mult92 v1461).toNat := fun v1461 k0_hw91 => k0_hw91.1
theorem k0_off368_inb : ∀ (v1461 : BitVec 32) (k0_hw91 : k0_chk91 v1461), ∀ a, (k0_off368 v1461) a + S16x1024.size a ≤ S851968x1024.size a := fun v1461 k0_hw91 => k0_hw91.2.1
theorem k0_off368_wordsbf16 : ∀ (v1461 : BitVec 32) (k0_hw91 : k0_chk91 v1461), (Rect.unit (s := S851968x1024) (k0_off368 v1461) S16x1024.size (k0_off368_inb v1461 k0_hw91)).WholeWords (EltTy.packing .bf16) := fun v1461 k0_hw91 => k0_hw91.2.2 (k0_off368_inb v1461 k0_hw91)

def k0_off369 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c90_i32 : BitVec 32 := 90#32
  let v1468 : BitVec 32 := Scalar.addi v38 c90_i32
  let v1469 : Index := Scalar.indexCast v1468
  ![v1469.toNat]
def k0_mult93 (v1470 : BitVec 32) : BitVec 32 :=
  v1470

def k0_off370 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off371 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1440_i32 : BitVec 32 := 1440#32
  let c0_i32_282 : BitVec 32 := 0#32
  ![v2.toNat, 1440, 0]
def k0_off372 (v1470 : BitVec 32) : Fin 2 → Nat :=
  let v1471 : BitVec 32 := v1470
  let c0_i32_283 : BitVec 32 := 0#32
  ![v1471.toNat, 0]

def k0_chk92 (v1470 : BitVec 32) : Prop :=
  (16 ∣ (k0_mult93 v1470).toNat) ∧
  (∀ a, (k0_off372 v1470) a + S16x1024.size a ≤ S851968x1024.size a) ∧
  (∀ (hinb : ∀ a, (k0_off372 v1470) a + S16x1024.size a ≤ S851968x1024.size a), (Rect.unit (s := S851968x1024) (k0_off372 v1470) S16x1024.size hinb).WholeWords (EltTy.packing .bf16))
theorem k0_mult93_dvd : ∀ (v1470 : BitVec 32) (k0_hw92 : k0_chk92 v1470), 16 ∣ (k0_mult93 v1470).toNat := fun v1470 k0_hw92 => k0_hw92.1
theorem k0_off372_inb : ∀ (v1470 : BitVec 32) (k0_hw92 : k0_chk92 v1470), ∀ a, (k0_off372 v1470) a + S16x1024.size a ≤ S851968x1024.size a := fun v1470 k0_hw92 => k0_hw92.2.1
theorem k0_off372_wordsbf16 : ∀ (v1470 : BitVec 32) (k0_hw92 : k0_chk92 v1470), (Rect.unit (s := S851968x1024) (k0_off372 v1470) S16x1024.size (k0_off372_inb v1470 k0_hw92)).WholeWords (EltTy.packing .bf16) := fun v1470 k0_hw92 => k0_hw92.2.2 (k0_off372_inb v1470 k0_hw92)

def k0_off373 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c91_i32 : BitVec 32 := 91#32
  let v1477 : BitVec 32 := Scalar.addi v38 c91_i32
  let v1478 : Index := Scalar.indexCast v1477
  ![v1478.toNat]
def k0_mult94 (v1479 : BitVec 32) : BitVec 32 :=
  v1479

def k0_off374 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off375 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1456_i32 : BitVec 32 := 1456#32
  let c0_i32_284 : BitVec 32 := 0#32
  ![v2.toNat, 1456, 0]
def k0_off376 (v1479 : BitVec 32) : Fin 2 → Nat :=
  let v1480 : BitVec 32 := v1479
  let c0_i32_285 : BitVec 32 := 0#32
  ![v1480.toNat, 0]

def k0_chk93 (v1479 : BitVec 32) : Prop :=
  (16 ∣ (k0_mult94 v1479).toNat) ∧
  (∀ a, (k0_off376 v1479) a + S16x1024.size a ≤ S851968x1024.size a) ∧
  (∀ (hinb : ∀ a, (k0_off376 v1479) a + S16x1024.size a ≤ S851968x1024.size a), (Rect.unit (s := S851968x1024) (k0_off376 v1479) S16x1024.size hinb).WholeWords (EltTy.packing .bf16))
theorem k0_mult94_dvd : ∀ (v1479 : BitVec 32) (k0_hw93 : k0_chk93 v1479), 16 ∣ (k0_mult94 v1479).toNat := fun v1479 k0_hw93 => k0_hw93.1
theorem k0_off376_inb : ∀ (v1479 : BitVec 32) (k0_hw93 : k0_chk93 v1479), ∀ a, (k0_off376 v1479) a + S16x1024.size a ≤ S851968x1024.size a := fun v1479 k0_hw93 => k0_hw93.2.1
theorem k0_off376_wordsbf16 : ∀ (v1479 : BitVec 32) (k0_hw93 : k0_chk93 v1479), (Rect.unit (s := S851968x1024) (k0_off376 v1479) S16x1024.size (k0_off376_inb v1479 k0_hw93)).WholeWords (EltTy.packing .bf16) := fun v1479 k0_hw93 => k0_hw93.2.2 (k0_off376_inb v1479 k0_hw93)

def k0_off377 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c92_i32 : BitVec 32 := 92#32
  let v1486 : BitVec 32 := Scalar.addi v38 c92_i32
  let v1487 : Index := Scalar.indexCast v1486
  ![v1487.toNat]
def k0_mult95 (v1488 : BitVec 32) : BitVec 32 :=
  v1488

def k0_off378 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off379 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1472_i32 : BitVec 32 := 1472#32
  let c0_i32_286 : BitVec 32 := 0#32
  ![v2.toNat, 1472, 0]
def k0_off380 (v1488 : BitVec 32) : Fin 2 → Nat :=
  let v1489 : BitVec 32 := v1488
  let c0_i32_287 : BitVec 32 := 0#32
  ![v1489.toNat, 0]

def k0_chk94 (v1488 : BitVec 32) : Prop :=
  (16 ∣ (k0_mult95 v1488).toNat) ∧
  (∀ a, (k0_off380 v1488) a + S16x1024.size a ≤ S851968x1024.size a) ∧
  (∀ (hinb : ∀ a, (k0_off380 v1488) a + S16x1024.size a ≤ S851968x1024.size a), (Rect.unit (s := S851968x1024) (k0_off380 v1488) S16x1024.size hinb).WholeWords (EltTy.packing .bf16))
theorem k0_mult95_dvd : ∀ (v1488 : BitVec 32) (k0_hw94 : k0_chk94 v1488), 16 ∣ (k0_mult95 v1488).toNat := fun v1488 k0_hw94 => k0_hw94.1
theorem k0_off380_inb : ∀ (v1488 : BitVec 32) (k0_hw94 : k0_chk94 v1488), ∀ a, (k0_off380 v1488) a + S16x1024.size a ≤ S851968x1024.size a := fun v1488 k0_hw94 => k0_hw94.2.1
theorem k0_off380_wordsbf16 : ∀ (v1488 : BitVec 32) (k0_hw94 : k0_chk94 v1488), (Rect.unit (s := S851968x1024) (k0_off380 v1488) S16x1024.size (k0_off380_inb v1488 k0_hw94)).WholeWords (EltTy.packing .bf16) := fun v1488 k0_hw94 => k0_hw94.2.2 (k0_off380_inb v1488 k0_hw94)

def k0_off381 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c93_i32 : BitVec 32 := 93#32
  let v1495 : BitVec 32 := Scalar.addi v38 c93_i32
  let v1496 : Index := Scalar.indexCast v1495
  ![v1496.toNat]
def k0_mult96 (v1497 : BitVec 32) : BitVec 32 :=
  v1497

def k0_off382 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off383 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1488_i32 : BitVec 32 := 1488#32
  let c0_i32_288 : BitVec 32 := 0#32
  ![v2.toNat, 1488, 0]
def k0_off384 (v1497 : BitVec 32) : Fin 2 → Nat :=
  let v1498 : BitVec 32 := v1497
  let c0_i32_289 : BitVec 32 := 0#32
  ![v1498.toNat, 0]

def k0_chk95 (v1497 : BitVec 32) : Prop :=
  (16 ∣ (k0_mult96 v1497).toNat) ∧
  (∀ a, (k0_off384 v1497) a + S16x1024.size a ≤ S851968x1024.size a) ∧
  (∀ (hinb : ∀ a, (k0_off384 v1497) a + S16x1024.size a ≤ S851968x1024.size a), (Rect.unit (s := S851968x1024) (k0_off384 v1497) S16x1024.size hinb).WholeWords (EltTy.packing .bf16))
theorem k0_mult96_dvd : ∀ (v1497 : BitVec 32) (k0_hw95 : k0_chk95 v1497), 16 ∣ (k0_mult96 v1497).toNat := fun v1497 k0_hw95 => k0_hw95.1
theorem k0_off384_inb : ∀ (v1497 : BitVec 32) (k0_hw95 : k0_chk95 v1497), ∀ a, (k0_off384 v1497) a + S16x1024.size a ≤ S851968x1024.size a := fun v1497 k0_hw95 => k0_hw95.2.1
theorem k0_off384_wordsbf16 : ∀ (v1497 : BitVec 32) (k0_hw95 : k0_chk95 v1497), (Rect.unit (s := S851968x1024) (k0_off384 v1497) S16x1024.size (k0_off384_inb v1497 k0_hw95)).WholeWords (EltTy.packing .bf16) := fun v1497 k0_hw95 => k0_hw95.2.2 (k0_off384_inb v1497 k0_hw95)

def k0_off385 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c94_i32 : BitVec 32 := 94#32
  let v1504 : BitVec 32 := Scalar.addi v38 c94_i32
  let v1505 : Index := Scalar.indexCast v1504
  ![v1505.toNat]
def k0_mult97 (v1506 : BitVec 32) : BitVec 32 :=
  v1506

def k0_off386 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off387 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1504_i32 : BitVec 32 := 1504#32
  let c0_i32_290 : BitVec 32 := 0#32
  ![v2.toNat, 1504, 0]
def k0_off388 (v1506 : BitVec 32) : Fin 2 → Nat :=
  let v1507 : BitVec 32 := v1506
  let c0_i32_291 : BitVec 32 := 0#32
  ![v1507.toNat, 0]

def k0_chk96 (v1506 : BitVec 32) : Prop :=
  (16 ∣ (k0_mult97 v1506).toNat) ∧
  (∀ a, (k0_off388 v1506) a + S16x1024.size a ≤ S851968x1024.size a) ∧
  (∀ (hinb : ∀ a, (k0_off388 v1506) a + S16x1024.size a ≤ S851968x1024.size a), (Rect.unit (s := S851968x1024) (k0_off388 v1506) S16x1024.size hinb).WholeWords (EltTy.packing .bf16))
theorem k0_mult97_dvd : ∀ (v1506 : BitVec 32) (k0_hw96 : k0_chk96 v1506), 16 ∣ (k0_mult97 v1506).toNat := fun v1506 k0_hw96 => k0_hw96.1
theorem k0_off388_inb : ∀ (v1506 : BitVec 32) (k0_hw96 : k0_chk96 v1506), ∀ a, (k0_off388 v1506) a + S16x1024.size a ≤ S851968x1024.size a := fun v1506 k0_hw96 => k0_hw96.2.1
theorem k0_off388_wordsbf16 : ∀ (v1506 : BitVec 32) (k0_hw96 : k0_chk96 v1506), (Rect.unit (s := S851968x1024) (k0_off388 v1506) S16x1024.size (k0_off388_inb v1506 k0_hw96)).WholeWords (EltTy.packing .bf16) := fun v1506 k0_hw96 => k0_hw96.2.2 (k0_off388_inb v1506 k0_hw96)

def k0_off389 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c95_i32 : BitVec 32 := 95#32
  let v1513 : BitVec 32 := Scalar.addi v38 c95_i32
  let v1514 : Index := Scalar.indexCast v1513
  ![v1514.toNat]
def k0_mult98 (v1515 : BitVec 32) : BitVec 32 :=
  v1515

def k0_off390 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off391 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1520_i32 : BitVec 32 := 1520#32
  let c0_i32_292 : BitVec 32 := 0#32
  ![v2.toNat, 1520, 0]
def k0_off392 (v1515 : BitVec 32) : Fin 2 → Nat :=
  let v1516 : BitVec 32 := v1515
  let c0_i32_293 : BitVec 32 := 0#32
  ![v1516.toNat, 0]

def k0_chk97 (v1515 : BitVec 32) : Prop :=
  (16 ∣ (k0_mult98 v1515).toNat) ∧
  (∀ a, (k0_off392 v1515) a + S16x1024.size a ≤ S851968x1024.size a) ∧
  (∀ (hinb : ∀ a, (k0_off392 v1515) a + S16x1024.size a ≤ S851968x1024.size a), (Rect.unit (s := S851968x1024) (k0_off392 v1515) S16x1024.size hinb).WholeWords (EltTy.packing .bf16))
theorem k0_mult98_dvd : ∀ (v1515 : BitVec 32) (k0_hw97 : k0_chk97 v1515), 16 ∣ (k0_mult98 v1515).toNat := fun v1515 k0_hw97 => k0_hw97.1
theorem k0_off392_inb : ∀ (v1515 : BitVec 32) (k0_hw97 : k0_chk97 v1515), ∀ a, (k0_off392 v1515) a + S16x1024.size a ≤ S851968x1024.size a := fun v1515 k0_hw97 => k0_hw97.2.1
theorem k0_off392_wordsbf16 : ∀ (v1515 : BitVec 32) (k0_hw97 : k0_chk97 v1515), (Rect.unit (s := S851968x1024) (k0_off392 v1515) S16x1024.size (k0_off392_inb v1515 k0_hw97)).WholeWords (EltTy.packing .bf16) := fun v1515 k0_hw97 => k0_hw97.2.2 (k0_off392_inb v1515 k0_hw97)

def k0_off393 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c96_i32_294 : BitVec 32 := 96#32
  let v1522 : BitVec 32 := Scalar.addi v38 c96_i32_294
  let v1523 : Index := Scalar.indexCast v1522
  ![v1523.toNat]
def k0_mult99 (v1524 : BitVec 32) : BitVec 32 :=
  v1524

def k0_off394 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off395 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1536_i32 : BitVec 32 := 1536#32
  let c0_i32_295 : BitVec 32 := 0#32
  ![v2.toNat, 1536, 0]
def k0_off396 (v1524 : BitVec 32) : Fin 2 → Nat :=
  let v1525 : BitVec 32 := v1524
  let c0_i32_296 : BitVec 32 := 0#32
  ![v1525.toNat, 0]

def k0_chk98 (v1524 : BitVec 32) : Prop :=
  (16 ∣ (k0_mult99 v1524).toNat) ∧
  (∀ a, (k0_off396 v1524) a + S16x1024.size a ≤ S851968x1024.size a) ∧
  (∀ (hinb : ∀ a, (k0_off396 v1524) a + S16x1024.size a ≤ S851968x1024.size a), (Rect.unit (s := S851968x1024) (k0_off396 v1524) S16x1024.size hinb).WholeWords (EltTy.packing .bf16))
theorem k0_mult99_dvd : ∀ (v1524 : BitVec 32) (k0_hw98 : k0_chk98 v1524), 16 ∣ (k0_mult99 v1524).toNat := fun v1524 k0_hw98 => k0_hw98.1
theorem k0_off396_inb : ∀ (v1524 : BitVec 32) (k0_hw98 : k0_chk98 v1524), ∀ a, (k0_off396 v1524) a + S16x1024.size a ≤ S851968x1024.size a := fun v1524 k0_hw98 => k0_hw98.2.1
theorem k0_off396_wordsbf16 : ∀ (v1524 : BitVec 32) (k0_hw98 : k0_chk98 v1524), (Rect.unit (s := S851968x1024) (k0_off396 v1524) S16x1024.size (k0_off396_inb v1524 k0_hw98)).WholeWords (EltTy.packing .bf16) := fun v1524 k0_hw98 => k0_hw98.2.2 (k0_off396_inb v1524 k0_hw98)

def k0_off397 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c97_i32 : BitVec 32 := 97#32
  let v1531 : BitVec 32 := Scalar.addi v38 c97_i32
  let v1532 : Index := Scalar.indexCast v1531
  ![v1532.toNat]
def k0_mult100 (v1533 : BitVec 32) : BitVec 32 :=
  v1533

def k0_off398 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off399 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1552_i32 : BitVec 32 := 1552#32
  let c0_i32_297 : BitVec 32 := 0#32
  ![v2.toNat, 1552, 0]
def k0_off400 (v1533 : BitVec 32) : Fin 2 → Nat :=
  let v1534 : BitVec 32 := v1533
  let c0_i32_298 : BitVec 32 := 0#32
  ![v1534.toNat, 0]

def k0_chk99 (v1533 : BitVec 32) : Prop :=
  (16 ∣ (k0_mult100 v1533).toNat) ∧
  (∀ a, (k0_off400 v1533) a + S16x1024.size a ≤ S851968x1024.size a) ∧
  (∀ (hinb : ∀ a, (k0_off400 v1533) a + S16x1024.size a ≤ S851968x1024.size a), (Rect.unit (s := S851968x1024) (k0_off400 v1533) S16x1024.size hinb).WholeWords (EltTy.packing .bf16))
theorem k0_mult100_dvd : ∀ (v1533 : BitVec 32) (k0_hw99 : k0_chk99 v1533), 16 ∣ (k0_mult100 v1533).toNat := fun v1533 k0_hw99 => k0_hw99.1
theorem k0_off400_inb : ∀ (v1533 : BitVec 32) (k0_hw99 : k0_chk99 v1533), ∀ a, (k0_off400 v1533) a + S16x1024.size a ≤ S851968x1024.size a := fun v1533 k0_hw99 => k0_hw99.2.1
theorem k0_off400_wordsbf16 : ∀ (v1533 : BitVec 32) (k0_hw99 : k0_chk99 v1533), (Rect.unit (s := S851968x1024) (k0_off400 v1533) S16x1024.size (k0_off400_inb v1533 k0_hw99)).WholeWords (EltTy.packing .bf16) := fun v1533 k0_hw99 => k0_hw99.2.2 (k0_off400_inb v1533 k0_hw99)

def k0_off401 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c98_i32 : BitVec 32 := 98#32
  let v1540 : BitVec 32 := Scalar.addi v38 c98_i32
  let v1541 : Index := Scalar.indexCast v1540
  ![v1541.toNat]
def k0_mult101 (v1542 : BitVec 32) : BitVec 32 :=
  v1542

def k0_off402 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off403 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1568_i32 : BitVec 32 := 1568#32
  let c0_i32_299 : BitVec 32 := 0#32
  ![v2.toNat, 1568, 0]
def k0_off404 (v1542 : BitVec 32) : Fin 2 → Nat :=
  let v1543 : BitVec 32 := v1542
  let c0_i32_300 : BitVec 32 := 0#32
  ![v1543.toNat, 0]

def k0_chk100 (v1542 : BitVec 32) : Prop :=
  (16 ∣ (k0_mult101 v1542).toNat) ∧
  (∀ a, (k0_off404 v1542) a + S16x1024.size a ≤ S851968x1024.size a) ∧
  (∀ (hinb : ∀ a, (k0_off404 v1542) a + S16x1024.size a ≤ S851968x1024.size a), (Rect.unit (s := S851968x1024) (k0_off404 v1542) S16x1024.size hinb).WholeWords (EltTy.packing .bf16))
theorem k0_mult101_dvd : ∀ (v1542 : BitVec 32) (k0_hw100 : k0_chk100 v1542), 16 ∣ (k0_mult101 v1542).toNat := fun v1542 k0_hw100 => k0_hw100.1
theorem k0_off404_inb : ∀ (v1542 : BitVec 32) (k0_hw100 : k0_chk100 v1542), ∀ a, (k0_off404 v1542) a + S16x1024.size a ≤ S851968x1024.size a := fun v1542 k0_hw100 => k0_hw100.2.1
theorem k0_off404_wordsbf16 : ∀ (v1542 : BitVec 32) (k0_hw100 : k0_chk100 v1542), (Rect.unit (s := S851968x1024) (k0_off404 v1542) S16x1024.size (k0_off404_inb v1542 k0_hw100)).WholeWords (EltTy.packing .bf16) := fun v1542 k0_hw100 => k0_hw100.2.2 (k0_off404_inb v1542 k0_hw100)

def k0_off405 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c99_i32 : BitVec 32 := 99#32
  let v1549 : BitVec 32 := Scalar.addi v38 c99_i32
  let v1550 : Index := Scalar.indexCast v1549
  ![v1550.toNat]
def k0_mult102 (v1551 : BitVec 32) : BitVec 32 :=
  v1551

def k0_off406 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off407 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1584_i32 : BitVec 32 := 1584#32
  let c0_i32_301 : BitVec 32 := 0#32
  ![v2.toNat, 1584, 0]
def k0_off408 (v1551 : BitVec 32) : Fin 2 → Nat :=
  let v1552 : BitVec 32 := v1551
  let c0_i32_302 : BitVec 32 := 0#32
  ![v1552.toNat, 0]

def k0_chk101 (v1551 : BitVec 32) : Prop :=
  (16 ∣ (k0_mult102 v1551).toNat) ∧
  (∀ a, (k0_off408 v1551) a + S16x1024.size a ≤ S851968x1024.size a) ∧
  (∀ (hinb : ∀ a, (k0_off408 v1551) a + S16x1024.size a ≤ S851968x1024.size a), (Rect.unit (s := S851968x1024) (k0_off408 v1551) S16x1024.size hinb).WholeWords (EltTy.packing .bf16))
theorem k0_mult102_dvd : ∀ (v1551 : BitVec 32) (k0_hw101 : k0_chk101 v1551), 16 ∣ (k0_mult102 v1551).toNat := fun v1551 k0_hw101 => k0_hw101.1
theorem k0_off408_inb : ∀ (v1551 : BitVec 32) (k0_hw101 : k0_chk101 v1551), ∀ a, (k0_off408 v1551) a + S16x1024.size a ≤ S851968x1024.size a := fun v1551 k0_hw101 => k0_hw101.2.1
theorem k0_off408_wordsbf16 : ∀ (v1551 : BitVec 32) (k0_hw101 : k0_chk101 v1551), (Rect.unit (s := S851968x1024) (k0_off408 v1551) S16x1024.size (k0_off408_inb v1551 k0_hw101)).WholeWords (EltTy.packing .bf16) := fun v1551 k0_hw101 => k0_hw101.2.2 (k0_off408_inb v1551 k0_hw101)

def k0_off409 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c100_i32 : BitVec 32 := 100#32
  let v1558 : BitVec 32 := Scalar.addi v38 c100_i32
  let v1559 : Index := Scalar.indexCast v1558
  ![v1559.toNat]
def k0_mult103 (v1560 : BitVec 32) : BitVec 32 :=
  v1560

def k0_off410 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off411 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1600_i32 : BitVec 32 := 1600#32
  let c0_i32_303 : BitVec 32 := 0#32
  ![v2.toNat, 1600, 0]
def k0_off412 (v1560 : BitVec 32) : Fin 2 → Nat :=
  let v1561 : BitVec 32 := v1560
  let c0_i32_304 : BitVec 32 := 0#32
  ![v1561.toNat, 0]

def k0_chk102 (v1560 : BitVec 32) : Prop :=
  (16 ∣ (k0_mult103 v1560).toNat) ∧
  (∀ a, (k0_off412 v1560) a + S16x1024.size a ≤ S851968x1024.size a) ∧
  (∀ (hinb : ∀ a, (k0_off412 v1560) a + S16x1024.size a ≤ S851968x1024.size a), (Rect.unit (s := S851968x1024) (k0_off412 v1560) S16x1024.size hinb).WholeWords (EltTy.packing .bf16))
theorem k0_mult103_dvd : ∀ (v1560 : BitVec 32) (k0_hw102 : k0_chk102 v1560), 16 ∣ (k0_mult103 v1560).toNat := fun v1560 k0_hw102 => k0_hw102.1
theorem k0_off412_inb : ∀ (v1560 : BitVec 32) (k0_hw102 : k0_chk102 v1560), ∀ a, (k0_off412 v1560) a + S16x1024.size a ≤ S851968x1024.size a := fun v1560 k0_hw102 => k0_hw102.2.1
theorem k0_off412_wordsbf16 : ∀ (v1560 : BitVec 32) (k0_hw102 : k0_chk102 v1560), (Rect.unit (s := S851968x1024) (k0_off412 v1560) S16x1024.size (k0_off412_inb v1560 k0_hw102)).WholeWords (EltTy.packing .bf16) := fun v1560 k0_hw102 => k0_hw102.2.2 (k0_off412_inb v1560 k0_hw102)

def k0_off413 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c101_i32 : BitVec 32 := 101#32
  let v1567 : BitVec 32 := Scalar.addi v38 c101_i32
  let v1568 : Index := Scalar.indexCast v1567
  ![v1568.toNat]
def k0_mult104 (v1569 : BitVec 32) : BitVec 32 :=
  v1569

def k0_off414 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off415 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1616_i32 : BitVec 32 := 1616#32
  let c0_i32_305 : BitVec 32 := 0#32
  ![v2.toNat, 1616, 0]
def k0_off416 (v1569 : BitVec 32) : Fin 2 → Nat :=
  let v1570 : BitVec 32 := v1569
  let c0_i32_306 : BitVec 32 := 0#32
  ![v1570.toNat, 0]

def k0_chk103 (v1569 : BitVec 32) : Prop :=
  (16 ∣ (k0_mult104 v1569).toNat) ∧
  (∀ a, (k0_off416 v1569) a + S16x1024.size a ≤ S851968x1024.size a) ∧
  (∀ (hinb : ∀ a, (k0_off416 v1569) a + S16x1024.size a ≤ S851968x1024.size a), (Rect.unit (s := S851968x1024) (k0_off416 v1569) S16x1024.size hinb).WholeWords (EltTy.packing .bf16))
theorem k0_mult104_dvd : ∀ (v1569 : BitVec 32) (k0_hw103 : k0_chk103 v1569), 16 ∣ (k0_mult104 v1569).toNat := fun v1569 k0_hw103 => k0_hw103.1
theorem k0_off416_inb : ∀ (v1569 : BitVec 32) (k0_hw103 : k0_chk103 v1569), ∀ a, (k0_off416 v1569) a + S16x1024.size a ≤ S851968x1024.size a := fun v1569 k0_hw103 => k0_hw103.2.1
theorem k0_off416_wordsbf16 : ∀ (v1569 : BitVec 32) (k0_hw103 : k0_chk103 v1569), (Rect.unit (s := S851968x1024) (k0_off416 v1569) S16x1024.size (k0_off416_inb v1569 k0_hw103)).WholeWords (EltTy.packing .bf16) := fun v1569 k0_hw103 => k0_hw103.2.2 (k0_off416_inb v1569 k0_hw103)

def k0_off417 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c102_i32 : BitVec 32 := 102#32
  let v1576 : BitVec 32 := Scalar.addi v38 c102_i32
  let v1577 : Index := Scalar.indexCast v1576
  ![v1577.toNat]
def k0_mult105 (v1578 : BitVec 32) : BitVec 32 :=
  v1578

def k0_off418 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off419 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1632_i32 : BitVec 32 := 1632#32
  let c0_i32_307 : BitVec 32 := 0#32
  ![v2.toNat, 1632, 0]
def k0_off420 (v1578 : BitVec 32) : Fin 2 → Nat :=
  let v1579 : BitVec 32 := v1578
  let c0_i32_308 : BitVec 32 := 0#32
  ![v1579.toNat, 0]

def k0_chk104 (v1578 : BitVec 32) : Prop :=
  (16 ∣ (k0_mult105 v1578).toNat) ∧
  (∀ a, (k0_off420 v1578) a + S16x1024.size a ≤ S851968x1024.size a) ∧
  (∀ (hinb : ∀ a, (k0_off420 v1578) a + S16x1024.size a ≤ S851968x1024.size a), (Rect.unit (s := S851968x1024) (k0_off420 v1578) S16x1024.size hinb).WholeWords (EltTy.packing .bf16))
theorem k0_mult105_dvd : ∀ (v1578 : BitVec 32) (k0_hw104 : k0_chk104 v1578), 16 ∣ (k0_mult105 v1578).toNat := fun v1578 k0_hw104 => k0_hw104.1
theorem k0_off420_inb : ∀ (v1578 : BitVec 32) (k0_hw104 : k0_chk104 v1578), ∀ a, (k0_off420 v1578) a + S16x1024.size a ≤ S851968x1024.size a := fun v1578 k0_hw104 => k0_hw104.2.1
theorem k0_off420_wordsbf16 : ∀ (v1578 : BitVec 32) (k0_hw104 : k0_chk104 v1578), (Rect.unit (s := S851968x1024) (k0_off420 v1578) S16x1024.size (k0_off420_inb v1578 k0_hw104)).WholeWords (EltTy.packing .bf16) := fun v1578 k0_hw104 => k0_hw104.2.2 (k0_off420_inb v1578 k0_hw104)

def k0_off421 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c103_i32 : BitVec 32 := 103#32
  let v1585 : BitVec 32 := Scalar.addi v38 c103_i32
  let v1586 : Index := Scalar.indexCast v1585
  ![v1586.toNat]
def k0_mult106 (v1587 : BitVec 32) : BitVec 32 :=
  v1587

def k0_off422 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off423 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1648_i32 : BitVec 32 := 1648#32
  let c0_i32_309 : BitVec 32 := 0#32
  ![v2.toNat, 1648, 0]
def k0_off424 (v1587 : BitVec 32) : Fin 2 → Nat :=
  let v1588 : BitVec 32 := v1587
  let c0_i32_310 : BitVec 32 := 0#32
  ![v1588.toNat, 0]

def k0_chk105 (v1587 : BitVec 32) : Prop :=
  (16 ∣ (k0_mult106 v1587).toNat) ∧
  (∀ a, (k0_off424 v1587) a + S16x1024.size a ≤ S851968x1024.size a) ∧
  (∀ (hinb : ∀ a, (k0_off424 v1587) a + S16x1024.size a ≤ S851968x1024.size a), (Rect.unit (s := S851968x1024) (k0_off424 v1587) S16x1024.size hinb).WholeWords (EltTy.packing .bf16))
theorem k0_mult106_dvd : ∀ (v1587 : BitVec 32) (k0_hw105 : k0_chk105 v1587), 16 ∣ (k0_mult106 v1587).toNat := fun v1587 k0_hw105 => k0_hw105.1
theorem k0_off424_inb : ∀ (v1587 : BitVec 32) (k0_hw105 : k0_chk105 v1587), ∀ a, (k0_off424 v1587) a + S16x1024.size a ≤ S851968x1024.size a := fun v1587 k0_hw105 => k0_hw105.2.1
theorem k0_off424_wordsbf16 : ∀ (v1587 : BitVec 32) (k0_hw105 : k0_chk105 v1587), (Rect.unit (s := S851968x1024) (k0_off424 v1587) S16x1024.size (k0_off424_inb v1587 k0_hw105)).WholeWords (EltTy.packing .bf16) := fun v1587 k0_hw105 => k0_hw105.2.2 (k0_off424_inb v1587 k0_hw105)

def k0_off425 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c104_i32 : BitVec 32 := 104#32
  let v1594 : BitVec 32 := Scalar.addi v38 c104_i32
  let v1595 : Index := Scalar.indexCast v1594
  ![v1595.toNat]
def k0_mult107 (v1596 : BitVec 32) : BitVec 32 :=
  v1596

def k0_off426 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off427 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1664_i32 : BitVec 32 := 1664#32
  let c0_i32_311 : BitVec 32 := 0#32
  ![v2.toNat, 1664, 0]
def k0_off428 (v1596 : BitVec 32) : Fin 2 → Nat :=
  let v1597 : BitVec 32 := v1596
  let c0_i32_312 : BitVec 32 := 0#32
  ![v1597.toNat, 0]

def k0_chk106 (v1596 : BitVec 32) : Prop :=
  (16 ∣ (k0_mult107 v1596).toNat) ∧
  (∀ a, (k0_off428 v1596) a + S16x1024.size a ≤ S851968x1024.size a) ∧
  (∀ (hinb : ∀ a, (k0_off428 v1596) a + S16x1024.size a ≤ S851968x1024.size a), (Rect.unit (s := S851968x1024) (k0_off428 v1596) S16x1024.size hinb).WholeWords (EltTy.packing .bf16))
theorem k0_mult107_dvd : ∀ (v1596 : BitVec 32) (k0_hw106 : k0_chk106 v1596), 16 ∣ (k0_mult107 v1596).toNat := fun v1596 k0_hw106 => k0_hw106.1
theorem k0_off428_inb : ∀ (v1596 : BitVec 32) (k0_hw106 : k0_chk106 v1596), ∀ a, (k0_off428 v1596) a + S16x1024.size a ≤ S851968x1024.size a := fun v1596 k0_hw106 => k0_hw106.2.1
theorem k0_off428_wordsbf16 : ∀ (v1596 : BitVec 32) (k0_hw106 : k0_chk106 v1596), (Rect.unit (s := S851968x1024) (k0_off428 v1596) S16x1024.size (k0_off428_inb v1596 k0_hw106)).WholeWords (EltTy.packing .bf16) := fun v1596 k0_hw106 => k0_hw106.2.2 (k0_off428_inb v1596 k0_hw106)

def k0_off429 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c105_i32 : BitVec 32 := 105#32
  let v1603 : BitVec 32 := Scalar.addi v38 c105_i32
  let v1604 : Index := Scalar.indexCast v1603
  ![v1604.toNat]
def k0_mult108 (v1605 : BitVec 32) : BitVec 32 :=
  v1605

def k0_off430 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off431 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1680_i32 : BitVec 32 := 1680#32
  let c0_i32_313 : BitVec 32 := 0#32
  ![v2.toNat, 1680, 0]
def k0_off432 (v1605 : BitVec 32) : Fin 2 → Nat :=
  let v1606 : BitVec 32 := v1605
  let c0_i32_314 : BitVec 32 := 0#32
  ![v1606.toNat, 0]

def k0_chk107 (v1605 : BitVec 32) : Prop :=
  (16 ∣ (k0_mult108 v1605).toNat) ∧
  (∀ a, (k0_off432 v1605) a + S16x1024.size a ≤ S851968x1024.size a) ∧
  (∀ (hinb : ∀ a, (k0_off432 v1605) a + S16x1024.size a ≤ S851968x1024.size a), (Rect.unit (s := S851968x1024) (k0_off432 v1605) S16x1024.size hinb).WholeWords (EltTy.packing .bf16))
theorem k0_mult108_dvd : ∀ (v1605 : BitVec 32) (k0_hw107 : k0_chk107 v1605), 16 ∣ (k0_mult108 v1605).toNat := fun v1605 k0_hw107 => k0_hw107.1
theorem k0_off432_inb : ∀ (v1605 : BitVec 32) (k0_hw107 : k0_chk107 v1605), ∀ a, (k0_off432 v1605) a + S16x1024.size a ≤ S851968x1024.size a := fun v1605 k0_hw107 => k0_hw107.2.1
theorem k0_off432_wordsbf16 : ∀ (v1605 : BitVec 32) (k0_hw107 : k0_chk107 v1605), (Rect.unit (s := S851968x1024) (k0_off432 v1605) S16x1024.size (k0_off432_inb v1605 k0_hw107)).WholeWords (EltTy.packing .bf16) := fun v1605 k0_hw107 => k0_hw107.2.2 (k0_off432_inb v1605 k0_hw107)

def k0_off433 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c106_i32 : BitVec 32 := 106#32
  let v1612 : BitVec 32 := Scalar.addi v38 c106_i32
  let v1613 : Index := Scalar.indexCast v1612
  ![v1613.toNat]
def k0_mult109 (v1614 : BitVec 32) : BitVec 32 :=
  v1614

def k0_off434 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off435 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1696_i32 : BitVec 32 := 1696#32
  let c0_i32_315 : BitVec 32 := 0#32
  ![v2.toNat, 1696, 0]
def k0_off436 (v1614 : BitVec 32) : Fin 2 → Nat :=
  let v1615 : BitVec 32 := v1614
  let c0_i32_316 : BitVec 32 := 0#32
  ![v1615.toNat, 0]

def k0_chk108 (v1614 : BitVec 32) : Prop :=
  (16 ∣ (k0_mult109 v1614).toNat) ∧
  (∀ a, (k0_off436 v1614) a + S16x1024.size a ≤ S851968x1024.size a) ∧
  (∀ (hinb : ∀ a, (k0_off436 v1614) a + S16x1024.size a ≤ S851968x1024.size a), (Rect.unit (s := S851968x1024) (k0_off436 v1614) S16x1024.size hinb).WholeWords (EltTy.packing .bf16))
theorem k0_mult109_dvd : ∀ (v1614 : BitVec 32) (k0_hw108 : k0_chk108 v1614), 16 ∣ (k0_mult109 v1614).toNat := fun v1614 k0_hw108 => k0_hw108.1
theorem k0_off436_inb : ∀ (v1614 : BitVec 32) (k0_hw108 : k0_chk108 v1614), ∀ a, (k0_off436 v1614) a + S16x1024.size a ≤ S851968x1024.size a := fun v1614 k0_hw108 => k0_hw108.2.1
theorem k0_off436_wordsbf16 : ∀ (v1614 : BitVec 32) (k0_hw108 : k0_chk108 v1614), (Rect.unit (s := S851968x1024) (k0_off436 v1614) S16x1024.size (k0_off436_inb v1614 k0_hw108)).WholeWords (EltTy.packing .bf16) := fun v1614 k0_hw108 => k0_hw108.2.2 (k0_off436_inb v1614 k0_hw108)

def k0_off437 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c107_i32 : BitVec 32 := 107#32
  let v1621 : BitVec 32 := Scalar.addi v38 c107_i32
  let v1622 : Index := Scalar.indexCast v1621
  ![v1622.toNat]
def k0_mult110 (v1623 : BitVec 32) : BitVec 32 :=
  v1623

def k0_off438 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off439 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1712_i32 : BitVec 32 := 1712#32
  let c0_i32_317 : BitVec 32 := 0#32
  ![v2.toNat, 1712, 0]
def k0_off440 (v1623 : BitVec 32) : Fin 2 → Nat :=
  let v1624 : BitVec 32 := v1623
  let c0_i32_318 : BitVec 32 := 0#32
  ![v1624.toNat, 0]

def k0_chk109 (v1623 : BitVec 32) : Prop :=
  (16 ∣ (k0_mult110 v1623).toNat) ∧
  (∀ a, (k0_off440 v1623) a + S16x1024.size a ≤ S851968x1024.size a) ∧
  (∀ (hinb : ∀ a, (k0_off440 v1623) a + S16x1024.size a ≤ S851968x1024.size a), (Rect.unit (s := S851968x1024) (k0_off440 v1623) S16x1024.size hinb).WholeWords (EltTy.packing .bf16))
theorem k0_mult110_dvd : ∀ (v1623 : BitVec 32) (k0_hw109 : k0_chk109 v1623), 16 ∣ (k0_mult110 v1623).toNat := fun v1623 k0_hw109 => k0_hw109.1
theorem k0_off440_inb : ∀ (v1623 : BitVec 32) (k0_hw109 : k0_chk109 v1623), ∀ a, (k0_off440 v1623) a + S16x1024.size a ≤ S851968x1024.size a := fun v1623 k0_hw109 => k0_hw109.2.1
theorem k0_off440_wordsbf16 : ∀ (v1623 : BitVec 32) (k0_hw109 : k0_chk109 v1623), (Rect.unit (s := S851968x1024) (k0_off440 v1623) S16x1024.size (k0_off440_inb v1623 k0_hw109)).WholeWords (EltTy.packing .bf16) := fun v1623 k0_hw109 => k0_hw109.2.2 (k0_off440_inb v1623 k0_hw109)

def k0_off441 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c108_i32 : BitVec 32 := 108#32
  let v1630 : BitVec 32 := Scalar.addi v38 c108_i32
  let v1631 : Index := Scalar.indexCast v1630
  ![v1631.toNat]
def k0_mult111 (v1632 : BitVec 32) : BitVec 32 :=
  v1632

def k0_off442 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off443 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1728_i32 : BitVec 32 := 1728#32
  let c0_i32_319 : BitVec 32 := 0#32
  ![v2.toNat, 1728, 0]
def k0_off444 (v1632 : BitVec 32) : Fin 2 → Nat :=
  let v1633 : BitVec 32 := v1632
  let c0_i32_320 : BitVec 32 := 0#32
  ![v1633.toNat, 0]

def k0_chk110 (v1632 : BitVec 32) : Prop :=
  (16 ∣ (k0_mult111 v1632).toNat) ∧
  (∀ a, (k0_off444 v1632) a + S16x1024.size a ≤ S851968x1024.size a) ∧
  (∀ (hinb : ∀ a, (k0_off444 v1632) a + S16x1024.size a ≤ S851968x1024.size a), (Rect.unit (s := S851968x1024) (k0_off444 v1632) S16x1024.size hinb).WholeWords (EltTy.packing .bf16))
theorem k0_mult111_dvd : ∀ (v1632 : BitVec 32) (k0_hw110 : k0_chk110 v1632), 16 ∣ (k0_mult111 v1632).toNat := fun v1632 k0_hw110 => k0_hw110.1
theorem k0_off444_inb : ∀ (v1632 : BitVec 32) (k0_hw110 : k0_chk110 v1632), ∀ a, (k0_off444 v1632) a + S16x1024.size a ≤ S851968x1024.size a := fun v1632 k0_hw110 => k0_hw110.2.1
theorem k0_off444_wordsbf16 : ∀ (v1632 : BitVec 32) (k0_hw110 : k0_chk110 v1632), (Rect.unit (s := S851968x1024) (k0_off444 v1632) S16x1024.size (k0_off444_inb v1632 k0_hw110)).WholeWords (EltTy.packing .bf16) := fun v1632 k0_hw110 => k0_hw110.2.2 (k0_off444_inb v1632 k0_hw110)

def k0_off445 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c109_i32 : BitVec 32 := 109#32
  let v1639 : BitVec 32 := Scalar.addi v38 c109_i32
  let v1640 : Index := Scalar.indexCast v1639
  ![v1640.toNat]
def k0_mult112 (v1641 : BitVec 32) : BitVec 32 :=
  v1641

def k0_off446 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off447 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1744_i32 : BitVec 32 := 1744#32
  let c0_i32_321 : BitVec 32 := 0#32
  ![v2.toNat, 1744, 0]
def k0_off448 (v1641 : BitVec 32) : Fin 2 → Nat :=
  let v1642 : BitVec 32 := v1641
  let c0_i32_322 : BitVec 32 := 0#32
  ![v1642.toNat, 0]

def k0_chk111 (v1641 : BitVec 32) : Prop :=
  (16 ∣ (k0_mult112 v1641).toNat) ∧
  (∀ a, (k0_off448 v1641) a + S16x1024.size a ≤ S851968x1024.size a) ∧
  (∀ (hinb : ∀ a, (k0_off448 v1641) a + S16x1024.size a ≤ S851968x1024.size a), (Rect.unit (s := S851968x1024) (k0_off448 v1641) S16x1024.size hinb).WholeWords (EltTy.packing .bf16))
theorem k0_mult112_dvd : ∀ (v1641 : BitVec 32) (k0_hw111 : k0_chk111 v1641), 16 ∣ (k0_mult112 v1641).toNat := fun v1641 k0_hw111 => k0_hw111.1
theorem k0_off448_inb : ∀ (v1641 : BitVec 32) (k0_hw111 : k0_chk111 v1641), ∀ a, (k0_off448 v1641) a + S16x1024.size a ≤ S851968x1024.size a := fun v1641 k0_hw111 => k0_hw111.2.1
theorem k0_off448_wordsbf16 : ∀ (v1641 : BitVec 32) (k0_hw111 : k0_chk111 v1641), (Rect.unit (s := S851968x1024) (k0_off448 v1641) S16x1024.size (k0_off448_inb v1641 k0_hw111)).WholeWords (EltTy.packing .bf16) := fun v1641 k0_hw111 => k0_hw111.2.2 (k0_off448_inb v1641 k0_hw111)

def k0_off449 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c110_i32 : BitVec 32 := 110#32
  let v1648 : BitVec 32 := Scalar.addi v38 c110_i32
  let v1649 : Index := Scalar.indexCast v1648
  ![v1649.toNat]
def k0_mult113 (v1650 : BitVec 32) : BitVec 32 :=
  v1650

def k0_off450 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off451 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1760_i32 : BitVec 32 := 1760#32
  let c0_i32_323 : BitVec 32 := 0#32
  ![v2.toNat, 1760, 0]
def k0_off452 (v1650 : BitVec 32) : Fin 2 → Nat :=
  let v1651 : BitVec 32 := v1650
  let c0_i32_324 : BitVec 32 := 0#32
  ![v1651.toNat, 0]

def k0_chk112 (v1650 : BitVec 32) : Prop :=
  (16 ∣ (k0_mult113 v1650).toNat) ∧
  (∀ a, (k0_off452 v1650) a + S16x1024.size a ≤ S851968x1024.size a) ∧
  (∀ (hinb : ∀ a, (k0_off452 v1650) a + S16x1024.size a ≤ S851968x1024.size a), (Rect.unit (s := S851968x1024) (k0_off452 v1650) S16x1024.size hinb).WholeWords (EltTy.packing .bf16))
theorem k0_mult113_dvd : ∀ (v1650 : BitVec 32) (k0_hw112 : k0_chk112 v1650), 16 ∣ (k0_mult113 v1650).toNat := fun v1650 k0_hw112 => k0_hw112.1
theorem k0_off452_inb : ∀ (v1650 : BitVec 32) (k0_hw112 : k0_chk112 v1650), ∀ a, (k0_off452 v1650) a + S16x1024.size a ≤ S851968x1024.size a := fun v1650 k0_hw112 => k0_hw112.2.1
theorem k0_off452_wordsbf16 : ∀ (v1650 : BitVec 32) (k0_hw112 : k0_chk112 v1650), (Rect.unit (s := S851968x1024) (k0_off452 v1650) S16x1024.size (k0_off452_inb v1650 k0_hw112)).WholeWords (EltTy.packing .bf16) := fun v1650 k0_hw112 => k0_hw112.2.2 (k0_off452_inb v1650 k0_hw112)

def k0_off453 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c111_i32 : BitVec 32 := 111#32
  let v1657 : BitVec 32 := Scalar.addi v38 c111_i32
  let v1658 : Index := Scalar.indexCast v1657
  ![v1658.toNat]
def k0_mult114 (v1659 : BitVec 32) : BitVec 32 :=
  v1659

def k0_off454 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off455 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1776_i32 : BitVec 32 := 1776#32
  let c0_i32_325 : BitVec 32 := 0#32
  ![v2.toNat, 1776, 0]
def k0_off456 (v1659 : BitVec 32) : Fin 2 → Nat :=
  let v1660 : BitVec 32 := v1659
  let c0_i32_326 : BitVec 32 := 0#32
  ![v1660.toNat, 0]

def k0_chk113 (v1659 : BitVec 32) : Prop :=
  (16 ∣ (k0_mult114 v1659).toNat) ∧
  (∀ a, (k0_off456 v1659) a + S16x1024.size a ≤ S851968x1024.size a) ∧
  (∀ (hinb : ∀ a, (k0_off456 v1659) a + S16x1024.size a ≤ S851968x1024.size a), (Rect.unit (s := S851968x1024) (k0_off456 v1659) S16x1024.size hinb).WholeWords (EltTy.packing .bf16))
theorem k0_mult114_dvd : ∀ (v1659 : BitVec 32) (k0_hw113 : k0_chk113 v1659), 16 ∣ (k0_mult114 v1659).toNat := fun v1659 k0_hw113 => k0_hw113.1
theorem k0_off456_inb : ∀ (v1659 : BitVec 32) (k0_hw113 : k0_chk113 v1659), ∀ a, (k0_off456 v1659) a + S16x1024.size a ≤ S851968x1024.size a := fun v1659 k0_hw113 => k0_hw113.2.1
theorem k0_off456_wordsbf16 : ∀ (v1659 : BitVec 32) (k0_hw113 : k0_chk113 v1659), (Rect.unit (s := S851968x1024) (k0_off456 v1659) S16x1024.size (k0_off456_inb v1659 k0_hw113)).WholeWords (EltTy.packing .bf16) := fun v1659 k0_hw113 => k0_hw113.2.2 (k0_off456_inb v1659 k0_hw113)

def k0_off457 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c112_i32_327 : BitVec 32 := 112#32
  let v1666 : BitVec 32 := Scalar.addi v38 c112_i32_327
  let v1667 : Index := Scalar.indexCast v1666
  ![v1667.toNat]
def k0_mult115 (v1668 : BitVec 32) : BitVec 32 :=
  v1668

def k0_off458 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off459 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1792_i32 : BitVec 32 := 1792#32
  let c0_i32_328 : BitVec 32 := 0#32
  ![v2.toNat, 1792, 0]
def k0_off460 (v1668 : BitVec 32) : Fin 2 → Nat :=
  let v1669 : BitVec 32 := v1668
  let c0_i32_329 : BitVec 32 := 0#32
  ![v1669.toNat, 0]

def k0_chk114 (v1668 : BitVec 32) : Prop :=
  (16 ∣ (k0_mult115 v1668).toNat) ∧
  (∀ a, (k0_off460 v1668) a + S16x1024.size a ≤ S851968x1024.size a) ∧
  (∀ (hinb : ∀ a, (k0_off460 v1668) a + S16x1024.size a ≤ S851968x1024.size a), (Rect.unit (s := S851968x1024) (k0_off460 v1668) S16x1024.size hinb).WholeWords (EltTy.packing .bf16))
theorem k0_mult115_dvd : ∀ (v1668 : BitVec 32) (k0_hw114 : k0_chk114 v1668), 16 ∣ (k0_mult115 v1668).toNat := fun v1668 k0_hw114 => k0_hw114.1
theorem k0_off460_inb : ∀ (v1668 : BitVec 32) (k0_hw114 : k0_chk114 v1668), ∀ a, (k0_off460 v1668) a + S16x1024.size a ≤ S851968x1024.size a := fun v1668 k0_hw114 => k0_hw114.2.1
theorem k0_off460_wordsbf16 : ∀ (v1668 : BitVec 32) (k0_hw114 : k0_chk114 v1668), (Rect.unit (s := S851968x1024) (k0_off460 v1668) S16x1024.size (k0_off460_inb v1668 k0_hw114)).WholeWords (EltTy.packing .bf16) := fun v1668 k0_hw114 => k0_hw114.2.2 (k0_off460_inb v1668 k0_hw114)

def k0_off461 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c113_i32 : BitVec 32 := 113#32
  let v1675 : BitVec 32 := Scalar.addi v38 c113_i32
  let v1676 : Index := Scalar.indexCast v1675
  ![v1676.toNat]
def k0_mult116 (v1677 : BitVec 32) : BitVec 32 :=
  v1677

def k0_off462 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off463 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1808_i32 : BitVec 32 := 1808#32
  let c0_i32_330 : BitVec 32 := 0#32
  ![v2.toNat, 1808, 0]
def k0_off464 (v1677 : BitVec 32) : Fin 2 → Nat :=
  let v1678 : BitVec 32 := v1677
  let c0_i32_331 : BitVec 32 := 0#32
  ![v1678.toNat, 0]

def k0_chk115 (v1677 : BitVec 32) : Prop :=
  (16 ∣ (k0_mult116 v1677).toNat) ∧
  (∀ a, (k0_off464 v1677) a + S16x1024.size a ≤ S851968x1024.size a) ∧
  (∀ (hinb : ∀ a, (k0_off464 v1677) a + S16x1024.size a ≤ S851968x1024.size a), (Rect.unit (s := S851968x1024) (k0_off464 v1677) S16x1024.size hinb).WholeWords (EltTy.packing .bf16))
theorem k0_mult116_dvd : ∀ (v1677 : BitVec 32) (k0_hw115 : k0_chk115 v1677), 16 ∣ (k0_mult116 v1677).toNat := fun v1677 k0_hw115 => k0_hw115.1
theorem k0_off464_inb : ∀ (v1677 : BitVec 32) (k0_hw115 : k0_chk115 v1677), ∀ a, (k0_off464 v1677) a + S16x1024.size a ≤ S851968x1024.size a := fun v1677 k0_hw115 => k0_hw115.2.1
theorem k0_off464_wordsbf16 : ∀ (v1677 : BitVec 32) (k0_hw115 : k0_chk115 v1677), (Rect.unit (s := S851968x1024) (k0_off464 v1677) S16x1024.size (k0_off464_inb v1677 k0_hw115)).WholeWords (EltTy.packing .bf16) := fun v1677 k0_hw115 => k0_hw115.2.2 (k0_off464_inb v1677 k0_hw115)

def k0_off465 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c114_i32 : BitVec 32 := 114#32
  let v1684 : BitVec 32 := Scalar.addi v38 c114_i32
  let v1685 : Index := Scalar.indexCast v1684
  ![v1685.toNat]
def k0_mult117 (v1686 : BitVec 32) : BitVec 32 :=
  v1686

def k0_off466 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off467 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1824_i32 : BitVec 32 := 1824#32
  let c0_i32_332 : BitVec 32 := 0#32
  ![v2.toNat, 1824, 0]
def k0_off468 (v1686 : BitVec 32) : Fin 2 → Nat :=
  let v1687 : BitVec 32 := v1686
  let c0_i32_333 : BitVec 32 := 0#32
  ![v1687.toNat, 0]

def k0_chk116 (v1686 : BitVec 32) : Prop :=
  (16 ∣ (k0_mult117 v1686).toNat) ∧
  (∀ a, (k0_off468 v1686) a + S16x1024.size a ≤ S851968x1024.size a) ∧
  (∀ (hinb : ∀ a, (k0_off468 v1686) a + S16x1024.size a ≤ S851968x1024.size a), (Rect.unit (s := S851968x1024) (k0_off468 v1686) S16x1024.size hinb).WholeWords (EltTy.packing .bf16))
theorem k0_mult117_dvd : ∀ (v1686 : BitVec 32) (k0_hw116 : k0_chk116 v1686), 16 ∣ (k0_mult117 v1686).toNat := fun v1686 k0_hw116 => k0_hw116.1
theorem k0_off468_inb : ∀ (v1686 : BitVec 32) (k0_hw116 : k0_chk116 v1686), ∀ a, (k0_off468 v1686) a + S16x1024.size a ≤ S851968x1024.size a := fun v1686 k0_hw116 => k0_hw116.2.1
theorem k0_off468_wordsbf16 : ∀ (v1686 : BitVec 32) (k0_hw116 : k0_chk116 v1686), (Rect.unit (s := S851968x1024) (k0_off468 v1686) S16x1024.size (k0_off468_inb v1686 k0_hw116)).WholeWords (EltTy.packing .bf16) := fun v1686 k0_hw116 => k0_hw116.2.2 (k0_off468_inb v1686 k0_hw116)

def k0_off469 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c115_i32 : BitVec 32 := 115#32
  let v1693 : BitVec 32 := Scalar.addi v38 c115_i32
  let v1694 : Index := Scalar.indexCast v1693
  ![v1694.toNat]
def k0_mult118 (v1695 : BitVec 32) : BitVec 32 :=
  v1695

def k0_off470 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off471 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1840_i32 : BitVec 32 := 1840#32
  let c0_i32_334 : BitVec 32 := 0#32
  ![v2.toNat, 1840, 0]
def k0_off472 (v1695 : BitVec 32) : Fin 2 → Nat :=
  let v1696 : BitVec 32 := v1695
  let c0_i32_335 : BitVec 32 := 0#32
  ![v1696.toNat, 0]

def k0_chk117 (v1695 : BitVec 32) : Prop :=
  (16 ∣ (k0_mult118 v1695).toNat) ∧
  (∀ a, (k0_off472 v1695) a + S16x1024.size a ≤ S851968x1024.size a) ∧
  (∀ (hinb : ∀ a, (k0_off472 v1695) a + S16x1024.size a ≤ S851968x1024.size a), (Rect.unit (s := S851968x1024) (k0_off472 v1695) S16x1024.size hinb).WholeWords (EltTy.packing .bf16))
theorem k0_mult118_dvd : ∀ (v1695 : BitVec 32) (k0_hw117 : k0_chk117 v1695), 16 ∣ (k0_mult118 v1695).toNat := fun v1695 k0_hw117 => k0_hw117.1
theorem k0_off472_inb : ∀ (v1695 : BitVec 32) (k0_hw117 : k0_chk117 v1695), ∀ a, (k0_off472 v1695) a + S16x1024.size a ≤ S851968x1024.size a := fun v1695 k0_hw117 => k0_hw117.2.1
theorem k0_off472_wordsbf16 : ∀ (v1695 : BitVec 32) (k0_hw117 : k0_chk117 v1695), (Rect.unit (s := S851968x1024) (k0_off472 v1695) S16x1024.size (k0_off472_inb v1695 k0_hw117)).WholeWords (EltTy.packing .bf16) := fun v1695 k0_hw117 => k0_hw117.2.2 (k0_off472_inb v1695 k0_hw117)

def k0_off473 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c116_i32 : BitVec 32 := 116#32
  let v1702 : BitVec 32 := Scalar.addi v38 c116_i32
  let v1703 : Index := Scalar.indexCast v1702
  ![v1703.toNat]
def k0_mult119 (v1704 : BitVec 32) : BitVec 32 :=
  v1704

def k0_off474 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off475 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1856_i32 : BitVec 32 := 1856#32
  let c0_i32_336 : BitVec 32 := 0#32
  ![v2.toNat, 1856, 0]
def k0_off476 (v1704 : BitVec 32) : Fin 2 → Nat :=
  let v1705 : BitVec 32 := v1704
  let c0_i32_337 : BitVec 32 := 0#32
  ![v1705.toNat, 0]

def k0_chk118 (v1704 : BitVec 32) : Prop :=
  (16 ∣ (k0_mult119 v1704).toNat) ∧
  (∀ a, (k0_off476 v1704) a + S16x1024.size a ≤ S851968x1024.size a) ∧
  (∀ (hinb : ∀ a, (k0_off476 v1704) a + S16x1024.size a ≤ S851968x1024.size a), (Rect.unit (s := S851968x1024) (k0_off476 v1704) S16x1024.size hinb).WholeWords (EltTy.packing .bf16))
theorem k0_mult119_dvd : ∀ (v1704 : BitVec 32) (k0_hw118 : k0_chk118 v1704), 16 ∣ (k0_mult119 v1704).toNat := fun v1704 k0_hw118 => k0_hw118.1
theorem k0_off476_inb : ∀ (v1704 : BitVec 32) (k0_hw118 : k0_chk118 v1704), ∀ a, (k0_off476 v1704) a + S16x1024.size a ≤ S851968x1024.size a := fun v1704 k0_hw118 => k0_hw118.2.1
theorem k0_off476_wordsbf16 : ∀ (v1704 : BitVec 32) (k0_hw118 : k0_chk118 v1704), (Rect.unit (s := S851968x1024) (k0_off476 v1704) S16x1024.size (k0_off476_inb v1704 k0_hw118)).WholeWords (EltTy.packing .bf16) := fun v1704 k0_hw118 => k0_hw118.2.2 (k0_off476_inb v1704 k0_hw118)

def k0_off477 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c117_i32 : BitVec 32 := 117#32
  let v1711 : BitVec 32 := Scalar.addi v38 c117_i32
  let v1712 : Index := Scalar.indexCast v1711
  ![v1712.toNat]
def k0_mult120 (v1713 : BitVec 32) : BitVec 32 :=
  v1713

def k0_off478 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off479 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1872_i32 : BitVec 32 := 1872#32
  let c0_i32_338 : BitVec 32 := 0#32
  ![v2.toNat, 1872, 0]
def k0_off480 (v1713 : BitVec 32) : Fin 2 → Nat :=
  let v1714 : BitVec 32 := v1713
  let c0_i32_339 : BitVec 32 := 0#32
  ![v1714.toNat, 0]

def k0_chk119 (v1713 : BitVec 32) : Prop :=
  (16 ∣ (k0_mult120 v1713).toNat) ∧
  (∀ a, (k0_off480 v1713) a + S16x1024.size a ≤ S851968x1024.size a) ∧
  (∀ (hinb : ∀ a, (k0_off480 v1713) a + S16x1024.size a ≤ S851968x1024.size a), (Rect.unit (s := S851968x1024) (k0_off480 v1713) S16x1024.size hinb).WholeWords (EltTy.packing .bf16))
theorem k0_mult120_dvd : ∀ (v1713 : BitVec 32) (k0_hw119 : k0_chk119 v1713), 16 ∣ (k0_mult120 v1713).toNat := fun v1713 k0_hw119 => k0_hw119.1
theorem k0_off480_inb : ∀ (v1713 : BitVec 32) (k0_hw119 : k0_chk119 v1713), ∀ a, (k0_off480 v1713) a + S16x1024.size a ≤ S851968x1024.size a := fun v1713 k0_hw119 => k0_hw119.2.1
theorem k0_off480_wordsbf16 : ∀ (v1713 : BitVec 32) (k0_hw119 : k0_chk119 v1713), (Rect.unit (s := S851968x1024) (k0_off480 v1713) S16x1024.size (k0_off480_inb v1713 k0_hw119)).WholeWords (EltTy.packing .bf16) := fun v1713 k0_hw119 => k0_hw119.2.2 (k0_off480_inb v1713 k0_hw119)

def k0_off481 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c118_i32 : BitVec 32 := 118#32
  let v1720 : BitVec 32 := Scalar.addi v38 c118_i32
  let v1721 : Index := Scalar.indexCast v1720
  ![v1721.toNat]
def k0_mult121 (v1722 : BitVec 32) : BitVec 32 :=
  v1722

def k0_off482 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off483 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1888_i32 : BitVec 32 := 1888#32
  let c0_i32_340 : BitVec 32 := 0#32
  ![v2.toNat, 1888, 0]
def k0_off484 (v1722 : BitVec 32) : Fin 2 → Nat :=
  let v1723 : BitVec 32 := v1722
  let c0_i32_341 : BitVec 32 := 0#32
  ![v1723.toNat, 0]

def k0_chk120 (v1722 : BitVec 32) : Prop :=
  (16 ∣ (k0_mult121 v1722).toNat) ∧
  (∀ a, (k0_off484 v1722) a + S16x1024.size a ≤ S851968x1024.size a) ∧
  (∀ (hinb : ∀ a, (k0_off484 v1722) a + S16x1024.size a ≤ S851968x1024.size a), (Rect.unit (s := S851968x1024) (k0_off484 v1722) S16x1024.size hinb).WholeWords (EltTy.packing .bf16))
theorem k0_mult121_dvd : ∀ (v1722 : BitVec 32) (k0_hw120 : k0_chk120 v1722), 16 ∣ (k0_mult121 v1722).toNat := fun v1722 k0_hw120 => k0_hw120.1
theorem k0_off484_inb : ∀ (v1722 : BitVec 32) (k0_hw120 : k0_chk120 v1722), ∀ a, (k0_off484 v1722) a + S16x1024.size a ≤ S851968x1024.size a := fun v1722 k0_hw120 => k0_hw120.2.1
theorem k0_off484_wordsbf16 : ∀ (v1722 : BitVec 32) (k0_hw120 : k0_chk120 v1722), (Rect.unit (s := S851968x1024) (k0_off484 v1722) S16x1024.size (k0_off484_inb v1722 k0_hw120)).WholeWords (EltTy.packing .bf16) := fun v1722 k0_hw120 => k0_hw120.2.2 (k0_off484_inb v1722 k0_hw120)

def k0_off485 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c119_i32 : BitVec 32 := 119#32
  let v1729 : BitVec 32 := Scalar.addi v38 c119_i32
  let v1730 : Index := Scalar.indexCast v1729
  ![v1730.toNat]
def k0_mult122 (v1731 : BitVec 32) : BitVec 32 :=
  v1731

def k0_off486 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off487 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1904_i32 : BitVec 32 := 1904#32
  let c0_i32_342 : BitVec 32 := 0#32
  ![v2.toNat, 1904, 0]
def k0_off488 (v1731 : BitVec 32) : Fin 2 → Nat :=
  let v1732 : BitVec 32 := v1731
  let c0_i32_343 : BitVec 32 := 0#32
  ![v1732.toNat, 0]

def k0_chk121 (v1731 : BitVec 32) : Prop :=
  (16 ∣ (k0_mult122 v1731).toNat) ∧
  (∀ a, (k0_off488 v1731) a + S16x1024.size a ≤ S851968x1024.size a) ∧
  (∀ (hinb : ∀ a, (k0_off488 v1731) a + S16x1024.size a ≤ S851968x1024.size a), (Rect.unit (s := S851968x1024) (k0_off488 v1731) S16x1024.size hinb).WholeWords (EltTy.packing .bf16))
theorem k0_mult122_dvd : ∀ (v1731 : BitVec 32) (k0_hw121 : k0_chk121 v1731), 16 ∣ (k0_mult122 v1731).toNat := fun v1731 k0_hw121 => k0_hw121.1
theorem k0_off488_inb : ∀ (v1731 : BitVec 32) (k0_hw121 : k0_chk121 v1731), ∀ a, (k0_off488 v1731) a + S16x1024.size a ≤ S851968x1024.size a := fun v1731 k0_hw121 => k0_hw121.2.1
theorem k0_off488_wordsbf16 : ∀ (v1731 : BitVec 32) (k0_hw121 : k0_chk121 v1731), (Rect.unit (s := S851968x1024) (k0_off488 v1731) S16x1024.size (k0_off488_inb v1731 k0_hw121)).WholeWords (EltTy.packing .bf16) := fun v1731 k0_hw121 => k0_hw121.2.2 (k0_off488_inb v1731 k0_hw121)

def k0_off489 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c120_i32 : BitVec 32 := 120#32
  let v1738 : BitVec 32 := Scalar.addi v38 c120_i32
  let v1739 : Index := Scalar.indexCast v1738
  ![v1739.toNat]
def k0_mult123 (v1740 : BitVec 32) : BitVec 32 :=
  v1740

def k0_off490 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off491 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1920_i32 : BitVec 32 := 1920#32
  let c0_i32_344 : BitVec 32 := 0#32
  ![v2.toNat, 1920, 0]
def k0_off492 (v1740 : BitVec 32) : Fin 2 → Nat :=
  let v1741 : BitVec 32 := v1740
  let c0_i32_345 : BitVec 32 := 0#32
  ![v1741.toNat, 0]

def k0_chk122 (v1740 : BitVec 32) : Prop :=
  (16 ∣ (k0_mult123 v1740).toNat) ∧
  (∀ a, (k0_off492 v1740) a + S16x1024.size a ≤ S851968x1024.size a) ∧
  (∀ (hinb : ∀ a, (k0_off492 v1740) a + S16x1024.size a ≤ S851968x1024.size a), (Rect.unit (s := S851968x1024) (k0_off492 v1740) S16x1024.size hinb).WholeWords (EltTy.packing .bf16))
theorem k0_mult123_dvd : ∀ (v1740 : BitVec 32) (k0_hw122 : k0_chk122 v1740), 16 ∣ (k0_mult123 v1740).toNat := fun v1740 k0_hw122 => k0_hw122.1
theorem k0_off492_inb : ∀ (v1740 : BitVec 32) (k0_hw122 : k0_chk122 v1740), ∀ a, (k0_off492 v1740) a + S16x1024.size a ≤ S851968x1024.size a := fun v1740 k0_hw122 => k0_hw122.2.1
theorem k0_off492_wordsbf16 : ∀ (v1740 : BitVec 32) (k0_hw122 : k0_chk122 v1740), (Rect.unit (s := S851968x1024) (k0_off492 v1740) S16x1024.size (k0_off492_inb v1740 k0_hw122)).WholeWords (EltTy.packing .bf16) := fun v1740 k0_hw122 => k0_hw122.2.2 (k0_off492_inb v1740 k0_hw122)

def k0_off493 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c121_i32 : BitVec 32 := 121#32
  let v1747 : BitVec 32 := Scalar.addi v38 c121_i32
  let v1748 : Index := Scalar.indexCast v1747
  ![v1748.toNat]
def k0_mult124 (v1749 : BitVec 32) : BitVec 32 :=
  v1749

def k0_off494 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off495 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1936_i32 : BitVec 32 := 1936#32
  let c0_i32_346 : BitVec 32 := 0#32
  ![v2.toNat, 1936, 0]
def k0_off496 (v1749 : BitVec 32) : Fin 2 → Nat :=
  let v1750 : BitVec 32 := v1749
  let c0_i32_347 : BitVec 32 := 0#32
  ![v1750.toNat, 0]

def k0_chk123 (v1749 : BitVec 32) : Prop :=
  (16 ∣ (k0_mult124 v1749).toNat) ∧
  (∀ a, (k0_off496 v1749) a + S16x1024.size a ≤ S851968x1024.size a) ∧
  (∀ (hinb : ∀ a, (k0_off496 v1749) a + S16x1024.size a ≤ S851968x1024.size a), (Rect.unit (s := S851968x1024) (k0_off496 v1749) S16x1024.size hinb).WholeWords (EltTy.packing .bf16))
theorem k0_mult124_dvd : ∀ (v1749 : BitVec 32) (k0_hw123 : k0_chk123 v1749), 16 ∣ (k0_mult124 v1749).toNat := fun v1749 k0_hw123 => k0_hw123.1
theorem k0_off496_inb : ∀ (v1749 : BitVec 32) (k0_hw123 : k0_chk123 v1749), ∀ a, (k0_off496 v1749) a + S16x1024.size a ≤ S851968x1024.size a := fun v1749 k0_hw123 => k0_hw123.2.1
theorem k0_off496_wordsbf16 : ∀ (v1749 : BitVec 32) (k0_hw123 : k0_chk123 v1749), (Rect.unit (s := S851968x1024) (k0_off496 v1749) S16x1024.size (k0_off496_inb v1749 k0_hw123)).WholeWords (EltTy.packing .bf16) := fun v1749 k0_hw123 => k0_hw123.2.2 (k0_off496_inb v1749 k0_hw123)

def k0_off497 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c122_i32 : BitVec 32 := 122#32
  let v1756 : BitVec 32 := Scalar.addi v38 c122_i32
  let v1757 : Index := Scalar.indexCast v1756
  ![v1757.toNat]
def k0_mult125 (v1758 : BitVec 32) : BitVec 32 :=
  v1758

def k0_off498 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off499 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1952_i32 : BitVec 32 := 1952#32
  let c0_i32_348 : BitVec 32 := 0#32
  ![v2.toNat, 1952, 0]
def k0_off500 (v1758 : BitVec 32) : Fin 2 → Nat :=
  let v1759 : BitVec 32 := v1758
  let c0_i32_349 : BitVec 32 := 0#32
  ![v1759.toNat, 0]

def k0_chk124 (v1758 : BitVec 32) : Prop :=
  (16 ∣ (k0_mult125 v1758).toNat) ∧
  (∀ a, (k0_off500 v1758) a + S16x1024.size a ≤ S851968x1024.size a) ∧
  (∀ (hinb : ∀ a, (k0_off500 v1758) a + S16x1024.size a ≤ S851968x1024.size a), (Rect.unit (s := S851968x1024) (k0_off500 v1758) S16x1024.size hinb).WholeWords (EltTy.packing .bf16))
theorem k0_mult125_dvd : ∀ (v1758 : BitVec 32) (k0_hw124 : k0_chk124 v1758), 16 ∣ (k0_mult125 v1758).toNat := fun v1758 k0_hw124 => k0_hw124.1
theorem k0_off500_inb : ∀ (v1758 : BitVec 32) (k0_hw124 : k0_chk124 v1758), ∀ a, (k0_off500 v1758) a + S16x1024.size a ≤ S851968x1024.size a := fun v1758 k0_hw124 => k0_hw124.2.1
theorem k0_off500_wordsbf16 : ∀ (v1758 : BitVec 32) (k0_hw124 : k0_chk124 v1758), (Rect.unit (s := S851968x1024) (k0_off500 v1758) S16x1024.size (k0_off500_inb v1758 k0_hw124)).WholeWords (EltTy.packing .bf16) := fun v1758 k0_hw124 => k0_hw124.2.2 (k0_off500_inb v1758 k0_hw124)

def k0_off501 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c123_i32 : BitVec 32 := 123#32
  let v1765 : BitVec 32 := Scalar.addi v38 c123_i32
  let v1766 : Index := Scalar.indexCast v1765
  ![v1766.toNat]
def k0_mult126 (v1767 : BitVec 32) : BitVec 32 :=
  v1767

def k0_off502 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off503 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1968_i32 : BitVec 32 := 1968#32
  let c0_i32_350 : BitVec 32 := 0#32
  ![v2.toNat, 1968, 0]
def k0_off504 (v1767 : BitVec 32) : Fin 2 → Nat :=
  let v1768 : BitVec 32 := v1767
  let c0_i32_351 : BitVec 32 := 0#32
  ![v1768.toNat, 0]

def k0_chk125 (v1767 : BitVec 32) : Prop :=
  (16 ∣ (k0_mult126 v1767).toNat) ∧
  (∀ a, (k0_off504 v1767) a + S16x1024.size a ≤ S851968x1024.size a) ∧
  (∀ (hinb : ∀ a, (k0_off504 v1767) a + S16x1024.size a ≤ S851968x1024.size a), (Rect.unit (s := S851968x1024) (k0_off504 v1767) S16x1024.size hinb).WholeWords (EltTy.packing .bf16))
theorem k0_mult126_dvd : ∀ (v1767 : BitVec 32) (k0_hw125 : k0_chk125 v1767), 16 ∣ (k0_mult126 v1767).toNat := fun v1767 k0_hw125 => k0_hw125.1
theorem k0_off504_inb : ∀ (v1767 : BitVec 32) (k0_hw125 : k0_chk125 v1767), ∀ a, (k0_off504 v1767) a + S16x1024.size a ≤ S851968x1024.size a := fun v1767 k0_hw125 => k0_hw125.2.1
theorem k0_off504_wordsbf16 : ∀ (v1767 : BitVec 32) (k0_hw125 : k0_chk125 v1767), (Rect.unit (s := S851968x1024) (k0_off504 v1767) S16x1024.size (k0_off504_inb v1767 k0_hw125)).WholeWords (EltTy.packing .bf16) := fun v1767 k0_hw125 => k0_hw125.2.2 (k0_off504_inb v1767 k0_hw125)

def k0_off505 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c124_i32 : BitVec 32 := 124#32
  let v1774 : BitVec 32 := Scalar.addi v38 c124_i32
  let v1775 : Index := Scalar.indexCast v1774
  ![v1775.toNat]
def k0_mult127 (v1776 : BitVec 32) : BitVec 32 :=
  v1776

def k0_off506 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off507 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1984_i32 : BitVec 32 := 1984#32
  let c0_i32_352 : BitVec 32 := 0#32
  ![v2.toNat, 1984, 0]
def k0_off508 (v1776 : BitVec 32) : Fin 2 → Nat :=
  let v1777 : BitVec 32 := v1776
  let c0_i32_353 : BitVec 32 := 0#32
  ![v1777.toNat, 0]

def k0_chk126 (v1776 : BitVec 32) : Prop :=
  (16 ∣ (k0_mult127 v1776).toNat) ∧
  (∀ a, (k0_off508 v1776) a + S16x1024.size a ≤ S851968x1024.size a) ∧
  (∀ (hinb : ∀ a, (k0_off508 v1776) a + S16x1024.size a ≤ S851968x1024.size a), (Rect.unit (s := S851968x1024) (k0_off508 v1776) S16x1024.size hinb).WholeWords (EltTy.packing .bf16))
theorem k0_mult127_dvd : ∀ (v1776 : BitVec 32) (k0_hw126 : k0_chk126 v1776), 16 ∣ (k0_mult127 v1776).toNat := fun v1776 k0_hw126 => k0_hw126.1
theorem k0_off508_inb : ∀ (v1776 : BitVec 32) (k0_hw126 : k0_chk126 v1776), ∀ a, (k0_off508 v1776) a + S16x1024.size a ≤ S851968x1024.size a := fun v1776 k0_hw126 => k0_hw126.2.1
theorem k0_off508_wordsbf16 : ∀ (v1776 : BitVec 32) (k0_hw126 : k0_chk126 v1776), (Rect.unit (s := S851968x1024) (k0_off508 v1776) S16x1024.size (k0_off508_inb v1776 k0_hw126)).WholeWords (EltTy.packing .bf16) := fun v1776 k0_hw126 => k0_hw126.2.2 (k0_off508_inb v1776 k0_hw126)

def k0_off509 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c125_i32 : BitVec 32 := 125#32
  let v1783 : BitVec 32 := Scalar.addi v38 c125_i32
  let v1784 : Index := Scalar.indexCast v1783
  ![v1784.toNat]
def k0_mult128 (v1785 : BitVec 32) : BitVec 32 :=
  v1785

def k0_off510 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off511 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2000_i32 : BitVec 32 := 2000#32
  let c0_i32_354 : BitVec 32 := 0#32
  ![v2.toNat, 2000, 0]
def k0_off512 (v1785 : BitVec 32) : Fin 2 → Nat :=
  let v1786 : BitVec 32 := v1785
  let c0_i32_355 : BitVec 32 := 0#32
  ![v1786.toNat, 0]

def k0_chk127 (v1785 : BitVec 32) : Prop :=
  (16 ∣ (k0_mult128 v1785).toNat) ∧
  (∀ a, (k0_off512 v1785) a + S16x1024.size a ≤ S851968x1024.size a) ∧
  (∀ (hinb : ∀ a, (k0_off512 v1785) a + S16x1024.size a ≤ S851968x1024.size a), (Rect.unit (s := S851968x1024) (k0_off512 v1785) S16x1024.size hinb).WholeWords (EltTy.packing .bf16))
theorem k0_mult128_dvd : ∀ (v1785 : BitVec 32) (k0_hw127 : k0_chk127 v1785), 16 ∣ (k0_mult128 v1785).toNat := fun v1785 k0_hw127 => k0_hw127.1
theorem k0_off512_inb : ∀ (v1785 : BitVec 32) (k0_hw127 : k0_chk127 v1785), ∀ a, (k0_off512 v1785) a + S16x1024.size a ≤ S851968x1024.size a := fun v1785 k0_hw127 => k0_hw127.2.1
theorem k0_off512_wordsbf16 : ∀ (v1785 : BitVec 32) (k0_hw127 : k0_chk127 v1785), (Rect.unit (s := S851968x1024) (k0_off512 v1785) S16x1024.size (k0_off512_inb v1785 k0_hw127)).WholeWords (EltTy.packing .bf16) := fun v1785 k0_hw127 => k0_hw127.2.2 (k0_off512_inb v1785 k0_hw127)

def k0_off513 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c126_i32 : BitVec 32 := 126#32
  let v1792 : BitVec 32 := Scalar.addi v38 c126_i32
  let v1793 : Index := Scalar.indexCast v1792
  ![v1793.toNat]
def k0_mult129 (v1794 : BitVec 32) : BitVec 32 :=
  v1794

def k0_off514 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off515 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2016_i32 : BitVec 32 := 2016#32
  let c0_i32_356 : BitVec 32 := 0#32
  ![v2.toNat, 2016, 0]
def k0_off516 (v1794 : BitVec 32) : Fin 2 → Nat :=
  let v1795 : BitVec 32 := v1794
  let c0_i32_357 : BitVec 32 := 0#32
  ![v1795.toNat, 0]

def k0_chk128 (v1794 : BitVec 32) : Prop :=
  (16 ∣ (k0_mult129 v1794).toNat) ∧
  (∀ a, (k0_off516 v1794) a + S16x1024.size a ≤ S851968x1024.size a) ∧
  (∀ (hinb : ∀ a, (k0_off516 v1794) a + S16x1024.size a ≤ S851968x1024.size a), (Rect.unit (s := S851968x1024) (k0_off516 v1794) S16x1024.size hinb).WholeWords (EltTy.packing .bf16))
theorem k0_mult129_dvd : ∀ (v1794 : BitVec 32) (k0_hw128 : k0_chk128 v1794), 16 ∣ (k0_mult129 v1794).toNat := fun v1794 k0_hw128 => k0_hw128.1
theorem k0_off516_inb : ∀ (v1794 : BitVec 32) (k0_hw128 : k0_chk128 v1794), ∀ a, (k0_off516 v1794) a + S16x1024.size a ≤ S851968x1024.size a := fun v1794 k0_hw128 => k0_hw128.2.1
theorem k0_off516_wordsbf16 : ∀ (v1794 : BitVec 32) (k0_hw128 : k0_chk128 v1794), (Rect.unit (s := S851968x1024) (k0_off516 v1794) S16x1024.size (k0_off516_inb v1794 k0_hw128)).WholeWords (EltTy.packing .bf16) := fun v1794 k0_hw128 => k0_hw128.2.2 (k0_off516_inb v1794 k0_hw128)

def k0_off517 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c127_i32 : BitVec 32 := 127#32
  let v1801 : BitVec 32 := Scalar.addi v38 c127_i32
  let v1802 : Index := Scalar.indexCast v1801
  ![v1802.toNat]
def k0_mult130 (v1803 : BitVec 32) : BitVec 32 :=
  v1803

def k0_off518 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off519 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2032_i32 : BitVec 32 := 2032#32
  let c0_i32_358 : BitVec 32 := 0#32
  ![v2.toNat, 2032, 0]
def k0_off520 (v1803 : BitVec 32) : Fin 2 → Nat :=
  let v1804 : BitVec 32 := v1803
  let c0_i32_359 : BitVec 32 := 0#32
  ![v1804.toNat, 0]

def k0_chk129 (v1803 : BitVec 32) : Prop :=
  (16 ∣ (k0_mult130 v1803).toNat) ∧
  (∀ a, (k0_off520 v1803) a + S16x1024.size a ≤ S851968x1024.size a) ∧
  (∀ (hinb : ∀ a, (k0_off520 v1803) a + S16x1024.size a ≤ S851968x1024.size a), (Rect.unit (s := S851968x1024) (k0_off520 v1803) S16x1024.size hinb).WholeWords (EltTy.packing .bf16))
theorem k0_mult130_dvd : ∀ (v1803 : BitVec 32) (k0_hw129 : k0_chk129 v1803), 16 ∣ (k0_mult130 v1803).toNat := fun v1803 k0_hw129 => k0_hw129.1
theorem k0_off520_inb : ∀ (v1803 : BitVec 32) (k0_hw129 : k0_chk129 v1803), ∀ a, (k0_off520 v1803) a + S16x1024.size a ≤ S851968x1024.size a := fun v1803 k0_hw129 => k0_hw129.2.1
theorem k0_off520_wordsbf16 : ∀ (v1803 : BitVec 32) (k0_hw129 : k0_chk129 v1803), (Rect.unit (s := S851968x1024) (k0_off520 v1803) S16x1024.size (k0_off520_inb v1803 k0_hw129)).WholeWords (EltTy.packing .bf16) := fun v1803 k0_hw129 => k0_hw129.2.2 (k0_off520_inb v1803 k0_hw129)

def k0_off521 (i : grid0.Coords) : Fin 3 → Nat :=
  let arg0 : BitVec 32 := BitVec.ofNat 32 (i 0).val
  let c3_i32 : BitVec 32 := 3#32
  let v0 : BitVec 32 := Scalar.remsi arg0 c3_i32
  let v2115 : Index := Scalar.indexCast v0
  let c2048 : Index := 2048#32
  let c0_396 : Index := 0#32
  ![v2115.toNat, 2048, 0]
def k0_off522 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c128_i32_398 : BitVec 32 := 128#32
  let v2120 : BitVec 32 := Scalar.addi v38 c128_i32_398
  let v2121 : Index := Scalar.indexCast v2120
  ![v2121.toNat]
def k0_mult131 (v2122 : BitVec 32) : BitVec 32 :=
  v2122

def k0_off523 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off524 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2048_i32 : BitVec 32 := 2048#32
  let c0_i32_399 : BitVec 32 := 0#32
  ![v2.toNat, 2048, 0]
def k0_off525 (v2122 : BitVec 32) : Fin 2 → Nat :=
  let v2123 : BitVec 32 := v2122
  let c0_i32_400 : BitVec 32 := 0#32
  ![v2123.toNat, 0]

def k0_chk130 (v2122 : BitVec 32) : Prop :=
  (16 ∣ (k0_mult131 v2122).toNat) ∧
  (∀ a, (k0_off525 v2122) a + S16x1024.size a ≤ S851968x1024.size a) ∧
  (∀ (hinb : ∀ a, (k0_off525 v2122) a + S16x1024.size a ≤ S851968x1024.size a), (Rect.unit (s := S851968x1024) (k0_off525 v2122) S16x1024.size hinb).WholeWords (EltTy.packing .bf16))
theorem k0_mult131_dvd : ∀ (v2122 : BitVec 32) (k0_hw130 : k0_chk130 v2122), 16 ∣ (k0_mult131 v2122).toNat := fun v2122 k0_hw130 => k0_hw130.1
theorem k0_off525_inb : ∀ (v2122 : BitVec 32) (k0_hw130 : k0_chk130 v2122), ∀ a, (k0_off525 v2122) a + S16x1024.size a ≤ S851968x1024.size a := fun v2122 k0_hw130 => k0_hw130.2.1
theorem k0_off525_wordsbf16 : ∀ (v2122 : BitVec 32) (k0_hw130 : k0_chk130 v2122), (Rect.unit (s := S851968x1024) (k0_off525 v2122) S16x1024.size (k0_off525_inb v2122 k0_hw130)).WholeWords (EltTy.packing .bf16) := fun v2122 k0_hw130 => k0_hw130.2.2 (k0_off525_inb v2122 k0_hw130)

def k0_off526 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c129_i32 : BitVec 32 := 129#32
  let v2129 : BitVec 32 := Scalar.addi v38 c129_i32
  let v2130 : Index := Scalar.indexCast v2129
  ![v2130.toNat]
def k0_mult132 (v2131 : BitVec 32) : BitVec 32 :=
  v2131

def k0_off527 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off528 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2064_i32 : BitVec 32 := 2064#32
  let c0_i32_401 : BitVec 32 := 0#32
  ![v2.toNat, 2064, 0]
def k0_off529 (v2131 : BitVec 32) : Fin 2 → Nat :=
  let v2132 : BitVec 32 := v2131
  let c0_i32_402 : BitVec 32 := 0#32
  ![v2132.toNat, 0]

def k0_chk131 (v2131 : BitVec 32) : Prop :=
  (16 ∣ (k0_mult132 v2131).toNat) ∧
  (∀ a, (k0_off529 v2131) a + S16x1024.size a ≤ S851968x1024.size a) ∧
  (∀ (hinb : ∀ a, (k0_off529 v2131) a + S16x1024.size a ≤ S851968x1024.size a), (Rect.unit (s := S851968x1024) (k0_off529 v2131) S16x1024.size hinb).WholeWords (EltTy.packing .bf16))
theorem k0_mult132_dvd : ∀ (v2131 : BitVec 32) (k0_hw131 : k0_chk131 v2131), 16 ∣ (k0_mult132 v2131).toNat := fun v2131 k0_hw131 => k0_hw131.1
theorem k0_off529_inb : ∀ (v2131 : BitVec 32) (k0_hw131 : k0_chk131 v2131), ∀ a, (k0_off529 v2131) a + S16x1024.size a ≤ S851968x1024.size a := fun v2131 k0_hw131 => k0_hw131.2.1
theorem k0_off529_wordsbf16 : ∀ (v2131 : BitVec 32) (k0_hw131 : k0_chk131 v2131), (Rect.unit (s := S851968x1024) (k0_off529 v2131) S16x1024.size (k0_off529_inb v2131 k0_hw131)).WholeWords (EltTy.packing .bf16) := fun v2131 k0_hw131 => k0_hw131.2.2 (k0_off529_inb v2131 k0_hw131)

def k0_off530 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c130_i32 : BitVec 32 := 130#32
  let v2138 : BitVec 32 := Scalar.addi v38 c130_i32
  let v2139 : Index := Scalar.indexCast v2138
  ![v2139.toNat]
def k0_mult133 (v2140 : BitVec 32) : BitVec 32 :=
  v2140

def k0_off531 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off532 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2080_i32 : BitVec 32 := 2080#32
  let c0_i32_403 : BitVec 32 := 0#32
  ![v2.toNat, 2080, 0]
def k0_off533 (v2140 : BitVec 32) : Fin 2 → Nat :=
  let v2141 : BitVec 32 := v2140
  let c0_i32_404 : BitVec 32 := 0#32
  ![v2141.toNat, 0]

def k0_chk132 (v2140 : BitVec 32) : Prop :=
  (16 ∣ (k0_mult133 v2140).toNat) ∧
  (∀ a, (k0_off533 v2140) a + S16x1024.size a ≤ S851968x1024.size a) ∧
  (∀ (hinb : ∀ a, (k0_off533 v2140) a + S16x1024.size a ≤ S851968x1024.size a), (Rect.unit (s := S851968x1024) (k0_off533 v2140) S16x1024.size hinb).WholeWords (EltTy.packing .bf16))
theorem k0_mult133_dvd : ∀ (v2140 : BitVec 32) (k0_hw132 : k0_chk132 v2140), 16 ∣ (k0_mult133 v2140).toNat := fun v2140 k0_hw132 => k0_hw132.1
theorem k0_off533_inb : ∀ (v2140 : BitVec 32) (k0_hw132 : k0_chk132 v2140), ∀ a, (k0_off533 v2140) a + S16x1024.size a ≤ S851968x1024.size a := fun v2140 k0_hw132 => k0_hw132.2.1
theorem k0_off533_wordsbf16 : ∀ (v2140 : BitVec 32) (k0_hw132 : k0_chk132 v2140), (Rect.unit (s := S851968x1024) (k0_off533 v2140) S16x1024.size (k0_off533_inb v2140 k0_hw132)).WholeWords (EltTy.packing .bf16) := fun v2140 k0_hw132 => k0_hw132.2.2 (k0_off533_inb v2140 k0_hw132)

def k0_off534 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c131_i32 : BitVec 32 := 131#32
  let v2147 : BitVec 32 := Scalar.addi v38 c131_i32
  let v2148 : Index := Scalar.indexCast v2147
  ![v2148.toNat]
def k0_mult134 (v2149 : BitVec 32) : BitVec 32 :=
  v2149

def k0_off535 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off536 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2096_i32 : BitVec 32 := 2096#32
  let c0_i32_405 : BitVec 32 := 0#32
  ![v2.toNat, 2096, 0]
def k0_off537 (v2149 : BitVec 32) : Fin 2 → Nat :=
  let v2150 : BitVec 32 := v2149
  let c0_i32_406 : BitVec 32 := 0#32
  ![v2150.toNat, 0]

def k0_chk133 (v2149 : BitVec 32) : Prop :=
  (16 ∣ (k0_mult134 v2149).toNat) ∧
  (∀ a, (k0_off537 v2149) a + S16x1024.size a ≤ S851968x1024.size a) ∧
  (∀ (hinb : ∀ a, (k0_off537 v2149) a + S16x1024.size a ≤ S851968x1024.size a), (Rect.unit (s := S851968x1024) (k0_off537 v2149) S16x1024.size hinb).WholeWords (EltTy.packing .bf16))
theorem k0_mult134_dvd : ∀ (v2149 : BitVec 32) (k0_hw133 : k0_chk133 v2149), 16 ∣ (k0_mult134 v2149).toNat := fun v2149 k0_hw133 => k0_hw133.1
theorem k0_off537_inb : ∀ (v2149 : BitVec 32) (k0_hw133 : k0_chk133 v2149), ∀ a, (k0_off537 v2149) a + S16x1024.size a ≤ S851968x1024.size a := fun v2149 k0_hw133 => k0_hw133.2.1
theorem k0_off537_wordsbf16 : ∀ (v2149 : BitVec 32) (k0_hw133 : k0_chk133 v2149), (Rect.unit (s := S851968x1024) (k0_off537 v2149) S16x1024.size (k0_off537_inb v2149 k0_hw133)).WholeWords (EltTy.packing .bf16) := fun v2149 k0_hw133 => k0_hw133.2.2 (k0_off537_inb v2149 k0_hw133)

def k0_off538 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c132_i32 : BitVec 32 := 132#32
  let v2156 : BitVec 32 := Scalar.addi v38 c132_i32
  let v2157 : Index := Scalar.indexCast v2156
  ![v2157.toNat]
def k0_mult135 (v2158 : BitVec 32) : BitVec 32 :=
  v2158

def k0_off539 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off540 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2112_i32 : BitVec 32 := 2112#32
  let c0_i32_407 : BitVec 32 := 0#32
  ![v2.toNat, 2112, 0]
def k0_off541 (v2158 : BitVec 32) : Fin 2 → Nat :=
  let v2159 : BitVec 32 := v2158
  let c0_i32_408 : BitVec 32 := 0#32
  ![v2159.toNat, 0]

def k0_chk134 (v2158 : BitVec 32) : Prop :=
  (16 ∣ (k0_mult135 v2158).toNat) ∧
  (∀ a, (k0_off541 v2158) a + S16x1024.size a ≤ S851968x1024.size a) ∧
  (∀ (hinb : ∀ a, (k0_off541 v2158) a + S16x1024.size a ≤ S851968x1024.size a), (Rect.unit (s := S851968x1024) (k0_off541 v2158) S16x1024.size hinb).WholeWords (EltTy.packing .bf16))
theorem k0_mult135_dvd : ∀ (v2158 : BitVec 32) (k0_hw134 : k0_chk134 v2158), 16 ∣ (k0_mult135 v2158).toNat := fun v2158 k0_hw134 => k0_hw134.1
theorem k0_off541_inb : ∀ (v2158 : BitVec 32) (k0_hw134 : k0_chk134 v2158), ∀ a, (k0_off541 v2158) a + S16x1024.size a ≤ S851968x1024.size a := fun v2158 k0_hw134 => k0_hw134.2.1
theorem k0_off541_wordsbf16 : ∀ (v2158 : BitVec 32) (k0_hw134 : k0_chk134 v2158), (Rect.unit (s := S851968x1024) (k0_off541 v2158) S16x1024.size (k0_off541_inb v2158 k0_hw134)).WholeWords (EltTy.packing .bf16) := fun v2158 k0_hw134 => k0_hw134.2.2 (k0_off541_inb v2158 k0_hw134)

def k0_off542 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c133_i32 : BitVec 32 := 133#32
  let v2165 : BitVec 32 := Scalar.addi v38 c133_i32
  let v2166 : Index := Scalar.indexCast v2165
  ![v2166.toNat]
def k0_mult136 (v2167 : BitVec 32) : BitVec 32 :=
  v2167

def k0_off543 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off544 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2128_i32 : BitVec 32 := 2128#32
  let c0_i32_409 : BitVec 32 := 0#32
  ![v2.toNat, 2128, 0]
def k0_off545 (v2167 : BitVec 32) : Fin 2 → Nat :=
  let v2168 : BitVec 32 := v2167
  let c0_i32_410 : BitVec 32 := 0#32
  ![v2168.toNat, 0]

def k0_chk135 (v2167 : BitVec 32) : Prop :=
  (16 ∣ (k0_mult136 v2167).toNat) ∧
  (∀ a, (k0_off545 v2167) a + S16x1024.size a ≤ S851968x1024.size a) ∧
  (∀ (hinb : ∀ a, (k0_off545 v2167) a + S16x1024.size a ≤ S851968x1024.size a), (Rect.unit (s := S851968x1024) (k0_off545 v2167) S16x1024.size hinb).WholeWords (EltTy.packing .bf16))
theorem k0_mult136_dvd : ∀ (v2167 : BitVec 32) (k0_hw135 : k0_chk135 v2167), 16 ∣ (k0_mult136 v2167).toNat := fun v2167 k0_hw135 => k0_hw135.1
theorem k0_off545_inb : ∀ (v2167 : BitVec 32) (k0_hw135 : k0_chk135 v2167), ∀ a, (k0_off545 v2167) a + S16x1024.size a ≤ S851968x1024.size a := fun v2167 k0_hw135 => k0_hw135.2.1
theorem k0_off545_wordsbf16 : ∀ (v2167 : BitVec 32) (k0_hw135 : k0_chk135 v2167), (Rect.unit (s := S851968x1024) (k0_off545 v2167) S16x1024.size (k0_off545_inb v2167 k0_hw135)).WholeWords (EltTy.packing .bf16) := fun v2167 k0_hw135 => k0_hw135.2.2 (k0_off545_inb v2167 k0_hw135)

def k0_off546 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c134_i32 : BitVec 32 := 134#32
  let v2174 : BitVec 32 := Scalar.addi v38 c134_i32
  let v2175 : Index := Scalar.indexCast v2174
  ![v2175.toNat]
def k0_mult137 (v2176 : BitVec 32) : BitVec 32 :=
  v2176

def k0_off547 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off548 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2144_i32 : BitVec 32 := 2144#32
  let c0_i32_411 : BitVec 32 := 0#32
  ![v2.toNat, 2144, 0]
def k0_off549 (v2176 : BitVec 32) : Fin 2 → Nat :=
  let v2177 : BitVec 32 := v2176
  let c0_i32_412 : BitVec 32 := 0#32
  ![v2177.toNat, 0]

def k0_chk136 (v2176 : BitVec 32) : Prop :=
  (16 ∣ (k0_mult137 v2176).toNat) ∧
  (∀ a, (k0_off549 v2176) a + S16x1024.size a ≤ S851968x1024.size a) ∧
  (∀ (hinb : ∀ a, (k0_off549 v2176) a + S16x1024.size a ≤ S851968x1024.size a), (Rect.unit (s := S851968x1024) (k0_off549 v2176) S16x1024.size hinb).WholeWords (EltTy.packing .bf16))
theorem k0_mult137_dvd : ∀ (v2176 : BitVec 32) (k0_hw136 : k0_chk136 v2176), 16 ∣ (k0_mult137 v2176).toNat := fun v2176 k0_hw136 => k0_hw136.1
theorem k0_off549_inb : ∀ (v2176 : BitVec 32) (k0_hw136 : k0_chk136 v2176), ∀ a, (k0_off549 v2176) a + S16x1024.size a ≤ S851968x1024.size a := fun v2176 k0_hw136 => k0_hw136.2.1
theorem k0_off549_wordsbf16 : ∀ (v2176 : BitVec 32) (k0_hw136 : k0_chk136 v2176), (Rect.unit (s := S851968x1024) (k0_off549 v2176) S16x1024.size (k0_off549_inb v2176 k0_hw136)).WholeWords (EltTy.packing .bf16) := fun v2176 k0_hw136 => k0_hw136.2.2 (k0_off549_inb v2176 k0_hw136)

def k0_off550 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c135_i32 : BitVec 32 := 135#32
  let v2183 : BitVec 32 := Scalar.addi v38 c135_i32
  let v2184 : Index := Scalar.indexCast v2183
  ![v2184.toNat]
def k0_mult138 (v2185 : BitVec 32) : BitVec 32 :=
  v2185

def k0_off551 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off552 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2160_i32 : BitVec 32 := 2160#32
  let c0_i32_413 : BitVec 32 := 0#32
  ![v2.toNat, 2160, 0]
def k0_off553 (v2185 : BitVec 32) : Fin 2 → Nat :=
  let v2186 : BitVec 32 := v2185
  let c0_i32_414 : BitVec 32 := 0#32
  ![v2186.toNat, 0]

def k0_chk137 (v2185 : BitVec 32) : Prop :=
  (16 ∣ (k0_mult138 v2185).toNat) ∧
  (∀ a, (k0_off553 v2185) a + S16x1024.size a ≤ S851968x1024.size a) ∧
  (∀ (hinb : ∀ a, (k0_off553 v2185) a + S16x1024.size a ≤ S851968x1024.size a), (Rect.unit (s := S851968x1024) (k0_off553 v2185) S16x1024.size hinb).WholeWords (EltTy.packing .bf16))
theorem k0_mult138_dvd : ∀ (v2185 : BitVec 32) (k0_hw137 : k0_chk137 v2185), 16 ∣ (k0_mult138 v2185).toNat := fun v2185 k0_hw137 => k0_hw137.1
theorem k0_off553_inb : ∀ (v2185 : BitVec 32) (k0_hw137 : k0_chk137 v2185), ∀ a, (k0_off553 v2185) a + S16x1024.size a ≤ S851968x1024.size a := fun v2185 k0_hw137 => k0_hw137.2.1
theorem k0_off553_wordsbf16 : ∀ (v2185 : BitVec 32) (k0_hw137 : k0_chk137 v2185), (Rect.unit (s := S851968x1024) (k0_off553 v2185) S16x1024.size (k0_off553_inb v2185 k0_hw137)).WholeWords (EltTy.packing .bf16) := fun v2185 k0_hw137 => k0_hw137.2.2 (k0_off553_inb v2185 k0_hw137)

def k0_off554 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c136_i32 : BitVec 32 := 136#32
  let v2192 : BitVec 32 := Scalar.addi v38 c136_i32
  let v2193 : Index := Scalar.indexCast v2192
  ![v2193.toNat]
def k0_mult139 (v2194 : BitVec 32) : BitVec 32 :=
  v2194

def k0_off555 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off556 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2176_i32 : BitVec 32 := 2176#32
  let c0_i32_415 : BitVec 32 := 0#32
  ![v2.toNat, 2176, 0]
def k0_off557 (v2194 : BitVec 32) : Fin 2 → Nat :=
  let v2195 : BitVec 32 := v2194
  let c0_i32_416 : BitVec 32 := 0#32
  ![v2195.toNat, 0]

def k0_chk138 (v2194 : BitVec 32) : Prop :=
  (16 ∣ (k0_mult139 v2194).toNat) ∧
  (∀ a, (k0_off557 v2194) a + S16x1024.size a ≤ S851968x1024.size a) ∧
  (∀ (hinb : ∀ a, (k0_off557 v2194) a + S16x1024.size a ≤ S851968x1024.size a), (Rect.unit (s := S851968x1024) (k0_off557 v2194) S16x1024.size hinb).WholeWords (EltTy.packing .bf16))
theorem k0_mult139_dvd : ∀ (v2194 : BitVec 32) (k0_hw138 : k0_chk138 v2194), 16 ∣ (k0_mult139 v2194).toNat := fun v2194 k0_hw138 => k0_hw138.1
theorem k0_off557_inb : ∀ (v2194 : BitVec 32) (k0_hw138 : k0_chk138 v2194), ∀ a, (k0_off557 v2194) a + S16x1024.size a ≤ S851968x1024.size a := fun v2194 k0_hw138 => k0_hw138.2.1
theorem k0_off557_wordsbf16 : ∀ (v2194 : BitVec 32) (k0_hw138 : k0_chk138 v2194), (Rect.unit (s := S851968x1024) (k0_off557 v2194) S16x1024.size (k0_off557_inb v2194 k0_hw138)).WholeWords (EltTy.packing .bf16) := fun v2194 k0_hw138 => k0_hw138.2.2 (k0_off557_inb v2194 k0_hw138)

def k0_off558 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c137_i32 : BitVec 32 := 137#32
  let v2201 : BitVec 32 := Scalar.addi v38 c137_i32
  let v2202 : Index := Scalar.indexCast v2201
  ![v2202.toNat]
def k0_mult140 (v2203 : BitVec 32) : BitVec 32 :=
  v2203

def k0_off559 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off560 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2192_i32 : BitVec 32 := 2192#32
  let c0_i32_417 : BitVec 32 := 0#32
  ![v2.toNat, 2192, 0]
def k0_off561 (v2203 : BitVec 32) : Fin 2 → Nat :=
  let v2204 : BitVec 32 := v2203
  let c0_i32_418 : BitVec 32 := 0#32
  ![v2204.toNat, 0]

def k0_chk139 (v2203 : BitVec 32) : Prop :=
  (16 ∣ (k0_mult140 v2203).toNat) ∧
  (∀ a, (k0_off561 v2203) a + S16x1024.size a ≤ S851968x1024.size a) ∧
  (∀ (hinb : ∀ a, (k0_off561 v2203) a + S16x1024.size a ≤ S851968x1024.size a), (Rect.unit (s := S851968x1024) (k0_off561 v2203) S16x1024.size hinb).WholeWords (EltTy.packing .bf16))
theorem k0_mult140_dvd : ∀ (v2203 : BitVec 32) (k0_hw139 : k0_chk139 v2203), 16 ∣ (k0_mult140 v2203).toNat := fun v2203 k0_hw139 => k0_hw139.1
theorem k0_off561_inb : ∀ (v2203 : BitVec 32) (k0_hw139 : k0_chk139 v2203), ∀ a, (k0_off561 v2203) a + S16x1024.size a ≤ S851968x1024.size a := fun v2203 k0_hw139 => k0_hw139.2.1
theorem k0_off561_wordsbf16 : ∀ (v2203 : BitVec 32) (k0_hw139 : k0_chk139 v2203), (Rect.unit (s := S851968x1024) (k0_off561 v2203) S16x1024.size (k0_off561_inb v2203 k0_hw139)).WholeWords (EltTy.packing .bf16) := fun v2203 k0_hw139 => k0_hw139.2.2 (k0_off561_inb v2203 k0_hw139)

def k0_off562 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c138_i32 : BitVec 32 := 138#32
  let v2210 : BitVec 32 := Scalar.addi v38 c138_i32
  let v2211 : Index := Scalar.indexCast v2210
  ![v2211.toNat]
def k0_mult141 (v2212 : BitVec 32) : BitVec 32 :=
  v2212

def k0_off563 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off564 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2208_i32 : BitVec 32 := 2208#32
  let c0_i32_419 : BitVec 32 := 0#32
  ![v2.toNat, 2208, 0]
def k0_off565 (v2212 : BitVec 32) : Fin 2 → Nat :=
  let v2213 : BitVec 32 := v2212
  let c0_i32_420 : BitVec 32 := 0#32
  ![v2213.toNat, 0]

def k0_chk140 (v2212 : BitVec 32) : Prop :=
  (16 ∣ (k0_mult141 v2212).toNat) ∧
  (∀ a, (k0_off565 v2212) a + S16x1024.size a ≤ S851968x1024.size a) ∧
  (∀ (hinb : ∀ a, (k0_off565 v2212) a + S16x1024.size a ≤ S851968x1024.size a), (Rect.unit (s := S851968x1024) (k0_off565 v2212) S16x1024.size hinb).WholeWords (EltTy.packing .bf16))
theorem k0_mult141_dvd : ∀ (v2212 : BitVec 32) (k0_hw140 : k0_chk140 v2212), 16 ∣ (k0_mult141 v2212).toNat := fun v2212 k0_hw140 => k0_hw140.1
theorem k0_off565_inb : ∀ (v2212 : BitVec 32) (k0_hw140 : k0_chk140 v2212), ∀ a, (k0_off565 v2212) a + S16x1024.size a ≤ S851968x1024.size a := fun v2212 k0_hw140 => k0_hw140.2.1
theorem k0_off565_wordsbf16 : ∀ (v2212 : BitVec 32) (k0_hw140 : k0_chk140 v2212), (Rect.unit (s := S851968x1024) (k0_off565 v2212) S16x1024.size (k0_off565_inb v2212 k0_hw140)).WholeWords (EltTy.packing .bf16) := fun v2212 k0_hw140 => k0_hw140.2.2 (k0_off565_inb v2212 k0_hw140)

def k0_off566 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c139_i32 : BitVec 32 := 139#32
  let v2219 : BitVec 32 := Scalar.addi v38 c139_i32
  let v2220 : Index := Scalar.indexCast v2219
  ![v2220.toNat]
def k0_mult142 (v2221 : BitVec 32) : BitVec 32 :=
  v2221

def k0_off567 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off568 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2224_i32 : BitVec 32 := 2224#32
  let c0_i32_421 : BitVec 32 := 0#32
  ![v2.toNat, 2224, 0]
def k0_off569 (v2221 : BitVec 32) : Fin 2 → Nat :=
  let v2222 : BitVec 32 := v2221
  let c0_i32_422 : BitVec 32 := 0#32
  ![v2222.toNat, 0]

def k0_chk141 (v2221 : BitVec 32) : Prop :=
  (16 ∣ (k0_mult142 v2221).toNat) ∧
  (∀ a, (k0_off569 v2221) a + S16x1024.size a ≤ S851968x1024.size a) ∧
  (∀ (hinb : ∀ a, (k0_off569 v2221) a + S16x1024.size a ≤ S851968x1024.size a), (Rect.unit (s := S851968x1024) (k0_off569 v2221) S16x1024.size hinb).WholeWords (EltTy.packing .bf16))
theorem k0_mult142_dvd : ∀ (v2221 : BitVec 32) (k0_hw141 : k0_chk141 v2221), 16 ∣ (k0_mult142 v2221).toNat := fun v2221 k0_hw141 => k0_hw141.1
theorem k0_off569_inb : ∀ (v2221 : BitVec 32) (k0_hw141 : k0_chk141 v2221), ∀ a, (k0_off569 v2221) a + S16x1024.size a ≤ S851968x1024.size a := fun v2221 k0_hw141 => k0_hw141.2.1
theorem k0_off569_wordsbf16 : ∀ (v2221 : BitVec 32) (k0_hw141 : k0_chk141 v2221), (Rect.unit (s := S851968x1024) (k0_off569 v2221) S16x1024.size (k0_off569_inb v2221 k0_hw141)).WholeWords (EltTy.packing .bf16) := fun v2221 k0_hw141 => k0_hw141.2.2 (k0_off569_inb v2221 k0_hw141)

def k0_off570 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c140_i32 : BitVec 32 := 140#32
  let v2228 : BitVec 32 := Scalar.addi v38 c140_i32
  let v2229 : Index := Scalar.indexCast v2228
  ![v2229.toNat]
def k0_mult143 (v2230 : BitVec 32) : BitVec 32 :=
  v2230

def k0_off571 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off572 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2240_i32 : BitVec 32 := 2240#32
  let c0_i32_423 : BitVec 32 := 0#32
  ![v2.toNat, 2240, 0]
def k0_off573 (v2230 : BitVec 32) : Fin 2 → Nat :=
  let v2231 : BitVec 32 := v2230
  let c0_i32_424 : BitVec 32 := 0#32
  ![v2231.toNat, 0]

def k0_chk142 (v2230 : BitVec 32) : Prop :=
  (16 ∣ (k0_mult143 v2230).toNat) ∧
  (∀ a, (k0_off573 v2230) a + S16x1024.size a ≤ S851968x1024.size a) ∧
  (∀ (hinb : ∀ a, (k0_off573 v2230) a + S16x1024.size a ≤ S851968x1024.size a), (Rect.unit (s := S851968x1024) (k0_off573 v2230) S16x1024.size hinb).WholeWords (EltTy.packing .bf16))
theorem k0_mult143_dvd : ∀ (v2230 : BitVec 32) (k0_hw142 : k0_chk142 v2230), 16 ∣ (k0_mult143 v2230).toNat := fun v2230 k0_hw142 => k0_hw142.1
theorem k0_off573_inb : ∀ (v2230 : BitVec 32) (k0_hw142 : k0_chk142 v2230), ∀ a, (k0_off573 v2230) a + S16x1024.size a ≤ S851968x1024.size a := fun v2230 k0_hw142 => k0_hw142.2.1
theorem k0_off573_wordsbf16 : ∀ (v2230 : BitVec 32) (k0_hw142 : k0_chk142 v2230), (Rect.unit (s := S851968x1024) (k0_off573 v2230) S16x1024.size (k0_off573_inb v2230 k0_hw142)).WholeWords (EltTy.packing .bf16) := fun v2230 k0_hw142 => k0_hw142.2.2 (k0_off573_inb v2230 k0_hw142)

def k0_off574 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c141_i32 : BitVec 32 := 141#32
  let v2237 : BitVec 32 := Scalar.addi v38 c141_i32
  let v2238 : Index := Scalar.indexCast v2237
  ![v2238.toNat]
def k0_mult144 (v2239 : BitVec 32) : BitVec 32 :=
  v2239

def k0_off575 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off576 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2256_i32 : BitVec 32 := 2256#32
  let c0_i32_425 : BitVec 32 := 0#32
  ![v2.toNat, 2256, 0]
def k0_off577 (v2239 : BitVec 32) : Fin 2 → Nat :=
  let v2240 : BitVec 32 := v2239
  let c0_i32_426 : BitVec 32 := 0#32
  ![v2240.toNat, 0]

def k0_chk143 (v2239 : BitVec 32) : Prop :=
  (16 ∣ (k0_mult144 v2239).toNat) ∧
  (∀ a, (k0_off577 v2239) a + S16x1024.size a ≤ S851968x1024.size a) ∧
  (∀ (hinb : ∀ a, (k0_off577 v2239) a + S16x1024.size a ≤ S851968x1024.size a), (Rect.unit (s := S851968x1024) (k0_off577 v2239) S16x1024.size hinb).WholeWords (EltTy.packing .bf16))
theorem k0_mult144_dvd : ∀ (v2239 : BitVec 32) (k0_hw143 : k0_chk143 v2239), 16 ∣ (k0_mult144 v2239).toNat := fun v2239 k0_hw143 => k0_hw143.1
theorem k0_off577_inb : ∀ (v2239 : BitVec 32) (k0_hw143 : k0_chk143 v2239), ∀ a, (k0_off577 v2239) a + S16x1024.size a ≤ S851968x1024.size a := fun v2239 k0_hw143 => k0_hw143.2.1
theorem k0_off577_wordsbf16 : ∀ (v2239 : BitVec 32) (k0_hw143 : k0_chk143 v2239), (Rect.unit (s := S851968x1024) (k0_off577 v2239) S16x1024.size (k0_off577_inb v2239 k0_hw143)).WholeWords (EltTy.packing .bf16) := fun v2239 k0_hw143 => k0_hw143.2.2 (k0_off577_inb v2239 k0_hw143)

def k0_off578 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c142_i32 : BitVec 32 := 142#32
  let v2246 : BitVec 32 := Scalar.addi v38 c142_i32
  let v2247 : Index := Scalar.indexCast v2246
  ![v2247.toNat]
def k0_mult145 (v2248 : BitVec 32) : BitVec 32 :=
  v2248

def k0_off579 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off580 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2272_i32 : BitVec 32 := 2272#32
  let c0_i32_427 : BitVec 32 := 0#32
  ![v2.toNat, 2272, 0]
def k0_off581 (v2248 : BitVec 32) : Fin 2 → Nat :=
  let v2249 : BitVec 32 := v2248
  let c0_i32_428 : BitVec 32 := 0#32
  ![v2249.toNat, 0]

def k0_chk144 (v2248 : BitVec 32) : Prop :=
  (16 ∣ (k0_mult145 v2248).toNat) ∧
  (∀ a, (k0_off581 v2248) a + S16x1024.size a ≤ S851968x1024.size a) ∧
  (∀ (hinb : ∀ a, (k0_off581 v2248) a + S16x1024.size a ≤ S851968x1024.size a), (Rect.unit (s := S851968x1024) (k0_off581 v2248) S16x1024.size hinb).WholeWords (EltTy.packing .bf16))
theorem k0_mult145_dvd : ∀ (v2248 : BitVec 32) (k0_hw144 : k0_chk144 v2248), 16 ∣ (k0_mult145 v2248).toNat := fun v2248 k0_hw144 => k0_hw144.1
theorem k0_off581_inb : ∀ (v2248 : BitVec 32) (k0_hw144 : k0_chk144 v2248), ∀ a, (k0_off581 v2248) a + S16x1024.size a ≤ S851968x1024.size a := fun v2248 k0_hw144 => k0_hw144.2.1
theorem k0_off581_wordsbf16 : ∀ (v2248 : BitVec 32) (k0_hw144 : k0_chk144 v2248), (Rect.unit (s := S851968x1024) (k0_off581 v2248) S16x1024.size (k0_off581_inb v2248 k0_hw144)).WholeWords (EltTy.packing .bf16) := fun v2248 k0_hw144 => k0_hw144.2.2 (k0_off581_inb v2248 k0_hw144)

def k0_off582 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c143_i32 : BitVec 32 := 143#32
  let v2255 : BitVec 32 := Scalar.addi v38 c143_i32
  let v2256 : Index := Scalar.indexCast v2255
  ![v2256.toNat]
def k0_mult146 (v2257 : BitVec 32) : BitVec 32 :=
  v2257

def k0_off583 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off584 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2288_i32 : BitVec 32 := 2288#32
  let c0_i32_429 : BitVec 32 := 0#32
  ![v2.toNat, 2288, 0]
def k0_off585 (v2257 : BitVec 32) : Fin 2 → Nat :=
  let v2258 : BitVec 32 := v2257
  let c0_i32_430 : BitVec 32 := 0#32
  ![v2258.toNat, 0]

def k0_chk145 (v2257 : BitVec 32) : Prop :=
  (16 ∣ (k0_mult146 v2257).toNat) ∧
  (∀ a, (k0_off585 v2257) a + S16x1024.size a ≤ S851968x1024.size a) ∧
  (∀ (hinb : ∀ a, (k0_off585 v2257) a + S16x1024.size a ≤ S851968x1024.size a), (Rect.unit (s := S851968x1024) (k0_off585 v2257) S16x1024.size hinb).WholeWords (EltTy.packing .bf16))
theorem k0_mult146_dvd : ∀ (v2257 : BitVec 32) (k0_hw145 : k0_chk145 v2257), 16 ∣ (k0_mult146 v2257).toNat := fun v2257 k0_hw145 => k0_hw145.1
theorem k0_off585_inb : ∀ (v2257 : BitVec 32) (k0_hw145 : k0_chk145 v2257), ∀ a, (k0_off585 v2257) a + S16x1024.size a ≤ S851968x1024.size a := fun v2257 k0_hw145 => k0_hw145.2.1
theorem k0_off585_wordsbf16 : ∀ (v2257 : BitVec 32) (k0_hw145 : k0_chk145 v2257), (Rect.unit (s := S851968x1024) (k0_off585 v2257) S16x1024.size (k0_off585_inb v2257 k0_hw145)).WholeWords (EltTy.packing .bf16) := fun v2257 k0_hw145 => k0_hw145.2.2 (k0_off585_inb v2257 k0_hw145)

def k0_off586 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c144_i32_431 : BitVec 32 := 144#32
  let v2264 : BitVec 32 := Scalar.addi v38 c144_i32_431
  let v2265 : Index := Scalar.indexCast v2264
  ![v2265.toNat]
def k0_mult147 (v2266 : BitVec 32) : BitVec 32 :=
  v2266

def k0_off587 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off588 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2304_i32 : BitVec 32 := 2304#32
  let c0_i32_432 : BitVec 32 := 0#32
  ![v2.toNat, 2304, 0]
def k0_off589 (v2266 : BitVec 32) : Fin 2 → Nat :=
  let v2267 : BitVec 32 := v2266
  let c0_i32_433 : BitVec 32 := 0#32
  ![v2267.toNat, 0]

def k0_chk146 (v2266 : BitVec 32) : Prop :=
  (16 ∣ (k0_mult147 v2266).toNat) ∧
  (∀ a, (k0_off589 v2266) a + S16x1024.size a ≤ S851968x1024.size a) ∧
  (∀ (hinb : ∀ a, (k0_off589 v2266) a + S16x1024.size a ≤ S851968x1024.size a), (Rect.unit (s := S851968x1024) (k0_off589 v2266) S16x1024.size hinb).WholeWords (EltTy.packing .bf16))
theorem k0_mult147_dvd : ∀ (v2266 : BitVec 32) (k0_hw146 : k0_chk146 v2266), 16 ∣ (k0_mult147 v2266).toNat := fun v2266 k0_hw146 => k0_hw146.1
theorem k0_off589_inb : ∀ (v2266 : BitVec 32) (k0_hw146 : k0_chk146 v2266), ∀ a, (k0_off589 v2266) a + S16x1024.size a ≤ S851968x1024.size a := fun v2266 k0_hw146 => k0_hw146.2.1
theorem k0_off589_wordsbf16 : ∀ (v2266 : BitVec 32) (k0_hw146 : k0_chk146 v2266), (Rect.unit (s := S851968x1024) (k0_off589 v2266) S16x1024.size (k0_off589_inb v2266 k0_hw146)).WholeWords (EltTy.packing .bf16) := fun v2266 k0_hw146 => k0_hw146.2.2 (k0_off589_inb v2266 k0_hw146)

def k0_off590 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c145_i32 : BitVec 32 := 145#32
  let v2273 : BitVec 32 := Scalar.addi v38 c145_i32
  let v2274 : Index := Scalar.indexCast v2273
  ![v2274.toNat]
def k0_mult148 (v2275 : BitVec 32) : BitVec 32 :=
  v2275

def k0_off591 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off592 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2320_i32 : BitVec 32 := 2320#32
  let c0_i32_434 : BitVec 32 := 0#32
  ![v2.toNat, 2320, 0]
def k0_off593 (v2275 : BitVec 32) : Fin 2 → Nat :=
  let v2276 : BitVec 32 := v2275
  let c0_i32_435 : BitVec 32 := 0#32
  ![v2276.toNat, 0]

def k0_chk147 (v2275 : BitVec 32) : Prop :=
  (16 ∣ (k0_mult148 v2275).toNat) ∧
  (∀ a, (k0_off593 v2275) a + S16x1024.size a ≤ S851968x1024.size a) ∧
  (∀ (hinb : ∀ a, (k0_off593 v2275) a + S16x1024.size a ≤ S851968x1024.size a), (Rect.unit (s := S851968x1024) (k0_off593 v2275) S16x1024.size hinb).WholeWords (EltTy.packing .bf16))
theorem k0_mult148_dvd : ∀ (v2275 : BitVec 32) (k0_hw147 : k0_chk147 v2275), 16 ∣ (k0_mult148 v2275).toNat := fun v2275 k0_hw147 => k0_hw147.1
theorem k0_off593_inb : ∀ (v2275 : BitVec 32) (k0_hw147 : k0_chk147 v2275), ∀ a, (k0_off593 v2275) a + S16x1024.size a ≤ S851968x1024.size a := fun v2275 k0_hw147 => k0_hw147.2.1
theorem k0_off593_wordsbf16 : ∀ (v2275 : BitVec 32) (k0_hw147 : k0_chk147 v2275), (Rect.unit (s := S851968x1024) (k0_off593 v2275) S16x1024.size (k0_off593_inb v2275 k0_hw147)).WholeWords (EltTy.packing .bf16) := fun v2275 k0_hw147 => k0_hw147.2.2 (k0_off593_inb v2275 k0_hw147)

def k0_off594 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c146_i32 : BitVec 32 := 146#32
  let v2282 : BitVec 32 := Scalar.addi v38 c146_i32
  let v2283 : Index := Scalar.indexCast v2282
  ![v2283.toNat]
def k0_mult149 (v2284 : BitVec 32) : BitVec 32 :=
  v2284

def k0_off595 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off596 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2336_i32 : BitVec 32 := 2336#32
  let c0_i32_436 : BitVec 32 := 0#32
  ![v2.toNat, 2336, 0]
def k0_off597 (v2284 : BitVec 32) : Fin 2 → Nat :=
  let v2285 : BitVec 32 := v2284
  let c0_i32_437 : BitVec 32 := 0#32
  ![v2285.toNat, 0]

def k0_chk148 (v2284 : BitVec 32) : Prop :=
  (16 ∣ (k0_mult149 v2284).toNat) ∧
  (∀ a, (k0_off597 v2284) a + S16x1024.size a ≤ S851968x1024.size a) ∧
  (∀ (hinb : ∀ a, (k0_off597 v2284) a + S16x1024.size a ≤ S851968x1024.size a), (Rect.unit (s := S851968x1024) (k0_off597 v2284) S16x1024.size hinb).WholeWords (EltTy.packing .bf16))
theorem k0_mult149_dvd : ∀ (v2284 : BitVec 32) (k0_hw148 : k0_chk148 v2284), 16 ∣ (k0_mult149 v2284).toNat := fun v2284 k0_hw148 => k0_hw148.1
theorem k0_off597_inb : ∀ (v2284 : BitVec 32) (k0_hw148 : k0_chk148 v2284), ∀ a, (k0_off597 v2284) a + S16x1024.size a ≤ S851968x1024.size a := fun v2284 k0_hw148 => k0_hw148.2.1
theorem k0_off597_wordsbf16 : ∀ (v2284 : BitVec 32) (k0_hw148 : k0_chk148 v2284), (Rect.unit (s := S851968x1024) (k0_off597 v2284) S16x1024.size (k0_off597_inb v2284 k0_hw148)).WholeWords (EltTy.packing .bf16) := fun v2284 k0_hw148 => k0_hw148.2.2 (k0_off597_inb v2284 k0_hw148)

def k0_off598 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c147_i32 : BitVec 32 := 147#32
  let v2291 : BitVec 32 := Scalar.addi v38 c147_i32
  let v2292 : Index := Scalar.indexCast v2291
  ![v2292.toNat]
def k0_mult150 (v2293 : BitVec 32) : BitVec 32 :=
  v2293

def k0_off599 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off600 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2352_i32 : BitVec 32 := 2352#32
  let c0_i32_438 : BitVec 32 := 0#32
  ![v2.toNat, 2352, 0]
def k0_off601 (v2293 : BitVec 32) : Fin 2 → Nat :=
  let v2294 : BitVec 32 := v2293
  let c0_i32_439 : BitVec 32 := 0#32
  ![v2294.toNat, 0]

def k0_chk149 (v2293 : BitVec 32) : Prop :=
  (16 ∣ (k0_mult150 v2293).toNat) ∧
  (∀ a, (k0_off601 v2293) a + S16x1024.size a ≤ S851968x1024.size a) ∧
  (∀ (hinb : ∀ a, (k0_off601 v2293) a + S16x1024.size a ≤ S851968x1024.size a), (Rect.unit (s := S851968x1024) (k0_off601 v2293) S16x1024.size hinb).WholeWords (EltTy.packing .bf16))
theorem k0_mult150_dvd : ∀ (v2293 : BitVec 32) (k0_hw149 : k0_chk149 v2293), 16 ∣ (k0_mult150 v2293).toNat := fun v2293 k0_hw149 => k0_hw149.1
theorem k0_off601_inb : ∀ (v2293 : BitVec 32) (k0_hw149 : k0_chk149 v2293), ∀ a, (k0_off601 v2293) a + S16x1024.size a ≤ S851968x1024.size a := fun v2293 k0_hw149 => k0_hw149.2.1
theorem k0_off601_wordsbf16 : ∀ (v2293 : BitVec 32) (k0_hw149 : k0_chk149 v2293), (Rect.unit (s := S851968x1024) (k0_off601 v2293) S16x1024.size (k0_off601_inb v2293 k0_hw149)).WholeWords (EltTy.packing .bf16) := fun v2293 k0_hw149 => k0_hw149.2.2 (k0_off601_inb v2293 k0_hw149)

def k0_off602 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c148_i32 : BitVec 32 := 148#32
  let v2300 : BitVec 32 := Scalar.addi v38 c148_i32
  let v2301 : Index := Scalar.indexCast v2300
  ![v2301.toNat]
def k0_mult151 (v2302 : BitVec 32) : BitVec 32 :=
  v2302

def k0_off603 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off604 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2368_i32 : BitVec 32 := 2368#32
  let c0_i32_440 : BitVec 32 := 0#32
  ![v2.toNat, 2368, 0]
def k0_off605 (v2302 : BitVec 32) : Fin 2 → Nat :=
  let v2303 : BitVec 32 := v2302
  let c0_i32_441 : BitVec 32 := 0#32
  ![v2303.toNat, 0]

def k0_chk150 (v2302 : BitVec 32) : Prop :=
  (16 ∣ (k0_mult151 v2302).toNat) ∧
  (∀ a, (k0_off605 v2302) a + S16x1024.size a ≤ S851968x1024.size a) ∧
  (∀ (hinb : ∀ a, (k0_off605 v2302) a + S16x1024.size a ≤ S851968x1024.size a), (Rect.unit (s := S851968x1024) (k0_off605 v2302) S16x1024.size hinb).WholeWords (EltTy.packing .bf16))
theorem k0_mult151_dvd : ∀ (v2302 : BitVec 32) (k0_hw150 : k0_chk150 v2302), 16 ∣ (k0_mult151 v2302).toNat := fun v2302 k0_hw150 => k0_hw150.1
theorem k0_off605_inb : ∀ (v2302 : BitVec 32) (k0_hw150 : k0_chk150 v2302), ∀ a, (k0_off605 v2302) a + S16x1024.size a ≤ S851968x1024.size a := fun v2302 k0_hw150 => k0_hw150.2.1
theorem k0_off605_wordsbf16 : ∀ (v2302 : BitVec 32) (k0_hw150 : k0_chk150 v2302), (Rect.unit (s := S851968x1024) (k0_off605 v2302) S16x1024.size (k0_off605_inb v2302 k0_hw150)).WholeWords (EltTy.packing .bf16) := fun v2302 k0_hw150 => k0_hw150.2.2 (k0_off605_inb v2302 k0_hw150)

def k0_off606 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c149_i32 : BitVec 32 := 149#32
  let v2309 : BitVec 32 := Scalar.addi v38 c149_i32
  let v2310 : Index := Scalar.indexCast v2309
  ![v2310.toNat]
def k0_mult152 (v2311 : BitVec 32) : BitVec 32 :=
  v2311

def k0_off607 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off608 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2384_i32 : BitVec 32 := 2384#32
  let c0_i32_442 : BitVec 32 := 0#32
  ![v2.toNat, 2384, 0]
def k0_off609 (v2311 : BitVec 32) : Fin 2 → Nat :=
  let v2312 : BitVec 32 := v2311
  let c0_i32_443 : BitVec 32 := 0#32
  ![v2312.toNat, 0]

def k0_chk151 (v2311 : BitVec 32) : Prop :=
  (16 ∣ (k0_mult152 v2311).toNat) ∧
  (∀ a, (k0_off609 v2311) a + S16x1024.size a ≤ S851968x1024.size a) ∧
  (∀ (hinb : ∀ a, (k0_off609 v2311) a + S16x1024.size a ≤ S851968x1024.size a), (Rect.unit (s := S851968x1024) (k0_off609 v2311) S16x1024.size hinb).WholeWords (EltTy.packing .bf16))
theorem k0_mult152_dvd : ∀ (v2311 : BitVec 32) (k0_hw151 : k0_chk151 v2311), 16 ∣ (k0_mult152 v2311).toNat := fun v2311 k0_hw151 => k0_hw151.1
theorem k0_off609_inb : ∀ (v2311 : BitVec 32) (k0_hw151 : k0_chk151 v2311), ∀ a, (k0_off609 v2311) a + S16x1024.size a ≤ S851968x1024.size a := fun v2311 k0_hw151 => k0_hw151.2.1
theorem k0_off609_wordsbf16 : ∀ (v2311 : BitVec 32) (k0_hw151 : k0_chk151 v2311), (Rect.unit (s := S851968x1024) (k0_off609 v2311) S16x1024.size (k0_off609_inb v2311 k0_hw151)).WholeWords (EltTy.packing .bf16) := fun v2311 k0_hw151 => k0_hw151.2.2 (k0_off609_inb v2311 k0_hw151)

def k0_off610 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c150_i32 : BitVec 32 := 150#32
  let v2318 : BitVec 32 := Scalar.addi v38 c150_i32
  let v2319 : Index := Scalar.indexCast v2318
  ![v2319.toNat]
def k0_mult153 (v2320 : BitVec 32) : BitVec 32 :=
  v2320

def k0_off611 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off612 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2400_i32 : BitVec 32 := 2400#32
  let c0_i32_444 : BitVec 32 := 0#32
  ![v2.toNat, 2400, 0]
def k0_off613 (v2320 : BitVec 32) : Fin 2 → Nat :=
  let v2321 : BitVec 32 := v2320
  let c0_i32_445 : BitVec 32 := 0#32
  ![v2321.toNat, 0]

def k0_chk152 (v2320 : BitVec 32) : Prop :=
  (16 ∣ (k0_mult153 v2320).toNat) ∧
  (∀ a, (k0_off613 v2320) a + S16x1024.size a ≤ S851968x1024.size a) ∧
  (∀ (hinb : ∀ a, (k0_off613 v2320) a + S16x1024.size a ≤ S851968x1024.size a), (Rect.unit (s := S851968x1024) (k0_off613 v2320) S16x1024.size hinb).WholeWords (EltTy.packing .bf16))
theorem k0_mult153_dvd : ∀ (v2320 : BitVec 32) (k0_hw152 : k0_chk152 v2320), 16 ∣ (k0_mult153 v2320).toNat := fun v2320 k0_hw152 => k0_hw152.1
theorem k0_off613_inb : ∀ (v2320 : BitVec 32) (k0_hw152 : k0_chk152 v2320), ∀ a, (k0_off613 v2320) a + S16x1024.size a ≤ S851968x1024.size a := fun v2320 k0_hw152 => k0_hw152.2.1
theorem k0_off613_wordsbf16 : ∀ (v2320 : BitVec 32) (k0_hw152 : k0_chk152 v2320), (Rect.unit (s := S851968x1024) (k0_off613 v2320) S16x1024.size (k0_off613_inb v2320 k0_hw152)).WholeWords (EltTy.packing .bf16) := fun v2320 k0_hw152 => k0_hw152.2.2 (k0_off613_inb v2320 k0_hw152)

def k0_off614 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c151_i32 : BitVec 32 := 151#32
  let v2327 : BitVec 32 := Scalar.addi v38 c151_i32
  let v2328 : Index := Scalar.indexCast v2327
  ![v2328.toNat]
def k0_mult154 (v2329 : BitVec 32) : BitVec 32 :=
  v2329

def k0_off615 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off616 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2416_i32 : BitVec 32 := 2416#32
  let c0_i32_446 : BitVec 32 := 0#32
  ![v2.toNat, 2416, 0]
def k0_off617 (v2329 : BitVec 32) : Fin 2 → Nat :=
  let v2330 : BitVec 32 := v2329
  let c0_i32_447 : BitVec 32 := 0#32
  ![v2330.toNat, 0]

def k0_chk153 (v2329 : BitVec 32) : Prop :=
  (16 ∣ (k0_mult154 v2329).toNat) ∧
  (∀ a, (k0_off617 v2329) a + S16x1024.size a ≤ S851968x1024.size a) ∧
  (∀ (hinb : ∀ a, (k0_off617 v2329) a + S16x1024.size a ≤ S851968x1024.size a), (Rect.unit (s := S851968x1024) (k0_off617 v2329) S16x1024.size hinb).WholeWords (EltTy.packing .bf16))
theorem k0_mult154_dvd : ∀ (v2329 : BitVec 32) (k0_hw153 : k0_chk153 v2329), 16 ∣ (k0_mult154 v2329).toNat := fun v2329 k0_hw153 => k0_hw153.1
theorem k0_off617_inb : ∀ (v2329 : BitVec 32) (k0_hw153 : k0_chk153 v2329), ∀ a, (k0_off617 v2329) a + S16x1024.size a ≤ S851968x1024.size a := fun v2329 k0_hw153 => k0_hw153.2.1
theorem k0_off617_wordsbf16 : ∀ (v2329 : BitVec 32) (k0_hw153 : k0_chk153 v2329), (Rect.unit (s := S851968x1024) (k0_off617 v2329) S16x1024.size (k0_off617_inb v2329 k0_hw153)).WholeWords (EltTy.packing .bf16) := fun v2329 k0_hw153 => k0_hw153.2.2 (k0_off617_inb v2329 k0_hw153)

def k0_off618 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c152_i32 : BitVec 32 := 152#32
  let v2336 : BitVec 32 := Scalar.addi v38 c152_i32
  let v2337 : Index := Scalar.indexCast v2336
  ![v2337.toNat]
def k0_mult155 (v2338 : BitVec 32) : BitVec 32 :=
  v2338

def k0_off619 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off620 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2432_i32 : BitVec 32 := 2432#32
  let c0_i32_448 : BitVec 32 := 0#32
  ![v2.toNat, 2432, 0]
def k0_off621 (v2338 : BitVec 32) : Fin 2 → Nat :=
  let v2339 : BitVec 32 := v2338
  let c0_i32_449 : BitVec 32 := 0#32
  ![v2339.toNat, 0]

def k0_chk154 (v2338 : BitVec 32) : Prop :=
  (16 ∣ (k0_mult155 v2338).toNat) ∧
  (∀ a, (k0_off621 v2338) a + S16x1024.size a ≤ S851968x1024.size a) ∧
  (∀ (hinb : ∀ a, (k0_off621 v2338) a + S16x1024.size a ≤ S851968x1024.size a), (Rect.unit (s := S851968x1024) (k0_off621 v2338) S16x1024.size hinb).WholeWords (EltTy.packing .bf16))
theorem k0_mult155_dvd : ∀ (v2338 : BitVec 32) (k0_hw154 : k0_chk154 v2338), 16 ∣ (k0_mult155 v2338).toNat := fun v2338 k0_hw154 => k0_hw154.1
theorem k0_off621_inb : ∀ (v2338 : BitVec 32) (k0_hw154 : k0_chk154 v2338), ∀ a, (k0_off621 v2338) a + S16x1024.size a ≤ S851968x1024.size a := fun v2338 k0_hw154 => k0_hw154.2.1
theorem k0_off621_wordsbf16 : ∀ (v2338 : BitVec 32) (k0_hw154 : k0_chk154 v2338), (Rect.unit (s := S851968x1024) (k0_off621 v2338) S16x1024.size (k0_off621_inb v2338 k0_hw154)).WholeWords (EltTy.packing .bf16) := fun v2338 k0_hw154 => k0_hw154.2.2 (k0_off621_inb v2338 k0_hw154)

def k0_off622 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c153_i32 : BitVec 32 := 153#32
  let v2345 : BitVec 32 := Scalar.addi v38 c153_i32
  let v2346 : Index := Scalar.indexCast v2345
  ![v2346.toNat]
def k0_mult156 (v2347 : BitVec 32) : BitVec 32 :=
  v2347

def k0_off623 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off624 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2448_i32 : BitVec 32 := 2448#32
  let c0_i32_450 : BitVec 32 := 0#32
  ![v2.toNat, 2448, 0]
def k0_off625 (v2347 : BitVec 32) : Fin 2 → Nat :=
  let v2348 : BitVec 32 := v2347
  let c0_i32_451 : BitVec 32 := 0#32
  ![v2348.toNat, 0]

def k0_chk155 (v2347 : BitVec 32) : Prop :=
  (16 ∣ (k0_mult156 v2347).toNat) ∧
  (∀ a, (k0_off625 v2347) a + S16x1024.size a ≤ S851968x1024.size a) ∧
  (∀ (hinb : ∀ a, (k0_off625 v2347) a + S16x1024.size a ≤ S851968x1024.size a), (Rect.unit (s := S851968x1024) (k0_off625 v2347) S16x1024.size hinb).WholeWords (EltTy.packing .bf16))
theorem k0_mult156_dvd : ∀ (v2347 : BitVec 32) (k0_hw155 : k0_chk155 v2347), 16 ∣ (k0_mult156 v2347).toNat := fun v2347 k0_hw155 => k0_hw155.1
theorem k0_off625_inb : ∀ (v2347 : BitVec 32) (k0_hw155 : k0_chk155 v2347), ∀ a, (k0_off625 v2347) a + S16x1024.size a ≤ S851968x1024.size a := fun v2347 k0_hw155 => k0_hw155.2.1
theorem k0_off625_wordsbf16 : ∀ (v2347 : BitVec 32) (k0_hw155 : k0_chk155 v2347), (Rect.unit (s := S851968x1024) (k0_off625 v2347) S16x1024.size (k0_off625_inb v2347 k0_hw155)).WholeWords (EltTy.packing .bf16) := fun v2347 k0_hw155 => k0_hw155.2.2 (k0_off625_inb v2347 k0_hw155)

def k0_off626 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c154_i32 : BitVec 32 := 154#32
  let v2354 : BitVec 32 := Scalar.addi v38 c154_i32
  let v2355 : Index := Scalar.indexCast v2354
  ![v2355.toNat]
def k0_mult157 (v2356 : BitVec 32) : BitVec 32 :=
  v2356

def k0_off627 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off628 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2464_i32 : BitVec 32 := 2464#32
  let c0_i32_452 : BitVec 32 := 0#32
  ![v2.toNat, 2464, 0]
def k0_off629 (v2356 : BitVec 32) : Fin 2 → Nat :=
  let v2357 : BitVec 32 := v2356
  let c0_i32_453 : BitVec 32 := 0#32
  ![v2357.toNat, 0]

def k0_chk156 (v2356 : BitVec 32) : Prop :=
  (16 ∣ (k0_mult157 v2356).toNat) ∧
  (∀ a, (k0_off629 v2356) a + S16x1024.size a ≤ S851968x1024.size a) ∧
  (∀ (hinb : ∀ a, (k0_off629 v2356) a + S16x1024.size a ≤ S851968x1024.size a), (Rect.unit (s := S851968x1024) (k0_off629 v2356) S16x1024.size hinb).WholeWords (EltTy.packing .bf16))
theorem k0_mult157_dvd : ∀ (v2356 : BitVec 32) (k0_hw156 : k0_chk156 v2356), 16 ∣ (k0_mult157 v2356).toNat := fun v2356 k0_hw156 => k0_hw156.1
theorem k0_off629_inb : ∀ (v2356 : BitVec 32) (k0_hw156 : k0_chk156 v2356), ∀ a, (k0_off629 v2356) a + S16x1024.size a ≤ S851968x1024.size a := fun v2356 k0_hw156 => k0_hw156.2.1
theorem k0_off629_wordsbf16 : ∀ (v2356 : BitVec 32) (k0_hw156 : k0_chk156 v2356), (Rect.unit (s := S851968x1024) (k0_off629 v2356) S16x1024.size (k0_off629_inb v2356 k0_hw156)).WholeWords (EltTy.packing .bf16) := fun v2356 k0_hw156 => k0_hw156.2.2 (k0_off629_inb v2356 k0_hw156)

def k0_off630 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c155_i32 : BitVec 32 := 155#32
  let v2363 : BitVec 32 := Scalar.addi v38 c155_i32
  let v2364 : Index := Scalar.indexCast v2363
  ![v2364.toNat]
def k0_mult158 (v2365 : BitVec 32) : BitVec 32 :=
  v2365

def k0_off631 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off632 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2480_i32 : BitVec 32 := 2480#32
  let c0_i32_454 : BitVec 32 := 0#32
  ![v2.toNat, 2480, 0]
def k0_off633 (v2365 : BitVec 32) : Fin 2 → Nat :=
  let v2366 : BitVec 32 := v2365
  let c0_i32_455 : BitVec 32 := 0#32
  ![v2366.toNat, 0]

def k0_chk157 (v2365 : BitVec 32) : Prop :=
  (16 ∣ (k0_mult158 v2365).toNat) ∧
  (∀ a, (k0_off633 v2365) a + S16x1024.size a ≤ S851968x1024.size a) ∧
  (∀ (hinb : ∀ a, (k0_off633 v2365) a + S16x1024.size a ≤ S851968x1024.size a), (Rect.unit (s := S851968x1024) (k0_off633 v2365) S16x1024.size hinb).WholeWords (EltTy.packing .bf16))
theorem k0_mult158_dvd : ∀ (v2365 : BitVec 32) (k0_hw157 : k0_chk157 v2365), 16 ∣ (k0_mult158 v2365).toNat := fun v2365 k0_hw157 => k0_hw157.1
theorem k0_off633_inb : ∀ (v2365 : BitVec 32) (k0_hw157 : k0_chk157 v2365), ∀ a, (k0_off633 v2365) a + S16x1024.size a ≤ S851968x1024.size a := fun v2365 k0_hw157 => k0_hw157.2.1
theorem k0_off633_wordsbf16 : ∀ (v2365 : BitVec 32) (k0_hw157 : k0_chk157 v2365), (Rect.unit (s := S851968x1024) (k0_off633 v2365) S16x1024.size (k0_off633_inb v2365 k0_hw157)).WholeWords (EltTy.packing .bf16) := fun v2365 k0_hw157 => k0_hw157.2.2 (k0_off633_inb v2365 k0_hw157)

def k0_off634 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c156_i32 : BitVec 32 := 156#32
  let v2372 : BitVec 32 := Scalar.addi v38 c156_i32
  let v2373 : Index := Scalar.indexCast v2372
  ![v2373.toNat]
def k0_mult159 (v2374 : BitVec 32) : BitVec 32 :=
  v2374

def k0_off635 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off636 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2496_i32 : BitVec 32 := 2496#32
  let c0_i32_456 : BitVec 32 := 0#32
  ![v2.toNat, 2496, 0]
def k0_off637 (v2374 : BitVec 32) : Fin 2 → Nat :=
  let v2375 : BitVec 32 := v2374
  let c0_i32_457 : BitVec 32 := 0#32
  ![v2375.toNat, 0]

def k0_chk158 (v2374 : BitVec 32) : Prop :=
  (16 ∣ (k0_mult159 v2374).toNat) ∧
  (∀ a, (k0_off637 v2374) a + S16x1024.size a ≤ S851968x1024.size a) ∧
  (∀ (hinb : ∀ a, (k0_off637 v2374) a + S16x1024.size a ≤ S851968x1024.size a), (Rect.unit (s := S851968x1024) (k0_off637 v2374) S16x1024.size hinb).WholeWords (EltTy.packing .bf16))
theorem k0_mult159_dvd : ∀ (v2374 : BitVec 32) (k0_hw158 : k0_chk158 v2374), 16 ∣ (k0_mult159 v2374).toNat := fun v2374 k0_hw158 => k0_hw158.1
theorem k0_off637_inb : ∀ (v2374 : BitVec 32) (k0_hw158 : k0_chk158 v2374), ∀ a, (k0_off637 v2374) a + S16x1024.size a ≤ S851968x1024.size a := fun v2374 k0_hw158 => k0_hw158.2.1
theorem k0_off637_wordsbf16 : ∀ (v2374 : BitVec 32) (k0_hw158 : k0_chk158 v2374), (Rect.unit (s := S851968x1024) (k0_off637 v2374) S16x1024.size (k0_off637_inb v2374 k0_hw158)).WholeWords (EltTy.packing .bf16) := fun v2374 k0_hw158 => k0_hw158.2.2 (k0_off637_inb v2374 k0_hw158)

def k0_off638 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c157_i32 : BitVec 32 := 157#32
  let v2381 : BitVec 32 := Scalar.addi v38 c157_i32
  let v2382 : Index := Scalar.indexCast v2381
  ![v2382.toNat]
def k0_mult160 (v2383 : BitVec 32) : BitVec 32 :=
  v2383

def k0_off639 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off640 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2512_i32 : BitVec 32 := 2512#32
  let c0_i32_458 : BitVec 32 := 0#32
  ![v2.toNat, 2512, 0]
def k0_off641 (v2383 : BitVec 32) : Fin 2 → Nat :=
  let v2384 : BitVec 32 := v2383
  let c0_i32_459 : BitVec 32 := 0#32
  ![v2384.toNat, 0]

def k0_chk159 (v2383 : BitVec 32) : Prop :=
  (16 ∣ (k0_mult160 v2383).toNat) ∧
  (∀ a, (k0_off641 v2383) a + S16x1024.size a ≤ S851968x1024.size a) ∧
  (∀ (hinb : ∀ a, (k0_off641 v2383) a + S16x1024.size a ≤ S851968x1024.size a), (Rect.unit (s := S851968x1024) (k0_off641 v2383) S16x1024.size hinb).WholeWords (EltTy.packing .bf16))
theorem k0_mult160_dvd : ∀ (v2383 : BitVec 32) (k0_hw159 : k0_chk159 v2383), 16 ∣ (k0_mult160 v2383).toNat := fun v2383 k0_hw159 => k0_hw159.1
theorem k0_off641_inb : ∀ (v2383 : BitVec 32) (k0_hw159 : k0_chk159 v2383), ∀ a, (k0_off641 v2383) a + S16x1024.size a ≤ S851968x1024.size a := fun v2383 k0_hw159 => k0_hw159.2.1
theorem k0_off641_wordsbf16 : ∀ (v2383 : BitVec 32) (k0_hw159 : k0_chk159 v2383), (Rect.unit (s := S851968x1024) (k0_off641 v2383) S16x1024.size (k0_off641_inb v2383 k0_hw159)).WholeWords (EltTy.packing .bf16) := fun v2383 k0_hw159 => k0_hw159.2.2 (k0_off641_inb v2383 k0_hw159)

def k0_off642 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c158_i32 : BitVec 32 := 158#32
  let v2390 : BitVec 32 := Scalar.addi v38 c158_i32
  let v2391 : Index := Scalar.indexCast v2390
  ![v2391.toNat]
def k0_mult161 (v2392 : BitVec 32) : BitVec 32 :=
  v2392

def k0_off643 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off644 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2528_i32 : BitVec 32 := 2528#32
  let c0_i32_460 : BitVec 32 := 0#32
  ![v2.toNat, 2528, 0]
def k0_off645 (v2392 : BitVec 32) : Fin 2 → Nat :=
  let v2393 : BitVec 32 := v2392
  let c0_i32_461 : BitVec 32 := 0#32
  ![v2393.toNat, 0]

def k0_chk160 (v2392 : BitVec 32) : Prop :=
  (16 ∣ (k0_mult161 v2392).toNat) ∧
  (∀ a, (k0_off645 v2392) a + S16x1024.size a ≤ S851968x1024.size a) ∧
  (∀ (hinb : ∀ a, (k0_off645 v2392) a + S16x1024.size a ≤ S851968x1024.size a), (Rect.unit (s := S851968x1024) (k0_off645 v2392) S16x1024.size hinb).WholeWords (EltTy.packing .bf16))
theorem k0_mult161_dvd : ∀ (v2392 : BitVec 32) (k0_hw160 : k0_chk160 v2392), 16 ∣ (k0_mult161 v2392).toNat := fun v2392 k0_hw160 => k0_hw160.1
theorem k0_off645_inb : ∀ (v2392 : BitVec 32) (k0_hw160 : k0_chk160 v2392), ∀ a, (k0_off645 v2392) a + S16x1024.size a ≤ S851968x1024.size a := fun v2392 k0_hw160 => k0_hw160.2.1
theorem k0_off645_wordsbf16 : ∀ (v2392 : BitVec 32) (k0_hw160 : k0_chk160 v2392), (Rect.unit (s := S851968x1024) (k0_off645 v2392) S16x1024.size (k0_off645_inb v2392 k0_hw160)).WholeWords (EltTy.packing .bf16) := fun v2392 k0_hw160 => k0_hw160.2.2 (k0_off645_inb v2392 k0_hw160)

def k0_off646 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c159_i32 : BitVec 32 := 159#32
  let v2399 : BitVec 32 := Scalar.addi v38 c159_i32
  let v2400 : Index := Scalar.indexCast v2399
  ![v2400.toNat]
def k0_mult162 (v2401 : BitVec 32) : BitVec 32 :=
  v2401

def k0_off647 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off648 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2544_i32 : BitVec 32 := 2544#32
  let c0_i32_462 : BitVec 32 := 0#32
  ![v2.toNat, 2544, 0]
def k0_off649 (v2401 : BitVec 32) : Fin 2 → Nat :=
  let v2402 : BitVec 32 := v2401
  let c0_i32_463 : BitVec 32 := 0#32
  ![v2402.toNat, 0]

def k0_chk161 (v2401 : BitVec 32) : Prop :=
  (16 ∣ (k0_mult162 v2401).toNat) ∧
  (∀ a, (k0_off649 v2401) a + S16x1024.size a ≤ S851968x1024.size a) ∧
  (∀ (hinb : ∀ a, (k0_off649 v2401) a + S16x1024.size a ≤ S851968x1024.size a), (Rect.unit (s := S851968x1024) (k0_off649 v2401) S16x1024.size hinb).WholeWords (EltTy.packing .bf16))
theorem k0_mult162_dvd : ∀ (v2401 : BitVec 32) (k0_hw161 : k0_chk161 v2401), 16 ∣ (k0_mult162 v2401).toNat := fun v2401 k0_hw161 => k0_hw161.1
theorem k0_off649_inb : ∀ (v2401 : BitVec 32) (k0_hw161 : k0_chk161 v2401), ∀ a, (k0_off649 v2401) a + S16x1024.size a ≤ S851968x1024.size a := fun v2401 k0_hw161 => k0_hw161.2.1
theorem k0_off649_wordsbf16 : ∀ (v2401 : BitVec 32) (k0_hw161 : k0_chk161 v2401), (Rect.unit (s := S851968x1024) (k0_off649 v2401) S16x1024.size (k0_off649_inb v2401 k0_hw161)).WholeWords (EltTy.packing .bf16) := fun v2401 k0_hw161 => k0_hw161.2.2 (k0_off649_inb v2401 k0_hw161)

def k0_off650 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c160_i32_464 : BitVec 32 := 160#32
  let v2408 : BitVec 32 := Scalar.addi v38 c160_i32_464
  let v2409 : Index := Scalar.indexCast v2408
  ![v2409.toNat]
def k0_mult163 (v2410 : BitVec 32) : BitVec 32 :=
  v2410

def k0_off651 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off652 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2560_i32 : BitVec 32 := 2560#32
  let c0_i32_465 : BitVec 32 := 0#32
  ![v2.toNat, 2560, 0]
def k0_off653 (v2410 : BitVec 32) : Fin 2 → Nat :=
  let v2411 : BitVec 32 := v2410
  let c0_i32_466 : BitVec 32 := 0#32
  ![v2411.toNat, 0]

def k0_chk162 (v2410 : BitVec 32) : Prop :=
  (16 ∣ (k0_mult163 v2410).toNat) ∧
  (∀ a, (k0_off653 v2410) a + S16x1024.size a ≤ S851968x1024.size a) ∧
  (∀ (hinb : ∀ a, (k0_off653 v2410) a + S16x1024.size a ≤ S851968x1024.size a), (Rect.unit (s := S851968x1024) (k0_off653 v2410) S16x1024.size hinb).WholeWords (EltTy.packing .bf16))
theorem k0_mult163_dvd : ∀ (v2410 : BitVec 32) (k0_hw162 : k0_chk162 v2410), 16 ∣ (k0_mult163 v2410).toNat := fun v2410 k0_hw162 => k0_hw162.1
theorem k0_off653_inb : ∀ (v2410 : BitVec 32) (k0_hw162 : k0_chk162 v2410), ∀ a, (k0_off653 v2410) a + S16x1024.size a ≤ S851968x1024.size a := fun v2410 k0_hw162 => k0_hw162.2.1
theorem k0_off653_wordsbf16 : ∀ (v2410 : BitVec 32) (k0_hw162 : k0_chk162 v2410), (Rect.unit (s := S851968x1024) (k0_off653 v2410) S16x1024.size (k0_off653_inb v2410 k0_hw162)).WholeWords (EltTy.packing .bf16) := fun v2410 k0_hw162 => k0_hw162.2.2 (k0_off653_inb v2410 k0_hw162)

def k0_off654 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c161_i32 : BitVec 32 := 161#32
  let v2417 : BitVec 32 := Scalar.addi v38 c161_i32
  let v2418 : Index := Scalar.indexCast v2417
  ![v2418.toNat]
def k0_mult164 (v2419 : BitVec 32) : BitVec 32 :=
  v2419

def k0_off655 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off656 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2576_i32 : BitVec 32 := 2576#32
  let c0_i32_467 : BitVec 32 := 0#32
  ![v2.toNat, 2576, 0]
def k0_off657 (v2419 : BitVec 32) : Fin 2 → Nat :=
  let v2420 : BitVec 32 := v2419
  let c0_i32_468 : BitVec 32 := 0#32
  ![v2420.toNat, 0]

def k0_chk163 (v2419 : BitVec 32) : Prop :=
  (16 ∣ (k0_mult164 v2419).toNat) ∧
  (∀ a, (k0_off657 v2419) a + S16x1024.size a ≤ S851968x1024.size a) ∧
  (∀ (hinb : ∀ a, (k0_off657 v2419) a + S16x1024.size a ≤ S851968x1024.size a), (Rect.unit (s := S851968x1024) (k0_off657 v2419) S16x1024.size hinb).WholeWords (EltTy.packing .bf16))
theorem k0_mult164_dvd : ∀ (v2419 : BitVec 32) (k0_hw163 : k0_chk163 v2419), 16 ∣ (k0_mult164 v2419).toNat := fun v2419 k0_hw163 => k0_hw163.1
theorem k0_off657_inb : ∀ (v2419 : BitVec 32) (k0_hw163 : k0_chk163 v2419), ∀ a, (k0_off657 v2419) a + S16x1024.size a ≤ S851968x1024.size a := fun v2419 k0_hw163 => k0_hw163.2.1
theorem k0_off657_wordsbf16 : ∀ (v2419 : BitVec 32) (k0_hw163 : k0_chk163 v2419), (Rect.unit (s := S851968x1024) (k0_off657 v2419) S16x1024.size (k0_off657_inb v2419 k0_hw163)).WholeWords (EltTy.packing .bf16) := fun v2419 k0_hw163 => k0_hw163.2.2 (k0_off657_inb v2419 k0_hw163)

def k0_off658 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c162_i32 : BitVec 32 := 162#32
  let v2426 : BitVec 32 := Scalar.addi v38 c162_i32
  let v2427 : Index := Scalar.indexCast v2426
  ![v2427.toNat]
def k0_mult165 (v2428 : BitVec 32) : BitVec 32 :=
  v2428

def k0_off659 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off660 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2592_i32 : BitVec 32 := 2592#32
  let c0_i32_469 : BitVec 32 := 0#32
  ![v2.toNat, 2592, 0]
def k0_off661 (v2428 : BitVec 32) : Fin 2 → Nat :=
  let v2429 : BitVec 32 := v2428
  let c0_i32_470 : BitVec 32 := 0#32
  ![v2429.toNat, 0]

def k0_chk164 (v2428 : BitVec 32) : Prop :=
  (16 ∣ (k0_mult165 v2428).toNat) ∧
  (∀ a, (k0_off661 v2428) a + S16x1024.size a ≤ S851968x1024.size a) ∧
  (∀ (hinb : ∀ a, (k0_off661 v2428) a + S16x1024.size a ≤ S851968x1024.size a), (Rect.unit (s := S851968x1024) (k0_off661 v2428) S16x1024.size hinb).WholeWords (EltTy.packing .bf16))
theorem k0_mult165_dvd : ∀ (v2428 : BitVec 32) (k0_hw164 : k0_chk164 v2428), 16 ∣ (k0_mult165 v2428).toNat := fun v2428 k0_hw164 => k0_hw164.1
theorem k0_off661_inb : ∀ (v2428 : BitVec 32) (k0_hw164 : k0_chk164 v2428), ∀ a, (k0_off661 v2428) a + S16x1024.size a ≤ S851968x1024.size a := fun v2428 k0_hw164 => k0_hw164.2.1
theorem k0_off661_wordsbf16 : ∀ (v2428 : BitVec 32) (k0_hw164 : k0_chk164 v2428), (Rect.unit (s := S851968x1024) (k0_off661 v2428) S16x1024.size (k0_off661_inb v2428 k0_hw164)).WholeWords (EltTy.packing .bf16) := fun v2428 k0_hw164 => k0_hw164.2.2 (k0_off661_inb v2428 k0_hw164)

def k0_off662 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c163_i32 : BitVec 32 := 163#32
  let v2435 : BitVec 32 := Scalar.addi v38 c163_i32
  let v2436 : Index := Scalar.indexCast v2435
  ![v2436.toNat]
def k0_mult166 (v2437 : BitVec 32) : BitVec 32 :=
  v2437

def k0_off663 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off664 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2608_i32 : BitVec 32 := 2608#32
  let c0_i32_471 : BitVec 32 := 0#32
  ![v2.toNat, 2608, 0]
def k0_off665 (v2437 : BitVec 32) : Fin 2 → Nat :=
  let v2438 : BitVec 32 := v2437
  let c0_i32_472 : BitVec 32 := 0#32
  ![v2438.toNat, 0]

def k0_chk165 (v2437 : BitVec 32) : Prop :=
  (16 ∣ (k0_mult166 v2437).toNat) ∧
  (∀ a, (k0_off665 v2437) a + S16x1024.size a ≤ S851968x1024.size a) ∧
  (∀ (hinb : ∀ a, (k0_off665 v2437) a + S16x1024.size a ≤ S851968x1024.size a), (Rect.unit (s := S851968x1024) (k0_off665 v2437) S16x1024.size hinb).WholeWords (EltTy.packing .bf16))
theorem k0_mult166_dvd : ∀ (v2437 : BitVec 32) (k0_hw165 : k0_chk165 v2437), 16 ∣ (k0_mult166 v2437).toNat := fun v2437 k0_hw165 => k0_hw165.1
theorem k0_off665_inb : ∀ (v2437 : BitVec 32) (k0_hw165 : k0_chk165 v2437), ∀ a, (k0_off665 v2437) a + S16x1024.size a ≤ S851968x1024.size a := fun v2437 k0_hw165 => k0_hw165.2.1
theorem k0_off665_wordsbf16 : ∀ (v2437 : BitVec 32) (k0_hw165 : k0_chk165 v2437), (Rect.unit (s := S851968x1024) (k0_off665 v2437) S16x1024.size (k0_off665_inb v2437 k0_hw165)).WholeWords (EltTy.packing .bf16) := fun v2437 k0_hw165 => k0_hw165.2.2 (k0_off665_inb v2437 k0_hw165)

def k0_off666 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c164_i32 : BitVec 32 := 164#32
  let v2444 : BitVec 32 := Scalar.addi v38 c164_i32
  let v2445 : Index := Scalar.indexCast v2444
  ![v2445.toNat]
def k0_mult167 (v2446 : BitVec 32) : BitVec 32 :=
  v2446

def k0_off667 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off668 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2624_i32 : BitVec 32 := 2624#32
  let c0_i32_473 : BitVec 32 := 0#32
  ![v2.toNat, 2624, 0]
def k0_off669 (v2446 : BitVec 32) : Fin 2 → Nat :=
  let v2447 : BitVec 32 := v2446
  let c0_i32_474 : BitVec 32 := 0#32
  ![v2447.toNat, 0]

def k0_chk166 (v2446 : BitVec 32) : Prop :=
  (16 ∣ (k0_mult167 v2446).toNat) ∧
  (∀ a, (k0_off669 v2446) a + S16x1024.size a ≤ S851968x1024.size a) ∧
  (∀ (hinb : ∀ a, (k0_off669 v2446) a + S16x1024.size a ≤ S851968x1024.size a), (Rect.unit (s := S851968x1024) (k0_off669 v2446) S16x1024.size hinb).WholeWords (EltTy.packing .bf16))
theorem k0_mult167_dvd : ∀ (v2446 : BitVec 32) (k0_hw166 : k0_chk166 v2446), 16 ∣ (k0_mult167 v2446).toNat := fun v2446 k0_hw166 => k0_hw166.1
theorem k0_off669_inb : ∀ (v2446 : BitVec 32) (k0_hw166 : k0_chk166 v2446), ∀ a, (k0_off669 v2446) a + S16x1024.size a ≤ S851968x1024.size a := fun v2446 k0_hw166 => k0_hw166.2.1
theorem k0_off669_wordsbf16 : ∀ (v2446 : BitVec 32) (k0_hw166 : k0_chk166 v2446), (Rect.unit (s := S851968x1024) (k0_off669 v2446) S16x1024.size (k0_off669_inb v2446 k0_hw166)).WholeWords (EltTy.packing .bf16) := fun v2446 k0_hw166 => k0_hw166.2.2 (k0_off669_inb v2446 k0_hw166)

def k0_off670 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c165_i32 : BitVec 32 := 165#32
  let v2453 : BitVec 32 := Scalar.addi v38 c165_i32
  let v2454 : Index := Scalar.indexCast v2453
  ![v2454.toNat]
def k0_mult168 (v2455 : BitVec 32) : BitVec 32 :=
  v2455

def k0_off671 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off672 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2640_i32 : BitVec 32 := 2640#32
  let c0_i32_475 : BitVec 32 := 0#32
  ![v2.toNat, 2640, 0]
def k0_off673 (v2455 : BitVec 32) : Fin 2 → Nat :=
  let v2456 : BitVec 32 := v2455
  let c0_i32_476 : BitVec 32 := 0#32
  ![v2456.toNat, 0]

def k0_chk167 (v2455 : BitVec 32) : Prop :=
  (16 ∣ (k0_mult168 v2455).toNat) ∧
  (∀ a, (k0_off673 v2455) a + S16x1024.size a ≤ S851968x1024.size a) ∧
  (∀ (hinb : ∀ a, (k0_off673 v2455) a + S16x1024.size a ≤ S851968x1024.size a), (Rect.unit (s := S851968x1024) (k0_off673 v2455) S16x1024.size hinb).WholeWords (EltTy.packing .bf16))
theorem k0_mult168_dvd : ∀ (v2455 : BitVec 32) (k0_hw167 : k0_chk167 v2455), 16 ∣ (k0_mult168 v2455).toNat := fun v2455 k0_hw167 => k0_hw167.1
theorem k0_off673_inb : ∀ (v2455 : BitVec 32) (k0_hw167 : k0_chk167 v2455), ∀ a, (k0_off673 v2455) a + S16x1024.size a ≤ S851968x1024.size a := fun v2455 k0_hw167 => k0_hw167.2.1
theorem k0_off673_wordsbf16 : ∀ (v2455 : BitVec 32) (k0_hw167 : k0_chk167 v2455), (Rect.unit (s := S851968x1024) (k0_off673 v2455) S16x1024.size (k0_off673_inb v2455 k0_hw167)).WholeWords (EltTy.packing .bf16) := fun v2455 k0_hw167 => k0_hw167.2.2 (k0_off673_inb v2455 k0_hw167)

def k0_off674 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c166_i32 : BitVec 32 := 166#32
  let v2462 : BitVec 32 := Scalar.addi v38 c166_i32
  let v2463 : Index := Scalar.indexCast v2462
  ![v2463.toNat]
def k0_mult169 (v2464 : BitVec 32) : BitVec 32 :=
  v2464

def k0_off675 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off676 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2656_i32 : BitVec 32 := 2656#32
  let c0_i32_477 : BitVec 32 := 0#32
  ![v2.toNat, 2656, 0]
def k0_off677 (v2464 : BitVec 32) : Fin 2 → Nat :=
  let v2465 : BitVec 32 := v2464
  let c0_i32_478 : BitVec 32 := 0#32
  ![v2465.toNat, 0]

def k0_chk168 (v2464 : BitVec 32) : Prop :=
  (16 ∣ (k0_mult169 v2464).toNat) ∧
  (∀ a, (k0_off677 v2464) a + S16x1024.size a ≤ S851968x1024.size a) ∧
  (∀ (hinb : ∀ a, (k0_off677 v2464) a + S16x1024.size a ≤ S851968x1024.size a), (Rect.unit (s := S851968x1024) (k0_off677 v2464) S16x1024.size hinb).WholeWords (EltTy.packing .bf16))
theorem k0_mult169_dvd : ∀ (v2464 : BitVec 32) (k0_hw168 : k0_chk168 v2464), 16 ∣ (k0_mult169 v2464).toNat := fun v2464 k0_hw168 => k0_hw168.1
theorem k0_off677_inb : ∀ (v2464 : BitVec 32) (k0_hw168 : k0_chk168 v2464), ∀ a, (k0_off677 v2464) a + S16x1024.size a ≤ S851968x1024.size a := fun v2464 k0_hw168 => k0_hw168.2.1
theorem k0_off677_wordsbf16 : ∀ (v2464 : BitVec 32) (k0_hw168 : k0_chk168 v2464), (Rect.unit (s := S851968x1024) (k0_off677 v2464) S16x1024.size (k0_off677_inb v2464 k0_hw168)).WholeWords (EltTy.packing .bf16) := fun v2464 k0_hw168 => k0_hw168.2.2 (k0_off677_inb v2464 k0_hw168)

def k0_off678 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c167_i32 : BitVec 32 := 167#32
  let v2471 : BitVec 32 := Scalar.addi v38 c167_i32
  let v2472 : Index := Scalar.indexCast v2471
  ![v2472.toNat]
def k0_mult170 (v2473 : BitVec 32) : BitVec 32 :=
  v2473

def k0_off679 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off680 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2672_i32 : BitVec 32 := 2672#32
  let c0_i32_479 : BitVec 32 := 0#32
  ![v2.toNat, 2672, 0]
def k0_off681 (v2473 : BitVec 32) : Fin 2 → Nat :=
  let v2474 : BitVec 32 := v2473
  let c0_i32_480 : BitVec 32 := 0#32
  ![v2474.toNat, 0]

def k0_chk169 (v2473 : BitVec 32) : Prop :=
  (16 ∣ (k0_mult170 v2473).toNat) ∧
  (∀ a, (k0_off681 v2473) a + S16x1024.size a ≤ S851968x1024.size a) ∧
  (∀ (hinb : ∀ a, (k0_off681 v2473) a + S16x1024.size a ≤ S851968x1024.size a), (Rect.unit (s := S851968x1024) (k0_off681 v2473) S16x1024.size hinb).WholeWords (EltTy.packing .bf16))
theorem k0_mult170_dvd : ∀ (v2473 : BitVec 32) (k0_hw169 : k0_chk169 v2473), 16 ∣ (k0_mult170 v2473).toNat := fun v2473 k0_hw169 => k0_hw169.1
theorem k0_off681_inb : ∀ (v2473 : BitVec 32) (k0_hw169 : k0_chk169 v2473), ∀ a, (k0_off681 v2473) a + S16x1024.size a ≤ S851968x1024.size a := fun v2473 k0_hw169 => k0_hw169.2.1
theorem k0_off681_wordsbf16 : ∀ (v2473 : BitVec 32) (k0_hw169 : k0_chk169 v2473), (Rect.unit (s := S851968x1024) (k0_off681 v2473) S16x1024.size (k0_off681_inb v2473 k0_hw169)).WholeWords (EltTy.packing .bf16) := fun v2473 k0_hw169 => k0_hw169.2.2 (k0_off681_inb v2473 k0_hw169)

def k0_off682 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c168_i32 : BitVec 32 := 168#32
  let v2480 : BitVec 32 := Scalar.addi v38 c168_i32
  let v2481 : Index := Scalar.indexCast v2480
  ![v2481.toNat]
def k0_mult171 (v2482 : BitVec 32) : BitVec 32 :=
  v2482

def k0_off683 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off684 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2688_i32 : BitVec 32 := 2688#32
  let c0_i32_481 : BitVec 32 := 0#32
  ![v2.toNat, 2688, 0]
def k0_off685 (v2482 : BitVec 32) : Fin 2 → Nat :=
  let v2483 : BitVec 32 := v2482
  let c0_i32_482 : BitVec 32 := 0#32
  ![v2483.toNat, 0]

def k0_chk170 (v2482 : BitVec 32) : Prop :=
  (16 ∣ (k0_mult171 v2482).toNat) ∧
  (∀ a, (k0_off685 v2482) a + S16x1024.size a ≤ S851968x1024.size a) ∧
  (∀ (hinb : ∀ a, (k0_off685 v2482) a + S16x1024.size a ≤ S851968x1024.size a), (Rect.unit (s := S851968x1024) (k0_off685 v2482) S16x1024.size hinb).WholeWords (EltTy.packing .bf16))
theorem k0_mult171_dvd : ∀ (v2482 : BitVec 32) (k0_hw170 : k0_chk170 v2482), 16 ∣ (k0_mult171 v2482).toNat := fun v2482 k0_hw170 => k0_hw170.1
theorem k0_off685_inb : ∀ (v2482 : BitVec 32) (k0_hw170 : k0_chk170 v2482), ∀ a, (k0_off685 v2482) a + S16x1024.size a ≤ S851968x1024.size a := fun v2482 k0_hw170 => k0_hw170.2.1
theorem k0_off685_wordsbf16 : ∀ (v2482 : BitVec 32) (k0_hw170 : k0_chk170 v2482), (Rect.unit (s := S851968x1024) (k0_off685 v2482) S16x1024.size (k0_off685_inb v2482 k0_hw170)).WholeWords (EltTy.packing .bf16) := fun v2482 k0_hw170 => k0_hw170.2.2 (k0_off685_inb v2482 k0_hw170)

def k0_off686 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c169_i32 : BitVec 32 := 169#32
  let v2489 : BitVec 32 := Scalar.addi v38 c169_i32
  let v2490 : Index := Scalar.indexCast v2489
  ![v2490.toNat]
def k0_mult172 (v2491 : BitVec 32) : BitVec 32 :=
  v2491

def k0_off687 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off688 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2704_i32 : BitVec 32 := 2704#32
  let c0_i32_483 : BitVec 32 := 0#32
  ![v2.toNat, 2704, 0]
def k0_off689 (v2491 : BitVec 32) : Fin 2 → Nat :=
  let v2492 : BitVec 32 := v2491
  let c0_i32_484 : BitVec 32 := 0#32
  ![v2492.toNat, 0]

def k0_chk171 (v2491 : BitVec 32) : Prop :=
  (16 ∣ (k0_mult172 v2491).toNat) ∧
  (∀ a, (k0_off689 v2491) a + S16x1024.size a ≤ S851968x1024.size a) ∧
  (∀ (hinb : ∀ a, (k0_off689 v2491) a + S16x1024.size a ≤ S851968x1024.size a), (Rect.unit (s := S851968x1024) (k0_off689 v2491) S16x1024.size hinb).WholeWords (EltTy.packing .bf16))
theorem k0_mult172_dvd : ∀ (v2491 : BitVec 32) (k0_hw171 : k0_chk171 v2491), 16 ∣ (k0_mult172 v2491).toNat := fun v2491 k0_hw171 => k0_hw171.1
theorem k0_off689_inb : ∀ (v2491 : BitVec 32) (k0_hw171 : k0_chk171 v2491), ∀ a, (k0_off689 v2491) a + S16x1024.size a ≤ S851968x1024.size a := fun v2491 k0_hw171 => k0_hw171.2.1
theorem k0_off689_wordsbf16 : ∀ (v2491 : BitVec 32) (k0_hw171 : k0_chk171 v2491), (Rect.unit (s := S851968x1024) (k0_off689 v2491) S16x1024.size (k0_off689_inb v2491 k0_hw171)).WholeWords (EltTy.packing .bf16) := fun v2491 k0_hw171 => k0_hw171.2.2 (k0_off689_inb v2491 k0_hw171)

def k0_off690 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c170_i32 : BitVec 32 := 170#32
  let v2498 : BitVec 32 := Scalar.addi v38 c170_i32
  let v2499 : Index := Scalar.indexCast v2498
  ![v2499.toNat]
def k0_mult173 (v2500 : BitVec 32) : BitVec 32 :=
  v2500

def k0_off691 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off692 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2720_i32 : BitVec 32 := 2720#32
  let c0_i32_485 : BitVec 32 := 0#32
  ![v2.toNat, 2720, 0]
def k0_off693 (v2500 : BitVec 32) : Fin 2 → Nat :=
  let v2501 : BitVec 32 := v2500
  let c0_i32_486 : BitVec 32 := 0#32
  ![v2501.toNat, 0]

def k0_chk172 (v2500 : BitVec 32) : Prop :=
  (16 ∣ (k0_mult173 v2500).toNat) ∧
  (∀ a, (k0_off693 v2500) a + S16x1024.size a ≤ S851968x1024.size a) ∧
  (∀ (hinb : ∀ a, (k0_off693 v2500) a + S16x1024.size a ≤ S851968x1024.size a), (Rect.unit (s := S851968x1024) (k0_off693 v2500) S16x1024.size hinb).WholeWords (EltTy.packing .bf16))
theorem k0_mult173_dvd : ∀ (v2500 : BitVec 32) (k0_hw172 : k0_chk172 v2500), 16 ∣ (k0_mult173 v2500).toNat := fun v2500 k0_hw172 => k0_hw172.1
theorem k0_off693_inb : ∀ (v2500 : BitVec 32) (k0_hw172 : k0_chk172 v2500), ∀ a, (k0_off693 v2500) a + S16x1024.size a ≤ S851968x1024.size a := fun v2500 k0_hw172 => k0_hw172.2.1
theorem k0_off693_wordsbf16 : ∀ (v2500 : BitVec 32) (k0_hw172 : k0_chk172 v2500), (Rect.unit (s := S851968x1024) (k0_off693 v2500) S16x1024.size (k0_off693_inb v2500 k0_hw172)).WholeWords (EltTy.packing .bf16) := fun v2500 k0_hw172 => k0_hw172.2.2 (k0_off693_inb v2500 k0_hw172)

def k0_off694 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c171_i32 : BitVec 32 := 171#32
  let v2507 : BitVec 32 := Scalar.addi v38 c171_i32
  let v2508 : Index := Scalar.indexCast v2507
  ![v2508.toNat]
def k0_mult174 (v2509 : BitVec 32) : BitVec 32 :=
  v2509

def k0_off695 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off696 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2736_i32 : BitVec 32 := 2736#32
  let c0_i32_487 : BitVec 32 := 0#32
  ![v2.toNat, 2736, 0]
def k0_off697 (v2509 : BitVec 32) : Fin 2 → Nat :=
  let v2510 : BitVec 32 := v2509
  let c0_i32_488 : BitVec 32 := 0#32
  ![v2510.toNat, 0]

def k0_chk173 (v2509 : BitVec 32) : Prop :=
  (16 ∣ (k0_mult174 v2509).toNat) ∧
  (∀ a, (k0_off697 v2509) a + S16x1024.size a ≤ S851968x1024.size a) ∧
  (∀ (hinb : ∀ a, (k0_off697 v2509) a + S16x1024.size a ≤ S851968x1024.size a), (Rect.unit (s := S851968x1024) (k0_off697 v2509) S16x1024.size hinb).WholeWords (EltTy.packing .bf16))
theorem k0_mult174_dvd : ∀ (v2509 : BitVec 32) (k0_hw173 : k0_chk173 v2509), 16 ∣ (k0_mult174 v2509).toNat := fun v2509 k0_hw173 => k0_hw173.1
theorem k0_off697_inb : ∀ (v2509 : BitVec 32) (k0_hw173 : k0_chk173 v2509), ∀ a, (k0_off697 v2509) a + S16x1024.size a ≤ S851968x1024.size a := fun v2509 k0_hw173 => k0_hw173.2.1
theorem k0_off697_wordsbf16 : ∀ (v2509 : BitVec 32) (k0_hw173 : k0_chk173 v2509), (Rect.unit (s := S851968x1024) (k0_off697 v2509) S16x1024.size (k0_off697_inb v2509 k0_hw173)).WholeWords (EltTy.packing .bf16) := fun v2509 k0_hw173 => k0_hw173.2.2 (k0_off697_inb v2509 k0_hw173)

def k0_off698 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c172_i32 : BitVec 32 := 172#32
  let v2516 : BitVec 32 := Scalar.addi v38 c172_i32
  let v2517 : Index := Scalar.indexCast v2516
  ![v2517.toNat]
def k0_mult175 (v2518 : BitVec 32) : BitVec 32 :=
  v2518

def k0_off699 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off700 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2752_i32 : BitVec 32 := 2752#32
  let c0_i32_489 : BitVec 32 := 0#32
  ![v2.toNat, 2752, 0]
def k0_off701 (v2518 : BitVec 32) : Fin 2 → Nat :=
  let v2519 : BitVec 32 := v2518
  let c0_i32_490 : BitVec 32 := 0#32
  ![v2519.toNat, 0]

def k0_chk174 (v2518 : BitVec 32) : Prop :=
  (16 ∣ (k0_mult175 v2518).toNat) ∧
  (∀ a, (k0_off701 v2518) a + S16x1024.size a ≤ S851968x1024.size a) ∧
  (∀ (hinb : ∀ a, (k0_off701 v2518) a + S16x1024.size a ≤ S851968x1024.size a), (Rect.unit (s := S851968x1024) (k0_off701 v2518) S16x1024.size hinb).WholeWords (EltTy.packing .bf16))
theorem k0_mult175_dvd : ∀ (v2518 : BitVec 32) (k0_hw174 : k0_chk174 v2518), 16 ∣ (k0_mult175 v2518).toNat := fun v2518 k0_hw174 => k0_hw174.1
theorem k0_off701_inb : ∀ (v2518 : BitVec 32) (k0_hw174 : k0_chk174 v2518), ∀ a, (k0_off701 v2518) a + S16x1024.size a ≤ S851968x1024.size a := fun v2518 k0_hw174 => k0_hw174.2.1
theorem k0_off701_wordsbf16 : ∀ (v2518 : BitVec 32) (k0_hw174 : k0_chk174 v2518), (Rect.unit (s := S851968x1024) (k0_off701 v2518) S16x1024.size (k0_off701_inb v2518 k0_hw174)).WholeWords (EltTy.packing .bf16) := fun v2518 k0_hw174 => k0_hw174.2.2 (k0_off701_inb v2518 k0_hw174)

def k0_off702 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c173_i32 : BitVec 32 := 173#32
  let v2525 : BitVec 32 := Scalar.addi v38 c173_i32
  let v2526 : Index := Scalar.indexCast v2525
  ![v2526.toNat]
def k0_mult176 (v2527 : BitVec 32) : BitVec 32 :=
  v2527

def k0_off703 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off704 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2768_i32 : BitVec 32 := 2768#32
  let c0_i32_491 : BitVec 32 := 0#32
  ![v2.toNat, 2768, 0]
def k0_off705 (v2527 : BitVec 32) : Fin 2 → Nat :=
  let v2528 : BitVec 32 := v2527
  let c0_i32_492 : BitVec 32 := 0#32
  ![v2528.toNat, 0]

def k0_chk175 (v2527 : BitVec 32) : Prop :=
  (16 ∣ (k0_mult176 v2527).toNat) ∧
  (∀ a, (k0_off705 v2527) a + S16x1024.size a ≤ S851968x1024.size a) ∧
  (∀ (hinb : ∀ a, (k0_off705 v2527) a + S16x1024.size a ≤ S851968x1024.size a), (Rect.unit (s := S851968x1024) (k0_off705 v2527) S16x1024.size hinb).WholeWords (EltTy.packing .bf16))
theorem k0_mult176_dvd : ∀ (v2527 : BitVec 32) (k0_hw175 : k0_chk175 v2527), 16 ∣ (k0_mult176 v2527).toNat := fun v2527 k0_hw175 => k0_hw175.1
theorem k0_off705_inb : ∀ (v2527 : BitVec 32) (k0_hw175 : k0_chk175 v2527), ∀ a, (k0_off705 v2527) a + S16x1024.size a ≤ S851968x1024.size a := fun v2527 k0_hw175 => k0_hw175.2.1
theorem k0_off705_wordsbf16 : ∀ (v2527 : BitVec 32) (k0_hw175 : k0_chk175 v2527), (Rect.unit (s := S851968x1024) (k0_off705 v2527) S16x1024.size (k0_off705_inb v2527 k0_hw175)).WholeWords (EltTy.packing .bf16) := fun v2527 k0_hw175 => k0_hw175.2.2 (k0_off705_inb v2527 k0_hw175)

def k0_off706 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c174_i32 : BitVec 32 := 174#32
  let v2534 : BitVec 32 := Scalar.addi v38 c174_i32
  let v2535 : Index := Scalar.indexCast v2534
  ![v2535.toNat]
def k0_mult177 (v2536 : BitVec 32) : BitVec 32 :=
  v2536

def k0_off707 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off708 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2784_i32 : BitVec 32 := 2784#32
  let c0_i32_493 : BitVec 32 := 0#32
  ![v2.toNat, 2784, 0]
def k0_off709 (v2536 : BitVec 32) : Fin 2 → Nat :=
  let v2537 : BitVec 32 := v2536
  let c0_i32_494 : BitVec 32 := 0#32
  ![v2537.toNat, 0]

def k0_chk176 (v2536 : BitVec 32) : Prop :=
  (16 ∣ (k0_mult177 v2536).toNat) ∧
  (∀ a, (k0_off709 v2536) a + S16x1024.size a ≤ S851968x1024.size a) ∧
  (∀ (hinb : ∀ a, (k0_off709 v2536) a + S16x1024.size a ≤ S851968x1024.size a), (Rect.unit (s := S851968x1024) (k0_off709 v2536) S16x1024.size hinb).WholeWords (EltTy.packing .bf16))
theorem k0_mult177_dvd : ∀ (v2536 : BitVec 32) (k0_hw176 : k0_chk176 v2536), 16 ∣ (k0_mult177 v2536).toNat := fun v2536 k0_hw176 => k0_hw176.1
theorem k0_off709_inb : ∀ (v2536 : BitVec 32) (k0_hw176 : k0_chk176 v2536), ∀ a, (k0_off709 v2536) a + S16x1024.size a ≤ S851968x1024.size a := fun v2536 k0_hw176 => k0_hw176.2.1
theorem k0_off709_wordsbf16 : ∀ (v2536 : BitVec 32) (k0_hw176 : k0_chk176 v2536), (Rect.unit (s := S851968x1024) (k0_off709 v2536) S16x1024.size (k0_off709_inb v2536 k0_hw176)).WholeWords (EltTy.packing .bf16) := fun v2536 k0_hw176 => k0_hw176.2.2 (k0_off709_inb v2536 k0_hw176)

def k0_off710 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c175_i32 : BitVec 32 := 175#32
  let v2543 : BitVec 32 := Scalar.addi v38 c175_i32
  let v2544 : Index := Scalar.indexCast v2543
  ![v2544.toNat]
def k0_mult178 (v2545 : BitVec 32) : BitVec 32 :=
  v2545

def k0_off711 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off712 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2800_i32 : BitVec 32 := 2800#32
  let c0_i32_495 : BitVec 32 := 0#32
  ![v2.toNat, 2800, 0]
def k0_off713 (v2545 : BitVec 32) : Fin 2 → Nat :=
  let v2546 : BitVec 32 := v2545
  let c0_i32_496 : BitVec 32 := 0#32
  ![v2546.toNat, 0]

def k0_chk177 (v2545 : BitVec 32) : Prop :=
  (16 ∣ (k0_mult178 v2545).toNat) ∧
  (∀ a, (k0_off713 v2545) a + S16x1024.size a ≤ S851968x1024.size a) ∧
  (∀ (hinb : ∀ a, (k0_off713 v2545) a + S16x1024.size a ≤ S851968x1024.size a), (Rect.unit (s := S851968x1024) (k0_off713 v2545) S16x1024.size hinb).WholeWords (EltTy.packing .bf16))
theorem k0_mult178_dvd : ∀ (v2545 : BitVec 32) (k0_hw177 : k0_chk177 v2545), 16 ∣ (k0_mult178 v2545).toNat := fun v2545 k0_hw177 => k0_hw177.1
theorem k0_off713_inb : ∀ (v2545 : BitVec 32) (k0_hw177 : k0_chk177 v2545), ∀ a, (k0_off713 v2545) a + S16x1024.size a ≤ S851968x1024.size a := fun v2545 k0_hw177 => k0_hw177.2.1
theorem k0_off713_wordsbf16 : ∀ (v2545 : BitVec 32) (k0_hw177 : k0_chk177 v2545), (Rect.unit (s := S851968x1024) (k0_off713 v2545) S16x1024.size (k0_off713_inb v2545 k0_hw177)).WholeWords (EltTy.packing .bf16) := fun v2545 k0_hw177 => k0_hw177.2.2 (k0_off713_inb v2545 k0_hw177)

def k0_off714 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c176_i32_497 : BitVec 32 := 176#32
  let v2552 : BitVec 32 := Scalar.addi v38 c176_i32_497
  let v2553 : Index := Scalar.indexCast v2552
  ![v2553.toNat]
def k0_mult179 (v2554 : BitVec 32) : BitVec 32 :=
  v2554

def k0_off715 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off716 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2816_i32 : BitVec 32 := 2816#32
  let c0_i32_498 : BitVec 32 := 0#32
  ![v2.toNat, 2816, 0]
def k0_off717 (v2554 : BitVec 32) : Fin 2 → Nat :=
  let v2555 : BitVec 32 := v2554
  let c0_i32_499 : BitVec 32 := 0#32
  ![v2555.toNat, 0]

def k0_chk178 (v2554 : BitVec 32) : Prop :=
  (16 ∣ (k0_mult179 v2554).toNat) ∧
  (∀ a, (k0_off717 v2554) a + S16x1024.size a ≤ S851968x1024.size a) ∧
  (∀ (hinb : ∀ a, (k0_off717 v2554) a + S16x1024.size a ≤ S851968x1024.size a), (Rect.unit (s := S851968x1024) (k0_off717 v2554) S16x1024.size hinb).WholeWords (EltTy.packing .bf16))
theorem k0_mult179_dvd : ∀ (v2554 : BitVec 32) (k0_hw178 : k0_chk178 v2554), 16 ∣ (k0_mult179 v2554).toNat := fun v2554 k0_hw178 => k0_hw178.1
theorem k0_off717_inb : ∀ (v2554 : BitVec 32) (k0_hw178 : k0_chk178 v2554), ∀ a, (k0_off717 v2554) a + S16x1024.size a ≤ S851968x1024.size a := fun v2554 k0_hw178 => k0_hw178.2.1
theorem k0_off717_wordsbf16 : ∀ (v2554 : BitVec 32) (k0_hw178 : k0_chk178 v2554), (Rect.unit (s := S851968x1024) (k0_off717 v2554) S16x1024.size (k0_off717_inb v2554 k0_hw178)).WholeWords (EltTy.packing .bf16) := fun v2554 k0_hw178 => k0_hw178.2.2 (k0_off717_inb v2554 k0_hw178)

def k0_off718 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c177_i32 : BitVec 32 := 177#32
  let v2561 : BitVec 32 := Scalar.addi v38 c177_i32
  let v2562 : Index := Scalar.indexCast v2561
  ![v2562.toNat]
def k0_mult180 (v2563 : BitVec 32) : BitVec 32 :=
  v2563

def k0_off719 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off720 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2832_i32 : BitVec 32 := 2832#32
  let c0_i32_500 : BitVec 32 := 0#32
  ![v2.toNat, 2832, 0]
def k0_off721 (v2563 : BitVec 32) : Fin 2 → Nat :=
  let v2564 : BitVec 32 := v2563
  let c0_i32_501 : BitVec 32 := 0#32
  ![v2564.toNat, 0]

def k0_chk179 (v2563 : BitVec 32) : Prop :=
  (16 ∣ (k0_mult180 v2563).toNat) ∧
  (∀ a, (k0_off721 v2563) a + S16x1024.size a ≤ S851968x1024.size a) ∧
  (∀ (hinb : ∀ a, (k0_off721 v2563) a + S16x1024.size a ≤ S851968x1024.size a), (Rect.unit (s := S851968x1024) (k0_off721 v2563) S16x1024.size hinb).WholeWords (EltTy.packing .bf16))
theorem k0_mult180_dvd : ∀ (v2563 : BitVec 32) (k0_hw179 : k0_chk179 v2563), 16 ∣ (k0_mult180 v2563).toNat := fun v2563 k0_hw179 => k0_hw179.1
theorem k0_off721_inb : ∀ (v2563 : BitVec 32) (k0_hw179 : k0_chk179 v2563), ∀ a, (k0_off721 v2563) a + S16x1024.size a ≤ S851968x1024.size a := fun v2563 k0_hw179 => k0_hw179.2.1
theorem k0_off721_wordsbf16 : ∀ (v2563 : BitVec 32) (k0_hw179 : k0_chk179 v2563), (Rect.unit (s := S851968x1024) (k0_off721 v2563) S16x1024.size (k0_off721_inb v2563 k0_hw179)).WholeWords (EltTy.packing .bf16) := fun v2563 k0_hw179 => k0_hw179.2.2 (k0_off721_inb v2563 k0_hw179)

def k0_off722 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c178_i32 : BitVec 32 := 178#32
  let v2570 : BitVec 32 := Scalar.addi v38 c178_i32
  let v2571 : Index := Scalar.indexCast v2570
  ![v2571.toNat]
def k0_mult181 (v2572 : BitVec 32) : BitVec 32 :=
  v2572

def k0_off723 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off724 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2848_i32 : BitVec 32 := 2848#32
  let c0_i32_502 : BitVec 32 := 0#32
  ![v2.toNat, 2848, 0]
def k0_off725 (v2572 : BitVec 32) : Fin 2 → Nat :=
  let v2573 : BitVec 32 := v2572
  let c0_i32_503 : BitVec 32 := 0#32
  ![v2573.toNat, 0]

def k0_chk180 (v2572 : BitVec 32) : Prop :=
  (16 ∣ (k0_mult181 v2572).toNat) ∧
  (∀ a, (k0_off725 v2572) a + S16x1024.size a ≤ S851968x1024.size a) ∧
  (∀ (hinb : ∀ a, (k0_off725 v2572) a + S16x1024.size a ≤ S851968x1024.size a), (Rect.unit (s := S851968x1024) (k0_off725 v2572) S16x1024.size hinb).WholeWords (EltTy.packing .bf16))
theorem k0_mult181_dvd : ∀ (v2572 : BitVec 32) (k0_hw180 : k0_chk180 v2572), 16 ∣ (k0_mult181 v2572).toNat := fun v2572 k0_hw180 => k0_hw180.1
theorem k0_off725_inb : ∀ (v2572 : BitVec 32) (k0_hw180 : k0_chk180 v2572), ∀ a, (k0_off725 v2572) a + S16x1024.size a ≤ S851968x1024.size a := fun v2572 k0_hw180 => k0_hw180.2.1
theorem k0_off725_wordsbf16 : ∀ (v2572 : BitVec 32) (k0_hw180 : k0_chk180 v2572), (Rect.unit (s := S851968x1024) (k0_off725 v2572) S16x1024.size (k0_off725_inb v2572 k0_hw180)).WholeWords (EltTy.packing .bf16) := fun v2572 k0_hw180 => k0_hw180.2.2 (k0_off725_inb v2572 k0_hw180)

def k0_off726 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c179_i32 : BitVec 32 := 179#32
  let v2579 : BitVec 32 := Scalar.addi v38 c179_i32
  let v2580 : Index := Scalar.indexCast v2579
  ![v2580.toNat]
def k0_mult182 (v2581 : BitVec 32) : BitVec 32 :=
  v2581

def k0_off727 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off728 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2864_i32 : BitVec 32 := 2864#32
  let c0_i32_504 : BitVec 32 := 0#32
  ![v2.toNat, 2864, 0]
def k0_off729 (v2581 : BitVec 32) : Fin 2 → Nat :=
  let v2582 : BitVec 32 := v2581
  let c0_i32_505 : BitVec 32 := 0#32
  ![v2582.toNat, 0]

def k0_chk181 (v2581 : BitVec 32) : Prop :=
  (16 ∣ (k0_mult182 v2581).toNat) ∧
  (∀ a, (k0_off729 v2581) a + S16x1024.size a ≤ S851968x1024.size a) ∧
  (∀ (hinb : ∀ a, (k0_off729 v2581) a + S16x1024.size a ≤ S851968x1024.size a), (Rect.unit (s := S851968x1024) (k0_off729 v2581) S16x1024.size hinb).WholeWords (EltTy.packing .bf16))
theorem k0_mult182_dvd : ∀ (v2581 : BitVec 32) (k0_hw181 : k0_chk181 v2581), 16 ∣ (k0_mult182 v2581).toNat := fun v2581 k0_hw181 => k0_hw181.1
theorem k0_off729_inb : ∀ (v2581 : BitVec 32) (k0_hw181 : k0_chk181 v2581), ∀ a, (k0_off729 v2581) a + S16x1024.size a ≤ S851968x1024.size a := fun v2581 k0_hw181 => k0_hw181.2.1
theorem k0_off729_wordsbf16 : ∀ (v2581 : BitVec 32) (k0_hw181 : k0_chk181 v2581), (Rect.unit (s := S851968x1024) (k0_off729 v2581) S16x1024.size (k0_off729_inb v2581 k0_hw181)).WholeWords (EltTy.packing .bf16) := fun v2581 k0_hw181 => k0_hw181.2.2 (k0_off729_inb v2581 k0_hw181)

def k0_off730 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c180_i32 : BitVec 32 := 180#32
  let v2588 : BitVec 32 := Scalar.addi v38 c180_i32
  let v2589 : Index := Scalar.indexCast v2588
  ![v2589.toNat]
def k0_mult183 (v2590 : BitVec 32) : BitVec 32 :=
  v2590

def k0_off731 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off732 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2880_i32 : BitVec 32 := 2880#32
  let c0_i32_506 : BitVec 32 := 0#32
  ![v2.toNat, 2880, 0]
def k0_off733 (v2590 : BitVec 32) : Fin 2 → Nat :=
  let v2591 : BitVec 32 := v2590
  let c0_i32_507 : BitVec 32 := 0#32
  ![v2591.toNat, 0]

def k0_chk182 (v2590 : BitVec 32) : Prop :=
  (16 ∣ (k0_mult183 v2590).toNat) ∧
  (∀ a, (k0_off733 v2590) a + S16x1024.size a ≤ S851968x1024.size a) ∧
  (∀ (hinb : ∀ a, (k0_off733 v2590) a + S16x1024.size a ≤ S851968x1024.size a), (Rect.unit (s := S851968x1024) (k0_off733 v2590) S16x1024.size hinb).WholeWords (EltTy.packing .bf16))
theorem k0_mult183_dvd : ∀ (v2590 : BitVec 32) (k0_hw182 : k0_chk182 v2590), 16 ∣ (k0_mult183 v2590).toNat := fun v2590 k0_hw182 => k0_hw182.1
theorem k0_off733_inb : ∀ (v2590 : BitVec 32) (k0_hw182 : k0_chk182 v2590), ∀ a, (k0_off733 v2590) a + S16x1024.size a ≤ S851968x1024.size a := fun v2590 k0_hw182 => k0_hw182.2.1
theorem k0_off733_wordsbf16 : ∀ (v2590 : BitVec 32) (k0_hw182 : k0_chk182 v2590), (Rect.unit (s := S851968x1024) (k0_off733 v2590) S16x1024.size (k0_off733_inb v2590 k0_hw182)).WholeWords (EltTy.packing .bf16) := fun v2590 k0_hw182 => k0_hw182.2.2 (k0_off733_inb v2590 k0_hw182)

def k0_off734 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c181_i32 : BitVec 32 := 181#32
  let v2597 : BitVec 32 := Scalar.addi v38 c181_i32
  let v2598 : Index := Scalar.indexCast v2597
  ![v2598.toNat]
def k0_mult184 (v2599 : BitVec 32) : BitVec 32 :=
  v2599

def k0_off735 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off736 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2896_i32 : BitVec 32 := 2896#32
  let c0_i32_508 : BitVec 32 := 0#32
  ![v2.toNat, 2896, 0]
def k0_off737 (v2599 : BitVec 32) : Fin 2 → Nat :=
  let v2600 : BitVec 32 := v2599
  let c0_i32_509 : BitVec 32 := 0#32
  ![v2600.toNat, 0]

def k0_chk183 (v2599 : BitVec 32) : Prop :=
  (16 ∣ (k0_mult184 v2599).toNat) ∧
  (∀ a, (k0_off737 v2599) a + S16x1024.size a ≤ S851968x1024.size a) ∧
  (∀ (hinb : ∀ a, (k0_off737 v2599) a + S16x1024.size a ≤ S851968x1024.size a), (Rect.unit (s := S851968x1024) (k0_off737 v2599) S16x1024.size hinb).WholeWords (EltTy.packing .bf16))
theorem k0_mult184_dvd : ∀ (v2599 : BitVec 32) (k0_hw183 : k0_chk183 v2599), 16 ∣ (k0_mult184 v2599).toNat := fun v2599 k0_hw183 => k0_hw183.1
theorem k0_off737_inb : ∀ (v2599 : BitVec 32) (k0_hw183 : k0_chk183 v2599), ∀ a, (k0_off737 v2599) a + S16x1024.size a ≤ S851968x1024.size a := fun v2599 k0_hw183 => k0_hw183.2.1
theorem k0_off737_wordsbf16 : ∀ (v2599 : BitVec 32) (k0_hw183 : k0_chk183 v2599), (Rect.unit (s := S851968x1024) (k0_off737 v2599) S16x1024.size (k0_off737_inb v2599 k0_hw183)).WholeWords (EltTy.packing .bf16) := fun v2599 k0_hw183 => k0_hw183.2.2 (k0_off737_inb v2599 k0_hw183)

def k0_off738 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c182_i32 : BitVec 32 := 182#32
  let v2606 : BitVec 32 := Scalar.addi v38 c182_i32
  let v2607 : Index := Scalar.indexCast v2606
  ![v2607.toNat]
def k0_mult185 (v2608 : BitVec 32) : BitVec 32 :=
  v2608

def k0_off739 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off740 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2912_i32 : BitVec 32 := 2912#32
  let c0_i32_510 : BitVec 32 := 0#32
  ![v2.toNat, 2912, 0]
def k0_off741 (v2608 : BitVec 32) : Fin 2 → Nat :=
  let v2609 : BitVec 32 := v2608
  let c0_i32_511 : BitVec 32 := 0#32
  ![v2609.toNat, 0]

def k0_chk184 (v2608 : BitVec 32) : Prop :=
  (16 ∣ (k0_mult185 v2608).toNat) ∧
  (∀ a, (k0_off741 v2608) a + S16x1024.size a ≤ S851968x1024.size a) ∧
  (∀ (hinb : ∀ a, (k0_off741 v2608) a + S16x1024.size a ≤ S851968x1024.size a), (Rect.unit (s := S851968x1024) (k0_off741 v2608) S16x1024.size hinb).WholeWords (EltTy.packing .bf16))
theorem k0_mult185_dvd : ∀ (v2608 : BitVec 32) (k0_hw184 : k0_chk184 v2608), 16 ∣ (k0_mult185 v2608).toNat := fun v2608 k0_hw184 => k0_hw184.1
theorem k0_off741_inb : ∀ (v2608 : BitVec 32) (k0_hw184 : k0_chk184 v2608), ∀ a, (k0_off741 v2608) a + S16x1024.size a ≤ S851968x1024.size a := fun v2608 k0_hw184 => k0_hw184.2.1
theorem k0_off741_wordsbf16 : ∀ (v2608 : BitVec 32) (k0_hw184 : k0_chk184 v2608), (Rect.unit (s := S851968x1024) (k0_off741 v2608) S16x1024.size (k0_off741_inb v2608 k0_hw184)).WholeWords (EltTy.packing .bf16) := fun v2608 k0_hw184 => k0_hw184.2.2 (k0_off741_inb v2608 k0_hw184)

def k0_off742 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c183_i32 : BitVec 32 := 183#32
  let v2615 : BitVec 32 := Scalar.addi v38 c183_i32
  let v2616 : Index := Scalar.indexCast v2615
  ![v2616.toNat]
def k0_mult186 (v2617 : BitVec 32) : BitVec 32 :=
  v2617

def k0_off743 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off744 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2928_i32 : BitVec 32 := 2928#32
  let c0_i32_512 : BitVec 32 := 0#32
  ![v2.toNat, 2928, 0]
def k0_off745 (v2617 : BitVec 32) : Fin 2 → Nat :=
  let v2618 : BitVec 32 := v2617
  let c0_i32_513 : BitVec 32 := 0#32
  ![v2618.toNat, 0]

def k0_chk185 (v2617 : BitVec 32) : Prop :=
  (16 ∣ (k0_mult186 v2617).toNat) ∧
  (∀ a, (k0_off745 v2617) a + S16x1024.size a ≤ S851968x1024.size a) ∧
  (∀ (hinb : ∀ a, (k0_off745 v2617) a + S16x1024.size a ≤ S851968x1024.size a), (Rect.unit (s := S851968x1024) (k0_off745 v2617) S16x1024.size hinb).WholeWords (EltTy.packing .bf16))
theorem k0_mult186_dvd : ∀ (v2617 : BitVec 32) (k0_hw185 : k0_chk185 v2617), 16 ∣ (k0_mult186 v2617).toNat := fun v2617 k0_hw185 => k0_hw185.1
theorem k0_off745_inb : ∀ (v2617 : BitVec 32) (k0_hw185 : k0_chk185 v2617), ∀ a, (k0_off745 v2617) a + S16x1024.size a ≤ S851968x1024.size a := fun v2617 k0_hw185 => k0_hw185.2.1
theorem k0_off745_wordsbf16 : ∀ (v2617 : BitVec 32) (k0_hw185 : k0_chk185 v2617), (Rect.unit (s := S851968x1024) (k0_off745 v2617) S16x1024.size (k0_off745_inb v2617 k0_hw185)).WholeWords (EltTy.packing .bf16) := fun v2617 k0_hw185 => k0_hw185.2.2 (k0_off745_inb v2617 k0_hw185)

def k0_off746 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c184_i32 : BitVec 32 := 184#32
  let v2624 : BitVec 32 := Scalar.addi v38 c184_i32
  let v2625 : Index := Scalar.indexCast v2624
  ![v2625.toNat]
def k0_mult187 (v2626 : BitVec 32) : BitVec 32 :=
  v2626

def k0_off747 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off748 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2944_i32 : BitVec 32 := 2944#32
  let c0_i32_514 : BitVec 32 := 0#32
  ![v2.toNat, 2944, 0]
def k0_off749 (v2626 : BitVec 32) : Fin 2 → Nat :=
  let v2627 : BitVec 32 := v2626
  let c0_i32_515 : BitVec 32 := 0#32
  ![v2627.toNat, 0]

def k0_chk186 (v2626 : BitVec 32) : Prop :=
  (16 ∣ (k0_mult187 v2626).toNat) ∧
  (∀ a, (k0_off749 v2626) a + S16x1024.size a ≤ S851968x1024.size a) ∧
  (∀ (hinb : ∀ a, (k0_off749 v2626) a + S16x1024.size a ≤ S851968x1024.size a), (Rect.unit (s := S851968x1024) (k0_off749 v2626) S16x1024.size hinb).WholeWords (EltTy.packing .bf16))
theorem k0_mult187_dvd : ∀ (v2626 : BitVec 32) (k0_hw186 : k0_chk186 v2626), 16 ∣ (k0_mult187 v2626).toNat := fun v2626 k0_hw186 => k0_hw186.1
theorem k0_off749_inb : ∀ (v2626 : BitVec 32) (k0_hw186 : k0_chk186 v2626), ∀ a, (k0_off749 v2626) a + S16x1024.size a ≤ S851968x1024.size a := fun v2626 k0_hw186 => k0_hw186.2.1
theorem k0_off749_wordsbf16 : ∀ (v2626 : BitVec 32) (k0_hw186 : k0_chk186 v2626), (Rect.unit (s := S851968x1024) (k0_off749 v2626) S16x1024.size (k0_off749_inb v2626 k0_hw186)).WholeWords (EltTy.packing .bf16) := fun v2626 k0_hw186 => k0_hw186.2.2 (k0_off749_inb v2626 k0_hw186)

def k0_off750 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c185_i32 : BitVec 32 := 185#32
  let v2633 : BitVec 32 := Scalar.addi v38 c185_i32
  let v2634 : Index := Scalar.indexCast v2633
  ![v2634.toNat]
def k0_mult188 (v2635 : BitVec 32) : BitVec 32 :=
  v2635

def k0_off751 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off752 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2960_i32 : BitVec 32 := 2960#32
  let c0_i32_516 : BitVec 32 := 0#32
  ![v2.toNat, 2960, 0]
def k0_off753 (v2635 : BitVec 32) : Fin 2 → Nat :=
  let v2636 : BitVec 32 := v2635
  let c0_i32_517 : BitVec 32 := 0#32
  ![v2636.toNat, 0]

def k0_chk187 (v2635 : BitVec 32) : Prop :=
  (16 ∣ (k0_mult188 v2635).toNat) ∧
  (∀ a, (k0_off753 v2635) a + S16x1024.size a ≤ S851968x1024.size a) ∧
  (∀ (hinb : ∀ a, (k0_off753 v2635) a + S16x1024.size a ≤ S851968x1024.size a), (Rect.unit (s := S851968x1024) (k0_off753 v2635) S16x1024.size hinb).WholeWords (EltTy.packing .bf16))
theorem k0_mult188_dvd : ∀ (v2635 : BitVec 32) (k0_hw187 : k0_chk187 v2635), 16 ∣ (k0_mult188 v2635).toNat := fun v2635 k0_hw187 => k0_hw187.1
theorem k0_off753_inb : ∀ (v2635 : BitVec 32) (k0_hw187 : k0_chk187 v2635), ∀ a, (k0_off753 v2635) a + S16x1024.size a ≤ S851968x1024.size a := fun v2635 k0_hw187 => k0_hw187.2.1
theorem k0_off753_wordsbf16 : ∀ (v2635 : BitVec 32) (k0_hw187 : k0_chk187 v2635), (Rect.unit (s := S851968x1024) (k0_off753 v2635) S16x1024.size (k0_off753_inb v2635 k0_hw187)).WholeWords (EltTy.packing .bf16) := fun v2635 k0_hw187 => k0_hw187.2.2 (k0_off753_inb v2635 k0_hw187)

def k0_off754 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c186_i32 : BitVec 32 := 186#32
  let v2642 : BitVec 32 := Scalar.addi v38 c186_i32
  let v2643 : Index := Scalar.indexCast v2642
  ![v2643.toNat]
def k0_mult189 (v2644 : BitVec 32) : BitVec 32 :=
  v2644

def k0_off755 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off756 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2976_i32 : BitVec 32 := 2976#32
  let c0_i32_518 : BitVec 32 := 0#32
  ![v2.toNat, 2976, 0]
def k0_off757 (v2644 : BitVec 32) : Fin 2 → Nat :=
  let v2645 : BitVec 32 := v2644
  let c0_i32_519 : BitVec 32 := 0#32
  ![v2645.toNat, 0]

def k0_chk188 (v2644 : BitVec 32) : Prop :=
  (16 ∣ (k0_mult189 v2644).toNat) ∧
  (∀ a, (k0_off757 v2644) a + S16x1024.size a ≤ S851968x1024.size a) ∧
  (∀ (hinb : ∀ a, (k0_off757 v2644) a + S16x1024.size a ≤ S851968x1024.size a), (Rect.unit (s := S851968x1024) (k0_off757 v2644) S16x1024.size hinb).WholeWords (EltTy.packing .bf16))
theorem k0_mult189_dvd : ∀ (v2644 : BitVec 32) (k0_hw188 : k0_chk188 v2644), 16 ∣ (k0_mult189 v2644).toNat := fun v2644 k0_hw188 => k0_hw188.1
theorem k0_off757_inb : ∀ (v2644 : BitVec 32) (k0_hw188 : k0_chk188 v2644), ∀ a, (k0_off757 v2644) a + S16x1024.size a ≤ S851968x1024.size a := fun v2644 k0_hw188 => k0_hw188.2.1
theorem k0_off757_wordsbf16 : ∀ (v2644 : BitVec 32) (k0_hw188 : k0_chk188 v2644), (Rect.unit (s := S851968x1024) (k0_off757 v2644) S16x1024.size (k0_off757_inb v2644 k0_hw188)).WholeWords (EltTy.packing .bf16) := fun v2644 k0_hw188 => k0_hw188.2.2 (k0_off757_inb v2644 k0_hw188)

def k0_off758 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c187_i32 : BitVec 32 := 187#32
  let v2651 : BitVec 32 := Scalar.addi v38 c187_i32
  let v2652 : Index := Scalar.indexCast v2651
  ![v2652.toNat]
def k0_mult190 (v2653 : BitVec 32) : BitVec 32 :=
  v2653

def k0_off759 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off760 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2992_i32 : BitVec 32 := 2992#32
  let c0_i32_520 : BitVec 32 := 0#32
  ![v2.toNat, 2992, 0]
def k0_off761 (v2653 : BitVec 32) : Fin 2 → Nat :=
  let v2654 : BitVec 32 := v2653
  let c0_i32_521 : BitVec 32 := 0#32
  ![v2654.toNat, 0]

def k0_chk189 (v2653 : BitVec 32) : Prop :=
  (16 ∣ (k0_mult190 v2653).toNat) ∧
  (∀ a, (k0_off761 v2653) a + S16x1024.size a ≤ S851968x1024.size a) ∧
  (∀ (hinb : ∀ a, (k0_off761 v2653) a + S16x1024.size a ≤ S851968x1024.size a), (Rect.unit (s := S851968x1024) (k0_off761 v2653) S16x1024.size hinb).WholeWords (EltTy.packing .bf16))
theorem k0_mult190_dvd : ∀ (v2653 : BitVec 32) (k0_hw189 : k0_chk189 v2653), 16 ∣ (k0_mult190 v2653).toNat := fun v2653 k0_hw189 => k0_hw189.1
theorem k0_off761_inb : ∀ (v2653 : BitVec 32) (k0_hw189 : k0_chk189 v2653), ∀ a, (k0_off761 v2653) a + S16x1024.size a ≤ S851968x1024.size a := fun v2653 k0_hw189 => k0_hw189.2.1
theorem k0_off761_wordsbf16 : ∀ (v2653 : BitVec 32) (k0_hw189 : k0_chk189 v2653), (Rect.unit (s := S851968x1024) (k0_off761 v2653) S16x1024.size (k0_off761_inb v2653 k0_hw189)).WholeWords (EltTy.packing .bf16) := fun v2653 k0_hw189 => k0_hw189.2.2 (k0_off761_inb v2653 k0_hw189)

def k0_off762 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c188_i32 : BitVec 32 := 188#32
  let v2660 : BitVec 32 := Scalar.addi v38 c188_i32
  let v2661 : Index := Scalar.indexCast v2660
  ![v2661.toNat]
def k0_mult191 (v2662 : BitVec 32) : BitVec 32 :=
  v2662

def k0_off763 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off764 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c3008_i32 : BitVec 32 := 3008#32
  let c0_i32_522 : BitVec 32 := 0#32
  ![v2.toNat, 3008, 0]
def k0_off765 (v2662 : BitVec 32) : Fin 2 → Nat :=
  let v2663 : BitVec 32 := v2662
  let c0_i32_523 : BitVec 32 := 0#32
  ![v2663.toNat, 0]

def k0_chk190 (v2662 : BitVec 32) : Prop :=
  (16 ∣ (k0_mult191 v2662).toNat) ∧
  (∀ a, (k0_off765 v2662) a + S16x1024.size a ≤ S851968x1024.size a) ∧
  (∀ (hinb : ∀ a, (k0_off765 v2662) a + S16x1024.size a ≤ S851968x1024.size a), (Rect.unit (s := S851968x1024) (k0_off765 v2662) S16x1024.size hinb).WholeWords (EltTy.packing .bf16))
theorem k0_mult191_dvd : ∀ (v2662 : BitVec 32) (k0_hw190 : k0_chk190 v2662), 16 ∣ (k0_mult191 v2662).toNat := fun v2662 k0_hw190 => k0_hw190.1
theorem k0_off765_inb : ∀ (v2662 : BitVec 32) (k0_hw190 : k0_chk190 v2662), ∀ a, (k0_off765 v2662) a + S16x1024.size a ≤ S851968x1024.size a := fun v2662 k0_hw190 => k0_hw190.2.1
theorem k0_off765_wordsbf16 : ∀ (v2662 : BitVec 32) (k0_hw190 : k0_chk190 v2662), (Rect.unit (s := S851968x1024) (k0_off765 v2662) S16x1024.size (k0_off765_inb v2662 k0_hw190)).WholeWords (EltTy.packing .bf16) := fun v2662 k0_hw190 => k0_hw190.2.2 (k0_off765_inb v2662 k0_hw190)

def k0_off766 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c189_i32 : BitVec 32 := 189#32
  let v2669 : BitVec 32 := Scalar.addi v38 c189_i32
  let v2670 : Index := Scalar.indexCast v2669
  ![v2670.toNat]
def k0_mult192 (v2671 : BitVec 32) : BitVec 32 :=
  v2671

def k0_off767 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off768 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c3024_i32 : BitVec 32 := 3024#32
  let c0_i32_524 : BitVec 32 := 0#32
  ![v2.toNat, 3024, 0]
def k0_off769 (v2671 : BitVec 32) : Fin 2 → Nat :=
  let v2672 : BitVec 32 := v2671
  let c0_i32_525 : BitVec 32 := 0#32
  ![v2672.toNat, 0]

def k0_chk191 (v2671 : BitVec 32) : Prop :=
  (16 ∣ (k0_mult192 v2671).toNat) ∧
  (∀ a, (k0_off769 v2671) a + S16x1024.size a ≤ S851968x1024.size a) ∧
  (∀ (hinb : ∀ a, (k0_off769 v2671) a + S16x1024.size a ≤ S851968x1024.size a), (Rect.unit (s := S851968x1024) (k0_off769 v2671) S16x1024.size hinb).WholeWords (EltTy.packing .bf16))
theorem k0_mult192_dvd : ∀ (v2671 : BitVec 32) (k0_hw191 : k0_chk191 v2671), 16 ∣ (k0_mult192 v2671).toNat := fun v2671 k0_hw191 => k0_hw191.1
theorem k0_off769_inb : ∀ (v2671 : BitVec 32) (k0_hw191 : k0_chk191 v2671), ∀ a, (k0_off769 v2671) a + S16x1024.size a ≤ S851968x1024.size a := fun v2671 k0_hw191 => k0_hw191.2.1
theorem k0_off769_wordsbf16 : ∀ (v2671 : BitVec 32) (k0_hw191 : k0_chk191 v2671), (Rect.unit (s := S851968x1024) (k0_off769 v2671) S16x1024.size (k0_off769_inb v2671 k0_hw191)).WholeWords (EltTy.packing .bf16) := fun v2671 k0_hw191 => k0_hw191.2.2 (k0_off769_inb v2671 k0_hw191)

def k0_off770 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c190_i32 : BitVec 32 := 190#32
  let v2678 : BitVec 32 := Scalar.addi v38 c190_i32
  let v2679 : Index := Scalar.indexCast v2678
  ![v2679.toNat]
def k0_mult193 (v2680 : BitVec 32) : BitVec 32 :=
  v2680

def k0_off771 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off772 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c3040_i32 : BitVec 32 := 3040#32
  let c0_i32_526 : BitVec 32 := 0#32
  ![v2.toNat, 3040, 0]
def k0_off773 (v2680 : BitVec 32) : Fin 2 → Nat :=
  let v2681 : BitVec 32 := v2680
  let c0_i32_527 : BitVec 32 := 0#32
  ![v2681.toNat, 0]

def k0_chk192 (v2680 : BitVec 32) : Prop :=
  (16 ∣ (k0_mult193 v2680).toNat) ∧
  (∀ a, (k0_off773 v2680) a + S16x1024.size a ≤ S851968x1024.size a) ∧
  (∀ (hinb : ∀ a, (k0_off773 v2680) a + S16x1024.size a ≤ S851968x1024.size a), (Rect.unit (s := S851968x1024) (k0_off773 v2680) S16x1024.size hinb).WholeWords (EltTy.packing .bf16))
theorem k0_mult193_dvd : ∀ (v2680 : BitVec 32) (k0_hw192 : k0_chk192 v2680), 16 ∣ (k0_mult193 v2680).toNat := fun v2680 k0_hw192 => k0_hw192.1
theorem k0_off773_inb : ∀ (v2680 : BitVec 32) (k0_hw192 : k0_chk192 v2680), ∀ a, (k0_off773 v2680) a + S16x1024.size a ≤ S851968x1024.size a := fun v2680 k0_hw192 => k0_hw192.2.1
theorem k0_off773_wordsbf16 : ∀ (v2680 : BitVec 32) (k0_hw192 : k0_chk192 v2680), (Rect.unit (s := S851968x1024) (k0_off773 v2680) S16x1024.size (k0_off773_inb v2680 k0_hw192)).WholeWords (EltTy.packing .bf16) := fun v2680 k0_hw192 => k0_hw192.2.2 (k0_off773_inb v2680 k0_hw192)

def k0_off774 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c191_i32 : BitVec 32 := 191#32
  let v2687 : BitVec 32 := Scalar.addi v38 c191_i32
  let v2688 : Index := Scalar.indexCast v2687
  ![v2688.toNat]
def k0_mult194 (v2689 : BitVec 32) : BitVec 32 :=
  v2689

def k0_off775 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off776 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c3056_i32 : BitVec 32 := 3056#32
  let c0_i32_528 : BitVec 32 := 0#32
  ![v2.toNat, 3056, 0]
def k0_off777 (v2689 : BitVec 32) : Fin 2 → Nat :=
  let v2690 : BitVec 32 := v2689
  let c0_i32_529 : BitVec 32 := 0#32
  ![v2690.toNat, 0]

def k0_chk193 (v2689 : BitVec 32) : Prop :=
  (16 ∣ (k0_mult194 v2689).toNat) ∧
  (∀ a, (k0_off777 v2689) a + S16x1024.size a ≤ S851968x1024.size a) ∧
  (∀ (hinb : ∀ a, (k0_off777 v2689) a + S16x1024.size a ≤ S851968x1024.size a), (Rect.unit (s := S851968x1024) (k0_off777 v2689) S16x1024.size hinb).WholeWords (EltTy.packing .bf16))
theorem k0_mult194_dvd : ∀ (v2689 : BitVec 32) (k0_hw193 : k0_chk193 v2689), 16 ∣ (k0_mult194 v2689).toNat := fun v2689 k0_hw193 => k0_hw193.1
theorem k0_off777_inb : ∀ (v2689 : BitVec 32) (k0_hw193 : k0_chk193 v2689), ∀ a, (k0_off777 v2689) a + S16x1024.size a ≤ S851968x1024.size a := fun v2689 k0_hw193 => k0_hw193.2.1
theorem k0_off777_wordsbf16 : ∀ (v2689 : BitVec 32) (k0_hw193 : k0_chk193 v2689), (Rect.unit (s := S851968x1024) (k0_off777 v2689) S16x1024.size (k0_off777_inb v2689 k0_hw193)).WholeWords (EltTy.packing .bf16) := fun v2689 k0_hw193 => k0_hw193.2.2 (k0_off777_inb v2689 k0_hw193)

def k0_cond2 (i : grid0.Coords) : BitVec 1 :=
  let arg0 : BitVec 32 := BitVec.ofNat 32 (i 0).val
  let c255_i32 : BitVec 32 := 255#32
  let v2747 : BitVec 1 := Scalar.cmpi .eq arg0 c255_i32
  let v2748 : BitVec 32 := Scalar.extui v2747
  let c0_i32_558 : BitVec 32 := 0#32
  let v2749 : BitVec 1 := Scalar.cmpi .ne v2748 c0_i32_558
  v2749

def k0_off778 (i : grid0.Coords) (c1_i32_559 : BitVec 32) : Fin 1 → Nat :=
  let arg0 : BitVec 32 := BitVec.ofNat 32 (i 0).val
  let v2750 : BitVec 32 := Scalar.addi arg0 c1_i32_559
  let c3_i32_560 : BitVec 32 := 3#32
  let v2751 : BitVec 32 := Scalar.remsi v2750 c3_i32_560
  ![v2751.toNat]
def k0_off779 (i : grid0.Coords) (c1_i32_559 : BitVec 32) : Fin 3 → Nat :=
  let arg0 : BitVec 32 := BitVec.ofNat 32 (i 0).val
  let v2750 : BitVec 32 := Scalar.addi arg0 c1_i32_559
  let c3_i32_560 : BitVec 32 := 3#32
  let v2751 : BitVec 32 := Scalar.remsi v2750 c3_i32_560
  let c0_i32_561 : BitVec 32 := 0#32
  let c0_i32_562 : BitVec 32 := 0#32
  ![v2751.toNat, 0, 0]
def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S49536 : Shape := ⟨1, ![49536]⟩
abbrev S851968x1024 : Shape := ⟨2, ![851968, 1024]⟩
abbrev S8x65536 : Shape := ⟨2, ![8, 65536]⟩
abbrev S65536x1024 : Shape := ⟨2, ![65536, 1024]⟩
abbrev S1x1024x256 : Shape := ⟨3, ![1, 1024, 256]⟩
abbrev S1x256x1024 : Shape := ⟨3, ![1, 256, 1024]⟩
abbrev S1x1024 : Shape := ⟨2, ![1, 1024]⟩
abbrev S65536 : Shape := ⟨1, ![65536]⟩
abbrev S_ : Shape := ⟨0, ![]⟩
abbrev S1x65536 : Shape := ⟨2, ![1, 65536]⟩
abbrev S8x65536x1 : Shape := ⟨3, ![8, 65536, 1]⟩
abbrev S8x65536x1024 : Shape := ⟨3, ![8, 65536, 1024]⟩
abbrev S1024x256 : Shape := ⟨2, ![1024, 256]⟩
abbrev S65536x256 : Shape := ⟨2, ![65536, 256]⟩
abbrev S256x1024 : Shape := ⟨2, ![256, 1024]⟩
abbrev S65536x1 : Shape := ⟨2, ![65536, 1]⟩
abbrev S1024 : Shape := ⟨1, ![1024]⟩

abbrev nBuf : Space → Nat
  | .hbm => 132
  | .vmem => 0
  | .smem => 0
  | _ => 0

abbrev hbmTy0_0 (i : Nat) : BufTy := match i % 128 with
  | 0 => ⟨S49536, .i32⟩
  | 1 => ⟨S851968x1024, .bf16⟩
  | 2 => ⟨S8x65536, .i32⟩
  | 3 => ⟨S8x65536, .f32⟩
  | 4 => ⟨S65536x1024, .f32⟩
  | 5 => ⟨S1x1024x256, .f32⟩
  | 6 => ⟨S1x1024x256, .f32⟩
  | 7 => ⟨S1x256x1024, .f32⟩
  | 8 => ⟨S1x1024, .f32⟩
  | 9 => ⟨S1x1024, .f32⟩
  | 10 => ⟨S65536, .i32⟩
  | 11 => ⟨S_, .i32⟩
  | 12 => ⟨S_, .i32⟩
  | 13 => ⟨S8x65536, .i32⟩
  | 14 => ⟨S8x65536, .i32⟩
  | 15 => ⟨S8x65536, .i32⟩
  | 16 => ⟨S_, .i32⟩
  | 17 => ⟨S8x65536, .i32⟩
  | 18 => ⟨S8x65536, .i1⟩
  | 19 => ⟨S8x65536, .i32⟩
  | 20 => ⟨S8x65536, .i32⟩
  | 21 => ⟨S_, .i32⟩
  | 22 => ⟨S8x65536, .i32⟩
  | 23 => ⟨S8x65536, .i1⟩
  | 24 => ⟨S8x65536, .i1⟩
  | 25 => ⟨S_, .i32⟩
  | 26 => ⟨S8x65536, .i32⟩
  | 27 => ⟨S8x65536, .i32⟩
  | 28 => ⟨S8x65536, .i32⟩
  | 29 => ⟨S_, .i32⟩
  | 30 => ⟨S_, .i32⟩
  | 31 => ⟨S65536, .i32⟩
  | 32 => ⟨S65536, .i32⟩
  | 33 => ⟨S65536, .i32⟩
  | 34 => ⟨S_, .i32⟩
  | 35 => ⟨S65536, .i32⟩
  | 36 => ⟨S65536, .i1⟩
  | 37 => ⟨S65536, .i32⟩
  | 38 => ⟨S65536, .i32⟩
  | 39 => ⟨S_, .i32⟩
  | 40 => ⟨S65536, .i32⟩
  | 41 => ⟨S65536, .i1⟩
  | 42 => ⟨S65536, .i1⟩
  | 43 => ⟨S_, .i32⟩
  | 44 => ⟨S65536, .i32⟩
  | 45 => ⟨S65536, .i32⟩
  | 46 => ⟨S65536, .i32⟩
  | 47 => ⟨S1x65536, .i32⟩
  | 48 => ⟨S_, .i32⟩
  | 49 => ⟨S1x65536, .i32⟩
  | 50 => ⟨S1x65536, .i32⟩
  | 51 => ⟨S8x65536, .i32⟩
  | 52 => ⟨S8x65536, .i32⟩
  | 53 => ⟨S_, .i32⟩
  | 54 => ⟨S8x65536, .i32⟩
  | 55 => ⟨S8x65536, .i1⟩
  | 56 => ⟨S_, .i32⟩
  | 57 => ⟨S8x65536, .i32⟩
  | 58 => ⟨S8x65536, .i32⟩
  | 59 => ⟨S8x65536, .i32⟩
  | 60 => ⟨S8x65536x1, .i32⟩
  | 61 => ⟨S8x65536, .i32⟩
  | 62 => ⟨S_, .i32⟩
  | 63 => ⟨S8x65536, .i32⟩
  | 64 => ⟨S8x65536, .i32⟩
  | 65 => ⟨S8x65536, .i32⟩
  | 66 => ⟨S8x65536, .i32⟩
  | 67 => ⟨S_, .i32⟩
  | 68 => ⟨S8x65536, .i32⟩
  | 69 => ⟨S8x65536, .i1⟩
  | 70 => ⟨S_, .i32⟩
  | 71 => ⟨S8x65536, .i32⟩
  | 72 => ⟨S8x65536, .i32⟩
  | 73 => ⟨S8x65536, .i32⟩
  | 74 => ⟨S8x65536x1, .i32⟩
  | 75 => ⟨S8x65536x1024, .bf16⟩
  | 76 => ⟨S8x65536x1024, .f32⟩
  | 77 => ⟨S8x65536x1, .f32⟩
  | 78 => ⟨S8x65536x1024, .f32⟩
  | 79 => ⟨S8x65536x1024, .f32⟩
  | 80 => ⟨S_, .f32⟩
  | 81 => ⟨S65536x1024, .f32⟩
  | 82 => ⟨S1024x256, .f32⟩
  | 83 => ⟨S65536x256, .f32⟩
  | 84 => ⟨S65536x256, .f32⟩
  | 85 => ⟨S65536x256, .f32⟩
  | 86 => ⟨S_, .f32⟩
  | 87 => ⟨S65536x256, .f32⟩
  | 88 => ⟨S65536x256, .f32⟩
  | 89 => ⟨S_, .f32⟩
  | 90 => ⟨S65536x256, .f32⟩
  | 91 => ⟨S65536x256, .f32⟩
  | 92 => ⟨S65536x256, .f32⟩
  | 93 => ⟨S1024x256, .f32⟩
  | 94 => ⟨S65536x256, .f32⟩
  | 95 => ⟨S65536x256, .f32⟩
  | 96 => ⟨S256x1024, .f32⟩
  | 97 => ⟨S65536x1024, .f32⟩
  | 98 => ⟨S_, .f32⟩
  | 99 => ⟨S65536x1024, .f32⟩
  | 100 => ⟨S65536x1024, .f32⟩
  | 101 => ⟨S65536x1024, .f32⟩
  | 102 => ⟨S65536x1024, .f32⟩
  | 103 => ⟨S_, .f32⟩
  | 104 => ⟨S65536, .f32⟩
  | 105 => ⟨S65536x1, .f32⟩
  | 106 => ⟨S_, .f32⟩
  | 107 => ⟨S65536x1, .f32⟩
  | 108 => ⟨S65536x1, .f32⟩
  | 109 => ⟨S65536x1024, .f32⟩
  | 110 => ⟨S65536x1024, .f32⟩
  | 111 => ⟨S65536x1024, .f32⟩
  | 112 => ⟨S_, .f32⟩
  | 113 => ⟨S65536, .f32⟩
  | 114 => ⟨S65536x1, .f32⟩
  | 115 => ⟨S_, .f32⟩
  | 116 => ⟨S65536x1, .f32⟩
  | 117 => ⟨S65536x1, .f32⟩
  | 118 => ⟨S_, .f32⟩
  | 119 => ⟨S65536x1, .f32⟩
  | 120 => ⟨S65536x1, .f32⟩
  | 121 => ⟨S65536x1, .f32⟩
  | 122 => ⟨S65536x1024, .f32⟩
  | 123 => ⟨S65536x1024, .f32⟩
  | 124 => ⟨S1024, .f32⟩
  | 125 => ⟨S1x1024, .f32⟩
  | 126 => ⟨S65536x1024, .f32⟩
  | 127 => ⟨S65536x1024, .f32⟩
  | _ => ⟨S49536, .i32⟩

abbrev hbmTy0_1 (i : Nat) : BufTy := match i % 128 with
  | 0 => ⟨S1024, .f32⟩
  | 1 => ⟨S1x1024, .f32⟩
  | 2 => ⟨S65536x1024, .f32⟩
  | 3 => ⟨S65536x1024, .f32⟩
  | _ => ⟨S49536, .i32⟩

abbrev hbmTy (i : Nat) : BufTy := match i / 128 with
  | 0 => hbmTy0_0 i
  | 1 => hbmTy0_1 i
  | _ => ⟨S49536, .i32⟩

abbrev bufTy : (tb : Table) → Fin (tcTables nBuf tb) → BufTy
  | .hbm, ⟨i, _⟩ => hbmTy i
  | _, _ => ⟨S49536, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v1 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v2 : Ref sig .tc := ⟨.hbm, 46, rfl⟩
abbrev main_v3 : Ref sig .tc := ⟨.hbm, 47, rfl⟩
abbrev main_c_1 : Ref sig .tc := ⟨.hbm, 48, rfl⟩
abbrev main_v4 : Ref sig .tc := ⟨.hbm, 49, rfl⟩
abbrev main_v5 : Ref sig .tc := ⟨.hbm, 50, rfl⟩
abbrev main_v6 : Ref sig .tc := ⟨.hbm, 51, rfl⟩
abbrev main_v7 : Ref sig .tc := ⟨.hbm, 52, rfl⟩
abbrev main_c_2 : Ref sig .tc := ⟨.hbm, 53, rfl⟩
abbrev main_v8 : Ref sig .tc := ⟨.hbm, 54, rfl⟩
abbrev main_v9 : Ref sig .tc := ⟨.hbm, 55, rfl⟩
abbrev main_c_3 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_c_4 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_c_5 : Ref sig .tc := ⟨.hbm, 67, rfl⟩
abbrev main_v19 : Ref sig .tc := ⟨.hbm, 68, rfl⟩
abbrev main_v20 : Ref sig .tc := ⟨.hbm, 69, rfl⟩
abbrev main_c_6 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_cst : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_call2_v0 : Ref sig .tc := ⟨.hbm, 84, rfl⟩
abbrev main_call2_v1 : Ref sig .tc := ⟨.hbm, 85, rfl⟩
abbrev main_call2_cst : Ref sig .tc := ⟨.hbm, 86, rfl⟩
abbrev main_call2_v2 : Ref sig .tc := ⟨.hbm, 87, rfl⟩
abbrev main_call2_v3 : Ref sig .tc := ⟨.hbm, 88, rfl⟩
abbrev main_call2_cst_0 : Ref sig .tc := ⟨.hbm, 89, rfl⟩
abbrev main_call2_v4 : Ref sig .tc := ⟨.hbm, 90, rfl⟩
abbrev main_call2_v5 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_cst_7 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_cst_8 : Ref sig .tc := ⟨.hbm, 103, rfl⟩
abbrev main_v43 : Ref sig .tc := ⟨.hbm, 104, rfl⟩
abbrev main_v44 : Ref sig .tc := ⟨.hbm, 105, rfl⟩
abbrev main_cst_9 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_cst_10 : Ref sig .tc := ⟨.hbm, 112, rfl⟩
abbrev main_v50 : Ref sig .tc := ⟨.hbm, 113, rfl⟩
abbrev main_v51 : Ref sig .tc := ⟨.hbm, 114, rfl⟩
abbrev main_cst_11 : Ref sig .tc := ⟨.hbm, 115, rfl⟩
abbrev main_v52 : Ref sig .tc := ⟨.hbm, 116, rfl⟩
abbrev main_v53 : Ref sig .tc := ⟨.hbm, 117, rfl⟩
abbrev main_cst_12 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩

abbrev nD : Nat := 1
abbrev τ : Topo := Topo.v7x

variable {F : FTy → Type} [FloatOps F]
-- ==== Ffn.lean ====
abbrev S832 : Shape := ⟨1, ![832]⟩
abbrev S1 : Shape := ⟨1, ![1]⟩
abbrev S861184x1024 : Shape := ⟨2, ![861184, 1024]⟩
abbrev S1x64x1024x256 : Shape := ⟨4, ![1, 64, 1024, 256]⟩
abbrev S1x64x256x1024 : Shape := ⟨4, ![1, 64, 256, 1024]⟩
abbrev S64x1024x256 : Shape := ⟨3, ![64, 1024, 256]⟩
abbrev S64x256x1024 : Shape := ⟨3, ![64, 256, 1024]⟩
abbrev S851968x1024 : Shape := ⟨2, ![851968, 1024]⟩
abbrev S1024x1024 : Shape := ⟨2, ![1024, 1024]⟩
abbrev S1x1024x256 : Shape := ⟨3, ![1, 1024, 256]⟩
abbrev S1x256x1024 : Shape := ⟨3, ![1, 256, 1024]⟩
abbrev S1024x256 : Shape := ⟨2, ![1024, 256]⟩
abbrev S256x1024 : Shape := ⟨2, ![256, 1024]⟩

abbrev nBuf : Space → Nat
  | .hbm => 11
  | .vmem => 10
  | .smem => 2
  | _ => 0

abbrev bufTy : (tb : Table) → Fin (tcTables nBuf tb) → BufTy
  | .hbm, ⟨0, _⟩ => ⟨S861184x1024, .bf16⟩
  | .hbm, ⟨1, _⟩ => ⟨S1x64x1024x256, .f32⟩
  | .hbm, ⟨2, _⟩ => ⟨S1x64x1024x256, .f32⟩
  | .hbm, ⟨3, _⟩ => ⟨S1x64x256x1024, .f32⟩
  | .hbm, ⟨4, _⟩ => ⟨S64x1024x256, .f32⟩
  | .hbm, ⟨5, _⟩ => ⟨S64x1024x256, .bf16⟩
  | .hbm, ⟨6, _⟩ => ⟨S64x1024x256, .f32⟩
  | .hbm, ⟨7, _⟩ => ⟨S64x1024x256, .bf16⟩
  | .hbm, ⟨8, _⟩ => ⟨S64x256x1024, .f32⟩
  | .hbm, ⟨9, _⟩ => ⟨S64x256x1024, .bf16⟩
  | .hbm, ⟨10, _⟩ => ⟨S851968x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x256x1024, .bf16⟩
  | .local _ .vmem, ⟨7, _⟩ => ⟨S1x256x1024, .bf16⟩
  | .local _ .vmem, ⟨8, _⟩ => ⟨S1024x1024, .bf16⟩
  | .local _ .vmem, ⟨9, _⟩ => ⟨S1024x1024, .bf16⟩
  | .local _ .smem, ⟨0, _⟩ => ⟨S832, .i32⟩
  | .local _ .smem, ⟨1, _⟩ => ⟨S1, .i32⟩
  | _, _ => ⟨S861184x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![832], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S832.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S832) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S832.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S832) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S832.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S832) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnReferenceIdeal.lean ====
abbrev S832 : Shape := ⟨1, ![832]⟩
abbrev S1 : Shape := ⟨1, ![1]⟩
abbrev S861184x1024 : Shape := ⟨2, ![861184, 1024]⟩
abbrev S1x64x1024x256 : Shape := ⟨4, ![1, 64, 1024, 256]⟩
abbrev S1x64x256x1024 : Shape := ⟨4, ![1, 64, 256, 1024]⟩
abbrev S851968x1024 : Shape := ⟨2, ![851968, 1024]⟩
abbrev S832x1024 : Shape := ⟨2, ![832, 1024]⟩
abbrev S851968 : Shape := ⟨1, ![851968]⟩
abbrev S851968x1 : Shape := ⟨2, ![851968, 1]⟩
abbrev S64 : Shape := ⟨1, ![64]⟩
abbrev S1x64 : Shape := ⟨2, ![1, 64]⟩
abbrev S851968x64 : Shape := ⟨2, ![851968, 64]⟩
abbrev S64x1024x256 : Shape := ⟨3, ![64, 1024, 256]⟩
abbrev S851968x64x256 : Shape := ⟨3, ![851968, 64, 256]⟩
abbrev S_ : Shape := ⟨0, ![]⟩
abbrev S851968x64x1 : Shape := ⟨3, ![851968, 64, 1]⟩
abbrev S64x256x1024 : Shape := ⟨3, ![64, 256, 1024]⟩

abbrev nBuf : Space → Nat
  | .hbm => 37
  | .vmem => 0
  | .smem => 0
  | _ => 0

abbrev bufTy : (tb : Table) → Fin (tcTables nBuf tb) → BufTy
  | .hbm, ⟨0, _⟩ => ⟨S832, .i32⟩
  | .hbm, ⟨1, _⟩ => ⟨S1, .i32⟩
  | .hbm, ⟨2, _⟩ => ⟨S861184x1024, .bf16⟩
  | .hbm, ⟨3, _⟩ => ⟨S1x64x1024x256, .f32⟩
  | .hbm, ⟨4, _⟩ => ⟨S1x64x1024x256, .f32⟩
  | .hbm, ⟨5, _⟩ => ⟨S1x64x256x1024, .f32⟩
  | .hbm, ⟨6, _⟩ => ⟨S851968x1024, .bf16⟩
  | .hbm, ⟨7, _⟩ => ⟨S851968x1024, .f32⟩
  | .hbm, ⟨8, _⟩ => ⟨S832x1024, .i32⟩
  | .hbm, ⟨9, _⟩ => ⟨S851968, .i32⟩
  | .hbm, ⟨10, _⟩ => ⟨S851968x1, .i32⟩
  | .hbm, ⟨11, _⟩ => ⟨S64, .i32⟩
  | .hbm, ⟨12, _⟩ => ⟨S1x64, .i32⟩
  | .hbm, ⟨13, _⟩ => ⟨S851968x64, .i32⟩
  | .hbm, ⟨14, _⟩ => ⟨S851968x64, .i32⟩
  | .hbm, ⟨15, _⟩ => ⟨S851968x64, .i1⟩
  | .hbm, ⟨16, _⟩ => ⟨S851968x64, .f32⟩
  | .hbm, ⟨17, _⟩ => ⟨S64x1024x256, .f32⟩
  | .hbm, ⟨18, _⟩ => ⟨S851968x64x256, .f32⟩
  | .hbm, ⟨19, _⟩ => ⟨S851968x64x256, .f32⟩
  | .hbm, ⟨20, _⟩ => ⟨S851968x64x256, .f32⟩
  | .hbm, ⟨21, _⟩ => ⟨S_, .f32⟩
  | .hbm, ⟨22, _⟩ => ⟨S851968x64x256, .f32⟩
  | .hbm, ⟨23, _⟩ => ⟨S851968x64x256, .f32⟩
  | .hbm, ⟨24, _⟩ => ⟨S_, .f32⟩
  | .hbm, ⟨25, _⟩ => ⟨S851968x64x256, .f32⟩
  | .hbm, ⟨26, _⟩ => ⟨S851968x64x256, .f32⟩
  | .hbm, ⟨27, _⟩ => ⟨S851968x64x256, .f32⟩
  | .hbm, ⟨28, _⟩ => ⟨S64x1024x256, .f32⟩
  | .hbm, ⟨29, _⟩ => ⟨S851968x64x256, .f32⟩
  | .hbm, ⟨30, _⟩ => ⟨S851968x64x256, .f32⟩
  | .hbm, ⟨31, _⟩ => ⟨S851968x64x1, .f32⟩
  | .hbm, ⟨32, _⟩ => ⟨S851968x64x256, .f32⟩
  | .hbm, ⟨33, _⟩ => ⟨S851968x64x256, .f32⟩
  | .hbm, ⟨34, _⟩ => ⟨S64x256x1024, .f32⟩
  | .hbm, ⟨35, _⟩ => ⟨S851968x1024, .f32⟩
  | .hbm, ⟨36, _⟩ => ⟨S851968x1024, .bf16⟩
  | _, _ => ⟨S832, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]
-- ==== Kvup.lean ====
abbrev S65536x256 : Shape := ⟨2, ![65536, 256]⟩
abbrev S65536x32 : Shape := ⟨2, ![65536, 32]⟩
abbrev S1x256x4x192 : Shape := ⟨4, ![1, 256, 4, 192]⟩
abbrev S256x4x192 : Shape := ⟨3, ![256, 4, 192]⟩
abbrev S256x4x64 : Shape := ⟨3, ![256, 4, 64]⟩
abbrev S_ : Shape := ⟨0, ![]⟩
abbrev S256x4x128 : Shape := ⟨3, ![256, 4, 128]⟩
abbrev S256x512 : Shape := ⟨2, ![256, 512]⟩
abbrev S32x32 : Shape := ⟨2, ![32, 32]⟩
abbrev S32x128 : Shape := ⟨2, ![32, 128]⟩
abbrev S1x32x1x128 : Shape := ⟨4, ![1, 32, 1, 128]⟩
abbrev S1x32x4x128 : Shape := ⟨4, ![1, 32, 4, 128]⟩
abbrev S32x512 : Shape := ⟨2, ![32, 512]⟩
abbrev S65536x512 : Shape := ⟨2, ![65536, 512]⟩
abbrev S1024x256 : Shape := ⟨2, ![1024, 256]⟩
abbrev S1024x32 : Shape := ⟨2, ![1024, 32]⟩
abbrev S1024x512 : Shape := ⟨2, ![1024, 512]⟩

abbrev nBuf : Space → Nat
  | .hbm => 29
  | .vmem => 11
  | .smem => 0
  | _ => 0

abbrev bufTy : (tb : Table) → Fin (tcTables nBuf tb) → BufTy
  | .hbm, ⟨0, _⟩ => ⟨S65536x256, .f32⟩
  | .hbm, ⟨1, _⟩ => ⟨S65536x32, .f32⟩
  | .hbm, ⟨2, _⟩ => ⟨S1x256x4x192, .f32⟩
  | .hbm, ⟨3, _⟩ => ⟨S256x4x192, .f32⟩
  | .hbm, ⟨4, _⟩ => ⟨S256x4x64, .f32⟩
  | .hbm, ⟨5, _⟩ => ⟨S_, .i32⟩
  | .hbm, ⟨6, _⟩ => ⟨S_, .f32⟩
  | .hbm, ⟨7, _⟩ => ⟨S256x4x128, .f32⟩
  | .hbm, ⟨8, _⟩ => ⟨S256x512, .f32⟩
  | .hbm, ⟨9, _⟩ => ⟨S256x512, .bf16⟩
  | .hbm, ⟨10, _⟩ => ⟨S256x4x128, .f32⟩
  | .hbm, ⟨11, _⟩ => ⟨S256x512, .f32⟩
  | .hbm, ⟨12, _⟩ => ⟨S256x512, .bf16⟩
  | .hbm, ⟨13, _⟩ => ⟨S32x32, .i32⟩
  | .hbm, ⟨14, _⟩ => ⟨S32x32, .i32⟩
  | .hbm, ⟨15, _⟩ => ⟨S_, .i32⟩
  | .hbm, ⟨16, _⟩ => ⟨S32x32, .i32⟩
  | .hbm, ⟨17, _⟩ => ⟨S32x32, .i32⟩
  | .hbm, ⟨18, _⟩ => ⟨S32x32, .i1⟩
  | .hbm, ⟨19, _⟩ => ⟨S32x32, .f32⟩
  | .hbm, ⟨20, _⟩ => ⟨S_, .i32⟩
  | .hbm, ⟨21, _⟩ => ⟨S_, .f32⟩
  | .hbm, ⟨22, _⟩ => ⟨S32x128, .f32⟩
  | .hbm, ⟨23, _⟩ => ⟨S1x32x1x128, .f32⟩
  | .hbm, ⟨24, _⟩ => ⟨S1x32x4x128, .f32⟩
  | .hbm, ⟨25, _⟩ => ⟨S32x512, .f32⟩
  | .hbm, ⟨26, _⟩ => ⟨S32x512, .bf16⟩
  | .hbm, ⟨27, _⟩ => ⟨S65536x512, .bf16⟩
  | .hbm, ⟨28, _⟩ => ⟨S65536x512, .bf16⟩
  | .local _ .vmem, ⟨0, _⟩ => ⟨S1024x256, .f32⟩
  | .local _ .vmem, ⟨1, _⟩ => ⟨S1024x256, .f32⟩
  | .local _ .vmem, ⟨2, _⟩ => ⟨S1024x32, .f32⟩
  | .local _ .vmem, ⟨3, _⟩ => ⟨S1024x32, .f32⟩
  | .local _ .vmem, ⟨4, _⟩ => ⟨S256x512, .bf16⟩
  | .local _ .vmem, ⟨5, _⟩ => ⟨S32x512, .bf16⟩
  | .local _ .vmem, ⟨6, _⟩ => ⟨S256x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_call1_v0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19_0 : Ref sig .tc := ⟨.hbm, 27, rfl⟩
abbrev main_v19_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KvupReferenceIdeal.lean ====
abbrev S65536x256 : Shape := ⟨2, ![65536, 256]⟩
abbrev S65536x32 : Shape := ⟨2, ![65536, 32]⟩
abbrev S1x256x4x192 : Shape := ⟨4, ![1, 256, 4, 192]⟩
abbrev S256x4x192 : Shape := ⟨3, ![256, 4, 192]⟩
abbrev S65536x4x192 : Shape := ⟨3, ![65536, 4, 192]⟩
abbrev S65536x4x64 : Shape := ⟨3, ![65536, 4, 64]⟩
abbrev S65536x4x128 : Shape := ⟨3, ![65536, 4, 128]⟩
abbrev S65536x1x32 : Shape := ⟨3, ![65536, 1, 32]⟩
abbrev S65536x4x32 : Shape := ⟨3, ![65536, 4, 32]⟩
abbrev S_ : Shape := ⟨0, ![]⟩
abbrev S65536x512 : Shape := ⟨2, ![65536, 512]⟩

abbrev nBuf : Space → Nat
  | .hbm => 16
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x32, .f32⟩
  | .hbm, ⟨2, _⟩ => ⟨S1x256x4x192, .f32⟩
  | .hbm, ⟨3, _⟩ => ⟨S256x4x192, .f32⟩
  | .hbm, ⟨4, _⟩ => ⟨S65536x4x192, .f32⟩
  | .hbm, ⟨5, _⟩ => ⟨S65536x4x64, .f32⟩
  | .hbm, ⟨6, _⟩ => ⟨S65536x4x128, .f32⟩
  | .hbm, ⟨7, _⟩ => ⟨S65536x1x32, .f32⟩
  | .hbm, ⟨8, _⟩ => ⟨S65536x4x32, .f32⟩
  | .hbm, ⟨9, _⟩ => ⟨S_, .f32⟩
  | .hbm, ⟨10, _⟩ => ⟨S65536x4x32, .f32⟩
  | .hbm, ⟨11, _⟩ => ⟨S65536x4x128, .f32⟩
  | .hbm, ⟨12, _⟩ => ⟨S65536x512, .f32⟩
  | .hbm, ⟨13, _⟩ => ⟨S65536x512, .bf16⟩
  | .hbm, ⟨14, _⟩ => ⟨S65536x512, .f32⟩
  | .hbm, ⟨15, _⟩ => ⟨S65536x512, .bf16⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Sample.lean ====
abbrev S1152 : Shape := ⟨1, ![1152]⟩
abbrev S28672x1024 : Shape := ⟨2, ![28672, 1024]⟩
abbrev S8x1024 : Shape := ⟨2, ![8, 1024]⟩
abbrev S1024x1024 : Shape := ⟨2, ![1024, 1024]⟩
abbrev S1x1024x256 : Shape := ⟨3, ![1, 1024, 256]⟩
abbrev S1x256x1024 : Shape := ⟨3, ![1, 256, 1024]⟩
abbrev S1x1024 : Shape := ⟨2, ![1, 1024]⟩
abbrev S1024x256 : Shape := ⟨2, ![1024, 256]⟩
abbrev S256x1024 : Shape := ⟨2, ![256, 1024]⟩
abbrev S1024 : Shape := ⟨1, ![1024]⟩
abbrev S16x1024 : Shape := ⟨2, ![16, 1024]⟩
abbrev S16x256 : Shape := ⟨2, ![16, 256]⟩
abbrev S3x3072x1024 : Shape := ⟨3, ![3, 3072, 1024]⟩
abbrev S3 : Shape := ⟨1, ![3]⟩
abbrev S1 : Shape := ⟨1, ![1]⟩
abbrev S_ : Shape := ⟨0, ![]⟩
abbrev S1x16x1024 : Shape := ⟨3, ![1, 16, 1024]⟩
abbrev S1x3072x1024 : Shape := ⟨3, ![1, 3072, 1024]⟩
abbrev S3072x1024 : Shape := ⟨2, ![3072, 1024]⟩
abbrev S8x256 : Shape := ⟨2, ![8, 256]⟩
abbrev S1x256 : Shape := ⟨2, ![1, 256]⟩
abbrev S256x256 : Shape := ⟨2, ![256, 256]⟩
abbrev S1x1024x1024 : Shape := ⟨3, ![1, 1024, 1024]⟩
abbrev S256 : Shape := ⟨1, ![256]⟩
abbrev S256x1 : Shape := ⟨2, ![256, 1]⟩

abbrev nBuf : Space → Nat
  | .hbm => 23
  | .vmem => 14
  | .smem => 1
  | _ => 0

abbrev bufTy : (tb : Table) → Fin (tcTables nBuf tb) → BufTy
  | .hbm, ⟨0, _⟩ => ⟨S28672x1024, .bf16⟩
  | .hbm, ⟨1, _⟩ => ⟨S8x1024, .i32⟩
  | .hbm, ⟨2, _⟩ => ⟨S8x1024, .f32⟩
  | .hbm, ⟨3, _⟩ => ⟨S1024x1024, .f32⟩
  | .hbm, ⟨4, _⟩ => ⟨S1x1024x256, .f32⟩
  | .hbm, ⟨5, _⟩ => ⟨S1x1024x256, .f32⟩
  | .hbm, ⟨6, _⟩ => ⟨S1x256x1024, .f32⟩
  | .hbm, ⟨7, _⟩ => ⟨S1x1024, .f32⟩
  | .hbm, ⟨8, _⟩ => ⟨S1x1024, .f32⟩
  | .hbm, ⟨9, _⟩ => ⟨S1024x256, .f32⟩
  | .hbm, ⟨10, _⟩ => ⟨S1024x256, .bf16⟩
  | .hbm, ⟨11, _⟩ => ⟨S1024x256, .f32⟩
  | .hbm, ⟨12, _⟩ => ⟨S1024x256, .bf16⟩
  | .hbm, ⟨13, _⟩ => ⟨S256x1024, .f32⟩
  | .hbm, ⟨14, _⟩ => ⟨S256x1024, .bf16⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S8x1024, .f32⟩
  | .hbm, ⟨20, _⟩ => ⟨S16x1024, .f32⟩
  | .hbm, ⟨21, _⟩ => ⟨S1024x1024, .bf16⟩
  | .hbm, ⟨22, _⟩ => ⟨S1024x1024, .f32⟩
  | .local _ .vmem, ⟨0, _⟩ => ⟨S16x256, .f32⟩
  | .local _ .vmem, ⟨1, _⟩ => ⟨S16x256, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .vmem, ⟨9, _⟩ => ⟨S1x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S3x3072x1024, .bf16⟩
  | .local _ .smem, ⟨0, _⟩ => ⟨S1152, .i32⟩
  | _, _ => ⟨S28672x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_1 : BitVec 32 := 0#32
  let v5 : BitVec 1 := Scalar.cmpi .ne v4 c0_i32_1
  v5

@[reducible] def k0_t1_loop : Scf.Loop 32 :=
  let c0_i32_560 : BitVec 32 := 0#32
  let c384_i32_561 : BitVec 32 := 384#32
  let v2750 : BitVec 32 := Scalar.addi c0_i32_560 c384_i32_561
  let c1_i32_562 : BitVec 32 := 1#32
  ⟨c0_i32_560, v2750, c1_i32_562⟩
def k0_off1 (k0_t1 : Fin k0_t1_loop.trips) : Fin 1 → Nat :=
  let c0_i32_560 : BitVec 32 := 0#32
  let c1_i32_562 : BitVec 32 := 1#32
  let arg14 : BitVec 32 := Scf.iv c0_i32_560 c1_i32_562 k0_t1
  let v2768 : Index := Scalar.indexCast arg14
  ![v2768.toNat]
def k0_mult1 (v2769 : BitVec 32) : BitVec 32 :=
  v2769

def k0_mult2 (k0_t1 : Fin k0_t1_loop.trips) : BitVec 32 :=
  let c0_i32_560 : BitVec 32 := 0#32
  let c1_i32_562 : BitVec 32 := 1#32
  let arg14 : BitVec 32 := Scf.iv c0_i32_560 c1_i32_562 k0_t1
  let c0_i32_565 : BitVec 32 := 0#32
  let v2752 : BitVec 1 := Scalar.cmpi .sgt arg14 c0_i32_565
  let v2753 : BitVec 32 := Scalar.extui v2752
  let c0_i32_566 : BitVec 32 := 0#32
  let v2754 : BitVec 1 := Scalar.cmpi .slt arg14 c0_i32_566
  let v2755 : BitVec 32 := Scalar.extui v2754
  let v2756 : BitVec 32 := Scalar.subi v2753 v2755
  let c192_i32_564 : BitVec 32 := 192#32
  let c0_i32_567 : BitVec 32 := 0#32
  let v2757 : BitVec 1 := Scalar.cmpi .sgt c192_i32_564 c0_i32_567
  let v2758 : BitVec 32 := Scalar.extui v2757
  let c0_i32_568 : BitVec 32 := 0#32
  let v2759 : BitVec 1 := Scalar.cmpi .slt c192_i32_564 c0_i32_568
  let v2760 : BitVec 32 := Scalar.extui v2759
  let v2761 : BitVec 32 := Scalar.subi v2758 v2760
  let v2762 : BitVec 1 := Scalar.cmpi .ne v2756 v2761
  let v2763 : BitVec 32 := Scalar.remsi arg14 c192_i32_564
  let c0_i32_569 : BitVec 32 := 0#32
  let v2764 : BitVec 1 := Scalar.cmpi .ne v2763 c0_i32_569
  let v2765 : BitVec 1 := Scalar.andi v2762 v2764
  let v2751 : BitVec 32 := Scalar.divsi arg14 c192_i32_564
  let c1_i32_570 : BitVec 32 := 1#32
  let v2766 : BitVec 32 := Scalar.subi v2751 c1_i32_570
  let v2767 : BitVec 32 := Scalar.select v2765 v2766 v2751
  let c192_i32_571 : BitVec 32 := 192#32
  let v2771 : BitVec 32 := Scalar.muli v2767 c192_i32_571
  let v2772 : BitVec 32 := Scalar.subi arg14 v2771
  let c16_i32_572 : BitVec 32 := 16#32
  let v2773 : BitVec 32 := Scalar.muli v2772 c16_i32_572
  v2773
def k0_off2 (k0_t1 : Fin k0_t1_loop.trips) : Fin 1 → Nat :=
  let c0_i32_560 : BitVec 32 := 0#32
  let c1_i32_562 : BitVec 32 := 1#32
  let arg14 : BitVec 32 := Scf.iv c0_i32_560 c1_i32_562 k0_t1
  let c0_i32_565 : BitVec 32 := 0#32
  let v2752 : BitVec 1 := Scalar.cmpi .sgt arg14 c0_i32_565
  let v2753 : BitVec 32 := Scalar.extui v2752
  let c0_i32_566 : BitVec 32 := 0#32
  let v2754 : BitVec 1 := Scalar.cmpi .slt arg14 c0_i32_566
  let v2755 : BitVec 32 := Scalar.extui v2754
  let v2756 : BitVec 32 := Scalar.subi v2753 v2755
  let c192_i32_564 : BitVec 32 := 192#32
  let c0_i32_567 : BitVec 32 := 0#32
  let v2757 : BitVec 1 := Scalar.cmpi .sgt c192_i32_564 c0_i32_567
  let v2758 : BitVec 32 := Scalar.extui v2757
  let c0_i32_568 : BitVec 32 := 0#32
  let v2759 : BitVec 1 := Scalar.cmpi .slt c192_i32_564 c0_i32_568
  let v2760 : BitVec 32 := Scalar.extui v2759
  let v2761 : BitVec 32 := Scalar.subi v2758 v2760
  let v2762 : BitVec 1 := Scalar.cmpi .ne v2756 v2761
  let v2763 : BitVec 32 := Scalar.remsi arg14 c192_i32_564
  let c0_i32_569 : BitVec 32 := 0#32
  let v2764 : BitVec 1 := Scalar.cmpi .ne v2763 c0_i32_569
  let v2765 : BitVec 1 := Scalar.andi v2762 v2764
  let v2751 : BitVec 32 := Scalar.divsi arg14 c192_i32_564
  let c1_i32_570 : BitVec 32 := 1#32
  let v2766 : BitVec 32 := Scalar.subi v2751 c1_i32_570
  let v2767 : BitVec 32 := Scalar.select v2765 v2766 v2751
  ![v2767.toNat]
def k0_off3 (k0_t1 : Fin k0_t1_loop.trips) : Fin 3 → Nat :=
  let c0_i32_560 : BitVec 32 := 0#32
  let c1_i32_562 : BitVec 32 := 1#32
  let arg14 : BitVec 32 := Scf.iv c0_i32_560 c1_i32_562 k0_t1
  let c0_i32_565 : BitVec 32 := 0#32
  let v2752 : BitVec 1 := Scalar.cmpi .sgt arg14 c0_i32_565
  let v2753 : BitVec 32 := Scalar.extui v2752
  let c0_i32_566 : BitVec 32 := 0#32
  let v2754 : BitVec 1 := Scalar.cmpi .slt arg14 c0_i32_566
  let v2755 : BitVec 32 := Scalar.extui v2754
  let v2756 : BitVec 32 := Scalar.subi v2753 v2755
  let c192_i32_564 : BitVec 32 := 192#32
  let c0_i32_567 : BitVec 32 := 0#32
  let v2757 : BitVec 1 := Scalar.cmpi .sgt c192_i32_564 c0_i32_567
  let v2758 : BitVec 32 := Scalar.extui v2757
  let c0_i32_568 : BitVec 32 := 0#32
  let v2759 : BitVec 1 := Scalar.cmpi .slt c192_i32_564 c0_i32_568
  let v2760 : BitVec 32 := Scalar.extui v2759
  let v2761 : BitVec 32 := Scalar.subi v2758 v2760
  let v2762 : BitVec 1 := Scalar.cmpi .ne v2756 v2761
  let v2763 : BitVec 32 := Scalar.remsi arg14 c192_i32_564
  let c0_i32_569 : BitVec 32 := 0#32
  let v2764 : BitVec 1 := Scalar.cmpi .ne v2763 c0_i32_569
  let v2765 : BitVec 1 := Scalar.andi v2762 v2764
  let v2751 : BitVec 32 := Scalar.divsi arg14 c192_i32_564
  let c1_i32_570 : BitVec 32 := 1#32
  let v2766 : BitVec 32 := Scalar.subi v2751 c1_i32_570
  let v2767 : BitVec 32 := Scalar.select v2765 v2766 v2751
  let c192_i32_571 : BitVec 32 := 192#32
  let v2771 : BitVec 32 := Scalar.muli v2767 c192_i32_571
  let v2772 : BitVec 32 := Scalar.subi arg14 v2771
  let c16_i32_572 : BitVec 32 := 16#32
  let v2773 : BitVec 32 := Scalar.muli v2772 c16_i32_572
  let v2774 : BitVec 32 := v2773
  let c0_i32_573 : BitVec 32 := 0#32
  ![v2767.toNat, v2774.toNat, 0]
def k0_off4 (v2769 : BitVec 32) : Fin 2 → Nat :=
  let v2770 : BitVec 32 := v2769
  let c0_i32_574 : BitVec 32 := 0#32
  ![v2770.toNat, 0]

def k0_chk1 (i : grid0.Coords) (v2769 : BitVec 32) : Prop :=
  (∀ (k0_h1 : k0_cond1 i = 1#1), 16 ∣ (k0_mult1 v2769).toNat) ∧
  (∀ (k0_h1 : k0_cond1 i = 1#1), ∀ a, (k0_off4 v2769) a + S16x1024.size a ≤ S28672x1024.size a) ∧
  (∀ (k0_h1 : k0_cond1 i = 1#1), ∀ (hinb : ∀ a, (k0_off4 v2769) a + S16x1024.size a ≤ S28672x1024.size a), (Rect.unit (s := S28672x1024) (k0_off4 v2769) S16x1024.size hinb).WholeWords (EltTy.packing .bf16))
theorem k0_mult1_dvd : ∀ (i : grid0.Coords) (v2769 : BitVec 32) (k0_hw1 : k0_chk1 i v2769), ∀ (k0_h1 : k0_cond1 i = 1#1), 16 ∣ (k0_mult1 v2769).toNat := fun i v2769 k0_hw1 k0_h1 => k0_hw1.1 k0_h1
theorem k0_off4_inb : ∀ (i : grid0.Coords) (v2769 : BitVec 32) (k0_hw1 : k0_chk1 i v2769), ∀ (k0_h1 : k0_cond1 i = 1#1), ∀ a, (k0_off4 v2769) a + S16x1024.size a ≤ S28672x1024.size a := fun i v2769 k0_hw1 k0_h1 => k0_hw1.2.1 k0_h1
theorem k0_off4_wordsbf16 : ∀ (i : grid0.Coords) (v2769 : BitVec 32) (k0_hw1 : k0_chk1 i v2769), ∀ (k0_h1 : k0_cond1 i = 1#1), (Rect.unit (s := S28672x1024) (k0_off4 v2769) S16x1024.size (k0_off4_inb i v2769 k0_hw1 k0_h1)).WholeWords (EltTy.packing .bf16) := fun i v2769 k0_hw1 k0_h1 => k0_hw1.2.2 k0_h1 (k0_off4_inb i v2769 k0_hw1 k0_h1)

def k0_off5 (i : grid0.Coords) : Fin 1 → Nat :=
  let arg0 : BitVec 32 := BitVec.ofNat 32 (i 0).val
  let c3_i32 : BitVec 32 := 3#32
  let v0 : BitVec 32 := Scalar.remsi arg0 c3_i32
  ![v0.toNat]
def k0_off6 (i : grid0.Coords) : Fin 3 → Nat :=
  let arg0 : BitVec 32 := BitVec.ofNat 32 (i 0).val
  let c3_i32 : BitVec 32 := 3#32
  let v0 : BitVec 32 := Scalar.remsi arg0 c3_i32
  let c0_i32_2 : BitVec 32 := 0#32
  let c0_i32_3 : BitVec 32 := 0#32
  ![v0.toNat, 0, 0]
def k0_off7 (i : grid0.Coords) : Fin 3 → Nat :=
  let arg0 : BitVec 32 := BitVec.ofNat 32 (i 0).val
  let c3_i32 : BitVec 32 := 3#32
  let v0 : BitVec 32 := Scalar.remsi arg0 c3_i32
  let v344 : Index := Scalar.indexCast v0
  let c0_51 : Index := 0#32
  let c0_52 : Index := 0#32
  ![v344.toNat, 0, 0]
def k0_off8 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c0_i32_54 : BitVec 32 := 0#32
  let v348 : BitVec 32 := Scalar.addi v38 c0_i32_54
  let v349 : Index := Scalar.indexCast v348
  ![v349.toNat]
def k0_mult3 (v350 : BitVec 32) : BitVec 32 :=
  v350

def k0_off9 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off10 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c0_i32_55 : BitVec 32 := 0#32
  let c0_i32_56 : BitVec 32 := 0#32
  ![v2.toNat, 0, 0]
def k0_off11 (v350 : BitVec 32) : Fin 2 → Nat :=
  let v351 : BitVec 32 := v350
  let c0_i32_57 : BitVec 32 := 0#32
  ![v351.toNat, 0]

def k0_chk2 (v350 : BitVec 32) : Prop :=
  (16 ∣ (k0_mult3 v350).toNat) ∧
  (∀ a, (k0_off11 v350) a + S16x1024.size a ≤ S28672x1024.size a) ∧
  (∀ (hinb : ∀ a, (k0_off11 v350) a + S16x1024.size a ≤ S28672x1024.size a), (Rect.unit (s := S28672x1024) (k0_off11 v350) S16x1024.size hinb).WholeWords (EltTy.packing .bf16))
theorem k0_mult3_dvd : ∀ (v350 : BitVec 32) (k0_hw2 : k0_chk2 v350), 16 ∣ (k0_mult3 v350).toNat := fun v350 k0_hw2 => k0_hw2.1
theorem k0_off11_inb : ∀ (v350 : BitVec 32) (k0_hw2 : k0_chk2 v350), ∀ a, (k0_off11 v350) a + S16x1024.size a ≤ S28672x1024.size a := fun v350 k0_hw2 => k0_hw2.2.1
theorem k0_off11_wordsbf16 : ∀ (v350 : BitVec 32) (k0_hw2 : k0_chk2 v350), (Rect.unit (s := S28672x1024) (k0_off11 v350) S16x1024.size (k0_off11_inb v350 k0_hw2)).WholeWords (EltTy.packing .bf16) := fun v350 k0_hw2 => k0_hw2.2.2 (k0_off11_inb v350 k0_hw2)

def k0_off12 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c1_i32 : BitVec 32 := 1#32
  let v357 : BitVec 32 := Scalar.addi v38 c1_i32
  let v358 : Index := Scalar.indexCast v357
  ![v358.toNat]
def k0_mult4 (v359 : BitVec 32) : BitVec 32 :=
  v359

def k0_off13 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off14 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c16_i32 : BitVec 32 := 16#32
  let c0_i32_58 : BitVec 32 := 0#32
  ![v2.toNat, 16, 0]
def k0_off15 (v359 : BitVec 32) : Fin 2 → Nat :=
  let v360 : BitVec 32 := v359
  let c0_i32_59 : BitVec 32 := 0#32
  ![v360.toNat, 0]

def k0_chk3 (v359 : BitVec 32) : Prop :=
  (16 ∣ (k0_mult4 v359).toNat) ∧
  (∀ a, (k0_off15 v359) a + S16x1024.size a ≤ S28672x1024.size a) ∧
  (∀ (hinb : ∀ a, (k0_off15 v359) a + S16x1024.size a ≤ S28672x1024.size a), (Rect.unit (s := S28672x1024) (k0_off15 v359) S16x1024.size hinb).WholeWords (EltTy.packing .bf16))
theorem k0_mult4_dvd : ∀ (v359 : BitVec 32) (k0_hw3 : k0_chk3 v359), 16 ∣ (k0_mult4 v359).toNat := fun v359 k0_hw3 => k0_hw3.1
theorem k0_off15_inb : ∀ (v359 : BitVec 32) (k0_hw3 : k0_chk3 v359), ∀ a, (k0_off15 v359) a + S16x1024.size a ≤ S28672x1024.size a := fun v359 k0_hw3 => k0_hw3.2.1
theorem k0_off15_wordsbf16 : ∀ (v359 : BitVec 32) (k0_hw3 : k0_chk3 v359), (Rect.unit (s := S28672x1024) (k0_off15 v359) S16x1024.size (k0_off15_inb v359 k0_hw3)).WholeWords (EltTy.packing .bf16) := fun v359 k0_hw3 => k0_hw3.2.2 (k0_off15_inb v359 k0_hw3)

def k0_off16 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c2_i32_60 : BitVec 32 := 2#32
  let v366 : BitVec 32 := Scalar.addi v38 c2_i32_60
  let v367 : Index := Scalar.indexCast v366
  ![v367.toNat]
def k0_mult5 (v368 : BitVec 32) : BitVec 32 :=
  v368

def k0_off17 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off18 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c32_i32 : BitVec 32 := 32#32
  let c0_i32_61 : BitVec 32 := 0#32
  ![v2.toNat, 32, 0]
def k0_off19 (v368 : BitVec 32) : Fin 2 → Nat :=
  let v369 : BitVec 32 := v368
  let c0_i32_62 : BitVec 32 := 0#32
  ![v369.toNat, 0]

def k0_chk4 (v368 : BitVec 32) : Prop :=
  (16 ∣ (k0_mult5 v368).toNat) ∧
  (∀ a, (k0_off19 v368) a + S16x1024.size a ≤ S28672x1024.size a) ∧
  (∀ (hinb : ∀ a, (k0_off19 v368) a + S16x1024.size a ≤ S28672x1024.size a), (Rect.unit (s := S28672x1024) (k0_off19 v368) S16x1024.size hinb).WholeWords (EltTy.packing .bf16))
theorem k0_mult5_dvd : ∀ (v368 : BitVec 32) (k0_hw4 : k0_chk4 v368), 16 ∣ (k0_mult5 v368).toNat := fun v368 k0_hw4 => k0_hw4.1
theorem k0_off19_inb : ∀ (v368 : BitVec 32) (k0_hw4 : k0_chk4 v368), ∀ a, (k0_off19 v368) a + S16x1024.size a ≤ S28672x1024.size a := fun v368 k0_hw4 => k0_hw4.2.1
theorem k0_off19_wordsbf16 : ∀ (v368 : BitVec 32) (k0_hw4 : k0_chk4 v368), (Rect.unit (s := S28672x1024) (k0_off19 v368) S16x1024.size (k0_off19_inb v368 k0_hw4)).WholeWords (EltTy.packing .bf16) := fun v368 k0_hw4 => k0_hw4.2.2 (k0_off19_inb v368 k0_hw4)

def k0_off20 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c3_i32_63 : BitVec 32 := 3#32
  let v375 : BitVec 32 := Scalar.addi v38 c3_i32_63
  let v376 : Index := Scalar.indexCast v375
  ![v376.toNat]
def k0_mult6 (v377 : BitVec 32) : BitVec 32 :=
  v377

def k0_off21 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off22 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c48_i32 : BitVec 32 := 48#32
  let c0_i32_64 : BitVec 32 := 0#32
  ![v2.toNat, 48, 0]
def k0_off23 (v377 : BitVec 32) : Fin 2 → Nat :=
  let v378 : BitVec 32 := v377
  let c0_i32_65 : BitVec 32 := 0#32
  ![v378.toNat, 0]

def k0_chk5 (v377 : BitVec 32) : Prop :=
  (16 ∣ (k0_mult6 v377).toNat) ∧
  (∀ a, (k0_off23 v377) a + S16x1024.size a ≤ S28672x1024.size a) ∧
  (∀ (hinb : ∀ a, (k0_off23 v377) a + S16x1024.size a ≤ S28672x1024.size a), (Rect.unit (s := S28672x1024) (k0_off23 v377) S16x1024.size hinb).WholeWords (EltTy.packing .bf16))
theorem k0_mult6_dvd : ∀ (v377 : BitVec 32) (k0_hw5 : k0_chk5 v377), 16 ∣ (k0_mult6 v377).toNat := fun v377 k0_hw5 => k0_hw5.1
theorem k0_off23_inb : ∀ (v377 : BitVec 32) (k0_hw5 : k0_chk5 v377), ∀ a, (k0_off23 v377) a + S16x1024.size a ≤ S28672x1024.size a := fun v377 k0_hw5 => k0_hw5.2.1
theorem k0_off23_wordsbf16 : ∀ (v377 : BitVec 32) (k0_hw5 : k0_chk5 v377), (Rect.unit (s := S28672x1024) (k0_off23 v377) S16x1024.size (k0_off23_inb v377 k0_hw5)).WholeWords (EltTy.packing .bf16) := fun v377 k0_hw5 => k0_hw5.2.2 (k0_off23_inb v377 k0_hw5)

def k0_off24 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c4_i32 : BitVec 32 := 4#32
  let v384 : BitVec 32 := Scalar.addi v38 c4_i32
  let v385 : Index := Scalar.indexCast v384
  ![v385.toNat]
def k0_mult7 (v386 : BitVec 32) : BitVec 32 :=
  v386

def k0_off25 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off26 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c64_i32 : BitVec 32 := 64#32
  let c0_i32_66 : BitVec 32 := 0#32
  ![v2.toNat, 64, 0]
def k0_off27 (v386 : BitVec 32) : Fin 2 → Nat :=
  let v387 : BitVec 32 := v386
  let c0_i32_67 : BitVec 32 := 0#32
  ![v387.toNat, 0]

def k0_chk6 (v386 : BitVec 32) : Prop :=
  (16 ∣ (k0_mult7 v386).toNat) ∧
  (∀ a, (k0_off27 v386) a + S16x1024.size a ≤ S28672x1024.size a) ∧
  (∀ (hinb : ∀ a, (k0_off27 v386) a + S16x1024.size a ≤ S28672x1024.size a), (Rect.unit (s := S28672x1024) (k0_off27 v386) S16x1024.size hinb).WholeWords (EltTy.packing .bf16))
theorem k0_mult7_dvd : ∀ (v386 : BitVec 32) (k0_hw6 : k0_chk6 v386), 16 ∣ (k0_mult7 v386).toNat := fun v386 k0_hw6 => k0_hw6.1
theorem k0_off27_inb : ∀ (v386 : BitVec 32) (k0_hw6 : k0_chk6 v386), ∀ a, (k0_off27 v386) a + S16x1024.size a ≤ S28672x1024.size a := fun v386 k0_hw6 => k0_hw6.2.1
theorem k0_off27_wordsbf16 : ∀ (v386 : BitVec 32) (k0_hw6 : k0_chk6 v386), (Rect.unit (s := S28672x1024) (k0_off27 v386) S16x1024.size (k0_off27_inb v386 k0_hw6)).WholeWords (EltTy.packing .bf16) := fun v386 k0_hw6 => k0_hw6.2.2 (k0_off27_inb v386 k0_hw6)

def k0_off28 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c5_i32 : BitVec 32 := 5#32
  let v393 : BitVec 32 := Scalar.addi v38 c5_i32
  let v394 : Index := Scalar.indexCast v393
  ![v394.toNat]
def k0_mult8 (v395 : BitVec 32) : BitVec 32 :=
  v395

def k0_off29 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off30 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c80_i32 : BitVec 32 := 80#32
  let c0_i32_68 : BitVec 32 := 0#32
  ![v2.toNat, 80, 0]
def k0_off31 (v395 : BitVec 32) : Fin 2 → Nat :=
  let v396 : BitVec 32 := v395
  let c0_i32_69 : BitVec 32 := 0#32
  ![v396.toNat, 0]

def k0_chk7 (v395 : BitVec 32) : Prop :=
  (16 ∣ (k0_mult8 v395).toNat) ∧
  (∀ a, (k0_off31 v395) a + S16x1024.size a ≤ S28672x1024.size a) ∧
  (∀ (hinb : ∀ a, (k0_off31 v395) a + S16x1024.size a ≤ S28672x1024.size a), (Rect.unit (s := S28672x1024) (k0_off31 v395) S16x1024.size hinb).WholeWords (EltTy.packing .bf16))
theorem k0_mult8_dvd : ∀ (v395 : BitVec 32) (k0_hw7 : k0_chk7 v395), 16 ∣ (k0_mult8 v395).toNat := fun v395 k0_hw7 => k0_hw7.1
theorem k0_off31_inb : ∀ (v395 : BitVec 32) (k0_hw7 : k0_chk7 v395), ∀ a, (k0_off31 v395) a + S16x1024.size a ≤ S28672x1024.size a := fun v395 k0_hw7 => k0_hw7.2.1
theorem k0_off31_wordsbf16 : ∀ (v395 : BitVec 32) (k0_hw7 : k0_chk7 v395), (Rect.unit (s := S28672x1024) (k0_off31 v395) S16x1024.size (k0_off31_inb v395 k0_hw7)).WholeWords (EltTy.packing .bf16) := fun v395 k0_hw7 => k0_hw7.2.2 (k0_off31_inb v395 k0_hw7)

def k0_off32 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c6_i32 : BitVec 32 := 6#32
  let v402 : BitVec 32 := Scalar.addi v38 c6_i32
  let v403 : Index := Scalar.indexCast v402
  ![v403.toNat]
def k0_mult9 (v404 : BitVec 32) : BitVec 32 :=
  v404

def k0_off33 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off34 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c96_i32 : BitVec 32 := 96#32
  let c0_i32_70 : BitVec 32 := 0#32
  ![v2.toNat, 96, 0]
def k0_off35 (v404 : BitVec 32) : Fin 2 → Nat :=
  let v405 : BitVec 32 := v404
  let c0_i32_71 : BitVec 32 := 0#32
  ![v405.toNat, 0]

def k0_chk8 (v404 : BitVec 32) : Prop :=
  (16 ∣ (k0_mult9 v404).toNat) ∧
  (∀ a, (k0_off35 v404) a + S16x1024.size a ≤ S28672x1024.size a) ∧
  (∀ (hinb : ∀ a, (k0_off35 v404) a + S16x1024.size a ≤ S28672x1024.size a), (Rect.unit (s := S28672x1024) (k0_off35 v404) S16x1024.size hinb).WholeWords (EltTy.packing .bf16))
theorem k0_mult9_dvd : ∀ (v404 : BitVec 32) (k0_hw8 : k0_chk8 v404), 16 ∣ (k0_mult9 v404).toNat := fun v404 k0_hw8 => k0_hw8.1
theorem k0_off35_inb : ∀ (v404 : BitVec 32) (k0_hw8 : k0_chk8 v404), ∀ a, (k0_off35 v404) a + S16x1024.size a ≤ S28672x1024.size a := fun v404 k0_hw8 => k0_hw8.2.1
theorem k0_off35_wordsbf16 : ∀ (v404 : BitVec 32) (k0_hw8 : k0_chk8 v404), (Rect.unit (s := S28672x1024) (k0_off35 v404) S16x1024.size (k0_off35_inb v404 k0_hw8)).WholeWords (EltTy.packing .bf16) := fun v404 k0_hw8 => k0_hw8.2.2 (k0_off35_inb v404 k0_hw8)

def k0_off36 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c7_i32 : BitVec 32 := 7#32
  let v411 : BitVec 32 := Scalar.addi v38 c7_i32
  let v412 : Index := Scalar.indexCast v411
  ![v412.toNat]
def k0_mult10 (v413 : BitVec 32) : BitVec 32 :=
  v413

def k0_off37 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off38 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c112_i32 : BitVec 32 := 112#32
  let c0_i32_72 : BitVec 32 := 0#32
  ![v2.toNat, 112, 0]
def k0_off39 (v413 : BitVec 32) : Fin 2 → Nat :=
  let v414 : BitVec 32 := v413
  let c0_i32_73 : BitVec 32 := 0#32
  ![v414.toNat, 0]

def k0_chk9 (v413 : BitVec 32) : Prop :=
  (16 ∣ (k0_mult10 v413).toNat) ∧
  (∀ a, (k0_off39 v413) a + S16x1024.size a ≤ S28672x1024.size a) ∧
  (∀ (hinb : ∀ a, (k0_off39 v413) a + S16x1024.size a ≤ S28672x1024.size a), (Rect.unit (s := S28672x1024) (k0_off39 v413) S16x1024.size hinb).WholeWords (EltTy.packing .bf16))
theorem k0_mult10_dvd : ∀ (v413 : BitVec 32) (k0_hw9 : k0_chk9 v413), 16 ∣ (k0_mult10 v413).toNat := fun v413 k0_hw9 => k0_hw9.1
theorem k0_off39_inb : ∀ (v413 : BitVec 32) (k0_hw9 : k0_chk9 v413), ∀ a, (k0_off39 v413) a + S16x1024.size a ≤ S28672x1024.size a := fun v413 k0_hw9 => k0_hw9.2.1
theorem k0_off39_wordsbf16 : ∀ (v413 : BitVec 32) (k0_hw9 : k0_chk9 v413), (Rect.unit (s := S28672x1024) (k0_off39 v413) S16x1024.size (k0_off39_inb v413 k0_hw9)).WholeWords (EltTy.packing .bf16) := fun v413 k0_hw9 => k0_hw9.2.2 (k0_off39_inb v413 k0_hw9)

def k0_off40 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c8_i32 : BitVec 32 := 8#32
  let v420 : BitVec 32 := Scalar.addi v38 c8_i32
  let v421 : Index := Scalar.indexCast v420
  ![v421.toNat]
def k0_mult11 (v422 : BitVec 32) : BitVec 32 :=
  v422

def k0_off41 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off42 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c128_i32 : BitVec 32 := 128#32
  let c0_i32_74 : BitVec 32 := 0#32
  ![v2.toNat, 128, 0]
def k0_off43 (v422 : BitVec 32) : Fin 2 → Nat :=
  let v423 : BitVec 32 := v422
  let c0_i32_75 : BitVec 32 := 0#32
  ![v423.toNat, 0]

def k0_chk10 (v422 : BitVec 32) : Prop :=
  (16 ∣ (k0_mult11 v422).toNat) ∧
  (∀ a, (k0_off43 v422) a + S16x1024.size a ≤ S28672x1024.size a) ∧
  (∀ (hinb : ∀ a, (k0_off43 v422) a + S16x1024.size a ≤ S28672x1024.size a), (Rect.unit (s := S28672x1024) (k0_off43 v422) S16x1024.size hinb).WholeWords (EltTy.packing .bf16))
theorem k0_mult11_dvd : ∀ (v422 : BitVec 32) (k0_hw10 : k0_chk10 v422), 16 ∣ (k0_mult11 v422).toNat := fun v422 k0_hw10 => k0_hw10.1
theorem k0_off43_inb : ∀ (v422 : BitVec 32) (k0_hw10 : k0_chk10 v422), ∀ a, (k0_off43 v422) a + S16x1024.size a ≤ S28672x1024.size a := fun v422 k0_hw10 => k0_hw10.2.1
theorem k0_off43_wordsbf16 : ∀ (v422 : BitVec 32) (k0_hw10 : k0_chk10 v422), (Rect.unit (s := S28672x1024) (k0_off43 v422) S16x1024.size (k0_off43_inb v422 k0_hw10)).WholeWords (EltTy.packing .bf16) := fun v422 k0_hw10 => k0_hw10.2.2 (k0_off43_inb v422 k0_hw10)

def k0_off44 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c9_i32 : BitVec 32 := 9#32
  let v429 : BitVec 32 := Scalar.addi v38 c9_i32
  let v430 : Index := Scalar.indexCast v429
  ![v430.toNat]
def k0_mult12 (v431 : BitVec 32) : BitVec 32 :=
  v431

def k0_off45 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off46 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c144_i32 : BitVec 32 := 144#32
  let c0_i32_76 : BitVec 32 := 0#32
  ![v2.toNat, 144, 0]
def k0_off47 (v431 : BitVec 32) : Fin 2 → Nat :=
  let v432 : BitVec 32 := v431
  let c0_i32_77 : BitVec 32 := 0#32
  ![v432.toNat, 0]

def k0_chk11 (v431 : BitVec 32) : Prop :=
  (16 ∣ (k0_mult12 v431).toNat) ∧
  (∀ a, (k0_off47 v431) a + S16x1024.size a ≤ S28672x1024.size a) ∧
  (∀ (hinb : ∀ a, (k0_off47 v431) a + S16x1024.size a ≤ S28672x1024.size a), (Rect.unit (s := S28672x1024) (k0_off47 v431) S16x1024.size hinb).WholeWords (EltTy.packing .bf16))
theorem k0_mult12_dvd : ∀ (v431 : BitVec 32) (k0_hw11 : k0_chk11 v431), 16 ∣ (k0_mult12 v431).toNat := fun v431 k0_hw11 => k0_hw11.1
theorem k0_off47_inb : ∀ (v431 : BitVec 32) (k0_hw11 : k0_chk11 v431), ∀ a, (k0_off47 v431) a + S16x1024.size a ≤ S28672x1024.size a := fun v431 k0_hw11 => k0_hw11.2.1
theorem k0_off47_wordsbf16 : ∀ (v431 : BitVec 32) (k0_hw11 : k0_chk11 v431), (Rect.unit (s := S28672x1024) (k0_off47 v431) S16x1024.size (k0_off47_inb v431 k0_hw11)).WholeWords (EltTy.packing .bf16) := fun v431 k0_hw11 => k0_hw11.2.2 (k0_off47_inb v431 k0_hw11)

def k0_off48 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c10_i32 : BitVec 32 := 10#32
  let v438 : BitVec 32 := Scalar.addi v38 c10_i32
  let v439 : Index := Scalar.indexCast v438
  ![v439.toNat]
def k0_mult13 (v440 : BitVec 32) : BitVec 32 :=
  v440

def k0_off49 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off50 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c160_i32 : BitVec 32 := 160#32
  let c0_i32_78 : BitVec 32 := 0#32
  ![v2.toNat, 160, 0]
def k0_off51 (v440 : BitVec 32) : Fin 2 → Nat :=
  let v441 : BitVec 32 := v440
  let c0_i32_79 : BitVec 32 := 0#32
  ![v441.toNat, 0]

def k0_chk12 (v440 : BitVec 32) : Prop :=
  (16 ∣ (k0_mult13 v440).toNat) ∧
  (∀ a, (k0_off51 v440) a + S16x1024.size a ≤ S28672x1024.size a) ∧
  (∀ (hinb : ∀ a, (k0_off51 v440) a + S16x1024.size a ≤ S28672x1024.size a), (Rect.unit (s := S28672x1024) (k0_off51 v440) S16x1024.size hinb).WholeWords (EltTy.packing .bf16))
theorem k0_mult13_dvd : ∀ (v440 : BitVec 32) (k0_hw12 : k0_chk12 v440), 16 ∣ (k0_mult13 v440).toNat := fun v440 k0_hw12 => k0_hw12.1
theorem k0_off51_inb : ∀ (v440 : BitVec 32) (k0_hw12 : k0_chk12 v440), ∀ a, (k0_off51 v440) a + S16x1024.size a ≤ S28672x1024.size a := fun v440 k0_hw12 => k0_hw12.2.1
theorem k0_off51_wordsbf16 : ∀ (v440 : BitVec 32) (k0_hw12 : k0_chk12 v440), (Rect.unit (s := S28672x1024) (k0_off51 v440) S16x1024.size (k0_off51_inb v440 k0_hw12)).WholeWords (EltTy.packing .bf16) := fun v440 k0_hw12 => k0_hw12.2.2 (k0_off51_inb v440 k0_hw12)

def k0_off52 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c11_i32 : BitVec 32 := 11#32
  let v447 : BitVec 32 := Scalar.addi v38 c11_i32
  let v448 : Index := Scalar.indexCast v447
  ![v448.toNat]
def k0_mult14 (v449 : BitVec 32) : BitVec 32 :=
  v449

def k0_off53 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off54 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c176_i32 : BitVec 32 := 176#32
  let c0_i32_80 : BitVec 32 := 0#32
  ![v2.toNat, 176, 0]
def k0_off55 (v449 : BitVec 32) : Fin 2 → Nat :=
  let v450 : BitVec 32 := v449
  let c0_i32_81 : BitVec 32 := 0#32
  ![v450.toNat, 0]

def k0_chk13 (v449 : BitVec 32) : Prop :=
  (16 ∣ (k0_mult14 v449).toNat) ∧
  (∀ a, (k0_off55 v449) a + S16x1024.size a ≤ S28672x1024.size a) ∧
  (∀ (hinb : ∀ a, (k0_off55 v449) a + S16x1024.size a ≤ S28672x1024.size a), (Rect.unit (s := S28672x1024) (k0_off55 v449) S16x1024.size hinb).WholeWords (EltTy.packing .bf16))
theorem k0_mult14_dvd : ∀ (v449 : BitVec 32) (k0_hw13 : k0_chk13 v449), 16 ∣ (k0_mult14 v449).toNat := fun v449 k0_hw13 => k0_hw13.1
theorem k0_off55_inb : ∀ (v449 : BitVec 32) (k0_hw13 : k0_chk13 v449), ∀ a, (k0_off55 v449) a + S16x1024.size a ≤ S28672x1024.size a := fun v449 k0_hw13 => k0_hw13.2.1
theorem k0_off55_wordsbf16 : ∀ (v449 : BitVec 32) (k0_hw13 : k0_chk13 v449), (Rect.unit (s := S28672x1024) (k0_off55 v449) S16x1024.size (k0_off55_inb v449 k0_hw13)).WholeWords (EltTy.packing .bf16) := fun v449 k0_hw13 => k0_hw13.2.2 (k0_off55_inb v449 k0_hw13)

def k0_off56 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c12_i32 : BitVec 32 := 12#32
  let v456 : BitVec 32 := Scalar.addi v38 c12_i32
  let v457 : Index := Scalar.indexCast v456
  ![v457.toNat]
def k0_mult15 (v458 : BitVec 32) : BitVec 32 :=
  v458

def k0_off57 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off58 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c192_i32_82 : BitVec 32 := 192#32
  let c0_i32_83 : BitVec 32 := 0#32
  ![v2.toNat, 192, 0]
def k0_off59 (v458 : BitVec 32) : Fin 2 → Nat :=
  let v459 : BitVec 32 := v458
  let c0_i32_84 : BitVec 32 := 0#32
  ![v459.toNat, 0]

def k0_chk14 (v458 : BitVec 32) : Prop :=
  (16 ∣ (k0_mult15 v458).toNat) ∧
  (∀ a, (k0_off59 v458) a + S16x1024.size a ≤ S28672x1024.size a) ∧
  (∀ (hinb : ∀ a, (k0_off59 v458) a + S16x1024.size a ≤ S28672x1024.size a), (Rect.unit (s := S28672x1024) (k0_off59 v458) S16x1024.size hinb).WholeWords (EltTy.packing .bf16))
theorem k0_mult15_dvd : ∀ (v458 : BitVec 32) (k0_hw14 : k0_chk14 v458), 16 ∣ (k0_mult15 v458).toNat := fun v458 k0_hw14 => k0_hw14.1
theorem k0_off59_inb : ∀ (v458 : BitVec 32) (k0_hw14 : k0_chk14 v458), ∀ a, (k0_off59 v458) a + S16x1024.size a ≤ S28672x1024.size a := fun v458 k0_hw14 => k0_hw14.2.1
theorem k0_off59_wordsbf16 : ∀ (v458 : BitVec 32) (k0_hw14 : k0_chk14 v458), (Rect.unit (s := S28672x1024) (k0_off59 v458) S16x1024.size (k0_off59_inb v458 k0_hw14)).WholeWords (EltTy.packing .bf16) := fun v458 k0_hw14 => k0_hw14.2.2 (k0_off59_inb v458 k0_hw14)

def k0_off60 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c13_i32 : BitVec 32 := 13#32
  let v465 : BitVec 32 := Scalar.addi v38 c13_i32
  let v466 : Index := Scalar.indexCast v465
  ![v466.toNat]
def k0_mult16 (v467 : BitVec 32) : BitVec 32 :=
  v467

def k0_off61 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off62 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c208_i32 : BitVec 32 := 208#32
  let c0_i32_85 : BitVec 32 := 0#32
  ![v2.toNat, 208, 0]
def k0_off63 (v467 : BitVec 32) : Fin 2 → Nat :=
  let v468 : BitVec 32 := v467
  let c0_i32_86 : BitVec 32 := 0#32
  ![v468.toNat, 0]

def k0_chk15 (v467 : BitVec 32) : Prop :=
  (16 ∣ (k0_mult16 v467).toNat) ∧
  (∀ a, (k0_off63 v467) a + S16x1024.size a ≤ S28672x1024.size a) ∧
  (∀ (hinb : ∀ a, (k0_off63 v467) a + S16x1024.size a ≤ S28672x1024.size a), (Rect.unit (s := S28672x1024) (k0_off63 v467) S16x1024.size hinb).WholeWords (EltTy.packing .bf16))
theorem k0_mult16_dvd : ∀ (v467 : BitVec 32) (k0_hw15 : k0_chk15 v467), 16 ∣ (k0_mult16 v467).toNat := fun v467 k0_hw15 => k0_hw15.1
theorem k0_off63_inb : ∀ (v467 : BitVec 32) (k0_hw15 : k0_chk15 v467), ∀ a, (k0_off63 v467) a + S16x1024.size a ≤ S28672x1024.size a := fun v467 k0_hw15 => k0_hw15.2.1
theorem k0_off63_wordsbf16 : ∀ (v467 : BitVec 32) (k0_hw15 : k0_chk15 v467), (Rect.unit (s := S28672x1024) (k0_off63 v467) S16x1024.size (k0_off63_inb v467 k0_hw15)).WholeWords (EltTy.packing .bf16) := fun v467 k0_hw15 => k0_hw15.2.2 (k0_off63_inb v467 k0_hw15)

def k0_off64 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c14_i32 : BitVec 32 := 14#32
  let v474 : BitVec 32 := Scalar.addi v38 c14_i32
  let v475 : Index := Scalar.indexCast v474
  ![v475.toNat]
def k0_mult17 (v476 : BitVec 32) : BitVec 32 :=
  v476

def k0_off65 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off66 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c224_i32 : BitVec 32 := 224#32
  let c0_i32_87 : BitVec 32 := 0#32
  ![v2.toNat, 224, 0]
def k0_off67 (v476 : BitVec 32) : Fin 2 → Nat :=
  let v477 : BitVec 32 := v476
  let c0_i32_88 : BitVec 32 := 0#32
  ![v477.toNat, 0]

def k0_chk16 (v476 : BitVec 32) : Prop :=
  (16 ∣ (k0_mult17 v476).toNat) ∧
  (∀ a, (k0_off67 v476) a + S16x1024.size a ≤ S28672x1024.size a) ∧
  (∀ (hinb : ∀ a, (k0_off67 v476) a + S16x1024.size a ≤ S28672x1024.size a), (Rect.unit (s := S28672x1024) (k0_off67 v476) S16x1024.size hinb).WholeWords (EltTy.packing .bf16))
theorem k0_mult17_dvd : ∀ (v476 : BitVec 32) (k0_hw16 : k0_chk16 v476), 16 ∣ (k0_mult17 v476).toNat := fun v476 k0_hw16 => k0_hw16.1
theorem k0_off67_inb : ∀ (v476 : BitVec 32) (k0_hw16 : k0_chk16 v476), ∀ a, (k0_off67 v476) a + S16x1024.size a ≤ S28672x1024.size a := fun v476 k0_hw16 => k0_hw16.2.1
theorem k0_off67_wordsbf16 : ∀ (v476 : BitVec 32) (k0_hw16 : k0_chk16 v476), (Rect.unit (s := S28672x1024) (k0_off67 v476) S16x1024.size (k0_off67_inb v476 k0_hw16)).WholeWords (EltTy.packing .bf16) := fun v476 k0_hw16 => k0_hw16.2.2 (k0_off67_inb v476 k0_hw16)

def k0_off68 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c15_i32 : BitVec 32 := 15#32
  let v483 : BitVec 32 := Scalar.addi v38 c15_i32
  let v484 : Index := Scalar.indexCast v483
  ![v484.toNat]
def k0_mult18 (v485 : BitVec 32) : BitVec 32 :=
  v485

def k0_off69 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off70 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c240_i32 : BitVec 32 := 240#32
  let c0_i32_89 : BitVec 32 := 0#32
  ![v2.toNat, 240, 0]
def k0_off71 (v485 : BitVec 32) : Fin 2 → Nat :=
  let v486 : BitVec 32 := v485
  let c0_i32_90 : BitVec 32 := 0#32
  ![v486.toNat, 0]

def k0_chk17 (v485 : BitVec 32) : Prop :=
  (16 ∣ (k0_mult18 v485).toNat) ∧
  (∀ a, (k0_off71 v485) a + S16x1024.size a ≤ S28672x1024.size a) ∧
  (∀ (hinb : ∀ a, (k0_off71 v485) a + S16x1024.size a ≤ S28672x1024.size a), (Rect.unit (s := S28672x1024) (k0_off71 v485) S16x1024.size hinb).WholeWords (EltTy.packing .bf16))
theorem k0_mult18_dvd : ∀ (v485 : BitVec 32) (k0_hw17 : k0_chk17 v485), 16 ∣ (k0_mult18 v485).toNat := fun v485 k0_hw17 => k0_hw17.1
theorem k0_off71_inb : ∀ (v485 : BitVec 32) (k0_hw17 : k0_chk17 v485), ∀ a, (k0_off71 v485) a + S16x1024.size a ≤ S28672x1024.size a := fun v485 k0_hw17 => k0_hw17.2.1
theorem k0_off71_wordsbf16 : ∀ (v485 : BitVec 32) (k0_hw17 : k0_chk17 v485), (Rect.unit (s := S28672x1024) (k0_off71 v485) S16x1024.size (k0_off71_inb v485 k0_hw17)).WholeWords (EltTy.packing .bf16) := fun v485 k0_hw17 => k0_hw17.2.2 (k0_off71_inb v485 k0_hw17)

def k0_off72 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c16_i32_91 : BitVec 32 := 16#32
  let v492 : BitVec 32 := Scalar.addi v38 c16_i32_91
  let v493 : Index := Scalar.indexCast v492
  ![v493.toNat]
def k0_mult19 (v494 : BitVec 32) : BitVec 32 :=
  v494

def k0_off73 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off74 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c256_i32 : BitVec 32 := 256#32
  let c0_i32_92 : BitVec 32 := 0#32
  ![v2.toNat, 256, 0]
def k0_off75 (v494 : BitVec 32) : Fin 2 → Nat :=
  let v495 : BitVec 32 := v494
  let c0_i32_93 : BitVec 32 := 0#32
  ![v495.toNat, 0]

def k0_chk18 (v494 : BitVec 32) : Prop :=
  (16 ∣ (k0_mult19 v494).toNat) ∧
  (∀ a, (k0_off75 v494) a + S16x1024.size a ≤ S28672x1024.size a) ∧
  (∀ (hinb : ∀ a, (k0_off75 v494) a + S16x1024.size a ≤ S28672x1024.size a), (Rect.unit (s := S28672x1024) (k0_off75 v494) S16x1024.size hinb).WholeWords (EltTy.packing .bf16))
theorem k0_mult19_dvd : ∀ (v494 : BitVec 32) (k0_hw18 : k0_chk18 v494), 16 ∣ (k0_mult19 v494).toNat := fun v494 k0_hw18 => k0_hw18.1
theorem k0_off75_inb : ∀ (v494 : BitVec 32) (k0_hw18 : k0_chk18 v494), ∀ a, (k0_off75 v494) a + S16x1024.size a ≤ S28672x1024.size a := fun v494 k0_hw18 => k0_hw18.2.1
theorem k0_off75_wordsbf16 : ∀ (v494 : BitVec 32) (k0_hw18 : k0_chk18 v494), (Rect.unit (s := S28672x1024) (k0_off75 v494) S16x1024.size (k0_off75_inb v494 k0_hw18)).WholeWords (EltTy.packing .bf16) := fun v494 k0_hw18 => k0_hw18.2.2 (k0_off75_inb v494 k0_hw18)

def k0_off76 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c17_i32 : BitVec 32 := 17#32
  let v501 : BitVec 32 := Scalar.addi v38 c17_i32
  let v502 : Index := Scalar.indexCast v501
  ![v502.toNat]
def k0_mult20 (v503 : BitVec 32) : BitVec 32 :=
  v503

def k0_off77 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off78 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c272_i32 : BitVec 32 := 272#32
  let c0_i32_94 : BitVec 32 := 0#32
  ![v2.toNat, 272, 0]
def k0_off79 (v503 : BitVec 32) : Fin 2 → Nat :=
  let v504 : BitVec 32 := v503
  let c0_i32_95 : BitVec 32 := 0#32
  ![v504.toNat, 0]

def k0_chk19 (v503 : BitVec 32) : Prop :=
  (16 ∣ (k0_mult20 v503).toNat) ∧
  (∀ a, (k0_off79 v503) a + S16x1024.size a ≤ S28672x1024.size a) ∧
  (∀ (hinb : ∀ a, (k0_off79 v503) a + S16x1024.size a ≤ S28672x1024.size a), (Rect.unit (s := S28672x1024) (k0_off79 v503) S16x1024.size hinb).WholeWords (EltTy.packing .bf16))
theorem k0_mult20_dvd : ∀ (v503 : BitVec 32) (k0_hw19 : k0_chk19 v503), 16 ∣ (k0_mult20 v503).toNat := fun v503 k0_hw19 => k0_hw19.1
theorem k0_off79_inb : ∀ (v503 : BitVec 32) (k0_hw19 : k0_chk19 v503), ∀ a, (k0_off79 v503) a + S16x1024.size a ≤ S28672x1024.size a := fun v503 k0_hw19 => k0_hw19.2.1
theorem k0_off79_wordsbf16 : ∀ (v503 : BitVec 32) (k0_hw19 : k0_chk19 v503), (Rect.unit (s := S28672x1024) (k0_off79 v503) S16x1024.size (k0_off79_inb v503 k0_hw19)).WholeWords (EltTy.packing .bf16) := fun v503 k0_hw19 => k0_hw19.2.2 (k0_off79_inb v503 k0_hw19)

def k0_off80 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c18_i32 : BitVec 32 := 18#32
  let v510 : BitVec 32 := Scalar.addi v38 c18_i32
  let v511 : Index := Scalar.indexCast v510
  ![v511.toNat]
def k0_mult21 (v512 : BitVec 32) : BitVec 32 :=
  v512

def k0_off81 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off82 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c288_i32 : BitVec 32 := 288#32
  let c0_i32_96 : BitVec 32 := 0#32
  ![v2.toNat, 288, 0]
def k0_off83 (v512 : BitVec 32) : Fin 2 → Nat :=
  let v513 : BitVec 32 := v512
  let c0_i32_97 : BitVec 32 := 0#32
  ![v513.toNat, 0]

def k0_chk20 (v512 : BitVec 32) : Prop :=
  (16 ∣ (k0_mult21 v512).toNat) ∧
  (∀ a, (k0_off83 v512) a + S16x1024.size a ≤ S28672x1024.size a) ∧
  (∀ (hinb : ∀ a, (k0_off83 v512) a + S16x1024.size a ≤ S28672x1024.size a), (Rect.unit (s := S28672x1024) (k0_off83 v512) S16x1024.size hinb).WholeWords (EltTy.packing .bf16))
theorem k0_mult21_dvd : ∀ (v512 : BitVec 32) (k0_hw20 : k0_chk20 v512), 16 ∣ (k0_mult21 v512).toNat := fun v512 k0_hw20 => k0_hw20.1
theorem k0_off83_inb : ∀ (v512 : BitVec 32) (k0_hw20 : k0_chk20 v512), ∀ a, (k0_off83 v512) a + S16x1024.size a ≤ S28672x1024.size a := fun v512 k0_hw20 => k0_hw20.2.1
theorem k0_off83_wordsbf16 : ∀ (v512 : BitVec 32) (k0_hw20 : k0_chk20 v512), (Rect.unit (s := S28672x1024) (k0_off83 v512) S16x1024.size (k0_off83_inb v512 k0_hw20)).WholeWords (EltTy.packing .bf16) := fun v512 k0_hw20 => k0_hw20.2.2 (k0_off83_inb v512 k0_hw20)

def k0_off84 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c19_i32 : BitVec 32 := 19#32
  let v519 : BitVec 32 := Scalar.addi v38 c19_i32
  let v520 : Index := Scalar.indexCast v519
  ![v520.toNat]
def k0_mult22 (v521 : BitVec 32) : BitVec 32 :=
  v521

def k0_off85 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off86 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c304_i32 : BitVec 32 := 304#32
  let c0_i32_98 : BitVec 32 := 0#32
  ![v2.toNat, 304, 0]
def k0_off87 (v521 : BitVec 32) : Fin 2 → Nat :=
  let v522 : BitVec 32 := v521
  let c0_i32_99 : BitVec 32 := 0#32
  ![v522.toNat, 0]

def k0_chk21 (v521 : BitVec 32) : Prop :=
  (16 ∣ (k0_mult22 v521).toNat) ∧
  (∀ a, (k0_off87 v521) a + S16x1024.size a ≤ S28672x1024.size a) ∧
  (∀ (hinb : ∀ a, (k0_off87 v521) a + S16x1024.size a ≤ S28672x1024.size a), (Rect.unit (s := S28672x1024) (k0_off87 v521) S16x1024.size hinb).WholeWords (EltTy.packing .bf16))
theorem k0_mult22_dvd : ∀ (v521 : BitVec 32) (k0_hw21 : k0_chk21 v521), 16 ∣ (k0_mult22 v521).toNat := fun v521 k0_hw21 => k0_hw21.1
theorem k0_off87_inb : ∀ (v521 : BitVec 32) (k0_hw21 : k0_chk21 v521), ∀ a, (k0_off87 v521) a + S16x1024.size a ≤ S28672x1024.size a := fun v521 k0_hw21 => k0_hw21.2.1
theorem k0_off87_wordsbf16 : ∀ (v521 : BitVec 32) (k0_hw21 : k0_chk21 v521), (Rect.unit (s := S28672x1024) (k0_off87 v521) S16x1024.size (k0_off87_inb v521 k0_hw21)).WholeWords (EltTy.packing .bf16) := fun v521 k0_hw21 => k0_hw21.2.2 (k0_off87_inb v521 k0_hw21)

def k0_off88 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c20_i32 : BitVec 32 := 20#32
  let v528 : BitVec 32 := Scalar.addi v38 c20_i32
  let v529 : Index := Scalar.indexCast v528
  ![v529.toNat]
def k0_mult23 (v530 : BitVec 32) : BitVec 32 :=
  v530

def k0_off89 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off90 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c320_i32 : BitVec 32 := 320#32
  let c0_i32_100 : BitVec 32 := 0#32
  ![v2.toNat, 320, 0]
def k0_off91 (v530 : BitVec 32) : Fin 2 → Nat :=
  let v531 : BitVec 32 := v530
  let c0_i32_101 : BitVec 32 := 0#32
  ![v531.toNat, 0]

def k0_chk22 (v530 : BitVec 32) : Prop :=
  (16 ∣ (k0_mult23 v530).toNat) ∧
  (∀ a, (k0_off91 v530) a + S16x1024.size a ≤ S28672x1024.size a) ∧
  (∀ (hinb : ∀ a, (k0_off91 v530) a + S16x1024.size a ≤ S28672x1024.size a), (Rect.unit (s := S28672x1024) (k0_off91 v530) S16x1024.size hinb).WholeWords (EltTy.packing .bf16))
theorem k0_mult23_dvd : ∀ (v530 : BitVec 32) (k0_hw22 : k0_chk22 v530), 16 ∣ (k0_mult23 v530).toNat := fun v530 k0_hw22 => k0_hw22.1
theorem k0_off91_inb : ∀ (v530 : BitVec 32) (k0_hw22 : k0_chk22 v530), ∀ a, (k0_off91 v530) a + S16x1024.size a ≤ S28672x1024.size a := fun v530 k0_hw22 => k0_hw22.2.1
theorem k0_off91_wordsbf16 : ∀ (v530 : BitVec 32) (k0_hw22 : k0_chk22 v530), (Rect.unit (s := S28672x1024) (k0_off91 v530) S16x1024.size (k0_off91_inb v530 k0_hw22)).WholeWords (EltTy.packing .bf16) := fun v530 k0_hw22 => k0_hw22.2.2 (k0_off91_inb v530 k0_hw22)

def k0_off92 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c21_i32 : BitVec 32 := 21#32
  let v537 : BitVec 32 := Scalar.addi v38 c21_i32
  let v538 : Index := Scalar.indexCast v537
  ![v538.toNat]
def k0_mult24 (v539 : BitVec 32) : BitVec 32 :=
  v539

def k0_off93 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off94 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c336_i32 : BitVec 32 := 336#32
  let c0_i32_102 : BitVec 32 := 0#32
  ![v2.toNat, 336, 0]
def k0_off95 (v539 : BitVec 32) : Fin 2 → Nat :=
  let v540 : BitVec 32 := v539
  let c0_i32_103 : BitVec 32 := 0#32
  ![v540.toNat, 0]

def k0_chk23 (v539 : BitVec 32) : Prop :=
  (16 ∣ (k0_mult24 v539).toNat) ∧
  (∀ a, (k0_off95 v539) a + S16x1024.size a ≤ S28672x1024.size a) ∧
  (∀ (hinb : ∀ a, (k0_off95 v539) a + S16x1024.size a ≤ S28672x1024.size a), (Rect.unit (s := S28672x1024) (k0_off95 v539) S16x1024.size hinb).WholeWords (EltTy.packing .bf16))
theorem k0_mult24_dvd : ∀ (v539 : BitVec 32) (k0_hw23 : k0_chk23 v539), 16 ∣ (k0_mult24 v539).toNat := fun v539 k0_hw23 => k0_hw23.1
theorem k0_off95_inb : ∀ (v539 : BitVec 32) (k0_hw23 : k0_chk23 v539), ∀ a, (k0_off95 v539) a + S16x1024.size a ≤ S28672x1024.size a := fun v539 k0_hw23 => k0_hw23.2.1
theorem k0_off95_wordsbf16 : ∀ (v539 : BitVec 32) (k0_hw23 : k0_chk23 v539), (Rect.unit (s := S28672x1024) (k0_off95 v539) S16x1024.size (k0_off95_inb v539 k0_hw23)).WholeWords (EltTy.packing .bf16) := fun v539 k0_hw23 => k0_hw23.2.2 (k0_off95_inb v539 k0_hw23)

def k0_off96 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c22_i32 : BitVec 32 := 22#32
  let v546 : BitVec 32 := Scalar.addi v38 c22_i32
  let v547 : Index := Scalar.indexCast v546
  ![v547.toNat]
def k0_mult25 (v548 : BitVec 32) : BitVec 32 :=
  v548

def k0_off97 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off98 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c352_i32 : BitVec 32 := 352#32
  let c0_i32_104 : BitVec 32 := 0#32
  ![v2.toNat, 352, 0]
def k0_off99 (v548 : BitVec 32) : Fin 2 → Nat :=
  let v549 : BitVec 32 := v548
  let c0_i32_105 : BitVec 32 := 0#32
  ![v549.toNat, 0]

def k0_chk24 (v548 : BitVec 32) : Prop :=
  (16 ∣ (k0_mult25 v548).toNat) ∧
  (∀ a, (k0_off99 v548) a + S16x1024.size a ≤ S28672x1024.size a) ∧
  (∀ (hinb : ∀ a, (k0_off99 v548) a + S16x1024.size a ≤ S28672x1024.size a), (Rect.unit (s := S28672x1024) (k0_off99 v548) S16x1024.size hinb).WholeWords (EltTy.packing .bf16))
theorem k0_mult25_dvd : ∀ (v548 : BitVec 32) (k0_hw24 : k0_chk24 v548), 16 ∣ (k0_mult25 v548).toNat := fun v548 k0_hw24 => k0_hw24.1
theorem k0_off99_inb : ∀ (v548 : BitVec 32) (k0_hw24 : k0_chk24 v548), ∀ a, (k0_off99 v548) a + S16x1024.size a ≤ S28672x1024.size a := fun v548 k0_hw24 => k0_hw24.2.1
theorem k0_off99_wordsbf16 : ∀ (v548 : BitVec 32) (k0_hw24 : k0_chk24 v548), (Rect.unit (s := S28672x1024) (k0_off99 v548) S16x1024.size (k0_off99_inb v548 k0_hw24)).WholeWords (EltTy.packing .bf16) := fun v548 k0_hw24 => k0_hw24.2.2 (k0_off99_inb v548 k0_hw24)

def k0_off100 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c23_i32 : BitVec 32 := 23#32
  let v555 : BitVec 32 := Scalar.addi v38 c23_i32
  let v556 : Index := Scalar.indexCast v555
  ![v556.toNat]
def k0_mult26 (v557 : BitVec 32) : BitVec 32 :=
  v557

def k0_off101 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off102 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c368_i32 : BitVec 32 := 368#32
  let c0_i32_106 : BitVec 32 := 0#32
  ![v2.toNat, 368, 0]
def k0_off103 (v557 : BitVec 32) : Fin 2 → Nat :=
  let v558 : BitVec 32 := v557
  let c0_i32_107 : BitVec 32 := 0#32
  ![v558.toNat, 0]

def k0_chk25 (v557 : BitVec 32) : Prop :=
  (16 ∣ (k0_mult26 v557).toNat) ∧
  (∀ a, (k0_off103 v557) a + S16x1024.size a ≤ S28672x1024.size a) ∧
  (∀ (hinb : ∀ a, (k0_off103 v557) a + S16x1024.size a ≤ S28672x1024.size a), (Rect.unit (s := S28672x1024) (k0_off103 v557) S16x1024.size hinb).WholeWords (EltTy.packing .bf16))
theorem k0_mult26_dvd : ∀ (v557 : BitVec 32) (k0_hw25 : k0_chk25 v557), 16 ∣ (k0_mult26 v557).toNat := fun v557 k0_hw25 => k0_hw25.1
theorem k0_off103_inb : ∀ (v557 : BitVec 32) (k0_hw25 : k0_chk25 v557), ∀ a, (k0_off103 v557) a + S16x1024.size a ≤ S28672x1024.size a := fun v557 k0_hw25 => k0_hw25.2.1
theorem k0_off103_wordsbf16 : ∀ (v557 : BitVec 32) (k0_hw25 : k0_chk25 v557), (Rect.unit (s := S28672x1024) (k0_off103 v557) S16x1024.size (k0_off103_inb v557 k0_hw25)).WholeWords (EltTy.packing .bf16) := fun v557 k0_hw25 => k0_hw25.2.2 (k0_off103_inb v557 k0_hw25)

def k0_off104 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c24_i32 : BitVec 32 := 24#32
  let v564 : BitVec 32 := Scalar.addi v38 c24_i32
  let v565 : Index := Scalar.indexCast v564
  ![v565.toNat]
def k0_mult27 (v566 : BitVec 32) : BitVec 32 :=
  v566

def k0_off105 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off106 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c384_i32 : BitVec 32 := 384#32
  let c0_i32_108 : BitVec 32 := 0#32
  ![v2.toNat, 384, 0]
def k0_off107 (v566 : BitVec 32) : Fin 2 → Nat :=
  let v567 : BitVec 32 := v566
  let c0_i32_109 : BitVec 32 := 0#32
  ![v567.toNat, 0]

def k0_chk26 (v566 : BitVec 32) : Prop :=
  (16 ∣ (k0_mult27 v566).toNat) ∧
  (∀ a, (k0_off107 v566) a + S16x1024.size a ≤ S28672x1024.size a) ∧
  (∀ (hinb : ∀ a, (k0_off107 v566) a + S16x1024.size a ≤ S28672x1024.size a), (Rect.unit (s := S28672x1024) (k0_off107 v566) S16x1024.size hinb).WholeWords (EltTy.packing .bf16))
theorem k0_mult27_dvd : ∀ (v566 : BitVec 32) (k0_hw26 : k0_chk26 v566), 16 ∣ (k0_mult27 v566).toNat := fun v566 k0_hw26 => k0_hw26.1
theorem k0_off107_inb : ∀ (v566 : BitVec 32) (k0_hw26 : k0_chk26 v566), ∀ a, (k0_off107 v566) a + S16x1024.size a ≤ S28672x1024.size a := fun v566 k0_hw26 => k0_hw26.2.1
theorem k0_off107_wordsbf16 : ∀ (v566 : BitVec 32) (k0_hw26 : k0_chk26 v566), (Rect.unit (s := S28672x1024) (k0_off107 v566) S16x1024.size (k0_off107_inb v566 k0_hw26)).WholeWords (EltTy.packing .bf16) := fun v566 k0_hw26 => k0_hw26.2.2 (k0_off107_inb v566 k0_hw26)

def k0_off108 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c25_i32 : BitVec 32 := 25#32
  let v573 : BitVec 32 := Scalar.addi v38 c25_i32
  let v574 : Index := Scalar.indexCast v573
  ![v574.toNat]
def k0_mult28 (v575 : BitVec 32) : BitVec 32 :=
  v575

def k0_off109 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off110 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c400_i32 : BitVec 32 := 400#32
  let c0_i32_110 : BitVec 32 := 0#32
  ![v2.toNat, 400, 0]
def k0_off111 (v575 : BitVec 32) : Fin 2 → Nat :=
  let v576 : BitVec 32 := v575
  let c0_i32_111 : BitVec 32 := 0#32
  ![v576.toNat, 0]

def k0_chk27 (v575 : BitVec 32) : Prop :=
  (16 ∣ (k0_mult28 v575).toNat) ∧
  (∀ a, (k0_off111 v575) a + S16x1024.size a ≤ S28672x1024.size a) ∧
  (∀ (hinb : ∀ a, (k0_off111 v575) a + S16x1024.size a ≤ S28672x1024.size a), (Rect.unit (s := S28672x1024) (k0_off111 v575) S16x1024.size hinb).WholeWords (EltTy.packing .bf16))
theorem k0_mult28_dvd : ∀ (v575 : BitVec 32) (k0_hw27 : k0_chk27 v575), 16 ∣ (k0_mult28 v575).toNat := fun v575 k0_hw27 => k0_hw27.1
theorem k0_off111_inb : ∀ (v575 : BitVec 32) (k0_hw27 : k0_chk27 v575), ∀ a, (k0_off111 v575) a + S16x1024.size a ≤ S28672x1024.size a := fun v575 k0_hw27 => k0_hw27.2.1
theorem k0_off111_wordsbf16 : ∀ (v575 : BitVec 32) (k0_hw27 : k0_chk27 v575), (Rect.unit (s := S28672x1024) (k0_off111 v575) S16x1024.size (k0_off111_inb v575 k0_hw27)).WholeWords (EltTy.packing .bf16) := fun v575 k0_hw27 => k0_hw27.2.2 (k0_off111_inb v575 k0_hw27)

def k0_off112 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c26_i32 : BitVec 32 := 26#32
  let v582 : BitVec 32 := Scalar.addi v38 c26_i32
  let v583 : Index := Scalar.indexCast v582
  ![v583.toNat]
def k0_mult29 (v584 : BitVec 32) : BitVec 32 :=
  v584

def k0_off113 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off114 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c416_i32 : BitVec 32 := 416#32
  let c0_i32_112 : BitVec 32 := 0#32
  ![v2.toNat, 416, 0]
def k0_off115 (v584 : BitVec 32) : Fin 2 → Nat :=
  let v585 : BitVec 32 := v584
  let c0_i32_113 : BitVec 32 := 0#32
  ![v585.toNat, 0]

def k0_chk28 (v584 : BitVec 32) : Prop :=
  (16 ∣ (k0_mult29 v584).toNat) ∧
  (∀ a, (k0_off115 v584) a + S16x1024.size a ≤ S28672x1024.size a) ∧
  (∀ (hinb : ∀ a, (k0_off115 v584) a + S16x1024.size a ≤ S28672x1024.size a), (Rect.unit (s := S28672x1024) (k0_off115 v584) S16x1024.size hinb).WholeWords (EltTy.packing .bf16))
theorem k0_mult29_dvd : ∀ (v584 : BitVec 32) (k0_hw28 : k0_chk28 v584), 16 ∣ (k0_mult29 v584).toNat := fun v584 k0_hw28 => k0_hw28.1
theorem k0_off115_inb : ∀ (v584 : BitVec 32) (k0_hw28 : k0_chk28 v584), ∀ a, (k0_off115 v584) a + S16x1024.size a ≤ S28672x1024.size a := fun v584 k0_hw28 => k0_hw28.2.1
theorem k0_off115_wordsbf16 : ∀ (v584 : BitVec 32) (k0_hw28 : k0_chk28 v584), (Rect.unit (s := S28672x1024) (k0_off115 v584) S16x1024.size (k0_off115_inb v584 k0_hw28)).WholeWords (EltTy.packing .bf16) := fun v584 k0_hw28 => k0_hw28.2.2 (k0_off115_inb v584 k0_hw28)

def k0_off116 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c27_i32 : BitVec 32 := 27#32
  let v591 : BitVec 32 := Scalar.addi v38 c27_i32
  let v592 : Index := Scalar.indexCast v591
  ![v592.toNat]
def k0_mult30 (v593 : BitVec 32) : BitVec 32 :=
  v593

def k0_off117 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off118 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c432_i32 : BitVec 32 := 432#32
  let c0_i32_114 : BitVec 32 := 0#32
  ![v2.toNat, 432, 0]
def k0_off119 (v593 : BitVec 32) : Fin 2 → Nat :=
  let v594 : BitVec 32 := v593
  let c0_i32_115 : BitVec 32 := 0#32
  ![v594.toNat, 0]

def k0_chk29 (v593 : BitVec 32) : Prop :=
  (16 ∣ (k0_mult30 v593).toNat) ∧
  (∀ a, (k0_off119 v593) a + S16x1024.size a ≤ S28672x1024.size a) ∧
  (∀ (hinb : ∀ a, (k0_off119 v593) a + S16x1024.size a ≤ S28672x1024.size a), (Rect.unit (s := S28672x1024) (k0_off119 v593) S16x1024.size hinb).WholeWords (EltTy.packing .bf16))
theorem k0_mult30_dvd : ∀ (v593 : BitVec 32) (k0_hw29 : k0_chk29 v593), 16 ∣ (k0_mult30 v593).toNat := fun v593 k0_hw29 => k0_hw29.1
theorem k0_off119_inb : ∀ (v593 : BitVec 32) (k0_hw29 : k0_chk29 v593), ∀ a, (k0_off119 v593) a + S16x1024.size a ≤ S28672x1024.size a := fun v593 k0_hw29 => k0_hw29.2.1
theorem k0_off119_wordsbf16 : ∀ (v593 : BitVec 32) (k0_hw29 : k0_chk29 v593), (Rect.unit (s := S28672x1024) (k0_off119 v593) S16x1024.size (k0_off119_inb v593 k0_hw29)).WholeWords (EltTy.packing .bf16) := fun v593 k0_hw29 => k0_hw29.2.2 (k0_off119_inb v593 k0_hw29)

def k0_off120 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c28_i32 : BitVec 32 := 28#32
  let v600 : BitVec 32 := Scalar.addi v38 c28_i32
  let v601 : Index := Scalar.indexCast v600
  ![v601.toNat]
def k0_mult31 (v602 : BitVec 32) : BitVec 32 :=
  v602

def k0_off121 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off122 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c448_i32 : BitVec 32 := 448#32
  let c0_i32_116 : BitVec 32 := 0#32
  ![v2.toNat, 448, 0]
def k0_off123 (v602 : BitVec 32) : Fin 2 → Nat :=
  let v603 : BitVec 32 := v602
  let c0_i32_117 : BitVec 32 := 0#32
  ![v603.toNat, 0]

def k0_chk30 (v602 : BitVec 32) : Prop :=
  (16 ∣ (k0_mult31 v602).toNat) ∧
  (∀ a, (k0_off123 v602) a + S16x1024.size a ≤ S28672x1024.size a) ∧
  (∀ (hinb : ∀ a, (k0_off123 v602) a + S16x1024.size a ≤ S28672x1024.size a), (Rect.unit (s := S28672x1024) (k0_off123 v602) S16x1024.size hinb).WholeWords (EltTy.packing .bf16))
theorem k0_mult31_dvd : ∀ (v602 : BitVec 32) (k0_hw30 : k0_chk30 v602), 16 ∣ (k0_mult31 v602).toNat := fun v602 k0_hw30 => k0_hw30.1
theorem k0_off123_inb : ∀ (v602 : BitVec 32) (k0_hw30 : k0_chk30 v602), ∀ a, (k0_off123 v602) a + S16x1024.size a ≤ S28672x1024.size a := fun v602 k0_hw30 => k0_hw30.2.1
theorem k0_off123_wordsbf16 : ∀ (v602 : BitVec 32) (k0_hw30 : k0_chk30 v602), (Rect.unit (s := S28672x1024) (k0_off123 v602) S16x1024.size (k0_off123_inb v602 k0_hw30)).WholeWords (EltTy.packing .bf16) := fun v602 k0_hw30 => k0_hw30.2.2 (k0_off123_inb v602 k0_hw30)

def k0_off124 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c29_i32 : BitVec 32 := 29#32
  let v609 : BitVec 32 := Scalar.addi v38 c29_i32
  let v610 : Index := Scalar.indexCast v609
  ![v610.toNat]
def k0_mult32 (v611 : BitVec 32) : BitVec 32 :=
  v611

def k0_off125 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off126 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c464_i32 : BitVec 32 := 464#32
  let c0_i32_118 : BitVec 32 := 0#32
  ![v2.toNat, 464, 0]
def k0_off127 (v611 : BitVec 32) : Fin 2 → Nat :=
  let v612 : BitVec 32 := v611
  let c0_i32_119 : BitVec 32 := 0#32
  ![v612.toNat, 0]

def k0_chk31 (v611 : BitVec 32) : Prop :=
  (16 ∣ (k0_mult32 v611).toNat) ∧
  (∀ a, (k0_off127 v611) a + S16x1024.size a ≤ S28672x1024.size a) ∧
  (∀ (hinb : ∀ a, (k0_off127 v611) a + S16x1024.size a ≤ S28672x1024.size a), (Rect.unit (s := S28672x1024) (k0_off127 v611) S16x1024.size hinb).WholeWords (EltTy.packing .bf16))
theorem k0_mult32_dvd : ∀ (v611 : BitVec 32) (k0_hw31 : k0_chk31 v611), 16 ∣ (k0_mult32 v611).toNat := fun v611 k0_hw31 => k0_hw31.1
theorem k0_off127_inb : ∀ (v611 : BitVec 32) (k0_hw31 : k0_chk31 v611), ∀ a, (k0_off127 v611) a + S16x1024.size a ≤ S28672x1024.size a := fun v611 k0_hw31 => k0_hw31.2.1
theorem k0_off127_wordsbf16 : ∀ (v611 : BitVec 32) (k0_hw31 : k0_chk31 v611), (Rect.unit (s := S28672x1024) (k0_off127 v611) S16x1024.size (k0_off127_inb v611 k0_hw31)).WholeWords (EltTy.packing .bf16) := fun v611 k0_hw31 => k0_hw31.2.2 (k0_off127_inb v611 k0_hw31)

def k0_off128 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c30_i32 : BitVec 32 := 30#32
  let v618 : BitVec 32 := Scalar.addi v38 c30_i32
  let v619 : Index := Scalar.indexCast v618
  ![v619.toNat]
def k0_mult33 (v620 : BitVec 32) : BitVec 32 :=
  v620

def k0_off129 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off130 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c480_i32 : BitVec 32 := 480#32
  let c0_i32_120 : BitVec 32 := 0#32
  ![v2.toNat, 480, 0]
def k0_off131 (v620 : BitVec 32) : Fin 2 → Nat :=
  let v621 : BitVec 32 := v620
  let c0_i32_121 : BitVec 32 := 0#32
  ![v621.toNat, 0]

def k0_chk32 (v620 : BitVec 32) : Prop :=
  (16 ∣ (k0_mult33 v620).toNat) ∧
  (∀ a, (k0_off131 v620) a + S16x1024.size a ≤ S28672x1024.size a) ∧
  (∀ (hinb : ∀ a, (k0_off131 v620) a + S16x1024.size a ≤ S28672x1024.size a), (Rect.unit (s := S28672x1024) (k0_off131 v620) S16x1024.size hinb).WholeWords (EltTy.packing .bf16))
theorem k0_mult33_dvd : ∀ (v620 : BitVec 32) (k0_hw32 : k0_chk32 v620), 16 ∣ (k0_mult33 v620).toNat := fun v620 k0_hw32 => k0_hw32.1
theorem k0_off131_inb : ∀ (v620 : BitVec 32) (k0_hw32 : k0_chk32 v620), ∀ a, (k0_off131 v620) a + S16x1024.size a ≤ S28672x1024.size a := fun v620 k0_hw32 => k0_hw32.2.1
theorem k0_off131_wordsbf16 : ∀ (v620 : BitVec 32) (k0_hw32 : k0_chk32 v620), (Rect.unit (s := S28672x1024) (k0_off131 v620) S16x1024.size (k0_off131_inb v620 k0_hw32)).WholeWords (EltTy.packing .bf16) := fun v620 k0_hw32 => k0_hw32.2.2 (k0_off131_inb v620 k0_hw32)

def k0_off132 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c31_i32 : BitVec 32 := 31#32
  let v627 : BitVec 32 := Scalar.addi v38 c31_i32
  let v628 : Index := Scalar.indexCast v627
  ![v628.toNat]
def k0_mult34 (v629 : BitVec 32) : BitVec 32 :=
  v629

def k0_off133 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off134 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c496_i32 : BitVec 32 := 496#32
  let c0_i32_122 : BitVec 32 := 0#32
  ![v2.toNat, 496, 0]
def k0_off135 (v629 : BitVec 32) : Fin 2 → Nat :=
  let v630 : BitVec 32 := v629
  let c0_i32_123 : BitVec 32 := 0#32
  ![v630.toNat, 0]

def k0_chk33 (v629 : BitVec 32) : Prop :=
  (16 ∣ (k0_mult34 v629).toNat) ∧
  (∀ a, (k0_off135 v629) a + S16x1024.size a ≤ S28672x1024.size a) ∧
  (∀ (hinb : ∀ a, (k0_off135 v629) a + S16x1024.size a ≤ S28672x1024.size a), (Rect.unit (s := S28672x1024) (k0_off135 v629) S16x1024.size hinb).WholeWords (EltTy.packing .bf16))
theorem k0_mult34_dvd : ∀ (v629 : BitVec 32) (k0_hw33 : k0_chk33 v629), 16 ∣ (k0_mult34 v629).toNat := fun v629 k0_hw33 => k0_hw33.1
theorem k0_off135_inb : ∀ (v629 : BitVec 32) (k0_hw33 : k0_chk33 v629), ∀ a, (k0_off135 v629) a + S16x1024.size a ≤ S28672x1024.size a := fun v629 k0_hw33 => k0_hw33.2.1
theorem k0_off135_wordsbf16 : ∀ (v629 : BitVec 32) (k0_hw33 : k0_chk33 v629), (Rect.unit (s := S28672x1024) (k0_off135 v629) S16x1024.size (k0_off135_inb v629 k0_hw33)).WholeWords (EltTy.packing .bf16) := fun v629 k0_hw33 => k0_hw33.2.2 (k0_off135_inb v629 k0_hw33)

def k0_off136 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c32_i32_124 : BitVec 32 := 32#32
  let v636 : BitVec 32 := Scalar.addi v38 c32_i32_124
  let v637 : Index := Scalar.indexCast v636
  ![v637.toNat]
def k0_mult35 (v638 : BitVec 32) : BitVec 32 :=
  v638

def k0_off137 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off138 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c512_i32 : BitVec 32 := 512#32
  let c0_i32_125 : BitVec 32 := 0#32
  ![v2.toNat, 512, 0]
def k0_off139 (v638 : BitVec 32) : Fin 2 → Nat :=
  let v639 : BitVec 32 := v638
  let c0_i32_126 : BitVec 32 := 0#32
  ![v639.toNat, 0]

def k0_chk34 (v638 : BitVec 32) : Prop :=
  (16 ∣ (k0_mult35 v638).toNat) ∧
  (∀ a, (k0_off139 v638) a + S16x1024.size a ≤ S28672x1024.size a) ∧
  (∀ (hinb : ∀ a, (k0_off139 v638) a + S16x1024.size a ≤ S28672x1024.size a), (Rect.unit (s := S28672x1024) (k0_off139 v638) S16x1024.size hinb).WholeWords (EltTy.packing .bf16))
theorem k0_mult35_dvd : ∀ (v638 : BitVec 32) (k0_hw34 : k0_chk34 v638), 16 ∣ (k0_mult35 v638).toNat := fun v638 k0_hw34 => k0_hw34.1
theorem k0_off139_inb : ∀ (v638 : BitVec 32) (k0_hw34 : k0_chk34 v638), ∀ a, (k0_off139 v638) a + S16x1024.size a ≤ S28672x1024.size a := fun v638 k0_hw34 => k0_hw34.2.1
theorem k0_off139_wordsbf16 : ∀ (v638 : BitVec 32) (k0_hw34 : k0_chk34 v638), (Rect.unit (s := S28672x1024) (k0_off139 v638) S16x1024.size (k0_off139_inb v638 k0_hw34)).WholeWords (EltTy.packing .bf16) := fun v638 k0_hw34 => k0_hw34.2.2 (k0_off139_inb v638 k0_hw34)

def k0_off140 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c33_i32 : BitVec 32 := 33#32
  let v645 : BitVec 32 := Scalar.addi v38 c33_i32
  let v646 : Index := Scalar.indexCast v645
  ![v646.toNat]
def k0_mult36 (v647 : BitVec 32) : BitVec 32 :=
  v647

def k0_off141 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off142 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c528_i32 : BitVec 32 := 528#32
  let c0_i32_127 : BitVec 32 := 0#32
  ![v2.toNat, 528, 0]
def k0_off143 (v647 : BitVec 32) : Fin 2 → Nat :=
  let v648 : BitVec 32 := v647
  let c0_i32_128 : BitVec 32 := 0#32
  ![v648.toNat, 0]

def k0_chk35 (v647 : BitVec 32) : Prop :=
  (16 ∣ (k0_mult36 v647).toNat) ∧
  (∀ a, (k0_off143 v647) a + S16x1024.size a ≤ S28672x1024.size a) ∧
  (∀ (hinb : ∀ a, (k0_off143 v647) a + S16x1024.size a ≤ S28672x1024.size a), (Rect.unit (s := S28672x1024) (k0_off143 v647) S16x1024.size hinb).WholeWords (EltTy.packing .bf16))
theorem k0_mult36_dvd : ∀ (v647 : BitVec 32) (k0_hw35 : k0_chk35 v647), 16 ∣ (k0_mult36 v647).toNat := fun v647 k0_hw35 => k0_hw35.1
theorem k0_off143_inb : ∀ (v647 : BitVec 32) (k0_hw35 : k0_chk35 v647), ∀ a, (k0_off143 v647) a + S16x1024.size a ≤ S28672x1024.size a := fun v647 k0_hw35 => k0_hw35.2.1
theorem k0_off143_wordsbf16 : ∀ (v647 : BitVec 32) (k0_hw35 : k0_chk35 v647), (Rect.unit (s := S28672x1024) (k0_off143 v647) S16x1024.size (k0_off143_inb v647 k0_hw35)).WholeWords (EltTy.packing .bf16) := fun v647 k0_hw35 => k0_hw35.2.2 (k0_off143_inb v647 k0_hw35)

def k0_off144 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c34_i32 : BitVec 32 := 34#32
  let v654 : BitVec 32 := Scalar.addi v38 c34_i32
  let v655 : Index := Scalar.indexCast v654
  ![v655.toNat]
def k0_mult37 (v656 : BitVec 32) : BitVec 32 :=
  v656

def k0_off145 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off146 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c544_i32 : BitVec 32 := 544#32
  let c0_i32_129 : BitVec 32 := 0#32
  ![v2.toNat, 544, 0]
def k0_off147 (v656 : BitVec 32) : Fin 2 → Nat :=
  let v657 : BitVec 32 := v656
  let c0_i32_130 : BitVec 32 := 0#32
  ![v657.toNat, 0]

def k0_chk36 (v656 : BitVec 32) : Prop :=
  (16 ∣ (k0_mult37 v656).toNat) ∧
  (∀ a, (k0_off147 v656) a + S16x1024.size a ≤ S28672x1024.size a) ∧
  (∀ (hinb : ∀ a, (k0_off147 v656) a + S16x1024.size a ≤ S28672x1024.size a), (Rect.unit (s := S28672x1024) (k0_off147 v656) S16x1024.size hinb).WholeWords (EltTy.packing .bf16))
theorem k0_mult37_dvd : ∀ (v656 : BitVec 32) (k0_hw36 : k0_chk36 v656), 16 ∣ (k0_mult37 v656).toNat := fun v656 k0_hw36 => k0_hw36.1
theorem k0_off147_inb : ∀ (v656 : BitVec 32) (k0_hw36 : k0_chk36 v656), ∀ a, (k0_off147 v656) a + S16x1024.size a ≤ S28672x1024.size a := fun v656 k0_hw36 => k0_hw36.2.1
theorem k0_off147_wordsbf16 : ∀ (v656 : BitVec 32) (k0_hw36 : k0_chk36 v656), (Rect.unit (s := S28672x1024) (k0_off147 v656) S16x1024.size (k0_off147_inb v656 k0_hw36)).WholeWords (EltTy.packing .bf16) := fun v656 k0_hw36 => k0_hw36.2.2 (k0_off147_inb v656 k0_hw36)

def k0_off148 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c35_i32 : BitVec 32 := 35#32
  let v663 : BitVec 32 := Scalar.addi v38 c35_i32
  let v664 : Index := Scalar.indexCast v663
  ![v664.toNat]
def k0_mult38 (v665 : BitVec 32) : BitVec 32 :=
  v665

def k0_off149 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off150 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c560_i32 : BitVec 32 := 560#32
  let c0_i32_131 : BitVec 32 := 0#32
  ![v2.toNat, 560, 0]
def k0_off151 (v665 : BitVec 32) : Fin 2 → Nat :=
  let v666 : BitVec 32 := v665
  let c0_i32_132 : BitVec 32 := 0#32
  ![v666.toNat, 0]

def k0_chk37 (v665 : BitVec 32) : Prop :=
  (16 ∣ (k0_mult38 v665).toNat) ∧
  (∀ a, (k0_off151 v665) a + S16x1024.size a ≤ S28672x1024.size a) ∧
  (∀ (hinb : ∀ a, (k0_off151 v665) a + S16x1024.size a ≤ S28672x1024.size a), (Rect.unit (s := S28672x1024) (k0_off151 v665) S16x1024.size hinb).WholeWords (EltTy.packing .bf16))
theorem k0_mult38_dvd : ∀ (v665 : BitVec 32) (k0_hw37 : k0_chk37 v665), 16 ∣ (k0_mult38 v665).toNat := fun v665 k0_hw37 => k0_hw37.1
theorem k0_off151_inb : ∀ (v665 : BitVec 32) (k0_hw37 : k0_chk37 v665), ∀ a, (k0_off151 v665) a + S16x1024.size a ≤ S28672x1024.size a := fun v665 k0_hw37 => k0_hw37.2.1
theorem k0_off151_wordsbf16 : ∀ (v665 : BitVec 32) (k0_hw37 : k0_chk37 v665), (Rect.unit (s := S28672x1024) (k0_off151 v665) S16x1024.size (k0_off151_inb v665 k0_hw37)).WholeWords (EltTy.packing .bf16) := fun v665 k0_hw37 => k0_hw37.2.2 (k0_off151_inb v665 k0_hw37)

def k0_off152 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c36_i32 : BitVec 32 := 36#32
  let v672 : BitVec 32 := Scalar.addi v38 c36_i32
  let v673 : Index := Scalar.indexCast v672
  ![v673.toNat]
def k0_mult39 (v674 : BitVec 32) : BitVec 32 :=
  v674

def k0_off153 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off154 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c576_i32 : BitVec 32 := 576#32
  let c0_i32_133 : BitVec 32 := 0#32
  ![v2.toNat, 576, 0]
def k0_off155 (v674 : BitVec 32) : Fin 2 → Nat :=
  let v675 : BitVec 32 := v674
  let c0_i32_134 : BitVec 32 := 0#32
  ![v675.toNat, 0]

def k0_chk38 (v674 : BitVec 32) : Prop :=
  (16 ∣ (k0_mult39 v674).toNat) ∧
  (∀ a, (k0_off155 v674) a + S16x1024.size a ≤ S28672x1024.size a) ∧
  (∀ (hinb : ∀ a, (k0_off155 v674) a + S16x1024.size a ≤ S28672x1024.size a), (Rect.unit (s := S28672x1024) (k0_off155 v674) S16x1024.size hinb).WholeWords (EltTy.packing .bf16))
theorem k0_mult39_dvd : ∀ (v674 : BitVec 32) (k0_hw38 : k0_chk38 v674), 16 ∣ (k0_mult39 v674).toNat := fun v674 k0_hw38 => k0_hw38.1
theorem k0_off155_inb : ∀ (v674 : BitVec 32) (k0_hw38 : k0_chk38 v674), ∀ a, (k0_off155 v674) a + S16x1024.size a ≤ S28672x1024.size a := fun v674 k0_hw38 => k0_hw38.2.1
theorem k0_off155_wordsbf16 : ∀ (v674 : BitVec 32) (k0_hw38 : k0_chk38 v674), (Rect.unit (s := S28672x1024) (k0_off155 v674) S16x1024.size (k0_off155_inb v674 k0_hw38)).WholeWords (EltTy.packing .bf16) := fun v674 k0_hw38 => k0_hw38.2.2 (k0_off155_inb v674 k0_hw38)

def k0_off156 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c37_i32 : BitVec 32 := 37#32
  let v681 : BitVec 32 := Scalar.addi v38 c37_i32
  let v682 : Index := Scalar.indexCast v681
  ![v682.toNat]
def k0_mult40 (v683 : BitVec 32) : BitVec 32 :=
  v683

def k0_off157 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off158 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c592_i32 : BitVec 32 := 592#32
  let c0_i32_135 : BitVec 32 := 0#32
  ![v2.toNat, 592, 0]
def k0_off159 (v683 : BitVec 32) : Fin 2 → Nat :=
  let v684 : BitVec 32 := v683
  let c0_i32_136 : BitVec 32 := 0#32
  ![v684.toNat, 0]

def k0_chk39 (v683 : BitVec 32) : Prop :=
  (16 ∣ (k0_mult40 v683).toNat) ∧
  (∀ a, (k0_off159 v683) a + S16x1024.size a ≤ S28672x1024.size a) ∧
  (∀ (hinb : ∀ a, (k0_off159 v683) a + S16x1024.size a ≤ S28672x1024.size a), (Rect.unit (s := S28672x1024) (k0_off159 v683) S16x1024.size hinb).WholeWords (EltTy.packing .bf16))
theorem k0_mult40_dvd : ∀ (v683 : BitVec 32) (k0_hw39 : k0_chk39 v683), 16 ∣ (k0_mult40 v683).toNat := fun v683 k0_hw39 => k0_hw39.1
theorem k0_off159_inb : ∀ (v683 : BitVec 32) (k0_hw39 : k0_chk39 v683), ∀ a, (k0_off159 v683) a + S16x1024.size a ≤ S28672x1024.size a := fun v683 k0_hw39 => k0_hw39.2.1
theorem k0_off159_wordsbf16 : ∀ (v683 : BitVec 32) (k0_hw39 : k0_chk39 v683), (Rect.unit (s := S28672x1024) (k0_off159 v683) S16x1024.size (k0_off159_inb v683 k0_hw39)).WholeWords (EltTy.packing .bf16) := fun v683 k0_hw39 => k0_hw39.2.2 (k0_off159_inb v683 k0_hw39)

def k0_off160 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c38_i32 : BitVec 32 := 38#32
  let v690 : BitVec 32 := Scalar.addi v38 c38_i32
  let v691 : Index := Scalar.indexCast v690
  ![v691.toNat]
def k0_mult41 (v692 : BitVec 32) : BitVec 32 :=
  v692

def k0_off161 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off162 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c608_i32 : BitVec 32 := 608#32
  let c0_i32_137 : BitVec 32 := 0#32
  ![v2.toNat, 608, 0]
def k0_off163 (v692 : BitVec 32) : Fin 2 → Nat :=
  let v693 : BitVec 32 := v692
  let c0_i32_138 : BitVec 32 := 0#32
  ![v693.toNat, 0]

def k0_chk40 (v692 : BitVec 32) : Prop :=
  (16 ∣ (k0_mult41 v692).toNat) ∧
  (∀ a, (k0_off163 v692) a + S16x1024.size a ≤ S28672x1024.size a) ∧
  (∀ (hinb : ∀ a, (k0_off163 v692) a + S16x1024.size a ≤ S28672x1024.size a), (Rect.unit (s := S28672x1024) (k0_off163 v692) S16x1024.size hinb).WholeWords (EltTy.packing .bf16))
theorem k0_mult41_dvd : ∀ (v692 : BitVec 32) (k0_hw40 : k0_chk40 v692), 16 ∣ (k0_mult41 v692).toNat := fun v692 k0_hw40 => k0_hw40.1
theorem k0_off163_inb : ∀ (v692 : BitVec 32) (k0_hw40 : k0_chk40 v692), ∀ a, (k0_off163 v692) a + S16x1024.size a ≤ S28672x1024.size a := fun v692 k0_hw40 => k0_hw40.2.1
theorem k0_off163_wordsbf16 : ∀ (v692 : BitVec 32) (k0_hw40 : k0_chk40 v692), (Rect.unit (s := S28672x1024) (k0_off163 v692) S16x1024.size (k0_off163_inb v692 k0_hw40)).WholeWords (EltTy.packing .bf16) := fun v692 k0_hw40 => k0_hw40.2.2 (k0_off163_inb v692 k0_hw40)

def k0_off164 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c39_i32 : BitVec 32 := 39#32
  let v699 : BitVec 32 := Scalar.addi v38 c39_i32
  let v700 : Index := Scalar.indexCast v699
  ![v700.toNat]
def k0_mult42 (v701 : BitVec 32) : BitVec 32 :=
  v701

def k0_off165 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off166 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c624_i32 : BitVec 32 := 624#32
  let c0_i32_139 : BitVec 32 := 0#32
  ![v2.toNat, 624, 0]
def k0_off167 (v701 : BitVec 32) : Fin 2 → Nat :=
  let v702 : BitVec 32 := v701
  let c0_i32_140 : BitVec 32 := 0#32
  ![v702.toNat, 0]

def k0_chk41 (v701 : BitVec 32) : Prop :=
  (16 ∣ (k0_mult42 v701).toNat) ∧
  (∀ a, (k0_off167 v701) a + S16x1024.size a ≤ S28672x1024.size a) ∧
  (∀ (hinb : ∀ a, (k0_off167 v701) a + S16x1024.size a ≤ S28672x1024.size a), (Rect.unit (s := S28672x1024) (k0_off167 v701) S16x1024.size hinb).WholeWords (EltTy.packing .bf16))
theorem k0_mult42_dvd : ∀ (v701 : BitVec 32) (k0_hw41 : k0_chk41 v701), 16 ∣ (k0_mult42 v701).toNat := fun v701 k0_hw41 => k0_hw41.1
theorem k0_off167_inb : ∀ (v701 : BitVec 32) (k0_hw41 : k0_chk41 v701), ∀ a, (k0_off167 v701) a + S16x1024.size a ≤ S28672x1024.size a := fun v701 k0_hw41 => k0_hw41.2.1
theorem k0_off167_wordsbf16 : ∀ (v701 : BitVec 32) (k0_hw41 : k0_chk41 v701), (Rect.unit (s := S28672x1024) (k0_off167 v701) S16x1024.size (k0_off167_inb v701 k0_hw41)).WholeWords (EltTy.packing .bf16) := fun v701 k0_hw41 => k0_hw41.2.2 (k0_off167_inb v701 k0_hw41)

def k0_off168 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c40_i32 : BitVec 32 := 40#32
  let v708 : BitVec 32 := Scalar.addi v38 c40_i32
  let v709 : Index := Scalar.indexCast v708
  ![v709.toNat]
def k0_mult43 (v710 : BitVec 32) : BitVec 32 :=
  v710

def k0_off169 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off170 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c640_i32 : BitVec 32 := 640#32
  let c0_i32_141 : BitVec 32 := 0#32
  ![v2.toNat, 640, 0]
def k0_off171 (v710 : BitVec 32) : Fin 2 → Nat :=
  let v711 : BitVec 32 := v710
  let c0_i32_142 : BitVec 32 := 0#32
  ![v711.toNat, 0]

def k0_chk42 (v710 : BitVec 32) : Prop :=
  (16 ∣ (k0_mult43 v710).toNat) ∧
  (∀ a, (k0_off171 v710) a + S16x1024.size a ≤ S28672x1024.size a) ∧
  (∀ (hinb : ∀ a, (k0_off171 v710) a + S16x1024.size a ≤ S28672x1024.size a), (Rect.unit (s := S28672x1024) (k0_off171 v710) S16x1024.size hinb).WholeWords (EltTy.packing .bf16))
theorem k0_mult43_dvd : ∀ (v710 : BitVec 32) (k0_hw42 : k0_chk42 v710), 16 ∣ (k0_mult43 v710).toNat := fun v710 k0_hw42 => k0_hw42.1
theorem k0_off171_inb : ∀ (v710 : BitVec 32) (k0_hw42 : k0_chk42 v710), ∀ a, (k0_off171 v710) a + S16x1024.size a ≤ S28672x1024.size a := fun v710 k0_hw42 => k0_hw42.2.1
theorem k0_off171_wordsbf16 : ∀ (v710 : BitVec 32) (k0_hw42 : k0_chk42 v710), (Rect.unit (s := S28672x1024) (k0_off171 v710) S16x1024.size (k0_off171_inb v710 k0_hw42)).WholeWords (EltTy.packing .bf16) := fun v710 k0_hw42 => k0_hw42.2.2 (k0_off171_inb v710 k0_hw42)

def k0_off172 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c41_i32 : BitVec 32 := 41#32
  let v717 : BitVec 32 := Scalar.addi v38 c41_i32
  let v718 : Index := Scalar.indexCast v717
  ![v718.toNat]
def k0_mult44 (v719 : BitVec 32) : BitVec 32 :=
  v719

def k0_off173 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off174 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c656_i32 : BitVec 32 := 656#32
  let c0_i32_143 : BitVec 32 := 0#32
  ![v2.toNat, 656, 0]
def k0_off175 (v719 : BitVec 32) : Fin 2 → Nat :=
  let v720 : BitVec 32 := v719
  let c0_i32_144 : BitVec 32 := 0#32
  ![v720.toNat, 0]

def k0_chk43 (v719 : BitVec 32) : Prop :=
  (16 ∣ (k0_mult44 v719).toNat) ∧
  (∀ a, (k0_off175 v719) a + S16x1024.size a ≤ S28672x1024.size a) ∧
  (∀ (hinb : ∀ a, (k0_off175 v719) a + S16x1024.size a ≤ S28672x1024.size a), (Rect.unit (s := S28672x1024) (k0_off175 v719) S16x1024.size hinb).WholeWords (EltTy.packing .bf16))
theorem k0_mult44_dvd : ∀ (v719 : BitVec 32) (k0_hw43 : k0_chk43 v719), 16 ∣ (k0_mult44 v719).toNat := fun v719 k0_hw43 => k0_hw43.1
theorem k0_off175_inb : ∀ (v719 : BitVec 32) (k0_hw43 : k0_chk43 v719), ∀ a, (k0_off175 v719) a + S16x1024.size a ≤ S28672x1024.size a := fun v719 k0_hw43 => k0_hw43.2.1
theorem k0_off175_wordsbf16 : ∀ (v719 : BitVec 32) (k0_hw43 : k0_chk43 v719), (Rect.unit (s := S28672x1024) (k0_off175 v719) S16x1024.size (k0_off175_inb v719 k0_hw43)).WholeWords (EltTy.packing .bf16) := fun v719 k0_hw43 => k0_hw43.2.2 (k0_off175_inb v719 k0_hw43)

def k0_off176 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c42_i32 : BitVec 32 := 42#32
  let v726 : BitVec 32 := Scalar.addi v38 c42_i32
  let v727 : Index := Scalar.indexCast v726
  ![v727.toNat]
def k0_mult45 (v728 : BitVec 32) : BitVec 32 :=
  v728

def k0_off177 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off178 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c672_i32 : BitVec 32 := 672#32
  let c0_i32_145 : BitVec 32 := 0#32
  ![v2.toNat, 672, 0]
def k0_off179 (v728 : BitVec 32) : Fin 2 → Nat :=
  let v729 : BitVec 32 := v728
  let c0_i32_146 : BitVec 32 := 0#32
  ![v729.toNat, 0]

def k0_chk44 (v728 : BitVec 32) : Prop :=
  (16 ∣ (k0_mult45 v728).toNat) ∧
  (∀ a, (k0_off179 v728) a + S16x1024.size a ≤ S28672x1024.size a) ∧
  (∀ (hinb : ∀ a, (k0_off179 v728) a + S16x1024.size a ≤ S28672x1024.size a), (Rect.unit (s := S28672x1024) (k0_off179 v728) S16x1024.size hinb).WholeWords (EltTy.packing .bf16))
theorem k0_mult45_dvd : ∀ (v728 : BitVec 32) (k0_hw44 : k0_chk44 v728), 16 ∣ (k0_mult45 v728).toNat := fun v728 k0_hw44 => k0_hw44.1
theorem k0_off179_inb : ∀ (v728 : BitVec 32) (k0_hw44 : k0_chk44 v728), ∀ a, (k0_off179 v728) a + S16x1024.size a ≤ S28672x1024.size a := fun v728 k0_hw44 => k0_hw44.2.1
theorem k0_off179_wordsbf16 : ∀ (v728 : BitVec 32) (k0_hw44 : k0_chk44 v728), (Rect.unit (s := S28672x1024) (k0_off179 v728) S16x1024.size (k0_off179_inb v728 k0_hw44)).WholeWords (EltTy.packing .bf16) := fun v728 k0_hw44 => k0_hw44.2.2 (k0_off179_inb v728 k0_hw44)

def k0_off180 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c43_i32 : BitVec 32 := 43#32
  let v735 : BitVec 32 := Scalar.addi v38 c43_i32
  let v736 : Index := Scalar.indexCast v735
  ![v736.toNat]
def k0_mult46 (v737 : BitVec 32) : BitVec 32 :=
  v737

def k0_off181 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off182 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c688_i32 : BitVec 32 := 688#32
  let c0_i32_147 : BitVec 32 := 0#32
  ![v2.toNat, 688, 0]
def k0_off183 (v737 : BitVec 32) : Fin 2 → Nat :=
  let v738 : BitVec 32 := v737
  let c0_i32_148 : BitVec 32 := 0#32
  ![v738.toNat, 0]

def k0_chk45 (v737 : BitVec 32) : Prop :=
  (16 ∣ (k0_mult46 v737).toNat) ∧
  (∀ a, (k0_off183 v737) a + S16x1024.size a ≤ S28672x1024.size a) ∧
  (∀ (hinb : ∀ a, (k0_off183 v737) a + S16x1024.size a ≤ S28672x1024.size a), (Rect.unit (s := S28672x1024) (k0_off183 v737) S16x1024.size hinb).WholeWords (EltTy.packing .bf16))
theorem k0_mult46_dvd : ∀ (v737 : BitVec 32) (k0_hw45 : k0_chk45 v737), 16 ∣ (k0_mult46 v737).toNat := fun v737 k0_hw45 => k0_hw45.1
theorem k0_off183_inb : ∀ (v737 : BitVec 32) (k0_hw45 : k0_chk45 v737), ∀ a, (k0_off183 v737) a + S16x1024.size a ≤ S28672x1024.size a := fun v737 k0_hw45 => k0_hw45.2.1
theorem k0_off183_wordsbf16 : ∀ (v737 : BitVec 32) (k0_hw45 : k0_chk45 v737), (Rect.unit (s := S28672x1024) (k0_off183 v737) S16x1024.size (k0_off183_inb v737 k0_hw45)).WholeWords (EltTy.packing .bf16) := fun v737 k0_hw45 => k0_hw45.2.2 (k0_off183_inb v737 k0_hw45)

def k0_off184 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c44_i32 : BitVec 32 := 44#32
  let v744 : BitVec 32 := Scalar.addi v38 c44_i32
  let v745 : Index := Scalar.indexCast v744
  ![v745.toNat]
def k0_mult47 (v746 : BitVec 32) : BitVec 32 :=
  v746

def k0_off185 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off186 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c704_i32 : BitVec 32 := 704#32
  let c0_i32_149 : BitVec 32 := 0#32
  ![v2.toNat, 704, 0]
def k0_off187 (v746 : BitVec 32) : Fin 2 → Nat :=
  let v747 : BitVec 32 := v746
  let c0_i32_150 : BitVec 32 := 0#32
  ![v747.toNat, 0]

def k0_chk46 (v746 : BitVec 32) : Prop :=
  (16 ∣ (k0_mult47 v746).toNat) ∧
  (∀ a, (k0_off187 v746) a + S16x1024.size a ≤ S28672x1024.size a) ∧
  (∀ (hinb : ∀ a, (k0_off187 v746) a + S16x1024.size a ≤ S28672x1024.size a), (Rect.unit (s := S28672x1024) (k0_off187 v746) S16x1024.size hinb).WholeWords (EltTy.packing .bf16))
theorem k0_mult47_dvd : ∀ (v746 : BitVec 32) (k0_hw46 : k0_chk46 v746), 16 ∣ (k0_mult47 v746).toNat := fun v746 k0_hw46 => k0_hw46.1
theorem k0_off187_inb : ∀ (v746 : BitVec 32) (k0_hw46 : k0_chk46 v746), ∀ a, (k0_off187 v746) a + S16x1024.size a ≤ S28672x1024.size a := fun v746 k0_hw46 => k0_hw46.2.1
theorem k0_off187_wordsbf16 : ∀ (v746 : BitVec 32) (k0_hw46 : k0_chk46 v746), (Rect.unit (s := S28672x1024) (k0_off187 v746) S16x1024.size (k0_off187_inb v746 k0_hw46)).WholeWords (EltTy.packing .bf16) := fun v746 k0_hw46 => k0_hw46.2.2 (k0_off187_inb v746 k0_hw46)

def k0_off188 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c45_i32 : BitVec 32 := 45#32
  let v753 : BitVec 32 := Scalar.addi v38 c45_i32
  let v754 : Index := Scalar.indexCast v753
  ![v754.toNat]
def k0_mult48 (v755 : BitVec 32) : BitVec 32 :=
  v755

def k0_off189 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off190 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c720_i32 : BitVec 32 := 720#32
  let c0_i32_151 : BitVec 32 := 0#32
  ![v2.toNat, 720, 0]
def k0_off191 (v755 : BitVec 32) : Fin 2 → Nat :=
  let v756 : BitVec 32 := v755
  let c0_i32_152 : BitVec 32 := 0#32
  ![v756.toNat, 0]

def k0_chk47 (v755 : BitVec 32) : Prop :=
  (16 ∣ (k0_mult48 v755).toNat) ∧
  (∀ a, (k0_off191 v755) a + S16x1024.size a ≤ S28672x1024.size a) ∧
  (∀ (hinb : ∀ a, (k0_off191 v755) a + S16x1024.size a ≤ S28672x1024.size a), (Rect.unit (s := S28672x1024) (k0_off191 v755) S16x1024.size hinb).WholeWords (EltTy.packing .bf16))
theorem k0_mult48_dvd : ∀ (v755 : BitVec 32) (k0_hw47 : k0_chk47 v755), 16 ∣ (k0_mult48 v755).toNat := fun v755 k0_hw47 => k0_hw47.1
theorem k0_off191_inb : ∀ (v755 : BitVec 32) (k0_hw47 : k0_chk47 v755), ∀ a, (k0_off191 v755) a + S16x1024.size a ≤ S28672x1024.size a := fun v755 k0_hw47 => k0_hw47.2.1
theorem k0_off191_wordsbf16 : ∀ (v755 : BitVec 32) (k0_hw47 : k0_chk47 v755), (Rect.unit (s := S28672x1024) (k0_off191 v755) S16x1024.size (k0_off191_inb v755 k0_hw47)).WholeWords (EltTy.packing .bf16) := fun v755 k0_hw47 => k0_hw47.2.2 (k0_off191_inb v755 k0_hw47)

def k0_off192 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c46_i32 : BitVec 32 := 46#32
  let v762 : BitVec 32 := Scalar.addi v38 c46_i32
  let v763 : Index := Scalar.indexCast v762
  ![v763.toNat]
def k0_mult49 (v764 : BitVec 32) : BitVec 32 :=
  v764

def k0_off193 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off194 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c736_i32 : BitVec 32 := 736#32
  let c0_i32_153 : BitVec 32 := 0#32
  ![v2.toNat, 736, 0]
def k0_off195 (v764 : BitVec 32) : Fin 2 → Nat :=
  let v765 : BitVec 32 := v764
  let c0_i32_154 : BitVec 32 := 0#32
  ![v765.toNat, 0]

def k0_chk48 (v764 : BitVec 32) : Prop :=
  (16 ∣ (k0_mult49 v764).toNat) ∧
  (∀ a, (k0_off195 v764) a + S16x1024.size a ≤ S28672x1024.size a) ∧
  (∀ (hinb : ∀ a, (k0_off195 v764) a + S16x1024.size a ≤ S28672x1024.size a), (Rect.unit (s := S28672x1024) (k0_off195 v764) S16x1024.size hinb).WholeWords (EltTy.packing .bf16))
theorem k0_mult49_dvd : ∀ (v764 : BitVec 32) (k0_hw48 : k0_chk48 v764), 16 ∣ (k0_mult49 v764).toNat := fun v764 k0_hw48 => k0_hw48.1
theorem k0_off195_inb : ∀ (v764 : BitVec 32) (k0_hw48 : k0_chk48 v764), ∀ a, (k0_off195 v764) a + S16x1024.size a ≤ S28672x1024.size a := fun v764 k0_hw48 => k0_hw48.2.1
theorem k0_off195_wordsbf16 : ∀ (v764 : BitVec 32) (k0_hw48 : k0_chk48 v764), (Rect.unit (s := S28672x1024) (k0_off195 v764) S16x1024.size (k0_off195_inb v764 k0_hw48)).WholeWords (EltTy.packing .bf16) := fun v764 k0_hw48 => k0_hw48.2.2 (k0_off195_inb v764 k0_hw48)

def k0_off196 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c47_i32 : BitVec 32 := 47#32
  let v771 : BitVec 32 := Scalar.addi v38 c47_i32
  let v772 : Index := Scalar.indexCast v771
  ![v772.toNat]
def k0_mult50 (v773 : BitVec 32) : BitVec 32 :=
  v773

def k0_off197 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off198 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c752_i32 : BitVec 32 := 752#32
  let c0_i32_155 : BitVec 32 := 0#32
  ![v2.toNat, 752, 0]
def k0_off199 (v773 : BitVec 32) : Fin 2 → Nat :=
  let v774 : BitVec 32 := v773
  let c0_i32_156 : BitVec 32 := 0#32
  ![v774.toNat, 0]

def k0_chk49 (v773 : BitVec 32) : Prop :=
  (16 ∣ (k0_mult50 v773).toNat) ∧
  (∀ a, (k0_off199 v773) a + S16x1024.size a ≤ S28672x1024.size a) ∧
  (∀ (hinb : ∀ a, (k0_off199 v773) a + S16x1024.size a ≤ S28672x1024.size a), (Rect.unit (s := S28672x1024) (k0_off199 v773) S16x1024.size hinb).WholeWords (EltTy.packing .bf16))
theorem k0_mult50_dvd : ∀ (v773 : BitVec 32) (k0_hw49 : k0_chk49 v773), 16 ∣ (k0_mult50 v773).toNat := fun v773 k0_hw49 => k0_hw49.1
theorem k0_off199_inb : ∀ (v773 : BitVec 32) (k0_hw49 : k0_chk49 v773), ∀ a, (k0_off199 v773) a + S16x1024.size a ≤ S28672x1024.size a := fun v773 k0_hw49 => k0_hw49.2.1
theorem k0_off199_wordsbf16 : ∀ (v773 : BitVec 32) (k0_hw49 : k0_chk49 v773), (Rect.unit (s := S28672x1024) (k0_off199 v773) S16x1024.size (k0_off199_inb v773 k0_hw49)).WholeWords (EltTy.packing .bf16) := fun v773 k0_hw49 => k0_hw49.2.2 (k0_off199_inb v773 k0_hw49)

def k0_off200 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c48_i32_157 : BitVec 32 := 48#32
  let v780 : BitVec 32 := Scalar.addi v38 c48_i32_157
  let v781 : Index := Scalar.indexCast v780
  ![v781.toNat]
def k0_mult51 (v782 : BitVec 32) : BitVec 32 :=
  v782

def k0_off201 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off202 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c768_i32 : BitVec 32 := 768#32
  let c0_i32_158 : BitVec 32 := 0#32
  ![v2.toNat, 768, 0]
def k0_off203 (v782 : BitVec 32) : Fin 2 → Nat :=
  let v783 : BitVec 32 := v782
  let c0_i32_159 : BitVec 32 := 0#32
  ![v783.toNat, 0]

def k0_chk50 (v782 : BitVec 32) : Prop :=
  (16 ∣ (k0_mult51 v782).toNat) ∧
  (∀ a, (k0_off203 v782) a + S16x1024.size a ≤ S28672x1024.size a) ∧
  (∀ (hinb : ∀ a, (k0_off203 v782) a + S16x1024.size a ≤ S28672x1024.size a), (Rect.unit (s := S28672x1024) (k0_off203 v782) S16x1024.size hinb).WholeWords (EltTy.packing .bf16))
theorem k0_mult51_dvd : ∀ (v782 : BitVec 32) (k0_hw50 : k0_chk50 v782), 16 ∣ (k0_mult51 v782).toNat := fun v782 k0_hw50 => k0_hw50.1
theorem k0_off203_inb : ∀ (v782 : BitVec 32) (k0_hw50 : k0_chk50 v782), ∀ a, (k0_off203 v782) a + S16x1024.size a ≤ S28672x1024.size a := fun v782 k0_hw50 => k0_hw50.2.1
theorem k0_off203_wordsbf16 : ∀ (v782 : BitVec 32) (k0_hw50 : k0_chk50 v782), (Rect.unit (s := S28672x1024) (k0_off203 v782) S16x1024.size (k0_off203_inb v782 k0_hw50)).WholeWords (EltTy.packing .bf16) := fun v782 k0_hw50 => k0_hw50.2.2 (k0_off203_inb v782 k0_hw50)

def k0_off204 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c49_i32 : BitVec 32 := 49#32
  let v789 : BitVec 32 := Scalar.addi v38 c49_i32
  let v790 : Index := Scalar.indexCast v789
  ![v790.toNat]
def k0_mult52 (v791 : BitVec 32) : BitVec 32 :=
  v791

def k0_off205 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off206 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c784_i32 : BitVec 32 := 784#32
  let c0_i32_160 : BitVec 32 := 0#32
  ![v2.toNat, 784, 0]
def k0_off207 (v791 : BitVec 32) : Fin 2 → Nat :=
  let v792 : BitVec 32 := v791
  let c0_i32_161 : BitVec 32 := 0#32
  ![v792.toNat, 0]

def k0_chk51 (v791 : BitVec 32) : Prop :=
  (16 ∣ (k0_mult52 v791).toNat) ∧
  (∀ a, (k0_off207 v791) a + S16x1024.size a ≤ S28672x1024.size a) ∧
  (∀ (hinb : ∀ a, (k0_off207 v791) a + S16x1024.size a ≤ S28672x1024.size a), (Rect.unit (s := S28672x1024) (k0_off207 v791) S16x1024.size hinb).WholeWords (EltTy.packing .bf16))
theorem k0_mult52_dvd : ∀ (v791 : BitVec 32) (k0_hw51 : k0_chk51 v791), 16 ∣ (k0_mult52 v791).toNat := fun v791 k0_hw51 => k0_hw51.1
theorem k0_off207_inb : ∀ (v791 : BitVec 32) (k0_hw51 : k0_chk51 v791), ∀ a, (k0_off207 v791) a + S16x1024.size a ≤ S28672x1024.size a := fun v791 k0_hw51 => k0_hw51.2.1
theorem k0_off207_wordsbf16 : ∀ (v791 : BitVec 32) (k0_hw51 : k0_chk51 v791), (Rect.unit (s := S28672x1024) (k0_off207 v791) S16x1024.size (k0_off207_inb v791 k0_hw51)).WholeWords (EltTy.packing .bf16) := fun v791 k0_hw51 => k0_hw51.2.2 (k0_off207_inb v791 k0_hw51)

def k0_off208 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c50_i32 : BitVec 32 := 50#32
  let v798 : BitVec 32 := Scalar.addi v38 c50_i32
  let v799 : Index := Scalar.indexCast v798
  ![v799.toNat]
def k0_mult53 (v800 : BitVec 32) : BitVec 32 :=
  v800

def k0_off209 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off210 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c800_i32 : BitVec 32 := 800#32
  let c0_i32_162 : BitVec 32 := 0#32
  ![v2.toNat, 800, 0]
def k0_off211 (v800 : BitVec 32) : Fin 2 → Nat :=
  let v801 : BitVec 32 := v800
  let c0_i32_163 : BitVec 32 := 0#32
  ![v801.toNat, 0]

def k0_chk52 (v800 : BitVec 32) : Prop :=
  (16 ∣ (k0_mult53 v800).toNat) ∧
  (∀ a, (k0_off211 v800) a + S16x1024.size a ≤ S28672x1024.size a) ∧
  (∀ (hinb : ∀ a, (k0_off211 v800) a + S16x1024.size a ≤ S28672x1024.size a), (Rect.unit (s := S28672x1024) (k0_off211 v800) S16x1024.size hinb).WholeWords (EltTy.packing .bf16))
theorem k0_mult53_dvd : ∀ (v800 : BitVec 32) (k0_hw52 : k0_chk52 v800), 16 ∣ (k0_mult53 v800).toNat := fun v800 k0_hw52 => k0_hw52.1
theorem k0_off211_inb : ∀ (v800 : BitVec 32) (k0_hw52 : k0_chk52 v800), ∀ a, (k0_off211 v800) a + S16x1024.size a ≤ S28672x1024.size a := fun v800 k0_hw52 => k0_hw52.2.1
theorem k0_off211_wordsbf16 : ∀ (v800 : BitVec 32) (k0_hw52 : k0_chk52 v800), (Rect.unit (s := S28672x1024) (k0_off211 v800) S16x1024.size (k0_off211_inb v800 k0_hw52)).WholeWords (EltTy.packing .bf16) := fun v800 k0_hw52 => k0_hw52.2.2 (k0_off211_inb v800 k0_hw52)

def k0_off212 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c51_i32 : BitVec 32 := 51#32
  let v807 : BitVec 32 := Scalar.addi v38 c51_i32
  let v808 : Index := Scalar.indexCast v807
  ![v808.toNat]
def k0_mult54 (v809 : BitVec 32) : BitVec 32 :=
  v809

def k0_off213 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off214 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c816_i32 : BitVec 32 := 816#32
  let c0_i32_164 : BitVec 32 := 0#32
  ![v2.toNat, 816, 0]
def k0_off215 (v809 : BitVec 32) : Fin 2 → Nat :=
  let v810 : BitVec 32 := v809
  let c0_i32_165 : BitVec 32 := 0#32
  ![v810.toNat, 0]

def k0_chk53 (v809 : BitVec 32) : Prop :=
  (16 ∣ (k0_mult54 v809).toNat) ∧
  (∀ a, (k0_off215 v809) a + S16x1024.size a ≤ S28672x1024.size a) ∧
  (∀ (hinb : ∀ a, (k0_off215 v809) a + S16x1024.size a ≤ S28672x1024.size a), (Rect.unit (s := S28672x1024) (k0_off215 v809) S16x1024.size hinb).WholeWords (EltTy.packing .bf16))
theorem k0_mult54_dvd : ∀ (v809 : BitVec 32) (k0_hw53 : k0_chk53 v809), 16 ∣ (k0_mult54 v809).toNat := fun v809 k0_hw53 => k0_hw53.1
theorem k0_off215_inb : ∀ (v809 : BitVec 32) (k0_hw53 : k0_chk53 v809), ∀ a, (k0_off215 v809) a + S16x1024.size a ≤ S28672x1024.size a := fun v809 k0_hw53 => k0_hw53.2.1
theorem k0_off215_wordsbf16 : ∀ (v809 : BitVec 32) (k0_hw53 : k0_chk53 v809), (Rect.unit (s := S28672x1024) (k0_off215 v809) S16x1024.size (k0_off215_inb v809 k0_hw53)).WholeWords (EltTy.packing .bf16) := fun v809 k0_hw53 => k0_hw53.2.2 (k0_off215_inb v809 k0_hw53)

def k0_off216 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c52_i32 : BitVec 32 := 52#32
  let v816 : BitVec 32 := Scalar.addi v38 c52_i32
  let v817 : Index := Scalar.indexCast v816
  ![v817.toNat]
def k0_mult55 (v818 : BitVec 32) : BitVec 32 :=
  v818

def k0_off217 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off218 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c832_i32 : BitVec 32 := 832#32
  let c0_i32_166 : BitVec 32 := 0#32
  ![v2.toNat, 832, 0]
def k0_off219 (v818 : BitVec 32) : Fin 2 → Nat :=
  let v819 : BitVec 32 := v818
  let c0_i32_167 : BitVec 32 := 0#32
  ![v819.toNat, 0]

def k0_chk54 (v818 : BitVec 32) : Prop :=
  (16 ∣ (k0_mult55 v818).toNat) ∧
  (∀ a, (k0_off219 v818) a + S16x1024.size a ≤ S28672x1024.size a) ∧
  (∀ (hinb : ∀ a, (k0_off219 v818) a + S16x1024.size a ≤ S28672x1024.size a), (Rect.unit (s := S28672x1024) (k0_off219 v818) S16x1024.size hinb).WholeWords (EltTy.packing .bf16))
theorem k0_mult55_dvd : ∀ (v818 : BitVec 32) (k0_hw54 : k0_chk54 v818), 16 ∣ (k0_mult55 v818).toNat := fun v818 k0_hw54 => k0_hw54.1
theorem k0_off219_inb : ∀ (v818 : BitVec 32) (k0_hw54 : k0_chk54 v818), ∀ a, (k0_off219 v818) a + S16x1024.size a ≤ S28672x1024.size a := fun v818 k0_hw54 => k0_hw54.2.1
theorem k0_off219_wordsbf16 : ∀ (v818 : BitVec 32) (k0_hw54 : k0_chk54 v818), (Rect.unit (s := S28672x1024) (k0_off219 v818) S16x1024.size (k0_off219_inb v818 k0_hw54)).WholeWords (EltTy.packing .bf16) := fun v818 k0_hw54 => k0_hw54.2.2 (k0_off219_inb v818 k0_hw54)

def k0_off220 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c53_i32 : BitVec 32 := 53#32
  let v825 : BitVec 32 := Scalar.addi v38 c53_i32
  let v826 : Index := Scalar.indexCast v825
  ![v826.toNat]
def k0_mult56 (v827 : BitVec 32) : BitVec 32 :=
  v827

def k0_off221 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off222 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c848_i32 : BitVec 32 := 848#32
  let c0_i32_168 : BitVec 32 := 0#32
  ![v2.toNat, 848, 0]
def k0_off223 (v827 : BitVec 32) : Fin 2 → Nat :=
  let v828 : BitVec 32 := v827
  let c0_i32_169 : BitVec 32 := 0#32
  ![v828.toNat, 0]

def k0_chk55 (v827 : BitVec 32) : Prop :=
  (16 ∣ (k0_mult56 v827).toNat) ∧
  (∀ a, (k0_off223 v827) a + S16x1024.size a ≤ S28672x1024.size a) ∧
  (∀ (hinb : ∀ a, (k0_off223 v827) a + S16x1024.size a ≤ S28672x1024.size a), (Rect.unit (s := S28672x1024) (k0_off223 v827) S16x1024.size hinb).WholeWords (EltTy.packing .bf16))
theorem k0_mult56_dvd : ∀ (v827 : BitVec 32) (k0_hw55 : k0_chk55 v827), 16 ∣ (k0_mult56 v827).toNat := fun v827 k0_hw55 => k0_hw55.1
theorem k0_off223_inb : ∀ (v827 : BitVec 32) (k0_hw55 : k0_chk55 v827), ∀ a, (k0_off223 v827) a + S16x1024.size a ≤ S28672x1024.size a := fun v827 k0_hw55 => k0_hw55.2.1
theorem k0_off223_wordsbf16 : ∀ (v827 : BitVec 32) (k0_hw55 : k0_chk55 v827), (Rect.unit (s := S28672x1024) (k0_off223 v827) S16x1024.size (k0_off223_inb v827 k0_hw55)).WholeWords (EltTy.packing .bf16) := fun v827 k0_hw55 => k0_hw55.2.2 (k0_off223_inb v827 k0_hw55)

def k0_off224 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c54_i32 : BitVec 32 := 54#32
  let v834 : BitVec 32 := Scalar.addi v38 c54_i32
  let v835 : Index := Scalar.indexCast v834
  ![v835.toNat]
def k0_mult57 (v836 : BitVec 32) : BitVec 32 :=
  v836

def k0_off225 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off226 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c864_i32 : BitVec 32 := 864#32
  let c0_i32_170 : BitVec 32 := 0#32
  ![v2.toNat, 864, 0]
def k0_off227 (v836 : BitVec 32) : Fin 2 → Nat :=
  let v837 : BitVec 32 := v836
  let c0_i32_171 : BitVec 32 := 0#32
  ![v837.toNat, 0]

def k0_chk56 (v836 : BitVec 32) : Prop :=
  (16 ∣ (k0_mult57 v836).toNat) ∧
  (∀ a, (k0_off227 v836) a + S16x1024.size a ≤ S28672x1024.size a) ∧
  (∀ (hinb : ∀ a, (k0_off227 v836) a + S16x1024.size a ≤ S28672x1024.size a), (Rect.unit (s := S28672x1024) (k0_off227 v836) S16x1024.size hinb).WholeWords (EltTy.packing .bf16))
theorem k0_mult57_dvd : ∀ (v836 : BitVec 32) (k0_hw56 : k0_chk56 v836), 16 ∣ (k0_mult57 v836).toNat := fun v836 k0_hw56 => k0_hw56.1
theorem k0_off227_inb : ∀ (v836 : BitVec 32) (k0_hw56 : k0_chk56 v836), ∀ a, (k0_off227 v836) a + S16x1024.size a ≤ S28672x1024.size a := fun v836 k0_hw56 => k0_hw56.2.1
theorem k0_off227_wordsbf16 : ∀ (v836 : BitVec 32) (k0_hw56 : k0_chk56 v836), (Rect.unit (s := S28672x1024) (k0_off227 v836) S16x1024.size (k0_off227_inb v836 k0_hw56)).WholeWords (EltTy.packing .bf16) := fun v836 k0_hw56 => k0_hw56.2.2 (k0_off227_inb v836 k0_hw56)

def k0_off228 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c55_i32 : BitVec 32 := 55#32
  let v843 : BitVec 32 := Scalar.addi v38 c55_i32
  let v844 : Index := Scalar.indexCast v843
  ![v844.toNat]
def k0_mult58 (v845 : BitVec 32) : BitVec 32 :=
  v845

def k0_off229 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off230 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c880_i32 : BitVec 32 := 880#32
  let c0_i32_172 : BitVec 32 := 0#32
  ![v2.toNat, 880, 0]
def k0_off231 (v845 : BitVec 32) : Fin 2 → Nat :=
  let v846 : BitVec 32 := v845
  let c0_i32_173 : BitVec 32 := 0#32
  ![v846.toNat, 0]

def k0_chk57 (v845 : BitVec 32) : Prop :=
  (16 ∣ (k0_mult58 v845).toNat) ∧
  (∀ a, (k0_off231 v845) a + S16x1024.size a ≤ S28672x1024.size a) ∧
  (∀ (hinb : ∀ a, (k0_off231 v845) a + S16x1024.size a ≤ S28672x1024.size a), (Rect.unit (s := S28672x1024) (k0_off231 v845) S16x1024.size hinb).WholeWords (EltTy.packing .bf16))
theorem k0_mult58_dvd : ∀ (v845 : BitVec 32) (k0_hw57 : k0_chk57 v845), 16 ∣ (k0_mult58 v845).toNat := fun v845 k0_hw57 => k0_hw57.1
theorem k0_off231_inb : ∀ (v845 : BitVec 32) (k0_hw57 : k0_chk57 v845), ∀ a, (k0_off231 v845) a + S16x1024.size a ≤ S28672x1024.size a := fun v845 k0_hw57 => k0_hw57.2.1
theorem k0_off231_wordsbf16 : ∀ (v845 : BitVec 32) (k0_hw57 : k0_chk57 v845), (Rect.unit (s := S28672x1024) (k0_off231 v845) S16x1024.size (k0_off231_inb v845 k0_hw57)).WholeWords (EltTy.packing .bf16) := fun v845 k0_hw57 => k0_hw57.2.2 (k0_off231_inb v845 k0_hw57)

def k0_off232 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c56_i32 : BitVec 32 := 56#32
  let v852 : BitVec 32 := Scalar.addi v38 c56_i32
  let v853 : Index := Scalar.indexCast v852
  ![v853.toNat]
def k0_mult59 (v854 : BitVec 32) : BitVec 32 :=
  v854

def k0_off233 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off234 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c896_i32 : BitVec 32 := 896#32
  let c0_i32_174 : BitVec 32 := 0#32
  ![v2.toNat, 896, 0]
def k0_off235 (v854 : BitVec 32) : Fin 2 → Nat :=
  let v855 : BitVec 32 := v854
  let c0_i32_175 : BitVec 32 := 0#32
  ![v855.toNat, 0]

def k0_chk58 (v854 : BitVec 32) : Prop :=
  (16 ∣ (k0_mult59 v854).toNat) ∧
  (∀ a, (k0_off235 v854) a + S16x1024.size a ≤ S28672x1024.size a) ∧
  (∀ (hinb : ∀ a, (k0_off235 v854) a + S16x1024.size a ≤ S28672x1024.size a), (Rect.unit (s := S28672x1024) (k0_off235 v854) S16x1024.size hinb).WholeWords (EltTy.packing .bf16))
theorem k0_mult59_dvd : ∀ (v854 : BitVec 32) (k0_hw58 : k0_chk58 v854), 16 ∣ (k0_mult59 v854).toNat := fun v854 k0_hw58 => k0_hw58.1
theorem k0_off235_inb : ∀ (v854 : BitVec 32) (k0_hw58 : k0_chk58 v854), ∀ a, (k0_off235 v854) a + S16x1024.size a ≤ S28672x1024.size a := fun v854 k0_hw58 => k0_hw58.2.1
theorem k0_off235_wordsbf16 : ∀ (v854 : BitVec 32) (k0_hw58 : k0_chk58 v854), (Rect.unit (s := S28672x1024) (k0_off235 v854) S16x1024.size (k0_off235_inb v854 k0_hw58)).WholeWords (EltTy.packing .bf16) := fun v854 k0_hw58 => k0_hw58.2.2 (k0_off235_inb v854 k0_hw58)

def k0_off236 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c57_i32 : BitVec 32 := 57#32
  let v861 : BitVec 32 := Scalar.addi v38 c57_i32
  let v862 : Index := Scalar.indexCast v861
  ![v862.toNat]
def k0_mult60 (v863 : BitVec 32) : BitVec 32 :=
  v863

def k0_off237 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off238 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c912_i32 : BitVec 32 := 912#32
  let c0_i32_176 : BitVec 32 := 0#32
  ![v2.toNat, 912, 0]
def k0_off239 (v863 : BitVec 32) : Fin 2 → Nat :=
  let v864 : BitVec 32 := v863
  let c0_i32_177 : BitVec 32 := 0#32
  ![v864.toNat, 0]

def k0_chk59 (v863 : BitVec 32) : Prop :=
  (16 ∣ (k0_mult60 v863).toNat) ∧
  (∀ a, (k0_off239 v863) a + S16x1024.size a ≤ S28672x1024.size a) ∧
  (∀ (hinb : ∀ a, (k0_off239 v863) a + S16x1024.size a ≤ S28672x1024.size a), (Rect.unit (s := S28672x1024) (k0_off239 v863) S16x1024.size hinb).WholeWords (EltTy.packing .bf16))
theorem k0_mult60_dvd : ∀ (v863 : BitVec 32) (k0_hw59 : k0_chk59 v863), 16 ∣ (k0_mult60 v863).toNat := fun v863 k0_hw59 => k0_hw59.1
theorem k0_off239_inb : ∀ (v863 : BitVec 32) (k0_hw59 : k0_chk59 v863), ∀ a, (k0_off239 v863) a + S16x1024.size a ≤ S28672x1024.size a := fun v863 k0_hw59 => k0_hw59.2.1
theorem k0_off239_wordsbf16 : ∀ (v863 : BitVec 32) (k0_hw59 : k0_chk59 v863), (Rect.unit (s := S28672x1024) (k0_off239 v863) S16x1024.size (k0_off239_inb v863 k0_hw59)).WholeWords (EltTy.packing .bf16) := fun v863 k0_hw59 => k0_hw59.2.2 (k0_off239_inb v863 k0_hw59)

def k0_off240 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c58_i32 : BitVec 32 := 58#32
  let v870 : BitVec 32 := Scalar.addi v38 c58_i32
  let v871 : Index := Scalar.indexCast v870
  ![v871.toNat]
def k0_mult61 (v872 : BitVec 32) : BitVec 32 :=
  v872

def k0_off241 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off242 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c928_i32 : BitVec 32 := 928#32
  let c0_i32_178 : BitVec 32 := 0#32
  ![v2.toNat, 928, 0]
def k0_off243 (v872 : BitVec 32) : Fin 2 → Nat :=
  let v873 : BitVec 32 := v872
  let c0_i32_179 : BitVec 32 := 0#32
  ![v873.toNat, 0]

def k0_chk60 (v872 : BitVec 32) : Prop :=
  (16 ∣ (k0_mult61 v872).toNat) ∧
  (∀ a, (k0_off243 v872) a + S16x1024.size a ≤ S28672x1024.size a) ∧
  (∀ (hinb : ∀ a, (k0_off243 v872) a + S16x1024.size a ≤ S28672x1024.size a), (Rect.unit (s := S28672x1024) (k0_off243 v872) S16x1024.size hinb).WholeWords (EltTy.packing .bf16))
theorem k0_mult61_dvd : ∀ (v872 : BitVec 32) (k0_hw60 : k0_chk60 v872), 16 ∣ (k0_mult61 v872).toNat := fun v872 k0_hw60 => k0_hw60.1
theorem k0_off243_inb : ∀ (v872 : BitVec 32) (k0_hw60 : k0_chk60 v872), ∀ a, (k0_off243 v872) a + S16x1024.size a ≤ S28672x1024.size a := fun v872 k0_hw60 => k0_hw60.2.1
theorem k0_off243_wordsbf16 : ∀ (v872 : BitVec 32) (k0_hw60 : k0_chk60 v872), (Rect.unit (s := S28672x1024) (k0_off243 v872) S16x1024.size (k0_off243_inb v872 k0_hw60)).WholeWords (EltTy.packing .bf16) := fun v872 k0_hw60 => k0_hw60.2.2 (k0_off243_inb v872 k0_hw60)

def k0_off244 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c59_i32 : BitVec 32 := 59#32
  let v879 : BitVec 32 := Scalar.addi v38 c59_i32
  let v880 : Index := Scalar.indexCast v879
  ![v880.toNat]
def k0_mult62 (v881 : BitVec 32) : BitVec 32 :=
  v881

def k0_off245 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off246 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c944_i32 : BitVec 32 := 944#32
  let c0_i32_180 : BitVec 32 := 0#32
  ![v2.toNat, 944, 0]
def k0_off247 (v881 : BitVec 32) : Fin 2 → Nat :=
  let v882 : BitVec 32 := v881
  let c0_i32_181 : BitVec 32 := 0#32
  ![v882.toNat, 0]

def k0_chk61 (v881 : BitVec 32) : Prop :=
  (16 ∣ (k0_mult62 v881).toNat) ∧
  (∀ a, (k0_off247 v881) a + S16x1024.size a ≤ S28672x1024.size a) ∧
  (∀ (hinb : ∀ a, (k0_off247 v881) a + S16x1024.size a ≤ S28672x1024.size a), (Rect.unit (s := S28672x1024) (k0_off247 v881) S16x1024.size hinb).WholeWords (EltTy.packing .bf16))
theorem k0_mult62_dvd : ∀ (v881 : BitVec 32) (k0_hw61 : k0_chk61 v881), 16 ∣ (k0_mult62 v881).toNat := fun v881 k0_hw61 => k0_hw61.1
theorem k0_off247_inb : ∀ (v881 : BitVec 32) (k0_hw61 : k0_chk61 v881), ∀ a, (k0_off247 v881) a + S16x1024.size a ≤ S28672x1024.size a := fun v881 k0_hw61 => k0_hw61.2.1
theorem k0_off247_wordsbf16 : ∀ (v881 : BitVec 32) (k0_hw61 : k0_chk61 v881), (Rect.unit (s := S28672x1024) (k0_off247 v881) S16x1024.size (k0_off247_inb v881 k0_hw61)).WholeWords (EltTy.packing .bf16) := fun v881 k0_hw61 => k0_hw61.2.2 (k0_off247_inb v881 k0_hw61)

def k0_off248 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c60_i32 : BitVec 32 := 60#32
  let v888 : BitVec 32 := Scalar.addi v38 c60_i32
  let v889 : Index := Scalar.indexCast v888
  ![v889.toNat]
def k0_mult63 (v890 : BitVec 32) : BitVec 32 :=
  v890

def k0_off249 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off250 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c960_i32 : BitVec 32 := 960#32
  let c0_i32_182 : BitVec 32 := 0#32
  ![v2.toNat, 960, 0]
def k0_off251 (v890 : BitVec 32) : Fin 2 → Nat :=
  let v891 : BitVec 32 := v890
  let c0_i32_183 : BitVec 32 := 0#32
  ![v891.toNat, 0]

def k0_chk62 (v890 : BitVec 32) : Prop :=
  (16 ∣ (k0_mult63 v890).toNat) ∧
  (∀ a, (k0_off251 v890) a + S16x1024.size a ≤ S28672x1024.size a) ∧
  (∀ (hinb : ∀ a, (k0_off251 v890) a + S16x1024.size a ≤ S28672x1024.size a), (Rect.unit (s := S28672x1024) (k0_off251 v890) S16x1024.size hinb).WholeWords (EltTy.packing .bf16))
theorem k0_mult63_dvd : ∀ (v890 : BitVec 32) (k0_hw62 : k0_chk62 v890), 16 ∣ (k0_mult63 v890).toNat := fun v890 k0_hw62 => k0_hw62.1
theorem k0_off251_inb : ∀ (v890 : BitVec 32) (k0_hw62 : k0_chk62 v890), ∀ a, (k0_off251 v890) a + S16x1024.size a ≤ S28672x1024.size a := fun v890 k0_hw62 => k0_hw62.2.1
theorem k0_off251_wordsbf16 : ∀ (v890 : BitVec 32) (k0_hw62 : k0_chk62 v890), (Rect.unit (s := S28672x1024) (k0_off251 v890) S16x1024.size (k0_off251_inb v890 k0_hw62)).WholeWords (EltTy.packing .bf16) := fun v890 k0_hw62 => k0_hw62.2.2 (k0_off251_inb v890 k0_hw62)

def k0_off252 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c61_i32 : BitVec 32 := 61#32
  let v897 : BitVec 32 := Scalar.addi v38 c61_i32
  let v898 : Index := Scalar.indexCast v897
  ![v898.toNat]
def k0_mult64 (v899 : BitVec 32) : BitVec 32 :=
  v899

def k0_off253 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off254 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c976_i32 : BitVec 32 := 976#32
  let c0_i32_184 : BitVec 32 := 0#32
  ![v2.toNat, 976, 0]
def k0_off255 (v899 : BitVec 32) : Fin 2 → Nat :=
  let v900 : BitVec 32 := v899
  let c0_i32_185 : BitVec 32 := 0#32
  ![v900.toNat, 0]

def k0_chk63 (v899 : BitVec 32) : Prop :=
  (16 ∣ (k0_mult64 v899).toNat) ∧
  (∀ a, (k0_off255 v899) a + S16x1024.size a ≤ S28672x1024.size a) ∧
  (∀ (hinb : ∀ a, (k0_off255 v899) a + S16x1024.size a ≤ S28672x1024.size a), (Rect.unit (s := S28672x1024) (k0_off255 v899) S16x1024.size hinb).WholeWords (EltTy.packing .bf16))
theorem k0_mult64_dvd : ∀ (v899 : BitVec 32) (k0_hw63 : k0_chk63 v899), 16 ∣ (k0_mult64 v899).toNat := fun v899 k0_hw63 => k0_hw63.1
theorem k0_off255_inb : ∀ (v899 : BitVec 32) (k0_hw63 : k0_chk63 v899), ∀ a, (k0_off255 v899) a + S16x1024.size a ≤ S28672x1024.size a := fun v899 k0_hw63 => k0_hw63.2.1
theorem k0_off255_wordsbf16 : ∀ (v899 : BitVec 32) (k0_hw63 : k0_chk63 v899), (Rect.unit (s := S28672x1024) (k0_off255 v899) S16x1024.size (k0_off255_inb v899 k0_hw63)).WholeWords (EltTy.packing .bf16) := fun v899 k0_hw63 => k0_hw63.2.2 (k0_off255_inb v899 k0_hw63)

def k0_off256 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c62_i32 : BitVec 32 := 62#32
  let v906 : BitVec 32 := Scalar.addi v38 c62_i32
  let v907 : Index := Scalar.indexCast v906
  ![v907.toNat]
def k0_mult65 (v908 : BitVec 32) : BitVec 32 :=
  v908

def k0_off257 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off258 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c992_i32 : BitVec 32 := 992#32
  let c0_i32_186 : BitVec 32 := 0#32
  ![v2.toNat, 992, 0]
def k0_off259 (v908 : BitVec 32) : Fin 2 → Nat :=
  let v909 : BitVec 32 := v908
  let c0_i32_187 : BitVec 32 := 0#32
  ![v909.toNat, 0]

def k0_chk64 (v908 : BitVec 32) : Prop :=
  (16 ∣ (k0_mult65 v908).toNat) ∧
  (∀ a, (k0_off259 v908) a + S16x1024.size a ≤ S28672x1024.size a) ∧
  (∀ (hinb : ∀ a, (k0_off259 v908) a + S16x1024.size a ≤ S28672x1024.size a), (Rect.unit (s := S28672x1024) (k0_off259 v908) S16x1024.size hinb).WholeWords (EltTy.packing .bf16))
theorem k0_mult65_dvd : ∀ (v908 : BitVec 32) (k0_hw64 : k0_chk64 v908), 16 ∣ (k0_mult65 v908).toNat := fun v908 k0_hw64 => k0_hw64.1
theorem k0_off259_inb : ∀ (v908 : BitVec 32) (k0_hw64 : k0_chk64 v908), ∀ a, (k0_off259 v908) a + S16x1024.size a ≤ S28672x1024.size a := fun v908 k0_hw64 => k0_hw64.2.1
theorem k0_off259_wordsbf16 : ∀ (v908 : BitVec 32) (k0_hw64 : k0_chk64 v908), (Rect.unit (s := S28672x1024) (k0_off259 v908) S16x1024.size (k0_off259_inb v908 k0_hw64)).WholeWords (EltTy.packing .bf16) := fun v908 k0_hw64 => k0_hw64.2.2 (k0_off259_inb v908 k0_hw64)

def k0_off260 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c63_i32 : BitVec 32 := 63#32
  let v915 : BitVec 32 := Scalar.addi v38 c63_i32
  let v916 : Index := Scalar.indexCast v915
  ![v916.toNat]
def k0_mult66 (v917 : BitVec 32) : BitVec 32 :=
  v917

def k0_off261 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off262 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1008_i32 : BitVec 32 := 1008#32
  let c0_i32_188 : BitVec 32 := 0#32
  ![v2.toNat, 1008, 0]
def k0_off263 (v917 : BitVec 32) : Fin 2 → Nat :=
  let v918 : BitVec 32 := v917
  let c0_i32_189 : BitVec 32 := 0#32
  ![v918.toNat, 0]

def k0_chk65 (v917 : BitVec 32) : Prop :=
  (16 ∣ (k0_mult66 v917).toNat) ∧
  (∀ a, (k0_off263 v917) a + S16x1024.size a ≤ S28672x1024.size a) ∧
  (∀ (hinb : ∀ a, (k0_off263 v917) a + S16x1024.size a ≤ S28672x1024.size a), (Rect.unit (s := S28672x1024) (k0_off263 v917) S16x1024.size hinb).WholeWords (EltTy.packing .bf16))
theorem k0_mult66_dvd : ∀ (v917 : BitVec 32) (k0_hw65 : k0_chk65 v917), 16 ∣ (k0_mult66 v917).toNat := fun v917 k0_hw65 => k0_hw65.1
theorem k0_off263_inb : ∀ (v917 : BitVec 32) (k0_hw65 : k0_chk65 v917), ∀ a, (k0_off263 v917) a + S16x1024.size a ≤ S28672x1024.size a := fun v917 k0_hw65 => k0_hw65.2.1
theorem k0_off263_wordsbf16 : ∀ (v917 : BitVec 32) (k0_hw65 : k0_chk65 v917), (Rect.unit (s := S28672x1024) (k0_off263 v917) S16x1024.size (k0_off263_inb v917 k0_hw65)).WholeWords (EltTy.packing .bf16) := fun v917 k0_hw65 => k0_hw65.2.2 (k0_off263_inb v917 k0_hw65)

def k0_off264 (i : grid0.Coords) : Fin 3 → Nat :=
  let arg0 : BitVec 32 := BitVec.ofNat 32 (i 0).val
  let c3_i32 : BitVec 32 := 3#32
  let v0 : BitVec 32 := Scalar.remsi arg0 c3_i32
  let v1229 : Index := Scalar.indexCast v0
  let c1024 : Index := 1024#32
  let c0_226 : Index := 0#32
  ![v1229.toNat, 1024, 0]
def k0_off265 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c64_i32_228 : BitVec 32 := 64#32
  let v1234 : BitVec 32 := Scalar.addi v38 c64_i32_228
  let v1235 : Index := Scalar.indexCast v1234
  ![v1235.toNat]
def k0_mult67 (v1236 : BitVec 32) : BitVec 32 :=
  v1236

def k0_off266 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off267 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1024_i32 : BitVec 32 := 1024#32
  let c0_i32_229 : BitVec 32 := 0#32
  ![v2.toNat, 1024, 0]
def k0_off268 (v1236 : BitVec 32) : Fin 2 → Nat :=
  let v1237 : BitVec 32 := v1236
  let c0_i32_230 : BitVec 32 := 0#32
  ![v1237.toNat, 0]

def k0_chk66 (v1236 : BitVec 32) : Prop :=
  (16 ∣ (k0_mult67 v1236).toNat) ∧
  (∀ a, (k0_off268 v1236) a + S16x1024.size a ≤ S28672x1024.size a) ∧
  (∀ (hinb : ∀ a, (k0_off268 v1236) a + S16x1024.size a ≤ S28672x1024.size a), (Rect.unit (s := S28672x1024) (k0_off268 v1236) S16x1024.size hinb).WholeWords (EltTy.packing .bf16))
theorem k0_mult67_dvd : ∀ (v1236 : BitVec 32) (k0_hw66 : k0_chk66 v1236), 16 ∣ (k0_mult67 v1236).toNat := fun v1236 k0_hw66 => k0_hw66.1
theorem k0_off268_inb : ∀ (v1236 : BitVec 32) (k0_hw66 : k0_chk66 v1236), ∀ a, (k0_off268 v1236) a + S16x1024.size a ≤ S28672x1024.size a := fun v1236 k0_hw66 => k0_hw66.2.1
theorem k0_off268_wordsbf16 : ∀ (v1236 : BitVec 32) (k0_hw66 : k0_chk66 v1236), (Rect.unit (s := S28672x1024) (k0_off268 v1236) S16x1024.size (k0_off268_inb v1236 k0_hw66)).WholeWords (EltTy.packing .bf16) := fun v1236 k0_hw66 => k0_hw66.2.2 (k0_off268_inb v1236 k0_hw66)

def k0_off269 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c65_i32 : BitVec 32 := 65#32
  let v1243 : BitVec 32 := Scalar.addi v38 c65_i32
  let v1244 : Index := Scalar.indexCast v1243
  ![v1244.toNat]
def k0_mult68 (v1245 : BitVec 32) : BitVec 32 :=
  v1245

def k0_off270 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off271 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1040_i32 : BitVec 32 := 1040#32
  let c0_i32_231 : BitVec 32 := 0#32
  ![v2.toNat, 1040, 0]
def k0_off272 (v1245 : BitVec 32) : Fin 2 → Nat :=
  let v1246 : BitVec 32 := v1245
  let c0_i32_232 : BitVec 32 := 0#32
  ![v1246.toNat, 0]

def k0_chk67 (v1245 : BitVec 32) : Prop :=
  (16 ∣ (k0_mult68 v1245).toNat) ∧
  (∀ a, (k0_off272 v1245) a + S16x1024.size a ≤ S28672x1024.size a) ∧
  (∀ (hinb : ∀ a, (k0_off272 v1245) a + S16x1024.size a ≤ S28672x1024.size a), (Rect.unit (s := S28672x1024) (k0_off272 v1245) S16x1024.size hinb).WholeWords (EltTy.packing .bf16))
theorem k0_mult68_dvd : ∀ (v1245 : BitVec 32) (k0_hw67 : k0_chk67 v1245), 16 ∣ (k0_mult68 v1245).toNat := fun v1245 k0_hw67 => k0_hw67.1
theorem k0_off272_inb : ∀ (v1245 : BitVec 32) (k0_hw67 : k0_chk67 v1245), ∀ a, (k0_off272 v1245) a + S16x1024.size a ≤ S28672x1024.size a := fun v1245 k0_hw67 => k0_hw67.2.1
theorem k0_off272_wordsbf16 : ∀ (v1245 : BitVec 32) (k0_hw67 : k0_chk67 v1245), (Rect.unit (s := S28672x1024) (k0_off272 v1245) S16x1024.size (k0_off272_inb v1245 k0_hw67)).WholeWords (EltTy.packing .bf16) := fun v1245 k0_hw67 => k0_hw67.2.2 (k0_off272_inb v1245 k0_hw67)

def k0_off273 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c66_i32 : BitVec 32 := 66#32
  let v1252 : BitVec 32 := Scalar.addi v38 c66_i32
  let v1253 : Index := Scalar.indexCast v1252
  ![v1253.toNat]
def k0_mult69 (v1254 : BitVec 32) : BitVec 32 :=
  v1254

def k0_off274 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off275 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1056_i32 : BitVec 32 := 1056#32
  let c0_i32_233 : BitVec 32 := 0#32
  ![v2.toNat, 1056, 0]
def k0_off276 (v1254 : BitVec 32) : Fin 2 → Nat :=
  let v1255 : BitVec 32 := v1254
  let c0_i32_234 : BitVec 32 := 0#32
  ![v1255.toNat, 0]

def k0_chk68 (v1254 : BitVec 32) : Prop :=
  (16 ∣ (k0_mult69 v1254).toNat) ∧
  (∀ a, (k0_off276 v1254) a + S16x1024.size a ≤ S28672x1024.size a) ∧
  (∀ (hinb : ∀ a, (k0_off276 v1254) a + S16x1024.size a ≤ S28672x1024.size a), (Rect.unit (s := S28672x1024) (k0_off276 v1254) S16x1024.size hinb).WholeWords (EltTy.packing .bf16))
theorem k0_mult69_dvd : ∀ (v1254 : BitVec 32) (k0_hw68 : k0_chk68 v1254), 16 ∣ (k0_mult69 v1254).toNat := fun v1254 k0_hw68 => k0_hw68.1
theorem k0_off276_inb : ∀ (v1254 : BitVec 32) (k0_hw68 : k0_chk68 v1254), ∀ a, (k0_off276 v1254) a + S16x1024.size a ≤ S28672x1024.size a := fun v1254 k0_hw68 => k0_hw68.2.1
theorem k0_off276_wordsbf16 : ∀ (v1254 : BitVec 32) (k0_hw68 : k0_chk68 v1254), (Rect.unit (s := S28672x1024) (k0_off276 v1254) S16x1024.size (k0_off276_inb v1254 k0_hw68)).WholeWords (EltTy.packing .bf16) := fun v1254 k0_hw68 => k0_hw68.2.2 (k0_off276_inb v1254 k0_hw68)

def k0_off277 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c67_i32 : BitVec 32 := 67#32
  let v1261 : BitVec 32 := Scalar.addi v38 c67_i32
  let v1262 : Index := Scalar.indexCast v1261
  ![v1262.toNat]
def k0_mult70 (v1263 : BitVec 32) : BitVec 32 :=
  v1263

def k0_off278 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off279 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1072_i32 : BitVec 32 := 1072#32
  let c0_i32_235 : BitVec 32 := 0#32
  ![v2.toNat, 1072, 0]
def k0_off280 (v1263 : BitVec 32) : Fin 2 → Nat :=
  let v1264 : BitVec 32 := v1263
  let c0_i32_236 : BitVec 32 := 0#32
  ![v1264.toNat, 0]

def k0_chk69 (v1263 : BitVec 32) : Prop :=
  (16 ∣ (k0_mult70 v1263).toNat) ∧
  (∀ a, (k0_off280 v1263) a + S16x1024.size a ≤ S28672x1024.size a) ∧
  (∀ (hinb : ∀ a, (k0_off280 v1263) a + S16x1024.size a ≤ S28672x1024.size a), (Rect.unit (s := S28672x1024) (k0_off280 v1263) S16x1024.size hinb).WholeWords (EltTy.packing .bf16))
theorem k0_mult70_dvd : ∀ (v1263 : BitVec 32) (k0_hw69 : k0_chk69 v1263), 16 ∣ (k0_mult70 v1263).toNat := fun v1263 k0_hw69 => k0_hw69.1
theorem k0_off280_inb : ∀ (v1263 : BitVec 32) (k0_hw69 : k0_chk69 v1263), ∀ a, (k0_off280 v1263) a + S16x1024.size a ≤ S28672x1024.size a := fun v1263 k0_hw69 => k0_hw69.2.1
theorem k0_off280_wordsbf16 : ∀ (v1263 : BitVec 32) (k0_hw69 : k0_chk69 v1263), (Rect.unit (s := S28672x1024) (k0_off280 v1263) S16x1024.size (k0_off280_inb v1263 k0_hw69)).WholeWords (EltTy.packing .bf16) := fun v1263 k0_hw69 => k0_hw69.2.2 (k0_off280_inb v1263 k0_hw69)

def k0_off281 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c68_i32 : BitVec 32 := 68#32
  let v1270 : BitVec 32 := Scalar.addi v38 c68_i32
  let v1271 : Index := Scalar.indexCast v1270
  ![v1271.toNat]
def k0_mult71 (v1272 : BitVec 32) : BitVec 32 :=
  v1272

def k0_off282 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off283 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1088_i32 : BitVec 32 := 1088#32
  let c0_i32_237 : BitVec 32 := 0#32
  ![v2.toNat, 1088, 0]
def k0_off284 (v1272 : BitVec 32) : Fin 2 → Nat :=
  let v1273 : BitVec 32 := v1272
  let c0_i32_238 : BitVec 32 := 0#32
  ![v1273.toNat, 0]

def k0_chk70 (v1272 : BitVec 32) : Prop :=
  (16 ∣ (k0_mult71 v1272).toNat) ∧
  (∀ a, (k0_off284 v1272) a + S16x1024.size a ≤ S28672x1024.size a) ∧
  (∀ (hinb : ∀ a, (k0_off284 v1272) a + S16x1024.size a ≤ S28672x1024.size a), (Rect.unit (s := S28672x1024) (k0_off284 v1272) S16x1024.size hinb).WholeWords (EltTy.packing .bf16))
theorem k0_mult71_dvd : ∀ (v1272 : BitVec 32) (k0_hw70 : k0_chk70 v1272), 16 ∣ (k0_mult71 v1272).toNat := fun v1272 k0_hw70 => k0_hw70.1
theorem k0_off284_inb : ∀ (v1272 : BitVec 32) (k0_hw70 : k0_chk70 v1272), ∀ a, (k0_off284 v1272) a + S16x1024.size a ≤ S28672x1024.size a := fun v1272 k0_hw70 => k0_hw70.2.1
theorem k0_off284_wordsbf16 : ∀ (v1272 : BitVec 32) (k0_hw70 : k0_chk70 v1272), (Rect.unit (s := S28672x1024) (k0_off284 v1272) S16x1024.size (k0_off284_inb v1272 k0_hw70)).WholeWords (EltTy.packing .bf16) := fun v1272 k0_hw70 => k0_hw70.2.2 (k0_off284_inb v1272 k0_hw70)

def k0_off285 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c69_i32 : BitVec 32 := 69#32
  let v1279 : BitVec 32 := Scalar.addi v38 c69_i32
  let v1280 : Index := Scalar.indexCast v1279
  ![v1280.toNat]
def k0_mult72 (v1281 : BitVec 32) : BitVec 32 :=
  v1281

def k0_off286 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off287 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1104_i32 : BitVec 32 := 1104#32
  let c0_i32_239 : BitVec 32 := 0#32
  ![v2.toNat, 1104, 0]
def k0_off288 (v1281 : BitVec 32) : Fin 2 → Nat :=
  let v1282 : BitVec 32 := v1281
  let c0_i32_240 : BitVec 32 := 0#32
  ![v1282.toNat, 0]

def k0_chk71 (v1281 : BitVec 32) : Prop :=
  (16 ∣ (k0_mult72 v1281).toNat) ∧
  (∀ a, (k0_off288 v1281) a + S16x1024.size a ≤ S28672x1024.size a) ∧
  (∀ (hinb : ∀ a, (k0_off288 v1281) a + S16x1024.size a ≤ S28672x1024.size a), (Rect.unit (s := S28672x1024) (k0_off288 v1281) S16x1024.size hinb).WholeWords (EltTy.packing .bf16))
theorem k0_mult72_dvd : ∀ (v1281 : BitVec 32) (k0_hw71 : k0_chk71 v1281), 16 ∣ (k0_mult72 v1281).toNat := fun v1281 k0_hw71 => k0_hw71.1
theorem k0_off288_inb : ∀ (v1281 : BitVec 32) (k0_hw71 : k0_chk71 v1281), ∀ a, (k0_off288 v1281) a + S16x1024.size a ≤ S28672x1024.size a := fun v1281 k0_hw71 => k0_hw71.2.1
theorem k0_off288_wordsbf16 : ∀ (v1281 : BitVec 32) (k0_hw71 : k0_chk71 v1281), (Rect.unit (s := S28672x1024) (k0_off288 v1281) S16x1024.size (k0_off288_inb v1281 k0_hw71)).WholeWords (EltTy.packing .bf16) := fun v1281 k0_hw71 => k0_hw71.2.2 (k0_off288_inb v1281 k0_hw71)

def k0_off289 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c70_i32 : BitVec 32 := 70#32
  let v1288 : BitVec 32 := Scalar.addi v38 c70_i32
  let v1289 : Index := Scalar.indexCast v1288
  ![v1289.toNat]
def k0_mult73 (v1290 : BitVec 32) : BitVec 32 :=
  v1290

def k0_off290 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off291 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1120_i32 : BitVec 32 := 1120#32
  let c0_i32_241 : BitVec 32 := 0#32
  ![v2.toNat, 1120, 0]
def k0_off292 (v1290 : BitVec 32) : Fin 2 → Nat :=
  let v1291 : BitVec 32 := v1290
  let c0_i32_242 : BitVec 32 := 0#32
  ![v1291.toNat, 0]

def k0_chk72 (v1290 : BitVec 32) : Prop :=
  (16 ∣ (k0_mult73 v1290).toNat) ∧
  (∀ a, (k0_off292 v1290) a + S16x1024.size a ≤ S28672x1024.size a) ∧
  (∀ (hinb : ∀ a, (k0_off292 v1290) a + S16x1024.size a ≤ S28672x1024.size a), (Rect.unit (s := S28672x1024) (k0_off292 v1290) S16x1024.size hinb).WholeWords (EltTy.packing .bf16))
theorem k0_mult73_dvd : ∀ (v1290 : BitVec 32) (k0_hw72 : k0_chk72 v1290), 16 ∣ (k0_mult73 v1290).toNat := fun v1290 k0_hw72 => k0_hw72.1
theorem k0_off292_inb : ∀ (v1290 : BitVec 32) (k0_hw72 : k0_chk72 v1290), ∀ a, (k0_off292 v1290) a + S16x1024.size a ≤ S28672x1024.size a := fun v1290 k0_hw72 => k0_hw72.2.1
theorem k0_off292_wordsbf16 : ∀ (v1290 : BitVec 32) (k0_hw72 : k0_chk72 v1290), (Rect.unit (s := S28672x1024) (k0_off292 v1290) S16x1024.size (k0_off292_inb v1290 k0_hw72)).WholeWords (EltTy.packing .bf16) := fun v1290 k0_hw72 => k0_hw72.2.2 (k0_off292_inb v1290 k0_hw72)

def k0_off293 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c71_i32 : BitVec 32 := 71#32
  let v1297 : BitVec 32 := Scalar.addi v38 c71_i32
  let v1298 : Index := Scalar.indexCast v1297
  ![v1298.toNat]
def k0_mult74 (v1299 : BitVec 32) : BitVec 32 :=
  v1299

def k0_off294 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off295 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1136_i32 : BitVec 32 := 1136#32
  let c0_i32_243 : BitVec 32 := 0#32
  ![v2.toNat, 1136, 0]
def k0_off296 (v1299 : BitVec 32) : Fin 2 → Nat :=
  let v1300 : BitVec 32 := v1299
  let c0_i32_244 : BitVec 32 := 0#32
  ![v1300.toNat, 0]

def k0_chk73 (v1299 : BitVec 32) : Prop :=
  (16 ∣ (k0_mult74 v1299).toNat) ∧
  (∀ a, (k0_off296 v1299) a + S16x1024.size a ≤ S28672x1024.size a) ∧
  (∀ (hinb : ∀ a, (k0_off296 v1299) a + S16x1024.size a ≤ S28672x1024.size a), (Rect.unit (s := S28672x1024) (k0_off296 v1299) S16x1024.size hinb).WholeWords (EltTy.packing .bf16))
theorem k0_mult74_dvd : ∀ (v1299 : BitVec 32) (k0_hw73 : k0_chk73 v1299), 16 ∣ (k0_mult74 v1299).toNat := fun v1299 k0_hw73 => k0_hw73.1
theorem k0_off296_inb : ∀ (v1299 : BitVec 32) (k0_hw73 : k0_chk73 v1299), ∀ a, (k0_off296 v1299) a + S16x1024.size a ≤ S28672x1024.size a := fun v1299 k0_hw73 => k0_hw73.2.1
theorem k0_off296_wordsbf16 : ∀ (v1299 : BitVec 32) (k0_hw73 : k0_chk73 v1299), (Rect.unit (s := S28672x1024) (k0_off296 v1299) S16x1024.size (k0_off296_inb v1299 k0_hw73)).WholeWords (EltTy.packing .bf16) := fun v1299 k0_hw73 => k0_hw73.2.2 (k0_off296_inb v1299 k0_hw73)

def k0_off297 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c72_i32 : BitVec 32 := 72#32
  let v1306 : BitVec 32 := Scalar.addi v38 c72_i32
  let v1307 : Index := Scalar.indexCast v1306
  ![v1307.toNat]
def k0_mult75 (v1308 : BitVec 32) : BitVec 32 :=
  v1308

def k0_off298 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off299 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1152_i32 : BitVec 32 := 1152#32
  let c0_i32_245 : BitVec 32 := 0#32
  ![v2.toNat, 1152, 0]
def k0_off300 (v1308 : BitVec 32) : Fin 2 → Nat :=
  let v1309 : BitVec 32 := v1308
  let c0_i32_246 : BitVec 32 := 0#32
  ![v1309.toNat, 0]

def k0_chk74 (v1308 : BitVec 32) : Prop :=
  (16 ∣ (k0_mult75 v1308).toNat) ∧
  (∀ a, (k0_off300 v1308) a + S16x1024.size a ≤ S28672x1024.size a) ∧
  (∀ (hinb : ∀ a, (k0_off300 v1308) a + S16x1024.size a ≤ S28672x1024.size a), (Rect.unit (s := S28672x1024) (k0_off300 v1308) S16x1024.size hinb).WholeWords (EltTy.packing .bf16))
theorem k0_mult75_dvd : ∀ (v1308 : BitVec 32) (k0_hw74 : k0_chk74 v1308), 16 ∣ (k0_mult75 v1308).toNat := fun v1308 k0_hw74 => k0_hw74.1
theorem k0_off300_inb : ∀ (v1308 : BitVec 32) (k0_hw74 : k0_chk74 v1308), ∀ a, (k0_off300 v1308) a + S16x1024.size a ≤ S28672x1024.size a := fun v1308 k0_hw74 => k0_hw74.2.1
theorem k0_off300_wordsbf16 : ∀ (v1308 : BitVec 32) (k0_hw74 : k0_chk74 v1308), (Rect.unit (s := S28672x1024) (k0_off300 v1308) S16x1024.size (k0_off300_inb v1308 k0_hw74)).WholeWords (EltTy.packing .bf16) := fun v1308 k0_hw74 => k0_hw74.2.2 (k0_off300_inb v1308 k0_hw74)

def k0_off301 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c73_i32 : BitVec 32 := 73#32
  let v1315 : BitVec 32 := Scalar.addi v38 c73_i32
  let v1316 : Index := Scalar.indexCast v1315
  ![v1316.toNat]
def k0_mult76 (v1317 : BitVec 32) : BitVec 32 :=
  v1317

def k0_off302 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off303 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1168_i32 : BitVec 32 := 1168#32
  let c0_i32_247 : BitVec 32 := 0#32
  ![v2.toNat, 1168, 0]
def k0_off304 (v1317 : BitVec 32) : Fin 2 → Nat :=
  let v1318 : BitVec 32 := v1317
  let c0_i32_248 : BitVec 32 := 0#32
  ![v1318.toNat, 0]

def k0_chk75 (v1317 : BitVec 32) : Prop :=
  (16 ∣ (k0_mult76 v1317).toNat) ∧
  (∀ a, (k0_off304 v1317) a + S16x1024.size a ≤ S28672x1024.size a) ∧
  (∀ (hinb : ∀ a, (k0_off304 v1317) a + S16x1024.size a ≤ S28672x1024.size a), (Rect.unit (s := S28672x1024) (k0_off304 v1317) S16x1024.size hinb).WholeWords (EltTy.packing .bf16))
theorem k0_mult76_dvd : ∀ (v1317 : BitVec 32) (k0_hw75 : k0_chk75 v1317), 16 ∣ (k0_mult76 v1317).toNat := fun v1317 k0_hw75 => k0_hw75.1
theorem k0_off304_inb : ∀ (v1317 : BitVec 32) (k0_hw75 : k0_chk75 v1317), ∀ a, (k0_off304 v1317) a + S16x1024.size a ≤ S28672x1024.size a := fun v1317 k0_hw75 => k0_hw75.2.1
theorem k0_off304_wordsbf16 : ∀ (v1317 : BitVec 32) (k0_hw75 : k0_chk75 v1317), (Rect.unit (s := S28672x1024) (k0_off304 v1317) S16x1024.size (k0_off304_inb v1317 k0_hw75)).WholeWords (EltTy.packing .bf16) := fun v1317 k0_hw75 => k0_hw75.2.2 (k0_off304_inb v1317 k0_hw75)

def k0_off305 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c74_i32 : BitVec 32 := 74#32
  let v1324 : BitVec 32 := Scalar.addi v38 c74_i32
  let v1325 : Index := Scalar.indexCast v1324
  ![v1325.toNat]
def k0_mult77 (v1326 : BitVec 32) : BitVec 32 :=
  v1326

def k0_off306 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off307 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1184_i32 : BitVec 32 := 1184#32
  let c0_i32_249 : BitVec 32 := 0#32
  ![v2.toNat, 1184, 0]
def k0_off308 (v1326 : BitVec 32) : Fin 2 → Nat :=
  let v1327 : BitVec 32 := v1326
  let c0_i32_250 : BitVec 32 := 0#32
  ![v1327.toNat, 0]

def k0_chk76 (v1326 : BitVec 32) : Prop :=
  (16 ∣ (k0_mult77 v1326).toNat) ∧
  (∀ a, (k0_off308 v1326) a + S16x1024.size a ≤ S28672x1024.size a) ∧
  (∀ (hinb : ∀ a, (k0_off308 v1326) a + S16x1024.size a ≤ S28672x1024.size a), (Rect.unit (s := S28672x1024) (k0_off308 v1326) S16x1024.size hinb).WholeWords (EltTy.packing .bf16))
theorem k0_mult77_dvd : ∀ (v1326 : BitVec 32) (k0_hw76 : k0_chk76 v1326), 16 ∣ (k0_mult77 v1326).toNat := fun v1326 k0_hw76 => k0_hw76.1
theorem k0_off308_inb : ∀ (v1326 : BitVec 32) (k0_hw76 : k0_chk76 v1326), ∀ a, (k0_off308 v1326) a + S16x1024.size a ≤ S28672x1024.size a := fun v1326 k0_hw76 => k0_hw76.2.1
theorem k0_off308_wordsbf16 : ∀ (v1326 : BitVec 32) (k0_hw76 : k0_chk76 v1326), (Rect.unit (s := S28672x1024) (k0_off308 v1326) S16x1024.size (k0_off308_inb v1326 k0_hw76)).WholeWords (EltTy.packing .bf16) := fun v1326 k0_hw76 => k0_hw76.2.2 (k0_off308_inb v1326 k0_hw76)

def k0_off309 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c75_i32 : BitVec 32 := 75#32
  let v1333 : BitVec 32 := Scalar.addi v38 c75_i32
  let v1334 : Index := Scalar.indexCast v1333
  ![v1334.toNat]
def k0_mult78 (v1335 : BitVec 32) : BitVec 32 :=
  v1335

def k0_off310 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off311 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1200_i32 : BitVec 32 := 1200#32
  let c0_i32_251 : BitVec 32 := 0#32
  ![v2.toNat, 1200, 0]
def k0_off312 (v1335 : BitVec 32) : Fin 2 → Nat :=
  let v1336 : BitVec 32 := v1335
  let c0_i32_252 : BitVec 32 := 0#32
  ![v1336.toNat, 0]

def k0_chk77 (v1335 : BitVec 32) : Prop :=
  (16 ∣ (k0_mult78 v1335).toNat) ∧
  (∀ a, (k0_off312 v1335) a + S16x1024.size a ≤ S28672x1024.size a) ∧
  (∀ (hinb : ∀ a, (k0_off312 v1335) a + S16x1024.size a ≤ S28672x1024.size a), (Rect.unit (s := S28672x1024) (k0_off312 v1335) S16x1024.size hinb).WholeWords (EltTy.packing .bf16))
theorem k0_mult78_dvd : ∀ (v1335 : BitVec 32) (k0_hw77 : k0_chk77 v1335), 16 ∣ (k0_mult78 v1335).toNat := fun v1335 k0_hw77 => k0_hw77.1
theorem k0_off312_inb : ∀ (v1335 : BitVec 32) (k0_hw77 : k0_chk77 v1335), ∀ a, (k0_off312 v1335) a + S16x1024.size a ≤ S28672x1024.size a := fun v1335 k0_hw77 => k0_hw77.2.1
theorem k0_off312_wordsbf16 : ∀ (v1335 : BitVec 32) (k0_hw77 : k0_chk77 v1335), (Rect.unit (s := S28672x1024) (k0_off312 v1335) S16x1024.size (k0_off312_inb v1335 k0_hw77)).WholeWords (EltTy.packing .bf16) := fun v1335 k0_hw77 => k0_hw77.2.2 (k0_off312_inb v1335 k0_hw77)

def k0_off313 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c76_i32 : BitVec 32 := 76#32
  let v1342 : BitVec 32 := Scalar.addi v38 c76_i32
  let v1343 : Index := Scalar.indexCast v1342
  ![v1343.toNat]
def k0_mult79 (v1344 : BitVec 32) : BitVec 32 :=
  v1344

def k0_off314 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off315 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1216_i32 : BitVec 32 := 1216#32
  let c0_i32_253 : BitVec 32 := 0#32
  ![v2.toNat, 1216, 0]
def k0_off316 (v1344 : BitVec 32) : Fin 2 → Nat :=
  let v1345 : BitVec 32 := v1344
  let c0_i32_254 : BitVec 32 := 0#32
  ![v1345.toNat, 0]

def k0_chk78 (v1344 : BitVec 32) : Prop :=
  (16 ∣ (k0_mult79 v1344).toNat) ∧
  (∀ a, (k0_off316 v1344) a + S16x1024.size a ≤ S28672x1024.size a) ∧
  (∀ (hinb : ∀ a, (k0_off316 v1344) a + S16x1024.size a ≤ S28672x1024.size a), (Rect.unit (s := S28672x1024) (k0_off316 v1344) S16x1024.size hinb).WholeWords (EltTy.packing .bf16))
theorem k0_mult79_dvd : ∀ (v1344 : BitVec 32) (k0_hw78 : k0_chk78 v1344), 16 ∣ (k0_mult79 v1344).toNat := fun v1344 k0_hw78 => k0_hw78.1
theorem k0_off316_inb : ∀ (v1344 : BitVec 32) (k0_hw78 : k0_chk78 v1344), ∀ a, (k0_off316 v1344) a + S16x1024.size a ≤ S28672x1024.size a := fun v1344 k0_hw78 => k0_hw78.2.1
theorem k0_off316_wordsbf16 : ∀ (v1344 : BitVec 32) (k0_hw78 : k0_chk78 v1344), (Rect.unit (s := S28672x1024) (k0_off316 v1344) S16x1024.size (k0_off316_inb v1344 k0_hw78)).WholeWords (EltTy.packing .bf16) := fun v1344 k0_hw78 => k0_hw78.2.2 (k0_off316_inb v1344 k0_hw78)

def k0_off317 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c77_i32 : BitVec 32 := 77#32
  let v1351 : BitVec 32 := Scalar.addi v38 c77_i32
  let v1352 : Index := Scalar.indexCast v1351
  ![v1352.toNat]
def k0_mult80 (v1353 : BitVec 32) : BitVec 32 :=
  v1353

def k0_off318 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off319 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1232_i32 : BitVec 32 := 1232#32
  let c0_i32_255 : BitVec 32 := 0#32
  ![v2.toNat, 1232, 0]
def k0_off320 (v1353 : BitVec 32) : Fin 2 → Nat :=
  let v1354 : BitVec 32 := v1353
  let c0_i32_256 : BitVec 32 := 0#32
  ![v1354.toNat, 0]

def k0_chk79 (v1353 : BitVec 32) : Prop :=
  (16 ∣ (k0_mult80 v1353).toNat) ∧
  (∀ a, (k0_off320 v1353) a + S16x1024.size a ≤ S28672x1024.size a) ∧
  (∀ (hinb : ∀ a, (k0_off320 v1353) a + S16x1024.size a ≤ S28672x1024.size a), (Rect.unit (s := S28672x1024) (k0_off320 v1353) S16x1024.size hinb).WholeWords (EltTy.packing .bf16))
theorem k0_mult80_dvd : ∀ (v1353 : BitVec 32) (k0_hw79 : k0_chk79 v1353), 16 ∣ (k0_mult80 v1353).toNat := fun v1353 k0_hw79 => k0_hw79.1
theorem k0_off320_inb : ∀ (v1353 : BitVec 32) (k0_hw79 : k0_chk79 v1353), ∀ a, (k0_off320 v1353) a + S16x1024.size a ≤ S28672x1024.size a := fun v1353 k0_hw79 => k0_hw79.2.1
theorem k0_off320_wordsbf16 : ∀ (v1353 : BitVec 32) (k0_hw79 : k0_chk79 v1353), (Rect.unit (s := S28672x1024) (k0_off320 v1353) S16x1024.size (k0_off320_inb v1353 k0_hw79)).WholeWords (EltTy.packing .bf16) := fun v1353 k0_hw79 => k0_hw79.2.2 (k0_off320_inb v1353 k0_hw79)

def k0_off321 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c78_i32 : BitVec 32 := 78#32
  let v1360 : BitVec 32 := Scalar.addi v38 c78_i32
  let v1361 : Index := Scalar.indexCast v1360
  ![v1361.toNat]
def k0_mult81 (v1362 : BitVec 32) : BitVec 32 :=
  v1362

def k0_off322 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off323 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1248_i32 : BitVec 32 := 1248#32
  let c0_i32_257 : BitVec 32 := 0#32
  ![v2.toNat, 1248, 0]
def k0_off324 (v1362 : BitVec 32) : Fin 2 → Nat :=
  let v1363 : BitVec 32 := v1362
  let c0_i32_258 : BitVec 32 := 0#32
  ![v1363.toNat, 0]

def k0_chk80 (v1362 : BitVec 32) : Prop :=
  (16 ∣ (k0_mult81 v1362).toNat) ∧
  (∀ a, (k0_off324 v1362) a + S16x1024.size a ≤ S28672x1024.size a) ∧
  (∀ (hinb : ∀ a, (k0_off324 v1362) a + S16x1024.size a ≤ S28672x1024.size a), (Rect.unit (s := S28672x1024) (k0_off324 v1362) S16x1024.size hinb).WholeWords (EltTy.packing .bf16))
theorem k0_mult81_dvd : ∀ (v1362 : BitVec 32) (k0_hw80 : k0_chk80 v1362), 16 ∣ (k0_mult81 v1362).toNat := fun v1362 k0_hw80 => k0_hw80.1
theorem k0_off324_inb : ∀ (v1362 : BitVec 32) (k0_hw80 : k0_chk80 v1362), ∀ a, (k0_off324 v1362) a + S16x1024.size a ≤ S28672x1024.size a := fun v1362 k0_hw80 => k0_hw80.2.1
theorem k0_off324_wordsbf16 : ∀ (v1362 : BitVec 32) (k0_hw80 : k0_chk80 v1362), (Rect.unit (s := S28672x1024) (k0_off324 v1362) S16x1024.size (k0_off324_inb v1362 k0_hw80)).WholeWords (EltTy.packing .bf16) := fun v1362 k0_hw80 => k0_hw80.2.2 (k0_off324_inb v1362 k0_hw80)

def k0_off325 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c79_i32 : BitVec 32 := 79#32
  let v1369 : BitVec 32 := Scalar.addi v38 c79_i32
  let v1370 : Index := Scalar.indexCast v1369
  ![v1370.toNat]
def k0_mult82 (v1371 : BitVec 32) : BitVec 32 :=
  v1371

def k0_off326 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off327 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1264_i32 : BitVec 32 := 1264#32
  let c0_i32_259 : BitVec 32 := 0#32
  ![v2.toNat, 1264, 0]
def k0_off328 (v1371 : BitVec 32) : Fin 2 → Nat :=
  let v1372 : BitVec 32 := v1371
  let c0_i32_260 : BitVec 32 := 0#32
  ![v1372.toNat, 0]

def k0_chk81 (v1371 : BitVec 32) : Prop :=
  (16 ∣ (k0_mult82 v1371).toNat) ∧
  (∀ a, (k0_off328 v1371) a + S16x1024.size a ≤ S28672x1024.size a) ∧
  (∀ (hinb : ∀ a, (k0_off328 v1371) a + S16x1024.size a ≤ S28672x1024.size a), (Rect.unit (s := S28672x1024) (k0_off328 v1371) S16x1024.size hinb).WholeWords (EltTy.packing .bf16))
theorem k0_mult82_dvd : ∀ (v1371 : BitVec 32) (k0_hw81 : k0_chk81 v1371), 16 ∣ (k0_mult82 v1371).toNat := fun v1371 k0_hw81 => k0_hw81.1
theorem k0_off328_inb : ∀ (v1371 : BitVec 32) (k0_hw81 : k0_chk81 v1371), ∀ a, (k0_off328 v1371) a + S16x1024.size a ≤ S28672x1024.size a := fun v1371 k0_hw81 => k0_hw81.2.1
theorem k0_off328_wordsbf16 : ∀ (v1371 : BitVec 32) (k0_hw81 : k0_chk81 v1371), (Rect.unit (s := S28672x1024) (k0_off328 v1371) S16x1024.size (k0_off328_inb v1371 k0_hw81)).WholeWords (EltTy.packing .bf16) := fun v1371 k0_hw81 => k0_hw81.2.2 (k0_off328_inb v1371 k0_hw81)

def k0_off329 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c80_i32_261 : BitVec 32 := 80#32
  let v1378 : BitVec 32 := Scalar.addi v38 c80_i32_261
  let v1379 : Index := Scalar.indexCast v1378
  ![v1379.toNat]
def k0_mult83 (v1380 : BitVec 32) : BitVec 32 :=
  v1380

def k0_off330 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off331 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1280_i32 : BitVec 32 := 1280#32
  let c0_i32_262 : BitVec 32 := 0#32
  ![v2.toNat, 1280, 0]
def k0_off332 (v1380 : BitVec 32) : Fin 2 → Nat :=
  let v1381 : BitVec 32 := v1380
  let c0_i32_263 : BitVec 32 := 0#32
  ![v1381.toNat, 0]

def k0_chk82 (v1380 : BitVec 32) : Prop :=
  (16 ∣ (k0_mult83 v1380).toNat) ∧
  (∀ a, (k0_off332 v1380) a + S16x1024.size a ≤ S28672x1024.size a) ∧
  (∀ (hinb : ∀ a, (k0_off332 v1380) a + S16x1024.size a ≤ S28672x1024.size a), (Rect.unit (s := S28672x1024) (k0_off332 v1380) S16x1024.size hinb).WholeWords (EltTy.packing .bf16))
theorem k0_mult83_dvd : ∀ (v1380 : BitVec 32) (k0_hw82 : k0_chk82 v1380), 16 ∣ (k0_mult83 v1380).toNat := fun v1380 k0_hw82 => k0_hw82.1
theorem k0_off332_inb : ∀ (v1380 : BitVec 32) (k0_hw82 : k0_chk82 v1380), ∀ a, (k0_off332 v1380) a + S16x1024.size a ≤ S28672x1024.size a := fun v1380 k0_hw82 => k0_hw82.2.1
theorem k0_off332_wordsbf16 : ∀ (v1380 : BitVec 32) (k0_hw82 : k0_chk82 v1380), (Rect.unit (s := S28672x1024) (k0_off332 v1380) S16x1024.size (k0_off332_inb v1380 k0_hw82)).WholeWords (EltTy.packing .bf16) := fun v1380 k0_hw82 => k0_hw82.2.2 (k0_off332_inb v1380 k0_hw82)

def k0_off333 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c81_i32 : BitVec 32 := 81#32
  let v1387 : BitVec 32 := Scalar.addi v38 c81_i32
  let v1388 : Index := Scalar.indexCast v1387
  ![v1388.toNat]
def k0_mult84 (v1389 : BitVec 32) : BitVec 32 :=
  v1389

def k0_off334 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off335 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1296_i32 : BitVec 32 := 1296#32
  let c0_i32_264 : BitVec 32 := 0#32
  ![v2.toNat, 1296, 0]
def k0_off336 (v1389 : BitVec 32) : Fin 2 → Nat :=
  let v1390 : BitVec 32 := v1389
  let c0_i32_265 : BitVec 32 := 0#32
  ![v1390.toNat, 0]

def k0_chk83 (v1389 : BitVec 32) : Prop :=
  (16 ∣ (k0_mult84 v1389).toNat) ∧
  (∀ a, (k0_off336 v1389) a + S16x1024.size a ≤ S28672x1024.size a) ∧
  (∀ (hinb : ∀ a, (k0_off336 v1389) a + S16x1024.size a ≤ S28672x1024.size a), (Rect.unit (s := S28672x1024) (k0_off336 v1389) S16x1024.size hinb).WholeWords (EltTy.packing .bf16))
theorem k0_mult84_dvd : ∀ (v1389 : BitVec 32) (k0_hw83 : k0_chk83 v1389), 16 ∣ (k0_mult84 v1389).toNat := fun v1389 k0_hw83 => k0_hw83.1
theorem k0_off336_inb : ∀ (v1389 : BitVec 32) (k0_hw83 : k0_chk83 v1389), ∀ a, (k0_off336 v1389) a + S16x1024.size a ≤ S28672x1024.size a := fun v1389 k0_hw83 => k0_hw83.2.1
theorem k0_off336_wordsbf16 : ∀ (v1389 : BitVec 32) (k0_hw83 : k0_chk83 v1389), (Rect.unit (s := S28672x1024) (k0_off336 v1389) S16x1024.size (k0_off336_inb v1389 k0_hw83)).WholeWords (EltTy.packing .bf16) := fun v1389 k0_hw83 => k0_hw83.2.2 (k0_off336_inb v1389 k0_hw83)

def k0_off337 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c82_i32 : BitVec 32 := 82#32
  let v1396 : BitVec 32 := Scalar.addi v38 c82_i32
  let v1397 : Index := Scalar.indexCast v1396
  ![v1397.toNat]
def k0_mult85 (v1398 : BitVec 32) : BitVec 32 :=
  v1398

def k0_off338 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off339 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1312_i32 : BitVec 32 := 1312#32
  let c0_i32_266 : BitVec 32 := 0#32
  ![v2.toNat, 1312, 0]
def k0_off340 (v1398 : BitVec 32) : Fin 2 → Nat :=
  let v1399 : BitVec 32 := v1398
  let c0_i32_267 : BitVec 32 := 0#32
  ![v1399.toNat, 0]

def k0_chk84 (v1398 : BitVec 32) : Prop :=
  (16 ∣ (k0_mult85 v1398).toNat) ∧
  (∀ a, (k0_off340 v1398) a + S16x1024.size a ≤ S28672x1024.size a) ∧
  (∀ (hinb : ∀ a, (k0_off340 v1398) a + S16x1024.size a ≤ S28672x1024.size a), (Rect.unit (s := S28672x1024) (k0_off340 v1398) S16x1024.size hinb).WholeWords (EltTy.packing .bf16))
theorem k0_mult85_dvd : ∀ (v1398 : BitVec 32) (k0_hw84 : k0_chk84 v1398), 16 ∣ (k0_mult85 v1398).toNat := fun v1398 k0_hw84 => k0_hw84.1
theorem k0_off340_inb : ∀ (v1398 : BitVec 32) (k0_hw84 : k0_chk84 v1398), ∀ a, (k0_off340 v1398) a + S16x1024.size a ≤ S28672x1024.size a := fun v1398 k0_hw84 => k0_hw84.2.1
theorem k0_off340_wordsbf16 : ∀ (v1398 : BitVec 32) (k0_hw84 : k0_chk84 v1398), (Rect.unit (s := S28672x1024) (k0_off340 v1398) S16x1024.size (k0_off340_inb v1398 k0_hw84)).WholeWords (EltTy.packing .bf16) := fun v1398 k0_hw84 => k0_hw84.2.2 (k0_off340_inb v1398 k0_hw84)

def k0_off341 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c83_i32 : BitVec 32 := 83#32
  let v1405 : BitVec 32 := Scalar.addi v38 c83_i32
  let v1406 : Index := Scalar.indexCast v1405
  ![v1406.toNat]
def k0_mult86 (v1407 : BitVec 32) : BitVec 32 :=
  v1407

def k0_off342 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off343 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1328_i32 : BitVec 32 := 1328#32
  let c0_i32_268 : BitVec 32 := 0#32
  ![v2.toNat, 1328, 0]
def k0_off344 (v1407 : BitVec 32) : Fin 2 → Nat :=
  let v1408 : BitVec 32 := v1407
  let c0_i32_269 : BitVec 32 := 0#32
  ![v1408.toNat, 0]

def k0_chk85 (v1407 : BitVec 32) : Prop :=
  (16 ∣ (k0_mult86 v1407).toNat) ∧
  (∀ a, (k0_off344 v1407) a + S16x1024.size a ≤ S28672x1024.size a) ∧
  (∀ (hinb : ∀ a, (k0_off344 v1407) a + S16x1024.size a ≤ S28672x1024.size a), (Rect.unit (s := S28672x1024) (k0_off344 v1407) S16x1024.size hinb).WholeWords (EltTy.packing .bf16))
theorem k0_mult86_dvd : ∀ (v1407 : BitVec 32) (k0_hw85 : k0_chk85 v1407), 16 ∣ (k0_mult86 v1407).toNat := fun v1407 k0_hw85 => k0_hw85.1
theorem k0_off344_inb : ∀ (v1407 : BitVec 32) (k0_hw85 : k0_chk85 v1407), ∀ a, (k0_off344 v1407) a + S16x1024.size a ≤ S28672x1024.size a := fun v1407 k0_hw85 => k0_hw85.2.1
theorem k0_off344_wordsbf16 : ∀ (v1407 : BitVec 32) (k0_hw85 : k0_chk85 v1407), (Rect.unit (s := S28672x1024) (k0_off344 v1407) S16x1024.size (k0_off344_inb v1407 k0_hw85)).WholeWords (EltTy.packing .bf16) := fun v1407 k0_hw85 => k0_hw85.2.2 (k0_off344_inb v1407 k0_hw85)

def k0_off345 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c84_i32 : BitVec 32 := 84#32
  let v1414 : BitVec 32 := Scalar.addi v38 c84_i32
  let v1415 : Index := Scalar.indexCast v1414
  ![v1415.toNat]
def k0_mult87 (v1416 : BitVec 32) : BitVec 32 :=
  v1416

def k0_off346 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off347 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1344_i32 : BitVec 32 := 1344#32
  let c0_i32_270 : BitVec 32 := 0#32
  ![v2.toNat, 1344, 0]
def k0_off348 (v1416 : BitVec 32) : Fin 2 → Nat :=
  let v1417 : BitVec 32 := v1416
  let c0_i32_271 : BitVec 32 := 0#32
  ![v1417.toNat, 0]

def k0_chk86 (v1416 : BitVec 32) : Prop :=
  (16 ∣ (k0_mult87 v1416).toNat) ∧
  (∀ a, (k0_off348 v1416) a + S16x1024.size a ≤ S28672x1024.size a) ∧
  (∀ (hinb : ∀ a, (k0_off348 v1416) a + S16x1024.size a ≤ S28672x1024.size a), (Rect.unit (s := S28672x1024) (k0_off348 v1416) S16x1024.size hinb).WholeWords (EltTy.packing .bf16))
theorem k0_mult87_dvd : ∀ (v1416 : BitVec 32) (k0_hw86 : k0_chk86 v1416), 16 ∣ (k0_mult87 v1416).toNat := fun v1416 k0_hw86 => k0_hw86.1
theorem k0_off348_inb : ∀ (v1416 : BitVec 32) (k0_hw86 : k0_chk86 v1416), ∀ a, (k0_off348 v1416) a + S16x1024.size a ≤ S28672x1024.size a := fun v1416 k0_hw86 => k0_hw86.2.1
theorem k0_off348_wordsbf16 : ∀ (v1416 : BitVec 32) (k0_hw86 : k0_chk86 v1416), (Rect.unit (s := S28672x1024) (k0_off348 v1416) S16x1024.size (k0_off348_inb v1416 k0_hw86)).WholeWords (EltTy.packing .bf16) := fun v1416 k0_hw86 => k0_hw86.2.2 (k0_off348_inb v1416 k0_hw86)

def k0_off349 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c85_i32 : BitVec 32 := 85#32
  let v1423 : BitVec 32 := Scalar.addi v38 c85_i32
  let v1424 : Index := Scalar.indexCast v1423
  ![v1424.toNat]
def k0_mult88 (v1425 : BitVec 32) : BitVec 32 :=
  v1425

def k0_off350 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off351 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1360_i32 : BitVec 32 := 1360#32
  let c0_i32_272 : BitVec 32 := 0#32
  ![v2.toNat, 1360, 0]
def k0_off352 (v1425 : BitVec 32) : Fin 2 → Nat :=
  let v1426 : BitVec 32 := v1425
  let c0_i32_273 : BitVec 32 := 0#32
  ![v1426.toNat, 0]

def k0_chk87 (v1425 : BitVec 32) : Prop :=
  (16 ∣ (k0_mult88 v1425).toNat) ∧
  (∀ a, (k0_off352 v1425) a + S16x1024.size a ≤ S28672x1024.size a) ∧
  (∀ (hinb : ∀ a, (k0_off352 v1425) a + S16x1024.size a ≤ S28672x1024.size a), (Rect.unit (s := S28672x1024) (k0_off352 v1425) S16x1024.size hinb).WholeWords (EltTy.packing .bf16))
theorem k0_mult88_dvd : ∀ (v1425 : BitVec 32) (k0_hw87 : k0_chk87 v1425), 16 ∣ (k0_mult88 v1425).toNat := fun v1425 k0_hw87 => k0_hw87.1
theorem k0_off352_inb : ∀ (v1425 : BitVec 32) (k0_hw87 : k0_chk87 v1425), ∀ a, (k0_off352 v1425) a + S16x1024.size a ≤ S28672x1024.size a := fun v1425 k0_hw87 => k0_hw87.2.1
theorem k0_off352_wordsbf16 : ∀ (v1425 : BitVec 32) (k0_hw87 : k0_chk87 v1425), (Rect.unit (s := S28672x1024) (k0_off352 v1425) S16x1024.size (k0_off352_inb v1425 k0_hw87)).WholeWords (EltTy.packing .bf16) := fun v1425 k0_hw87 => k0_hw87.2.2 (k0_off352_inb v1425 k0_hw87)

def k0_off353 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c86_i32 : BitVec 32 := 86#32
  let v1432 : BitVec 32 := Scalar.addi v38 c86_i32
  let v1433 : Index := Scalar.indexCast v1432
  ![v1433.toNat]
def k0_mult89 (v1434 : BitVec 32) : BitVec 32 :=
  v1434

def k0_off354 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off355 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1376_i32 : BitVec 32 := 1376#32
  let c0_i32_274 : BitVec 32 := 0#32
  ![v2.toNat, 1376, 0]
def k0_off356 (v1434 : BitVec 32) : Fin 2 → Nat :=
  let v1435 : BitVec 32 := v1434
  let c0_i32_275 : BitVec 32 := 0#32
  ![v1435.toNat, 0]

def k0_chk88 (v1434 : BitVec 32) : Prop :=
  (16 ∣ (k0_mult89 v1434).toNat) ∧
  (∀ a, (k0_off356 v1434) a + S16x1024.size a ≤ S28672x1024.size a) ∧
  (∀ (hinb : ∀ a, (k0_off356 v1434) a + S16x1024.size a ≤ S28672x1024.size a), (Rect.unit (s := S28672x1024) (k0_off356 v1434) S16x1024.size hinb).WholeWords (EltTy.packing .bf16))
theorem k0_mult89_dvd : ∀ (v1434 : BitVec 32) (k0_hw88 : k0_chk88 v1434), 16 ∣ (k0_mult89 v1434).toNat := fun v1434 k0_hw88 => k0_hw88.1
theorem k0_off356_inb : ∀ (v1434 : BitVec 32) (k0_hw88 : k0_chk88 v1434), ∀ a, (k0_off356 v1434) a + S16x1024.size a ≤ S28672x1024.size a := fun v1434 k0_hw88 => k0_hw88.2.1
theorem k0_off356_wordsbf16 : ∀ (v1434 : BitVec 32) (k0_hw88 : k0_chk88 v1434), (Rect.unit (s := S28672x1024) (k0_off356 v1434) S16x1024.size (k0_off356_inb v1434 k0_hw88)).WholeWords (EltTy.packing .bf16) := fun v1434 k0_hw88 => k0_hw88.2.2 (k0_off356_inb v1434 k0_hw88)

def k0_off357 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c87_i32 : BitVec 32 := 87#32
  let v1441 : BitVec 32 := Scalar.addi v38 c87_i32
  let v1442 : Index := Scalar.indexCast v1441
  ![v1442.toNat]
def k0_mult90 (v1443 : BitVec 32) : BitVec 32 :=
  v1443

def k0_off358 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off359 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1392_i32 : BitVec 32 := 1392#32
  let c0_i32_276 : BitVec 32 := 0#32
  ![v2.toNat, 1392, 0]
def k0_off360 (v1443 : BitVec 32) : Fin 2 → Nat :=
  let v1444 : BitVec 32 := v1443
  let c0_i32_277 : BitVec 32 := 0#32
  ![v1444.toNat, 0]

def k0_chk89 (v1443 : BitVec 32) : Prop :=
  (16 ∣ (k0_mult90 v1443).toNat) ∧
  (∀ a, (k0_off360 v1443) a + S16x1024.size a ≤ S28672x1024.size a) ∧
  (∀ (hinb : ∀ a, (k0_off360 v1443) a + S16x1024.size a ≤ S28672x1024.size a), (Rect.unit (s := S28672x1024) (k0_off360 v1443) S16x1024.size hinb).WholeWords (EltTy.packing .bf16))
theorem k0_mult90_dvd : ∀ (v1443 : BitVec 32) (k0_hw89 : k0_chk89 v1443), 16 ∣ (k0_mult90 v1443).toNat := fun v1443 k0_hw89 => k0_hw89.1
theorem k0_off360_inb : ∀ (v1443 : BitVec 32) (k0_hw89 : k0_chk89 v1443), ∀ a, (k0_off360 v1443) a + S16x1024.size a ≤ S28672x1024.size a := fun v1443 k0_hw89 => k0_hw89.2.1
theorem k0_off360_wordsbf16 : ∀ (v1443 : BitVec 32) (k0_hw89 : k0_chk89 v1443), (Rect.unit (s := S28672x1024) (k0_off360 v1443) S16x1024.size (k0_off360_inb v1443 k0_hw89)).WholeWords (EltTy.packing .bf16) := fun v1443 k0_hw89 => k0_hw89.2.2 (k0_off360_inb v1443 k0_hw89)

def k0_off361 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c88_i32 : BitVec 32 := 88#32
  let v1450 : BitVec 32 := Scalar.addi v38 c88_i32
  let v1451 : Index := Scalar.indexCast v1450
  ![v1451.toNat]
def k0_mult91 (v1452 : BitVec 32) : BitVec 32 :=
  v1452

def k0_off362 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off363 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1408_i32 : BitVec 32 := 1408#32
  let c0_i32_278 : BitVec 32 := 0#32
  ![v2.toNat, 1408, 0]
def k0_off364 (v1452 : BitVec 32) : Fin 2 → Nat :=
  let v1453 : BitVec 32 := v1452
  let c0_i32_279 : BitVec 32 := 0#32
  ![v1453.toNat, 0]

def k0_chk90 (v1452 : BitVec 32) : Prop :=
  (16 ∣ (k0_mult91 v1452).toNat) ∧
  (∀ a, (k0_off364 v1452) a + S16x1024.size a ≤ S28672x1024.size a) ∧
  (∀ (hinb : ∀ a, (k0_off364 v1452) a + S16x1024.size a ≤ S28672x1024.size a), (Rect.unit (s := S28672x1024) (k0_off364 v1452) S16x1024.size hinb).WholeWords (EltTy.packing .bf16))
theorem k0_mult91_dvd : ∀ (v1452 : BitVec 32) (k0_hw90 : k0_chk90 v1452), 16 ∣ (k0_mult91 v1452).toNat := fun v1452 k0_hw90 => k0_hw90.1
theorem k0_off364_inb : ∀ (v1452 : BitVec 32) (k0_hw90 : k0_chk90 v1452), ∀ a, (k0_off364 v1452) a + S16x1024.size a ≤ S28672x1024.size a := fun v1452 k0_hw90 => k0_hw90.2.1
theorem k0_off364_wordsbf16 : ∀ (v1452 : BitVec 32) (k0_hw90 : k0_chk90 v1452), (Rect.unit (s := S28672x1024) (k0_off364 v1452) S16x1024.size (k0_off364_inb v1452 k0_hw90)).WholeWords (EltTy.packing .bf16) := fun v1452 k0_hw90 => k0_hw90.2.2 (k0_off364_inb v1452 k0_hw90)

def k0_off365 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c89_i32 : BitVec 32 := 89#32
  let v1459 : BitVec 32 := Scalar.addi v38 c89_i32
  let v1460 : Index := Scalar.indexCast v1459
  ![v1460.toNat]
def k0_mult92 (v1461 : BitVec 32) : BitVec 32 :=
  v1461

def k0_off366 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off367 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1424_i32 : BitVec 32 := 1424#32
  let c0_i32_280 : BitVec 32 := 0#32
  ![v2.toNat, 1424, 0]
def k0_off368 (v1461 : BitVec 32) : Fin 2 → Nat :=
  let v1462 : BitVec 32 := v1461
  let c0_i32_281 : BitVec 32 := 0#32
  ![v1462.toNat, 0]

def k0_chk91 (v1461 : BitVec 32) : Prop :=
  (16 ∣ (k0_mult92 v1461).toNat) ∧
  (∀ a, (k0_off368 v1461) a + S16x1024.size a ≤ S28672x1024.size a) ∧
  (∀ (hinb : ∀ a, (k0_off368 v1461) a + S16x1024.size a ≤ S28672x1024.size a), (Rect.unit (s := S28672x1024) (k0_off368 v1461) S16x1024.size hinb).WholeWords (EltTy.packing .bf16))
theorem k0_mult92_dvd : ∀ (v1461 : BitVec 32) (k0_hw91 : k0_chk91 v1461), 16 ∣ (k0_mult92 v1461).toNat := fun v1461 k0_hw91 => k0_hw91.1
theorem k0_off368_inb : ∀ (v1461 : BitVec 32) (k0_hw91 : k0_chk91 v1461), ∀ a, (k0_off368 v1461) a + S16x1024.size a ≤ S28672x1024.size a := fun v1461 k0_hw91 => k0_hw91.2.1
theorem k0_off368_wordsbf16 : ∀ (v1461 : BitVec 32) (k0_hw91 : k0_chk91 v1461), (Rect.unit (s := S28672x1024) (k0_off368 v1461) S16x1024.size (k0_off368_inb v1461 k0_hw91)).WholeWords (EltTy.packing .bf16) := fun v1461 k0_hw91 => k0_hw91.2.2 (k0_off368_inb v1461 k0_hw91)

def k0_off369 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c90_i32 : BitVec 32 := 90#32
  let v1468 : BitVec 32 := Scalar.addi v38 c90_i32
  let v1469 : Index := Scalar.indexCast v1468
  ![v1469.toNat]
def k0_mult93 (v1470 : BitVec 32) : BitVec 32 :=
  v1470

def k0_off370 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off371 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1440_i32 : BitVec 32 := 1440#32
  let c0_i32_282 : BitVec 32 := 0#32
  ![v2.toNat, 1440, 0]
def k0_off372 (v1470 : BitVec 32) : Fin 2 → Nat :=
  let v1471 : BitVec 32 := v1470
  let c0_i32_283 : BitVec 32 := 0#32
  ![v1471.toNat, 0]

def k0_chk92 (v1470 : BitVec 32) : Prop :=
  (16 ∣ (k0_mult93 v1470).toNat) ∧
  (∀ a, (k0_off372 v1470) a + S16x1024.size a ≤ S28672x1024.size a) ∧
  (∀ (hinb : ∀ a, (k0_off372 v1470) a + S16x1024.size a ≤ S28672x1024.size a), (Rect.unit (s := S28672x1024) (k0_off372 v1470) S16x1024.size hinb).WholeWords (EltTy.packing .bf16))
theorem k0_mult93_dvd : ∀ (v1470 : BitVec 32) (k0_hw92 : k0_chk92 v1470), 16 ∣ (k0_mult93 v1470).toNat := fun v1470 k0_hw92 => k0_hw92.1
theorem k0_off372_inb : ∀ (v1470 : BitVec 32) (k0_hw92 : k0_chk92 v1470), ∀ a, (k0_off372 v1470) a + S16x1024.size a ≤ S28672x1024.size a := fun v1470 k0_hw92 => k0_hw92.2.1
theorem k0_off372_wordsbf16 : ∀ (v1470 : BitVec 32) (k0_hw92 : k0_chk92 v1470), (Rect.unit (s := S28672x1024) (k0_off372 v1470) S16x1024.size (k0_off372_inb v1470 k0_hw92)).WholeWords (EltTy.packing .bf16) := fun v1470 k0_hw92 => k0_hw92.2.2 (k0_off372_inb v1470 k0_hw92)

def k0_off373 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c91_i32 : BitVec 32 := 91#32
  let v1477 : BitVec 32 := Scalar.addi v38 c91_i32
  let v1478 : Index := Scalar.indexCast v1477
  ![v1478.toNat]
def k0_mult94 (v1479 : BitVec 32) : BitVec 32 :=
  v1479

def k0_off374 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off375 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1456_i32 : BitVec 32 := 1456#32
  let c0_i32_284 : BitVec 32 := 0#32
  ![v2.toNat, 1456, 0]
def k0_off376 (v1479 : BitVec 32) : Fin 2 → Nat :=
  let v1480 : BitVec 32 := v1479
  let c0_i32_285 : BitVec 32 := 0#32
  ![v1480.toNat, 0]

def k0_chk93 (v1479 : BitVec 32) : Prop :=
  (16 ∣ (k0_mult94 v1479).toNat) ∧
  (∀ a, (k0_off376 v1479) a + S16x1024.size a ≤ S28672x1024.size a) ∧
  (∀ (hinb : ∀ a, (k0_off376 v1479) a + S16x1024.size a ≤ S28672x1024.size a), (Rect.unit (s := S28672x1024) (k0_off376 v1479) S16x1024.size hinb).WholeWords (EltTy.packing .bf16))
theorem k0_mult94_dvd : ∀ (v1479 : BitVec 32) (k0_hw93 : k0_chk93 v1479), 16 ∣ (k0_mult94 v1479).toNat := fun v1479 k0_hw93 => k0_hw93.1
theorem k0_off376_inb : ∀ (v1479 : BitVec 32) (k0_hw93 : k0_chk93 v1479), ∀ a, (k0_off376 v1479) a + S16x1024.size a ≤ S28672x1024.size a := fun v1479 k0_hw93 => k0_hw93.2.1
theorem k0_off376_wordsbf16 : ∀ (v1479 : BitVec 32) (k0_hw93 : k0_chk93 v1479), (Rect.unit (s := S28672x1024) (k0_off376 v1479) S16x1024.size (k0_off376_inb v1479 k0_hw93)).WholeWords (EltTy.packing .bf16) := fun v1479 k0_hw93 => k0_hw93.2.2 (k0_off376_inb v1479 k0_hw93)

def k0_off377 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c92_i32 : BitVec 32 := 92#32
  let v1486 : BitVec 32 := Scalar.addi v38 c92_i32
  let v1487 : Index := Scalar.indexCast v1486
  ![v1487.toNat]
def k0_mult95 (v1488 : BitVec 32) : BitVec 32 :=
  v1488

def k0_off378 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off379 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1472_i32 : BitVec 32 := 1472#32
  let c0_i32_286 : BitVec 32 := 0#32
  ![v2.toNat, 1472, 0]
def k0_off380 (v1488 : BitVec 32) : Fin 2 → Nat :=
  let v1489 : BitVec 32 := v1488
  let c0_i32_287 : BitVec 32 := 0#32
  ![v1489.toNat, 0]

def k0_chk94 (v1488 : BitVec 32) : Prop :=
  (16 ∣ (k0_mult95 v1488).toNat) ∧
  (∀ a, (k0_off380 v1488) a + S16x1024.size a ≤ S28672x1024.size a) ∧
  (∀ (hinb : ∀ a, (k0_off380 v1488) a + S16x1024.size a ≤ S28672x1024.size a), (Rect.unit (s := S28672x1024) (k0_off380 v1488) S16x1024.size hinb).WholeWords (EltTy.packing .bf16))
theorem k0_mult95_dvd : ∀ (v1488 : BitVec 32) (k0_hw94 : k0_chk94 v1488), 16 ∣ (k0_mult95 v1488).toNat := fun v1488 k0_hw94 => k0_hw94.1
theorem k0_off380_inb : ∀ (v1488 : BitVec 32) (k0_hw94 : k0_chk94 v1488), ∀ a, (k0_off380 v1488) a + S16x1024.size a ≤ S28672x1024.size a := fun v1488 k0_hw94 => k0_hw94.2.1
theorem k0_off380_wordsbf16 : ∀ (v1488 : BitVec 32) (k0_hw94 : k0_chk94 v1488), (Rect.unit (s := S28672x1024) (k0_off380 v1488) S16x1024.size (k0_off380_inb v1488 k0_hw94)).WholeWords (EltTy.packing .bf16) := fun v1488 k0_hw94 => k0_hw94.2.2 (k0_off380_inb v1488 k0_hw94)

def k0_off381 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c93_i32 : BitVec 32 := 93#32
  let v1495 : BitVec 32 := Scalar.addi v38 c93_i32
  let v1496 : Index := Scalar.indexCast v1495
  ![v1496.toNat]
def k0_mult96 (v1497 : BitVec 32) : BitVec 32 :=
  v1497

def k0_off382 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off383 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1488_i32 : BitVec 32 := 1488#32
  let c0_i32_288 : BitVec 32 := 0#32
  ![v2.toNat, 1488, 0]
def k0_off384 (v1497 : BitVec 32) : Fin 2 → Nat :=
  let v1498 : BitVec 32 := v1497
  let c0_i32_289 : BitVec 32 := 0#32
  ![v1498.toNat, 0]

def k0_chk95 (v1497 : BitVec 32) : Prop :=
  (16 ∣ (k0_mult96 v1497).toNat) ∧
  (∀ a, (k0_off384 v1497) a + S16x1024.size a ≤ S28672x1024.size a) ∧
  (∀ (hinb : ∀ a, (k0_off384 v1497) a + S16x1024.size a ≤ S28672x1024.size a), (Rect.unit (s := S28672x1024) (k0_off384 v1497) S16x1024.size hinb).WholeWords (EltTy.packing .bf16))
theorem k0_mult96_dvd : ∀ (v1497 : BitVec 32) (k0_hw95 : k0_chk95 v1497), 16 ∣ (k0_mult96 v1497).toNat := fun v1497 k0_hw95 => k0_hw95.1
theorem k0_off384_inb : ∀ (v1497 : BitVec 32) (k0_hw95 : k0_chk95 v1497), ∀ a, (k0_off384 v1497) a + S16x1024.size a ≤ S28672x1024.size a := fun v1497 k0_hw95 => k0_hw95.2.1
theorem k0_off384_wordsbf16 : ∀ (v1497 : BitVec 32) (k0_hw95 : k0_chk95 v1497), (Rect.unit (s := S28672x1024) (k0_off384 v1497) S16x1024.size (k0_off384_inb v1497 k0_hw95)).WholeWords (EltTy.packing .bf16) := fun v1497 k0_hw95 => k0_hw95.2.2 (k0_off384_inb v1497 k0_hw95)

def k0_off385 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c94_i32 : BitVec 32 := 94#32
  let v1504 : BitVec 32 := Scalar.addi v38 c94_i32
  let v1505 : Index := Scalar.indexCast v1504
  ![v1505.toNat]
def k0_mult97 (v1506 : BitVec 32) : BitVec 32 :=
  v1506

def k0_off386 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off387 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1504_i32 : BitVec 32 := 1504#32
  let c0_i32_290 : BitVec 32 := 0#32
  ![v2.toNat, 1504, 0]
def k0_off388 (v1506 : BitVec 32) : Fin 2 → Nat :=
  let v1507 : BitVec 32 := v1506
  let c0_i32_291 : BitVec 32 := 0#32
  ![v1507.toNat, 0]

def k0_chk96 (v1506 : BitVec 32) : Prop :=
  (16 ∣ (k0_mult97 v1506).toNat) ∧
  (∀ a, (k0_off388 v1506) a + S16x1024.size a ≤ S28672x1024.size a) ∧
  (∀ (hinb : ∀ a, (k0_off388 v1506) a + S16x1024.size a ≤ S28672x1024.size a), (Rect.unit (s := S28672x1024) (k0_off388 v1506) S16x1024.size hinb).WholeWords (EltTy.packing .bf16))
theorem k0_mult97_dvd : ∀ (v1506 : BitVec 32) (k0_hw96 : k0_chk96 v1506), 16 ∣ (k0_mult97 v1506).toNat := fun v1506 k0_hw96 => k0_hw96.1
theorem k0_off388_inb : ∀ (v1506 : BitVec 32) (k0_hw96 : k0_chk96 v1506), ∀ a, (k0_off388 v1506) a + S16x1024.size a ≤ S28672x1024.size a := fun v1506 k0_hw96 => k0_hw96.2.1
theorem k0_off388_wordsbf16 : ∀ (v1506 : BitVec 32) (k0_hw96 : k0_chk96 v1506), (Rect.unit (s := S28672x1024) (k0_off388 v1506) S16x1024.size (k0_off388_inb v1506 k0_hw96)).WholeWords (EltTy.packing .bf16) := fun v1506 k0_hw96 => k0_hw96.2.2 (k0_off388_inb v1506 k0_hw96)

def k0_off389 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c95_i32 : BitVec 32 := 95#32
  let v1513 : BitVec 32 := Scalar.addi v38 c95_i32
  let v1514 : Index := Scalar.indexCast v1513
  ![v1514.toNat]
def k0_mult98 (v1515 : BitVec 32) : BitVec 32 :=
  v1515

def k0_off390 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off391 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1520_i32 : BitVec 32 := 1520#32
  let c0_i32_292 : BitVec 32 := 0#32
  ![v2.toNat, 1520, 0]
def k0_off392 (v1515 : BitVec 32) : Fin 2 → Nat :=
  let v1516 : BitVec 32 := v1515
  let c0_i32_293 : BitVec 32 := 0#32
  ![v1516.toNat, 0]

def k0_chk97 (v1515 : BitVec 32) : Prop :=
  (16 ∣ (k0_mult98 v1515).toNat) ∧
  (∀ a, (k0_off392 v1515) a + S16x1024.size a ≤ S28672x1024.size a) ∧
  (∀ (hinb : ∀ a, (k0_off392 v1515) a + S16x1024.size a ≤ S28672x1024.size a), (Rect.unit (s := S28672x1024) (k0_off392 v1515) S16x1024.size hinb).WholeWords (EltTy.packing .bf16))
theorem k0_mult98_dvd : ∀ (v1515 : BitVec 32) (k0_hw97 : k0_chk97 v1515), 16 ∣ (k0_mult98 v1515).toNat := fun v1515 k0_hw97 => k0_hw97.1
theorem k0_off392_inb : ∀ (v1515 : BitVec 32) (k0_hw97 : k0_chk97 v1515), ∀ a, (k0_off392 v1515) a + S16x1024.size a ≤ S28672x1024.size a := fun v1515 k0_hw97 => k0_hw97.2.1
theorem k0_off392_wordsbf16 : ∀ (v1515 : BitVec 32) (k0_hw97 : k0_chk97 v1515), (Rect.unit (s := S28672x1024) (k0_off392 v1515) S16x1024.size (k0_off392_inb v1515 k0_hw97)).WholeWords (EltTy.packing .bf16) := fun v1515 k0_hw97 => k0_hw97.2.2 (k0_off392_inb v1515 k0_hw97)

def k0_off393 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c96_i32_294 : BitVec 32 := 96#32
  let v1522 : BitVec 32 := Scalar.addi v38 c96_i32_294
  let v1523 : Index := Scalar.indexCast v1522
  ![v1523.toNat]
def k0_mult99 (v1524 : BitVec 32) : BitVec 32 :=
  v1524

def k0_off394 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off395 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1536_i32 : BitVec 32 := 1536#32
  let c0_i32_295 : BitVec 32 := 0#32
  ![v2.toNat, 1536, 0]
def k0_off396 (v1524 : BitVec 32) : Fin 2 → Nat :=
  let v1525 : BitVec 32 := v1524
  let c0_i32_296 : BitVec 32 := 0#32
  ![v1525.toNat, 0]

def k0_chk98 (v1524 : BitVec 32) : Prop :=
  (16 ∣ (k0_mult99 v1524).toNat) ∧
  (∀ a, (k0_off396 v1524) a + S16x1024.size a ≤ S28672x1024.size a) ∧
  (∀ (hinb : ∀ a, (k0_off396 v1524) a + S16x1024.size a ≤ S28672x1024.size a), (Rect.unit (s := S28672x1024) (k0_off396 v1524) S16x1024.size hinb).WholeWords (EltTy.packing .bf16))
theorem k0_mult99_dvd : ∀ (v1524 : BitVec 32) (k0_hw98 : k0_chk98 v1524), 16 ∣ (k0_mult99 v1524).toNat := fun v1524 k0_hw98 => k0_hw98.1
theorem k0_off396_inb : ∀ (v1524 : BitVec 32) (k0_hw98 : k0_chk98 v1524), ∀ a, (k0_off396 v1524) a + S16x1024.size a ≤ S28672x1024.size a := fun v1524 k0_hw98 => k0_hw98.2.1
theorem k0_off396_wordsbf16 : ∀ (v1524 : BitVec 32) (k0_hw98 : k0_chk98 v1524), (Rect.unit (s := S28672x1024) (k0_off396 v1524) S16x1024.size (k0_off396_inb v1524 k0_hw98)).WholeWords (EltTy.packing .bf16) := fun v1524 k0_hw98 => k0_hw98.2.2 (k0_off396_inb v1524 k0_hw98)

def k0_off397 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c97_i32 : BitVec 32 := 97#32
  let v1531 : BitVec 32 := Scalar.addi v38 c97_i32
  let v1532 : Index := Scalar.indexCast v1531
  ![v1532.toNat]
def k0_mult100 (v1533 : BitVec 32) : BitVec 32 :=
  v1533

def k0_off398 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off399 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1552_i32 : BitVec 32 := 1552#32
  let c0_i32_297 : BitVec 32 := 0#32
  ![v2.toNat, 1552, 0]
def k0_off400 (v1533 : BitVec 32) : Fin 2 → Nat :=
  let v1534 : BitVec 32 := v1533
  let c0_i32_298 : BitVec 32 := 0#32
  ![v1534.toNat, 0]

def k0_chk99 (v1533 : BitVec 32) : Prop :=
  (16 ∣ (k0_mult100 v1533).toNat) ∧
  (∀ a, (k0_off400 v1533) a + S16x1024.size a ≤ S28672x1024.size a) ∧
  (∀ (hinb : ∀ a, (k0_off400 v1533) a + S16x1024.size a ≤ S28672x1024.size a), (Rect.unit (s := S28672x1024) (k0_off400 v1533) S16x1024.size hinb).WholeWords (EltTy.packing .bf16))
theorem k0_mult100_dvd : ∀ (v1533 : BitVec 32) (k0_hw99 : k0_chk99 v1533), 16 ∣ (k0_mult100 v1533).toNat := fun v1533 k0_hw99 => k0_hw99.1
theorem k0_off400_inb : ∀ (v1533 : BitVec 32) (k0_hw99 : k0_chk99 v1533), ∀ a, (k0_off400 v1533) a + S16x1024.size a ≤ S28672x1024.size a := fun v1533 k0_hw99 => k0_hw99.2.1
theorem k0_off400_wordsbf16 : ∀ (v1533 : BitVec 32) (k0_hw99 : k0_chk99 v1533), (Rect.unit (s := S28672x1024) (k0_off400 v1533) S16x1024.size (k0_off400_inb v1533 k0_hw99)).WholeWords (EltTy.packing .bf16) := fun v1533 k0_hw99 => k0_hw99.2.2 (k0_off400_inb v1533 k0_hw99)

def k0_off401 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c98_i32 : BitVec 32 := 98#32
  let v1540 : BitVec 32 := Scalar.addi v38 c98_i32
  let v1541 : Index := Scalar.indexCast v1540
  ![v1541.toNat]
def k0_mult101 (v1542 : BitVec 32) : BitVec 32 :=
  v1542

def k0_off402 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off403 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1568_i32 : BitVec 32 := 1568#32
  let c0_i32_299 : BitVec 32 := 0#32
  ![v2.toNat, 1568, 0]
def k0_off404 (v1542 : BitVec 32) : Fin 2 → Nat :=
  let v1543 : BitVec 32 := v1542
  let c0_i32_300 : BitVec 32 := 0#32
  ![v1543.toNat, 0]

def k0_chk100 (v1542 : BitVec 32) : Prop :=
  (16 ∣ (k0_mult101 v1542).toNat) ∧
  (∀ a, (k0_off404 v1542) a + S16x1024.size a ≤ S28672x1024.size a) ∧
  (∀ (hinb : ∀ a, (k0_off404 v1542) a + S16x1024.size a ≤ S28672x1024.size a), (Rect.unit (s := S28672x1024) (k0_off404 v1542) S16x1024.size hinb).WholeWords (EltTy.packing .bf16))
theorem k0_mult101_dvd : ∀ (v1542 : BitVec 32) (k0_hw100 : k0_chk100 v1542), 16 ∣ (k0_mult101 v1542).toNat := fun v1542 k0_hw100 => k0_hw100.1
theorem k0_off404_inb : ∀ (v1542 : BitVec 32) (k0_hw100 : k0_chk100 v1542), ∀ a, (k0_off404 v1542) a + S16x1024.size a ≤ S28672x1024.size a := fun v1542 k0_hw100 => k0_hw100.2.1
theorem k0_off404_wordsbf16 : ∀ (v1542 : BitVec 32) (k0_hw100 : k0_chk100 v1542), (Rect.unit (s := S28672x1024) (k0_off404 v1542) S16x1024.size (k0_off404_inb v1542 k0_hw100)).WholeWords (EltTy.packing .bf16) := fun v1542 k0_hw100 => k0_hw100.2.2 (k0_off404_inb v1542 k0_hw100)

def k0_off405 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c99_i32 : BitVec 32 := 99#32
  let v1549 : BitVec 32 := Scalar.addi v38 c99_i32
  let v1550 : Index := Scalar.indexCast v1549
  ![v1550.toNat]
def k0_mult102 (v1551 : BitVec 32) : BitVec 32 :=
  v1551

def k0_off406 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off407 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1584_i32 : BitVec 32 := 1584#32
  let c0_i32_301 : BitVec 32 := 0#32
  ![v2.toNat, 1584, 0]
def k0_off408 (v1551 : BitVec 32) : Fin 2 → Nat :=
  let v1552 : BitVec 32 := v1551
  let c0_i32_302 : BitVec 32 := 0#32
  ![v1552.toNat, 0]

def k0_chk101 (v1551 : BitVec 32) : Prop :=
  (16 ∣ (k0_mult102 v1551).toNat) ∧
  (∀ a, (k0_off408 v1551) a + S16x1024.size a ≤ S28672x1024.size a) ∧
  (∀ (hinb : ∀ a, (k0_off408 v1551) a + S16x1024.size a ≤ S28672x1024.size a), (Rect.unit (s := S28672x1024) (k0_off408 v1551) S16x1024.size hinb).WholeWords (EltTy.packing .bf16))
theorem k0_mult102_dvd : ∀ (v1551 : BitVec 32) (k0_hw101 : k0_chk101 v1551), 16 ∣ (k0_mult102 v1551).toNat := fun v1551 k0_hw101 => k0_hw101.1
theorem k0_off408_inb : ∀ (v1551 : BitVec 32) (k0_hw101 : k0_chk101 v1551), ∀ a, (k0_off408 v1551) a + S16x1024.size a ≤ S28672x1024.size a := fun v1551 k0_hw101 => k0_hw101.2.1
theorem k0_off408_wordsbf16 : ∀ (v1551 : BitVec 32) (k0_hw101 : k0_chk101 v1551), (Rect.unit (s := S28672x1024) (k0_off408 v1551) S16x1024.size (k0_off408_inb v1551 k0_hw101)).WholeWords (EltTy.packing .bf16) := fun v1551 k0_hw101 => k0_hw101.2.2 (k0_off408_inb v1551 k0_hw101)

def k0_off409 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c100_i32 : BitVec 32 := 100#32
  let v1558 : BitVec 32 := Scalar.addi v38 c100_i32
  let v1559 : Index := Scalar.indexCast v1558
  ![v1559.toNat]
def k0_mult103 (v1560 : BitVec 32) : BitVec 32 :=
  v1560

def k0_off410 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off411 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1600_i32 : BitVec 32 := 1600#32
  let c0_i32_303 : BitVec 32 := 0#32
  ![v2.toNat, 1600, 0]
def k0_off412 (v1560 : BitVec 32) : Fin 2 → Nat :=
  let v1561 : BitVec 32 := v1560
  let c0_i32_304 : BitVec 32 := 0#32
  ![v1561.toNat, 0]

def k0_chk102 (v1560 : BitVec 32) : Prop :=
  (16 ∣ (k0_mult103 v1560).toNat) ∧
  (∀ a, (k0_off412 v1560) a + S16x1024.size a ≤ S28672x1024.size a) ∧
  (∀ (hinb : ∀ a, (k0_off412 v1560) a + S16x1024.size a ≤ S28672x1024.size a), (Rect.unit (s := S28672x1024) (k0_off412 v1560) S16x1024.size hinb).WholeWords (EltTy.packing .bf16))
theorem k0_mult103_dvd : ∀ (v1560 : BitVec 32) (k0_hw102 : k0_chk102 v1560), 16 ∣ (k0_mult103 v1560).toNat := fun v1560 k0_hw102 => k0_hw102.1
theorem k0_off412_inb : ∀ (v1560 : BitVec 32) (k0_hw102 : k0_chk102 v1560), ∀ a, (k0_off412 v1560) a + S16x1024.size a ≤ S28672x1024.size a := fun v1560 k0_hw102 => k0_hw102.2.1
theorem k0_off412_wordsbf16 : ∀ (v1560 : BitVec 32) (k0_hw102 : k0_chk102 v1560), (Rect.unit (s := S28672x1024) (k0_off412 v1560) S16x1024.size (k0_off412_inb v1560 k0_hw102)).WholeWords (EltTy.packing .bf16) := fun v1560 k0_hw102 => k0_hw102.2.2 (k0_off412_inb v1560 k0_hw102)

def k0_off413 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c101_i32 : BitVec 32 := 101#32
  let v1567 : BitVec 32 := Scalar.addi v38 c101_i32
  let v1568 : Index := Scalar.indexCast v1567
  ![v1568.toNat]
def k0_mult104 (v1569 : BitVec 32) : BitVec 32 :=
  v1569

def k0_off414 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off415 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1616_i32 : BitVec 32 := 1616#32
  let c0_i32_305 : BitVec 32 := 0#32
  ![v2.toNat, 1616, 0]
def k0_off416 (v1569 : BitVec 32) : Fin 2 → Nat :=
  let v1570 : BitVec 32 := v1569
  let c0_i32_306 : BitVec 32 := 0#32
  ![v1570.toNat, 0]

def k0_chk103 (v1569 : BitVec 32) : Prop :=
  (16 ∣ (k0_mult104 v1569).toNat) ∧
  (∀ a, (k0_off416 v1569) a + S16x1024.size a ≤ S28672x1024.size a) ∧
  (∀ (hinb : ∀ a, (k0_off416 v1569) a + S16x1024.size a ≤ S28672x1024.size a), (Rect.unit (s := S28672x1024) (k0_off416 v1569) S16x1024.size hinb).WholeWords (EltTy.packing .bf16))
theorem k0_mult104_dvd : ∀ (v1569 : BitVec 32) (k0_hw103 : k0_chk103 v1569), 16 ∣ (k0_mult104 v1569).toNat := fun v1569 k0_hw103 => k0_hw103.1
theorem k0_off416_inb : ∀ (v1569 : BitVec 32) (k0_hw103 : k0_chk103 v1569), ∀ a, (k0_off416 v1569) a + S16x1024.size a ≤ S28672x1024.size a := fun v1569 k0_hw103 => k0_hw103.2.1
theorem k0_off416_wordsbf16 : ∀ (v1569 : BitVec 32) (k0_hw103 : k0_chk103 v1569), (Rect.unit (s := S28672x1024) (k0_off416 v1569) S16x1024.size (k0_off416_inb v1569 k0_hw103)).WholeWords (EltTy.packing .bf16) := fun v1569 k0_hw103 => k0_hw103.2.2 (k0_off416_inb v1569 k0_hw103)

def k0_off417 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c102_i32 : BitVec 32 := 102#32
  let v1576 : BitVec 32 := Scalar.addi v38 c102_i32
  let v1577 : Index := Scalar.indexCast v1576
  ![v1577.toNat]
def k0_mult105 (v1578 : BitVec 32) : BitVec 32 :=
  v1578

def k0_off418 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off419 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1632_i32 : BitVec 32 := 1632#32
  let c0_i32_307 : BitVec 32 := 0#32
  ![v2.toNat, 1632, 0]
def k0_off420 (v1578 : BitVec 32) : Fin 2 → Nat :=
  let v1579 : BitVec 32 := v1578
  let c0_i32_308 : BitVec 32 := 0#32
  ![v1579.toNat, 0]

def k0_chk104 (v1578 : BitVec 32) : Prop :=
  (16 ∣ (k0_mult105 v1578).toNat) ∧
  (∀ a, (k0_off420 v1578) a + S16x1024.size a ≤ S28672x1024.size a) ∧
  (∀ (hinb : ∀ a, (k0_off420 v1578) a + S16x1024.size a ≤ S28672x1024.size a), (Rect.unit (s := S28672x1024) (k0_off420 v1578) S16x1024.size hinb).WholeWords (EltTy.packing .bf16))
theorem k0_mult105_dvd : ∀ (v1578 : BitVec 32) (k0_hw104 : k0_chk104 v1578), 16 ∣ (k0_mult105 v1578).toNat := fun v1578 k0_hw104 => k0_hw104.1
theorem k0_off420_inb : ∀ (v1578 : BitVec 32) (k0_hw104 : k0_chk104 v1578), ∀ a, (k0_off420 v1578) a + S16x1024.size a ≤ S28672x1024.size a := fun v1578 k0_hw104 => k0_hw104.2.1
theorem k0_off420_wordsbf16 : ∀ (v1578 : BitVec 32) (k0_hw104 : k0_chk104 v1578), (Rect.unit (s := S28672x1024) (k0_off420 v1578) S16x1024.size (k0_off420_inb v1578 k0_hw104)).WholeWords (EltTy.packing .bf16) := fun v1578 k0_hw104 => k0_hw104.2.2 (k0_off420_inb v1578 k0_hw104)

def k0_off421 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c103_i32 : BitVec 32 := 103#32
  let v1585 : BitVec 32 := Scalar.addi v38 c103_i32
  let v1586 : Index := Scalar.indexCast v1585
  ![v1586.toNat]
def k0_mult106 (v1587 : BitVec 32) : BitVec 32 :=
  v1587

def k0_off422 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off423 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1648_i32 : BitVec 32 := 1648#32
  let c0_i32_309 : BitVec 32 := 0#32
  ![v2.toNat, 1648, 0]
def k0_off424 (v1587 : BitVec 32) : Fin 2 → Nat :=
  let v1588 : BitVec 32 := v1587
  let c0_i32_310 : BitVec 32 := 0#32
  ![v1588.toNat, 0]

def k0_chk105 (v1587 : BitVec 32) : Prop :=
  (16 ∣ (k0_mult106 v1587).toNat) ∧
  (∀ a, (k0_off424 v1587) a + S16x1024.size a ≤ S28672x1024.size a) ∧
  (∀ (hinb : ∀ a, (k0_off424 v1587) a + S16x1024.size a ≤ S28672x1024.size a), (Rect.unit (s := S28672x1024) (k0_off424 v1587) S16x1024.size hinb).WholeWords (EltTy.packing .bf16))
theorem k0_mult106_dvd : ∀ (v1587 : BitVec 32) (k0_hw105 : k0_chk105 v1587), 16 ∣ (k0_mult106 v1587).toNat := fun v1587 k0_hw105 => k0_hw105.1
theorem k0_off424_inb : ∀ (v1587 : BitVec 32) (k0_hw105 : k0_chk105 v1587), ∀ a, (k0_off424 v1587) a + S16x1024.size a ≤ S28672x1024.size a := fun v1587 k0_hw105 => k0_hw105.2.1
theorem k0_off424_wordsbf16 : ∀ (v1587 : BitVec 32) (k0_hw105 : k0_chk105 v1587), (Rect.unit (s := S28672x1024) (k0_off424 v1587) S16x1024.size (k0_off424_inb v1587 k0_hw105)).WholeWords (EltTy.packing .bf16) := fun v1587 k0_hw105 => k0_hw105.2.2 (k0_off424_inb v1587 k0_hw105)

def k0_off425 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c104_i32 : BitVec 32 := 104#32
  let v1594 : BitVec 32 := Scalar.addi v38 c104_i32
  let v1595 : Index := Scalar.indexCast v1594
  ![v1595.toNat]
def k0_mult107 (v1596 : BitVec 32) : BitVec 32 :=
  v1596

def k0_off426 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off427 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1664_i32 : BitVec 32 := 1664#32
  let c0_i32_311 : BitVec 32 := 0#32
  ![v2.toNat, 1664, 0]
def k0_off428 (v1596 : BitVec 32) : Fin 2 → Nat :=
  let v1597 : BitVec 32 := v1596
  let c0_i32_312 : BitVec 32 := 0#32
  ![v1597.toNat, 0]

def k0_chk106 (v1596 : BitVec 32) : Prop :=
  (16 ∣ (k0_mult107 v1596).toNat) ∧
  (∀ a, (k0_off428 v1596) a + S16x1024.size a ≤ S28672x1024.size a) ∧
  (∀ (hinb : ∀ a, (k0_off428 v1596) a + S16x1024.size a ≤ S28672x1024.size a), (Rect.unit (s := S28672x1024) (k0_off428 v1596) S16x1024.size hinb).WholeWords (EltTy.packing .bf16))
theorem k0_mult107_dvd : ∀ (v1596 : BitVec 32) (k0_hw106 : k0_chk106 v1596), 16 ∣ (k0_mult107 v1596).toNat := fun v1596 k0_hw106 => k0_hw106.1
theorem k0_off428_inb : ∀ (v1596 : BitVec 32) (k0_hw106 : k0_chk106 v1596), ∀ a, (k0_off428 v1596) a + S16x1024.size a ≤ S28672x1024.size a := fun v1596 k0_hw106 => k0_hw106.2.1
theorem k0_off428_wordsbf16 : ∀ (v1596 : BitVec 32) (k0_hw106 : k0_chk106 v1596), (Rect.unit (s := S28672x1024) (k0_off428 v1596) S16x1024.size (k0_off428_inb v1596 k0_hw106)).WholeWords (EltTy.packing .bf16) := fun v1596 k0_hw106 => k0_hw106.2.2 (k0_off428_inb v1596 k0_hw106)

def k0_off429 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c105_i32 : BitVec 32 := 105#32
  let v1603 : BitVec 32 := Scalar.addi v38 c105_i32
  let v1604 : Index := Scalar.indexCast v1603
  ![v1604.toNat]
def k0_mult108 (v1605 : BitVec 32) : BitVec 32 :=
  v1605

def k0_off430 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off431 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1680_i32 : BitVec 32 := 1680#32
  let c0_i32_313 : BitVec 32 := 0#32
  ![v2.toNat, 1680, 0]
def k0_off432 (v1605 : BitVec 32) : Fin 2 → Nat :=
  let v1606 : BitVec 32 := v1605
  let c0_i32_314 : BitVec 32 := 0#32
  ![v1606.toNat, 0]

def k0_chk107 (v1605 : BitVec 32) : Prop :=
  (16 ∣ (k0_mult108 v1605).toNat) ∧
  (∀ a, (k0_off432 v1605) a + S16x1024.size a ≤ S28672x1024.size a) ∧
  (∀ (hinb : ∀ a, (k0_off432 v1605) a + S16x1024.size a ≤ S28672x1024.size a), (Rect.unit (s := S28672x1024) (k0_off432 v1605) S16x1024.size hinb).WholeWords (EltTy.packing .bf16))
theorem k0_mult108_dvd : ∀ (v1605 : BitVec 32) (k0_hw107 : k0_chk107 v1605), 16 ∣ (k0_mult108 v1605).toNat := fun v1605 k0_hw107 => k0_hw107.1
theorem k0_off432_inb : ∀ (v1605 : BitVec 32) (k0_hw107 : k0_chk107 v1605), ∀ a, (k0_off432 v1605) a + S16x1024.size a ≤ S28672x1024.size a := fun v1605 k0_hw107 => k0_hw107.2.1
theorem k0_off432_wordsbf16 : ∀ (v1605 : BitVec 32) (k0_hw107 : k0_chk107 v1605), (Rect.unit (s := S28672x1024) (k0_off432 v1605) S16x1024.size (k0_off432_inb v1605 k0_hw107)).WholeWords (EltTy.packing .bf16) := fun v1605 k0_hw107 => k0_hw107.2.2 (k0_off432_inb v1605 k0_hw107)

def k0_off433 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c106_i32 : BitVec 32 := 106#32
  let v1612 : BitVec 32 := Scalar.addi v38 c106_i32
  let v1613 : Index := Scalar.indexCast v1612
  ![v1613.toNat]
def k0_mult109 (v1614 : BitVec 32) : BitVec 32 :=
  v1614

def k0_off434 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off435 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1696_i32 : BitVec 32 := 1696#32
  let c0_i32_315 : BitVec 32 := 0#32
  ![v2.toNat, 1696, 0]
def k0_off436 (v1614 : BitVec 32) : Fin 2 → Nat :=
  let v1615 : BitVec 32 := v1614
  let c0_i32_316 : BitVec 32 := 0#32
  ![v1615.toNat, 0]

def k0_chk108 (v1614 : BitVec 32) : Prop :=
  (16 ∣ (k0_mult109 v1614).toNat) ∧
  (∀ a, (k0_off436 v1614) a + S16x1024.size a ≤ S28672x1024.size a) ∧
  (∀ (hinb : ∀ a, (k0_off436 v1614) a + S16x1024.size a ≤ S28672x1024.size a), (Rect.unit (s := S28672x1024) (k0_off436 v1614) S16x1024.size hinb).WholeWords (EltTy.packing .bf16))
theorem k0_mult109_dvd : ∀ (v1614 : BitVec 32) (k0_hw108 : k0_chk108 v1614), 16 ∣ (k0_mult109 v1614).toNat := fun v1614 k0_hw108 => k0_hw108.1
theorem k0_off436_inb : ∀ (v1614 : BitVec 32) (k0_hw108 : k0_chk108 v1614), ∀ a, (k0_off436 v1614) a + S16x1024.size a ≤ S28672x1024.size a := fun v1614 k0_hw108 => k0_hw108.2.1
theorem k0_off436_wordsbf16 : ∀ (v1614 : BitVec 32) (k0_hw108 : k0_chk108 v1614), (Rect.unit (s := S28672x1024) (k0_off436 v1614) S16x1024.size (k0_off436_inb v1614 k0_hw108)).WholeWords (EltTy.packing .bf16) := fun v1614 k0_hw108 => k0_hw108.2.2 (k0_off436_inb v1614 k0_hw108)

def k0_off437 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c107_i32 : BitVec 32 := 107#32
  let v1621 : BitVec 32 := Scalar.addi v38 c107_i32
  let v1622 : Index := Scalar.indexCast v1621
  ![v1622.toNat]
def k0_mult110 (v1623 : BitVec 32) : BitVec 32 :=
  v1623

def k0_off438 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off439 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1712_i32 : BitVec 32 := 1712#32
  let c0_i32_317 : BitVec 32 := 0#32
  ![v2.toNat, 1712, 0]
def k0_off440 (v1623 : BitVec 32) : Fin 2 → Nat :=
  let v1624 : BitVec 32 := v1623
  let c0_i32_318 : BitVec 32 := 0#32
  ![v1624.toNat, 0]

def k0_chk109 (v1623 : BitVec 32) : Prop :=
  (16 ∣ (k0_mult110 v1623).toNat) ∧
  (∀ a, (k0_off440 v1623) a + S16x1024.size a ≤ S28672x1024.size a) ∧
  (∀ (hinb : ∀ a, (k0_off440 v1623) a + S16x1024.size a ≤ S28672x1024.size a), (Rect.unit (s := S28672x1024) (k0_off440 v1623) S16x1024.size hinb).WholeWords (EltTy.packing .bf16))
theorem k0_mult110_dvd : ∀ (v1623 : BitVec 32) (k0_hw109 : k0_chk109 v1623), 16 ∣ (k0_mult110 v1623).toNat := fun v1623 k0_hw109 => k0_hw109.1
theorem k0_off440_inb : ∀ (v1623 : BitVec 32) (k0_hw109 : k0_chk109 v1623), ∀ a, (k0_off440 v1623) a + S16x1024.size a ≤ S28672x1024.size a := fun v1623 k0_hw109 => k0_hw109.2.1
theorem k0_off440_wordsbf16 : ∀ (v1623 : BitVec 32) (k0_hw109 : k0_chk109 v1623), (Rect.unit (s := S28672x1024) (k0_off440 v1623) S16x1024.size (k0_off440_inb v1623 k0_hw109)).WholeWords (EltTy.packing .bf16) := fun v1623 k0_hw109 => k0_hw109.2.2 (k0_off440_inb v1623 k0_hw109)

def k0_off441 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c108_i32 : BitVec 32 := 108#32
  let v1630 : BitVec 32 := Scalar.addi v38 c108_i32
  let v1631 : Index := Scalar.indexCast v1630
  ![v1631.toNat]
def k0_mult111 (v1632 : BitVec 32) : BitVec 32 :=
  v1632

def k0_off442 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off443 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1728_i32 : BitVec 32 := 1728#32
  let c0_i32_319 : BitVec 32 := 0#32
  ![v2.toNat, 1728, 0]
def k0_off444 (v1632 : BitVec 32) : Fin 2 → Nat :=
  let v1633 : BitVec 32 := v1632
  let c0_i32_320 : BitVec 32 := 0#32
  ![v1633.toNat, 0]

def k0_chk110 (v1632 : BitVec 32) : Prop :=
  (16 ∣ (k0_mult111 v1632).toNat) ∧
  (∀ a, (k0_off444 v1632) a + S16x1024.size a ≤ S28672x1024.size a) ∧
  (∀ (hinb : ∀ a, (k0_off444 v1632) a + S16x1024.size a ≤ S28672x1024.size a), (Rect.unit (s := S28672x1024) (k0_off444 v1632) S16x1024.size hinb).WholeWords (EltTy.packing .bf16))
theorem k0_mult111_dvd : ∀ (v1632 : BitVec 32) (k0_hw110 : k0_chk110 v1632), 16 ∣ (k0_mult111 v1632).toNat := fun v1632 k0_hw110 => k0_hw110.1
theorem k0_off444_inb : ∀ (v1632 : BitVec 32) (k0_hw110 : k0_chk110 v1632), ∀ a, (k0_off444 v1632) a + S16x1024.size a ≤ S28672x1024.size a := fun v1632 k0_hw110 => k0_hw110.2.1
theorem k0_off444_wordsbf16 : ∀ (v1632 : BitVec 32) (k0_hw110 : k0_chk110 v1632), (Rect.unit (s := S28672x1024) (k0_off444 v1632) S16x1024.size (k0_off444_inb v1632 k0_hw110)).WholeWords (EltTy.packing .bf16) := fun v1632 k0_hw110 => k0_hw110.2.2 (k0_off444_inb v1632 k0_hw110)

def k0_off445 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c109_i32 : BitVec 32 := 109#32
  let v1639 : BitVec 32 := Scalar.addi v38 c109_i32
  let v1640 : Index := Scalar.indexCast v1639
  ![v1640.toNat]
def k0_mult112 (v1641 : BitVec 32) : BitVec 32 :=
  v1641

def k0_off446 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off447 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1744_i32 : BitVec 32 := 1744#32
  let c0_i32_321 : BitVec 32 := 0#32
  ![v2.toNat, 1744, 0]
def k0_off448 (v1641 : BitVec 32) : Fin 2 → Nat :=
  let v1642 : BitVec 32 := v1641
  let c0_i32_322 : BitVec 32 := 0#32
  ![v1642.toNat, 0]

def k0_chk111 (v1641 : BitVec 32) : Prop :=
  (16 ∣ (k0_mult112 v1641).toNat) ∧
  (∀ a, (k0_off448 v1641) a + S16x1024.size a ≤ S28672x1024.size a) ∧
  (∀ (hinb : ∀ a, (k0_off448 v1641) a + S16x1024.size a ≤ S28672x1024.size a), (Rect.unit (s := S28672x1024) (k0_off448 v1641) S16x1024.size hinb).WholeWords (EltTy.packing .bf16))
theorem k0_mult112_dvd : ∀ (v1641 : BitVec 32) (k0_hw111 : k0_chk111 v1641), 16 ∣ (k0_mult112 v1641).toNat := fun v1641 k0_hw111 => k0_hw111.1
theorem k0_off448_inb : ∀ (v1641 : BitVec 32) (k0_hw111 : k0_chk111 v1641), ∀ a, (k0_off448 v1641) a + S16x1024.size a ≤ S28672x1024.size a := fun v1641 k0_hw111 => k0_hw111.2.1
theorem k0_off448_wordsbf16 : ∀ (v1641 : BitVec 32) (k0_hw111 : k0_chk111 v1641), (Rect.unit (s := S28672x1024) (k0_off448 v1641) S16x1024.size (k0_off448_inb v1641 k0_hw111)).WholeWords (EltTy.packing .bf16) := fun v1641 k0_hw111 => k0_hw111.2.2 (k0_off448_inb v1641 k0_hw111)

def k0_off449 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c110_i32 : BitVec 32 := 110#32
  let v1648 : BitVec 32 := Scalar.addi v38 c110_i32
  let v1649 : Index := Scalar.indexCast v1648
  ![v1649.toNat]
def k0_mult113 (v1650 : BitVec 32) : BitVec 32 :=
  v1650

def k0_off450 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off451 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1760_i32 : BitVec 32 := 1760#32
  let c0_i32_323 : BitVec 32 := 0#32
  ![v2.toNat, 1760, 0]
def k0_off452 (v1650 : BitVec 32) : Fin 2 → Nat :=
  let v1651 : BitVec 32 := v1650
  let c0_i32_324 : BitVec 32 := 0#32
  ![v1651.toNat, 0]

def k0_chk112 (v1650 : BitVec 32) : Prop :=
  (16 ∣ (k0_mult113 v1650).toNat) ∧
  (∀ a, (k0_off452 v1650) a + S16x1024.size a ≤ S28672x1024.size a) ∧
  (∀ (hinb : ∀ a, (k0_off452 v1650) a + S16x1024.size a ≤ S28672x1024.size a), (Rect.unit (s := S28672x1024) (k0_off452 v1650) S16x1024.size hinb).WholeWords (EltTy.packing .bf16))
theorem k0_mult113_dvd : ∀ (v1650 : BitVec 32) (k0_hw112 : k0_chk112 v1650), 16 ∣ (k0_mult113 v1650).toNat := fun v1650 k0_hw112 => k0_hw112.1
theorem k0_off452_inb : ∀ (v1650 : BitVec 32) (k0_hw112 : k0_chk112 v1650), ∀ a, (k0_off452 v1650) a + S16x1024.size a ≤ S28672x1024.size a := fun v1650 k0_hw112 => k0_hw112.2.1
theorem k0_off452_wordsbf16 : ∀ (v1650 : BitVec 32) (k0_hw112 : k0_chk112 v1650), (Rect.unit (s := S28672x1024) (k0_off452 v1650) S16x1024.size (k0_off452_inb v1650 k0_hw112)).WholeWords (EltTy.packing .bf16) := fun v1650 k0_hw112 => k0_hw112.2.2 (k0_off452_inb v1650 k0_hw112)

def k0_off453 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c111_i32 : BitVec 32 := 111#32
  let v1657 : BitVec 32 := Scalar.addi v38 c111_i32
  let v1658 : Index := Scalar.indexCast v1657
  ![v1658.toNat]
def k0_mult114 (v1659 : BitVec 32) : BitVec 32 :=
  v1659

def k0_off454 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off455 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1776_i32 : BitVec 32 := 1776#32
  let c0_i32_325 : BitVec 32 := 0#32
  ![v2.toNat, 1776, 0]
def k0_off456 (v1659 : BitVec 32) : Fin 2 → Nat :=
  let v1660 : BitVec 32 := v1659
  let c0_i32_326 : BitVec 32 := 0#32
  ![v1660.toNat, 0]

def k0_chk113 (v1659 : BitVec 32) : Prop :=
  (16 ∣ (k0_mult114 v1659).toNat) ∧
  (∀ a, (k0_off456 v1659) a + S16x1024.size a ≤ S28672x1024.size a) ∧
  (∀ (hinb : ∀ a, (k0_off456 v1659) a + S16x1024.size a ≤ S28672x1024.size a), (Rect.unit (s := S28672x1024) (k0_off456 v1659) S16x1024.size hinb).WholeWords (EltTy.packing .bf16))
theorem k0_mult114_dvd : ∀ (v1659 : BitVec 32) (k0_hw113 : k0_chk113 v1659), 16 ∣ (k0_mult114 v1659).toNat := fun v1659 k0_hw113 => k0_hw113.1
theorem k0_off456_inb : ∀ (v1659 : BitVec 32) (k0_hw113 : k0_chk113 v1659), ∀ a, (k0_off456 v1659) a + S16x1024.size a ≤ S28672x1024.size a := fun v1659 k0_hw113 => k0_hw113.2.1
theorem k0_off456_wordsbf16 : ∀ (v1659 : BitVec 32) (k0_hw113 : k0_chk113 v1659), (Rect.unit (s := S28672x1024) (k0_off456 v1659) S16x1024.size (k0_off456_inb v1659 k0_hw113)).WholeWords (EltTy.packing .bf16) := fun v1659 k0_hw113 => k0_hw113.2.2 (k0_off456_inb v1659 k0_hw113)

def k0_off457 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c112_i32_327 : BitVec 32 := 112#32
  let v1666 : BitVec 32 := Scalar.addi v38 c112_i32_327
  let v1667 : Index := Scalar.indexCast v1666
  ![v1667.toNat]
def k0_mult115 (v1668 : BitVec 32) : BitVec 32 :=
  v1668

def k0_off458 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off459 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1792_i32 : BitVec 32 := 1792#32
  let c0_i32_328 : BitVec 32 := 0#32
  ![v2.toNat, 1792, 0]
def k0_off460 (v1668 : BitVec 32) : Fin 2 → Nat :=
  let v1669 : BitVec 32 := v1668
  let c0_i32_329 : BitVec 32 := 0#32
  ![v1669.toNat, 0]

def k0_chk114 (v1668 : BitVec 32) : Prop :=
  (16 ∣ (k0_mult115 v1668).toNat) ∧
  (∀ a, (k0_off460 v1668) a + S16x1024.size a ≤ S28672x1024.size a) ∧
  (∀ (hinb : ∀ a, (k0_off460 v1668) a + S16x1024.size a ≤ S28672x1024.size a), (Rect.unit (s := S28672x1024) (k0_off460 v1668) S16x1024.size hinb).WholeWords (EltTy.packing .bf16))
theorem k0_mult115_dvd : ∀ (v1668 : BitVec 32) (k0_hw114 : k0_chk114 v1668), 16 ∣ (k0_mult115 v1668).toNat := fun v1668 k0_hw114 => k0_hw114.1
theorem k0_off460_inb : ∀ (v1668 : BitVec 32) (k0_hw114 : k0_chk114 v1668), ∀ a, (k0_off460 v1668) a + S16x1024.size a ≤ S28672x1024.size a := fun v1668 k0_hw114 => k0_hw114.2.1
theorem k0_off460_wordsbf16 : ∀ (v1668 : BitVec 32) (k0_hw114 : k0_chk114 v1668), (Rect.unit (s := S28672x1024) (k0_off460 v1668) S16x1024.size (k0_off460_inb v1668 k0_hw114)).WholeWords (EltTy.packing .bf16) := fun v1668 k0_hw114 => k0_hw114.2.2 (k0_off460_inb v1668 k0_hw114)

def k0_off461 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c113_i32 : BitVec 32 := 113#32
  let v1675 : BitVec 32 := Scalar.addi v38 c113_i32
  let v1676 : Index := Scalar.indexCast v1675
  ![v1676.toNat]
def k0_mult116 (v1677 : BitVec 32) : BitVec 32 :=
  v1677

def k0_off462 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off463 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1808_i32 : BitVec 32 := 1808#32
  let c0_i32_330 : BitVec 32 := 0#32
  ![v2.toNat, 1808, 0]
def k0_off464 (v1677 : BitVec 32) : Fin 2 → Nat :=
  let v1678 : BitVec 32 := v1677
  let c0_i32_331 : BitVec 32 := 0#32
  ![v1678.toNat, 0]

def k0_chk115 (v1677 : BitVec 32) : Prop :=
  (16 ∣ (k0_mult116 v1677).toNat) ∧
  (∀ a, (k0_off464 v1677) a + S16x1024.size a ≤ S28672x1024.size a) ∧
  (∀ (hinb : ∀ a, (k0_off464 v1677) a + S16x1024.size a ≤ S28672x1024.size a), (Rect.unit (s := S28672x1024) (k0_off464 v1677) S16x1024.size hinb).WholeWords (EltTy.packing .bf16))
theorem k0_mult116_dvd : ∀ (v1677 : BitVec 32) (k0_hw115 : k0_chk115 v1677), 16 ∣ (k0_mult116 v1677).toNat := fun v1677 k0_hw115 => k0_hw115.1
theorem k0_off464_inb : ∀ (v1677 : BitVec 32) (k0_hw115 : k0_chk115 v1677), ∀ a, (k0_off464 v1677) a + S16x1024.size a ≤ S28672x1024.size a := fun v1677 k0_hw115 => k0_hw115.2.1
theorem k0_off464_wordsbf16 : ∀ (v1677 : BitVec 32) (k0_hw115 : k0_chk115 v1677), (Rect.unit (s := S28672x1024) (k0_off464 v1677) S16x1024.size (k0_off464_inb v1677 k0_hw115)).WholeWords (EltTy.packing .bf16) := fun v1677 k0_hw115 => k0_hw115.2.2 (k0_off464_inb v1677 k0_hw115)

def k0_off465 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c114_i32 : BitVec 32 := 114#32
  let v1684 : BitVec 32 := Scalar.addi v38 c114_i32
  let v1685 : Index := Scalar.indexCast v1684
  ![v1685.toNat]
def k0_mult117 (v1686 : BitVec 32) : BitVec 32 :=
  v1686

def k0_off466 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off467 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1824_i32 : BitVec 32 := 1824#32
  let c0_i32_332 : BitVec 32 := 0#32
  ![v2.toNat, 1824, 0]
def k0_off468 (v1686 : BitVec 32) : Fin 2 → Nat :=
  let v1687 : BitVec 32 := v1686
  let c0_i32_333 : BitVec 32 := 0#32
  ![v1687.toNat, 0]

def k0_chk116 (v1686 : BitVec 32) : Prop :=
  (16 ∣ (k0_mult117 v1686).toNat) ∧
  (∀ a, (k0_off468 v1686) a + S16x1024.size a ≤ S28672x1024.size a) ∧
  (∀ (hinb : ∀ a, (k0_off468 v1686) a + S16x1024.size a ≤ S28672x1024.size a), (Rect.unit (s := S28672x1024) (k0_off468 v1686) S16x1024.size hinb).WholeWords (EltTy.packing .bf16))
theorem k0_mult117_dvd : ∀ (v1686 : BitVec 32) (k0_hw116 : k0_chk116 v1686), 16 ∣ (k0_mult117 v1686).toNat := fun v1686 k0_hw116 => k0_hw116.1
theorem k0_off468_inb : ∀ (v1686 : BitVec 32) (k0_hw116 : k0_chk116 v1686), ∀ a, (k0_off468 v1686) a + S16x1024.size a ≤ S28672x1024.size a := fun v1686 k0_hw116 => k0_hw116.2.1
theorem k0_off468_wordsbf16 : ∀ (v1686 : BitVec 32) (k0_hw116 : k0_chk116 v1686), (Rect.unit (s := S28672x1024) (k0_off468 v1686) S16x1024.size (k0_off468_inb v1686 k0_hw116)).WholeWords (EltTy.packing .bf16) := fun v1686 k0_hw116 => k0_hw116.2.2 (k0_off468_inb v1686 k0_hw116)

def k0_off469 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c115_i32 : BitVec 32 := 115#32
  let v1693 : BitVec 32 := Scalar.addi v38 c115_i32
  let v1694 : Index := Scalar.indexCast v1693
  ![v1694.toNat]
def k0_mult118 (v1695 : BitVec 32) : BitVec 32 :=
  v1695

def k0_off470 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off471 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1840_i32 : BitVec 32 := 1840#32
  let c0_i32_334 : BitVec 32 := 0#32
  ![v2.toNat, 1840, 0]
def k0_off472 (v1695 : BitVec 32) : Fin 2 → Nat :=
  let v1696 : BitVec 32 := v1695
  let c0_i32_335 : BitVec 32 := 0#32
  ![v1696.toNat, 0]

def k0_chk117 (v1695 : BitVec 32) : Prop :=
  (16 ∣ (k0_mult118 v1695).toNat) ∧
  (∀ a, (k0_off472 v1695) a + S16x1024.size a ≤ S28672x1024.size a) ∧
  (∀ (hinb : ∀ a, (k0_off472 v1695) a + S16x1024.size a ≤ S28672x1024.size a), (Rect.unit (s := S28672x1024) (k0_off472 v1695) S16x1024.size hinb).WholeWords (EltTy.packing .bf16))
theorem k0_mult118_dvd : ∀ (v1695 : BitVec 32) (k0_hw117 : k0_chk117 v1695), 16 ∣ (k0_mult118 v1695).toNat := fun v1695 k0_hw117 => k0_hw117.1
theorem k0_off472_inb : ∀ (v1695 : BitVec 32) (k0_hw117 : k0_chk117 v1695), ∀ a, (k0_off472 v1695) a + S16x1024.size a ≤ S28672x1024.size a := fun v1695 k0_hw117 => k0_hw117.2.1
theorem k0_off472_wordsbf16 : ∀ (v1695 : BitVec 32) (k0_hw117 : k0_chk117 v1695), (Rect.unit (s := S28672x1024) (k0_off472 v1695) S16x1024.size (k0_off472_inb v1695 k0_hw117)).WholeWords (EltTy.packing .bf16) := fun v1695 k0_hw117 => k0_hw117.2.2 (k0_off472_inb v1695 k0_hw117)

def k0_off473 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c116_i32 : BitVec 32 := 116#32
  let v1702 : BitVec 32 := Scalar.addi v38 c116_i32
  let v1703 : Index := Scalar.indexCast v1702
  ![v1703.toNat]
def k0_mult119 (v1704 : BitVec 32) : BitVec 32 :=
  v1704

def k0_off474 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off475 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1856_i32 : BitVec 32 := 1856#32
  let c0_i32_336 : BitVec 32 := 0#32
  ![v2.toNat, 1856, 0]
def k0_off476 (v1704 : BitVec 32) : Fin 2 → Nat :=
  let v1705 : BitVec 32 := v1704
  let c0_i32_337 : BitVec 32 := 0#32
  ![v1705.toNat, 0]

def k0_chk118 (v1704 : BitVec 32) : Prop :=
  (16 ∣ (k0_mult119 v1704).toNat) ∧
  (∀ a, (k0_off476 v1704) a + S16x1024.size a ≤ S28672x1024.size a) ∧
  (∀ (hinb : ∀ a, (k0_off476 v1704) a + S16x1024.size a ≤ S28672x1024.size a), (Rect.unit (s := S28672x1024) (k0_off476 v1704) S16x1024.size hinb).WholeWords (EltTy.packing .bf16))
theorem k0_mult119_dvd : ∀ (v1704 : BitVec 32) (k0_hw118 : k0_chk118 v1704), 16 ∣ (k0_mult119 v1704).toNat := fun v1704 k0_hw118 => k0_hw118.1
theorem k0_off476_inb : ∀ (v1704 : BitVec 32) (k0_hw118 : k0_chk118 v1704), ∀ a, (k0_off476 v1704) a + S16x1024.size a ≤ S28672x1024.size a := fun v1704 k0_hw118 => k0_hw118.2.1
theorem k0_off476_wordsbf16 : ∀ (v1704 : BitVec 32) (k0_hw118 : k0_chk118 v1704), (Rect.unit (s := S28672x1024) (k0_off476 v1704) S16x1024.size (k0_off476_inb v1704 k0_hw118)).WholeWords (EltTy.packing .bf16) := fun v1704 k0_hw118 => k0_hw118.2.2 (k0_off476_inb v1704 k0_hw118)

def k0_off477 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c117_i32 : BitVec 32 := 117#32
  let v1711 : BitVec 32 := Scalar.addi v38 c117_i32
  let v1712 : Index := Scalar.indexCast v1711
  ![v1712.toNat]
def k0_mult120 (v1713 : BitVec 32) : BitVec 32 :=
  v1713

def k0_off478 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off479 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1872_i32 : BitVec 32 := 1872#32
  let c0_i32_338 : BitVec 32 := 0#32
  ![v2.toNat, 1872, 0]
def k0_off480 (v1713 : BitVec 32) : Fin 2 → Nat :=
  let v1714 : BitVec 32 := v1713
  let c0_i32_339 : BitVec 32 := 0#32
  ![v1714.toNat, 0]

def k0_chk119 (v1713 : BitVec 32) : Prop :=
  (16 ∣ (k0_mult120 v1713).toNat) ∧
  (∀ a, (k0_off480 v1713) a + S16x1024.size a ≤ S28672x1024.size a) ∧
  (∀ (hinb : ∀ a, (k0_off480 v1713) a + S16x1024.size a ≤ S28672x1024.size a), (Rect.unit (s := S28672x1024) (k0_off480 v1713) S16x1024.size hinb).WholeWords (EltTy.packing .bf16))
theorem k0_mult120_dvd : ∀ (v1713 : BitVec 32) (k0_hw119 : k0_chk119 v1713), 16 ∣ (k0_mult120 v1713).toNat := fun v1713 k0_hw119 => k0_hw119.1
theorem k0_off480_inb : ∀ (v1713 : BitVec 32) (k0_hw119 : k0_chk119 v1713), ∀ a, (k0_off480 v1713) a + S16x1024.size a ≤ S28672x1024.size a := fun v1713 k0_hw119 => k0_hw119.2.1
theorem k0_off480_wordsbf16 : ∀ (v1713 : BitVec 32) (k0_hw119 : k0_chk119 v1713), (Rect.unit (s := S28672x1024) (k0_off480 v1713) S16x1024.size (k0_off480_inb v1713 k0_hw119)).WholeWords (EltTy.packing .bf16) := fun v1713 k0_hw119 => k0_hw119.2.2 (k0_off480_inb v1713 k0_hw119)

def k0_off481 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c118_i32 : BitVec 32 := 118#32
  let v1720 : BitVec 32 := Scalar.addi v38 c118_i32
  let v1721 : Index := Scalar.indexCast v1720
  ![v1721.toNat]
def k0_mult121 (v1722 : BitVec 32) : BitVec 32 :=
  v1722

def k0_off482 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off483 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1888_i32 : BitVec 32 := 1888#32
  let c0_i32_340 : BitVec 32 := 0#32
  ![v2.toNat, 1888, 0]
def k0_off484 (v1722 : BitVec 32) : Fin 2 → Nat :=
  let v1723 : BitVec 32 := v1722
  let c0_i32_341 : BitVec 32 := 0#32
  ![v1723.toNat, 0]

def k0_chk120 (v1722 : BitVec 32) : Prop :=
  (16 ∣ (k0_mult121 v1722).toNat) ∧
  (∀ a, (k0_off484 v1722) a + S16x1024.size a ≤ S28672x1024.size a) ∧
  (∀ (hinb : ∀ a, (k0_off484 v1722) a + S16x1024.size a ≤ S28672x1024.size a), (Rect.unit (s := S28672x1024) (k0_off484 v1722) S16x1024.size hinb).WholeWords (EltTy.packing .bf16))
theorem k0_mult121_dvd : ∀ (v1722 : BitVec 32) (k0_hw120 : k0_chk120 v1722), 16 ∣ (k0_mult121 v1722).toNat := fun v1722 k0_hw120 => k0_hw120.1
theorem k0_off484_inb : ∀ (v1722 : BitVec 32) (k0_hw120 : k0_chk120 v1722), ∀ a, (k0_off484 v1722) a + S16x1024.size a ≤ S28672x1024.size a := fun v1722 k0_hw120 => k0_hw120.2.1
theorem k0_off484_wordsbf16 : ∀ (v1722 : BitVec 32) (k0_hw120 : k0_chk120 v1722), (Rect.unit (s := S28672x1024) (k0_off484 v1722) S16x1024.size (k0_off484_inb v1722 k0_hw120)).WholeWords (EltTy.packing .bf16) := fun v1722 k0_hw120 => k0_hw120.2.2 (k0_off484_inb v1722 k0_hw120)

def k0_off485 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c119_i32 : BitVec 32 := 119#32
  let v1729 : BitVec 32 := Scalar.addi v38 c119_i32
  let v1730 : Index := Scalar.indexCast v1729
  ![v1730.toNat]
def k0_mult122 (v1731 : BitVec 32) : BitVec 32 :=
  v1731

def k0_off486 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off487 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1904_i32 : BitVec 32 := 1904#32
  let c0_i32_342 : BitVec 32 := 0#32
  ![v2.toNat, 1904, 0]
def k0_off488 (v1731 : BitVec 32) : Fin 2 → Nat :=
  let v1732 : BitVec 32 := v1731
  let c0_i32_343 : BitVec 32 := 0#32
  ![v1732.toNat, 0]

def k0_chk121 (v1731 : BitVec 32) : Prop :=
  (16 ∣ (k0_mult122 v1731).toNat) ∧
  (∀ a, (k0_off488 v1731) a + S16x1024.size a ≤ S28672x1024.size a) ∧
  (∀ (hinb : ∀ a, (k0_off488 v1731) a + S16x1024.size a ≤ S28672x1024.size a), (Rect.unit (s := S28672x1024) (k0_off488 v1731) S16x1024.size hinb).WholeWords (EltTy.packing .bf16))
theorem k0_mult122_dvd : ∀ (v1731 : BitVec 32) (k0_hw121 : k0_chk121 v1731), 16 ∣ (k0_mult122 v1731).toNat := fun v1731 k0_hw121 => k0_hw121.1
theorem k0_off488_inb : ∀ (v1731 : BitVec 32) (k0_hw121 : k0_chk121 v1731), ∀ a, (k0_off488 v1731) a + S16x1024.size a ≤ S28672x1024.size a := fun v1731 k0_hw121 => k0_hw121.2.1
theorem k0_off488_wordsbf16 : ∀ (v1731 : BitVec 32) (k0_hw121 : k0_chk121 v1731), (Rect.unit (s := S28672x1024) (k0_off488 v1731) S16x1024.size (k0_off488_inb v1731 k0_hw121)).WholeWords (EltTy.packing .bf16) := fun v1731 k0_hw121 => k0_hw121.2.2 (k0_off488_inb v1731 k0_hw121)

def k0_off489 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c120_i32 : BitVec 32 := 120#32
  let v1738 : BitVec 32 := Scalar.addi v38 c120_i32
  let v1739 : Index := Scalar.indexCast v1738
  ![v1739.toNat]
def k0_mult123 (v1740 : BitVec 32) : BitVec 32 :=
  v1740

def k0_off490 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off491 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1920_i32 : BitVec 32 := 1920#32
  let c0_i32_344 : BitVec 32 := 0#32
  ![v2.toNat, 1920, 0]
def k0_off492 (v1740 : BitVec 32) : Fin 2 → Nat :=
  let v1741 : BitVec 32 := v1740
  let c0_i32_345 : BitVec 32 := 0#32
  ![v1741.toNat, 0]

def k0_chk122 (v1740 : BitVec 32) : Prop :=
  (16 ∣ (k0_mult123 v1740).toNat) ∧
  (∀ a, (k0_off492 v1740) a + S16x1024.size a ≤ S28672x1024.size a) ∧
  (∀ (hinb : ∀ a, (k0_off492 v1740) a + S16x1024.size a ≤ S28672x1024.size a), (Rect.unit (s := S28672x1024) (k0_off492 v1740) S16x1024.size hinb).WholeWords (EltTy.packing .bf16))
theorem k0_mult123_dvd : ∀ (v1740 : BitVec 32) (k0_hw122 : k0_chk122 v1740), 16 ∣ (k0_mult123 v1740).toNat := fun v1740 k0_hw122 => k0_hw122.1
theorem k0_off492_inb : ∀ (v1740 : BitVec 32) (k0_hw122 : k0_chk122 v1740), ∀ a, (k0_off492 v1740) a + S16x1024.size a ≤ S28672x1024.size a := fun v1740 k0_hw122 => k0_hw122.2.1
theorem k0_off492_wordsbf16 : ∀ (v1740 : BitVec 32) (k0_hw122 : k0_chk122 v1740), (Rect.unit (s := S28672x1024) (k0_off492 v1740) S16x1024.size (k0_off492_inb v1740 k0_hw122)).WholeWords (EltTy.packing .bf16) := fun v1740 k0_hw122 => k0_hw122.2.2 (k0_off492_inb v1740 k0_hw122)

def k0_off493 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c121_i32 : BitVec 32 := 121#32
  let v1747 : BitVec 32 := Scalar.addi v38 c121_i32
  let v1748 : Index := Scalar.indexCast v1747
  ![v1748.toNat]
def k0_mult124 (v1749 : BitVec 32) : BitVec 32 :=
  v1749

def k0_off494 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off495 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1936_i32 : BitVec 32 := 1936#32
  let c0_i32_346 : BitVec 32 := 0#32
  ![v2.toNat, 1936, 0]
def k0_off496 (v1749 : BitVec 32) : Fin 2 → Nat :=
  let v1750 : BitVec 32 := v1749
  let c0_i32_347 : BitVec 32 := 0#32
  ![v1750.toNat, 0]

def k0_chk123 (v1749 : BitVec 32) : Prop :=
  (16 ∣ (k0_mult124 v1749).toNat) ∧
  (∀ a, (k0_off496 v1749) a + S16x1024.size a ≤ S28672x1024.size a) ∧
  (∀ (hinb : ∀ a, (k0_off496 v1749) a + S16x1024.size a ≤ S28672x1024.size a), (Rect.unit (s := S28672x1024) (k0_off496 v1749) S16x1024.size hinb).WholeWords (EltTy.packing .bf16))
theorem k0_mult124_dvd : ∀ (v1749 : BitVec 32) (k0_hw123 : k0_chk123 v1749), 16 ∣ (k0_mult124 v1749).toNat := fun v1749 k0_hw123 => k0_hw123.1
theorem k0_off496_inb : ∀ (v1749 : BitVec 32) (k0_hw123 : k0_chk123 v1749), ∀ a, (k0_off496 v1749) a + S16x1024.size a ≤ S28672x1024.size a := fun v1749 k0_hw123 => k0_hw123.2.1
theorem k0_off496_wordsbf16 : ∀ (v1749 : BitVec 32) (k0_hw123 : k0_chk123 v1749), (Rect.unit (s := S28672x1024) (k0_off496 v1749) S16x1024.size (k0_off496_inb v1749 k0_hw123)).WholeWords (EltTy.packing .bf16) := fun v1749 k0_hw123 => k0_hw123.2.2 (k0_off496_inb v1749 k0_hw123)

def k0_off497 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c122_i32 : BitVec 32 := 122#32
  let v1756 : BitVec 32 := Scalar.addi v38 c122_i32
  let v1757 : Index := Scalar.indexCast v1756
  ![v1757.toNat]
def k0_mult125 (v1758 : BitVec 32) : BitVec 32 :=
  v1758

def k0_off498 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off499 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1952_i32 : BitVec 32 := 1952#32
  let c0_i32_348 : BitVec 32 := 0#32
  ![v2.toNat, 1952, 0]
def k0_off500 (v1758 : BitVec 32) : Fin 2 → Nat :=
  let v1759 : BitVec 32 := v1758
  let c0_i32_349 : BitVec 32 := 0#32
  ![v1759.toNat, 0]

def k0_chk124 (v1758 : BitVec 32) : Prop :=
  (16 ∣ (k0_mult125 v1758).toNat) ∧
  (∀ a, (k0_off500 v1758) a + S16x1024.size a ≤ S28672x1024.size a) ∧
  (∀ (hinb : ∀ a, (k0_off500 v1758) a + S16x1024.size a ≤ S28672x1024.size a), (Rect.unit (s := S28672x1024) (k0_off500 v1758) S16x1024.size hinb).WholeWords (EltTy.packing .bf16))
theorem k0_mult125_dvd : ∀ (v1758 : BitVec 32) (k0_hw124 : k0_chk124 v1758), 16 ∣ (k0_mult125 v1758).toNat := fun v1758 k0_hw124 => k0_hw124.1
theorem k0_off500_inb : ∀ (v1758 : BitVec 32) (k0_hw124 : k0_chk124 v1758), ∀ a, (k0_off500 v1758) a + S16x1024.size a ≤ S28672x1024.size a := fun v1758 k0_hw124 => k0_hw124.2.1
theorem k0_off500_wordsbf16 : ∀ (v1758 : BitVec 32) (k0_hw124 : k0_chk124 v1758), (Rect.unit (s := S28672x1024) (k0_off500 v1758) S16x1024.size (k0_off500_inb v1758 k0_hw124)).WholeWords (EltTy.packing .bf16) := fun v1758 k0_hw124 => k0_hw124.2.2 (k0_off500_inb v1758 k0_hw124)

def k0_off501 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c123_i32 : BitVec 32 := 123#32
  let v1765 : BitVec 32 := Scalar.addi v38 c123_i32
  let v1766 : Index := Scalar.indexCast v1765
  ![v1766.toNat]
def k0_mult126 (v1767 : BitVec 32) : BitVec 32 :=
  v1767

def k0_off502 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off503 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1968_i32 : BitVec 32 := 1968#32
  let c0_i32_350 : BitVec 32 := 0#32
  ![v2.toNat, 1968, 0]
def k0_off504 (v1767 : BitVec 32) : Fin 2 → Nat :=
  let v1768 : BitVec 32 := v1767
  let c0_i32_351 : BitVec 32 := 0#32
  ![v1768.toNat, 0]

def k0_chk125 (v1767 : BitVec 32) : Prop :=
  (16 ∣ (k0_mult126 v1767).toNat) ∧
  (∀ a, (k0_off504 v1767) a + S16x1024.size a ≤ S28672x1024.size a) ∧
  (∀ (hinb : ∀ a, (k0_off504 v1767) a + S16x1024.size a ≤ S28672x1024.size a), (Rect.unit (s := S28672x1024) (k0_off504 v1767) S16x1024.size hinb).WholeWords (EltTy.packing .bf16))
theorem k0_mult126_dvd : ∀ (v1767 : BitVec 32) (k0_hw125 : k0_chk125 v1767), 16 ∣ (k0_mult126 v1767).toNat := fun v1767 k0_hw125 => k0_hw125.1
theorem k0_off504_inb : ∀ (v1767 : BitVec 32) (k0_hw125 : k0_chk125 v1767), ∀ a, (k0_off504 v1767) a + S16x1024.size a ≤ S28672x1024.size a := fun v1767 k0_hw125 => k0_hw125.2.1
theorem k0_off504_wordsbf16 : ∀ (v1767 : BitVec 32) (k0_hw125 : k0_chk125 v1767), (Rect.unit (s := S28672x1024) (k0_off504 v1767) S16x1024.size (k0_off504_inb v1767 k0_hw125)).WholeWords (EltTy.packing .bf16) := fun v1767 k0_hw125 => k0_hw125.2.2 (k0_off504_inb v1767 k0_hw125)

def k0_off505 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c124_i32 : BitVec 32 := 124#32
  let v1774 : BitVec 32 := Scalar.addi v38 c124_i32
  let v1775 : Index := Scalar.indexCast v1774
  ![v1775.toNat]
def k0_mult127 (v1776 : BitVec 32) : BitVec 32 :=
  v1776

def k0_off506 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off507 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c1984_i32 : BitVec 32 := 1984#32
  let c0_i32_352 : BitVec 32 := 0#32
  ![v2.toNat, 1984, 0]
def k0_off508 (v1776 : BitVec 32) : Fin 2 → Nat :=
  let v1777 : BitVec 32 := v1776
  let c0_i32_353 : BitVec 32 := 0#32
  ![v1777.toNat, 0]

def k0_chk126 (v1776 : BitVec 32) : Prop :=
  (16 ∣ (k0_mult127 v1776).toNat) ∧
  (∀ a, (k0_off508 v1776) a + S16x1024.size a ≤ S28672x1024.size a) ∧
  (∀ (hinb : ∀ a, (k0_off508 v1776) a + S16x1024.size a ≤ S28672x1024.size a), (Rect.unit (s := S28672x1024) (k0_off508 v1776) S16x1024.size hinb).WholeWords (EltTy.packing .bf16))
theorem k0_mult127_dvd : ∀ (v1776 : BitVec 32) (k0_hw126 : k0_chk126 v1776), 16 ∣ (k0_mult127 v1776).toNat := fun v1776 k0_hw126 => k0_hw126.1
theorem k0_off508_inb : ∀ (v1776 : BitVec 32) (k0_hw126 : k0_chk126 v1776), ∀ a, (k0_off508 v1776) a + S16x1024.size a ≤ S28672x1024.size a := fun v1776 k0_hw126 => k0_hw126.2.1
theorem k0_off508_wordsbf16 : ∀ (v1776 : BitVec 32) (k0_hw126 : k0_chk126 v1776), (Rect.unit (s := S28672x1024) (k0_off508 v1776) S16x1024.size (k0_off508_inb v1776 k0_hw126)).WholeWords (EltTy.packing .bf16) := fun v1776 k0_hw126 => k0_hw126.2.2 (k0_off508_inb v1776 k0_hw126)

def k0_off509 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c125_i32 : BitVec 32 := 125#32
  let v1783 : BitVec 32 := Scalar.addi v38 c125_i32
  let v1784 : Index := Scalar.indexCast v1783
  ![v1784.toNat]
def k0_mult128 (v1785 : BitVec 32) : BitVec 32 :=
  v1785

def k0_off510 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off511 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2000_i32 : BitVec 32 := 2000#32
  let c0_i32_354 : BitVec 32 := 0#32
  ![v2.toNat, 2000, 0]
def k0_off512 (v1785 : BitVec 32) : Fin 2 → Nat :=
  let v1786 : BitVec 32 := v1785
  let c0_i32_355 : BitVec 32 := 0#32
  ![v1786.toNat, 0]

def k0_chk127 (v1785 : BitVec 32) : Prop :=
  (16 ∣ (k0_mult128 v1785).toNat) ∧
  (∀ a, (k0_off512 v1785) a + S16x1024.size a ≤ S28672x1024.size a) ∧
  (∀ (hinb : ∀ a, (k0_off512 v1785) a + S16x1024.size a ≤ S28672x1024.size a), (Rect.unit (s := S28672x1024) (k0_off512 v1785) S16x1024.size hinb).WholeWords (EltTy.packing .bf16))
theorem k0_mult128_dvd : ∀ (v1785 : BitVec 32) (k0_hw127 : k0_chk127 v1785), 16 ∣ (k0_mult128 v1785).toNat := fun v1785 k0_hw127 => k0_hw127.1
theorem k0_off512_inb : ∀ (v1785 : BitVec 32) (k0_hw127 : k0_chk127 v1785), ∀ a, (k0_off512 v1785) a + S16x1024.size a ≤ S28672x1024.size a := fun v1785 k0_hw127 => k0_hw127.2.1
theorem k0_off512_wordsbf16 : ∀ (v1785 : BitVec 32) (k0_hw127 : k0_chk127 v1785), (Rect.unit (s := S28672x1024) (k0_off512 v1785) S16x1024.size (k0_off512_inb v1785 k0_hw127)).WholeWords (EltTy.packing .bf16) := fun v1785 k0_hw127 => k0_hw127.2.2 (k0_off512_inb v1785 k0_hw127)

def k0_off513 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c126_i32 : BitVec 32 := 126#32
  let v1792 : BitVec 32 := Scalar.addi v38 c126_i32
  let v1793 : Index := Scalar.indexCast v1792
  ![v1793.toNat]
def k0_mult129 (v1794 : BitVec 32) : BitVec 32 :=
  v1794

def k0_off514 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off515 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2016_i32 : BitVec 32 := 2016#32
  let c0_i32_356 : BitVec 32 := 0#32
  ![v2.toNat, 2016, 0]
def k0_off516 (v1794 : BitVec 32) : Fin 2 → Nat :=
  let v1795 : BitVec 32 := v1794
  let c0_i32_357 : BitVec 32 := 0#32
  ![v1795.toNat, 0]

def k0_chk128 (v1794 : BitVec 32) : Prop :=
  (16 ∣ (k0_mult129 v1794).toNat) ∧
  (∀ a, (k0_off516 v1794) a + S16x1024.size a ≤ S28672x1024.size a) ∧
  (∀ (hinb : ∀ a, (k0_off516 v1794) a + S16x1024.size a ≤ S28672x1024.size a), (Rect.unit (s := S28672x1024) (k0_off516 v1794) S16x1024.size hinb).WholeWords (EltTy.packing .bf16))
theorem k0_mult129_dvd : ∀ (v1794 : BitVec 32) (k0_hw128 : k0_chk128 v1794), 16 ∣ (k0_mult129 v1794).toNat := fun v1794 k0_hw128 => k0_hw128.1
theorem k0_off516_inb : ∀ (v1794 : BitVec 32) (k0_hw128 : k0_chk128 v1794), ∀ a, (k0_off516 v1794) a + S16x1024.size a ≤ S28672x1024.size a := fun v1794 k0_hw128 => k0_hw128.2.1
theorem k0_off516_wordsbf16 : ∀ (v1794 : BitVec 32) (k0_hw128 : k0_chk128 v1794), (Rect.unit (s := S28672x1024) (k0_off516 v1794) S16x1024.size (k0_off516_inb v1794 k0_hw128)).WholeWords (EltTy.packing .bf16) := fun v1794 k0_hw128 => k0_hw128.2.2 (k0_off516_inb v1794 k0_hw128)

def k0_off517 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c127_i32 : BitVec 32 := 127#32
  let v1801 : BitVec 32 := Scalar.addi v38 c127_i32
  let v1802 : Index := Scalar.indexCast v1801
  ![v1802.toNat]
def k0_mult130 (v1803 : BitVec 32) : BitVec 32 :=
  v1803

def k0_off518 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off519 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2032_i32 : BitVec 32 := 2032#32
  let c0_i32_358 : BitVec 32 := 0#32
  ![v2.toNat, 2032, 0]
def k0_off520 (v1803 : BitVec 32) : Fin 2 → Nat :=
  let v1804 : BitVec 32 := v1803
  let c0_i32_359 : BitVec 32 := 0#32
  ![v1804.toNat, 0]

def k0_chk129 (v1803 : BitVec 32) : Prop :=
  (16 ∣ (k0_mult130 v1803).toNat) ∧
  (∀ a, (k0_off520 v1803) a + S16x1024.size a ≤ S28672x1024.size a) ∧
  (∀ (hinb : ∀ a, (k0_off520 v1803) a + S16x1024.size a ≤ S28672x1024.size a), (Rect.unit (s := S28672x1024) (k0_off520 v1803) S16x1024.size hinb).WholeWords (EltTy.packing .bf16))
theorem k0_mult130_dvd : ∀ (v1803 : BitVec 32) (k0_hw129 : k0_chk129 v1803), 16 ∣ (k0_mult130 v1803).toNat := fun v1803 k0_hw129 => k0_hw129.1
theorem k0_off520_inb : ∀ (v1803 : BitVec 32) (k0_hw129 : k0_chk129 v1803), ∀ a, (k0_off520 v1803) a + S16x1024.size a ≤ S28672x1024.size a := fun v1803 k0_hw129 => k0_hw129.2.1
theorem k0_off520_wordsbf16 : ∀ (v1803 : BitVec 32) (k0_hw129 : k0_chk129 v1803), (Rect.unit (s := S28672x1024) (k0_off520 v1803) S16x1024.size (k0_off520_inb v1803 k0_hw129)).WholeWords (EltTy.packing .bf16) := fun v1803 k0_hw129 => k0_hw129.2.2 (k0_off520_inb v1803 k0_hw129)

def k0_off521 (i : grid0.Coords) : Fin 3 → Nat :=
  let arg0 : BitVec 32 := BitVec.ofNat 32 (i 0).val
  let c3_i32 : BitVec 32 := 3#32
  let v0 : BitVec 32 := Scalar.remsi arg0 c3_i32
  let v2115 : Index := Scalar.indexCast v0
  let c2048 : Index := 2048#32
  let c0_396 : Index := 0#32
  ![v2115.toNat, 2048, 0]
def k0_off522 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c128_i32_398 : BitVec 32 := 128#32
  let v2120 : BitVec 32 := Scalar.addi v38 c128_i32_398
  let v2121 : Index := Scalar.indexCast v2120
  ![v2121.toNat]
def k0_mult131 (v2122 : BitVec 32) : BitVec 32 :=
  v2122

def k0_off523 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off524 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2048_i32 : BitVec 32 := 2048#32
  let c0_i32_399 : BitVec 32 := 0#32
  ![v2.toNat, 2048, 0]
def k0_off525 (v2122 : BitVec 32) : Fin 2 → Nat :=
  let v2123 : BitVec 32 := v2122
  let c0_i32_400 : BitVec 32 := 0#32
  ![v2123.toNat, 0]

def k0_chk130 (v2122 : BitVec 32) : Prop :=
  (16 ∣ (k0_mult131 v2122).toNat) ∧
  (∀ a, (k0_off525 v2122) a + S16x1024.size a ≤ S28672x1024.size a) ∧
  (∀ (hinb : ∀ a, (k0_off525 v2122) a + S16x1024.size a ≤ S28672x1024.size a), (Rect.unit (s := S28672x1024) (k0_off525 v2122) S16x1024.size hinb).WholeWords (EltTy.packing .bf16))
theorem k0_mult131_dvd : ∀ (v2122 : BitVec 32) (k0_hw130 : k0_chk130 v2122), 16 ∣ (k0_mult131 v2122).toNat := fun v2122 k0_hw130 => k0_hw130.1
theorem k0_off525_inb : ∀ (v2122 : BitVec 32) (k0_hw130 : k0_chk130 v2122), ∀ a, (k0_off525 v2122) a + S16x1024.size a ≤ S28672x1024.size a := fun v2122 k0_hw130 => k0_hw130.2.1
theorem k0_off525_wordsbf16 : ∀ (v2122 : BitVec 32) (k0_hw130 : k0_chk130 v2122), (Rect.unit (s := S28672x1024) (k0_off525 v2122) S16x1024.size (k0_off525_inb v2122 k0_hw130)).WholeWords (EltTy.packing .bf16) := fun v2122 k0_hw130 => k0_hw130.2.2 (k0_off525_inb v2122 k0_hw130)

def k0_off526 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c129_i32 : BitVec 32 := 129#32
  let v2129 : BitVec 32 := Scalar.addi v38 c129_i32
  let v2130 : Index := Scalar.indexCast v2129
  ![v2130.toNat]
def k0_mult132 (v2131 : BitVec 32) : BitVec 32 :=
  v2131

def k0_off527 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off528 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2064_i32 : BitVec 32 := 2064#32
  let c0_i32_401 : BitVec 32 := 0#32
  ![v2.toNat, 2064, 0]
def k0_off529 (v2131 : BitVec 32) : Fin 2 → Nat :=
  let v2132 : BitVec 32 := v2131
  let c0_i32_402 : BitVec 32 := 0#32
  ![v2132.toNat, 0]

def k0_chk131 (v2131 : BitVec 32) : Prop :=
  (16 ∣ (k0_mult132 v2131).toNat) ∧
  (∀ a, (k0_off529 v2131) a + S16x1024.size a ≤ S28672x1024.size a) ∧
  (∀ (hinb : ∀ a, (k0_off529 v2131) a + S16x1024.size a ≤ S28672x1024.size a), (Rect.unit (s := S28672x1024) (k0_off529 v2131) S16x1024.size hinb).WholeWords (EltTy.packing .bf16))
theorem k0_mult132_dvd : ∀ (v2131 : BitVec 32) (k0_hw131 : k0_chk131 v2131), 16 ∣ (k0_mult132 v2131).toNat := fun v2131 k0_hw131 => k0_hw131.1
theorem k0_off529_inb : ∀ (v2131 : BitVec 32) (k0_hw131 : k0_chk131 v2131), ∀ a, (k0_off529 v2131) a + S16x1024.size a ≤ S28672x1024.size a := fun v2131 k0_hw131 => k0_hw131.2.1
theorem k0_off529_wordsbf16 : ∀ (v2131 : BitVec 32) (k0_hw131 : k0_chk131 v2131), (Rect.unit (s := S28672x1024) (k0_off529 v2131) S16x1024.size (k0_off529_inb v2131 k0_hw131)).WholeWords (EltTy.packing .bf16) := fun v2131 k0_hw131 => k0_hw131.2.2 (k0_off529_inb v2131 k0_hw131)

def k0_off530 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c130_i32 : BitVec 32 := 130#32
  let v2138 : BitVec 32 := Scalar.addi v38 c130_i32
  let v2139 : Index := Scalar.indexCast v2138
  ![v2139.toNat]
def k0_mult133 (v2140 : BitVec 32) : BitVec 32 :=
  v2140

def k0_off531 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off532 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2080_i32 : BitVec 32 := 2080#32
  let c0_i32_403 : BitVec 32 := 0#32
  ![v2.toNat, 2080, 0]
def k0_off533 (v2140 : BitVec 32) : Fin 2 → Nat :=
  let v2141 : BitVec 32 := v2140
  let c0_i32_404 : BitVec 32 := 0#32
  ![v2141.toNat, 0]

def k0_chk132 (v2140 : BitVec 32) : Prop :=
  (16 ∣ (k0_mult133 v2140).toNat) ∧
  (∀ a, (k0_off533 v2140) a + S16x1024.size a ≤ S28672x1024.size a) ∧
  (∀ (hinb : ∀ a, (k0_off533 v2140) a + S16x1024.size a ≤ S28672x1024.size a), (Rect.unit (s := S28672x1024) (k0_off533 v2140) S16x1024.size hinb).WholeWords (EltTy.packing .bf16))
theorem k0_mult133_dvd : ∀ (v2140 : BitVec 32) (k0_hw132 : k0_chk132 v2140), 16 ∣ (k0_mult133 v2140).toNat := fun v2140 k0_hw132 => k0_hw132.1
theorem k0_off533_inb : ∀ (v2140 : BitVec 32) (k0_hw132 : k0_chk132 v2140), ∀ a, (k0_off533 v2140) a + S16x1024.size a ≤ S28672x1024.size a := fun v2140 k0_hw132 => k0_hw132.2.1
theorem k0_off533_wordsbf16 : ∀ (v2140 : BitVec 32) (k0_hw132 : k0_chk132 v2140), (Rect.unit (s := S28672x1024) (k0_off533 v2140) S16x1024.size (k0_off533_inb v2140 k0_hw132)).WholeWords (EltTy.packing .bf16) := fun v2140 k0_hw132 => k0_hw132.2.2 (k0_off533_inb v2140 k0_hw132)

def k0_off534 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c131_i32 : BitVec 32 := 131#32
  let v2147 : BitVec 32 := Scalar.addi v38 c131_i32
  let v2148 : Index := Scalar.indexCast v2147
  ![v2148.toNat]
def k0_mult134 (v2149 : BitVec 32) : BitVec 32 :=
  v2149

def k0_off535 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off536 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2096_i32 : BitVec 32 := 2096#32
  let c0_i32_405 : BitVec 32 := 0#32
  ![v2.toNat, 2096, 0]
def k0_off537 (v2149 : BitVec 32) : Fin 2 → Nat :=
  let v2150 : BitVec 32 := v2149
  let c0_i32_406 : BitVec 32 := 0#32
  ![v2150.toNat, 0]

def k0_chk133 (v2149 : BitVec 32) : Prop :=
  (16 ∣ (k0_mult134 v2149).toNat) ∧
  (∀ a, (k0_off537 v2149) a + S16x1024.size a ≤ S28672x1024.size a) ∧
  (∀ (hinb : ∀ a, (k0_off537 v2149) a + S16x1024.size a ≤ S28672x1024.size a), (Rect.unit (s := S28672x1024) (k0_off537 v2149) S16x1024.size hinb).WholeWords (EltTy.packing .bf16))
theorem k0_mult134_dvd : ∀ (v2149 : BitVec 32) (k0_hw133 : k0_chk133 v2149), 16 ∣ (k0_mult134 v2149).toNat := fun v2149 k0_hw133 => k0_hw133.1
theorem k0_off537_inb : ∀ (v2149 : BitVec 32) (k0_hw133 : k0_chk133 v2149), ∀ a, (k0_off537 v2149) a + S16x1024.size a ≤ S28672x1024.size a := fun v2149 k0_hw133 => k0_hw133.2.1
theorem k0_off537_wordsbf16 : ∀ (v2149 : BitVec 32) (k0_hw133 : k0_chk133 v2149), (Rect.unit (s := S28672x1024) (k0_off537 v2149) S16x1024.size (k0_off537_inb v2149 k0_hw133)).WholeWords (EltTy.packing .bf16) := fun v2149 k0_hw133 => k0_hw133.2.2 (k0_off537_inb v2149 k0_hw133)

def k0_off538 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c132_i32 : BitVec 32 := 132#32
  let v2156 : BitVec 32 := Scalar.addi v38 c132_i32
  let v2157 : Index := Scalar.indexCast v2156
  ![v2157.toNat]
def k0_mult135 (v2158 : BitVec 32) : BitVec 32 :=
  v2158

def k0_off539 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off540 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2112_i32 : BitVec 32 := 2112#32
  let c0_i32_407 : BitVec 32 := 0#32
  ![v2.toNat, 2112, 0]
def k0_off541 (v2158 : BitVec 32) : Fin 2 → Nat :=
  let v2159 : BitVec 32 := v2158
  let c0_i32_408 : BitVec 32 := 0#32
  ![v2159.toNat, 0]

def k0_chk134 (v2158 : BitVec 32) : Prop :=
  (16 ∣ (k0_mult135 v2158).toNat) ∧
  (∀ a, (k0_off541 v2158) a + S16x1024.size a ≤ S28672x1024.size a) ∧
  (∀ (hinb : ∀ a, (k0_off541 v2158) a + S16x1024.size a ≤ S28672x1024.size a), (Rect.unit (s := S28672x1024) (k0_off541 v2158) S16x1024.size hinb).WholeWords (EltTy.packing .bf16))
theorem k0_mult135_dvd : ∀ (v2158 : BitVec 32) (k0_hw134 : k0_chk134 v2158), 16 ∣ (k0_mult135 v2158).toNat := fun v2158 k0_hw134 => k0_hw134.1
theorem k0_off541_inb : ∀ (v2158 : BitVec 32) (k0_hw134 : k0_chk134 v2158), ∀ a, (k0_off541 v2158) a + S16x1024.size a ≤ S28672x1024.size a := fun v2158 k0_hw134 => k0_hw134.2.1
theorem k0_off541_wordsbf16 : ∀ (v2158 : BitVec 32) (k0_hw134 : k0_chk134 v2158), (Rect.unit (s := S28672x1024) (k0_off541 v2158) S16x1024.size (k0_off541_inb v2158 k0_hw134)).WholeWords (EltTy.packing .bf16) := fun v2158 k0_hw134 => k0_hw134.2.2 (k0_off541_inb v2158 k0_hw134)

def k0_off542 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c133_i32 : BitVec 32 := 133#32
  let v2165 : BitVec 32 := Scalar.addi v38 c133_i32
  let v2166 : Index := Scalar.indexCast v2165
  ![v2166.toNat]
def k0_mult136 (v2167 : BitVec 32) : BitVec 32 :=
  v2167

def k0_off543 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off544 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2128_i32 : BitVec 32 := 2128#32
  let c0_i32_409 : BitVec 32 := 0#32
  ![v2.toNat, 2128, 0]
def k0_off545 (v2167 : BitVec 32) : Fin 2 → Nat :=
  let v2168 : BitVec 32 := v2167
  let c0_i32_410 : BitVec 32 := 0#32
  ![v2168.toNat, 0]

def k0_chk135 (v2167 : BitVec 32) : Prop :=
  (16 ∣ (k0_mult136 v2167).toNat) ∧
  (∀ a, (k0_off545 v2167) a + S16x1024.size a ≤ S28672x1024.size a) ∧
  (∀ (hinb : ∀ a, (k0_off545 v2167) a + S16x1024.size a ≤ S28672x1024.size a), (Rect.unit (s := S28672x1024) (k0_off545 v2167) S16x1024.size hinb).WholeWords (EltTy.packing .bf16))
theorem k0_mult136_dvd : ∀ (v2167 : BitVec 32) (k0_hw135 : k0_chk135 v2167), 16 ∣ (k0_mult136 v2167).toNat := fun v2167 k0_hw135 => k0_hw135.1
theorem k0_off545_inb : ∀ (v2167 : BitVec 32) (k0_hw135 : k0_chk135 v2167), ∀ a, (k0_off545 v2167) a + S16x1024.size a ≤ S28672x1024.size a := fun v2167 k0_hw135 => k0_hw135.2.1
theorem k0_off545_wordsbf16 : ∀ (v2167 : BitVec 32) (k0_hw135 : k0_chk135 v2167), (Rect.unit (s := S28672x1024) (k0_off545 v2167) S16x1024.size (k0_off545_inb v2167 k0_hw135)).WholeWords (EltTy.packing .bf16) := fun v2167 k0_hw135 => k0_hw135.2.2 (k0_off545_inb v2167 k0_hw135)

def k0_off546 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c134_i32 : BitVec 32 := 134#32
  let v2174 : BitVec 32 := Scalar.addi v38 c134_i32
  let v2175 : Index := Scalar.indexCast v2174
  ![v2175.toNat]
def k0_mult137 (v2176 : BitVec 32) : BitVec 32 :=
  v2176

def k0_off547 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off548 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2144_i32 : BitVec 32 := 2144#32
  let c0_i32_411 : BitVec 32 := 0#32
  ![v2.toNat, 2144, 0]
def k0_off549 (v2176 : BitVec 32) : Fin 2 → Nat :=
  let v2177 : BitVec 32 := v2176
  let c0_i32_412 : BitVec 32 := 0#32
  ![v2177.toNat, 0]

def k0_chk136 (v2176 : BitVec 32) : Prop :=
  (16 ∣ (k0_mult137 v2176).toNat) ∧
  (∀ a, (k0_off549 v2176) a + S16x1024.size a ≤ S28672x1024.size a) ∧
  (∀ (hinb : ∀ a, (k0_off549 v2176) a + S16x1024.size a ≤ S28672x1024.size a), (Rect.unit (s := S28672x1024) (k0_off549 v2176) S16x1024.size hinb).WholeWords (EltTy.packing .bf16))
theorem k0_mult137_dvd : ∀ (v2176 : BitVec 32) (k0_hw136 : k0_chk136 v2176), 16 ∣ (k0_mult137 v2176).toNat := fun v2176 k0_hw136 => k0_hw136.1
theorem k0_off549_inb : ∀ (v2176 : BitVec 32) (k0_hw136 : k0_chk136 v2176), ∀ a, (k0_off549 v2176) a + S16x1024.size a ≤ S28672x1024.size a := fun v2176 k0_hw136 => k0_hw136.2.1
theorem k0_off549_wordsbf16 : ∀ (v2176 : BitVec 32) (k0_hw136 : k0_chk136 v2176), (Rect.unit (s := S28672x1024) (k0_off549 v2176) S16x1024.size (k0_off549_inb v2176 k0_hw136)).WholeWords (EltTy.packing .bf16) := fun v2176 k0_hw136 => k0_hw136.2.2 (k0_off549_inb v2176 k0_hw136)

def k0_off550 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c135_i32 : BitVec 32 := 135#32
  let v2183 : BitVec 32 := Scalar.addi v38 c135_i32
  let v2184 : Index := Scalar.indexCast v2183
  ![v2184.toNat]
def k0_mult138 (v2185 : BitVec 32) : BitVec 32 :=
  v2185

def k0_off551 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off552 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2160_i32 : BitVec 32 := 2160#32
  let c0_i32_413 : BitVec 32 := 0#32
  ![v2.toNat, 2160, 0]
def k0_off553 (v2185 : BitVec 32) : Fin 2 → Nat :=
  let v2186 : BitVec 32 := v2185
  let c0_i32_414 : BitVec 32 := 0#32
  ![v2186.toNat, 0]

def k0_chk137 (v2185 : BitVec 32) : Prop :=
  (16 ∣ (k0_mult138 v2185).toNat) ∧
  (∀ a, (k0_off553 v2185) a + S16x1024.size a ≤ S28672x1024.size a) ∧
  (∀ (hinb : ∀ a, (k0_off553 v2185) a + S16x1024.size a ≤ S28672x1024.size a), (Rect.unit (s := S28672x1024) (k0_off553 v2185) S16x1024.size hinb).WholeWords (EltTy.packing .bf16))
theorem k0_mult138_dvd : ∀ (v2185 : BitVec 32) (k0_hw137 : k0_chk137 v2185), 16 ∣ (k0_mult138 v2185).toNat := fun v2185 k0_hw137 => k0_hw137.1
theorem k0_off553_inb : ∀ (v2185 : BitVec 32) (k0_hw137 : k0_chk137 v2185), ∀ a, (k0_off553 v2185) a + S16x1024.size a ≤ S28672x1024.size a := fun v2185 k0_hw137 => k0_hw137.2.1
theorem k0_off553_wordsbf16 : ∀ (v2185 : BitVec 32) (k0_hw137 : k0_chk137 v2185), (Rect.unit (s := S28672x1024) (k0_off553 v2185) S16x1024.size (k0_off553_inb v2185 k0_hw137)).WholeWords (EltTy.packing .bf16) := fun v2185 k0_hw137 => k0_hw137.2.2 (k0_off553_inb v2185 k0_hw137)

def k0_off554 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c136_i32 : BitVec 32 := 136#32
  let v2192 : BitVec 32 := Scalar.addi v38 c136_i32
  let v2193 : Index := Scalar.indexCast v2192
  ![v2193.toNat]
def k0_mult139 (v2194 : BitVec 32) : BitVec 32 :=
  v2194

def k0_off555 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off556 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2176_i32 : BitVec 32 := 2176#32
  let c0_i32_415 : BitVec 32 := 0#32
  ![v2.toNat, 2176, 0]
def k0_off557 (v2194 : BitVec 32) : Fin 2 → Nat :=
  let v2195 : BitVec 32 := v2194
  let c0_i32_416 : BitVec 32 := 0#32
  ![v2195.toNat, 0]

def k0_chk138 (v2194 : BitVec 32) : Prop :=
  (16 ∣ (k0_mult139 v2194).toNat) ∧
  (∀ a, (k0_off557 v2194) a + S16x1024.size a ≤ S28672x1024.size a) ∧
  (∀ (hinb : ∀ a, (k0_off557 v2194) a + S16x1024.size a ≤ S28672x1024.size a), (Rect.unit (s := S28672x1024) (k0_off557 v2194) S16x1024.size hinb).WholeWords (EltTy.packing .bf16))
theorem k0_mult139_dvd : ∀ (v2194 : BitVec 32) (k0_hw138 : k0_chk138 v2194), 16 ∣ (k0_mult139 v2194).toNat := fun v2194 k0_hw138 => k0_hw138.1
theorem k0_off557_inb : ∀ (v2194 : BitVec 32) (k0_hw138 : k0_chk138 v2194), ∀ a, (k0_off557 v2194) a + S16x1024.size a ≤ S28672x1024.size a := fun v2194 k0_hw138 => k0_hw138.2.1
theorem k0_off557_wordsbf16 : ∀ (v2194 : BitVec 32) (k0_hw138 : k0_chk138 v2194), (Rect.unit (s := S28672x1024) (k0_off557 v2194) S16x1024.size (k0_off557_inb v2194 k0_hw138)).WholeWords (EltTy.packing .bf16) := fun v2194 k0_hw138 => k0_hw138.2.2 (k0_off557_inb v2194 k0_hw138)

def k0_off558 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c137_i32 : BitVec 32 := 137#32
  let v2201 : BitVec 32 := Scalar.addi v38 c137_i32
  let v2202 : Index := Scalar.indexCast v2201
  ![v2202.toNat]
def k0_mult140 (v2203 : BitVec 32) : BitVec 32 :=
  v2203

def k0_off559 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off560 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2192_i32 : BitVec 32 := 2192#32
  let c0_i32_417 : BitVec 32 := 0#32
  ![v2.toNat, 2192, 0]
def k0_off561 (v2203 : BitVec 32) : Fin 2 → Nat :=
  let v2204 : BitVec 32 := v2203
  let c0_i32_418 : BitVec 32 := 0#32
  ![v2204.toNat, 0]

def k0_chk139 (v2203 : BitVec 32) : Prop :=
  (16 ∣ (k0_mult140 v2203).toNat) ∧
  (∀ a, (k0_off561 v2203) a + S16x1024.size a ≤ S28672x1024.size a) ∧
  (∀ (hinb : ∀ a, (k0_off561 v2203) a + S16x1024.size a ≤ S28672x1024.size a), (Rect.unit (s := S28672x1024) (k0_off561 v2203) S16x1024.size hinb).WholeWords (EltTy.packing .bf16))
theorem k0_mult140_dvd : ∀ (v2203 : BitVec 32) (k0_hw139 : k0_chk139 v2203), 16 ∣ (k0_mult140 v2203).toNat := fun v2203 k0_hw139 => k0_hw139.1
theorem k0_off561_inb : ∀ (v2203 : BitVec 32) (k0_hw139 : k0_chk139 v2203), ∀ a, (k0_off561 v2203) a + S16x1024.size a ≤ S28672x1024.size a := fun v2203 k0_hw139 => k0_hw139.2.1
theorem k0_off561_wordsbf16 : ∀ (v2203 : BitVec 32) (k0_hw139 : k0_chk139 v2203), (Rect.unit (s := S28672x1024) (k0_off561 v2203) S16x1024.size (k0_off561_inb v2203 k0_hw139)).WholeWords (EltTy.packing .bf16) := fun v2203 k0_hw139 => k0_hw139.2.2 (k0_off561_inb v2203 k0_hw139)

def k0_off562 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c138_i32 : BitVec 32 := 138#32
  let v2210 : BitVec 32 := Scalar.addi v38 c138_i32
  let v2211 : Index := Scalar.indexCast v2210
  ![v2211.toNat]
def k0_mult141 (v2212 : BitVec 32) : BitVec 32 :=
  v2212

def k0_off563 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off564 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2208_i32 : BitVec 32 := 2208#32
  let c0_i32_419 : BitVec 32 := 0#32
  ![v2.toNat, 2208, 0]
def k0_off565 (v2212 : BitVec 32) : Fin 2 → Nat :=
  let v2213 : BitVec 32 := v2212
  let c0_i32_420 : BitVec 32 := 0#32
  ![v2213.toNat, 0]

def k0_chk140 (v2212 : BitVec 32) : Prop :=
  (16 ∣ (k0_mult141 v2212).toNat) ∧
  (∀ a, (k0_off565 v2212) a + S16x1024.size a ≤ S28672x1024.size a) ∧
  (∀ (hinb : ∀ a, (k0_off565 v2212) a + S16x1024.size a ≤ S28672x1024.size a), (Rect.unit (s := S28672x1024) (k0_off565 v2212) S16x1024.size hinb).WholeWords (EltTy.packing .bf16))
theorem k0_mult141_dvd : ∀ (v2212 : BitVec 32) (k0_hw140 : k0_chk140 v2212), 16 ∣ (k0_mult141 v2212).toNat := fun v2212 k0_hw140 => k0_hw140.1
theorem k0_off565_inb : ∀ (v2212 : BitVec 32) (k0_hw140 : k0_chk140 v2212), ∀ a, (k0_off565 v2212) a + S16x1024.size a ≤ S28672x1024.size a := fun v2212 k0_hw140 => k0_hw140.2.1
theorem k0_off565_wordsbf16 : ∀ (v2212 : BitVec 32) (k0_hw140 : k0_chk140 v2212), (Rect.unit (s := S28672x1024) (k0_off565 v2212) S16x1024.size (k0_off565_inb v2212 k0_hw140)).WholeWords (EltTy.packing .bf16) := fun v2212 k0_hw140 => k0_hw140.2.2 (k0_off565_inb v2212 k0_hw140)

def k0_off566 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c139_i32 : BitVec 32 := 139#32
  let v2219 : BitVec 32 := Scalar.addi v38 c139_i32
  let v2220 : Index := Scalar.indexCast v2219
  ![v2220.toNat]
def k0_mult142 (v2221 : BitVec 32) : BitVec 32 :=
  v2221

def k0_off567 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off568 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2224_i32 : BitVec 32 := 2224#32
  let c0_i32_421 : BitVec 32 := 0#32
  ![v2.toNat, 2224, 0]
def k0_off569 (v2221 : BitVec 32) : Fin 2 → Nat :=
  let v2222 : BitVec 32 := v2221
  let c0_i32_422 : BitVec 32 := 0#32
  ![v2222.toNat, 0]

def k0_chk141 (v2221 : BitVec 32) : Prop :=
  (16 ∣ (k0_mult142 v2221).toNat) ∧
  (∀ a, (k0_off569 v2221) a + S16x1024.size a ≤ S28672x1024.size a) ∧
  (∀ (hinb : ∀ a, (k0_off569 v2221) a + S16x1024.size a ≤ S28672x1024.size a), (Rect.unit (s := S28672x1024) (k0_off569 v2221) S16x1024.size hinb).WholeWords (EltTy.packing .bf16))
theorem k0_mult142_dvd : ∀ (v2221 : BitVec 32) (k0_hw141 : k0_chk141 v2221), 16 ∣ (k0_mult142 v2221).toNat := fun v2221 k0_hw141 => k0_hw141.1
theorem k0_off569_inb : ∀ (v2221 : BitVec 32) (k0_hw141 : k0_chk141 v2221), ∀ a, (k0_off569 v2221) a + S16x1024.size a ≤ S28672x1024.size a := fun v2221 k0_hw141 => k0_hw141.2.1
theorem k0_off569_wordsbf16 : ∀ (v2221 : BitVec 32) (k0_hw141 : k0_chk141 v2221), (Rect.unit (s := S28672x1024) (k0_off569 v2221) S16x1024.size (k0_off569_inb v2221 k0_hw141)).WholeWords (EltTy.packing .bf16) := fun v2221 k0_hw141 => k0_hw141.2.2 (k0_off569_inb v2221 k0_hw141)

def k0_off570 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c140_i32 : BitVec 32 := 140#32
  let v2228 : BitVec 32 := Scalar.addi v38 c140_i32
  let v2229 : Index := Scalar.indexCast v2228
  ![v2229.toNat]
def k0_mult143 (v2230 : BitVec 32) : BitVec 32 :=
  v2230

def k0_off571 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off572 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2240_i32 : BitVec 32 := 2240#32
  let c0_i32_423 : BitVec 32 := 0#32
  ![v2.toNat, 2240, 0]
def k0_off573 (v2230 : BitVec 32) : Fin 2 → Nat :=
  let v2231 : BitVec 32 := v2230
  let c0_i32_424 : BitVec 32 := 0#32
  ![v2231.toNat, 0]

def k0_chk142 (v2230 : BitVec 32) : Prop :=
  (16 ∣ (k0_mult143 v2230).toNat) ∧
  (∀ a, (k0_off573 v2230) a + S16x1024.size a ≤ S28672x1024.size a) ∧
  (∀ (hinb : ∀ a, (k0_off573 v2230) a + S16x1024.size a ≤ S28672x1024.size a), (Rect.unit (s := S28672x1024) (k0_off573 v2230) S16x1024.size hinb).WholeWords (EltTy.packing .bf16))
theorem k0_mult143_dvd : ∀ (v2230 : BitVec 32) (k0_hw142 : k0_chk142 v2230), 16 ∣ (k0_mult143 v2230).toNat := fun v2230 k0_hw142 => k0_hw142.1
theorem k0_off573_inb : ∀ (v2230 : BitVec 32) (k0_hw142 : k0_chk142 v2230), ∀ a, (k0_off573 v2230) a + S16x1024.size a ≤ S28672x1024.size a := fun v2230 k0_hw142 => k0_hw142.2.1
theorem k0_off573_wordsbf16 : ∀ (v2230 : BitVec 32) (k0_hw142 : k0_chk142 v2230), (Rect.unit (s := S28672x1024) (k0_off573 v2230) S16x1024.size (k0_off573_inb v2230 k0_hw142)).WholeWords (EltTy.packing .bf16) := fun v2230 k0_hw142 => k0_hw142.2.2 (k0_off573_inb v2230 k0_hw142)

def k0_off574 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c141_i32 : BitVec 32 := 141#32
  let v2237 : BitVec 32 := Scalar.addi v38 c141_i32
  let v2238 : Index := Scalar.indexCast v2237
  ![v2238.toNat]
def k0_mult144 (v2239 : BitVec 32) : BitVec 32 :=
  v2239

def k0_off575 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off576 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2256_i32 : BitVec 32 := 2256#32
  let c0_i32_425 : BitVec 32 := 0#32
  ![v2.toNat, 2256, 0]
def k0_off577 (v2239 : BitVec 32) : Fin 2 → Nat :=
  let v2240 : BitVec 32 := v2239
  let c0_i32_426 : BitVec 32 := 0#32
  ![v2240.toNat, 0]

def k0_chk143 (v2239 : BitVec 32) : Prop :=
  (16 ∣ (k0_mult144 v2239).toNat) ∧
  (∀ a, (k0_off577 v2239) a + S16x1024.size a ≤ S28672x1024.size a) ∧
  (∀ (hinb : ∀ a, (k0_off577 v2239) a + S16x1024.size a ≤ S28672x1024.size a), (Rect.unit (s := S28672x1024) (k0_off577 v2239) S16x1024.size hinb).WholeWords (EltTy.packing .bf16))
theorem k0_mult144_dvd : ∀ (v2239 : BitVec 32) (k0_hw143 : k0_chk143 v2239), 16 ∣ (k0_mult144 v2239).toNat := fun v2239 k0_hw143 => k0_hw143.1
theorem k0_off577_inb : ∀ (v2239 : BitVec 32) (k0_hw143 : k0_chk143 v2239), ∀ a, (k0_off577 v2239) a + S16x1024.size a ≤ S28672x1024.size a := fun v2239 k0_hw143 => k0_hw143.2.1
theorem k0_off577_wordsbf16 : ∀ (v2239 : BitVec 32) (k0_hw143 : k0_chk143 v2239), (Rect.unit (s := S28672x1024) (k0_off577 v2239) S16x1024.size (k0_off577_inb v2239 k0_hw143)).WholeWords (EltTy.packing .bf16) := fun v2239 k0_hw143 => k0_hw143.2.2 (k0_off577_inb v2239 k0_hw143)

def k0_off578 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c142_i32 : BitVec 32 := 142#32
  let v2246 : BitVec 32 := Scalar.addi v38 c142_i32
  let v2247 : Index := Scalar.indexCast v2246
  ![v2247.toNat]
def k0_mult145 (v2248 : BitVec 32) : BitVec 32 :=
  v2248

def k0_off579 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off580 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2272_i32 : BitVec 32 := 2272#32
  let c0_i32_427 : BitVec 32 := 0#32
  ![v2.toNat, 2272, 0]
def k0_off581 (v2248 : BitVec 32) : Fin 2 → Nat :=
  let v2249 : BitVec 32 := v2248
  let c0_i32_428 : BitVec 32 := 0#32
  ![v2249.toNat, 0]

def k0_chk144 (v2248 : BitVec 32) : Prop :=
  (16 ∣ (k0_mult145 v2248).toNat) ∧
  (∀ a, (k0_off581 v2248) a + S16x1024.size a ≤ S28672x1024.size a) ∧
  (∀ (hinb : ∀ a, (k0_off581 v2248) a + S16x1024.size a ≤ S28672x1024.size a), (Rect.unit (s := S28672x1024) (k0_off581 v2248) S16x1024.size hinb).WholeWords (EltTy.packing .bf16))
theorem k0_mult145_dvd : ∀ (v2248 : BitVec 32) (k0_hw144 : k0_chk144 v2248), 16 ∣ (k0_mult145 v2248).toNat := fun v2248 k0_hw144 => k0_hw144.1
theorem k0_off581_inb : ∀ (v2248 : BitVec 32) (k0_hw144 : k0_chk144 v2248), ∀ a, (k0_off581 v2248) a + S16x1024.size a ≤ S28672x1024.size a := fun v2248 k0_hw144 => k0_hw144.2.1
theorem k0_off581_wordsbf16 : ∀ (v2248 : BitVec 32) (k0_hw144 : k0_chk144 v2248), (Rect.unit (s := S28672x1024) (k0_off581 v2248) S16x1024.size (k0_off581_inb v2248 k0_hw144)).WholeWords (EltTy.packing .bf16) := fun v2248 k0_hw144 => k0_hw144.2.2 (k0_off581_inb v2248 k0_hw144)

def k0_off582 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c143_i32 : BitVec 32 := 143#32
  let v2255 : BitVec 32 := Scalar.addi v38 c143_i32
  let v2256 : Index := Scalar.indexCast v2255
  ![v2256.toNat]
def k0_mult146 (v2257 : BitVec 32) : BitVec 32 :=
  v2257

def k0_off583 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off584 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2288_i32 : BitVec 32 := 2288#32
  let c0_i32_429 : BitVec 32 := 0#32
  ![v2.toNat, 2288, 0]
def k0_off585 (v2257 : BitVec 32) : Fin 2 → Nat :=
  let v2258 : BitVec 32 := v2257
  let c0_i32_430 : BitVec 32 := 0#32
  ![v2258.toNat, 0]

def k0_chk145 (v2257 : BitVec 32) : Prop :=
  (16 ∣ (k0_mult146 v2257).toNat) ∧
  (∀ a, (k0_off585 v2257) a + S16x1024.size a ≤ S28672x1024.size a) ∧
  (∀ (hinb : ∀ a, (k0_off585 v2257) a + S16x1024.size a ≤ S28672x1024.size a), (Rect.unit (s := S28672x1024) (k0_off585 v2257) S16x1024.size hinb).WholeWords (EltTy.packing .bf16))
theorem k0_mult146_dvd : ∀ (v2257 : BitVec 32) (k0_hw145 : k0_chk145 v2257), 16 ∣ (k0_mult146 v2257).toNat := fun v2257 k0_hw145 => k0_hw145.1
theorem k0_off585_inb : ∀ (v2257 : BitVec 32) (k0_hw145 : k0_chk145 v2257), ∀ a, (k0_off585 v2257) a + S16x1024.size a ≤ S28672x1024.size a := fun v2257 k0_hw145 => k0_hw145.2.1
theorem k0_off585_wordsbf16 : ∀ (v2257 : BitVec 32) (k0_hw145 : k0_chk145 v2257), (Rect.unit (s := S28672x1024) (k0_off585 v2257) S16x1024.size (k0_off585_inb v2257 k0_hw145)).WholeWords (EltTy.packing .bf16) := fun v2257 k0_hw145 => k0_hw145.2.2 (k0_off585_inb v2257 k0_hw145)

def k0_off586 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c144_i32_431 : BitVec 32 := 144#32
  let v2264 : BitVec 32 := Scalar.addi v38 c144_i32_431
  let v2265 : Index := Scalar.indexCast v2264
  ![v2265.toNat]
def k0_mult147 (v2266 : BitVec 32) : BitVec 32 :=
  v2266

def k0_off587 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off588 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2304_i32 : BitVec 32 := 2304#32
  let c0_i32_432 : BitVec 32 := 0#32
  ![v2.toNat, 2304, 0]
def k0_off589 (v2266 : BitVec 32) : Fin 2 → Nat :=
  let v2267 : BitVec 32 := v2266
  let c0_i32_433 : BitVec 32 := 0#32
  ![v2267.toNat, 0]

def k0_chk146 (v2266 : BitVec 32) : Prop :=
  (16 ∣ (k0_mult147 v2266).toNat) ∧
  (∀ a, (k0_off589 v2266) a + S16x1024.size a ≤ S28672x1024.size a) ∧
  (∀ (hinb : ∀ a, (k0_off589 v2266) a + S16x1024.size a ≤ S28672x1024.size a), (Rect.unit (s := S28672x1024) (k0_off589 v2266) S16x1024.size hinb).WholeWords (EltTy.packing .bf16))
theorem k0_mult147_dvd : ∀ (v2266 : BitVec 32) (k0_hw146 : k0_chk146 v2266), 16 ∣ (k0_mult147 v2266).toNat := fun v2266 k0_hw146 => k0_hw146.1
theorem k0_off589_inb : ∀ (v2266 : BitVec 32) (k0_hw146 : k0_chk146 v2266), ∀ a, (k0_off589 v2266) a + S16x1024.size a ≤ S28672x1024.size a := fun v2266 k0_hw146 => k0_hw146.2.1
theorem k0_off589_wordsbf16 : ∀ (v2266 : BitVec 32) (k0_hw146 : k0_chk146 v2266), (Rect.unit (s := S28672x1024) (k0_off589 v2266) S16x1024.size (k0_off589_inb v2266 k0_hw146)).WholeWords (EltTy.packing .bf16) := fun v2266 k0_hw146 => k0_hw146.2.2 (k0_off589_inb v2266 k0_hw146)

def k0_off590 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c145_i32 : BitVec 32 := 145#32
  let v2273 : BitVec 32 := Scalar.addi v38 c145_i32
  let v2274 : Index := Scalar.indexCast v2273
  ![v2274.toNat]
def k0_mult148 (v2275 : BitVec 32) : BitVec 32 :=
  v2275

def k0_off591 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off592 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2320_i32 : BitVec 32 := 2320#32
  let c0_i32_434 : BitVec 32 := 0#32
  ![v2.toNat, 2320, 0]
def k0_off593 (v2275 : BitVec 32) : Fin 2 → Nat :=
  let v2276 : BitVec 32 := v2275
  let c0_i32_435 : BitVec 32 := 0#32
  ![v2276.toNat, 0]

def k0_chk147 (v2275 : BitVec 32) : Prop :=
  (16 ∣ (k0_mult148 v2275).toNat) ∧
  (∀ a, (k0_off593 v2275) a + S16x1024.size a ≤ S28672x1024.size a) ∧
  (∀ (hinb : ∀ a, (k0_off593 v2275) a + S16x1024.size a ≤ S28672x1024.size a), (Rect.unit (s := S28672x1024) (k0_off593 v2275) S16x1024.size hinb).WholeWords (EltTy.packing .bf16))
theorem k0_mult148_dvd : ∀ (v2275 : BitVec 32) (k0_hw147 : k0_chk147 v2275), 16 ∣ (k0_mult148 v2275).toNat := fun v2275 k0_hw147 => k0_hw147.1
theorem k0_off593_inb : ∀ (v2275 : BitVec 32) (k0_hw147 : k0_chk147 v2275), ∀ a, (k0_off593 v2275) a + S16x1024.size a ≤ S28672x1024.size a := fun v2275 k0_hw147 => k0_hw147.2.1
theorem k0_off593_wordsbf16 : ∀ (v2275 : BitVec 32) (k0_hw147 : k0_chk147 v2275), (Rect.unit (s := S28672x1024) (k0_off593 v2275) S16x1024.size (k0_off593_inb v2275 k0_hw147)).WholeWords (EltTy.packing .bf16) := fun v2275 k0_hw147 => k0_hw147.2.2 (k0_off593_inb v2275 k0_hw147)

def k0_off594 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c146_i32 : BitVec 32 := 146#32
  let v2282 : BitVec 32 := Scalar.addi v38 c146_i32
  let v2283 : Index := Scalar.indexCast v2282
  ![v2283.toNat]
def k0_mult149 (v2284 : BitVec 32) : BitVec 32 :=
  v2284

def k0_off595 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off596 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2336_i32 : BitVec 32 := 2336#32
  let c0_i32_436 : BitVec 32 := 0#32
  ![v2.toNat, 2336, 0]
def k0_off597 (v2284 : BitVec 32) : Fin 2 → Nat :=
  let v2285 : BitVec 32 := v2284
  let c0_i32_437 : BitVec 32 := 0#32
  ![v2285.toNat, 0]

def k0_chk148 (v2284 : BitVec 32) : Prop :=
  (16 ∣ (k0_mult149 v2284).toNat) ∧
  (∀ a, (k0_off597 v2284) a + S16x1024.size a ≤ S28672x1024.size a) ∧
  (∀ (hinb : ∀ a, (k0_off597 v2284) a + S16x1024.size a ≤ S28672x1024.size a), (Rect.unit (s := S28672x1024) (k0_off597 v2284) S16x1024.size hinb).WholeWords (EltTy.packing .bf16))
theorem k0_mult149_dvd : ∀ (v2284 : BitVec 32) (k0_hw148 : k0_chk148 v2284), 16 ∣ (k0_mult149 v2284).toNat := fun v2284 k0_hw148 => k0_hw148.1
theorem k0_off597_inb : ∀ (v2284 : BitVec 32) (k0_hw148 : k0_chk148 v2284), ∀ a, (k0_off597 v2284) a + S16x1024.size a ≤ S28672x1024.size a := fun v2284 k0_hw148 => k0_hw148.2.1
theorem k0_off597_wordsbf16 : ∀ (v2284 : BitVec 32) (k0_hw148 : k0_chk148 v2284), (Rect.unit (s := S28672x1024) (k0_off597 v2284) S16x1024.size (k0_off597_inb v2284 k0_hw148)).WholeWords (EltTy.packing .bf16) := fun v2284 k0_hw148 => k0_hw148.2.2 (k0_off597_inb v2284 k0_hw148)

def k0_off598 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c147_i32 : BitVec 32 := 147#32
  let v2291 : BitVec 32 := Scalar.addi v38 c147_i32
  let v2292 : Index := Scalar.indexCast v2291
  ![v2292.toNat]
def k0_mult150 (v2293 : BitVec 32) : BitVec 32 :=
  v2293

def k0_off599 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off600 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2352_i32 : BitVec 32 := 2352#32
  let c0_i32_438 : BitVec 32 := 0#32
  ![v2.toNat, 2352, 0]
def k0_off601 (v2293 : BitVec 32) : Fin 2 → Nat :=
  let v2294 : BitVec 32 := v2293
  let c0_i32_439 : BitVec 32 := 0#32
  ![v2294.toNat, 0]

def k0_chk149 (v2293 : BitVec 32) : Prop :=
  (16 ∣ (k0_mult150 v2293).toNat) ∧
  (∀ a, (k0_off601 v2293) a + S16x1024.size a ≤ S28672x1024.size a) ∧
  (∀ (hinb : ∀ a, (k0_off601 v2293) a + S16x1024.size a ≤ S28672x1024.size a), (Rect.unit (s := S28672x1024) (k0_off601 v2293) S16x1024.size hinb).WholeWords (EltTy.packing .bf16))
theorem k0_mult150_dvd : ∀ (v2293 : BitVec 32) (k0_hw149 : k0_chk149 v2293), 16 ∣ (k0_mult150 v2293).toNat := fun v2293 k0_hw149 => k0_hw149.1
theorem k0_off601_inb : ∀ (v2293 : BitVec 32) (k0_hw149 : k0_chk149 v2293), ∀ a, (k0_off601 v2293) a + S16x1024.size a ≤ S28672x1024.size a := fun v2293 k0_hw149 => k0_hw149.2.1
theorem k0_off601_wordsbf16 : ∀ (v2293 : BitVec 32) (k0_hw149 : k0_chk149 v2293), (Rect.unit (s := S28672x1024) (k0_off601 v2293) S16x1024.size (k0_off601_inb v2293 k0_hw149)).WholeWords (EltTy.packing .bf16) := fun v2293 k0_hw149 => k0_hw149.2.2 (k0_off601_inb v2293 k0_hw149)

def k0_off602 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c148_i32 : BitVec 32 := 148#32
  let v2300 : BitVec 32 := Scalar.addi v38 c148_i32
  let v2301 : Index := Scalar.indexCast v2300
  ![v2301.toNat]
def k0_mult151 (v2302 : BitVec 32) : BitVec 32 :=
  v2302

def k0_off603 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off604 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2368_i32 : BitVec 32 := 2368#32
  let c0_i32_440 : BitVec 32 := 0#32
  ![v2.toNat, 2368, 0]
def k0_off605 (v2302 : BitVec 32) : Fin 2 → Nat :=
  let v2303 : BitVec 32 := v2302
  let c0_i32_441 : BitVec 32 := 0#32
  ![v2303.toNat, 0]

def k0_chk150 (v2302 : BitVec 32) : Prop :=
  (16 ∣ (k0_mult151 v2302).toNat) ∧
  (∀ a, (k0_off605 v2302) a + S16x1024.size a ≤ S28672x1024.size a) ∧
  (∀ (hinb : ∀ a, (k0_off605 v2302) a + S16x1024.size a ≤ S28672x1024.size a), (Rect.unit (s := S28672x1024) (k0_off605 v2302) S16x1024.size hinb).WholeWords (EltTy.packing .bf16))
theorem k0_mult151_dvd : ∀ (v2302 : BitVec 32) (k0_hw150 : k0_chk150 v2302), 16 ∣ (k0_mult151 v2302).toNat := fun v2302 k0_hw150 => k0_hw150.1
theorem k0_off605_inb : ∀ (v2302 : BitVec 32) (k0_hw150 : k0_chk150 v2302), ∀ a, (k0_off605 v2302) a + S16x1024.size a ≤ S28672x1024.size a := fun v2302 k0_hw150 => k0_hw150.2.1
theorem k0_off605_wordsbf16 : ∀ (v2302 : BitVec 32) (k0_hw150 : k0_chk150 v2302), (Rect.unit (s := S28672x1024) (k0_off605 v2302) S16x1024.size (k0_off605_inb v2302 k0_hw150)).WholeWords (EltTy.packing .bf16) := fun v2302 k0_hw150 => k0_hw150.2.2 (k0_off605_inb v2302 k0_hw150)

def k0_off606 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c149_i32 : BitVec 32 := 149#32
  let v2309 : BitVec 32 := Scalar.addi v38 c149_i32
  let v2310 : Index := Scalar.indexCast v2309
  ![v2310.toNat]
def k0_mult152 (v2311 : BitVec 32) : BitVec 32 :=
  v2311

def k0_off607 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off608 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2384_i32 : BitVec 32 := 2384#32
  let c0_i32_442 : BitVec 32 := 0#32
  ![v2.toNat, 2384, 0]
def k0_off609 (v2311 : BitVec 32) : Fin 2 → Nat :=
  let v2312 : BitVec 32 := v2311
  let c0_i32_443 : BitVec 32 := 0#32
  ![v2312.toNat, 0]

def k0_chk151 (v2311 : BitVec 32) : Prop :=
  (16 ∣ (k0_mult152 v2311).toNat) ∧
  (∀ a, (k0_off609 v2311) a + S16x1024.size a ≤ S28672x1024.size a) ∧
  (∀ (hinb : ∀ a, (k0_off609 v2311) a + S16x1024.size a ≤ S28672x1024.size a), (Rect.unit (s := S28672x1024) (k0_off609 v2311) S16x1024.size hinb).WholeWords (EltTy.packing .bf16))
theorem k0_mult152_dvd : ∀ (v2311 : BitVec 32) (k0_hw151 : k0_chk151 v2311), 16 ∣ (k0_mult152 v2311).toNat := fun v2311 k0_hw151 => k0_hw151.1
theorem k0_off609_inb : ∀ (v2311 : BitVec 32) (k0_hw151 : k0_chk151 v2311), ∀ a, (k0_off609 v2311) a + S16x1024.size a ≤ S28672x1024.size a := fun v2311 k0_hw151 => k0_hw151.2.1
theorem k0_off609_wordsbf16 : ∀ (v2311 : BitVec 32) (k0_hw151 : k0_chk151 v2311), (Rect.unit (s := S28672x1024) (k0_off609 v2311) S16x1024.size (k0_off609_inb v2311 k0_hw151)).WholeWords (EltTy.packing .bf16) := fun v2311 k0_hw151 => k0_hw151.2.2 (k0_off609_inb v2311 k0_hw151)

def k0_off610 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c150_i32 : BitVec 32 := 150#32
  let v2318 : BitVec 32 := Scalar.addi v38 c150_i32
  let v2319 : Index := Scalar.indexCast v2318
  ![v2319.toNat]
def k0_mult153 (v2320 : BitVec 32) : BitVec 32 :=
  v2320

def k0_off611 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off612 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2400_i32 : BitVec 32 := 2400#32
  let c0_i32_444 : BitVec 32 := 0#32
  ![v2.toNat, 2400, 0]
def k0_off613 (v2320 : BitVec 32) : Fin 2 → Nat :=
  let v2321 : BitVec 32 := v2320
  let c0_i32_445 : BitVec 32 := 0#32
  ![v2321.toNat, 0]

def k0_chk152 (v2320 : BitVec 32) : Prop :=
  (16 ∣ (k0_mult153 v2320).toNat) ∧
  (∀ a, (k0_off613 v2320) a + S16x1024.size a ≤ S28672x1024.size a) ∧
  (∀ (hinb : ∀ a, (k0_off613 v2320) a + S16x1024.size a ≤ S28672x1024.size a), (Rect.unit (s := S28672x1024) (k0_off613 v2320) S16x1024.size hinb).WholeWords (EltTy.packing .bf16))
theorem k0_mult153_dvd : ∀ (v2320 : BitVec 32) (k0_hw152 : k0_chk152 v2320), 16 ∣ (k0_mult153 v2320).toNat := fun v2320 k0_hw152 => k0_hw152.1
theorem k0_off613_inb : ∀ (v2320 : BitVec 32) (k0_hw152 : k0_chk152 v2320), ∀ a, (k0_off613 v2320) a + S16x1024.size a ≤ S28672x1024.size a := fun v2320 k0_hw152 => k0_hw152.2.1
theorem k0_off613_wordsbf16 : ∀ (v2320 : BitVec 32) (k0_hw152 : k0_chk152 v2320), (Rect.unit (s := S28672x1024) (k0_off613 v2320) S16x1024.size (k0_off613_inb v2320 k0_hw152)).WholeWords (EltTy.packing .bf16) := fun v2320 k0_hw152 => k0_hw152.2.2 (k0_off613_inb v2320 k0_hw152)

def k0_off614 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c151_i32 : BitVec 32 := 151#32
  let v2327 : BitVec 32 := Scalar.addi v38 c151_i32
  let v2328 : Index := Scalar.indexCast v2327
  ![v2328.toNat]
def k0_mult154 (v2329 : BitVec 32) : BitVec 32 :=
  v2329

def k0_off615 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off616 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2416_i32 : BitVec 32 := 2416#32
  let c0_i32_446 : BitVec 32 := 0#32
  ![v2.toNat, 2416, 0]
def k0_off617 (v2329 : BitVec 32) : Fin 2 → Nat :=
  let v2330 : BitVec 32 := v2329
  let c0_i32_447 : BitVec 32 := 0#32
  ![v2330.toNat, 0]

def k0_chk153 (v2329 : BitVec 32) : Prop :=
  (16 ∣ (k0_mult154 v2329).toNat) ∧
  (∀ a, (k0_off617 v2329) a + S16x1024.size a ≤ S28672x1024.size a) ∧
  (∀ (hinb : ∀ a, (k0_off617 v2329) a + S16x1024.size a ≤ S28672x1024.size a), (Rect.unit (s := S28672x1024) (k0_off617 v2329) S16x1024.size hinb).WholeWords (EltTy.packing .bf16))
theorem k0_mult154_dvd : ∀ (v2329 : BitVec 32) (k0_hw153 : k0_chk153 v2329), 16 ∣ (k0_mult154 v2329).toNat := fun v2329 k0_hw153 => k0_hw153.1
theorem k0_off617_inb : ∀ (v2329 : BitVec 32) (k0_hw153 : k0_chk153 v2329), ∀ a, (k0_off617 v2329) a + S16x1024.size a ≤ S28672x1024.size a := fun v2329 k0_hw153 => k0_hw153.2.1
theorem k0_off617_wordsbf16 : ∀ (v2329 : BitVec 32) (k0_hw153 : k0_chk153 v2329), (Rect.unit (s := S28672x1024) (k0_off617 v2329) S16x1024.size (k0_off617_inb v2329 k0_hw153)).WholeWords (EltTy.packing .bf16) := fun v2329 k0_hw153 => k0_hw153.2.2 (k0_off617_inb v2329 k0_hw153)

def k0_off618 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c152_i32 : BitVec 32 := 152#32
  let v2336 : BitVec 32 := Scalar.addi v38 c152_i32
  let v2337 : Index := Scalar.indexCast v2336
  ![v2337.toNat]
def k0_mult155 (v2338 : BitVec 32) : BitVec 32 :=
  v2338

def k0_off619 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off620 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2432_i32 : BitVec 32 := 2432#32
  let c0_i32_448 : BitVec 32 := 0#32
  ![v2.toNat, 2432, 0]
def k0_off621 (v2338 : BitVec 32) : Fin 2 → Nat :=
  let v2339 : BitVec 32 := v2338
  let c0_i32_449 : BitVec 32 := 0#32
  ![v2339.toNat, 0]

def k0_chk154 (v2338 : BitVec 32) : Prop :=
  (16 ∣ (k0_mult155 v2338).toNat) ∧
  (∀ a, (k0_off621 v2338) a + S16x1024.size a ≤ S28672x1024.size a) ∧
  (∀ (hinb : ∀ a, (k0_off621 v2338) a + S16x1024.size a ≤ S28672x1024.size a), (Rect.unit (s := S28672x1024) (k0_off621 v2338) S16x1024.size hinb).WholeWords (EltTy.packing .bf16))
theorem k0_mult155_dvd : ∀ (v2338 : BitVec 32) (k0_hw154 : k0_chk154 v2338), 16 ∣ (k0_mult155 v2338).toNat := fun v2338 k0_hw154 => k0_hw154.1
theorem k0_off621_inb : ∀ (v2338 : BitVec 32) (k0_hw154 : k0_chk154 v2338), ∀ a, (k0_off621 v2338) a + S16x1024.size a ≤ S28672x1024.size a := fun v2338 k0_hw154 => k0_hw154.2.1
theorem k0_off621_wordsbf16 : ∀ (v2338 : BitVec 32) (k0_hw154 : k0_chk154 v2338), (Rect.unit (s := S28672x1024) (k0_off621 v2338) S16x1024.size (k0_off621_inb v2338 k0_hw154)).WholeWords (EltTy.packing .bf16) := fun v2338 k0_hw154 => k0_hw154.2.2 (k0_off621_inb v2338 k0_hw154)

def k0_off622 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c153_i32 : BitVec 32 := 153#32
  let v2345 : BitVec 32 := Scalar.addi v38 c153_i32
  let v2346 : Index := Scalar.indexCast v2345
  ![v2346.toNat]
def k0_mult156 (v2347 : BitVec 32) : BitVec 32 :=
  v2347

def k0_off623 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off624 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2448_i32 : BitVec 32 := 2448#32
  let c0_i32_450 : BitVec 32 := 0#32
  ![v2.toNat, 2448, 0]
def k0_off625 (v2347 : BitVec 32) : Fin 2 → Nat :=
  let v2348 : BitVec 32 := v2347
  let c0_i32_451 : BitVec 32 := 0#32
  ![v2348.toNat, 0]

def k0_chk155 (v2347 : BitVec 32) : Prop :=
  (16 ∣ (k0_mult156 v2347).toNat) ∧
  (∀ a, (k0_off625 v2347) a + S16x1024.size a ≤ S28672x1024.size a) ∧
  (∀ (hinb : ∀ a, (k0_off625 v2347) a + S16x1024.size a ≤ S28672x1024.size a), (Rect.unit (s := S28672x1024) (k0_off625 v2347) S16x1024.size hinb).WholeWords (EltTy.packing .bf16))
theorem k0_mult156_dvd : ∀ (v2347 : BitVec 32) (k0_hw155 : k0_chk155 v2347), 16 ∣ (k0_mult156 v2347).toNat := fun v2347 k0_hw155 => k0_hw155.1
theorem k0_off625_inb : ∀ (v2347 : BitVec 32) (k0_hw155 : k0_chk155 v2347), ∀ a, (k0_off625 v2347) a + S16x1024.size a ≤ S28672x1024.size a := fun v2347 k0_hw155 => k0_hw155.2.1
theorem k0_off625_wordsbf16 : ∀ (v2347 : BitVec 32) (k0_hw155 : k0_chk155 v2347), (Rect.unit (s := S28672x1024) (k0_off625 v2347) S16x1024.size (k0_off625_inb v2347 k0_hw155)).WholeWords (EltTy.packing .bf16) := fun v2347 k0_hw155 => k0_hw155.2.2 (k0_off625_inb v2347 k0_hw155)

def k0_off626 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c154_i32 : BitVec 32 := 154#32
  let v2354 : BitVec 32 := Scalar.addi v38 c154_i32
  let v2355 : Index := Scalar.indexCast v2354
  ![v2355.toNat]
def k0_mult157 (v2356 : BitVec 32) : BitVec 32 :=
  v2356

def k0_off627 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off628 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2464_i32 : BitVec 32 := 2464#32
  let c0_i32_452 : BitVec 32 := 0#32
  ![v2.toNat, 2464, 0]
def k0_off629 (v2356 : BitVec 32) : Fin 2 → Nat :=
  let v2357 : BitVec 32 := v2356
  let c0_i32_453 : BitVec 32 := 0#32
  ![v2357.toNat, 0]

def k0_chk156 (v2356 : BitVec 32) : Prop :=
  (16 ∣ (k0_mult157 v2356).toNat) ∧
  (∀ a, (k0_off629 v2356) a + S16x1024.size a ≤ S28672x1024.size a) ∧
  (∀ (hinb : ∀ a, (k0_off629 v2356) a + S16x1024.size a ≤ S28672x1024.size a), (Rect.unit (s := S28672x1024) (k0_off629 v2356) S16x1024.size hinb).WholeWords (EltTy.packing .bf16))
theorem k0_mult157_dvd : ∀ (v2356 : BitVec 32) (k0_hw156 : k0_chk156 v2356), 16 ∣ (k0_mult157 v2356).toNat := fun v2356 k0_hw156 => k0_hw156.1
theorem k0_off629_inb : ∀ (v2356 : BitVec 32) (k0_hw156 : k0_chk156 v2356), ∀ a, (k0_off629 v2356) a + S16x1024.size a ≤ S28672x1024.size a := fun v2356 k0_hw156 => k0_hw156.2.1
theorem k0_off629_wordsbf16 : ∀ (v2356 : BitVec 32) (k0_hw156 : k0_chk156 v2356), (Rect.unit (s := S28672x1024) (k0_off629 v2356) S16x1024.size (k0_off629_inb v2356 k0_hw156)).WholeWords (EltTy.packing .bf16) := fun v2356 k0_hw156 => k0_hw156.2.2 (k0_off629_inb v2356 k0_hw156)

def k0_off630 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c155_i32 : BitVec 32 := 155#32
  let v2363 : BitVec 32 := Scalar.addi v38 c155_i32
  let v2364 : Index := Scalar.indexCast v2363
  ![v2364.toNat]
def k0_mult158 (v2365 : BitVec 32) : BitVec 32 :=
  v2365

def k0_off631 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off632 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2480_i32 : BitVec 32 := 2480#32
  let c0_i32_454 : BitVec 32 := 0#32
  ![v2.toNat, 2480, 0]
def k0_off633 (v2365 : BitVec 32) : Fin 2 → Nat :=
  let v2366 : BitVec 32 := v2365
  let c0_i32_455 : BitVec 32 := 0#32
  ![v2366.toNat, 0]

def k0_chk157 (v2365 : BitVec 32) : Prop :=
  (16 ∣ (k0_mult158 v2365).toNat) ∧
  (∀ a, (k0_off633 v2365) a + S16x1024.size a ≤ S28672x1024.size a) ∧
  (∀ (hinb : ∀ a, (k0_off633 v2365) a + S16x1024.size a ≤ S28672x1024.size a), (Rect.unit (s := S28672x1024) (k0_off633 v2365) S16x1024.size hinb).WholeWords (EltTy.packing .bf16))
theorem k0_mult158_dvd : ∀ (v2365 : BitVec 32) (k0_hw157 : k0_chk157 v2365), 16 ∣ (k0_mult158 v2365).toNat := fun v2365 k0_hw157 => k0_hw157.1
theorem k0_off633_inb : ∀ (v2365 : BitVec 32) (k0_hw157 : k0_chk157 v2365), ∀ a, (k0_off633 v2365) a + S16x1024.size a ≤ S28672x1024.size a := fun v2365 k0_hw157 => k0_hw157.2.1
theorem k0_off633_wordsbf16 : ∀ (v2365 : BitVec 32) (k0_hw157 : k0_chk157 v2365), (Rect.unit (s := S28672x1024) (k0_off633 v2365) S16x1024.size (k0_off633_inb v2365 k0_hw157)).WholeWords (EltTy.packing .bf16) := fun v2365 k0_hw157 => k0_hw157.2.2 (k0_off633_inb v2365 k0_hw157)

def k0_off634 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c156_i32 : BitVec 32 := 156#32
  let v2372 : BitVec 32 := Scalar.addi v38 c156_i32
  let v2373 : Index := Scalar.indexCast v2372
  ![v2373.toNat]
def k0_mult159 (v2374 : BitVec 32) : BitVec 32 :=
  v2374

def k0_off635 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off636 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2496_i32 : BitVec 32 := 2496#32
  let c0_i32_456 : BitVec 32 := 0#32
  ![v2.toNat, 2496, 0]
def k0_off637 (v2374 : BitVec 32) : Fin 2 → Nat :=
  let v2375 : BitVec 32 := v2374
  let c0_i32_457 : BitVec 32 := 0#32
  ![v2375.toNat, 0]

def k0_chk158 (v2374 : BitVec 32) : Prop :=
  (16 ∣ (k0_mult159 v2374).toNat) ∧
  (∀ a, (k0_off637 v2374) a + S16x1024.size a ≤ S28672x1024.size a) ∧
  (∀ (hinb : ∀ a, (k0_off637 v2374) a + S16x1024.size a ≤ S28672x1024.size a), (Rect.unit (s := S28672x1024) (k0_off637 v2374) S16x1024.size hinb).WholeWords (EltTy.packing .bf16))
theorem k0_mult159_dvd : ∀ (v2374 : BitVec 32) (k0_hw158 : k0_chk158 v2374), 16 ∣ (k0_mult159 v2374).toNat := fun v2374 k0_hw158 => k0_hw158.1
theorem k0_off637_inb : ∀ (v2374 : BitVec 32) (k0_hw158 : k0_chk158 v2374), ∀ a, (k0_off637 v2374) a + S16x1024.size a ≤ S28672x1024.size a := fun v2374 k0_hw158 => k0_hw158.2.1
theorem k0_off637_wordsbf16 : ∀ (v2374 : BitVec 32) (k0_hw158 : k0_chk158 v2374), (Rect.unit (s := S28672x1024) (k0_off637 v2374) S16x1024.size (k0_off637_inb v2374 k0_hw158)).WholeWords (EltTy.packing .bf16) := fun v2374 k0_hw158 => k0_hw158.2.2 (k0_off637_inb v2374 k0_hw158)

def k0_off638 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c157_i32 : BitVec 32 := 157#32
  let v2381 : BitVec 32 := Scalar.addi v38 c157_i32
  let v2382 : Index := Scalar.indexCast v2381
  ![v2382.toNat]
def k0_mult160 (v2383 : BitVec 32) : BitVec 32 :=
  v2383

def k0_off639 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off640 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2512_i32 : BitVec 32 := 2512#32
  let c0_i32_458 : BitVec 32 := 0#32
  ![v2.toNat, 2512, 0]
def k0_off641 (v2383 : BitVec 32) : Fin 2 → Nat :=
  let v2384 : BitVec 32 := v2383
  let c0_i32_459 : BitVec 32 := 0#32
  ![v2384.toNat, 0]

def k0_chk159 (v2383 : BitVec 32) : Prop :=
  (16 ∣ (k0_mult160 v2383).toNat) ∧
  (∀ a, (k0_off641 v2383) a + S16x1024.size a ≤ S28672x1024.size a) ∧
  (∀ (hinb : ∀ a, (k0_off641 v2383) a + S16x1024.size a ≤ S28672x1024.size a), (Rect.unit (s := S28672x1024) (k0_off641 v2383) S16x1024.size hinb).WholeWords (EltTy.packing .bf16))
theorem k0_mult160_dvd : ∀ (v2383 : BitVec 32) (k0_hw159 : k0_chk159 v2383), 16 ∣ (k0_mult160 v2383).toNat := fun v2383 k0_hw159 => k0_hw159.1
theorem k0_off641_inb : ∀ (v2383 : BitVec 32) (k0_hw159 : k0_chk159 v2383), ∀ a, (k0_off641 v2383) a + S16x1024.size a ≤ S28672x1024.size a := fun v2383 k0_hw159 => k0_hw159.2.1
theorem k0_off641_wordsbf16 : ∀ (v2383 : BitVec 32) (k0_hw159 : k0_chk159 v2383), (Rect.unit (s := S28672x1024) (k0_off641 v2383) S16x1024.size (k0_off641_inb v2383 k0_hw159)).WholeWords (EltTy.packing .bf16) := fun v2383 k0_hw159 => k0_hw159.2.2 (k0_off641_inb v2383 k0_hw159)

def k0_off642 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c158_i32 : BitVec 32 := 158#32
  let v2390 : BitVec 32 := Scalar.addi v38 c158_i32
  let v2391 : Index := Scalar.indexCast v2390
  ![v2391.toNat]
def k0_mult161 (v2392 : BitVec 32) : BitVec 32 :=
  v2392

def k0_off643 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off644 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2528_i32 : BitVec 32 := 2528#32
  let c0_i32_460 : BitVec 32 := 0#32
  ![v2.toNat, 2528, 0]
def k0_off645 (v2392 : BitVec 32) : Fin 2 → Nat :=
  let v2393 : BitVec 32 := v2392
  let c0_i32_461 : BitVec 32 := 0#32
  ![v2393.toNat, 0]

def k0_chk160 (v2392 : BitVec 32) : Prop :=
  (16 ∣ (k0_mult161 v2392).toNat) ∧
  (∀ a, (k0_off645 v2392) a + S16x1024.size a ≤ S28672x1024.size a) ∧
  (∀ (hinb : ∀ a, (k0_off645 v2392) a + S16x1024.size a ≤ S28672x1024.size a), (Rect.unit (s := S28672x1024) (k0_off645 v2392) S16x1024.size hinb).WholeWords (EltTy.packing .bf16))
theorem k0_mult161_dvd : ∀ (v2392 : BitVec 32) (k0_hw160 : k0_chk160 v2392), 16 ∣ (k0_mult161 v2392).toNat := fun v2392 k0_hw160 => k0_hw160.1
theorem k0_off645_inb : ∀ (v2392 : BitVec 32) (k0_hw160 : k0_chk160 v2392), ∀ a, (k0_off645 v2392) a + S16x1024.size a ≤ S28672x1024.size a := fun v2392 k0_hw160 => k0_hw160.2.1
theorem k0_off645_wordsbf16 : ∀ (v2392 : BitVec 32) (k0_hw160 : k0_chk160 v2392), (Rect.unit (s := S28672x1024) (k0_off645 v2392) S16x1024.size (k0_off645_inb v2392 k0_hw160)).WholeWords (EltTy.packing .bf16) := fun v2392 k0_hw160 => k0_hw160.2.2 (k0_off645_inb v2392 k0_hw160)

def k0_off646 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c159_i32 : BitVec 32 := 159#32
  let v2399 : BitVec 32 := Scalar.addi v38 c159_i32
  let v2400 : Index := Scalar.indexCast v2399
  ![v2400.toNat]
def k0_mult162 (v2401 : BitVec 32) : BitVec 32 :=
  v2401

def k0_off647 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off648 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2544_i32 : BitVec 32 := 2544#32
  let c0_i32_462 : BitVec 32 := 0#32
  ![v2.toNat, 2544, 0]
def k0_off649 (v2401 : BitVec 32) : Fin 2 → Nat :=
  let v2402 : BitVec 32 := v2401
  let c0_i32_463 : BitVec 32 := 0#32
  ![v2402.toNat, 0]

def k0_chk161 (v2401 : BitVec 32) : Prop :=
  (16 ∣ (k0_mult162 v2401).toNat) ∧
  (∀ a, (k0_off649 v2401) a + S16x1024.size a ≤ S28672x1024.size a) ∧
  (∀ (hinb : ∀ a, (k0_off649 v2401) a + S16x1024.size a ≤ S28672x1024.size a), (Rect.unit (s := S28672x1024) (k0_off649 v2401) S16x1024.size hinb).WholeWords (EltTy.packing .bf16))
theorem k0_mult162_dvd : ∀ (v2401 : BitVec 32) (k0_hw161 : k0_chk161 v2401), 16 ∣ (k0_mult162 v2401).toNat := fun v2401 k0_hw161 => k0_hw161.1
theorem k0_off649_inb : ∀ (v2401 : BitVec 32) (k0_hw161 : k0_chk161 v2401), ∀ a, (k0_off649 v2401) a + S16x1024.size a ≤ S28672x1024.size a := fun v2401 k0_hw161 => k0_hw161.2.1
theorem k0_off649_wordsbf16 : ∀ (v2401 : BitVec 32) (k0_hw161 : k0_chk161 v2401), (Rect.unit (s := S28672x1024) (k0_off649 v2401) S16x1024.size (k0_off649_inb v2401 k0_hw161)).WholeWords (EltTy.packing .bf16) := fun v2401 k0_hw161 => k0_hw161.2.2 (k0_off649_inb v2401 k0_hw161)

def k0_off650 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c160_i32_464 : BitVec 32 := 160#32
  let v2408 : BitVec 32 := Scalar.addi v38 c160_i32_464
  let v2409 : Index := Scalar.indexCast v2408
  ![v2409.toNat]
def k0_mult163 (v2410 : BitVec 32) : BitVec 32 :=
  v2410

def k0_off651 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off652 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2560_i32 : BitVec 32 := 2560#32
  let c0_i32_465 : BitVec 32 := 0#32
  ![v2.toNat, 2560, 0]
def k0_off653 (v2410 : BitVec 32) : Fin 2 → Nat :=
  let v2411 : BitVec 32 := v2410
  let c0_i32_466 : BitVec 32 := 0#32
  ![v2411.toNat, 0]

def k0_chk162 (v2410 : BitVec 32) : Prop :=
  (16 ∣ (k0_mult163 v2410).toNat) ∧
  (∀ a, (k0_off653 v2410) a + S16x1024.size a ≤ S28672x1024.size a) ∧
  (∀ (hinb : ∀ a, (k0_off653 v2410) a + S16x1024.size a ≤ S28672x1024.size a), (Rect.unit (s := S28672x1024) (k0_off653 v2410) S16x1024.size hinb).WholeWords (EltTy.packing .bf16))
theorem k0_mult163_dvd : ∀ (v2410 : BitVec 32) (k0_hw162 : k0_chk162 v2410), 16 ∣ (k0_mult163 v2410).toNat := fun v2410 k0_hw162 => k0_hw162.1
theorem k0_off653_inb : ∀ (v2410 : BitVec 32) (k0_hw162 : k0_chk162 v2410), ∀ a, (k0_off653 v2410) a + S16x1024.size a ≤ S28672x1024.size a := fun v2410 k0_hw162 => k0_hw162.2.1
theorem k0_off653_wordsbf16 : ∀ (v2410 : BitVec 32) (k0_hw162 : k0_chk162 v2410), (Rect.unit (s := S28672x1024) (k0_off653 v2410) S16x1024.size (k0_off653_inb v2410 k0_hw162)).WholeWords (EltTy.packing .bf16) := fun v2410 k0_hw162 => k0_hw162.2.2 (k0_off653_inb v2410 k0_hw162)

def k0_off654 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c161_i32 : BitVec 32 := 161#32
  let v2417 : BitVec 32 := Scalar.addi v38 c161_i32
  let v2418 : Index := Scalar.indexCast v2417
  ![v2418.toNat]
def k0_mult164 (v2419 : BitVec 32) : BitVec 32 :=
  v2419

def k0_off655 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off656 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2576_i32 : BitVec 32 := 2576#32
  let c0_i32_467 : BitVec 32 := 0#32
  ![v2.toNat, 2576, 0]
def k0_off657 (v2419 : BitVec 32) : Fin 2 → Nat :=
  let v2420 : BitVec 32 := v2419
  let c0_i32_468 : BitVec 32 := 0#32
  ![v2420.toNat, 0]

def k0_chk163 (v2419 : BitVec 32) : Prop :=
  (16 ∣ (k0_mult164 v2419).toNat) ∧
  (∀ a, (k0_off657 v2419) a + S16x1024.size a ≤ S28672x1024.size a) ∧
  (∀ (hinb : ∀ a, (k0_off657 v2419) a + S16x1024.size a ≤ S28672x1024.size a), (Rect.unit (s := S28672x1024) (k0_off657 v2419) S16x1024.size hinb).WholeWords (EltTy.packing .bf16))
theorem k0_mult164_dvd : ∀ (v2419 : BitVec 32) (k0_hw163 : k0_chk163 v2419), 16 ∣ (k0_mult164 v2419).toNat := fun v2419 k0_hw163 => k0_hw163.1
theorem k0_off657_inb : ∀ (v2419 : BitVec 32) (k0_hw163 : k0_chk163 v2419), ∀ a, (k0_off657 v2419) a + S16x1024.size a ≤ S28672x1024.size a := fun v2419 k0_hw163 => k0_hw163.2.1
theorem k0_off657_wordsbf16 : ∀ (v2419 : BitVec 32) (k0_hw163 : k0_chk163 v2419), (Rect.unit (s := S28672x1024) (k0_off657 v2419) S16x1024.size (k0_off657_inb v2419 k0_hw163)).WholeWords (EltTy.packing .bf16) := fun v2419 k0_hw163 => k0_hw163.2.2 (k0_off657_inb v2419 k0_hw163)

def k0_off658 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c162_i32 : BitVec 32 := 162#32
  let v2426 : BitVec 32 := Scalar.addi v38 c162_i32
  let v2427 : Index := Scalar.indexCast v2426
  ![v2427.toNat]
def k0_mult165 (v2428 : BitVec 32) : BitVec 32 :=
  v2428

def k0_off659 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off660 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2592_i32 : BitVec 32 := 2592#32
  let c0_i32_469 : BitVec 32 := 0#32
  ![v2.toNat, 2592, 0]
def k0_off661 (v2428 : BitVec 32) : Fin 2 → Nat :=
  let v2429 : BitVec 32 := v2428
  let c0_i32_470 : BitVec 32 := 0#32
  ![v2429.toNat, 0]

def k0_chk164 (v2428 : BitVec 32) : Prop :=
  (16 ∣ (k0_mult165 v2428).toNat) ∧
  (∀ a, (k0_off661 v2428) a + S16x1024.size a ≤ S28672x1024.size a) ∧
  (∀ (hinb : ∀ a, (k0_off661 v2428) a + S16x1024.size a ≤ S28672x1024.size a), (Rect.unit (s := S28672x1024) (k0_off661 v2428) S16x1024.size hinb).WholeWords (EltTy.packing .bf16))
theorem k0_mult165_dvd : ∀ (v2428 : BitVec 32) (k0_hw164 : k0_chk164 v2428), 16 ∣ (k0_mult165 v2428).toNat := fun v2428 k0_hw164 => k0_hw164.1
theorem k0_off661_inb : ∀ (v2428 : BitVec 32) (k0_hw164 : k0_chk164 v2428), ∀ a, (k0_off661 v2428) a + S16x1024.size a ≤ S28672x1024.size a := fun v2428 k0_hw164 => k0_hw164.2.1
theorem k0_off661_wordsbf16 : ∀ (v2428 : BitVec 32) (k0_hw164 : k0_chk164 v2428), (Rect.unit (s := S28672x1024) (k0_off661 v2428) S16x1024.size (k0_off661_inb v2428 k0_hw164)).WholeWords (EltTy.packing .bf16) := fun v2428 k0_hw164 => k0_hw164.2.2 (k0_off661_inb v2428 k0_hw164)

def k0_off662 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c163_i32 : BitVec 32 := 163#32
  let v2435 : BitVec 32 := Scalar.addi v38 c163_i32
  let v2436 : Index := Scalar.indexCast v2435
  ![v2436.toNat]
def k0_mult166 (v2437 : BitVec 32) : BitVec 32 :=
  v2437

def k0_off663 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off664 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2608_i32 : BitVec 32 := 2608#32
  let c0_i32_471 : BitVec 32 := 0#32
  ![v2.toNat, 2608, 0]
def k0_off665 (v2437 : BitVec 32) : Fin 2 → Nat :=
  let v2438 : BitVec 32 := v2437
  let c0_i32_472 : BitVec 32 := 0#32
  ![v2438.toNat, 0]

def k0_chk165 (v2437 : BitVec 32) : Prop :=
  (16 ∣ (k0_mult166 v2437).toNat) ∧
  (∀ a, (k0_off665 v2437) a + S16x1024.size a ≤ S28672x1024.size a) ∧
  (∀ (hinb : ∀ a, (k0_off665 v2437) a + S16x1024.size a ≤ S28672x1024.size a), (Rect.unit (s := S28672x1024) (k0_off665 v2437) S16x1024.size hinb).WholeWords (EltTy.packing .bf16))
theorem k0_mult166_dvd : ∀ (v2437 : BitVec 32) (k0_hw165 : k0_chk165 v2437), 16 ∣ (k0_mult166 v2437).toNat := fun v2437 k0_hw165 => k0_hw165.1
theorem k0_off665_inb : ∀ (v2437 : BitVec 32) (k0_hw165 : k0_chk165 v2437), ∀ a, (k0_off665 v2437) a + S16x1024.size a ≤ S28672x1024.size a := fun v2437 k0_hw165 => k0_hw165.2.1
theorem k0_off665_wordsbf16 : ∀ (v2437 : BitVec 32) (k0_hw165 : k0_chk165 v2437), (Rect.unit (s := S28672x1024) (k0_off665 v2437) S16x1024.size (k0_off665_inb v2437 k0_hw165)).WholeWords (EltTy.packing .bf16) := fun v2437 k0_hw165 => k0_hw165.2.2 (k0_off665_inb v2437 k0_hw165)

def k0_off666 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c164_i32 : BitVec 32 := 164#32
  let v2444 : BitVec 32 := Scalar.addi v38 c164_i32
  let v2445 : Index := Scalar.indexCast v2444
  ![v2445.toNat]
def k0_mult167 (v2446 : BitVec 32) : BitVec 32 :=
  v2446

def k0_off667 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off668 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2624_i32 : BitVec 32 := 2624#32
  let c0_i32_473 : BitVec 32 := 0#32
  ![v2.toNat, 2624, 0]
def k0_off669 (v2446 : BitVec 32) : Fin 2 → Nat :=
  let v2447 : BitVec 32 := v2446
  let c0_i32_474 : BitVec 32 := 0#32
  ![v2447.toNat, 0]

def k0_chk166 (v2446 : BitVec 32) : Prop :=
  (16 ∣ (k0_mult167 v2446).toNat) ∧
  (∀ a, (k0_off669 v2446) a + S16x1024.size a ≤ S28672x1024.size a) ∧
  (∀ (hinb : ∀ a, (k0_off669 v2446) a + S16x1024.size a ≤ S28672x1024.size a), (Rect.unit (s := S28672x1024) (k0_off669 v2446) S16x1024.size hinb).WholeWords (EltTy.packing .bf16))
theorem k0_mult167_dvd : ∀ (v2446 : BitVec 32) (k0_hw166 : k0_chk166 v2446), 16 ∣ (k0_mult167 v2446).toNat := fun v2446 k0_hw166 => k0_hw166.1
theorem k0_off669_inb : ∀ (v2446 : BitVec 32) (k0_hw166 : k0_chk166 v2446), ∀ a, (k0_off669 v2446) a + S16x1024.size a ≤ S28672x1024.size a := fun v2446 k0_hw166 => k0_hw166.2.1
theorem k0_off669_wordsbf16 : ∀ (v2446 : BitVec 32) (k0_hw166 : k0_chk166 v2446), (Rect.unit (s := S28672x1024) (k0_off669 v2446) S16x1024.size (k0_off669_inb v2446 k0_hw166)).WholeWords (EltTy.packing .bf16) := fun v2446 k0_hw166 => k0_hw166.2.2 (k0_off669_inb v2446 k0_hw166)

def k0_off670 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c165_i32 : BitVec 32 := 165#32
  let v2453 : BitVec 32 := Scalar.addi v38 c165_i32
  let v2454 : Index := Scalar.indexCast v2453
  ![v2454.toNat]
def k0_mult168 (v2455 : BitVec 32) : BitVec 32 :=
  v2455

def k0_off671 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off672 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2640_i32 : BitVec 32 := 2640#32
  let c0_i32_475 : BitVec 32 := 0#32
  ![v2.toNat, 2640, 0]
def k0_off673 (v2455 : BitVec 32) : Fin 2 → Nat :=
  let v2456 : BitVec 32 := v2455
  let c0_i32_476 : BitVec 32 := 0#32
  ![v2456.toNat, 0]

def k0_chk167 (v2455 : BitVec 32) : Prop :=
  (16 ∣ (k0_mult168 v2455).toNat) ∧
  (∀ a, (k0_off673 v2455) a + S16x1024.size a ≤ S28672x1024.size a) ∧
  (∀ (hinb : ∀ a, (k0_off673 v2455) a + S16x1024.size a ≤ S28672x1024.size a), (Rect.unit (s := S28672x1024) (k0_off673 v2455) S16x1024.size hinb).WholeWords (EltTy.packing .bf16))
theorem k0_mult168_dvd : ∀ (v2455 : BitVec 32) (k0_hw167 : k0_chk167 v2455), 16 ∣ (k0_mult168 v2455).toNat := fun v2455 k0_hw167 => k0_hw167.1
theorem k0_off673_inb : ∀ (v2455 : BitVec 32) (k0_hw167 : k0_chk167 v2455), ∀ a, (k0_off673 v2455) a + S16x1024.size a ≤ S28672x1024.size a := fun v2455 k0_hw167 => k0_hw167.2.1
theorem k0_off673_wordsbf16 : ∀ (v2455 : BitVec 32) (k0_hw167 : k0_chk167 v2455), (Rect.unit (s := S28672x1024) (k0_off673 v2455) S16x1024.size (k0_off673_inb v2455 k0_hw167)).WholeWords (EltTy.packing .bf16) := fun v2455 k0_hw167 => k0_hw167.2.2 (k0_off673_inb v2455 k0_hw167)

def k0_off674 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c166_i32 : BitVec 32 := 166#32
  let v2462 : BitVec 32 := Scalar.addi v38 c166_i32
  let v2463 : Index := Scalar.indexCast v2462
  ![v2463.toNat]
def k0_mult169 (v2464 : BitVec 32) : BitVec 32 :=
  v2464

def k0_off675 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off676 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2656_i32 : BitVec 32 := 2656#32
  let c0_i32_477 : BitVec 32 := 0#32
  ![v2.toNat, 2656, 0]
def k0_off677 (v2464 : BitVec 32) : Fin 2 → Nat :=
  let v2465 : BitVec 32 := v2464
  let c0_i32_478 : BitVec 32 := 0#32
  ![v2465.toNat, 0]

def k0_chk168 (v2464 : BitVec 32) : Prop :=
  (16 ∣ (k0_mult169 v2464).toNat) ∧
  (∀ a, (k0_off677 v2464) a + S16x1024.size a ≤ S28672x1024.size a) ∧
  (∀ (hinb : ∀ a, (k0_off677 v2464) a + S16x1024.size a ≤ S28672x1024.size a), (Rect.unit (s := S28672x1024) (k0_off677 v2464) S16x1024.size hinb).WholeWords (EltTy.packing .bf16))
theorem k0_mult169_dvd : ∀ (v2464 : BitVec 32) (k0_hw168 : k0_chk168 v2464), 16 ∣ (k0_mult169 v2464).toNat := fun v2464 k0_hw168 => k0_hw168.1
theorem k0_off677_inb : ∀ (v2464 : BitVec 32) (k0_hw168 : k0_chk168 v2464), ∀ a, (k0_off677 v2464) a + S16x1024.size a ≤ S28672x1024.size a := fun v2464 k0_hw168 => k0_hw168.2.1
theorem k0_off677_wordsbf16 : ∀ (v2464 : BitVec 32) (k0_hw168 : k0_chk168 v2464), (Rect.unit (s := S28672x1024) (k0_off677 v2464) S16x1024.size (k0_off677_inb v2464 k0_hw168)).WholeWords (EltTy.packing .bf16) := fun v2464 k0_hw168 => k0_hw168.2.2 (k0_off677_inb v2464 k0_hw168)

def k0_off678 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c167_i32 : BitVec 32 := 167#32
  let v2471 : BitVec 32 := Scalar.addi v38 c167_i32
  let v2472 : Index := Scalar.indexCast v2471
  ![v2472.toNat]
def k0_mult170 (v2473 : BitVec 32) : BitVec 32 :=
  v2473

def k0_off679 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off680 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2672_i32 : BitVec 32 := 2672#32
  let c0_i32_479 : BitVec 32 := 0#32
  ![v2.toNat, 2672, 0]
def k0_off681 (v2473 : BitVec 32) : Fin 2 → Nat :=
  let v2474 : BitVec 32 := v2473
  let c0_i32_480 : BitVec 32 := 0#32
  ![v2474.toNat, 0]

def k0_chk169 (v2473 : BitVec 32) : Prop :=
  (16 ∣ (k0_mult170 v2473).toNat) ∧
  (∀ a, (k0_off681 v2473) a + S16x1024.size a ≤ S28672x1024.size a) ∧
  (∀ (hinb : ∀ a, (k0_off681 v2473) a + S16x1024.size a ≤ S28672x1024.size a), (Rect.unit (s := S28672x1024) (k0_off681 v2473) S16x1024.size hinb).WholeWords (EltTy.packing .bf16))
theorem k0_mult170_dvd : ∀ (v2473 : BitVec 32) (k0_hw169 : k0_chk169 v2473), 16 ∣ (k0_mult170 v2473).toNat := fun v2473 k0_hw169 => k0_hw169.1
theorem k0_off681_inb : ∀ (v2473 : BitVec 32) (k0_hw169 : k0_chk169 v2473), ∀ a, (k0_off681 v2473) a + S16x1024.size a ≤ S28672x1024.size a := fun v2473 k0_hw169 => k0_hw169.2.1
theorem k0_off681_wordsbf16 : ∀ (v2473 : BitVec 32) (k0_hw169 : k0_chk169 v2473), (Rect.unit (s := S28672x1024) (k0_off681 v2473) S16x1024.size (k0_off681_inb v2473 k0_hw169)).WholeWords (EltTy.packing .bf16) := fun v2473 k0_hw169 => k0_hw169.2.2 (k0_off681_inb v2473 k0_hw169)

def k0_off682 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c168_i32 : BitVec 32 := 168#32
  let v2480 : BitVec 32 := Scalar.addi v38 c168_i32
  let v2481 : Index := Scalar.indexCast v2480
  ![v2481.toNat]
def k0_mult171 (v2482 : BitVec 32) : BitVec 32 :=
  v2482

def k0_off683 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off684 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2688_i32 : BitVec 32 := 2688#32
  let c0_i32_481 : BitVec 32 := 0#32
  ![v2.toNat, 2688, 0]
def k0_off685 (v2482 : BitVec 32) : Fin 2 → Nat :=
  let v2483 : BitVec 32 := v2482
  let c0_i32_482 : BitVec 32 := 0#32
  ![v2483.toNat, 0]

def k0_chk170 (v2482 : BitVec 32) : Prop :=
  (16 ∣ (k0_mult171 v2482).toNat) ∧
  (∀ a, (k0_off685 v2482) a + S16x1024.size a ≤ S28672x1024.size a) ∧
  (∀ (hinb : ∀ a, (k0_off685 v2482) a + S16x1024.size a ≤ S28672x1024.size a), (Rect.unit (s := S28672x1024) (k0_off685 v2482) S16x1024.size hinb).WholeWords (EltTy.packing .bf16))
theorem k0_mult171_dvd : ∀ (v2482 : BitVec 32) (k0_hw170 : k0_chk170 v2482), 16 ∣ (k0_mult171 v2482).toNat := fun v2482 k0_hw170 => k0_hw170.1
theorem k0_off685_inb : ∀ (v2482 : BitVec 32) (k0_hw170 : k0_chk170 v2482), ∀ a, (k0_off685 v2482) a + S16x1024.size a ≤ S28672x1024.size a := fun v2482 k0_hw170 => k0_hw170.2.1
theorem k0_off685_wordsbf16 : ∀ (v2482 : BitVec 32) (k0_hw170 : k0_chk170 v2482), (Rect.unit (s := S28672x1024) (k0_off685 v2482) S16x1024.size (k0_off685_inb v2482 k0_hw170)).WholeWords (EltTy.packing .bf16) := fun v2482 k0_hw170 => k0_hw170.2.2 (k0_off685_inb v2482 k0_hw170)

def k0_off686 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c169_i32 : BitVec 32 := 169#32
  let v2489 : BitVec 32 := Scalar.addi v38 c169_i32
  let v2490 : Index := Scalar.indexCast v2489
  ![v2490.toNat]
def k0_mult172 (v2491 : BitVec 32) : BitVec 32 :=
  v2491

def k0_off687 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off688 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2704_i32 : BitVec 32 := 2704#32
  let c0_i32_483 : BitVec 32 := 0#32
  ![v2.toNat, 2704, 0]
def k0_off689 (v2491 : BitVec 32) : Fin 2 → Nat :=
  let v2492 : BitVec 32 := v2491
  let c0_i32_484 : BitVec 32 := 0#32
  ![v2492.toNat, 0]

def k0_chk171 (v2491 : BitVec 32) : Prop :=
  (16 ∣ (k0_mult172 v2491).toNat) ∧
  (∀ a, (k0_off689 v2491) a + S16x1024.size a ≤ S28672x1024.size a) ∧
  (∀ (hinb : ∀ a, (k0_off689 v2491) a + S16x1024.size a ≤ S28672x1024.size a), (Rect.unit (s := S28672x1024) (k0_off689 v2491) S16x1024.size hinb).WholeWords (EltTy.packing .bf16))
theorem k0_mult172_dvd : ∀ (v2491 : BitVec 32) (k0_hw171 : k0_chk171 v2491), 16 ∣ (k0_mult172 v2491).toNat := fun v2491 k0_hw171 => k0_hw171.1
theorem k0_off689_inb : ∀ (v2491 : BitVec 32) (k0_hw171 : k0_chk171 v2491), ∀ a, (k0_off689 v2491) a + S16x1024.size a ≤ S28672x1024.size a := fun v2491 k0_hw171 => k0_hw171.2.1
theorem k0_off689_wordsbf16 : ∀ (v2491 : BitVec 32) (k0_hw171 : k0_chk171 v2491), (Rect.unit (s := S28672x1024) (k0_off689 v2491) S16x1024.size (k0_off689_inb v2491 k0_hw171)).WholeWords (EltTy.packing .bf16) := fun v2491 k0_hw171 => k0_hw171.2.2 (k0_off689_inb v2491 k0_hw171)

def k0_off690 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c170_i32 : BitVec 32 := 170#32
  let v2498 : BitVec 32 := Scalar.addi v38 c170_i32
  let v2499 : Index := Scalar.indexCast v2498
  ![v2499.toNat]
def k0_mult173 (v2500 : BitVec 32) : BitVec 32 :=
  v2500

def k0_off691 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off692 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2720_i32 : BitVec 32 := 2720#32
  let c0_i32_485 : BitVec 32 := 0#32
  ![v2.toNat, 2720, 0]
def k0_off693 (v2500 : BitVec 32) : Fin 2 → Nat :=
  let v2501 : BitVec 32 := v2500
  let c0_i32_486 : BitVec 32 := 0#32
  ![v2501.toNat, 0]

def k0_chk172 (v2500 : BitVec 32) : Prop :=
  (16 ∣ (k0_mult173 v2500).toNat) ∧
  (∀ a, (k0_off693 v2500) a + S16x1024.size a ≤ S28672x1024.size a) ∧
  (∀ (hinb : ∀ a, (k0_off693 v2500) a + S16x1024.size a ≤ S28672x1024.size a), (Rect.unit (s := S28672x1024) (k0_off693 v2500) S16x1024.size hinb).WholeWords (EltTy.packing .bf16))
theorem k0_mult173_dvd : ∀ (v2500 : BitVec 32) (k0_hw172 : k0_chk172 v2500), 16 ∣ (k0_mult173 v2500).toNat := fun v2500 k0_hw172 => k0_hw172.1
theorem k0_off693_inb : ∀ (v2500 : BitVec 32) (k0_hw172 : k0_chk172 v2500), ∀ a, (k0_off693 v2500) a + S16x1024.size a ≤ S28672x1024.size a := fun v2500 k0_hw172 => k0_hw172.2.1
theorem k0_off693_wordsbf16 : ∀ (v2500 : BitVec 32) (k0_hw172 : k0_chk172 v2500), (Rect.unit (s := S28672x1024) (k0_off693 v2500) S16x1024.size (k0_off693_inb v2500 k0_hw172)).WholeWords (EltTy.packing .bf16) := fun v2500 k0_hw172 => k0_hw172.2.2 (k0_off693_inb v2500 k0_hw172)

def k0_off694 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c171_i32 : BitVec 32 := 171#32
  let v2507 : BitVec 32 := Scalar.addi v38 c171_i32
  let v2508 : Index := Scalar.indexCast v2507
  ![v2508.toNat]
def k0_mult174 (v2509 : BitVec 32) : BitVec 32 :=
  v2509

def k0_off695 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off696 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2736_i32 : BitVec 32 := 2736#32
  let c0_i32_487 : BitVec 32 := 0#32
  ![v2.toNat, 2736, 0]
def k0_off697 (v2509 : BitVec 32) : Fin 2 → Nat :=
  let v2510 : BitVec 32 := v2509
  let c0_i32_488 : BitVec 32 := 0#32
  ![v2510.toNat, 0]

def k0_chk173 (v2509 : BitVec 32) : Prop :=
  (16 ∣ (k0_mult174 v2509).toNat) ∧
  (∀ a, (k0_off697 v2509) a + S16x1024.size a ≤ S28672x1024.size a) ∧
  (∀ (hinb : ∀ a, (k0_off697 v2509) a + S16x1024.size a ≤ S28672x1024.size a), (Rect.unit (s := S28672x1024) (k0_off697 v2509) S16x1024.size hinb).WholeWords (EltTy.packing .bf16))
theorem k0_mult174_dvd : ∀ (v2509 : BitVec 32) (k0_hw173 : k0_chk173 v2509), 16 ∣ (k0_mult174 v2509).toNat := fun v2509 k0_hw173 => k0_hw173.1
theorem k0_off697_inb : ∀ (v2509 : BitVec 32) (k0_hw173 : k0_chk173 v2509), ∀ a, (k0_off697 v2509) a + S16x1024.size a ≤ S28672x1024.size a := fun v2509 k0_hw173 => k0_hw173.2.1
theorem k0_off697_wordsbf16 : ∀ (v2509 : BitVec 32) (k0_hw173 : k0_chk173 v2509), (Rect.unit (s := S28672x1024) (k0_off697 v2509) S16x1024.size (k0_off697_inb v2509 k0_hw173)).WholeWords (EltTy.packing .bf16) := fun v2509 k0_hw173 => k0_hw173.2.2 (k0_off697_inb v2509 k0_hw173)

def k0_off698 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c172_i32 : BitVec 32 := 172#32
  let v2516 : BitVec 32 := Scalar.addi v38 c172_i32
  let v2517 : Index := Scalar.indexCast v2516
  ![v2517.toNat]
def k0_mult175 (v2518 : BitVec 32) : BitVec 32 :=
  v2518

def k0_off699 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off700 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2752_i32 : BitVec 32 := 2752#32
  let c0_i32_489 : BitVec 32 := 0#32
  ![v2.toNat, 2752, 0]
def k0_off701 (v2518 : BitVec 32) : Fin 2 → Nat :=
  let v2519 : BitVec 32 := v2518
  let c0_i32_490 : BitVec 32 := 0#32
  ![v2519.toNat, 0]

def k0_chk174 (v2518 : BitVec 32) : Prop :=
  (16 ∣ (k0_mult175 v2518).toNat) ∧
  (∀ a, (k0_off701 v2518) a + S16x1024.size a ≤ S28672x1024.size a) ∧
  (∀ (hinb : ∀ a, (k0_off701 v2518) a + S16x1024.size a ≤ S28672x1024.size a), (Rect.unit (s := S28672x1024) (k0_off701 v2518) S16x1024.size hinb).WholeWords (EltTy.packing .bf16))
theorem k0_mult175_dvd : ∀ (v2518 : BitVec 32) (k0_hw174 : k0_chk174 v2518), 16 ∣ (k0_mult175 v2518).toNat := fun v2518 k0_hw174 => k0_hw174.1
theorem k0_off701_inb : ∀ (v2518 : BitVec 32) (k0_hw174 : k0_chk174 v2518), ∀ a, (k0_off701 v2518) a + S16x1024.size a ≤ S28672x1024.size a := fun v2518 k0_hw174 => k0_hw174.2.1
theorem k0_off701_wordsbf16 : ∀ (v2518 : BitVec 32) (k0_hw174 : k0_chk174 v2518), (Rect.unit (s := S28672x1024) (k0_off701 v2518) S16x1024.size (k0_off701_inb v2518 k0_hw174)).WholeWords (EltTy.packing .bf16) := fun v2518 k0_hw174 => k0_hw174.2.2 (k0_off701_inb v2518 k0_hw174)

def k0_off702 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c173_i32 : BitVec 32 := 173#32
  let v2525 : BitVec 32 := Scalar.addi v38 c173_i32
  let v2526 : Index := Scalar.indexCast v2525
  ![v2526.toNat]
def k0_mult176 (v2527 : BitVec 32) : BitVec 32 :=
  v2527

def k0_off703 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off704 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2768_i32 : BitVec 32 := 2768#32
  let c0_i32_491 : BitVec 32 := 0#32
  ![v2.toNat, 2768, 0]
def k0_off705 (v2527 : BitVec 32) : Fin 2 → Nat :=
  let v2528 : BitVec 32 := v2527
  let c0_i32_492 : BitVec 32 := 0#32
  ![v2528.toNat, 0]

def k0_chk175 (v2527 : BitVec 32) : Prop :=
  (16 ∣ (k0_mult176 v2527).toNat) ∧
  (∀ a, (k0_off705 v2527) a + S16x1024.size a ≤ S28672x1024.size a) ∧
  (∀ (hinb : ∀ a, (k0_off705 v2527) a + S16x1024.size a ≤ S28672x1024.size a), (Rect.unit (s := S28672x1024) (k0_off705 v2527) S16x1024.size hinb).WholeWords (EltTy.packing .bf16))
theorem k0_mult176_dvd : ∀ (v2527 : BitVec 32) (k0_hw175 : k0_chk175 v2527), 16 ∣ (k0_mult176 v2527).toNat := fun v2527 k0_hw175 => k0_hw175.1
theorem k0_off705_inb : ∀ (v2527 : BitVec 32) (k0_hw175 : k0_chk175 v2527), ∀ a, (k0_off705 v2527) a + S16x1024.size a ≤ S28672x1024.size a := fun v2527 k0_hw175 => k0_hw175.2.1
theorem k0_off705_wordsbf16 : ∀ (v2527 : BitVec 32) (k0_hw175 : k0_chk175 v2527), (Rect.unit (s := S28672x1024) (k0_off705 v2527) S16x1024.size (k0_off705_inb v2527 k0_hw175)).WholeWords (EltTy.packing .bf16) := fun v2527 k0_hw175 => k0_hw175.2.2 (k0_off705_inb v2527 k0_hw175)

def k0_off706 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c174_i32 : BitVec 32 := 174#32
  let v2534 : BitVec 32 := Scalar.addi v38 c174_i32
  let v2535 : Index := Scalar.indexCast v2534
  ![v2535.toNat]
def k0_mult177 (v2536 : BitVec 32) : BitVec 32 :=
  v2536

def k0_off707 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off708 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2784_i32 : BitVec 32 := 2784#32
  let c0_i32_493 : BitVec 32 := 0#32
  ![v2.toNat, 2784, 0]
def k0_off709 (v2536 : BitVec 32) : Fin 2 → Nat :=
  let v2537 : BitVec 32 := v2536
  let c0_i32_494 : BitVec 32 := 0#32
  ![v2537.toNat, 0]

def k0_chk176 (v2536 : BitVec 32) : Prop :=
  (16 ∣ (k0_mult177 v2536).toNat) ∧
  (∀ a, (k0_off709 v2536) a + S16x1024.size a ≤ S28672x1024.size a) ∧
  (∀ (hinb : ∀ a, (k0_off709 v2536) a + S16x1024.size a ≤ S28672x1024.size a), (Rect.unit (s := S28672x1024) (k0_off709 v2536) S16x1024.size hinb).WholeWords (EltTy.packing .bf16))
theorem k0_mult177_dvd : ∀ (v2536 : BitVec 32) (k0_hw176 : k0_chk176 v2536), 16 ∣ (k0_mult177 v2536).toNat := fun v2536 k0_hw176 => k0_hw176.1
theorem k0_off709_inb : ∀ (v2536 : BitVec 32) (k0_hw176 : k0_chk176 v2536), ∀ a, (k0_off709 v2536) a + S16x1024.size a ≤ S28672x1024.size a := fun v2536 k0_hw176 => k0_hw176.2.1
theorem k0_off709_wordsbf16 : ∀ (v2536 : BitVec 32) (k0_hw176 : k0_chk176 v2536), (Rect.unit (s := S28672x1024) (k0_off709 v2536) S16x1024.size (k0_off709_inb v2536 k0_hw176)).WholeWords (EltTy.packing .bf16) := fun v2536 k0_hw176 => k0_hw176.2.2 (k0_off709_inb v2536 k0_hw176)

def k0_off710 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c175_i32 : BitVec 32 := 175#32
  let v2543 : BitVec 32 := Scalar.addi v38 c175_i32
  let v2544 : Index := Scalar.indexCast v2543
  ![v2544.toNat]
def k0_mult178 (v2545 : BitVec 32) : BitVec 32 :=
  v2545

def k0_off711 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off712 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2800_i32 : BitVec 32 := 2800#32
  let c0_i32_495 : BitVec 32 := 0#32
  ![v2.toNat, 2800, 0]
def k0_off713 (v2545 : BitVec 32) : Fin 2 → Nat :=
  let v2546 : BitVec 32 := v2545
  let c0_i32_496 : BitVec 32 := 0#32
  ![v2546.toNat, 0]

def k0_chk177 (v2545 : BitVec 32) : Prop :=
  (16 ∣ (k0_mult178 v2545).toNat) ∧
  (∀ a, (k0_off713 v2545) a + S16x1024.size a ≤ S28672x1024.size a) ∧
  (∀ (hinb : ∀ a, (k0_off713 v2545) a + S16x1024.size a ≤ S28672x1024.size a), (Rect.unit (s := S28672x1024) (k0_off713 v2545) S16x1024.size hinb).WholeWords (EltTy.packing .bf16))
theorem k0_mult178_dvd : ∀ (v2545 : BitVec 32) (k0_hw177 : k0_chk177 v2545), 16 ∣ (k0_mult178 v2545).toNat := fun v2545 k0_hw177 => k0_hw177.1
theorem k0_off713_inb : ∀ (v2545 : BitVec 32) (k0_hw177 : k0_chk177 v2545), ∀ a, (k0_off713 v2545) a + S16x1024.size a ≤ S28672x1024.size a := fun v2545 k0_hw177 => k0_hw177.2.1
theorem k0_off713_wordsbf16 : ∀ (v2545 : BitVec 32) (k0_hw177 : k0_chk177 v2545), (Rect.unit (s := S28672x1024) (k0_off713 v2545) S16x1024.size (k0_off713_inb v2545 k0_hw177)).WholeWords (EltTy.packing .bf16) := fun v2545 k0_hw177 => k0_hw177.2.2 (k0_off713_inb v2545 k0_hw177)

def k0_off714 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c176_i32_497 : BitVec 32 := 176#32
  let v2552 : BitVec 32 := Scalar.addi v38 c176_i32_497
  let v2553 : Index := Scalar.indexCast v2552
  ![v2553.toNat]
def k0_mult179 (v2554 : BitVec 32) : BitVec 32 :=
  v2554

def k0_off715 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off716 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2816_i32 : BitVec 32 := 2816#32
  let c0_i32_498 : BitVec 32 := 0#32
  ![v2.toNat, 2816, 0]
def k0_off717 (v2554 : BitVec 32) : Fin 2 → Nat :=
  let v2555 : BitVec 32 := v2554
  let c0_i32_499 : BitVec 32 := 0#32
  ![v2555.toNat, 0]

def k0_chk178 (v2554 : BitVec 32) : Prop :=
  (16 ∣ (k0_mult179 v2554).toNat) ∧
  (∀ a, (k0_off717 v2554) a + S16x1024.size a ≤ S28672x1024.size a) ∧
  (∀ (hinb : ∀ a, (k0_off717 v2554) a + S16x1024.size a ≤ S28672x1024.size a), (Rect.unit (s := S28672x1024) (k0_off717 v2554) S16x1024.size hinb).WholeWords (EltTy.packing .bf16))
theorem k0_mult179_dvd : ∀ (v2554 : BitVec 32) (k0_hw178 : k0_chk178 v2554), 16 ∣ (k0_mult179 v2554).toNat := fun v2554 k0_hw178 => k0_hw178.1
theorem k0_off717_inb : ∀ (v2554 : BitVec 32) (k0_hw178 : k0_chk178 v2554), ∀ a, (k0_off717 v2554) a + S16x1024.size a ≤ S28672x1024.size a := fun v2554 k0_hw178 => k0_hw178.2.1
theorem k0_off717_wordsbf16 : ∀ (v2554 : BitVec 32) (k0_hw178 : k0_chk178 v2554), (Rect.unit (s := S28672x1024) (k0_off717 v2554) S16x1024.size (k0_off717_inb v2554 k0_hw178)).WholeWords (EltTy.packing .bf16) := fun v2554 k0_hw178 => k0_hw178.2.2 (k0_off717_inb v2554 k0_hw178)

def k0_off718 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c177_i32 : BitVec 32 := 177#32
  let v2561 : BitVec 32 := Scalar.addi v38 c177_i32
  let v2562 : Index := Scalar.indexCast v2561
  ![v2562.toNat]
def k0_mult180 (v2563 : BitVec 32) : BitVec 32 :=
  v2563

def k0_off719 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off720 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2832_i32 : BitVec 32 := 2832#32
  let c0_i32_500 : BitVec 32 := 0#32
  ![v2.toNat, 2832, 0]
def k0_off721 (v2563 : BitVec 32) : Fin 2 → Nat :=
  let v2564 : BitVec 32 := v2563
  let c0_i32_501 : BitVec 32 := 0#32
  ![v2564.toNat, 0]

def k0_chk179 (v2563 : BitVec 32) : Prop :=
  (16 ∣ (k0_mult180 v2563).toNat) ∧
  (∀ a, (k0_off721 v2563) a + S16x1024.size a ≤ S28672x1024.size a) ∧
  (∀ (hinb : ∀ a, (k0_off721 v2563) a + S16x1024.size a ≤ S28672x1024.size a), (Rect.unit (s := S28672x1024) (k0_off721 v2563) S16x1024.size hinb).WholeWords (EltTy.packing .bf16))
theorem k0_mult180_dvd : ∀ (v2563 : BitVec 32) (k0_hw179 : k0_chk179 v2563), 16 ∣ (k0_mult180 v2563).toNat := fun v2563 k0_hw179 => k0_hw179.1
theorem k0_off721_inb : ∀ (v2563 : BitVec 32) (k0_hw179 : k0_chk179 v2563), ∀ a, (k0_off721 v2563) a + S16x1024.size a ≤ S28672x1024.size a := fun v2563 k0_hw179 => k0_hw179.2.1
theorem k0_off721_wordsbf16 : ∀ (v2563 : BitVec 32) (k0_hw179 : k0_chk179 v2563), (Rect.unit (s := S28672x1024) (k0_off721 v2563) S16x1024.size (k0_off721_inb v2563 k0_hw179)).WholeWords (EltTy.packing .bf16) := fun v2563 k0_hw179 => k0_hw179.2.2 (k0_off721_inb v2563 k0_hw179)

def k0_off722 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c178_i32 : BitVec 32 := 178#32
  let v2570 : BitVec 32 := Scalar.addi v38 c178_i32
  let v2571 : Index := Scalar.indexCast v2570
  ![v2571.toNat]
def k0_mult181 (v2572 : BitVec 32) : BitVec 32 :=
  v2572

def k0_off723 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off724 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2848_i32 : BitVec 32 := 2848#32
  let c0_i32_502 : BitVec 32 := 0#32
  ![v2.toNat, 2848, 0]
def k0_off725 (v2572 : BitVec 32) : Fin 2 → Nat :=
  let v2573 : BitVec 32 := v2572
  let c0_i32_503 : BitVec 32 := 0#32
  ![v2573.toNat, 0]

def k0_chk180 (v2572 : BitVec 32) : Prop :=
  (16 ∣ (k0_mult181 v2572).toNat) ∧
  (∀ a, (k0_off725 v2572) a + S16x1024.size a ≤ S28672x1024.size a) ∧
  (∀ (hinb : ∀ a, (k0_off725 v2572) a + S16x1024.size a ≤ S28672x1024.size a), (Rect.unit (s := S28672x1024) (k0_off725 v2572) S16x1024.size hinb).WholeWords (EltTy.packing .bf16))
theorem k0_mult181_dvd : ∀ (v2572 : BitVec 32) (k0_hw180 : k0_chk180 v2572), 16 ∣ (k0_mult181 v2572).toNat := fun v2572 k0_hw180 => k0_hw180.1
theorem k0_off725_inb : ∀ (v2572 : BitVec 32) (k0_hw180 : k0_chk180 v2572), ∀ a, (k0_off725 v2572) a + S16x1024.size a ≤ S28672x1024.size a := fun v2572 k0_hw180 => k0_hw180.2.1
theorem k0_off725_wordsbf16 : ∀ (v2572 : BitVec 32) (k0_hw180 : k0_chk180 v2572), (Rect.unit (s := S28672x1024) (k0_off725 v2572) S16x1024.size (k0_off725_inb v2572 k0_hw180)).WholeWords (EltTy.packing .bf16) := fun v2572 k0_hw180 => k0_hw180.2.2 (k0_off725_inb v2572 k0_hw180)

def k0_off726 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c179_i32 : BitVec 32 := 179#32
  let v2579 : BitVec 32 := Scalar.addi v38 c179_i32
  let v2580 : Index := Scalar.indexCast v2579
  ![v2580.toNat]
def k0_mult182 (v2581 : BitVec 32) : BitVec 32 :=
  v2581

def k0_off727 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off728 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2864_i32 : BitVec 32 := 2864#32
  let c0_i32_504 : BitVec 32 := 0#32
  ![v2.toNat, 2864, 0]
def k0_off729 (v2581 : BitVec 32) : Fin 2 → Nat :=
  let v2582 : BitVec 32 := v2581
  let c0_i32_505 : BitVec 32 := 0#32
  ![v2582.toNat, 0]

def k0_chk181 (v2581 : BitVec 32) : Prop :=
  (16 ∣ (k0_mult182 v2581).toNat) ∧
  (∀ a, (k0_off729 v2581) a + S16x1024.size a ≤ S28672x1024.size a) ∧
  (∀ (hinb : ∀ a, (k0_off729 v2581) a + S16x1024.size a ≤ S28672x1024.size a), (Rect.unit (s := S28672x1024) (k0_off729 v2581) S16x1024.size hinb).WholeWords (EltTy.packing .bf16))
theorem k0_mult182_dvd : ∀ (v2581 : BitVec 32) (k0_hw181 : k0_chk181 v2581), 16 ∣ (k0_mult182 v2581).toNat := fun v2581 k0_hw181 => k0_hw181.1
theorem k0_off729_inb : ∀ (v2581 : BitVec 32) (k0_hw181 : k0_chk181 v2581), ∀ a, (k0_off729 v2581) a + S16x1024.size a ≤ S28672x1024.size a := fun v2581 k0_hw181 => k0_hw181.2.1
theorem k0_off729_wordsbf16 : ∀ (v2581 : BitVec 32) (k0_hw181 : k0_chk181 v2581), (Rect.unit (s := S28672x1024) (k0_off729 v2581) S16x1024.size (k0_off729_inb v2581 k0_hw181)).WholeWords (EltTy.packing .bf16) := fun v2581 k0_hw181 => k0_hw181.2.2 (k0_off729_inb v2581 k0_hw181)

def k0_off730 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c180_i32 : BitVec 32 := 180#32
  let v2588 : BitVec 32 := Scalar.addi v38 c180_i32
  let v2589 : Index := Scalar.indexCast v2588
  ![v2589.toNat]
def k0_mult183 (v2590 : BitVec 32) : BitVec 32 :=
  v2590

def k0_off731 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off732 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2880_i32 : BitVec 32 := 2880#32
  let c0_i32_506 : BitVec 32 := 0#32
  ![v2.toNat, 2880, 0]
def k0_off733 (v2590 : BitVec 32) : Fin 2 → Nat :=
  let v2591 : BitVec 32 := v2590
  let c0_i32_507 : BitVec 32 := 0#32
  ![v2591.toNat, 0]

def k0_chk182 (v2590 : BitVec 32) : Prop :=
  (16 ∣ (k0_mult183 v2590).toNat) ∧
  (∀ a, (k0_off733 v2590) a + S16x1024.size a ≤ S28672x1024.size a) ∧
  (∀ (hinb : ∀ a, (k0_off733 v2590) a + S16x1024.size a ≤ S28672x1024.size a), (Rect.unit (s := S28672x1024) (k0_off733 v2590) S16x1024.size hinb).WholeWords (EltTy.packing .bf16))
theorem k0_mult183_dvd : ∀ (v2590 : BitVec 32) (k0_hw182 : k0_chk182 v2590), 16 ∣ (k0_mult183 v2590).toNat := fun v2590 k0_hw182 => k0_hw182.1
theorem k0_off733_inb : ∀ (v2590 : BitVec 32) (k0_hw182 : k0_chk182 v2590), ∀ a, (k0_off733 v2590) a + S16x1024.size a ≤ S28672x1024.size a := fun v2590 k0_hw182 => k0_hw182.2.1
theorem k0_off733_wordsbf16 : ∀ (v2590 : BitVec 32) (k0_hw182 : k0_chk182 v2590), (Rect.unit (s := S28672x1024) (k0_off733 v2590) S16x1024.size (k0_off733_inb v2590 k0_hw182)).WholeWords (EltTy.packing .bf16) := fun v2590 k0_hw182 => k0_hw182.2.2 (k0_off733_inb v2590 k0_hw182)

def k0_off734 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c181_i32 : BitVec 32 := 181#32
  let v2597 : BitVec 32 := Scalar.addi v38 c181_i32
  let v2598 : Index := Scalar.indexCast v2597
  ![v2598.toNat]
def k0_mult184 (v2599 : BitVec 32) : BitVec 32 :=
  v2599

def k0_off735 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off736 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2896_i32 : BitVec 32 := 2896#32
  let c0_i32_508 : BitVec 32 := 0#32
  ![v2.toNat, 2896, 0]
def k0_off737 (v2599 : BitVec 32) : Fin 2 → Nat :=
  let v2600 : BitVec 32 := v2599
  let c0_i32_509 : BitVec 32 := 0#32
  ![v2600.toNat, 0]

def k0_chk183 (v2599 : BitVec 32) : Prop :=
  (16 ∣ (k0_mult184 v2599).toNat) ∧
  (∀ a, (k0_off737 v2599) a + S16x1024.size a ≤ S28672x1024.size a) ∧
  (∀ (hinb : ∀ a, (k0_off737 v2599) a + S16x1024.size a ≤ S28672x1024.size a), (Rect.unit (s := S28672x1024) (k0_off737 v2599) S16x1024.size hinb).WholeWords (EltTy.packing .bf16))
theorem k0_mult184_dvd : ∀ (v2599 : BitVec 32) (k0_hw183 : k0_chk183 v2599), 16 ∣ (k0_mult184 v2599).toNat := fun v2599 k0_hw183 => k0_hw183.1
theorem k0_off737_inb : ∀ (v2599 : BitVec 32) (k0_hw183 : k0_chk183 v2599), ∀ a, (k0_off737 v2599) a + S16x1024.size a ≤ S28672x1024.size a := fun v2599 k0_hw183 => k0_hw183.2.1
theorem k0_off737_wordsbf16 : ∀ (v2599 : BitVec 32) (k0_hw183 : k0_chk183 v2599), (Rect.unit (s := S28672x1024) (k0_off737 v2599) S16x1024.size (k0_off737_inb v2599 k0_hw183)).WholeWords (EltTy.packing .bf16) := fun v2599 k0_hw183 => k0_hw183.2.2 (k0_off737_inb v2599 k0_hw183)

def k0_off738 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c182_i32 : BitVec 32 := 182#32
  let v2606 : BitVec 32 := Scalar.addi v38 c182_i32
  let v2607 : Index := Scalar.indexCast v2606
  ![v2607.toNat]
def k0_mult185 (v2608 : BitVec 32) : BitVec 32 :=
  v2608

def k0_off739 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off740 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2912_i32 : BitVec 32 := 2912#32
  let c0_i32_510 : BitVec 32 := 0#32
  ![v2.toNat, 2912, 0]
def k0_off741 (v2608 : BitVec 32) : Fin 2 → Nat :=
  let v2609 : BitVec 32 := v2608
  let c0_i32_511 : BitVec 32 := 0#32
  ![v2609.toNat, 0]

def k0_chk184 (v2608 : BitVec 32) : Prop :=
  (16 ∣ (k0_mult185 v2608).toNat) ∧
  (∀ a, (k0_off741 v2608) a + S16x1024.size a ≤ S28672x1024.size a) ∧
  (∀ (hinb : ∀ a, (k0_off741 v2608) a + S16x1024.size a ≤ S28672x1024.size a), (Rect.unit (s := S28672x1024) (k0_off741 v2608) S16x1024.size hinb).WholeWords (EltTy.packing .bf16))
theorem k0_mult185_dvd : ∀ (v2608 : BitVec 32) (k0_hw184 : k0_chk184 v2608), 16 ∣ (k0_mult185 v2608).toNat := fun v2608 k0_hw184 => k0_hw184.1
theorem k0_off741_inb : ∀ (v2608 : BitVec 32) (k0_hw184 : k0_chk184 v2608), ∀ a, (k0_off741 v2608) a + S16x1024.size a ≤ S28672x1024.size a := fun v2608 k0_hw184 => k0_hw184.2.1
theorem k0_off741_wordsbf16 : ∀ (v2608 : BitVec 32) (k0_hw184 : k0_chk184 v2608), (Rect.unit (s := S28672x1024) (k0_off741 v2608) S16x1024.size (k0_off741_inb v2608 k0_hw184)).WholeWords (EltTy.packing .bf16) := fun v2608 k0_hw184 => k0_hw184.2.2 (k0_off741_inb v2608 k0_hw184)

def k0_off742 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c183_i32 : BitVec 32 := 183#32
  let v2615 : BitVec 32 := Scalar.addi v38 c183_i32
  let v2616 : Index := Scalar.indexCast v2615
  ![v2616.toNat]
def k0_mult186 (v2617 : BitVec 32) : BitVec 32 :=
  v2617

def k0_off743 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off744 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2928_i32 : BitVec 32 := 2928#32
  let c0_i32_512 : BitVec 32 := 0#32
  ![v2.toNat, 2928, 0]
def k0_off745 (v2617 : BitVec 32) : Fin 2 → Nat :=
  let v2618 : BitVec 32 := v2617
  let c0_i32_513 : BitVec 32 := 0#32
  ![v2618.toNat, 0]

def k0_chk185 (v2617 : BitVec 32) : Prop :=
  (16 ∣ (k0_mult186 v2617).toNat) ∧
  (∀ a, (k0_off745 v2617) a + S16x1024.size a ≤ S28672x1024.size a) ∧
  (∀ (hinb : ∀ a, (k0_off745 v2617) a + S16x1024.size a ≤ S28672x1024.size a), (Rect.unit (s := S28672x1024) (k0_off745 v2617) S16x1024.size hinb).WholeWords (EltTy.packing .bf16))
theorem k0_mult186_dvd : ∀ (v2617 : BitVec 32) (k0_hw185 : k0_chk185 v2617), 16 ∣ (k0_mult186 v2617).toNat := fun v2617 k0_hw185 => k0_hw185.1
theorem k0_off745_inb : ∀ (v2617 : BitVec 32) (k0_hw185 : k0_chk185 v2617), ∀ a, (k0_off745 v2617) a + S16x1024.size a ≤ S28672x1024.size a := fun v2617 k0_hw185 => k0_hw185.2.1
theorem k0_off745_wordsbf16 : ∀ (v2617 : BitVec 32) (k0_hw185 : k0_chk185 v2617), (Rect.unit (s := S28672x1024) (k0_off745 v2617) S16x1024.size (k0_off745_inb v2617 k0_hw185)).WholeWords (EltTy.packing .bf16) := fun v2617 k0_hw185 => k0_hw185.2.2 (k0_off745_inb v2617 k0_hw185)

def k0_off746 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c184_i32 : BitVec 32 := 184#32
  let v2624 : BitVec 32 := Scalar.addi v38 c184_i32
  let v2625 : Index := Scalar.indexCast v2624
  ![v2625.toNat]
def k0_mult187 (v2626 : BitVec 32) : BitVec 32 :=
  v2626

def k0_off747 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off748 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2944_i32 : BitVec 32 := 2944#32
  let c0_i32_514 : BitVec 32 := 0#32
  ![v2.toNat, 2944, 0]
def k0_off749 (v2626 : BitVec 32) : Fin 2 → Nat :=
  let v2627 : BitVec 32 := v2626
  let c0_i32_515 : BitVec 32 := 0#32
  ![v2627.toNat, 0]

def k0_chk186 (v2626 : BitVec 32) : Prop :=
  (16 ∣ (k0_mult187 v2626).toNat) ∧
  (∀ a, (k0_off749 v2626) a + S16x1024.size a ≤ S28672x1024.size a) ∧
  (∀ (hinb : ∀ a, (k0_off749 v2626) a + S16x1024.size a ≤ S28672x1024.size a), (Rect.unit (s := S28672x1024) (k0_off749 v2626) S16x1024.size hinb).WholeWords (EltTy.packing .bf16))
theorem k0_mult187_dvd : ∀ (v2626 : BitVec 32) (k0_hw186 : k0_chk186 v2626), 16 ∣ (k0_mult187 v2626).toNat := fun v2626 k0_hw186 => k0_hw186.1
theorem k0_off749_inb : ∀ (v2626 : BitVec 32) (k0_hw186 : k0_chk186 v2626), ∀ a, (k0_off749 v2626) a + S16x1024.size a ≤ S28672x1024.size a := fun v2626 k0_hw186 => k0_hw186.2.1
theorem k0_off749_wordsbf16 : ∀ (v2626 : BitVec 32) (k0_hw186 : k0_chk186 v2626), (Rect.unit (s := S28672x1024) (k0_off749 v2626) S16x1024.size (k0_off749_inb v2626 k0_hw186)).WholeWords (EltTy.packing .bf16) := fun v2626 k0_hw186 => k0_hw186.2.2 (k0_off749_inb v2626 k0_hw186)

def k0_off750 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c185_i32 : BitVec 32 := 185#32
  let v2633 : BitVec 32 := Scalar.addi v38 c185_i32
  let v2634 : Index := Scalar.indexCast v2633
  ![v2634.toNat]
def k0_mult188 (v2635 : BitVec 32) : BitVec 32 :=
  v2635

def k0_off751 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off752 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2960_i32 : BitVec 32 := 2960#32
  let c0_i32_516 : BitVec 32 := 0#32
  ![v2.toNat, 2960, 0]
def k0_off753 (v2635 : BitVec 32) : Fin 2 → Nat :=
  let v2636 : BitVec 32 := v2635
  let c0_i32_517 : BitVec 32 := 0#32
  ![v2636.toNat, 0]

def k0_chk187 (v2635 : BitVec 32) : Prop :=
  (16 ∣ (k0_mult188 v2635).toNat) ∧
  (∀ a, (k0_off753 v2635) a + S16x1024.size a ≤ S28672x1024.size a) ∧
  (∀ (hinb : ∀ a, (k0_off753 v2635) a + S16x1024.size a ≤ S28672x1024.size a), (Rect.unit (s := S28672x1024) (k0_off753 v2635) S16x1024.size hinb).WholeWords (EltTy.packing .bf16))
theorem k0_mult188_dvd : ∀ (v2635 : BitVec 32) (k0_hw187 : k0_chk187 v2635), 16 ∣ (k0_mult188 v2635).toNat := fun v2635 k0_hw187 => k0_hw187.1
theorem k0_off753_inb : ∀ (v2635 : BitVec 32) (k0_hw187 : k0_chk187 v2635), ∀ a, (k0_off753 v2635) a + S16x1024.size a ≤ S28672x1024.size a := fun v2635 k0_hw187 => k0_hw187.2.1
theorem k0_off753_wordsbf16 : ∀ (v2635 : BitVec 32) (k0_hw187 : k0_chk187 v2635), (Rect.unit (s := S28672x1024) (k0_off753 v2635) S16x1024.size (k0_off753_inb v2635 k0_hw187)).WholeWords (EltTy.packing .bf16) := fun v2635 k0_hw187 => k0_hw187.2.2 (k0_off753_inb v2635 k0_hw187)

def k0_off754 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c186_i32 : BitVec 32 := 186#32
  let v2642 : BitVec 32 := Scalar.addi v38 c186_i32
  let v2643 : Index := Scalar.indexCast v2642
  ![v2643.toNat]
def k0_mult189 (v2644 : BitVec 32) : BitVec 32 :=
  v2644

def k0_off755 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off756 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2976_i32 : BitVec 32 := 2976#32
  let c0_i32_518 : BitVec 32 := 0#32
  ![v2.toNat, 2976, 0]
def k0_off757 (v2644 : BitVec 32) : Fin 2 → Nat :=
  let v2645 : BitVec 32 := v2644
  let c0_i32_519 : BitVec 32 := 0#32
  ![v2645.toNat, 0]

def k0_chk188 (v2644 : BitVec 32) : Prop :=
  (16 ∣ (k0_mult189 v2644).toNat) ∧
  (∀ a, (k0_off757 v2644) a + S16x1024.size a ≤ S28672x1024.size a) ∧
  (∀ (hinb : ∀ a, (k0_off757 v2644) a + S16x1024.size a ≤ S28672x1024.size a), (Rect.unit (s := S28672x1024) (k0_off757 v2644) S16x1024.size hinb).WholeWords (EltTy.packing .bf16))
theorem k0_mult189_dvd : ∀ (v2644 : BitVec 32) (k0_hw188 : k0_chk188 v2644), 16 ∣ (k0_mult189 v2644).toNat := fun v2644 k0_hw188 => k0_hw188.1
theorem k0_off757_inb : ∀ (v2644 : BitVec 32) (k0_hw188 : k0_chk188 v2644), ∀ a, (k0_off757 v2644) a + S16x1024.size a ≤ S28672x1024.size a := fun v2644 k0_hw188 => k0_hw188.2.1
theorem k0_off757_wordsbf16 : ∀ (v2644 : BitVec 32) (k0_hw188 : k0_chk188 v2644), (Rect.unit (s := S28672x1024) (k0_off757 v2644) S16x1024.size (k0_off757_inb v2644 k0_hw188)).WholeWords (EltTy.packing .bf16) := fun v2644 k0_hw188 => k0_hw188.2.2 (k0_off757_inb v2644 k0_hw188)

def k0_off758 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c187_i32 : BitVec 32 := 187#32
  let v2651 : BitVec 32 := Scalar.addi v38 c187_i32
  let v2652 : Index := Scalar.indexCast v2651
  ![v2652.toNat]
def k0_mult190 (v2653 : BitVec 32) : BitVec 32 :=
  v2653

def k0_off759 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off760 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c2992_i32 : BitVec 32 := 2992#32
  let c0_i32_520 : BitVec 32 := 0#32
  ![v2.toNat, 2992, 0]
def k0_off761 (v2653 : BitVec 32) : Fin 2 → Nat :=
  let v2654 : BitVec 32 := v2653
  let c0_i32_521 : BitVec 32 := 0#32
  ![v2654.toNat, 0]

def k0_chk189 (v2653 : BitVec 32) : Prop :=
  (16 ∣ (k0_mult190 v2653).toNat) ∧
  (∀ a, (k0_off761 v2653) a + S16x1024.size a ≤ S28672x1024.size a) ∧
  (∀ (hinb : ∀ a, (k0_off761 v2653) a + S16x1024.size a ≤ S28672x1024.size a), (Rect.unit (s := S28672x1024) (k0_off761 v2653) S16x1024.size hinb).WholeWords (EltTy.packing .bf16))
theorem k0_mult190_dvd : ∀ (v2653 : BitVec 32) (k0_hw189 : k0_chk189 v2653), 16 ∣ (k0_mult190 v2653).toNat := fun v2653 k0_hw189 => k0_hw189.1
theorem k0_off761_inb : ∀ (v2653 : BitVec 32) (k0_hw189 : k0_chk189 v2653), ∀ a, (k0_off761 v2653) a + S16x1024.size a ≤ S28672x1024.size a := fun v2653 k0_hw189 => k0_hw189.2.1
theorem k0_off761_wordsbf16 : ∀ (v2653 : BitVec 32) (k0_hw189 : k0_chk189 v2653), (Rect.unit (s := S28672x1024) (k0_off761 v2653) S16x1024.size (k0_off761_inb v2653 k0_hw189)).WholeWords (EltTy.packing .bf16) := fun v2653 k0_hw189 => k0_hw189.2.2 (k0_off761_inb v2653 k0_hw189)

def k0_off762 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c188_i32 : BitVec 32 := 188#32
  let v2660 : BitVec 32 := Scalar.addi v38 c188_i32
  let v2661 : Index := Scalar.indexCast v2660
  ![v2661.toNat]
def k0_mult191 (v2662 : BitVec 32) : BitVec 32 :=
  v2662

def k0_off763 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off764 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c3008_i32 : BitVec 32 := 3008#32
  let c0_i32_522 : BitVec 32 := 0#32
  ![v2.toNat, 3008, 0]
def k0_off765 (v2662 : BitVec 32) : Fin 2 → Nat :=
  let v2663 : BitVec 32 := v2662
  let c0_i32_523 : BitVec 32 := 0#32
  ![v2663.toNat, 0]

def k0_chk190 (v2662 : BitVec 32) : Prop :=
  (16 ∣ (k0_mult191 v2662).toNat) ∧
  (∀ a, (k0_off765 v2662) a + S16x1024.size a ≤ S28672x1024.size a) ∧
  (∀ (hinb : ∀ a, (k0_off765 v2662) a + S16x1024.size a ≤ S28672x1024.size a), (Rect.unit (s := S28672x1024) (k0_off765 v2662) S16x1024.size hinb).WholeWords (EltTy.packing .bf16))
theorem k0_mult191_dvd : ∀ (v2662 : BitVec 32) (k0_hw190 : k0_chk190 v2662), 16 ∣ (k0_mult191 v2662).toNat := fun v2662 k0_hw190 => k0_hw190.1
theorem k0_off765_inb : ∀ (v2662 : BitVec 32) (k0_hw190 : k0_chk190 v2662), ∀ a, (k0_off765 v2662) a + S16x1024.size a ≤ S28672x1024.size a := fun v2662 k0_hw190 => k0_hw190.2.1
theorem k0_off765_wordsbf16 : ∀ (v2662 : BitVec 32) (k0_hw190 : k0_chk190 v2662), (Rect.unit (s := S28672x1024) (k0_off765 v2662) S16x1024.size (k0_off765_inb v2662 k0_hw190)).WholeWords (EltTy.packing .bf16) := fun v2662 k0_hw190 => k0_hw190.2.2 (k0_off765_inb v2662 k0_hw190)

def k0_off766 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c189_i32 : BitVec 32 := 189#32
  let v2669 : BitVec 32 := Scalar.addi v38 c189_i32
  let v2670 : Index := Scalar.indexCast v2669
  ![v2670.toNat]
def k0_mult192 (v2671 : BitVec 32) : BitVec 32 :=
  v2671

def k0_off767 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off768 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c3024_i32 : BitVec 32 := 3024#32
  let c0_i32_524 : BitVec 32 := 0#32
  ![v2.toNat, 3024, 0]
def k0_off769 (v2671 : BitVec 32) : Fin 2 → Nat :=
  let v2672 : BitVec 32 := v2671
  let c0_i32_525 : BitVec 32 := 0#32
  ![v2672.toNat, 0]

def k0_chk191 (v2671 : BitVec 32) : Prop :=
  (16 ∣ (k0_mult192 v2671).toNat) ∧
  (∀ a, (k0_off769 v2671) a + S16x1024.size a ≤ S28672x1024.size a) ∧
  (∀ (hinb : ∀ a, (k0_off769 v2671) a + S16x1024.size a ≤ S28672x1024.size a), (Rect.unit (s := S28672x1024) (k0_off769 v2671) S16x1024.size hinb).WholeWords (EltTy.packing .bf16))
theorem k0_mult192_dvd : ∀ (v2671 : BitVec 32) (k0_hw191 : k0_chk191 v2671), 16 ∣ (k0_mult192 v2671).toNat := fun v2671 k0_hw191 => k0_hw191.1
theorem k0_off769_inb : ∀ (v2671 : BitVec 32) (k0_hw191 : k0_chk191 v2671), ∀ a, (k0_off769 v2671) a + S16x1024.size a ≤ S28672x1024.size a := fun v2671 k0_hw191 => k0_hw191.2.1
theorem k0_off769_wordsbf16 : ∀ (v2671 : BitVec 32) (k0_hw191 : k0_chk191 v2671), (Rect.unit (s := S28672x1024) (k0_off769 v2671) S16x1024.size (k0_off769_inb v2671 k0_hw191)).WholeWords (EltTy.packing .bf16) := fun v2671 k0_hw191 => k0_hw191.2.2 (k0_off769_inb v2671 k0_hw191)

def k0_off770 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c190_i32 : BitVec 32 := 190#32
  let v2678 : BitVec 32 := Scalar.addi v38 c190_i32
  let v2679 : Index := Scalar.indexCast v2678
  ![v2679.toNat]
def k0_mult193 (v2680 : BitVec 32) : BitVec 32 :=
  v2680

def k0_off771 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off772 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c3040_i32 : BitVec 32 := 3040#32
  let c0_i32_526 : BitVec 32 := 0#32
  ![v2.toNat, 3040, 0]
def k0_off773 (v2680 : BitVec 32) : Fin 2 → Nat :=
  let v2681 : BitVec 32 := v2680
  let c0_i32_527 : BitVec 32 := 0#32
  ![v2681.toNat, 0]

def k0_chk192 (v2680 : BitVec 32) : Prop :=
  (16 ∣ (k0_mult193 v2680).toNat) ∧
  (∀ a, (k0_off773 v2680) a + S16x1024.size a ≤ S28672x1024.size a) ∧
  (∀ (hinb : ∀ a, (k0_off773 v2680) a + S16x1024.size a ≤ S28672x1024.size a), (Rect.unit (s := S28672x1024) (k0_off773 v2680) S16x1024.size hinb).WholeWords (EltTy.packing .bf16))
theorem k0_mult193_dvd : ∀ (v2680 : BitVec 32) (k0_hw192 : k0_chk192 v2680), 16 ∣ (k0_mult193 v2680).toNat := fun v2680 k0_hw192 => k0_hw192.1
theorem k0_off773_inb : ∀ (v2680 : BitVec 32) (k0_hw192 : k0_chk192 v2680), ∀ a, (k0_off773 v2680) a + S16x1024.size a ≤ S28672x1024.size a := fun v2680 k0_hw192 => k0_hw192.2.1
theorem k0_off773_wordsbf16 : ∀ (v2680 : BitVec 32) (k0_hw192 : k0_chk192 v2680), (Rect.unit (s := S28672x1024) (k0_off773 v2680) S16x1024.size (k0_off773_inb v2680 k0_hw192)).WholeWords (EltTy.packing .bf16) := fun v2680 k0_hw192 => k0_hw192.2.2 (k0_off773_inb v2680 k0_hw192)

def k0_off774 (i : grid0.Coords) : Fin 1 → Nat :=
  let arg0 : BitVec 32 := BitVec.ofNat 32 (i 0).val
  let c2_i32_15 : BitVec 32 := 2#32
  let v37 : BitVec 32 := Scalar.addi arg0 c2_i32_15
  let c192_i32 : BitVec 32 := 192#32
  let v38 : BitVec 32 := Scalar.muli v37 c192_i32
  let c191_i32 : BitVec 32 := 191#32
  let v2687 : BitVec 32 := Scalar.addi v38 c191_i32
  let v2688 : Index := Scalar.indexCast v2687
  ![v2688.toNat]
def k0_mult194 (v2689 : BitVec 32) : BitVec 32 :=
  v2689

def k0_off775 (i : grid0.Coords) : Fin 1 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  ![v2.toNat]
def k0_off776 (i : grid0.Coords) : Fin 3 → Nat :=
  let arg0 : BitVec 32 := BitVec.ofNat 32 (i 0).val
  let c2_i32 : BitVec 32 := 2#32
  let v1 : BitVec 32 := Scalar.addi arg0 c2_i32
  let c3_i32_0 : BitVec 32 := 3#32
  let v2 : BitVec 32 := Scalar.remsi v1 c3_i32_0
  let c3056_i32 : BitVec 32 := 3056#32
  let c0_i32_528 : BitVec 32 := 0#32
  ![v2.toNat, 3056, 0]
def k0_off777 (v2689 : BitVec 32) : Fin 2 → Nat :=
  let v2690 : BitVec 32 := v2689
  let c0_i32_529 : BitVec 32 := 0#32
  ![v2690.toNat, 0]

def k0_chk193 (v2689 : BitVec 32) : Prop :=
  (16 ∣ (k0_mult194 v2689).toNat) ∧
  (∀ a, (k0_off777 v2689) a + S16x1024.size a ≤ S28672x1024.size a) ∧
  (∀ (hinb : ∀ a, (k0_off777 v2689) a + S16x1024.size a ≤ S28672x1024.size a), (Rect.unit (s := S28672x1024) (k0_off777 v2689) S16x1024.size hinb).WholeWords (EltTy.packing .bf16))
theorem k0_mult194_dvd : ∀ (v2689 : BitVec 32) (k0_hw193 : k0_chk193 v2689), 16 ∣ (k0_mult194 v2689).toNat := fun v2689 k0_hw193 => k0_hw193.1
theorem k0_off777_inb : ∀ (v2689 : BitVec 32) (k0_hw193 : k0_chk193 v2689), ∀ a, (k0_off777 v2689) a + S16x1024.size a ≤ S28672x1024.size a := fun v2689 k0_hw193 => k0_hw193.2.1
theorem k0_off777_wordsbf16 : ∀ (v2689 : BitVec 32) (k0_hw193 : k0_chk193 v2689), (Rect.unit (s := S28672x1024) (k0_off777 v2689) S16x1024.size (k0_off777_inb v2689 k0_hw193)).WholeWords (EltTy.packing .bf16) := fun v2689 k0_hw193 => k0_hw193.2.2 (k0_off777_inb v2689 k0_hw193)

def k0_cond2 (i : grid0.Coords) : BitVec 1 :=
  let arg0 : BitVec 32 := BitVec.ofNat 32 (i 0).val
  let c3_i32_558 : BitVec 32 := 3#32
  let v2747 : BitVec 1 := Scalar.cmpi .eq arg0 c3_i32_558
  let v2748 : BitVec 32 := Scalar.extui v2747
  let c0_i32_559 : BitVec 32 := 0#32
  let v2749 : BitVec 1 := Scalar.cmpi .ne v2748 c0_i32_559
  v2749

def k0_off778 (i : grid0.Coords) (c1_i32_560 : BitVec 32) : Fin 1 → Nat :=
  let arg0 : BitVec 32 := BitVec.ofNat 32 (i 0).val
  let v2750 : BitVec 32 := Scalar.addi arg0 c1_i32_560
  let c3_i32_561 : BitVec 32 := 3#32
  let v2751 : BitVec 32 := Scalar.remsi v2750 c3_i32_561
  ![v2751.toNat]
def k0_off779 (i : grid0.Coords) (c1_i32_560 : BitVec 32) : Fin 3 → Nat :=
  let arg0 : BitVec 32 := BitVec.ofNat 32 (i 0).val
  let v2750 : BitVec 32 := Scalar.addi arg0 c1_i32_560
  let c3_i32_561 : BitVec 32 := 3#32
  let v2751 : BitVec 32 := Scalar.remsi v2750 c3_i32_561
  let c0_i32_562 : BitVec 32 := 0#32
  let c0_i32_563 : BitVec 32 := 0#32
  ![v2751.toNat, 0, 0]
def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== SampleReferenceIdeal.lean ====
abbrev S1152 : Shape := ⟨1, ![1152]⟩
abbrev S28672x1024 : Shape := ⟨2, ![28672, 1024]⟩
abbrev S8x1024 : Shape := ⟨2, ![8, 1024]⟩
abbrev S1024x1024 : Shape := ⟨2, ![1024, 1024]⟩
abbrev S1x1024x256 : Shape := ⟨3, ![1, 1024, 256]⟩
abbrev S1x256x1024 : Shape := ⟨3, ![1, 256, 1024]⟩
abbrev S1x1024 : Shape := ⟨2, ![1, 1024]⟩
abbrev S1024 : Shape := ⟨1, ![1024]⟩
abbrev S_ : Shape := ⟨0, ![]⟩
abbrev S8x1024x1 : Shape := ⟨3, ![8, 1024, 1]⟩
abbrev S8x1024x1024 : Shape := ⟨3, ![8, 1024, 1024]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 132
  | .vmem => 0
  | .smem => 0
  | _ => 0

abbrev hbmTy0_0 (i : Nat) : BufTy := match i % 128 with
  | 0 => ⟨S1152, .i32⟩
  | 1 => ⟨S28672x1024, .bf16⟩
  | 2 => ⟨S8x1024, .i32⟩
  | 3 => ⟨S8x1024, .f32⟩
  | 4 => ⟨S1024x1024, .f32⟩
  | 5 => ⟨S1x1024x256, .f32⟩
  | 6 => ⟨S1x1024x256, .f32⟩
  | 7 => ⟨S1x256x1024, .f32⟩
  | 8 => ⟨S1x1024, .f32⟩
  | 9 => ⟨S1x1024, .f32⟩
  | 10 => ⟨S1024, .i32⟩
  | 11 => ⟨S_, .i32⟩
  | 12 => ⟨S_, .i32⟩
  | 13 => ⟨S8x1024, .i32⟩
  | 14 => ⟨S8x1024, .i32⟩
  | 15 => ⟨S8x1024, .i32⟩
  | 16 => ⟨S_, .i32⟩
  | 17 => ⟨S8x1024, .i32⟩
  | 18 => ⟨S8x1024, .i1⟩
  | 19 => ⟨S8x1024, .i32⟩
  | 20 => ⟨S8x1024, .i32⟩
  | 21 => ⟨S_, .i32⟩
  | 22 => ⟨S8x1024, .i32⟩
  | 23 => ⟨S8x1024, .i1⟩
  | 24 => ⟨S8x1024, .i1⟩
  | 25 => ⟨S_, .i32⟩
  | 26 => ⟨S8x1024, .i32⟩
  | 27 => ⟨S8x1024, .i32⟩
  | 28 => ⟨S8x1024, .i32⟩
  | 29 => ⟨S_, .i32⟩
  | 30 => ⟨S_, .i32⟩
  | 31 => ⟨S1024, .i32⟩
  | 32 => ⟨S1024, .i32⟩
  | 33 => ⟨S1024, .i32⟩
  | 34 => ⟨S_, .i32⟩
  | 35 => ⟨S1024, .i32⟩
  | 36 => ⟨S1024, .i1⟩
  | 37 => ⟨S1024, .i32⟩
  | 38 => ⟨S1024, .i32⟩
  | 39 => ⟨S_, .i32⟩
  | 40 => ⟨S1024, .i32⟩
  | 41 => ⟨S1024, .i1⟩
  | 42 => ⟨S1024, .i1⟩
  | 43 => ⟨S_, .i32⟩
  | 44 => ⟨S1024, .i32⟩
  | 45 => ⟨S1024, .i32⟩
  | 46 => ⟨S1024, .i32⟩
  | 47 => ⟨S1x1024, .i32⟩
  | 48 => ⟨S_, .i32⟩
  | 49 => ⟨S1x1024, .i32⟩
  | 50 => ⟨S1x1024, .i32⟩
  | 51 => ⟨S8x1024, .i32⟩
  | 52 => ⟨S8x1024, .i32⟩
  | 53 => ⟨S_, .i32⟩
  | 54 => ⟨S8x1024, .i32⟩
  | 55 => ⟨S8x1024, .i1⟩
  | 56 => ⟨S_, .i32⟩
  | 57 => ⟨S8x1024, .i32⟩
  | 58 => ⟨S8x1024, .i32⟩
  | 59 => ⟨S8x1024, .i32⟩
  | 60 => ⟨S8x1024x1, .i32⟩
  | 61 => ⟨S8x1024, .i32⟩
  | 62 => ⟨S_, .i32⟩
  | 63 => ⟨S8x1024, .i32⟩
  | 64 => ⟨S8x1024, .i32⟩
  | 65 => ⟨S8x1024, .i32⟩
  | 66 => ⟨S8x1024, .i32⟩
  | 67 => ⟨S_, .i32⟩
  | 68 => ⟨S8x1024, .i32⟩
  | 69 => ⟨S8x1024, .i1⟩
  | 70 => ⟨S_, .i32⟩
  | 71 => ⟨S8x1024, .i32⟩
  | 72 => ⟨S8x1024, .i32⟩
  | 73 => ⟨S8x1024, .i32⟩
  | 74 => ⟨S8x1024x1, .i32⟩
  | 75 => ⟨S8x1024x1024, .bf16⟩
  | 76 => ⟨S8x1024x1024, .f32⟩
  | 77 => ⟨S8x1024x1, .f32⟩
  | 78 => ⟨S8x1024x1024, .f32⟩
  | 79 => ⟨S8x1024x1024, .f32⟩
  | 80 => ⟨S_, .f32⟩
  | 81 => ⟨S1024x1024, .f32⟩
  | 82 => ⟨S1024x256, .f32⟩
  | 83 => ⟨S1024x256, .f32⟩
  | 84 => ⟨S1024x256, .f32⟩
  | 85 => ⟨S1024x256, .f32⟩
  | 86 => ⟨S_, .f32⟩
  | 87 => ⟨S1024x256, .f32⟩
  | 88 => ⟨S1024x256, .f32⟩
  | 89 => ⟨S_, .f32⟩
  | 90 => ⟨S1024x256, .f32⟩
  | 91 => ⟨S1024x256, .f32⟩
  | 92 => ⟨S1024x256, .f32⟩
  | 93 => ⟨S1024x256, .f32⟩
  | 94 => ⟨S1024x256, .f32⟩
  | 95 => ⟨S1024x256, .f32⟩
  | 96 => ⟨S256x1024, .f32⟩
  | 97 => ⟨S1024x1024, .f32⟩
  | 98 => ⟨S_, .f32⟩
  | 99 => ⟨S1024x1024, .f32⟩
  | 100 => ⟨S1024x1024, .f32⟩
  | 101 => ⟨S1024x1024, .f32⟩
  | 102 => ⟨S1024x1024, .f32⟩
  | 103 => ⟨S_, .f32⟩
  | 104 => ⟨S1024, .f32⟩
  | 105 => ⟨S1024x1, .f32⟩
  | 106 => ⟨S_, .f32⟩
  | 107 => ⟨S1024x1, .f32⟩
  | 108 => ⟨S1024x1, .f32⟩
  | 109 => ⟨S1024x1024, .f32⟩
  | 110 => ⟨S1024x1024, .f32⟩
  | 111 => ⟨S1024x1024, .f32⟩
  | 112 => ⟨S_, .f32⟩
  | 113 => ⟨S1024, .f32⟩
  | 114 => ⟨S1024x1, .f32⟩
  | 115 => ⟨S_, .f32⟩
  | 116 => ⟨S1024x1, .f32⟩
  | 117 => ⟨S1024x1, .f32⟩
  | 118 => ⟨S_, .f32⟩
  | 119 => ⟨S1024x1, .f32⟩
  | 120 => ⟨S1024x1, .f32⟩
  | 121 => ⟨S1024x1, .f32⟩
  | 122 => ⟨S1024x1024, .f32⟩
  | 123 => ⟨S1024x1024, .f32⟩
  | 124 => ⟨S1024, .f32⟩
  | 125 => ⟨S1x1024, .f32⟩
  | 126 => ⟨S1024x1024, .f32⟩
  | 127 => ⟨S1024x1024, .f32⟩
  | _ => ⟨S1152, .i32⟩

abbrev hbmTy0_1 (i : Nat) : BufTy := match i % 128 with
  | 0 => ⟨S1024, .f32⟩
  | 1 => ⟨S1x1024, .f32⟩
  | 2 => ⟨S1024x1024, .f32⟩
  | 3 => ⟨S1024x1024, .f32⟩
  | _ => ⟨S1152, .i32⟩

abbrev hbmTy (i : Nat) : BufTy := match i / 128 with
  | 0 => hbmTy0_0 i
  | 1 => hbmTy0_1 i
  | _ => ⟨S1152, .i32⟩

abbrev bufTy : (tb : Table) → Fin (tcTables nBuf tb) → BufTy
  | .hbm, ⟨i, _⟩ => hbmTy i
  | _, _ => ⟨S1152, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v1 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v2 : Ref sig .tc := ⟨.hbm, 46, rfl⟩
abbrev main_v3 : Ref sig .tc := ⟨.hbm, 47, rfl⟩
abbrev main_c_1 : Ref sig .tc := ⟨.hbm, 48, rfl⟩
abbrev main_v4 : Ref sig .tc := ⟨.hbm, 49, rfl⟩
abbrev main_v5 : Ref sig .tc := ⟨.hbm, 50, rfl⟩
abbrev main_v6 : Ref sig .tc := ⟨.hbm, 51, rfl⟩
abbrev main_v7 : Ref sig .tc := ⟨.hbm, 52, rfl⟩
abbrev main_c_2 : Ref sig .tc := ⟨.hbm, 53, rfl⟩
abbrev main_v8 : Ref sig .tc := ⟨.hbm, 54, rfl⟩
abbrev main_v9 : Ref sig .tc := ⟨.hbm, 55, rfl⟩
abbrev main_c_3 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_c_4 : Ref sig .tc := ⟨.hbm, 62, rfl⟩
abbrev main_v15 : Ref sig .tc := ⟨.hbm, 63, rfl⟩
abbrev main_v16 : Ref sig .tc := ⟨.hbm, 64, rfl⟩
abbrev main_v17 : Ref sig .tc := ⟨.hbm, 65, rfl⟩
abbrev main_v18 : Ref sig .tc := ⟨.hbm, 66, rfl⟩
abbrev main_c_5 : Ref sig .tc := ⟨.hbm, 67, rfl⟩
abbrev main_v19 : Ref sig .tc := ⟨.hbm, 68, rfl⟩
abbrev main_v20 : Ref sig .tc := ⟨.hbm, 69, rfl⟩
abbrev main_c_6 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_cst : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_call2_v0 : Ref sig .tc := ⟨.hbm, 84, rfl⟩
abbrev main_call2_v1 : Ref sig .tc := ⟨.hbm, 85, rfl⟩
abbrev main_call2_cst : Ref sig .tc := ⟨.hbm, 86, rfl⟩
abbrev main_call2_v2 : Ref sig .tc := ⟨.hbm, 87, rfl⟩
abbrev main_call2_v3 : Ref sig .tc := ⟨.hbm, 88, rfl⟩
abbrev main_call2_cst_0 : Ref sig .tc := ⟨.hbm, 89, rfl⟩
abbrev main_call2_v4 : Ref sig .tc := ⟨.hbm, 90, rfl⟩
abbrev main_call2_v5 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_cst_7 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_cst_8 : Ref sig .tc := ⟨.hbm, 103, rfl⟩
abbrev main_v43 : Ref sig .tc := ⟨.hbm, 104, rfl⟩
abbrev main_v44 : Ref sig .tc := ⟨.hbm, 105, rfl⟩
abbrev main_cst_9 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_cst_10 : Ref sig .tc := ⟨.hbm, 112, rfl⟩
abbrev main_v50 : Ref sig .tc := ⟨.hbm, 113, rfl⟩
abbrev main_v51 : Ref sig .tc := ⟨.hbm, 114, rfl⟩
abbrev main_cst_11 : Ref sig .tc := ⟨.hbm, 115, rfl⟩
abbrev main_v52 : Ref sig .tc := ⟨.hbm, 116, rfl⟩
abbrev main_v53 : Ref sig .tc := ⟨.hbm, 117, rfl⟩
abbrev main_cst_12 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_v62 : Ref sig .tc := ⟨.hbm, 127, rfl⟩
abbrev main_v63 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩

abbrev nD : Nat := 1
abbrev τ : Topo := Topo.v7x

variable {F : FTy → Type} [FloatOps F]
-- ==== Proof.Ring.lean ====
/-
  The combine call's ring of three slots: what a slot holds while a block's rows are on their way into it, and what
  one issue of one chunk does to it.
-/
module

public import proofs.«01_k».proof.Proof.Gen.KernelIdeal
public import proofs.«01_k».proof.Proof.Gen.KernelIdeal.Skeleton
public import proofs.«01_k».proof.Proof.Gen.KernelIdeal.Loops
public import Idealize.ShloMosaic.Lib.Tactic
public import Idealize.ShloMosaic.Lib.Batch
public import Idealize.ShloMosaic.Lib.ValueLayout
public import Idealize.ShloMosaic.Lib.Pipeline.Kit

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx

variable {F : FTy → Type} [FloatOps F]

/-- The resource algebra: the launch's rounds beside the counters the transfers count with. -/
abbrev UU (nD : Nat) (τ : Topo) : Type := UR sig nD τ × Counters

local notation "𝕄" => MT nD τ sig Unit (Elt F) ℕ (UU nD τ) ℕ
local notation "EC" => countersEmb (nD := nD) (τ := τ) (sig := sig) (Ix := Unit) (Val := Elt F) (Name := ℕ) (U := UU nD τ) (Lvl := ℕ)

/-- The contents of the table, of the rows, and of the ring on core `c`. -/
abbrev Tb (F : FTy → Type) (c : Dev nD) : Type := Buf (Elt F) ((Memref.whole main_arg0).view.loc (c : Thread nD τ))
abbrev Yb (F : FTy → Type) (c : Dev nD) : Type := Buf (Elt F) ((Memref.whole main_arg1).view.loc (c : Thread nD τ))
abbrev Sb (F : FTy → Type) (c : Dev nD) : Type := Buf (Elt F) ((Memref.whole cc0_scratch0).view.loc (c : Thread nD τ))

abbrev tabR : Memref sig .tc .smem S49536 .i32 := Memref.whole main_arg0
abbrev yR : Memref sig .tc .hbm S851968x1024 .bf16 := Memref.whole main_arg1
abbrev ringR : Memref sig .tc .vmem S3x3072x1024 .bf16 := Memref.whole cc0_scratch0

/-- The table's word number `n`. -/
def word {c : Dev nD} (tb : Tb F c) (n : ℕ) : BitVec 32 :=
  tb (ix1 (⟨n % 49536, Nat.mod_lt _ (by norm_num)⟩ : Fin 49536))

/-- Every word of the table names the first of sixteen rows, at a multiple of sixteen. -/
def GoodTab {c : Dev nD} (tb : Tb F c) : Prop :=
  ∀ n, (word tb n).toNat + 16 ≤ 851968 ∧ 16 ∣ (word tb n).toNat

/-- A slot of the ring once block `b` has landed in it: row `r` is row `r % 16` of the chunk the block's word number `r / 16` names. -/
def landed {c : Dev nD} (tb : Tb F c) (y : Yb F c) (b : ℕ) : Sb F c := fun (p : S3x3072x1024.Idx) =>
  y (ix2 (⟨((word tb (192 * b + (p 1).val / 16)).toNat + (p 1).val % 16) % 851968, Nat.mod_lt _ (by norm_num)⟩ : Fin 851968) (p 2))

/-- Slot `s` of the ring. -/
def slotSet (s : ℕ) : Finset S3x3072x1024.Idx := Finset.univ.filter fun p => (p 0).val = s
/-- Chunk `k` of slot `s`; and the chunks from `k` on. -/
def pieceSet (s k : ℕ) : Finset S3x3072x1024.Idx := Finset.univ.filter fun p => (p 0).val = s ∧ (p 1).val / 16 = k
def restSet (s k : ℕ) : Finset S3x3072x1024.Idx := Finset.univ.filter fun p => (p 0).val = s ∧ k ≤ (p 1).val / 16

/-- From chunk 0 on is the whole slot. -/
theorem restSet_zero (s : ℕ) : restSet s 0 = slotSet s := by
  ext p; simp [restSet, slotSet]

/-- From chunk `k` on is chunk `k` and what follows it, -/
theorem restSet_succ (s k : ℕ) : restSet s k = pieceSet s k ∪ restSet s (k + 1) := by
  ext p; simp only [restSet, pieceSet, Finset.mem_union, Finset.mem_filter, Finset.mem_univ, true_and]; omega

/-- which are disjoint. -/
theorem restSet_disj (s k : ℕ) : Disjoint (pieceSet s k) (restSet s (k + 1)) := by
  rw [Finset.disjoint_left]; intro p hp hq
  simp only [restSet, pieceSet, Finset.mem_filter, Finset.mem_univ, true_and] at hp hq; omega

/-- A slot is its 192 chunks together. -/
theorem slot_biUnion (s : ℕ) : (Finset.univ : Finset (Fin 192)).biUnion (fun k => pieceSet s k.val) = slotSet s := by
  ext p
  simp only [pieceSet, slotSet, Finset.mem_biUnion, Finset.mem_filter, Finset.mem_univ, true_and]
  constructor
  · rintro ⟨k, h, -⟩; exact h
  · intro h
    have hp : (p 1).val < 3072 := (p 1).isLt
    exact ⟨⟨(p 1).val / 16, by omega⟩, h, rfl⟩

/-- A slot and the rest of the ring are disjoint. -/
theorem slot_split (s : ℕ) : s < 3 → Disjoint (slotSet s) (Finset.univ \ slotSet s) := fun _ => Finset.disjoint_sdiff

/-- What the transfer of chunk `k` of block `b` delivers: the chunk of its slot, holding the rows. -/
def deliv {c : Dev nD} (tb : Tb F c) (y : Yb F c) (b : ℕ) (k : Fin 192) : sProp 𝕄 :=
  iprop(ringR.view.loc (c : Thread nD τ) ↦[pieceSet (b % 3) k.val]{fullShare} landed tb y b)

instance deliv_storable {c : Dev nD} (tb : Tb F c) (y : Yb F c) (b : ℕ) (k : Fin 192) :
    Storable (upEmb : UEmb _ 𝕄) (deliv tb y b k) := by unfold deliv; infer_instance

/-- Every chunk delivered is the slot, holding the block. -/
theorem deliv_all {c : Dev nD} (tb : Tb F c) (y : Yb F c) (b : ℕ) :
    bigSep Finset.univ (deliv tb y b)
      ⊢ (iprop(ringR.view.loc (c : Thread nD τ) ↦[slotSet (b % 3)]{fullShare} landed tb y b) : sProp 𝕄) := by
  refine Entails.of_eq ?_
  rw [← slot_biUnion]
  refine (pointsTo_biUnion (ℓ := ringR.view.loc (c : Thread nD τ)) (Finset.univ : Finset (Fin 192)) (fun k => pieceSet (b % 3) k.val) ?_).symm
  intro t _ t' _ ht
  rw [Finset.disjoint_left]; intro p hp hq
  simp only [pieceSet, Finset.mem_filter, Finset.mem_univ, true_and] at hp hq
  exact ht (Fin.ext (by omega))

/-- The cell number of slot `s`'s semaphore. -/
def semOf (s : ℕ) (hs : s < 3) : DmaSem sig := (⟨13 + s, by omega⟩ : Fin 16)

/-- The credit of one chunk; a slot's is 192 of them. -/
abbrev chunkN : ℕ := Ref.dmaCredit cc0_scratch0 S16x1024 .bf16

/-- A chunk has a positive credit. -/
theorem chunkN_pos : 0 < chunkN := by decide

/-- A slot's credit is that of its 192 chunks. -/
theorem slot_credit : Ref.dmaCredit cc0_scratch0 S3072x1024 .bf16 = chunkN * 192 := by decide

/-- The semaphore an issue into slot `s` completes on. -/
theorem sem_eq (s : ℕ) (hs : s < 3) {off : Fin 1 → ℕ} (ho : off = ![s]) (hinb) :
    ((cc0_scratch1.slice (Rect.unit (s := S3) off S1.size hinb)).squeeze S_ squeezes_S1_S_).sem = semOf s hs := by
  subst ho
  apply Fin.ext
  show 13 + (S3.rowMajor _).val = 13 + s
  rw [Shape.rowMajor_val_one]
  show 13 + (s + 1 * (_ : Fin 1).val) = 13 + s
  omega

/-- The chunk memref an issue writes through. -/
abbrev chunkR (off : Fin 3 → ℕ) (hinb : ∀ a, off a + S1x16x1024.size a ≤ S3x3072x1024.size a) : Memref sig .tc .vmem S16x1024 .bf16 :=
  (ringR.slice (Rect.unit (s := S3x3072x1024) off S1x16x1024.size hinb) (fun _ => rfl)).squeeze S16x1024 squeezes_S1x16x1024_S16x1024

abbrev rowsR (off : Fin 2 → ℕ) (hinb : ∀ a, off a + S16x1024.size a ≤ S851968x1024.size a) : Memref sig .tc .hbm S16x1024 .bf16 :=
  yR.slice (Rect.unit (s := S851968x1024) off S16x1024.size hinb) (fun _ => rfl)

/-- What a chunk's destination names is that chunk of the slot. -/
theorem chunk_set (s k : ℕ) {off : Fin 3 → ℕ} (ho : off = ![s, 16 * k, 0]) (hinb) :
    (chunkR off hinb).view.set = pieceSet s k := by
  subst ho
  refine (View.set_reshape _ _).trans ((View.set_slice_whole _ _).trans ?_)
  ext p
  rw [Rect.mem_set_unit]
  simp only [pieceSet, Finset.mem_filter, Finset.mem_univ, true_and]
  have h2 : (p 2).val < 1024 := (p 2).isLt
  constructor
  · intro h
    have h0 : s ≤ (p 0).val ∧ (p 0).val < s + 1 := h 0
    have h1 : 16 * k ≤ (p 1).val ∧ (p 1).val < 16 * k + 16 := h 1
    omega
  · rintro ⟨h, h'⟩ a
    fin_cases a
    · show s ≤ (p 0).val ∧ (p 0).val < s + 1; omega
    · show 16 * k ≤ (p 1).val ∧ (p 1).val < 16 * k + 16; omega
    · show 0 ≤ (p 2).val ∧ (p 2).val < 0 + 1024; omega

/-- What the chunk holds after its transfer. -/
theorem chunk_write {c : Dev nD} (tb : Tb F c) (y : Yb F c) (f : Sb F c) (b k : ℕ) (hk : k < 192)
    (hg : GoodTab tb) {off : Fin 3 → ℕ} (ho : off = ![b % 3, 16 * k, 0]) (hinb)
    {off' : Fin 2 → ℕ} (ho' : off' = ![(word tb (192 * b + k)).toNat, 0]) (hinb') :
    ∀ p ∈ pieceSet (b % 3) k,
      (chunkR off hinb).view.write (Elt F) f (ReadAs.same.apply ((rowsR off' hinb').view.read (Elt F) y)) Finset.univ p
        = landed tb y b p := by
  subst ho ho'
  intro p hp
  simp only [pieceSet, Finset.mem_filter, Finset.mem_univ, true_and] at hp
  have hx : (chunkR ![b % 3, 16 * k, 0] hinb).view.emb
      (ix2 (⟨(p 1).val % 16, Nat.mod_lt _ (by norm_num)⟩ : Fin 16) (p 2)) = p := by
    show (Rect.unit (s := S3x3072x1024) ![b % 3, 16 * k, 0] S1x16x1024.size hinb).emb (Shape.reshapeEquiv _ _) = p
    refine (congrArg _ (reshapeEquiv_ix2_1ab (a := 16) (b := 1024) (by rfl) _ _)).trans ?_
    funext a; apply Fin.ext; rw [Rect.emb_apply]
    fin_cases a
    · show b % 3 + 1 * 0 = (p 0).val; omega
    · show 16 * k + 1 * ((p 1).val % 16) = (p 1).val; omega
    · show 0 + 1 * (p 2).val = (p 2).val; omega
  conv_lhs => rw [← hx]
  rw [View.write_emb_of_mem _ _ (Finset.mem_univ _)]
  show y _ = y _
  congr 1
  have := (hg (192 * b + k)).1
  funext a; apply Fin.ext
  fin_cases a
  · show (word tb (192 * b + k)).toNat + 1 * ((p 1).val % 16) = ((word tb (192 * b + (p 1).val / 16)).toNat + (p 1).val % 16) % 851968
    have h16 : (p 1).val % 16 < 16 := Nat.mod_lt _ (by norm_num)
    rw [hp.2, Nat.mod_eq_of_lt (b := 851968) (by omega)]; omega
  · show 0 + 1 * (p 2).val = (p 2).val; omega

/-- The side condition an issue assumes of the word it read: a row's number, a multiple of sixteen, sixteen rows from
    the end at the latest. -/
theorem chk_of (v : BitVec 32) (h : v.toNat + 16 ≤ 851968) (h16 : 16 ∣ v.toNat) : k0_chk2 v := by
  have hin : ∀ a, (![v.toNat, 0] : Fin 2 → ℕ) a + S16x1024.size a ≤ S851968x1024.size a := by
    intro a; fin_cases a
    · show v.toNat + 16 ≤ 851968; exact h
    · show 0 + 1024 ≤ 1024; omega
  refine ⟨h16, hin, fun hinb => ?_⟩
  exact Or.inl (Or.inr ⟨Nat.le_refl 2, rfl, Or.inl ⟨Dvd.dvd.trans (by decide) h16, (by decide : 2 ∣ 16)⟩⟩)

variable (c : Dev nD) (tb : Tb F c) (y : Yb F c) (qt : PosShare TreeShare)

/-- A table's word is read. -/
theorem wp_word {α : Type} {q : PosShare TreeShare} {P : Elt F .i32 → Prop} {dec : ∀ v, Decidable (P v)} {off : Fin 1 → ℕ} (n : ℕ) (hn : n < 49536)
    (ho : off = ![n]) {hinb : ∀ a, off a + S1.size a ≤ S49536.size a}
    (hP : P (word tb n))
    {k : (v : Elt F .i32) → PLift (P v) → Prog (TpuEff nD τ sig (Elt F) Λ₀ .tc) α} {Q : α → sProp 𝕄} :
    iprop(tabR.view.loc (c : Thread nD τ) ↦{q} tb)
      ⊢ iprop(((tabR.view.loc (c : Thread nD τ) ↦{q} tb)
            -∗ wp frame (wpE (defs₀ (F := F)) Variants.none c none) Set.univ (k (word tb n) ⟨hP⟩) Q)
          -∗ wp frame (wpE (defs₀ (F := F)) Variants.none c none) Set.univ
              ((smemLoad tabR (Rect.unit (s := S49536) off S1.size hinb) numel1_S1 rfl : Prog (TpuEff nD τ sig (Elt F) Λ₀ .tc) (Elt F .i32)) >>= fun v =>
                Prog.lift (TpuEff.assume (P v) (dec v)) >>= fun h => k v h) Q) := by
  subst ho
  have hx : ((tabR.access (Rect.unit (s := S49536) ![n] S1.size hinb)).read (Elt F) tb
      (Shape.Idx.first ((numel1_S1 : (Rect.unit (s := S49536) ![n] S1.size hinb).shape.numel = 1).symm ▸ Nat.one_pos)) : Elt F .i32) = word tb n := by
    show tb _ = tb _
    congr 1
    funext a; apply Fin.ext
    have hn' : n % 49536 = n := Nat.mod_eq_of_lt hn
    fin_cases a
    show n + 1 * (_ : Fin 1).val = n % 49536
    omega
  have hw := wp_smemLoadElt (defs := defs₀ (F := F)) (U := UU nD τ) (Name := ℕ) (Lvl := ℕ) (Γ := .empty) Variants.none (c : Thread nD τ) none Set.univ (m := tabR) (r := Rect.unit (s := S49536) ![n] S1.size hinb)
    (hw := View.loads_smem_one rfl numel1_S1) (x := Shape.Idx.first (numel1_S1.symm ▸ Nat.one_pos))
    (k := fun v => Prog.op (TpuEff.assume (P v) (dec v)) fun h => k v h) (Q := Q)
    (S := Finset.univ) (f := tb) (q := q) (Finset.subset_univ _)
  rw [hx] at hw
  refine hw.trans (wand_mono_left (wand_mono_right ?_))
  exact wp_assume Variants.none (c : Thread nD τ) none Set.univ hP

/-- What every issue uses: the table, at some share, and the rows, at whatever share is left. -/
def shared : sProp 𝕄 :=
  iprop((tabR.view.loc (c : Thread nD τ) ↦{qt} tb) ∗ ∃ q, yR.view.loc (c : Thread nD τ) ↦{q} y)

abbrev slotSem (b : ℕ) : DmaSem sig := semOf (b % 3) (Nat.mod_lt _ (by norm_num))

/-- Slot `b % 3` while block `b` is being asked for: `k` chunks of it issued. -/
def fill (b k : ℕ) : sProp 𝕄 :=
  iprop((∃ f, ringR.view.loc (c : Thread nD τ) ↦[restSet (b % 3) k]{fullShare} f)
    ∗ Batch EC (c : Thread nD τ) (.dma (slotSem b)) () chunkN (deliv tb y b) k 0)

variable (F) in
/-- Slot `b % 3` with nothing on its way. -/
def free (b : ℕ) : sProp 𝕄 :=
  iprop((∃ f : Sb F c, ringR.view.loc (c : Thread nD τ) ↦[slotSet (b % 3)]{fullShare} f)
    ∗ semVal ((c : Thread nD τ), (.dma (slotSem b) : SemLoc sig)) 0)

/-- Slot `b % 3` once block `b` is there. -/
def full (b : ℕ) : sProp 𝕄 :=
  iprop((ringR.view.loc (c : Thread nD τ) ↦[slotSet (b % 3)]{fullShare} landed tb y b)
    ∗ semVal ((c : Thread nD τ), (.dma (slotSem b) : SemLoc sig)) 0)

/-- Which slot is free depends on the block modulo three. -/
theorem free_mod (b b' : ℕ) (h : b % 3 = b' % 3) : (free F c b : sProp 𝕄) = free F c b' := by
  have hs : slotSem b = slotSem b' := Fin.ext (by show 13 + b % 3 = 13 + b' % 3; omega)
  unfold free; rw [h, hs]

/-- A full slot is a free one. -/
theorem full_free (b : ℕ) : full c tb y b ⊢ (free F c b : sProp 𝕄) := by
  unfold full free
  iintro ⟨Hr, Hs⟩
  isplitl [Hr]; · iexists _; iexact Hr
  iexact Hs

/-- A free slot is given to a block. -/
theorem fill_start (b : ℕ) : (free F c b : sProp 𝕄) ⊢ |={Set.univ}=> fill c tb y b 0 := by
  unfold free fill
  iintro ⟨Hr, Hs⟩
  imod (batch_alloc' (Lvl := ℕ) EC (c : Thread nD τ) () chunkN (deliv tb y b) (sm := .dma (slotSem b)) (E := Set.univ)) $$ Hs with HB
  imodintro
  rw [restSet_zero]
  isplitl [Hr]; · iexact Hr
  iexact HB

/-- The slot memref a wait names. -/
abbrev slotR (off : Fin 3 → ℕ) (hinb : ∀ a, off a + S1x3072x1024.size a ≤ S3x3072x1024.size a) : Memref sig .tc .vmem S3072x1024 .bf16 :=
  (ringR.slice (Rect.unit (s := S3x3072x1024) off S1x3072x1024.size hinb) (fun _ => rfl)).squeeze S3072x1024 squeezes_S1x3072x1024_S3072x1024

/-- The wait for the whole slot: the block is there. -/
theorem wp_arrive {α : Type} {b : ℕ} {W : Waits sig Unit} {o1 : Fin 1 → ℕ} {o3 : Fin 3 → ℕ}
    (h1 : o1 = ![b % 3]) {hinb1 : ∀ a, o1 a + S1.size a ≤ S3.size a} {hinb3} {srcw : Memref sig .tc .hbm S3072x1024 .bf16} {hsrc hdst}
    {k : PUnit → Prog (TpuEff nD τ sig (Elt F) Λ₀ .tc) α} {Q : α → sProp 𝕄} :
    iprop(fill c tb y b 192 ∗ owes (c : Thread nD τ) 0 W)
      ⊢ iprop((iprop(full c tb y b ∗ ∃ W, owes (c : Thread nD τ) 0 W)
            -∗ wp frame (wpE (defs₀ (F := F)) Variants.none c none) Set.univ (k ⟨⟩) Q)
          -∗ wp frame (wpE (defs₀ (F := F)) Variants.none c none) Set.univ
              (Prog.lift (TpuEff.waitDma2 ((cc0_scratch1.slice (Rect.unit (s := S3) o1 S1.size hinb1)).squeeze S_ squeezes_S1_S_).sem
                srcw (slotR o3 hinb3) hsrc hdst) >>= k) Q) := by
  have hlt : b % 3 < 3 := Nat.mod_lt _ (by norm_num)
  rw [sem_eq (b % 3) hlt h1 hinb1]
  unfold fill full
  iintro ⟨⟨-, HB⟩, HO⟩ Hk
  iapply (show iprop(Batch EC (c : Thread nD τ) (.dma (slotSem b)) () chunkN (deliv tb y b) 192 0 ∗ owes (c : Thread nD τ) 0 W)
      ⊢ iprop((iprop(bigSep Finset.univ (deliv tb y b) ∗ semVal ((c : Thread nD τ), .dma (slotSem b)) 0 ∗ owes (c : Thread nD τ) 0 (insert (SemLoc.dma (slotSem b), ()) W))
            -∗ wp frame (wpE (defs₀ (F := F)) Variants.none c none) Set.univ (k ⟨⟩) Q)
          -∗ wp frame (wpE (defs₀ (F := F)) Variants.none c none) Set.univ
              (Prog.lift (TpuEff.waitDma2 (semOf (b % 3) hlt) srcw (slotR o3 hinb3) hsrc hdst) >>= k) Q) from
    wp_waitBatchAll EC Variants.none (c : Thread nD τ) none () (J := chunkN * 192) slot_credit chunkN_pos (by omega)) $$ [HB HO]
  · isplitl [HB]; · iexact HB
    iexact HO
  iintro ⟨HD, Hs, HO⟩
  iapply Hk
  isplitl [HD Hs]
  · isplitl [HD]; · iapply (deliv_all tb y b) $$ HD
    iexact Hs
  iexists _; iexact HO

/-- What an issue into block `b`'s slot uses. -/
def filling (b k : ℕ) : sProp 𝕄 := iprop(shared c tb y qt ∗ fill c tb y b k)

/-- An issue's first half: the word is read, and its side condition holds. -/
theorem wp_look {α : Type} {b j : ℕ} {P : Elt F .i32 → Prop} {dec : ∀ v, Decidable (P v)} {off : Fin 1 → ℕ} (hb : b < 258) (hj : j < 192)
    (ho : off = ![192 * b + j]) {hinb : ∀ a, off a + S1.size a ≤ S49536.size a}
    (hP : P (word tb (192 * b + j)))
    {k : (v : Elt F .i32) → PLift (P v) → Prog (TpuEff nD τ sig (Elt F) Λ₀ .tc) α} {Q : α → sProp 𝕄} :
    filling c tb y qt b j
      ⊢ iprop((filling c tb y qt b j
            -∗ wp frame (wpE (defs₀ (F := F)) Variants.none c none) Set.univ (k (word tb (192 * b + j)) ⟨hP⟩) Q)
          -∗ wp frame (wpE (defs₀ (F := F)) Variants.none c none) Set.univ
              ((smemLoad tabR (Rect.unit (s := S49536) off S1.size hinb) numel1_S1 rfl : Prog (TpuEff nD τ sig (Elt F) Λ₀ .tc) (Elt F .i32)) >>= fun v =>
                Prog.lift (TpuEff.assume (P v) (dec v)) >>= fun h => k v h) Q) := by
  unfold filling shared
  iintro ⟨⟨Ht, Hy⟩, Hr⟩ Hk
  iapply (wp_word c tb (q := qt) (192 * b + j) (by omega) ho hP) $$ Ht
  iintro Ht
  iapply Hk
  isplitl [Ht Hy]
  · isplitl [Ht]; · iexact Ht
    iexact Hy
  iexact Hr

/-- An issue's second half: the sixteen rows the word names are sent into chunk `j` of the slot. -/
theorem wp_send (hg : GoodTab tb) {α : Type} {b j : ℕ} (hj : j < 192) {o1 : Fin 1 → ℕ} {o3 : Fin 3 → ℕ} {o2 : Fin 2 → ℕ}
    (h1 : o1 = ![b % 3]) (h3 : o3 = ![b % 3, 16 * j, 0]) (h2 : o2 = ![(word tb (192 * b + j)).toNat, 0])
    {hinb1 : ∀ a, o1 a + S1.size a ≤ S3.size a} {hinb3} {hinb2} {hsrc hdst hsem}
    {k : PUnit → Prog (TpuEff nD τ sig (Elt F) Λ₀ .tc) α} {Q : α → sProp 𝕄} :
    filling c tb y qt b j
      ⊢ iprop((filling c tb y qt b (j + 1)
            -∗ wp frame (wpE (defs₀ (F := F)) Variants.none c none) Set.univ (k ⟨⟩) Q)
          -∗ wp frame (wpE (defs₀ (F := F)) Variants.none c none) Set.univ
              (Prog.lift (TpuEff.enqueueDma (rowsR o2 hinb2) (.here (chunkR o3 hinb3))
                (.dma ((cc0_scratch1.slice (Rect.unit (s := S3) o1 S1.size hinb1)).squeeze S_ squeezes_S1_S_).sem) hsrc hdst hsem) >>= k) Q) := by
  have hlt : b % 3 < 3 := Nat.mod_lt _ (by norm_num)
  have hs := sem_eq (b % 3) hlt h1 hinb1
  change filling c tb y qt b j
      ⊢ iprop((filling c tb y qt b (j + 1)
            -∗ wp frame (wpE (defs₀ (F := F)) Variants.none c none) Set.univ (k ⟨⟩) Q)
          -∗ wp frame (wpE (defs₀ (F := F)) Variants.none c none) Set.univ
              (Prog.op (TpuEff.enqueueDma (rowsR o2 hinb2) (.here (chunkR o3 hinb3))
                (.dma ((cc0_scratch1.slice (Rect.unit (s := S3) o1 S1.size hinb1)).squeeze S_ squeezes_S1_S_).sem) hsrc hdst hsem) k) Q)
  revert hsem hs
  generalize ((cc0_scratch1.slice (Rect.unit (s := S3) o1 S1.size hinb1)).squeeze S_ squeezes_S1_S_).sem = sm
  intro hsem hs
  subst hs
  unfold filling shared fill
  iintro ⟨⟨Ht, ⟨%q, Hy⟩⟩, ⟨%f, Hr⟩, HB⟩ Hk
  ihave Hy := (pointsTo_share (ℓ := yR.view.loc (c : Thread nD τ)) (PosShare.mem_left_op_right q)).1 $$ Hy
  icases Hy with ⟨Hy, Hy'⟩
  ihave Hy' := (pointsTo_split_subset (ℓ := yR.view.loc (c : Thread nD τ)) (Finset.subset_univ ((rowsR o2 hinb2).view.set))).1 $$ Hy'
  icases Hy' with ⟨Hy', -⟩
  rw [restSet_succ]
  ihave Hr := (pointsTo_union (ℓ := ringR.view.loc (c : Thread nD τ)) (restSet_disj (b % 3) j)).1 $$ Hr
  icases Hr with ⟨Hd, Hr⟩
  iapply (wp_dmaBatch EC Variants.none (c : Thread nD τ) none (src := rowsR o2 hinb2) (dst := chunkR o3 hinb3) () chunkN rfl
    (D := deliv tb y b) (j := j) (u := 0) (Sd := pieceSet (b % 3) j) (fd := f) (fs := y) (q := q.right) (chunk_set (b % 3) j h3 hinb3).le hj (Nat.zero_le _) ?_) $$ [Hy' Hd HB]
  · iintro ⟨Hd, -⟩
    unfold deliv
    iapply (Entails.of_eq (pointsTo_congr (chunk_write tb y f b j hj hg h3 hinb3 h2 hinb2))) $$ Hd
  · isplitl [Hy']; · iexact Hy'
    isplitl [Hd]; · iexact Hd
    iexact HB
  iintro HB
  iapply Hk
  isplitl [Ht Hy]
  · isplitl [Ht]; · iexact Ht
    iexists _; iexact Hy
  isplitl [Hr]; · iexists _; iexact Hr
  iexact HB

/-- A buffer held whole. -/
abbrev pt {sp : Space} {S : Shape} {e : EltTy} (M : Memref sig .tc sp S e) (f : Buf (Elt F) (M.view.loc (c : Thread nD τ))) : sProp 𝕄 :=
  M.view.loc (c : Thread nD τ) ↦{fullShare} f

/-- A load from a buffer held whole. -/
theorem wp_get {α : Type} {cs : CoreSpace} {s : Shape} {e : EltTy} {M : Memref sig .tc cs s e} {r : LoadRect s} {hl : M.view.LoadsAt r} {f : Buf (Elt F) (M.view.loc (c : Thread nD τ))}
    {k : (r.shape.Idx → Elt F e) → Prog (TpuEff nD τ sig (Elt F) Λ₀ .tc) α} {Q : α → sProp 𝕄} :
    pt c M f ⊢ iprop((pt c M f -∗ wp frame (wpE (defs₀ (F := F)) Variants.none c none) Set.univ (k (M.view.readAt (Elt F) r f)) Q)
      -∗ wp frame (wpE (defs₀ (F := F)) Variants.none c none) Set.univ (Prog.lift (TpuEff.load M r hl) >>= k) Q) :=
  wp_load Variants.none (c : Thread nD τ) none Set.univ (m := M) (r := r) (S := Finset.univ) (Finset.subset_univ _)

/-- A load from the slot that holds block `b`. -/
theorem wp_rows {α : Type} {b : ℕ} {off size : Fin 3 → ℕ} {hinb : ∀ a, off a + size a ≤ S3x3072x1024.size a} (h0 : off 0 = b % 3) (hs : size 0 = 1)
    {hl : ringR.view.LoadsAt (Rect.unit (s := S3x3072x1024) off size hinb).toLoadRect}
    {k : ((Rect.unit (s := S3x3072x1024) off size hinb).toLoadRect.shape.Idx → Elt F .bf16) → Prog (TpuEff nD τ sig (Elt F) Λ₀ .tc) α} {Q : α → sProp 𝕄} :
    full c tb y b ⊢ iprop((full c tb y b -∗ wp frame (wpE (defs₀ (F := F)) Variants.none c none) Set.univ
          (k (ringR.view.readAt (Elt F) (Rect.unit (s := S3x3072x1024) off size hinb).toLoadRect (landed tb y b))) Q)
      -∗ wp frame (wpE (defs₀ (F := F)) Variants.none c none) Set.univ (Prog.lift (TpuEff.load ringR (Rect.unit (s := S3x3072x1024) off size hinb).toLoadRect hl) >>= k) Q) := by
  unfold full
  iintro ⟨Hr, Hs⟩ Hk
  have hsub : ringR.view.setOn (Rect.unit (s := S3x3072x1024) off size hinb).set ⊆ slotSet (b % 3) := by
    intro p hp
    obtain ⟨x, hx, rfl⟩ := Finset.mem_map.mp hp
    have := (Rect.mem_set_unit.mp hx) 0
    simp only [slotSet, Finset.mem_filter, Finset.mem_univ, true_and]
    have h : off 0 ≤ (x 0).val ∧ (x 0).val < off 0 + size 0 := this
    show (x 0).val = b % 3
    omega
  iapply (show (ringR.view.loc (c : Thread nD τ) ↦[slotSet (b % 3)]{fullShare} landed tb y b : sProp 𝕄)
      ⊢ iprop(((ringR.view.loc (c : Thread nD τ) ↦[slotSet (b % 3)]{fullShare} landed tb y b) -∗ wp frame (wpE (defs₀ (F := F)) Variants.none c none) Set.univ
          (k (ringR.view.readAt (Elt F) (Rect.unit (s := S3x3072x1024) off size hinb).toLoadRect (landed tb y b))) Q)
      -∗ wp frame (wpE (defs₀ (F := F)) Variants.none c none) Set.univ (Prog.lift (TpuEff.load ringR (Rect.unit (s := S3x3072x1024) off size hinb).toLoadRect hl) >>= k) Q) from
    wp_load Variants.none (c : Thread nD τ) none Set.univ (m := ringR) (S := slotSet (b % 3)) hsub) $$ Hr
  iintro Hr
  iapply Hk
  isplitl [Hr]; · iexact Hr
  iexact Hs

/-- A store over the whole of a buffer held whole. -/
theorem wp_put {α : Type} {cs : CoreSpace} {s : Shape} {e : EltTy} {M : Memref sig .tc cs s e} {r : Rect s} {w : r.shape.Idx → Elt F e} {hx hm} {f : Buf (Elt F) (M.view.loc (c : Thread nD τ))}
    {k : PUnit → Prog (TpuEff nD τ sig (Elt F) Λ₀ .tc) α} {Q : α → sProp 𝕄} :
    pt c M f ⊢ iprop((pt c M ((M.access r).write (Elt F) f w Finset.univ) -∗ wp frame (wpE (defs₀ (F := F)) Variants.none c none) Set.univ (k ⟨⟩) Q)
      -∗ wp frame (wpE (defs₀ (F := F)) Variants.none c none) Set.univ (Prog.lift (TpuEff.store M r w Finset.univ hx hm) >>= k) Q) :=
  wp_store Variants.none (c : Thread nD τ) none Set.univ (m := M) (r := r) (S := Finset.univ) (Finset.subset_univ _)

/-- Offsets in closed form. -/
theorem vec1 {a a' : ℕ} (h : a = a') : (![a] : Fin 1 → ℕ) = ![a'] := by rw [h]
/-- Offsets that agree on the middle axis agree. -/
theorem vec3 {a b b' d : ℕ} (h : b = b') : (![a, b, d] : Fin 3 → ℕ) = ![a, b', d] := by rw [h]

end Cert.Proof.Run
-- ==== Proof.Prologue.lean ====
module

public import proofs.«01_k».proof.Proof.Ring

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx

variable {F : FTy → Type} [FloatOps F]
local notation "𝕄" => MT nD τ sig Unit (Elt F) ℕ (UU nD τ) ℕ

variable (c : Dev nD) (tb : Tb F c) (y : Yb F c) (qt : PosShare TreeShare)

/-! ## Before, between and after the grid points -/

/-- Blocks `b` and `b + 1` asked for, the third slot free. -/
def ready (b : ℕ) : sProp 𝕄 := iprop(fill c tb y b 192 ∗ fill c tb y (b + 1) 192 ∗ free F c (b + 2))

/-- All three slots free. -/
def idle : sProp 𝕄 := iprop(free F c 0 ∗ free F c 1 ∗ free F c 2)

/-- The slots before grid point `t` (after all of them at `t = 256`). -/
def ringState (t : ℕ) : sProp 𝕄 := if t = 0 ∨ 256 ≤ t then idle (F := F) c else ready c tb y t

/-- The first condition holds at point 0 alone. -/
theorem cond1_iff : ∀ i : grid0.Coords, k0_cond1 i = 1#1 ↔ (i 0).val = 0 := by decide +kernel
/-- The second holds at point 255 alone. -/
theorem cond2_iff : ∀ i : grid0.Coords, k0_cond2 i = 1#1 ↔ (i 0).val = 255 := by decide +kernel

/-- Trip `t` of the opening loop copies into slot `t / 192`, -/
theorem trip_slot : ∀ t : Fin k0_t1_loop.trips, k0_off2 t = ![t.val / 192] := by decide +kernel
/-- its chunk `t % 192`. -/
theorem trip_chunk : ∀ t : Fin k0_t1_loop.trips, k0_off3 t = ![t.val / 192, 16 * (t.val % 192), 0] := by decide +kernel
/-- The opening loop makes 384 trips. -/
theorem trips_eq : k0_t1_loop.trips = 384 := by decide +kernel

/-- The first loop, between trips: of the `k` chunks asked for, block 0 has the first 192. -/
def loopInv (k : ℕ) (_ : Unit) : sProp 𝕄 := iprop(shared c tb y qt ∗ fill c tb y 0 (min k 192) ∗ fill c tb y 1 (k - 192))

/-- One trip of the opening loop. -/
theorem trip_run (hg : GoodTab tb) (i : grid0.Coords) (h : k0_cond1 i = 1#1) (M3 h3 M4 h4 M5 h5 M6 h6 M7 h7 M8 h8 M9 h9 M10 h10 M11 h11)
    (t : Fin k0_t1_loop.trips) (u : Unit) :
    loopInv c tb y qt t.val u ⊢ wp frame (wpE (defs₀ (F := F)) Variants.none c none) Set.univ
      (k0_t1_body i tabR (Memref.isWhole_whole _) yR (Memref.isWhole_whole _) M3 h3 M4 h4 M5 h5 M6 h6 M7 h7 M8 h8 M9 h9 M10 h10 M11 h11 ringR (Memref.isWhole_whole _) cc0_scratch1 h t u)
      (loopInv c tb y qt (t.val + 1)) := by
  have ht : t.val < 384 := lt_of_lt_of_eq t.isLt trips_eq
  have hchk : ∀ n, k0_chk1 i (word tb n) := fun n =>
    let hc := chk_of _ (hg n).1 (hg n).2
    ⟨fun _ => hc.1, fun _ => hc.2.1, fun _ => hc.2.2⟩
  unfold loopInv k0_t1_body
  by_cases hlt : t.val < 192
  · rw [min_eq_left (le_of_lt hlt), min_eq_left (by omega : t.val + 1 ≤ 192), (by omega : t.val - 192 = 0), (by omega : t.val + 1 - 192 = 0)]
    iintro ⟨HS, H0, H1⟩
    iapply (wp_look c tb y qt (b := 0) (j := t.val) ?_ ?_ ?_ ?_) $$ [HS H0]
    rotate_left 3
    · unfold filling; isplitl [HS]; · iexact HS
      iexact H0
    rotate_left 2
    · omega
    · exact hlt
    · rw [k0_off1_eq]; exact vec1 (by omega)
    rotate_left 1
    · exact hchk _
    iintro HF
    dsimp only
    iapply (wp_send c tb y qt hg (b := 0) (j := t.val) ?_ ?_ ?_ ?_) $$ HF
    rotate_left 4
    · iintro HF
      unfold filling
      icases HF with ⟨HS, H0⟩
      rw [wp_pure]; imodintro
      isplitl [HS]; · iexact HS
      isplitl [H0]; · iexact H0
      iexact H1
    · exact hlt
    · rw [trip_slot]; exact vec1 (by omega)
    · rw [trip_chunk, Nat.div_eq_of_lt hlt, Nat.mod_eq_of_lt hlt]
    · exact rfl
  · rw [min_eq_right (by omega : 192 ≤ t.val), min_eq_right (by omega : 192 ≤ t.val + 1), (by omega : t.val + 1 - 192 = (t.val - 192) + 1)]
    iintro ⟨HS, H0, H1⟩
    iapply (wp_look c tb y qt (b := 1) (j := t.val - 192) ?_ ?_ ?_ ?_) $$ [HS H1]
    rotate_left 3
    · unfold filling; isplitl [HS]; · iexact HS
      iexact H1
    rotate_left 2
    · omega
    · omega
    · rw [k0_off1_eq]; exact vec1 (by omega)
    rotate_left 1
    · exact hchk _
    iintro HF
    dsimp only
    iapply (wp_send c tb y qt hg (b := 1) (j := t.val - 192) ?_ ?_ ?_ ?_) $$ HF
    rotate_left 4
    · iintro HF
      unfold filling
      icases HF with ⟨HS, H1⟩
      rw [wp_pure]; imodintro
      isplitl [HS]; · iexact HS
      isplitl [H0]; · iexact H0
      iexact H1
    · omega
    · rw [trip_slot]; exact vec1 (by omega)
    · rw [trip_chunk, (by omega : t.val / 192 = 1), (by omega : t.val % 192 = t.val - 192)]
    · exact rfl

/-- The first grid point's loop, and nothing at the others: blocks `b` and `b + 1` are asked for. -/
theorem prologue_run (hg : GoodTab tb) (i : grid0.Coords) (M3 h3 M4 h4 M5 h5 M6 h6 M7 h7 M8 h8 M9 h9 M10 h10 M11 h11)
    {α : Type} {P : Prog (TpuEff nD τ sig (Elt F) Λ₀ .tc) α} {Q : α → sProp 𝕄} :
    iprop(shared c tb y qt ∗ ringState c tb y (i 0).val)
      ⊢ iprop((iprop(shared c tb y qt ∗ ready c tb y (i 0).val) -∗ wp frame (wpE (defs₀ (F := F)) Variants.none c none) Set.univ P Q)
        -∗ wp frame (wpE (defs₀ (F := F)) Variants.none c none) Set.univ
          (if h : k0_cond1 i = 1#1 then do
              Scf.Loop.for k0_t1_loop (k0_t1_ok i h) ⟨⟩ (k0_t1_body i tabR (Memref.isWhole_whole _) yR (Memref.isWhole_whole _) M3 h3 M4 h4 M5 h5 M6 h6 M7 h7 M8 h8 M9 h9 M10 h10 M11 h11 ringR (Memref.isWhole_whole _) cc0_scratch1 h)
              P
            else P) Q) := by
  have hi : (i 0).val < 256 := (i 0).isLt
  by_cases h : k0_cond1 i = 1#1
  · have h0 := (cond1_iff i).mp h
    rw [dif_pos h, h0]
    have e : (ringState c tb y 0 : sProp 𝕄) = idle c := if_pos (Or.inl rfl)
    rw [e]
    unfold idle ready
    iintro ⟨HS, H0, H1, H2⟩ Hk
    imod (fill_start c tb y 0) $$ H0 with H0
    imod (fill_start c tb y 1) $$ H1 with H1
    iapply (Scf.wp_for_bind frame (wpE (defs₀ (F := F)) Variants.none c none) Set.univ _ _ _ (k0_t1_ok i h) _ _ (loopInv c tb y qt)
      (trip_run c tb y qt hg i h M3 h3 M4 h4 M5 h5 M6 h6 M7 h7 M8 h8 M9 h9 M10 h10 M11 h11)) $$ [HS H0 H1]
    · unfold loopInv
      isplitl [HS]; · iexact HS
      isplitl [H0]; · iexact H0
      iexact H1
    · iintro %acc HI
      iapply Hk
      rw [show Scf.trips k0_t1_loop.lb k0_t1_loop.ub k0_t1_loop.st = 384 from trips_eq]
      unfold loopInv
      icases HI with ⟨HS, H0, H1⟩
      isplitl [HS]; · iexact HS
      isplitl [H0]; · iexact H0
      isplitl [H1]; · iexact H1
      iexact H2
  · have h0 : (i 0).val ≠ 0 := fun e => h ((cond1_iff i).mpr e)
    have e : (ringState c tb y (i 0).val : sProp 𝕄) = ready c tb y (i 0).val := if_neg (by omega)
    rw [dif_neg h, e]
    iintro HS Hk
    iapply Hk $$ HS

/-- The last grid point's two waits, and nothing at the others. -/
theorem ringState_end (b : ℕ) (hb : b + 1 = 256) : iprop(full c tb y (b + 1) ∗ full c tb y (b + 2) ∗ full c tb y b) ⊢ (ringState c tb y (b + 1) : sProp 𝕄) := by
  have e : (ringState c tb y (b + 1) : sProp 𝕄) = idle c := if_pos (Or.inr (by omega))
  rw [e]
  unfold idle
  iintro ⟨H1, H2, H0⟩
  isplitl [H0]
  · rw [free_mod c 0 b (by omega)]; iapply (full_free c tb y b) $$ H0
  isplitl [H1]
  · rw [free_mod c 1 (b + 1) (by omega)]; iapply (full_free c tb y (b + 1)) $$ H1
  · rw [free_mod c 2 (b + 2) (by omega)]; iapply (full_free c tb y (b + 2)) $$ H2

/-- The ring after a point is the ring before the next. -/
theorem ringState_next (b : ℕ) (hb : b + 1 < 256) : iprop(fill c tb y (b + 1) 192 ∗ fill c tb y (b + 2) 192 ∗ full c tb y b) ⊢ (ringState c tb y (b + 1) : sProp 𝕄) := by
  have e : (ringState c tb y (b + 1) : sProp 𝕄) = ready c tb y (b + 1) := if_neg (by omega)
  rw [e]
  unfold ready
  iintro ⟨H1, H2, H0⟩
  isplitl [H1]; · iexact H1
  isplitl [H2]; · iexact H2
  rw [free_mod c (b + 1 + 2) b (by omega)]
  iapply (full_free c tb y b) $$ H0

end Cert.Proof.Run
-- ==== Proof.Body.lean ====
module

public import proofs.«01_k».proof.Proof.Prologue

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx

variable {F : FTy → Type} [FloatOps F]
local notation "𝕄" => MT nD τ sig Unit (Elt F) ℕ (UU nD τ) ℕ

/-! ## What a grid point computes -/

section Value
variable (v12 : FVec F S8x256 .f32) (v15 v18 v21 v24 v27 v30 v33 v36 : FVec F S1x256 .bf16)

/-- The weights of slots 0 … 255 of the block's rows, 256 … 511 and 512 … 767. -/
def wgt0 : FVec F S256x256 .bf16 :=
  k0_pay13 v12 v27 v30 v33 v36 (k0_pay10 (F := F)) (k0_pay11 v12 v15 v18 v21 v24) (k0_pay12 v12)
def wgt1 : FVec F S256x256 .bf16 :=
  k0_pay21 (k0_pay18 v12 v21 v24 v27 v30 v33 (k0_pay14 (F := F)) (k0_pay15 v12 v15) (k0_pay16 v12) (k0_pay17 v18)) (k0_pay19 v12 (k0_pay14 (F := F))) (k0_pay20 v36)
def wgt2 : FVec F S256x256 .bf16 :=
  k0_pay25 v12 v30 v33 v36 (k0_pay22 (F := F)) (k0_pay23 v12 v15 v18 v21 v24 v27) (k0_pay24 v12)

/-- After the block's first 1024 rows. -/
def acc0 (b0 : Vec F S1x1024x1024 .bf16) : FVec F S256x1024 .f32 :=
  k0_pay30 v12 v24 v27 v30 v33 v36 (wgt0 v12 v15 v18 v21 v24 v27 v30 v33 v36) (wgt1 v12 v15 v18 v21 v24 v27 v30 v33 v36)
    (wgt2 v12 v15 v18 v21 v24 v27 v30 v33 v36) (k0_pay26 (F := F)) (k0_pay27 v12 v15 v18) (k0_pay28 v12) (k0_pay29 v21) b0

def wgt4 : FVec F S256x256 .bf16 :=
  k0_pay34 v12 v30 v33 v36 (k0_pay31 (F := F) (iota .tc S256x256 32 [0] iota_S256x256_d0_w32)) (k0_pay32 v12 v15 v18 v21 v24 v27 (iota .tc S256x256 32 [0] iota_S256x256_d0_w32)) (k0_pay33 v12)
def wgt5 : FVec F S256x256 .bf16 :=
  k0_pay38 v12 v24 v27 v30 v33 v36 (k0_pay35 (F := F)) (k0_pay36 v12 v15 v18 v21) (k0_pay37 v12)
def wgt6 : FVec F S256x256 .bf16 :=
  k0_pay44 v12 v33 v36 (k0_pay39 (F := F)) (k0_pay42 v12 v15 v18 v21 v24 v27 v30 (k0_pay39 (F := F)) (k0_pay40 (F := F)) (k0_pay41 v12)) (k0_pay43 v12)

/-- After the second. -/
def acc1 (a0 : FVec F S256x1024 .f32) (b1 : Vec F S1x1024x1024 .bf16) : FVec F S256x1024 .f32 :=
  k0_pay48 v12 v27 v30 v33 v36 a0 (wgt4 v12 v15 v18 v21 v24 v27 v30 v33 v36) (wgt5 v12 v15 v18 v21 v24 v27 v30 v33 v36)
    (wgt6 v12 v15 v18 v21 v24 v27 v30 v33 v36) (k0_pay45 (F := F)) (k0_pay46 v12 v15 v18 v21 v24) (k0_pay47 v12) b1

def wgt8 : FVec F S256x256 .bf16 :=
  k0_pay54 v12 v33 v36 (k0_pay49 (F := F)) (k0_pay52 v12 v15 v18 v21 v24 v27 v30 (k0_pay49 (F := F)) (k0_pay50 (F := F)) (k0_pay51 v12)) (k0_pay53 v12 (k0_pay49 (F := F)))
def wgt9 : FVec F S256x256 .bf16 :=
  k0_pay58 v12 v27 v30 v33 v36 (k0_pay55 (F := F)) (k0_pay56 v12 v15 v18 v21 v24) (k0_pay57 v12) (Scalar.ofBits .f32 0x45100000#32)
def wgt10 : FVec F S256x256 .bf16 :=
  k0_pay64 v36 (k0_pay62 v12 v18 v21 v24 v27 v30 v33 (k0_pay59 (F := F)) (k0_pay60 v12 v15) (k0_pay61 v12)) (k0_pay63 v12 (k0_pay59 (F := F)))

/-- After the third. -/
def acc2 (a1 : FVec F S256x1024 .f32) (b2 : Vec F S1x1024x1024 .bf16) : FVec F S256x1024 .f32 :=
  k0_pay68 v12 v30 v33 v36 a1 (wgt8 v12 v15 v18 v21 v24 v27 v30 v33 v36) (wgt9 v12 v15 v18 v21 v24 v27 v30 v33 v36)
    (wgt10 v12 v15 v18 v21 v24 v27 v30 v33 v36) (k0_pay65 (F := F)) (k0_pay66 v12 v15 v18 v21 v24 v27) (k0_pay67 v12) (Scalar.ofBits .f32 0x45300000#32) b2

end Value

/-- The three accumulations, from the loaded slot rows, gates and block. -/
def accVal (s : Vec F S8x256 .f32) (g0 g1 g2 g3 g4 g5 g6 g7 : Vec F S1x256 .f32) (b0 b1 b2 : Vec F S1x1024x1024 .bf16) : FVec F S256x1024 .f32 :=
  let v12 := k0_pay1 s
  let v15 := k0_pay2 g0
  let v18 := k0_pay3 g1
  let v21 := k0_pay4 g2
  let v24 := k0_pay5 g3
  let v27 := k0_pay6 g4
  let v30 := k0_pay7 g5
  let v33 := k0_pay8 g6
  let v36 := k0_pay9 g7
  acc2 v12 v15 v18 v21 v24 v27 v30 v33 v36
    (acc1 v12 v15 v18 v21 v24 v27 v30 v33 v36 (acc0 v12 v15 v18 v21 v24 v27 v30 v33 v36 b0) b1) b2

/-- What the point writes: the routed sum, the shared expert, the residual and the layer norm. -/
def outVal (acc : FVec F S256x1024 .f32) (xb : Vec F S256x1024 .bf16) (wg wu : Vec F S1024x256 .bf16) (wd : Vec F S256x1024 .bf16)
    (x : Vec F S256x1024 .f32) (g b : Vec F S1x1024 .f32) : Vec F S256x1024 .f32 :=
  k0_pay73 acc (k0_pay70 xb wg) (k0_pay71 xb wu) (k0_pay72 xb wg) wd x g b

/-! ## The reads -/

abbrev rdS (M : Memref sig .tc .vmem S16x256 .f32) (c : Dev nD) (f : Buf (Elt F) (M.view.loc (c : Thread nD τ))) : Vec F S8x256 .f32 :=
  M.view.readAt (Elt F) (Rect.unit (s := S16x256) ![0, 0] S8x256.size inb_S16x256_S8x256_0_0).toLoadRect f
abbrev rdG (M : Memref sig .tc .vmem S16x256 .f32) (c : Dev nD) (f : Buf (Elt F) (M.view.loc (c : Thread nD τ))) (off : Fin 2 → ℕ)
    (h : ∀ a, off a + S1x256.size a ≤ S16x256.size a) : Vec F S1x256 .f32 :=
  M.view.readAt (Elt F) (Rect.unit (s := S16x256) off S1x256.size h).toLoadRect f
abbrev rdB (c : Dev nD) (f : Sb F c) (off : Fin 3 → ℕ) (h : ∀ a, off a + S1x1024x1024.size a ≤ S3x3072x1024.size a) : Vec F S1x1024x1024 .bf16 :=
  ringR.view.readAt (Elt F) (Rect.unit (s := S3x3072x1024) off S1x1024x1024.size h).toLoadRect f
abbrev rdAll {S : Shape} {e : EltTy} (M : Memref sig .tc .vmem S e) (c : Dev nD) (f : Buf (Elt F) (M.view.loc (c : Thread nD τ))) (off : Fin S.rank → ℕ)
    (h : ∀ a, off a + S.size a ≤ S.size a) : Vec F S e :=
  M.view.readAt (Elt F) (Rect.unit (s := S) off S.size h).toLoadRect f

variable (c : Dev nD) (tb : Tb F c) (y : Yb F c) (qt : PosShare TreeShare)

/-- The routed sum at point `i`, from the slot rows' buffer. -/
def accAt (i : grid0.Coords) (M3 : Memref sig .tc .vmem S16x256 .f32) (f3 : Buf (Elt F) (M3.view.loc (c : Thread nD τ))) : FVec F S256x1024 .f32 :=
  accVal (rdS M3 c f3) (rdG M3 c f3 ![8, 0] inb_S16x256_S1x256_8_0) (rdG M3 c f3 ![9, 0] inb_S16x256_S1x256_9_0) (rdG M3 c f3 ![10, 0] inb_S16x256_S1x256_10_0)
    (rdG M3 c f3 ![11, 0] inb_S16x256_S1x256_11_0) (rdG M3 c f3 ![12, 0] inb_S16x256_S1x256_12_0) (rdG M3 c f3 ![13, 0] inb_S16x256_S1x256_13_0)
    (rdG M3 c f3 ![14, 0] inb_S16x256_S1x256_14_0) (rdG M3 c f3 ![15, 0] inb_S16x256_S1x256_15_0)
    (rdB c (landed tb y (i 0).val) (k0_off7 i) (k0_off7_inb i)) (rdB c (landed tb y (i 0).val) (k0_off264 i) (k0_off264_inb i))
    (rdB c (landed tb y (i 0).val) (k0_off521 i) (k0_off521_inb i))

set_option maxHeartbeats 0 in
/-- The point up to the last sub-block's sum: the slot's block has arrived and been used, and all but the last issues
    into the slot two blocks ahead are made. -/
theorem head_run (hg : GoodTab tb) (i : grid0.Coords) (M3 h3 M4 h4 M5 h5 M6 h6 M7 h7 M8 h8 M9 h9 M10 h10 M11 h11)
    (f3 : Buf (Elt F) (M3.view.loc (c : Thread nD τ))) (W : Waits sig Unit) (Q : _ → sProp 𝕄) :
    iprop(shared c tb y qt ∗ ringState c tb y (i 0).val ∗ pt c M3 f3 ∗ owes (c : Thread nD τ) 0 W)
      ⊢ iprop((∀ v w (hw : k0_chk167 v), ⌜v = word tb (192 * ((i 0).val + 2) + 165)⌝ -∗ filling c tb y qt ((i 0).val + 2) 165 -∗ fill c tb y ((i 0).val + 1) 192 -∗ full c tb y (i 0).val -∗ pt c M3 f3
            -∗ (∃ W, owes (c : Thread nD τ) 0 W) -∗ Q ⟨BitVec.ofNat 32 (i 0).val, w, accAt c tb y i M3 f3, v, hw⟩)
        -∗ wp frame (wpE (defs₀ (F := F)) Variants.none c none) Set.univ
          (k0_part69_skel i tabR (Memref.isWhole_whole _) yR (Memref.isWhole_whole _) M3 h3 M4 h4 M5 h5 M6 h6 M7 h7 M8 h8 M9 h9 M10 h10 M11 h11 ringR (Memref.isWhole_whole _) cc0_scratch1) Q) := by
  have hi : (i 0).val < 256 := (i 0).isLt
  iintro ⟨HS, HR, H3, HO⟩ Hk
  unfold k0_part69_skel
  rw [wp_bind, k0_part1_eq_skeleton]
  unfold k0_part1_skel
  dsimp only
  iapply (prologue_run c tb y qt hg i M3 h3 M4 h4 M5 h5 M6 h6 M7 h7 M8 h8 M9 h9 M10 h10 M11 h11) $$ [HS HR]
  · isplitl [HS]; · iexact HS
    iexact HR
  unfold ready
  iintro ⟨HS, H0, H1, H2⟩
  iapply (wp_arrive c tb y (b := (i 0).val) (k0_off5_eq i)) $$ [H0 HO]
  · isplitl [H0]; · iexact H0
    iexact HO
  iintro ⟨H0, HO⟩
  iterate 8
    iapply (wp_get c) $$ H3
    iintro H3
  imod (fill_start c tb y ((i 0).val + 2)) $$ H2 with H2
  rw [wp_pure]
  imodintro
  dsimp only
  rw [wp_bind, k0_part2_eq_skeleton]
  unfold k0_part2_skel
  iapply (wp_get c) $$ H3
  iintro H3
  dsimp only
  rw [wp_pure]
  imodintro
  rw [wp_bind, k0_part3_eq_skeleton]
  unfold k0_part3_skel
  dsimp only
  rw [wp_pure]
  imodintro
  rw [wp_bind, k0_part4_eq_skeleton]
  unfold k0_part4_skel
  dsimp only
  rw [wp_pure]
  imodintro
  rw [wp_bind, k0_part5_eq_skeleton]
  unfold k0_part5_skel
  dsimp only
  rw [wp_pure]
  imodintro
  rw [wp_bind, k0_part6_eq_skeleton]
  unfold k0_part6_skel
  dsimp only
  rw [wp_pure]
  imodintro
  rw [wp_bind, k0_part7_eq_skeleton]
  unfold k0_part7_skel
  dsimp only
  iapply (wp_rows c tb y (b := (i 0).val) (by rw [k0_off7_eq]; rfl) rfl) $$ H0
  iintro H0
  rw [wp_pure]
  imodintro
  dsimp only
  ihave HF : filling c tb y qt ((i 0).val + 2) 0 $$ [HS H2]
  · unfold filling
    isplitl [HS]; · iexact HS
    iexact H2
  iterate 16
    rw [wp_bind]
    first | rw [k0_part8_eq_skeleton, k0_part8_skel] | rw [k0_part9_eq_skeleton, k0_part9_skel] | rw [k0_part10_eq_skeleton, k0_part10_skel] | rw [k0_part11_eq_skeleton, k0_part11_skel] | rw [k0_part12_eq_skeleton, k0_part12_skel] | rw [k0_part13_eq_skeleton, k0_part13_skel] | rw [k0_part14_eq_skeleton, k0_part14_skel] | rw [k0_part15_eq_skeleton, k0_part15_skel] | rw [k0_part16_eq_skeleton, k0_part16_skel] | rw [k0_part17_eq_skeleton, k0_part17_skel] | rw [k0_part18_eq_skeleton, k0_part18_skel] | rw [k0_part19_eq_skeleton, k0_part19_skel] | rw [k0_part20_eq_skeleton, k0_part20_skel] | rw [k0_part21_eq_skeleton, k0_part21_skel] | rw [k0_part22_eq_skeleton, k0_part22_skel] | rw [k0_part23_eq_skeleton, k0_part23_skel]
    dsimp only
    iterate 4
      iapply (wp_look c tb y qt ?_ ?_ ?_ ?_) $$ HF
      rotate_right 1
      · exact chk_of _ (hg _).1 (hg _).2
      · omega
      · omega
      · exact (ClosedOff.eq (off := _)).trans (vec1 (by omega))
      iintro HF
      dsimp only
      iapply (wp_send c tb y qt hg ?_ ?_ ?_ ?_) $$ HF
      · omega
      · exact (ClosedOff.eq (off := _)).trans (vec1 (by omega))
      · exact (ClosedOff.eq (off := _)).trans (vec3 (by omega))
      · exact rfl
      iintro HF
    rw [wp_pure]
    imodintro
    try dsimp only
  iterate 5
    rw [wp_bind]
    first | rw [k0_part24_eq_skeleton, k0_part24_skel] | rw [k0_part25_eq_skeleton, k0_part25_skel] | rw [k0_part26_eq_skeleton, k0_part26_skel] | rw [k0_part27_eq_skeleton, k0_part27_skel] | rw [k0_part28_eq_skeleton, k0_part28_skel]
    try dsimp only
    rw [wp_pure]
    imodintro
    try dsimp only
  rw [wp_bind, k0_part29_eq_skeleton, k0_part29_skel]
  dsimp only
  iapply (wp_rows c tb y (b := (i 0).val) (by rw [k0_off264_eq]; rfl) rfl) $$ H0
  iintro H0
  iapply (wp_look c tb y qt ?_ ?_ ?_ ?_) $$ HF
  rotate_right 1
  · exact chk_of _ (hg _).1 (hg _).2
  · omega
  · omega
  · exact (ClosedOff.eq (off := _)).trans (vec1 (by omega))
  iintro HF
  dsimp only
  rw [wp_pure]
  imodintro
  try dsimp only
  iterate 15
    rw [wp_bind]
    first | rw [k0_part30_eq_skeleton, k0_part30_skel] | rw [k0_part31_eq_skeleton, k0_part31_skel] | rw [k0_part32_eq_skeleton, k0_part32_skel] | rw [k0_part33_eq_skeleton, k0_part33_skel] | rw [k0_part34_eq_skeleton, k0_part34_skel] | rw [k0_part35_eq_skeleton, k0_part35_skel] | rw [k0_part36_eq_skeleton, k0_part36_skel] | rw [k0_part37_eq_skeleton, k0_part37_skel] | rw [k0_part38_eq_skeleton, k0_part38_skel] | rw [k0_part39_eq_skeleton, k0_part39_skel] | rw [k0_part40_eq_skeleton, k0_part40_skel] | rw [k0_part41_eq_skeleton, k0_part41_skel] | rw [k0_part42_eq_skeleton, k0_part42_skel] | rw [k0_part43_eq_skeleton, k0_part43_skel] | rw [k0_part44_eq_skeleton, k0_part44_skel]
    dsimp only
    iterate 4
      iapply (wp_send c tb y qt hg ?_ ?_ ?_ ?_) $$ HF
      · omega
      · exact (ClosedOff.eq (off := _)).trans (vec1 (by omega))
      · exact (ClosedOff.eq (off := _)).trans (vec3 (by omega))
      · exact rfl
      iintro HF
      iapply (wp_look c tb y qt ?_ ?_ ?_ ?_) $$ HF
      rotate_right 1
      · exact chk_of _ (hg _).1 (hg _).2
      · omega
      · omega
      · exact (ClosedOff.eq (off := _)).trans (vec1 (by omega))
      iintro HF
      dsimp only
    rw [wp_pure]
    imodintro
    try dsimp only
  rw [wp_bind, k0_part45_eq_skeleton, k0_part45_skel]
  dsimp only
  iapply (wp_send c tb y qt hg ?_ ?_ ?_ ?_) $$ HF
  · omega
  · exact (ClosedOff.eq (off := _)).trans (vec1 (by omega))
  · exact (ClosedOff.eq (off := _)).trans (vec3 (by omega))
  · exact rfl
  iintro HF
  iterate 3
    iapply (wp_look c tb y qt ?_ ?_ ?_ ?_) $$ HF
    rotate_right 1
    · exact chk_of _ (hg _).1 (hg _).2
    · omega
    · omega
    · exact (ClosedOff.eq (off := _)).trans (vec1 (by omega))
    iintro HF
    dsimp only
    iapply (wp_send c tb y qt hg ?_ ?_ ?_ ?_) $$ HF
    · omega
    · exact (ClosedOff.eq (off := _)).trans (vec1 (by omega))
    · exact (ClosedOff.eq (off := _)).trans (vec3 (by omega))
    · exact rfl
    iintro HF
  rw [wp_pure]
  imodintro
  try dsimp only
  iterate 5
    rw [wp_bind]
    first | rw [k0_part46_eq_skeleton, k0_part46_skel] | rw [k0_part47_eq_skeleton, k0_part47_skel] | rw [k0_part48_eq_skeleton, k0_part48_skel] | rw [k0_part49_eq_skeleton, k0_part49_skel] | rw [k0_part50_eq_skeleton, k0_part50_skel]
    try dsimp only
    rw [wp_pure]
    imodintro
    try dsimp only
  rw [wp_bind, k0_part51_eq_skeleton, k0_part51_skel]
  dsimp only
  iapply (wp_rows c tb y (b := (i 0).val) (by rw [k0_off521_eq]; rfl) rfl) $$ H0
  iintro H0
  iapply (wp_look c tb y qt ?_ ?_ ?_ ?_) $$ HF
  rotate_right 1
  · exact chk_of _ (hg _).1 (hg _).2
  · omega
  · omega
  · exact (ClosedOff.eq (off := _)).trans (vec1 (by omega))
  iintro HF
  dsimp only
  iapply (wp_send c tb y qt hg ?_ ?_ ?_ ?_) $$ HF
  · omega
  · exact (ClosedOff.eq (off := _)).trans (vec1 (by omega))
  · exact (ClosedOff.eq (off := _)).trans (vec3 (by omega))
  · exact rfl
  iintro HF
  iapply (wp_look c tb y qt ?_ ?_ ?_ ?_) $$ HF
  rotate_right 1
  · exact chk_of _ (hg _).1 (hg _).2
  · omega
  · omega
  · exact (ClosedOff.eq (off := _)).trans (vec1 (by omega))
  iintro HF
  dsimp only
  rw [wp_pure]
  imodintro
  try dsimp only
  iterate 9
    rw [wp_bind]
    first | rw [k0_part52_eq_skeleton, k0_part52_skel] | rw [k0_part53_eq_skeleton, k0_part53_skel] | rw [k0_part54_eq_skeleton, k0_part54_skel] | rw [k0_part55_eq_skeleton, k0_part55_skel] | rw [k0_part56_eq_skeleton, k0_part56_skel] | rw [k0_part57_eq_skeleton, k0_part57_skel] | rw [k0_part58_eq_skeleton, k0_part58_skel] | rw [k0_part59_eq_skeleton, k0_part59_skel] | rw [k0_part60_eq_skeleton, k0_part60_skel]
    dsimp only
    iterate 4
      iapply (wp_send c tb y qt hg ?_ ?_ ?_ ?_) $$ HF
      · omega
      · exact (ClosedOff.eq (off := _)).trans (vec1 (by omega))
      · exact (ClosedOff.eq (off := _)).trans (vec3 (by omega))
      · exact rfl
      iintro HF
      iapply (wp_look c tb y qt ?_ ?_ ?_ ?_) $$ HF
      rotate_right 1
      · exact chk_of _ (hg _).1 (hg _).2
      · omega
      · omega
      · exact (ClosedOff.eq (off := _)).trans (vec1 (by omega))
      iintro HF
      dsimp only
    rw [wp_pure]
    imodintro
    try dsimp only
  rw [wp_pure]
  imodintro
  try dsimp only
  unfold accAt accVal acc2 acc1 acc0 wgt0 wgt1 wgt2 wgt4 wgt5 wgt6 wgt8 wgt9 wgt10
  dsimp only [rdS, rdG, rdB]
  iapply Hk $$ [] HF H1 H0 H3 HO
  ipureintro
  rfl

end Cert.Proof.Run
-- ==== Proof.Point.lean ====
module

public import proofs.«01_k».proof.Proof.Body

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx

variable {F : FTy → Type} [FloatOps F]
local notation "𝕄" => MT nD τ sig Unit (Elt F) ℕ (UU nD τ) ℕ

variable (c : Dev nD) (tb : Tb F c) (y : Yb F c) (qt : PosShare TreeShare)

/-- The output block after the point's store. -/
abbrev stored (M : Memref sig .tc .vmem S256x1024 .f32) (f : Buf (Elt F) (M.view.loc (c : Thread nD τ))) (w : Vec F S256x1024 .f32) : Buf (Elt F) (M.view.loc (c : Thread nD τ)) :=
  (M.access (Rect.unit (s := S256x1024) ![0, 0] S256x1024.size inb_S256x1024_S256x1024_0_0)).write (Elt F) f w Finset.univ

set_option maxHeartbeats 0 in
/-- One grid point of the call: from the slots' state before it to the state after it, the windows' contents kept and the
    output block stored. -/
theorem point_run (hg : GoodTab tb) (i : grid0.Coords) (M3 h3 M4 h4 M5 h5 M6 h6 M7 h7 M8 h8 M9 h9 M10 h10 M11 h11)
    (f3 : Buf (Elt F) (M3.view.loc (c : Thread nD τ))) (f4 : Buf (Elt F) (M4.view.loc (c : Thread nD τ)))
    (f5 : Buf (Elt F) (M5.view.loc (c : Thread nD τ))) (f6 : Buf (Elt F) (M6.view.loc (c : Thread nD τ)))
    (f7 : Buf (Elt F) (M7.view.loc (c : Thread nD τ))) (f8 : Buf (Elt F) (M8.view.loc (c : Thread nD τ)))
    (f9 : Buf (Elt F) (M9.view.loc (c : Thread nD τ))) (f10 : Buf (Elt F) (M10.view.loc (c : Thread nD τ)))
    (f11 : Buf (Elt F) (M11.view.loc (c : Thread nD τ))) (W : Waits sig Unit) (Q : PUnit → sProp 𝕄) :
    iprop(shared c tb y qt ∗ ringState c tb y (i 0).val ∗ pt c M3 f3 ∗ pt c M4 f4 ∗ pt c M5 f5 ∗ pt c M6 f6 ∗ pt c M7 f7 ∗ pt c M8 f8
        ∗ pt c M9 f9 ∗ pt c M10 f10 ∗ pt c M11 f11 ∗ owes (c : Thread nD τ) 0 W)
      ⊢ iprop((iprop(shared c tb y qt ∗ ringState c tb y ((i 0).val + 1) ∗ pt c M3 f3 ∗ pt c M4 f4 ∗ pt c M5 f5 ∗ pt c M6 f6 ∗ pt c M7 f7 ∗ pt c M8 f8
            ∗ pt c M9 f9 ∗ pt c M10 f10
            ∗ pt c M11 (stored c M11 f11 (outVal (accAt c tb y i M3 f3) (rdAll M5 c f5 ![0, 0] inb_S256x1024_S256x1024_0_0) (rdAll M6 c f6 ![0, 0] inb_S1024x256_S1024x256_0_0)
                (rdAll M7 c f7 ![0, 0] inb_S1024x256_S1024x256_0_0) (rdAll M8 c f8 ![0, 0] inb_S256x1024_S256x1024_0_0) (rdAll M4 c f4 ![0, 0] inb_S256x1024_S256x1024_0_0)
                (rdAll M9 c f9 ![0, 0] inb_S1x1024_S1x1024_0_0) (rdAll M10 c f10 ![0, 0] inb_S1x1024_S1x1024_0_0)))
            ∗ ∃ W, owes (c : Thread nD τ) 0 W) -∗ Q ⟨⟩)
        -∗ wp frame (wpE (defs₀ (F := F)) Variants.none c none) Set.univ
          (cc0_combine_skel i tabR (Memref.isWhole_whole _) yR (Memref.isWhole_whole _) M3 h3 M4 h4 M5 h5 M6 h6 M7 h7 M8 h8 M9 h9 M10 h10 M11 h11 ringR (Memref.isWhole_whole _) cc0_scratch1) Q) := by
  have hi : (i 0).val < 256 := (i 0).isLt
  iintro ⟨HS, HR, H3, H4, H5, H6, H7, H8, H9, H10, H11, HO⟩ Hk
  unfold cc0_combine_skel
  rw [wp_bind, k0_part69_eq_skeleton]
  iapply (head_run c tb y qt hg i M3 h3 M4 h4 M5 h5 M6 h6 M7 h7 M8 h8 M9 h9 M10 h10 M11 h11 f3 W) $$ [HS HR H3 HO]
  · isplitl [HS]; · iexact HS
    isplitl [HR]; · iexact HR
    isplitl [H3]; · iexact H3
    iexact HO
  iintro %v %w %hw %hv HF H1 H0 H3 ⟨%W', HO⟩
  subst hv
  dsimp only
  iterate 6
    rw [wp_bind]
    first | rw [k0_part61_eq_skeleton, k0_part61_skel] | rw [k0_part62_eq_skeleton, k0_part62_skel] | rw [k0_part63_eq_skeleton, k0_part63_skel] | rw [k0_part64_eq_skeleton, k0_part64_skel] | rw [k0_part65_eq_skeleton, k0_part65_skel] | rw [k0_part66_eq_skeleton, k0_part66_skel]
    dsimp only
    iterate 4
      iapply (wp_send c tb y qt hg ?_ ?_ ?_ ?_) $$ HF
      · omega
      · exact (ClosedOff.eq (off := _)).trans (vec1 (by omega))
      · exact (ClosedOff.eq (off := _)).trans (vec3 (by omega))
      · exact rfl
      iintro HF
      iapply (wp_look c tb y qt ?_ ?_ ?_ ?_) $$ HF
      rotate_right 1
      · exact chk_of _ (hg _).1 (hg _).2
      · omega
      · omega
      · exact (ClosedOff.eq (off := _)).trans (vec1 (by omega))
      iintro HF
      dsimp only
    rw [wp_pure]
    imodintro
    dsimp only
  rw [wp_bind, k0_part67_eq_skeleton, k0_part67_skel]
  dsimp only
  iapply (wp_send c tb y qt hg ?_ ?_ ?_ ?_) $$ HF
  · omega
  · exact (ClosedOff.eq (off := _)).trans (vec1 (by omega))
  · exact (ClosedOff.eq (off := _)).trans (vec3 (by omega))
  · exact rfl
  iintro HF
  iterate 2
    iapply (wp_look c tb y qt ?_ ?_ ?_ ?_) $$ HF
    rotate_right 1
    · exact chk_of _ (hg _).1 (hg _).2
    · omega
    · omega
    · exact (ClosedOff.eq (off := _)).trans (vec1 (by omega))
    iintro HF
    dsimp only
    iapply (wp_send c tb y qt hg ?_ ?_ ?_ ?_) $$ HF
    · omega
    · exact (ClosedOff.eq (off := _)).trans (vec1 (by omega))
    · exact (ClosedOff.eq (off := _)).trans (vec3 (by omega))
    · exact rfl
    iintro HF
  iapply (wp_get c) $$ H5
  iintro H5
  iapply (wp_get c) $$ H6
  iintro H6
  iapply (wp_get c) $$ H7
  iintro H7
  rw [wp_pure]
  imodintro
  dsimp only
  rw [wp_bind, k0_part68_eq_skeleton, k0_part68_skel]
  dsimp only
  iapply (wp_get c) $$ H8
  iintro H8
  iapply (wp_get c) $$ H4
  iintro H4
  iapply (wp_get c) $$ H9
  iintro H9
  iapply (wp_get c) $$ H10
  iintro H10
  iapply (wp_get c) $$ H11
  iintro H11
  iapply (wp_put c) $$ H11
  iintro H11
  rw [wp_pure]
  imodintro
  unfold filling
  icases HF with ⟨HS, H2⟩
  by_cases h : k0_cond2 i = 1#1
  · have h0 := (cond2_iff i).mp h
    rw [dif_pos h]
    iapply (wp_arrive c tb y (b := (i 0).val + 1) (k0_off778_eq i 0)) $$ [H1 HO]
    · isplitl [H1]; · iexact H1
      iexact HO
    iintro ⟨H1, ⟨%W2, HO⟩⟩
    iapply (wp_arrive c tb y (b := (i 0).val + 2) (k0_off778_eq i 1)) $$ [H2 HO]
    · isplitl [H2]; · iexact H2
      iexact HO
    iintro ⟨H2, HO⟩
    rw [wp_pure]
    imodintro
    iapply Hk
    isplitl [HS]; · iexact HS
    isplitl [H1 H2 H0]
    · iapply (ringState_end c tb y (i 0).val (by omega))
      isplitl [H1]; · iexact H1
      isplitl [H2]; · iexact H2
      iexact H0
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact HO
  · have h0 : (i 0).val ≠ 255 := fun e => h ((cond2_iff i).mpr e)
    rw [dif_neg h, wp_pure]
    imodintro
    iapply Hk
    isplitl [HS]; · iexact HS
    isplitl [H1 H2 H0]
    · iapply (ringState_next c tb y (i 0).val (by omega))
      isplitl [H1]; · iexact H1
      isplitl [H2]; · iexact H2
      iexact H0
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists _
    iexact HO

end Cert.Proof.Run
-- ==== Proof.Main.lean ====
module

public import proofs.«01_k».proof.Proof.Point
public import Idealize.ShloMosaic.Lib.VecWindow
public import Idealize.ShloMosaic.Lib.Pipeline.FrameBody
public import proofs.«01_k».proof.Proof.Gen.KernelIdeal.Launch
public import Idealize.ShloMosaic.Lib.Pipeline.Regions

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx
open Idealize.ShloMosaic.Pipeline (Dat Cfg Window BodyObligation cellOf)

variable {F : FTy → Type} [FloatOps F]
local notation "𝕄" => MT nD τ sig Unit (Elt F) ℕ (UU nD τ) ℕ

/-! ## A grid point in the windows' contents -/

section Point
variable (c : Dev nD) (tb : Tb F c) (y : Yb F c) (qt : PosShare TreeShare)

/-- The slot rows of a block of slots and gates, and one of its gate rows. -/
abbrev slotRows (X : S16x256.Idx → Elt F .f32) : Vec F S8x256 .f32 :=
  fun x => X ((Rect.unit (s := S16x256) ![0, 0] S8x256.size inb_S16x256_S8x256_0_0).toLoadRect.idx x)
abbrev gateRow (X : S16x256.Idx → Elt F .f32) (off : Fin 2 → ℕ) (h : ∀ a, off a + S1x256.size a ≤ S16x256.size a) : Vec F S1x256 .f32 :=
  fun x => X ((Rect.unit (s := S16x256) off S1x256.size h).toLoadRect.idx x)

/-- What grid point `i` leaves in the output's block, of the contents of its input blocks. -/
def outOf (i : grid0.Coords) (X3 : S16x256.Idx → Elt F .f32) (X4 : S256x1024.Idx → Elt F .f32) (X5 : S256x1024.Idx → Elt F .bf16)
    (X6 X7 : S1024x256.Idx → Elt F .bf16) (X8 : S256x1024.Idx → Elt F .bf16) (X9 X10 : S1x1024.Idx → Elt F .f32) : Vec F S256x1024 .f32 :=
  outVal (accVal (slotRows X3) (gateRow X3 ![8, 0] inb_S16x256_S1x256_8_0) (gateRow X3 ![9, 0] inb_S16x256_S1x256_9_0)
      (gateRow X3 ![10, 0] inb_S16x256_S1x256_10_0) (gateRow X3 ![11, 0] inb_S16x256_S1x256_11_0) (gateRow X3 ![12, 0] inb_S16x256_S1x256_12_0)
      (gateRow X3 ![13, 0] inb_S16x256_S1x256_13_0) (gateRow X3 ![14, 0] inb_S16x256_S1x256_14_0) (gateRow X3 ![15, 0] inb_S16x256_S1x256_15_0)
      (rdB c (landed tb y (i 0).val) (k0_off7 i) (k0_off7_inb i)) (rdB c (landed tb y (i 0).val) (k0_off264 i) (k0_off264_inb i))
      (rdB c (landed tb y (i 0).val) (k0_off521 i) (k0_off521_inb i)))
    X5 X6 X7 X8 X4 X9 X10

omit [FloatOps F] in
/-- A whole buffer held at what it reads. -/
theorem owns_pt {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns
  rw [h.set_eq_univ]

/-- The output block reads what the point stored. -/
theorem read_stored (M : Memref sig .tc .vmem S256x1024 .f32) (f : Buf (Elt F) (M.view.loc (c : Thread nD τ))) (w : Vec F S256x1024 .f32) :
    M.view.read (Elt F) (stored c M f w) = w :=
  View.read_writes_full M.view f inb_S256x1024_S256x1024_0_0 w []

/-- `point_run` on windows held at what they read. -/
theorem point_owns (hg : GoodTab tb) (i : grid0.Coords) (M3 h3 M4 h4 M5 h5 M6 h6 M7 h7 M8 h8 M9 h9 M10 h10 M11 h11)
    (X3 : S16x256.Idx → Elt F .f32) (X4 : S256x1024.Idx → Elt F .f32) (X5 : S256x1024.Idx → Elt F .bf16)
    (X6 X7 : S1024x256.Idx → Elt F .bf16) (X8 : S256x1024.Idx → Elt F .bf16) (X9 X10 : S1x1024.Idx → Elt F .f32) (X11 : S256x1024.Idx → Elt F .f32)
    (W : Waits sig Unit) (Q : PUnit → sProp 𝕄) :
    iprop(shared c tb y qt ∗ ringState c tb y (i 0).val ∗ owns c M3 fullShare X3 ∗ owns c M4 fullShare X4 ∗ owns c M5 fullShare X5
        ∗ owns c M6 fullShare X6 ∗ owns c M7 fullShare X7 ∗ owns c M8 fullShare X8 ∗ owns c M9 fullShare X9 ∗ owns c M10 fullShare X10
        ∗ owns c M11 fullShare X11 ∗ owes (c : Thread nD τ) 0 W)
      ⊢ iprop((iprop(shared c tb y qt ∗ ringState c tb y ((i 0).val + 1) ∗ owns c M3 fullShare X3 ∗ owns c M4 fullShare X4 ∗ owns c M5 fullShare X5
            ∗ owns c M6 fullShare X6 ∗ owns c M7 fullShare X7 ∗ owns c M8 fullShare X8 ∗ owns c M9 fullShare X9 ∗ owns c M10 fullShare X10
            ∗ owns c M11 fullShare (outOf c tb y i X3 X4 X5 X6 X7 X8 X9 X10)
            ∗ ∃ W, owes (c : Thread nD τ) 0 W) -∗ Q ⟨⟩)
        -∗ wp frame (wpE (defs₀ (F := F)) Variants.none c none) Set.univ
          (cc0_combine_skel i tabR (Memref.isWhole_whole _) yR (Memref.isWhole_whole _) M3 h3 M4 h4 M5 h5 M6 h6 M7 h7 M8 h8 M9 h9 M10 h10 M11 h11 ringR (Memref.isWhole_whole _) cc0_scratch1) Q) := by
  rw [owns_pt c M3 h3, owns_pt c M4 h4, owns_pt c M5 h5, owns_pt c M6 h6, owns_pt c M7 h7, owns_pt c M8 h8, owns_pt c M9 h9, owns_pt c M10 h10,
    owns_pt c M11 h11, owns_pt c M11 h11]
  iintro ⟨HS, HR, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, HO⟩ Hk
  iapply (point_run c tb y qt hg i M3 h3 M4 h4 M5 h5 M6 h6 M7 h7 M8 h8 M9 h9 M10 h10 M11 h11 f3 f4 f5 f6 f7 f8 f9 f10 f11 W Q) $$ [HS HR H3 H4 H5 H6 H7 H8 H9 H10 H11 HO]
  · isplitl [HS]; · iexact HS
    isplitl [HR]; · iexact HR
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact HO
  iintro ⟨HS, HR, H3, H4, H5, H6, H7, H8, H9, H10, H11, HO⟩
  iapply Hk
  isplitl [HS]; · iexact HS
  isplitl [HR]; · iexact HR
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  isplitl [H9]
  · iexists f9; isplitr; · ipureintro; exact e9
    iexact H9
  isplitl [H10]
  · iexists f10; isplitr; · ipureintro; exact e10
    iexact H10
  isplitl [H11]
  · iexists _; isplitr; swap; · iexact H11
    ipureintro
    rw [read_stored]
    subst e3 e4 e5 e6 e7 e8 e9 e10
    unfold outOf accAt
    have a5 := View.readAt_full M5.view f5 inb_S256x1024_S256x1024_0_0
    have a6 := View.readAt_full M6.view f6 inb_S1024x256_S1024x256_0_0
    have a7 := View.readAt_full M7.view f7 inb_S1024x256_S1024x256_0_0
    have a8 := View.readAt_full M8.view f8 inb_S256x1024_S256x1024_0_0
    have a4 := View.readAt_full M4.view f4 inb_S256x1024_S256x1024_0_0
    have a9 := View.readAt_full M9.view f9 inb_S1x1024_S1x1024_0_0
    have a10 := View.readAt_full M10.view f10 inb_S1x1024_S1x1024_0_0
    unfold rdAll
    rw [a5, a6, a7, a8, a4, a9, a10]
    rfl
  iexact HO

end Point

/-! ## @main before the call: thirteen host operations -/

/-- The pipeline library's algebra is the left component of the certificate's. -/
abbrev EP : Emb (UR sig nD τ) (MT nD τ sig Unit (Elt F) ℕ (UU nD τ) ℕ) := embL

variable (m : (ℓ : Loc nD τ sig) → Buf (Elt F) ℓ) (ρ : Dev nD → PrngReg)

/-- The launch state: memory `m`, every counter zero. -/
abbrev s₀ : MemSt nD τ sig (Elt F) := ⟨m, fun _ => 0, ρ⟩

/-- Core `c`'s buffers at launch, as the operations' valuation; -/
abbrev V₀ (c : Dev nD) : Valuation τ sig (Elt F) := fun b => m ((c : Dev nD), b)
/-- and when the call is entered: the host operations have run. -/
abbrev V (c : Dev nD) (b : Ref sig .tc) : Buf (Elt F) ((c : Thread nD τ).loc b) := StableHlo.after hostOps0 (V₀ m c) b

/-- The buffers the host operations write. -/
def written : List (Ref sig .tc) := [main_v0, main_v1, main_v2, main_v3, main_v4, main_v5, main_v6, main_v7, main_v8, main_v9, main_v10, main_v11, main_v12]

/-- No host operation writes another buffer. -/
theorem not_written (b : Ref sig .tc) (hb : ∀ r ∈ written, b ≠ r) : ∀ op ∈ (hostOps0 (F := F)), Proc.devRef .tc b ∉ op.writes := by
  simp only [written, List.forall_mem_cons, List.not_mem_nil, false_implies, implies_true, _root_.and_true] at hb
  obtain ⟨h0, h1, h2, h3, h4, h5, h6, h7, h8, h9, h10, h11, h12⟩ := hb
  intro op hop
  simp only [List.mem_cons, List.mem_nil_iff, _root_.or_false] at hop
  rcases hop with rfl | rfl | rfl | rfl | rfl | rfl | rfl | rfl | rfl | rfl | rfl | rfl | rfl <;>
    simp only [StableHlo.unary_writes, StableHlo.binary_writes, StableHlo.reshape_writes, Finset.mem_singleton] <;>
    exact StableHlo.devRef_ne_of_ne ‹_›

/-- So each argument reaches the call as launched. -/
theorem V_kept (c : Dev nD) (b : Ref sig .tc) (hb : ∀ r ∈ written, b ≠ r) : V m c b = m ((c : Thread nD τ).loc b) :=
  StableHlo.after_of_forall_not_mem (b := Proc.devRef .tc b) hostOps0 (V₀ m c) (not_written b hb)

/-- The TensorCore's unscoped references, as device buffers: the set the host operations run within. -/
def ucRefs : Finset (DevRef τ sig) := (StableHlo.tcRefs τ sig).filter fun b => ¬ b.isScoped

omit [FloatOps F] in
/-- The launch's unscoped buffers at a valuation are that set held at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
/-- A host operation names no scoped buffer. -/
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-! ## The call's proof data -/

/-- The table and the sorted outputs as launched. -/
abbrev tbl (c : Dev nD) : Tb F c := m ((c : Thread nD τ).loc main_arg0)
abbrev ys (c : Dev nD) : Yb F c := m ((c : Thread nD τ).loc main_arg1)

/-- The prefetched table's contents. -/
def adm (p : Fin 1) : (pcfgs (F := F) p).Adm := ⟨fun k => V m (0 : Dev nD) (pre0.ref k), trivial⟩

/-- Window `w`'s block at point `t`, of its array at the call's entry. -/
abbrev stg (c : Dev nD) (w : Fin 9) (t : Fin 256) : (spec0 w).block.Idx → Elt F (spec0 w).elt :=
  (((cfg0 (adm m 0)).win w).blk t).view.read (Elt F) (V m c (Pipeline.arrRef spec0 w))

/-- What point `t` leaves in the output's block. -/
abbrev outAt (c : Dev nD) (t : Fin 256) : Vec F S256x1024 .f32 :=
  outOf c (tbl m c) (ys m c) (grid0.coords t) (stg m c 0 t) (stg m c 1 t) (stg m c 2 t) (stg m c 3 t) (stg m c 4 t) (stg m c 5 t) (stg m c 6 t) (stg m c 7 t)

/-- The proof data on core `c`: the arrays at their entry contents; after the body an input's block as fetched, the
    output's as computed; the table, the rows and the ring between points; nothing owed; full shares. -/
def dats (p : Fin 1) (c : Dev nD) : Dat τ (Elt F) Unit ℕ (UU nD τ) ℕ (Pipeline.pin (pcfgs (F := F)) (adm m) p) c where
  A w := V m c (Pipeline.arrRef spec0 w)
  after w t := match w with
    | ⟨0, _⟩ => stg m c 0 t
    | ⟨1, _⟩ => stg m c 1 t
    | ⟨2, _⟩ => stg m c 2 t
    | ⟨3, _⟩ => stg m c 3 t
    | ⟨4, _⟩ => stg m c 4 t
    | ⟨5, _⟩ => stg m c 5 t
    | ⟨6, _⟩ => stg m c 6 t
    | ⟨7, _⟩ => stg m c 7 t
    | ⟨8, _⟩ => outAt m c t
  Φ t := iprop(shared c (tbl m c) (ys m c) fullShare ∗ ringState c (tbl m c) (ys m c) t.val)
  q _ := fullShare
  owed _ := 0

/-- The proof data's entry contents. -/
theorem A_eq (c : Dev nD) (w : Fin 9) : (dats m 0 c).A w = V m c (Pipeline.arrRef spec0 w) := by
  dsimp only [dats]

/-- A point's coordinate is its number. -/
theorem coords_val : ∀ t : Fin grid0.N, ((grid0.coords t) 0).val = t.val := by decide +kernel

/-- An input's buffer holds its block when the body runs. -/
theorem before_in (c : Dev nD) (w : Fin 9) (hw : w ≠ 8) (t : Fin 256) (d) : (dats m 0 c).before w t d = stg m c w t := by
  fin_cases w <;> first
    | exact absurd rfl hw
    | exact ((dats m 0 c).before_in_eq_fetched _ rfl (fun _ => rfl) (fun _ _ _ => rfl) (fun _ => rfl) t d).trans rfl

/-- The memref window `w` is in at point `t`. -/
abbrev stgM (w : Fin 9) (t : Fin 256) :=
  ((cfg0 (adm m 0)).win w).stage ((cfg0 (adm m 0)).slots t w)

/-- The library's body obligation: `point_owns` at each point. -/
theorem bodyObligation (hg : ∀ c : Dev nD, GoodTab (tbl m c)) (c : Dev nD) : BodyObligation (dats m 0 c) (defs₀ (F := F)) Variants.none () Set.univ := fun t => by
  rw [bigSep_W0, bigSep_W0]
  have hz : (((grid0.coords t) 0 : Fin _) : ℕ) = t.val := coords_val t
  dsimp only
  rw [show (dats m 0 c).Φ t.castSucc = iprop(shared c (tbl m c) (ys m c) fullShare ∗ ringState c (tbl m c) (ys m c) ((grid0.coords t) 0).val) by rw [hz]; rfl,
    show (dats m 0 c).Φ t.succ = iprop(shared c (tbl m c) (ys m c) fullShare ∗ ringState c (tbl m c) (ys m c) (((grid0.coords t) 0).val + 1)) by rw [hz]; rfl]
  unfold Dat.owesAt Pipeline.owesWithin
  rw [show (dats m 0 c).owed t.castSucc = 0 from rfl, show (dats m 0 c).owed t.succ = 0 from rfl]
  iintro ⟨⟨HS, HR⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before_in m c 0 (by decide) t d0, before_in m c 1 (by decide) t d1, before_in m c 2 (by decide) t d2, before_in m c 3 (by decide) t d3,
    before_in m c 4 (by decide) t d4, before_in m c 5 (by decide) t d5, before_in m c 6 (by decide) t d6, before_in m c 7 (by decide) t d7]
  iapply (point_owns c (tbl m c) (ys m c) fullShare (hg c) (grid0.coords t) (stgM m 0 t) (stage_whole0 0 _) (stgM m 1 t) (stage_whole0 1 _)
    (stgM m 2 t) (stage_whole0 2 _) (stgM m 3 t) (stage_whole0 3 _) (stgM m 4 t) (stage_whole0 4 _) (stgM m 5 t) (stage_whole0 5 _)
    (stgM m 6 t) (stage_whole0 6 _) (stgM m 7 t) (stage_whole0 7 _) (stgM m 8 t) (stage_whole0 8 _)
    (stg m c 0 t) (stg m c 1 t) (stg m c 2 t) (stg m c 3 t) (stg m c 4 t) (stg m c 5 t) (stg m c 6 t) (stg m c 7 t) _ W) $$ [HS HR H0 H1 H2 H3 H4 H5 H6 H7 H8 HO]
  · isplitl [HS]; · iexact HS
    isplitl [HR]; · iexact HR
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HO
  iintro ⟨HS, HR, H0, H1, H2, H3, H4, H5, H6, H7, H8, ⟨%W', HO⟩⟩
  isplitl [HS HR]
  · isplitl [HS]; · iexact HS
    iexact HR
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The ring at the call's two ends -/

/-- The three semaphores of the ring. -/
abbrev osem : Fin 3 → SemLoc sig := fun k => .dma (semOf k.val k.isLt)

abbrev sems0 (c : Dev nD) : sProp 𝕄 :=
  iprop(semVal ((c : Thread nD τ), osem 0) 0 ∗ semVal ((c : Thread nD τ), osem 1) 0 ∗ semVal ((c : Thread nD τ), osem 2) 0)

abbrev tailSet : Finset S3x3072x1024.Idx := slotSet 1 ∪ slotSet 2

/-- The ring is its three slots. -/
theorem slots_univ : (Finset.univ : Finset S3x3072x1024.Idx) = slotSet 0 ∪ tailSet := by
  ext p
  have : (p 0).val < 3 := (p 0).isLt
  simp only [tailSet, slotSet, Finset.mem_union, Finset.mem_filter, Finset.mem_univ, true_and, true_iff]
  omega

/-- Two slots are disjoint. -/
theorem slots_disj {s t : ℕ} (h : s ≠ t) : Disjoint (slotSet s) (slotSet t) :=
  Finset.disjoint_filter.mpr fun _ _ a b => h (a.symm.trans b)

/-- Slot 0 and the other two are disjoint. -/
theorem tail_disj : Disjoint (slotSet 0) tailSet :=
  Finset.disjoint_union_right.mpr ⟨slots_disj (by decide), slots_disj (by decide)⟩

/-- The ring's buffer and its semaphores are the three free slots; -/
theorem idle_start (c : Dev nD) : iprop((∃ f : Sb F c, ringR.view.loc (c : Thread nD τ) ↦{fullShare} f) ∗ sems0 c) ⊢ (idle c : sProp 𝕄) := by
  unfold idle free
  iintro ⟨⟨%f, Hr⟩, H0, H1, H2⟩
  ihave Hr := (Entails.of_eq (congrArg (fun S => (ringR.view.loc (c : Thread nD τ) ↦[S]{fullShare} f : sProp 𝕄)) slots_univ)) $$ Hr
  ihave Hr := (pointsTo_union (ℓ := ringR.view.loc (c : Thread nD τ)) tail_disj).1 $$ Hr
  icases Hr with ⟨Ha, Hr⟩
  ihave Hr := (pointsTo_union (ℓ := ringR.view.loc (c : Thread nD τ)) (slots_disj (by decide))).1 $$ Hr
  icases Hr with ⟨Hb, Hc⟩
  isplitl [Ha H0]
  · isplitl [Ha]; · iexists f; iexact Ha
    iexact H0
  isplitl [Hb H1]
  · isplitl [Hb]; · iexists f; iexact Hb
    iexact H1
  isplitl [Hc]; · iexists f; iexact Hc
  iexact H2

/-- and back. -/
theorem idle_end (c : Dev nD) : (idle c : sProp 𝕄) ⊢ iprop((∃ f : Sb F c, ringR.view.loc (c : Thread nD τ) ↦{fullShare} f) ∗ sems0 c) := by
  unfold idle free
  iintro ⟨⟨⟨%f, Ha⟩, H0⟩, ⟨⟨%g, Hb⟩, H1⟩, ⟨⟨%h, Hc⟩, H2⟩⟩
  let k : Sb F c := fun (p : S3x3072x1024.Idx) => if (p 0).val = 0 then f p else if (p 0).val = 1 then g p else h p
  ihave Ha := (Entails.of_eq (pointsTo_congr (g := k) (fun (p : S3x3072x1024.Idx) hp => by
    have e : (p 0).val = 0 := (Finset.mem_filter.mp hp).2
    show f p = if (p 0).val = 0 then f p else if (p 0).val = 1 then g p else h p
    rw [if_pos e]))) $$ Ha
  ihave Hb := (Entails.of_eq (pointsTo_congr (g := k) (fun (p : S3x3072x1024.Idx) hp => by
    have e : (p 0).val = 1 := (Finset.mem_filter.mp hp).2
    show g p = if (p 0).val = 0 then f p else if (p 0).val = 1 then g p else h p
    rw [if_neg (by omega), if_pos e]))) $$ Hb
  ihave Hc := (Entails.of_eq (pointsTo_congr (g := k) (fun (p : S3x3072x1024.Idx) hp => by
    have e : (p 0).val = 2 := (Finset.mem_filter.mp hp).2
    show h p = if (p 0).val = 0 then f p else if (p 0).val = 1 then g p else h p
    rw [if_neg (by omega), if_neg (by omega)]))) $$ Hc
  isplitl [Ha Hb Hc]
  · iexists k
    iapply (Entails.of_eq (congrArg (fun S => (ringR.view.loc (c : Thread nD τ) ↦[S]{fullShare} k : sProp 𝕄)) slots_univ.symm))
    iapply (pointsTo_union (ℓ := ringR.view.loc (c : Thread nD τ)) tail_disj).2
    isplitl [Ha]; · iexact Ha
    iapply (pointsTo_union (ℓ := ringR.view.loc (c : Thread nD τ)) (slots_disj (by decide))).2
    isplitl [Hb]; · iexact Hb
    iexact Hc
  isplitl [H0]; · iexact H0
  isplitl [H1]; · iexact H1
  iexact H2

/-! ## The launch, by the library: @main as segments -/

/-- The call's own semaphores are no window's. -/
theorem ownSemFacts : Pipeline.OwnSemFacts spec0 osem := by decide

/-- The launch element: the pipeline library's; no counter yet. -/
def u₀ : UU nD τ := (initOf (Pipeline.cells (Pipeline.pin (pcfgs (F := F)) (adm m)) (cellOf_inj (adm m))) (Pipeline.launchToks (Pipeline.pin (pcfgs (F := F)) (adm m)) (cellOf_inj (adm m))), 1)

omit [FloatOps F] in
/-- The kernel's own cells at zero, listed. -/
theorem ownSems0_eq (c : Dev nD) :
    (Pipeline.ownSems0 (Ix := Unit) (Name := ℕ) (U := UU nD τ) (Lvl := ℕ) (Val := Elt F) (τ := τ) osem c : sProp 𝕄) = sems0 c :=
  Pipeline.ownSems0_eq_of_list c osem [0, 1, 2] (by decide) (by decide)

/-- An array's contents after the run, as the library computes them. -/
def finalA (c : Dev nD) (w : Fin 9) : Buf (Elt F) ((spec0 w).arr.view.loc (c : Thread nD τ)) := (dats m 0 c).arrAt w 256

/-- The arguments that are neither the table, the rows nor a window's array, as launched. -/
abbrev restArgs (c : Dev nD) : sProp 𝕄 :=
  iprop(((c : Thread nD τ).loc main_arg2 ↦{fullShare} m ((c : Thread nD τ).loc main_arg2)) ∗ ((c : Thread nD τ).loc main_arg3 ↦{fullShare} m ((c : Thread nD τ).loc main_arg3))
    ∗ ((c : Thread nD τ).loc main_arg5 ↦{fullShare} m ((c : Thread nD τ).loc main_arg5)) ∗ ((c : Thread nD τ).loc main_arg6 ↦{fullShare} m ((c : Thread nD τ).loc main_arg6))
    ∗ ((c : Thread nD τ).loc main_arg7 ↦{fullShare} m ((c : Thread nD τ).loc main_arg7)) ∗ ((c : Thread nD τ).loc main_arg8 ↦{fullShare} m ((c : Thread nD τ).loc main_arg8))
    ∗ ((c : Thread nD τ).loc main_arg9 ↦{fullShare} m ((c : Thread nD τ).loc main_arg9)))

/-- The arguments outside the windows in a final memory. -/
abbrev argsKept (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
  ∧ s.mem ((c : Thread nD τ).loc main_arg2) = m ((c : Thread nD τ).loc main_arg2) ∧ s.mem ((c : Thread nD τ).loc main_arg3) = m ((c : Thread nD τ).loc main_arg3)
  ∧ s.mem ((c : Thread nD τ).loc main_arg5) = m ((c : Thread nD τ).loc main_arg5) ∧ s.mem ((c : Thread nD τ).loc main_arg6) = m ((c : Thread nD τ).loc main_arg6)
  ∧ s.mem ((c : Thread nD τ).loc main_arg7) = m ((c : Thread nD τ).loc main_arg7) ∧ s.mem ((c : Thread nD τ).loc main_arg8) = m ((c : Thread nD τ).loc main_arg8)
  ∧ s.mem ((c : Thread nD τ).loc main_arg9) = m ((c : Thread nD τ).loc main_arg9)

/-- What a final memory holds: the windows' arrays at what the library computes, the other arguments as launched. -/
abbrev QY (c : Dev nD) (s : MemSt nD τ sig (Elt F)) : Prop :=
  (∀ w : Fin 9, s.mem ((spec0 w).arr.view.loc (c : Thread nD τ)) = finalA m c w) ∧ argsKept m c s

abbrev L : GSem nD τ sig → Finset Unit := fun _ => ∅
abbrev lv : GSem nD τ sig → Unit → ℕ := fun _ _ => 0

/-- What rides beside the buffers through the host operations: the core's `owes`. -/
abbrev R (c : Dev nD) : sProp 𝕄 := iprop(∃ W, owes (c : Thread nD τ) (0 : CellTallies nD τ sig Unit) W)

/-- The host segment: the operations over the unscoped buffers. -/
def seg0 : Pipeline.HostSeg (Name := ℕ) (U := UU nD τ) (pcfgs (F := F)) defs₀ Variants.none L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m) R

/-- What the call leaves for the end. -/
abbrev Tₙ (c : Dev nD) : sProp 𝕄 :=
  iprop((dats m 0 c).arrays ((dats m 0 c).arrAt · 256) ∗ shared c (tbl m c) (ys m c) fullShare ∗ restArgs m c)

omit [FloatOps F] in
/-- There is one device. -/
theorem dev_zero (c : Dev nD) : c = 0 := Subsingleton.elim _ _

/-- The one prefetched table, held whole. -/
theorem prefHeld_eq (c : Dev nD) (K : pre0.Contents (Elt F)) :
    (Pipeline.prefHeld pre0 c (fun _ => fullShare) K : sProp 𝕄) = ((c : Thread nD τ).loc main_arg0 ↦{fullShare} K 0) := by
  unfold Pipeline.prefHeld
  rw [bigSep_univ_eq_bigSepL [(0 : Fin 1)] (by decide) (by decide)]
  rfl

set_option backward.isDefEq.respectTransparency.types false in
/-- The call as a region of @main: entered from what the host operations left, the table, the rows and the ring into its
    invariant, the other arguments beside it; left with the arrays at their final contents. -/
def reg0 (hg : ∀ c : Dev nD, GoodTab (tbl m c)) : Pipeline.RegionSeg (pcfgs (F := F)) (adm m) (dats m) () defs₀ Variants.none L lv 0 where
  win := (launch0 (F := F)).win.to₀
  block_pos := (launch0 (F := F)).block_pos
  stage_whole := (launch0 (F := F)).stage_whole
  K := Fin 3
  osem := osem
  ho := ownSemFacts
  hbody c := (bodyObligation m hg c).loose
  hwaits := Pipeline.hwaits_of_owed_zero _ _ _ _ L lv 0 fun _ _ => rfl
  pre c := iprop(StableHlo.held (c : Thread nD τ) ucRefs (StableHlo.after hostOps0 (V₀ m c)) ∗ R c)
  post c := iprop(Tₙ m c ∗ R c)
  X c := iprop(((c : Thread nD τ).loc main_arg1 ↦{fullShare} ys m c) ∗ sems0 c)
  Y c := shared c (tbl m c) (ys m c) fullShare
  Z c := restArgs m c
  hentry c := by
    rw [show StableHlo.held (c : Thread nD τ) ucRefs (StableHlo.after hostOps0 (V₀ m c)) = unscopedBufs c (V m c) from (unscopedBufs_held c _).symm,
      ownSems0_eq]
    have hsplit := (Pipeline.arrays_of_unscopedBufs (pcfgs (F := F)) (adm m) (dats m) winFacts0 arr_whole0 c
      ((dats m 0 c).share_full fun _ => rfl) (V m c) (A_eq m c)).trans (sep_mono .rfl (Entails.of_eq
        ((Pipeline.unscopedRest_split preFacts0 c (V m c)).trans (by rw [unscopedRestP0_eq]))))
    rw [V_kept m c main_arg1 (by decide), V_kept m c main_arg2 (by decide), V_kept m c main_arg3 (by decide), V_kept m c main_arg5 (by decide),
      V_kept m c main_arg6 (by decide), V_kept m c main_arg7 (by decide), V_kept m c main_arg8 (by decide), V_kept m c main_arg9 (by decide)] at hsplit
    iintro ⟨⟨Hub, HO⟩, Hos, -⟩
    ihave H := hsplit $$ Hub
    icases H with ⟨Ha, Ht, H1, H2, H3, H5, H6, H7, H8, H9, -⟩
    imodintro
    isplitl [Ha]; · iexact Ha
    isplitl [Ht]
    · obtain rfl := dev_zero c
      iexact Ht
    isplitl [HO]
    · unfold Pipeline.Dat.owesAt Pipeline.owesWithin
      icases HO with ⟨%W, HO⟩; iexists W; isplitr; · ipureintro; exact fun _ _ => Or.inl trivial
      iexact HO
    isplitl [H1 Hos]
    · isplitl [H1]; · iexact H1
      iexact Hos
    isplitl [H2]; · iexact H2
    isplitl [H3]; · iexact H3
    isplitl [H5]; · iexact H5
    isplitl [H6]; · iexact H6
    isplitl [H7]; · iexact H7
    isplitl [H8]; · iexact H8
    iexact H9
  hin c := by
    have e : (ringState c (tbl m c) (ys m c) ((0 : Fin 257) : ℕ) : sProp 𝕄) = idle c := if_pos (Or.inl rfl)
    rw [show (dats m 0 c).Φ 0 = iprop(shared c (tbl m c) (ys m c) fullShare ∗ ringState c (tbl m c) (ys m c) ((0 : Fin 257) : ℕ)) from rfl, e, prefHeld_eq]
    have h0 : (adm m 0).1 0 = tbl m c := by
      obtain rfl := dev_zero c
      exact V_kept m 0 main_arg0 (by decide)
    iintro ⟨⟨H1, Hos⟩, Ht, Hr⟩
    ihave Hr := (Entails.of_eq (scopedRest0_eq (Ix := Unit) (Val := Elt F) (Name := ℕ) (U := UU nD τ) (Lvl := ℕ) c)) $$ Hr
    isplitl [H1 Ht]
    · unfold shared
      isplitl [Ht]
      · iapply (Entails.of_eq (congrArg (fun f => ((c : Thread nD τ).loc main_arg0 ↦{fullShare} f : sProp 𝕄)) h0))
        iexact Ht
      iexists fullShare
      iexact H1
    iapply (idle_start c)
    isplitl [Hr]; · iexact Hr
    iexact Hos
  hout c := by
    have e : (ringState c (tbl m c) (ys m c) ((Fin.last 256 : Fin 257) : ℕ) : sProp 𝕄) = idle c := if_pos (Or.inr le_rfl)
    rw [ownSems0_eq, show (dats m 0 c).Φ (Fin.last _) = iprop(shared c (tbl m c) (ys m c) fullShare ∗ ringState c (tbl m c) (ys m c) ((Fin.last 256 : Fin 257) : ℕ)) from rfl, e]
    iintro ⟨HS, Hi⟩
    ihave Hi := (idle_end c) $$ Hi
    icases Hi with ⟨Hr, Hos⟩
    isplitl [HS]; · iexact HS
    isplitl [Hos]; · iexact Hos
    iapply (Entails.of_eq (scopedRest0_eq (Ix := Unit) (Val := Elt F) (Name := ℕ) (U := UU nD τ) (Lvl := ℕ) c).symm)
    iexact Hr
  hexit c := by
    iintro ⟨Ha, HO, HY, HZ⟩
    imodintro
    isplitr [HO]
    · isplitl [Ha]; · iexact Ha
      isplitl [HY] <;> iassumption
    · unfold Pipeline.Dat.owesAt Pipeline.owesWithin
      icases HO with ⟨%W, -, HO⟩; iexists W; iexact HO

/-- @main as the list of the two. -/
abbrev segs (hg : ∀ c : Dev nD, GoodTab (tbl m c)) : List (Pipeline.Seg (pcfgs (F := F)) (adm m) (dats m) () defs₀ Variants.none L lv) := [.host (seg0 m), .region (reg0 m hg)]

set_option backward.isDefEq.respectTransparency.types false in
/-- At the compiled mesh, for any float values, from any memory with zero counters whose table is good: every weakly fair
    execution of @main terminates, and every final state has the windows' arrays at the computed contents, the other
    arguments unchanged and every semaphore counter at zero. -/
theorem run_main (hg : ∀ c : Dev nD, GoodTab (tbl m c)) :
    θ_run defs (onTc (τ := τ) (main (F := F))) (s₀ m ρ) (fun r => (∀ c : Dev nD, QY m c r.2) ∧ r.2.sem = fun _ => 0) :=
  Pipeline.θ_run_regions_kit_sems (pcfgs (F := F)) (adm m) (dats m) () (cellOf_inj (adm m)) EP defs₀ Variants.none L lv m ρ main (segs m hg)
    (fun c Q => by rw [main_segs (adm m) (dats m) () Variants.none L lv (seg0 m) (reg0 m hg) rfl c])
    (by simp only [Pipeline.Seg.pipes_host, Pipeline.Seg.pipes_region, Pipeline.Seg.pipes_nil]; decide) (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m c) from unscopedBufs_held c (V₀ m c)]
      iintro ⟨⟨Hh, -, HO, -, -, -⟩, -⟩
      imodintro
      isplitl [Hh]; · iexact Hh
      iexists ∅; iexact HO)
    (QY := QY m)
    (hfin := fun c s' => by
      dsimp only [Tₙ, restArgs]
      unfold shared
      iintro ⟨⟨Ha, ⟨H0, ⟨%q, H1⟩⟩, H2, H3, H5, H6, H7, H8, H9⟩, HSI⟩
      icombine HSI H0 gives %h0
      icombine HSI H1 gives %h1
      icombine HSI H2 gives %h2
      icombine HSI H3 gives %h3
      icombine HSI H5 gives %h5
      icombine HSI H6 gives %h6
      icombine HSI H7 gives %h7
      icombine HSI H8 gives %h8
      icombine HSI H9 gives %h9
      ihave Hr := (Pipeline.arrays_read (pcfgs (F := F)) (adm m) (dats m) arr_whole0 c ((dats m 0 c).share_full fun _ => rfl) _ s') $$ [Ha HSI]
      · isplitl [Ha] <;> iassumption
      icases Hr with ⟨%ha, HSI⟩
      imodintro
      isplitr
      · ipureintro
        exact ⟨ha, Buf.eq_of_forall_mem_univ h0, Buf.eq_of_forall_mem_univ h1, Buf.eq_of_forall_mem_univ h2, Buf.eq_of_forall_mem_univ h3, Buf.eq_of_forall_mem_univ h5,
          Buf.eq_of_forall_mem_univ h6, Buf.eq_of_forall_mem_univ h7, Buf.eq_of_forall_mem_univ h8, Buf.eq_of_forall_mem_univ h9⟩
      iexact HSI)
    (hQ := fun _ h hz => ⟨h, funext fun g => hz g (.inr (by revert g; decide))⟩)

end Cert.Proof.Run
-- ==== Proof.Range.lean ====
/- What the precondition says of the table of rows and of the slots. -/
module

public import proofs.«01_k».proof.Proof.Ring
public import proofs.«01_k».proof.Proof.Gen.Pre_in_range
public import Idealize.ShloMosaic.Lib.ReduceAll
public import Idealize.ShloMosaic.Lib.Pointwise.ElementwiseCore

@[expose] public section

noncomputable section

namespace Cert.Proof.Range

open Idealize.ShloMosaic
open Cert.Pre_in_range Cert.Pre_in_range.Gen

variable {F : FTy → Type} [FloatOps F]

instance : Subsingleton S_.Idx := ⟨fun a b => funext fun d => d.elim0⟩

variable {a0 : IVec S49536 32} {a1 : FVec F S851968x1024 .bf16} {a2 : IVec S8x65536 32} {a3 : FVec F S8x65536 .f32}
  {a4 : FVec F S65536x1024 .f32} {a5 a6 : FVec F S1x1024x256 .f32} {a7 : FVec F S1x256x1024 .f32} {a8 a9 : FVec F S1x1024 .f32}

/-- The bit for a table word: it is at least zero, at most the last chunk's first row, and a multiple of sixteen. -/
theorem split (h : Cert.Pre_in_range.fn (F := F) a0 a1 a2 a3 a4 a5 a6 a7 a8 a9 = fun _ => 1#1) :
    (∀ i, IntOp.cmpi .sge (a0 i) 0#32 = 1#1 ∧ IntOp.cmpi .sle (a0 i) 851952#32 = 1#1 ∧ fn_remainder (F := F) a0 (constantI S_ 32 16#32) i = 0#32)
    ∧ (∀ i, IntOp.cmpi .sge (a2 i) 0#32 = 1#1 ∧ IntOp.cmpi .slt (a2 i) 3072#32 = 1#1)
    ∧ ∀ i, Host.reduce IntOp.addi (extui 32 (cmpi .eq (broadcastInDim S8x8x65536 ![0, 1, 2] Facts.bcast_S8x1x65536_S8x8x65536_0_1_2 (broadcastInDim S8x1x65536 ![0, 2] Facts.bcast_S8x65536_S8x1x65536_0_2 a2))
          (broadcastInDim S8x8x65536 ![0, 1, 2] Facts.bcast_S1x8x65536_S8x8x65536_0_1_2 (broadcastInDim S1x8x65536 ![1, 2] Facts.bcast_S8x65536_S1x8x65536_1_2 a2))) Facts.natLt_1_32)
        (constantI S_ 32 0#32) Facts.reducesTo_S8x8x65536_S8x65536_d0 Facts.h_S_ i = 1#32 := by
  have h0 := congrFun h (Shape.Idx.first Facts.h_S_)
  dsimp only [Cert.Pre_in_range.fn, fn_part1] at h0
  obtain ⟨h1, h3⟩ := IntOp.andi_eq_one.1 h0
  obtain ⟨h1, h2⟩ := IntOp.andi_eq_one.1 h1
  have h1 := Host.reduce_andi_all _ _ _ _ _ h1
  have h2 := Host.reduce_andi_all _ _ _ _ _ h2
  have h3 := Host.reduce_andi_all _ _ _ _ _ h3
  refine ⟨fun i => ?_, fun i => ?_, fun i => ?_⟩
  · obtain ⟨ha, hc⟩ := IntOp.andi_eq_one.1 (h1 i)
    obtain ⟨ha, hb⟩ := IntOp.andi_eq_one.1 ha
    exact ⟨ha, hb, IntOp.cmpi_eq.1 hc⟩
  · exact IntOp.andi_eq_one.1 (h2 i)
  · exact IntOp.cmpi_eq.1 (h3 i)

/-- The sign correction of the remainder leaves a word below sixteen as it is. -/
theorem corrected (r : BitVec 32) (h : r.toNat < 16) :
    Scalar.select (IntOp.andi (IntOp.cmpi .ne (IntOp.cmpi .slt r 0#32) (IntOp.cmpi .slt 16#32 0#32)) (IntOp.cmpi .ne r 0#32)) (IntOp.addi r 16#32) r = r := by
  obtain ⟨n, hn, rfl⟩ : ∃ n, n < 16 ∧ r = BitVec.ofNat 32 n := ⟨r.toNat, h, by simp⟩
  revert n
  decide

/-- The remainder as the precondition spells it, on a word that is not negative, is zero only at the multiples of sixteen. -/
theorem dvd_of_rem {i : S49536.Idx} (hx : 2 * (a0 i).toNat < 2 ^ 32) (h : fn_remainder (F := F) a0 (constantI S_ 32 16#32) i = 0#32) :
    16 ∣ (a0 i).toNat := by
  have hr := IntOp.toNat_remsi .host hx 16 (by norm_num) (by norm_num)
  have hs : fn_remainder (F := F) a0 (constantI S_ 32 16#32) i = IntOp.remsi .host (a0 i) (BitVec.ofNat 32 16) :=
    corrected (IntOp.remsi .host (a0 i) (BitVec.ofNat 32 16)) (by rw [hr]; exact Nat.mod_lt _ (by norm_num))
  exact (IntOp.remsi_eq_zero_iff .host hx 16 (by norm_num) (by norm_num)).1 (hs.symm.trans h)

/-- A word that is at least zero, read signed and unsigned. -/
theorem toNat_of_sge {v : BitVec 32} (h : IntOp.cmpi .sge v 0#32 = 1#1) : 2 * v.toNat < 2 ^ 32 ∧ v.toInt = v.toNat := by
  have h2 := (Scalar.nonneg_iff v).1 h
  exact ⟨h2, BitVec.toInt_eq_toNat_of_lt h2⟩

/-- Under the precondition every word of the table names the first of sixteen rows, at a multiple of sixteen. -/
theorem word_good (h : Cert.Pre_in_range.fn (F := F) a0 a1 a2 a3 a4 a5 a6 a7 a8 a9 = fun _ => 1#1) (i : S49536.Idx) :
    (a0 i).toNat + 16 ≤ 851968 ∧ 16 ∣ (a0 i).toNat := by
  obtain ⟨ha, hb, hc⟩ := (split h).1 i
  obtain ⟨h2, hi⟩ := toNat_of_sge ha
  have hle := IntOp.cmpi_sle.1 hb
  rw [hi, show (851952#32 : BitVec 32).toInt = 851952 from by decide] at hle
  exact ⟨by omega, dvd_of_rem h2 hc⟩

/-- Under the precondition every slot is below the number of rows the ring's slot holds. -/
theorem slot_good (h : Cert.Pre_in_range.fn (F := F) a0 a1 a2 a3 a4 a5 a6 a7 a8 a9 = fun _ => 1#1) (i : S8x65536.Idx) :
    (a2 i).toNat < 3072 := by
  obtain ⟨ha, hb⟩ := (split h).2.1 i
  obtain ⟨h2, hi⟩ := toNat_of_sge ha
  have hlt := IntOp.cmpi_slt.1 hb
  rw [hi, show (3072#32 : BitVec 32).toInt = 3072 from by decide] at hlt
  omega

end Cert.Proof.Range
-- ==== Proof.Blocks.lean ====
/- The call's blocks at coordinates: what a point reads of each operand, and the result array from the points' blocks. -/
module

public import proofs.«01_k».proof.Proof.Main
public import Idealize.ShloMosaic.Lib.Pipeline.ValueKit
public import Idealize.ShloMosaic.Lib.Pointwise

@[expose] public section

noncomputable section

namespace Cert.Proof.Run

open Cert.KernelIdeal Cert.KernelIdeal.Gen
open Idealize.ShloMosaic Idealize.ShloMosaic.TcCoe

variable {F : FTy → Type} [FloatOps F]
variable (m : (ℓ : Loc nD τ sig) → Buf (Elt F) ℓ) (c : Dev nD)

/-- The index maps at a point: one column of blocks for the slots and gates, one row of blocks for the rows, the
    whole array for the weights. -/
theorem index_vals : ∀ t : Fin grid0.N, cc0_transform_1 (grid0.coords t) = ![0, t.val] ∧ cc0_transform_2 (grid0.coords t) = ![t.val, 0]
    ∧ cc0_transform_3 (grid0.coords t) = ![t.val, 0] ∧ cc0_transform_9 (grid0.coords t) = ![t.val, 0] := by decide +kernel

/-- Column `256 t + k` of the slots and gates. -/
theorem stg0_apply (t : Fin 256) (i : Fin 16) (k : Fin 256) (h : 256 * t.val + k.val < 65536) :
    stg m c 0 t (ix2 i k) = (V m c main_v11 : FVec F S16x65536 .f32) (ix2 i ⟨256 * t.val + k.val, h⟩) := by
  refine congrArg (V m c main_v11 : FVec F S16x65536 .f32) (funext fun a => Fin.ext ?_)
  have e := (index_vals t).1
  match a with
  | ⟨0, _⟩ => show cc0_transform_1 (grid0.coords t) 0 * 16 + 1 * i.val = i.val; rw [e]; show 0 * 16 + 1 * i.val = i.val; omega
  | ⟨1, _⟩ => show cc0_transform_1 (grid0.coords t) 1 * 256 + 1 * k.val = 256 * t.val + k.val; rw [e]; show t.val * 256 + 1 * k.val = 256 * t.val + k.val; omega

/-- Row `256 t + k` of the residual rows; -/
theorem stg1_apply (t : Fin 256) (k : Fin 256) (d : Fin 1024) (h : 256 * t.val + k.val < 65536) :
    stg m c 1 t (ix2 k d) = (V m c main_arg4 : FVec F S65536x1024 .f32) (ix2 ⟨256 * t.val + k.val, h⟩ d) := by
  refine congrArg (V m c main_arg4 : FVec F S65536x1024 .f32) (funext fun a => Fin.ext ?_)
  have e := (index_vals t).2.1
  match a with
  | ⟨0, _⟩ => show cc0_transform_2 (grid0.coords t) 0 * 256 + 1 * k.val = 256 * t.val + k.val; rw [e]; show t.val * 256 + 1 * k.val = 256 * t.val + k.val; omega
  | ⟨1, _⟩ => show cc0_transform_2 (grid0.coords t) 1 * 1024 + 1 * d.val = d.val; rw [e]; show 0 * 1024 + 1 * d.val = d.val; omega

/-- and of the rounded ones. -/
theorem stg2_apply (t : Fin 256) (k : Fin 256) (d : Fin 1024) (h : 256 * t.val + k.val < 65536) :
    stg m c 2 t (ix2 k d) = (V m c main_v12 : FVec F S65536x1024 .bf16) (ix2 ⟨256 * t.val + k.val, h⟩ d) := by
  refine congrArg (V m c main_v12 : FVec F S65536x1024 .bf16) (funext fun a => Fin.ext ?_)
  have e := (index_vals t).2.2.1
  match a with
  | ⟨0, _⟩ => show cc0_transform_3 (grid0.coords t) 0 * 256 + 1 * k.val = 256 * t.val + k.val; rw [e]; show t.val * 256 + 1 * k.val = 256 * t.val + k.val; omega
  | ⟨1, _⟩ => show cc0_transform_3 (grid0.coords t) 1 * 1024 + 1 * d.val = d.val; rw [e]; show 0 * 1024 + 1 * d.val = d.val; omega

/-- The weights are read whole. -/
theorem stg3_apply (t : Fin 256) (k : Fin 1024) (f : Fin 256) : stg m c 3 t (ix2 k f) = (V m c main_v1 : FVec F S1024x256 .bf16) (ix2 k f) := by
  refine congrArg (V m c main_v1 : FVec F S1024x256 .bf16) (funext fun a => Fin.ext ?_)
  match a with
  | ⟨0, _⟩ => show 0 * 1024 + 1 * k.val = k.val; omega
  | ⟨1, _⟩ => show 0 * 256 + 1 * f.val = f.val; omega
/-- The up matrix is read whole. -/
theorem stg4_apply (t : Fin 256) (k : Fin 1024) (f : Fin 256) : stg m c 4 t (ix2 k f) = (V m c main_v3 : FVec F S1024x256 .bf16) (ix2 k f) := by
  refine congrArg (V m c main_v3 : FVec F S1024x256 .bf16) (funext fun a => Fin.ext ?_)
  match a with
  | ⟨0, _⟩ => show 0 * 1024 + 1 * k.val = k.val; omega
  | ⟨1, _⟩ => show 0 * 256 + 1 * f.val = f.val; omega
/-- The down matrix is read whole. -/
theorem stg5_apply (t : Fin 256) (f : Fin 256) (d : Fin 1024) : stg m c 5 t (ix2 f d) = (V m c main_v5 : FVec F S256x1024 .bf16) (ix2 f d) := by
  refine congrArg (V m c main_v5 : FVec F S256x1024 .bf16) (funext fun a => Fin.ext ?_)
  match a with
  | ⟨0, _⟩ => show 0 * 256 + 1 * f.val = f.val; omega
  | ⟨1, _⟩ => show 0 * 1024 + 1 * d.val = d.val; omega
/-- The norm's scale is read whole. -/
theorem stg6_apply (t : Fin 256) (d : Fin 1024) : stg m c 6 t (ix2 0 d) = (V m c main_v7 : FVec F S1x1024 .f32) (ix2 0 d) := by
  refine congrArg (V m c main_v7 : FVec F S1x1024 .f32) (funext fun a => Fin.ext ?_)
  match a with
  | ⟨0, _⟩ => rfl
  | ⟨1, _⟩ => show 0 * 1024 + 1 * d.val = d.val; omega
/-- The norm's offset is read whole. -/
theorem stg7_apply (t : Fin 256) (d : Fin 1024) : stg m c 7 t (ix2 0 d) = (V m c main_v9 : FVec F S1x1024 .f32) (ix2 0 d) := by
  refine congrArg (V m c main_v9 : FVec F S1x1024 .f32) (funext fun a => Fin.ext ?_)
  match a with
  | ⟨0, _⟩ => rfl
  | ⟨1, _⟩ => show 0 * 1024 + 1 * d.val = d.val; omega

/-- A row of slots, and a row of gates, of a block. -/
theorem slotRows_apply (X : S16x256.Idx → Elt F .f32) (i : Fin 8) (k : Fin 256) : slotRows X (ix2 i k) = X (ix2 ⟨i.val, by omega⟩ k) := by
  refine congrArg X (funext fun a => Fin.ext ?_)
  match a with
  | ⟨0, _⟩ => show 0 + 1 * i.val = i.val; omega
  | ⟨1, _⟩ => show 0 + 1 * k.val = k.val; omega
/-- A row of gates of a block. -/
theorem gateRow_apply (X : S16x256.Idx → Elt F .f32) (o : ℕ) (ho : o < 16) (h : ∀ a, (![o, 0] : Fin 2 → ℕ) a + S1x256.size a ≤ S16x256.size a) (k : Fin 256) :
    gateRow X ![o, 0] h (ix2 0 k) = X (ix2 ⟨o, ho⟩ k) := by
  refine congrArg X (funext fun a => Fin.ext ?_)
  match a with
  | ⟨0, _⟩ => show o + 1 * 0 = o; omega
  | ⟨1, _⟩ => show 0 + 1 * k.val = k.val; omega

/-- Row `r` of a third of the landed ring, from row `q` on. -/
theorem rdB_apply (tb : Tb F c) (y : Yb F c) (b : ℕ) (off : Fin 3 → ℕ) (h : ∀ a, off a + S1x1024x1024.size a ≤ S3x3072x1024.size a) (q : ℕ)
    (h1 : off 1 = q) (h2 : off 2 = 0) (j d : Fin 1024) :
    rdB c (landed tb y b) off h (ix3 0 j d)
      = y (ix2 (⟨((word tb (192 * b + (q + j.val) / 16)).toNat + (q + j.val) % 16) % 851968, Nat.mod_lt _ (by norm_num)⟩ : Fin 851968) d) := by
  have e1 : (((Rect.unit (s := S3x3072x1024) off S1x1024x1024.size h).toLoadRect.idx (ix3 0 j d)) 1).val = q + j.val := by
    show off 1 + 1 * j.val = q + j.val; omega
  have e2 : ((Rect.unit (s := S3x3072x1024) off S1x1024x1024.size h).toLoadRect.idx (ix3 0 j d)) 2 = d := Fin.ext (by
    show off 2 + 1 * d.val = d.val; omega)
  refine congrArg y (congrArg₂ ix2 (Fin.ext ?_) e2)
  exact congrArg (fun n => ((word tb (192 * b + n / 16)).toNat + n % 16) % 851968) e1

/-- Every point writes its block back, -/
theorem flush_out (t : Fin 256) : ((cfg0 (adm m 0)).win 8).flush t = true := by
  exact (by decide +kernel : ∀ t : Fin grid0.N, Pipeline.Window.flushOf grid0 true cc0_transform_9 t = true) t

/-- and two points' blocks differ. -/
theorem index_out (t t' : Fin 256) (h : ((cfg0 (adm m 0)).win 8).index t = ((cfg0 (adm m 0)).win 8).index t') : t = t' := by
  have e : cc0_transform_9 (grid0.coords t) = cc0_transform_9 (grid0.coords t') := h
  rw [(index_vals t).2.2.2, (index_vals t').2.2.2] at e
  exact Fin.ext (congrFun e 0)

/-- The result array, block by block. -/
theorem final_out (t : Fin 256) (k : Fin 256) (d : Fin 1024) (h : 256 * t.val + k.val < 65536) :
    (finalA m c 8 : FVec F S65536x1024 .f32) (ix2 ⟨256 * t.val + k.val, h⟩ d) = outAt m c t (ix2 k d) := by
  have e := (dats m 0 c).arrAt_emb_eq_flushed 8 (Pipeline.Window.hdisj_of_index_inj _ fun t t' _ _ h => index_out m t t' h) t (flush_out m t) (ix2 k d)
  have hi : (((cfg0 (adm m 0)).win 8).blk t).view.emb (ix2 k d) = ix2 (⟨256 * t.val + k.val, h⟩ : Fin 65536) d := by
    refine funext fun a => Fin.ext ?_
    have e := (index_vals t).2.2.2
    match a with
    | ⟨0, _⟩ => show cc0_transform_9 (grid0.coords t) 0 * 256 + 1 * k.val = 256 * t.val + k.val; rw [e]; show t.val * 256 + 1 * k.val = 256 * t.val + k.val; omega
    | ⟨1, _⟩ => show cc0_transform_9 (grid0.coords t) 1 * 1024 + 1 * d.val = d.val; rw [e]; show 0 * 1024 + 1 * d.val = d.val; omega
  exact (congrArg (finalA m c 8) hi.symm).trans e

end Cert.Proof.Run

end
-- ==== Proof.Operands.lean ====
/- What the host operations before the call leave in the call's operands, index by index over the extended reals. -/
module

public import proofs.«01_k».proof.Proof.Main
public import Idealize.ShloMosaic.Lib.Pointwise

@[expose] public section

noncomputable section

namespace Cert.Proof.Run

open Cert.KernelIdeal Cert.KernelIdeal.Gen
open Idealize.ShloMosaic Idealize.ShloMosaic.TcCoe

variable {F : FTy → Type} [FloatOps F]

section
variable (m : (ℓ : Loc nD τ sig) → Buf (Elt F) ℓ) (c : Dev nD)

/-- An argument array of core `c` at launch. -/
abbrev arg (b : Ref sig .tc) : Buf (Elt F) ((c.tc : Thread nD τ).loc b) := m ((c.tc : Thread nD τ).loc b)

/-- The gate matrix of the shared expert, rounded. -/
theorem V_v1 : V m c main_v1 = (truncf .bf16 (shapeCast S1024x256 (arg m c main_arg5 : FVec F S1x1024x256 .f32) shapeCasts_S1x1024x256_S1024x256) bitsLt_bf16_f32 : FVec F S1024x256 .bf16) := by
  unfold V; after_results; rfl
/-- Its up matrix, rounded. -/
theorem V_v3 : V m c main_v3 = (truncf .bf16 (shapeCast S1024x256 (arg m c main_arg6 : FVec F S1x1024x256 .f32) shapeCasts_S1x1024x256_S1024x256) bitsLt_bf16_f32 : FVec F S1024x256 .bf16) := by
  unfold V; after_results; rfl
/-- Its down matrix, rounded. -/
theorem V_v5 : V m c main_v5 = (truncf .bf16 (shapeCast S256x1024 (arg m c main_arg7 : FVec F S1x256x1024 .f32) shapeCasts_S1x256x1024_S256x1024) bitsLt_bf16_f32 : FVec F S256x1024 .bf16) := by
  unfold V; after_results; rfl
/-- The norm's scale. -/
theorem V_v7 : V m c main_v7 = (shapeCast S1x1024 (shapeCast S1024 (arg m c main_arg8 : FVec F S1x1024 .f32) shapeCasts_S1x1024_S1024) shapeCasts_S1024_S1x1024 : FVec F S1x1024 .f32) := by
  unfold V; after_results; rfl
/-- The norm's offset. -/
theorem V_v9 : V m c main_v9 = (shapeCast S1x1024 (shapeCast S1024 (arg m c main_arg9 : FVec F S1x1024 .f32) shapeCasts_S1x1024_S1024) shapeCasts_S1024_S1x1024 : FVec F S1x1024 .f32) := by
  unfold V; after_results; rfl
/-- The slots, as floats, over the gates. -/
theorem V_v11 : V m c main_v11 = (concatenate S16x65536 0 [⟨S8x65536, (sitofp .f32 (arg m c main_arg2 : IVec S8x65536 32) : FVec F S8x65536 .f32)⟩, ⟨S8x65536, (arg m c main_arg3 : FVec F S8x65536 .f32)⟩] concatenates_S8x65536_S8x65536_S16x65536_d0 : FVec F S16x65536 .f32) := by
  unfold V; after_results
/-- The residual rows, rounded. -/
theorem V_v12 : V m c main_v12 = (truncf .bf16 (arg m c main_arg4 : FVec F S65536x1024 .f32) bitsLt_bf16_f32 : FVec F S65536x1024 .bf16) := by
  unfold V; after_results
end

section
/-- A weight matrix, rounded and reshaped, at an index. -/
theorem cast_in (w : FVec Ideal S1x1024x256 .f32) (k : Fin 1024) (f : Fin 256) :
    (truncf .bf16 (shapeCast S1024x256 w shapeCasts_S1x1024x256_S1024x256) bitsLt_bf16_f32 : FVec Ideal S1024x256 .bf16) (ix2 k f) = w (ix3 0 k f) := by
  pointwise
/-- The down matrix, rounded and reshaped, at an index. -/
theorem cast_out (w : FVec Ideal S1x256x1024 .f32) (f : Fin 256) (d : Fin 1024) :
    (truncf .bf16 (shapeCast S256x1024 w shapeCasts_S1x256x1024_S256x1024) bitsLt_bf16_f32 : FVec Ideal S256x1024 .bf16) (ix2 f d) = w (ix3 0 f d) := by
  pointwise
/-- A row reshaped twice, at an index. -/
theorem cast_row (w : FVec Ideal S1x1024 .f32) (d : Fin 1024) :
    (shapeCast S1x1024 (shapeCast S1024 w shapeCasts_S1x1024_S1024) shapeCasts_S1024_S1x1024) (ix2 0 d) = w (ix2 0 d) := by
  pointwise
/-- The rounded rows, at an index. -/
theorem rounded (w : FVec Ideal S65536x1024 .f32) (t : Fin 65536) (d : Fin 1024) :
    (truncf .bf16 w bitsLt_bf16_f32 : FVec Ideal S65536x1024 .bf16) (ix2 t d) = w (ix2 t d) := by
  pointwise
/-- The slots over the gates, at a slot. -/
theorem over_slot (s : IVec S8x65536 32) (g : FVec Ideal S8x65536 .f32) (k : Fin 8) (t : Fin 65536) :
    (concatenate S16x65536 0 [⟨S8x65536, (sitofp .f32 s : FVec Ideal S8x65536 .f32)⟩, ⟨S8x65536, g⟩] concatenates_S8x65536_S8x65536_S16x65536_d0 : FVec Ideal S16x65536 .f32)
      (ix2 ⟨k.val, by omega⟩ t) = (((s (ix2 k t)).toInt : ℝ) : EReal) := by
  pointwise
  rfl
/-- The slots over the gates, at a gate. -/
theorem over_gate (s g : FVec Ideal S8x65536 .f32) (k : Fin 8) (t : Fin 65536) :
    (concatenate S16x65536 0 [⟨S8x65536, s⟩, ⟨S8x65536, g⟩] concatenates_S8x65536_S8x65536_S16x65536_d0 : FVec Ideal S16x65536 .f32)
      (ix2 ⟨8 + k.val, by omega⟩ t) = g (ix2 k t) := by
  pointwise
end

end Cert.Proof.Run

end
-- ==== Proof.Weights.lean ====
module

public import proofs.«01_k».proof.Proof.Body

@[expose] public section

noncomputable section

namespace Cert.Proof.Run

open Cert.KernelIdeal Cert.KernelIdeal.Gen
open Idealize.ShloMosaic

/-!
  The weights of a block, written once. The kernel spells the matrix of weights of 256 of the block's 3072 rows twelve
  times, each time as eight selections one inside the other; here the matrix is a function of the first row's number and
  the three accumulated products are shown to be products with four such matrices each.
-/

variable {F : FTy → Type} [FloatOps F]

/-- One selection: where a token's slot, less the sub-block's first row, is the row's number, the token's gate; elsewhere
    what was there. -/
def choose (z : F .f32) (off : Fin 2 → ℕ) (h : S8x256.Slices off S1x256) (s : FVec F S8x256 .f32) (g : FVec F S1x256 .bf16)
    (w : FVec F S256x256 .bf16) : FVec F S256x256 .bf16 :=
  select (cmpf .oeq (k0_pay10 (F := F)) (broadcastTo S256x256 (truncf .bf16 (subf (extractStridedSlice S1x256 off s h) (broadcast S1x256 z)) bitsLt_bf16_f32) broadcasts_S1x256_S256x256))
    (broadcastTo S256x256 (shapeCast S1x256 g shapeCasts_S1x256_S1x256) broadcasts_S1x256_S256x256) w

section
variable (v12 : FVec F S8x256 .f32) (v15 v18 v21 v24 v27 v30 v33 v36 : FVec F S1x256 .bf16)

/-- The weights of 256 rows from the one that the word `z` denotes: a row of the matrix per row of the block, a column per
    token. -/
def weights (z : BitVec 32) : FVec F S256x256 .bf16 :=
  let c : F .f32 := Scalar.ofBits .f32 z
  choose c ![7, 0] slices_S8x256_o7_0_S1x256 v12 v36 <| choose c ![6, 0] slices_S8x256_o6_0_S1x256 v12 v33 <|
  choose c ![5, 0] slices_S8x256_o5_0_S1x256 v12 v30 <| choose c ![4, 0] slices_S8x256_o4_0_S1x256 v12 v27 <|
  choose c ![3, 0] slices_S8x256_o3_0_S1x256 v12 v24 <| choose c ![2, 0] slices_S8x256_o2_0_S1x256 v12 v21 <|
  choose c ![1, 0] slices_S8x256_o1_0_S1x256 v12 v18 <| choose c ![0, 0] slices_S8x256_o0_0_S1x256 v12 v15 <|
  broadcast S256x256 (Scalar.ofBits .bf16 0x0000#16)

/-- The weights of 1024 rows: four such matrices, one under the other. -/
def weights4 (z0 z1 z2 z3 : BitVec 32) : FVec F S1024x256 .bf16 :=
  concatenate S1024x256 0 [⟨S256x256, weights v12 v15 v18 v21 v24 v27 v30 v33 v36 z0⟩, ⟨S256x256, weights v12 v15 v18 v21 v24 v27 v30 v33 v36 z1⟩,
    ⟨S256x256, weights v12 v15 v18 v21 v24 v27 v30 v33 v36 z2⟩, ⟨S256x256, weights v12 v15 v18 v21 v24 v27 v30 v33 v36 z3⟩]
    concatenates_S256x256_S256x256_S256x256_S256x256_S1024x256_d0

/-- The product of such weights with 1024 rows. -/
def weighted (w : FVec F S1024x256 .bf16) (b : Vec F S1x1024x1024 .bf16) : FVec F S256x1024 .f32 :=
  matmul dot_S1024x256_S1024x1024_S256x1024_0_0_1_1_n_n none w (shapeCast S1024x1024 b shapeCasts_S1x1024x1024_S1024x1024) (constant S256x1024 .f32 0x00000000#32)

/-- The first accumulation is the first product. -/
theorem acc0_eq (b : Vec F S1x1024x1024 .bf16) : acc0 v12 v15 v18 v21 v24 v27 v30 v33 v36 b
    = weighted (weights4 v12 v15 v18 v21 v24 v27 v30 v33 v36 0x00000000#32 0x43800000#32 0x44000000#32 0x44400000#32) b := rfl

/-- The second adds the second product. -/
theorem acc1_eq (a : FVec F S256x1024 .f32) (b : Vec F S1x1024x1024 .bf16) : acc1 v12 v15 v18 v21 v24 v27 v30 v33 v36 a b
    = addf a (weighted (weights4 v12 v15 v18 v21 v24 v27 v30 v33 v36 0x44800000#32 0x44A00000#32 0x44C00000#32 0x44E00000#32) b) := rfl

/-- The third adds the third. -/
theorem acc2_eq (a : FVec F S256x1024 .f32) (b : Vec F S1x1024x1024 .bf16) : acc2 v12 v15 v18 v21 v24 v27 v30 v33 v36 a b
    = addf a (weighted (weights4 v12 v15 v18 v21 v24 v27 v30 v33 v36 0x45000000#32 0x45100000#32 0x45200000#32 0x45300000#32) b) := rfl

end

end Cert.Proof.Run
-- ==== Proof.Routed.lean ====
module

public import proofs.«01_k».proof.Proof.Weights
public import Idealize.ShloMosaic.Lib.Pointwise

@[expose] public section

noncomputable section

namespace Cert.Proof.Run

open Cert.KernelIdeal Cert.KernelIdeal.Gen
open Idealize.ShloMosaic

/-!
  What the accumulated products hold over the extended reals: a token's gate-weighted sum of the eight rows that its slots
  name.
-/

/-- The weight of row `j`: the gate of the last of the slots that names it, zero when none does. -/
def wt : (n : ℕ) → (Fin n → ℕ) → (Fin n → EReal) → ℕ → EReal
  | 0, _, _, _ => 0
  | n + 1, σ, γ, j => if σ (Fin.last n) = j then γ (Fin.last n) else wt n (fun k => σ k.castSucc) (fun k => γ k.castSucc) j

/-- Among distinct slots at most one names the row: the weight is the sum of the gates of those that do. -/
theorem wt_eq_sum (n : ℕ) (σ : Fin n → ℕ) (hσ : Function.Injective σ) (γ : Fin n → EReal) (j : ℕ) :
    wt n σ γ j = ∑ k, if σ k = j then γ k else 0 := by
  induction n with
  | zero => rfl
  | succ n ih =>
    rw [Fin.sum_univ_castSucc, wt]
    have hc : Function.Injective fun k : Fin n => σ k.castSucc := fun a b h => Fin.castSucc_injective n (hσ h)
    split_ifs with h
    · rw [Finset.sum_eq_zero, zero_add]
      intro k _
      rw [if_neg]
      intro hk
      exact absurd (hσ (hk.trans h.symm)) (Fin.castSucc_lt_last k).ne
    · rw [add_zero]
      exact ih _ hc _

/-- Weighted by distinct slots' gates, the block's rows add up to the rows that the slots name, each times its gate. -/
theorem sum_wt (n N : ℕ) (σ : Fin n → ℕ) (hσ : Function.Injective σ) (hN : ∀ k, σ k < N) (γ : Fin n → EReal) (Y : ℕ → EReal) :
    ∑ j : Fin N, wt n σ γ j.val * Y j.val = ∑ k, γ k * Y (σ k) := by
  have key : ∀ j : Fin N, wt n σ γ j.val * Y j.val = ∑ k, if j = ⟨σ k, hN k⟩ then γ k * Y (σ k) else 0 := by
    intro j
    by_cases h : ∃ k, σ k = j.val
    · obtain ⟨k, hk⟩ := h
      have hne : ∀ k', k' ≠ k → σ k' ≠ j.val := fun k' h' e => h' (hσ (e.trans hk.symm))
      rw [wt_eq_sum n σ hσ, Finset.sum_eq_single k (fun k' _ h' => if_neg (hne k' h')) (fun h' => absurd (Finset.mem_univ k) h'),
        Finset.sum_eq_single k (fun k' _ h' => if_neg fun e => hne k' h' (congrArg Fin.val e).symm) (fun h' => absurd (Finset.mem_univ k) h'),
        if_pos hk, if_pos (Fin.ext hk.symm), hk]
    · push Not at h
      rw [wt_eq_sum n σ hσ, Finset.sum_eq_zero (fun k _ => if_neg (h k)), zero_mul]
      exact (Finset.sum_eq_zero fun k _ => if_neg fun e => h k (congrArg Fin.val e).symm).symm
  rw [Finset.sum_congr rfl fun j _ => key j, Finset.sum_comm]
  refine Finset.sum_congr rfl fun k _ => ?_
  rw [Finset.sum_ite_eq' Finset.univ (⟨σ k, hN k⟩ : Fin N) fun _ => γ k * Y (σ k), if_pos (Finset.mem_univ _)]

/-- One selection read at a row and a token. -/
theorem choose_apply (z : EReal) (k : Fin 8) (o : ℕ) (ho : k.val = o) (h : S8x256.Slices ![o, 0] S1x256) (s : FVec Ideal S8x256 .f32)
    (g : FVec Ideal S1x256 .bf16) (w : FVec Ideal S256x256 .bf16) (r t : Fin 256) :
    choose z ![o, 0] h s g w (ix2 r t)
      = if ((r.val : ℝ) : EReal) = s (ix2 k t) - z then g (ix2 0 t) else w (ix2 r t) := by
  subst ho
  have hr : (FloatOps.sitofp (F := Ideal) .f32 (BitVec.ofNat 32 r.val) : EReal) = ((r.val : ℝ) : EReal) := by
    show (((BitVec.ofNat 32 r.val).toInt : ℝ) : EReal) = _
    have : (BitVec.ofNat 32 r.val).toInt = (r.val : ℤ) := by
      have := r.isLt
      rw [BitVec.toInt_eq_toNat_of_lt (by rw [BitVec.toNat_ofNat]; omega), BitVec.toNat_ofNat]
      omega
    rw [this]
    norm_cast
  pointwise [choose, k0_pay10]
  rw [hr]

section
variable (v12 : FVec Ideal S8x256 .f32) (v15 v18 v21 v24 v27 v30 v33 v36 : FVec Ideal S1x256 .bf16)

/-- The eight rows of gates as one. -/
abbrev gates (t : Fin 256) : Fin 8 → EReal :=
  ![v15 (ix2 0 t), v18 (ix2 0 t), v21 (ix2 0 t), v24 (ix2 0 t), v27 (ix2 0 t), v30 (ix2 0 t), v33 (ix2 0 t), v36 (ix2 0 t)]

/-- A row's number is a slot less the first row's exactly when the slot is the row. -/
theorem row_eq (r n σ : ℕ) : ((r : ℝ) : EReal) = ((σ : ℝ) : EReal) - ((n : ℝ) : EReal) ↔ σ = n + r := by
  rw [← EReal.coe_sub, EReal.coe_eq_coe_iff]
  constructor
  · intro h
    have : (σ : ℝ) = ((n + r : ℕ) : ℝ) := by push_cast; linarith
    exact_mod_cast this
  · rintro rfl
    push_cast
    ring

/-- The matrix of weights read at a row and a token whose slots are the numbers `σ`. -/
theorem weights_apply (z : BitVec 32) (n : ℕ) (hz : Ideal.ofBits .f32 z = ((n : ℝ) : EReal)) (r t : Fin 256) (σ : Fin 8 → ℕ)
    (hs : ∀ k, v12 (ix2 k t) = ((σ k : ℝ) : EReal)) :
    weights v12 v15 v18 v21 v24 v27 v30 v33 v36 z (ix2 r t) = wt 8 σ (gates v15 v18 v21 v24 v27 v30 v33 v36 t) (n + r.val) := by
  have hz' : (Scalar.ofBits (F := Ideal) .f32 z : EReal) = ((n : ℝ) : EReal) := hz
  have h0 : broadcast S256x256 (Scalar.ofBits (F := Ideal) .bf16 0x0000#16) (ix2 r t) = 0 := by pointwise
  unfold weights
  rw [choose_apply _ 7 7 rfl, choose_apply _ 6 6 rfl, choose_apply _ 5 5 rfl, choose_apply _ 4 4 rfl, choose_apply _ 3 3 rfl, choose_apply _ 2 2 rfl, choose_apply _ 1 1 rfl, choose_apply _ 0 0 rfl]
  simp only [hs, hz', row_eq, h0]
  rfl

omit v12 v15 v18 v21 v24 v27 v30 v33 v36 in
/-- Four matrices of 256 rows one under the other, read at a row. -/
theorem stacked_apply (w0 w1 w2 w3 : FVec Ideal S256x256 .bf16) (j : Fin 1024) (t : Fin 256) :
    concatenate S1024x256 0 [⟨S256x256, w0⟩, ⟨S256x256, w1⟩, ⟨S256x256, w2⟩, ⟨S256x256, w3⟩]
      concatenates_S256x256_S256x256_S256x256_S256x256_S1024x256_d0 (ix2 j t)
      = if a : j.val < 256 then w0 (ix2 ⟨j.val, a⟩ t) else if b : j.val < 512 then w1 (ix2 ⟨j.val - 256, by omega⟩ t)
        else if c : j.val < 768 then w2 (ix2 ⟨j.val - 512, by omega⟩ t) else w3 (ix2 ⟨j.val - 768, by have := j.isLt; omega⟩ t) := by
  have b' : j.val - 256 < 256 ↔ j.val < 512 := by omega
  have c' : j.val - 256 - 256 < 256 ↔ j.val < 768 := by omega
  have e1 : j.val - 256 - 256 = j.val - 512 := by omega
  have e2 : j.val - 512 - 256 = j.val - 768 := by omega
  pointwise
  simp only [e1, e2]
  by_cases a : j.val < 256
  · rw [dif_pos a, dif_pos a]
  rw [dif_neg a, dif_neg a]
  by_cases b : j.val < 512
  · rw [dif_pos b, dif_pos (b'.2 b)]
  rw [dif_neg b, dif_neg (fun h => b (b'.1 h))]
  by_cases c : j.val < 768
  · rw [dif_pos c, dif_pos (by omega)]
  · rw [dif_neg c, dif_neg (by omega)]

/-- The weights of 1024 rows, read at one of them. -/
theorem weights4_apply (z0 z1 z2 z3 : BitVec 32) (n : ℕ) (h0 : Ideal.ofBits .f32 z0 = ((n : ℝ) : EReal))
    (h1 : Ideal.ofBits .f32 z1 = (((n + 256 : ℕ) : ℝ) : EReal)) (h2 : Ideal.ofBits .f32 z2 = (((n + 512 : ℕ) : ℝ) : EReal))
    (h3 : Ideal.ofBits .f32 z3 = (((n + 768 : ℕ) : ℝ) : EReal)) (j : Fin 1024) (t : Fin 256) (σ : Fin 8 → ℕ)
    (hs : ∀ k, v12 (ix2 k t) = ((σ k : ℝ) : EReal)) :
    weights4 v12 v15 v18 v21 v24 v27 v30 v33 v36 z0 z1 z2 z3 (ix2 j t) = wt 8 σ (gates v15 v18 v21 v24 v27 v30 v33 v36 t) (n + j.val) := by
  rw [weights4, stacked_apply]
  by_cases a : j.val < 256
  · rw [dif_pos a]
    exact weights_apply _ _ _ _ _ _ _ _ _ z0 n h0 _ t σ hs
  rw [dif_neg a]
  by_cases b : j.val < 512
  · rw [dif_pos b]
    exact (weights_apply _ _ _ _ _ _ _ _ _ z1 _ h1 _ t σ hs).trans (congrArg _ (by dsimp only; omega))
  rw [dif_neg b]
  by_cases c : j.val < 768
  · rw [dif_pos c]
    exact (weights_apply _ _ _ _ _ _ _ _ _ z2 _ h2 _ t σ hs).trans (congrArg _ (by dsimp only; omega))
  rw [dif_neg c]
  exact (weights_apply _ _ _ _ _ _ _ _ _ z3 _ h3 _ t σ hs).trans (congrArg _ (by dsimp only; omega))

/-- A product with 1024 rows, read at a token and a column. -/
theorem weighted_apply (w : FVec Ideal S1024x256 .bf16) (b : Vec Ideal S1x1024x1024 .bf16) (t : Fin 256) (d : Fin 1024) :
    weighted w b (ix2 t d) = ∑ j : Fin 1024, w (ix2 j t) * b (ix3 0 j d) := by
  pointwise [weighted]

end

/-- The accumulated products at a token and a column: over the slots, the gate times the named row's entry, `Y` being the
    block's rows at the column. -/
theorem accVal_apply (s : Vec Ideal S8x256 .f32) (g : Fin 8 → Vec Ideal S1x256 .f32) (b0 b1 b2 : Vec Ideal S1x1024x1024 .bf16)
    (t : Fin 256) (d : Fin 1024) (σ : Fin 8 → ℕ) (hσ : Function.Injective σ) (hN : ∀ k, σ k < 3072) (Y : ℕ → EReal)
    (hs : ∀ k, s (ix2 k t) = ((σ k : ℝ) : EReal)) (h0 : ∀ j : Fin 1024, b0 (ix3 0 j d) = Y j.val)
    (h1 : ∀ j : Fin 1024, b1 (ix3 0 j d) = Y (1024 + j.val)) (h2 : ∀ j : Fin 1024, b2 (ix3 0 j d) = Y (2048 + j.val)) :
    accVal s (g 0) (g 1) (g 2) (g 3) (g 4) (g 5) (g 6) (g 7) b0 b1 b2 (ix2 t d) = ∑ k, g k (ix2 0 t) * Y (σ k) := by
  have hs' : ∀ k, k0_pay1 s (ix2 k t) = ((σ k : ℝ) : EReal) := fun k => by rw [← hs k]; pointwise [k0_pay1]
  have hg : gates (k0_pay2 (g 0)) (k0_pay3 (g 1)) (k0_pay4 (g 2)) (k0_pay5 (g 3)) (k0_pay6 (g 4)) (k0_pay7 (g 5)) (k0_pay8 (g 6)) (k0_pay9 (g 7)) t
      = fun k => g k (ix2 0 t) := by
    funext k
    fin_cases k <;> (dsimp [gates]; pointwise [k0_pay2, k0_pay3, k0_pay4, k0_pay5, k0_pay6, k0_pay7, k0_pay8, k0_pay9])
  unfold accVal
  rw [acc2_eq, acc1_eq, acc0_eq]
  show weighted _ _ _ + weighted _ _ _ + weighted _ _ _ = _
  rw [weighted_apply, weighted_apply, weighted_apply, ← sum_wt 8 3072 σ hσ hN _ Y, Fin.sum_univ_tiles 3 1024 (rfl : 3 * 1024 = 3072), Fin.sum_univ_three]
  refine congrArg₂ (· + ·) (congrArg₂ (· + ·) ?_ ?_) ?_ <;> refine Finset.sum_congr rfl fun j _ => ?_
  · rw [weights4_apply _ _ _ _ _ _ _ _ _ _ _ _ _ 0 _ _ _ _ j t σ hs', hg, h0]
    · simp
    all_goals simp [Ideal.ofBits, Ideal.ieee, -EReal.coe_mul]
    all_goals norm_num
  · rw [weights4_apply _ _ _ _ _ _ _ _ _ _ _ _ _ 1024 _ _ _ _ j t σ hs', hg, h1]
    · simp
    all_goals simp [Ideal.ofBits, Ideal.ieee, -EReal.coe_mul]
    all_goals norm_num
  · rw [weights4_apply _ _ _ _ _ _ _ _ _ _ _ _ _ 2048 _ _ _ _ j t σ hs', hg, h2]
    · simp
    all_goals simp [Ideal.ofBits, Ideal.ieee, -EReal.coe_mul]
    all_goals norm_num

end Cert.Proof.Run
-- ==== Proof.Rows.lean ====
/- The rows that the reference gathers: where a token's slots are in the table. -/
module

public import proofs.«01_k».proof.Proof.Gen.ReferenceIdeal
public import proofs.«01_k».proof.Proof.Gen.ReferenceIdeal.Run
public import Idealize.ShloMosaic.Lib.Pointwise
public import Idealize.ShloMosaic.Lib.Routing.Words

@[expose] public section

noncomputable section

namespace Cert.Proof.Ref

open Cert.ReferenceIdeal Cert.ReferenceIdeal.Gen Cert.ReferenceIdeal.Value
open Idealize.ShloMosaic Idealize.ShloMosaic.TcCoe Idealize.ShloMosaic.Routing

variable {F : FTy → Type} [FloatOps F]
variable (V0 : Valuation τ sig (Elt F))

/-- The table, the rows, the slots and the gates among the arguments. -/
abbrev tab : IVec S49536 32 := V0 (Proc.devRef .tc main_arg0)
abbrev rows : FVec F S851968x1024 .bf16 := V0 (Proc.devRef .tc main_arg1)
abbrev slots : IVec S8x65536 32 := V0 (Proc.devRef .tc main_arg2)

/-- A slot's chunk: the slot divided by sixteen. -/
theorem chunk_apply (k : Fin 8) (t : Fin 65536) (s : ℕ) (hs : slots V0 (ix2 k t) = BitVec.ofNat 32 s) (hb : s < 3072) :
    res_main_v1 V0 (ix2 k t) = BitVec.ofNat 32 (s / 16) :=
  pyDiv_ap bcast_S_S8x65536 (slots V0) (constantI S_ 32 16#32) (ix2 k t) hs rfl (by omega) (by omega) (by omega)

/-- The block's first chunk, 192 per 256 tokens, and the slot's chunk in it. -/
theorem block_apply (k : Fin 8) (t : Fin 65536) (s : ℕ) (hs : slots V0 (ix2 k t) = BitVec.ofNat 32 s) (hb : s < 3072) :
    res_main_v7 V0 (ix2 k t) = BitVec.ofNat 32 (192 * (t.val / 256) + s / 16) := by
  have ht := t.isLt
  have h1 : pyDiv bcast_S_S65536 (res_main_v0 V0) (res_main_call1_v0 V0) (ix1 t) = BitVec.ofNat 32 (t.val / 256) :=
    pyDiv_ap bcast_S_S65536 (iotaInDim S65536 32 0) (constantI S_ 32 256#32) (ix1 t) rfl rfl (by omega) (by omega) (by omega)
  have h2 := chunk_apply V0 k t s hs hb
  show (broadcastInDim S8x65536 ![0, 1] bcast_S1x65536_S8x65536_0_1 (muli (broadcastInDim S1x65536 ![1] bcast_S65536_S1x65536_1
    (pyDiv bcast_S_S65536 (res_main_v0 V0) (res_main_call1_v0 V0))) (broadcastInDim S1x65536 ![] bcast_S_S1x65536 (constantI S_ 32 192#32)))) (ix2 k t)
      + res_main_v1 V0 (ix2 k t) = _
  pointwise
  rw [h1, h2]
  show BitVec.ofNat 32 (t.val / 256) * BitVec.ofNat 32 192 + _ = _
  rw [← BitVec.ofNat_mul, ← BitVec.ofNat_add, Nat.mul_comm]

/-- A start index that is not negative is kept. -/
theorem kept (v : IVec S8x65536 32) (o : BitVec 32) (k : Fin 8) (t : Fin 65536) (n : ℕ) (hn : n < 2 ^ 31) (hv : v (ix2 k t) = BitVec.ofNat 32 n) :
    broadcastInDim S8x65536x1 ![0, 1] bcast_S8x65536_S8x65536x1_0_1 (select (cmpi .slt v (broadcastInDim S8x65536 ![] bcast_S_S8x65536 (constantI S_ 32 0#32)))
      (addi v (broadcastInDim S8x65536 ![] bcast_S_S8x65536 (constantI S_ 32 o))) v) (ix3 k t 0) = BitVec.ofNat 32 n := by
  have h0 : ¬ IntOp.cmpi .slt (BitVec.ofNat 32 n) 0#32 = 1#1 := by
    rw [IntOp.cmpi_slt, BitVec.toInt_eq_toNat_of_lt (by rw [BitVec.toNat_ofNat]; omega)]
    simp
    omega
  pointwise
  rw [hv, ValueIdx.eq_zero_of_ne_one h0]
  rfl

/-- A natural below 2³¹ is what its word reads, signed. -/
theorem read_ofNat (n N : ℕ) (hn : n < N) (hN : N < 2 ^ 31) : min (BitVec.ofNat 32 n).toInt.toNat (N - 1) = n := by
  rw [BitVec.toInt_eq_toNat_of_lt (by rw [BitVec.toNat_ofNat]; omega), BitVec.toNat_ofNat, Int.toNat_natCast]
  omega

/-- The gather from the table at a start in range. -/
theorem gather_tab (x : IVec S49536 32) (idx : IVec S8x65536x1 32) (k : Fin 8) (t : Fin 65536) (n : ℕ) (hn : n < 49536)
    (h : idx (ix3 k t 0) = BitVec.ofNat 32 n) :
    Host.gather gather_S49536_S8x65536x1_S8x65536_n_0_n_n_0_2_1 x idx (ix2 k t) = x (ix1 ⟨n, hn⟩) := by
  refine (ValueIdx.gather_take_apply (by omega) _ x idx (ix2 k t)).trans (congrArg x ?_)
  have e : ValueIdx.takeIdx (ix2 k t) = ix3 k t 0 := by
    funext a
    fin_cases a <;> rfl
  funext a
  obtain rfl : a = 0 := Subsingleton.elim _ _
  refine Fin.ext ?_
  show min (idx (ValueIdx.takeIdx (ix2 k t))).toInt.toNat (49536 - 1) = n
  rw [e, h]
  exact read_ofNat n 49536 hn (by omega)

/-- The gather of a row at a start in range. -/
theorem gather_rows {α : Type} (x : S851968x1024.Idx → α) (idx : IVec S8x65536x1 32) (k : Fin 8) (t : Fin 65536) (d : Fin 1024) (n : ℕ) (hn : n < 851968)
    (h : idx (ix3 k t 0) = BitVec.ofNat 32 n) :
    Host.gather gather_S851968x1024_S8x65536x1_S8x65536x1024_2_0_n_n_0_2_11024 x idx (ix3 k t d) = x (ix2 ⟨n, hn⟩ d) := by
  unfold Host.gather
  refine congrArg x (funext fun a => Fin.ext ?_)
  have h01 : a = 0 ∨ a = 1 := by
    match a with
    | ⟨0, _⟩ => exact Or.inl rfl
    | ⟨1, _⟩ => exact Or.inr rfl
  show GatherDims.start _ _ _ a + GatherDims.batchCoord _ _ a + GatherDims.offCoord _ _ a = _
  rw [GatherDims.batchCoord_eq_zero _ _ _ (List.not_mem_nil)]
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S851968x1024_S8x65536x1_S8x65536x1024_2_0_n_n_0_2_11024.startIndexMap from List.mem_singleton.mpr rfl)]
    have e : GatherDims.siIdx gather_S851968x1024_S8x65536x1_S8x65536x1024_2_0_n_n_0_2_11024 (ix3 k t d) ⟨0, Nat.one_pos⟩ = ix3 k t 0 := by
      funext b
      fin_cases b <;> rfl
    show min (idx (GatherDims.siIdx gather_S851968x1024_S8x65536x1_S8x65536x1024_2_0_n_n_0_2_11024 (ix3 k t d) ⟨0, Nat.one_pos⟩)).toInt.toNat (851968 - 1) = n
    rw [e, h]
    exact read_ofNat n 851968 hn (by omega)
  · unfold GatherDims.start
    rw [dif_neg (by simp [gather_S851968x1024_S8x65536x1_S8x65536x1024_2_0_n_n_0_2_11024])]
    have hk : (1 : Fin 2) ∈ gather_S851968x1024_S8x65536x1_S8x65536x1024_2_0_n_n_0_2_11024.sKept :=
      (GatherDims.mem_sKept _ _).2 ⟨by simp [gather_S851968x1024_S8x65536x1_S8x65536x1024_2_0_n_n_0_2_11024], List.not_mem_nil⟩
    unfold GatherDims.offCoord
    rw [dif_pos hk, Nat.add_zero, Nat.zero_add]
    rfl

/-- The row that a slot names: the table's row of its chunk in the token's block, and its place in the chunk. -/
theorem row_apply (k : Fin 8) (t : Fin 65536) (s g : ℕ) (hs : slots V0 (ix2 k t) = BitVec.ofNat 32 s) (hb : s < 3072)
    (hg : ∀ h : 192 * (t.val / 256) + s / 16 < 49536, tab V0 (ix1 ⟨192 * (t.val / 256) + s / 16, h⟩) = BitVec.ofNat 32 g) :
    res_main_v18 V0 (ix2 k t) = BitVec.ofNat 32 (g + s % 16) := by
  have ht := t.isLt
  have hlt : 192 * (t.val / 256) + s / 16 < 49536 := by omega
  have h1 := gather_tab (tab V0) _ k t _ hlt (kept (res_main_v7 V0) 49536#32 k t _ (by omega) (block_apply V0 k t s hs hb))
  rw [hg hlt] at h1
  unfold res_main_v18
  show Host.gather gather_S49536_S8x65536x1_S8x65536_n_0_n_n_0_2_1 _ _ (ix2 k t) + IntOp.subi (slots V0 (ix2 k t)) (IntOp.muli (res_main_v1 V0 (ix2 k t)) (BitVec.ofNat 32 16)) = _
  rw [chunk_apply V0 k t s hs hb, hs, h1]
  show _ + (BitVec.ofNat 32 s - BitVec.ofNat 32 (s / 16) * BitVec.ofNat 32 16) = _
  rw [← BitVec.ofNat_mul]
  have : BitVec.ofNat 32 s = BitVec.ofNat 32 (s / 16 * 16) + BitVec.ofNat 32 (s % 16) := by
    rw [← BitVec.ofNat_add]; congr 1; omega
  rw [this, BitVec.ofNat_add, BitVec.add_comm (BitVec.ofNat 32 (s / 16 * 16)), BitVec.add_sub_cancel]

/-- The gathered row: the experts' row at that number. -/
theorem routed_apply (k : Fin 8) (t : Fin 65536) (d : Fin 1024) (s g : ℕ) (hs : slots V0 (ix2 k t) = BitVec.ofNat 32 s) (hb : s < 3072)
    (hg : ∀ h : 192 * (t.val / 256) + s / 16 < 49536, tab V0 (ix1 ⟨192 * (t.val / 256) + s / 16, h⟩) = BitVec.ofNat 32 g)
    (hr : g + s % 16 < 851968) :
    Host.gather gather_S851968x1024_S8x65536x1_S8x65536x1024_2_0_n_n_0_2_11024 (rows V0) (broadcastInDim S8x65536x1 ![0, 1] bcast_S8x65536_S8x65536x1_0_1
      (select (cmpi .slt (res_main_v18 V0) (broadcastInDim S8x65536 ![] bcast_S_S8x65536 (constantI S_ 32 0#32)))
        (addi (res_main_v18 V0) (broadcastInDim S8x65536 ![] bcast_S_S8x65536 (constantI S_ 32 851968#32))) (res_main_v18 V0))) (ix3 k t d)
      = rows V0 (ix2 ⟨g + s % 16, hr⟩ d) :=
  gather_rows (rows V0) _ k t d _ hr (kept (res_main_v18 V0) 851968#32 k t _ (by omega) (row_apply V0 k t s g hs hb hg))

end Cert.Proof.Ref
-- ==== Proof.Token.lean ====
/- One token's output over the extended reals, and that the kernel's point and the reference both compute it. -/
module

public import proofs.«01_k».proof.Proof.Body
public import proofs.«01_k».proof.Proof.Rows
public import Idealize.ShloMosaic.Lib.Pointwise

@[expose] public section

noncomputable section

namespace Cert.Proof

open Idealize.ShloMosaic

/-- The shared expert's hidden entries: the gate's product through its logistic curve, times the up product. -/
def hidden (x : Fin 1024 → EReal) (wg wu : Fin 1024 → Fin 256 → EReal) (f : Fin 256) : EReal :=
  (∑ k, x k * wg k f) * Ideal.div 1 (1 + Ideal.exp (-(∑ k, x k * wg k f))) * ∑ k, x k * wu k f

/-- The sum that is normalised: the scaled residual and the routed and shared experts. -/
def summed (r x : Fin 1024 → EReal) (wg wu : Fin 1024 → Fin 256 → EReal) (wd : Fin 256 → Fin 1024 → EReal) (d : Fin 1024) : EReal :=
  Ideal.ofBits .f32 0x3F9837F0#32 * x d + (r d + ∑ f, hidden x wg wu f * wd f d)

/-- An entry less the mean. -/
def centred (z : Fin 1024 → EReal) (d : Fin 1024) : EReal := z d - Ideal.div (∑ k, z k) (Ideal.ofBits .f32 0x44800000#32)

/-- The layer norm of a row. -/
def normed (z g b : Fin 1024 → EReal) (d : Fin 1024) : EReal :=
  centred z d * Ideal.rsqrt (Ideal.div (∑ k, centred z k * centred z k) (Ideal.ofBits .f32 0x44800000#32) + Ideal.ofBits .f32 0x3727C5AC#32) * g d + b d

namespace Run
open Cert.KernelIdeal Cert.KernelIdeal.Gen

/-- The kernel's hidden entries before they are rounded, at a token. -/
theorem hidden_kernel (xb : Vec Ideal S256x1024 .bf16) (wg wu : Vec Ideal S1024x256 .bf16) (t f : Fin 256) :
    k0_pay70 xb wg (ix2 t f) * Ideal.div 1 (k0_pay72 xb wg (ix2 t f)) * k0_pay71 xb wu (ix2 t f)
      = hidden (fun k => xb (ix2 t k)) (fun k f => wg (ix2 k f)) (fun k f => wu (ix2 k f)) f := by
  pointwise [k0_pay69, k0_pay70, k0_pay71, k0_pay72, hidden]
  rw [zero_sub]

/-- What a point writes at a token. -/
theorem outVal_apply (acc : FVec Ideal S256x1024 .f32) (xb : Vec Ideal S256x1024 .bf16) (wg wu : Vec Ideal S1024x256 .bf16) (wd : Vec Ideal S256x1024 .bf16)
    (x : Vec Ideal S256x1024 .f32) (g b : Vec Ideal S1x1024 .f32) (t : Fin 256) (d : Fin 1024) (hx : ∀ k, xb (ix2 t k) = x (ix2 t k)) :
    outVal acc xb wg wu wd x g b (ix2 t d)
      = normed (summed (fun d => acc (ix2 t d)) (fun k => x (ix2 t k)) (fun k f => wg (ix2 k f)) (fun k f => wu (ix2 k f)) (fun f d => wd (ix2 f d)))
          (fun d => g (ix2 0 d)) (fun d => b (ix2 0 d)) d := by
  have hh := hidden_kernel xb wg wu t
  simp only [hx] at hh
  pointwise [outVal, k0_pay73]
  simp only [hh]
  simp only [normed, centred, summed]

end Run

namespace Ref
open Cert.ReferenceIdeal Cert.ReferenceIdeal.Gen Cert.ReferenceIdeal.Value
open Idealize.ShloMosaic.TcCoe

variable (V0 : Valuation τ sig (Elt Ideal))

/-- The remaining arguments: the gates, the layer's input, the shared expert's three weights, the norm's two. -/
abbrev gate : FVec Ideal S8x65536 .f32 := V0 (Proc.devRef .tc main_arg3)
abbrev inp : FVec Ideal S65536x1024 .f32 := V0 (Proc.devRef .tc main_arg4)
abbrev w1 : FVec Ideal S1x1024x256 .f32 := V0 (Proc.devRef .tc main_arg5)
abbrev w2 : FVec Ideal S1x1024x256 .f32 := V0 (Proc.devRef .tc main_arg6)
abbrev w3 : FVec Ideal S1x256x1024 .f32 := V0 (Proc.devRef .tc main_arg7)
abbrev lng : FVec Ideal S1x1024 .f32 := V0 (Proc.devRef .tc main_arg8)
abbrev lnb : FVec Ideal S1x1024 .f32 := V0 (Proc.devRef .tc main_arg9)

/-- The reference's sum at a token, its gathered rows being `y`. -/
theorem summed_ref (t : Fin 65536) (d : Fin 1024) (y : Fin 8 → Fin 1024 → EReal)
    (hy : ∀ k d, Host.gather gather_S851968x1024_S8x65536x1_S8x65536x1024_2_0_n_n_0_2_11024 (rows V0) (broadcastInDim S8x65536x1 ![0, 1] bcast_S8x65536_S8x65536x1_0_1
      (select (cmpi .slt (res_main_v18 V0) (broadcastInDim S8x65536 ![] bcast_S_S8x65536 (constantI S_ 32 0#32)))
        (addi (res_main_v18 V0) (broadcastInDim S8x65536 ![] bcast_S_S8x65536 (constantI S_ 32 851968#32))) (res_main_v18 V0))) (ix3 k t d) = y k d) :
    res_main_v42 V0 (ix2 t d)
      = summed (fun d => ∑ k, gate V0 (ix2 k t) * y k d) (fun k => inp V0 (ix2 t k)) (fun k f => w1 V0 (ix3 0 k f)) (fun k f => w2 V0 (ix3 0 k f))
          (fun f d => w3 V0 (ix3 0 f d)) d := by
  unfold res_main_v42
  pointwise [res_main_v32, summed, hidden]
  refine congrArg₂ (· + ·) rfl (congrArg₂ (· + ·) (Finset.sum_congr rfl fun k _ => ?_) rfl)
  exact (congrArg (· * gate V0 (ix2 k t)) (hy k d)).trans (mul_comm _ _)

/-- The reference's result, as its run leaves it. -/
abbrev result : FVec Ideal S65536x1024 .f32 :=
  addf (mulf (mulf (res_main_v48 V0) (broadcastInDim S65536x1024 ![0, 1] bcast_S65536x1_S65536x1024_0_1 (Host.rsqrt (addf (Host.divf (broadcastInDim S65536x1 ![0] bcast_S65536_S65536x1_0 (Host.reduceAdd (mulf (res_main_v48 V0) (res_main_v48 V0)) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x3727C5AC#32)))))) (broadcastInDim S65536x1024 ![0, 1] bcast_S1x1024_S65536x1024_0_1 (broadcastInDim S1x1024 ![1] bcast_S1024_S1x1024_1 (shapeCast _ (lng V0) shapeCasts_S1x1024_S1024)))) (broadcastInDim S65536x1024 ![0, 1] bcast_S1x1024_S65536x1024_0_1 (broadcastInDim S1x1024 ![1] bcast_S1024_S1x1024_1 (shapeCast _ (lnb V0) shapeCasts_S1x1024_S1024)))

/-- The reference's result at a token. -/
theorem result_ref (t : Fin 65536) (d : Fin 1024) (z : Fin 1024 → EReal) (hz : ∀ d, res_main_v42 V0 (ix2 t d) = z d) :
    result V0 (ix2 t d)
      = normed z (fun d => lng V0 (ix2 0 d)) (fun d => lnb V0 (ix2 0 d)) d := by
  pointwise [res_main_v48]
  simp only [hz, normed, centred]

end Ref

end Cert.Proof
-- ==== Proof.Distinct.lean ====
/- A token's eight slots are distinct, from the precondition's count of equal ones. -/
module

public import proofs.«01_k».proof.Proof.Range
public import Idealize.ShloMosaic.Lib.Pointwise
public import Idealize.ShloMosaic.Lib.IndicatorCount

@[expose] public section

noncomputable section

namespace Cert.Proof.Range

open Idealize.ShloMosaic
open Cert.Pre_in_range Cert.Pre_in_range.Gen

variable {F : FTy → Type} [FloatOps F]
variable {a0 : IVec S49536 32} {a1 : FVec F S851968x1024 .bf16} {a2 : IVec S8x65536 32} {a3 : FVec F S8x65536 .f32}
  {a4 : FVec F S65536x1024 .f32} {a5 a6 : FVec F S1x1024x256 .f32} {a7 : FVec F S1x256x1024 .f32} {a8 a9 : FVec F S1x1024 .f32}

/-- Two of a token's slots that are equal are the same one of the eight. -/
theorem slot_distinct (h : Cert.Pre_in_range.fn (F := F) a0 a1 a2 a3 a4 a5 a6 a7 a8 a9 = fun _ => 1#1) (k l : Fin 8) (t : Fin 65536)
    (e : a2 (ix2 k t) = a2 (ix2 l t)) : k = l := by
  have h3 := (split h).2.2 (ix2 l t)
  pointwise at h3
  rw [IndicatorCount.fold_addi_setWidth_eq_card] at h3
  have hle := Finset.card_filter_le (Finset.univ : Finset (Fin 8)) fun x => IntOp.cmpi .eq (a2 (ix2 x t)) (a2 (ix2 l t)) = 1#1
  rw [Finset.card_univ, Fintype.card_fin] at hle
  have hn := congrArg BitVec.toNat h3
  rw [BitVec.toNat_ofNat, Nat.mod_eq_of_lt (by omega)] at hn
  obtain ⟨x, hx⟩ := Finset.card_eq_one.1 hn
  have hm : ∀ y : Fin 8, a2 (ix2 y t) = a2 (ix2 l t) → y = x := fun y hy =>
    Finset.mem_singleton.1 (hx ▸ Finset.mem_filter.2 ⟨Finset.mem_univ y, IntOp.cmpi_eq.2 hy⟩)
  exact (hm k e).trans (hm l rfl).symm

end Cert.Proof.Range
-- ==== Proof.Value.lean ====
/- The equation: the kernel's result array and the reference's result are the same function of the arguments. -/
module

public import proofs.«01_k».proof.Proof.Blocks
public import proofs.«01_k».proof.Proof.Operands
public import proofs.«01_k».proof.Proof.Routed
public import proofs.«01_k».proof.Proof.Token
public import proofs.«01_k».proof.Proof.Distinct

@[expose] public section

noncomputable section

namespace Cert.Proof

open Idealize.ShloMosaic Idealize.ShloMosaic.TcCoe

section
open Cert.KernelIdeal
/-- The number of the row of the sorted outputs that slot `s` of block `b` names: row `s % 16` of the chunk at the table's word `192 b + s / 16`. -/
def rowOf (a0 : IVec S49536 32) (b s : ℕ) : Fin 851968 :=
  ⟨((a0 (ix1 (⟨(192 * b + s / 16) % 49536, Nat.mod_lt _ (by norm_num)⟩ : Fin 49536))).toNat + s % 16) % 851968, Nat.mod_lt _ (by norm_num)⟩

/-- The eight gated rows of a token. -/
def routed (a0 : IVec S49536 32) (a1 : FVec Ideal S851968x1024 .bf16) (a2 : IVec S8x65536 32) (a3 : FVec Ideal S8x65536 .f32) (t : Fin 65536) (d : Fin 1024) : EReal :=
  ∑ k : Fin 8, a3 (ix2 k t) * a1 (ix2 (rowOf a0 (t.val / 256) (a2 (ix2 k t)).toNat) d)

/-- An entry of the layer's result, as a function of the arguments: the norm of the scaled input, plus the eight gated rows, plus the shared expert. -/
def entry (a0 : IVec S49536 32) (a1 : FVec Ideal S851968x1024 .bf16) (a2 : IVec S8x65536 32) (a3 : FVec Ideal S8x65536 .f32)
    (a4 : FVec Ideal S65536x1024 .f32) (a5 a6 : FVec Ideal S1x1024x256 .f32) (a7 : FVec Ideal S1x256x1024 .f32) (a8 a9 : FVec Ideal S1x1024 .f32)
    (t : Fin 65536) (d : Fin 1024) : EReal :=
  normed (summed (routed a0 a1 a2 a3 t)
      (fun k => a4 (ix2 t k)) (fun k f => a5 (ix3 0 k f)) (fun k f => a6 (ix3 0 k f)) (fun f d => a7 (ix3 0 f d)))
    (fun d => a8 (ix2 0 d)) (fun d => a9 (ix2 0 d)) d
end

namespace Run
open Cert.KernelIdeal Cert.KernelIdeal.Gen

variable (m : (ℓ : Loc nD τ sig) → Buf (Elt Ideal) ℓ) (c : Dev nD)

/-- A block's slots are the tokens' slots, -/
theorem slot_read (h : Cert.Pre_in_range.fn (F := Ideal) (arg m c main_arg0) (arg m c main_arg1) (arg m c main_arg2) (arg m c main_arg3) (arg m c main_arg4)
      (arg m c main_arg5) (arg m c main_arg6) (arg m c main_arg7) (arg m c main_arg8) (arg m c main_arg9) = fun _ => 1#1)
    (t k : Fin 256) (i : Fin 8) (hT : 256 * t.val + k.val < 65536) :
    slotRows (stg m c 0 t) (ix2 i k) = (((((arg m c main_arg2 : IVec S8x65536 32) (ix2 i ⟨256 * t.val + k.val, hT⟩)).toNat : ℕ) : ℝ) : EReal) := by
  rw [slotRows_apply, stg0_apply m c t _ k hT]
  refine (congrFun (V_v11 m c) _).trans ((over_slot _ _ i _).trans ?_)
  have hs := Range.slot_good h (ix2 i ⟨256 * t.val + k.val, hT⟩)
  rw [BitVec.toInt_eq_toNat_of_lt (by omega)]
  norm_cast

/-- and its gates the tokens' gates. -/
theorem gate_read (t k : Fin 256) (i : Fin 8) (hT : 256 * t.val + k.val < 65536)
    (hi : ∀ a, (![8 + i.val, 0] : Fin 2 → ℕ) a + S1x256.size a ≤ S16x256.size a) :
    gateRow (stg m c 0 t) ![8 + i.val, 0] hi (ix2 0 k) = (arg m c main_arg3 : FVec Ideal S8x65536 .f32) (ix2 i ⟨256 * t.val + k.val, hT⟩) := by
  rw [gateRow_apply _ (8 + i.val) (by omega), stg0_apply m c t _ k hT]
  exact (congrFun (V_v11 m c) _).trans (over_gate _ _ i _)

/-- The gated sum of a point is the token's eight gated rows. -/
theorem acc_entry (h : Cert.Pre_in_range.fn (F := Ideal) (arg m c main_arg0) (arg m c main_arg1) (arg m c main_arg2) (arg m c main_arg3) (arg m c main_arg4)
      (arg m c main_arg5) (arg m c main_arg6) (arg m c main_arg7) (arg m c main_arg8) (arg m c main_arg9) = fun _ => 1#1)
    (t k : Fin 256) (j : Fin 1024) (hT : 256 * t.val + k.val < 65536) :
    accVal (slotRows (stg m c 0 t)) (gateRow (stg m c 0 t) ![8, 0] inb_S16x256_S1x256_8_0) (gateRow (stg m c 0 t) ![9, 0] inb_S16x256_S1x256_9_0)
      (gateRow (stg m c 0 t) ![10, 0] inb_S16x256_S1x256_10_0) (gateRow (stg m c 0 t) ![11, 0] inb_S16x256_S1x256_11_0) (gateRow (stg m c 0 t) ![12, 0] inb_S16x256_S1x256_12_0)
      (gateRow (stg m c 0 t) ![13, 0] inb_S16x256_S1x256_13_0) (gateRow (stg m c 0 t) ![14, 0] inb_S16x256_S1x256_14_0) (gateRow (stg m c 0 t) ![15, 0] inb_S16x256_S1x256_15_0)
      (rdB c (landed (tbl m c) (ys m c) ((grid0.coords t) 0).val) (k0_off7 (grid0.coords t)) (k0_off7_inb (grid0.coords t)))
      (rdB c (landed (tbl m c) (ys m c) ((grid0.coords t) 0).val) (k0_off264 (grid0.coords t)) (k0_off264_inb (grid0.coords t)))
      (rdB c (landed (tbl m c) (ys m c) ((grid0.coords t) 0).val) (k0_off521 (grid0.coords t)) (k0_off521_inb (grid0.coords t))) (ix2 k j)
      = routed (arg m c main_arg0) (arg m c main_arg1) (arg m c main_arg2) (arg m c main_arg3) ⟨256 * t.val + k.val, hT⟩ j := by
  have hc : ((grid0.coords t) 0).val = t.val := coords_val t
  have hin : ∀ i : Fin 8, ∀ a, (![8 + i.val, 0] : Fin 2 → ℕ) a + S1x256.size a ≤ S16x256.size a := fun i a => by
    match a with
    | ⟨0, _⟩ => show 8 + i.val + 1 ≤ 16; omega
    | ⟨1, _⟩ => exact le_refl 256
  have hb : (⟨256 * t.val + k.val, hT⟩ : Fin 65536).val / 256 = t.val := by show (256 * t.val + k.val) / 256 = t.val; omega
  unfold routed
  rw [hb]
  refine (accVal_apply (slotRows (stg m c 0 t)) (fun i => gateRow (stg m c 0 t) ![8 + i.val, 0] (hin i))
    (rdB c (landed (tbl m c) (ys m c) ((grid0.coords t) 0).val) (k0_off7 (grid0.coords t)) (k0_off7_inb (grid0.coords t)))
    (rdB c (landed (tbl m c) (ys m c) ((grid0.coords t) 0).val) (k0_off264 (grid0.coords t)) (k0_off264_inb (grid0.coords t)))
    (rdB c (landed (tbl m c) (ys m c) ((grid0.coords t) 0).val) (k0_off521 (grid0.coords t)) (k0_off521_inb (grid0.coords t)))
    k j (fun i => ((arg m c main_arg2 : IVec S8x65536 32) (ix2 i ⟨256 * t.val + k.val, hT⟩)).toNat)
    (fun i l e => Range.slot_distinct h i l _ (BitVec.eq_of_toNat_eq e)) (fun i => Range.slot_good h _)
    (fun s => (arg m c main_arg1 : FVec Ideal S851968x1024 .bf16) (ix2 (rowOf (arg m c main_arg0) t.val s) j))
    (fun i => slot_read m c h t k i hT)
    (fun i => by rw [hc]; exact (rdB_apply c _ _ _ _ _ 0 rfl rfl i j).trans (by rw [Nat.zero_add]; rfl))
    (fun i => by rw [hc]; exact rdB_apply c _ _ _ _ _ 1024 rfl rfl i j)
    (fun i => by rw [hc]; exact rdB_apply c _ _ _ _ _ 2048 rfl rfl i j)).trans (Finset.sum_congr rfl fun i _ => congrArg (· * _) (gate_read m c t k i hT (hin i)))

/-- The kernel's result array. -/
theorem kernel_entry (h : Cert.Pre_in_range.fn (F := Ideal) (arg m c main_arg0) (arg m c main_arg1) (arg m c main_arg2) (arg m c main_arg3) (arg m c main_arg4)
      (arg m c main_arg5) (arg m c main_arg6) (arg m c main_arg7) (arg m c main_arg8) (arg m c main_arg9) = fun _ => 1#1)
    (t k : Fin 256) (d : Fin 1024) (hT : 256 * t.val + k.val < 65536) :
    (finalA m c 8 : FVec Ideal S65536x1024 .f32) (ix2 ⟨256 * t.val + k.val, hT⟩ d)
      = entry (arg m c main_arg0) (arg m c main_arg1) (arg m c main_arg2) (arg m c main_arg3) (arg m c main_arg4)
      (arg m c main_arg5) (arg m c main_arg6) (arg m c main_arg7) (arg m c main_arg8) (arg m c main_arg9) ⟨256 * t.val + k.val, hT⟩ d := by
  have hx : ∀ j, stg m c 1 t (ix2 k j) = (arg m c main_arg4 : FVec Ideal S65536x1024 .f32) (ix2 ⟨256 * t.val + k.val, hT⟩ j) := fun j =>
    (stg1_apply m c t k j hT).trans (congrFun (V_kept m c main_arg4 (by decide)) _)
  have hxb : ∀ j, stg m c 2 t (ix2 k j) = stg m c 1 t (ix2 k j) := fun j =>
    ((stg2_apply m c t k j hT).trans ((congrFun (V_v12 m c) _).trans (rounded _ _ _))).trans (hx j).symm
  have h5 : ∀ i f, stg m c 3 t (ix2 i f) = (arg m c main_arg5 : FVec Ideal S1x1024x256 .f32) (ix3 0 i f) := fun i f =>
    (stg3_apply m c t i f).trans ((congrFun (V_v1 m c) _).trans (cast_in _ _ _))
  have h6 : ∀ i f, stg m c 4 t (ix2 i f) = (arg m c main_arg6 : FVec Ideal S1x1024x256 .f32) (ix3 0 i f) := fun i f =>
    (stg4_apply m c t i f).trans ((congrFun (V_v3 m c) _).trans (cast_in _ _ _))
  have h7 : ∀ f j, stg m c 5 t (ix2 f j) = (arg m c main_arg7 : FVec Ideal S1x256x1024 .f32) (ix3 0 f j) := fun f j =>
    (stg5_apply m c t f j).trans ((congrFun (V_v5 m c) _).trans (cast_out _ _ _))
  have h8 : ∀ j, stg m c 6 t (ix2 0 j) = (arg m c main_arg8 : FVec Ideal S1x1024 .f32) (ix2 0 j) := fun j =>
    (stg6_apply m c t j).trans ((congrFun (V_v7 m c) _).trans (cast_row _ _))
  have h9 : ∀ j, stg m c 7 t (ix2 0 j) = (arg m c main_arg9 : FVec Ideal S1x1024 .f32) (ix2 0 j) := fun j =>
    (stg7_apply m c t j).trans ((congrFun (V_v9 m c) _).trans (cast_row _ _))
  refine (final_out m c t k d hT).trans ((outVal_apply _ _ _ _ _ _ _ _ k d hxb).trans ?_)
  unfold entry
  rw [funext hx, funext fun i => funext (h5 i), funext fun i => funext (h6 i), funext fun i => funext (h7 i), funext h8, funext h9]
  exact congrArg (fun r => normed (summed r _ _ _ _) _ _ d) (funext fun j => acc_entry m c h t k j hT)

/-- The kernel's result array, whole. -/
theorem kernel_result (h : Cert.Pre_in_range.fn (F := Ideal) (arg m c main_arg0) (arg m c main_arg1) (arg m c main_arg2) (arg m c main_arg3) (arg m c main_arg4)
      (arg m c main_arg5) (arg m c main_arg6) (arg m c main_arg7) (arg m c main_arg8) (arg m c main_arg9) = fun _ => 1#1) :
    finalA m c 8 = fun i : S65536x1024.Idx => entry (arg m c main_arg0) (arg m c main_arg1) (arg m c main_arg2) (arg m c main_arg3) (arg m c main_arg4)
      (arg m c main_arg5) (arg m c main_arg6) (arg m c main_arg7) (arg m c main_arg8) (arg m c main_arg9) (i 0) (i 1) := by
  refine funext fun (i : S65536x1024.Idx) => ?_
  have hi : i = ix2 (i 0) (i 1) := funext fun a => by match a with | ⟨0, _⟩ => rfl | ⟨1, _⟩ => rfl
  have h0 : (i 0).val < 65536 := (i 0).isLt
  have hT : 256 * ((i 0).val / 256) + (i 0).val % 256 < 65536 := by omega
  have e : i 0 = (⟨256 * ((i 0).val / 256) + (i 0).val % 256, hT⟩ : Fin 65536) := Fin.ext (by show (i 0).val = 256 * ((i 0).val / 256) + (i 0).val % 256; omega)
  have hk := kernel_entry m c h ⟨(i 0).val / 256, by omega⟩ ⟨(i 0).val % 256, Nat.mod_lt _ (by norm_num)⟩ (i 1) hT
  refine (congrArg (finalA m c 8) (hi.trans (congrArg (fun n => ix2 n (i 1)) e))).trans (hk.trans ?_)
  exact congrArg (fun n => entry _ _ _ _ _ _ _ _ _ _ n (i 1)) e.symm

end Run

namespace Ref
open Cert.ReferenceIdeal Cert.ReferenceIdeal.Gen Cert.ReferenceIdeal.Value

variable (V0 : Valuation τ sig (Elt Ideal))

/-- The row a slot's gather reads. -/
theorem gathered (h : Cert.Pre_in_range.fn (F := Ideal) (tab V0) (rows V0) (slots V0) (gate V0) (inp V0) (w1 V0) (w2 V0) (w3 V0) (lng V0) (lnb V0) = fun _ => 1#1)
    (k : Fin 8) (t : Fin 65536) (d : Fin 1024) :
    Host.gather gather_S851968x1024_S8x65536x1_S8x65536x1024_2_0_n_n_0_2_11024 (rows V0) (broadcastInDim S8x65536x1 ![0, 1] bcast_S8x65536_S8x65536x1_0_1
      (select (cmpi .slt (res_main_v18 V0) (broadcastInDim S8x65536 ![] bcast_S_S8x65536 (constantI S_ 32 0#32)))
        (addi (res_main_v18 V0) (broadcastInDim S8x65536 ![] bcast_S_S8x65536 (constantI S_ 32 851968#32))) (res_main_v18 V0))) (ix3 k t d)
      = rows V0 (ix2 (rowOf (tab V0) (t.val / 256) (slots V0 (ix2 k t)).toNat) d) := by
  have hs := Range.slot_good h (ix2 k t)
  have hn : 192 * (t.val / 256) + (slots V0 (ix2 k t)).toNat / 16 < 49536 := by have := t.isLt; omega
  have hw := Range.word_good h (ix1 (⟨(192 * (t.val / 256) + (slots V0 (ix2 k t)).toNat / 16) % 49536, Nat.mod_lt _ (by norm_num)⟩ : Fin 49536))
  have hr : (tab V0 (ix1 (⟨(192 * (t.val / 256) + (slots V0 (ix2 k t)).toNat / 16) % 49536, Nat.mod_lt _ (by norm_num)⟩ : Fin 49536))).toNat
      + (slots V0 (ix2 k t)).toNat % 16 < 851968 := by have := hw.1; omega
  refine (routed_apply V0 k t d (slots V0 (ix2 k t)).toNat _ (by rw [BitVec.ofNat_toNat, BitVec.setWidth_eq]) hs (fun hlt => ?_) hr).trans ?_
  · rw [BitVec.ofNat_toNat, BitVec.setWidth_eq]
    exact congrArg (fun n => tab V0 (ix1 n)) (Fin.ext (Nat.mod_eq_of_lt hlt).symm)
  · exact congrArg (fun n => rows V0 (ix2 n d)) (Fin.ext (Nat.mod_eq_of_lt hr).symm)

/-- The reference's result, whole, its arguments named. -/
theorem ref_result {b0 : IVec S49536 32} {b1 : FVec Ideal S851968x1024 .bf16} {b2 : IVec S8x65536 32} {b3 : FVec Ideal S8x65536 .f32} {b4 : FVec Ideal S65536x1024 .f32}
    {b5 b6 : FVec Ideal S1x1024x256 .f32} {b7 : FVec Ideal S1x256x1024 .f32} {b8 b9 : FVec Ideal S1x1024 .f32}
    (e0 : tab V0 = b0) (e1 : rows V0 = b1) (e2 : slots V0 = b2) (e3 : gate V0 = b3) (e4 : inp V0 = b4) (e5 : w1 V0 = b5) (e6 : w2 V0 = b6) (e7 : w3 V0 = b7)
    (e8 : lng V0 = b8) (e9 : lnb V0 = b9) (h : Cert.Pre_in_range.fn (F := Ideal) b0 b1 b2 b3 b4 b5 b6 b7 b8 b9 = fun _ => 1#1) :
    result V0 = fun i : S65536x1024.Idx => entry b0 b1 b2 b3 b4 b5 b6 b7 b8 b9 (i 0) (i 1) := by
  subst e0 e1 e2 e3 e4 e5 e6 e7 e8 e9
  refine funext fun (i : S65536x1024.Idx) => ?_
  have hi : i = ix2 (i 0) (i 1) := funext fun a => by match a with | ⟨0, _⟩ => rfl | ⟨1, _⟩ => rfl
  refine (congrArg (result V0) hi).trans ?_
  exact result_ref V0 (i 0) (i 1) _ fun d => summed_ref V0 (i 0) d
    (fun k d => rows V0 (ix2 (rowOf (tab V0) ((i 0).val / 256) (slots V0 (ix2 k (i 0))).toNat) d)) fun k d => gathered V0 h k (i 0) d

end Ref

end Cert.Proof

end
-- ==== Proof.Combine.lean ====
/- The frames of the combine call and of its reference, and the value from both. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Main
public import proofs.«01_k».proof.Proof.Range
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

section
open Cert.KernelIdeal Cert.Proof.Run
variable {F : FTy → Type} [FloatOps F]

/-- Every argument array of core `c` is what it was. -/
abbrev ArgsKept (m : (ℓ : Loc nD τ sig) → Buf (Elt F) ℓ) (c : Dev nD) (s : MemSt nD τ sig (Elt F)) : Prop :=
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)

/-- What the final states of the kernel's run say of its arguments. -/
theorem args_kept (m : (ℓ : Loc nD τ sig) → Buf (Elt F) ℓ) (c : Dev nD) (s : MemSt nD τ sig (Elt F)) (h : QY m c s) : ArgsKept m c s := by
  obtain ⟨hw, h0, h1, h2, h3, h5, h6, h7, h8, h9⟩ := h
  exact ⟨h0, h1, h2, h3, (hw 1).trans (((dats m 0 c).arrAt_in 1 rfl _).trans (V_kept m c main_arg4 (by decide))), h5, h6, h7, h8, h9⟩

end

/-- The kernel's frame at any floats. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) (hg : ∀ c, Cert.Proof.Run.GoodTab (Cert.Proof.Run.tbl m c)) :
    θ_run Cert.KernelIdeal.defs (onTc (τ := Cert.KernelIdeal.τ) (Cert.KernelIdeal.main (F := F))) ⟨m, fun _ => 0, ρ⟩ fun r =>
      (∀ c : Dev Cert.KernelIdeal.nD, ArgsKept m c r.2) ∧ r.2.sem = fun _ => 0 :=
  (θ_run Cert.KernelIdeal.defs _ _).mono (fun _ h => ⟨fun c => args_kept m c _ (h.1 c), h.2⟩) (Cert.Proof.Run.run_main m ρ hg)

set_option maxHeartbeats 0 in
set_option smartUnfolding false in
/-- The kernel's frame at bits: its text is the idealized kernel's. -/
theorem frame_kernel : Cert.quiescent_Kernel := fun m ρ hp => by
  have h := frame_any (F := Bits) m ρ fun c n => Cert.Proof.Range.word_good (hp c) _
  with_unfolding_all exact h

/-- The kernel's frame at the extended reals. -/
theorem frame_ideal : Cert.quiescent_KernelIdeal := fun m ρ hp => frame_any m ρ fun c n => Cert.Proof.Range.word_good (hp c) _

/-- The reference's frame at the extended reals. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The kernel's run, its result read. -/
theorem run_kernel (m : (ℓ : Loc Cert.KernelIdeal.nD Cert.KernelIdeal.τ Cert.KernelIdeal.sig) → Buf (Elt Ideal) ℓ) (ρ : Dev Cert.KernelIdeal.nD → PrngReg)
    (hp : Cert.Pre_KernelIdeal m) :
    θ_run Cert.KernelIdeal.defs (onTc (τ := Cert.KernelIdeal.τ) (Cert.KernelIdeal.main (F := Ideal))) ⟨m, fun _ => 0, ρ⟩ fun r =>
      ∀ c : Dev Cert.KernelIdeal.nD, r.2.mem ((c.tc : Thread Cert.KernelIdeal.nD Cert.KernelIdeal.τ).loc Cert.KernelIdeal.main_v13) = Cert.Proof.Run.finalA m c 8
        ∧ ArgsKept m c r.2 :=
  (θ_run Cert.KernelIdeal.defs _ _).mono (fun _ h c => ⟨(h.1 c).1 8, args_kept m c _ (h.1 c)⟩)
    (Cert.Proof.Run.run_main m ρ fun c n => Cert.Proof.Range.word_good (hp c) _)

/-- Over the extended reals the kernel and the reference compute the same array. -/
theorem algebraic : Cert.algebraic_KernelIdeal_ReferenceIdeal := fun m g m' g' hp heq => by
  refine ⟨fun c => Cert.Proof.Run.finalA m c 8, run_kernel m g hp, (θ_run Cert.ReferenceIdeal.defs _ _).mono (fun r h c => ⟨(h c).1.trans ?_, (h c).2⟩)
    (Cert.ReferenceIdeal.Value.run m' g')⟩
  obtain ⟨h0, h1, h2, h3, h4, h5, h6, h7, h8, h9⟩ := heq c
  exact (Cert.Proof.Ref.ref_result (Idealize.ShloMosaic.StableHlo.launchContents m' c) h0 h1 h2 h3 h4 h5 h6 h7 h8 h9 (hp c)).trans (Cert.Proof.Run.kernel_result m c (hp c)).symm

end Cert.Proof

end
-- ==== Proof.FfnBody.lean ====
/- The experts' call: what its two tables say of the schedule, and one grid point's run. -/
module

public import proofs.«01_k».proof.Proof.Gen.FfnIdeal
public import proofs.«01_k».proof.Proof.Gen.FfnIdeal.Launch
public import proofs.«01_k».proof.Proof.Gen.FfnIdeal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384

noncomputable section

namespace Cert.Proof.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-! ## The tables -/

/-- The tables a launch may have: every tile's expert is one of the sixty-four, and the number of tiles in use is
    between one and the grid's. -/
structure Good (te : S832.Idx → BitVec 32) (nu : S1.Idx → BitVec 32) : Prop where
  expert : ∀ i, (te i).toNat < 64
  pos : ∀ i, 1 ≤ (nu i).toNat
  le : ∀ i, (nu i).toNat ≤ 832

instance : Subsingleton S1.Idx := ⟨fun a b => funext fun d => Fin.ext (by
  have h1 : ∀ e : Fin 1, S1.size e = 1 := by decide
  have ha := (a d).isLt
  have hb := (b d).isLt
  have := h1 d
  omega)⟩

/-- The one word of a table of one word. -/
abbrev one : S1.Idx := fun _ => ⟨0, by decide +revert⟩

/-- The index of a tile's word. -/
abbrev tileIx (n : Fin 832) : S832.Idx := fun | 0 => n

/-- A word between one and the grid's size, less one, against a point: the smaller. -/
theorem minsi_word (n : ℕ) (hn : n < 832) (w : BitVec 32) (h1 : 1 ≤ w.toNat) (h2 : w.toNat ≤ 832) :
    (Scalar.minsi (BitVec.ofNat 32 n) (Scalar.subi w 1#32)).toNat = min n (w.toNat - 1) := by
  have hs : (w - 1#32).toNat = w.toNat - 1 := by rw [BitVec.toNat_sub_of_le (by rw [BitVec.le_def]; simpa using h1)]; rfl
  have hn' : (BitVec.ofNat 32 n).toNat = n := by rw [BitVec.toNat_ofNat]; omega
  have e1 : (BitVec.ofNat 32 n).toInt = n := by rw [BitVec.toInt_eq_toNat_of_lt (by omega), hn']
  have e2 : (w - 1#32).toInt = (w.toNat - 1 : ℕ) := by rw [BitVec.toInt_eq_toNat_of_lt (by omega), hs]
  show (IntOp.minsi (BitVec.ofNat 32 n) (w - 1#32)).toNat = _
  unfold IntOp.minsi
  rw [BitVec.slt_eq_decide, e1, e2]
  by_cases h : (n : ℤ) < (w.toNat - 1 : ℕ)
  · rw [if_pos (decide_eq_true h), hn', min_eq_left (by omega)]
  · rw [if_neg (by rw [decide_eq_true_iff]; exact h), hs, min_eq_right (by omega)]

/-- The body's condition: the point is below the number of tiles in use. -/
theorem cond_iff (i : grid0.Coords) (w : BitVec 32) (h2 : w.toNat ≤ 832) : k0_cond1 i w = 1#1 ↔ (i 0).val < w.toNat := by
  have hi : (i 0).val < 832 := (i 0).isLt
  have hn' : (BitVec.ofNat 32 (i 0).val).toNat = (i 0).val := by rw [BitVec.toNat_ofNat]; omega
  have e1 : (BitVec.ofNat 32 (i 0).val).toInt = (i 0).val := by rw [BitVec.toInt_eq_toNat_of_lt (by omega), hn']
  have e2 : w.toInt = w.toNat := BitVec.toInt_eq_toNat_of_lt (by omega)
  have hk : k0_cond1 i w = IntOp.cmpi .slt (BitVec.ofNat 32 (i 0).val) w := by
    show IntOp.cmpi .ne (BitVec.setWidth 32 (IntOp.cmpi .slt (BitVec.ofNat 32 (i 0).val) w)) 0#32 = _
    generalize IntOp.cmpi .slt (BitVec.ofNat 32 (i 0).val) w = b
    revert b; decide
  rw [hk, IntOp.cmpi_slt, e1, e2]
  omega

section Maps
variable (pf : pre0.Contents (Elt F))

/-- The number of tiles in use. -/
abbrev used : ℕ := BitVec.toNat (pf 1 one)
/-- A tile's expert. -/
abbrev expertOf (n : Fin 832) : ℕ := BitVec.toNat (pf 0 (tileIx n))

omit [FloatOps F] in
/-- The rows' block at a point: the tile's, and the last used tile's past it; so the output's. -/
theorem rows_map (hg : Good (pf 0) (pf 1)) (i : grid0.Coords) :
    cc0_transform_0 inb_S1_S1_0 numel1_S1 pf i = ![min (i 0).val (used pf - 1), 0] := by
  have e : ∀ x : S1.Idx, (pf 1 x : BitVec 32) = pf 1 one := fun x => congrArg (pf 1) (Subsingleton.elim x one)
  refine congrArg (fun n : ℕ => (![n, 0] : Fin 2 → ℕ)) ((minsi_word (i 0).val (i 0).isLt (pf.at 1 (Rect.unit (s := S1) ![0] S1.size inb_S1_S1_0) numel1_S1) (hg.pos _) (hg.le _)).trans ?_)
  exact congrArg (fun w : BitVec 32 => min (i 0).val (w.toNat - 1)) (e _)

omit [FloatOps F] in
theorem out_map (hg : Good (pf 0) (pf 1)) (i : grid0.Coords) :
    cc0_transform_4 inb_S1_S1_0 numel1_S1 pf i = ![min (i 0).val (used pf - 1), 0] := rows_map pf hg i

omit [FloatOps F] in
/-- The matrices' block at a point: the tile's expert's. -/
theorem gate_map (i : grid0.Coords) :
    cc0_transform_1 k0_off1_inb numel1_S1 pf i = ![expertOf pf (i 0), 0, 0] := by
  have hi : (i 0).val < 832 := (i 0).isLt
  unfold cc0_transform_1
  dsimp only
  unfold Pipeline.Prefetch.Contents.at
  refine congrArg (fun n : ℕ => (![n, 0, 0] : Fin 3 → ℕ)) (congrArg BitVec.toNat (congrArg (pf 0) (funext fun d => Fin.ext ?_)))
  match d with
  | ⟨0, _⟩ =>
    show (BitVec.ofNat 32 (i 0).val).toNat + 1 * 0 = (i 0).val
    rw [BitVec.toNat_ofNat]; omega

omit [FloatOps F] in
theorem up_map (i : grid0.Coords) : cc0_transform_2 k0_off1_inb numel1_S1 pf i = ![expertOf pf (i 0), 0, 0] := gate_map pf i
omit [FloatOps F] in
theorem down_map (i : grid0.Coords) : cc0_transform_3 k0_off1_inb numel1_S1 pf i = ![expertOf pf (i 0), 0, 0] := gate_map pf i

/-- Good tables name blocks inside their arrays. -/
theorem ok_of_good (hg : Good (pf 0) (pf 1)) : ok0 pf := by
  have hu : used pf ≤ 832 := hg.le one
  refine ⟨fun i => ⟨?_, .inr (Affine.block_words_dvd (s := S861184x1024) (p := EltTy.packing .bf16) (by decide) (by decide))⟩,
    fun i => ⟨?_, .inr (Affine.block_words_dvd (s := S64x1024x256) (p := EltTy.packing .bf16) (by decide) (by decide))⟩,
    fun i => ⟨?_, .inr (Affine.block_words_dvd (s := S64x1024x256) (p := EltTy.packing .bf16) (by decide) (by decide))⟩,
    fun i => ⟨?_, .inr (Affine.block_words_dvd (s := S64x256x1024) (p := EltTy.packing .bf16) (by decide) (by decide))⟩,
    fun i => ⟨?_, .inr (Affine.block_words_dvd (s := S851968x1024) (p := EltTy.packing .bf16) (by decide) (by decide))⟩⟩
  · intro a
    have hi : (i 0).val < 832 := (i 0).isLt
    rw [rows_map pf hg i]
    match a with
    | ⟨0, _⟩ => show (min (i 0).val (used pf - 1) + 1) * 1024 ≤ 861184; omega
    | ⟨1, _⟩ => show (0 + 1) * 1024 ≤ 1024; omega
  · intro a
    have he : expertOf pf (i 0) < 64 := hg.expert _
    rw [gate_map pf i]
    match a with
    | ⟨0, _⟩ => show (expertOf pf (i 0) + 1) * 1 ≤ 64; omega
    | ⟨1, _⟩ => show (0 + 1) * 1024 ≤ 1024; omega
    | ⟨2, _⟩ => show (0 + 1) * 256 ≤ 256; omega
  · intro a
    have he : expertOf pf (i 0) < 64 := hg.expert _
    rw [up_map pf i]
    match a with
    | ⟨0, _⟩ => show (expertOf pf (i 0) + 1) * 1 ≤ 64; omega
    | ⟨1, _⟩ => show (0 + 1) * 1024 ≤ 1024; omega
    | ⟨2, _⟩ => show (0 + 1) * 256 ≤ 256; omega
  · intro a
    have he : expertOf pf (i 0) < 64 := hg.expert _
    rw [down_map pf i]
    match a with
    | ⟨0, _⟩ => show (expertOf pf (i 0) + 1) * 1 ≤ 64; omega
    | ⟨1, _⟩ => show (0 + 1) * 256 ≤ 256; omega
    | ⟨2, _⟩ => show (0 + 1) * 1024 ≤ 1024; omega
  · intro a
    have hi : (i 0).val < 832 := (i 0).isLt
    rw [out_map pf hg i]
    match a with
    | ⟨0, _⟩ => show (min (i 0).val (used pf - 1) + 1) * 1024 ≤ 851968; omega
    | ⟨1, _⟩ => show (0 + 1) * 1024 ≤ 1024; omega

end Maps

/-! ## One grid point -/

section Point
variable (c : Dev nD) (te : S832.Idx → Elt F .i32) (nu : S1.Idx → Elt F .i32)

/-- The two tables as the body is handed them. -/
abbrev tabR : Memref sig .tc .smem S832 .i32 := Memref.whole main_arg0
/-- The second. -/
abbrev usedR : Memref sig .tc .smem S1 .i32 := Memref.whole main_arg1

/-- The two tables, held whole. -/
abbrev tables : sProp 𝕄 :=
  iprop((tabR.view.loc (c : Thread nD τ) ↦{fullShare} te) ∗ (usedR.view.loc (c : Thread nD τ) ↦{fullShare} nu))

/-- The word the body reads of the second table. -/
abbrev readNu : Elt F .i32 :=
  View.readAt (Elt F) usedR.view (Rect.unit (s := S1) ![0] S1.size inb_S1_S1_0).toLoadRect nu (Shape.Idx.first (numel1_S1.symm ▸ Nat.one_pos))

set_option backward.proofsInPublic true in
set_option maxHeartbeats 8000000 in
/-- At a point below the number of tiles in use, the body stores the tile's result. -/
theorem run_used (i : grid0.Coords) (arg3 : Memref sig .tc .vmem S1024x1024 .bf16) (harg3 : arg3.IsWhole) (arg4 : Memref sig .tc .vmem S1x1024x256 .bf16) (harg4 : arg4.IsWhole)
    (arg5 : Memref sig .tc .vmem S1x1024x256 .bf16) (harg5 : arg5.IsWhole) (arg6 : Memref sig .tc .vmem S1x256x1024 .bf16) (harg6 : arg6.IsWhole)
    (arg7 : Memref sig .tc .vmem S1024x1024 .bf16) (harg7 : arg7.IsWhole)
    (x0 : S1024x1024.Idx → Elt F .bf16) (x1 x2 : S1x1024x256.Idx → Elt F .bf16) (x3 : S1x256x1024.Idx → Elt F .bf16) (y : S1024x1024.Idx → Elt F .bf16)
    (hc : k0_cond1 i (readNu nu) = 1#1) (Q : PUnit → sProp 𝕄) :
    iprop(tables c te nu ∗ owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare y
        ∗ (iprop(tables c te nu ∗ owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (k0_pay1 x0 x1 x2 x3)) -∗ Q ⟨⟩))
      ⊢ wp frame (wpE (defs₀ (F := F)) Variants.none c none) Set.univ
          (cc0_ffn i tabR (Memref.isWhole_whole _) usedR (Memref.isWhole_whole _) arg3 harg3 arg4 harg4 arg5 harg5 arg6 harg6 arg7 harg7) Q := by
  unfold owns
  rw [cc0_ffn_eq_skeleton]; unfold cc0_ffn_skel
  iintro ⟨⟨HT0, HT1⟩, ⟨%f0, %hf0, H0⟩, ⟨%f1, %hf1, H1⟩, ⟨%f2, %hf2, H2⟩, ⟨%f3, %hf3, H3⟩, ⟨%f4, -, HO4⟩, Hk⟩
  have hT0 : tabR.IsWhole := Memref.isWhole_whole _
  have hT1 : usedR.IsWhole := Memref.isWhole_whole _
  sl_exec! (disch := first | (guard_target = k0_cond1 _ _ = _; exact hc))
  sl_step
  iapply Hk
  isplitl [HT0 HT1]
  · isplitl [HT0]; · iexact HT0
    iexact HT1
  isplitl [H0]
  · iexists f0; isplitr; · ipureintro; exact hf0
    iexact H0
  isplitl [H1]
  · iexists f1; isplitr; · ipureintro; exact hf1
    iexact H1
  isplitl [H2]
  · iexists f2; isplitr; · ipureintro; exact hf2
    iexact H2
  isplitl [H3]
  · iexists f3; isplitr; · ipureintro; exact hf3
    iexact H3
  iexists _; isplitr; swap; · iexact HO4
  ipureintro
  have a3 := View.readAt_full arg3.view f0 inb_S1024x1024_S1024x1024_0_0
  have a4 := View.readAt_full arg4.view f1 inb_S1x1024x256_S1x1024x256_0_0_0
  have a5 := View.readAt_full arg5.view f2 inb_S1x1024x256_S1x1024x256_0_0_0
  have a6 := View.readAt_full arg6.view f3 inb_S1x256x1024_S1x256x1024_0_0_0
  subst hf0 hf1 hf2 hf3
  rw [← a3, ← a4, ← a5, ← a6]
  exact View.read_writes_full arg7.view _ inb_S1024x1024_S1024x1024_0_0 _ []

set_option backward.proofsInPublic true in
set_option maxHeartbeats 8000000 in
/-- At a later point the body stores nothing. -/
theorem run_unused (i : grid0.Coords) (arg3 : Memref sig .tc .vmem S1024x1024 .bf16) (harg3 : arg3.IsWhole) (arg4 : Memref sig .tc .vmem S1x1024x256 .bf16) (harg4 : arg4.IsWhole)
    (arg5 : Memref sig .tc .vmem S1x1024x256 .bf16) (harg5 : arg5.IsWhole) (arg6 : Memref sig .tc .vmem S1x256x1024 .bf16) (harg6 : arg6.IsWhole)
    (arg7 : Memref sig .tc .vmem S1024x1024 .bf16) (harg7 : arg7.IsWhole) (hc : ¬ k0_cond1 i (readNu nu) = 1#1) (Q : PUnit → sProp 𝕄) :
    iprop(tables c te nu ∗ (tables c te nu -∗ Q ⟨⟩))
      ⊢ wp frame (wpE (defs₀ (F := F)) Variants.none c none) Set.univ
          (cc0_ffn i tabR (Memref.isWhole_whole _) usedR (Memref.isWhole_whole _) arg3 harg3 arg4 harg4 arg5 harg5 arg6 harg6 arg7 harg7) Q := by
  rw [cc0_ffn_eq_skeleton]; unfold cc0_ffn_skel
  iintro ⟨⟨HT0, HT1⟩, Hk⟩
  have hT0 : tabR.IsWhole := Memref.isWhole_whole _
  have hT1 : usedR.IsWhole := Memref.isWhole_whole _
  sl_exec! (disch := first | (guard_target = ¬(k0_cond1 _ _ = _); exact hc))
  sl_step
  iapply Hk
  isplitl [HT0]; · iexact HT0
  iexact HT1

end Point

end Cert.Proof.Ffn

end
-- ==== Proof.FfnMain.lean ====
/- The experts' call as a region of @main: its schedule under good tables, its body at every point, and the whole run. -/
module

public import proofs.«01_k».proof.Proof.FfnBody
public import Idealize.ShloMosaic.Lib.Pipeline.Regions

@[expose] public section

noncomputable section

namespace Cert.Proof.Ffn

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

/-! ## @main before the call: six host operations -/

/-- The proof's algebra is the pipeline library's. -/
abbrev EP : Emb (UR sig nD τ) (MT nD τ sig Unit (Elt F) ℕ (UR sig nD τ) ℕ) := emb₁

variable (m : (ℓ : Loc nD τ sig) → Buf (Elt F) ℓ) (ρ : Dev nD → PrngReg)

/-- The launch state: memory `m`, every counter zero. -/
abbrev s₀ : MemSt nD τ sig (Elt F) := ⟨m, fun _ => 0, ρ⟩

/-- Core `c`'s buffers at launch, as the operations' valuation; -/
abbrev V₀ (c : Dev nD) : Valuation τ sig (Elt F) := fun b => m ((c : Dev nD), b)
/-- and when the call is entered: the host operations have run. -/
abbrev V (c : Dev nD) (b : Ref sig .tc) : Buf (Elt F) ((c : Thread nD τ).loc b) := StableHlo.after hostOps0 (V₀ m c) b

/-- The buffers the host operations write. -/
def written : List (Ref sig .tc) := [main_v0, main_v1, main_v2, main_v3, main_v4, main_v5]

/-- No host operation writes another buffer. -/
theorem not_written (b : Ref sig .tc) (hb : ∀ r ∈ written, b ≠ r) : ∀ op ∈ (hostOps0 (F := F)), Proc.devRef .tc b ∉ op.writes := by
  simp only [written, List.forall_mem_cons, List.not_mem_nil, false_implies, implies_true, _root_.and_true] at hb
  obtain ⟨h0, h1, h2, h3, h4, h5⟩ := hb
  intro op hop
  simp only [List.mem_cons, List.mem_nil_iff, _root_.or_false] at hop
  rcases hop with rfl | rfl | rfl | rfl | rfl | rfl <;>
    simp only [StableHlo.unary_writes, StableHlo.reshape_writes, Finset.mem_singleton] <;>
    exact StableHlo.devRef_ne_of_ne ‹_›

/-- So each argument reaches the call as launched. -/
theorem V_kept (c : Dev nD) (b : Ref sig .tc) (hb : ∀ r ∈ written, b ≠ r) : V m c b = m ((c : Thread nD τ).loc b) :=
  StableHlo.after_of_forall_not_mem (b := Proc.devRef .tc b) hostOps0 (V₀ m c) (not_written b hb)

/-- The TensorCore's unscoped references, as device buffers: the set the host operations run within. -/
def ucRefs : Finset (DevRef τ sig) := (StableHlo.tcRefs τ sig).filter fun b => ¬ b.isScoped

omit [FloatOps F] in
/-- The launch's unscoped buffers at a valuation are that set held at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
/-- A host operation names no scoped buffer. -/
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-! ## The schedule under good tables -/

/-- The tiles' experts and the number of tiles in use, as launched. -/
abbrev teOf (c : Dev nD) : S832.Idx → Elt F .i32 := m ((c : Thread nD τ).loc main_arg0)
/-- The number of tiles in use, as launched. -/
abbrev nuOf (c : Dev nD) : S1.Idx → Elt F .i32 := m ((c : Thread nD τ).loc main_arg1)

/-- The tables' contents at launch. -/
abbrev pfm : pre0.Contents (Elt F) := fun k => m (((0 : Dev nD) : Thread nD τ).loc (pre0.ref k))

variable (hg : ∀ c : Dev nD, Good (teOf m c) (nuOf m c))

/-- The tables as the call takes them: good, so the blocks they name lie in their arrays. -/
def adm (p : Fin 1) : (pcfgs (F := F) p).Adm := ⟨pfm m, ok_of_good (pfm m) (hg 0)⟩

/-- The number of tiles in use. -/
abbrev nUsed : ℕ := used (pfm m)

/-- A point's coordinate is its number. -/
theorem coords_val : ∀ t : Fin grid0.N, ((grid0.coords t) 0).val = t.val := by decide +kernel

include hg in
/-- At least one tile is in use, and at most the grid's. -/
theorem nUsed_bounds : 1 ≤ nUsed m ∧ nUsed m ≤ 832 := ⟨(hg 0).pos _, (hg 0).le _⟩

/-- The output's block at a point. -/
theorem index_out (t : Fin 832) : ((cfg0 (adm m hg 0)).win (4 : Fin 5)).index t = ![min t.val (nUsed m - 1), 0] := by
  have e := out_map (pfm m) (hg 0) (grid0.coords t)
  rw [coords_val t] at e
  exact e

/-- A point writes its block back when the next tile is in use, or when it is the last. -/
theorem flush_iff (t : Fin 832) : ((cfg0 (adm m hg 0)).win (4 : Fin 5)).flush t = true ↔ t.val + 1 = 832 ∨ t.val + 1 < nUsed m := by
  have hb := nUsed_bounds m hg
  have e : ((cfg0 (adm m hg 0)).win (4 : Fin 5)).flush t = Window.flushOf grid0 true (fun i => ((cfg0 (adm m hg 0)).win (4 : Fin 5)).indexMap i) t := rfl
  rw [e]
  unfold Window.flushOf
  rw [Bool.true_and, Bool.or_eq_true, decide_eq_true_iff, decide_eq_true_iff]
  refine or_congr Iff.rfl ⟨?_, ?_⟩
  · rintro ⟨h, hne⟩
    by_contra hc
    refine hne ((index_out m hg ⟨t.val + 1, h⟩).trans (Eq.trans ?_ (index_out m hg t).symm))
    show (![min (t.val + 1) (nUsed m - 1), 0] : Fin 2 → ℕ) = ![min t.val (nUsed m - 1), 0]
    rw [show min (t.val + 1) (nUsed m - 1) = min t.val (nUsed m - 1) by omega]
  · intro h
    have h8 : t.val + 1 < 832 := by omega
    refine ⟨h8, fun hc => ?_⟩
    have e := congrFun ((index_out m hg ⟨t.val + 1, h8⟩).symm.trans (hc.trans (index_out m hg t))) 0
    have e' : min (t.val + 1) (nUsed m - 1) = min t.val (nUsed m - 1) := e
    omega

include hg in
/-- The word the body reads is the number of tiles in use. -/
theorem cond_used (c : Dev nD) (t : Fin 832) : k0_cond1 (grid0.coords t) (readNu (nuOf m c)) = 1#1 ↔ t.val < nUsed m := by
  obtain rfl : c = 0 := Subsingleton.elim _ _
  have e : readNu (nuOf m 0) = pfm m 1 one := congrArg (nuOf m 0) (Subsingleton.elim (α := S1.Idx) _ _)
  rw [e]
  have h := cond_iff (grid0.coords t) (pfm m 1 one) ((hg 0).le _)
  rw [coords_val t] at h
  exact h

/-- A point past the tiles in use stores nothing. -/
theorem idle_iff (t : Fin (cfg0 (adm m hg 0)).N) : (cfg0 (adm m hg 0)).idle (4 : Fin 5) ((cfg0 (adm m hg 0)).grid.coords t) = true ↔ nUsed m ≤ t.val := by
  have h := cond_used m hg 0 t
  have e : (cfg0 (adm m hg 0)).idle (4 : Fin 5) ((cfg0 (adm m hg 0)).grid.coords t) = !(k0_cond1 (grid0.coords t) (readNu (nuOf m 0)) == 1#1) := by
    refine congrArg (fun w => !(k0_cond1 (grid0.coords t) w == 1#1)) ?_
    have hh : ∀ a, (![0] : Fin 1 → ℕ) a + 1 ≤ S1.size a := by decide
    refine (dif_pos hh).trans ?_
    exact congrArg (nuOf m 0) (Subsingleton.elim (α := S1.Idx) _ _)
  rw [e, Bool.not_eq_true', ← Bool.not_eq_true, beq_iff_eq, h]
  omega

/-- Past the tiles in use the output's buffer holds the last used tile's result. -/
theorem fresh_out (n : ℕ) (h : nUsed m ≤ n) (h8 : n < 832) : (cfg0 (adm m hg 0)).fresh (4 : Fin 5) n = false := by
  have hb := nUsed_bounds m hg
  induction n with
  | zero => omega
  | succ n ih =>
    rw [Pipeline.Cfg.fresh_succ (cfg0 (adm m hg 0)) (4 : Fin 5) n (show n < 832 by omega)]
    have hf : ((cfg0 (adm m hg 0)).win (4 : Fin 5)).flush ⟨n, (show n < 832 by omega)⟩ = false :=
      Bool.eq_false_iff.2 fun hfl => by
        rcases (flush_iff m hg ⟨n, by omega⟩).1 hfl with h' | h'
        · have : n + 1 = 832 := h'
          omega
        · have : n + 1 < nUsed m := h'
          omega
    rw [hf, Bool.false_or, Bool.and_eq_false_iff]
    by_cases hn : nUsed m ≤ n
    · exact .inr (ih hn (show n < 832 by omega))
    · left
      rw [← Bool.not_eq_true]
      exact fun hi => hn ((idle_iff m hg ⟨n, by show n < 832; omega⟩).1 hi)

/-! ## The call's proof data -/

/-- Window `w`'s block at point `t`, of its array at the call's entry. -/
abbrev stg (c : Dev nD) (w : Fin 5) (t : Fin (cfg0 (adm m hg 0)).N) : (spec0 w).block.Idx → Elt F (spec0 w).elt :=
  (((cfg0 (adm m hg 0)).win w).blk t).view.read (Elt F) (V m c (Pipeline.arrRef spec0 w))

/-- The result of a tile. -/
abbrev outAt (c : Dev nD) (t : Fin (cfg0 (adm m hg 0)).N) : S1024x1024.Idx → Elt F .bf16 :=
  k0_pay1 (stg m hg c 0 t) (stg m hg c 1 t) (stg m hg c 2 t) (stg m hg c 3 t)

/-- The tile whose result the output's buffer holds after a point. -/
abbrev held (t : Fin (cfg0 (adm m hg 0)).N) : Fin (cfg0 (adm m hg 0)).N := ⟨min t.val (nUsed m - 1), lt_of_le_of_lt (min_le_left _ _) t.isLt⟩

/-- The proof data on core `c`: the arrays at their entry contents; after the body an input's block as fetched, the
    output's the held tile's result; the tables between points; nothing owed; full shares. -/
def dat (c : Dev nD) : Dat τ (Elt F) Unit ℕ (UR sig nD τ) ℕ (cfg0 (adm m hg 0)) c where
  A w := V m c (Pipeline.arrRef spec0 w)
  after w t := match w with
    | ⟨0, _⟩ => stg m hg c 0 t
    | ⟨1, _⟩ => stg m hg c 1 t
    | ⟨2, _⟩ => stg m hg c 2 t
    | ⟨3, _⟩ => stg m hg c 3 t
    | ⟨4, _⟩ => outAt m hg c (held m hg t)
  Φ _ := tables c (teOf m c) (nuOf m c)
  q _ := fullShare
  owed _ := 0

/-- The proof data's entry contents. -/
theorem A_eq (c : Dev nD) (w : Fin 5) : (dat m hg c).A w = V m c (Pipeline.arrRef spec0 w) := by
  dsimp only [dat]

/-- An input's buffer holds its block when the body runs. -/
theorem before_in (c : Dev nD) (w : Fin 5) (hw : w ≠ 4) (t : Fin (cfg0 (adm m hg 0)).N) (d) : (dat m hg c).before w t d = stg m hg c w t := by
  fin_cases w <;> first
    | exact absurd rfl hw
    | exact ((dat m hg c).before_in_eq_fetched _ rfl (fun _ => rfl) (fun _ _ _ => rfl) (fun _ => rfl) t d).trans rfl

/-- The output's buffer past the tiles in use, when the body runs: the last used tile's result. -/
theorem before_out (c : Dev nD) (t : Fin (cfg0 (adm m hg 0)).N) (ht : nUsed m ≤ t.val) (d) : (dat m hg c).before (4 : Fin 5) t d = outAt m hg c (held m hg t) := by
  have hb := nUsed_bounds m hg
  have hc : ∀ (t : Fin (cfg0 (adm m hg 0)).N) (_ : t.val ≠ 0), (cfg0 (adm m hg 0)).idle (4 : Fin 5) ((cfg0 (adm m hg 0)).grid.coords t) = true → (cfg0 (adm m hg 0)).fresh (4 : Fin 5) t.val = false →
      (dat m hg c).after (4 : Fin 5) t = (dat m hg c).after (4 : Fin 5) ⟨t.val - 1, lt_of_le_of_lt (Nat.sub_le _ _) t.isLt⟩ := by
    intro t h0 hi _
    have hu := (idle_iff m hg t).1 hi
    refine congrArg (outAt m hg c) (Fin.ext ?_)
    show min t.val (nUsed m - 1) = min (t.val - 1) (nUsed m - 1)
    omega
  refine ((dat m hg c).before_out_traj (4 : Fin 5) rfl (fun _ _ => rfl) hc t.val t rfl d).trans ?_
  refine (if_neg (fun h => Bool.false_ne_true ((fresh_out m hg t.val ht t.isLt).symm.trans h))).trans ?_
  refine congrArg (outAt m hg c) (Fin.ext ?_)
  show min (t.val - 1) (nUsed m - 1) = min t.val (nUsed m - 1)
  omega

/-- The memref window `w` is in at point `t`. -/
abbrev stgM (w : Fin 5) (t : Fin (cfg0 (adm m hg 0)).N) :=
  ((cfg0 (adm m hg 0)).win w).stage ((cfg0 (adm m hg 0)).slots t w)

/-- The grid's coordinates at a point. -/
abbrev crd (t : Fin (cfg0 (adm m hg 0)).N) := (cfg0 (adm m hg 0)).grid.coords t

set_option backward.isDefEq.respectTransparency.types false in
set_option maxHeartbeats 4000000 in
/-- The body at a point: `run_used` where the tile is in use, `run_unused` past them. -/
theorem body_at (c : Dev nD) (t : Fin (cfg0 (adm m hg 0)).N) :
    iprop((dat m hg c).Φ t.castSucc ∗ (dat m hg c).owesAt () t.castSucc
        ∗ (∃ d, owns (c : Thread nD τ) (stgM m hg 0 t) fullShare ((dat m hg c).before (0 : Fin 5) t d))
        ∗ (∃ d, owns (c : Thread nD τ) (stgM m hg 1 t) fullShare ((dat m hg c).before (1 : Fin 5) t d))
        ∗ (∃ d, owns (c : Thread nD τ) (stgM m hg 2 t) fullShare ((dat m hg c).before (2 : Fin 5) t d))
        ∗ (∃ d, owns (c : Thread nD τ) (stgM m hg 3 t) fullShare ((dat m hg c).before (3 : Fin 5) t d))
        ∗ (∃ d, owns (c : Thread nD τ) (stgM m hg 4 t) fullShare ((dat m hg c).before (4 : Fin 5) t d)))
      ⊢ (wp frame (wpE (defs₀ (F := F)) Variants.none c none) Set.univ
          (cc0_ffn (crd m hg t) (Memref.whole main_arg0) (Memref.isWhole_whole _) (Memref.whole main_arg1) (Memref.isWhole_whole _)
            (stgM m hg 0 t) (stage_whole0 0 _) (stgM m hg 1 t) (stage_whole0 1 _) (stgM m hg 2 t) (stage_whole0 2 _)
            (stgM m hg 3 t) (stage_whole0 3 _) (stgM m hg 4 t) (stage_whole0 4 _)) fun _ =>
          iprop((dat m hg c).Φ t.succ ∗ (dat m hg c).owesAt () t.succ
            ∗ bigSep Finset.univ fun w : Fin (cfg0 (adm m hg 0)).W =>
                match (cfg0 (adm m hg 0)).idle w ((cfg0 (adm m hg 0)).grid.coords t) with
                | true =>
                  match ((cfg0 (adm m hg 0)).win w).flush t with
                  | false => iprop(∃ d, owns (c : Thread nD τ) (((cfg0 (adm m hg 0)).win w).stage ((cfg0 (adm m hg 0)).slots t w)) fullShare ((dat m hg c).before w t d))
                  | true => owns (c : Thread nD τ) (((cfg0 (adm m hg 0)).win w).stage ((cfg0 (adm m hg 0)).slots t w)) fullShare ((dat m hg c).after w t)
                | false => owns (c : Thread nD τ) (((cfg0 (adm m hg 0)).win w).stage ((cfg0 (adm m hg 0)).slots t w)) fullShare ((dat m hg c).after w t)) : sProp 𝕄) := by
  rw [bigSep_W0]
  rw [show (dat m hg c).Φ t.castSucc = tables c (teOf m c) (nuOf m c) from rfl, show (dat m hg c).Φ t.succ = tables c (teOf m c) (nuOf m c) from rfl,
    show (dat m hg c).owesAt () t.succ = (dat m hg c).owesAt () t.castSucc from rfl]
  by_cases hu : nUsed m ≤ t.val
  · have hi := (idle_iff m hg t).2 hu
    have hc : ¬ k0_cond1 (grid0.coords t) (readNu (nuOf m c)) = 1#1 := fun h => absurd ((cond_used m hg c t).1 h) (by omega)
    rw [hi]
    dsimp only
    iintro ⟨HT, HO, ⟨%d0, H0⟩, ⟨%d1, H1⟩, ⟨%d2, H2⟩, ⟨%d3, H3⟩, ⟨%d4, H4⟩⟩
    rw [before_in m hg c 0 (by decide) t d0, before_in m hg c 1 (by decide) t d1, before_in m hg c 2 (by decide) t d2, before_in m hg c 3 (by decide) t d3]
    iapply (run_unused c (teOf m c) (nuOf m c) (grid0.coords t) (stgM m hg 0 t) (stage_whole0 0 _) (stgM m hg 1 t) (stage_whole0 1 _)
      (stgM m hg 2 t) (stage_whole0 2 _) (stgM m hg 3 t) (stage_whole0 3 _) (stgM m hg 4 t) (stage_whole0 4 _) hc _)
    isplitl [HT]; · iexact HT
    iintro HT
    isplitl [HT]; · iexact HT
    isplitl [HO]; · iexact HO
    isplitl [H0]; · iexact H0
    isplitl [H1]; · iexact H1
    isplitl [H2]; · iexact H2
    isplitl [H3]; · iexact H3
    cases hf : ((cfg0 (adm m hg 0)).win (4 : Fin 5)).flush t
    · iexists d4; iexact H4
    · rw [before_out m hg c t hu d4]
      iexact H4
  · have hi : (cfg0 (adm m hg 0)).idle (4 : Fin 5) ((cfg0 (adm m hg 0)).grid.coords t) = false := by
      rw [← Bool.not_eq_true]; exact fun h => hu ((idle_iff m hg t).1 h)
    have hc : k0_cond1 (grid0.coords t) (readNu (nuOf m c)) = 1#1 := (cond_used m hg c t).2 (by omega)
    have hh : held m hg t = t := Fin.ext (by show min t.val (nUsed m - 1) = t.val; omega)
    rw [hi]
    rw [show (dat m hg c).after (4 : Fin 5) t = outAt m hg c t from congrArg (outAt m hg c) hh]
    dsimp only
    iintro ⟨HT, HO, ⟨%d0, H0⟩, ⟨%d1, H1⟩, ⟨%d2, H2⟩, ⟨%d3, H3⟩, ⟨%d4, H4⟩⟩
    rw [before_in m hg c 0 (by decide) t d0, before_in m hg c 1 (by decide) t d1, before_in m hg c 2 (by decide) t d2, before_in m hg c 3 (by decide) t d3]
    iapply (run_used c (teOf m c) (nuOf m c) (grid0.coords t) (stgM m hg 0 t) (stage_whole0 0 _) (stgM m hg 1 t) (stage_whole0 1 _)
      (stgM m hg 2 t) (stage_whole0 2 _) (stgM m hg 3 t) (stage_whole0 3 _) (stgM m hg 4 t) (stage_whole0 4 _)
      (stg m hg c 0 t) (stg m hg c 1 t) (stg m hg c 2 t) (stg m hg c 3 t) _ hc _)
    isplitl [HT]; · iexact HT
    isplitl [H0]; · iexact H0
    isplitl [H1]; · iexact H1
    isplitl [H2]; · iexact H2
    isplitl [H3]; · iexact H3
    isplitl [H4]; · iexact H4
    iintro ⟨HT, H0, H1, H2, H3, H4⟩
    isplitl [HT]; · iexact HT
    isplitl [HO]; · iexact HO
    isplitl [H0]; · iexact H0
    isplitl [H1]; · iexact H1
    isplitl [H2]; · iexact H2
    isplitl [H3]; · iexact H3
    iexact H4

/-- The proof data of @main's calls: there is one. -/
def dats (p : Fin 1) (c : Dev nD) : Dat τ (Elt F) Unit ℕ (UR sig nD τ) ℕ (Pipeline.pin (pcfgs (F := F)) (adm m hg) p) c := dat m hg c

/-- The library's body obligation, at every point. -/
theorem bodyObligation (c : Dev nD) : BodyObligation (dats m hg 0 c) (defs₀ (F := F)) Variants.none () Set.univ := fun t => by
  rw [bigSep_W0]
  exact body_at m hg c t

/-! ## The launch, by the library: @main as segments -/

/-- The call has no semaphore of its own. -/
abbrev osem : Fin 0 → SemLoc sig := Fin.elim0

/-- The call's own semaphores are no window's. -/
theorem ownSemFacts : Pipeline.OwnSemFacts spec0 osem := by decide

/-- The launch element: the pipeline library's. -/
def u₀ : UR sig nD τ :=
  initOf (Pipeline.cells (Pipeline.pin (pcfgs (F := F)) (adm m hg)) (cellOf_inj (adm m hg))) (Pipeline.launchToks (Pipeline.pin (pcfgs (F := F)) (adm m hg)) (cellOf_inj (adm m hg)))

omit [FloatOps F] in
/-- No own cell, nothing to hold. -/
theorem ownSems0_eq (c : Dev nD) :
    (Pipeline.ownSems0 (Ix := Unit) (Name := ℕ) (U := UR sig nD τ) (Lvl := ℕ) (Val := Elt F) (τ := τ) osem c : sProp 𝕄) = iprop(emp) :=
  Pipeline.ownSems0_eq_of_list c osem [] (by decide) (by decide)

/-- An array's contents after the run, as the library computes them. -/
def finalA (c : Dev nD) (w : Fin 5) : Buf (Elt F) ((spec0 w).arr.view.loc (c : Thread nD τ)) := (dats m hg 0 c).arrAt w 832

/-- The arguments that are neither a table nor a window's array, as launched. -/
abbrev restArgs (c : Dev nD) : sProp 𝕄 :=
  iprop(((c : Thread nD τ).loc main_arg3 ↦{fullShare} m ((c : Thread nD τ).loc main_arg3)) ∗ ((c : Thread nD τ).loc main_arg4 ↦{fullShare} m ((c : Thread nD τ).loc main_arg4))
    ∗ ((c : Thread nD τ).loc main_arg5 ↦{fullShare} m ((c : Thread nD τ).loc main_arg5)))

/-- The arguments outside the windows in a final memory. -/
abbrev argsKept (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
  ∧ s.mem ((c : Thread nD τ).loc main_arg3) = m ((c : Thread nD τ).loc main_arg3) ∧ s.mem ((c : Thread nD τ).loc main_arg4) = m ((c : Thread nD τ).loc main_arg4)
  ∧ s.mem ((c : Thread nD τ).loc main_arg5) = m ((c : Thread nD τ).loc main_arg5)

/-- What a final memory holds: the windows' arrays at what the library computes, the other arguments as launched. -/
abbrev QY (c : Dev nD) (s : MemSt nD τ sig (Elt F)) : Prop :=
  (∀ w : Fin 5, s.mem ((spec0 w).arr.view.loc (c : Thread nD τ)) = finalA m hg c w) ∧ argsKept m c s

abbrev L : GSem nD τ sig → Finset Unit := fun _ => ∅
abbrev lv : GSem nD τ sig → Unit → ℕ := fun _ _ => 0

/-- What rides beside the buffers through the host operations: the core's `owes`. -/
abbrev R (c : Dev nD) : sProp 𝕄 := iprop(∃ W, owes (c : Thread nD τ) (0 : CellTallies nD τ sig Unit) W)

/-- The host segment: the operations over the unscoped buffers. -/
def seg0 : Pipeline.HostSeg (Name := ℕ) (U := UR sig nD τ) (pcfgs (F := F)) defs₀ Variants.none L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m) R

/-- What the call leaves for the end. -/
abbrev Tₙ (c : Dev nD) : sProp 𝕄 :=
  iprop((dats m hg 0 c).arrays ((dats m hg 0 c).arrAt · 832) ∗ tables c (teOf m c) (nuOf m c) ∗ restArgs m c)

omit [FloatOps F] in
/-- There is one device. -/
theorem dev_zero (c : Dev nD) : c = 0 := Subsingleton.elim _ _

/-- The two prefetched tables, held whole. -/
theorem prefHeld_eq (c : Dev nD) (K : pre0.Contents (Elt F)) :
    (Pipeline.prefHeld pre0 c (fun _ => fullShare) K : sProp 𝕄)
      = iprop(((c : Thread nD τ).loc main_arg0 ↦{fullShare} K 0) ∗ ((c : Thread nD τ).loc main_arg1 ↦{fullShare} K 1)) := by
  unfold Pipeline.prefHeld
  rw [show (Finset.univ : Finset (Fin 2)) = insert (0 : Fin 2) {(1 : Fin 2)} from by decide, bigSep_insert (by decide), bigSep_singleton]
  rfl

/-- The tables as the call is handed them are the launch's. -/
theorem prefHeld_tables (c : Dev nD) :
    (Pipeline.prefHeld pre0 c (fun _ => fullShare) (pfm m) : sProp 𝕄) = tables c (teOf m c) (nuOf m c) := by
  obtain rfl := dev_zero c
  exact prefHeld_eq 0 (pfm m)

set_option backward.isDefEq.respectTransparency.types false in
/-- The call as a region of @main: entered from what the host operations left, the tables into its invariant, the other
    arguments beside it; left with the arrays at their final contents. -/
def reg0 : Pipeline.RegionSeg (pcfgs (F := F)) (adm m hg) (dats m hg) () defs₀ Variants.none L lv 0 where
  win := (launch0 (F := F)).win.to₀
  block_pos := (launch0 (F := F)).block_pos
  stage_whole := (launch0 (F := F)).stage_whole
  K := Fin 0
  osem := osem
  ho := ownSemFacts
  hbody c := (bodyObligation m hg c).loose
  hwaits := Pipeline.hwaits_of_owed_zero _ _ _ _ L lv 0 fun _ _ => rfl
  pre c := iprop(StableHlo.held (c : Thread nD τ) ucRefs (StableHlo.after hostOps0 (V₀ m c)) ∗ R c)
  post c := iprop(Tₙ m hg c ∗ R c)
  X _ := iprop(emp)
  Y c := tables c (teOf m c) (nuOf m c)
  Z c := restArgs m c
  hentry c := by
    rw [show StableHlo.held (c : Thread nD τ) ucRefs (StableHlo.after hostOps0 (V₀ m c)) = unscopedBufs c (V m c) from (unscopedBufs_held c _).symm,
      ownSems0_eq]
    have hsplit := (Pipeline.arrays_of_unscopedBufs (pcfgs (F := F)) (adm m hg) (dats m hg) winFacts0 arr_whole0 c
      ((dats m hg 0 c).share_full fun _ => rfl) (V m c) (A_eq m hg c)).trans (sep_mono .rfl (Entails.of_eq
        ((Pipeline.unscopedRest_split preFacts0 c (V m c)).trans (by rw [unscopedRestP0_eq]))))
    have ht : (Pipeline.prefHeld pre0 c (fun _ => fullShare) (fun k => V m c (pre0.ref k)) : sProp 𝕄) = tables c (teOf m c) (nuOf m c) := by
      rw [prefHeld_eq]
      show iprop(((c : Thread nD τ).loc main_arg0 ↦{fullShare} V m c main_arg0) ∗ ((c : Thread nD τ).loc main_arg1 ↦{fullShare} V m c main_arg1)) = _
      rw [V_kept m c main_arg0 (by decide), V_kept m c main_arg1 (by decide)]
    rw [V_kept m c main_arg3 (by decide), V_kept m c main_arg4 (by decide), V_kept m c main_arg5 (by decide)] at hsplit
    iintro ⟨⟨Hub, HO⟩, Hos, -⟩
    ihave H := hsplit $$ Hub
    icases H with ⟨Ha, Ht, H3, H4, H5, -⟩
    imodintro
    isplitl [Ha]; · iexact Ha
    isplitl [Ht]
    · iapply (Entails.of_eq (ht.trans (prefHeld_tables m c).symm))
      iexact Ht
    isplitl [HO]
    · unfold Pipeline.Dat.owesAt Pipeline.owesWithin
      icases HO with ⟨%W, HO⟩; iexists W; isplitr; · ipureintro; exact fun _ _ => Or.inl trivial
      iexact HO
    isplitr; · iempintro
    isplitl [H3]; · iexact H3
    isplitl [H4]; · iexact H4
    iexact H5
  hin c := by
    rw [show (dats m hg 0 c).Φ 0 = tables c (teOf m c) (nuOf m c) from rfl]
    iintro ⟨-, Ht, -⟩
    iapply (Entails.of_eq (prefHeld_tables m c))
    iexact Ht
  hout c := by
    rw [ownSems0_eq, show (dats m hg 0 c).Φ (Fin.last _) = tables c (teOf m c) (nuOf m c) from rfl]
    iintro Ht
    isplitl [Ht]; · iexact Ht
    isplitr; · iempintro
    iapply (Entails.of_eq (scopedRest0_eq (Ix := Unit) (Val := Elt F) (Name := ℕ) (U := UR sig nD τ) (Lvl := ℕ) c).symm)
    iempintro
  hexit c := by
    iintro ⟨Ha, HO, HY, HZ⟩
    imodintro
    isplitr [HO]
    · isplitl [Ha]; · iexact Ha
      isplitl [HY] <;> iassumption
    · unfold Pipeline.Dat.owesAt Pipeline.owesWithin
      icases HO with ⟨%W, -, HO⟩; iexists W; iexact HO

/-- @main as the list of the two. -/
abbrev segs : List (Pipeline.Seg (pcfgs (F := F)) (adm m hg) (dats m hg) () defs₀ Variants.none L lv) := [.host (seg0 m), .region (reg0 m hg)]

set_option backward.isDefEq.respectTransparency.types false in
/-- At the compiled mesh, for any float values, from any memory with zero counters whose tables are good: every weakly fair
    execution of @main terminates, and every final state has the windows' arrays at the computed contents, the other
    arguments unchanged and every semaphore counter at zero. -/
theorem run_main :
    θ_run defs (onTc (τ := τ) (main (F := F))) (s₀ m ρ) (fun r => (∀ c : Dev nD, QY m hg c r.2) ∧ r.2.sem = fun _ => 0) :=
  Pipeline.θ_run_regions_kit_sems (pcfgs (F := F)) (adm m hg) (dats m hg) () (cellOf_inj (adm m hg)) EP defs₀ Variants.none L lv m ρ main (segs m hg)
    (fun c Q => by rw [main_segs (adm m hg) (dats m hg) () Variants.none L lv (seg0 m) (reg0 m hg) rfl c])
    (by simp only [Pipeline.Seg.pipes_host, Pipeline.Seg.pipes_region, Pipeline.Seg.pipes_nil]; decide) (O₀ := 0) (hL := fun _ _ => rfl) (G := fun _ => iprop(emp)) (u₀ := u₀ m hg)
    (hu₀ := by
      unfold u₀
      iintro Hu
      imodintro
      isplitl [Hu]
      · iapply (show ∀ u : UR sig nD τ, (ownU u : sProp 𝕄) ⊢ BI.own (EP u) from fun _ => .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m c) ∗ R c)) (Tₙ := Tₙ m hg)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m c) from unscopedBufs_held c (V₀ m c)]
      iintro ⟨⟨Hh, -, HO, -, -, -⟩, -⟩
      imodintro
      isplitl [Hh]; · iexact Hh
      iexists ∅; iexact HO)
    (QY := QY m hg)
    (hfin := fun c s' => by
      dsimp only [Tₙ, restArgs]
      unfold tables
      iintro ⟨⟨Ha, ⟨H0, H1⟩, H3, H4, H5⟩, HSI⟩
      icombine HSI H0 gives %h0
      icombine HSI H1 gives %h1
      icombine HSI H3 gives %h3
      icombine HSI H4 gives %h4
      icombine HSI H5 gives %h5
      ihave Hr := (Pipeline.arrays_read (pcfgs (F := F)) (adm m hg) (dats m hg) arr_whole0 c ((dats m hg 0 c).share_full fun _ => rfl) _ s') $$ [Ha HSI]
      · isplitl [Ha] <;> iassumption
      icases Hr with ⟨%ha, HSI⟩
      imodintro
      isplitr
      · ipureintro
        exact ⟨ha, Buf.eq_of_forall_mem_univ h0, Buf.eq_of_forall_mem_univ h1, Buf.eq_of_forall_mem_univ h3, Buf.eq_of_forall_mem_univ h4, Buf.eq_of_forall_mem_univ h5⟩
      iexact HSI)
    (hQ := fun _ h hz => ⟨h, funext fun g => hz g (.inr (by revert g; decide))⟩)

end Cert.Proof.Ffn

end
-- ==== Proof.FfnFrame.lean ====
/- The experts' call: what its precondition and its row mask say of the tables, and the frames of its three programs. -/
module

public import proofs.«01_k».proof.Defs
public import proofs.«01_k».proof.Proof.FfnMain
public import proofs.«01_k».proof.Proof.Range
public import proofs.«01_k».proof.Proof.Gen.Ffn
public import proofs.«01_k».proof.Proof.Gen.FfnReferenceIdeal
public import proofs.«01_k».proof.Proof.Gen.FfnReferenceIdeal.Run
public import proofs.«01_k».proof.Proof.Gen.Pre_tiles_in_range
public import proofs.«01_k».proof.Proof.Gen.On_used_rows

@[expose] public section

noncomputable section

namespace Cert.Proof.Ffn

open Idealize.ShloMosaic Idealize.ShloMosaic.TcCoe Idealize.SL.Sem

section Tables

variable {F : FTy → Type} [FloatOps F] {a0 : IVec Cert.FfnIdeal.S832 32} {a1 : IVec Cert.FfnIdeal.S1 32} {a2 : FVec F Cert.FfnIdeal.S861184x1024 .bf16}
  {a3 a4 : FVec F Cert.FfnIdeal.S1x64x1024x256 .f32} {a5 : FVec F Cert.FfnIdeal.S1x64x256x1024 .f32}

/-- Under the precondition the tables are good. -/
theorem good_of_pre (h : Cert.Pre_tiles_in_range.fn (F := F) a0 a1 a2 a3 a4 a5 = fun _ => 1#1) : Good a0 a1 := by
  have h0 := congrFun h (Shape.Idx.first Cert.Pre_tiles_in_range.Facts.h_S_)
  dsimp only [Cert.Pre_tiles_in_range.fn] at h0
  obtain ⟨h1, h2⟩ := IntOp.andi_eq_one.1 h0
  have h1 := Host.reduce_andi_all _ _ _ _ _ h1
  have h2 := Host.reduce_andi_all _ _ _ _ _ h2
  refine ⟨fun i => ?_, fun i => ?_, fun i => ?_⟩
  · obtain ⟨ha, hb⟩ := IntOp.andi_eq_one.1 (h1 i)
    obtain ⟨hx, hi⟩ := Cert.Proof.Range.toNat_of_sge ha
    have hlt := IntOp.cmpi_slt.1 hb
    have hlt : (a0 i).toInt < (64#32 : BitVec 32).toInt := hlt
    rw [hi, show (64#32 : BitVec 32).toInt = 64 from by decide] at hlt
    omega
  all_goals
    obtain ⟨ha, hb⟩ := IntOp.andi_eq_one.1 (h2 i)
    have hge : (1#32 : BitVec 32).toInt ≤ (a1 i).toInt := IntOp.cmpi_sge.1 ha
    have hle : (a1 i).toInt ≤ (832#32 : BitVec 32).toInt := IntOp.cmpi_sle.1 hb
    rw [show (1#32 : BitVec 32).toInt = 1 from by decide] at hge
    rw [show (832#32 : BitVec 32).toInt = 832 from by decide] at hle
    have := BitVec.toInt_eq_toNat_cond (a1 i)
    have hlt := (a1 i).isLt
    split_ifs at this <;> omega

/-- The row mask is the rows of the tiles in use. -/
theorem row_used (hg : Good a0 a1) (i : Cert.FfnIdeal.S851968x1024.Idx) (h : Cert.On_used_rows.fn (F := F) a0 a1 a2 a3 a4 a5 i = 1#1) :
    (i 0).val < (a1 one).toNat * 1024 := by
  dsimp only [Cert.On_used_rows.fn] at h
  have hlt : (BitVec.ofNat 32 (i 0).val).toInt < (a1 one * 1024#32).toInt := by
    refine lt_of_lt_of_eq (IntOp.cmpi_slt.1 h) (congrArg BitVec.toInt ?_)
    exact congrArg (fun j => a1 j * 1024#32) (Subsingleton.elim (α := Cert.FfnIdeal.S1.Idx) _ _)
  have hi : (i 0).val < 851968 := (i 0).isLt
  have hle := hg.le one
  have e1 : (BitVec.ofNat 32 (i 0).val).toNat = (i 0).val := by
    rw [BitVec.toNat_ofNat]; exact Nat.mod_eq_of_lt (by omega)
  have e2 : (a1 one * 1024#32).toNat = (a1 one).toNat * 1024 := by
    rw [BitVec.toNat_mul, show (1024#32 : BitVec 32).toNat = 1024 from by decide]; exact Nat.mod_eq_of_lt (by omega)
  rw [BitVec.toInt_eq_toNat_of_lt (by rw [e1]; omega), BitVec.toInt_eq_toNat_of_lt (by rw [e2]; omega), e1, e2] at hlt
  exact_mod_cast hlt

end Tables

section
open Cert.FfnIdeal
variable {F : FTy → Type} [FloatOps F]

/-- Every argument array of core `c` is what it was. -/
abbrev ArgsKept (m : (ℓ : Loc nD τ sig) → Buf (Elt F) ℓ) (c : Dev nD) (s : MemSt nD τ sig (Elt F)) : Prop :=
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)

/-- What the final states of the kernel's run say of its arguments. -/
theorem args_kept (m : (ℓ : Loc nD τ sig) → Buf (Elt F) ℓ) (hg : ∀ c, Good (teOf m c) (nuOf m c)) (c : Dev nD) (s : MemSt nD τ sig (Elt F)) (h : QY m hg c s) :
    ArgsKept m c s := by
  obtain ⟨hw, h0, h1, h3, h4, h5⟩ := h
  exact ⟨h0, h1, (hw 0).trans (((dats m hg 0 c).arrAt_in (0 : Fin 5) rfl _).trans (V_kept m c main_arg2 (by decide))), h3, h4, h5⟩

/-- The kernel's frame at any floats. -/
theorem frame_any (m : (ℓ : Loc nD τ sig) → Buf (Elt F) ℓ) (ρ : Dev nD → PrngReg) (hg : ∀ c, Good (teOf m c) (nuOf m c)) :
    θ_run defs (onTc (τ := τ) (main (F := F))) ⟨m, fun _ => 0, ρ⟩ fun r =>
      (∀ c : Dev nD, ArgsKept m c r.2) ∧ r.2.sem = fun _ => 0 :=
  (θ_run defs _ _).mono (fun _ h => ⟨fun c => args_kept m hg c _ (h.1 c), h.2⟩) (run_main m ρ hg)

end

set_option maxHeartbeats 0 in
set_option smartUnfolding false in
/-- The kernel's frame at bits: its text is the idealized kernel's. -/
theorem frame_kernel : Cert.quiescent_Ffn := fun m ρ hp => by
  have h := frame_any (F := Bits) m ρ fun c => good_of_pre (hp c)
  with_unfolding_all exact h

/-- The kernel's frame at the extended reals. -/
theorem frame_ideal : Cert.quiescent_FfnIdeal := fun m ρ hp => frame_any m ρ fun c => good_of_pre (hp c)

/-- The reference's frame at the extended reals. -/
theorem frame_reference : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run m ρ)

end Cert.Proof.Ffn

end
-- ==== Proof.FfnEntry.lean ====
/- One entry of the experts' result, as a function of the arguments, and both programs' spellings of it. -/
module

public import proofs.«01_k».proof.Proof.Token
public import proofs.«01_k».proof.Proof.FfnMain
public import proofs.«01_k».proof.Proof.Gen.FfnReferenceIdeal
public import Idealize.ShloMosaic.Lib.Pointwise
public import Idealize.ShloMosaic.Lib.WordCmp

@[expose] public section

noncomputable section

namespace Cert.Proof.Ffn

open Idealize.ShloMosaic

/-- One expert's entry: its hidden entries times its down matrix's column. -/
def expert (x : Fin 1024 → EReal) (wg wu : Fin 1024 → Fin 256 → EReal) (wd : Fin 256 → Fin 1024 → EReal) (d : Fin 1024) : EReal :=
  ∑ f, hidden x wg wu f * wd f d

section
open Cert.FfnIdeal Cert.FfnIdeal.Gen

/-- What a point stores, at a row and a column: its expert's entry. -/
theorem pay_apply (x : Vec Ideal S1024x1024 .bf16) (wg wu : Vec Ideal S1x1024x256 .bf16) (wd : Vec Ideal S1x256x1024 .bf16) (k d : Fin 1024) :
    k0_pay1 x wg wu wd (ix2 k d)
      = expert (fun j => x (ix2 k j)) (fun j f => wg (ix3 0 j f)) (fun j f => wu (ix3 0 j f)) (fun f d => wd (ix3 0 f d)) d := by
  pointwise [k0_pay1, expert, hidden]
  simp only [zero_sub]

/-- A weight array, rounded and reshaped, at an index. -/
theorem cast_in (w : FVec Ideal S1x64x1024x256 .f32) (e : Fin 64) (k : Fin 1024) (f : Fin 256) :
    (truncf .bf16 (shapeCast S64x1024x256 w shapeCasts_S1x64x1024x256_S64x1024x256) bitsLt_bf16_f32 : FVec Ideal S64x1024x256 .bf16) (ix3 e k f) = w (ix4 0 e k f) := by
  pointwise
/-- The down matrices, rounded and reshaped, at an index. -/
theorem cast_out (w : FVec Ideal S1x64x256x1024 .f32) (e : Fin 64) (f : Fin 256) (d : Fin 1024) :
    (truncf .bf16 (shapeCast S64x256x1024 w shapeCasts_S1x64x256x1024_S64x256x1024) bitsLt_bf16_f32 : FVec Ideal S64x256x1024 .bf16) (ix3 e f d) = w (ix4 0 e f d) := by
  pointwise
end

section
open Cert.FfnReferenceIdeal Cert.FfnReferenceIdeal.Gen

variable (a0 : IVec S832 32) (a2 : FVec Ideal S861184x1024 .bf16) (a3 a4 : FVec Ideal S1x64x1024x256 .f32) (a5 : FVec Ideal S1x64x256x1024 .f32)

/-- The reference's rows, unrounded. -/
abbrev refX : FVec Ideal S851968x1024 .f32 := extf .f32 (extractStridedSlice S851968x1024 ![0, 0] a2 slices_S861184x1024_S851968x1024_0_0) bitsLt_bf16_f32
/-- The reference's product of every row with every expert's gate or up matrix. -/
abbrev refH (w : FVec Ideal S1x64x1024x256 .f32) : FVec Ideal S851968x64x256 .f32 :=
  Host.dotGeneral dot_S851968x1024_S64x1024x256_S851968x64x256_1_1_0_02_n_n none (refX a2) (shapeCast _ w shapeCasts_S1x64x1024x256_S64x1024x256)
/-- The reference's table of which expert a row is for: one at its expert, zero elsewhere. -/
abbrev refG : FVec Ideal S851968x64 .f32 :=
  uitofp .f32 (cmpi .eq (broadcastInDim S851968x64 ![0, 1] bcast_S851968x1_S851968x64_0_1 (broadcastInDim S851968x1 ![0] bcast_S851968_S851968x1_0 (shapeCast _ (broadcastInDim S832x1024 ![0] bcast_S832_S832x1024_0 a0) shapeCasts_S832x1024_S851968))) (broadcastInDim S851968x64 ![0, 1] bcast_S1x64_S851968x64_0_1 (broadcastInDim S1x64 ![1] bcast_S64_S1x64_1 (iotaInDim S64 32 0))))
/-- The reference's hidden entries, those of the other experts zeroed. -/
abbrev refM (hg hu : FVec Ideal S851968x64x256 .f32) (g : FVec Ideal S851968x64 .f32) : FVec Ideal S851968x64x256 .f32 :=
  mulf (mulf (mulf hg (Host.divf (broadcastInDim S851968x64x256 ![] bcast_S_S851968x64x256 (constant S_ .f32 0x3F800000#32)) (addf (broadcastInDim S851968x64x256 ![] bcast_S_S851968x64x256 (constant S_ .f32 0x3F800000#32)) (Host.exp (Host.negf hg))))) hu) (broadcastInDim S851968x64x256 ![0, 1, 2] bcast_S851968x64x1_S851968x64x256_0_1_2 (broadcastInDim S851968x64x1 ![0, 1] bcast_S851968x64_S851968x64x1_0_1 g))
/-- The reference's result from them. -/
abbrev refY (h : FVec Ideal S851968x64x256 .f32) : FVec Ideal S851968x1024 .bf16 :=
  truncf .bf16 (Host.dotGeneral dot_S851968x64x256_S64x256x1024_S851968x1024_12_01_0_2_n_n none h (shapeCast _ a5 shapeCasts_S1x64x256x1024_S64x256x1024)) bitsLt_bf16_f32

/-- A product at a row, an expert and a column. -/
theorem refH_apply (w : FVec Ideal S1x64x1024x256 .f32) (r : Fin 851968) (e : Fin 64) (f : Fin 256) :
    refH a2 w (ix3 r e f) = ∑ k : Fin 1024, a2 (ix2 ⟨r.val, by omega⟩ k) * w (ix4 0 e k f) := by
  pointwise

/-- The hidden entries at a row, an expert and a column. -/
theorem refM_apply (hg hu : FVec Ideal S851968x64x256 .f32) (g : FVec Ideal S851968x64 .f32) (r : Fin 851968) (e : Fin 64) (f : Fin 256) :
    refM hg hu g (ix3 r e f) = hg (ix3 r e f) * Ideal.div 1 (1 + Ideal.exp (-(hg (ix3 r e f)))) * hu (ix3 r e f) * g (ix2 r e) := by
  pointwise

/-- The result at a row and a column: a sum over the experts and their hidden columns. -/
theorem refY_apply (h : FVec Ideal S851968x64x256 .f32) (r : Fin 851968) (d : Fin 1024) :
    refY a5 h (ix2 r d) = ∑ e : Fin 64, ∑ f : Fin 256, h (ix3 r e f) * a5 (ix4 0 e f d) := by
  pointwise

/-- The bit of an equality, as a float: one or zero. -/
theorem bit_eq (w : BitVec 32) (n : ℕ) (hn : n < 64) :
    (FloatOps.uitofp FTy.f32 (IntOp.cmpi CmpIPredicate.eq w (BitVec.ofNat 32 n)) : Ideal .f32) = if w.toNat = n then (1 : EReal) else 0 := by
  have e : (BitVec.ofNat 32 n).toNat = n := by rw [BitVec.toNat_ofNat]; exact Nat.mod_eq_of_lt (by omega)
  rw [WordCmp.cmpi_eq_eq_toNat, e]
  by_cases h : w.toNat = n
  · rw [if_pos h, decide_eq_true h]
    show (((BitVec.ofBool true).toNat : ℝ) : EReal) = 1
    rw [show (BitVec.ofBool true).toNat = 1 from by decide]
    norm_num
  · rw [if_neg h, decide_eq_false h]
    show (((BitVec.ofBool false).toNat : ℝ) : EReal) = 0
    norm_num

/-- The table at a row and an expert: one when the row's tile is the expert's. -/
theorem refG_apply (r : Fin 851968) (e : Fin 64) :
    refG a0 (ix2 r e) = if (a0 (ix1 ⟨r.val / 1024, by omega⟩)).toNat = e.val then (1 : EReal) else 0 := by
  pointwise
  exact bit_eq _ _ e.isLt
end

section
open Cert.FfnIdeal

/-- The expert of a tile. -/
def tileExpert (a0 : IVec S832 32) (n : Fin 832) : Fin 64 := ⟨(a0 (ix1 n)).toNat % 64, Nat.mod_lt _ (by norm_num)⟩

/-- The result at a row and a column: the row's tile's expert at the row. -/
def tileEntry (a0 : IVec S832 32) (a2 : FVec Ideal S861184x1024 .bf16) (a3 a4 : FVec Ideal S1x64x1024x256 .f32) (a5 : FVec Ideal S1x64x256x1024 .f32)
    (r : Fin 851968) (d : Fin 1024) : EReal :=
  expert (fun k => a2 (ix2 ⟨r.val, by omega⟩ k)) (fun k f => a3 (ix4 0 (tileExpert a0 ⟨r.val / 1024, by omega⟩) k f))
    (fun k f => a4 (ix4 0 (tileExpert a0 ⟨r.val / 1024, by omega⟩) k f)) (fun f d => a5 (ix4 0 (tileExpert a0 ⟨r.val / 1024, by omega⟩) f d)) d

/-- Of a sum over the experts, all but one of them zeroed, the one is left. -/
theorem sum_one (h : Fin 64 → Fin 256 → EReal) (g : Fin 64 → EReal) (w : Fin 64 → Fin 256 → EReal) (e₀ : Fin 64) (h1 : g e₀ = 1) (h0 : ∀ e, e ≠ e₀ → g e = 0) :
    ∑ e, ∑ f, h e f * g e * w e f = ∑ f, h e₀ f * w e₀ f := by
  rw [Finset.sum_eq_single e₀]
  · exact Finset.sum_congr rfl fun f _ => by rw [h1, mul_one]
  · intro e _ he
    exact Finset.sum_eq_zero fun f _ => by rw [h0 e he, mul_zero, zero_mul]
  · exact fun he => absurd (Finset.mem_univ _) he

/-- The reference's result at a row and a column. -/
theorem ref_entry (a0 : IVec S832 32) (a2 : FVec Ideal S861184x1024 .bf16) (a3 a4 : FVec Ideal S1x64x1024x256 .f32) (a5 : FVec Ideal S1x64x256x1024 .f32)
    (hg : ∀ i, (a0 i).toNat < 64) (r : Fin 851968) (d : Fin 1024) :
    refY a5 (refM (refH a2 a3) (refH a2 a4) (refG a0)) (ix2 r d) = tileEntry a0 a2 a3 a4 a5 r d := by
  refine (refY_apply a5 _ r d).trans ?_
  refine (Finset.sum_congr rfl fun e _ => Finset.sum_congr rfl fun f _ => ?_).trans
    (sum_one (fun e f => hidden (fun k => a2 (ix2 ⟨r.val, by omega⟩ k)) (fun k f => a3 (ix4 0 e k f)) (fun k f => a4 (ix4 0 e k f)) f)
      (fun e => refG a0 (ix2 r e)) (fun e f => a5 (ix4 0 e f d)) (tileExpert a0 ⟨r.val / 1024, by omega⟩) ?_ ?_)
  · rw [refM_apply, refH_apply, refH_apply]
    rfl
  · refine (refG_apply a0 r _).trans (if_pos ?_)
    exact (Nat.mod_eq_of_lt (hg _)).symm
  · intro e he
    refine (refG_apply a0 r e).trans (if_neg fun hc => he (Fin.ext ?_))
    exact hc.symm.trans (Nat.mod_eq_of_lt (hg _)).symm
end

end Cert.Proof.Ffn

end
-- ==== Proof.FfnValue.lean ====
/- The experts' call computes its reference's array on the rows of the tiles in use. -/
module

public import proofs.«01_k».proof.Proof.FfnEntry
public import proofs.«01_k».proof.Proof.FfnFrame
public import Idealize.ShloMosaic.Lib.Pipeline.ValueKit

@[expose] public section

noncomputable section

namespace Cert.Proof.Ffn

open Cert.FfnIdeal Cert.FfnIdeal.Gen
open Idealize.ShloMosaic Idealize.ShloMosaic.TcCoe Idealize.SL.Sem

section
variable {F : FTy → Type} [FloatOps F]
variable (m : (ℓ : Loc nD τ sig) → Buf (Elt F) ℓ) (hg : ∀ c, Good (teOf m c) (nuOf m c)) (c : Dev nD)

/-- An argument array on core `c`. -/
abbrev arg (b : Ref sig .tc) : Buf (Elt F) ((c.tc : Thread nD τ).loc b) := m ((c.tc : Thread nD τ).loc b)

/-- The gate matrices, rounded. -/
theorem V_v1 : V m c main_v1 = (truncf .bf16 (shapeCast S64x1024x256 (arg m c main_arg3 : FVec F S1x64x1024x256 .f32) shapeCasts_S1x64x1024x256_S64x1024x256) bitsLt_bf16_f32 : FVec F S64x1024x256 .bf16) := by
  unfold V; after_results; rfl
/-- The up matrices, rounded. -/
theorem V_v3 : V m c main_v3 = (truncf .bf16 (shapeCast S64x1024x256 (arg m c main_arg4 : FVec F S1x64x1024x256 .f32) shapeCasts_S1x64x1024x256_S64x1024x256) bitsLt_bf16_f32 : FVec F S64x1024x256 .bf16) := by
  unfold V; after_results; rfl
/-- The down matrices, rounded. -/
theorem V_v5 : V m c main_v5 = (truncf .bf16 (shapeCast S64x256x1024 (arg m c main_arg5 : FVec F S1x64x256x1024 .f32) shapeCasts_S1x64x256x1024_S64x256x1024) bitsLt_bf16_f32 : FVec F S64x256x1024 .bf16) := by
  unfold V; after_results; rfl

include hg in
/-- The blocks of a tile in use: its rows, -/
theorem rows_at (t : Fin 832) (ht : t.val < nUsed m) :
    cc0_transform_0 inb_S1_S1_0 numel1_S1 (pfm m) (grid0.coords t) = ![t.val, 0] := by
  have e := rows_map (pfm m) (hg 0) (grid0.coords t)
  rw [coords_val t] at e
  exact e.trans (congrArg (fun n : ℕ => (![n, 0] : Fin 2 → ℕ)) (by show min t.val (nUsed m - 1) = t.val; omega))

/-- and its expert's matrices. -/
theorem expert_at (t : Fin 832) :
    cc0_transform_1 k0_off1_inb numel1_S1 (pfm m) (grid0.coords t) = ![(teOf m 0 (ix1 t)).toNat, 0, 0] := by
  refine (gate_map (pfm m) (grid0.coords t)).trans ?_
  refine congrArg (fun n : ℕ => (![n, 0, 0] : Fin 3 → ℕ)) (congrArg BitVec.toNat (congrArg (teOf m 0) (funext fun a => ?_)))
  match a with
  | ⟨0, _⟩ => exact Fin.ext (coords_val t)

/-- Row `1024 t + k` of the rows. -/
theorem stg0_apply (t : Fin (cfg0 (adm m hg 0)).N) (ht : t.val < nUsed m) (k j : Fin 1024) (h : 1024 * t.val + k.val < 861184) :
    stg m hg c 0 t (ix2 k j) = (V m c main_arg2 : FVec F S861184x1024 .bf16) (ix2 ⟨1024 * t.val + k.val, h⟩ j) := by
  refine congrArg (V m c main_arg2 : FVec F S861184x1024 .bf16) (funext fun a => Fin.ext ?_)
  have e := rows_at m hg t ht
  match a with
  | ⟨0, _⟩ =>
    show cc0_transform_0 inb_S1_S1_0 numel1_S1 (pfm m) (grid0.coords t) 0 * 1024 + 1 * k.val = 1024 * t.val + k.val
    rw [e]; show t.val * 1024 + 1 * k.val = 1024 * t.val + k.val; omega
  | ⟨1, _⟩ =>
    show cc0_transform_0 inb_S1_S1_0 numel1_S1 (pfm m) (grid0.coords t) 1 * 1024 + 1 * j.val = j.val
    rw [e]; show 0 * 1024 + 1 * j.val = j.val; omega

/-- The gate matrix of the tile's expert, -/
theorem stg1_apply (t : Fin (cfg0 (adm m hg 0)).N) (k : Fin 1024) (f : Fin 256) (h : (teOf m 0 (ix1 t)).toNat < 64) :
    stg m hg c 1 t (ix3 0 k f) = (V m c main_v1 : FVec F S64x1024x256 .bf16) (ix3 ⟨(teOf m 0 (ix1 t)).toNat, h⟩ k f) := by
  refine congrArg (V m c main_v1 : FVec F S64x1024x256 .bf16) (funext fun a => Fin.ext ?_)
  have e := expert_at m t
  match a with
  | ⟨0, _⟩ =>
    show cc0_transform_1 k0_off1_inb numel1_S1 (pfm m) (grid0.coords t) 0 * 1 + 1 * 0 = (teOf m 0 (ix1 t)).toNat
    rw [e]; show (teOf m 0 (ix1 t)).toNat * 1 + 1 * 0 = (teOf m 0 (ix1 t)).toNat; omega
  | ⟨1, _⟩ =>
    show cc0_transform_1 k0_off1_inb numel1_S1 (pfm m) (grid0.coords t) 1 * 1024 + 1 * k.val = k.val
    rw [e]; show 0 * 1024 + 1 * k.val = k.val; omega
  | ⟨2, _⟩ =>
    show cc0_transform_1 k0_off1_inb numel1_S1 (pfm m) (grid0.coords t) 2 * 256 + 1 * f.val = f.val
    rw [e]; show 0 * 256 + 1 * f.val = f.val; omega

/-- its up matrix, -/
theorem stg2_apply (t : Fin (cfg0 (adm m hg 0)).N) (k : Fin 1024) (f : Fin 256) (h : (teOf m 0 (ix1 t)).toNat < 64) :
    stg m hg c 2 t (ix3 0 k f) = (V m c main_v3 : FVec F S64x1024x256 .bf16) (ix3 ⟨(teOf m 0 (ix1 t)).toNat, h⟩ k f) := by
  refine congrArg (V m c main_v3 : FVec F S64x1024x256 .bf16) (funext fun a => Fin.ext ?_)
  have e := expert_at m t
  match a with
  | ⟨0, _⟩ =>
    show cc0_transform_1 k0_off1_inb numel1_S1 (pfm m) (grid0.coords t) 0 * 1 + 1 * 0 = (teOf m 0 (ix1 t)).toNat
    rw [e]; show (teOf m 0 (ix1 t)).toNat * 1 + 1 * 0 = (teOf m 0 (ix1 t)).toNat; omega
  | ⟨1, _⟩ =>
    show cc0_transform_1 k0_off1_inb numel1_S1 (pfm m) (grid0.coords t) 1 * 1024 + 1 * k.val = k.val
    rw [e]; show 0 * 1024 + 1 * k.val = k.val; omega
  | ⟨2, _⟩ =>
    show cc0_transform_1 k0_off1_inb numel1_S1 (pfm m) (grid0.coords t) 2 * 256 + 1 * f.val = f.val
    rw [e]; show 0 * 256 + 1 * f.val = f.val; omega

/-- and its down matrix. -/
theorem stg3_apply (t : Fin (cfg0 (adm m hg 0)).N) (f : Fin 256) (d : Fin 1024) (h : (teOf m 0 (ix1 t)).toNat < 64) :
    stg m hg c 3 t (ix3 0 f d) = (V m c main_v5 : FVec F S64x256x1024 .bf16) (ix3 ⟨(teOf m 0 (ix1 t)).toNat, h⟩ f d) := by
  refine congrArg (V m c main_v5 : FVec F S64x256x1024 .bf16) (funext fun a => Fin.ext ?_)
  have e := expert_at m t
  match a with
  | ⟨0, _⟩ =>
    show cc0_transform_1 k0_off1_inb numel1_S1 (pfm m) (grid0.coords t) 0 * 1 + 1 * 0 = (teOf m 0 (ix1 t)).toNat
    rw [e]; show (teOf m 0 (ix1 t)).toNat * 1 + 1 * 0 = (teOf m 0 (ix1 t)).toNat; omega
  | ⟨1, _⟩ =>
    show cc0_transform_1 k0_off1_inb numel1_S1 (pfm m) (grid0.coords t) 1 * 256 + 1 * f.val = f.val
    rw [e]; show 0 * 256 + 1 * f.val = f.val; omega
  | ⟨2, _⟩ =>
    show cc0_transform_1 k0_off1_inb numel1_S1 (pfm m) (grid0.coords t) 2 * 1024 + 1 * d.val = d.val
    rw [e]; show 0 * 1024 + 1 * d.val = d.val; omega

/-- Two points that write their blocks back write different blocks. -/
theorem index_inj (t t' : Fin 832) (h : ((cfg0 (adm m hg 0)).win (4 : Fin 5)).flush t = true) (h' : ((cfg0 (adm m hg 0)).win (4 : Fin 5)).flush t' = true)
    (e : ((cfg0 (adm m hg 0)).win (4 : Fin 5)).index t = ((cfg0 (adm m hg 0)).win (4 : Fin 5)).index t') : t = t' := by
  have hb := nUsed_bounds m hg
  have hf := (flush_iff m hg t).1 h
  have hf' := (flush_iff m hg t').1 h'
  rw [index_out m hg t, index_out m hg t'] at e
  have e0 : min t.val (nUsed m - 1) = min t'.val (nUsed m - 1) := congrFun e 0
  have := t.isLt
  have := t'.isLt
  exact Fin.ext (by omega)

/-- The result array on a tile in use: the tile's result, written back when the next tile is in use, or at the end. -/
theorem final_out (t : Fin (cfg0 (adm m hg 0)).N) (ht : t.val < nUsed m) (k d : Fin 1024) (h : 1024 * t.val + k.val < 851968) :
    (finalA m hg c 4 : FVec F S851968x1024 .bf16) (ix2 ⟨1024 * t.val + k.val, h⟩ d) = outAt m hg c t (ix2 k d) := by
  have hb := nUsed_bounds m hg
  obtain ⟨s, hs, hm⟩ : ∃ s : Fin (cfg0 (adm m hg 0)).N, (s.val + 1 = 832 ∨ s.val + 1 < nUsed m) ∧ min s.val (nUsed m - 1) = t.val := by
    by_cases hl : t.val + 1 < nUsed m
    · exact ⟨t, Or.inr hl, by omega⟩
    · exact ⟨⟨831, by show 831 < 832; omega⟩, Or.inl rfl, by show min 831 (nUsed m - 1) = t.val; omega⟩
  have e := (dats m hg 0 c).arrAt_emb_eq_flushed (4 : Fin 5) (Pipeline.Window.hdisj_of_index_inj _ fun t t' h h' e => index_inj m hg t t' h h' e) s
    ((flush_iff m hg s).2 hs) (ix2 k d)
  have hi : (((cfg0 (adm m hg 0)).win (4 : Fin 5)).blk s).view.emb (ix2 k d) = ix2 (⟨1024 * t.val + k.val, h⟩ : Fin 851968) d := by
    refine funext fun a => Fin.ext ?_
    have e := index_out m hg s
    match a with
    | ⟨0, _⟩ =>
      show ((cfg0 (adm m hg 0)).win (4 : Fin 5)).index s 0 * 1024 + 1 * k.val = 1024 * t.val + k.val
      rw [e]; show min s.val (nUsed m - 1) * 1024 + 1 * k.val = 1024 * t.val + k.val; omega
    | ⟨1, _⟩ =>
      show ((cfg0 (adm m hg 0)).win (4 : Fin 5)).index s 1 * 1024 + 1 * d.val = d.val
      rw [e]; show 0 * 1024 + 1 * d.val = d.val; omega
  have hh : held m hg s = t := Fin.ext hm
  exact (congrArg (finalA m hg c 4) hi.symm).trans (e.trans (congrArg (fun u => outAt m hg c u (ix2 k d)) hh))

end

section
variable (m : (ℓ : Loc nD τ sig) → Buf (Elt Ideal) ℓ) (hg : ∀ c, Good (teOf m c) (nuOf m c)) (c : Dev nD)

/-- The kernel's result on a tile in use. -/
theorem kernel_tile (t : Fin (cfg0 (adm m hg 0)).N) (ht : t.val < nUsed m) (k d : Fin 1024) (h : 1024 * t.val + k.val < 851968) :
    (finalA m hg c 4 : FVec Ideal S851968x1024 .bf16) (ix2 ⟨1024 * t.val + k.val, h⟩ d)
      = tileEntry (arg m c main_arg0) (arg m c main_arg2) (arg m c main_arg3) (arg m c main_arg4) (arg m c main_arg5) ⟨1024 * t.val + k.val, h⟩ d := by
  obtain rfl : c = 0 := dev_zero c
  have he : (teOf m 0 (ix1 t)).toNat < 64 := (hg 0).expert _
  have hx : (⟨(teOf m 0 (ix1 t)).toNat, he⟩ : Fin 64) = tileExpert (arg m 0 main_arg0) ⟨(1024 * t.val + k.val) / 1024, by omega⟩ := by
    refine Fin.ext ((Nat.mod_eq_of_lt he).symm.trans (congrArg (fun n : Fin 832 => (teOf m 0 (ix1 n)).toNat % 64) (Fin.ext ?_)))
    show t.val = (1024 * t.val + k.val) / 1024
    omega
  have h0 : ∀ j, stg m hg 0 0 t (ix2 k j) = (arg m 0 main_arg2 : FVec Ideal S861184x1024 .bf16) (ix2 ⟨1024 * t.val + k.val, by omega⟩ j) := fun j =>
    (stg0_apply m hg 0 t ht k j _).trans (congrFun (V_kept m 0 main_arg2 (by decide)) _)
  have h1 : ∀ j f, stg m hg 0 1 t (ix3 0 j f) = (arg m 0 main_arg3 : FVec Ideal S1x64x1024x256 .f32) (ix4 0 ⟨(teOf m 0 (ix1 t)).toNat, he⟩ j f) := fun j f =>
    (stg1_apply m hg 0 t j f he).trans ((congrFun (V_v1 m 0) _).trans (cast_in _ _ _ _))
  have h2 : ∀ j f, stg m hg 0 2 t (ix3 0 j f) = (arg m 0 main_arg4 : FVec Ideal S1x64x1024x256 .f32) (ix4 0 ⟨(teOf m 0 (ix1 t)).toNat, he⟩ j f) := fun j f =>
    (stg2_apply m hg 0 t j f he).trans ((congrFun (V_v3 m 0) _).trans (cast_in _ _ _ _))
  have h3 : ∀ f d, stg m hg 0 3 t (ix3 0 f d) = (arg m 0 main_arg5 : FVec Ideal S1x64x256x1024 .f32) (ix4 0 ⟨(teOf m 0 (ix1 t)).toNat, he⟩ f d) := fun f d =>
    (stg3_apply m hg 0 t f d he).trans ((congrFun (V_v5 m 0) _).trans (cast_out _ _ _ _))
  refine (final_out m hg 0 t ht k d h).trans ((pay_apply _ _ _ _ k d).trans ?_)
  unfold tileEntry
  rw [funext h0, funext fun j => funext (h1 j), funext fun j => funext (h2 j), funext fun f => funext (h3 f), hx]

/-- The kernel's result at a row of a tile in use. -/
theorem kernel_entry (i : S851968x1024.Idx) (hi : (i 0).val < nUsed m * 1024) :
    finalA m hg c 4 i = tileEntry (arg m c main_arg0) (arg m c main_arg2) (arg m c main_arg3) (arg m c main_arg4) (arg m c main_arg5) (i 0) (i 1) := by
  have hb := nUsed_bounds m hg
  have ei : i = ix2 (i 0) (i 1) := funext fun a => by match a with | ⟨0, _⟩ => rfl | ⟨1, _⟩ => rfl
  have h0 : (i 0).val < 851968 := (i 0).isLt
  have hT : 1024 * ((i 0).val / 1024) + (i 0).val % 1024 < 851968 := by omega
  have e : i 0 = (⟨1024 * ((i 0).val / 1024) + (i 0).val % 1024, hT⟩ : Fin 851968) := Fin.ext (by show (i 0).val = 1024 * ((i 0).val / 1024) + (i 0).val % 1024; omega)
  have hk := kernel_tile m hg c ⟨(i 0).val / 1024, by show (i 0).val / 1024 < 832; omega⟩ (by show (i 0).val / 1024 < nUsed m; omega)
    ⟨(i 0).val % 1024, Nat.mod_lt _ (by norm_num)⟩ (i 1) hT
  refine (congrArg (finalA m hg c 4) (ei.trans (congrArg (fun n => ix2 n (i 1)) e))).trans (hk.trans ?_)
  exact congrArg (fun n => tileEntry _ _ _ _ _ n (i 1)) e.symm

end

/-- The reference's result, whole, its arguments named. -/
theorem ref_result {a0 b0 : IVec S832 32} {a2 b2 : FVec Ideal S861184x1024 .bf16} {a3 b3 a4 b4 : FVec Ideal S1x64x1024x256 .f32} {a5 b5 : FVec Ideal S1x64x256x1024 .f32}
    (e0 : a0 = b0) (e2 : a2 = b2) (e3 : a3 = b3) (e4 : a4 = b4) (e5 : a5 = b5) (hg : ∀ i, (b0 i).toNat < 64) :
    refY a5 (refM (refH a2 a3) (refH a2 a4) (refG a0)) = fun i : S851968x1024.Idx => tileEntry b0 b2 b3 b4 b5 (i 0) (i 1) := by
  subst e0 e2 e3 e4 e5
  refine funext fun (i : S851968x1024.Idx) => ?_
  have hi : i = ix2 (i 0) (i 1) := funext fun a => by match a with | ⟨0, _⟩ => rfl | ⟨1, _⟩ => rfl
  exact (congrArg (refY a5 (refM (refH a2 a3) (refH a2 a4) (refG a0))) hi).trans (ref_entry a0 a2 a3 a4 a5 hg (i 0) (i 1))

/-- Over the extended reals the kernel and the reference compute the same rows of the tiles in use. -/
theorem algebraic : Cert.algebraic_FfnIdeal_FfnReferenceIdeal_on_used_rows := fun m g m' g' hp heq => by
  have hg : ∀ c, Good (teOf m c) (nuOf m c) := fun c => good_of_pre (hp c)
  refine ⟨fun c => fun i : S851968x1024.Idx => tileEntry (arg m c main_arg0) (arg m c main_arg2) (arg m c main_arg3) (arg m c main_arg4) (arg m c main_arg5) (i 0) (i 1),
    (θ_run defs _ _).mono (fun r h c => ⟨fun i hi => ?_, args_kept m hg c _ (h.1 c)⟩) (run_main m g hg),
    (θ_run Cert.FfnReferenceIdeal.defs _ _).mono (fun r h c => ⟨fun i _ => ?_, (h c).2⟩) (Cert.FfnReferenceIdeal.Value.run m' g')⟩
  · refine (congrFun ((h.1 c).1 4) i).trans (kernel_entry m hg c i ?_)
    obtain rfl : c = 0 := dev_zero c
    exact row_used (hg 0) i hi
  · obtain ⟨h0, _, h2, h3, h4, h5⟩ := heq c
    exact congrFun ((h c).1.trans (ref_result h0 h2 h3 h4 h5 (hg c).expert)) i

end Cert.Proof.Ffn

end
-- ==== Proof.KvupEntry.lean ====
/- One entry of the latent attention's keys and values, as a function of the arguments, and both programs' spellings of
   it. -/
module

public import proofs.«01_k».proof.Proof.Gen.KvupIdeal.Value
public import proofs.«01_k».proof.Proof.Gen.KvupReferenceIdeal
public import Idealize.ShloMosaic.Lib.Pointwise
public import Idealize.ShloMosaic.Lib.WordCmp

@[expose] public section

noncomputable section

namespace Cert.Proof.Kvup

open Idealize.ShloMosaic

section
open Cert.KvupIdeal Cert.KvupIdeal.Gen

/-- A head's key at a lane: the latent's product with the head's matrix, then the rotary part, then zeros. -/
def keyEntry (c : Fin 256 → EReal) (p : Fin 32 → EReal) (w : FVec Ideal S1x256x4x192 .f32) (l : Fin 512) : EReal :=
  if l.val % 128 < 64 then ∑ k, c k * w (ix4 0 k ⟨l.val / 128, by omega⟩ ⟨l.val % 128, by omega⟩)
  else if h : l.val % 128 < 96 then p ⟨l.val % 128 - 64, by omega⟩ else 0

/-- A head's value at a lane: the latent's product with the rest of the head's matrix. -/
def valEntry (c : Fin 256 → EReal) (w : FVec Ideal S1x256x4x192 .f32) (l : Fin 512) : EReal :=
  ∑ k, c k * w (ix4 0 k ⟨l.val / 128, by omega⟩ ⟨64 + l.val % 128, by omega⟩)

/-- What a point stores of the keys. -/
theorem pay2_apply (x : Vec Ideal S1024x256 .f32) (wk : Vec Ideal S256x512 .bf16) (p : Vec Ideal S1024x32 .f32) (pl : Vec Ideal S32x512 .bf16) (k : Fin 1024) (l : Fin 512) :
    k0_pay2 x wk p pl (ix2 k l) = ∑ j : Fin 256, x (ix2 k j) * wk (ix2 j l) + ∑ j : Fin 32, p (ix2 k j) * pl (ix2 j l) := by
  pointwise [k0_pay2, k0_pay1]

/-- What a point stores of the values. -/
theorem pay3_apply (x : Vec Ideal S1024x256 .f32) (wv : Vec Ideal S256x512 .bf16) (k : Fin 1024) (l : Fin 512) :
    k0_pay3 x wv (ix2 k l) = ∑ j : Fin 256, x (ix2 k j) * wv (ix2 j l) := by
  pointwise [k0_pay3, k0_pay1]

variable (w : FVec Ideal S1x256x4x192 .f32)

/-- The values' matrix, as the host prepares it. -/
abbrev valMat : FVec Ideal S256x512 .bf16 :=
  truncf .bf16 (shapeCast S256x512 (extractStridedSlice S256x4x128 ![0, 0, 64] (shapeCast S256x4x192 w shapeCasts_S1x256x4x192_S256x4x192) slices_S256x4x192_S256x4x128_0_0_64) shapeCasts_S256x4x128_S256x512 : FVec Ideal S256x512 .f32) bitsLt_bf16_f32
/-- The keys' matrix, as the host prepares it: each head's columns padded with zeros. -/
abbrev keyMat : FVec Ideal S256x512 .bf16 :=
  truncf .bf16 (shapeCast S256x512 (pad S256x4x128 ![0, 0, 0] ![0, 0, 64] ![0, 0, 0] (extractStridedSlice S256x4x64 ![0, 0, 0] (shapeCast S256x4x192 w shapeCasts_S1x256x4x192_S256x4x192) slices_S256x4x192_S256x4x64_0_0_0) (sitofp .f32 (constantI S_ 32 0#32) : FVec Ideal S_ .f32) pads_S256x4x64_S256x4x128_000_000_0640 h_S_) shapeCasts_S256x4x128_S256x512 : FVec Ideal S256x512 .f32) bitsLt_bf16_f32
/-- The unit matrix. -/
abbrev unitMat : FVec Ideal S32x32 .f32 :=
  uitofp .f32 (cmpi .eq (addi (iotaInDim S32x32 32 0) (broadcastInDim S32x32 ![] bcast_S_S32x32 (constantI S_ 32 0#32))) (iotaInDim S32x32 32 1))
/-- The placing matrix, as the host prepares it: in each head the unit matrix at the rotary part's lanes. -/
abbrev placeMat (u : FVec Ideal S32x32 .f32) : FVec Ideal S32x512 .bf16 :=
  truncf .bf16 (shapeCast S32x512 (broadcastInDim S1x32x4x128 ![0, 1, 2, 3] bcast_S1x32x1x128_S1x32x4x128_0_1_2_3 (shapeCast S1x32x1x128 (pad S32x128 ![0, 64] ![0, 32] ![0, 0] u (sitofp .f32 (constantI S_ 32 0#32) : FVec Ideal S_ .f32) pads_S32x32_S32x128_000_64320 h_S_) shapeCasts_S32x128_S1x32x1x128)) shapeCasts_S1x32x4x128_S32x512 : FVec Ideal S32x512 .f32) bitsLt_bf16_f32

/-- The padding value. -/
theorem pad_zero : FloatOps.sitofp (F := Ideal) FTy.f32 (0#32 : BitVec 32) = (0 : EReal) := by
  show (((0#32 : BitVec 32).toInt : ℝ) : EReal) = 0
  rw [show (0#32 : BitVec 32).toInt = 0 from by decide]
  norm_num

/-- The values' matrix at an index. -/
theorem valMat_apply (k : Fin 256) (l : Fin 512) : valMat w (ix2 k l) = w (ix4 0 k ⟨l.val / 128, by omega⟩ ⟨64 + l.val % 128, by omega⟩) := by
  pointwise

/-- The keys' matrix at an index. -/
theorem keyMat_apply (k : Fin 256) (l : Fin 512) :
    keyMat w (ix2 k l) = if l.val % 128 < 64 then w (ix4 0 k ⟨l.val / 128, by omega⟩ ⟨l.val % 128, by omega⟩) else (0 : EReal) := by
  pointwise
  by_cases h : l.val % 128 < 64
  · exact (dif_pos ⟨by omega, h⟩).trans (if_pos h).symm
  · exact (dif_neg fun hc => h hc.2).trans (pad_zero.trans (if_neg h).symm)

/-- The unit matrix at an index. -/
theorem unitMat_apply (j i : Fin 32) : unitMat (ix2 j i) = if j = i then (1 : EReal) else 0 := by
  pointwise
  have ej : (BitVec.ofNat 32 j.val).toNat = j.val := by rw [BitVec.toNat_ofNat]; exact Nat.mod_eq_of_lt (by omega)
  have ei : (BitVec.ofNat 32 i.val).toNat = i.val := by rw [BitVec.toNat_ofNat]; exact Nat.mod_eq_of_lt (by omega)
  have ea : IntOp.addi (BitVec.ofNat 32 j.val) 0#32 = BitVec.ofNat 32 j.val := BitVec.add_zero _
  rw [ea, WordCmp.cmpi_eq_eq_toNat, ei, ej]
  by_cases h : j = i
  · rw [if_pos h, decide_eq_true (congrArg Fin.val h)]
    show (((BitVec.ofBool true).toNat : ℝ) : EReal) = 1
    rw [show (BitVec.ofBool true).toNat = 1 from by decide]
    norm_num
  · rw [if_neg h, decide_eq_false fun hc => h (Fin.ext hc)]
    show (((BitVec.ofBool false).toNat : ℝ) : EReal) = 0
    norm_num

/-- The placing matrix at an index. -/
theorem placeMat_apply (u : FVec Ideal S32x32 .f32) (j : Fin 32) (l : Fin 512) :
    placeMat u (ix2 j l) = if h : 64 ≤ l.val % 128 ∧ l.val % 128 < 96 then u (ix2 j ⟨l.val % 128 - 64, by omega⟩) else (0 : EReal) := by
  pointwise
  by_cases h : 64 ≤ l.val % 128 ∧ l.val % 128 < 96
  · rw [dif_pos h, dif_pos ⟨h.1, by omega⟩]
  · rw [dif_neg h, dif_neg fun hc => h ⟨hc.1, by omega⟩]
    exact pad_zero

/-- The two products of the keys come to the entry: the padded columns give zero, and the placing matrix picks one lane of
    the rotary part or none. -/
theorem key_sums (c : Fin 256 → EReal) (p : Fin 32 → EReal) (l : Fin 512) :
    (∑ k, c k * keyMat w (ix2 k l) + ∑ j, p j * placeMat unitMat (ix2 j l) : EReal) = keyEntry c p w l := by
  have e1 : ∀ k, keyMat w (ix2 k l) = if l.val % 128 < 64 then w (ix4 0 k ⟨l.val / 128, by omega⟩ ⟨l.val % 128, by omega⟩) else (0 : EReal) := fun k => keyMat_apply w k l
  have e2 : ∀ j, placeMat unitMat (ix2 j l) = if h : 64 ≤ l.val % 128 ∧ l.val % 128 < 96 then unitMat (ix2 j ⟨l.val % 128 - 64, by omega⟩) else (0 : EReal) := fun j => placeMat_apply unitMat j l
  simp only [e1, e2]
  unfold keyEntry
  by_cases h : l.val % 128 < 64
  · have h' : ¬(64 ≤ l.val % 128 ∧ l.val % 128 < 96) := by omega
    simp only [if_pos h, dif_neg h', mul_zero, Finset.sum_const_zero, add_zero]
  · simp only [if_neg h, mul_zero, Finset.sum_const_zero, zero_add]
    by_cases h2 : l.val % 128 < 96
    · have h' : 64 ≤ l.val % 128 ∧ l.val % 128 < 96 := ⟨by omega, h2⟩
      simp only [dif_pos h', dif_pos h2]
      rw [Finset.sum_eq_single (⟨l.val % 128 - 64, by omega⟩ : Fin 32)]
      · rw [unitMat_apply, if_pos rfl, mul_one]
      · intro j _ hj
        rw [unitMat_apply, if_neg hj, mul_zero]
      · exact fun hc => absurd (Finset.mem_univ _) hc
    · have h' : ¬(64 ≤ l.val % 128 ∧ l.val % 128 < 96) := by omega
      simp only [dif_neg h', dif_neg h2, mul_zero, Finset.sum_const_zero]
end

section
open Cert.KvupReferenceIdeal Cert.KvupReferenceIdeal.Gen
variable (c : FVec Ideal S65536x256 .f32) (p : FVec Ideal S65536x32 .f32) (w : FVec Ideal S1x256x4x192 .f32)

/-- The reference's products of the latent with the heads' matrices. -/
abbrev refKv : FVec Ideal S65536x4x192 .f32 :=
  Host.dotGeneral dot_S65536x256_S256x4x192_S65536x4x192_1_0_0_12_n_n none c (shapeCast _ w shapeCasts_S1x256x4x192_S256x4x192)
/-- The reference's keys. -/
abbrev refK (kv : FVec Ideal S65536x4x192 .f32) : FVec Ideal S65536x512 .bf16 :=
  truncf .bf16 (shapeCast S65536x512 ((concatenate S65536x4x128 2 [⟨S65536x4x64, (extractStridedSlice S65536x4x64 ![0, 0, 0] kv slices_S65536x4x192_S65536x4x64_0_0_0)⟩, ⟨S65536x4x32, (broadcastInDim S65536x4x32 ![0, 1, 2] bcast_S65536x1x32_S65536x4x32_0_1_2 (broadcastInDim S65536x1x32 ![0, 2] bcast_S65536x32_S65536x1x32_0_2 p))⟩, ⟨S65536x4x32, (broadcastInDim S65536x4x32 ![] bcast_S_S65536x4x32 (constant S_ .f32 0x00000000#32))⟩] concatenates_S65536x4x64_S65536x4x32_S65536x4x32_S65536x4x128_d2)) shapeCasts_S65536x4x128_S65536x512 : FVec Ideal S65536x512 .f32) bitsLt_bf16_f32
/-- The reference's values. -/
abbrev refV (kv : FVec Ideal S65536x4x192 .f32) : FVec Ideal S65536x512 .bf16 :=
  truncf .bf16 (shapeCast S65536x512 (extractStridedSlice S65536x4x128 ![0, 0, 64] kv slices_S65536x4x192_S65536x4x128_0_0_64) shapeCasts_S65536x4x128_S65536x512 : FVec Ideal S65536x512 .f32) bitsLt_bf16_f32

/-- The products at an index. -/
theorem refKv_apply (r : Fin 65536) (h : Fin 4) (e : Fin 192) : refKv c w (ix3 r h e) = ∑ k : Fin 256, c (ix2 r k) * w (ix4 0 k h e) := by
  pointwise

/-- The reference's values at an index. -/
theorem refV_apply (kv : FVec Ideal S65536x4x192 .f32) (r : Fin 65536) (l : Fin 512) :
    refV kv (ix2 r l) = kv (ix3 r ⟨l.val / 128, by omega⟩ ⟨64 + l.val % 128, by omega⟩) := by
  pointwise

/-- The reference's keys at an index. -/
theorem refK_apply (kv : FVec Ideal S65536x4x192 .f32) (r : Fin 65536) (l : Fin 512) :
    refK p kv (ix2 r l) = if l.val % 128 < 64 then kv (ix3 r ⟨l.val / 128, by omega⟩ ⟨l.val % 128, by omega⟩)
      else if h : l.val % 128 < 96 then p (ix2 r ⟨l.val % 128 - 64, by omega⟩) else 0 := by
  pointwise
  by_cases h : l.val % 128 < 64
  · rw [dif_pos h, if_pos h]
  · rw [dif_neg h, if_neg h]
    by_cases h2 : l.val % 128 < 96
    · rw [dif_pos h2, dif_pos (by omega)]
    · rw [dif_neg h2, dif_neg (by omega)]

/-- The reference's keys, an entry. -/
theorem refK_entry (r : Fin 65536) (l : Fin 512) :
    refK p (refKv c w) (ix2 r l) = keyEntry (fun k => c (ix2 r k)) (fun j => p (ix2 r j)) w l := by
  rw [refK_apply]
  unfold keyEntry
  rw [refKv_apply]

/-- The reference's values, an entry. -/
theorem refV_entry (r : Fin 65536) (l : Fin 512) : refV (refKv c w) (ix2 r l) = valEntry (fun k => c (ix2 r k)) w l := by
  rw [refV_apply, refKv_apply]
  rfl
end

end Cert.Proof.Kvup

end
-- ==== Proof.KvupValue.lean ====
/- The call that decompresses the latent attention's keys and values computes its reference's arrays. -/
module

public import proofs.«01_k».proof.Proof.KvupEntry
public import proofs.«01_k».proof.Proof.Gen.KvupReferenceIdeal.Run
public import proofs.«01_k».proof.Proof.Gen.Kvup
public import proofs.«01_k».proof.Defs
public import Idealize.ShloMosaic.Lib.Pipeline.ValueKit

@[expose] public section

noncomputable section

namespace Cert.Proof.Kvup

open Cert.KvupIdeal Cert.KvupIdeal.Gen Cert.KvupIdeal.Value
open Idealize.ShloMosaic Idealize.ShloMosaic.TcCoe Idealize.SL.Sem

section
variable {F : FTy → Type} [FloatOps F]
variable (m : (ℓ : Loc nD τ sig) → Buf (Elt F) ℓ) (c : Dev nD)

/-- Two zero offsets. -/
theorem zero2 : (![0, 0] : Fin 2 → Nat) = fun _ => 0 := funext fun a => by fin_cases a <;> rfl

/-- The keys' block a point leaves: its one store. -/
theorem out5_eq (x0 : Vec F S1024x256 .f32) (x1 : Vec F S1024x32 .f32) (x2 : Vec F S256x512 .bf16) (x3 : Vec F S32x512 .bf16) (x4 : Vec F S256x512 .bf16) :
    out0_5 x0 x1 x2 x3 x4 = k0_pay2 x0 x2 x1 x3 := by
  unfold out0_5
  rw [View.canon_unit_zero zero2, View.ld_unit_zero zero2, View.ld_unit_zero zero2, View.ld_unit_zero zero2, View.ld_unit_zero zero2]

/-- The values' block a point leaves: its one store. -/
theorem out6_eq (x0 : Vec F S1024x256 .f32) (x1 : Vec F S1024x32 .f32) (x2 : Vec F S256x512 .bf16) (x3 : Vec F S32x512 .bf16) (x4 : Vec F S256x512 .bf16) :
    out0_6 x0 x1 x2 x3 x4 = k0_pay3 x0 x4 := by
  unfold out0_6
  rw [View.canon_unit_zero zero2, View.ld_unit_zero zero2, View.ld_unit_zero zero2]

/-- The windows of the rows move with the point. -/
theorem rows_index : ∀ t : Fin cfg0.N, (win0_0.index t (0 : Fin 2) = t.val ∧ win0_0.index t (1 : Fin 2) = 0) ∧ (win0_1.index t (0 : Fin 2) = t.val ∧ win0_1.index t (1 : Fin 2) = 0)
    ∧ (win0_5.index t (0 : Fin 2) = t.val ∧ win0_5.index t (1 : Fin 2) = 0) ∧ (win0_6.index t (0 : Fin 2) = t.val ∧ win0_6.index t (1 : Fin 2) = 0) :=
  (by decide +kernel : ∀ t : Fin grid0.N, _)
/-- The matrices' windows stay. -/
theorem mats_index : ∀ t : Fin cfg0.N, (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

/-- Row `1024 t + k` of the latent. -/
theorem blk0_apply (t : Fin cfg0.N) (k : Fin 1024) (j : Fin 256) (h : 1024 * t.val + k.val < 65536) :
    iblk m c 0 t (ix2 k j) = (V m c main_arg0 : FVec F S65536x256 .f32) (ix2 ⟨1024 * t.val + k.val, h⟩ j) := by
  refine congrArg (V m c main_arg0 : FVec F S65536x256 .f32) (funext fun a => Fin.ext ?_)
  obtain ⟨⟨e0, e1⟩, -⟩ := rows_index t
  match a with
  | ⟨0, _⟩ => show win0_0.index t (0 : Fin 2) * 1024 + 1 * k.val = 1024 * t.val + k.val; omega
  | ⟨1, _⟩ => show win0_0.index t (1 : Fin 2) * 256 + 1 * j.val = j.val; omega

/-- Row `1024 t + k` of the rotary part. -/
theorem blk1_apply (t : Fin cfg0.N) (k : Fin 1024) (j : Fin 32) (h : 1024 * t.val + k.val < 65536) :
    iblk m c 1 t (ix2 k j) = (V m c main_arg1 : FVec F S65536x32 .f32) (ix2 ⟨1024 * t.val + k.val, h⟩ j) := by
  refine congrArg (V m c main_arg1 : FVec F S65536x32 .f32) (funext fun a => Fin.ext ?_)
  obtain ⟨-, ⟨e0, e1⟩, -⟩ := rows_index t
  match a with
  | ⟨0, _⟩ => show win0_1.index t (0 : Fin 2) * 1024 + 1 * k.val = 1024 * t.val + k.val; omega
  | ⟨1, _⟩ => show win0_1.index t (1 : Fin 2) * 32 + 1 * j.val = j.val; omega

/-- The keys' matrix, whole. -/
theorem blk2_apply (t : Fin cfg0.N) (k : Fin 256) (l : Fin 512) : iblk m c 2 t (ix2 k l) = (V m c main_v4 : FVec F S256x512 .bf16) (ix2 k l) := by
  refine congrArg (V m c main_v4 : FVec F S256x512 .bf16) (funext fun a => Fin.ext ?_)
  obtain ⟨⟨e0, e1⟩, -⟩ := mats_index t
  match a with
  | ⟨0, _⟩ => show win0_2.index t (0 : Fin 2) * 256 + 1 * k.val = k.val; omega
  | ⟨1, _⟩ => show win0_2.index t (1 : Fin 2) * 512 + 1 * l.val = l.val; omega

/-- The placing matrix, whole. -/
theorem blk3_apply (t : Fin cfg0.N) (k : Fin 32) (l : Fin 512) : iblk m c 3 t (ix2 k l) = (V m c main_v18 : FVec F S32x512 .bf16) (ix2 k l) := by
  refine congrArg (V m c main_v18 : FVec F S32x512 .bf16) (funext fun a => Fin.ext ?_)
  obtain ⟨-, ⟨e0, e1⟩, -⟩ := mats_index t
  match a with
  | ⟨0, _⟩ => show win0_3.index t (0 : Fin 2) * 32 + 1 * k.val = k.val; omega
  | ⟨1, _⟩ => show win0_3.index t (1 : Fin 2) * 512 + 1 * l.val = l.val; omega

/-- The values' matrix, whole. -/
theorem blk4_apply (t : Fin cfg0.N) (k : Fin 256) (l : Fin 512) : iblk m c 4 t (ix2 k l) = (V m c main_v7 : FVec F S256x512 .bf16) (ix2 k l) := by
  refine congrArg (V m c main_v7 : FVec F S256x512 .bf16) (funext fun a => Fin.ext ?_)
  obtain ⟨-, -, ⟨e0, e1⟩⟩ := mats_index t
  match a with
  | ⟨0, _⟩ => show win0_4.index t (0 : Fin 2) * 256 + 1 * k.val = k.val; omega
  | ⟨1, _⟩ => show win0_4.index t (1 : Fin 2) * 512 + 1 * l.val = l.val; omega

/-- The keys' array at row `1024 t + k` is what point `t` left at row `k`. -/
theorem final5 (t : Fin cfg0.N) (k : Fin 1024) (l : Fin 512) (h : 1024 * t.val + k.val < 65536) :
    ((dats m 0 c).arrAt 5 cfg0.N : FVec F S65536x512 .bf16) (ix2 ⟨1024 * t.val + k.val, h⟩ l)
      = k0_pay2 (iblk m c 0 t) (iblk m c 2 t) (iblk m c 1 t) (iblk m c 3 t) (ix2 k l) := by
  have e := (dats m 0 c).arrAt_emb_eq_flushed (5 : Fin 7) disjoint5 t (flush0_5 t) (ix2 k l)
  have hi : ((cfg0.win (5 : Fin 7)).blk t).view.emb (ix2 k l) = ix2 (⟨1024 * t.val + k.val, h⟩ : Fin 65536) l := by
    refine funext fun a => Fin.ext ?_
    obtain ⟨-, -, ⟨e0, e1⟩, -⟩ := rows_index t
    match a with
    | ⟨0, _⟩ => show win0_5.index t (0 : Fin 2) * 1024 + 1 * k.val = 1024 * t.val + k.val; omega
    | ⟨1, _⟩ => show win0_5.index t (1 : Fin 2) * 512 + 1 * l.val = l.val; omega
  refine (congrArg ((dats m 0 c).arrAt 5 cfg0.N) hi.symm).trans (e.trans ?_)
  rw [flushed5, out5_eq]
  rfl

/-- The values' array at row `1024 t + k` is what point `t` left at row `k`. -/
theorem final6 (t : Fin cfg0.N) (k : Fin 1024) (l : Fin 512) (h : 1024 * t.val + k.val < 65536) :
    ((dats m 0 c).arrAt 6 cfg0.N : FVec F S65536x512 .bf16) (ix2 ⟨1024 * t.val + k.val, h⟩ l)
      = k0_pay3 (iblk m c 0 t) (iblk m c 4 t) (ix2 k l) := by
  have e := (dats m 0 c).arrAt_emb_eq_flushed (6 : Fin 7) disjoint6 t (flush0_6 t) (ix2 k l)
  have hi : ((cfg0.win (6 : Fin 7)).blk t).view.emb (ix2 k l) = ix2 (⟨1024 * t.val + k.val, h⟩ : Fin 65536) l := by
    refine funext fun a => Fin.ext ?_
    obtain ⟨-, -, -, ⟨e0, e1⟩⟩ := rows_index t
    match a with
    | ⟨0, _⟩ => show win0_6.index t (0 : Fin 2) * 1024 + 1 * k.val = 1024 * t.val + k.val; omega
    | ⟨1, _⟩ => show win0_6.index t (1 : Fin 2) * 512 + 1 * l.val = l.val; omega
  refine (congrArg ((dats m 0 c).arrAt 6 cfg0.N) hi.symm).trans (e.trans ?_)
  rw [flushed6, out6_eq]
  rfl

end

section
variable (m : (ℓ : Loc nD τ sig) → Buf (Elt Ideal) ℓ) (c : Dev nD)

/-- An argument array on core `c`. -/
abbrev arg (b : Ref sig .tc) : Buf (Elt Ideal) ((c.tc : Thread nD τ).loc b) := m ((c.tc : Thread nD τ).loc b)

/-- What the host prepares: the keys' matrix, -/
theorem V_v4 : V m c main_v4 = keyMat (arg m c main_arg2) := by
  unfold V
  simp only [hostOps0, hostOps0_1, hostOps0_2, hostOps0_3, hostOps0_4, List.flatten_cons, List.flatten_nil, List.append_nil, List.cons_append, List.nil_append]
  after_results; rfl
/-- the values' matrix, -/
theorem V_v7 : V m c main_v7 = valMat (arg m c main_arg2) := by
  unfold V
  simp only [hostOps0, hostOps0_1, hostOps0_2, hostOps0_3, hostOps0_4, List.flatten_cons, List.flatten_nil, List.append_nil, List.cons_append, List.nil_append]
  after_results; rfl
/-- and the placing matrix. -/
theorem V_v18 : V m c main_v18 = placeMat unitMat := by
  unfold V
  simp only [hostOps0, hostOps0_1, hostOps0_2, hostOps0_3, hostOps0_4, List.flatten_cons, List.flatten_nil, List.append_nil, List.cons_append, List.nil_append]
  after_results; rfl

/-- The keys' array as one function of the arguments. -/
def keys (a0 : FVec Ideal S65536x256 .f32) (a1 : FVec Ideal S65536x32 .f32) (a2 : FVec Ideal S1x256x4x192 .f32) : FVec Ideal S65536x512 .bf16 :=
  fun i => keyEntry (fun j => a0 (ix2 (i 0) j)) (fun j => a1 (ix2 (i 0) j)) a2 (i 1)
/-- The values' array as one function of the arguments. -/
def vals (a0 : FVec Ideal S65536x256 .f32) (a2 : FVec Ideal S1x256x4x192 .f32) : FVec Ideal S65536x512 .bf16 :=
  fun i => valEntry (fun j => a0 (ix2 (i 0) j)) a2 (i 1)

/-- The kernel's keys at a row of a block. -/
theorem keys_tile (t : Fin cfg0.N) (k : Fin 1024) (l : Fin 512) (h : 1024 * t.val + k.val < 65536) :
    ((dats m 0 c).arrAt 5 cfg0.N : FVec Ideal S65536x512 .bf16) (ix2 ⟨1024 * t.val + k.val, h⟩ l)
      = keys (arg m c main_arg0) (arg m c main_arg1) (arg m c main_arg2) (ix2 ⟨1024 * t.val + k.val, h⟩ l) := by
  have h0 : ∀ j, iblk m c 0 t (ix2 k j) = (arg m c main_arg0 : FVec Ideal S65536x256 .f32) (ix2 ⟨1024 * t.val + k.val, h⟩ j) := fun j =>
    (blk0_apply m c t k j h).trans (congrFun (V_main_arg0 m c) _)
  have h1 : ∀ j, iblk m c 1 t (ix2 k j) = (arg m c main_arg1 : FVec Ideal S65536x32 .f32) (ix2 ⟨1024 * t.val + k.val, h⟩ j) := fun j =>
    (blk1_apply m c t k j h).trans (congrFun (V_main_arg1 m c) _)
  have h2 : ∀ j, iblk m c 2 t (ix2 j l) = keyMat (arg m c main_arg2) (ix2 j l) := fun j => (blk2_apply m c t j l).trans (congrFun (V_v4 m c) _)
  have h3 : ∀ j, iblk m c 3 t (ix2 j l) = placeMat unitMat (ix2 j l) := fun j => (blk3_apply m c t j l).trans (congrFun (V_v18 m c) _)
  refine (final5 m c t k l h).trans ((pay2_apply _ _ _ _ k l).trans ?_)
  refine (congrArg₂ (fun a b : EReal => a + b) (Finset.sum_congr rfl fun j _ => congrArg₂ (fun a b : EReal => a * b) (h0 j) (h2 j))
    (Finset.sum_congr rfl fun j _ => congrArg₂ (fun a b : EReal => a * b) (h1 j) (h3 j))).trans ?_
  exact key_sums (arg m c main_arg2) _ _ l

/-- The kernel's values at a row of a block. -/
theorem vals_tile (t : Fin cfg0.N) (k : Fin 1024) (l : Fin 512) (h : 1024 * t.val + k.val < 65536) :
    ((dats m 0 c).arrAt 6 cfg0.N : FVec Ideal S65536x512 .bf16) (ix2 ⟨1024 * t.val + k.val, h⟩ l)
      = vals (arg m c main_arg0) (arg m c main_arg2) (ix2 ⟨1024 * t.val + k.val, h⟩ l) := by
  have h0 : ∀ j, iblk m c 0 t (ix2 k j) = (arg m c main_arg0 : FVec Ideal S65536x256 .f32) (ix2 ⟨1024 * t.val + k.val, h⟩ j) := fun j =>
    (blk0_apply m c t k j h).trans (congrFun (V_main_arg0 m c) _)
  have h4 : ∀ j, iblk m c 4 t (ix2 j l) = (arg m c main_arg2 : FVec Ideal S1x256x4x192 .f32) (ix4 0 j ⟨l.val / 128, by omega⟩ ⟨64 + l.val % 128, by omega⟩) := fun j =>
    (blk4_apply m c t j l).trans ((congrFun (V_v7 m c) _).trans (valMat_apply _ j l))
  refine (final6 m c t k l h).trans ((pay3_apply _ _ k l).trans ?_)
  exact Finset.sum_congr rfl fun j _ => congrArg₂ (fun a b : EReal => a * b) (h0 j) (h4 j)

/-- An array that agrees with another at every row of every block is it. -/
theorem eq_of_tiles (A B : FVec Ideal S65536x512 .bf16)
    (h : ∀ (t : Fin cfg0.N) (k : Fin 1024) (l : Fin 512) (hb : 1024 * t.val + k.val < 65536), A (ix2 ⟨1024 * t.val + k.val, hb⟩ l) = B (ix2 ⟨1024 * t.val + k.val, hb⟩ l)) : A = B := by
  refine funext fun (i : S65536x512.Idx) => ?_
  have h0 : (i 0).val < 65536 := (i 0).isLt
  have hb : 1024 * ((i 0).val / 1024) + (i 0).val % 1024 < 65536 := by omega
  have ei : i = ix2 (⟨1024 * ((i 0).val / 1024) + (i 0).val % 1024, hb⟩ : Fin 65536) (i 1) := funext fun a => by
    match a with
    | ⟨0, _⟩ => exact Fin.ext (by show (i 0).val = 1024 * ((i 0).val / 1024) + (i 0).val % 1024; omega)
    | ⟨1, _⟩ => rfl
  have hk := h ⟨(i 0).val / 1024, by show (i 0).val / 1024 < 64; omega⟩ ⟨(i 0).val % 1024, Nat.mod_lt _ (by norm_num)⟩ (i 1) hb
  exact (congrArg A ei).trans (hk.trans (congrArg B ei).symm)

/-- The kernel's keys. -/
theorem kernel_keys : (dats m 0 c).arrAt 5 cfg0.N = keys (arg m c main_arg0) (arg m c main_arg1) (arg m c main_arg2) :=
  eq_of_tiles _ _ (keys_tile m c)
/-- The kernel's values. -/
theorem kernel_vals : (dats m 0 c).arrAt 6 cfg0.N = vals (arg m c main_arg0) (arg m c main_arg2) :=
  eq_of_tiles _ _ (vals_tile m c)
end

/-- The reference's keys, whole, its arguments named. -/
theorem ref_keys {a0 b0 : FVec Ideal S65536x256 .f32} {a1 b1 : FVec Ideal S65536x32 .f32} {a2 b2 : FVec Ideal S1x256x4x192 .f32} (e0 : a0 = b0) (e1 : a1 = b1) (e2 : a2 = b2) :
    refK a1 (refKv a0 a2) = keys b0 b1 b2 := by
  subst e0 e1 e2
  refine funext fun (i : S65536x512.Idx) => ?_
  have hi : i = ix2 (i 0) (i 1) := funext fun a => by match a with | ⟨0, _⟩ => rfl | ⟨1, _⟩ => rfl
  exact (congrArg (refK a1 (refKv a0 a2)) hi).trans (refK_entry a0 a1 a2 (i 0) (i 1))

/-- The reference's values, whole, its arguments named. -/
theorem ref_vals {a0 b0 : FVec Ideal S65536x256 .f32} {a2 b2 : FVec Ideal S1x256x4x192 .f32} (e0 : a0 = b0) (e2 : a2 = b2) : refV (refKv a0 a2) = vals b0 b2 := by
  subst e0 e2
  refine funext fun (i : S65536x512.Idx) => ?_
  have hi : i = ix2 (i 0) (i 1) := funext fun a => by match a with | ⟨0, _⟩ => rfl | ⟨1, _⟩ => rfl
  exact (congrArg (refV (refKv a0 a2)) hi).trans (refV_entry a0 a2 (i 0) (i 1))

set_option maxHeartbeats 0 in
set_option smartUnfolding false in
/-- The call's frame at bits: its text is the idealized call's. -/
theorem frame_kernel : Cert.quiescent_Kvup := fun m ρ _ => by
  have h := Cert.KvupIdeal.Gen.frame (F := Bits) m ρ
  with_unfolding_all exact h

/-- The call's frame at the extended reals. -/
theorem frame_ideal : Cert.quiescent_KvupIdeal := fun m ρ _ => Cert.KvupIdeal.Gen.frame m ρ

/-- The reference's frame at the extended reals. -/
theorem frame_reference : Cert.quiescent_KvupReferenceIdeal := fun m ρ _ =>
  (θ_run Cert.KvupReferenceIdeal.defs _ _).mono (fun r h => ⟨fun c => (h c).2.2, sem_eq_zero_of_no_sems (by decide) r.2⟩)
    (Cert.KvupReferenceIdeal.Value.run m ρ)

/-- Over the extended reals the call and the reference compute the same keys and values. -/
theorem algebraic : Cert.algebraic_KvupIdeal_KvupReferenceIdeal := fun m g m' g' _ heq => by
  refine ⟨fun c => keys (arg m c main_arg0) (arg m c main_arg1) (arg m c main_arg2), fun c => vals (arg m c main_arg0) (arg m c main_arg2),
    (θ_run defs _ _).mono (fun r h c => ⟨(h c).1.trans (kernel_keys m c), (h c).2.1.trans (kernel_vals m c), (h c).2.2⟩) (run_blocks m g),
    (θ_run Cert.KvupReferenceIdeal.defs _ _).mono (fun r h c => ?_) (Cert.KvupReferenceIdeal.Value.run m' g')⟩
  obtain ⟨h0, h1, h2⟩ := heq c
  exact ⟨(h c).1.trans (ref_keys h0 h1 h2), (h c).2.1.trans (ref_vals h0 h2), (h c).2.2⟩

end Cert.Proof.Kvup

end
-- ==== Proof.SampleRing.lean ====
/-
  The combine call's ring of three slots: what a slot holds while a block's rows are on their way into it, and what
  one issue of one chunk does to it.
-/
module

public import proofs.«01_k».proof.Proof.Gen.SampleIdeal
public import proofs.«01_k».proof.Proof.Gen.SampleIdeal.Skeleton
public import proofs.«01_k».proof.Proof.Gen.SampleIdeal.Loops
public import Idealize.ShloMosaic.Lib.Tactic
public import Idealize.ShloMosaic.Lib.Batch
public import Idealize.ShloMosaic.Lib.ValueLayout
public import Idealize.ShloMosaic.Lib.Pipeline.Kit

@[expose] public section

noncomputable section

namespace Cert.Proof.Sample.Run

open Cert.SampleIdeal Cert.SampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx

variable {F : FTy → Type} [FloatOps F]

/-- The resource algebra: the launch's rounds beside the counters the transfers count with. -/
abbrev UU (nD : Nat) (τ : Topo) : Type := UR sig nD τ × Counters

local notation "𝕄" => MT nD τ sig Unit (Elt F) ℕ (UU nD τ) ℕ
local notation "EC" => countersEmb (nD := nD) (τ := τ) (sig := sig) (Ix := Unit) (Val := Elt F) (Name := ℕ) (U := UU nD τ) (Lvl := ℕ)

/-- The contents of the table, of the rows, and of the ring on core `c`. -/
abbrev Tb (F : FTy → Type) (c : Dev nD) : Type := Buf (Elt F) ((Memref.whole main_arg0).view.loc (c : Thread nD τ))
abbrev Yb (F : FTy → Type) (c : Dev nD) : Type := Buf (Elt F) ((Memref.whole main_arg1).view.loc (c : Thread nD τ))
abbrev Sb (F : FTy → Type) (c : Dev nD) : Type := Buf (Elt F) ((Memref.whole cc0_scratch0).view.loc (c : Thread nD τ))

abbrev tabR : Memref sig .tc .smem S1152 .i32 := Memref.whole main_arg0
abbrev yR : Memref sig .tc .hbm S28672x1024 .bf16 := Memref.whole main_arg1
abbrev ringR : Memref sig .tc .vmem S3x3072x1024 .bf16 := Memref.whole cc0_scratch0

/-- The table's word number `n`. -/
def word {c : Dev nD} (tb : Tb F c) (n : ℕ) : BitVec 32 :=
  tb (ix1 (⟨n % 1152, Nat.mod_lt _ (by norm_num)⟩ : Fin 1152))

/-- Every word of the table names the first of sixteen rows, at a multiple of sixteen. -/
def GoodTab {c : Dev nD} (tb : Tb F c) : Prop :=
  ∀ n, (word tb n).toNat + 16 ≤ 28672 ∧ 16 ∣ (word tb n).toNat

/-- A slot of the ring once block `b` has landed in it: row `r` is row `r % 16` of the chunk the block's word number `r / 16` names. -/
def landed {c : Dev nD} (tb : Tb F c) (y : Yb F c) (b : ℕ) : Sb F c := fun (p : S3x3072x1024.Idx) =>
  y (ix2 (⟨((word tb (192 * b + (p 1).val / 16)).toNat + (p 1).val % 16) % 28672, Nat.mod_lt _ (by norm_num)⟩ : Fin 28672) (p 2))

/-- Slot `s` of the ring. -/
def slotSet (s : ℕ) : Finset S3x3072x1024.Idx := Finset.univ.filter fun p => (p 0).val = s
/-- Chunk `k` of slot `s`; and the chunks from `k` on. -/
def pieceSet (s k : ℕ) : Finset S3x3072x1024.Idx := Finset.univ.filter fun p => (p 0).val = s ∧ (p 1).val / 16 = k
def restSet (s k : ℕ) : Finset S3x3072x1024.Idx := Finset.univ.filter fun p => (p 0).val = s ∧ k ≤ (p 1).val / 16

/-- From chunk 0 on is the whole slot. -/
theorem restSet_zero (s : ℕ) : restSet s 0 = slotSet s := by
  ext p; simp [restSet, slotSet]

/-- From chunk `k` on is chunk `k` and what follows it, -/
theorem restSet_succ (s k : ℕ) : restSet s k = pieceSet s k ∪ restSet s (k + 1) := by
  ext p; simp only [restSet, pieceSet, Finset.mem_union, Finset.mem_filter, Finset.mem_univ, true_and]; omega

/-- which are disjoint. -/
theorem restSet_disj (s k : ℕ) : Disjoint (pieceSet s k) (restSet s (k + 1)) := by
  rw [Finset.disjoint_left]; intro p hp hq
  simp only [restSet, pieceSet, Finset.mem_filter, Finset.mem_univ, true_and] at hp hq; omega

/-- A slot is its 192 chunks together. -/
theorem slot_biUnion (s : ℕ) : (Finset.univ : Finset (Fin 192)).biUnion (fun k => pieceSet s k.val) = slotSet s := by
  ext p
  simp only [pieceSet, slotSet, Finset.mem_biUnion, Finset.mem_filter, Finset.mem_univ, true_and]
  constructor
  · rintro ⟨k, h, -⟩; exact h
  · intro h
    have hp : (p 1).val < 3072 := (p 1).isLt
    exact ⟨⟨(p 1).val / 16, by omega⟩, h, rfl⟩

/-- A slot and the rest of the ring are disjoint. -/
theorem slot_split (s : ℕ) : s < 3 → Disjoint (slotSet s) (Finset.univ \ slotSet s) := fun _ => Finset.disjoint_sdiff

/-- What the transfer of chunk `k` of block `b` delivers: the chunk of its slot, holding the rows. -/
def deliv {c : Dev nD} (tb : Tb F c) (y : Yb F c) (b : ℕ) (k : Fin 192) : sProp 𝕄 :=
  iprop(ringR.view.loc (c : Thread nD τ) ↦[pieceSet (b % 3) k.val]{fullShare} landed tb y b)

instance deliv_storable {c : Dev nD} (tb : Tb F c) (y : Yb F c) (b : ℕ) (k : Fin 192) :
    Storable (upEmb : UEmb _ 𝕄) (deliv tb y b k) := by unfold deliv; infer_instance

/-- Every chunk delivered is the slot, holding the block. -/
theorem deliv_all {c : Dev nD} (tb : Tb F c) (y : Yb F c) (b : ℕ) :
    bigSep Finset.univ (deliv tb y b)
      ⊢ (iprop(ringR.view.loc (c : Thread nD τ) ↦[slotSet (b % 3)]{fullShare} landed tb y b) : sProp 𝕄) := by
  refine Entails.of_eq ?_
  rw [← slot_biUnion]
  refine (pointsTo_biUnion (ℓ := ringR.view.loc (c : Thread nD τ)) (Finset.univ : Finset (Fin 192)) (fun k => pieceSet (b % 3) k.val) ?_).symm
  intro t _ t' _ ht
  rw [Finset.disjoint_left]; intro p hp hq
  simp only [pieceSet, Finset.mem_filter, Finset.mem_univ, true_and] at hp hq
  exact ht (Fin.ext (by omega))

/-- The cell number of slot `s`'s semaphore. -/
def semOf (s : ℕ) (hs : s < 3) : DmaSem sig := (⟨13 + s, by omega⟩ : Fin 16)

/-- The credit of one chunk; a slot's is 192 of them. -/
abbrev chunkN : ℕ := Ref.dmaCredit cc0_scratch0 S16x1024 .bf16

/-- A chunk has a positive credit. -/
theorem chunkN_pos : 0 < chunkN := by decide

/-- A slot's credit is that of its 192 chunks. -/
theorem slot_credit : Ref.dmaCredit cc0_scratch0 S3072x1024 .bf16 = chunkN * 192 := by decide

/-- The semaphore an issue into slot `s` completes on. -/
theorem sem_eq (s : ℕ) (hs : s < 3) {off : Fin 1 → ℕ} (ho : off = ![s]) (hinb) :
    ((cc0_scratch1.slice (Rect.unit (s := S3) off S1.size hinb)).squeeze S_ squeezes_S1_S_).sem = semOf s hs := by
  subst ho
  apply Fin.ext
  show 13 + (S3.rowMajor _).val = 13 + s
  rw [Shape.rowMajor_val_one]
  show 13 + (s + 1 * (_ : Fin 1).val) = 13 + s
  omega

/-- The chunk memref an issue writes through. -/
abbrev chunkR (off : Fin 3 → ℕ) (hinb : ∀ a, off a + S1x16x1024.size a ≤ S3x3072x1024.size a) : Memref sig .tc .vmem S16x1024 .bf16 :=
  (ringR.slice (Rect.unit (s := S3x3072x1024) off S1x16x1024.size hinb) (fun _ => rfl)).squeeze S16x1024 squeezes_S1x16x1024_S16x1024

abbrev rowsR (off : Fin 2 → ℕ) (hinb : ∀ a, off a + S16x1024.size a ≤ S28672x1024.size a) : Memref sig .tc .hbm S16x1024 .bf16 :=
  yR.slice (Rect.unit (s := S28672x1024) off S16x1024.size hinb) (fun _ => rfl)

/-- What a chunk's destination names is that chunk of the slot. -/
theorem chunk_set (s k : ℕ) {off : Fin 3 → ℕ} (ho : off = ![s, 16 * k, 0]) (hinb) :
    (chunkR off hinb).view.set = pieceSet s k := by
  subst ho
  refine (View.set_reshape _ _).trans ((View.set_slice_whole _ _).trans ?_)
  ext p
  rw [Rect.mem_set_unit]
  simp only [pieceSet, Finset.mem_filter, Finset.mem_univ, true_and]
  have h2 : (p 2).val < 1024 := (p 2).isLt
  constructor
  · intro h
    have h0 : s ≤ (p 0).val ∧ (p 0).val < s + 1 := h 0
    have h1 : 16 * k ≤ (p 1).val ∧ (p 1).val < 16 * k + 16 := h 1
    omega
  · rintro ⟨h, h'⟩ a
    fin_cases a
    · show s ≤ (p 0).val ∧ (p 0).val < s + 1; omega
    · show 16 * k ≤ (p 1).val ∧ (p 1).val < 16 * k + 16; omega
    · show 0 ≤ (p 2).val ∧ (p 2).val < 0 + 1024; omega

/-- What the chunk holds after its transfer. -/
theorem chunk_write {c : Dev nD} (tb : Tb F c) (y : Yb F c) (f : Sb F c) (b k : ℕ) (hk : k < 192)
    (hg : GoodTab tb) {off : Fin 3 → ℕ} (ho : off = ![b % 3, 16 * k, 0]) (hinb)
    {off' : Fin 2 → ℕ} (ho' : off' = ![(word tb (192 * b + k)).toNat, 0]) (hinb') :
    ∀ p ∈ pieceSet (b % 3) k,
      (chunkR off hinb).view.write (Elt F) f (ReadAs.same.apply ((rowsR off' hinb').view.read (Elt F) y)) Finset.univ p
        = landed tb y b p := by
  subst ho ho'
  intro p hp
  simp only [pieceSet, Finset.mem_filter, Finset.mem_univ, true_and] at hp
  have hx : (chunkR ![b % 3, 16 * k, 0] hinb).view.emb
      (ix2 (⟨(p 1).val % 16, Nat.mod_lt _ (by norm_num)⟩ : Fin 16) (p 2)) = p := by
    show (Rect.unit (s := S3x3072x1024) ![b % 3, 16 * k, 0] S1x16x1024.size hinb).emb (Shape.reshapeEquiv _ _) = p
    refine (congrArg _ (reshapeEquiv_ix2_1ab (a := 16) (b := 1024) (by rfl) _ _)).trans ?_
    funext a; apply Fin.ext; rw [Rect.emb_apply]
    fin_cases a
    · show b % 3 + 1 * 0 = (p 0).val; omega
    · show 16 * k + 1 * ((p 1).val % 16) = (p 1).val; omega
    · show 0 + 1 * (p 2).val = (p 2).val; omega
  conv_lhs => rw [← hx]
  rw [View.write_emb_of_mem _ _ (Finset.mem_univ _)]
  show y _ = y _
  congr 1
  have := (hg (192 * b + k)).1
  funext a; apply Fin.ext
  fin_cases a
  · show (word tb (192 * b + k)).toNat + 1 * ((p 1).val % 16) = ((word tb (192 * b + (p 1).val / 16)).toNat + (p 1).val % 16) % 28672
    have h16 : (p 1).val % 16 < 16 := Nat.mod_lt _ (by norm_num)
    rw [hp.2, Nat.mod_eq_of_lt (b := 28672) (by omega)]; omega
  · show 0 + 1 * (p 2).val = (p 2).val; omega

/-- The side condition an issue assumes of the word it read: a row's number, a multiple of sixteen, sixteen rows from
    the end at the latest. -/
theorem chk_of (v : BitVec 32) (h : v.toNat + 16 ≤ 28672) (h16 : 16 ∣ v.toNat) : k0_chk2 v := by
  have hin : ∀ a, (![v.toNat, 0] : Fin 2 → ℕ) a + S16x1024.size a ≤ S28672x1024.size a := by
    intro a; fin_cases a
    · show v.toNat + 16 ≤ 28672; exact h
    · show 0 + 1024 ≤ 1024; omega
  refine ⟨h16, hin, fun hinb => ?_⟩
  exact Or.inl (Or.inr ⟨Nat.le_refl 2, rfl, Or.inl ⟨Dvd.dvd.trans (by decide) h16, (by decide : 2 ∣ 16)⟩⟩)

variable (c : Dev nD) (tb : Tb F c) (y : Yb F c) (qt : PosShare TreeShare)

/-- A table's word is read. -/
theorem wp_word {α : Type} {q : PosShare TreeShare} {P : Elt F .i32 → Prop} {dec : ∀ v, Decidable (P v)} {off : Fin 1 → ℕ} (n : ℕ) (hn : n < 1152)
    (ho : off = ![n]) {hinb : ∀ a, off a + S1.size a ≤ S1152.size a}
    (hP : P (word tb n))
    {k : (v : Elt F .i32) → PLift (P v) → Prog (TpuEff nD τ sig (Elt F) Λ₀ .tc) α} {Q : α → sProp 𝕄} :
    iprop(tabR.view.loc (c : Thread nD τ) ↦{q} tb)
      ⊢ iprop(((tabR.view.loc (c : Thread nD τ) ↦{q} tb)
            -∗ wp frame (wpE (defs₀ (F := F)) Variants.none c none) Set.univ (k (word tb n) ⟨hP⟩) Q)
          -∗ wp frame (wpE (defs₀ (F := F)) Variants.none c none) Set.univ
              ((smemLoad tabR (Rect.unit (s := S1152) off S1.size hinb) numel1_S1 rfl : Prog (TpuEff nD τ sig (Elt F) Λ₀ .tc) (Elt F .i32)) >>= fun v =>
                Prog.lift (TpuEff.assume (P v) (dec v)) >>= fun h => k v h) Q) := by
  subst ho
  have hx : ((tabR.access (Rect.unit (s := S1152) ![n] S1.size hinb)).read (Elt F) tb
      (Shape.Idx.first ((numel1_S1 : (Rect.unit (s := S1152) ![n] S1.size hinb).shape.numel = 1).symm ▸ Nat.one_pos)) : Elt F .i32) = word tb n := by
    show tb _ = tb _
    congr 1
    funext a; apply Fin.ext
    have hn' : n % 1152 = n := Nat.mod_eq_of_lt hn
    fin_cases a
    show n + 1 * (_ : Fin 1).val = n % 1152
    omega
  have hw := wp_smemLoadElt (defs := defs₀ (F := F)) (U := UU nD τ) (Name := ℕ) (Lvl := ℕ) (Γ := .empty) Variants.none (c : Thread nD τ) none Set.univ (m := tabR) (r := Rect.unit (s := S1152) ![n] S1.size hinb)
    (hw := View.loads_smem_one rfl numel1_S1) (x := Shape.Idx.first (numel1_S1.symm ▸ Nat.one_pos))
    (k := fun v => Prog.op (TpuEff.assume (P v) (dec v)) fun h => k v h) (Q := Q)
    (S := Finset.univ) (f := tb) (q := q) (Finset.subset_univ _)
  rw [hx] at hw
  refine hw.trans (wand_mono_left (wand_mono_right ?_))
  exact wp_assume Variants.none (c : Thread nD τ) none Set.univ hP

/-- What every issue uses: the table, at some share, and the rows, at whatever share is left. -/
def shared : sProp 𝕄 :=
  iprop((tabR.view.loc (c : Thread nD τ) ↦{qt} tb) ∗ ∃ q, yR.view.loc (c : Thread nD τ) ↦{q} y)

abbrev slotSem (b : ℕ) : DmaSem sig := semOf (b % 3) (Nat.mod_lt _ (by norm_num))

/-- Slot `b % 3` while block `b` is being asked for: `k` chunks of it issued. -/
def fill (b k : ℕ) : sProp 𝕄 :=
  iprop((∃ f, ringR.view.loc (c : Thread nD τ) ↦[restSet (b % 3) k]{fullShare} f)
    ∗ Batch EC (c : Thread nD τ) (.dma (slotSem b)) () chunkN (deliv tb y b) k 0)

variable (F) in
/-- Slot `b % 3` with nothing on its way. -/
def free (b : ℕ) : sProp 𝕄 :=
  iprop((∃ f : Sb F c, ringR.view.loc (c : Thread nD τ) ↦[slotSet (b % 3)]{fullShare} f)
    ∗ semVal ((c : Thread nD τ), (.dma (slotSem b) : SemLoc sig)) 0)

/-- Slot `b % 3` once block `b` is there. -/
def full (b : ℕ) : sProp 𝕄 :=
  iprop((ringR.view.loc (c : Thread nD τ) ↦[slotSet (b % 3)]{fullShare} landed tb y b)
    ∗ semVal ((c : Thread nD τ), (.dma (slotSem b) : SemLoc sig)) 0)

/-- Which slot is free depends on the block modulo three. -/
theorem free_mod (b b' : ℕ) (h : b % 3 = b' % 3) : (free F c b : sProp 𝕄) = free F c b' := by
  have hs : slotSem b = slotSem b' := Fin.ext (by show 13 + b % 3 = 13 + b' % 3; omega)
  unfold free; rw [h, hs]

/-- A full slot is a free one. -/
theorem full_free (b : ℕ) : full c tb y b ⊢ (free F c b : sProp 𝕄) := by
  unfold full free
  iintro ⟨Hr, Hs⟩
  isplitl [Hr]; · iexists _; iexact Hr
  iexact Hs

/-- A free slot is given to a block. -/
theorem fill_start (b : ℕ) : (free F c b : sProp 𝕄) ⊢ |={Set.univ}=> fill c tb y b 0 := by
  unfold free fill
  iintro ⟨Hr, Hs⟩
  imod (batch_alloc' (Lvl := ℕ) EC (c : Thread nD τ) () chunkN (deliv tb y b) (sm := .dma (slotSem b)) (E := Set.univ)) $$ Hs with HB
  imodintro
  rw [restSet_zero]
  isplitl [Hr]; · iexact Hr
  iexact HB

/-- The slot memref a wait names. -/
abbrev slotR (off : Fin 3 → ℕ) (hinb : ∀ a, off a + S1x3072x1024.size a ≤ S3x3072x1024.size a) : Memref sig .tc .vmem S3072x1024 .bf16 :=
  (ringR.slice (Rect.unit (s := S3x3072x1024) off S1x3072x1024.size hinb) (fun _ => rfl)).squeeze S3072x1024 squeezes_S1x3072x1024_S3072x1024

/-- The wait for the whole slot: the block is there. -/
theorem wp_arrive {α : Type} {b : ℕ} {W : Waits sig Unit} {o1 : Fin 1 → ℕ} {o3 : Fin 3 → ℕ}
    (h1 : o1 = ![b % 3]) {hinb1 : ∀ a, o1 a + S1.size a ≤ S3.size a} {hinb3} {srcw : Memref sig .tc .hbm S3072x1024 .bf16} {hsrc hdst}
    {k : PUnit → Prog (TpuEff nD τ sig (Elt F) Λ₀ .tc) α} {Q : α → sProp 𝕄} :
    iprop(fill c tb y b 192 ∗ owes (c : Thread nD τ) 0 W)
      ⊢ iprop((iprop(full c tb y b ∗ ∃ W, owes (c : Thread nD τ) 0 W)
            -∗ wp frame (wpE (defs₀ (F := F)) Variants.none c none) Set.univ (k ⟨⟩) Q)
          -∗ wp frame (wpE (defs₀ (F := F)) Variants.none c none) Set.univ
              (Prog.lift (TpuEff.waitDma2 ((cc0_scratch1.slice (Rect.unit (s := S3) o1 S1.size hinb1)).squeeze S_ squeezes_S1_S_).sem
                srcw (slotR o3 hinb3) hsrc hdst) >>= k) Q) := by
  have hlt : b % 3 < 3 := Nat.mod_lt _ (by norm_num)
  rw [sem_eq (b % 3) hlt h1 hinb1]
  unfold fill full
  iintro ⟨⟨-, HB⟩, HO⟩ Hk
  iapply (show iprop(Batch EC (c : Thread nD τ) (.dma (slotSem b)) () chunkN (deliv tb y b) 192 0 ∗ owes (c : Thread nD τ) 0 W)
      ⊢ iprop((iprop(bigSep Finset.univ (deliv tb y b) ∗ semVal ((c : Thread nD τ), .dma (slotSem b)) 0 ∗ owes (c : Thread nD τ) 0 (insert (SemLoc.dma (slotSem b), ()) W))
            -∗ wp frame (wpE (defs₀ (F := F)) Variants.none c none) Set.univ (k ⟨⟩) Q)
          -∗ wp frame (wpE (defs₀ (F := F)) Variants.none c none) Set.univ
              (Prog.lift (TpuEff.waitDma2 (semOf (b % 3) hlt) srcw (slotR o3 hinb3) hsrc hdst) >>= k) Q) from
    wp_waitBatchAll EC Variants.none (c : Thread nD τ) none () (J := chunkN * 192) slot_credit chunkN_pos (by omega)) $$ [HB HO]
  · isplitl [HB]; · iexact HB
    iexact HO
  iintro ⟨HD, Hs, HO⟩
  iapply Hk
  isplitl [HD Hs]
  · isplitl [HD]; · iapply (deliv_all tb y b) $$ HD
    iexact Hs
  iexists _; iexact HO

/-- What an issue into block `b`'s slot uses. -/
def filling (b k : ℕ) : sProp 𝕄 := iprop(shared c tb y qt ∗ fill c tb y b k)

/-- An issue's first half: the word is read, and its side condition holds. -/
theorem wp_look {α : Type} {b j : ℕ} {P : Elt F .i32 → Prop} {dec : ∀ v, Decidable (P v)} {off : Fin 1 → ℕ} (hb : b < 6) (hj : j < 192)
    (ho : off = ![192 * b + j]) {hinb : ∀ a, off a + S1.size a ≤ S1152.size a}
    (hP : P (word tb (192 * b + j)))
    {k : (v : Elt F .i32) → PLift (P v) → Prog (TpuEff nD τ sig (Elt F) Λ₀ .tc) α} {Q : α → sProp 𝕄} :
    filling c tb y qt b j
      ⊢ iprop((filling c tb y qt b j
            -∗ wp frame (wpE (defs₀ (F := F)) Variants.none c none) Set.univ (k (word tb (192 * b + j)) ⟨hP⟩) Q)
          -∗ wp frame (wpE (defs₀ (F := F)) Variants.none c none) Set.univ
              ((smemLoad tabR (Rect.unit (s := S1152) off S1.size hinb) numel1_S1 rfl : Prog (TpuEff nD τ sig (Elt F) Λ₀ .tc) (Elt F .i32)) >>= fun v =>
                Prog.lift (TpuEff.assume (P v) (dec v)) >>= fun h => k v h) Q) := by
  unfold filling shared
  iintro ⟨⟨Ht, Hy⟩, Hr⟩ Hk
  iapply (wp_word c tb (q := qt) (192 * b + j) (by omega) ho hP) $$ Ht
  iintro Ht
  iapply Hk
  isplitl [Ht Hy]
  · isplitl [Ht]; · iexact Ht
    iexact Hy
  iexact Hr

/-- An issue's second half: the sixteen rows the word names are sent into chunk `j` of the slot. -/
theorem wp_send (hg : GoodTab tb) {α : Type} {b j : ℕ} (hj : j < 192) {o1 : Fin 1 → ℕ} {o3 : Fin 3 → ℕ} {o2 : Fin 2 → ℕ}
    (h1 : o1 = ![b % 3]) (h3 : o3 = ![b % 3, 16 * j, 0]) (h2 : o2 = ![(word tb (192 * b + j)).toNat, 0])
    {hinb1 : ∀ a, o1 a + S1.size a ≤ S3.size a} {hinb3} {hinb2} {hsrc hdst hsem}
    {k : PUnit → Prog (TpuEff nD τ sig (Elt F) Λ₀ .tc) α} {Q : α → sProp 𝕄} :
    filling c tb y qt b j
      ⊢ iprop((filling c tb y qt b (j + 1)
            -∗ wp frame (wpE (defs₀ (F := F)) Variants.none c none) Set.univ (k ⟨⟩) Q)
          -∗ wp frame (wpE (defs₀ (F := F)) Variants.none c none) Set.univ
              (Prog.lift (TpuEff.enqueueDma (rowsR o2 hinb2) (.here (chunkR o3 hinb3))
                (.dma ((cc0_scratch1.slice (Rect.unit (s := S3) o1 S1.size hinb1)).squeeze S_ squeezes_S1_S_).sem) hsrc hdst hsem) >>= k) Q) := by
  have hlt : b % 3 < 3 := Nat.mod_lt _ (by norm_num)
  have hs := sem_eq (b % 3) hlt h1 hinb1
  change filling c tb y qt b j
      ⊢ iprop((filling c tb y qt b (j + 1)
            -∗ wp frame (wpE (defs₀ (F := F)) Variants.none c none) Set.univ (k ⟨⟩) Q)
          -∗ wp frame (wpE (defs₀ (F := F)) Variants.none c none) Set.univ
              (Prog.op (TpuEff.enqueueDma (rowsR o2 hinb2) (.here (chunkR o3 hinb3))
                (.dma ((cc0_scratch1.slice (Rect.unit (s := S3) o1 S1.size hinb1)).squeeze S_ squeezes_S1_S_).sem) hsrc hdst hsem) k) Q)
  revert hsem hs
  generalize ((cc0_scratch1.slice (Rect.unit (s := S3) o1 S1.size hinb1)).squeeze S_ squeezes_S1_S_).sem = sm
  intro hsem hs
  subst hs
  unfold filling shared fill
  iintro ⟨⟨Ht, ⟨%q, Hy⟩⟩, ⟨%f, Hr⟩, HB⟩ Hk
  ihave Hy := (pointsTo_share (ℓ := yR.view.loc (c : Thread nD τ)) (PosShare.mem_left_op_right q)).1 $$ Hy
  icases Hy with ⟨Hy, Hy'⟩
  ihave Hy' := (pointsTo_split_subset (ℓ := yR.view.loc (c : Thread nD τ)) (Finset.subset_univ ((rowsR o2 hinb2).view.set))).1 $$ Hy'
  icases Hy' with ⟨Hy', -⟩
  rw [restSet_succ]
  ihave Hr := (pointsTo_union (ℓ := ringR.view.loc (c : Thread nD τ)) (restSet_disj (b % 3) j)).1 $$ Hr
  icases Hr with ⟨Hd, Hr⟩
  iapply (wp_dmaBatch EC Variants.none (c : Thread nD τ) none (src := rowsR o2 hinb2) (dst := chunkR o3 hinb3) () chunkN rfl
    (D := deliv tb y b) (j := j) (u := 0) (Sd := pieceSet (b % 3) j) (fd := f) (fs := y) (q := q.right) (chunk_set (b % 3) j h3 hinb3).le hj (Nat.zero_le _) ?_) $$ [Hy' Hd HB]
  · iintro ⟨Hd, -⟩
    unfold deliv
    iapply (Entails.of_eq (pointsTo_congr (chunk_write tb y f b j hj hg h3 hinb3 h2 hinb2))) $$ Hd
  · isplitl [Hy']; · iexact Hy'
    isplitl [Hd]; · iexact Hd
    iexact HB
  iintro HB
  iapply Hk
  isplitl [Ht Hy]
  · isplitl [Ht]; · iexact Ht
    iexists _; iexact Hy
  isplitl [Hr]; · iexists _; iexact Hr
  iexact HB

/-- A buffer held whole. -/
abbrev pt {sp : Space} {S : Shape} {e : EltTy} (M : Memref sig .tc sp S e) (f : Buf (Elt F) (M.view.loc (c : Thread nD τ))) : sProp 𝕄 :=
  M.view.loc (c : Thread nD τ) ↦{fullShare} f

/-- A load from a buffer held whole. -/
theorem wp_get {α : Type} {cs : CoreSpace} {s : Shape} {e : EltTy} {M : Memref sig .tc cs s e} {r : LoadRect s} {hl : M.view.LoadsAt r} {f : Buf (Elt F) (M.view.loc (c : Thread nD τ))}
    {k : (r.shape.Idx → Elt F e) → Prog (TpuEff nD τ sig (Elt F) Λ₀ .tc) α} {Q : α → sProp 𝕄} :
    pt c M f ⊢ iprop((pt c M f -∗ wp frame (wpE (defs₀ (F := F)) Variants.none c none) Set.univ (k (M.view.readAt (Elt F) r f)) Q)
      -∗ wp frame (wpE (defs₀ (F := F)) Variants.none c none) Set.univ (Prog.lift (TpuEff.load M r hl) >>= k) Q) :=
  wp_load Variants.none (c : Thread nD τ) none Set.univ (m := M) (r := r) (S := Finset.univ) (Finset.subset_univ _)

/-- A load from the slot that holds block `b`. -/
theorem wp_rows {α : Type} {b : ℕ} {off size : Fin 3 → ℕ} {hinb : ∀ a, off a + size a ≤ S3x3072x1024.size a} (h0 : off 0 = b % 3) (hs : size 0 = 1)
    {hl : ringR.view.LoadsAt (Rect.unit (s := S3x3072x1024) off size hinb).toLoadRect}
    {k : ((Rect.unit (s := S3x3072x1024) off size hinb).toLoadRect.shape.Idx → Elt F .bf16) → Prog (TpuEff nD τ sig (Elt F) Λ₀ .tc) α} {Q : α → sProp 𝕄} :
    full c tb y b ⊢ iprop((full c tb y b -∗ wp frame (wpE (defs₀ (F := F)) Variants.none c none) Set.univ
          (k (ringR.view.readAt (Elt F) (Rect.unit (s := S3x3072x1024) off size hinb).toLoadRect (landed tb y b))) Q)
      -∗ wp frame (wpE (defs₀ (F := F)) Variants.none c none) Set.univ (Prog.lift (TpuEff.load ringR (Rect.unit (s := S3x3072x1024) off size hinb).toLoadRect hl) >>= k) Q) := by
  unfold full
  iintro ⟨Hr, Hs⟩ Hk
  have hsub : ringR.view.setOn (Rect.unit (s := S3x3072x1024) off size hinb).set ⊆ slotSet (b % 3) := by
    intro p hp
    obtain ⟨x, hx, rfl⟩ := Finset.mem_map.mp hp
    have := (Rect.mem_set_unit.mp hx) 0
    simp only [slotSet, Finset.mem_filter, Finset.mem_univ, true_and]
    have h : off 0 ≤ (x 0).val ∧ (x 0).val < off 0 + size 0 := this
    show (x 0).val = b % 3
    omega
  iapply (show (ringR.view.loc (c : Thread nD τ) ↦[slotSet (b % 3)]{fullShare} landed tb y b : sProp 𝕄)
      ⊢ iprop(((ringR.view.loc (c : Thread nD τ) ↦[slotSet (b % 3)]{fullShare} landed tb y b) -∗ wp frame (wpE (defs₀ (F := F)) Variants.none c none) Set.univ
          (k (ringR.view.readAt (Elt F) (Rect.unit (s := S3x3072x1024) off size hinb).toLoadRect (landed tb y b))) Q)
      -∗ wp frame (wpE (defs₀ (F := F)) Variants.none c none) Set.univ (Prog.lift (TpuEff.load ringR (Rect.unit (s := S3x3072x1024) off size hinb).toLoadRect hl) >>= k) Q) from
    wp_load Variants.none (c : Thread nD τ) none Set.univ (m := ringR) (S := slotSet (b % 3)) hsub) $$ Hr
  iintro Hr
  iapply Hk
  isplitl [Hr]; · iexact Hr
  iexact Hs

/-- A store over the whole of a buffer held whole. -/
theorem wp_put {α : Type} {cs : CoreSpace} {s : Shape} {e : EltTy} {M : Memref sig .tc cs s e} {r : Rect s} {w : r.shape.Idx → Elt F e} {hx hm} {f : Buf (Elt F) (M.view.loc (c : Thread nD τ))}
    {k : PUnit → Prog (TpuEff nD τ sig (Elt F) Λ₀ .tc) α} {Q : α → sProp 𝕄} :
    pt c M f ⊢ iprop((pt c M ((M.access r).write (Elt F) f w Finset.univ) -∗ wp frame (wpE (defs₀ (F := F)) Variants.none c none) Set.univ (k ⟨⟩) Q)
      -∗ wp frame (wpE (defs₀ (F := F)) Variants.none c none) Set.univ (Prog.lift (TpuEff.store M r w Finset.univ hx hm) >>= k) Q) :=
  wp_store Variants.none (c : Thread nD τ) none Set.univ (m := M) (r := r) (S := Finset.univ) (Finset.subset_univ _)

/-- Offsets in closed form. -/
theorem vec1 {a a' : ℕ} (h : a = a') : (![a] : Fin 1 → ℕ) = ![a'] := by rw [h]
/-- Offsets that agree on the middle axis agree. -/
theorem vec3 {a b b' d : ℕ} (h : b = b') : (![a, b, d] : Fin 3 → ℕ) = ![a, b', d] := by rw [h]

end Cert.Proof.Sample.Run
-- ==== Proof.SamplePrologue.lean ====
module

public import proofs.«01_k».proof.Proof.SampleRing

@[expose] public section

noncomputable section

namespace Cert.Proof.Sample.Run

open Cert.SampleIdeal Cert.SampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx

variable {F : FTy → Type} [FloatOps F]
local notation "𝕄" => MT nD τ sig Unit (Elt F) ℕ (UU nD τ) ℕ

variable (c : Dev nD) (tb : Tb F c) (y : Yb F c) (qt : PosShare TreeShare)

/-! ## Before, between and after the grid points -/

/-- Blocks `b` and `b + 1` asked for, the third slot free. -/
def ready (b : ℕ) : sProp 𝕄 := iprop(fill c tb y b 192 ∗ fill c tb y (b + 1) 192 ∗ free F c (b + 2))

/-- All three slots free. -/
def idle : sProp 𝕄 := iprop(free F c 0 ∗ free F c 1 ∗ free F c 2)

/-- The slots before grid point `t` (after all of them at `t = 4`). -/
def ringState (t : ℕ) : sProp 𝕄 := if t = 0 ∨ 4 ≤ t then idle (F := F) c else ready c tb y t

/-- The first condition holds at point 0 alone. -/
theorem cond1_iff : ∀ i : grid0.Coords, k0_cond1 i = 1#1 ↔ (i 0).val = 0 := by decide +kernel
/-- The second holds at point 3 alone. -/
theorem cond2_iff : ∀ i : grid0.Coords, k0_cond2 i = 1#1 ↔ (i 0).val = 3 := by decide +kernel

/-- Trip `t` of the opening loop copies into slot `t / 192`, -/
theorem trip_slot : ∀ t : Fin k0_t1_loop.trips, k0_off2 t = ![t.val / 192] := by decide +kernel
/-- its chunk `t % 192`. -/
theorem trip_chunk : ∀ t : Fin k0_t1_loop.trips, k0_off3 t = ![t.val / 192, 16 * (t.val % 192), 0] := by decide +kernel
/-- The opening loop makes 384 trips. -/
theorem trips_eq : k0_t1_loop.trips = 384 := by decide +kernel

/-- The first loop, between trips: of the `k` chunks asked for, block 0 has the first 192. -/
def loopInv (k : ℕ) (_ : Unit) : sProp 𝕄 := iprop(shared c tb y qt ∗ fill c tb y 0 (min k 192) ∗ fill c tb y 1 (k - 192))

/-- One trip of the opening loop. -/
theorem trip_run (hg : GoodTab tb) (i : grid0.Coords) (h : k0_cond1 i = 1#1) (M3 h3 M4 h4 M5 h5 M6 h6 M7 h7 M8 h8 M9 h9 M10 h10 M11 h11)
    (t : Fin k0_t1_loop.trips) (u : Unit) :
    loopInv c tb y qt t.val u ⊢ wp frame (wpE (defs₀ (F := F)) Variants.none c none) Set.univ
      (k0_t1_body i tabR (Memref.isWhole_whole _) yR (Memref.isWhole_whole _) M3 h3 M4 h4 M5 h5 M6 h6 M7 h7 M8 h8 M9 h9 M10 h10 M11 h11 ringR (Memref.isWhole_whole _) cc0_scratch1 h t u)
      (loopInv c tb y qt (t.val + 1)) := by
  have ht : t.val < 384 := lt_of_lt_of_eq t.isLt trips_eq
  have hchk : ∀ n, k0_chk1 i (word tb n) := fun n =>
    let hc := chk_of _ (hg n).1 (hg n).2
    ⟨fun _ => hc.1, fun _ => hc.2.1, fun _ => hc.2.2⟩
  unfold loopInv k0_t1_body
  by_cases hlt : t.val < 192
  · rw [min_eq_left (le_of_lt hlt), min_eq_left (by omega : t.val + 1 ≤ 192), (by omega : t.val - 192 = 0), (by omega : t.val + 1 - 192 = 0)]
    iintro ⟨HS, H0, H1⟩
    iapply (wp_look c tb y qt (b := 0) (j := t.val) ?_ ?_ ?_ ?_) $$ [HS H0]
    rotate_left 3
    · unfold filling; isplitl [HS]; · iexact HS
      iexact H0
    rotate_left 2
    · omega
    · exact hlt
    · rw [k0_off1_eq]; exact vec1 (by omega)
    rotate_left 1
    · exact hchk _
    iintro HF
    dsimp only
    iapply (wp_send c tb y qt hg (b := 0) (j := t.val) ?_ ?_ ?_ ?_) $$ HF
    rotate_left 4
    · iintro HF
      unfold filling
      icases HF with ⟨HS, H0⟩
      rw [wp_pure]; imodintro
      isplitl [HS]; · iexact HS
      isplitl [H0]; · iexact H0
      iexact H1
    · exact hlt
    · rw [trip_slot]; exact vec1 (by omega)
    · rw [trip_chunk, Nat.div_eq_of_lt hlt, Nat.mod_eq_of_lt hlt]
    · exact rfl
  · rw [min_eq_right (by omega : 192 ≤ t.val), min_eq_right (by omega : 192 ≤ t.val + 1), (by omega : t.val + 1 - 192 = (t.val - 192) + 1)]
    iintro ⟨HS, H0, H1⟩
    iapply (wp_look c tb y qt (b := 1) (j := t.val - 192) ?_ ?_ ?_ ?_) $$ [HS H1]
    rotate_left 3
    · unfold filling; isplitl [HS]; · iexact HS
      iexact H1
    rotate_left 2
    · omega
    · omega
    · rw [k0_off1_eq]; exact vec1 (by omega)
    rotate_left 1
    · exact hchk _
    iintro HF
    dsimp only
    iapply (wp_send c tb y qt hg (b := 1) (j := t.val - 192) ?_ ?_ ?_ ?_) $$ HF
    rotate_left 4
    · iintro HF
      unfold filling
      icases HF with ⟨HS, H1⟩
      rw [wp_pure]; imodintro
      isplitl [HS]; · iexact HS
      isplitl [H0]; · iexact H0
      iexact H1
    · omega
    · rw [trip_slot]; exact vec1 (by omega)
    · rw [trip_chunk, (by omega : t.val / 192 = 1), (by omega : t.val % 192 = t.val - 192)]
    · exact rfl

/-- The first grid point's loop, and nothing at the others: blocks `b` and `b + 1` are asked for. -/
theorem prologue_run (hg : GoodTab tb) (i : grid0.Coords) (M3 h3 M4 h4 M5 h5 M6 h6 M7 h7 M8 h8 M9 h9 M10 h10 M11 h11)
    {α : Type} {P : Prog (TpuEff nD τ sig (Elt F) Λ₀ .tc) α} {Q : α → sProp 𝕄} :
    iprop(shared c tb y qt ∗ ringState c tb y (i 0).val)
      ⊢ iprop((iprop(shared c tb y qt ∗ ready c tb y (i 0).val) -∗ wp frame (wpE (defs₀ (F := F)) Variants.none c none) Set.univ P Q)
        -∗ wp frame (wpE (defs₀ (F := F)) Variants.none c none) Set.univ
          (if h : k0_cond1 i = 1#1 then do
              Scf.Loop.for k0_t1_loop (k0_t1_ok i h) ⟨⟩ (k0_t1_body i tabR (Memref.isWhole_whole _) yR (Memref.isWhole_whole _) M3 h3 M4 h4 M5 h5 M6 h6 M7 h7 M8 h8 M9 h9 M10 h10 M11 h11 ringR (Memref.isWhole_whole _) cc0_scratch1 h)
              P
            else P) Q) := by
  have hi : (i 0).val < 4 := (i 0).isLt
  by_cases h : k0_cond1 i = 1#1
  · have h0 := (cond1_iff i).mp h
    rw [dif_pos h, h0]
    have e : (ringState c tb y 0 : sProp 𝕄) = idle c := if_pos (Or.inl rfl)
    rw [e]
    unfold idle ready
    iintro ⟨HS, H0, H1, H2⟩ Hk
    imod (fill_start c tb y 0) $$ H0 with H0
    imod (fill_start c tb y 1) $$ H1 with H1
    iapply (Scf.wp_for_bind frame (wpE (defs₀ (F := F)) Variants.none c none) Set.univ _ _ _ (k0_t1_ok i h) _ _ (loopInv c tb y qt)
      (trip_run c tb y qt hg i h M3 h3 M4 h4 M5 h5 M6 h6 M7 h7 M8 h8 M9 h9 M10 h10 M11 h11)) $$ [HS H0 H1]
    · unfold loopInv
      isplitl [HS]; · iexact HS
      isplitl [H0]; · iexact H0
      iexact H1
    · iintro %acc HI
      iapply Hk
      rw [show Scf.trips k0_t1_loop.lb k0_t1_loop.ub k0_t1_loop.st = 384 from trips_eq]
      unfold loopInv
      icases HI with ⟨HS, H0, H1⟩
      isplitl [HS]; · iexact HS
      isplitl [H0]; · iexact H0
      isplitl [H1]; · iexact H1
      iexact H2
  · have h0 : (i 0).val ≠ 0 := fun e => h ((cond1_iff i).mpr e)
    have e : (ringState c tb y (i 0).val : sProp 𝕄) = ready c tb y (i 0).val := if_neg (by omega)
    rw [dif_neg h, e]
    iintro HS Hk
    iapply Hk $$ HS

/-- The last grid point's two waits, and nothing at the others. -/
theorem ringState_end (b : ℕ) (hb : b + 1 = 4) : iprop(full c tb y (b + 1) ∗ full c tb y (b + 2) ∗ full c tb y b) ⊢ (ringState c tb y (b + 1) : sProp 𝕄) := by
  have e : (ringState c tb y (b + 1) : sProp 𝕄) = idle c := if_pos (Or.inr (by omega))
  rw [e]
  unfold idle
  iintro ⟨H1, H2, H0⟩
  isplitl [H0]
  · rw [free_mod c 0 b (by omega)]; iapply (full_free c tb y b) $$ H0
  isplitl [H1]
  · rw [free_mod c 1 (b + 1) (by omega)]; iapply (full_free c tb y (b + 1)) $$ H1
  · rw [free_mod c 2 (b + 2) (by omega)]; iapply (full_free c tb y (b + 2)) $$ H2

/-- The ring after a point is the ring before the next. -/
theorem ringState_next (b : ℕ) (hb : b + 1 < 4) : iprop(fill c tb y (b + 1) 192 ∗ fill c tb y (b + 2) 192 ∗ full c tb y b) ⊢ (ringState c tb y (b + 1) : sProp 𝕄) := by
  have e : (ringState c tb y (b + 1) : sProp 𝕄) = ready c tb y (b + 1) := if_neg (by omega)
  rw [e]
  unfold ready
  iintro ⟨H1, H2, H0⟩
  isplitl [H1]; · iexact H1
  isplitl [H2]; · iexact H2
  rw [free_mod c (b + 1 + 2) b (by omega)]
  iapply (full_free c tb y b) $$ H0

end Cert.Proof.Sample.Run
-- ==== Proof.SampleBody.lean ====
module

public import proofs.«01_k».proof.Proof.SamplePrologue

@[expose] public section

noncomputable section

namespace Cert.Proof.Sample.Run

open Cert.SampleIdeal Cert.SampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx

variable {F : FTy → Type} [FloatOps F]
local notation "𝕄" => MT nD τ sig Unit (Elt F) ℕ (UU nD τ) ℕ

/-! ## What a grid point computes -/

section Value
variable (v12 : FVec F S8x256 .f32) (v15 v18 v21 v24 v27 v30 v33 v36 : FVec F S1x256 .bf16)

/-- The weights of slots 0 … 255 of the block's rows, 256 … 511 and 512 … 767. -/
def wgt0 : FVec F S256x256 .bf16 :=
  k0_pay13 v12 v27 v30 v33 v36 (k0_pay10 (F := F)) (k0_pay11 v12 v15 v18 v21 v24) (k0_pay12 v12)
def wgt1 : FVec F S256x256 .bf16 :=
  k0_pay21 (k0_pay18 v12 v21 v24 v27 v30 v33 (k0_pay14 (F := F)) (k0_pay15 v12 v15) (k0_pay16 v12) (k0_pay17 v18)) (k0_pay19 v12 (k0_pay14 (F := F))) (k0_pay20 v36)
def wgt2 : FVec F S256x256 .bf16 :=
  k0_pay25 v12 v30 v33 v36 (k0_pay22 (F := F)) (k0_pay23 v12 v15 v18 v21 v24 v27) (k0_pay24 v12)

/-- After the block's first 1024 rows. -/
def acc0 (b0 : Vec F S1x1024x1024 .bf16) : FVec F S256x1024 .f32 :=
  k0_pay30 v12 v24 v27 v30 v33 v36 (wgt0 v12 v15 v18 v21 v24 v27 v30 v33 v36) (wgt1 v12 v15 v18 v21 v24 v27 v30 v33 v36)
    (wgt2 v12 v15 v18 v21 v24 v27 v30 v33 v36) (k0_pay26 (F := F)) (k0_pay27 v12 v15 v18) (k0_pay28 v12) (k0_pay29 v21) b0

def wgt4 : FVec F S256x256 .bf16 :=
  k0_pay34 v12 v30 v33 v36 (k0_pay31 (F := F) (iota .tc S256x256 32 [0] iota_S256x256_d0_w32)) (k0_pay32 v12 v15 v18 v21 v24 v27 (iota .tc S256x256 32 [0] iota_S256x256_d0_w32)) (k0_pay33 v12)
def wgt5 : FVec F S256x256 .bf16 :=
  k0_pay38 v12 v24 v27 v30 v33 v36 (k0_pay35 (F := F)) (k0_pay36 v12 v15 v18 v21) (k0_pay37 v12)
def wgt6 : FVec F S256x256 .bf16 :=
  k0_pay44 v12 v33 v36 (k0_pay39 (F := F)) (k0_pay42 v12 v15 v18 v21 v24 v27 v30 (k0_pay39 (F := F)) (k0_pay40 (F := F)) (k0_pay41 v12)) (k0_pay43 v12)

/-- After the second. -/
def acc1 (a0 : FVec F S256x1024 .f32) (b1 : Vec F S1x1024x1024 .bf16) : FVec F S256x1024 .f32 :=
  k0_pay48 v12 v27 v30 v33 v36 a0 (wgt4 v12 v15 v18 v21 v24 v27 v30 v33 v36) (wgt5 v12 v15 v18 v21 v24 v27 v30 v33 v36)
    (wgt6 v12 v15 v18 v21 v24 v27 v30 v33 v36) (k0_pay45 (F := F)) (k0_pay46 v12 v15 v18 v21 v24) (k0_pay47 v12) b1

def wgt8 : FVec F S256x256 .bf16 :=
  k0_pay54 v12 v33 v36 (k0_pay49 (F := F)) (k0_pay52 v12 v15 v18 v21 v24 v27 v30 (k0_pay49 (F := F)) (k0_pay50 (F := F)) (k0_pay51 v12)) (k0_pay53 v12 (k0_pay49 (F := F)))
def wgt9 : FVec F S256x256 .bf16 :=
  k0_pay58 v12 v27 v30 v33 v36 (k0_pay55 (F := F)) (k0_pay56 v12 v15 v18 v21 v24) (k0_pay57 v12) (Scalar.ofBits .f32 0x45100000#32)
def wgt10 : FVec F S256x256 .bf16 :=
  k0_pay64 v36 (k0_pay62 v12 v18 v21 v24 v27 v30 v33 (k0_pay59 (F := F)) (k0_pay60 v12 v15) (k0_pay61 v12)) (k0_pay63 v12 (k0_pay59 (F := F)))

/-- After the third. -/
def acc2 (a1 : FVec F S256x1024 .f32) (b2 : Vec F S1x1024x1024 .bf16) : FVec F S256x1024 .f32 :=
  k0_pay68 v12 v30 v33 v36 a1 (wgt8 v12 v15 v18 v21 v24 v27 v30 v33 v36) (wgt9 v12 v15 v18 v21 v24 v27 v30 v33 v36)
    (wgt10 v12 v15 v18 v21 v24 v27 v30 v33 v36) (k0_pay65 (F := F)) (k0_pay66 v12 v15 v18 v21 v24 v27) (k0_pay67 v12) (Scalar.ofBits .f32 0x45300000#32) b2

end Value

/-- The three accumulations, from the loaded slot rows, gates and block. -/
def accVal (s : Vec F S8x256 .f32) (g0 g1 g2 g3 g4 g5 g6 g7 : Vec F S1x256 .f32) (b0 b1 b2 : Vec F S1x1024x1024 .bf16) : FVec F S256x1024 .f32 :=
  let v12 := k0_pay1 s
  let v15 := k0_pay2 g0
  let v18 := k0_pay3 g1
  let v21 := k0_pay4 g2
  let v24 := k0_pay5 g3
  let v27 := k0_pay6 g4
  let v30 := k0_pay7 g5
  let v33 := k0_pay8 g6
  let v36 := k0_pay9 g7
  acc2 v12 v15 v18 v21 v24 v27 v30 v33 v36
    (acc1 v12 v15 v18 v21 v24 v27 v30 v33 v36 (acc0 v12 v15 v18 v21 v24 v27 v30 v33 v36 b0) b1) b2

/-- What the point writes: the routed sum, the shared expert, the residual and the layer norm. -/
def outVal (acc : FVec F S256x1024 .f32) (xb : Vec F S256x1024 .bf16) (wg wu : Vec F S1024x256 .bf16) (wd : Vec F S256x1024 .bf16)
    (x : Vec F S256x1024 .f32) (g b : Vec F S1x1024 .f32) : Vec F S256x1024 .f32 :=
  k0_pay73 acc (k0_pay70 xb wg) (k0_pay71 xb wu) (k0_pay72 xb wg) wd x g b

/-! ## The reads -/

abbrev rdS (M : Memref sig .tc .vmem S16x256 .f32) (c : Dev nD) (f : Buf (Elt F) (M.view.loc (c : Thread nD τ))) : Vec F S8x256 .f32 :=
  M.view.readAt (Elt F) (Rect.unit (s := S16x256) ![0, 0] S8x256.size inb_S16x256_S8x256_0_0).toLoadRect f
abbrev rdG (M : Memref sig .tc .vmem S16x256 .f32) (c : Dev nD) (f : Buf (Elt F) (M.view.loc (c : Thread nD τ))) (off : Fin 2 → ℕ)
    (h : ∀ a, off a + S1x256.size a ≤ S16x256.size a) : Vec F S1x256 .f32 :=
  M.view.readAt (Elt F) (Rect.unit (s := S16x256) off S1x256.size h).toLoadRect f
abbrev rdB (c : Dev nD) (f : Sb F c) (off : Fin 3 → ℕ) (h : ∀ a, off a + S1x1024x1024.size a ≤ S3x3072x1024.size a) : Vec F S1x1024x1024 .bf16 :=
  ringR.view.readAt (Elt F) (Rect.unit (s := S3x3072x1024) off S1x1024x1024.size h).toLoadRect f
abbrev rdAll {S : Shape} {e : EltTy} (M : Memref sig .tc .vmem S e) (c : Dev nD) (f : Buf (Elt F) (M.view.loc (c : Thread nD τ))) (off : Fin S.rank → ℕ)
    (h : ∀ a, off a + S.size a ≤ S.size a) : Vec F S e :=
  M.view.readAt (Elt F) (Rect.unit (s := S) off S.size h).toLoadRect f

variable (c : Dev nD) (tb : Tb F c) (y : Yb F c) (qt : PosShare TreeShare)

/-- The routed sum at point `i`, from the slot rows' buffer. -/
def accAt (i : grid0.Coords) (M3 : Memref sig .tc .vmem S16x256 .f32) (f3 : Buf (Elt F) (M3.view.loc (c : Thread nD τ))) : FVec F S256x1024 .f32 :=
  accVal (rdS M3 c f3) (rdG M3 c f3 ![8, 0] inb_S16x256_S1x256_8_0) (rdG M3 c f3 ![9, 0] inb_S16x256_S1x256_9_0) (rdG M3 c f3 ![10, 0] inb_S16x256_S1x256_10_0)
    (rdG M3 c f3 ![11, 0] inb_S16x256_S1x256_11_0) (rdG M3 c f3 ![12, 0] inb_S16x256_S1x256_12_0) (rdG M3 c f3 ![13, 0] inb_S16x256_S1x256_13_0)
    (rdG M3 c f3 ![14, 0] inb_S16x256_S1x256_14_0) (rdG M3 c f3 ![15, 0] inb_S16x256_S1x256_15_0)
    (rdB c (landed tb y (i 0).val) (k0_off7 i) (k0_off7_inb i)) (rdB c (landed tb y (i 0).val) (k0_off264 i) (k0_off264_inb i))
    (rdB c (landed tb y (i 0).val) (k0_off521 i) (k0_off521_inb i))

set_option maxHeartbeats 0 in
/-- The point up to the last sub-block's sum: the slot's block has arrived and been used, and all but the last issues
    into the slot two blocks ahead are made. -/
theorem head_run (hg : GoodTab tb) (i : grid0.Coords) (M3 h3 M4 h4 M5 h5 M6 h6 M7 h7 M8 h8 M9 h9 M10 h10 M11 h11)
    (f3 : Buf (Elt F) (M3.view.loc (c : Thread nD τ))) (W : Waits sig Unit) (Q : _ → sProp 𝕄) :
    iprop(shared c tb y qt ∗ ringState c tb y (i 0).val ∗ pt c M3 f3 ∗ owes (c : Thread nD τ) 0 W)
      ⊢ iprop((∀ v w (hw : k0_chk167 v), ⌜v = word tb (192 * ((i 0).val + 2) + 165)⌝ -∗ filling c tb y qt ((i 0).val + 2) 165 -∗ fill c tb y ((i 0).val + 1) 192 -∗ full c tb y (i 0).val -∗ pt c M3 f3
            -∗ (∃ W, owes (c : Thread nD τ) 0 W) -∗ Q ⟨BitVec.ofNat 32 (i 0).val, w, accAt c tb y i M3 f3, v, hw⟩)
        -∗ wp frame (wpE (defs₀ (F := F)) Variants.none c none) Set.univ
          (k0_part69_skel i tabR (Memref.isWhole_whole _) yR (Memref.isWhole_whole _) M3 h3 M4 h4 M5 h5 M6 h6 M7 h7 M8 h8 M9 h9 M10 h10 M11 h11 ringR (Memref.isWhole_whole _) cc0_scratch1) Q) := by
  have hi : (i 0).val < 4 := (i 0).isLt
  iintro ⟨HS, HR, H3, HO⟩ Hk
  unfold k0_part69_skel
  rw [wp_bind, k0_part1_eq_skeleton]
  unfold k0_part1_skel
  dsimp only
  iapply (prologue_run c tb y qt hg i M3 h3 M4 h4 M5 h5 M6 h6 M7 h7 M8 h8 M9 h9 M10 h10 M11 h11) $$ [HS HR]
  · isplitl [HS]; · iexact HS
    iexact HR
  unfold ready
  iintro ⟨HS, H0, H1, H2⟩
  iapply (wp_arrive c tb y (b := (i 0).val) (k0_off5_eq i)) $$ [H0 HO]
  · isplitl [H0]; · iexact H0
    iexact HO
  iintro ⟨H0, HO⟩
  iterate 8
    iapply (wp_get c) $$ H3
    iintro H3
  imod (fill_start c tb y ((i 0).val + 2)) $$ H2 with H2
  rw [wp_pure]
  imodintro
  dsimp only
  rw [wp_bind, k0_part2_eq_skeleton]
  unfold k0_part2_skel
  iapply (wp_get c) $$ H3
  iintro H3
  dsimp only
  rw [wp_pure]
  imodintro
  rw [wp_bind, k0_part3_eq_skeleton]
  unfold k0_part3_skel
  dsimp only
  rw [wp_pure]
  imodintro
  rw [wp_bind, k0_part4_eq_skeleton]
  unfold k0_part4_skel
  dsimp only
  rw [wp_pure]
  imodintro
  rw [wp_bind, k0_part5_eq_skeleton]
  unfold k0_part5_skel
  dsimp only
  rw [wp_pure]
  imodintro
  rw [wp_bind, k0_part6_eq_skeleton]
  unfold k0_part6_skel
  dsimp only
  rw [wp_pure]
  imodintro
  rw [wp_bind, k0_part7_eq_skeleton]
  unfold k0_part7_skel
  dsimp only
  iapply (wp_rows c tb y (b := (i 0).val) (by rw [k0_off7_eq]; rfl) rfl) $$ H0
  iintro H0
  rw [wp_pure]
  imodintro
  dsimp only
  ihave HF : filling c tb y qt ((i 0).val + 2) 0 $$ [HS H2]
  · unfold filling
    isplitl [HS]; · iexact HS
    iexact H2
  iterate 16
    rw [wp_bind]
    first | rw [k0_part8_eq_skeleton, k0_part8_skel] | rw [k0_part9_eq_skeleton, k0_part9_skel] | rw [k0_part10_eq_skeleton, k0_part10_skel] | rw [k0_part11_eq_skeleton, k0_part11_skel] | rw [k0_part12_eq_skeleton, k0_part12_skel] | rw [k0_part13_eq_skeleton, k0_part13_skel] | rw [k0_part14_eq_skeleton, k0_part14_skel] | rw [k0_part15_eq_skeleton, k0_part15_skel] | rw [k0_part16_eq_skeleton, k0_part16_skel] | rw [k0_part17_eq_skeleton, k0_part17_skel] | rw [k0_part18_eq_skeleton, k0_part18_skel] | rw [k0_part19_eq_skeleton, k0_part19_skel] | rw [k0_part20_eq_skeleton, k0_part20_skel] | rw [k0_part21_eq_skeleton, k0_part21_skel] | rw [k0_part22_eq_skeleton, k0_part22_skel] | rw [k0_part23_eq_skeleton, k0_part23_skel]
    dsimp only
    iterate 4
      iapply (wp_look c tb y qt ?_ ?_ ?_ ?_) $$ HF
      rotate_right 1
      · exact chk_of _ (hg _).1 (hg _).2
      · omega
      · omega
      · exact (ClosedOff.eq (off := _)).trans (vec1 (by omega))
      iintro HF
      dsimp only
      iapply (wp_send c tb y qt hg ?_ ?_ ?_ ?_) $$ HF
      · omega
      · exact (ClosedOff.eq (off := _)).trans (vec1 (by omega))
      · exact (ClosedOff.eq (off := _)).trans (vec3 (by omega))
      · exact rfl
      iintro HF
    rw [wp_pure]
    imodintro
    try dsimp only
  iterate 5
    rw [wp_bind]
    first | rw [k0_part24_eq_skeleton, k0_part24_skel] | rw [k0_part25_eq_skeleton, k0_part25_skel] | rw [k0_part26_eq_skeleton, k0_part26_skel] | rw [k0_part27_eq_skeleton, k0_part27_skel] | rw [k0_part28_eq_skeleton, k0_part28_skel]
    try dsimp only
    rw [wp_pure]
    imodintro
    try dsimp only
  rw [wp_bind, k0_part29_eq_skeleton, k0_part29_skel]
  dsimp only
  iapply (wp_rows c tb y (b := (i 0).val) (by rw [k0_off264_eq]; rfl) rfl) $$ H0
  iintro H0
  iapply (wp_look c tb y qt ?_ ?_ ?_ ?_) $$ HF
  rotate_right 1
  · exact chk_of _ (hg _).1 (hg _).2
  · omega
  · omega
  · exact (ClosedOff.eq (off := _)).trans (vec1 (by omega))
  iintro HF
  dsimp only
  rw [wp_pure]
  imodintro
  try dsimp only
  iterate 15
    rw [wp_bind]
    first | rw [k0_part30_eq_skeleton, k0_part30_skel] | rw [k0_part31_eq_skeleton, k0_part31_skel] | rw [k0_part32_eq_skeleton, k0_part32_skel] | rw [k0_part33_eq_skeleton, k0_part33_skel] | rw [k0_part34_eq_skeleton, k0_part34_skel] | rw [k0_part35_eq_skeleton, k0_part35_skel] | rw [k0_part36_eq_skeleton, k0_part36_skel] | rw [k0_part37_eq_skeleton, k0_part37_skel] | rw [k0_part38_eq_skeleton, k0_part38_skel] | rw [k0_part39_eq_skeleton, k0_part39_skel] | rw [k0_part40_eq_skeleton, k0_part40_skel] | rw [k0_part41_eq_skeleton, k0_part41_skel] | rw [k0_part42_eq_skeleton, k0_part42_skel] | rw [k0_part43_eq_skeleton, k0_part43_skel] | rw [k0_part44_eq_skeleton, k0_part44_skel]
    dsimp only
    iterate 4
      iapply (wp_send c tb y qt hg ?_ ?_ ?_ ?_) $$ HF
      · omega
      · exact (ClosedOff.eq (off := _)).trans (vec1 (by omega))
      · exact (ClosedOff.eq (off := _)).trans (vec3 (by omega))
      · exact rfl
      iintro HF
      iapply (wp_look c tb y qt ?_ ?_ ?_ ?_) $$ HF
      rotate_right 1
      · exact chk_of _ (hg _).1 (hg _).2
      · omega
      · omega
      · exact (ClosedOff.eq (off := _)).trans (vec1 (by omega))
      iintro HF
      dsimp only
    rw [wp_pure]
    imodintro
    try dsimp only
  rw [wp_bind, k0_part45_eq_skeleton, k0_part45_skel]
  dsimp only
  iapply (wp_send c tb y qt hg ?_ ?_ ?_ ?_) $$ HF
  · omega
  · exact (ClosedOff.eq (off := _)).trans (vec1 (by omega))
  · exact (ClosedOff.eq (off := _)).trans (vec3 (by omega))
  · exact rfl
  iintro HF
  iterate 3
    iapply (wp_look c tb y qt ?_ ?_ ?_ ?_) $$ HF
    rotate_right 1
    · exact chk_of _ (hg _).1 (hg _).2
    · omega
    · omega
    · exact (ClosedOff.eq (off := _)).trans (vec1 (by omega))
    iintro HF
    dsimp only
    iapply (wp_send c tb y qt hg ?_ ?_ ?_ ?_) $$ HF
    · omega
    · exact (ClosedOff.eq (off := _)).trans (vec1 (by omega))
    · exact (ClosedOff.eq (off := _)).trans (vec3 (by omega))
    · exact rfl
    iintro HF
  rw [wp_pure]
  imodintro
  try dsimp only
  iterate 5
    rw [wp_bind]
    first | rw [k0_part46_eq_skeleton, k0_part46_skel] | rw [k0_part47_eq_skeleton, k0_part47_skel] | rw [k0_part48_eq_skeleton, k0_part48_skel] | rw [k0_part49_eq_skeleton, k0_part49_skel] | rw [k0_part50_eq_skeleton, k0_part50_skel]
    try dsimp only
    rw [wp_pure]
    imodintro
    try dsimp only
  rw [wp_bind, k0_part51_eq_skeleton, k0_part51_skel]
  dsimp only
  iapply (wp_rows c tb y (b := (i 0).val) (by rw [k0_off521_eq]; rfl) rfl) $$ H0
  iintro H0
  iapply (wp_look c tb y qt ?_ ?_ ?_ ?_) $$ HF
  rotate_right 1
  · exact chk_of _ (hg _).1 (hg _).2
  · omega
  · omega
  · exact (ClosedOff.eq (off := _)).trans (vec1 (by omega))
  iintro HF
  dsimp only
  iapply (wp_send c tb y qt hg ?_ ?_ ?_ ?_) $$ HF
  · omega
  · exact (ClosedOff.eq (off := _)).trans (vec1 (by omega))
  · exact (ClosedOff.eq (off := _)).trans (vec3 (by omega))
  · exact rfl
  iintro HF
  iapply (wp_look c tb y qt ?_ ?_ ?_ ?_) $$ HF
  rotate_right 1
  · exact chk_of _ (hg _).1 (hg _).2
  · omega
  · omega
  · exact (ClosedOff.eq (off := _)).trans (vec1 (by omega))
  iintro HF
  dsimp only
  rw [wp_pure]
  imodintro
  try dsimp only
  iterate 9
    rw [wp_bind]
    first | rw [k0_part52_eq_skeleton, k0_part52_skel] | rw [k0_part53_eq_skeleton, k0_part53_skel] | rw [k0_part54_eq_skeleton, k0_part54_skel] | rw [k0_part55_eq_skeleton, k0_part55_skel] | rw [k0_part56_eq_skeleton, k0_part56_skel] | rw [k0_part57_eq_skeleton, k0_part57_skel] | rw [k0_part58_eq_skeleton, k0_part58_skel] | rw [k0_part59_eq_skeleton, k0_part59_skel] | rw [k0_part60_eq_skeleton, k0_part60_skel]
    dsimp only
    iterate 4
      iapply (wp_send c tb y qt hg ?_ ?_ ?_ ?_) $$ HF
      · omega
      · exact (ClosedOff.eq (off := _)).trans (vec1 (by omega))
      · exact (ClosedOff.eq (off := _)).trans (vec3 (by omega))
      · exact rfl
      iintro HF
      iapply (wp_look c tb y qt ?_ ?_ ?_ ?_) $$ HF
      rotate_right 1
      · exact chk_of _ (hg _).1 (hg _).2
      · omega
      · omega
      · exact (ClosedOff.eq (off := _)).trans (vec1 (by omega))
      iintro HF
      dsimp only
    rw [wp_pure]
    imodintro
    try dsimp only
  rw [wp_pure]
  imodintro
  try dsimp only
  unfold accAt accVal acc2 acc1 acc0 wgt0 wgt1 wgt2 wgt4 wgt5 wgt6 wgt8 wgt9 wgt10
  dsimp only [rdS, rdG, rdB]
  iapply Hk $$ [] HF H1 H0 H3 HO
  ipureintro
  rfl

end Cert.Proof.Sample.Run
-- ==== Proof.SamplePoint.lean ====
module

public import proofs.«01_k».proof.Proof.SampleBody

@[expose] public section

noncomputable section

namespace Cert.Proof.Sample.Run

open Cert.SampleIdeal Cert.SampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx

variable {F : FTy → Type} [FloatOps F]
local notation "𝕄" => MT nD τ sig Unit (Elt F) ℕ (UU nD τ) ℕ

variable (c : Dev nD) (tb : Tb F c) (y : Yb F c) (qt : PosShare TreeShare)

/-- The output block after the point's store. -/
abbrev stored (M : Memref sig .tc .vmem S256x1024 .f32) (f : Buf (Elt F) (M.view.loc (c : Thread nD τ))) (w : Vec F S256x1024 .f32) : Buf (Elt F) (M.view.loc (c : Thread nD τ)) :=
  (M.access (Rect.unit (s := S256x1024) ![0, 0] S256x1024.size inb_S256x1024_S256x1024_0_0)).write (Elt F) f w Finset.univ

set_option maxHeartbeats 0 in
/-- One grid point of the call: from the slots' state before it to the state after it, the windows' contents kept and the
    output block stored. -/
theorem point_run (hg : GoodTab tb) (i : grid0.Coords) (M3 h3 M4 h4 M5 h5 M6 h6 M7 h7 M8 h8 M9 h9 M10 h10 M11 h11)
    (f3 : Buf (Elt F) (M3.view.loc (c : Thread nD τ))) (f4 : Buf (Elt F) (M4.view.loc (c : Thread nD τ)))
    (f5 : Buf (Elt F) (M5.view.loc (c : Thread nD τ))) (f6 : Buf (Elt F) (M6.view.loc (c : Thread nD τ)))
    (f7 : Buf (Elt F) (M7.view.loc (c : Thread nD τ))) (f8 : Buf (Elt F) (M8.view.loc (c : Thread nD τ)))
    (f9 : Buf (Elt F) (M9.view.loc (c : Thread nD τ))) (f10 : Buf (Elt F) (M10.view.loc (c : Thread nD τ)))
    (f11 : Buf (Elt F) (M11.view.loc (c : Thread nD τ))) (W : Waits sig Unit) (Q : PUnit → sProp 𝕄) :
    iprop(shared c tb y qt ∗ ringState c tb y (i 0).val ∗ pt c M3 f3 ∗ pt c M4 f4 ∗ pt c M5 f5 ∗ pt c M6 f6 ∗ pt c M7 f7 ∗ pt c M8 f8
        ∗ pt c M9 f9 ∗ pt c M10 f10 ∗ pt c M11 f11 ∗ owes (c : Thread nD τ) 0 W)
      ⊢ iprop((iprop(shared c tb y qt ∗ ringState c tb y ((i 0).val + 1) ∗ pt c M3 f3 ∗ pt c M4 f4 ∗ pt c M5 f5 ∗ pt c M6 f6 ∗ pt c M7 f7 ∗ pt c M8 f8
            ∗ pt c M9 f9 ∗ pt c M10 f10
            ∗ pt c M11 (stored c M11 f11 (outVal (accAt c tb y i M3 f3) (rdAll M5 c f5 ![0, 0] inb_S256x1024_S256x1024_0_0) (rdAll M6 c f6 ![0, 0] inb_S1024x256_S1024x256_0_0)
                (rdAll M7 c f7 ![0, 0] inb_S1024x256_S1024x256_0_0) (rdAll M8 c f8 ![0, 0] inb_S256x1024_S256x1024_0_0) (rdAll M4 c f4 ![0, 0] inb_S256x1024_S256x1024_0_0)
                (rdAll M9 c f9 ![0, 0] inb_S1x1024_S1x1024_0_0) (rdAll M10 c f10 ![0, 0] inb_S1x1024_S1x1024_0_0)))
            ∗ ∃ W, owes (c : Thread nD τ) 0 W) -∗ Q ⟨⟩)
        -∗ wp frame (wpE (defs₀ (F := F)) Variants.none c none) Set.univ
          (cc0_combine_skel i tabR (Memref.isWhole_whole _) yR (Memref.isWhole_whole _) M3 h3 M4 h4 M5 h5 M6 h6 M7 h7 M8 h8 M9 h9 M10 h10 M11 h11 ringR (Memref.isWhole_whole _) cc0_scratch1) Q) := by
  have hi : (i 0).val < 4 := (i 0).isLt
  iintro ⟨HS, HR, H3, H4, H5, H6, H7, H8, H9, H10, H11, HO⟩ Hk
  unfold cc0_combine_skel
  rw [wp_bind, k0_part69_eq_skeleton]
  iapply (head_run c tb y qt hg i M3 h3 M4 h4 M5 h5 M6 h6 M7 h7 M8 h8 M9 h9 M10 h10 M11 h11 f3 W) $$ [HS HR H3 HO]
  · isplitl [HS]; · iexact HS
    isplitl [HR]; · iexact HR
    isplitl [H3]; · iexact H3
    iexact HO
  iintro %v %w %hw %hv HF H1 H0 H3 ⟨%W', HO⟩
  subst hv
  dsimp only
  iterate 6
    rw [wp_bind]
    first | rw [k0_part61_eq_skeleton, k0_part61_skel] | rw [k0_part62_eq_skeleton, k0_part62_skel] | rw [k0_part63_eq_skeleton, k0_part63_skel] | rw [k0_part64_eq_skeleton, k0_part64_skel] | rw [k0_part65_eq_skeleton, k0_part65_skel] | rw [k0_part66_eq_skeleton, k0_part66_skel]
    dsimp only
    iterate 4
      iapply (wp_send c tb y qt hg ?_ ?_ ?_ ?_) $$ HF
      · omega
      · exact (ClosedOff.eq (off := _)).trans (vec1 (by omega))
      · exact (ClosedOff.eq (off := _)).trans (vec3 (by omega))
      · exact rfl
      iintro HF
      iapply (wp_look c tb y qt ?_ ?_ ?_ ?_) $$ HF
      rotate_right 1
      · exact chk_of _ (hg _).1 (hg _).2
      · omega
      · omega
      · exact (ClosedOff.eq (off := _)).trans (vec1 (by omega))
      iintro HF
      dsimp only
    rw [wp_pure]
    imodintro
    dsimp only
  rw [wp_bind, k0_part67_eq_skeleton, k0_part67_skel]
  dsimp only
  iapply (wp_send c tb y qt hg ?_ ?_ ?_ ?_) $$ HF
  · omega
  · exact (ClosedOff.eq (off := _)).trans (vec1 (by omega))
  · exact (ClosedOff.eq (off := _)).trans (vec3 (by omega))
  · exact rfl
  iintro HF
  iterate 2
    iapply (wp_look c tb y qt ?_ ?_ ?_ ?_) $$ HF
    rotate_right 1
    · exact chk_of _ (hg _).1 (hg _).2
    · omega
    · omega
    · exact (ClosedOff.eq (off := _)).trans (vec1 (by omega))
    iintro HF
    dsimp only
    iapply (wp_send c tb y qt hg ?_ ?_ ?_ ?_) $$ HF
    · omega
    · exact (ClosedOff.eq (off := _)).trans (vec1 (by omega))
    · exact (ClosedOff.eq (off := _)).trans (vec3 (by omega))
    · exact rfl
    iintro HF
  iapply (wp_get c) $$ H5
  iintro H5
  iapply (wp_get c) $$ H6
  iintro H6
  iapply (wp_get c) $$ H7
  iintro H7
  rw [wp_pure]
  imodintro
  dsimp only
  rw [wp_bind, k0_part68_eq_skeleton, k0_part68_skel]
  dsimp only
  iapply (wp_get c) $$ H8
  iintro H8
  iapply (wp_get c) $$ H4
  iintro H4
  iapply (wp_get c) $$ H9
  iintro H9
  iapply (wp_get c) $$ H10
  iintro H10
  iapply (wp_get c) $$ H11
  iintro H11
  iapply (wp_put c) $$ H11
  iintro H11
  rw [wp_pure]
  imodintro
  unfold filling
  icases HF with ⟨HS, H2⟩
  by_cases h : k0_cond2 i = 1#1
  · have h0 := (cond2_iff i).mp h
    rw [dif_pos h]
    iapply (wp_arrive c tb y (b := (i 0).val + 1) (k0_off778_eq i 0)) $$ [H1 HO]
    · isplitl [H1]; · iexact H1
      iexact HO
    iintro ⟨H1, ⟨%W2, HO⟩⟩
    iapply (wp_arrive c tb y (b := (i 0).val + 2) (k0_off778_eq i 1)) $$ [H2 HO]
    · isplitl [H2]; · iexact H2
      iexact HO
    iintro ⟨H2, HO⟩
    rw [wp_pure]
    imodintro
    iapply Hk
    isplitl [HS]; · iexact HS
    isplitl [H1 H2 H0]
    · iapply (ringState_end c tb y (i 0).val (by omega))
      isplitl [H1]; · iexact H1
      isplitl [H2]; · iexact H2
      iexact H0
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact HO
  · have h0 : (i 0).val ≠ 3 := fun e => h ((cond2_iff i).mpr e)
    rw [dif_neg h, wp_pure]
    imodintro
    iapply Hk
    isplitl [HS]; · iexact HS
    isplitl [H1 H2 H0]
    · iapply (ringState_next c tb y (i 0).val (by omega))
      isplitl [H1]; · iexact H1
      isplitl [H2]; · iexact H2
      iexact H0
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexists _
    iexact HO

end Cert.Proof.Sample.Run
-- ==== Proof.SampleMain.lean ====
module

public import proofs.«01_k».proof.Proof.SamplePoint
public import Idealize.ShloMosaic.Lib.VecWindow
public import Idealize.ShloMosaic.Lib.Pipeline.FrameBody
public import proofs.«01_k».proof.Proof.Gen.SampleIdeal.Launch
public import Idealize.ShloMosaic.Lib.Pipeline.Regions

@[expose] public section

noncomputable section

namespace Cert.Proof.Sample.Run

open Cert.SampleIdeal Cert.SampleIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx
open Idealize.ShloMosaic.Pipeline (Dat Cfg Window BodyObligation cellOf)

variable {F : FTy → Type} [FloatOps F]
local notation "𝕄" => MT nD τ sig Unit (Elt F) ℕ (UU nD τ) ℕ

/-! ## A grid point in the windows' contents -/

section Point
variable (c : Dev nD) (tb : Tb F c) (y : Yb F c) (qt : PosShare TreeShare)

/-- The slot rows of a block of slots and gates, and one of its gate rows. -/
abbrev slotRows (X : S16x256.Idx → Elt F .f32) : Vec F S8x256 .f32 :=
  fun x => X ((Rect.unit (s := S16x256) ![0, 0] S8x256.size inb_S16x256_S8x256_0_0).toLoadRect.idx x)
abbrev gateRow (X : S16x256.Idx → Elt F .f32) (off : Fin 2 → ℕ) (h : ∀ a, off a + S1x256.size a ≤ S16x256.size a) : Vec F S1x256 .f32 :=
  fun x => X ((Rect.unit (s := S16x256) off S1x256.size h).toLoadRect.idx x)

/-- What grid point `i` leaves in the output's block, of the contents of its input blocks. -/
def outOf (i : grid0.Coords) (X3 : S16x256.Idx → Elt F .f32) (X4 : S256x1024.Idx → Elt F .f32) (X5 : S256x1024.Idx → Elt F .bf16)
    (X6 X7 : S1024x256.Idx → Elt F .bf16) (X8 : S256x1024.Idx → Elt F .bf16) (X9 X10 : S1x1024.Idx → Elt F .f32) : Vec F S256x1024 .f32 :=
  outVal (accVal (slotRows X3) (gateRow X3 ![8, 0] inb_S16x256_S1x256_8_0) (gateRow X3 ![9, 0] inb_S16x256_S1x256_9_0)
      (gateRow X3 ![10, 0] inb_S16x256_S1x256_10_0) (gateRow X3 ![11, 0] inb_S16x256_S1x256_11_0) (gateRow X3 ![12, 0] inb_S16x256_S1x256_12_0)
      (gateRow X3 ![13, 0] inb_S16x256_S1x256_13_0) (gateRow X3 ![14, 0] inb_S16x256_S1x256_14_0) (gateRow X3 ![15, 0] inb_S16x256_S1x256_15_0)
      (rdB c (landed tb y (i 0).val) (k0_off7 i) (k0_off7_inb i)) (rdB c (landed tb y (i 0).val) (k0_off264 i) (k0_off264_inb i))
      (rdB c (landed tb y (i 0).val) (k0_off521 i) (k0_off521_inb i)))
    X5 X6 X7 X8 X4 X9 X10

omit [FloatOps F] in
/-- A whole buffer held at what it reads. -/
theorem owns_pt {sp : Space} {S : Shape} {e : EltTy} (M : Memref sig .tc sp S e) (h : M.IsWhole) (X : S.Idx → Elt F e) :
    (owns (c : Thread nD τ) M fullShare X : sProp 𝕄) = iprop(∃ f, ⌜M.view.read (Elt F) f = X⌝ ∗ pt c M f) := by
  unfold owns
  rw [h.set_eq_univ]

/-- The output block reads what the point stored. -/
theorem read_stored (M : Memref sig .tc .vmem S256x1024 .f32) (f : Buf (Elt F) (M.view.loc (c : Thread nD τ))) (w : Vec F S256x1024 .f32) :
    M.view.read (Elt F) (stored c M f w) = w :=
  View.read_writes_full M.view f inb_S256x1024_S256x1024_0_0 w []

/-- `point_run` on windows held at what they read. -/
theorem point_owns (hg : GoodTab tb) (i : grid0.Coords) (M3 h3 M4 h4 M5 h5 M6 h6 M7 h7 M8 h8 M9 h9 M10 h10 M11 h11)
    (X3 : S16x256.Idx → Elt F .f32) (X4 : S256x1024.Idx → Elt F .f32) (X5 : S256x1024.Idx → Elt F .bf16)
    (X6 X7 : S1024x256.Idx → Elt F .bf16) (X8 : S256x1024.Idx → Elt F .bf16) (X9 X10 : S1x1024.Idx → Elt F .f32) (X11 : S256x1024.Idx → Elt F .f32)
    (W : Waits sig Unit) (Q : PUnit → sProp 𝕄) :
    iprop(shared c tb y qt ∗ ringState c tb y (i 0).val ∗ owns c M3 fullShare X3 ∗ owns c M4 fullShare X4 ∗ owns c M5 fullShare X5
        ∗ owns c M6 fullShare X6 ∗ owns c M7 fullShare X7 ∗ owns c M8 fullShare X8 ∗ owns c M9 fullShare X9 ∗ owns c M10 fullShare X10
        ∗ owns c M11 fullShare X11 ∗ owes (c : Thread nD τ) 0 W)
      ⊢ iprop((iprop(shared c tb y qt ∗ ringState c tb y ((i 0).val + 1) ∗ owns c M3 fullShare X3 ∗ owns c M4 fullShare X4 ∗ owns c M5 fullShare X5
            ∗ owns c M6 fullShare X6 ∗ owns c M7 fullShare X7 ∗ owns c M8 fullShare X8 ∗ owns c M9 fullShare X9 ∗ owns c M10 fullShare X10
            ∗ owns c M11 fullShare (outOf c tb y i X3 X4 X5 X6 X7 X8 X9 X10)
            ∗ ∃ W, owes (c : Thread nD τ) 0 W) -∗ Q ⟨⟩)
        -∗ wp frame (wpE (defs₀ (F := F)) Variants.none c none) Set.univ
          (cc0_combine_skel i tabR (Memref.isWhole_whole _) yR (Memref.isWhole_whole _) M3 h3 M4 h4 M5 h5 M6 h6 M7 h7 M8 h8 M9 h9 M10 h10 M11 h11 ringR (Memref.isWhole_whole _) cc0_scratch1) Q) := by
  rw [owns_pt c M3 h3, owns_pt c M4 h4, owns_pt c M5 h5, owns_pt c M6 h6, owns_pt c M7 h7, owns_pt c M8 h8, owns_pt c M9 h9, owns_pt c M10 h10,
    owns_pt c M11 h11, owns_pt c M11 h11]
  iintro ⟨HS, HR, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, HO⟩ Hk
  iapply (point_run c tb y qt hg i M3 h3 M4 h4 M5 h5 M6 h6 M7 h7 M8 h8 M9 h9 M10 h10 M11 h11 f3 f4 f5 f6 f7 f8 f9 f10 f11 W Q) $$ [HS HR H3 H4 H5 H6 H7 H8 H9 H10 H11 HO]
  · isplitl [HS]; · iexact HS
    isplitl [HR]; · iexact HR
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact HO
  iintro ⟨HS, HR, H3, H4, H5, H6, H7, H8, H9, H10, H11, HO⟩
  iapply Hk
  isplitl [HS]; · iexact HS
  isplitl [HR]; · iexact HR
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  isplitl [H9]
  · iexists f9; isplitr; · ipureintro; exact e9
    iexact H9
  isplitl [H10]
  · iexists f10; isplitr; · ipureintro; exact e10
    iexact H10
  isplitl [H11]
  · iexists _; isplitr; swap; · iexact H11
    ipureintro
    rw [read_stored]
    subst e3 e4 e5 e6 e7 e8 e9 e10
    unfold outOf accAt
    have a5 := View.readAt_full M5.view f5 inb_S256x1024_S256x1024_0_0
    have a6 := View.readAt_full M6.view f6 inb_S1024x256_S1024x256_0_0
    have a7 := View.readAt_full M7.view f7 inb_S1024x256_S1024x256_0_0
    have a8 := View.readAt_full M8.view f8 inb_S256x1024_S256x1024_0_0
    have a4 := View.readAt_full M4.view f4 inb_S256x1024_S256x1024_0_0
    have a9 := View.readAt_full M9.view f9 inb_S1x1024_S1x1024_0_0
    have a10 := View.readAt_full M10.view f10 inb_S1x1024_S1x1024_0_0
    unfold rdAll
    rw [a5, a6, a7, a8, a4, a9, a10]
    rfl
  iexact HO

end Point

/-! ## @main before the call: thirteen host operations -/

/-- The pipeline library's algebra is the left component of the certificate's. -/
abbrev EP : Emb (UR sig nD τ) (MT nD τ sig Unit (Elt F) ℕ (UU nD τ) ℕ) := embL

variable (m : (ℓ : Loc nD τ sig) → Buf (Elt F) ℓ) (ρ : Dev nD → PrngReg)

/-- The launch state: memory `m`, every counter zero. -/
abbrev s₀ : MemSt nD τ sig (Elt F) := ⟨m, fun _ => 0, ρ⟩

/-- Core `c`'s buffers at launch, as the operations' valuation; -/
abbrev V₀ (c : Dev nD) : Valuation τ sig (Elt F) := fun b => m ((c : Dev nD), b)
/-- and when the call is entered: the host operations have run. -/
abbrev V (c : Dev nD) (b : Ref sig .tc) : Buf (Elt F) ((c : Thread nD τ).loc b) := StableHlo.after hostOps0 (V₀ m c) b

/-- The buffers the host operations write. -/
def written : List (Ref sig .tc) := [main_v0, main_v1, main_v2, main_v3, main_v4, main_v5, main_v6, main_v7, main_v8, main_v9, main_v10, main_v11, main_v12]

/-- No host operation writes another buffer. -/
theorem not_written (b : Ref sig .tc) (hb : ∀ r ∈ written, b ≠ r) : ∀ op ∈ (hostOps0 (F := F)), Proc.devRef .tc b ∉ op.writes := by
  simp only [written, List.forall_mem_cons, List.not_mem_nil, false_implies, implies_true, _root_.and_true] at hb
  obtain ⟨h0, h1, h2, h3, h4, h5, h6, h7, h8, h9, h10, h11, h12⟩ := hb
  intro op hop
  simp only [List.mem_cons, List.mem_nil_iff, _root_.or_false] at hop
  rcases hop with rfl | rfl | rfl | rfl | rfl | rfl | rfl | rfl | rfl | rfl | rfl | rfl | rfl <;>
    simp only [StableHlo.unary_writes, StableHlo.binary_writes, StableHlo.reshape_writes, Finset.mem_singleton] <;>
    exact StableHlo.devRef_ne_of_ne ‹_›

/-- So each argument reaches the call as launched. -/
theorem V_kept (c : Dev nD) (b : Ref sig .tc) (hb : ∀ r ∈ written, b ≠ r) : V m c b = m ((c : Thread nD τ).loc b) :=
  StableHlo.after_of_forall_not_mem (b := Proc.devRef .tc b) hostOps0 (V₀ m c) (not_written b hb)

/-- The TensorCore's unscoped references, as device buffers: the set the host operations run within. -/
def ucRefs : Finset (DevRef τ sig) := (StableHlo.tcRefs τ sig).filter fun b => ¬ b.isScoped

omit [FloatOps F] in
/-- The launch's unscoped buffers at a valuation are that set held at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
/-- A host operation names no scoped buffer. -/
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-! ## The call's proof data -/

/-- The table and the sorted outputs as launched. -/
abbrev tbl (c : Dev nD) : Tb F c := m ((c : Thread nD τ).loc main_arg0)
abbrev ys (c : Dev nD) : Yb F c := m ((c : Thread nD τ).loc main_arg1)

/-- The prefetched table's contents. -/
def adm (p : Fin 1) : (pcfgs (F := F) p).Adm := ⟨fun k => V m (0 : Dev nD) (pre0.ref k), trivial⟩

/-- Window `w`'s block at point `t`, of its array at the call's entry. -/
abbrev stg (c : Dev nD) (w : Fin 9) (t : Fin 4) : (spec0 w).block.Idx → Elt F (spec0 w).elt :=
  (((cfg0 (adm m 0)).win w).blk t).view.read (Elt F) (V m c (Pipeline.arrRef spec0 w))

/-- What point `t` leaves in the output's block. -/
abbrev outAt (c : Dev nD) (t : Fin 4) : Vec F S256x1024 .f32 :=
  outOf c (tbl m c) (ys m c) (grid0.coords t) (stg m c 0 t) (stg m c 1 t) (stg m c 2 t) (stg m c 3 t) (stg m c 4 t) (stg m c 5 t) (stg m c 6 t) (stg m c 7 t)

/-- The proof data on core `c`: the arrays at their entry contents; after the body an input's block as fetched, the
    output's as computed; the table, the rows and the ring between points; nothing owed; full shares. -/
def dats (p : Fin 1) (c : Dev nD) : Dat τ (Elt F) Unit ℕ (UU nD τ) ℕ (Pipeline.pin (pcfgs (F := F)) (adm m) p) c where
  A w := V m c (Pipeline.arrRef spec0 w)
  after w t := match w with
    | ⟨0, _⟩ => stg m c 0 t
    | ⟨1, _⟩ => stg m c 1 t
    | ⟨2, _⟩ => stg m c 2 t
    | ⟨3, _⟩ => stg m c 3 t
    | ⟨4, _⟩ => stg m c 4 t
    | ⟨5, _⟩ => stg m c 5 t
    | ⟨6, _⟩ => stg m c 6 t
    | ⟨7, _⟩ => stg m c 7 t
    | ⟨8, _⟩ => outAt m c t
  Φ t := iprop(shared c (tbl m c) (ys m c) fullShare ∗ ringState c (tbl m c) (ys m c) t.val)
  q _ := fullShare
  owed _ := 0

/-- The proof data's entry contents. -/
theorem A_eq (c : Dev nD) (w : Fin 9) : (dats m 0 c).A w = V m c (Pipeline.arrRef spec0 w) := by
  dsimp only [dats]

/-- A point's coordinate is its number. -/
theorem coords_val : ∀ t : Fin grid0.N, ((grid0.coords t) 0).val = t.val := by decide +kernel

/-- An input's buffer holds its block when the body runs. -/
theorem before_in (c : Dev nD) (w : Fin 9) (hw : w ≠ 8) (t : Fin 4) (d) : (dats m 0 c).before w t d = stg m c w t := by
  fin_cases w <;> first
    | exact absurd rfl hw
    | exact ((dats m 0 c).before_in_eq_fetched _ rfl (fun _ => rfl) (fun _ _ _ => rfl) (fun _ => rfl) t d).trans rfl

/-- The memref window `w` is in at point `t`. -/
abbrev stgM (w : Fin 9) (t : Fin 4) :=
  ((cfg0 (adm m 0)).win w).stage ((cfg0 (adm m 0)).slots t w)

/-- The library's body obligation: `point_owns` at each point. -/
theorem bodyObligation (hg : ∀ c : Dev nD, GoodTab (tbl m c)) (c : Dev nD) : BodyObligation (dats m 0 c) (defs₀ (F := F)) Variants.none () Set.univ := fun t => by
  rw [bigSep_W0, bigSep_W0]
  have hz : (((grid0.coords t) 0 : Fin _) : ℕ) = t.val := coords_val t
  dsimp only
  rw [show (dats m 0 c).Φ t.castSucc = iprop(shared c (tbl m c) (ys m c) fullShare ∗ ringState c (tbl m c) (ys m c) ((grid0.coords t) 0).val) by rw [hz]; rfl,
    show (dats m 0 c).Φ t.succ = iprop(shared c (tbl m c) (ys m c) fullShare ∗ ringState c (tbl m c) (ys m c) (((grid0.coords t) 0).val + 1)) by rw [hz]; rfl]
  unfold Dat.owesAt Pipeline.owesWithin
  rw [show (dats m 0 c).owed t.castSucc = 0 from rfl, show (dats m 0 c).owed t.succ = 0 from rfl]
  iintro ⟨⟨HS, HR⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before_in m c 0 (by decide) t d0, before_in m c 1 (by decide) t d1, before_in m c 2 (by decide) t d2, before_in m c 3 (by decide) t d3,
    before_in m c 4 (by decide) t d4, before_in m c 5 (by decide) t d5, before_in m c 6 (by decide) t d6, before_in m c 7 (by decide) t d7]
  iapply (point_owns c (tbl m c) (ys m c) fullShare (hg c) (grid0.coords t) (stgM m 0 t) (stage_whole0 0 _) (stgM m 1 t) (stage_whole0 1 _)
    (stgM m 2 t) (stage_whole0 2 _) (stgM m 3 t) (stage_whole0 3 _) (stgM m 4 t) (stage_whole0 4 _) (stgM m 5 t) (stage_whole0 5 _)
    (stgM m 6 t) (stage_whole0 6 _) (stgM m 7 t) (stage_whole0 7 _) (stgM m 8 t) (stage_whole0 8 _)
    (stg m c 0 t) (stg m c 1 t) (stg m c 2 t) (stg m c 3 t) (stg m c 4 t) (stg m c 5 t) (stg m c 6 t) (stg m c 7 t) _ W) $$ [HS HR H0 H1 H2 H3 H4 H5 H6 H7 H8 HO]
  · isplitl [HS]; · iexact HS
    isplitl [HR]; · iexact HR
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HO
  iintro ⟨HS, HR, H0, H1, H2, H3, H4, H5, H6, H7, H8, ⟨%W', HO⟩⟩
  isplitl [HS HR]
  · isplitl [HS]; · iexact HS
    iexact HR
  isplitl [HO]
  · iexists W'; isplitr; · ipureintro; exact fun _ _ => Or.inl trivial
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The ring at the call's two ends -/

/-- The three semaphores of the ring. -/
abbrev osem : Fin 3 → SemLoc sig := fun k => .dma (semOf k.val k.isLt)

abbrev sems0 (c : Dev nD) : sProp 𝕄 :=
  iprop(semVal ((c : Thread nD τ), osem 0) 0 ∗ semVal ((c : Thread nD τ), osem 1) 0 ∗ semVal ((c : Thread nD τ), osem 2) 0)

abbrev tailSet : Finset S3x3072x1024.Idx := slotSet 1 ∪ slotSet 2

/-- The ring is its three slots. -/
theorem slots_univ : (Finset.univ : Finset S3x3072x1024.Idx) = slotSet 0 ∪ tailSet := by
  ext p
  have : (p 0).val < 3 := (p 0).isLt
  simp only [tailSet, slotSet, Finset.mem_union, Finset.mem_filter, Finset.mem_univ, true_and, true_iff]
  omega

/-- Two slots are disjoint. -/
theorem slots_disj {s t : ℕ} (h : s ≠ t) : Disjoint (slotSet s) (slotSet t) :=
  Finset.disjoint_filter.mpr fun _ _ a b => h (a.symm.trans b)

/-- Slot 0 and the other two are disjoint. -/
theorem tail_disj : Disjoint (slotSet 0) tailSet :=
  Finset.disjoint_union_right.mpr ⟨slots_disj (by decide), slots_disj (by decide)⟩

/-- The ring's buffer and its semaphores are the three free slots; -/
theorem idle_start (c : Dev nD) : iprop((∃ f : Sb F c, ringR.view.loc (c : Thread nD τ) ↦{fullShare} f) ∗ sems0 c) ⊢ (idle c : sProp 𝕄) := by
  unfold idle free
  iintro ⟨⟨%f, Hr⟩, H0, H1, H2⟩
  ihave Hr := (Entails.of_eq (congrArg (fun S => (ringR.view.loc (c : Thread nD τ) ↦[S]{fullShare} f : sProp 𝕄)) slots_univ)) $$ Hr
  ihave Hr := (pointsTo_union (ℓ := ringR.view.loc (c : Thread nD τ)) tail_disj).1 $$ Hr
  icases Hr with ⟨Ha, Hr⟩
  ihave Hr := (pointsTo_union (ℓ := ringR.view.loc (c : Thread nD τ)) (slots_disj (by decide))).1 $$ Hr
  icases Hr with ⟨Hb, Hc⟩
  isplitl [Ha H0]
  · isplitl [Ha]; · iexists f; iexact Ha
    iexact H0
  isplitl [Hb H1]
  · isplitl [Hb]; · iexists f; iexact Hb
    iexact H1
  isplitl [Hc]; · iexists f; iexact Hc
  iexact H2

/-- and back. -/
theorem idle_end (c : Dev nD) : (idle c : sProp 𝕄) ⊢ iprop((∃ f : Sb F c, ringR.view.loc (c : Thread nD τ) ↦{fullShare} f) ∗ sems0 c) := by
  unfold idle free
  iintro ⟨⟨⟨%f, Ha⟩, H0⟩, ⟨⟨%g, Hb⟩, H1⟩, ⟨⟨%h, Hc⟩, H2⟩⟩
  let k : Sb F c := fun (p : S3x3072x1024.Idx) => if (p 0).val = 0 then f p else if (p 0).val = 1 then g p else h p
  ihave Ha := (Entails.of_eq (pointsTo_congr (g := k) (fun (p : S3x3072x1024.Idx) hp => by
    have e : (p 0).val = 0 := (Finset.mem_filter.mp hp).2
    show f p = if (p 0).val = 0 then f p else if (p 0).val = 1 then g p else h p
    rw [if_pos e]))) $$ Ha
  ihave Hb := (Entails.of_eq (pointsTo_congr (g := k) (fun (p : S3x3072x1024.Idx) hp => by
    have e : (p 0).val = 1 := (Finset.mem_filter.mp hp).2
    show g p = if (p 0).val = 0 then f p else if (p 0).val = 1 then g p else h p
    rw [if_neg (by omega), if_pos e]))) $$ Hb
  ihave Hc := (Entails.of_eq (pointsTo_congr (g := k) (fun (p : S3x3072x1024.Idx) hp => by
    have e : (p 0).val = 2 := (Finset.mem_filter.mp hp).2
    show h p = if (p 0).val = 0 then f p else if (p 0).val = 1 then g p else h p
    rw [if_neg (by omega), if_neg (by omega)]))) $$ Hc
  isplitl [Ha Hb Hc]
  · iexists k
    iapply (Entails.of_eq (congrArg (fun S => (ringR.view.loc (c : Thread nD τ) ↦[S]{fullShare} k : sProp 𝕄)) slots_univ.symm))
    iapply (pointsTo_union (ℓ := ringR.view.loc (c : Thread nD τ)) tail_disj).2
    isplitl [Ha]; · iexact Ha
    iapply (pointsTo_union (ℓ := ringR.view.loc (c : Thread nD τ)) (slots_disj (by decide))).2
    isplitl [Hb]; · iexact Hb
    iexact Hc
  isplitl [H0]; · iexact H0
  isplitl [H1]; · iexact H1
  iexact H2

/-! ## The launch, by the library: @main as segments -/

/-- The call's own semaphores are no window's. -/
theorem ownSemFacts : Pipeline.OwnSemFacts spec0 osem := by decide

/-- The launch element: the pipeline library's; no counter yet. -/
def u₀ : UU nD τ := (initOf (Pipeline.cells (Pipeline.pin (pcfgs (F := F)) (adm m)) (cellOf_inj (adm m))) (Pipeline.launchToks (Pipeline.pin (pcfgs (F := F)) (adm m)) (cellOf_inj (adm m))), 1)

omit [FloatOps F] in
/-- The kernel's own cells at zero, listed. -/
theorem ownSems0_eq (c : Dev nD) :
    (Pipeline.ownSems0 (Ix := Unit) (Name := ℕ) (U := UU nD τ) (Lvl := ℕ) (Val := Elt F) (τ := τ) osem c : sProp 𝕄) = sems0 c :=
  Pipeline.ownSems0_eq_of_list c osem [0, 1, 2] (by decide) (by decide)

/-- An array's contents after the run, as the library computes them. -/
def finalA (c : Dev nD) (w : Fin 9) : Buf (Elt F) ((spec0 w).arr.view.loc (c : Thread nD τ)) := (dats m 0 c).arrAt w 4

/-- The arguments that are neither the table, the rows nor a window's array, as launched. -/
abbrev restArgs (c : Dev nD) : sProp 𝕄 :=
  iprop(((c : Thread nD τ).loc main_arg2 ↦{fullShare} m ((c : Thread nD τ).loc main_arg2)) ∗ ((c : Thread nD τ).loc main_arg3 ↦{fullShare} m ((c : Thread nD τ).loc main_arg3))
    ∗ ((c : Thread nD τ).loc main_arg5 ↦{fullShare} m ((c : Thread nD τ).loc main_arg5)) ∗ ((c : Thread nD τ).loc main_arg6 ↦{fullShare} m ((c : Thread nD τ).loc main_arg6))
    ∗ ((c : Thread nD τ).loc main_arg7 ↦{fullShare} m ((c : Thread nD τ).loc main_arg7)) ∗ ((c : Thread nD τ).loc main_arg8 ↦{fullShare} m ((c : Thread nD τ).loc main_arg8))
    ∗ ((c : Thread nD τ).loc main_arg9 ↦{fullShare} m ((c : Thread nD τ).loc main_arg9)))

/-- The arguments outside the windows in a final memory. -/
abbrev argsKept (c : Dev nD) (s : MemSt nD τ sig (Elt F)) : Prop :=
  s.mem ((c : Thread nD τ).loc main_arg0) = m ((c : Thread nD τ).loc main_arg0) ∧ s.mem ((c : Thread nD τ).loc main_arg1) = m ((c : Thread nD τ).loc main_arg1)
  ∧ s.mem ((c : Thread nD τ).loc main_arg2) = m ((c : Thread nD τ).loc main_arg2) ∧ s.mem ((c : Thread nD τ).loc main_arg3) = m ((c : Thread nD τ).loc main_arg3)
  ∧ s.mem ((c : Thread nD τ).loc main_arg5) = m ((c : Thread nD τ).loc main_arg5) ∧ s.mem ((c : Thread nD τ).loc main_arg6) = m ((c : Thread nD τ).loc main_arg6)
  ∧ s.mem ((c : Thread nD τ).loc main_arg7) = m ((c : Thread nD τ).loc main_arg7) ∧ s.mem ((c : Thread nD τ).loc main_arg8) = m ((c : Thread nD τ).loc main_arg8)
  ∧ s.mem ((c : Thread nD τ).loc main_arg9) = m ((c : Thread nD τ).loc main_arg9)

/-- What a final memory holds: the windows' arrays at what the library computes, the other arguments as launched. -/
abbrev QY (c : Dev nD) (s : MemSt nD τ sig (Elt F)) : Prop :=
  (∀ w : Fin 9, s.mem ((spec0 w).arr.view.loc (c : Thread nD τ)) = finalA m c w) ∧ argsKept m c s

abbrev L : GSem nD τ sig → Finset Unit := fun _ => ∅
abbrev lv : GSem nD τ sig → Unit → ℕ := fun _ _ => 0

/-- What rides beside the buffers through the host operations: the core's `owes`. -/
abbrev R (c : Dev nD) : sProp 𝕄 := iprop(∃ W, owes (c : Thread nD τ) (0 : CellTallies nD τ sig Unit) W)

/-- The host segment: the operations over the unscoped buffers. -/
def seg0 : Pipeline.HostSeg (Name := ℕ) (U := UU nD τ) (pcfgs (F := F)) defs₀ Variants.none L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m) R

/-- What the call leaves for the end. -/
abbrev Tₙ (c : Dev nD) : sProp 𝕄 :=
  iprop((dats m 0 c).arrays ((dats m 0 c).arrAt · 4) ∗ shared c (tbl m c) (ys m c) fullShare ∗ restArgs m c)

omit [FloatOps F] in
/-- There is one device. -/
theorem dev_zero (c : Dev nD) : c = 0 := Subsingleton.elim _ _

/-- The one prefetched table, held whole. -/
theorem prefHeld_eq (c : Dev nD) (K : pre0.Contents (Elt F)) :
    (Pipeline.prefHeld pre0 c (fun _ => fullShare) K : sProp 𝕄) = ((c : Thread nD τ).loc main_arg0 ↦{fullShare} K 0) := by
  unfold Pipeline.prefHeld
  rw [bigSep_univ_eq_bigSepL [(0 : Fin 1)] (by decide) (by decide)]
  rfl

set_option backward.isDefEq.respectTransparency.types false in
/-- The call as a region of @main: entered from what the host operations left, the table, the rows and the ring into its
    invariant, the other arguments beside it; left with the arrays at their final contents. -/
def reg0 (hg : ∀ c : Dev nD, GoodTab (tbl m c)) : Pipeline.RegionSeg (pcfgs (F := F)) (adm m) (dats m) () defs₀ Variants.none L lv 0 where
  win := (launch0 (F := F)).win.to₀
  block_pos := (launch0 (F := F)).block_pos
  stage_whole := (launch0 (F := F)).stage_whole
  K := Fin 3
  osem := osem
  ho := ownSemFacts
  hbody c := (bodyObligation m hg c).loose
  hwaits := Pipeline.hwaits_of_owed_zero _ _ _ _ L lv 0 fun _ _ => rfl
  pre c := iprop(StableHlo.held (c : Thread nD τ) ucRefs (StableHlo.after hostOps0 (V₀ m c)) ∗ R c)
  post c := iprop(Tₙ m c ∗ R c)
  X c := iprop(((c : Thread nD τ).loc main_arg1 ↦{fullShare} ys m c) ∗ sems0 c)
  Y c := shared c (tbl m c) (ys m c) fullShare
  Z c := restArgs m c
  hentry c := by
    rw [show StableHlo.held (c : Thread nD τ) ucRefs (StableHlo.after hostOps0 (V₀ m c)) = unscopedBufs c (V m c) from (unscopedBufs_held c _).symm,
      ownSems0_eq]
    have hsplit := (Pipeline.arrays_of_unscopedBufs (pcfgs (F := F)) (adm m) (dats m) winFacts0 arr_whole0 c
      ((dats m 0 c).share_full fun _ => rfl) (V m c) (A_eq m c)).trans (sep_mono .rfl (Entails.of_eq
        ((Pipeline.unscopedRest_split preFacts0 c (V m c)).trans (by rw [unscopedRestP0_eq]))))
    rw [V_kept m c main_arg1 (by decide), V_kept m c main_arg2 (by decide), V_kept m c main_arg3 (by decide), V_kept m c main_arg5 (by decide),
      V_kept m c main_arg6 (by decide), V_kept m c main_arg7 (by decide), V_kept m c main_arg8 (by decide), V_kept m c main_arg9 (by decide)] at hsplit
    iintro ⟨⟨Hub, HO⟩, Hos, -⟩
    ihave H := hsplit $$ Hub
    icases H with ⟨Ha, Ht, H1, H2, H3, H5, H6, H7, H8, H9, -⟩
    imodintro
    isplitl [Ha]; · iexact Ha
    isplitl [Ht]
    · obtain rfl := dev_zero c
      iexact Ht
    isplitl [HO]
    · unfold Pipeline.Dat.owesAt Pipeline.owesWithin
      icases HO with ⟨%W, HO⟩; iexists W; isplitr; · ipureintro; exact fun _ _ => Or.inl trivial
      iexact HO
    isplitl [H1 Hos]
    · isplitl [H1]; · iexact H1
      iexact Hos
    isplitl [H2]; · iexact H2
    isplitl [H3]; · iexact H3
    isplitl [H5]; · iexact H5
    isplitl [H6]; · iexact H6
    isplitl [H7]; · iexact H7
    isplitl [H8]; · iexact H8
    iexact H9
  hin c := by
    have e : (ringState c (tbl m c) (ys m c) ((0 : Fin 5) : ℕ) : sProp 𝕄) = idle c := if_pos (Or.inl rfl)
    rw [show (dats m 0 c).Φ 0 = iprop(shared c (tbl m c) (ys m c) fullShare ∗ ringState c (tbl m c) (ys m c) ((0 : Fin 5) : ℕ)) from rfl, e, prefHeld_eq]
    have h0 : (adm m 0).1 0 = tbl m c := by
      obtain rfl := dev_zero c
      exact V_kept m 0 main_arg0 (by decide)
    iintro ⟨⟨H1, Hos⟩, Ht, Hr⟩
    ihave Hr := (Entails.of_eq (scopedRest0_eq (Ix := Unit) (Val := Elt F) (Name := ℕ) (U := UU nD τ) (Lvl := ℕ) c)) $$ Hr
    isplitl [H1 Ht]
    · unfold shared
      isplitl [Ht]
      · iapply (Entails.of_eq (congrArg (fun f => ((c : Thread nD τ).loc main_arg0 ↦{fullShare} f : sProp 𝕄)) h0))
        iexact Ht
      iexists fullShare
      iexact H1
    iapply (idle_start c)
    isplitl [Hr]; · iexact Hr
    iexact Hos
  hout c := by
    have e : (ringState c (tbl m c) (ys m c) ((Fin.last 4 : Fin 5) : ℕ) : sProp 𝕄) = idle c := if_pos (Or.inr le_rfl)
    rw [ownSems0_eq, show (dats m 0 c).Φ (Fin.last _) = iprop(shared c (tbl m c) (ys m c) fullShare ∗ ringState c (tbl m c) (ys m c) ((Fin.last 4 : Fin 5) : ℕ)) from rfl, e]
    iintro ⟨HS, Hi⟩
    ihave Hi := (idle_end c) $$ Hi
    icases Hi with ⟨Hr, Hos⟩
    isplitl [HS]; · iexact HS
    isplitl [Hos]; · iexact Hos
    iapply (Entails.of_eq (scopedRest0_eq (Ix := Unit) (Val := Elt F) (Name := ℕ) (U := UU nD τ) (Lvl := ℕ) c).symm)
    iexact Hr
  hexit c := by
    iintro ⟨Ha, HO, HY, HZ⟩
    imodintro
    isplitr [HO]
    · isplitl [Ha]; · iexact Ha
      isplitl [HY] <;> iassumption
    · unfold Pipeline.Dat.owesAt Pipeline.owesWithin
      icases HO with ⟨%W, -, HO⟩; iexists W; iexact HO

/-- @main as the list of the two. -/
abbrev segs (hg : ∀ c : Dev nD, GoodTab (tbl m c)) : List (Pipeline.Seg (pcfgs (F := F)) (adm m) (dats m) () defs₀ Variants.none L lv) := [.host (seg0 m), .region (reg0 m hg)]

set_option backward.isDefEq.respectTransparency.types false in
/-- At the compiled mesh, for any float values, from any memory with zero counters whose table is good: every weakly fair
    execution of @main terminates, and every final state has the windows' arrays at the computed contents, the other
    arguments unchanged and every semaphore counter at zero. -/
theorem run_main (hg : ∀ c : Dev nD, GoodTab (tbl m c)) :
    θ_run defs (onTc (τ := τ) (main (F := F))) (s₀ m ρ) (fun r => (∀ c : Dev nD, QY m c r.2) ∧ r.2.sem = fun _ => 0) :=
  Pipeline.θ_run_regions_kit_sems (pcfgs (F := F)) (adm m) (dats m) () (cellOf_inj (adm m)) EP defs₀ Variants.none L lv m ρ main (segs m hg)
    (fun c Q => by rw [main_segs (adm m) (dats m) () Variants.none L lv (seg0 m) (reg0 m hg) rfl c])
    (by simp only [Pipeline.Seg.pipes_host, Pipeline.Seg.pipes_region, Pipeline.Seg.pipes_nil]; decide) (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m c) from unscopedBufs_held c (V₀ m c)]
      iintro ⟨⟨Hh, -, HO, -, -, -⟩, -⟩
      imodintro
      isplitl [Hh]; · iexact Hh
      iexists ∅; iexact HO)
    (QY := QY m)
    (hfin := fun c s' => by
      dsimp only [Tₙ, restArgs]
      unfold shared
      iintro ⟨⟨Ha, ⟨H0, ⟨%q, H1⟩⟩, H2, H3, H5, H6, H7, H8, H9⟩, HSI⟩
      icombine HSI H0 gives %h0
      icombine HSI H1 gives %h1
      icombine HSI H2 gives %h2
      icombine HSI H3 gives %h3
      icombine HSI H5 gives %h5
      icombine HSI H6 gives %h6
      icombine HSI H7 gives %h7
      icombine HSI H8 gives %h8
      icombine HSI H9 gives %h9
      ihave Hr := (Pipeline.arrays_read (pcfgs (F := F)) (adm m) (dats m) arr_whole0 c ((dats m 0 c).share_full fun _ => rfl) _ s') $$ [Ha HSI]
      · isplitl [Ha] <;> iassumption
      icases Hr with ⟨%ha, HSI⟩
      imodintro
      isplitr
      · ipureintro
        exact ⟨ha, Buf.eq_of_forall_mem_univ h0, Buf.eq_of_forall_mem_univ h1, Buf.eq_of_forall_mem_univ h2, Buf.eq_of_forall_mem_univ h3, Buf.eq_of_forall_mem_univ h5,
          Buf.eq_of_forall_mem_univ h6, Buf.eq_of_forall_mem_univ h7, Buf.eq_of_forall_mem_univ h8, Buf.eq_of_forall_mem_univ h9⟩
      iexact HSI)
    (hQ := fun _ h hz => ⟨h, funext fun g => hz g (.inr (by revert g; decide))⟩)

end Cert.Proof.Sample.Run
-- ==== Proof.SampleRange.lean ====
/- What the precondition says of the table of rows and of the slots. -/
module

public import proofs.«01_k».proof.Proof.SampleRing
public import proofs.«01_k».proof.Proof.Gen.Pre_sample_in_range
public import Idealize.ShloMosaic.Lib.ReduceAll
public import Idealize.ShloMosaic.Lib.Pointwise.ElementwiseCore

@[expose] public section

noncomputable section

namespace Cert.Proof.Sample.Range

open Idealize.ShloMosaic
open Cert.Pre_sample_in_range Cert.Pre_sample_in_range.Gen

variable {F : FTy → Type} [FloatOps F]

instance : Subsingleton S_.Idx := ⟨fun a b => funext fun d => d.elim0⟩

variable {a0 : IVec S1152 32} {a1 : FVec F S28672x1024 .bf16} {a2 : IVec S8x1024 32} {a3 : FVec F S8x1024 .f32}
  {a4 : FVec F S1024x1024 .f32} {a5 a6 : FVec F S1x1024x256 .f32} {a7 : FVec F S1x256x1024 .f32} {a8 a9 : FVec F S1x1024 .f32}

/-- The bit for a table word: it is at least zero, at most the last chunk's first row, and a multiple of sixteen. -/
theorem split (h : Cert.Pre_sample_in_range.fn (F := F) a0 a1 a2 a3 a4 a5 a6 a7 a8 a9 = fun _ => 1#1) :
    (∀ i, IntOp.cmpi .sge (a0 i) 0#32 = 1#1 ∧ IntOp.cmpi .sle (a0 i) 28656#32 = 1#1 ∧ fn_remainder (F := F) a0 (constantI S_ 32 16#32) i = 0#32)
    ∧ (∀ i, IntOp.cmpi .sge (a2 i) 0#32 = 1#1 ∧ IntOp.cmpi .slt (a2 i) 3072#32 = 1#1)
    ∧ ∀ i, Host.reduce IntOp.addi (extui 32 (cmpi .eq (broadcastInDim S8x8x1024 ![0, 1, 2] Facts.bcast_S8x1x1024_S8x8x1024_0_1_2 (broadcastInDim S8x1x1024 ![0, 2] Facts.bcast_S8x1024_S8x1x1024_0_2 a2))
          (broadcastInDim S8x8x1024 ![0, 1, 2] Facts.bcast_S1x8x1024_S8x8x1024_0_1_2 (broadcastInDim S1x8x1024 ![1, 2] Facts.bcast_S8x1024_S1x8x1024_1_2 a2))) Facts.natLt_1_32)
        (constantI S_ 32 0#32) Facts.reducesTo_S8x8x1024_S8x1024_d0 Facts.h_S_ i = 1#32 := by
  have h0 := congrFun h (Shape.Idx.first Facts.h_S_)
  dsimp only [Cert.Pre_sample_in_range.fn, fn_part1] at h0
  obtain ⟨h1, h3⟩ := IntOp.andi_eq_one.1 h0
  obtain ⟨h1, h2⟩ := IntOp.andi_eq_one.1 h1
  have h1 := Host.reduce_andi_all _ _ _ _ _ h1
  have h2 := Host.reduce_andi_all _ _ _ _ _ h2
  have h3 := Host.reduce_andi_all _ _ _ _ _ h3
  refine ⟨fun i => ?_, fun i => ?_, fun i => ?_⟩
  · obtain ⟨ha, hc⟩ := IntOp.andi_eq_one.1 (h1 i)
    obtain ⟨ha, hb⟩ := IntOp.andi_eq_one.1 ha
    exact ⟨ha, hb, IntOp.cmpi_eq.1 hc⟩
  · exact IntOp.andi_eq_one.1 (h2 i)
  · exact IntOp.cmpi_eq.1 (h3 i)

/-- The sign correction of the remainder leaves a word below sixteen as it is. -/
theorem corrected (r : BitVec 32) (h : r.toNat < 16) :
    Scalar.select (IntOp.andi (IntOp.cmpi .ne (IntOp.cmpi .slt r 0#32) (IntOp.cmpi .slt 16#32 0#32)) (IntOp.cmpi .ne r 0#32)) (IntOp.addi r 16#32) r = r := by
  obtain ⟨n, hn, rfl⟩ : ∃ n, n < 16 ∧ r = BitVec.ofNat 32 n := ⟨r.toNat, h, by simp⟩
  revert n
  decide

/-- The remainder as the precondition spells it, on a word that is not negative, is zero only at the multiples of sixteen. -/
theorem dvd_of_rem {i : S1152.Idx} (hx : 2 * (a0 i).toNat < 2 ^ 32) (h : fn_remainder (F := F) a0 (constantI S_ 32 16#32) i = 0#32) :
    16 ∣ (a0 i).toNat := by
  have hr := IntOp.toNat_remsi .host hx 16 (by norm_num) (by norm_num)
  have hs : fn_remainder (F := F) a0 (constantI S_ 32 16#32) i = IntOp.remsi .host (a0 i) (BitVec.ofNat 32 16) :=
    corrected (IntOp.remsi .host (a0 i) (BitVec.ofNat 32 16)) (by rw [hr]; exact Nat.mod_lt _ (by norm_num))
  exact (IntOp.remsi_eq_zero_iff .host hx 16 (by norm_num) (by norm_num)).1 (hs.symm.trans h)

/-- A word that is at least zero, read signed and unsigned. -/
theorem toNat_of_sge {v : BitVec 32} (h : IntOp.cmpi .sge v 0#32 = 1#1) : 2 * v.toNat < 2 ^ 32 ∧ v.toInt = v.toNat := by
  have h2 := (Scalar.nonneg_iff v).1 h
  exact ⟨h2, BitVec.toInt_eq_toNat_of_lt h2⟩

/-- Under the precondition every word of the table names the first of sixteen rows, at a multiple of sixteen. -/
theorem word_good (h : Cert.Pre_sample_in_range.fn (F := F) a0 a1 a2 a3 a4 a5 a6 a7 a8 a9 = fun _ => 1#1) (i : S1152.Idx) :
    (a0 i).toNat + 16 ≤ 28672 ∧ 16 ∣ (a0 i).toNat := by
  obtain ⟨ha, hb, hc⟩ := (split h).1 i
  obtain ⟨h2, hi⟩ := toNat_of_sge ha
  have hle := IntOp.cmpi_sle.1 hb
  rw [hi, show (28656#32 : BitVec 32).toInt = 28656 from by decide] at hle
  exact ⟨by omega, dvd_of_rem h2 hc⟩

/-- Under the precondition every slot is below the number of rows the ring's slot holds. -/
theorem slot_good (h : Cert.Pre_sample_in_range.fn (F := F) a0 a1 a2 a3 a4 a5 a6 a7 a8 a9 = fun _ => 1#1) (i : S8x1024.Idx) :
    (a2 i).toNat < 3072 := by
  obtain ⟨ha, hb⟩ := (split h).2.1 i
  obtain ⟨h2, hi⟩ := toNat_of_sge ha
  have hlt := IntOp.cmpi_slt.1 hb
  rw [hi, show (3072#32 : BitVec 32).toInt = 3072 from by decide] at hlt
  omega

end Cert.Proof.Sample.Range
-- ==== Proof.SampleBlocks.lean ====
/- The call's blocks at coordinates: what a point reads of each operand, and the result array from the points' blocks. -/
module

public import proofs.«01_k».proof.Proof.SampleMain
public import Idealize.ShloMosaic.Lib.Pipeline.ValueKit
public import Idealize.ShloMosaic.Lib.Pointwise

@[expose] public section

noncomputable section

namespace Cert.Proof.Sample.Run

open Cert.SampleIdeal Cert.SampleIdeal.Gen
open Idealize.ShloMosaic Idealize.ShloMosaic.TcCoe

variable {F : FTy → Type} [FloatOps F]
variable (m : (ℓ : Loc nD τ sig) → Buf (Elt F) ℓ) (c : Dev nD)

/-- The index maps at a point: one column of blocks for the slots and gates, one row of blocks for the rows, the
    whole array for the weights. -/
theorem index_vals : ∀ t : Fin grid0.N, cc0_transform_1 (grid0.coords t) = ![0, t.val] ∧ cc0_transform_2 (grid0.coords t) = ![t.val, 0]
    ∧ cc0_transform_3 (grid0.coords t) = ![t.val, 0] ∧ cc0_transform_9 (grid0.coords t) = ![t.val, 0] := by decide +kernel

/-- Column `256 t + k` of the slots and gates. -/
theorem stg0_apply (t : Fin 4) (i : Fin 16) (k : Fin 256) (h : 256 * t.val + k.val < 1024) :
    stg m c 0 t (ix2 i k) = (V m c main_v11 : FVec F S16x1024 .f32) (ix2 i ⟨256 * t.val + k.val, h⟩) := by
  refine congrArg (V m c main_v11 : FVec F S16x1024 .f32) (funext fun a => Fin.ext ?_)
  have e := (index_vals t).1
  match a with
  | ⟨0, _⟩ => show cc0_transform_1 (grid0.coords t) 0 * 16 + 1 * i.val = i.val; rw [e]; show 0 * 16 + 1 * i.val = i.val; omega
  | ⟨1, _⟩ => show cc0_transform_1 (grid0.coords t) 1 * 256 + 1 * k.val = 256 * t.val + k.val; rw [e]; show t.val * 256 + 1 * k.val = 256 * t.val + k.val; omega

/-- Row `256 t + k` of the residual rows; -/
theorem stg1_apply (t : Fin 4) (k : Fin 256) (d : Fin 1024) (h : 256 * t.val + k.val < 1024) :
    stg m c 1 t (ix2 k d) = (V m c main_arg4 : FVec F S1024x1024 .f32) (ix2 ⟨256 * t.val + k.val, h⟩ d) := by
  refine congrArg (V m c main_arg4 : FVec F S1024x1024 .f32) (funext fun a => Fin.ext ?_)
  have e := (index_vals t).2.1
  match a with
  | ⟨0, _⟩ => show cc0_transform_2 (grid0.coords t) 0 * 256 + 1 * k.val = 256 * t.val + k.val; rw [e]; show t.val * 256 + 1 * k.val = 256 * t.val + k.val; omega
  | ⟨1, _⟩ => show cc0_transform_2 (grid0.coords t) 1 * 1024 + 1 * d.val = d.val; rw [e]; show 0 * 1024 + 1 * d.val = d.val; omega

/-- and of the rounded ones. -/
theorem stg2_apply (t : Fin 4) (k : Fin 256) (d : Fin 1024) (h : 256 * t.val + k.val < 1024) :
    stg m c 2 t (ix2 k d) = (V m c main_v12 : FVec F S1024x1024 .bf16) (ix2 ⟨256 * t.val + k.val, h⟩ d) := by
  refine congrArg (V m c main_v12 : FVec F S1024x1024 .bf16) (funext fun a => Fin.ext ?_)
  have e := (index_vals t).2.2.1
  match a with
  | ⟨0, _⟩ => show cc0_transform_3 (grid0.coords t) 0 * 256 + 1 * k.val = 256 * t.val + k.val; rw [e]; show t.val * 256 + 1 * k.val = 256 * t.val + k.val; omega
  | ⟨1, _⟩ => show cc0_transform_3 (grid0.coords t) 1 * 1024 + 1 * d.val = d.val; rw [e]; show 0 * 1024 + 1 * d.val = d.val; omega

/-- The weights are read whole. -/
theorem stg3_apply (t : Fin 4) (k : Fin 1024) (f : Fin 256) : stg m c 3 t (ix2 k f) = (V m c main_v1 : FVec F S1024x256 .bf16) (ix2 k f) := by
  refine congrArg (V m c main_v1 : FVec F S1024x256 .bf16) (funext fun a => Fin.ext ?_)
  match a with
  | ⟨0, _⟩ => show 0 * 1024 + 1 * k.val = k.val; omega
  | ⟨1, _⟩ => show 0 * 256 + 1 * f.val = f.val; omega
/-- The up matrix is read whole. -/
theorem stg4_apply (t : Fin 4) (k : Fin 1024) (f : Fin 256) : stg m c 4 t (ix2 k f) = (V m c main_v3 : FVec F S1024x256 .bf16) (ix2 k f) := by
  refine congrArg (V m c main_v3 : FVec F S1024x256 .bf16) (funext fun a => Fin.ext ?_)
  match a with
  | ⟨0, _⟩ => show 0 * 1024 + 1 * k.val = k.val; omega
  | ⟨1, _⟩ => show 0 * 256 + 1 * f.val = f.val; omega
/-- The down matrix is read whole. -/
theorem stg5_apply (t : Fin 4) (f : Fin 256) (d : Fin 1024) : stg m c 5 t (ix2 f d) = (V m c main_v5 : FVec F S256x1024 .bf16) (ix2 f d) := by
  refine congrArg (V m c main_v5 : FVec F S256x1024 .bf16) (funext fun a => Fin.ext ?_)
  match a with
  | ⟨0, _⟩ => show 0 * 256 + 1 * f.val = f.val; omega
  | ⟨1, _⟩ => show 0 * 1024 + 1 * d.val = d.val; omega
/-- The norm's scale is read whole. -/
theorem stg6_apply (t : Fin 4) (d : Fin 1024) : stg m c 6 t (ix2 0 d) = (V m c main_v7 : FVec F S1x1024 .f32) (ix2 0 d) := by
  refine congrArg (V m c main_v7 : FVec F S1x1024 .f32) (funext fun a => Fin.ext ?_)
  match a with
  | ⟨0, _⟩ => rfl
  | ⟨1, _⟩ => show 0 * 1024 + 1 * d.val = d.val; omega
/-- The norm's offset is read whole. -/
theorem stg7_apply (t : Fin 4) (d : Fin 1024) : stg m c 7 t (ix2 0 d) = (V m c main_v9 : FVec F S1x1024 .f32) (ix2 0 d) := by
  refine congrArg (V m c main_v9 : FVec F S1x1024 .f32) (funext fun a => Fin.ext ?_)
  match a with
  | ⟨0, _⟩ => rfl
  | ⟨1, _⟩ => show 0 * 1024 + 1 * d.val = d.val; omega

/-- A row of slots, and a row of gates, of a block. -/
theorem slotRows_apply (X : S16x256.Idx → Elt F .f32) (i : Fin 8) (k : Fin 256) : slotRows X (ix2 i k) = X (ix2 ⟨i.val, by omega⟩ k) := by
  refine congrArg X (funext fun a => Fin.ext ?_)
  match a with
  | ⟨0, _⟩ => show 0 + 1 * i.val = i.val; omega
  | ⟨1, _⟩ => show 0 + 1 * k.val = k.val; omega
/-- A row of gates of a block. -/
theorem gateRow_apply (X : S16x256.Idx → Elt F .f32) (o : ℕ) (ho : o < 16) (h : ∀ a, (![o, 0] : Fin 2 → ℕ) a + S1x256.size a ≤ S16x256.size a) (k : Fin 256) :
    gateRow X ![o, 0] h (ix2 0 k) = X (ix2 ⟨o, ho⟩ k) := by
  refine congrArg X (funext fun a => Fin.ext ?_)
  match a with
  | ⟨0, _⟩ => show o + 1 * 0 = o; omega
  | ⟨1, _⟩ => show 0 + 1 * k.val = k.val; omega

/-- Row `r` of a third of the landed ring, from row `q` on. -/
theorem rdB_apply (tb : Tb F c) (y : Yb F c) (b : ℕ) (off : Fin 3 → ℕ) (h : ∀ a, off a + S1x1024x1024.size a ≤ S3x3072x1024.size a) (q : ℕ)
    (h1 : off 1 = q) (h2 : off 2 = 0) (j d : Fin 1024) :
    rdB c (landed tb y b) off h (ix3 0 j d)
      = y (ix2 (⟨((word tb (192 * b + (q + j.val) / 16)).toNat + (q + j.val) % 16) % 28672, Nat.mod_lt _ (by norm_num)⟩ : Fin 28672) d) := by
  have e1 : (((Rect.unit (s := S3x3072x1024) off S1x1024x1024.size h).toLoadRect.idx (ix3 0 j d)) 1).val = q + j.val := by
    show off 1 + 1 * j.val = q + j.val; omega
  have e2 : ((Rect.unit (s := S3x3072x1024) off S1x1024x1024.size h).toLoadRect.idx (ix3 0 j d)) 2 = d := Fin.ext (by
    show off 2 + 1 * d.val = d.val; omega)
  refine congrArg y (congrArg₂ ix2 (Fin.ext ?_) e2)
  exact congrArg (fun n => ((word tb (192 * b + n / 16)).toNat + n % 16) % 28672) e1

/-- Every point writes its block back, -/
theorem flush_out (t : Fin 4) : ((cfg0 (adm m 0)).win 8).flush t = true := by
  exact (by decide +kernel : ∀ t : Fin grid0.N, Pipeline.Window.flushOf grid0 true cc0_transform_9 t = true) t

/-- and two points' blocks differ. -/
theorem index_out (t t' : Fin 4) (h : ((cfg0 (adm m 0)).win 8).index t = ((cfg0 (adm m 0)).win 8).index t') : t = t' := by
  have e : cc0_transform_9 (grid0.coords t) = cc0_transform_9 (grid0.coords t') := h
  rw [(index_vals t).2.2.2, (index_vals t').2.2.2] at e
  exact Fin.ext (congrFun e 0)

/-- The result array, block by block. -/
theorem final_out (t : Fin 4) (k : Fin 256) (d : Fin 1024) (h : 256 * t.val + k.val < 1024) :
    (finalA m c 8 : FVec F S1024x1024 .f32) (ix2 ⟨256 * t.val + k.val, h⟩ d) = outAt m c t (ix2 k d) := by
  have e := (dats m 0 c).arrAt_emb_eq_flushed 8 (Pipeline.Window.hdisj_of_index_inj _ fun t t' _ _ h => index_out m t t' h) t (flush_out m t) (ix2 k d)
  have hi : (((cfg0 (adm m 0)).win 8).blk t).view.emb (ix2 k d) = ix2 (⟨256 * t.val + k.val, h⟩ : Fin 1024) d := by
    refine funext fun a => Fin.ext ?_
    have e := (index_vals t).2.2.2
    match a with
    | ⟨0, _⟩ => show cc0_transform_9 (grid0.coords t) 0 * 256 + 1 * k.val = 256 * t.val + k.val; rw [e]; show t.val * 256 + 1 * k.val = 256 * t.val + k.val; omega
    | ⟨1, _⟩ => show cc0_transform_9 (grid0.coords t) 1 * 1024 + 1 * d.val = d.val; rw [e]; show 0 * 1024 + 1 * d.val = d.val; omega
  exact (congrArg (finalA m c 8) hi.symm).trans e

end Cert.Proof.Sample.Run

end
-- ==== Proof.SampleOperands.lean ====
/- What the host operations before the call leave in the call's operands, index by index over the extended reals. -/
module

public import proofs.«01_k».proof.Proof.SampleMain
public import Idealize.ShloMosaic.Lib.Pointwise

@[expose] public section

noncomputable section

namespace Cert.Proof.Sample.Run

open Cert.SampleIdeal Cert.SampleIdeal.Gen
open Idealize.ShloMosaic Idealize.ShloMosaic.TcCoe

variable {F : FTy → Type} [FloatOps F]

section
variable (m : (ℓ : Loc nD τ sig) → Buf (Elt F) ℓ) (c : Dev nD)

/-- An argument array of core `c` at launch. -/
abbrev arg (b : Ref sig .tc) : Buf (Elt F) ((c.tc : Thread nD τ).loc b) := m ((c.tc : Thread nD τ).loc b)

/-- The gate matrix of the shared expert, rounded. -/
theorem V_v1 : V m c main_v1 = (truncf .bf16 (shapeCast S1024x256 (arg m c main_arg5 : FVec F S1x1024x256 .f32) shapeCasts_S1x1024x256_S1024x256) bitsLt_bf16_f32 : FVec F S1024x256 .bf16) := by
  unfold V; after_results; rfl
/-- Its up matrix, rounded. -/
theorem V_v3 : V m c main_v3 = (truncf .bf16 (shapeCast S1024x256 (arg m c main_arg6 : FVec F S1x1024x256 .f32) shapeCasts_S1x1024x256_S1024x256) bitsLt_bf16_f32 : FVec F S1024x256 .bf16) := by
  unfold V; after_results; rfl
/-- Its down matrix, rounded. -/
theorem V_v5 : V m c main_v5 = (truncf .bf16 (shapeCast S256x1024 (arg m c main_arg7 : FVec F S1x256x1024 .f32) shapeCasts_S1x256x1024_S256x1024) bitsLt_bf16_f32 : FVec F S256x1024 .bf16) := by
  unfold V; after_results; rfl
/-- The norm's scale. -/
theorem V_v7 : V m c main_v7 = (shapeCast S1x1024 (shapeCast S1024 (arg m c main_arg8 : FVec F S1x1024 .f32) shapeCasts_S1x1024_S1024) shapeCasts_S1024_S1x1024 : FVec F S1x1024 .f32) := by
  unfold V; after_results; rfl
/-- The norm's offset. -/
theorem V_v9 : V m c main_v9 = (shapeCast S1x1024 (shapeCast S1024 (arg m c main_arg9 : FVec F S1x1024 .f32) shapeCasts_S1x1024_S1024) shapeCasts_S1024_S1x1024 : FVec F S1x1024 .f32) := by
  unfold V; after_results; rfl
/-- The slots, as floats, over the gates. -/
theorem V_v11 : V m c main_v11 = (concatenate S16x1024 0 [⟨S8x1024, (sitofp .f32 (arg m c main_arg2 : IVec S8x1024 32) : FVec F S8x1024 .f32)⟩, ⟨S8x1024, (arg m c main_arg3 : FVec F S8x1024 .f32)⟩] concatenates_S8x1024_S8x1024_S16x1024_d0 : FVec F S16x1024 .f32) := by
  unfold V; after_results
/-- The residual rows, rounded. -/
theorem V_v12 : V m c main_v12 = (truncf .bf16 (arg m c main_arg4 : FVec F S1024x1024 .f32) bitsLt_bf16_f32 : FVec F S1024x1024 .bf16) := by
  unfold V; after_results
end

section
/-- A weight matrix, rounded and reshaped, at an index. -/
theorem cast_in (w : FVec Ideal S1x1024x256 .f32) (k : Fin 1024) (f : Fin 256) :
    (truncf .bf16 (shapeCast S1024x256 w shapeCasts_S1x1024x256_S1024x256) bitsLt_bf16_f32 : FVec Ideal S1024x256 .bf16) (ix2 k f) = w (ix3 0 k f) := by
  pointwise
/-- The down matrix, rounded and reshaped, at an index. -/
theorem cast_out (w : FVec Ideal S1x256x1024 .f32) (f : Fin 256) (d : Fin 1024) :
    (truncf .bf16 (shapeCast S256x1024 w shapeCasts_S1x256x1024_S256x1024) bitsLt_bf16_f32 : FVec Ideal S256x1024 .bf16) (ix2 f d) = w (ix3 0 f d) := by
  pointwise
/-- A row reshaped twice, at an index. -/
theorem cast_row (w : FVec Ideal S1x1024 .f32) (d : Fin 1024) :
    (shapeCast S1x1024 (shapeCast S1024 w shapeCasts_S1x1024_S1024) shapeCasts_S1024_S1x1024) (ix2 0 d) = w (ix2 0 d) := by
  pointwise
/-- The rounded rows, at an index. -/
theorem rounded (w : FVec Ideal S1024x1024 .f32) (t : Fin 1024) (d : Fin 1024) :
    (truncf .bf16 w bitsLt_bf16_f32 : FVec Ideal S1024x1024 .bf16) (ix2 t d) = w (ix2 t d) := by
  pointwise
/-- The slots over the gates, at a slot. -/
theorem over_slot (s : IVec S8x1024 32) (g : FVec Ideal S8x1024 .f32) (k : Fin 8) (t : Fin 1024) :
    (concatenate S16x1024 0 [⟨S8x1024, (sitofp .f32 s : FVec Ideal S8x1024 .f32)⟩, ⟨S8x1024, g⟩] concatenates_S8x1024_S8x1024_S16x1024_d0 : FVec Ideal S16x1024 .f32)
      (ix2 ⟨k.val, by omega⟩ t) = (((s (ix2 k t)).toInt : ℝ) : EReal) := by
  pointwise
  rfl
/-- The slots over the gates, at a gate. -/
theorem over_gate (s g : FVec Ideal S8x1024 .f32) (k : Fin 8) (t : Fin 1024) :
    (concatenate S16x1024 0 [⟨S8x1024, s⟩, ⟨S8x1024, g⟩] concatenates_S8x1024_S8x1024_S16x1024_d0 : FVec Ideal S16x1024 .f32)
      (ix2 ⟨8 + k.val, by omega⟩ t) = g (ix2 k t) := by
  pointwise
end

end Cert.Proof.Sample.Run

end
-- ==== Proof.SampleWeights.lean ====
module

public import proofs.«01_k».proof.Proof.SampleBody

@[expose] public section

noncomputable section

namespace Cert.Proof.Sample.Run

open Cert.SampleIdeal Cert.SampleIdeal.Gen
open Idealize.ShloMosaic

/-!
  The weights of a block, written once. The kernel spells the matrix of weights of 256 of the block's 3072 rows twelve
  times, each time as eight selections one inside the other; here the matrix is a function of the first row's number and
  the three accumulated products are shown to be products with four such matrices each.
-/

variable {F : FTy → Type} [FloatOps F]

/-- One selection: where a token's slot, less the sub-block's first row, is the row's number, the token's gate; elsewhere
    what was there. -/
def choose (z : F .f32) (off : Fin 2 → ℕ) (h : S8x256.Slices off S1x256) (s : FVec F S8x256 .f32) (g : FVec F S1x256 .bf16)
    (w : FVec F S256x256 .bf16) : FVec F S256x256 .bf16 :=
  select (cmpf .oeq (k0_pay10 (F := F)) (broadcastTo S256x256 (truncf .bf16 (subf (extractStridedSlice S1x256 off s h) (broadcast S1x256 z)) bitsLt_bf16_f32) broadcasts_S1x256_S256x256))
    (broadcastTo S256x256 (shapeCast S1x256 g shapeCasts_S1x256_S1x256) broadcasts_S1x256_S256x256) w

section
variable (v12 : FVec F S8x256 .f32) (v15 v18 v21 v24 v27 v30 v33 v36 : FVec F S1x256 .bf16)

/-- The weights of 256 rows from the one that the word `z` denotes: a row of the matrix per row of the block, a column per
    token. -/
def weights (z : BitVec 32) : FVec F S256x256 .bf16 :=
  let c : F .f32 := Scalar.ofBits .f32 z
  choose c ![7, 0] slices_S8x256_o7_0_S1x256 v12 v36 <| choose c ![6, 0] slices_S8x256_o6_0_S1x256 v12 v33 <|
  choose c ![5, 0] slices_S8x256_o5_0_S1x256 v12 v30 <| choose c ![4, 0] slices_S8x256_o4_0_S1x256 v12 v27 <|
  choose c ![3, 0] slices_S8x256_o3_0_S1x256 v12 v24 <| choose c ![2, 0] slices_S8x256_o2_0_S1x256 v12 v21 <|
  choose c ![1, 0] slices_S8x256_o1_0_S1x256 v12 v18 <| choose c ![0, 0] slices_S8x256_o0_0_S1x256 v12 v15 <|
  broadcast S256x256 (Scalar.ofBits .bf16 0x0000#16)

/-- The weights of 1024 rows: four such matrices, one under the other. -/
def weights4 (z0 z1 z2 z3 : BitVec 32) : FVec F S1024x256 .bf16 :=
  concatenate S1024x256 0 [⟨S256x256, weights v12 v15 v18 v21 v24 v27 v30 v33 v36 z0⟩, ⟨S256x256, weights v12 v15 v18 v21 v24 v27 v30 v33 v36 z1⟩,
    ⟨S256x256, weights v12 v15 v18 v21 v24 v27 v30 v33 v36 z2⟩, ⟨S256x256, weights v12 v15 v18 v21 v24 v27 v30 v33 v36 z3⟩]
    concatenates_S256x256_S256x256_S256x256_S256x256_S1024x256_d0

/-- The product of such weights with 1024 rows. -/
def weighted (w : FVec F S1024x256 .bf16) (b : Vec F S1x1024x1024 .bf16) : FVec F S256x1024 .f32 :=
  matmul dot_S1024x256_S1024x1024_S256x1024_0_0_1_1_n_n none w (shapeCast S1024x1024 b shapeCasts_S1x1024x1024_S1024x1024) (constant S256x1024 .f32 0x00000000#32)

/-- The first accumulation is the first product. -/
theorem acc0_eq (b : Vec F S1x1024x1024 .bf16) : acc0 v12 v15 v18 v21 v24 v27 v30 v33 v36 b
    = weighted (weights4 v12 v15 v18 v21 v24 v27 v30 v33 v36 0x00000000#32 0x43800000#32 0x44000000#32 0x44400000#32) b := rfl

/-- The second adds the second product. -/
theorem acc1_eq (a : FVec F S256x1024 .f32) (b : Vec F S1x1024x1024 .bf16) : acc1 v12 v15 v18 v21 v24 v27 v30 v33 v36 a b
    = addf a (weighted (weights4 v12 v15 v18 v21 v24 v27 v30 v33 v36 0x44800000#32 0x44A00000#32 0x44C00000#32 0x44E00000#32) b) := rfl

/-- The third adds the third. -/
theorem acc2_eq (a : FVec F S256x1024 .f32) (b : Vec F S1x1024x1024 .bf16) : acc2 v12 v15 v18 v21 v24 v27 v30 v33 v36 a b
    = addf a (weighted (weights4 v12 v15 v18 v21 v24 v27 v30 v33 v36 0x45000000#32 0x45100000#32 0x45200000#32 0x45300000#32) b) := rfl

end

end Cert.Proof.Sample.Run
-- ==== Proof.SampleRouted.lean ====
module

public import proofs.«01_k».proof.Proof.SampleWeights
public import Idealize.ShloMosaic.Lib.Pointwise

@[expose] public section

noncomputable section

namespace Cert.Proof.Sample.Run

open Cert.SampleIdeal Cert.SampleIdeal.Gen
open Idealize.ShloMosaic

/-!
  What the accumulated products hold over the extended reals: a token's gate-weighted sum of the eight rows that its slots
  name.
-/

/-- The weight of row `j`: the gate of the last of the slots that names it, zero when none does. -/
def wt : (n : ℕ) → (Fin n → ℕ) → (Fin n → EReal) → ℕ → EReal
  | 0, _, _, _ => 0
  | n + 1, σ, γ, j => if σ (Fin.last n) = j then γ (Fin.last n) else wt n (fun k => σ k.castSucc) (fun k => γ k.castSucc) j

/-- Among distinct slots at most one names the row: the weight is the sum of the gates of those that do. -/
theorem wt_eq_sum (n : ℕ) (σ : Fin n → ℕ) (hσ : Function.Injective σ) (γ : Fin n → EReal) (j : ℕ) :
    wt n σ γ j = ∑ k, if σ k = j then γ k else 0 := by
  induction n with
  | zero => rfl
  | succ n ih =>
    rw [Fin.sum_univ_castSucc, wt]
    have hc : Function.Injective fun k : Fin n => σ k.castSucc := fun a b h => Fin.castSucc_injective n (hσ h)
    split_ifs with h
    · rw [Finset.sum_eq_zero, zero_add]
      intro k _
      rw [if_neg]
      intro hk
      exact absurd (hσ (hk.trans h.symm)) (Fin.castSucc_lt_last k).ne
    · rw [add_zero]
      exact ih _ hc _

/-- Weighted by distinct slots' gates, the block's rows add up to the rows that the slots name, each times its gate. -/
theorem sum_wt (n N : ℕ) (σ : Fin n → ℕ) (hσ : Function.Injective σ) (hN : ∀ k, σ k < N) (γ : Fin n → EReal) (Y : ℕ → EReal) :
    ∑ j : Fin N, wt n σ γ j.val * Y j.val = ∑ k, γ k * Y (σ k) := by
  have key : ∀ j : Fin N, wt n σ γ j.val * Y j.val = ∑ k, if j = ⟨σ k, hN k⟩ then γ k * Y (σ k) else 0 := by
    intro j
    by_cases h : ∃ k, σ k = j.val
    · obtain ⟨k, hk⟩ := h
      have hne : ∀ k', k' ≠ k → σ k' ≠ j.val := fun k' h' e => h' (hσ (e.trans hk.symm))
      rw [wt_eq_sum n σ hσ, Finset.sum_eq_single k (fun k' _ h' => if_neg (hne k' h')) (fun h' => absurd (Finset.mem_univ k) h'),
        Finset.sum_eq_single k (fun k' _ h' => if_neg fun e => hne k' h' (congrArg Fin.val e).symm) (fun h' => absurd (Finset.mem_univ k) h'),
        if_pos hk, if_pos (Fin.ext hk.symm), hk]
    · push Not at h
      rw [wt_eq_sum n σ hσ, Finset.sum_eq_zero (fun k _ => if_neg (h k)), zero_mul]
      exact (Finset.sum_eq_zero fun k _ => if_neg fun e => h k (congrArg Fin.val e).symm).symm
  rw [Finset.sum_congr rfl fun j _ => key j, Finset.sum_comm]
  refine Finset.sum_congr rfl fun k _ => ?_
  rw [Finset.sum_ite_eq' Finset.univ (⟨σ k, hN k⟩ : Fin N) fun _ => γ k * Y (σ k), if_pos (Finset.mem_univ _)]

/-- One selection read at a row and a token. -/
theorem choose_apply (z : EReal) (k : Fin 8) (o : ℕ) (ho : k.val = o) (h : S8x256.Slices ![o, 0] S1x256) (s : FVec Ideal S8x256 .f32)
    (g : FVec Ideal S1x256 .bf16) (w : FVec Ideal S256x256 .bf16) (r t : Fin 256) :
    choose z ![o, 0] h s g w (ix2 r t)
      = if ((r.val : ℝ) : EReal) = s (ix2 k t) - z then g (ix2 0 t) else w (ix2 r t) := by
  subst ho
  have hr : (FloatOps.sitofp (F := Ideal) .f32 (BitVec.ofNat 32 r.val) : EReal) = ((r.val : ℝ) : EReal) := by
    show (((BitVec.ofNat 32 r.val).toInt : ℝ) : EReal) = _
    have : (BitVec.ofNat 32 r.val).toInt = (r.val : ℤ) := by
      have := r.isLt
      rw [BitVec.toInt_eq_toNat_of_lt (by rw [BitVec.toNat_ofNat]; omega), BitVec.toNat_ofNat]
      omega
    rw [this]
    norm_cast
  pointwise [choose, k0_pay10]
  rw [hr]

section
variable (v12 : FVec Ideal S8x256 .f32) (v15 v18 v21 v24 v27 v30 v33 v36 : FVec Ideal S1x256 .bf16)

/-- The eight rows of gates as one. -/
abbrev gates (t : Fin 256) : Fin 8 → EReal :=
  ![v15 (ix2 0 t), v18 (ix2 0 t), v21 (ix2 0 t), v24 (ix2 0 t), v27 (ix2 0 t), v30 (ix2 0 t), v33 (ix2 0 t), v36 (ix2 0 t)]

/-- A row's number is a slot less the first row's exactly when the slot is the row. -/
theorem row_eq (r n σ : ℕ) : ((r : ℝ) : EReal) = ((σ : ℝ) : EReal) - ((n : ℝ) : EReal) ↔ σ = n + r := by
  rw [← EReal.coe_sub, EReal.coe_eq_coe_iff]
  constructor
  · intro h
    have : (σ : ℝ) = ((n + r : ℕ) : ℝ) := by push_cast; linarith
    exact_mod_cast this
  · rintro rfl
    push_cast
    ring

/-- The matrix of weights read at a row and a token whose slots are the numbers `σ`. -/
theorem weights_apply (z : BitVec 32) (n : ℕ) (hz : Ideal.ofBits .f32 z = ((n : ℝ) : EReal)) (r t : Fin 256) (σ : Fin 8 → ℕ)
    (hs : ∀ k, v12 (ix2 k t) = ((σ k : ℝ) : EReal)) :
    weights v12 v15 v18 v21 v24 v27 v30 v33 v36 z (ix2 r t) = wt 8 σ (gates v15 v18 v21 v24 v27 v30 v33 v36 t) (n + r.val) := by
  have hz' : (Scalar.ofBits (F := Ideal) .f32 z : EReal) = ((n : ℝ) : EReal) := hz
  have h0 : broadcast S256x256 (Scalar.ofBits (F := Ideal) .bf16 0x0000#16) (ix2 r t) = 0 := by pointwise
  unfold weights
  rw [choose_apply _ 7 7 rfl, choose_apply _ 6 6 rfl, choose_apply _ 5 5 rfl, choose_apply _ 4 4 rfl, choose_apply _ 3 3 rfl, choose_apply _ 2 2 rfl, choose_apply _ 1 1 rfl, choose_apply _ 0 0 rfl]
  simp only [hs, hz', row_eq, h0]
  rfl

omit v12 v15 v18 v21 v24 v27 v30 v33 v36 in
/-- Four matrices of 256 rows one under the other, read at a row. -/
theorem stacked_apply (w0 w1 w2 w3 : FVec Ideal S256x256 .bf16) (j : Fin 1024) (t : Fin 256) :
    concatenate S1024x256 0 [⟨S256x256, w0⟩, ⟨S256x256, w1⟩, ⟨S256x256, w2⟩, ⟨S256x256, w3⟩]
      concatenates_S256x256_S256x256_S256x256_S256x256_S1024x256_d0 (ix2 j t)
      = if a : j.val < 256 then w0 (ix2 ⟨j.val, a⟩ t) else if b : j.val < 512 then w1 (ix2 ⟨j.val - 256, by omega⟩ t)
        else if c : j.val < 768 then w2 (ix2 ⟨j.val - 512, by omega⟩ t) else w3 (ix2 ⟨j.val - 768, by have := j.isLt; omega⟩ t) := by
  have b' : j.val - 256 < 256 ↔ j.val < 512 := by omega
  have c' : j.val - 256 - 256 < 256 ↔ j.val < 768 := by omega
  have e1 : j.val - 256 - 256 = j.val - 512 := by omega
  have e2 : j.val - 512 - 256 = j.val - 768 := by omega
  pointwise
  simp only [e1, e2]
  by_cases a : j.val < 256
  · rw [dif_pos a, dif_pos a]
  rw [dif_neg a, dif_neg a]
  by_cases b : j.val < 512
  · rw [dif_pos b, dif_pos (b'.2 b)]
  rw [dif_neg b, dif_neg (fun h => b (b'.1 h))]
  by_cases c : j.val < 768
  · rw [dif_pos c, dif_pos (by omega)]
  · rw [dif_neg c, dif_neg (by omega)]

/-- The weights of 1024 rows, read at one of them. -/
theorem weights4_apply (z0 z1 z2 z3 : BitVec 32) (n : ℕ) (h0 : Ideal.ofBits .f32 z0 = ((n : ℝ) : EReal))
    (h1 : Ideal.ofBits .f32 z1 = (((n + 256 : ℕ) : ℝ) : EReal)) (h2 : Ideal.ofBits .f32 z2 = (((n + 512 : ℕ) : ℝ) : EReal))
    (h3 : Ideal.ofBits .f32 z3 = (((n + 768 : ℕ) : ℝ) : EReal)) (j : Fin 1024) (t : Fin 256) (σ : Fin 8 → ℕ)
    (hs : ∀ k, v12 (ix2 k t) = ((σ k : ℝ) : EReal)) :
    weights4 v12 v15 v18 v21 v24 v27 v30 v33 v36 z0 z1 z2 z3 (ix2 j t) = wt 8 σ (gates v15 v18 v21 v24 v27 v30 v33 v36 t) (n + j.val) := by
  rw [weights4, stacked_apply]
  by_cases a : j.val < 256
  · rw [dif_pos a]
    exact weights_apply _ _ _ _ _ _ _ _ _ z0 n h0 _ t σ hs
  rw [dif_neg a]
  by_cases b : j.val < 512
  · rw [dif_pos b]
    exact (weights_apply _ _ _ _ _ _ _ _ _ z1 _ h1 _ t σ hs).trans (congrArg _ (by dsimp only; omega))
  rw [dif_neg b]
  by_cases c : j.val < 768
  · rw [dif_pos c]
    exact (weights_apply _ _ _ _ _ _ _ _ _ z2 _ h2 _ t σ hs).trans (congrArg _ (by dsimp only; omega))
  rw [dif_neg c]
  exact (weights_apply _ _ _ _ _ _ _ _ _ z3 _ h3 _ t σ hs).trans (congrArg _ (by dsimp only; omega))

/-- A product with 1024 rows, read at a token and a column. -/
theorem weighted_apply (w : FVec Ideal S1024x256 .bf16) (b : Vec Ideal S1x1024x1024 .bf16) (t : Fin 256) (d : Fin 1024) :
    weighted w b (ix2 t d) = ∑ j : Fin 1024, w (ix2 j t) * b (ix3 0 j d) := by
  pointwise [weighted]

end

/-- The accumulated products at a token and a column: over the slots, the gate times the named row's entry, `Y` being the
    block's rows at the column. -/
theorem accVal_apply (s : Vec Ideal S8x256 .f32) (g : Fin 8 → Vec Ideal S1x256 .f32) (b0 b1 b2 : Vec Ideal S1x1024x1024 .bf16)
    (t : Fin 256) (d : Fin 1024) (σ : Fin 8 → ℕ) (hσ : Function.Injective σ) (hN : ∀ k, σ k < 3072) (Y : ℕ → EReal)
    (hs : ∀ k, s (ix2 k t) = ((σ k : ℝ) : EReal)) (h0 : ∀ j : Fin 1024, b0 (ix3 0 j d) = Y j.val)
    (h1 : ∀ j : Fin 1024, b1 (ix3 0 j d) = Y (1024 + j.val)) (h2 : ∀ j : Fin 1024, b2 (ix3 0 j d) = Y (2048 + j.val)) :
    accVal s (g 0) (g 1) (g 2) (g 3) (g 4) (g 5) (g 6) (g 7) b0 b1 b2 (ix2 t d) = ∑ k, g k (ix2 0 t) * Y (σ k) := by
  have hs' : ∀ k, k0_pay1 s (ix2 k t) = ((σ k : ℝ) : EReal) := fun k => by rw [← hs k]; pointwise [k0_pay1]
  have hg : gates (k0_pay2 (g 0)) (k0_pay3 (g 1)) (k0_pay4 (g 2)) (k0_pay5 (g 3)) (k0_pay6 (g 4)) (k0_pay7 (g 5)) (k0_pay8 (g 6)) (k0_pay9 (g 7)) t
      = fun k => g k (ix2 0 t) := by
    funext k
    fin_cases k <;> (dsimp [gates]; pointwise [k0_pay2, k0_pay3, k0_pay4, k0_pay5, k0_pay6, k0_pay7, k0_pay8, k0_pay9])
  unfold accVal
  rw [acc2_eq, acc1_eq, acc0_eq]
  show weighted _ _ _ + weighted _ _ _ + weighted _ _ _ = _
  rw [weighted_apply, weighted_apply, weighted_apply, ← sum_wt 8 3072 σ hσ hN _ Y, Fin.sum_univ_tiles 3 1024 (rfl : 3 * 1024 = 3072), Fin.sum_univ_three]
  refine congrArg₂ (· + ·) (congrArg₂ (· + ·) ?_ ?_) ?_ <;> refine Finset.sum_congr rfl fun j _ => ?_
  · rw [weights4_apply _ _ _ _ _ _ _ _ _ _ _ _ _ 0 _ _ _ _ j t σ hs', hg, h0]
    · simp
    all_goals simp [Ideal.ofBits, Ideal.ieee, -EReal.coe_mul]
    all_goals norm_num
  · rw [weights4_apply _ _ _ _ _ _ _ _ _ _ _ _ _ 1024 _ _ _ _ j t σ hs', hg, h1]
    · simp
    all_goals simp [Ideal.ofBits, Ideal.ieee, -EReal.coe_mul]
    all_goals norm_num
  · rw [weights4_apply _ _ _ _ _ _ _ _ _ _ _ _ _ 2048 _ _ _ _ j t σ hs', hg, h2]
    · simp
    all_goals simp [Ideal.ofBits, Ideal.ieee, -EReal.coe_mul]
    all_goals norm_num

end Cert.Proof.Sample.Run
-- ==== Proof.SampleRows.lean ====
/- The rows that the reference gathers: where a token's slots are in the table. -/
module

public import proofs.«01_k».proof.Proof.Gen.SampleReferenceIdeal
public import proofs.«01_k».proof.Proof.Gen.SampleReferenceIdeal.Run
public import Idealize.ShloMosaic.Lib.Pointwise
public import Idealize.ShloMosaic.Lib.Routing.Words

@[expose] public section

noncomputable section

namespace Cert.Proof.Sample.Ref

open Cert.SampleReferenceIdeal Cert.SampleReferenceIdeal.Gen Cert.SampleReferenceIdeal.Value
open Idealize.ShloMosaic Idealize.ShloMosaic.TcCoe Idealize.ShloMosaic.Routing

variable {F : FTy → Type} [FloatOps F]
variable (V0 : Valuation τ sig (Elt F))

/-- The table, the rows, the slots and the gates among the arguments. -/
abbrev tab : IVec S1152 32 := V0 (Proc.devRef .tc main_arg0)
abbrev rows : FVec F S28672x1024 .bf16 := V0 (Proc.devRef .tc main_arg1)
abbrev slots : IVec S8x1024 32 := V0 (Proc.devRef .tc main_arg2)

/-- A slot's chunk: the slot divided by sixteen. -/
theorem chunk_apply (k : Fin 8) (t : Fin 1024) (s : ℕ) (hs : slots V0 (ix2 k t) = BitVec.ofNat 32 s) (hb : s < 3072) :
    res_main_v1 V0 (ix2 k t) = BitVec.ofNat 32 (s / 16) :=
  pyDiv_ap bcast_S_S8x1024 (slots V0) (constantI S_ 32 16#32) (ix2 k t) hs rfl (by omega) (by omega) (by omega)

/-- The block's first chunk, 192 per 256 tokens, and the slot's chunk in it. -/
theorem block_apply (k : Fin 8) (t : Fin 1024) (s : ℕ) (hs : slots V0 (ix2 k t) = BitVec.ofNat 32 s) (hb : s < 3072) :
    res_main_v7 V0 (ix2 k t) = BitVec.ofNat 32 (192 * (t.val / 256) + s / 16) := by
  have ht := t.isLt
  have h1 : pyDiv bcast_S_S1024 (res_main_v0 V0) (res_main_call1_v0 V0) (ix1 t) = BitVec.ofNat 32 (t.val / 256) :=
    pyDiv_ap bcast_S_S1024 (iotaInDim S1024 32 0) (constantI S_ 32 256#32) (ix1 t) rfl rfl (by omega) (by omega) (by omega)
  have h2 := chunk_apply V0 k t s hs hb
  show (broadcastInDim S8x1024 ![0, 1] bcast_S1x1024_S8x1024_0_1 (muli (broadcastInDim S1x1024 ![1] bcast_S1024_S1x1024_1
    (pyDiv bcast_S_S1024 (res_main_v0 V0) (res_main_call1_v0 V0))) (broadcastInDim S1x1024 ![] bcast_S_S1x1024 (constantI S_ 32 192#32)))) (ix2 k t)
      + res_main_v1 V0 (ix2 k t) = _
  pointwise
  rw [h1, h2]
  show BitVec.ofNat 32 (t.val / 256) * BitVec.ofNat 32 192 + _ = _
  rw [← BitVec.ofNat_mul, ← BitVec.ofNat_add, Nat.mul_comm]

/-- A start index that is not negative is kept. -/
theorem kept (v : IVec S8x1024 32) (o : BitVec 32) (k : Fin 8) (t : Fin 1024) (n : ℕ) (hn : n < 2 ^ 31) (hv : v (ix2 k t) = BitVec.ofNat 32 n) :
    broadcastInDim S8x1024x1 ![0, 1] bcast_S8x1024_S8x1024x1_0_1 (select (cmpi .slt v (broadcastInDim S8x1024 ![] bcast_S_S8x1024 (constantI S_ 32 0#32)))
      (addi v (broadcastInDim S8x1024 ![] bcast_S_S8x1024 (constantI S_ 32 o))) v) (ix3 k t 0) = BitVec.ofNat 32 n := by
  have h0 : ¬ IntOp.cmpi .slt (BitVec.ofNat 32 n) 0#32 = 1#1 := by
    rw [IntOp.cmpi_slt, BitVec.toInt_eq_toNat_of_lt (by rw [BitVec.toNat_ofNat]; omega)]
    simp
    omega
  pointwise
  rw [hv, ValueIdx.eq_zero_of_ne_one h0]
  rfl

/-- A natural below 2³¹ is what its word reads, signed. -/
theorem read_ofNat (n N : ℕ) (hn : n < N) (hN : N < 2 ^ 31) : min (BitVec.ofNat 32 n).toInt.toNat (N - 1) = n := by
  rw [BitVec.toInt_eq_toNat_of_lt (by rw [BitVec.toNat_ofNat]; omega), BitVec.toNat_ofNat, Int.toNat_natCast]
  omega

/-- The gather from the table at a start in range. -/
theorem gather_tab (x : IVec S1152 32) (idx : IVec S8x1024x1 32) (k : Fin 8) (t : Fin 1024) (n : ℕ) (hn : n < 1152)
    (h : idx (ix3 k t 0) = BitVec.ofNat 32 n) :
    Host.gather gather_S1152_S8x1024x1_S8x1024_n_0_n_n_0_2_1 x idx (ix2 k t) = x (ix1 ⟨n, hn⟩) := by
  refine (ValueIdx.gather_take_apply (by omega) _ x idx (ix2 k t)).trans (congrArg x ?_)
  have e : ValueIdx.takeIdx (ix2 k t) = ix3 k t 0 := by
    funext a
    fin_cases a <;> rfl
  funext a
  obtain rfl : a = 0 := Subsingleton.elim _ _
  refine Fin.ext ?_
  show min (idx (ValueIdx.takeIdx (ix2 k t))).toInt.toNat (1152 - 1) = n
  rw [e, h]
  exact read_ofNat n 1152 hn (by omega)

/-- The gather of a row at a start in range. -/
theorem gather_rows {α : Type} (x : S28672x1024.Idx → α) (idx : IVec S8x1024x1 32) (k : Fin 8) (t : Fin 1024) (d : Fin 1024) (n : ℕ) (hn : n < 28672)
    (h : idx (ix3 k t 0) = BitVec.ofNat 32 n) :
    Host.gather gather_S28672x1024_S8x1024x1_S8x1024x1024_2_0_n_n_0_2_11024 x idx (ix3 k t d) = x (ix2 ⟨n, hn⟩ d) := by
  unfold Host.gather
  refine congrArg x (funext fun a => Fin.ext ?_)
  have h01 : a = 0 ∨ a = 1 := by
    match a with
    | ⟨0, _⟩ => exact Or.inl rfl
    | ⟨1, _⟩ => exact Or.inr rfl
  show GatherDims.start _ _ _ a + GatherDims.batchCoord _ _ a + GatherDims.offCoord _ _ a = _
  rw [GatherDims.batchCoord_eq_zero _ _ _ (List.not_mem_nil)]
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ gather_S28672x1024_S8x1024x1_S8x1024x1024_2_0_n_n_0_2_11024.startIndexMap from List.mem_singleton.mpr rfl)]
    have e : GatherDims.siIdx gather_S28672x1024_S8x1024x1_S8x1024x1024_2_0_n_n_0_2_11024 (ix3 k t d) ⟨0, Nat.one_pos⟩ = ix3 k t 0 := by
      funext b
      fin_cases b <;> rfl
    show min (idx (GatherDims.siIdx gather_S28672x1024_S8x1024x1_S8x1024x1024_2_0_n_n_0_2_11024 (ix3 k t d) ⟨0, Nat.one_pos⟩)).toInt.toNat (28672 - 1) = n
    rw [e, h]
    exact read_ofNat n 28672 hn (by omega)
  · unfold GatherDims.start
    rw [dif_neg (by simp [gather_S28672x1024_S8x1024x1_S8x1024x1024_2_0_n_n_0_2_11024])]
    have hk : (1 : Fin 2) ∈ gather_S28672x1024_S8x1024x1_S8x1024x1024_2_0_n_n_0_2_11024.sKept :=
      (GatherDims.mem_sKept _ _).2 ⟨by simp [gather_S28672x1024_S8x1024x1_S8x1024x1024_2_0_n_n_0_2_11024], List.not_mem_nil⟩
    unfold GatherDims.offCoord
    rw [dif_pos hk, Nat.add_zero, Nat.zero_add]
    rfl

/-- The row that a slot names: the table's row of its chunk in the token's block, and its place in the chunk. -/
theorem row_apply (k : Fin 8) (t : Fin 1024) (s g : ℕ) (hs : slots V0 (ix2 k t) = BitVec.ofNat 32 s) (hb : s < 3072)
    (hg : ∀ h : 192 * (t.val / 256) + s / 16 < 1152, tab V0 (ix1 ⟨192 * (t.val / 256) + s / 16, h⟩) = BitVec.ofNat 32 g) :
    res_main_v18 V0 (ix2 k t) = BitVec.ofNat 32 (g + s % 16) := by
  have ht := t.isLt
  have hlt : 192 * (t.val / 256) + s / 16 < 1152 := by omega
  have h1 := gather_tab (tab V0) _ k t _ hlt (kept (res_main_v7 V0) 1152#32 k t _ (by omega) (block_apply V0 k t s hs hb))
  rw [hg hlt] at h1
  unfold res_main_v18
  show Host.gather gather_S1152_S8x1024x1_S8x1024_n_0_n_n_0_2_1 _ _ (ix2 k t) + IntOp.subi (slots V0 (ix2 k t)) (IntOp.muli (res_main_v1 V0 (ix2 k t)) (BitVec.ofNat 32 16)) = _
  rw [chunk_apply V0 k t s hs hb, hs, h1]
  show _ + (BitVec.ofNat 32 s - BitVec.ofNat 32 (s / 16) * BitVec.ofNat 32 16) = _
  rw [← BitVec.ofNat_mul]
  have : BitVec.ofNat 32 s = BitVec.ofNat 32 (s / 16 * 16) + BitVec.ofNat 32 (s % 16) := by
    rw [← BitVec.ofNat_add]; congr 1; omega
  rw [this, BitVec.ofNat_add, BitVec.add_comm (BitVec.ofNat 32 (s / 16 * 16)), BitVec.add_sub_cancel]

/-- The gathered row: the experts' row at that number. -/
theorem routed_apply (k : Fin 8) (t : Fin 1024) (d : Fin 1024) (s g : ℕ) (hs : slots V0 (ix2 k t) = BitVec.ofNat 32 s) (hb : s < 3072)
    (hg : ∀ h : 192 * (t.val / 256) + s / 16 < 1152, tab V0 (ix1 ⟨192 * (t.val / 256) + s / 16, h⟩) = BitVec.ofNat 32 g)
    (hr : g + s % 16 < 28672) :
    Host.gather gather_S28672x1024_S8x1024x1_S8x1024x1024_2_0_n_n_0_2_11024 (rows V0) (broadcastInDim S8x1024x1 ![0, 1] bcast_S8x1024_S8x1024x1_0_1
      (select (cmpi .slt (res_main_v18 V0) (broadcastInDim S8x1024 ![] bcast_S_S8x1024 (constantI S_ 32 0#32)))
        (addi (res_main_v18 V0) (broadcastInDim S8x1024 ![] bcast_S_S8x1024 (constantI S_ 32 28672#32))) (res_main_v18 V0))) (ix3 k t d)
      = rows V0 (ix2 ⟨g + s % 16, hr⟩ d) :=
  gather_rows (rows V0) _ k t d _ hr (kept (res_main_v18 V0) 28672#32 k t _ (by omega) (row_apply V0 k t s g hs hb hg))

end Cert.Proof.Sample.Ref
-- ==== Proof.SampleToken.lean ====
/- One token's output over the extended reals, and that the kernel's point and the reference both compute it. -/
module

public import proofs.«01_k».proof.Proof.SampleBody
public import proofs.«01_k».proof.Proof.SampleRows
public import Idealize.ShloMosaic.Lib.Pointwise

@[expose] public section

noncomputable section

namespace Cert.Proof.Sample

open Idealize.ShloMosaic

/-- The shared expert's hidden entries: the gate's product through its logistic curve, times the up product. -/
def hidden (x : Fin 1024 → EReal) (wg wu : Fin 1024 → Fin 256 → EReal) (f : Fin 256) : EReal :=
  (∑ k, x k * wg k f) * Ideal.div 1 (1 + Ideal.exp (-(∑ k, x k * wg k f))) * ∑ k, x k * wu k f

/-- The sum that is normalised: the scaled residual and the routed and shared experts. -/
def summed (r x : Fin 1024 → EReal) (wg wu : Fin 1024 → Fin 256 → EReal) (wd : Fin 256 → Fin 1024 → EReal) (d : Fin 1024) : EReal :=
  Ideal.ofBits .f32 0x3F9837F0#32 * x d + (r d + ∑ f, hidden x wg wu f * wd f d)

/-- An entry less the mean. -/
def centred (z : Fin 1024 → EReal) (d : Fin 1024) : EReal := z d - Ideal.div (∑ k, z k) (Ideal.ofBits .f32 0x44800000#32)

/-- The layer norm of a row. -/
def normed (z g b : Fin 1024 → EReal) (d : Fin 1024) : EReal :=
  centred z d * Ideal.rsqrt (Ideal.div (∑ k, centred z k * centred z k) (Ideal.ofBits .f32 0x44800000#32) + Ideal.ofBits .f32 0x3727C5AC#32) * g d + b d

namespace Run
open Cert.SampleIdeal Cert.SampleIdeal.Gen

/-- The kernel's hidden entries before they are rounded, at a token. -/
theorem hidden_kernel (xb : Vec Ideal S256x1024 .bf16) (wg wu : Vec Ideal S1024x256 .bf16) (t f : Fin 256) :
    k0_pay70 xb wg (ix2 t f) * Ideal.div 1 (k0_pay72 xb wg (ix2 t f)) * k0_pay71 xb wu (ix2 t f)
      = hidden (fun k => xb (ix2 t k)) (fun k f => wg (ix2 k f)) (fun k f => wu (ix2 k f)) f := by
  pointwise [k0_pay69, k0_pay70, k0_pay71, k0_pay72, hidden]
  rw [zero_sub]

/-- What a point writes at a token. -/
theorem outVal_apply (acc : FVec Ideal S256x1024 .f32) (xb : Vec Ideal S256x1024 .bf16) (wg wu : Vec Ideal S1024x256 .bf16) (wd : Vec Ideal S256x1024 .bf16)
    (x : Vec Ideal S256x1024 .f32) (g b : Vec Ideal S1x1024 .f32) (t : Fin 256) (d : Fin 1024) (hx : ∀ k, xb (ix2 t k) = x (ix2 t k)) :
    outVal acc xb wg wu wd x g b (ix2 t d)
      = normed (summed (fun d => acc (ix2 t d)) (fun k => x (ix2 t k)) (fun k f => wg (ix2 k f)) (fun k f => wu (ix2 k f)) (fun f d => wd (ix2 f d)))
          (fun d => g (ix2 0 d)) (fun d => b (ix2 0 d)) d := by
  have hh := hidden_kernel xb wg wu t
  simp only [hx] at hh
  pointwise [outVal, k0_pay73]
  simp only [hh]
  simp only [normed, centred, summed]

end Run

namespace Ref
open Cert.SampleReferenceIdeal Cert.SampleReferenceIdeal.Gen Cert.SampleReferenceIdeal.Value
open Idealize.ShloMosaic.TcCoe

variable (V0 : Valuation τ sig (Elt Ideal))

/-- The remaining arguments: the gates, the layer's input, the shared expert's three weights, the norm's two. -/
abbrev gate : FVec Ideal S8x1024 .f32 := V0 (Proc.devRef .tc main_arg3)
abbrev inp : FVec Ideal S1024x1024 .f32 := V0 (Proc.devRef .tc main_arg4)
abbrev w1 : FVec Ideal S1x1024x256 .f32 := V0 (Proc.devRef .tc main_arg5)
abbrev w2 : FVec Ideal S1x1024x256 .f32 := V0 (Proc.devRef .tc main_arg6)
abbrev w3 : FVec Ideal S1x256x1024 .f32 := V0 (Proc.devRef .tc main_arg7)
abbrev lng : FVec Ideal S1x1024 .f32 := V0 (Proc.devRef .tc main_arg8)
abbrev lnb : FVec Ideal S1x1024 .f32 := V0 (Proc.devRef .tc main_arg9)

/-- The reference's sum at a token, its gathered rows being `y`. -/
theorem summed_ref (t : Fin 1024) (d : Fin 1024) (y : Fin 8 → Fin 1024 → EReal)
    (hy : ∀ k d, Host.gather gather_S28672x1024_S8x1024x1_S8x1024x1024_2_0_n_n_0_2_11024 (rows V0) (broadcastInDim S8x1024x1 ![0, 1] bcast_S8x1024_S8x1024x1_0_1
      (select (cmpi .slt (res_main_v18 V0) (broadcastInDim S8x1024 ![] bcast_S_S8x1024 (constantI S_ 32 0#32)))
        (addi (res_main_v18 V0) (broadcastInDim S8x1024 ![] bcast_S_S8x1024 (constantI S_ 32 28672#32))) (res_main_v18 V0))) (ix3 k t d) = y k d) :
    res_main_v42 V0 (ix2 t d)
      = summed (fun d => ∑ k, gate V0 (ix2 k t) * y k d) (fun k => inp V0 (ix2 t k)) (fun k f => w1 V0 (ix3 0 k f)) (fun k f => w2 V0 (ix3 0 k f))
          (fun f d => w3 V0 (ix3 0 f d)) d := by
  unfold res_main_v42
  pointwise [res_main_v32, summed, hidden]
  refine congrArg₂ (· + ·) rfl (congrArg₂ (· + ·) (Finset.sum_congr rfl fun k _ => ?_) rfl)
  exact (congrArg (· * gate V0 (ix2 k t)) (hy k d)).trans (mul_comm _ _)

/-- The reference's result, as its run leaves it. -/
abbrev result : FVec Ideal S1024x1024 .f32 :=
  addf (mulf (mulf (res_main_v48 V0) (broadcastInDim S1024x1024 ![0, 1] bcast_S1024x1_S1024x1024_0_1 (Host.rsqrt (addf (Host.divf (broadcastInDim S1024x1 ![0] bcast_S1024_S1024x1_0 (Host.reduceAdd (mulf (res_main_v48 V0) (res_main_v48 V0)) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x3727C5AC#32)))))) (broadcastInDim S1024x1024 ![0, 1] bcast_S1x1024_S1024x1024_0_1 (broadcastInDim S1x1024 ![1] bcast_S1024_S1x1024_1 (shapeCast _ (lng V0) shapeCasts_S1x1024_S1024)))) (broadcastInDim S1024x1024 ![0, 1] bcast_S1x1024_S1024x1024_0_1 (broadcastInDim S1x1024 ![1] bcast_S1024_S1x1024_1 (shapeCast _ (lnb V0) shapeCasts_S1x1024_S1024)))

/-- The reference's result at a token. -/
theorem result_ref (t : Fin 1024) (d : Fin 1024) (z : Fin 1024 → EReal) (hz : ∀ d, res_main_v42 V0 (ix2 t d) = z d) :
    result V0 (ix2 t d)
      = normed z (fun d => lng V0 (ix2 0 d)) (fun d => lnb V0 (ix2 0 d)) d := by
  pointwise [res_main_v48]
  simp only [hz, normed, centred]

end Ref

end Cert.Proof.Sample
-- ==== Proof.SampleDistinct.lean ====
/- A token's eight slots are distinct, from the precondition's count of equal ones. -/
module

public import proofs.«01_k».proof.Proof.SampleRange
public import Idealize.ShloMosaic.Lib.Pointwise
public import Idealize.ShloMosaic.Lib.IndicatorCount

@[expose] public section

noncomputable section

namespace Cert.Proof.Sample.Range

open Idealize.ShloMosaic
open Cert.Pre_sample_in_range Cert.Pre_sample_in_range.Gen

variable {F : FTy → Type} [FloatOps F]
variable {a0 : IVec S1152 32} {a1 : FVec F S28672x1024 .bf16} {a2 : IVec S8x1024 32} {a3 : FVec F S8x1024 .f32}
  {a4 : FVec F S1024x1024 .f32} {a5 a6 : FVec F S1x1024x256 .f32} {a7 : FVec F S1x256x1024 .f32} {a8 a9 : FVec F S1x1024 .f32}

/-- Two of a token's slots that are equal are the same one of the eight. -/
theorem slot_distinct (h : Cert.Pre_sample_in_range.fn (F := F) a0 a1 a2 a3 a4 a5 a6 a7 a8 a9 = fun _ => 1#1) (k l : Fin 8) (t : Fin 1024)
    (e : a2 (ix2 k t) = a2 (ix2 l t)) : k = l := by
  have h3 := (split h).2.2 (ix2 l t)
  pointwise at h3
  rw [IndicatorCount.fold_addi_setWidth_eq_card] at h3
  have hle := Finset.card_filter_le (Finset.univ : Finset (Fin 8)) fun x => IntOp.cmpi .eq (a2 (ix2 x t)) (a2 (ix2 l t)) = 1#1
  rw [Finset.card_univ, Fintype.card_fin] at hle
  have hn := congrArg BitVec.toNat h3
  rw [BitVec.toNat_ofNat, Nat.mod_eq_of_lt (by omega)] at hn
  obtain ⟨x, hx⟩ := Finset.card_eq_one.1 hn
  have hm : ∀ y : Fin 8, a2 (ix2 y t) = a2 (ix2 l t) → y = x := fun y hy =>
    Finset.mem_singleton.1 (hx ▸ Finset.mem_filter.2 ⟨Finset.mem_univ y, IntOp.cmpi_eq.2 hy⟩)
  exact (hm k e).trans (hm l rfl).symm

end Cert.Proof.Sample.Range
-- ==== Proof.SampleValue.lean ====
/- The equation: the kernel's result array and the reference's result are the same function of the arguments. -/
module

public import proofs.«01_k».proof.Proof.SampleBlocks
public import proofs.«01_k».proof.Proof.SampleOperands
public import proofs.«01_k».proof.Proof.SampleRouted
public import proofs.«01_k».proof.Proof.SampleToken
public import proofs.«01_k».proof.Proof.SampleDistinct

@[expose] public section

noncomputable section

namespace Cert.Proof.Sample

open Idealize.ShloMosaic Idealize.ShloMosaic.TcCoe

section
open Cert.SampleIdeal
/-- The number of the row of the sorted outputs that slot `s` of block `b` names: row `s % 16` of the chunk at the table's word `192 b + s / 16`. -/
def rowOf (a0 : IVec S1152 32) (b s : ℕ) : Fin 28672 :=
  ⟨((a0 (ix1 (⟨(192 * b + s / 16) % 1152, Nat.mod_lt _ (by norm_num)⟩ : Fin 1152))).toNat + s % 16) % 28672, Nat.mod_lt _ (by norm_num)⟩

/-- The eight gated rows of a token. -/
def routed (a0 : IVec S1152 32) (a1 : FVec Ideal S28672x1024 .bf16) (a2 : IVec S8x1024 32) (a3 : FVec Ideal S8x1024 .f32) (t : Fin 1024) (d : Fin 1024) : EReal :=
  ∑ k : Fin 8, a3 (ix2 k t) * a1 (ix2 (rowOf a0 (t.val / 256) (a2 (ix2 k t)).toNat) d)

/-- An entry of the layer's result, as a function of the arguments: the norm of the scaled input, plus the eight gated rows, plus the shared expert. -/
def entry (a0 : IVec S1152 32) (a1 : FVec Ideal S28672x1024 .bf16) (a2 : IVec S8x1024 32) (a3 : FVec Ideal S8x1024 .f32)
    (a4 : FVec Ideal S1024x1024 .f32) (a5 a6 : FVec Ideal S1x1024x256 .f32) (a7 : FVec Ideal S1x256x1024 .f32) (a8 a9 : FVec Ideal S1x1024 .f32)
    (t : Fin 1024) (d : Fin 1024) : EReal :=
  normed (summed (routed a0 a1 a2 a3 t)
      (fun k => a4 (ix2 t k)) (fun k f => a5 (ix3 0 k f)) (fun k f => a6 (ix3 0 k f)) (fun f d => a7 (ix3 0 f d)))
    (fun d => a8 (ix2 0 d)) (fun d => a9 (ix2 0 d)) d
end

namespace Run
open Cert.SampleIdeal Cert.SampleIdeal.Gen

variable (m : (ℓ : Loc nD τ sig) → Buf (Elt Ideal) ℓ) (c : Dev nD)

/-- A block's slots are the tokens' slots, -/
theorem slot_read (h : Cert.Pre_sample_in_range.fn (F := Ideal) (arg m c main_arg0) (arg m c main_arg1) (arg m c main_arg2) (arg m c main_arg3) (arg m c main_arg4)
      (arg m c main_arg5) (arg m c main_arg6) (arg m c main_arg7) (arg m c main_arg8) (arg m c main_arg9) = fun _ => 1#1)
    (t : Fin 4) (k : Fin 256) (i : Fin 8) (hT : 256 * t.val + k.val < 1024) :
    slotRows (stg m c 0 t) (ix2 i k) = (((((arg m c main_arg2 : IVec S8x1024 32) (ix2 i ⟨256 * t.val + k.val, hT⟩)).toNat : ℕ) : ℝ) : EReal) := by
  rw [slotRows_apply, stg0_apply m c t _ k hT]
  refine (congrFun (V_v11 m c) _).trans ((over_slot _ _ i _).trans ?_)
  have hs := Range.slot_good h (ix2 i ⟨256 * t.val + k.val, hT⟩)
  rw [BitVec.toInt_eq_toNat_of_lt (by omega)]
  norm_cast

/-- and its gates the tokens' gates. -/
theorem gate_read (t : Fin 4) (k : Fin 256) (i : Fin 8) (hT : 256 * t.val + k.val < 1024)
    (hi : ∀ a, (![8 + i.val, 0] : Fin 2 → ℕ) a + S1x256.size a ≤ S16x256.size a) :
    gateRow (stg m c 0 t) ![8 + i.val, 0] hi (ix2 0 k) = (arg m c main_arg3 : FVec Ideal S8x1024 .f32) (ix2 i ⟨256 * t.val + k.val, hT⟩) := by
  rw [gateRow_apply _ (8 + i.val) (by omega), stg0_apply m c t _ k hT]
  exact (congrFun (V_v11 m c) _).trans (over_gate _ _ i _)

/-- The gated sum of a point is the token's eight gated rows. -/
theorem acc_entry (h : Cert.Pre_sample_in_range.fn (F := Ideal) (arg m c main_arg0) (arg m c main_arg1) (arg m c main_arg2) (arg m c main_arg3) (arg m c main_arg4)
      (arg m c main_arg5) (arg m c main_arg6) (arg m c main_arg7) (arg m c main_arg8) (arg m c main_arg9) = fun _ => 1#1)
    (t : Fin 4) (k : Fin 256) (j : Fin 1024) (hT : 256 * t.val + k.val < 1024) :
    accVal (slotRows (stg m c 0 t)) (gateRow (stg m c 0 t) ![8, 0] inb_S16x256_S1x256_8_0) (gateRow (stg m c 0 t) ![9, 0] inb_S16x256_S1x256_9_0)
      (gateRow (stg m c 0 t) ![10, 0] inb_S16x256_S1x256_10_0) (gateRow (stg m c 0 t) ![11, 0] inb_S16x256_S1x256_11_0) (gateRow (stg m c 0 t) ![12, 0] inb_S16x256_S1x256_12_0)
      (gateRow (stg m c 0 t) ![13, 0] inb_S16x256_S1x256_13_0) (gateRow (stg m c 0 t) ![14, 0] inb_S16x256_S1x256_14_0) (gateRow (stg m c 0 t) ![15, 0] inb_S16x256_S1x256_15_0)
      (rdB c (landed (tbl m c) (ys m c) ((grid0.coords t) 0).val) (k0_off7 (grid0.coords t)) (k0_off7_inb (grid0.coords t)))
      (rdB c (landed (tbl m c) (ys m c) ((grid0.coords t) 0).val) (k0_off264 (grid0.coords t)) (k0_off264_inb (grid0.coords t)))
      (rdB c (landed (tbl m c) (ys m c) ((grid0.coords t) 0).val) (k0_off521 (grid0.coords t)) (k0_off521_inb (grid0.coords t))) (ix2 k j)
      = routed (arg m c main_arg0) (arg m c main_arg1) (arg m c main_arg2) (arg m c main_arg3) ⟨256 * t.val + k.val, hT⟩ j := by
  have hc : ((grid0.coords t) 0).val = t.val := coords_val t
  have hin : ∀ i : Fin 8, ∀ a, (![8 + i.val, 0] : Fin 2 → ℕ) a + S1x256.size a ≤ S16x256.size a := fun i a => by
    match a with
    | ⟨0, _⟩ => show 8 + i.val + 1 ≤ 16; omega
    | ⟨1, _⟩ => exact le_refl 256
  have hb : (⟨256 * t.val + k.val, hT⟩ : Fin 1024).val / 256 = t.val := by show (256 * t.val + k.val) / 256 = t.val; omega
  unfold routed
  rw [hb]
  refine (accVal_apply (slotRows (stg m c 0 t)) (fun i => gateRow (stg m c 0 t) ![8 + i.val, 0] (hin i))
    (rdB c (landed (tbl m c) (ys m c) ((grid0.coords t) 0).val) (k0_off7 (grid0.coords t)) (k0_off7_inb (grid0.coords t)))
    (rdB c (landed (tbl m c) (ys m c) ((grid0.coords t) 0).val) (k0_off264 (grid0.coords t)) (k0_off264_inb (grid0.coords t)))
    (rdB c (landed (tbl m c) (ys m c) ((grid0.coords t) 0).val) (k0_off521 (grid0.coords t)) (k0_off521_inb (grid0.coords t)))
    k j (fun i => ((arg m c main_arg2 : IVec S8x1024 32) (ix2 i ⟨256 * t.val + k.val, hT⟩)).toNat)
    (fun i l e => Range.slot_distinct h i l _ (BitVec.eq_of_toNat_eq e)) (fun i => Range.slot_good h _)
    (fun s => (arg m c main_arg1 : FVec Ideal S28672x1024 .bf16) (ix2 (rowOf (arg m c main_arg0) t.val s) j))
    (fun i => slot_read m c h t k i hT)
    (fun i => by rw [hc]; exact (rdB_apply c _ _ _ _ _ 0 rfl rfl i j).trans (by rw [Nat.zero_add]; rfl))
    (fun i => by rw [hc]; exact rdB_apply c _ _ _ _ _ 1024 rfl rfl i j)
    (fun i => by rw [hc]; exact rdB_apply c _ _ _ _ _ 2048 rfl rfl i j)).trans (Finset.sum_congr rfl fun i _ => congrArg (· * _) (gate_read m c t k i hT (hin i)))

/-- The kernel's result array. -/
theorem kernel_entry (h : Cert.Pre_sample_in_range.fn (F := Ideal) (arg m c main_arg0) (arg m c main_arg1) (arg m c main_arg2) (arg m c main_arg3) (arg m c main_arg4)
      (arg m c main_arg5) (arg m c main_arg6) (arg m c main_arg7) (arg m c main_arg8) (arg m c main_arg9) = fun _ => 1#1)
    (t : Fin 4) (k : Fin 256) (d : Fin 1024) (hT : 256 * t.val + k.val < 1024) :
    (finalA m c 8 : FVec Ideal S1024x1024 .f32) (ix2 ⟨256 * t.val + k.val, hT⟩ d)
      = entry (arg m c main_arg0) (arg m c main_arg1) (arg m c main_arg2) (arg m c main_arg3) (arg m c main_arg4)
      (arg m c main_arg5) (arg m c main_arg6) (arg m c main_arg7) (arg m c main_arg8) (arg m c main_arg9) ⟨256 * t.val + k.val, hT⟩ d := by
  have hx : ∀ j, stg m c 1 t (ix2 k j) = (arg m c main_arg4 : FVec Ideal S1024x1024 .f32) (ix2 ⟨256 * t.val + k.val, hT⟩ j) := fun j =>
    (stg1_apply m c t k j hT).trans (congrFun (V_kept m c main_arg4 (by decide)) _)
  have hxb : ∀ j, stg m c 2 t (ix2 k j) = stg m c 1 t (ix2 k j) := fun j =>
    ((stg2_apply m c t k j hT).trans ((congrFun (V_v12 m c) _).trans (rounded _ _ _))).trans (hx j).symm
  have h5 : ∀ i f, stg m c 3 t (ix2 i f) = (arg m c main_arg5 : FVec Ideal S1x1024x256 .f32) (ix3 0 i f) := fun i f =>
    (stg3_apply m c t i f).trans ((congrFun (V_v1 m c) _).trans (cast_in _ _ _))
  have h6 : ∀ i f, stg m c 4 t (ix2 i f) = (arg m c main_arg6 : FVec Ideal S1x1024x256 .f32) (ix3 0 i f) := fun i f =>
    (stg4_apply m c t i f).trans ((congrFun (V_v3 m c) _).trans (cast_in _ _ _))
  have h7 : ∀ f j, stg m c 5 t (ix2 f j) = (arg m c main_arg7 : FVec Ideal S1x256x1024 .f32) (ix3 0 f j) := fun f j =>
    (stg5_apply m c t f j).trans ((congrFun (V_v5 m c) _).trans (cast_out _ _ _))
  have h8 : ∀ j, stg m c 6 t (ix2 0 j) = (arg m c main_arg8 : FVec Ideal S1x1024 .f32) (ix2 0 j) := fun j =>
    (stg6_apply m c t j).trans ((congrFun (V_v7 m c) _).trans (cast_row _ _))
  have h9 : ∀ j, stg m c 7 t (ix2 0 j) = (arg m c main_arg9 : FVec Ideal S1x1024 .f32) (ix2 0 j) := fun j =>
    (stg7_apply m c t j).trans ((congrFun (V_v9 m c) _).trans (cast_row _ _))
  refine (final_out m c t k d hT).trans ((outVal_apply _ _ _ _ _ _ _ _ k d hxb).trans ?_)
  unfold entry
  rw [funext hx, funext fun i => funext (h5 i), funext fun i => funext (h6 i), funext fun i => funext (h7 i), funext h8, funext h9]
  exact congrArg (fun r => normed (summed r _ _ _ _) _ _ d) (funext fun j => acc_entry m c h t k j hT)

/-- The kernel's result array, whole. -/
theorem kernel_result (h : Cert.Pre_sample_in_range.fn (F := Ideal) (arg m c main_arg0) (arg m c main_arg1) (arg m c main_arg2) (arg m c main_arg3) (arg m c main_arg4)
      (arg m c main_arg5) (arg m c main_arg6) (arg m c main_arg7) (arg m c main_arg8) (arg m c main_arg9) = fun _ => 1#1) :
    finalA m c 8 = fun i : S1024x1024.Idx => entry (arg m c main_arg0) (arg m c main_arg1) (arg m c main_arg2) (arg m c main_arg3) (arg m c main_arg4)
      (arg m c main_arg5) (arg m c main_arg6) (arg m c main_arg7) (arg m c main_arg8) (arg m c main_arg9) (i 0) (i 1) := by
  refine funext fun (i : S1024x1024.Idx) => ?_
  have hi : i = ix2 (i 0) (i 1) := funext fun a => by match a with | ⟨0, _⟩ => rfl | ⟨1, _⟩ => rfl
  have h0 : (i 0).val < 1024 := (i 0).isLt
  have hT : 256 * ((i 0).val / 256) + (i 0).val % 256 < 1024 := by omega
  have e : i 0 = (⟨256 * ((i 0).val / 256) + (i 0).val % 256, hT⟩ : Fin 1024) := Fin.ext (by show (i 0).val = 256 * ((i 0).val / 256) + (i 0).val % 256; omega)
  have hk := kernel_entry m c h ⟨(i 0).val / 256, by omega⟩ ⟨(i 0).val % 256, Nat.mod_lt _ (by norm_num)⟩ (i 1) hT
  refine (congrArg (finalA m c 8) (hi.trans (congrArg (fun n => ix2 n (i 1)) e))).trans (hk.trans ?_)
  exact congrArg (fun n => entry _ _ _ _ _ _ _ _ _ _ n (i 1)) e.symm

end Run

namespace Ref
open Cert.SampleReferenceIdeal Cert.SampleReferenceIdeal.Gen Cert.SampleReferenceIdeal.Value

variable (V0 : Valuation τ sig (Elt Ideal))

/-- The row a slot's gather reads. -/
theorem gathered (h : Cert.Pre_sample_in_range.fn (F := Ideal) (tab V0) (rows V0) (slots V0) (gate V0) (inp V0) (w1 V0) (w2 V0) (w3 V0) (lng V0) (lnb V0) = fun _ => 1#1)
    (k : Fin 8) (t : Fin 1024) (d : Fin 1024) :
    Host.gather gather_S28672x1024_S8x1024x1_S8x1024x1024_2_0_n_n_0_2_11024 (rows V0) (broadcastInDim S8x1024x1 ![0, 1] bcast_S8x1024_S8x1024x1_0_1
      (select (cmpi .slt (res_main_v18 V0) (broadcastInDim S8x1024 ![] bcast_S_S8x1024 (constantI S_ 32 0#32)))
        (addi (res_main_v18 V0) (broadcastInDim S8x1024 ![] bcast_S_S8x1024 (constantI S_ 32 28672#32))) (res_main_v18 V0))) (ix3 k t d)
      = rows V0 (ix2 (rowOf (tab V0) (t.val / 256) (slots V0 (ix2 k t)).toNat) d) := by
  have hs := Range.slot_good h (ix2 k t)
  have hn : 192 * (t.val / 256) + (slots V0 (ix2 k t)).toNat / 16 < 1152 := by have := t.isLt; omega
  have hw := Range.word_good h (ix1 (⟨(192 * (t.val / 256) + (slots V0 (ix2 k t)).toNat / 16) % 1152, Nat.mod_lt _ (by norm_num)⟩ : Fin 1152))
  have hr : (tab V0 (ix1 (⟨(192 * (t.val / 256) + (slots V0 (ix2 k t)).toNat / 16) % 1152, Nat.mod_lt _ (by norm_num)⟩ : Fin 1152))).toNat
      + (slots V0 (ix2 k t)).toNat % 16 < 28672 := by have := hw.1; omega
  refine (routed_apply V0 k t d (slots V0 (ix2 k t)).toNat _ (by rw [BitVec.ofNat_toNat, BitVec.setWidth_eq]) hs (fun hlt => ?_) hr).trans ?_
  · rw [BitVec.ofNat_toNat, BitVec.setWidth_eq]
    exact congrArg (fun n => tab V0 (ix1 n)) (Fin.ext (Nat.mod_eq_of_lt hlt).symm)
  · exact congrArg (fun n => rows V0 (ix2 n d)) (Fin.ext (Nat.mod_eq_of_lt hr).symm)

/-- The reference's result, whole, its arguments named. -/
theorem ref_result {b0 : IVec S1152 32} {b1 : FVec Ideal S28672x1024 .bf16} {b2 : IVec S8x1024 32} {b3 : FVec Ideal S8x1024 .f32} {b4 : FVec Ideal S1024x1024 .f32}
    {b5 b6 : FVec Ideal S1x1024x256 .f32} {b7 : FVec Ideal S1x256x1024 .f32} {b8 b9 : FVec Ideal S1x1024 .f32}
    (e0 : tab V0 = b0) (e1 : rows V0 = b1) (e2 : slots V0 = b2) (e3 : gate V0 = b3) (e4 : inp V0 = b4) (e5 : w1 V0 = b5) (e6 : w2 V0 = b6) (e7 : w3 V0 = b7)
    (e8 : lng V0 = b8) (e9 : lnb V0 = b9) (h : Cert.Pre_sample_in_range.fn (F := Ideal) b0 b1 b2 b3 b4 b5 b6 b7 b8 b9 = fun _ => 1#1) :
    result V0 = fun i : S1024x1024.Idx => entry b0 b1 b2 b3 b4 b5 b6 b7 b8 b9 (i 0) (i 1) := by
  subst e0 e1 e2 e3 e4 e5 e6 e7 e8 e9
  refine funext fun (i : S1024x1024.Idx) => ?_
  have hi : i = ix2 (i 0) (i 1) := funext fun a => by match a with | ⟨0, _⟩ => rfl | ⟨1, _⟩ => rfl
  refine (congrArg (result V0) hi).trans ?_
  exact result_ref V0 (i 0) (i 1) _ fun d => summed_ref V0 (i 0) d
    (fun k d => rows V0 (ix2 (rowOf (tab V0) ((i 0).val / 256) (slots V0 (ix2 k (i 0))).toNat) d)) fun k d => gathered V0 h k (i 0) d

end Ref

end Cert.Proof.Sample

end
-- ==== Proof.SampleClaim.lean ====
/- The frames and the value of the combine call in the running streams' shapes. -/
module

public import proofs.«01_k».proof.Defs
public import proofs.«01_k».proof.Proof.Gen.Sample
public import proofs.«01_k».proof.Proof.Gen.SampleIdeal
public import proofs.«01_k».proof.Proof.Gen.SampleReferenceIdeal
public import proofs.«01_k».proof.Proof.Gen.SampleReferenceIdeal.Run
public import proofs.«01_k».proof.Proof.Gen.Pre_sample_in_range
public import proofs.«01_k».proof.Proof.SampleMain
public import proofs.«01_k».proof.Proof.SampleRange
public import proofs.«01_k».proof.Proof.SampleValue
public import Idealize.ShloMosaic.Adequacy
public import Idealize.ShloMosaic.Init

@[expose] public section

noncomputable section

namespace Cert.Proof.Sample

open Idealize.ShloMosaic Idealize.ShloMosaic.TcCoe Idealize.SL.Sem

section
open Cert.SampleIdeal Cert.Proof.Sample.Run
variable {F : FTy → Type} [FloatOps F]

/-- Every argument array of core `c` is what it was. -/
abbrev ArgsKept (m : (ℓ : Loc nD τ sig) → Buf (Elt F) ℓ) (c : Dev nD) (s : MemSt nD τ sig (Elt F)) : Prop :=
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)

/-- What the final states of the kernel's run say of its arguments. -/
theorem args_kept (m : (ℓ : Loc nD τ sig) → Buf (Elt F) ℓ) (c : Dev nD) (s : MemSt nD τ sig (Elt F)) (h : QY m c s) : ArgsKept m c s := by
  obtain ⟨hw, h0, h1, h2, h3, h5, h6, h7, h8, h9⟩ := h
  exact ⟨h0, h1, h2, h3, (hw 1).trans (((dats m 0 c).arrAt_in 1 rfl _).trans (V_kept m c main_arg4 (by decide))), h5, h6, h7, h8, h9⟩

end

/-- The kernel's frame at any floats. -/
theorem frame_any {F : FTy → Type} [FloatOps F] (m : (ℓ : Loc Cert.SampleIdeal.nD Cert.SampleIdeal.τ Cert.SampleIdeal.sig) → Buf (Elt F) ℓ)
    (ρ : Dev Cert.SampleIdeal.nD → PrngReg) (hg : ∀ c, Cert.Proof.Sample.Run.GoodTab (Cert.Proof.Sample.Run.tbl m c)) :
    θ_run Cert.SampleIdeal.defs (onTc (τ := Cert.SampleIdeal.τ) (Cert.SampleIdeal.main (F := F))) ⟨m, fun _ => 0, ρ⟩ fun r =>
      (∀ c : Dev Cert.SampleIdeal.nD, ArgsKept m c r.2) ∧ r.2.sem = fun _ => 0 :=
  (θ_run Cert.SampleIdeal.defs _ _).mono (fun _ h => ⟨fun c => args_kept m c _ (h.1 c), h.2⟩) (Cert.Proof.Sample.Run.run_main m ρ hg)

set_option maxHeartbeats 0 in
set_option smartUnfolding false in
/-- The kernel's frame at bits: its text is the idealized kernel's. -/
theorem frame_kernel : Cert.quiescent_Sample := fun m ρ hp => by
  have h := frame_any (F := Bits) m ρ fun c n => Cert.Proof.Sample.Range.word_good (hp c) _
  with_unfolding_all exact h

/-- The kernel's frame at the extended reals. -/
theorem frame_ideal : Cert.quiescent_SampleIdeal := fun m ρ hp => frame_any m ρ fun c n => Cert.Proof.Sample.Range.word_good (hp c) _

/-- The reference's frame at the extended reals. -/
theorem frame_reference : Cert.quiescent_SampleReferenceIdeal := fun m ρ _ =>
  (θ_run Cert.SampleReferenceIdeal.defs _ _).mono (fun r h => ⟨fun c => (h c).2, sem_eq_zero_of_no_sems (by decide) r.2⟩)
    (Cert.SampleReferenceIdeal.Value.run m ρ)

/-- The kernel's run, its result read. -/
theorem run_kernel (m : (ℓ : Loc Cert.SampleIdeal.nD Cert.SampleIdeal.τ Cert.SampleIdeal.sig) → Buf (Elt Ideal) ℓ) (ρ : Dev Cert.SampleIdeal.nD → PrngReg)
    (hp : Cert.Pre_SampleIdeal m) :
    θ_run Cert.SampleIdeal.defs (onTc (τ := Cert.SampleIdeal.τ) (Cert.SampleIdeal.main (F := Ideal))) ⟨m, fun _ => 0, ρ⟩ fun r =>
      ∀ c : Dev Cert.SampleIdeal.nD, r.2.mem ((c.tc : Thread Cert.SampleIdeal.nD Cert.SampleIdeal.τ).loc Cert.SampleIdeal.main_v13) = Cert.Proof.Sample.Run.finalA m c 8
        ∧ ArgsKept m c r.2 :=
  (θ_run Cert.SampleIdeal.defs _ _).mono (fun _ h c => ⟨(h.1 c).1 8, args_kept m c _ (h.1 c)⟩)
    (Cert.Proof.Sample.Run.run_main m ρ fun c n => Cert.Proof.Sample.Range.word_good (hp c) _)

/-- Over the extended reals the kernel and the reference compute the same array. -/
theorem algebraic : Cert.algebraic_SampleIdeal_SampleReferenceIdeal := fun m g m' g' hp heq => by
  refine ⟨fun c => Cert.Proof.Sample.Run.finalA m c 8, run_kernel m g hp, (θ_run Cert.SampleReferenceIdeal.defs _ _).mono (fun r h c => ⟨(h c).1.trans ?_, (h c).2⟩)
    (Cert.SampleReferenceIdeal.Value.run m' g')⟩
  obtain ⟨h0, h1, h2, h3, h4, h5, h6, h7, h8, h9⟩ := heq c
  exact (Cert.Proof.Sample.Ref.ref_result (Idealize.ShloMosaic.StableHlo.launchContents m' c) h0 h1 h2 h3 h4 h5 h6 h7 h8 h9 (hp c)).trans (Cert.Proof.Sample.Run.kernel_result m c (hp c)).symm

end Cert.Proof.Sample

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_range
public import proofs.«01_k».proof.Proof.Gen.Pre_sample_in_range
public import proofs.«01_k».proof.Proof.Combine
public import proofs.«01_k».proof.Proof.FfnFrame
public import proofs.«01_k».proof.Proof.FfnValue
public import proofs.«01_k».proof.Proof.KvupValue
public import proofs.«01_k».proof.Proof.SampleClaim

@[expose] public section

noncomputable section

namespace Cert.Proof

/-- The certificate's claim. -/
theorem claim : Cert.Claim :=
  ⟨Cert.Kernel.Gen.facts, Cert.KernelIdeal.Gen.facts, Cert.ReferenceIdeal.Gen.facts, Cert.Ffn.Gen.facts, Cert.FfnIdeal.Gen.facts,
    Cert.FfnReferenceIdeal.Gen.facts, Cert.Kvup.Gen.facts, Cert.KvupIdeal.Gen.facts, Cert.KvupReferenceIdeal.Gen.facts, Cert.Sample.Gen.facts,
    Cert.SampleIdeal.Gen.facts, Cert.SampleReferenceIdeal.Gen.facts, Cert.Pre_in_range.Gen.facts, Cert.Pre_tiles_in_range.Gen.facts,
    Cert.Pre_sample_in_range.Gen.facts, Cert.On_used_rows.Gen.facts,
    ⟨frame_kernel, frame_ideal, frame_reference, Ffn.frame_kernel, Ffn.frame_ideal, Ffn.frame_reference, Kvup.frame_kernel, Kvup.frame_ideal,
      Kvup.frame_reference, Sample.frame_kernel, Sample.frame_ideal, Sample.frame_reference, trivial, algebraic, trivial, Ffn.algebraic,
      trivial, Kvup.algebraic, trivial, Sample.algebraic⟩⟩

end Cert.Proof

end
